-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys [hPre_finite_queries_and_keys : Cert.Pre_finite_queries_and_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys [hPre_finite_queries_and_keys : Cert.Pre_finite_queries_and_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_FfHidden (m : (ℓ : Loc Cert.FfHidden.nD Cert.FfHidden.τ Cert.FfHidden.sig) → Buf (Elt Bits) ℓ) : Prop :=
  True

def Pre_FfHiddenIdeal (m : (ℓ : Loc Cert.FfHiddenIdeal.nD Cert.FfHiddenIdeal.τ Cert.FfHiddenIdeal.sig) → Buf (Elt Ideal) ℓ) : Prop :=
  True

def Pre_FfHiddenReferenceIdeal (m : (ℓ : Loc Cert.FfHiddenReferenceIdeal.nD Cert.FfHiddenReferenceIdeal.τ Cert.FfHiddenReferenceIdeal.sig) → Buf (Elt Ideal) ℓ) : Prop :=
  True

def Pre_WFf2 (m : (ℓ : Loc Cert.WFf2.nD Cert.WFf2.τ Cert.WFf2.sig) → Buf (Elt Bits) ℓ) : Prop :=
  True

def Pre_WFf2Ideal (m : (ℓ : Loc Cert.WFf2Ideal.nD Cert.WFf2Ideal.τ Cert.WFf2Ideal.sig) → Buf (Elt Ideal) ℓ) : Prop :=
  True

def Pre_WFf2ReferenceIdeal (m : (ℓ : Loc Cert.WFf2ReferenceIdeal.nD Cert.WFf2ReferenceIdeal.τ Cert.WFf2ReferenceIdeal.sig) → Buf (Elt Ideal) ℓ) : Prop :=
  True

def Pre_WFf1 (m : (ℓ : Loc Cert.WFf1.nD Cert.WFf1.τ Cert.WFf1.sig) → Buf (Elt Bits) ℓ) : Prop :=
  True

def Pre_WFf1Ideal (m : (ℓ : Loc Cert.WFf1Ideal.nD Cert.WFf1Ideal.τ Cert.WFf1Ideal.sig) → Buf (Elt Ideal) ℓ) : Prop :=
  True

def Pre_WFf1ReferenceIdeal (m : (ℓ : Loc Cert.WFf1ReferenceIdeal.nD Cert.WFf1ReferenceIdeal.τ Cert.WFf1ReferenceIdeal.sig) → Buf (Elt Ideal) ℓ) : Prop :=
  True

def Pre_WO (m : (ℓ : Loc Cert.WO.nD Cert.WO.τ Cert.WO.sig) → Buf (Elt Bits) ℓ) : Prop :=
  True

def Pre_WOIdeal (m : (ℓ : Loc Cert.WOIdeal.nD Cert.WOIdeal.τ Cert.WOIdeal.sig) → Buf (Elt Ideal) ℓ) : Prop :=
  True

def Pre_WOReferenceIdeal (m : (ℓ : Loc Cert.WOReferenceIdeal.nD Cert.WOReferenceIdeal.τ Cert.WOReferenceIdeal.sig) → Buf (Elt Ideal) ℓ) : Prop :=
  True

def Pre_WKv (m : (ℓ : Loc Cert.WKv.nD Cert.WKv.τ Cert.WKv.sig) → Buf (Elt Bits) ℓ) : Prop :=
  True

def Pre_WKvIdeal (m : (ℓ : Loc Cert.WKvIdeal.nD Cert.WKvIdeal.τ Cert.WKvIdeal.sig) → Buf (Elt Ideal) ℓ) : Prop :=
  True

def Pre_WKvReferenceIdeal (m : (ℓ : Loc Cert.WKvReferenceIdeal.nD Cert.WKvReferenceIdeal.τ Cert.WKvReferenceIdeal.sig) → Buf (Elt Ideal) ℓ) : Prop :=
  True

def Pre_AttOut (m : (ℓ : Loc Cert.AttOut.nD Cert.AttOut.τ Cert.AttOut.sig) → Buf (Elt Bits) ℓ) : Prop :=
  True

def Pre_AttOutIdeal (m : (ℓ : Loc Cert.AttOutIdeal.nD Cert.AttOutIdeal.τ Cert.AttOutIdeal.sig) → Buf (Elt Ideal) ℓ) : Prop :=
  True

def Pre_AttOutReferenceIdeal (m : (ℓ : Loc Cert.AttOutReferenceIdeal.nD Cert.AttOutReferenceIdeal.τ Cert.AttOutReferenceIdeal.sig) → Buf (Elt Ideal) ℓ) : Prop :=
  True

def Pre_MixerOut (m : (ℓ : Loc Cert.MixerOut.nD Cert.MixerOut.τ Cert.MixerOut.sig) → Buf (Elt Bits) ℓ) : Prop :=
  True

def Pre_MixerOutIdeal (m : (ℓ : Loc Cert.MixerOutIdeal.nD Cert.MixerOutIdeal.τ Cert.MixerOutIdeal.sig) → Buf (Elt Ideal) ℓ) : Prop :=
  True

def Pre_MixerOutReferenceIdeal (m : (ℓ : Loc Cert.MixerOutReferenceIdeal.nD Cert.MixerOutReferenceIdeal.τ Cert.MixerOutReferenceIdeal.sig) → Buf (Elt Ideal) ℓ) : Prop :=
  True

def Pre_X2Ln2 (m : (ℓ : Loc Cert.X2Ln2.nD Cert.X2Ln2.τ Cert.X2Ln2.sig) → Buf (Elt Bits) ℓ) : Prop :=
  True

def Pre_X2Ln2Ideal (m : (ℓ : Loc Cert.X2Ln2Ideal.nD Cert.X2Ln2Ideal.τ Cert.X2Ln2Ideal.sig) → Buf (Elt Ideal) ℓ) : Prop :=
  True

def Pre_X2Ln2Ideal_finite_x2_ln2 [hPre_finite_x2_ln2 : Cert.Pre_finite_x2_ln2.Facts] (m : (ℓ : Loc Cert.X2Ln2Ideal.nD Cert.X2Ln2Ideal.τ Cert.X2Ln2Ideal.sig) → Buf (Elt Ideal) ℓ) : Prop :=
  ∀ c : Dev Cert.X2Ln2Ideal.nD,
    (Cert.Pre_finite_x2_ln2.fn (F := Ideal) (m ((c.tc : Thread Cert.X2Ln2Ideal.nD Cert.X2Ln2Ideal.τ).loc Cert.X2Ln2Ideal.main_arg0)) (m ((c.tc : Thread Cert.X2Ln2Ideal.nD Cert.X2Ln2Ideal.τ).loc Cert.X2Ln2Ideal.main_arg1)) (m ((c.tc : Thread Cert.X2Ln2Ideal.nD Cert.X2Ln2Ideal.τ).loc Cert.X2Ln2Ideal.main_arg2)) (m ((c.tc : Thread Cert.X2Ln2Ideal.nD Cert.X2Ln2Ideal.τ).loc Cert.X2Ln2Ideal.main_arg3)) (m ((c.tc : Thread Cert.X2Ln2Ideal.nD Cert.X2Ln2Ideal.τ).loc Cert.X2Ln2Ideal.main_arg4))).1 = (fun _ => 1#1)
    ∧ (Cert.Pre_finite_x2_ln2.fn (F := Ideal) (m ((c.tc : Thread Cert.X2Ln2Ideal.nD Cert.X2Ln2Ideal.τ).loc Cert.X2Ln2Ideal.main_arg0)) (m ((c.tc : Thread Cert.X2Ln2Ideal.nD Cert.X2Ln2Ideal.τ).loc Cert.X2Ln2Ideal.main_arg1)) (m ((c.tc : Thread Cert.X2Ln2Ideal.nD Cert.X2Ln2Ideal.τ).loc Cert.X2Ln2Ideal.main_arg2)) (m ((c.tc : Thread Cert.X2Ln2Ideal.nD Cert.X2Ln2Ideal.τ).loc Cert.X2Ln2Ideal.main_arg3)) (m ((c.tc : Thread Cert.X2Ln2Ideal.nD Cert.X2Ln2Ideal.τ).loc Cert.X2Ln2Ideal.main_arg4))).2.1 = (fun _ => 1#1)
    ∧ (Cert.Pre_finite_x2_ln2.fn (F := Ideal) (m ((c.tc : Thread Cert.X2Ln2Ideal.nD Cert.X2Ln2Ideal.τ).loc Cert.X2Ln2Ideal.main_arg0)) (m ((c.tc : Thread Cert.X2Ln2Ideal.nD Cert.X2Ln2Ideal.τ).loc Cert.X2Ln2Ideal.main_arg1)) (m ((c.tc : Thread Cert.X2Ln2Ideal.nD Cert.X2Ln2Ideal.τ).loc Cert.X2Ln2Ideal.main_arg2)) (m ((c.tc : Thread Cert.X2Ln2Ideal.nD Cert.X2Ln2Ideal.τ).loc Cert.X2Ln2Ideal.main_arg3)) (m ((c.tc : Thread Cert.X2Ln2Ideal.nD Cert.X2Ln2Ideal.τ).loc Cert.X2Ln2Ideal.main_arg4))).2.2.1 = (fun _ => 1#1)
    ∧ (Cert.Pre_finite_x2_ln2.fn (F := Ideal) (m ((c.tc : Thread Cert.X2Ln2Ideal.nD Cert.X2Ln2Ideal.τ).loc Cert.X2Ln2Ideal.main_arg0)) (m ((c.tc : Thread Cert.X2Ln2Ideal.nD Cert.X2Ln2Ideal.τ).loc Cert.X2Ln2Ideal.main_arg1)) (m ((c.tc : Thread Cert.X2Ln2Ideal.nD Cert.X2Ln2Ideal.τ).loc Cert.X2Ln2Ideal.main_arg2)) (m ((c.tc : Thread Cert.X2Ln2Ideal.nD Cert.X2Ln2Ideal.τ).loc Cert.X2Ln2Ideal.main_arg3)) (m ((c.tc : Thread Cert.X2Ln2Ideal.nD Cert.X2Ln2Ideal.τ).loc Cert.X2Ln2Ideal.main_arg4))).2.2.2.1 = (fun _ => 1#1)
    ∧ (Cert.Pre_finite_x2_ln2.fn (F := Ideal) (m ((c.tc : Thread Cert.X2Ln2Ideal.nD Cert.X2Ln2Ideal.τ).loc Cert.X2Ln2Ideal.main_arg0)) (m ((c.tc : Thread Cert.X2Ln2Ideal.nD Cert.X2Ln2Ideal.τ).loc Cert.X2Ln2Ideal.main_arg1)) (m ((c.tc : Thread Cert.X2Ln2Ideal.nD Cert.X2Ln2Ideal.τ).loc Cert.X2Ln2Ideal.main_arg2)) (m ((c.tc : Thread Cert.X2Ln2Ideal.nD Cert.X2Ln2Ideal.τ).loc Cert.X2Ln2Ideal.main_arg3)) (m ((c.tc : Thread Cert.X2Ln2Ideal.nD Cert.X2Ln2Ideal.τ).loc Cert.X2Ln2Ideal.main_arg4))).2.2.2.2 = (fun _ => 1#1)

def Pre_X2Ln2ReferenceIdeal (m : (ℓ : Loc Cert.X2Ln2ReferenceIdeal.nD Cert.X2Ln2ReferenceIdeal.τ Cert.X2Ln2ReferenceIdeal.sig) → Buf (Elt Ideal) ℓ) : Prop :=
  True

def Pre_X2Ln2ReferenceIdeal_finite_x2_ln2 [hPre_finite_x2_ln2 : Cert.Pre_finite_x2_ln2.Facts] (m : (ℓ : Loc Cert.X2Ln2ReferenceIdeal.nD Cert.X2Ln2ReferenceIdeal.τ Cert.X2Ln2ReferenceIdeal.sig) → Buf (Elt Ideal) ℓ) : Prop :=
  ∀ c : Dev Cert.X2Ln2ReferenceIdeal.nD,
    (Cert.Pre_finite_x2_ln2.fn (F := Ideal) (m ((c.tc : Thread Cert.X2Ln2ReferenceIdeal.nD Cert.X2Ln2ReferenceIdeal.τ).loc Cert.X2Ln2ReferenceIdeal.main_arg0)) (m ((c.tc : Thread Cert.X2Ln2ReferenceIdeal.nD Cert.X2Ln2ReferenceIdeal.τ).loc Cert.X2Ln2ReferenceIdeal.main_arg1)) (m ((c.tc : Thread Cert.X2Ln2ReferenceIdeal.nD Cert.X2Ln2ReferenceIdeal.τ).loc Cert.X2Ln2ReferenceIdeal.main_arg2)) (m ((c.tc : Thread Cert.X2Ln2ReferenceIdeal.nD Cert.X2Ln2ReferenceIdeal.τ).loc Cert.X2Ln2ReferenceIdeal.main_arg3)) (m ((c.tc : Thread Cert.X2Ln2ReferenceIdeal.nD Cert.X2Ln2ReferenceIdeal.τ).loc Cert.X2Ln2ReferenceIdeal.main_arg4))).1 = (fun _ => 1#1)
    ∧ (Cert.Pre_finite_x2_ln2.fn (F := Ideal) (m ((c.tc : Thread Cert.X2Ln2ReferenceIdeal.nD Cert.X2Ln2ReferenceIdeal.τ).loc Cert.X2Ln2ReferenceIdeal.main_arg0)) (m ((c.tc : Thread Cert.X2Ln2ReferenceIdeal.nD Cert.X2Ln2ReferenceIdeal.τ).loc Cert.X2Ln2ReferenceIdeal.main_arg1)) (m ((c.tc : Thread Cert.X2Ln2ReferenceIdeal.nD Cert.X2Ln2ReferenceIdeal.τ).loc Cert.X2Ln2ReferenceIdeal.main_arg2)) (m ((c.tc : Thread Cert.X2Ln2ReferenceIdeal.nD Cert.X2Ln2ReferenceIdeal.τ).loc Cert.X2Ln2ReferenceIdeal.main_arg3)) (m ((c.tc : Thread Cert.X2Ln2ReferenceIdeal.nD Cert.X2Ln2ReferenceIdeal.τ).loc Cert.X2Ln2ReferenceIdeal.main_arg4))).2.1 = (fun _ => 1#1)
    ∧ (Cert.Pre_finite_x2_ln2.fn (F := Ideal) (m ((c.tc : Thread Cert.X2Ln2ReferenceIdeal.nD Cert.X2Ln2ReferenceIdeal.τ).loc Cert.X2Ln2ReferenceIdeal.main_arg0)) (m ((c.tc : Thread Cert.X2Ln2ReferenceIdeal.nD Cert.X2Ln2ReferenceIdeal.τ).loc Cert.X2Ln2ReferenceIdeal.main_arg1)) (m ((c.tc : Thread Cert.X2Ln2ReferenceIdeal.nD Cert.X2Ln2ReferenceIdeal.τ).loc Cert.X2Ln2ReferenceIdeal.main_arg2)) (m ((c.tc : Thread Cert.X2Ln2ReferenceIdeal.nD Cert.X2Ln2ReferenceIdeal.τ).loc Cert.X2Ln2ReferenceIdeal.main_arg3)) (m ((c.tc : Thread Cert.X2Ln2ReferenceIdeal.nD Cert.X2Ln2ReferenceIdeal.τ).loc Cert.X2Ln2ReferenceIdeal.main_arg4))).2.2.1 = (fun _ => 1#1)
    ∧ (Cert.Pre_finite_x2_ln2.fn (F := Ideal) (m ((c.tc : Thread Cert.X2Ln2ReferenceIdeal.nD Cert.X2Ln2ReferenceIdeal.τ).loc Cert.X2Ln2ReferenceIdeal.main_arg0)) (m ((c.tc : Thread Cert.X2Ln2ReferenceIdeal.nD Cert.X2Ln2ReferenceIdeal.τ).loc Cert.X2Ln2ReferenceIdeal.main_arg1)) (m ((c.tc : Thread Cert.X2Ln2ReferenceIdeal.nD Cert.X2Ln2ReferenceIdeal.τ).loc Cert.X2Ln2ReferenceIdeal.main_arg2)) (m ((c.tc : Thread Cert.X2Ln2ReferenceIdeal.nD Cert.X2Ln2ReferenceIdeal.τ).loc Cert.X2Ln2ReferenceIdeal.main_arg3)) (m ((c.tc : Thread Cert.X2Ln2ReferenceIdeal.nD Cert.X2Ln2ReferenceIdeal.τ).loc Cert.X2Ln2ReferenceIdeal.main_arg4))).2.2.2.1 = (fun _ => 1#1)
    ∧ (Cert.Pre_finite_x2_ln2.fn (F := Ideal) (m ((c.tc : Thread Cert.X2Ln2ReferenceIdeal.nD Cert.X2Ln2ReferenceIdeal.τ).loc Cert.X2Ln2ReferenceIdeal.main_arg0)) (m ((c.tc : Thread Cert.X2Ln2ReferenceIdeal.nD Cert.X2Ln2ReferenceIdeal.τ).loc Cert.X2Ln2ReferenceIdeal.main_arg1)) (m ((c.tc : Thread Cert.X2Ln2ReferenceIdeal.nD Cert.X2Ln2ReferenceIdeal.τ).loc Cert.X2Ln2ReferenceIdeal.main_arg2)) (m ((c.tc : Thread Cert.X2Ln2ReferenceIdeal.nD Cert.X2Ln2ReferenceIdeal.τ).loc Cert.X2Ln2ReferenceIdeal.main_arg3)) (m ((c.tc : Thread Cert.X2Ln2ReferenceIdeal.nD Cert.X2Ln2ReferenceIdeal.τ).loc Cert.X2Ln2ReferenceIdeal.main_arg4))).2.2.2.2 = (fun _ => 1#1)

def Pre_X1Ln1 (m : (ℓ : Loc Cert.X1Ln1.nD Cert.X1Ln1.τ Cert.X1Ln1.sig) → Buf (Elt Bits) ℓ) : Prop :=
  True

def Pre_X1Ln1Ideal (m : (ℓ : Loc Cert.X1Ln1Ideal.nD Cert.X1Ln1Ideal.τ Cert.X1Ln1Ideal.sig) → Buf (Elt Ideal) ℓ) : Prop :=
  True

def Pre_X1Ln1Ideal_finite_x1_ln1 [hPre_finite_x1_ln1 : Cert.Pre_finite_x1_ln1.Facts] (m : (ℓ : Loc Cert.X1Ln1Ideal.nD Cert.X1Ln1Ideal.τ Cert.X1Ln1Ideal.sig) → Buf (Elt Ideal) ℓ) : Prop :=
  ∀ c : Dev Cert.X1Ln1Ideal.nD,
    (Cert.Pre_finite_x1_ln1.fn (F := Ideal) (m ((c.tc : Thread Cert.X1Ln1Ideal.nD Cert.X1Ln1Ideal.τ).loc Cert.X1Ln1Ideal.main_arg0)) (m ((c.tc : Thread Cert.X1Ln1Ideal.nD Cert.X1Ln1Ideal.τ).loc Cert.X1Ln1Ideal.main_arg1)) (m ((c.tc : Thread Cert.X1Ln1Ideal.nD Cert.X1Ln1Ideal.τ).loc Cert.X1Ln1Ideal.main_arg2)) (m ((c.tc : Thread Cert.X1Ln1Ideal.nD Cert.X1Ln1Ideal.τ).loc Cert.X1Ln1Ideal.main_arg3)) (m ((c.tc : Thread Cert.X1Ln1Ideal.nD Cert.X1Ln1Ideal.τ).loc Cert.X1Ln1Ideal.main_arg4))).1 = (fun _ => 1#1)
    ∧ (Cert.Pre_finite_x1_ln1.fn (F := Ideal) (m ((c.tc : Thread Cert.X1Ln1Ideal.nD Cert.X1Ln1Ideal.τ).loc Cert.X1Ln1Ideal.main_arg0)) (m ((c.tc : Thread Cert.X1Ln1Ideal.nD Cert.X1Ln1Ideal.τ).loc Cert.X1Ln1Ideal.main_arg1)) (m ((c.tc : Thread Cert.X1Ln1Ideal.nD Cert.X1Ln1Ideal.τ).loc Cert.X1Ln1Ideal.main_arg2)) (m ((c.tc : Thread Cert.X1Ln1Ideal.nD Cert.X1Ln1Ideal.τ).loc Cert.X1Ln1Ideal.main_arg3)) (m ((c.tc : Thread Cert.X1Ln1Ideal.nD Cert.X1Ln1Ideal.τ).loc Cert.X1Ln1Ideal.main_arg4))).2.1 = (fun _ => 1#1)
    ∧ (Cert.Pre_finite_x1_ln1.fn (F := Ideal) (m ((c.tc : Thread Cert.X1Ln1Ideal.nD Cert.X1Ln1Ideal.τ).loc Cert.X1Ln1Ideal.main_arg0)) (m ((c.tc : Thread Cert.X1Ln1Ideal.nD Cert.X1Ln1Ideal.τ).loc Cert.X1Ln1Ideal.main_arg1)) (m ((c.tc : Thread Cert.X1Ln1Ideal.nD Cert.X1Ln1Ideal.τ).loc Cert.X1Ln1Ideal.main_arg2)) (m ((c.tc : Thread Cert.X1Ln1Ideal.nD Cert.X1Ln1Ideal.τ).loc Cert.X1Ln1Ideal.main_arg3)) (m ((c.tc : Thread Cert.X1Ln1Ideal.nD Cert.X1Ln1Ideal.τ).loc Cert.X1Ln1Ideal.main_arg4))).2.2.1 = (fun _ => 1#1)
    ∧ (Cert.Pre_finite_x1_ln1.fn (F := Ideal) (m ((c.tc : Thread Cert.X1Ln1Ideal.nD Cert.X1Ln1Ideal.τ).loc Cert.X1Ln1Ideal.main_arg0)) (m ((c.tc : Thread Cert.X1Ln1Ideal.nD Cert.X1Ln1Ideal.τ).loc Cert.X1Ln1Ideal.main_arg1)) (m ((c.tc : Thread Cert.X1Ln1Ideal.nD Cert.X1Ln1Ideal.τ).loc Cert.X1Ln1Ideal.main_arg2)) (m ((c.tc : Thread Cert.X1Ln1Ideal.nD Cert.X1Ln1Ideal.τ).loc Cert.X1Ln1Ideal.main_arg3)) (m ((c.tc : Thread Cert.X1Ln1Ideal.nD Cert.X1Ln1Ideal.τ).loc Cert.X1Ln1Ideal.main_arg4))).2.2.2.1 = (fun _ => 1#1)
    ∧ (Cert.Pre_finite_x1_ln1.fn (F := Ideal) (m ((c.tc : Thread Cert.X1Ln1Ideal.nD Cert.X1Ln1Ideal.τ).loc Cert.X1Ln1Ideal.main_arg0)) (m ((c.tc : Thread Cert.X1Ln1Ideal.nD Cert.X1Ln1Ideal.τ).loc Cert.X1Ln1Ideal.main_arg1)) (m ((c.tc : Thread Cert.X1Ln1Ideal.nD Cert.X1Ln1Ideal.τ).loc Cert.X1Ln1Ideal.main_arg2)) (m ((c.tc : Thread Cert.X1Ln1Ideal.nD Cert.X1Ln1Ideal.τ).loc Cert.X1Ln1Ideal.main_arg3)) (m ((c.tc : Thread Cert.X1Ln1Ideal.nD Cert.X1Ln1Ideal.τ).loc Cert.X1Ln1Ideal.main_arg4))).2.2.2.2 = (fun _ => 1#1)

def Pre_X1Ln1ReferenceIdeal (m : (ℓ : Loc Cert.X1Ln1ReferenceIdeal.nD Cert.X1Ln1ReferenceIdeal.τ Cert.X1Ln1ReferenceIdeal.sig) → Buf (Elt Ideal) ℓ) : Prop :=
  True

def Pre_X1Ln1ReferenceIdeal_finite_x1_ln1 [hPre_finite_x1_ln1 : Cert.Pre_finite_x1_ln1.Facts] (m : (ℓ : Loc Cert.X1Ln1ReferenceIdeal.nD Cert.X1Ln1ReferenceIdeal.τ Cert.X1Ln1ReferenceIdeal.sig) → Buf (Elt Ideal) ℓ) : Prop :=
  ∀ c : Dev Cert.X1Ln1ReferenceIdeal.nD,
    (Cert.Pre_finite_x1_ln1.fn (F := Ideal) (m ((c.tc : Thread Cert.X1Ln1ReferenceIdeal.nD Cert.X1Ln1ReferenceIdeal.τ).loc Cert.X1Ln1ReferenceIdeal.main_arg0)) (m ((c.tc : Thread Cert.X1Ln1ReferenceIdeal.nD Cert.X1Ln1ReferenceIdeal.τ).loc Cert.X1Ln1ReferenceIdeal.main_arg1)) (m ((c.tc : Thread Cert.X1Ln1ReferenceIdeal.nD Cert.X1Ln1ReferenceIdeal.τ).loc Cert.X1Ln1ReferenceIdeal.main_arg2)) (m ((c.tc : Thread Cert.X1Ln1ReferenceIdeal.nD Cert.X1Ln1ReferenceIdeal.τ).loc Cert.X1Ln1ReferenceIdeal.main_arg3)) (m ((c.tc : Thread Cert.X1Ln1ReferenceIdeal.nD Cert.X1Ln1ReferenceIdeal.τ).loc Cert.X1Ln1ReferenceIdeal.main_arg4))).1 = (fun _ => 1#1)
    ∧ (Cert.Pre_finite_x1_ln1.fn (F := Ideal) (m ((c.tc : Thread Cert.X1Ln1ReferenceIdeal.nD Cert.X1Ln1ReferenceIdeal.τ).loc Cert.X1Ln1ReferenceIdeal.main_arg0)) (m ((c.tc : Thread Cert.X1Ln1ReferenceIdeal.nD Cert.X1Ln1ReferenceIdeal.τ).loc Cert.X1Ln1ReferenceIdeal.main_arg1)) (m ((c.tc : Thread Cert.X1Ln1ReferenceIdeal.nD Cert.X1Ln1ReferenceIdeal.τ).loc Cert.X1Ln1ReferenceIdeal.main_arg2)) (m ((c.tc : Thread Cert.X1Ln1ReferenceIdeal.nD Cert.X1Ln1ReferenceIdeal.τ).loc Cert.X1Ln1ReferenceIdeal.main_arg3)) (m ((c.tc : Thread Cert.X1Ln1ReferenceIdeal.nD Cert.X1Ln1ReferenceIdeal.τ).loc Cert.X1Ln1ReferenceIdeal.main_arg4))).2.1 = (fun _ => 1#1)
    ∧ (Cert.Pre_finite_x1_ln1.fn (F := Ideal) (m ((c.tc : Thread Cert.X1Ln1ReferenceIdeal.nD Cert.X1Ln1ReferenceIdeal.τ).loc Cert.X1Ln1ReferenceIdeal.main_arg0)) (m ((c.tc : Thread Cert.X1Ln1ReferenceIdeal.nD Cert.X1Ln1ReferenceIdeal.τ).loc Cert.X1Ln1ReferenceIdeal.main_arg1)) (m ((c.tc : Thread Cert.X1Ln1ReferenceIdeal.nD Cert.X1Ln1ReferenceIdeal.τ).loc Cert.X1Ln1ReferenceIdeal.main_arg2)) (m ((c.tc : Thread Cert.X1Ln1ReferenceIdeal.nD Cert.X1Ln1ReferenceIdeal.τ).loc Cert.X1Ln1ReferenceIdeal.main_arg3)) (m ((c.tc : Thread Cert.X1Ln1ReferenceIdeal.nD Cert.X1Ln1ReferenceIdeal.τ).loc Cert.X1Ln1ReferenceIdeal.main_arg4))).2.2.1 = (fun _ => 1#1)
    ∧ (Cert.Pre_finite_x1_ln1.fn (F := Ideal) (m ((c.tc : Thread Cert.X1Ln1ReferenceIdeal.nD Cert.X1Ln1ReferenceIdeal.τ).loc Cert.X1Ln1ReferenceIdeal.main_arg0)) (m ((c.tc : Thread Cert.X1Ln1ReferenceIdeal.nD Cert.X1Ln1ReferenceIdeal.τ).loc Cert.X1Ln1ReferenceIdeal.main_arg1)) (m ((c.tc : Thread Cert.X1Ln1ReferenceIdeal.nD Cert.X1Ln1ReferenceIdeal.τ).loc Cert.X1Ln1ReferenceIdeal.main_arg2)) (m ((c.tc : Thread Cert.X1Ln1ReferenceIdeal.nD Cert.X1Ln1ReferenceIdeal.τ).loc Cert.X1Ln1ReferenceIdeal.main_arg3)) (m ((c.tc : Thread Cert.X1Ln1ReferenceIdeal.nD Cert.X1Ln1ReferenceIdeal.τ).loc Cert.X1Ln1ReferenceIdeal.main_arg4))).2.2.2.1 = (fun _ => 1#1)
    ∧ (Cert.Pre_finite_x1_ln1.fn (F := Ideal) (m ((c.tc : Thread Cert.X1Ln1ReferenceIdeal.nD Cert.X1Ln1ReferenceIdeal.τ).loc Cert.X1Ln1ReferenceIdeal.main_arg0)) (m ((c.tc : Thread Cert.X1Ln1ReferenceIdeal.nD Cert.X1Ln1ReferenceIdeal.τ).loc Cert.X1Ln1ReferenceIdeal.main_arg1)) (m ((c.tc : Thread Cert.X1Ln1ReferenceIdeal.nD Cert.X1Ln1ReferenceIdeal.τ).loc Cert.X1Ln1ReferenceIdeal.main_arg2)) (m ((c.tc : Thread Cert.X1Ln1ReferenceIdeal.nD Cert.X1Ln1ReferenceIdeal.τ).loc Cert.X1Ln1ReferenceIdeal.main_arg3)) (m ((c.tc : Thread Cert.X1Ln1ReferenceIdeal.nD Cert.X1Ln1ReferenceIdeal.τ).loc Cert.X1Ln1ReferenceIdeal.main_arg4))).2.2.2.2 = (fun _ => 1#1)

def Pre_X0Ln3 (m : (ℓ : Loc Cert.X0Ln3.nD Cert.X0Ln3.τ Cert.X0Ln3.sig) → Buf (Elt Bits) ℓ) : Prop :=
  True

def Pre_X0Ln3Ideal (m : (ℓ : Loc Cert.X0Ln3Ideal.nD Cert.X0Ln3Ideal.τ Cert.X0Ln3Ideal.sig) → Buf (Elt Ideal) ℓ) : Prop :=
  True

def Pre_X0Ln3Ideal_finite_x0_ln3 [hPre_finite_x0_ln3 : Cert.Pre_finite_x0_ln3.Facts] (m : (ℓ : Loc Cert.X0Ln3Ideal.nD Cert.X0Ln3Ideal.τ Cert.X0Ln3Ideal.sig) → Buf (Elt Ideal) ℓ) : Prop :=
  ∀ c : Dev Cert.X0Ln3Ideal.nD,
    (Cert.Pre_finite_x0_ln3.fn (F := Ideal) (m ((c.tc : Thread Cert.X0Ln3Ideal.nD Cert.X0Ln3Ideal.τ).loc Cert.X0Ln3Ideal.main_arg0)) (m ((c.tc : Thread Cert.X0Ln3Ideal.nD Cert.X0Ln3Ideal.τ).loc Cert.X0Ln3Ideal.main_arg1)) (m ((c.tc : Thread Cert.X0Ln3Ideal.nD Cert.X0Ln3Ideal.τ).loc Cert.X0Ln3Ideal.main_arg2)) (m ((c.tc : Thread Cert.X0Ln3Ideal.nD Cert.X0Ln3Ideal.τ).loc Cert.X0Ln3Ideal.main_arg3)) (m ((c.tc : Thread Cert.X0Ln3Ideal.nD Cert.X0Ln3Ideal.τ).loc Cert.X0Ln3Ideal.main_arg4)) (m ((c.tc : Thread Cert.X0Ln3Ideal.nD Cert.X0Ln3Ideal.τ).loc Cert.X0Ln3Ideal.main_arg5)) (m ((c.tc : Thread Cert.X0Ln3Ideal.nD Cert.X0Ln3Ideal.τ).loc Cert.X0Ln3Ideal.main_arg6)) (m ((c.tc : Thread Cert.X0Ln3Ideal.nD Cert.X0Ln3Ideal.τ).loc Cert.X0Ln3Ideal.main_arg7)) (m ((c.tc : Thread Cert.X0Ln3Ideal.nD Cert.X0Ln3Ideal.τ).loc Cert.X0Ln3Ideal.main_arg8)) (m ((c.tc : Thread Cert.X0Ln3Ideal.nD Cert.X0Ln3Ideal.τ).loc Cert.X0Ln3Ideal.main_arg9)) (m ((c.tc : Thread Cert.X0Ln3Ideal.nD Cert.X0Ln3Ideal.τ).loc Cert.X0Ln3Ideal.main_arg10))).1 = (fun _ => 1#1)
    ∧ (Cert.Pre_finite_x0_ln3.fn (F := Ideal) (m ((c.tc : Thread Cert.X0Ln3Ideal.nD Cert.X0Ln3Ideal.τ).loc Cert.X0Ln3Ideal.main_arg0)) (m ((c.tc : Thread Cert.X0Ln3Ideal.nD Cert.X0Ln3Ideal.τ).loc Cert.X0Ln3Ideal.main_arg1)) (m ((c.tc : Thread Cert.X0Ln3Ideal.nD Cert.X0Ln3Ideal.τ).loc Cert.X0Ln3Ideal.main_arg2)) (m ((c.tc : Thread Cert.X0Ln3Ideal.nD Cert.X0Ln3Ideal.τ).loc Cert.X0Ln3Ideal.main_arg3)) (m ((c.tc : Thread Cert.X0Ln3Ideal.nD Cert.X0Ln3Ideal.τ).loc Cert.X0Ln3Ideal.main_arg4)) (m ((c.tc : Thread Cert.X0Ln3Ideal.nD Cert.X0Ln3Ideal.τ).loc Cert.X0Ln3Ideal.main_arg5)) (m ((c.tc : Thread Cert.X0Ln3Ideal.nD Cert.X0Ln3Ideal.τ).loc Cert.X0Ln3Ideal.main_arg6)) (m ((c.tc : Thread Cert.X0Ln3Ideal.nD Cert.X0Ln3Ideal.τ).loc Cert.X0Ln3Ideal.main_arg7)) (m ((c.tc : Thread Cert.X0Ln3Ideal.nD Cert.X0Ln3Ideal.τ).loc Cert.X0Ln3Ideal.main_arg8)) (m ((c.tc : Thread Cert.X0Ln3Ideal.nD Cert.X0Ln3Ideal.τ).loc Cert.X0Ln3Ideal.main_arg9)) (m ((c.tc : Thread Cert.X0Ln3Ideal.nD Cert.X0Ln3Ideal.τ).loc Cert.X0Ln3Ideal.main_arg10))).2.1 = (fun _ => 1#1)
    ∧ (Cert.Pre_finite_x0_ln3.fn (F := Ideal) (m ((c.tc : Thread Cert.X0Ln3Ideal.nD Cert.X0Ln3Ideal.τ).loc Cert.X0Ln3Ideal.main_arg0)) (m ((c.tc : Thread Cert.X0Ln3Ideal.nD Cert.X0Ln3Ideal.τ).loc Cert.X0Ln3Ideal.main_arg1)) (m ((c.tc : Thread Cert.X0Ln3Ideal.nD Cert.X0Ln3Ideal.τ).loc Cert.X0Ln3Ideal.main_arg2)) (m ((c.tc : Thread Cert.X0Ln3Ideal.nD Cert.X0Ln3Ideal.τ).loc Cert.X0Ln3Ideal.main_arg3)) (m ((c.tc : Thread Cert.X0Ln3Ideal.nD Cert.X0Ln3Ideal.τ).loc Cert.X0Ln3Ideal.main_arg4)) (m ((c.tc : Thread Cert.X0Ln3Ideal.nD Cert.X0Ln3Ideal.τ).loc Cert.X0Ln3Ideal.main_arg5)) (m ((c.tc : Thread Cert.X0Ln3Ideal.nD Cert.X0Ln3Ideal.τ).loc Cert.X0Ln3Ideal.main_arg6)) (m ((c.tc : Thread Cert.X0Ln3Ideal.nD Cert.X0Ln3Ideal.τ).loc Cert.X0Ln3Ideal.main_arg7)) (m ((c.tc : Thread Cert.X0Ln3Ideal.nD Cert.X0Ln3Ideal.τ).loc Cert.X0Ln3Ideal.main_arg8)) (m ((c.tc : Thread Cert.X0Ln3Ideal.nD Cert.X0Ln3Ideal.τ).loc Cert.X0Ln3Ideal.main_arg9)) (m ((c.tc : Thread Cert.X0Ln3Ideal.nD Cert.X0Ln3Ideal.τ).loc Cert.X0Ln3Ideal.main_arg10))).2.2.1 = (fun _ => 1#1)
    ∧ (Cert.Pre_finite_x0_ln3.fn (F := Ideal) (m ((c.tc : Thread Cert.X0Ln3Ideal.nD Cert.X0Ln3Ideal.τ).loc Cert.X0Ln3Ideal.main_arg0)) (m ((c.tc : Thread Cert.X0Ln3Ideal.nD Cert.X0Ln3Ideal.τ).loc Cert.X0Ln3Ideal.main_arg1)) (m ((c.tc : Thread Cert.X0Ln3Ideal.nD Cert.X0Ln3Ideal.τ).loc Cert.X0Ln3Ideal.main_arg2)) (m ((c.tc : Thread Cert.X0Ln3Ideal.nD Cert.X0Ln3Ideal.τ).loc Cert.X0Ln3Ideal.main_arg3)) (m ((c.tc : Thread Cert.X0Ln3Ideal.nD Cert.X0Ln3Ideal.τ).loc Cert.X0Ln3Ideal.main_arg4)) (m ((c.tc : Thread Cert.X0Ln3Ideal.nD Cert.X0Ln3Ideal.τ).loc Cert.X0Ln3Ideal.main_arg5)) (m ((c.tc : Thread Cert.X0Ln3Ideal.nD Cert.X0Ln3Ideal.τ).loc Cert.X0Ln3Ideal.main_arg6)) (m ((c.tc : Thread Cert.X0Ln3Ideal.nD Cert.X0Ln3Ideal.τ).loc Cert.X0Ln3Ideal.main_arg7)) (m ((c.tc : Thread Cert.X0Ln3Ideal.nD Cert.X0Ln3Ideal.τ).loc Cert.X0Ln3Ideal.main_arg8)) (m ((c.tc : Thread Cert.X0Ln3Ideal.nD Cert.X0Ln3Ideal.τ).loc Cert.X0Ln3Ideal.main_arg9)) (m ((c.tc : Thread Cert.X0Ln3Ideal.nD Cert.X0Ln3Ideal.τ).loc Cert.X0Ln3Ideal.main_arg10))).2.2.2.1 = (fun _ => 1#1)
    ∧ (Cert.Pre_finite_x0_ln3.fn (F := Ideal) (m ((c.tc : Thread Cert.X0Ln3Ideal.nD Cert.X0Ln3Ideal.τ).loc Cert.X0Ln3Ideal.main_arg0)) (m ((c.tc : Thread Cert.X0Ln3Ideal.nD Cert.X0Ln3Ideal.τ).loc Cert.X0Ln3Ideal.main_arg1)) (m ((c.tc : Thread Cert.X0Ln3Ideal.nD Cert.X0Ln3Ideal.τ).loc Cert.X0Ln3Ideal.main_arg2)) (m ((c.tc : Thread Cert.X0Ln3Ideal.nD Cert.X0Ln3Ideal.τ).loc Cert.X0Ln3Ideal.main_arg3)) (m ((c.tc : Thread Cert.X0Ln3Ideal.nD Cert.X0Ln3Ideal.τ).loc Cert.X0Ln3Ideal.main_arg4)) (m ((c.tc : Thread Cert.X0Ln3Ideal.nD Cert.X0Ln3Ideal.τ).loc Cert.X0Ln3Ideal.main_arg5)) (m ((c.tc : Thread Cert.X0Ln3Ideal.nD Cert.X0Ln3Ideal.τ).loc Cert.X0Ln3Ideal.main_arg6)) (m ((c.tc : Thread Cert.X0Ln3Ideal.nD Cert.X0Ln3Ideal.τ).loc Cert.X0Ln3Ideal.main_arg7)) (m ((c.tc : Thread Cert.X0Ln3Ideal.nD Cert.X0Ln3Ideal.τ).loc Cert.X0Ln3Ideal.main_arg8)) (m ((c.tc : Thread Cert.X0Ln3Ideal.nD Cert.X0Ln3Ideal.τ).loc Cert.X0Ln3Ideal.main_arg9)) (m ((c.tc : Thread Cert.X0Ln3Ideal.nD Cert.X0Ln3Ideal.τ).loc Cert.X0Ln3Ideal.main_arg10))).2.2.2.2.1 = (fun _ => 1#1)
    ∧ (Cert.Pre_finite_x0_ln3.fn (F := Ideal) (m ((c.tc : Thread Cert.X0Ln3Ideal.nD Cert.X0Ln3Ideal.τ).loc Cert.X0Ln3Ideal.main_arg0)) (m ((c.tc : Thread Cert.X0Ln3Ideal.nD Cert.X0Ln3Ideal.τ).loc Cert.X0Ln3Ideal.main_arg1)) (m ((c.tc : Thread Cert.X0Ln3Ideal.nD Cert.X0Ln3Ideal.τ).loc Cert.X0Ln3Ideal.main_arg2)) (m ((c.tc : Thread Cert.X0Ln3Ideal.nD Cert.X0Ln3Ideal.τ).loc Cert.X0Ln3Ideal.main_arg3)) (m ((c.tc : Thread Cert.X0Ln3Ideal.nD Cert.X0Ln3Ideal.τ).loc Cert.X0Ln3Ideal.main_arg4)) (m ((c.tc : Thread Cert.X0Ln3Ideal.nD Cert.X0Ln3Ideal.τ).loc Cert.X0Ln3Ideal.main_arg5)) (m ((c.tc : Thread Cert.X0Ln3Ideal.nD Cert.X0Ln3Ideal.τ).loc Cert.X0Ln3Ideal.main_arg6)) (m ((c.tc : Thread Cert.X0Ln3Ideal.nD Cert.X0Ln3Ideal.τ).loc Cert.X0Ln3Ideal.main_arg7)) (m ((c.tc : Thread Cert.X0Ln3Ideal.nD Cert.X0Ln3Ideal.τ).loc Cert.X0Ln3Ideal.main_arg8)) (m ((c.tc : Thread Cert.X0Ln3Ideal.nD Cert.X0Ln3Ideal.τ).loc Cert.X0Ln3Ideal.main_arg9)) (m ((c.tc : Thread Cert.X0Ln3Ideal.nD Cert.X0Ln3Ideal.τ).loc Cert.X0Ln3Ideal.main_arg10))).2.2.2.2.2.1 = (fun _ => 1#1)
    ∧ (Cert.Pre_finite_x0_ln3.fn (F := Ideal) (m ((c.tc : Thread Cert.X0Ln3Ideal.nD Cert.X0Ln3Ideal.τ).loc Cert.X0Ln3Ideal.main_arg0)) (m ((c.tc : Thread Cert.X0Ln3Ideal.nD Cert.X0Ln3Ideal.τ).loc Cert.X0Ln3Ideal.main_arg1)) (m ((c.tc : Thread Cert.X0Ln3Ideal.nD Cert.X0Ln3Ideal.τ).loc Cert.X0Ln3Ideal.main_arg2)) (m ((c.tc : Thread Cert.X0Ln3Ideal.nD Cert.X0Ln3Ideal.τ).loc Cert.X0Ln3Ideal.main_arg3)) (m ((c.tc : Thread Cert.X0Ln3Ideal.nD Cert.X0Ln3Ideal.τ).loc Cert.X0Ln3Ideal.main_arg4)) (m ((c.tc : Thread Cert.X0Ln3Ideal.nD Cert.X0Ln3Ideal.τ).loc Cert.X0Ln3Ideal.main_arg5)) (m ((c.tc : Thread Cert.X0Ln3Ideal.nD Cert.X0Ln3Ideal.τ).loc Cert.X0Ln3Ideal.main_arg6)) (m ((c.tc : Thread Cert.X0Ln3Ideal.nD Cert.X0Ln3Ideal.τ).loc Cert.X0Ln3Ideal.main_arg7)) (m ((c.tc : Thread Cert.X0Ln3Ideal.nD Cert.X0Ln3Ideal.τ).loc Cert.X0Ln3Ideal.main_arg8)) (m ((c.tc : Thread Cert.X0Ln3Ideal.nD Cert.X0Ln3Ideal.τ).loc Cert.X0Ln3Ideal.main_arg9)) (m ((c.tc : Thread Cert.X0Ln3Ideal.nD Cert.X0Ln3Ideal.τ).loc Cert.X0Ln3Ideal.main_arg10))).2.2.2.2.2.2.1 = (fun _ => 1#1)
    ∧ (Cert.Pre_finite_x0_ln3.fn (F := Ideal) (m ((c.tc : Thread Cert.X0Ln3Ideal.nD Cert.X0Ln3Ideal.τ).loc Cert.X0Ln3Ideal.main_arg0)) (m ((c.tc : Thread Cert.X0Ln3Ideal.nD Cert.X0Ln3Ideal.τ).loc Cert.X0Ln3Ideal.main_arg1)) (m ((c.tc : Thread Cert.X0Ln3Ideal.nD Cert.X0Ln3Ideal.τ).loc Cert.X0Ln3Ideal.main_arg2)) (m ((c.tc : Thread Cert.X0Ln3Ideal.nD Cert.X0Ln3Ideal.τ).loc Cert.X0Ln3Ideal.main_arg3)) (m ((c.tc : Thread Cert.X0Ln3Ideal.nD Cert.X0Ln3Ideal.τ).loc Cert.X0Ln3Ideal.main_arg4)) (m ((c.tc : Thread Cert.X0Ln3Ideal.nD Cert.X0Ln3Ideal.τ).loc Cert.X0Ln3Ideal.main_arg5)) (m ((c.tc : Thread Cert.X0Ln3Ideal.nD Cert.X0Ln3Ideal.τ).loc Cert.X0Ln3Ideal.main_arg6)) (m ((c.tc : Thread Cert.X0Ln3Ideal.nD Cert.X0Ln3Ideal.τ).loc Cert.X0Ln3Ideal.main_arg7)) (m ((c.tc : Thread Cert.X0Ln3Ideal.nD Cert.X0Ln3Ideal.τ).loc Cert.X0Ln3Ideal.main_arg8)) (m ((c.tc : Thread Cert.X0Ln3Ideal.nD Cert.X0Ln3Ideal.τ).loc Cert.X0Ln3Ideal.main_arg9)) (m ((c.tc : Thread Cert.X0Ln3Ideal.nD Cert.X0Ln3Ideal.τ).loc Cert.X0Ln3Ideal.main_arg10))).2.2.2.2.2.2.2.1 = (fun _ => 1#1)
    ∧ (Cert.Pre_finite_x0_ln3.fn (F := Ideal) (m ((c.tc : Thread Cert.X0Ln3Ideal.nD Cert.X0Ln3Ideal.τ).loc Cert.X0Ln3Ideal.main_arg0)) (m ((c.tc : Thread Cert.X0Ln3Ideal.nD Cert.X0Ln3Ideal.τ).loc Cert.X0Ln3Ideal.main_arg1)) (m ((c.tc : Thread Cert.X0Ln3Ideal.nD Cert.X0Ln3Ideal.τ).loc Cert.X0Ln3Ideal.main_arg2)) (m ((c.tc : Thread Cert.X0Ln3Ideal.nD Cert.X0Ln3Ideal.τ).loc Cert.X0Ln3Ideal.main_arg3)) (m ((c.tc : Thread Cert.X0Ln3Ideal.nD Cert.X0Ln3Ideal.τ).loc Cert.X0Ln3Ideal.main_arg4)) (m ((c.tc : Thread Cert.X0Ln3Ideal.nD Cert.X0Ln3Ideal.τ).loc Cert.X0Ln3Ideal.main_arg5)) (m ((c.tc : Thread Cert.X0Ln3Ideal.nD Cert.X0Ln3Ideal.τ).loc Cert.X0Ln3Ideal.main_arg6)) (m ((c.tc : Thread Cert.X0Ln3Ideal.nD Cert.X0Ln3Ideal.τ).loc Cert.X0Ln3Ideal.main_arg7)) (m ((c.tc : Thread Cert.X0Ln3Ideal.nD Cert.X0Ln3Ideal.τ).loc Cert.X0Ln3Ideal.main_arg8)) (m ((c.tc : Thread Cert.X0Ln3Ideal.nD Cert.X0Ln3Ideal.τ).loc Cert.X0Ln3Ideal.main_arg9)) (m ((c.tc : Thread Cert.X0Ln3Ideal.nD Cert.X0Ln3Ideal.τ).loc Cert.X0Ln3Ideal.main_arg10))).2.2.2.2.2.2.2.2.1 = (fun _ => 1#1)
    ∧ (Cert.Pre_finite_x0_ln3.fn (F := Ideal) (m ((c.tc : Thread Cert.X0Ln3Ideal.nD Cert.X0Ln3Ideal.τ).loc Cert.X0Ln3Ideal.main_arg0)) (m ((c.tc : Thread Cert.X0Ln3Ideal.nD Cert.X0Ln3Ideal.τ).loc Cert.X0Ln3Ideal.main_arg1)) (m ((c.tc : Thread Cert.X0Ln3Ideal.nD Cert.X0Ln3Ideal.τ).loc Cert.X0Ln3Ideal.main_arg2)) (m ((c.tc : Thread Cert.X0Ln3Ideal.nD Cert.X0Ln3Ideal.τ).loc Cert.X0Ln3Ideal.main_arg3)) (m ((c.tc : Thread Cert.X0Ln3Ideal.nD Cert.X0Ln3Ideal.τ).loc Cert.X0Ln3Ideal.main_arg4)) (m ((c.tc : Thread Cert.X0Ln3Ideal.nD Cert.X0Ln3Ideal.τ).loc Cert.X0Ln3Ideal.main_arg5)) (m ((c.tc : Thread Cert.X0Ln3Ideal.nD Cert.X0Ln3Ideal.τ).loc Cert.X0Ln3Ideal.main_arg6)) (m ((c.tc : Thread Cert.X0Ln3Ideal.nD Cert.X0Ln3Ideal.τ).loc Cert.X0Ln3Ideal.main_arg7)) (m ((c.tc : Thread Cert.X0Ln3Ideal.nD Cert.X0Ln3Ideal.τ).loc Cert.X0Ln3Ideal.main_arg8)) (m ((c.tc : Thread Cert.X0Ln3Ideal.nD Cert.X0Ln3Ideal.τ).loc Cert.X0Ln3Ideal.main_arg9)) (m ((c.tc : Thread Cert.X0Ln3Ideal.nD Cert.X0Ln3Ideal.τ).loc Cert.X0Ln3Ideal.main_arg10))).2.2.2.2.2.2.2.2.2.1 = (fun _ => 1#1)
    ∧ (Cert.Pre_finite_x0_ln3.fn (F := Ideal) (m ((c.tc : Thread Cert.X0Ln3Ideal.nD Cert.X0Ln3Ideal.τ).loc Cert.X0Ln3Ideal.main_arg0)) (m ((c.tc : Thread Cert.X0Ln3Ideal.nD Cert.X0Ln3Ideal.τ).loc Cert.X0Ln3Ideal.main_arg1)) (m ((c.tc : Thread Cert.X0Ln3Ideal.nD Cert.X0Ln3Ideal.τ).loc Cert.X0Ln3Ideal.main_arg2)) (m ((c.tc : Thread Cert.X0Ln3Ideal.nD Cert.X0Ln3Ideal.τ).loc Cert.X0Ln3Ideal.main_arg3)) (m ((c.tc : Thread Cert.X0Ln3Ideal.nD Cert.X0Ln3Ideal.τ).loc Cert.X0Ln3Ideal.main_arg4)) (m ((c.tc : Thread Cert.X0Ln3Ideal.nD Cert.X0Ln3Ideal.τ).loc Cert.X0Ln3Ideal.main_arg5)) (m ((c.tc : Thread Cert.X0Ln3Ideal.nD Cert.X0Ln3Ideal.τ).loc Cert.X0Ln3Ideal.main_arg6)) (m ((c.tc : Thread Cert.X0Ln3Ideal.nD Cert.X0Ln3Ideal.τ).loc Cert.X0Ln3Ideal.main_arg7)) (m ((c.tc : Thread Cert.X0Ln3Ideal.nD Cert.X0Ln3Ideal.τ).loc Cert.X0Ln3Ideal.main_arg8)) (m ((c.tc : Thread Cert.X0Ln3Ideal.nD Cert.X0Ln3Ideal.τ).loc Cert.X0Ln3Ideal.main_arg9)) (m ((c.tc : Thread Cert.X0Ln3Ideal.nD Cert.X0Ln3Ideal.τ).loc Cert.X0Ln3Ideal.main_arg10))).2.2.2.2.2.2.2.2.2.2 = (fun _ => 1#1)

def Pre_X0Ln3ReferenceIdeal (m : (ℓ : Loc Cert.X0Ln3ReferenceIdeal.nD Cert.X0Ln3ReferenceIdeal.τ Cert.X0Ln3ReferenceIdeal.sig) → Buf (Elt Ideal) ℓ) : Prop :=
  True

def Pre_X0Ln3ReferenceIdeal_finite_x0_ln3 [hPre_finite_x0_ln3 : Cert.Pre_finite_x0_ln3.Facts] (m : (ℓ : Loc Cert.X0Ln3ReferenceIdeal.nD Cert.X0Ln3ReferenceIdeal.τ Cert.X0Ln3ReferenceIdeal.sig) → Buf (Elt Ideal) ℓ) : Prop :=
  ∀ c : Dev Cert.X0Ln3ReferenceIdeal.nD,
    (Cert.Pre_finite_x0_ln3.fn (F := Ideal) (m ((c.tc : Thread Cert.X0Ln3ReferenceIdeal.nD Cert.X0Ln3ReferenceIdeal.τ).loc Cert.X0Ln3ReferenceIdeal.main_arg0)) (m ((c.tc : Thread Cert.X0Ln3ReferenceIdeal.nD Cert.X0Ln3ReferenceIdeal.τ).loc Cert.X0Ln3ReferenceIdeal.main_arg1)) (m ((c.tc : Thread Cert.X0Ln3ReferenceIdeal.nD Cert.X0Ln3ReferenceIdeal.τ).loc Cert.X0Ln3ReferenceIdeal.main_arg2)) (m ((c.tc : Thread Cert.X0Ln3ReferenceIdeal.nD Cert.X0Ln3ReferenceIdeal.τ).loc Cert.X0Ln3ReferenceIdeal.main_arg3)) (m ((c.tc : Thread Cert.X0Ln3ReferenceIdeal.nD Cert.X0Ln3ReferenceIdeal.τ).loc Cert.X0Ln3ReferenceIdeal.main_arg4)) (m ((c.tc : Thread Cert.X0Ln3ReferenceIdeal.nD Cert.X0Ln3ReferenceIdeal.τ).loc Cert.X0Ln3ReferenceIdeal.main_arg5)) (m ((c.tc : Thread Cert.X0Ln3ReferenceIdeal.nD Cert.X0Ln3ReferenceIdeal.τ).loc Cert.X0Ln3ReferenceIdeal.main_arg6)) (m ((c.tc : Thread Cert.X0Ln3ReferenceIdeal.nD Cert.X0Ln3ReferenceIdeal.τ).loc Cert.X0Ln3ReferenceIdeal.main_arg7)) (m ((c.tc : Thread Cert.X0Ln3ReferenceIdeal.nD Cert.X0Ln3ReferenceIdeal.τ).loc Cert.X0Ln3ReferenceIdeal.main_arg8)) (m ((c.tc : Thread Cert.X0Ln3ReferenceIdeal.nD Cert.X0Ln3ReferenceIdeal.τ).loc Cert.X0Ln3ReferenceIdeal.main_arg9)) (m ((c.tc : Thread Cert.X0Ln3ReferenceIdeal.nD Cert.X0Ln3ReferenceIdeal.τ).loc Cert.X0Ln3ReferenceIdeal.main_arg10))).1 = (fun _ => 1#1)
    ∧ (Cert.Pre_finite_x0_ln3.fn (F := Ideal) (m ((c.tc : Thread Cert.X0Ln3ReferenceIdeal.nD Cert.X0Ln3ReferenceIdeal.τ).loc Cert.X0Ln3ReferenceIdeal.main_arg0)) (m ((c.tc : Thread Cert.X0Ln3ReferenceIdeal.nD Cert.X0Ln3ReferenceIdeal.τ).loc Cert.X0Ln3ReferenceIdeal.main_arg1)) (m ((c.tc : Thread Cert.X0Ln3ReferenceIdeal.nD Cert.X0Ln3ReferenceIdeal.τ).loc Cert.X0Ln3ReferenceIdeal.main_arg2)) (m ((c.tc : Thread Cert.X0Ln3ReferenceIdeal.nD Cert.X0Ln3ReferenceIdeal.τ).loc Cert.X0Ln3ReferenceIdeal.main_arg3)) (m ((c.tc : Thread Cert.X0Ln3ReferenceIdeal.nD Cert.X0Ln3ReferenceIdeal.τ).loc Cert.X0Ln3ReferenceIdeal.main_arg4)) (m ((c.tc : Thread Cert.X0Ln3ReferenceIdeal.nD Cert.X0Ln3ReferenceIdeal.τ).loc Cert.X0Ln3ReferenceIdeal.main_arg5)) (m ((c.tc : Thread Cert.X0Ln3ReferenceIdeal.nD Cert.X0Ln3ReferenceIdeal.τ).loc Cert.X0Ln3ReferenceIdeal.main_arg6)) (m ((c.tc : Thread Cert.X0Ln3ReferenceIdeal.nD Cert.X0Ln3ReferenceIdeal.τ).loc Cert.X0Ln3ReferenceIdeal.main_arg7)) (m ((c.tc : Thread Cert.X0Ln3ReferenceIdeal.nD Cert.X0Ln3ReferenceIdeal.τ).loc Cert.X0Ln3ReferenceIdeal.main_arg8)) (m ((c.tc : Thread Cert.X0Ln3ReferenceIdeal.nD Cert.X0Ln3ReferenceIdeal.τ).loc Cert.X0Ln3ReferenceIdeal.main_arg9)) (m ((c.tc : Thread Cert.X0Ln3ReferenceIdeal.nD Cert.X0Ln3ReferenceIdeal.τ).loc Cert.X0Ln3ReferenceIdeal.main_arg10))).2.1 = (fun _ => 1#1)
    ∧ (Cert.Pre_finite_x0_ln3.fn (F := Ideal) (m ((c.tc : Thread Cert.X0Ln3ReferenceIdeal.nD Cert.X0Ln3ReferenceIdeal.τ).loc Cert.X0Ln3ReferenceIdeal.main_arg0)) (m ((c.tc : Thread Cert.X0Ln3ReferenceIdeal.nD Cert.X0Ln3ReferenceIdeal.τ).loc Cert.X0Ln3ReferenceIdeal.main_arg1)) (m ((c.tc : Thread Cert.X0Ln3ReferenceIdeal.nD Cert.X0Ln3ReferenceIdeal.τ).loc Cert.X0Ln3ReferenceIdeal.main_arg2)) (m ((c.tc : Thread Cert.X0Ln3ReferenceIdeal.nD Cert.X0Ln3ReferenceIdeal.τ).loc Cert.X0Ln3ReferenceIdeal.main_arg3)) (m ((c.tc : Thread Cert.X0Ln3ReferenceIdeal.nD Cert.X0Ln3ReferenceIdeal.τ).loc Cert.X0Ln3ReferenceIdeal.main_arg4)) (m ((c.tc : Thread Cert.X0Ln3ReferenceIdeal.nD Cert.X0Ln3ReferenceIdeal.τ).loc Cert.X0Ln3ReferenceIdeal.main_arg5)) (m ((c.tc : Thread Cert.X0Ln3ReferenceIdeal.nD Cert.X0Ln3ReferenceIdeal.τ).loc Cert.X0Ln3ReferenceIdeal.main_arg6)) (m ((c.tc : Thread Cert.X0Ln3ReferenceIdeal.nD Cert.X0Ln3ReferenceIdeal.τ).loc Cert.X0Ln3ReferenceIdeal.main_arg7)) (m ((c.tc : Thread Cert.X0Ln3ReferenceIdeal.nD Cert.X0Ln3ReferenceIdeal.τ).loc Cert.X0Ln3ReferenceIdeal.main_arg8)) (m ((c.tc : Thread Cert.X0Ln3ReferenceIdeal.nD Cert.X0Ln3ReferenceIdeal.τ).loc Cert.X0Ln3ReferenceIdeal.main_arg9)) (m ((c.tc : Thread Cert.X0Ln3ReferenceIdeal.nD Cert.X0Ln3ReferenceIdeal.τ).loc Cert.X0Ln3ReferenceIdeal.main_arg10))).2.2.1 = (fun _ => 1#1)
    ∧ (Cert.Pre_finite_x0_ln3.fn (F := Ideal) (m ((c.tc : Thread Cert.X0Ln3ReferenceIdeal.nD Cert.X0Ln3ReferenceIdeal.τ).loc Cert.X0Ln3ReferenceIdeal.main_arg0)) (m ((c.tc : Thread Cert.X0Ln3ReferenceIdeal.nD Cert.X0Ln3ReferenceIdeal.τ).loc Cert.X0Ln3ReferenceIdeal.main_arg1)) (m ((c.tc : Thread Cert.X0Ln3ReferenceIdeal.nD Cert.X0Ln3ReferenceIdeal.τ).loc Cert.X0Ln3ReferenceIdeal.main_arg2)) (m ((c.tc : Thread Cert.X0Ln3ReferenceIdeal.nD Cert.X0Ln3ReferenceIdeal.τ).loc Cert.X0Ln3ReferenceIdeal.main_arg3)) (m ((c.tc : Thread Cert.X0Ln3ReferenceIdeal.nD Cert.X0Ln3ReferenceIdeal.τ).loc Cert.X0Ln3ReferenceIdeal.main_arg4)) (m ((c.tc : Thread Cert.X0Ln3ReferenceIdeal.nD Cert.X0Ln3ReferenceIdeal.τ).loc Cert.X0Ln3ReferenceIdeal.main_arg5)) (m ((c.tc : Thread Cert.X0Ln3ReferenceIdeal.nD Cert.X0Ln3ReferenceIdeal.τ).loc Cert.X0Ln3ReferenceIdeal.main_arg6)) (m ((c.tc : Thread Cert.X0Ln3ReferenceIdeal.nD Cert.X0Ln3ReferenceIdeal.τ).loc Cert.X0Ln3ReferenceIdeal.main_arg7)) (m ((c.tc : Thread Cert.X0Ln3ReferenceIdeal.nD Cert.X0Ln3ReferenceIdeal.τ).loc Cert.X0Ln3ReferenceIdeal.main_arg8)) (m ((c.tc : Thread Cert.X0Ln3ReferenceIdeal.nD Cert.X0Ln3ReferenceIdeal.τ).loc Cert.X0Ln3ReferenceIdeal.main_arg9)) (m ((c.tc : Thread Cert.X0Ln3ReferenceIdeal.nD Cert.X0Ln3ReferenceIdeal.τ).loc Cert.X0Ln3ReferenceIdeal.main_arg10))).2.2.2.1 = (fun _ => 1#1)
    ∧ (Cert.Pre_finite_x0_ln3.fn (F := Ideal) (m ((c.tc : Thread Cert.X0Ln3ReferenceIdeal.nD Cert.X0Ln3ReferenceIdeal.τ).loc Cert.X0Ln3ReferenceIdeal.main_arg0)) (m ((c.tc : Thread Cert.X0Ln3ReferenceIdeal.nD Cert.X0Ln3ReferenceIdeal.τ).loc Cert.X0Ln3ReferenceIdeal.main_arg1)) (m ((c.tc : Thread Cert.X0Ln3ReferenceIdeal.nD Cert.X0Ln3ReferenceIdeal.τ).loc Cert.X0Ln3ReferenceIdeal.main_arg2)) (m ((c.tc : Thread Cert.X0Ln3ReferenceIdeal.nD Cert.X0Ln3ReferenceIdeal.τ).loc Cert.X0Ln3ReferenceIdeal.main_arg3)) (m ((c.tc : Thread Cert.X0Ln3ReferenceIdeal.nD Cert.X0Ln3ReferenceIdeal.τ).loc Cert.X0Ln3ReferenceIdeal.main_arg4)) (m ((c.tc : Thread Cert.X0Ln3ReferenceIdeal.nD Cert.X0Ln3ReferenceIdeal.τ).loc Cert.X0Ln3ReferenceIdeal.main_arg5)) (m ((c.tc : Thread Cert.X0Ln3ReferenceIdeal.nD Cert.X0Ln3ReferenceIdeal.τ).loc Cert.X0Ln3ReferenceIdeal.main_arg6)) (m ((c.tc : Thread Cert.X0Ln3ReferenceIdeal.nD Cert.X0Ln3ReferenceIdeal.τ).loc Cert.X0Ln3ReferenceIdeal.main_arg7)) (m ((c.tc : Thread Cert.X0Ln3ReferenceIdeal.nD Cert.X0Ln3ReferenceIdeal.τ).loc Cert.X0Ln3ReferenceIdeal.main_arg8)) (m ((c.tc : Thread Cert.X0Ln3ReferenceIdeal.nD Cert.X0Ln3ReferenceIdeal.τ).loc Cert.X0Ln3ReferenceIdeal.main_arg9)) (m ((c.tc : Thread Cert.X0Ln3ReferenceIdeal.nD Cert.X0Ln3ReferenceIdeal.τ).loc Cert.X0Ln3ReferenceIdeal.main_arg10))).2.2.2.2.1 = (fun _ => 1#1)
    ∧ (Cert.Pre_finite_x0_ln3.fn (F := Ideal) (m ((c.tc : Thread Cert.X0Ln3ReferenceIdeal.nD Cert.X0Ln3ReferenceIdeal.τ).loc Cert.X0Ln3ReferenceIdeal.main_arg0)) (m ((c.tc : Thread Cert.X0Ln3ReferenceIdeal.nD Cert.X0Ln3ReferenceIdeal.τ).loc Cert.X0Ln3ReferenceIdeal.main_arg1)) (m ((c.tc : Thread Cert.X0Ln3ReferenceIdeal.nD Cert.X0Ln3ReferenceIdeal.τ).loc Cert.X0Ln3ReferenceIdeal.main_arg2)) (m ((c.tc : Thread Cert.X0Ln3ReferenceIdeal.nD Cert.X0Ln3ReferenceIdeal.τ).loc Cert.X0Ln3ReferenceIdeal.main_arg3)) (m ((c.tc : Thread Cert.X0Ln3ReferenceIdeal.nD Cert.X0Ln3ReferenceIdeal.τ).loc Cert.X0Ln3ReferenceIdeal.main_arg4)) (m ((c.tc : Thread Cert.X0Ln3ReferenceIdeal.nD Cert.X0Ln3ReferenceIdeal.τ).loc Cert.X0Ln3ReferenceIdeal.main_arg5)) (m ((c.tc : Thread Cert.X0Ln3ReferenceIdeal.nD Cert.X0Ln3ReferenceIdeal.τ).loc Cert.X0Ln3ReferenceIdeal.main_arg6)) (m ((c.tc : Thread Cert.X0Ln3ReferenceIdeal.nD Cert.X0Ln3ReferenceIdeal.τ).loc Cert.X0Ln3ReferenceIdeal.main_arg7)) (m ((c.tc : Thread Cert.X0Ln3ReferenceIdeal.nD Cert.X0Ln3ReferenceIdeal.τ).loc Cert.X0Ln3ReferenceIdeal.main_arg8)) (m ((c.tc : Thread Cert.X0Ln3ReferenceIdeal.nD Cert.X0Ln3ReferenceIdeal.τ).loc Cert.X0Ln3ReferenceIdeal.main_arg9)) (m ((c.tc : Thread Cert.X0Ln3ReferenceIdeal.nD Cert.X0Ln3ReferenceIdeal.τ).loc Cert.X0Ln3ReferenceIdeal.main_arg10))).2.2.2.2.2.1 = (fun _ => 1#1)
    ∧ (Cert.Pre_finite_x0_ln3.fn (F := Ideal) (m ((c.tc : Thread Cert.X0Ln3ReferenceIdeal.nD Cert.X0Ln3ReferenceIdeal.τ).loc Cert.X0Ln3ReferenceIdeal.main_arg0)) (m ((c.tc : Thread Cert.X0Ln3ReferenceIdeal.nD Cert.X0Ln3ReferenceIdeal.τ).loc Cert.X0Ln3ReferenceIdeal.main_arg1)) (m ((c.tc : Thread Cert.X0Ln3ReferenceIdeal.nD Cert.X0Ln3ReferenceIdeal.τ).loc Cert.X0Ln3ReferenceIdeal.main_arg2)) (m ((c.tc : Thread Cert.X0Ln3ReferenceIdeal.nD Cert.X0Ln3ReferenceIdeal.τ).loc Cert.X0Ln3ReferenceIdeal.main_arg3)) (m ((c.tc : Thread Cert.X0Ln3ReferenceIdeal.nD Cert.X0Ln3ReferenceIdeal.τ).loc Cert.X0Ln3ReferenceIdeal.main_arg4)) (m ((c.tc : Thread Cert.X0Ln3ReferenceIdeal.nD Cert.X0Ln3ReferenceIdeal.τ).loc Cert.X0Ln3ReferenceIdeal.main_arg5)) (m ((c.tc : Thread Cert.X0Ln3ReferenceIdeal.nD Cert.X0Ln3ReferenceIdeal.τ).loc Cert.X0Ln3ReferenceIdeal.main_arg6)) (m ((c.tc : Thread Cert.X0Ln3ReferenceIdeal.nD Cert.X0Ln3ReferenceIdeal.τ).loc Cert.X0Ln3ReferenceIdeal.main_arg7)) (m ((c.tc : Thread Cert.X0Ln3ReferenceIdeal.nD Cert.X0Ln3ReferenceIdeal.τ).loc Cert.X0Ln3ReferenceIdeal.main_arg8)) (m ((c.tc : Thread Cert.X0Ln3ReferenceIdeal.nD Cert.X0Ln3ReferenceIdeal.τ).loc Cert.X0Ln3ReferenceIdeal.main_arg9)) (m ((c.tc : Thread Cert.X0Ln3ReferenceIdeal.nD Cert.X0Ln3ReferenceIdeal.τ).loc Cert.X0Ln3ReferenceIdeal.main_arg10))).2.2.2.2.2.2.1 = (fun _ => 1#1)
    ∧ (Cert.Pre_finite_x0_ln3.fn (F := Ideal) (m ((c.tc : Thread Cert.X0Ln3ReferenceIdeal.nD Cert.X0Ln3ReferenceIdeal.τ).loc Cert.X0Ln3ReferenceIdeal.main_arg0)) (m ((c.tc : Thread Cert.X0Ln3ReferenceIdeal.nD Cert.X0Ln3ReferenceIdeal.τ).loc Cert.X0Ln3ReferenceIdeal.main_arg1)) (m ((c.tc : Thread Cert.X0Ln3ReferenceIdeal.nD Cert.X0Ln3ReferenceIdeal.τ).loc Cert.X0Ln3ReferenceIdeal.main_arg2)) (m ((c.tc : Thread Cert.X0Ln3ReferenceIdeal.nD Cert.X0Ln3ReferenceIdeal.τ).loc Cert.X0Ln3ReferenceIdeal.main_arg3)) (m ((c.tc : Thread Cert.X0Ln3ReferenceIdeal.nD Cert.X0Ln3ReferenceIdeal.τ).loc Cert.X0Ln3ReferenceIdeal.main_arg4)) (m ((c.tc : Thread Cert.X0Ln3ReferenceIdeal.nD Cert.X0Ln3ReferenceIdeal.τ).loc Cert.X0Ln3ReferenceIdeal.main_arg5)) (m ((c.tc : Thread Cert.X0Ln3ReferenceIdeal.nD Cert.X0Ln3ReferenceIdeal.τ).loc Cert.X0Ln3ReferenceIdeal.main_arg6)) (m ((c.tc : Thread Cert.X0Ln3ReferenceIdeal.nD Cert.X0Ln3ReferenceIdeal.τ).loc Cert.X0Ln3ReferenceIdeal.main_arg7)) (m ((c.tc : Thread Cert.X0Ln3ReferenceIdeal.nD Cert.X0Ln3ReferenceIdeal.τ).loc Cert.X0Ln3ReferenceIdeal.main_arg8)) (m ((c.tc : Thread Cert.X0Ln3ReferenceIdeal.nD Cert.X0Ln3ReferenceIdeal.τ).loc Cert.X0Ln3ReferenceIdeal.main_arg9)) (m ((c.tc : Thread Cert.X0Ln3ReferenceIdeal.nD Cert.X0Ln3ReferenceIdeal.τ).loc Cert.X0Ln3ReferenceIdeal.main_arg10))).2.2.2.2.2.2.2.1 = (fun _ => 1#1)
    ∧ (Cert.Pre_finite_x0_ln3.fn (F := Ideal) (m ((c.tc : Thread Cert.X0Ln3ReferenceIdeal.nD Cert.X0Ln3ReferenceIdeal.τ).loc Cert.X0Ln3ReferenceIdeal.main_arg0)) (m ((c.tc : Thread Cert.X0Ln3ReferenceIdeal.nD Cert.X0Ln3ReferenceIdeal.τ).loc Cert.X0Ln3ReferenceIdeal.main_arg1)) (m ((c.tc : Thread Cert.X0Ln3ReferenceIdeal.nD Cert.X0Ln3ReferenceIdeal.τ).loc Cert.X0Ln3ReferenceIdeal.main_arg2)) (m ((c.tc : Thread Cert.X0Ln3ReferenceIdeal.nD Cert.X0Ln3ReferenceIdeal.τ).loc Cert.X0Ln3ReferenceIdeal.main_arg3)) (m ((c.tc : Thread Cert.X0Ln3ReferenceIdeal.nD Cert.X0Ln3ReferenceIdeal.τ).loc Cert.X0Ln3ReferenceIdeal.main_arg4)) (m ((c.tc : Thread Cert.X0Ln3ReferenceIdeal.nD Cert.X0Ln3ReferenceIdeal.τ).loc Cert.X0Ln3ReferenceIdeal.main_arg5)) (m ((c.tc : Thread Cert.X0Ln3ReferenceIdeal.nD Cert.X0Ln3ReferenceIdeal.τ).loc Cert.X0Ln3ReferenceIdeal.main_arg6)) (m ((c.tc : Thread Cert.X0Ln3ReferenceIdeal.nD Cert.X0Ln3ReferenceIdeal.τ).loc Cert.X0Ln3ReferenceIdeal.main_arg7)) (m ((c.tc : Thread Cert.X0Ln3ReferenceIdeal.nD Cert.X0Ln3ReferenceIdeal.τ).loc Cert.X0Ln3ReferenceIdeal.main_arg8)) (m ((c.tc : Thread Cert.X0Ln3ReferenceIdeal.nD Cert.X0Ln3ReferenceIdeal.τ).loc Cert.X0Ln3ReferenceIdeal.main_arg9)) (m ((c.tc : Thread Cert.X0Ln3ReferenceIdeal.nD Cert.X0Ln3ReferenceIdeal.τ).loc Cert.X0Ln3ReferenceIdeal.main_arg10))).2.2.2.2.2.2.2.2.1 = (fun _ => 1#1)
    ∧ (Cert.Pre_finite_x0_ln3.fn (F := Ideal) (m ((c.tc : Thread Cert.X0Ln3ReferenceIdeal.nD Cert.X0Ln3ReferenceIdeal.τ).loc Cert.X0Ln3ReferenceIdeal.main_arg0)) (m ((c.tc : Thread Cert.X0Ln3ReferenceIdeal.nD Cert.X0Ln3ReferenceIdeal.τ).loc Cert.X0Ln3ReferenceIdeal.main_arg1)) (m ((c.tc : Thread Cert.X0Ln3ReferenceIdeal.nD Cert.X0Ln3ReferenceIdeal.τ).loc Cert.X0Ln3ReferenceIdeal.main_arg2)) (m ((c.tc : Thread Cert.X0Ln3ReferenceIdeal.nD Cert.X0Ln3ReferenceIdeal.τ).loc Cert.X0Ln3ReferenceIdeal.main_arg3)) (m ((c.tc : Thread Cert.X0Ln3ReferenceIdeal.nD Cert.X0Ln3ReferenceIdeal.τ).loc Cert.X0Ln3ReferenceIdeal.main_arg4)) (m ((c.tc : Thread Cert.X0Ln3ReferenceIdeal.nD Cert.X0Ln3ReferenceIdeal.τ).loc Cert.X0Ln3ReferenceIdeal.main_arg5)) (m ((c.tc : Thread Cert.X0Ln3ReferenceIdeal.nD Cert.X0Ln3ReferenceIdeal.τ).loc Cert.X0Ln3ReferenceIdeal.main_arg6)) (m ((c.tc : Thread Cert.X0Ln3ReferenceIdeal.nD Cert.X0Ln3ReferenceIdeal.τ).loc Cert.X0Ln3ReferenceIdeal.main_arg7)) (m ((c.tc : Thread Cert.X0Ln3ReferenceIdeal.nD Cert.X0Ln3ReferenceIdeal.τ).loc Cert.X0Ln3ReferenceIdeal.main_arg8)) (m ((c.tc : Thread Cert.X0Ln3ReferenceIdeal.nD Cert.X0Ln3ReferenceIdeal.τ).loc Cert.X0Ln3ReferenceIdeal.main_arg9)) (m ((c.tc : Thread Cert.X0Ln3ReferenceIdeal.nD Cert.X0Ln3ReferenceIdeal.τ).loc Cert.X0Ln3ReferenceIdeal.main_arg10))).2.2.2.2.2.2.2.2.2.1 = (fun _ => 1#1)
    ∧ (Cert.Pre_finite_x0_ln3.fn (F := Ideal) (m ((c.tc : Thread Cert.X0Ln3ReferenceIdeal.nD Cert.X0Ln3ReferenceIdeal.τ).loc Cert.X0Ln3ReferenceIdeal.main_arg0)) (m ((c.tc : Thread Cert.X0Ln3ReferenceIdeal.nD Cert.X0Ln3ReferenceIdeal.τ).loc Cert.X0Ln3ReferenceIdeal.main_arg1)) (m ((c.tc : Thread Cert.X0Ln3ReferenceIdeal.nD Cert.X0Ln3ReferenceIdeal.τ).loc Cert.X0Ln3ReferenceIdeal.main_arg2)) (m ((c.tc : Thread Cert.X0Ln3ReferenceIdeal.nD Cert.X0Ln3ReferenceIdeal.τ).loc Cert.X0Ln3ReferenceIdeal.main_arg3)) (m ((c.tc : Thread Cert.X0Ln3ReferenceIdeal.nD Cert.X0Ln3ReferenceIdeal.τ).loc Cert.X0Ln3ReferenceIdeal.main_arg4)) (m ((c.tc : Thread Cert.X0Ln3ReferenceIdeal.nD Cert.X0Ln3ReferenceIdeal.τ).loc Cert.X0Ln3ReferenceIdeal.main_arg5)) (m ((c.tc : Thread Cert.X0Ln3ReferenceIdeal.nD Cert.X0Ln3ReferenceIdeal.τ).loc Cert.X0Ln3ReferenceIdeal.main_arg6)) (m ((c.tc : Thread Cert.X0Ln3ReferenceIdeal.nD Cert.X0Ln3ReferenceIdeal.τ).loc Cert.X0Ln3ReferenceIdeal.main_arg7)) (m ((c.tc : Thread Cert.X0Ln3ReferenceIdeal.nD Cert.X0Ln3ReferenceIdeal.τ).loc Cert.X0Ln3ReferenceIdeal.main_arg8)) (m ((c.tc : Thread Cert.X0Ln3ReferenceIdeal.nD Cert.X0Ln3ReferenceIdeal.τ).loc Cert.X0Ln3ReferenceIdeal.main_arg9)) (m ((c.tc : Thread Cert.X0Ln3ReferenceIdeal.nD Cert.X0Ln3ReferenceIdeal.τ).loc Cert.X0Ln3ReferenceIdeal.main_arg10))).2.2.2.2.2.2.2.2.2.2 = (fun _ => 1#1)

def Pre_X0 (m : (ℓ : Loc Cert.X0.nD Cert.X0.τ Cert.X0.sig) → Buf (Elt Bits) ℓ) : Prop :=
  True

def Pre_X0Ideal (m : (ℓ : Loc Cert.X0Ideal.nD Cert.X0Ideal.τ Cert.X0Ideal.sig) → Buf (Elt Ideal) ℓ) : Prop :=
  True

def Pre_X0ReferenceIdeal (m : (ℓ : Loc Cert.X0ReferenceIdeal.nD Cert.X0ReferenceIdeal.τ Cert.X0ReferenceIdeal.sig) → Buf (Elt Ideal) ℓ) : Prop :=
  True

def Pre_WIn (m : (ℓ : Loc Cert.WIn.nD Cert.WIn.τ Cert.WIn.sig) → Buf (Elt Bits) ℓ) : Prop :=
  True

def Pre_WInIdeal (m : (ℓ : Loc Cert.WInIdeal.nD Cert.WInIdeal.τ Cert.WInIdeal.sig) → Buf (Elt Ideal) ℓ) : Prop :=
  True

def Pre_WInReferenceIdeal (m : (ℓ : Loc Cert.WInReferenceIdeal.nD Cert.WInReferenceIdeal.τ Cert.WInReferenceIdeal.sig) → Buf (Elt Ideal) ℓ) : Prop :=
  True

def Pre_WOut (m : (ℓ : Loc Cert.WOut.nD Cert.WOut.τ Cert.WOut.sig) → Buf (Elt Bits) ℓ) : Prop :=
  True

def Pre_WOutIdeal (m : (ℓ : Loc Cert.WOutIdeal.nD Cert.WOutIdeal.τ Cert.WOutIdeal.sig) → Buf (Elt Ideal) ℓ) : Prop :=
  True

def Pre_WOutReferenceIdeal (m : (ℓ : Loc Cert.WOutReferenceIdeal.nD Cert.WOutReferenceIdeal.τ Cert.WOutReferenceIdeal.sig) → Buf (Elt Ideal) ℓ) : Prop :=
  True

def Pre_LossLn3 (m : (ℓ : Loc Cert.LossLn3.nD Cert.LossLn3.τ Cert.LossLn3.sig) → Buf (Elt Bits) ℓ) : Prop :=
  True

def Pre_LossLn3Ideal (m : (ℓ : Loc Cert.LossLn3Ideal.nD Cert.LossLn3Ideal.τ Cert.LossLn3Ideal.sig) → Buf (Elt Ideal) ℓ) : Prop :=
  True

def Pre_LossLn3Ideal_finite_loss_ln3 [hPre_finite_loss_ln3 : Cert.Pre_finite_loss_ln3.Facts] (m : (ℓ : Loc Cert.LossLn3Ideal.nD Cert.LossLn3Ideal.τ Cert.LossLn3Ideal.sig) → Buf (Elt Ideal) ℓ) : Prop :=
  ∀ c : Dev Cert.LossLn3Ideal.nD,
    (Cert.Pre_finite_loss_ln3.fn (F := Ideal) (m ((c.tc : Thread Cert.LossLn3Ideal.nD Cert.LossLn3Ideal.τ).loc Cert.LossLn3Ideal.main_arg0)) (m ((c.tc : Thread Cert.LossLn3Ideal.nD Cert.LossLn3Ideal.τ).loc Cert.LossLn3Ideal.main_arg1)) (m ((c.tc : Thread Cert.LossLn3Ideal.nD Cert.LossLn3Ideal.τ).loc Cert.LossLn3Ideal.main_arg2)) (m ((c.tc : Thread Cert.LossLn3Ideal.nD Cert.LossLn3Ideal.τ).loc Cert.LossLn3Ideal.main_arg3))).1 = (fun _ => 1#1)
    ∧ (Cert.Pre_finite_loss_ln3.fn (F := Ideal) (m ((c.tc : Thread Cert.LossLn3Ideal.nD Cert.LossLn3Ideal.τ).loc Cert.LossLn3Ideal.main_arg0)) (m ((c.tc : Thread Cert.LossLn3Ideal.nD Cert.LossLn3Ideal.τ).loc Cert.LossLn3Ideal.main_arg1)) (m ((c.tc : Thread Cert.LossLn3Ideal.nD Cert.LossLn3Ideal.τ).loc Cert.LossLn3Ideal.main_arg2)) (m ((c.tc : Thread Cert.LossLn3Ideal.nD Cert.LossLn3Ideal.τ).loc Cert.LossLn3Ideal.main_arg3))).2.1 = (fun _ => 1#1)
    ∧ (Cert.Pre_finite_loss_ln3.fn (F := Ideal) (m ((c.tc : Thread Cert.LossLn3Ideal.nD Cert.LossLn3Ideal.τ).loc Cert.LossLn3Ideal.main_arg0)) (m ((c.tc : Thread Cert.LossLn3Ideal.nD Cert.LossLn3Ideal.τ).loc Cert.LossLn3Ideal.main_arg1)) (m ((c.tc : Thread Cert.LossLn3Ideal.nD Cert.LossLn3Ideal.τ).loc Cert.LossLn3Ideal.main_arg2)) (m ((c.tc : Thread Cert.LossLn3Ideal.nD Cert.LossLn3Ideal.τ).loc Cert.LossLn3Ideal.main_arg3))).2.2.1 = (fun _ => 1#1)
    ∧ (Cert.Pre_finite_loss_ln3.fn (F := Ideal) (m ((c.tc : Thread Cert.LossLn3Ideal.nD Cert.LossLn3Ideal.τ).loc Cert.LossLn3Ideal.main_arg0)) (m ((c.tc : Thread Cert.LossLn3Ideal.nD Cert.LossLn3Ideal.τ).loc Cert.LossLn3Ideal.main_arg1)) (m ((c.tc : Thread Cert.LossLn3Ideal.nD Cert.LossLn3Ideal.τ).loc Cert.LossLn3Ideal.main_arg2)) (m ((c.tc : Thread Cert.LossLn3Ideal.nD Cert.LossLn3Ideal.τ).loc Cert.LossLn3Ideal.main_arg3))).2.2.2 = (fun _ => 1#1)

def Pre_LossLn3ReferenceIdeal (m : (ℓ : Loc Cert.LossLn3ReferenceIdeal.nD Cert.LossLn3ReferenceIdeal.τ Cert.LossLn3ReferenceIdeal.sig) → Buf (Elt Ideal) ℓ) : Prop :=
  True

def Pre_LossLn3ReferenceIdeal_finite_loss_ln3 [hPre_finite_loss_ln3 : Cert.Pre_finite_loss_ln3.Facts] (m : (ℓ : Loc Cert.LossLn3ReferenceIdeal.nD Cert.LossLn3ReferenceIdeal.τ Cert.LossLn3ReferenceIdeal.sig) → Buf (Elt Ideal) ℓ) : Prop :=
  ∀ c : Dev Cert.LossLn3ReferenceIdeal.nD,
    (Cert.Pre_finite_loss_ln3.fn (F := Ideal) (m ((c.tc : Thread Cert.LossLn3ReferenceIdeal.nD Cert.LossLn3ReferenceIdeal.τ).loc Cert.LossLn3ReferenceIdeal.main_arg0)) (m ((c.tc : Thread Cert.LossLn3ReferenceIdeal.nD Cert.LossLn3ReferenceIdeal.τ).loc Cert.LossLn3ReferenceIdeal.main_arg1)) (m ((c.tc : Thread Cert.LossLn3ReferenceIdeal.nD Cert.LossLn3ReferenceIdeal.τ).loc Cert.LossLn3ReferenceIdeal.main_arg2)) (m ((c.tc : Thread Cert.LossLn3ReferenceIdeal.nD Cert.LossLn3ReferenceIdeal.τ).loc Cert.LossLn3ReferenceIdeal.main_arg3))).1 = (fun _ => 1#1)
    ∧ (Cert.Pre_finite_loss_ln3.fn (F := Ideal) (m ((c.tc : Thread Cert.LossLn3ReferenceIdeal.nD Cert.LossLn3ReferenceIdeal.τ).loc Cert.LossLn3ReferenceIdeal.main_arg0)) (m ((c.tc : Thread Cert.LossLn3ReferenceIdeal.nD Cert.LossLn3ReferenceIdeal.τ).loc Cert.LossLn3ReferenceIdeal.main_arg1)) (m ((c.tc : Thread Cert.LossLn3ReferenceIdeal.nD Cert.LossLn3ReferenceIdeal.τ).loc Cert.LossLn3ReferenceIdeal.main_arg2)) (m ((c.tc : Thread Cert.LossLn3ReferenceIdeal.nD Cert.LossLn3ReferenceIdeal.τ).loc Cert.LossLn3ReferenceIdeal.main_arg3))).2.1 = (fun _ => 1#1)
    ∧ (Cert.Pre_finite_loss_ln3.fn (F := Ideal) (m ((c.tc : Thread Cert.LossLn3ReferenceIdeal.nD Cert.LossLn3ReferenceIdeal.τ).loc Cert.LossLn3ReferenceIdeal.main_arg0)) (m ((c.tc : Thread Cert.LossLn3ReferenceIdeal.nD Cert.LossLn3ReferenceIdeal.τ).loc Cert.LossLn3ReferenceIdeal.main_arg1)) (m ((c.tc : Thread Cert.LossLn3ReferenceIdeal.nD Cert.LossLn3ReferenceIdeal.τ).loc Cert.LossLn3ReferenceIdeal.main_arg2)) (m ((c.tc : Thread Cert.LossLn3ReferenceIdeal.nD Cert.LossLn3ReferenceIdeal.τ).loc Cert.LossLn3ReferenceIdeal.main_arg3))).2.2.1 = (fun _ => 1#1)
    ∧ (Cert.Pre_finite_loss_ln3.fn (F := Ideal) (m ((c.tc : Thread Cert.LossLn3ReferenceIdeal.nD Cert.LossLn3ReferenceIdeal.τ).loc Cert.LossLn3ReferenceIdeal.main_arg0)) (m ((c.tc : Thread Cert.LossLn3ReferenceIdeal.nD Cert.LossLn3ReferenceIdeal.τ).loc Cert.LossLn3ReferenceIdeal.main_arg1)) (m ((c.tc : Thread Cert.LossLn3ReferenceIdeal.nD Cert.LossLn3ReferenceIdeal.τ).loc Cert.LossLn3ReferenceIdeal.main_arg2)) (m ((c.tc : Thread Cert.LossLn3ReferenceIdeal.nD Cert.LossLn3ReferenceIdeal.τ).loc Cert.LossLn3ReferenceIdeal.main_arg3))).2.2.2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_QProj (m : (ℓ : Loc Cert.QProj.nD Cert.QProj.τ Cert.QProj.sig) → Buf (Elt Bits) ℓ) : Prop :=
  True

def Pre_QProjIdeal (m : (ℓ : Loc Cert.QProjIdeal.nD Cert.QProjIdeal.τ Cert.QProjIdeal.sig) → Buf (Elt Ideal) ℓ) : Prop :=
  True

def Pre_QProjReferenceIdeal (m : (ℓ : Loc Cert.QProjReferenceIdeal.nD Cert.QProjReferenceIdeal.τ Cert.QProjReferenceIdeal.sig) → Buf (Elt Ideal) ℓ) : Prop :=
  True

def Pre_KvProj (m : (ℓ : Loc Cert.KvProj.nD Cert.KvProj.τ Cert.KvProj.sig) → Buf (Elt Bits) ℓ) : Prop :=
  True

def Pre_KvProjIdeal (m : (ℓ : Loc Cert.KvProjIdeal.nD Cert.KvProjIdeal.τ Cert.KvProjIdeal.sig) → Buf (Elt Ideal) ℓ) : Prop :=
  True

def Pre_KvProjReferenceIdeal (m : (ℓ : Loc Cert.KvProjReferenceIdeal.nD Cert.KvProjReferenceIdeal.τ Cert.KvProjReferenceIdeal.sig) → Buf (Elt Ideal) ℓ) : Prop :=
  True

def Pre_Ff1 (m : (ℓ : Loc Cert.Ff1.nD Cert.Ff1.τ Cert.Ff1.sig) → Buf (Elt Bits) ℓ) : Prop :=
  True

def Pre_Ff1Ideal (m : (ℓ : Loc Cert.Ff1Ideal.nD Cert.Ff1Ideal.τ Cert.Ff1Ideal.sig) → Buf (Elt Ideal) ℓ) : Prop :=
  True

def Pre_Ff1ReferenceIdeal (m : (ℓ : Loc Cert.Ff1ReferenceIdeal.nD Cert.Ff1ReferenceIdeal.τ Cert.Ff1ReferenceIdeal.sig) → Buf (Elt Ideal) ℓ) : Prop :=
  True

def Pre_OLn (m : (ℓ : Loc Cert.OLn.nD Cert.OLn.τ Cert.OLn.sig) → Buf (Elt Bits) ℓ) : Prop :=
  True

def Pre_OLnIdeal (m : (ℓ : Loc Cert.OLnIdeal.nD Cert.OLnIdeal.τ Cert.OLnIdeal.sig) → Buf (Elt Ideal) ℓ) : Prop :=
  True

def Pre_OLnReferenceIdeal (m : (ℓ : Loc Cert.OLnReferenceIdeal.nD Cert.OLnReferenceIdeal.τ Cert.OLnReferenceIdeal.sig) → Buf (Elt Ideal) ℓ) : Prop :=
  True

def Pre_Ff2Ln (m : (ℓ : Loc Cert.Ff2Ln.nD Cert.Ff2Ln.τ Cert.Ff2Ln.sig) → Buf (Elt Bits) ℓ) : Prop :=
  True

def Pre_Ff2LnIdeal (m : (ℓ : Loc Cert.Ff2LnIdeal.nD Cert.Ff2LnIdeal.τ Cert.Ff2LnIdeal.sig) → Buf (Elt Ideal) ℓ) : Prop :=
  True

def Pre_Ff2LnReferenceIdeal (m : (ℓ : Loc Cert.Ff2LnReferenceIdeal.nD Cert.Ff2LnReferenceIdeal.τ Cert.Ff2LnReferenceIdeal.sig) → Buf (Elt Ideal) ℓ) : Prop :=
  True

def Pre_OutLn (m : (ℓ : Loc Cert.OutLn.nD Cert.OutLn.τ Cert.OutLn.sig) → Buf (Elt Bits) ℓ) : Prop :=
  True

def Pre_OutLnIdeal (m : (ℓ : Loc Cert.OutLnIdeal.nD Cert.OutLnIdeal.τ Cert.OutLnIdeal.sig) → Buf (Elt Ideal) ℓ) : Prop :=
  True

def Pre_OutLnReferenceIdeal (m : (ℓ : Loc Cert.OutLnReferenceIdeal.nD Cert.OutLnReferenceIdeal.τ Cert.OutLnReferenceIdeal.sig) → Buf (Elt Ideal) ℓ) : Prop :=
  True

def Pre_OutLn0 (m : (ℓ : Loc Cert.OutLn0.nD Cert.OutLn0.τ Cert.OutLn0.sig) → Buf (Elt Bits) ℓ) : Prop :=
  True

def Pre_OutLn0Ideal (m : (ℓ : Loc Cert.OutLn0Ideal.nD Cert.OutLn0Ideal.τ Cert.OutLn0Ideal.sig) → Buf (Elt Ideal) ℓ) : Prop :=
  True

def Pre_OutLn0ReferenceIdeal (m : (ℓ : Loc Cert.OutLn0ReferenceIdeal.nD Cert.OutLn0ReferenceIdeal.τ Cert.OutLn0ReferenceIdeal.sig) → Buf (Elt Ideal) ℓ) : Prop :=
  True

def Pre_AttFwd (m : (ℓ : Loc Cert.AttFwd.nD Cert.AttFwd.τ Cert.AttFwd.sig) → Buf (Elt Bits) ℓ) : Prop :=
  True

def Pre_AttFwdIdeal (m : (ℓ : Loc Cert.AttFwdIdeal.nD Cert.AttFwdIdeal.τ Cert.AttFwdIdeal.sig) → Buf (Elt Ideal) ℓ) : Prop :=
  True

def Pre_AttFwdReferenceIdeal (m : (ℓ : Loc Cert.AttFwdReferenceIdeal.nD Cert.AttFwdReferenceIdeal.τ Cert.AttFwdReferenceIdeal.sig) → Buf (Elt Ideal) ℓ) : Prop :=
  True

def Pre_MixCBwd (m : (ℓ : Loc Cert.MixCBwd.nD Cert.MixCBwd.τ Cert.MixCBwd.sig) → Buf (Elt Bits) ℓ) : Prop :=
  True

def Pre_MixCBwdIdeal (m : (ℓ : Loc Cert.MixCBwdIdeal.nD Cert.MixCBwdIdeal.τ Cert.MixCBwdIdeal.sig) → Buf (Elt Ideal) ℓ) : Prop :=
  True

def Pre_MixCBwdReferenceIdeal (m : (ℓ : Loc Cert.MixCBwdReferenceIdeal.nD Cert.MixCBwdReferenceIdeal.τ Cert.MixCBwdReferenceIdeal.sig) → Buf (Elt Ideal) ℓ) : Prop :=
  True

def Pre_MixCFwd (m : (ℓ : Loc Cert.MixCFwd.nD Cert.MixCFwd.τ Cert.MixCFwd.sig) → Buf (Elt Bits) ℓ) : Prop :=
  True

def Pre_MixCFwdIdeal (m : (ℓ : Loc Cert.MixCFwdIdeal.nD Cert.MixCFwdIdeal.τ Cert.MixCFwdIdeal.sig) → Buf (Elt Ideal) ℓ) : Prop :=
  True

def Pre_MixCFwdReferenceIdeal (m : (ℓ : Loc Cert.MixCFwdReferenceIdeal.nD Cert.MixCFwdReferenceIdeal.τ Cert.MixCFwdReferenceIdeal.sig) → Buf (Elt Ideal) ℓ) : Prop :=
  True

def Pre_MixBFwd (m : (ℓ : Loc Cert.MixBFwd.nD Cert.MixBFwd.τ Cert.MixBFwd.sig) → Buf (Elt Bits) ℓ) : Prop :=
  True

def Pre_MixBFwdIdeal (m : (ℓ : Loc Cert.MixBFwdIdeal.nD Cert.MixBFwdIdeal.τ Cert.MixBFwdIdeal.sig) → Buf (Elt Ideal) ℓ) : Prop :=
  True

def Pre_MixBFwdReferenceIdeal (m : (ℓ : Loc Cert.MixBFwdReferenceIdeal.nD Cert.MixBFwdReferenceIdeal.τ Cert.MixBFwdReferenceIdeal.sig) → Buf (Elt Ideal) ℓ) : Prop :=
  True

def Pre_AdamwSquare (m : (ℓ : Loc Cert.AdamwSquare.nD Cert.AdamwSquare.τ Cert.AdamwSquare.sig) → Buf (Elt Bits) ℓ) : Prop :=
  True

def Pre_AdamwSquareIdeal (m : (ℓ : Loc Cert.AdamwSquareIdeal.nD Cert.AdamwSquareIdeal.τ Cert.AdamwSquareIdeal.sig) → Buf (Elt Ideal) ℓ) : Prop :=
  True

def Pre_AdamwSquareReferenceIdeal (m : (ℓ : Loc Cert.AdamwSquareReferenceIdeal.nD Cert.AdamwSquareReferenceIdeal.τ Cert.AdamwSquareReferenceIdeal.sig) → Buf (Elt Ideal) ℓ) : Prop :=
  True

def Pre_AdamwIn (m : (ℓ : Loc Cert.AdamwIn.nD Cert.AdamwIn.τ Cert.AdamwIn.sig) → Buf (Elt Bits) ℓ) : Prop :=
  True

def Pre_AdamwInIdeal (m : (ℓ : Loc Cert.AdamwInIdeal.nD Cert.AdamwInIdeal.τ Cert.AdamwInIdeal.sig) → Buf (Elt Ideal) ℓ) : Prop :=
  True

def Pre_AdamwInReferenceIdeal (m : (ℓ : Loc Cert.AdamwInReferenceIdeal.nD Cert.AdamwInReferenceIdeal.τ Cert.AdamwInReferenceIdeal.sig) → Buf (Elt Ideal) ℓ) : Prop :=
  True

def Pre_AdamwKv (m : (ℓ : Loc Cert.AdamwKv.nD Cert.AdamwKv.τ Cert.AdamwKv.sig) → Buf (Elt Bits) ℓ) : Prop :=
  True

def Pre_AdamwKvIdeal (m : (ℓ : Loc Cert.AdamwKvIdeal.nD Cert.AdamwKvIdeal.τ Cert.AdamwKvIdeal.sig) → Buf (Elt Ideal) ℓ) : Prop :=
  True

def Pre_AdamwKvReferenceIdeal (m : (ℓ : Loc Cert.AdamwKvReferenceIdeal.nD Cert.AdamwKvReferenceIdeal.τ Cert.AdamwKvReferenceIdeal.sig) → Buf (Elt Ideal) ℓ) : Prop :=
  True

def Pre_AdamwFf (m : (ℓ : Loc Cert.AdamwFf.nD Cert.AdamwFf.τ Cert.AdamwFf.sig) → Buf (Elt Bits) ℓ) : Prop :=
  True

def Pre_AdamwFfIdeal (m : (ℓ : Loc Cert.AdamwFfIdeal.nD Cert.AdamwFfIdeal.τ Cert.AdamwFfIdeal.sig) → Buf (Elt Ideal) ℓ) : Prop :=
  True

def Pre_AdamwFfReferenceIdeal (m : (ℓ : Loc Cert.AdamwFfReferenceIdeal.nD Cert.AdamwFfReferenceIdeal.τ Cert.AdamwFfReferenceIdeal.sig) → Buf (Elt Ideal) ℓ) : Prop :=
  True

def Pre_AdamwSmall (m : (ℓ : Loc Cert.AdamwSmall.nD Cert.AdamwSmall.τ Cert.AdamwSmall.sig) → Buf (Elt Bits) ℓ) : Prop :=
  True

def Pre_AdamwSmallIdeal (m : (ℓ : Loc Cert.AdamwSmallIdeal.nD Cert.AdamwSmallIdeal.τ Cert.AdamwSmallIdeal.sig) → Buf (Elt Ideal) ℓ) : Prop :=
  True

def Pre_AdamwSmallReferenceIdeal (m : (ℓ : Loc Cert.AdamwSmallReferenceIdeal.nD Cert.AdamwSmallReferenceIdeal.τ Cert.AdamwSmallReferenceIdeal.sig) → Buf (Elt Ideal) ℓ) : Prop :=
  True

def Pre_MixBBwd (m : (ℓ : Loc Cert.MixBBwd.nD Cert.MixBBwd.τ Cert.MixBBwd.sig) → Buf (Elt Bits) ℓ) : Prop :=
  True

def Pre_MixBBwdIdeal (m : (ℓ : Loc Cert.MixBBwdIdeal.nD Cert.MixBBwdIdeal.τ Cert.MixBBwdIdeal.sig) → Buf (Elt Ideal) ℓ) : Prop :=
  True

def Pre_MixBBwdReferenceIdeal (m : (ℓ : Loc Cert.MixBBwdReferenceIdeal.nD Cert.MixBBwdReferenceIdeal.τ Cert.MixBBwdReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_queries_and_keys [hKernelIdeal : Cert.KernelIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_queries_and_keys [hReferenceIdeal : Cert.ReferenceIdeal.Facts] [hPre_finite_queries_and_keys : Cert.Pre_finite_queries_and_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_FfHidden [hFfHidden : Cert.FfHidden.Facts] : Prop :=
  ∀ (m : (ℓ : Loc Cert.FfHidden.nD Cert.FfHidden.τ Cert.FfHidden.sig) → Buf (Elt Bits) ℓ) (g : Dev Cert.FfHidden.nD → PrngReg), Pre_FfHidden m →
    θ_run (Cert.FfHidden.defs (F := Bits)) (onTc (τ := Cert.FfHidden.τ) (Cert.FfHidden.main (F := Bits))) ⟨m, fun _ => 0, g⟩ (fun r => (∀ c : Dev Cert.FfHidden.nD,
      r.2.mem ((c.tc : Thread Cert.FfHidden.nD Cert.FfHidden.τ).loc Cert.FfHidden.main_arg0) = m ((c.tc : Thread Cert.FfHidden.nD Cert.FfHidden.τ).loc Cert.FfHidden.main_arg0)
      ∧ r.2.mem ((c.tc : Thread Cert.FfHidden.nD Cert.FfHidden.τ).loc Cert.FfHidden.main_arg1) = m ((c.tc : Thread Cert.FfHidden.nD Cert.FfHidden.τ).loc Cert.FfHidden.main_arg1)
      ∧ r.2.mem ((c.tc : Thread Cert.FfHidden.nD Cert.FfHidden.τ).loc Cert.FfHidden.main_arg2) = m ((c.tc : Thread Cert.FfHidden.nD Cert.FfHidden.τ).loc Cert.FfHidden.main_arg2))
      ∧ r.2.sem = fun _ => 0)

def quiescent_FfHiddenIdeal [hFfHiddenIdeal : Cert.FfHiddenIdeal.Facts] : Prop :=
  ∀ (m : (ℓ : Loc Cert.FfHiddenIdeal.nD Cert.FfHiddenIdeal.τ Cert.FfHiddenIdeal.sig) → Buf (Elt Ideal) ℓ) (g : Dev Cert.FfHiddenIdeal.nD → PrngReg), Pre_FfHiddenIdeal m →
    θ_run (Cert.FfHiddenIdeal.defs (F := Ideal)) (onTc (τ := Cert.FfHiddenIdeal.τ) (Cert.FfHiddenIdeal.main (F := Ideal))) ⟨m, fun _ => 0, g⟩ (fun r => (∀ c : Dev Cert.FfHiddenIdeal.nD,
      r.2.mem ((c.tc : Thread Cert.FfHiddenIdeal.nD Cert.FfHiddenIdeal.τ).loc Cert.FfHiddenIdeal.main_arg0) = m ((c.tc : Thread Cert.FfHiddenIdeal.nD Cert.FfHiddenIdeal.τ).loc Cert.FfHiddenIdeal.main_arg0)
      ∧ r.2.mem ((c.tc : Thread Cert.FfHiddenIdeal.nD Cert.FfHiddenIdeal.τ).loc Cert.FfHiddenIdeal.main_arg1) = m ((c.tc : Thread Cert.FfHiddenIdeal.nD Cert.FfHiddenIdeal.τ).loc Cert.FfHiddenIdeal.main_arg1)
      ∧ r.2.mem ((c.tc : Thread Cert.FfHiddenIdeal.nD Cert.FfHiddenIdeal.τ).loc Cert.FfHiddenIdeal.main_arg2) = m ((c.tc : Thread Cert.FfHiddenIdeal.nD Cert.FfHiddenIdeal.τ).loc Cert.FfHiddenIdeal.main_arg2))
      ∧ r.2.sem = fun _ => 0)

def quiescent_FfHiddenReferenceIdeal [hFfHiddenReferenceIdeal : Cert.FfHiddenReferenceIdeal.Facts] : Prop :=
  ∀ (m : (ℓ : Loc Cert.FfHiddenReferenceIdeal.nD Cert.FfHiddenReferenceIdeal.τ Cert.FfHiddenReferenceIdeal.sig) → Buf (Elt Ideal) ℓ) (g : Dev Cert.FfHiddenReferenceIdeal.nD → PrngReg), Pre_FfHiddenReferenceIdeal m →
    θ_run (Cert.FfHiddenReferenceIdeal.defs (F := Ideal)) (onTc (τ := Cert.FfHiddenReferenceIdeal.τ) (Cert.FfHiddenReferenceIdeal.main (F := Ideal))) ⟨m, fun _ => 0, g⟩ (fun r => (∀ c : Dev Cert.FfHiddenReferenceIdeal.nD,
      r.2.mem ((c.tc : Thread Cert.FfHiddenReferenceIdeal.nD Cert.FfHiddenReferenceIdeal.τ).loc Cert.FfHiddenReferenceIdeal.main_arg0) = m ((c.tc : Thread Cert.FfHiddenReferenceIdeal.nD Cert.FfHiddenReferenceIdeal.τ).loc Cert.FfHiddenReferenceIdeal.main_arg0)
      ∧ r.2.mem ((c.tc : Thread Cert.FfHiddenReferenceIdeal.nD Cert.FfHiddenReferenceIdeal.τ).loc Cert.FfHiddenReferenceIdeal.main_arg1) = m ((c.tc : Thread Cert.FfHiddenReferenceIdeal.nD Cert.FfHiddenReferenceIdeal.τ).loc Cert.FfHiddenReferenceIdeal.main_arg1)
      ∧ r.2.mem ((c.tc : Thread Cert.FfHiddenReferenceIdeal.nD Cert.FfHiddenReferenceIdeal.τ).loc Cert.FfHiddenReferenceIdeal.main_arg2) = m ((c.tc : Thread Cert.FfHiddenReferenceIdeal.nD Cert.FfHiddenReferenceIdeal.τ).loc Cert.FfHiddenReferenceIdeal.main_arg2))
      ∧ r.2.sem = fun _ => 0)

def quiescent_WFf2 [hWFf2 : Cert.WFf2.Facts] : Prop :=
  ∀ (m : (ℓ : Loc Cert.WFf2.nD Cert.WFf2.τ Cert.WFf2.sig) → Buf (Elt Bits) ℓ) (g : Dev Cert.WFf2.nD → PrngReg), Pre_WFf2 m →
    θ_run (Cert.WFf2.defs (F := Bits)) (onTc (τ := Cert.WFf2.τ) (Cert.WFf2.main (F := Bits))) ⟨m, fun _ => 0, g⟩ (fun r => (∀ c : Dev Cert.WFf2.nD,
      r.2.mem ((c.tc : Thread Cert.WFf2.nD Cert.WFf2.τ).loc Cert.WFf2.main_arg0) = m ((c.tc : Thread Cert.WFf2.nD Cert.WFf2.τ).loc Cert.WFf2.main_arg0)
      ∧ r.2.mem ((c.tc : Thread Cert.WFf2.nD Cert.WFf2.τ).loc Cert.WFf2.main_arg1) = m ((c.tc : Thread Cert.WFf2.nD Cert.WFf2.τ).loc Cert.WFf2.main_arg1))
      ∧ r.2.sem = fun _ => 0)

def quiescent_WFf2Ideal [hWFf2Ideal : Cert.WFf2Ideal.Facts] : Prop :=
  ∀ (m : (ℓ : Loc Cert.WFf2Ideal.nD Cert.WFf2Ideal.τ Cert.WFf2Ideal.sig) → Buf (Elt Ideal) ℓ) (g : Dev Cert.WFf2Ideal.nD → PrngReg), Pre_WFf2Ideal m →
    θ_run (Cert.WFf2Ideal.defs (F := Ideal)) (onTc (τ := Cert.WFf2Ideal.τ) (Cert.WFf2Ideal.main (F := Ideal))) ⟨m, fun _ => 0, g⟩ (fun r => (∀ c : Dev Cert.WFf2Ideal.nD,
      r.2.mem ((c.tc : Thread Cert.WFf2Ideal.nD Cert.WFf2Ideal.τ).loc Cert.WFf2Ideal.main_arg0) = m ((c.tc : Thread Cert.WFf2Ideal.nD Cert.WFf2Ideal.τ).loc Cert.WFf2Ideal.main_arg0)
      ∧ r.2.mem ((c.tc : Thread Cert.WFf2Ideal.nD Cert.WFf2Ideal.τ).loc Cert.WFf2Ideal.main_arg1) = m ((c.tc : Thread Cert.WFf2Ideal.nD Cert.WFf2Ideal.τ).loc Cert.WFf2Ideal.main_arg1))
      ∧ r.2.sem = fun _ => 0)

def quiescent_WFf2ReferenceIdeal [hWFf2ReferenceIdeal : Cert.WFf2ReferenceIdeal.Facts] : Prop :=
  ∀ (m : (ℓ : Loc Cert.WFf2ReferenceIdeal.nD Cert.WFf2ReferenceIdeal.τ Cert.WFf2ReferenceIdeal.sig) → Buf (Elt Ideal) ℓ) (g : Dev Cert.WFf2ReferenceIdeal.nD → PrngReg), Pre_WFf2ReferenceIdeal m →
    θ_run (Cert.WFf2ReferenceIdeal.defs (F := Ideal)) (onTc (τ := Cert.WFf2ReferenceIdeal.τ) (Cert.WFf2ReferenceIdeal.main (F := Ideal))) ⟨m, fun _ => 0, g⟩ (fun r => (∀ c : Dev Cert.WFf2ReferenceIdeal.nD,
      r.2.mem ((c.tc : Thread Cert.WFf2ReferenceIdeal.nD Cert.WFf2ReferenceIdeal.τ).loc Cert.WFf2ReferenceIdeal.main_arg0) = m ((c.tc : Thread Cert.WFf2ReferenceIdeal.nD Cert.WFf2ReferenceIdeal.τ).loc Cert.WFf2ReferenceIdeal.main_arg0)
      ∧ r.2.mem ((c.tc : Thread Cert.WFf2ReferenceIdeal.nD Cert.WFf2ReferenceIdeal.τ).loc Cert.WFf2ReferenceIdeal.main_arg1) = m ((c.tc : Thread Cert.WFf2ReferenceIdeal.nD Cert.WFf2ReferenceIdeal.τ).loc Cert.WFf2ReferenceIdeal.main_arg1))
      ∧ r.2.sem = fun _ => 0)

def quiescent_WFf1 [hWFf1 : Cert.WFf1.Facts] : Prop :=
  ∀ (m : (ℓ : Loc Cert.WFf1.nD Cert.WFf1.τ Cert.WFf1.sig) → Buf (Elt Bits) ℓ) (g : Dev Cert.WFf1.nD → PrngReg), Pre_WFf1 m →
    θ_run (Cert.WFf1.defs (F := Bits)) (onTc (τ := Cert.WFf1.τ) (Cert.WFf1.main (F := Bits))) ⟨m, fun _ => 0, g⟩ (fun r => (∀ c : Dev Cert.WFf1.nD,
      r.2.mem ((c.tc : Thread Cert.WFf1.nD Cert.WFf1.τ).loc Cert.WFf1.main_arg0) = m ((c.tc : Thread Cert.WFf1.nD Cert.WFf1.τ).loc Cert.WFf1.main_arg0)
      ∧ r.2.mem ((c.tc : Thread Cert.WFf1.nD Cert.WFf1.τ).loc Cert.WFf1.main_arg1) = m ((c.tc : Thread Cert.WFf1.nD Cert.WFf1.τ).loc Cert.WFf1.main_arg1))
      ∧ r.2.sem = fun _ => 0)

def quiescent_WFf1Ideal [hWFf1Ideal : Cert.WFf1Ideal.Facts] : Prop :=
  ∀ (m : (ℓ : Loc Cert.WFf1Ideal.nD Cert.WFf1Ideal.τ Cert.WFf1Ideal.sig) → Buf (Elt Ideal) ℓ) (g : Dev Cert.WFf1Ideal.nD → PrngReg), Pre_WFf1Ideal m →
    θ_run (Cert.WFf1Ideal.defs (F := Ideal)) (onTc (τ := Cert.WFf1Ideal.τ) (Cert.WFf1Ideal.main (F := Ideal))) ⟨m, fun _ => 0, g⟩ (fun r => (∀ c : Dev Cert.WFf1Ideal.nD,
      r.2.mem ((c.tc : Thread Cert.WFf1Ideal.nD Cert.WFf1Ideal.τ).loc Cert.WFf1Ideal.main_arg0) = m ((c.tc : Thread Cert.WFf1Ideal.nD Cert.WFf1Ideal.τ).loc Cert.WFf1Ideal.main_arg0)
      ∧ r.2.mem ((c.tc : Thread Cert.WFf1Ideal.nD Cert.WFf1Ideal.τ).loc Cert.WFf1Ideal.main_arg1) = m ((c.tc : Thread Cert.WFf1Ideal.nD Cert.WFf1Ideal.τ).loc Cert.WFf1Ideal.main_arg1))
      ∧ r.2.sem = fun _ => 0)

def quiescent_WFf1ReferenceIdeal [hWFf1ReferenceIdeal : Cert.WFf1ReferenceIdeal.Facts] : Prop :=
  ∀ (m : (ℓ : Loc Cert.WFf1ReferenceIdeal.nD Cert.WFf1ReferenceIdeal.τ Cert.WFf1ReferenceIdeal.sig) → Buf (Elt Ideal) ℓ) (g : Dev Cert.WFf1ReferenceIdeal.nD → PrngReg), Pre_WFf1ReferenceIdeal m →
    θ_run (Cert.WFf1ReferenceIdeal.defs (F := Ideal)) (onTc (τ := Cert.WFf1ReferenceIdeal.τ) (Cert.WFf1ReferenceIdeal.main (F := Ideal))) ⟨m, fun _ => 0, g⟩ (fun r => (∀ c : Dev Cert.WFf1ReferenceIdeal.nD,
      r.2.mem ((c.tc : Thread Cert.WFf1ReferenceIdeal.nD Cert.WFf1ReferenceIdeal.τ).loc Cert.WFf1ReferenceIdeal.main_arg0) = m ((c.tc : Thread Cert.WFf1ReferenceIdeal.nD Cert.WFf1ReferenceIdeal.τ).loc Cert.WFf1ReferenceIdeal.main_arg0)
      ∧ r.2.mem ((c.tc : Thread Cert.WFf1ReferenceIdeal.nD Cert.WFf1ReferenceIdeal.τ).loc Cert.WFf1ReferenceIdeal.main_arg1) = m ((c.tc : Thread Cert.WFf1ReferenceIdeal.nD Cert.WFf1ReferenceIdeal.τ).loc Cert.WFf1ReferenceIdeal.main_arg1))
      ∧ r.2.sem = fun _ => 0)

def quiescent_WO [hWO : Cert.WO.Facts] : Prop :=
  ∀ (m : (ℓ : Loc Cert.WO.nD Cert.WO.τ Cert.WO.sig) → Buf (Elt Bits) ℓ) (g : Dev Cert.WO.nD → PrngReg), Pre_WO m →
    θ_run (Cert.WO.defs (F := Bits)) (onTc (τ := Cert.WO.τ) (Cert.WO.main (F := Bits))) ⟨m, fun _ => 0, g⟩ (fun r => (∀ c : Dev Cert.WO.nD,
      r.2.mem ((c.tc : Thread Cert.WO.nD Cert.WO.τ).loc Cert.WO.main_arg0) = m ((c.tc : Thread Cert.WO.nD Cert.WO.τ).loc Cert.WO.main_arg0)
      ∧ r.2.mem ((c.tc : Thread Cert.WO.nD Cert.WO.τ).loc Cert.WO.main_arg1) = m ((c.tc : Thread Cert.WO.nD Cert.WO.τ).loc Cert.WO.main_arg1))
      ∧ r.2.sem = fun _ => 0)

def quiescent_WOIdeal [hWOIdeal : Cert.WOIdeal.Facts] : Prop :=
  ∀ (m : (ℓ : Loc Cert.WOIdeal.nD Cert.WOIdeal.τ Cert.WOIdeal.sig) → Buf (Elt Ideal) ℓ) (g : Dev Cert.WOIdeal.nD → PrngReg), Pre_WOIdeal m →
    θ_run (Cert.WOIdeal.defs (F := Ideal)) (onTc (τ := Cert.WOIdeal.τ) (Cert.WOIdeal.main (F := Ideal))) ⟨m, fun _ => 0, g⟩ (fun r => (∀ c : Dev Cert.WOIdeal.nD,
      r.2.mem ((c.tc : Thread Cert.WOIdeal.nD Cert.WOIdeal.τ).loc Cert.WOIdeal.main_arg0) = m ((c.tc : Thread Cert.WOIdeal.nD Cert.WOIdeal.τ).loc Cert.WOIdeal.main_arg0)
      ∧ r.2.mem ((c.tc : Thread Cert.WOIdeal.nD Cert.WOIdeal.τ).loc Cert.WOIdeal.main_arg1) = m ((c.tc : Thread Cert.WOIdeal.nD Cert.WOIdeal.τ).loc Cert.WOIdeal.main_arg1))
      ∧ r.2.sem = fun _ => 0)

def quiescent_WOReferenceIdeal [hWOReferenceIdeal : Cert.WOReferenceIdeal.Facts] : Prop :=
  ∀ (m : (ℓ : Loc Cert.WOReferenceIdeal.nD Cert.WOReferenceIdeal.τ Cert.WOReferenceIdeal.sig) → Buf (Elt Ideal) ℓ) (g : Dev Cert.WOReferenceIdeal.nD → PrngReg), Pre_WOReferenceIdeal m →
    θ_run (Cert.WOReferenceIdeal.defs (F := Ideal)) (onTc (τ := Cert.WOReferenceIdeal.τ) (Cert.WOReferenceIdeal.main (F := Ideal))) ⟨m, fun _ => 0, g⟩ (fun r => (∀ c : Dev Cert.WOReferenceIdeal.nD,
      r.2.mem ((c.tc : Thread Cert.WOReferenceIdeal.nD Cert.WOReferenceIdeal.τ).loc Cert.WOReferenceIdeal.main_arg0) = m ((c.tc : Thread Cert.WOReferenceIdeal.nD Cert.WOReferenceIdeal.τ).loc Cert.WOReferenceIdeal.main_arg0)
      ∧ r.2.mem ((c.tc : Thread Cert.WOReferenceIdeal.nD Cert.WOReferenceIdeal.τ).loc Cert.WOReferenceIdeal.main_arg1) = m ((c.tc : Thread Cert.WOReferenceIdeal.nD Cert.WOReferenceIdeal.τ).loc Cert.WOReferenceIdeal.main_arg1))
      ∧ r.2.sem = fun _ => 0)

def quiescent_WKv [hWKv : Cert.WKv.Facts] : Prop :=
  ∀ (m : (ℓ : Loc Cert.WKv.nD Cert.WKv.τ Cert.WKv.sig) → Buf (Elt Bits) ℓ) (g : Dev Cert.WKv.nD → PrngReg), Pre_WKv m →
    θ_run (Cert.WKv.defs (F := Bits)) (onTc (τ := Cert.WKv.τ) (Cert.WKv.main (F := Bits))) ⟨m, fun _ => 0, g⟩ (fun r => (∀ c : Dev Cert.WKv.nD,
      r.2.mem ((c.tc : Thread Cert.WKv.nD Cert.WKv.τ).loc Cert.WKv.main_arg0) = m ((c.tc : Thread Cert.WKv.nD Cert.WKv.τ).loc Cert.WKv.main_arg0)
      ∧ r.2.mem ((c.tc : Thread Cert.WKv.nD Cert.WKv.τ).loc Cert.WKv.main_arg1) = m ((c.tc : Thread Cert.WKv.nD Cert.WKv.τ).loc Cert.WKv.main_arg1))
      ∧ r.2.sem = fun _ => 0)

def quiescent_WKvIdeal [hWKvIdeal : Cert.WKvIdeal.Facts] : Prop :=
  ∀ (m : (ℓ : Loc Cert.WKvIdeal.nD Cert.WKvIdeal.τ Cert.WKvIdeal.sig) → Buf (Elt Ideal) ℓ) (g : Dev Cert.WKvIdeal.nD → PrngReg), Pre_WKvIdeal m →
    θ_run (Cert.WKvIdeal.defs (F := Ideal)) (onTc (τ := Cert.WKvIdeal.τ) (Cert.WKvIdeal.main (F := Ideal))) ⟨m, fun _ => 0, g⟩ (fun r => (∀ c : Dev Cert.WKvIdeal.nD,
      r.2.mem ((c.tc : Thread Cert.WKvIdeal.nD Cert.WKvIdeal.τ).loc Cert.WKvIdeal.main_arg0) = m ((c.tc : Thread Cert.WKvIdeal.nD Cert.WKvIdeal.τ).loc Cert.WKvIdeal.main_arg0)
      ∧ r.2.mem ((c.tc : Thread Cert.WKvIdeal.nD Cert.WKvIdeal.τ).loc Cert.WKvIdeal.main_arg1) = m ((c.tc : Thread Cert.WKvIdeal.nD Cert.WKvIdeal.τ).loc Cert.WKvIdeal.main_arg1))
      ∧ r.2.sem = fun _ => 0)

def quiescent_WKvReferenceIdeal [hWKvReferenceIdeal : Cert.WKvReferenceIdeal.Facts] : Prop :=
  ∀ (m : (ℓ : Loc Cert.WKvReferenceIdeal.nD Cert.WKvReferenceIdeal.τ Cert.WKvReferenceIdeal.sig) → Buf (Elt Ideal) ℓ) (g : Dev Cert.WKvReferenceIdeal.nD → PrngReg), Pre_WKvReferenceIdeal m →
    θ_run (Cert.WKvReferenceIdeal.defs (F := Ideal)) (onTc (τ := Cert.WKvReferenceIdeal.τ) (Cert.WKvReferenceIdeal.main (F := Ideal))) ⟨m, fun _ => 0, g⟩ (fun r => (∀ c : Dev Cert.WKvReferenceIdeal.nD,
      r.2.mem ((c.tc : Thread Cert.WKvReferenceIdeal.nD Cert.WKvReferenceIdeal.τ).loc Cert.WKvReferenceIdeal.main_arg0) = m ((c.tc : Thread Cert.WKvReferenceIdeal.nD Cert.WKvReferenceIdeal.τ).loc Cert.WKvReferenceIdeal.main_arg0)
      ∧ r.2.mem ((c.tc : Thread Cert.WKvReferenceIdeal.nD Cert.WKvReferenceIdeal.τ).loc Cert.WKvReferenceIdeal.main_arg1) = m ((c.tc : Thread Cert.WKvReferenceIdeal.nD Cert.WKvReferenceIdeal.τ).loc Cert.WKvReferenceIdeal.main_arg1))
      ∧ r.2.sem = fun _ => 0)

def quiescent_AttOut [hAttOut : Cert.AttOut.Facts] : Prop :=
  ∀ (m : (ℓ : Loc Cert.AttOut.nD Cert.AttOut.τ Cert.AttOut.sig) → Buf (Elt Bits) ℓ) (g : Dev Cert.AttOut.nD → PrngReg), Pre_AttOut m →
    θ_run (Cert.AttOut.defs (F := Bits)) (onTc (τ := Cert.AttOut.τ) (Cert.AttOut.main (F := Bits))) ⟨m, fun _ => 0, g⟩ (fun r => (∀ c : Dev Cert.AttOut.nD,
      r.2.mem ((c.tc : Thread Cert.AttOut.nD Cert.AttOut.τ).loc Cert.AttOut.main_arg0) = m ((c.tc : Thread Cert.AttOut.nD Cert.AttOut.τ).loc Cert.AttOut.main_arg0)
      ∧ r.2.mem ((c.tc : Thread Cert.AttOut.nD Cert.AttOut.τ).loc Cert.AttOut.main_arg1) = m ((c.tc : Thread Cert.AttOut.nD Cert.AttOut.τ).loc Cert.AttOut.main_arg1))
      ∧ r.2.sem = fun _ => 0)

def quiescent_AttOutIdeal [hAttOutIdeal : Cert.AttOutIdeal.Facts] : Prop :=
  ∀ (m : (ℓ : Loc Cert.AttOutIdeal.nD Cert.AttOutIdeal.τ Cert.AttOutIdeal.sig) → Buf (Elt Ideal) ℓ) (g : Dev Cert.AttOutIdeal.nD → PrngReg), Pre_AttOutIdeal m →
    θ_run (Cert.AttOutIdeal.defs (F := Ideal)) (onTc (τ := Cert.AttOutIdeal.τ) (Cert.AttOutIdeal.main (F := Ideal))) ⟨m, fun _ => 0, g⟩ (fun r => (∀ c : Dev Cert.AttOutIdeal.nD,
      r.2.mem ((c.tc : Thread Cert.AttOutIdeal.nD Cert.AttOutIdeal.τ).loc Cert.AttOutIdeal.main_arg0) = m ((c.tc : Thread Cert.AttOutIdeal.nD Cert.AttOutIdeal.τ).loc Cert.AttOutIdeal.main_arg0)
      ∧ r.2.mem ((c.tc : Thread Cert.AttOutIdeal.nD Cert.AttOutIdeal.τ).loc Cert.AttOutIdeal.main_arg1) = m ((c.tc : Thread Cert.AttOutIdeal.nD Cert.AttOutIdeal.τ).loc Cert.AttOutIdeal.main_arg1))
      ∧ r.2.sem = fun _ => 0)

def quiescent_AttOutReferenceIdeal [hAttOutReferenceIdeal : Cert.AttOutReferenceIdeal.Facts] : Prop :=
  ∀ (m : (ℓ : Loc Cert.AttOutReferenceIdeal.nD Cert.AttOutReferenceIdeal.τ Cert.AttOutReferenceIdeal.sig) → Buf (Elt Ideal) ℓ) (g : Dev Cert.AttOutReferenceIdeal.nD → PrngReg), Pre_AttOutReferenceIdeal m →
    θ_run (Cert.AttOutReferenceIdeal.defs (F := Ideal)) (onTc (τ := Cert.AttOutReferenceIdeal.τ) (Cert.AttOutReferenceIdeal.main (F := Ideal))) ⟨m, fun _ => 0, g⟩ (fun r => (∀ c : Dev Cert.AttOutReferenceIdeal.nD,
      r.2.mem ((c.tc : Thread Cert.AttOutReferenceIdeal.nD Cert.AttOutReferenceIdeal.τ).loc Cert.AttOutReferenceIdeal.main_arg0) = m ((c.tc : Thread Cert.AttOutReferenceIdeal.nD Cert.AttOutReferenceIdeal.τ).loc Cert.AttOutReferenceIdeal.main_arg0)
      ∧ r.2.mem ((c.tc : Thread Cert.AttOutReferenceIdeal.nD Cert.AttOutReferenceIdeal.τ).loc Cert.AttOutReferenceIdeal.main_arg1) = m ((c.tc : Thread Cert.AttOutReferenceIdeal.nD Cert.AttOutReferenceIdeal.τ).loc Cert.AttOutReferenceIdeal.main_arg1))
      ∧ r.2.sem = fun _ => 0)

def quiescent_MixerOut [hMixerOut : Cert.MixerOut.Facts] : Prop :=
  ∀ (m : (ℓ : Loc Cert.MixerOut.nD Cert.MixerOut.τ Cert.MixerOut.sig) → Buf (Elt Bits) ℓ) (g : Dev Cert.MixerOut.nD → PrngReg), Pre_MixerOut m →
    θ_run (Cert.MixerOut.defs (F := Bits)) (onTc (τ := Cert.MixerOut.τ) (Cert.MixerOut.main (F := Bits))) ⟨m, fun _ => 0, g⟩ (fun r => (∀ c : Dev Cert.MixerOut.nD,
      r.2.mem ((c.tc : Thread Cert.MixerOut.nD Cert.MixerOut.τ).loc Cert.MixerOut.main_arg0) = m ((c.tc : Thread Cert.MixerOut.nD Cert.MixerOut.τ).loc Cert.MixerOut.main_arg0)
      ∧ r.2.mem ((c.tc : Thread Cert.MixerOut.nD Cert.MixerOut.τ).loc Cert.MixerOut.main_arg1) = m ((c.tc : Thread Cert.MixerOut.nD Cert.MixerOut.τ).loc Cert.MixerOut.main_arg1))
      ∧ r.2.sem = fun _ => 0)

def quiescent_MixerOutIdeal [hMixerOutIdeal : Cert.MixerOutIdeal.Facts] : Prop :=
  ∀ (m : (ℓ : Loc Cert.MixerOutIdeal.nD Cert.MixerOutIdeal.τ Cert.MixerOutIdeal.sig) → Buf (Elt Ideal) ℓ) (g : Dev Cert.MixerOutIdeal.nD → PrngReg), Pre_MixerOutIdeal m →
    θ_run (Cert.MixerOutIdeal.defs (F := Ideal)) (onTc (τ := Cert.MixerOutIdeal.τ) (Cert.MixerOutIdeal.main (F := Ideal))) ⟨m, fun _ => 0, g⟩ (fun r => (∀ c : Dev Cert.MixerOutIdeal.nD,
      r.2.mem ((c.tc : Thread Cert.MixerOutIdeal.nD Cert.MixerOutIdeal.τ).loc Cert.MixerOutIdeal.main_arg0) = m ((c.tc : Thread Cert.MixerOutIdeal.nD Cert.MixerOutIdeal.τ).loc Cert.MixerOutIdeal.main_arg0)
      ∧ r.2.mem ((c.tc : Thread Cert.MixerOutIdeal.nD Cert.MixerOutIdeal.τ).loc Cert.MixerOutIdeal.main_arg1) = m ((c.tc : Thread Cert.MixerOutIdeal.nD Cert.MixerOutIdeal.τ).loc Cert.MixerOutIdeal.main_arg1))
      ∧ r.2.sem = fun _ => 0)

def quiescent_MixerOutReferenceIdeal [hMixerOutReferenceIdeal : Cert.MixerOutReferenceIdeal.Facts] : Prop :=
  ∀ (m : (ℓ : Loc Cert.MixerOutReferenceIdeal.nD Cert.MixerOutReferenceIdeal.τ Cert.MixerOutReferenceIdeal.sig) → Buf (Elt Ideal) ℓ) (g : Dev Cert.MixerOutReferenceIdeal.nD → PrngReg), Pre_MixerOutReferenceIdeal m →
    θ_run (Cert.MixerOutReferenceIdeal.defs (F := Ideal)) (onTc (τ := Cert.MixerOutReferenceIdeal.τ) (Cert.MixerOutReferenceIdeal.main (F := Ideal))) ⟨m, fun _ => 0, g⟩ (fun r => (∀ c : Dev Cert.MixerOutReferenceIdeal.nD,
      r.2.mem ((c.tc : Thread Cert.MixerOutReferenceIdeal.nD Cert.MixerOutReferenceIdeal.τ).loc Cert.MixerOutReferenceIdeal.main_arg0) = m ((c.tc : Thread Cert.MixerOutReferenceIdeal.nD Cert.MixerOutReferenceIdeal.τ).loc Cert.MixerOutReferenceIdeal.main_arg0)
      ∧ r.2.mem ((c.tc : Thread Cert.MixerOutReferenceIdeal.nD Cert.MixerOutReferenceIdeal.τ).loc Cert.MixerOutReferenceIdeal.main_arg1) = m ((c.tc : Thread Cert.MixerOutReferenceIdeal.nD Cert.MixerOutReferenceIdeal.τ).loc Cert.MixerOutReferenceIdeal.main_arg1))
      ∧ r.2.sem = fun _ => 0)

def quiescent_X2Ln2 [hX2Ln2 : Cert.X2Ln2.Facts] : Prop :=
  ∀ (m : (ℓ : Loc Cert.X2Ln2.nD Cert.X2Ln2.τ Cert.X2Ln2.sig) → Buf (Elt Bits) ℓ) (g : Dev Cert.X2Ln2.nD → PrngReg), Pre_X2Ln2 m →
    θ_run (Cert.X2Ln2.defs (F := Bits)) (onTc (τ := Cert.X2Ln2.τ) (Cert.X2Ln2.main (F := Bits))) ⟨m, fun _ => 0, g⟩ (fun r => (∀ c : Dev Cert.X2Ln2.nD,
      r.2.mem ((c.tc : Thread Cert.X2Ln2.nD Cert.X2Ln2.τ).loc Cert.X2Ln2.main_arg0) = m ((c.tc : Thread Cert.X2Ln2.nD Cert.X2Ln2.τ).loc Cert.X2Ln2.main_arg0)
      ∧ r.2.mem ((c.tc : Thread Cert.X2Ln2.nD Cert.X2Ln2.τ).loc Cert.X2Ln2.main_arg1) = m ((c.tc : Thread Cert.X2Ln2.nD Cert.X2Ln2.τ).loc Cert.X2Ln2.main_arg1)
      ∧ r.2.mem ((c.tc : Thread Cert.X2Ln2.nD Cert.X2Ln2.τ).loc Cert.X2Ln2.main_arg2) = m ((c.tc : Thread Cert.X2Ln2.nD Cert.X2Ln2.τ).loc Cert.X2Ln2.main_arg2)
      ∧ r.2.mem ((c.tc : Thread Cert.X2Ln2.nD Cert.X2Ln2.τ).loc Cert.X2Ln2.main_arg3) = m ((c.tc : Thread Cert.X2Ln2.nD Cert.X2Ln2.τ).loc Cert.X2Ln2.main_arg3)
      ∧ r.2.mem ((c.tc : Thread Cert.X2Ln2.nD Cert.X2Ln2.τ).loc Cert.X2Ln2.main_arg4) = m ((c.tc : Thread Cert.X2Ln2.nD Cert.X2Ln2.τ).loc Cert.X2Ln2.main_arg4))
      ∧ r.2.sem = fun _ => 0)

def quiescent_X2Ln2Ideal [hX2Ln2Ideal : Cert.X2Ln2Ideal.Facts] : Prop :=
  ∀ (m : (ℓ : Loc Cert.X2Ln2Ideal.nD Cert.X2Ln2Ideal.τ Cert.X2Ln2Ideal.sig) → Buf (Elt Ideal) ℓ) (g : Dev Cert.X2Ln2Ideal.nD → PrngReg), Pre_X2Ln2Ideal m →
    θ_run (Cert.X2Ln2Ideal.defs (F := Ideal)) (onTc (τ := Cert.X2Ln2Ideal.τ) (Cert.X2Ln2Ideal.main (F := Ideal))) ⟨m, fun _ => 0, g⟩ (fun r => (∀ c : Dev Cert.X2Ln2Ideal.nD,
      r.2.mem ((c.tc : Thread Cert.X2Ln2Ideal.nD Cert.X2Ln2Ideal.τ).loc Cert.X2Ln2Ideal.main_arg0) = m ((c.tc : Thread Cert.X2Ln2Ideal.nD Cert.X2Ln2Ideal.τ).loc Cert.X2Ln2Ideal.main_arg0)
      ∧ r.2.mem ((c.tc : Thread Cert.X2Ln2Ideal.nD Cert.X2Ln2Ideal.τ).loc Cert.X2Ln2Ideal.main_arg1) = m ((c.tc : Thread Cert.X2Ln2Ideal.nD Cert.X2Ln2Ideal.τ).loc Cert.X2Ln2Ideal.main_arg1)
      ∧ r.2.mem ((c.tc : Thread Cert.X2Ln2Ideal.nD Cert.X2Ln2Ideal.τ).loc Cert.X2Ln2Ideal.main_arg2) = m ((c.tc : Thread Cert.X2Ln2Ideal.nD Cert.X2Ln2Ideal.τ).loc Cert.X2Ln2Ideal.main_arg2)
      ∧ r.2.mem ((c.tc : Thread Cert.X2Ln2Ideal.nD Cert.X2Ln2Ideal.τ).loc Cert.X2Ln2Ideal.main_arg3) = m ((c.tc : Thread Cert.X2Ln2Ideal.nD Cert.X2Ln2Ideal.τ).loc Cert.X2Ln2Ideal.main_arg3)
      ∧ r.2.mem ((c.tc : Thread Cert.X2Ln2Ideal.nD Cert.X2Ln2Ideal.τ).loc Cert.X2Ln2Ideal.main_arg4) = m ((c.tc : Thread Cert.X2Ln2Ideal.nD Cert.X2Ln2Ideal.τ).loc Cert.X2Ln2Ideal.main_arg4))
      ∧ r.2.sem = fun _ => 0)

def quiescent_X2Ln2Ideal_pre_finite_x2_ln2 [hX2Ln2Ideal : Cert.X2Ln2Ideal.Facts] [hPre_finite_x2_ln2 : Cert.Pre_finite_x2_ln2.Facts] : Prop :=
  ∀ (m : (ℓ : Loc Cert.X2Ln2Ideal.nD Cert.X2Ln2Ideal.τ Cert.X2Ln2Ideal.sig) → Buf (Elt Ideal) ℓ) (g : Dev Cert.X2Ln2Ideal.nD → PrngReg), Pre_X2Ln2Ideal_finite_x2_ln2 m →
    θ_run (Cert.X2Ln2Ideal.defs (F := Ideal)) (onTc (τ := Cert.X2Ln2Ideal.τ) (Cert.X2Ln2Ideal.main (F := Ideal))) ⟨m, fun _ => 0, g⟩ (fun r => (∀ c : Dev Cert.X2Ln2Ideal.nD,
      r.2.mem ((c.tc : Thread Cert.X2Ln2Ideal.nD Cert.X2Ln2Ideal.τ).loc Cert.X2Ln2Ideal.main_arg0) = m ((c.tc : Thread Cert.X2Ln2Ideal.nD Cert.X2Ln2Ideal.τ).loc Cert.X2Ln2Ideal.main_arg0)
      ∧ r.2.mem ((c.tc : Thread Cert.X2Ln2Ideal.nD Cert.X2Ln2Ideal.τ).loc Cert.X2Ln2Ideal.main_arg1) = m ((c.tc : Thread Cert.X2Ln2Ideal.nD Cert.X2Ln2Ideal.τ).loc Cert.X2Ln2Ideal.main_arg1)
      ∧ r.2.mem ((c.tc : Thread Cert.X2Ln2Ideal.nD Cert.X2Ln2Ideal.τ).loc Cert.X2Ln2Ideal.main_arg2) = m ((c.tc : Thread Cert.X2Ln2Ideal.nD Cert.X2Ln2Ideal.τ).loc Cert.X2Ln2Ideal.main_arg2)
      ∧ r.2.mem ((c.tc : Thread Cert.X2Ln2Ideal.nD Cert.X2Ln2Ideal.τ).loc Cert.X2Ln2Ideal.main_arg3) = m ((c.tc : Thread Cert.X2Ln2Ideal.nD Cert.X2Ln2Ideal.τ).loc Cert.X2Ln2Ideal.main_arg3)
      ∧ r.2.mem ((c.tc : Thread Cert.X2Ln2Ideal.nD Cert.X2Ln2Ideal.τ).loc Cert.X2Ln2Ideal.main_arg4) = m ((c.tc : Thread Cert.X2Ln2Ideal.nD Cert.X2Ln2Ideal.τ).loc Cert.X2Ln2Ideal.main_arg4))
      ∧ r.2.sem = fun _ => 0)

def quiescent_X2Ln2ReferenceIdeal [hX2Ln2ReferenceIdeal : Cert.X2Ln2ReferenceIdeal.Facts] : Prop :=
  ∀ (m : (ℓ : Loc Cert.X2Ln2ReferenceIdeal.nD Cert.X2Ln2ReferenceIdeal.τ Cert.X2Ln2ReferenceIdeal.sig) → Buf (Elt Ideal) ℓ) (g : Dev Cert.X2Ln2ReferenceIdeal.nD → PrngReg), Pre_X2Ln2ReferenceIdeal m →
    θ_run (Cert.X2Ln2ReferenceIdeal.defs (F := Ideal)) (onTc (τ := Cert.X2Ln2ReferenceIdeal.τ) (Cert.X2Ln2ReferenceIdeal.main (F := Ideal))) ⟨m, fun _ => 0, g⟩ (fun r => (∀ c : Dev Cert.X2Ln2ReferenceIdeal.nD,
      r.2.mem ((c.tc : Thread Cert.X2Ln2ReferenceIdeal.nD Cert.X2Ln2ReferenceIdeal.τ).loc Cert.X2Ln2ReferenceIdeal.main_arg0) = m ((c.tc : Thread Cert.X2Ln2ReferenceIdeal.nD Cert.X2Ln2ReferenceIdeal.τ).loc Cert.X2Ln2ReferenceIdeal.main_arg0)
      ∧ r.2.mem ((c.tc : Thread Cert.X2Ln2ReferenceIdeal.nD Cert.X2Ln2ReferenceIdeal.τ).loc Cert.X2Ln2ReferenceIdeal.main_arg1) = m ((c.tc : Thread Cert.X2Ln2ReferenceIdeal.nD Cert.X2Ln2ReferenceIdeal.τ).loc Cert.X2Ln2ReferenceIdeal.main_arg1)
      ∧ r.2.mem ((c.tc : Thread Cert.X2Ln2ReferenceIdeal.nD Cert.X2Ln2ReferenceIdeal.τ).loc Cert.X2Ln2ReferenceIdeal.main_arg2) = m ((c.tc : Thread Cert.X2Ln2ReferenceIdeal.nD Cert.X2Ln2ReferenceIdeal.τ).loc Cert.X2Ln2ReferenceIdeal.main_arg2)
      ∧ r.2.mem ((c.tc : Thread Cert.X2Ln2ReferenceIdeal.nD Cert.X2Ln2ReferenceIdeal.τ).loc Cert.X2Ln2ReferenceIdeal.main_arg3) = m ((c.tc : Thread Cert.X2Ln2ReferenceIdeal.nD Cert.X2Ln2ReferenceIdeal.τ).loc Cert.X2Ln2ReferenceIdeal.main_arg3)
      ∧ r.2.mem ((c.tc : Thread Cert.X2Ln2ReferenceIdeal.nD Cert.X2Ln2ReferenceIdeal.τ).loc Cert.X2Ln2ReferenceIdeal.main_arg4) = m ((c.tc : Thread Cert.X2Ln2ReferenceIdeal.nD Cert.X2Ln2ReferenceIdeal.τ).loc Cert.X2Ln2ReferenceIdeal.main_arg4))
      ∧ r.2.sem = fun _ => 0)

def quiescent_X2Ln2ReferenceIdeal_pre_finite_x2_ln2 [hX2Ln2ReferenceIdeal : Cert.X2Ln2ReferenceIdeal.Facts] [hPre_finite_x2_ln2 : Cert.Pre_finite_x2_ln2.Facts] : Prop :=
  ∀ (m : (ℓ : Loc Cert.X2Ln2ReferenceIdeal.nD Cert.X2Ln2ReferenceIdeal.τ Cert.X2Ln2ReferenceIdeal.sig) → Buf (Elt Ideal) ℓ) (g : Dev Cert.X2Ln2ReferenceIdeal.nD → PrngReg), Pre_X2Ln2ReferenceIdeal_finite_x2_ln2 m →
    θ_run (Cert.X2Ln2ReferenceIdeal.defs (F := Ideal)) (onTc (τ := Cert.X2Ln2ReferenceIdeal.τ) (Cert.X2Ln2ReferenceIdeal.main (F := Ideal))) ⟨m, fun _ => 0, g⟩ (fun r => (∀ c : Dev Cert.X2Ln2ReferenceIdeal.nD,
      r.2.mem ((c.tc : Thread Cert.X2Ln2ReferenceIdeal.nD Cert.X2Ln2ReferenceIdeal.τ).loc Cert.X2Ln2ReferenceIdeal.main_arg0) = m ((c.tc : Thread Cert.X2Ln2ReferenceIdeal.nD Cert.X2Ln2ReferenceIdeal.τ).loc Cert.X2Ln2ReferenceIdeal.main_arg0)
      ∧ r.2.mem ((c.tc : Thread Cert.X2Ln2ReferenceIdeal.nD Cert.X2Ln2ReferenceIdeal.τ).loc Cert.X2Ln2ReferenceIdeal.main_arg1) = m ((c.tc : Thread Cert.X2Ln2ReferenceIdeal.nD Cert.X2Ln2ReferenceIdeal.τ).loc Cert.X2Ln2ReferenceIdeal.main_arg1)
      ∧ r.2.mem ((c.tc : Thread Cert.X2Ln2ReferenceIdeal.nD Cert.X2Ln2ReferenceIdeal.τ).loc Cert.X2Ln2ReferenceIdeal.main_arg2) = m ((c.tc : Thread Cert.X2Ln2ReferenceIdeal.nD Cert.X2Ln2ReferenceIdeal.τ).loc Cert.X2Ln2ReferenceIdeal.main_arg2)
      ∧ r.2.mem ((c.tc : Thread Cert.X2Ln2ReferenceIdeal.nD Cert.X2Ln2ReferenceIdeal.τ).loc Cert.X2Ln2ReferenceIdeal.main_arg3) = m ((c.tc : Thread Cert.X2Ln2ReferenceIdeal.nD Cert.X2Ln2ReferenceIdeal.τ).loc Cert.X2Ln2ReferenceIdeal.main_arg3)
      ∧ r.2.mem ((c.tc : Thread Cert.X2Ln2ReferenceIdeal.nD Cert.X2Ln2ReferenceIdeal.τ).loc Cert.X2Ln2ReferenceIdeal.main_arg4) = m ((c.tc : Thread Cert.X2Ln2ReferenceIdeal.nD Cert.X2Ln2ReferenceIdeal.τ).loc Cert.X2Ln2ReferenceIdeal.main_arg4))
      ∧ r.2.sem = fun _ => 0)

def quiescent_X1Ln1 [hX1Ln1 : Cert.X1Ln1.Facts] : Prop :=
  ∀ (m : (ℓ : Loc Cert.X1Ln1.nD Cert.X1Ln1.τ Cert.X1Ln1.sig) → Buf (Elt Bits) ℓ) (g : Dev Cert.X1Ln1.nD → PrngReg), Pre_X1Ln1 m →
    θ_run (Cert.X1Ln1.defs (F := Bits)) (onTc (τ := Cert.X1Ln1.τ) (Cert.X1Ln1.main (F := Bits))) ⟨m, fun _ => 0, g⟩ (fun r => (∀ c : Dev Cert.X1Ln1.nD,
      r.2.mem ((c.tc : Thread Cert.X1Ln1.nD Cert.X1Ln1.τ).loc Cert.X1Ln1.main_arg0) = m ((c.tc : Thread Cert.X1Ln1.nD Cert.X1Ln1.τ).loc Cert.X1Ln1.main_arg0)
      ∧ r.2.mem ((c.tc : Thread Cert.X1Ln1.nD Cert.X1Ln1.τ).loc Cert.X1Ln1.main_arg1) = m ((c.tc : Thread Cert.X1Ln1.nD Cert.X1Ln1.τ).loc Cert.X1Ln1.main_arg1)
      ∧ r.2.mem ((c.tc : Thread Cert.X1Ln1.nD Cert.X1Ln1.τ).loc Cert.X1Ln1.main_arg2) = m ((c.tc : Thread Cert.X1Ln1.nD Cert.X1Ln1.τ).loc Cert.X1Ln1.main_arg2)
      ∧ r.2.mem ((c.tc : Thread Cert.X1Ln1.nD Cert.X1Ln1.τ).loc Cert.X1Ln1.main_arg3) = m ((c.tc : Thread Cert.X1Ln1.nD Cert.X1Ln1.τ).loc Cert.X1Ln1.main_arg3)
      ∧ r.2.mem ((c.tc : Thread Cert.X1Ln1.nD Cert.X1Ln1.τ).loc Cert.X1Ln1.main_arg4) = m ((c.tc : Thread Cert.X1Ln1.nD Cert.X1Ln1.τ).loc Cert.X1Ln1.main_arg4))
      ∧ r.2.sem = fun _ => 0)

def quiescent_X1Ln1Ideal [hX1Ln1Ideal : Cert.X1Ln1Ideal.Facts] : Prop :=
  ∀ (m : (ℓ : Loc Cert.X1Ln1Ideal.nD Cert.X1Ln1Ideal.τ Cert.X1Ln1Ideal.sig) → Buf (Elt Ideal) ℓ) (g : Dev Cert.X1Ln1Ideal.nD → PrngReg), Pre_X1Ln1Ideal m →
    θ_run (Cert.X1Ln1Ideal.defs (F := Ideal)) (onTc (τ := Cert.X1Ln1Ideal.τ) (Cert.X1Ln1Ideal.main (F := Ideal))) ⟨m, fun _ => 0, g⟩ (fun r => (∀ c : Dev Cert.X1Ln1Ideal.nD,
      r.2.mem ((c.tc : Thread Cert.X1Ln1Ideal.nD Cert.X1Ln1Ideal.τ).loc Cert.X1Ln1Ideal.main_arg0) = m ((c.tc : Thread Cert.X1Ln1Ideal.nD Cert.X1Ln1Ideal.τ).loc Cert.X1Ln1Ideal.main_arg0)
      ∧ r.2.mem ((c.tc : Thread Cert.X1Ln1Ideal.nD Cert.X1Ln1Ideal.τ).loc Cert.X1Ln1Ideal.main_arg1) = m ((c.tc : Thread Cert.X1Ln1Ideal.nD Cert.X1Ln1Ideal.τ).loc Cert.X1Ln1Ideal.main_arg1)
      ∧ r.2.mem ((c.tc : Thread Cert.X1Ln1Ideal.nD Cert.X1Ln1Ideal.τ).loc Cert.X1Ln1Ideal.main_arg2) = m ((c.tc : Thread Cert.X1Ln1Ideal.nD Cert.X1Ln1Ideal.τ).loc Cert.X1Ln1Ideal.main_arg2)
      ∧ r.2.mem ((c.tc : Thread Cert.X1Ln1Ideal.nD Cert.X1Ln1Ideal.τ).loc Cert.X1Ln1Ideal.main_arg3) = m ((c.tc : Thread Cert.X1Ln1Ideal.nD Cert.X1Ln1Ideal.τ).loc Cert.X1Ln1Ideal.main_arg3)
      ∧ r.2.mem ((c.tc : Thread Cert.X1Ln1Ideal.nD Cert.X1Ln1Ideal.τ).loc Cert.X1Ln1Ideal.main_arg4) = m ((c.tc : Thread Cert.X1Ln1Ideal.nD Cert.X1Ln1Ideal.τ).loc Cert.X1Ln1Ideal.main_arg4))
      ∧ r.2.sem = fun _ => 0)

def quiescent_X1Ln1Ideal_pre_finite_x1_ln1 [hX1Ln1Ideal : Cert.X1Ln1Ideal.Facts] [hPre_finite_x1_ln1 : Cert.Pre_finite_x1_ln1.Facts] : Prop :=
  ∀ (m : (ℓ : Loc Cert.X1Ln1Ideal.nD Cert.X1Ln1Ideal.τ Cert.X1Ln1Ideal.sig) → Buf (Elt Ideal) ℓ) (g : Dev Cert.X1Ln1Ideal.nD → PrngReg), Pre_X1Ln1Ideal_finite_x1_ln1 m →
    θ_run (Cert.X1Ln1Ideal.defs (F := Ideal)) (onTc (τ := Cert.X1Ln1Ideal.τ) (Cert.X1Ln1Ideal.main (F := Ideal))) ⟨m, fun _ => 0, g⟩ (fun r => (∀ c : Dev Cert.X1Ln1Ideal.nD,
      r.2.mem ((c.tc : Thread Cert.X1Ln1Ideal.nD Cert.X1Ln1Ideal.τ).loc Cert.X1Ln1Ideal.main_arg0) = m ((c.tc : Thread Cert.X1Ln1Ideal.nD Cert.X1Ln1Ideal.τ).loc Cert.X1Ln1Ideal.main_arg0)
      ∧ r.2.mem ((c.tc : Thread Cert.X1Ln1Ideal.nD Cert.X1Ln1Ideal.τ).loc Cert.X1Ln1Ideal.main_arg1) = m ((c.tc : Thread Cert.X1Ln1Ideal.nD Cert.X1Ln1Ideal.τ).loc Cert.X1Ln1Ideal.main_arg1)
      ∧ r.2.mem ((c.tc : Thread Cert.X1Ln1Ideal.nD Cert.X1Ln1Ideal.τ).loc Cert.X1Ln1Ideal.main_arg2) = m ((c.tc : Thread Cert.X1Ln1Ideal.nD Cert.X1Ln1Ideal.τ).loc Cert.X1Ln1Ideal.main_arg2)
      ∧ r.2.mem ((c.tc : Thread Cert.X1Ln1Ideal.nD Cert.X1Ln1Ideal.τ).loc Cert.X1Ln1Ideal.main_arg3) = m ((c.tc : Thread Cert.X1Ln1Ideal.nD Cert.X1Ln1Ideal.τ).loc Cert.X1Ln1Ideal.main_arg3)
      ∧ r.2.mem ((c.tc : Thread Cert.X1Ln1Ideal.nD Cert.X1Ln1Ideal.τ).loc Cert.X1Ln1Ideal.main_arg4) = m ((c.tc : Thread Cert.X1Ln1Ideal.nD Cert.X1Ln1Ideal.τ).loc Cert.X1Ln1Ideal.main_arg4))
      ∧ r.2.sem = fun _ => 0)

def quiescent_X1Ln1ReferenceIdeal [hX1Ln1ReferenceIdeal : Cert.X1Ln1ReferenceIdeal.Facts] : Prop :=
  ∀ (m : (ℓ : Loc Cert.X1Ln1ReferenceIdeal.nD Cert.X1Ln1ReferenceIdeal.τ Cert.X1Ln1ReferenceIdeal.sig) → Buf (Elt Ideal) ℓ) (g : Dev Cert.X1Ln1ReferenceIdeal.nD → PrngReg), Pre_X1Ln1ReferenceIdeal m →
    θ_run (Cert.X1Ln1ReferenceIdeal.defs (F := Ideal)) (onTc (τ := Cert.X1Ln1ReferenceIdeal.τ) (Cert.X1Ln1ReferenceIdeal.main (F := Ideal))) ⟨m, fun _ => 0, g⟩ (fun r => (∀ c : Dev Cert.X1Ln1ReferenceIdeal.nD,
      r.2.mem ((c.tc : Thread Cert.X1Ln1ReferenceIdeal.nD Cert.X1Ln1ReferenceIdeal.τ).loc Cert.X1Ln1ReferenceIdeal.main_arg0) = m ((c.tc : Thread Cert.X1Ln1ReferenceIdeal.nD Cert.X1Ln1ReferenceIdeal.τ).loc Cert.X1Ln1ReferenceIdeal.main_arg0)
      ∧ r.2.mem ((c.tc : Thread Cert.X1Ln1ReferenceIdeal.nD Cert.X1Ln1ReferenceIdeal.τ).loc Cert.X1Ln1ReferenceIdeal.main_arg1) = m ((c.tc : Thread Cert.X1Ln1ReferenceIdeal.nD Cert.X1Ln1ReferenceIdeal.τ).loc Cert.X1Ln1ReferenceIdeal.main_arg1)
      ∧ r.2.mem ((c.tc : Thread Cert.X1Ln1ReferenceIdeal.nD Cert.X1Ln1ReferenceIdeal.τ).loc Cert.X1Ln1ReferenceIdeal.main_arg2) = m ((c.tc : Thread Cert.X1Ln1ReferenceIdeal.nD Cert.X1Ln1ReferenceIdeal.τ).loc Cert.X1Ln1ReferenceIdeal.main_arg2)
      ∧ r.2.mem ((c.tc : Thread Cert.X1Ln1ReferenceIdeal.nD Cert.X1Ln1ReferenceIdeal.τ).loc Cert.X1Ln1ReferenceIdeal.main_arg3) = m ((c.tc : Thread Cert.X1Ln1ReferenceIdeal.nD Cert.X1Ln1ReferenceIdeal.τ).loc Cert.X1Ln1ReferenceIdeal.main_arg3)
      ∧ r.2.mem ((c.tc : Thread Cert.X1Ln1ReferenceIdeal.nD Cert.X1Ln1ReferenceIdeal.τ).loc Cert.X1Ln1ReferenceIdeal.main_arg4) = m ((c.tc : Thread Cert.X1Ln1ReferenceIdeal.nD Cert.X1Ln1ReferenceIdeal.τ).loc Cert.X1Ln1ReferenceIdeal.main_arg4))
      ∧ r.2.sem = fun _ => 0)

def quiescent_X1Ln1ReferenceIdeal_pre_finite_x1_ln1 [hX1Ln1ReferenceIdeal : Cert.X1Ln1ReferenceIdeal.Facts] [hPre_finite_x1_ln1 : Cert.Pre_finite_x1_ln1.Facts] : Prop :=
  ∀ (m : (ℓ : Loc Cert.X1Ln1ReferenceIdeal.nD Cert.X1Ln1ReferenceIdeal.τ Cert.X1Ln1ReferenceIdeal.sig) → Buf (Elt Ideal) ℓ) (g : Dev Cert.X1Ln1ReferenceIdeal.nD → PrngReg), Pre_X1Ln1ReferenceIdeal_finite_x1_ln1 m →
    θ_run (Cert.X1Ln1ReferenceIdeal.defs (F := Ideal)) (onTc (τ := Cert.X1Ln1ReferenceIdeal.τ) (Cert.X1Ln1ReferenceIdeal.main (F := Ideal))) ⟨m, fun _ => 0, g⟩ (fun r => (∀ c : Dev Cert.X1Ln1ReferenceIdeal.nD,
      r.2.mem ((c.tc : Thread Cert.X1Ln1ReferenceIdeal.nD Cert.X1Ln1ReferenceIdeal.τ).loc Cert.X1Ln1ReferenceIdeal.main_arg0) = m ((c.tc : Thread Cert.X1Ln1ReferenceIdeal.nD Cert.X1Ln1ReferenceIdeal.τ).loc Cert.X1Ln1ReferenceIdeal.main_arg0)
      ∧ r.2.mem ((c.tc : Thread Cert.X1Ln1ReferenceIdeal.nD Cert.X1Ln1ReferenceIdeal.τ).loc Cert.X1Ln1ReferenceIdeal.main_arg1) = m ((c.tc : Thread Cert.X1Ln1ReferenceIdeal.nD Cert.X1Ln1ReferenceIdeal.τ).loc Cert.X1Ln1ReferenceIdeal.main_arg1)
      ∧ r.2.mem ((c.tc : Thread Cert.X1Ln1ReferenceIdeal.nD Cert.X1Ln1ReferenceIdeal.τ).loc Cert.X1Ln1ReferenceIdeal.main_arg2) = m ((c.tc : Thread Cert.X1Ln1ReferenceIdeal.nD Cert.X1Ln1ReferenceIdeal.τ).loc Cert.X1Ln1ReferenceIdeal.main_arg2)
      ∧ r.2.mem ((c.tc : Thread Cert.X1Ln1ReferenceIdeal.nD Cert.X1Ln1ReferenceIdeal.τ).loc Cert.X1Ln1ReferenceIdeal.main_arg3) = m ((c.tc : Thread Cert.X1Ln1ReferenceIdeal.nD Cert.X1Ln1ReferenceIdeal.τ).loc Cert.X1Ln1ReferenceIdeal.main_arg3)
      ∧ r.2.mem ((c.tc : Thread Cert.X1Ln1ReferenceIdeal.nD Cert.X1Ln1ReferenceIdeal.τ).loc Cert.X1Ln1ReferenceIdeal.main_arg4) = m ((c.tc : Thread Cert.X1Ln1ReferenceIdeal.nD Cert.X1Ln1ReferenceIdeal.τ).loc Cert.X1Ln1ReferenceIdeal.main_arg4))
      ∧ r.2.sem = fun _ => 0)

def quiescent_X0Ln3 [hX0Ln3 : Cert.X0Ln3.Facts] : Prop :=
  ∀ (m : (ℓ : Loc Cert.X0Ln3.nD Cert.X0Ln3.τ Cert.X0Ln3.sig) → Buf (Elt Bits) ℓ) (g : Dev Cert.X0Ln3.nD → PrngReg), Pre_X0Ln3 m →
    θ_run (Cert.X0Ln3.defs (F := Bits)) (onTc (τ := Cert.X0Ln3.τ) (Cert.X0Ln3.main (F := Bits))) ⟨m, fun _ => 0, g⟩ (fun r => (∀ c : Dev Cert.X0Ln3.nD,
      r.2.mem ((c.tc : Thread Cert.X0Ln3.nD Cert.X0Ln3.τ).loc Cert.X0Ln3.main_arg0) = m ((c.tc : Thread Cert.X0Ln3.nD Cert.X0Ln3.τ).loc Cert.X0Ln3.main_arg0)
      ∧ r.2.mem ((c.tc : Thread Cert.X0Ln3.nD Cert.X0Ln3.τ).loc Cert.X0Ln3.main_arg1) = m ((c.tc : Thread Cert.X0Ln3.nD Cert.X0Ln3.τ).loc Cert.X0Ln3.main_arg1)
      ∧ r.2.mem ((c.tc : Thread Cert.X0Ln3.nD Cert.X0Ln3.τ).loc Cert.X0Ln3.main_arg2) = m ((c.tc : Thread Cert.X0Ln3.nD Cert.X0Ln3.τ).loc Cert.X0Ln3.main_arg2)
      ∧ r.2.mem ((c.tc : Thread Cert.X0Ln3.nD Cert.X0Ln3.τ).loc Cert.X0Ln3.main_arg3) = m ((c.tc : Thread Cert.X0Ln3.nD Cert.X0Ln3.τ).loc Cert.X0Ln3.main_arg3)
      ∧ r.2.mem ((c.tc : Thread Cert.X0Ln3.nD Cert.X0Ln3.τ).loc Cert.X0Ln3.main_arg4) = m ((c.tc : Thread Cert.X0Ln3.nD Cert.X0Ln3.τ).loc Cert.X0Ln3.main_arg4)
      ∧ r.2.mem ((c.tc : Thread Cert.X0Ln3.nD Cert.X0Ln3.τ).loc Cert.X0Ln3.main_arg5) = m ((c.tc : Thread Cert.X0Ln3.nD Cert.X0Ln3.τ).loc Cert.X0Ln3.main_arg5)
      ∧ r.2.mem ((c.tc : Thread Cert.X0Ln3.nD Cert.X0Ln3.τ).loc Cert.X0Ln3.main_arg6) = m ((c.tc : Thread Cert.X0Ln3.nD Cert.X0Ln3.τ).loc Cert.X0Ln3.main_arg6)
      ∧ r.2.mem ((c.tc : Thread Cert.X0Ln3.nD Cert.X0Ln3.τ).loc Cert.X0Ln3.main_arg7) = m ((c.tc : Thread Cert.X0Ln3.nD Cert.X0Ln3.τ).loc Cert.X0Ln3.main_arg7)
      ∧ r.2.mem ((c.tc : Thread Cert.X0Ln3.nD Cert.X0Ln3.τ).loc Cert.X0Ln3.main_arg8) = m ((c.tc : Thread Cert.X0Ln3.nD Cert.X0Ln3.τ).loc Cert.X0Ln3.main_arg8)
      ∧ r.2.mem ((c.tc : Thread Cert.X0Ln3.nD Cert.X0Ln3.τ).loc Cert.X0Ln3.main_arg9) = m ((c.tc : Thread Cert.X0Ln3.nD Cert.X0Ln3.τ).loc Cert.X0Ln3.main_arg9)
      ∧ r.2.mem ((c.tc : Thread Cert.X0Ln3.nD Cert.X0Ln3.τ).loc Cert.X0Ln3.main_arg10) = m ((c.tc : Thread Cert.X0Ln3.nD Cert.X0Ln3.τ).loc Cert.X0Ln3.main_arg10))
      ∧ r.2.sem = fun _ => 0)

def quiescent_X0Ln3Ideal [hX0Ln3Ideal : Cert.X0Ln3Ideal.Facts] : Prop :=
  ∀ (m : (ℓ : Loc Cert.X0Ln3Ideal.nD Cert.X0Ln3Ideal.τ Cert.X0Ln3Ideal.sig) → Buf (Elt Ideal) ℓ) (g : Dev Cert.X0Ln3Ideal.nD → PrngReg), Pre_X0Ln3Ideal m →
    θ_run (Cert.X0Ln3Ideal.defs (F := Ideal)) (onTc (τ := Cert.X0Ln3Ideal.τ) (Cert.X0Ln3Ideal.main (F := Ideal))) ⟨m, fun _ => 0, g⟩ (fun r => (∀ c : Dev Cert.X0Ln3Ideal.nD,
      r.2.mem ((c.tc : Thread Cert.X0Ln3Ideal.nD Cert.X0Ln3Ideal.τ).loc Cert.X0Ln3Ideal.main_arg0) = m ((c.tc : Thread Cert.X0Ln3Ideal.nD Cert.X0Ln3Ideal.τ).loc Cert.X0Ln3Ideal.main_arg0)
      ∧ r.2.mem ((c.tc : Thread Cert.X0Ln3Ideal.nD Cert.X0Ln3Ideal.τ).loc Cert.X0Ln3Ideal.main_arg1) = m ((c.tc : Thread Cert.X0Ln3Ideal.nD Cert.X0Ln3Ideal.τ).loc Cert.X0Ln3Ideal.main_arg1)
      ∧ r.2.mem ((c.tc : Thread Cert.X0Ln3Ideal.nD Cert.X0Ln3Ideal.τ).loc Cert.X0Ln3Ideal.main_arg2) = m ((c.tc : Thread Cert.X0Ln3Ideal.nD Cert.X0Ln3Ideal.τ).loc Cert.X0Ln3Ideal.main_arg2)
      ∧ r.2.mem ((c.tc : Thread Cert.X0Ln3Ideal.nD Cert.X0Ln3Ideal.τ).loc Cert.X0Ln3Ideal.main_arg3) = m ((c.tc : Thread Cert.X0Ln3Ideal.nD Cert.X0Ln3Ideal.τ).loc Cert.X0Ln3Ideal.main_arg3)
      ∧ r.2.mem ((c.tc : Thread Cert.X0Ln3Ideal.nD Cert.X0Ln3Ideal.τ).loc Cert.X0Ln3Ideal.main_arg4) = m ((c.tc : Thread Cert.X0Ln3Ideal.nD Cert.X0Ln3Ideal.τ).loc Cert.X0Ln3Ideal.main_arg4)
      ∧ r.2.mem ((c.tc : Thread Cert.X0Ln3Ideal.nD Cert.X0Ln3Ideal.τ).loc Cert.X0Ln3Ideal.main_arg5) = m ((c.tc : Thread Cert.X0Ln3Ideal.nD Cert.X0Ln3Ideal.τ).loc Cert.X0Ln3Ideal.main_arg5)
      ∧ r.2.mem ((c.tc : Thread Cert.X0Ln3Ideal.nD Cert.X0Ln3Ideal.τ).loc Cert.X0Ln3Ideal.main_arg6) = m ((c.tc : Thread Cert.X0Ln3Ideal.nD Cert.X0Ln3Ideal.τ).loc Cert.X0Ln3Ideal.main_arg6)
      ∧ r.2.mem ((c.tc : Thread Cert.X0Ln3Ideal.nD Cert.X0Ln3Ideal.τ).loc Cert.X0Ln3Ideal.main_arg7) = m ((c.tc : Thread Cert.X0Ln3Ideal.nD Cert.X0Ln3Ideal.τ).loc Cert.X0Ln3Ideal.main_arg7)
      ∧ r.2.mem ((c.tc : Thread Cert.X0Ln3Ideal.nD Cert.X0Ln3Ideal.τ).loc Cert.X0Ln3Ideal.main_arg8) = m ((c.tc : Thread Cert.X0Ln3Ideal.nD Cert.X0Ln3Ideal.τ).loc Cert.X0Ln3Ideal.main_arg8)
      ∧ r.2.mem ((c.tc : Thread Cert.X0Ln3Ideal.nD Cert.X0Ln3Ideal.τ).loc Cert.X0Ln3Ideal.main_arg9) = m ((c.tc : Thread Cert.X0Ln3Ideal.nD Cert.X0Ln3Ideal.τ).loc Cert.X0Ln3Ideal.main_arg9)
      ∧ r.2.mem ((c.tc : Thread Cert.X0Ln3Ideal.nD Cert.X0Ln3Ideal.τ).loc Cert.X0Ln3Ideal.main_arg10) = m ((c.tc : Thread Cert.X0Ln3Ideal.nD Cert.X0Ln3Ideal.τ).loc Cert.X0Ln3Ideal.main_arg10))
      ∧ r.2.sem = fun _ => 0)

def quiescent_X0Ln3Ideal_pre_finite_x0_ln3 [hX0Ln3Ideal : Cert.X0Ln3Ideal.Facts] [hPre_finite_x0_ln3 : Cert.Pre_finite_x0_ln3.Facts] : Prop :=
  ∀ (m : (ℓ : Loc Cert.X0Ln3Ideal.nD Cert.X0Ln3Ideal.τ Cert.X0Ln3Ideal.sig) → Buf (Elt Ideal) ℓ) (g : Dev Cert.X0Ln3Ideal.nD → PrngReg), Pre_X0Ln3Ideal_finite_x0_ln3 m →
    θ_run (Cert.X0Ln3Ideal.defs (F := Ideal)) (onTc (τ := Cert.X0Ln3Ideal.τ) (Cert.X0Ln3Ideal.main (F := Ideal))) ⟨m, fun _ => 0, g⟩ (fun r => (∀ c : Dev Cert.X0Ln3Ideal.nD,
      r.2.mem ((c.tc : Thread Cert.X0Ln3Ideal.nD Cert.X0Ln3Ideal.τ).loc Cert.X0Ln3Ideal.main_arg0) = m ((c.tc : Thread Cert.X0Ln3Ideal.nD Cert.X0Ln3Ideal.τ).loc Cert.X0Ln3Ideal.main_arg0)
      ∧ r.2.mem ((c.tc : Thread Cert.X0Ln3Ideal.nD Cert.X0Ln3Ideal.τ).loc Cert.X0Ln3Ideal.main_arg1) = m ((c.tc : Thread Cert.X0Ln3Ideal.nD Cert.X0Ln3Ideal.τ).loc Cert.X0Ln3Ideal.main_arg1)
      ∧ r.2.mem ((c.tc : Thread Cert.X0Ln3Ideal.nD Cert.X0Ln3Ideal.τ).loc Cert.X0Ln3Ideal.main_arg2) = m ((c.tc : Thread Cert.X0Ln3Ideal.nD Cert.X0Ln3Ideal.τ).loc Cert.X0Ln3Ideal.main_arg2)
      ∧ r.2.mem ((c.tc : Thread Cert.X0Ln3Ideal.nD Cert.X0Ln3Ideal.τ).loc Cert.X0Ln3Ideal.main_arg3) = m ((c.tc : Thread Cert.X0Ln3Ideal.nD Cert.X0Ln3Ideal.τ).loc Cert.X0Ln3Ideal.main_arg3)
      ∧ r.2.mem ((c.tc : Thread Cert.X0Ln3Ideal.nD Cert.X0Ln3Ideal.τ).loc Cert.X0Ln3Ideal.main_arg4) = m ((c.tc : Thread Cert.X0Ln3Ideal.nD Cert.X0Ln3Ideal.τ).loc Cert.X0Ln3Ideal.main_arg4)
      ∧ r.2.mem ((c.tc : Thread Cert.X0Ln3Ideal.nD Cert.X0Ln3Ideal.τ).loc Cert.X0Ln3Ideal.main_arg5) = m ((c.tc : Thread Cert.X0Ln3Ideal.nD Cert.X0Ln3Ideal.τ).loc Cert.X0Ln3Ideal.main_arg5)
      ∧ r.2.mem ((c.tc : Thread Cert.X0Ln3Ideal.nD Cert.X0Ln3Ideal.τ).loc Cert.X0Ln3Ideal.main_arg6) = m ((c.tc : Thread Cert.X0Ln3Ideal.nD Cert.X0Ln3Ideal.τ).loc Cert.X0Ln3Ideal.main_arg6)
      ∧ r.2.mem ((c.tc : Thread Cert.X0Ln3Ideal.nD Cert.X0Ln3Ideal.τ).loc Cert.X0Ln3Ideal.main_arg7) = m ((c.tc : Thread Cert.X0Ln3Ideal.nD Cert.X0Ln3Ideal.τ).loc Cert.X0Ln3Ideal.main_arg7)
      ∧ r.2.mem ((c.tc : Thread Cert.X0Ln3Ideal.nD Cert.X0Ln3Ideal.τ).loc Cert.X0Ln3Ideal.main_arg8) = m ((c.tc : Thread Cert.X0Ln3Ideal.nD Cert.X0Ln3Ideal.τ).loc Cert.X0Ln3Ideal.main_arg8)
      ∧ r.2.mem ((c.tc : Thread Cert.X0Ln3Ideal.nD Cert.X0Ln3Ideal.τ).loc Cert.X0Ln3Ideal.main_arg9) = m ((c.tc : Thread Cert.X0Ln3Ideal.nD Cert.X0Ln3Ideal.τ).loc Cert.X0Ln3Ideal.main_arg9)
      ∧ r.2.mem ((c.tc : Thread Cert.X0Ln3Ideal.nD Cert.X0Ln3Ideal.τ).loc Cert.X0Ln3Ideal.main_arg10) = m ((c.tc : Thread Cert.X0Ln3Ideal.nD Cert.X0Ln3Ideal.τ).loc Cert.X0Ln3Ideal.main_arg10))
      ∧ r.2.sem = fun _ => 0)

def quiescent_X0Ln3ReferenceIdeal [hX0Ln3ReferenceIdeal : Cert.X0Ln3ReferenceIdeal.Facts] : Prop :=
  ∀ (m : (ℓ : Loc Cert.X0Ln3ReferenceIdeal.nD Cert.X0Ln3ReferenceIdeal.τ Cert.X0Ln3ReferenceIdeal.sig) → Buf (Elt Ideal) ℓ) (g : Dev Cert.X0Ln3ReferenceIdeal.nD → PrngReg), Pre_X0Ln3ReferenceIdeal m →
    θ_run (Cert.X0Ln3ReferenceIdeal.defs (F := Ideal)) (onTc (τ := Cert.X0Ln3ReferenceIdeal.τ) (Cert.X0Ln3ReferenceIdeal.main (F := Ideal))) ⟨m, fun _ => 0, g⟩ (fun r => (∀ c : Dev Cert.X0Ln3ReferenceIdeal.nD,
      r.2.mem ((c.tc : Thread Cert.X0Ln3ReferenceIdeal.nD Cert.X0Ln3ReferenceIdeal.τ).loc Cert.X0Ln3ReferenceIdeal.main_arg0) = m ((c.tc : Thread Cert.X0Ln3ReferenceIdeal.nD Cert.X0Ln3ReferenceIdeal.τ).loc Cert.X0Ln3ReferenceIdeal.main_arg0)
      ∧ r.2.mem ((c.tc : Thread Cert.X0Ln3ReferenceIdeal.nD Cert.X0Ln3ReferenceIdeal.τ).loc Cert.X0Ln3ReferenceIdeal.main_arg1) = m ((c.tc : Thread Cert.X0Ln3ReferenceIdeal.nD Cert.X0Ln3ReferenceIdeal.τ).loc Cert.X0Ln3ReferenceIdeal.main_arg1)
      ∧ r.2.mem ((c.tc : Thread Cert.X0Ln3ReferenceIdeal.nD Cert.X0Ln3ReferenceIdeal.τ).loc Cert.X0Ln3ReferenceIdeal.main_arg2) = m ((c.tc : Thread Cert.X0Ln3ReferenceIdeal.nD Cert.X0Ln3ReferenceIdeal.τ).loc Cert.X0Ln3ReferenceIdeal.main_arg2)
      ∧ r.2.mem ((c.tc : Thread Cert.X0Ln3ReferenceIdeal.nD Cert.X0Ln3ReferenceIdeal.τ).loc Cert.X0Ln3ReferenceIdeal.main_arg3) = m ((c.tc : Thread Cert.X0Ln3ReferenceIdeal.nD Cert.X0Ln3ReferenceIdeal.τ).loc Cert.X0Ln3ReferenceIdeal.main_arg3)
      ∧ r.2.mem ((c.tc : Thread Cert.X0Ln3ReferenceIdeal.nD Cert.X0Ln3ReferenceIdeal.τ).loc Cert.X0Ln3ReferenceIdeal.main_arg4) = m ((c.tc : Thread Cert.X0Ln3ReferenceIdeal.nD Cert.X0Ln3ReferenceIdeal.τ).loc Cert.X0Ln3ReferenceIdeal.main_arg4)
      ∧ r.2.mem ((c.tc : Thread Cert.X0Ln3ReferenceIdeal.nD Cert.X0Ln3ReferenceIdeal.τ).loc Cert.X0Ln3ReferenceIdeal.main_arg5) = m ((c.tc : Thread Cert.X0Ln3ReferenceIdeal.nD Cert.X0Ln3ReferenceIdeal.τ).loc Cert.X0Ln3ReferenceIdeal.main_arg5)
      ∧ r.2.mem ((c.tc : Thread Cert.X0Ln3ReferenceIdeal.nD Cert.X0Ln3ReferenceIdeal.τ).loc Cert.X0Ln3ReferenceIdeal.main_arg6) = m ((c.tc : Thread Cert.X0Ln3ReferenceIdeal.nD Cert.X0Ln3ReferenceIdeal.τ).loc Cert.X0Ln3ReferenceIdeal.main_arg6)
      ∧ r.2.mem ((c.tc : Thread Cert.X0Ln3ReferenceIdeal.nD Cert.X0Ln3ReferenceIdeal.τ).loc Cert.X0Ln3ReferenceIdeal.main_arg7) = m ((c.tc : Thread Cert.X0Ln3ReferenceIdeal.nD Cert.X0Ln3ReferenceIdeal.τ).loc Cert.X0Ln3ReferenceIdeal.main_arg7)
      ∧ r.2.mem ((c.tc : Thread Cert.X0Ln3ReferenceIdeal.nD Cert.X0Ln3ReferenceIdeal.τ).loc Cert.X0Ln3ReferenceIdeal.main_arg8) = m ((c.tc : Thread Cert.X0Ln3ReferenceIdeal.nD Cert.X0Ln3ReferenceIdeal.τ).loc Cert.X0Ln3ReferenceIdeal.main_arg8)
      ∧ r.2.mem ((c.tc : Thread Cert.X0Ln3ReferenceIdeal.nD Cert.X0Ln3ReferenceIdeal.τ).loc Cert.X0Ln3ReferenceIdeal.main_arg9) = m ((c.tc : Thread Cert.X0Ln3ReferenceIdeal.nD Cert.X0Ln3ReferenceIdeal.τ).loc Cert.X0Ln3ReferenceIdeal.main_arg9)
      ∧ r.2.mem ((c.tc : Thread Cert.X0Ln3ReferenceIdeal.nD Cert.X0Ln3ReferenceIdeal.τ).loc Cert.X0Ln3ReferenceIdeal.main_arg10) = m ((c.tc : Thread Cert.X0Ln3ReferenceIdeal.nD Cert.X0Ln3ReferenceIdeal.τ).loc Cert.X0Ln3ReferenceIdeal.main_arg10))
      ∧ r.2.sem = fun _ => 0)

def quiescent_X0Ln3ReferenceIdeal_pre_finite_x0_ln3 [hX0Ln3ReferenceIdeal : Cert.X0Ln3ReferenceIdeal.Facts] [hPre_finite_x0_ln3 : Cert.Pre_finite_x0_ln3.Facts] : Prop :=
  ∀ (m : (ℓ : Loc Cert.X0Ln3ReferenceIdeal.nD Cert.X0Ln3ReferenceIdeal.τ Cert.X0Ln3ReferenceIdeal.sig) → Buf (Elt Ideal) ℓ) (g : Dev Cert.X0Ln3ReferenceIdeal.nD → PrngReg), Pre_X0Ln3ReferenceIdeal_finite_x0_ln3 m →
    θ_run (Cert.X0Ln3ReferenceIdeal.defs (F := Ideal)) (onTc (τ := Cert.X0Ln3ReferenceIdeal.τ) (Cert.X0Ln3ReferenceIdeal.main (F := Ideal))) ⟨m, fun _ => 0, g⟩ (fun r => (∀ c : Dev Cert.X0Ln3ReferenceIdeal.nD,
      r.2.mem ((c.tc : Thread Cert.X0Ln3ReferenceIdeal.nD Cert.X0Ln3ReferenceIdeal.τ).loc Cert.X0Ln3ReferenceIdeal.main_arg0) = m ((c.tc : Thread Cert.X0Ln3ReferenceIdeal.nD Cert.X0Ln3ReferenceIdeal.τ).loc Cert.X0Ln3ReferenceIdeal.main_arg0)
      ∧ r.2.mem ((c.tc : Thread Cert.X0Ln3ReferenceIdeal.nD Cert.X0Ln3ReferenceIdeal.τ).loc Cert.X0Ln3ReferenceIdeal.main_arg1) = m ((c.tc : Thread Cert.X0Ln3ReferenceIdeal.nD Cert.X0Ln3ReferenceIdeal.τ).loc Cert.X0Ln3ReferenceIdeal.main_arg1)
      ∧ r.2.mem ((c.tc : Thread Cert.X0Ln3ReferenceIdeal.nD Cert.X0Ln3ReferenceIdeal.τ).loc Cert.X0Ln3ReferenceIdeal.main_arg2) = m ((c.tc : Thread Cert.X0Ln3ReferenceIdeal.nD Cert.X0Ln3ReferenceIdeal.τ).loc Cert.X0Ln3ReferenceIdeal.main_arg2)
      ∧ r.2.mem ((c.tc : Thread Cert.X0Ln3ReferenceIdeal.nD Cert.X0Ln3ReferenceIdeal.τ).loc Cert.X0Ln3ReferenceIdeal.main_arg3) = m ((c.tc : Thread Cert.X0Ln3ReferenceIdeal.nD Cert.X0Ln3ReferenceIdeal.τ).loc Cert.X0Ln3ReferenceIdeal.main_arg3)
      ∧ r.2.mem ((c.tc : Thread Cert.X0Ln3ReferenceIdeal.nD Cert.X0Ln3ReferenceIdeal.τ).loc Cert.X0Ln3ReferenceIdeal.main_arg4) = m ((c.tc : Thread Cert.X0Ln3ReferenceIdeal.nD Cert.X0Ln3ReferenceIdeal.τ).loc Cert.X0Ln3ReferenceIdeal.main_arg4)
      ∧ r.2.mem ((c.tc : Thread Cert.X0Ln3ReferenceIdeal.nD Cert.X0Ln3ReferenceIdeal.τ).loc Cert.X0Ln3ReferenceIdeal.main_arg5) = m ((c.tc : Thread Cert.X0Ln3ReferenceIdeal.nD Cert.X0Ln3ReferenceIdeal.τ).loc Cert.X0Ln3ReferenceIdeal.main_arg5)
      ∧ r.2.mem ((c.tc : Thread Cert.X0Ln3ReferenceIdeal.nD Cert.X0Ln3ReferenceIdeal.τ).loc Cert.X0Ln3ReferenceIdeal.main_arg6) = m ((c.tc : Thread Cert.X0Ln3ReferenceIdeal.nD Cert.X0Ln3ReferenceIdeal.τ).loc Cert.X0Ln3ReferenceIdeal.main_arg6)
      ∧ r.2.mem ((c.tc : Thread Cert.X0Ln3ReferenceIdeal.nD Cert.X0Ln3ReferenceIdeal.τ).loc Cert.X0Ln3ReferenceIdeal.main_arg7) = m ((c.tc : Thread Cert.X0Ln3ReferenceIdeal.nD Cert.X0Ln3ReferenceIdeal.τ).loc Cert.X0Ln3ReferenceIdeal.main_arg7)
      ∧ r.2.mem ((c.tc : Thread Cert.X0Ln3ReferenceIdeal.nD Cert.X0Ln3ReferenceIdeal.τ).loc Cert.X0Ln3ReferenceIdeal.main_arg8) = m ((c.tc : Thread Cert.X0Ln3ReferenceIdeal.nD Cert.X0Ln3ReferenceIdeal.τ).loc Cert.X0Ln3ReferenceIdeal.main_arg8)
      ∧ r.2.mem ((c.tc : Thread Cert.X0Ln3ReferenceIdeal.nD Cert.X0Ln3ReferenceIdeal.τ).loc Cert.X0Ln3ReferenceIdeal.main_arg9) = m ((c.tc : Thread Cert.X0Ln3ReferenceIdeal.nD Cert.X0Ln3ReferenceIdeal.τ).loc Cert.X0Ln3ReferenceIdeal.main_arg9)
      ∧ r.2.mem ((c.tc : Thread Cert.X0Ln3ReferenceIdeal.nD Cert.X0Ln3ReferenceIdeal.τ).loc Cert.X0Ln3ReferenceIdeal.main_arg10) = m ((c.tc : Thread Cert.X0Ln3ReferenceIdeal.nD Cert.X0Ln3ReferenceIdeal.τ).loc Cert.X0Ln3ReferenceIdeal.main_arg10))
      ∧ r.2.sem = fun _ => 0)

def quiescent_X0 [hX0 : Cert.X0.Facts] : Prop :=
  ∀ (m : (ℓ : Loc Cert.X0.nD Cert.X0.τ Cert.X0.sig) → Buf (Elt Bits) ℓ) (g : Dev Cert.X0.nD → PrngReg), Pre_X0 m →
    θ_run (Cert.X0.defs (F := Bits)) (onTc (τ := Cert.X0.τ) (Cert.X0.main (F := Bits))) ⟨m, fun _ => 0, g⟩ (fun r => (∀ c : Dev Cert.X0.nD,
      r.2.mem ((c.tc : Thread Cert.X0.nD Cert.X0.τ).loc Cert.X0.main_arg0) = m ((c.tc : Thread Cert.X0.nD Cert.X0.τ).loc Cert.X0.main_arg0)
      ∧ r.2.mem ((c.tc : Thread Cert.X0.nD Cert.X0.τ).loc Cert.X0.main_arg1) = m ((c.tc : Thread Cert.X0.nD Cert.X0.τ).loc Cert.X0.main_arg1)
      ∧ r.2.mem ((c.tc : Thread Cert.X0.nD Cert.X0.τ).loc Cert.X0.main_arg2) = m ((c.tc : Thread Cert.X0.nD Cert.X0.τ).loc Cert.X0.main_arg2)
      ∧ r.2.mem ((c.tc : Thread Cert.X0.nD Cert.X0.τ).loc Cert.X0.main_arg3) = m ((c.tc : Thread Cert.X0.nD Cert.X0.τ).loc Cert.X0.main_arg3)
      ∧ r.2.mem ((c.tc : Thread Cert.X0.nD Cert.X0.τ).loc Cert.X0.main_arg4) = m ((c.tc : Thread Cert.X0.nD Cert.X0.τ).loc Cert.X0.main_arg4)
      ∧ r.2.mem ((c.tc : Thread Cert.X0.nD Cert.X0.τ).loc Cert.X0.main_arg5) = m ((c.tc : Thread Cert.X0.nD Cert.X0.τ).loc Cert.X0.main_arg5)
      ∧ r.2.mem ((c.tc : Thread Cert.X0.nD Cert.X0.τ).loc Cert.X0.main_arg6) = m ((c.tc : Thread Cert.X0.nD Cert.X0.τ).loc Cert.X0.main_arg6)
      ∧ r.2.mem ((c.tc : Thread Cert.X0.nD Cert.X0.τ).loc Cert.X0.main_arg7) = m ((c.tc : Thread Cert.X0.nD Cert.X0.τ).loc Cert.X0.main_arg7)
      ∧ r.2.mem ((c.tc : Thread Cert.X0.nD Cert.X0.τ).loc Cert.X0.main_arg8) = m ((c.tc : Thread Cert.X0.nD Cert.X0.τ).loc Cert.X0.main_arg8))
      ∧ r.2.sem = fun _ => 0)

def quiescent_X0Ideal [hX0Ideal : Cert.X0Ideal.Facts] : Prop :=
  ∀ (m : (ℓ : Loc Cert.X0Ideal.nD Cert.X0Ideal.τ Cert.X0Ideal.sig) → Buf (Elt Ideal) ℓ) (g : Dev Cert.X0Ideal.nD → PrngReg), Pre_X0Ideal m →
    θ_run (Cert.X0Ideal.defs (F := Ideal)) (onTc (τ := Cert.X0Ideal.τ) (Cert.X0Ideal.main (F := Ideal))) ⟨m, fun _ => 0, g⟩ (fun r => (∀ c : Dev Cert.X0Ideal.nD,
      r.2.mem ((c.tc : Thread Cert.X0Ideal.nD Cert.X0Ideal.τ).loc Cert.X0Ideal.main_arg0) = m ((c.tc : Thread Cert.X0Ideal.nD Cert.X0Ideal.τ).loc Cert.X0Ideal.main_arg0)
      ∧ r.2.mem ((c.tc : Thread Cert.X0Ideal.nD Cert.X0Ideal.τ).loc Cert.X0Ideal.main_arg1) = m ((c.tc : Thread Cert.X0Ideal.nD Cert.X0Ideal.τ).loc Cert.X0Ideal.main_arg1)
      ∧ r.2.mem ((c.tc : Thread Cert.X0Ideal.nD Cert.X0Ideal.τ).loc Cert.X0Ideal.main_arg2) = m ((c.tc : Thread Cert.X0Ideal.nD Cert.X0Ideal.τ).loc Cert.X0Ideal.main_arg2)
      ∧ r.2.mem ((c.tc : Thread Cert.X0Ideal.nD Cert.X0Ideal.τ).loc Cert.X0Ideal.main_arg3) = m ((c.tc : Thread Cert.X0Ideal.nD Cert.X0Ideal.τ).loc Cert.X0Ideal.main_arg3)
      ∧ r.2.mem ((c.tc : Thread Cert.X0Ideal.nD Cert.X0Ideal.τ).loc Cert.X0Ideal.main_arg4) = m ((c.tc : Thread Cert.X0Ideal.nD Cert.X0Ideal.τ).loc Cert.X0Ideal.main_arg4)
      ∧ r.2.mem ((c.tc : Thread Cert.X0Ideal.nD Cert.X0Ideal.τ).loc Cert.X0Ideal.main_arg5) = m ((c.tc : Thread Cert.X0Ideal.nD Cert.X0Ideal.τ).loc Cert.X0Ideal.main_arg5)
      ∧ r.2.mem ((c.tc : Thread Cert.X0Ideal.nD Cert.X0Ideal.τ).loc Cert.X0Ideal.main_arg6) = m ((c.tc : Thread Cert.X0Ideal.nD Cert.X0Ideal.τ).loc Cert.X0Ideal.main_arg6)
      ∧ r.2.mem ((c.tc : Thread Cert.X0Ideal.nD Cert.X0Ideal.τ).loc Cert.X0Ideal.main_arg7) = m ((c.tc : Thread Cert.X0Ideal.nD Cert.X0Ideal.τ).loc Cert.X0Ideal.main_arg7)
      ∧ r.2.mem ((c.tc : Thread Cert.X0Ideal.nD Cert.X0Ideal.τ).loc Cert.X0Ideal.main_arg8) = m ((c.tc : Thread Cert.X0Ideal.nD Cert.X0Ideal.τ).loc Cert.X0Ideal.main_arg8))
      ∧ r.2.sem = fun _ => 0)

def quiescent_X0ReferenceIdeal [hX0ReferenceIdeal : Cert.X0ReferenceIdeal.Facts] : Prop :=
  ∀ (m : (ℓ : Loc Cert.X0ReferenceIdeal.nD Cert.X0ReferenceIdeal.τ Cert.X0ReferenceIdeal.sig) → Buf (Elt Ideal) ℓ) (g : Dev Cert.X0ReferenceIdeal.nD → PrngReg), Pre_X0ReferenceIdeal m →
    θ_run (Cert.X0ReferenceIdeal.defs (F := Ideal)) (onTc (τ := Cert.X0ReferenceIdeal.τ) (Cert.X0ReferenceIdeal.main (F := Ideal))) ⟨m, fun _ => 0, g⟩ (fun r => (∀ c : Dev Cert.X0ReferenceIdeal.nD,
      r.2.mem ((c.tc : Thread Cert.X0ReferenceIdeal.nD Cert.X0ReferenceIdeal.τ).loc Cert.X0ReferenceIdeal.main_arg0) = m ((c.tc : Thread Cert.X0ReferenceIdeal.nD Cert.X0ReferenceIdeal.τ).loc Cert.X0ReferenceIdeal.main_arg0)
      ∧ r.2.mem ((c.tc : Thread Cert.X0ReferenceIdeal.nD Cert.X0ReferenceIdeal.τ).loc Cert.X0ReferenceIdeal.main_arg1) = m ((c.tc : Thread Cert.X0ReferenceIdeal.nD Cert.X0ReferenceIdeal.τ).loc Cert.X0ReferenceIdeal.main_arg1)
      ∧ r.2.mem ((c.tc : Thread Cert.X0ReferenceIdeal.nD Cert.X0ReferenceIdeal.τ).loc Cert.X0ReferenceIdeal.main_arg2) = m ((c.tc : Thread Cert.X0ReferenceIdeal.nD Cert.X0ReferenceIdeal.τ).loc Cert.X0ReferenceIdeal.main_arg2)
      ∧ r.2.mem ((c.tc : Thread Cert.X0ReferenceIdeal.nD Cert.X0ReferenceIdeal.τ).loc Cert.X0ReferenceIdeal.main_arg3) = m ((c.tc : Thread Cert.X0ReferenceIdeal.nD Cert.X0ReferenceIdeal.τ).loc Cert.X0ReferenceIdeal.main_arg3)
      ∧ r.2.mem ((c.tc : Thread Cert.X0ReferenceIdeal.nD Cert.X0ReferenceIdeal.τ).loc Cert.X0ReferenceIdeal.main_arg4) = m ((c.tc : Thread Cert.X0ReferenceIdeal.nD Cert.X0ReferenceIdeal.τ).loc Cert.X0ReferenceIdeal.main_arg4)
      ∧ r.2.mem ((c.tc : Thread Cert.X0ReferenceIdeal.nD Cert.X0ReferenceIdeal.τ).loc Cert.X0ReferenceIdeal.main_arg5) = m ((c.tc : Thread Cert.X0ReferenceIdeal.nD Cert.X0ReferenceIdeal.τ).loc Cert.X0ReferenceIdeal.main_arg5)
      ∧ r.2.mem ((c.tc : Thread Cert.X0ReferenceIdeal.nD Cert.X0ReferenceIdeal.τ).loc Cert.X0ReferenceIdeal.main_arg6) = m ((c.tc : Thread Cert.X0ReferenceIdeal.nD Cert.X0ReferenceIdeal.τ).loc Cert.X0ReferenceIdeal.main_arg6)
      ∧ r.2.mem ((c.tc : Thread Cert.X0ReferenceIdeal.nD Cert.X0ReferenceIdeal.τ).loc Cert.X0ReferenceIdeal.main_arg7) = m ((c.tc : Thread Cert.X0ReferenceIdeal.nD Cert.X0ReferenceIdeal.τ).loc Cert.X0ReferenceIdeal.main_arg7)
      ∧ r.2.mem ((c.tc : Thread Cert.X0ReferenceIdeal.nD Cert.X0ReferenceIdeal.τ).loc Cert.X0ReferenceIdeal.main_arg8) = m ((c.tc : Thread Cert.X0ReferenceIdeal.nD Cert.X0ReferenceIdeal.τ).loc Cert.X0ReferenceIdeal.main_arg8))
      ∧ r.2.sem = fun _ => 0)

def quiescent_WIn [hWIn : Cert.WIn.Facts] : Prop :=
  ∀ (m : (ℓ : Loc Cert.WIn.nD Cert.WIn.τ Cert.WIn.sig) → Buf (Elt Bits) ℓ) (g : Dev Cert.WIn.nD → PrngReg), Pre_WIn m →
    θ_run (Cert.WIn.defs (F := Bits)) (onTc (τ := Cert.WIn.τ) (Cert.WIn.main (F := Bits))) ⟨m, fun _ => 0, g⟩ (fun r => (∀ c : Dev Cert.WIn.nD,
      r.2.mem ((c.tc : Thread Cert.WIn.nD Cert.WIn.τ).loc Cert.WIn.main_arg0) = m ((c.tc : Thread Cert.WIn.nD Cert.WIn.τ).loc Cert.WIn.main_arg0)
      ∧ r.2.mem ((c.tc : Thread Cert.WIn.nD Cert.WIn.τ).loc Cert.WIn.main_arg1) = m ((c.tc : Thread Cert.WIn.nD Cert.WIn.τ).loc Cert.WIn.main_arg1)
      ∧ r.2.mem ((c.tc : Thread Cert.WIn.nD Cert.WIn.τ).loc Cert.WIn.main_arg2) = m ((c.tc : Thread Cert.WIn.nD Cert.WIn.τ).loc Cert.WIn.main_arg2)
      ∧ r.2.mem ((c.tc : Thread Cert.WIn.nD Cert.WIn.τ).loc Cert.WIn.main_arg3) = m ((c.tc : Thread Cert.WIn.nD Cert.WIn.τ).loc Cert.WIn.main_arg3)
      ∧ r.2.mem ((c.tc : Thread Cert.WIn.nD Cert.WIn.τ).loc Cert.WIn.main_arg4) = m ((c.tc : Thread Cert.WIn.nD Cert.WIn.τ).loc Cert.WIn.main_arg4)
      ∧ r.2.mem ((c.tc : Thread Cert.WIn.nD Cert.WIn.τ).loc Cert.WIn.main_arg5) = m ((c.tc : Thread Cert.WIn.nD Cert.WIn.τ).loc Cert.WIn.main_arg5)
      ∧ r.2.mem ((c.tc : Thread Cert.WIn.nD Cert.WIn.τ).loc Cert.WIn.main_arg6) = m ((c.tc : Thread Cert.WIn.nD Cert.WIn.τ).loc Cert.WIn.main_arg6)
      ∧ r.2.mem ((c.tc : Thread Cert.WIn.nD Cert.WIn.τ).loc Cert.WIn.main_arg7) = m ((c.tc : Thread Cert.WIn.nD Cert.WIn.τ).loc Cert.WIn.main_arg7))
      ∧ r.2.sem = fun _ => 0)

def quiescent_WInIdeal [hWInIdeal : Cert.WInIdeal.Facts] : Prop :=
  ∀ (m : (ℓ : Loc Cert.WInIdeal.nD Cert.WInIdeal.τ Cert.WInIdeal.sig) → Buf (Elt Ideal) ℓ) (g : Dev Cert.WInIdeal.nD → PrngReg), Pre_WInIdeal m →
    θ_run (Cert.WInIdeal.defs (F := Ideal)) (onTc (τ := Cert.WInIdeal.τ) (Cert.WInIdeal.main (F := Ideal))) ⟨m, fun _ => 0, g⟩ (fun r => (∀ c : Dev Cert.WInIdeal.nD,
      r.2.mem ((c.tc : Thread Cert.WInIdeal.nD Cert.WInIdeal.τ).loc Cert.WInIdeal.main_arg0) = m ((c.tc : Thread Cert.WInIdeal.nD Cert.WInIdeal.τ).loc Cert.WInIdeal.main_arg0)
      ∧ r.2.mem ((c.tc : Thread Cert.WInIdeal.nD Cert.WInIdeal.τ).loc Cert.WInIdeal.main_arg1) = m ((c.tc : Thread Cert.WInIdeal.nD Cert.WInIdeal.τ).loc Cert.WInIdeal.main_arg1)
      ∧ r.2.mem ((c.tc : Thread Cert.WInIdeal.nD Cert.WInIdeal.τ).loc Cert.WInIdeal.main_arg2) = m ((c.tc : Thread Cert.WInIdeal.nD Cert.WInIdeal.τ).loc Cert.WInIdeal.main_arg2)
      ∧ r.2.mem ((c.tc : Thread Cert.WInIdeal.nD Cert.WInIdeal.τ).loc Cert.WInIdeal.main_arg3) = m ((c.tc : Thread Cert.WInIdeal.nD Cert.WInIdeal.τ).loc Cert.WInIdeal.main_arg3)
      ∧ r.2.mem ((c.tc : Thread Cert.WInIdeal.nD Cert.WInIdeal.τ).loc Cert.WInIdeal.main_arg4) = m ((c.tc : Thread Cert.WInIdeal.nD Cert.WInIdeal.τ).loc Cert.WInIdeal.main_arg4)
      ∧ r.2.mem ((c.tc : Thread Cert.WInIdeal.nD Cert.WInIdeal.τ).loc Cert.WInIdeal.main_arg5) = m ((c.tc : Thread Cert.WInIdeal.nD Cert.WInIdeal.τ).loc Cert.WInIdeal.main_arg5)
      ∧ r.2.mem ((c.tc : Thread Cert.WInIdeal.nD Cert.WInIdeal.τ).loc Cert.WInIdeal.main_arg6) = m ((c.tc : Thread Cert.WInIdeal.nD Cert.WInIdeal.τ).loc Cert.WInIdeal.main_arg6)
      ∧ r.2.mem ((c.tc : Thread Cert.WInIdeal.nD Cert.WInIdeal.τ).loc Cert.WInIdeal.main_arg7) = m ((c.tc : Thread Cert.WInIdeal.nD Cert.WInIdeal.τ).loc Cert.WInIdeal.main_arg7))
      ∧ r.2.sem = fun _ => 0)

def quiescent_WInReferenceIdeal [hWInReferenceIdeal : Cert.WInReferenceIdeal.Facts] : Prop :=
  ∀ (m : (ℓ : Loc Cert.WInReferenceIdeal.nD Cert.WInReferenceIdeal.τ Cert.WInReferenceIdeal.sig) → Buf (Elt Ideal) ℓ) (g : Dev Cert.WInReferenceIdeal.nD → PrngReg), Pre_WInReferenceIdeal m →
    θ_run (Cert.WInReferenceIdeal.defs (F := Ideal)) (onTc (τ := Cert.WInReferenceIdeal.τ) (Cert.WInReferenceIdeal.main (F := Ideal))) ⟨m, fun _ => 0, g⟩ (fun r => (∀ c : Dev Cert.WInReferenceIdeal.nD,
      r.2.mem ((c.tc : Thread Cert.WInReferenceIdeal.nD Cert.WInReferenceIdeal.τ).loc Cert.WInReferenceIdeal.main_arg0) = m ((c.tc : Thread Cert.WInReferenceIdeal.nD Cert.WInReferenceIdeal.τ).loc Cert.WInReferenceIdeal.main_arg0)
      ∧ r.2.mem ((c.tc : Thread Cert.WInReferenceIdeal.nD Cert.WInReferenceIdeal.τ).loc Cert.WInReferenceIdeal.main_arg1) = m ((c.tc : Thread Cert.WInReferenceIdeal.nD Cert.WInReferenceIdeal.τ).loc Cert.WInReferenceIdeal.main_arg1)
      ∧ r.2.mem ((c.tc : Thread Cert.WInReferenceIdeal.nD Cert.WInReferenceIdeal.τ).loc Cert.WInReferenceIdeal.main_arg2) = m ((c.tc : Thread Cert.WInReferenceIdeal.nD Cert.WInReferenceIdeal.τ).loc Cert.WInReferenceIdeal.main_arg2)
      ∧ r.2.mem ((c.tc : Thread Cert.WInReferenceIdeal.nD Cert.WInReferenceIdeal.τ).loc Cert.WInReferenceIdeal.main_arg3) = m ((c.tc : Thread Cert.WInReferenceIdeal.nD Cert.WInReferenceIdeal.τ).loc Cert.WInReferenceIdeal.main_arg3)
      ∧ r.2.mem ((c.tc : Thread Cert.WInReferenceIdeal.nD Cert.WInReferenceIdeal.τ).loc Cert.WInReferenceIdeal.main_arg4) = m ((c.tc : Thread Cert.WInReferenceIdeal.nD Cert.WInReferenceIdeal.τ).loc Cert.WInReferenceIdeal.main_arg4)
      ∧ r.2.mem ((c.tc : Thread Cert.WInReferenceIdeal.nD Cert.WInReferenceIdeal.τ).loc Cert.WInReferenceIdeal.main_arg5) = m ((c.tc : Thread Cert.WInReferenceIdeal.nD Cert.WInReferenceIdeal.τ).loc Cert.WInReferenceIdeal.main_arg5)
      ∧ r.2.mem ((c.tc : Thread Cert.WInReferenceIdeal.nD Cert.WInReferenceIdeal.τ).loc Cert.WInReferenceIdeal.main_arg6) = m ((c.tc : Thread Cert.WInReferenceIdeal.nD Cert.WInReferenceIdeal.τ).loc Cert.WInReferenceIdeal.main_arg6)
      ∧ r.2.mem ((c.tc : Thread Cert.WInReferenceIdeal.nD Cert.WInReferenceIdeal.τ).loc Cert.WInReferenceIdeal.main_arg7) = m ((c.tc : Thread Cert.WInReferenceIdeal.nD Cert.WInReferenceIdeal.τ).loc Cert.WInReferenceIdeal.main_arg7))
      ∧ r.2.sem = fun _ => 0)

def quiescent_WOut [hWOut : Cert.WOut.Facts] : Prop :=
  ∀ (m : (ℓ : Loc Cert.WOut.nD Cert.WOut.τ Cert.WOut.sig) → Buf (Elt Bits) ℓ) (g : Dev Cert.WOut.nD → PrngReg), Pre_WOut m →
    θ_run (Cert.WOut.defs (F := Bits)) (onTc (τ := Cert.WOut.τ) (Cert.WOut.main (F := Bits))) ⟨m, fun _ => 0, g⟩ (fun r => (∀ c : Dev Cert.WOut.nD,
      r.2.mem ((c.tc : Thread Cert.WOut.nD Cert.WOut.τ).loc Cert.WOut.main_arg0) = m ((c.tc : Thread Cert.WOut.nD Cert.WOut.τ).loc Cert.WOut.main_arg0)
      ∧ r.2.mem ((c.tc : Thread Cert.WOut.nD Cert.WOut.τ).loc Cert.WOut.main_arg1) = m ((c.tc : Thread Cert.WOut.nD Cert.WOut.τ).loc Cert.WOut.main_arg1)
      ∧ r.2.mem ((c.tc : Thread Cert.WOut.nD Cert.WOut.τ).loc Cert.WOut.main_arg2) = m ((c.tc : Thread Cert.WOut.nD Cert.WOut.τ).loc Cert.WOut.main_arg2)
      ∧ r.2.mem ((c.tc : Thread Cert.WOut.nD Cert.WOut.τ).loc Cert.WOut.main_arg3) = m ((c.tc : Thread Cert.WOut.nD Cert.WOut.τ).loc Cert.WOut.main_arg3))
      ∧ r.2.sem = fun _ => 0)

def quiescent_WOutIdeal [hWOutIdeal : Cert.WOutIdeal.Facts] : Prop :=
  ∀ (m : (ℓ : Loc Cert.WOutIdeal.nD Cert.WOutIdeal.τ Cert.WOutIdeal.sig) → Buf (Elt Ideal) ℓ) (g : Dev Cert.WOutIdeal.nD → PrngReg), Pre_WOutIdeal m →
    θ_run (Cert.WOutIdeal.defs (F := Ideal)) (onTc (τ := Cert.WOutIdeal.τ) (Cert.WOutIdeal.main (F := Ideal))) ⟨m, fun _ => 0, g⟩ (fun r => (∀ c : Dev Cert.WOutIdeal.nD,
      r.2.mem ((c.tc : Thread Cert.WOutIdeal.nD Cert.WOutIdeal.τ).loc Cert.WOutIdeal.main_arg0) = m ((c.tc : Thread Cert.WOutIdeal.nD Cert.WOutIdeal.τ).loc Cert.WOutIdeal.main_arg0)
      ∧ r.2.mem ((c.tc : Thread Cert.WOutIdeal.nD Cert.WOutIdeal.τ).loc Cert.WOutIdeal.main_arg1) = m ((c.tc : Thread Cert.WOutIdeal.nD Cert.WOutIdeal.τ).loc Cert.WOutIdeal.main_arg1)
      ∧ r.2.mem ((c.tc : Thread Cert.WOutIdeal.nD Cert.WOutIdeal.τ).loc Cert.WOutIdeal.main_arg2) = m ((c.tc : Thread Cert.WOutIdeal.nD Cert.WOutIdeal.τ).loc Cert.WOutIdeal.main_arg2)
      ∧ r.2.mem ((c.tc : Thread Cert.WOutIdeal.nD Cert.WOutIdeal.τ).loc Cert.WOutIdeal.main_arg3) = m ((c.tc : Thread Cert.WOutIdeal.nD Cert.WOutIdeal.τ).loc Cert.WOutIdeal.main_arg3))
      ∧ r.2.sem = fun _ => 0)

def quiescent_WOutReferenceIdeal [hWOutReferenceIdeal : Cert.WOutReferenceIdeal.Facts] : Prop :=
  ∀ (m : (ℓ : Loc Cert.WOutReferenceIdeal.nD Cert.WOutReferenceIdeal.τ Cert.WOutReferenceIdeal.sig) → Buf (Elt Ideal) ℓ) (g : Dev Cert.WOutReferenceIdeal.nD → PrngReg), Pre_WOutReferenceIdeal m →
    θ_run (Cert.WOutReferenceIdeal.defs (F := Ideal)) (onTc (τ := Cert.WOutReferenceIdeal.τ) (Cert.WOutReferenceIdeal.main (F := Ideal))) ⟨m, fun _ => 0, g⟩ (fun r => (∀ c : Dev Cert.WOutReferenceIdeal.nD,
      r.2.mem ((c.tc : Thread Cert.WOutReferenceIdeal.nD Cert.WOutReferenceIdeal.τ).loc Cert.WOutReferenceIdeal.main_arg0) = m ((c.tc : Thread Cert.WOutReferenceIdeal.nD Cert.WOutReferenceIdeal.τ).loc Cert.WOutReferenceIdeal.main_arg0)
      ∧ r.2.mem ((c.tc : Thread Cert.WOutReferenceIdeal.nD Cert.WOutReferenceIdeal.τ).loc Cert.WOutReferenceIdeal.main_arg1) = m ((c.tc : Thread Cert.WOutReferenceIdeal.nD Cert.WOutReferenceIdeal.τ).loc Cert.WOutReferenceIdeal.main_arg1)
      ∧ r.2.mem ((c.tc : Thread Cert.WOutReferenceIdeal.nD Cert.WOutReferenceIdeal.τ).loc Cert.WOutReferenceIdeal.main_arg2) = m ((c.tc : Thread Cert.WOutReferenceIdeal.nD Cert.WOutReferenceIdeal.τ).loc Cert.WOutReferenceIdeal.main_arg2)
      ∧ r.2.mem ((c.tc : Thread Cert.WOutReferenceIdeal.nD Cert.WOutReferenceIdeal.τ).loc Cert.WOutReferenceIdeal.main_arg3) = m ((c.tc : Thread Cert.WOutReferenceIdeal.nD Cert.WOutReferenceIdeal.τ).loc Cert.WOutReferenceIdeal.main_arg3))
      ∧ r.2.sem = fun _ => 0)

def quiescent_LossLn3 [hLossLn3 : Cert.LossLn3.Facts] : Prop :=
  ∀ (m : (ℓ : Loc Cert.LossLn3.nD Cert.LossLn3.τ Cert.LossLn3.sig) → Buf (Elt Bits) ℓ) (g : Dev Cert.LossLn3.nD → PrngReg), Pre_LossLn3 m →
    θ_run (Cert.LossLn3.defs (F := Bits)) (onTc (τ := Cert.LossLn3.τ) (Cert.LossLn3.main (F := Bits))) ⟨m, fun _ => 0, g⟩ (fun r => (∀ c : Dev Cert.LossLn3.nD,
      r.2.mem ((c.tc : Thread Cert.LossLn3.nD Cert.LossLn3.τ).loc Cert.LossLn3.main_arg0) = m ((c.tc : Thread Cert.LossLn3.nD Cert.LossLn3.τ).loc Cert.LossLn3.main_arg0)
      ∧ r.2.mem ((c.tc : Thread Cert.LossLn3.nD Cert.LossLn3.τ).loc Cert.LossLn3.main_arg1) = m ((c.tc : Thread Cert.LossLn3.nD Cert.LossLn3.τ).loc Cert.LossLn3.main_arg1)
      ∧ r.2.mem ((c.tc : Thread Cert.LossLn3.nD Cert.LossLn3.τ).loc Cert.LossLn3.main_arg2) = m ((c.tc : Thread Cert.LossLn3.nD Cert.LossLn3.τ).loc Cert.LossLn3.main_arg2)
      ∧ r.2.mem ((c.tc : Thread Cert.LossLn3.nD Cert.LossLn3.τ).loc Cert.LossLn3.main_arg3) = m ((c.tc : Thread Cert.LossLn3.nD Cert.LossLn3.τ).loc Cert.LossLn3.main_arg3))
      ∧ r.2.sem = fun _ => 0)

def quiescent_LossLn3Ideal [hLossLn3Ideal : Cert.LossLn3Ideal.Facts] : Prop :=
  ∀ (m : (ℓ : Loc Cert.LossLn3Ideal.nD Cert.LossLn3Ideal.τ Cert.LossLn3Ideal.sig) → Buf (Elt Ideal) ℓ) (g : Dev Cert.LossLn3Ideal.nD → PrngReg), Pre_LossLn3Ideal m →
    θ_run (Cert.LossLn3Ideal.defs (F := Ideal)) (onTc (τ := Cert.LossLn3Ideal.τ) (Cert.LossLn3Ideal.main (F := Ideal))) ⟨m, fun _ => 0, g⟩ (fun r => (∀ c : Dev Cert.LossLn3Ideal.nD,
      r.2.mem ((c.tc : Thread Cert.LossLn3Ideal.nD Cert.LossLn3Ideal.τ).loc Cert.LossLn3Ideal.main_arg0) = m ((c.tc : Thread Cert.LossLn3Ideal.nD Cert.LossLn3Ideal.τ).loc Cert.LossLn3Ideal.main_arg0)
      ∧ r.2.mem ((c.tc : Thread Cert.LossLn3Ideal.nD Cert.LossLn3Ideal.τ).loc Cert.LossLn3Ideal.main_arg1) = m ((c.tc : Thread Cert.LossLn3Ideal.nD Cert.LossLn3Ideal.τ).loc Cert.LossLn3Ideal.main_arg1)
      ∧ r.2.mem ((c.tc : Thread Cert.LossLn3Ideal.nD Cert.LossLn3Ideal.τ).loc Cert.LossLn3Ideal.main_arg2) = m ((c.tc : Thread Cert.LossLn3Ideal.nD Cert.LossLn3Ideal.τ).loc Cert.LossLn3Ideal.main_arg2)
      ∧ r.2.mem ((c.tc : Thread Cert.LossLn3Ideal.nD Cert.LossLn3Ideal.τ).loc Cert.LossLn3Ideal.main_arg3) = m ((c.tc : Thread Cert.LossLn3Ideal.nD Cert.LossLn3Ideal.τ).loc Cert.LossLn3Ideal.main_arg3))
      ∧ r.2.sem = fun _ => 0)

def quiescent_LossLn3Ideal_pre_finite_loss_ln3 [hLossLn3Ideal : Cert.LossLn3Ideal.Facts] [hPre_finite_loss_ln3 : Cert.Pre_finite_loss_ln3.Facts] : Prop :=
  ∀ (m : (ℓ : Loc Cert.LossLn3Ideal.nD Cert.LossLn3Ideal.τ Cert.LossLn3Ideal.sig) → Buf (Elt Ideal) ℓ) (g : Dev Cert.LossLn3Ideal.nD → PrngReg), Pre_LossLn3Ideal_finite_loss_ln3 m →
    θ_run (Cert.LossLn3Ideal.defs (F := Ideal)) (onTc (τ := Cert.LossLn3Ideal.τ) (Cert.LossLn3Ideal.main (F := Ideal))) ⟨m, fun _ => 0, g⟩ (fun r => (∀ c : Dev Cert.LossLn3Ideal.nD,
      r.2.mem ((c.tc : Thread Cert.LossLn3Ideal.nD Cert.LossLn3Ideal.τ).loc Cert.LossLn3Ideal.main_arg0) = m ((c.tc : Thread Cert.LossLn3Ideal.nD Cert.LossLn3Ideal.τ).loc Cert.LossLn3Ideal.main_arg0)
      ∧ r.2.mem ((c.tc : Thread Cert.LossLn3Ideal.nD Cert.LossLn3Ideal.τ).loc Cert.LossLn3Ideal.main_arg1) = m ((c.tc : Thread Cert.LossLn3Ideal.nD Cert.LossLn3Ideal.τ).loc Cert.LossLn3Ideal.main_arg1)
      ∧ r.2.mem ((c.tc : Thread Cert.LossLn3Ideal.nD Cert.LossLn3Ideal.τ).loc Cert.LossLn3Ideal.main_arg2) = m ((c.tc : Thread Cert.LossLn3Ideal.nD Cert.LossLn3Ideal.τ).loc Cert.LossLn3Ideal.main_arg2)
      ∧ r.2.mem ((c.tc : Thread Cert.LossLn3Ideal.nD Cert.LossLn3Ideal.τ).loc Cert.LossLn3Ideal.main_arg3) = m ((c.tc : Thread Cert.LossLn3Ideal.nD Cert.LossLn3Ideal.τ).loc Cert.LossLn3Ideal.main_arg3))
      ∧ r.2.sem = fun _ => 0)

def quiescent_LossLn3ReferenceIdeal [hLossLn3ReferenceIdeal : Cert.LossLn3ReferenceIdeal.Facts] : Prop :=
  ∀ (m : (ℓ : Loc Cert.LossLn3ReferenceIdeal.nD Cert.LossLn3ReferenceIdeal.τ Cert.LossLn3ReferenceIdeal.sig) → Buf (Elt Ideal) ℓ) (g : Dev Cert.LossLn3ReferenceIdeal.nD → PrngReg), Pre_LossLn3ReferenceIdeal m →
    θ_run (Cert.LossLn3ReferenceIdeal.defs (F := Ideal)) (onTc (τ := Cert.LossLn3ReferenceIdeal.τ) (Cert.LossLn3ReferenceIdeal.main (F := Ideal))) ⟨m, fun _ => 0, g⟩ (fun r => (∀ c : Dev Cert.LossLn3ReferenceIdeal.nD,
      r.2.mem ((c.tc : Thread Cert.LossLn3ReferenceIdeal.nD Cert.LossLn3ReferenceIdeal.τ).loc Cert.LossLn3ReferenceIdeal.main_arg0) = m ((c.tc : Thread Cert.LossLn3ReferenceIdeal.nD Cert.LossLn3ReferenceIdeal.τ).loc Cert.LossLn3ReferenceIdeal.main_arg0)
      ∧ r.2.mem ((c.tc : Thread Cert.LossLn3ReferenceIdeal.nD Cert.LossLn3ReferenceIdeal.τ).loc Cert.LossLn3ReferenceIdeal.main_arg1) = m ((c.tc : Thread Cert.LossLn3ReferenceIdeal.nD Cert.LossLn3ReferenceIdeal.τ).loc Cert.LossLn3ReferenceIdeal.main_arg1)
      ∧ r.2.mem ((c.tc : Thread Cert.LossLn3ReferenceIdeal.nD Cert.LossLn3ReferenceIdeal.τ).loc Cert.LossLn3ReferenceIdeal.main_arg2) = m ((c.tc : Thread Cert.LossLn3ReferenceIdeal.nD Cert.LossLn3ReferenceIdeal.τ).loc Cert.LossLn3ReferenceIdeal.main_arg2)
      ∧ r.2.mem ((c.tc : Thread Cert.LossLn3ReferenceIdeal.nD Cert.LossLn3ReferenceIdeal.τ).loc Cert.LossLn3ReferenceIdeal.main_arg3) = m ((c.tc : Thread Cert.LossLn3ReferenceIdeal.nD Cert.LossLn3ReferenceIdeal.τ).loc Cert.LossLn3ReferenceIdeal.main_arg3))
      ∧ r.2.sem = fun _ => 0)

def quiescent_LossLn3ReferenceIdeal_pre_finite_loss_ln3 [hLossLn3ReferenceIdeal : Cert.LossLn3ReferenceIdeal.Facts] [hPre_finite_loss_ln3 : Cert.Pre_finite_loss_ln3.Facts] : Prop :=
  ∀ (m : (ℓ : Loc Cert.LossLn3ReferenceIdeal.nD Cert.LossLn3ReferenceIdeal.τ Cert.LossLn3ReferenceIdeal.sig) → Buf (Elt Ideal) ℓ) (g : Dev Cert.LossLn3ReferenceIdeal.nD → PrngReg), Pre_LossLn3ReferenceIdeal_finite_loss_ln3 m →
    θ_run (Cert.LossLn3ReferenceIdeal.defs (F := Ideal)) (onTc (τ := Cert.LossLn3ReferenceIdeal.τ) (Cert.LossLn3ReferenceIdeal.main (F := Ideal))) ⟨m, fun _ => 0, g⟩ (fun r => (∀ c : Dev Cert.LossLn3ReferenceIdeal.nD,
      r.2.mem ((c.tc : Thread Cert.LossLn3ReferenceIdeal.nD Cert.LossLn3ReferenceIdeal.τ).loc Cert.LossLn3ReferenceIdeal.main_arg0) = m ((c.tc : Thread Cert.LossLn3ReferenceIdeal.nD Cert.LossLn3ReferenceIdeal.τ).loc Cert.LossLn3ReferenceIdeal.main_arg0)
      ∧ r.2.mem ((c.tc : Thread Cert.LossLn3ReferenceIdeal.nD Cert.LossLn3ReferenceIdeal.τ).loc Cert.LossLn3ReferenceIdeal.main_arg1) = m ((c.tc : Thread Cert.LossLn3ReferenceIdeal.nD Cert.LossLn3ReferenceIdeal.τ).loc Cert.LossLn3ReferenceIdeal.main_arg1)
      ∧ r.2.mem ((c.tc : Thread Cert.LossLn3ReferenceIdeal.nD Cert.LossLn3ReferenceIdeal.τ).loc Cert.LossLn3ReferenceIdeal.main_arg2) = m ((c.tc : Thread Cert.LossLn3ReferenceIdeal.nD Cert.LossLn3ReferenceIdeal.τ).loc Cert.LossLn3ReferenceIdeal.main_arg2)
      ∧ r.2.mem ((c.tc : Thread Cert.LossLn3ReferenceIdeal.nD Cert.LossLn3ReferenceIdeal.τ).loc Cert.LossLn3ReferenceIdeal.main_arg3) = m ((c.tc : Thread Cert.LossLn3ReferenceIdeal.nD Cert.LossLn3ReferenceIdeal.τ).loc Cert.LossLn3ReferenceIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1))
      ∧ r.2.sem = fun _ => 0)

def quiescent_QProj [hQProj : Cert.QProj.Facts] : Prop :=
  ∀ (m : (ℓ : Loc Cert.QProj.nD Cert.QProj.τ Cert.QProj.sig) → Buf (Elt Bits) ℓ) (g : Dev Cert.QProj.nD → PrngReg), Pre_QProj m →
    θ_run (Cert.QProj.defs (F := Bits)) (onTc (τ := Cert.QProj.τ) (Cert.QProj.main (F := Bits))) ⟨m, fun _ => 0, g⟩ (fun r => (∀ c : Dev Cert.QProj.nD,
      r.2.mem ((c.tc : Thread Cert.QProj.nD Cert.QProj.τ).loc Cert.QProj.main_arg0) = m ((c.tc : Thread Cert.QProj.nD Cert.QProj.τ).loc Cert.QProj.main_arg0)
      ∧ r.2.mem ((c.tc : Thread Cert.QProj.nD Cert.QProj.τ).loc Cert.QProj.main_arg1) = m ((c.tc : Thread Cert.QProj.nD Cert.QProj.τ).loc Cert.QProj.main_arg1))
      ∧ r.2.sem = fun _ => 0)

def quiescent_QProjIdeal [hQProjIdeal : Cert.QProjIdeal.Facts] : Prop :=
  ∀ (m : (ℓ : Loc Cert.QProjIdeal.nD Cert.QProjIdeal.τ Cert.QProjIdeal.sig) → Buf (Elt Ideal) ℓ) (g : Dev Cert.QProjIdeal.nD → PrngReg), Pre_QProjIdeal m →
    θ_run (Cert.QProjIdeal.defs (F := Ideal)) (onTc (τ := Cert.QProjIdeal.τ) (Cert.QProjIdeal.main (F := Ideal))) ⟨m, fun _ => 0, g⟩ (fun r => (∀ c : Dev Cert.QProjIdeal.nD,
      r.2.mem ((c.tc : Thread Cert.QProjIdeal.nD Cert.QProjIdeal.τ).loc Cert.QProjIdeal.main_arg0) = m ((c.tc : Thread Cert.QProjIdeal.nD Cert.QProjIdeal.τ).loc Cert.QProjIdeal.main_arg0)
      ∧ r.2.mem ((c.tc : Thread Cert.QProjIdeal.nD Cert.QProjIdeal.τ).loc Cert.QProjIdeal.main_arg1) = m ((c.tc : Thread Cert.QProjIdeal.nD Cert.QProjIdeal.τ).loc Cert.QProjIdeal.main_arg1))
      ∧ r.2.sem = fun _ => 0)

def quiescent_QProjReferenceIdeal [hQProjReferenceIdeal : Cert.QProjReferenceIdeal.Facts] : Prop :=
  ∀ (m : (ℓ : Loc Cert.QProjReferenceIdeal.nD Cert.QProjReferenceIdeal.τ Cert.QProjReferenceIdeal.sig) → Buf (Elt Ideal) ℓ) (g : Dev Cert.QProjReferenceIdeal.nD → PrngReg), Pre_QProjReferenceIdeal m →
    θ_run (Cert.QProjReferenceIdeal.defs (F := Ideal)) (onTc (τ := Cert.QProjReferenceIdeal.τ) (Cert.QProjReferenceIdeal.main (F := Ideal))) ⟨m, fun _ => 0, g⟩ (fun r => (∀ c : Dev Cert.QProjReferenceIdeal.nD,
      r.2.mem ((c.tc : Thread Cert.QProjReferenceIdeal.nD Cert.QProjReferenceIdeal.τ).loc Cert.QProjReferenceIdeal.main_arg0) = m ((c.tc : Thread Cert.QProjReferenceIdeal.nD Cert.QProjReferenceIdeal.τ).loc Cert.QProjReferenceIdeal.main_arg0)
      ∧ r.2.mem ((c.tc : Thread Cert.QProjReferenceIdeal.nD Cert.QProjReferenceIdeal.τ).loc Cert.QProjReferenceIdeal.main_arg1) = m ((c.tc : Thread Cert.QProjReferenceIdeal.nD Cert.QProjReferenceIdeal.τ).loc Cert.QProjReferenceIdeal.main_arg1))
      ∧ r.2.sem = fun _ => 0)

def quiescent_KvProj [hKvProj : Cert.KvProj.Facts] : Prop :=
  ∀ (m : (ℓ : Loc Cert.KvProj.nD Cert.KvProj.τ Cert.KvProj.sig) → Buf (Elt Bits) ℓ) (g : Dev Cert.KvProj.nD → PrngReg), Pre_KvProj m →
    θ_run (Cert.KvProj.defs (F := Bits)) (onTc (τ := Cert.KvProj.τ) (Cert.KvProj.main (F := Bits))) ⟨m, fun _ => 0, g⟩ (fun r => (∀ c : Dev Cert.KvProj.nD,
      r.2.mem ((c.tc : Thread Cert.KvProj.nD Cert.KvProj.τ).loc Cert.KvProj.main_arg0) = m ((c.tc : Thread Cert.KvProj.nD Cert.KvProj.τ).loc Cert.KvProj.main_arg0)
      ∧ r.2.mem ((c.tc : Thread Cert.KvProj.nD Cert.KvProj.τ).loc Cert.KvProj.main_arg1) = m ((c.tc : Thread Cert.KvProj.nD Cert.KvProj.τ).loc Cert.KvProj.main_arg1))
      ∧ r.2.sem = fun _ => 0)

def quiescent_KvProjIdeal [hKvProjIdeal : Cert.KvProjIdeal.Facts] : Prop :=
  ∀ (m : (ℓ : Loc Cert.KvProjIdeal.nD Cert.KvProjIdeal.τ Cert.KvProjIdeal.sig) → Buf (Elt Ideal) ℓ) (g : Dev Cert.KvProjIdeal.nD → PrngReg), Pre_KvProjIdeal m →
    θ_run (Cert.KvProjIdeal.defs (F := Ideal)) (onTc (τ := Cert.KvProjIdeal.τ) (Cert.KvProjIdeal.main (F := Ideal))) ⟨m, fun _ => 0, g⟩ (fun r => (∀ c : Dev Cert.KvProjIdeal.nD,
      r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
      ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1))
      ∧ r.2.sem = fun _ => 0)

def quiescent_KvProjReferenceIdeal [hKvProjReferenceIdeal : Cert.KvProjReferenceIdeal.Facts] : Prop :=
  ∀ (m : (ℓ : Loc Cert.KvProjReferenceIdeal.nD Cert.KvProjReferenceIdeal.τ Cert.KvProjReferenceIdeal.sig) → Buf (Elt Ideal) ℓ) (g : Dev Cert.KvProjReferenceIdeal.nD → PrngReg), Pre_KvProjReferenceIdeal m →
    θ_run (Cert.KvProjReferenceIdeal.defs (F := Ideal)) (onTc (τ := Cert.KvProjReferenceIdeal.τ) (Cert.KvProjReferenceIdeal.main (F := Ideal))) ⟨m, fun _ => 0, g⟩ (fun r => (∀ c : Dev Cert.KvProjReferenceIdeal.nD,
      r.2.mem ((c.tc : Thread Cert.KvProjReferenceIdeal.nD Cert.KvProjReferenceIdeal.τ).loc Cert.KvProjReferenceIdeal.main_arg0) = m ((c.tc : Thread Cert.KvProjReferenceIdeal.nD Cert.KvProjReferenceIdeal.τ).loc Cert.KvProjReferenceIdeal.main_arg0)
      ∧ r.2.mem ((c.tc : Thread Cert.KvProjReferenceIdeal.nD Cert.KvProjReferenceIdeal.τ).loc Cert.KvProjReferenceIdeal.main_arg1) = m ((c.tc : Thread Cert.KvProjReferenceIdeal.nD Cert.KvProjReferenceIdeal.τ).loc Cert.KvProjReferenceIdeal.main_arg1))
      ∧ r.2.sem = fun _ => 0)

def quiescent_Ff1 [hFf1 : Cert.Ff1.Facts] : Prop :=
  ∀ (m : (ℓ : Loc Cert.Ff1.nD Cert.Ff1.τ Cert.Ff1.sig) → Buf (Elt Bits) ℓ) (g : Dev Cert.Ff1.nD → PrngReg), Pre_Ff1 m →
    θ_run (Cert.Ff1.defs (F := Bits)) (onTc (τ := Cert.Ff1.τ) (Cert.Ff1.main (F := Bits))) ⟨m, fun _ => 0, g⟩ (fun r => (∀ c : Dev Cert.Ff1.nD,
      r.2.mem ((c.tc : Thread Cert.Ff1.nD Cert.Ff1.τ).loc Cert.Ff1.main_arg0) = m ((c.tc : Thread Cert.Ff1.nD Cert.Ff1.τ).loc Cert.Ff1.main_arg0)
      ∧ r.2.mem ((c.tc : Thread Cert.Ff1.nD Cert.Ff1.τ).loc Cert.Ff1.main_arg1) = m ((c.tc : Thread Cert.Ff1.nD Cert.Ff1.τ).loc Cert.Ff1.main_arg1))
      ∧ r.2.sem = fun _ => 0)

def quiescent_Ff1Ideal [hFf1Ideal : Cert.Ff1Ideal.Facts] : Prop :=
  ∀ (m : (ℓ : Loc Cert.Ff1Ideal.nD Cert.Ff1Ideal.τ Cert.Ff1Ideal.sig) → Buf (Elt Ideal) ℓ) (g : Dev Cert.Ff1Ideal.nD → PrngReg), Pre_Ff1Ideal m →
    θ_run (Cert.Ff1Ideal.defs (F := Ideal)) (onTc (τ := Cert.Ff1Ideal.τ) (Cert.Ff1Ideal.main (F := Ideal))) ⟨m, fun _ => 0, g⟩ (fun r => (∀ c : Dev Cert.Ff1Ideal.nD,
      r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
      ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1))
      ∧ r.2.sem = fun _ => 0)

def quiescent_Ff1ReferenceIdeal [hFf1ReferenceIdeal : Cert.Ff1ReferenceIdeal.Facts] : Prop :=
  ∀ (m : (ℓ : Loc Cert.Ff1ReferenceIdeal.nD Cert.Ff1ReferenceIdeal.τ Cert.Ff1ReferenceIdeal.sig) → Buf (Elt Ideal) ℓ) (g : Dev Cert.Ff1ReferenceIdeal.nD → PrngReg), Pre_Ff1ReferenceIdeal m →
    θ_run (Cert.Ff1ReferenceIdeal.defs (F := Ideal)) (onTc (τ := Cert.Ff1ReferenceIdeal.τ) (Cert.Ff1ReferenceIdeal.main (F := Ideal))) ⟨m, fun _ => 0, g⟩ (fun r => (∀ c : Dev Cert.Ff1ReferenceIdeal.nD,
      r.2.mem ((c.tc : Thread Cert.Ff1ReferenceIdeal.nD Cert.Ff1ReferenceIdeal.τ).loc Cert.Ff1ReferenceIdeal.main_arg0) = m ((c.tc : Thread Cert.Ff1ReferenceIdeal.nD Cert.Ff1ReferenceIdeal.τ).loc Cert.Ff1ReferenceIdeal.main_arg0)
      ∧ r.2.mem ((c.tc : Thread Cert.Ff1ReferenceIdeal.nD Cert.Ff1ReferenceIdeal.τ).loc Cert.Ff1ReferenceIdeal.main_arg1) = m ((c.tc : Thread Cert.Ff1ReferenceIdeal.nD Cert.Ff1ReferenceIdeal.τ).loc Cert.Ff1ReferenceIdeal.main_arg1))
      ∧ r.2.sem = fun _ => 0)

def quiescent_OLn [hOLn : Cert.OLn.Facts] : Prop :=
  ∀ (m : (ℓ : Loc Cert.OLn.nD Cert.OLn.τ Cert.OLn.sig) → Buf (Elt Bits) ℓ) (g : Dev Cert.OLn.nD → PrngReg), Pre_OLn m →
    θ_run (Cert.OLn.defs (F := Bits)) (onTc (τ := Cert.OLn.τ) (Cert.OLn.main (F := Bits))) ⟨m, fun _ => 0, g⟩ (fun r => (∀ c : Dev Cert.OLn.nD,
      r.2.mem ((c.tc : Thread Cert.OLn.nD Cert.OLn.τ).loc Cert.OLn.main_arg0) = m ((c.tc : Thread Cert.OLn.nD Cert.OLn.τ).loc Cert.OLn.main_arg0)
      ∧ r.2.mem ((c.tc : Thread Cert.OLn.nD Cert.OLn.τ).loc Cert.OLn.main_arg1) = m ((c.tc : Thread Cert.OLn.nD Cert.OLn.τ).loc Cert.OLn.main_arg1)
      ∧ r.2.mem ((c.tc : Thread Cert.OLn.nD Cert.OLn.τ).loc Cert.OLn.main_arg2) = m ((c.tc : Thread Cert.OLn.nD Cert.OLn.τ).loc Cert.OLn.main_arg2)
      ∧ r.2.mem ((c.tc : Thread Cert.OLn.nD Cert.OLn.τ).loc Cert.OLn.main_arg3) = m ((c.tc : Thread Cert.OLn.nD Cert.OLn.τ).loc Cert.OLn.main_arg3)
      ∧ r.2.mem ((c.tc : Thread Cert.OLn.nD Cert.OLn.τ).loc Cert.OLn.main_arg4) = m ((c.tc : Thread Cert.OLn.nD Cert.OLn.τ).loc Cert.OLn.main_arg4)
      ∧ r.2.mem ((c.tc : Thread Cert.OLn.nD Cert.OLn.τ).loc Cert.OLn.main_arg5) = m ((c.tc : Thread Cert.OLn.nD Cert.OLn.τ).loc Cert.OLn.main_arg5)
      ∧ r.2.mem ((c.tc : Thread Cert.OLn.nD Cert.OLn.τ).loc Cert.OLn.main_arg6) = m ((c.tc : Thread Cert.OLn.nD Cert.OLn.τ).loc Cert.OLn.main_arg6))
      ∧ r.2.sem = fun _ => 0)

def quiescent_OLnIdeal [hOLnIdeal : Cert.OLnIdeal.Facts] : Prop :=
  ∀ (m : (ℓ : Loc Cert.OLnIdeal.nD Cert.OLnIdeal.τ Cert.OLnIdeal.sig) → Buf (Elt Ideal) ℓ) (g : Dev Cert.OLnIdeal.nD → PrngReg), Pre_OLnIdeal m →
    θ_run (Cert.OLnIdeal.defs (F := Ideal)) (onTc (τ := Cert.OLnIdeal.τ) (Cert.OLnIdeal.main (F := Ideal))) ⟨m, fun _ => 0, g⟩ (fun r => (∀ c : Dev Cert.OLnIdeal.nD,
      r.2.mem ((c.tc : Thread Cert.OLnIdeal.nD Cert.OLnIdeal.τ).loc Cert.OLnIdeal.main_arg0) = m ((c.tc : Thread Cert.OLnIdeal.nD Cert.OLnIdeal.τ).loc Cert.OLnIdeal.main_arg0)
      ∧ r.2.mem ((c.tc : Thread Cert.OLnIdeal.nD Cert.OLnIdeal.τ).loc Cert.OLnIdeal.main_arg1) = m ((c.tc : Thread Cert.OLnIdeal.nD Cert.OLnIdeal.τ).loc Cert.OLnIdeal.main_arg1)
      ∧ r.2.mem ((c.tc : Thread Cert.OLnIdeal.nD Cert.OLnIdeal.τ).loc Cert.OLnIdeal.main_arg2) = m ((c.tc : Thread Cert.OLnIdeal.nD Cert.OLnIdeal.τ).loc Cert.OLnIdeal.main_arg2)
      ∧ r.2.mem ((c.tc : Thread Cert.OLnIdeal.nD Cert.OLnIdeal.τ).loc Cert.OLnIdeal.main_arg3) = m ((c.tc : Thread Cert.OLnIdeal.nD Cert.OLnIdeal.τ).loc Cert.OLnIdeal.main_arg3)
      ∧ r.2.mem ((c.tc : Thread Cert.OLnIdeal.nD Cert.OLnIdeal.τ).loc Cert.OLnIdeal.main_arg4) = m ((c.tc : Thread Cert.OLnIdeal.nD Cert.OLnIdeal.τ).loc Cert.OLnIdeal.main_arg4)
      ∧ r.2.mem ((c.tc : Thread Cert.OLnIdeal.nD Cert.OLnIdeal.τ).loc Cert.OLnIdeal.main_arg5) = m ((c.tc : Thread Cert.OLnIdeal.nD Cert.OLnIdeal.τ).loc Cert.OLnIdeal.main_arg5)
      ∧ r.2.mem ((c.tc : Thread Cert.OLnIdeal.nD Cert.OLnIdeal.τ).loc Cert.OLnIdeal.main_arg6) = m ((c.tc : Thread Cert.OLnIdeal.nD Cert.OLnIdeal.τ).loc Cert.OLnIdeal.main_arg6))
      ∧ r.2.sem = fun _ => 0)

def quiescent_OLnReferenceIdeal [hOLnReferenceIdeal : Cert.OLnReferenceIdeal.Facts] : Prop :=
  ∀ (m : (ℓ : Loc Cert.OLnReferenceIdeal.nD Cert.OLnReferenceIdeal.τ Cert.OLnReferenceIdeal.sig) → Buf (Elt Ideal) ℓ) (g : Dev Cert.OLnReferenceIdeal.nD → PrngReg), Pre_OLnReferenceIdeal m →
    θ_run (Cert.OLnReferenceIdeal.defs (F := Ideal)) (onTc (τ := Cert.OLnReferenceIdeal.τ) (Cert.OLnReferenceIdeal.main (F := Ideal))) ⟨m, fun _ => 0, g⟩ (fun r => (∀ c : Dev Cert.OLnReferenceIdeal.nD,
      r.2.mem ((c.tc : Thread Cert.OLnReferenceIdeal.nD Cert.OLnReferenceIdeal.τ).loc Cert.OLnReferenceIdeal.main_arg0) = m ((c.tc : Thread Cert.OLnReferenceIdeal.nD Cert.OLnReferenceIdeal.τ).loc Cert.OLnReferenceIdeal.main_arg0)
      ∧ r.2.mem ((c.tc : Thread Cert.OLnReferenceIdeal.nD Cert.OLnReferenceIdeal.τ).loc Cert.OLnReferenceIdeal.main_arg1) = m ((c.tc : Thread Cert.OLnReferenceIdeal.nD Cert.OLnReferenceIdeal.τ).loc Cert.OLnReferenceIdeal.main_arg1)
      ∧ r.2.mem ((c.tc : Thread Cert.OLnReferenceIdeal.nD Cert.OLnReferenceIdeal.τ).loc Cert.OLnReferenceIdeal.main_arg2) = m ((c.tc : Thread Cert.OLnReferenceIdeal.nD Cert.OLnReferenceIdeal.τ).loc Cert.OLnReferenceIdeal.main_arg2)
      ∧ r.2.mem ((c.tc : Thread Cert.OLnReferenceIdeal.nD Cert.OLnReferenceIdeal.τ).loc Cert.OLnReferenceIdeal.main_arg3) = m ((c.tc : Thread Cert.OLnReferenceIdeal.nD Cert.OLnReferenceIdeal.τ).loc Cert.OLnReferenceIdeal.main_arg3)
      ∧ r.2.mem ((c.tc : Thread Cert.OLnReferenceIdeal.nD Cert.OLnReferenceIdeal.τ).loc Cert.OLnReferenceIdeal.main_arg4) = m ((c.tc : Thread Cert.OLnReferenceIdeal.nD Cert.OLnReferenceIdeal.τ).loc Cert.OLnReferenceIdeal.main_arg4)
      ∧ r.2.mem ((c.tc : Thread Cert.OLnReferenceIdeal.nD Cert.OLnReferenceIdeal.τ).loc Cert.OLnReferenceIdeal.main_arg5) = m ((c.tc : Thread Cert.OLnReferenceIdeal.nD Cert.OLnReferenceIdeal.τ).loc Cert.OLnReferenceIdeal.main_arg5)
      ∧ r.2.mem ((c.tc : Thread Cert.OLnReferenceIdeal.nD Cert.OLnReferenceIdeal.τ).loc Cert.OLnReferenceIdeal.main_arg6) = m ((c.tc : Thread Cert.OLnReferenceIdeal.nD Cert.OLnReferenceIdeal.τ).loc Cert.OLnReferenceIdeal.main_arg6))
      ∧ r.2.sem = fun _ => 0)

def quiescent_Ff2Ln [hFf2Ln : Cert.Ff2Ln.Facts] : Prop :=
  ∀ (m : (ℓ : Loc Cert.Ff2Ln.nD Cert.Ff2Ln.τ Cert.Ff2Ln.sig) → Buf (Elt Bits) ℓ) (g : Dev Cert.Ff2Ln.nD → PrngReg), Pre_Ff2Ln m →
    θ_run (Cert.Ff2Ln.defs (F := Bits)) (onTc (τ := Cert.Ff2Ln.τ) (Cert.Ff2Ln.main (F := Bits))) ⟨m, fun _ => 0, g⟩ (fun r => (∀ c : Dev Cert.Ff2Ln.nD,
      r.2.mem ((c.tc : Thread Cert.Ff2Ln.nD Cert.Ff2Ln.τ).loc Cert.Ff2Ln.main_arg0) = m ((c.tc : Thread Cert.Ff2Ln.nD Cert.Ff2Ln.τ).loc Cert.Ff2Ln.main_arg0)
      ∧ r.2.mem ((c.tc : Thread Cert.Ff2Ln.nD Cert.Ff2Ln.τ).loc Cert.Ff2Ln.main_arg1) = m ((c.tc : Thread Cert.Ff2Ln.nD Cert.Ff2Ln.τ).loc Cert.Ff2Ln.main_arg1)
      ∧ r.2.mem ((c.tc : Thread Cert.Ff2Ln.nD Cert.Ff2Ln.τ).loc Cert.Ff2Ln.main_arg2) = m ((c.tc : Thread Cert.Ff2Ln.nD Cert.Ff2Ln.τ).loc Cert.Ff2Ln.main_arg2)
      ∧ r.2.mem ((c.tc : Thread Cert.Ff2Ln.nD Cert.Ff2Ln.τ).loc Cert.Ff2Ln.main_arg3) = m ((c.tc : Thread Cert.Ff2Ln.nD Cert.Ff2Ln.τ).loc Cert.Ff2Ln.main_arg3)
      ∧ r.2.mem ((c.tc : Thread Cert.Ff2Ln.nD Cert.Ff2Ln.τ).loc Cert.Ff2Ln.main_arg4) = m ((c.tc : Thread Cert.Ff2Ln.nD Cert.Ff2Ln.τ).loc Cert.Ff2Ln.main_arg4)
      ∧ r.2.mem ((c.tc : Thread Cert.Ff2Ln.nD Cert.Ff2Ln.τ).loc Cert.Ff2Ln.main_arg5) = m ((c.tc : Thread Cert.Ff2Ln.nD Cert.Ff2Ln.τ).loc Cert.Ff2Ln.main_arg5)
      ∧ r.2.mem ((c.tc : Thread Cert.Ff2Ln.nD Cert.Ff2Ln.τ).loc Cert.Ff2Ln.main_arg6) = m ((c.tc : Thread Cert.Ff2Ln.nD Cert.Ff2Ln.τ).loc Cert.Ff2Ln.main_arg6))
      ∧ r.2.sem = fun _ => 0)

def quiescent_Ff2LnIdeal [hFf2LnIdeal : Cert.Ff2LnIdeal.Facts] : Prop :=
  ∀ (m : (ℓ : Loc Cert.Ff2LnIdeal.nD Cert.Ff2LnIdeal.τ Cert.Ff2LnIdeal.sig) → Buf (Elt Ideal) ℓ) (g : Dev Cert.Ff2LnIdeal.nD → PrngReg), Pre_Ff2LnIdeal m →
    θ_run (Cert.Ff2LnIdeal.defs (F := Ideal)) (onTc (τ := Cert.Ff2LnIdeal.τ) (Cert.Ff2LnIdeal.main (F := Ideal))) ⟨m, fun _ => 0, g⟩ (fun r => (∀ c : Dev Cert.Ff2LnIdeal.nD,
      r.2.mem ((c.tc : Thread Cert.Ff2LnIdeal.nD Cert.Ff2LnIdeal.τ).loc Cert.Ff2LnIdeal.main_arg0) = m ((c.tc : Thread Cert.Ff2LnIdeal.nD Cert.Ff2LnIdeal.τ).loc Cert.Ff2LnIdeal.main_arg0)
      ∧ r.2.mem ((c.tc : Thread Cert.Ff2LnIdeal.nD Cert.Ff2LnIdeal.τ).loc Cert.Ff2LnIdeal.main_arg1) = m ((c.tc : Thread Cert.Ff2LnIdeal.nD Cert.Ff2LnIdeal.τ).loc Cert.Ff2LnIdeal.main_arg1)
      ∧ r.2.mem ((c.tc : Thread Cert.Ff2LnIdeal.nD Cert.Ff2LnIdeal.τ).loc Cert.Ff2LnIdeal.main_arg2) = m ((c.tc : Thread Cert.Ff2LnIdeal.nD Cert.Ff2LnIdeal.τ).loc Cert.Ff2LnIdeal.main_arg2)
      ∧ r.2.mem ((c.tc : Thread Cert.Ff2LnIdeal.nD Cert.Ff2LnIdeal.τ).loc Cert.Ff2LnIdeal.main_arg3) = m ((c.tc : Thread Cert.Ff2LnIdeal.nD Cert.Ff2LnIdeal.τ).loc Cert.Ff2LnIdeal.main_arg3)
      ∧ r.2.mem ((c.tc : Thread Cert.Ff2LnIdeal.nD Cert.Ff2LnIdeal.τ).loc Cert.Ff2LnIdeal.main_arg4) = m ((c.tc : Thread Cert.Ff2LnIdeal.nD Cert.Ff2LnIdeal.τ).loc Cert.Ff2LnIdeal.main_arg4)
      ∧ r.2.mem ((c.tc : Thread Cert.Ff2LnIdeal.nD Cert.Ff2LnIdeal.τ).loc Cert.Ff2LnIdeal.main_arg5) = m ((c.tc : Thread Cert.Ff2LnIdeal.nD Cert.Ff2LnIdeal.τ).loc Cert.Ff2LnIdeal.main_arg5)
      ∧ r.2.mem ((c.tc : Thread Cert.Ff2LnIdeal.nD Cert.Ff2LnIdeal.τ).loc Cert.Ff2LnIdeal.main_arg6) = m ((c.tc : Thread Cert.Ff2LnIdeal.nD Cert.Ff2LnIdeal.τ).loc Cert.Ff2LnIdeal.main_arg6))
      ∧ r.2.sem = fun _ => 0)

def quiescent_Ff2LnReferenceIdeal [hFf2LnReferenceIdeal : Cert.Ff2LnReferenceIdeal.Facts] : Prop :=
  ∀ (m : (ℓ : Loc Cert.Ff2LnReferenceIdeal.nD Cert.Ff2LnReferenceIdeal.τ Cert.Ff2LnReferenceIdeal.sig) → Buf (Elt Ideal) ℓ) (g : Dev Cert.Ff2LnReferenceIdeal.nD → PrngReg), Pre_Ff2LnReferenceIdeal m →
    θ_run (Cert.Ff2LnReferenceIdeal.defs (F := Ideal)) (onTc (τ := Cert.Ff2LnReferenceIdeal.τ) (Cert.Ff2LnReferenceIdeal.main (F := Ideal))) ⟨m, fun _ => 0, g⟩ (fun r => (∀ c : Dev Cert.Ff2LnReferenceIdeal.nD,
      r.2.mem ((c.tc : Thread Cert.Ff2LnReferenceIdeal.nD Cert.Ff2LnReferenceIdeal.τ).loc Cert.Ff2LnReferenceIdeal.main_arg0) = m ((c.tc : Thread Cert.Ff2LnReferenceIdeal.nD Cert.Ff2LnReferenceIdeal.τ).loc Cert.Ff2LnReferenceIdeal.main_arg0)
      ∧ r.2.mem ((c.tc : Thread Cert.Ff2LnReferenceIdeal.nD Cert.Ff2LnReferenceIdeal.τ).loc Cert.Ff2LnReferenceIdeal.main_arg1) = m ((c.tc : Thread Cert.Ff2LnReferenceIdeal.nD Cert.Ff2LnReferenceIdeal.τ).loc Cert.Ff2LnReferenceIdeal.main_arg1)
      ∧ r.2.mem ((c.tc : Thread Cert.Ff2LnReferenceIdeal.nD Cert.Ff2LnReferenceIdeal.τ).loc Cert.Ff2LnReferenceIdeal.main_arg2) = m ((c.tc : Thread Cert.Ff2LnReferenceIdeal.nD Cert.Ff2LnReferenceIdeal.τ).loc Cert.Ff2LnReferenceIdeal.main_arg2)
      ∧ r.2.mem ((c.tc : Thread Cert.Ff2LnReferenceIdeal.nD Cert.Ff2LnReferenceIdeal.τ).loc Cert.Ff2LnReferenceIdeal.main_arg3) = m ((c.tc : Thread Cert.Ff2LnReferenceIdeal.nD Cert.Ff2LnReferenceIdeal.τ).loc Cert.Ff2LnReferenceIdeal.main_arg3)
      ∧ r.2.mem ((c.tc : Thread Cert.Ff2LnReferenceIdeal.nD Cert.Ff2LnReferenceIdeal.τ).loc Cert.Ff2LnReferenceIdeal.main_arg4) = m ((c.tc : Thread Cert.Ff2LnReferenceIdeal.nD Cert.Ff2LnReferenceIdeal.τ).loc Cert.Ff2LnReferenceIdeal.main_arg4)
      ∧ r.2.mem ((c.tc : Thread Cert.Ff2LnReferenceIdeal.nD Cert.Ff2LnReferenceIdeal.τ).loc Cert.Ff2LnReferenceIdeal.main_arg5) = m ((c.tc : Thread Cert.Ff2LnReferenceIdeal.nD Cert.Ff2LnReferenceIdeal.τ).loc Cert.Ff2LnReferenceIdeal.main_arg5)
      ∧ r.2.mem ((c.tc : Thread Cert.Ff2LnReferenceIdeal.nD Cert.Ff2LnReferenceIdeal.τ).loc Cert.Ff2LnReferenceIdeal.main_arg6) = m ((c.tc : Thread Cert.Ff2LnReferenceIdeal.nD Cert.Ff2LnReferenceIdeal.τ).loc Cert.Ff2LnReferenceIdeal.main_arg6))
      ∧ r.2.sem = fun _ => 0)

def quiescent_OutLn [hOutLn : Cert.OutLn.Facts] : Prop :=
  ∀ (m : (ℓ : Loc Cert.OutLn.nD Cert.OutLn.τ Cert.OutLn.sig) → Buf (Elt Bits) ℓ) (g : Dev Cert.OutLn.nD → PrngReg), Pre_OutLn m →
    θ_run (Cert.OutLn.defs (F := Bits)) (onTc (τ := Cert.OutLn.τ) (Cert.OutLn.main (F := Bits))) ⟨m, fun _ => 0, g⟩ (fun r => (∀ c : Dev Cert.OutLn.nD,
      r.2.mem ((c.tc : Thread Cert.OutLn.nD Cert.OutLn.τ).loc Cert.OutLn.main_arg0) = m ((c.tc : Thread Cert.OutLn.nD Cert.OutLn.τ).loc Cert.OutLn.main_arg0)
      ∧ r.2.mem ((c.tc : Thread Cert.OutLn.nD Cert.OutLn.τ).loc Cert.OutLn.main_arg1) = m ((c.tc : Thread Cert.OutLn.nD Cert.OutLn.τ).loc Cert.OutLn.main_arg1)
      ∧ r.2.mem ((c.tc : Thread Cert.OutLn.nD Cert.OutLn.τ).loc Cert.OutLn.main_arg2) = m ((c.tc : Thread Cert.OutLn.nD Cert.OutLn.τ).loc Cert.OutLn.main_arg2)
      ∧ r.2.mem ((c.tc : Thread Cert.OutLn.nD Cert.OutLn.τ).loc Cert.OutLn.main_arg3) = m ((c.tc : Thread Cert.OutLn.nD Cert.OutLn.τ).loc Cert.OutLn.main_arg3)
      ∧ r.2.mem ((c.tc : Thread Cert.OutLn.nD Cert.OutLn.τ).loc Cert.OutLn.main_arg4) = m ((c.tc : Thread Cert.OutLn.nD Cert.OutLn.τ).loc Cert.OutLn.main_arg4)
      ∧ r.2.mem ((c.tc : Thread Cert.OutLn.nD Cert.OutLn.τ).loc Cert.OutLn.main_arg5) = m ((c.tc : Thread Cert.OutLn.nD Cert.OutLn.τ).loc Cert.OutLn.main_arg5)
      ∧ r.2.mem ((c.tc : Thread Cert.OutLn.nD Cert.OutLn.τ).loc Cert.OutLn.main_arg6) = m ((c.tc : Thread Cert.OutLn.nD Cert.OutLn.τ).loc Cert.OutLn.main_arg6)
      ∧ r.2.mem ((c.tc : Thread Cert.OutLn.nD Cert.OutLn.τ).loc Cert.OutLn.main_arg7) = m ((c.tc : Thread Cert.OutLn.nD Cert.OutLn.τ).loc Cert.OutLn.main_arg7)
      ∧ r.2.mem ((c.tc : Thread Cert.OutLn.nD Cert.OutLn.τ).loc Cert.OutLn.main_arg8) = m ((c.tc : Thread Cert.OutLn.nD Cert.OutLn.τ).loc Cert.OutLn.main_arg8))
      ∧ r.2.sem = fun _ => 0)

def quiescent_OutLnIdeal [hOutLnIdeal : Cert.OutLnIdeal.Facts] : Prop :=
  ∀ (m : (ℓ : Loc Cert.OutLnIdeal.nD Cert.OutLnIdeal.τ Cert.OutLnIdeal.sig) → Buf (Elt Ideal) ℓ) (g : Dev Cert.OutLnIdeal.nD → PrngReg), Pre_OutLnIdeal m →
    θ_run (Cert.OutLnIdeal.defs (F := Ideal)) (onTc (τ := Cert.OutLnIdeal.τ) (Cert.OutLnIdeal.main (F := Ideal))) ⟨m, fun _ => 0, g⟩ (fun r => (∀ c : Dev Cert.OutLnIdeal.nD,
      r.2.mem ((c.tc : Thread Cert.OutLnIdeal.nD Cert.OutLnIdeal.τ).loc Cert.OutLnIdeal.main_arg0) = m ((c.tc : Thread Cert.OutLnIdeal.nD Cert.OutLnIdeal.τ).loc Cert.OutLnIdeal.main_arg0)
      ∧ r.2.mem ((c.tc : Thread Cert.OutLnIdeal.nD Cert.OutLnIdeal.τ).loc Cert.OutLnIdeal.main_arg1) = m ((c.tc : Thread Cert.OutLnIdeal.nD Cert.OutLnIdeal.τ).loc Cert.OutLnIdeal.main_arg1)
      ∧ r.2.mem ((c.tc : Thread Cert.OutLnIdeal.nD Cert.OutLnIdeal.τ).loc Cert.OutLnIdeal.main_arg2) = m ((c.tc : Thread Cert.OutLnIdeal.nD Cert.OutLnIdeal.τ).loc Cert.OutLnIdeal.main_arg2)
      ∧ r.2.mem ((c.tc : Thread Cert.OutLnIdeal.nD Cert.OutLnIdeal.τ).loc Cert.OutLnIdeal.main_arg3) = m ((c.tc : Thread Cert.OutLnIdeal.nD Cert.OutLnIdeal.τ).loc Cert.OutLnIdeal.main_arg3)
      ∧ r.2.mem ((c.tc : Thread Cert.OutLnIdeal.nD Cert.OutLnIdeal.τ).loc Cert.OutLnIdeal.main_arg4) = m ((c.tc : Thread Cert.OutLnIdeal.nD Cert.OutLnIdeal.τ).loc Cert.OutLnIdeal.main_arg4)
      ∧ r.2.mem ((c.tc : Thread Cert.OutLnIdeal.nD Cert.OutLnIdeal.τ).loc Cert.OutLnIdeal.main_arg5) = m ((c.tc : Thread Cert.OutLnIdeal.nD Cert.OutLnIdeal.τ).loc Cert.OutLnIdeal.main_arg5)
      ∧ r.2.mem ((c.tc : Thread Cert.OutLnIdeal.nD Cert.OutLnIdeal.τ).loc Cert.OutLnIdeal.main_arg6) = m ((c.tc : Thread Cert.OutLnIdeal.nD Cert.OutLnIdeal.τ).loc Cert.OutLnIdeal.main_arg6)
      ∧ r.2.mem ((c.tc : Thread Cert.OutLnIdeal.nD Cert.OutLnIdeal.τ).loc Cert.OutLnIdeal.main_arg7) = m ((c.tc : Thread Cert.OutLnIdeal.nD Cert.OutLnIdeal.τ).loc Cert.OutLnIdeal.main_arg7)
      ∧ r.2.mem ((c.tc : Thread Cert.OutLnIdeal.nD Cert.OutLnIdeal.τ).loc Cert.OutLnIdeal.main_arg8) = m ((c.tc : Thread Cert.OutLnIdeal.nD Cert.OutLnIdeal.τ).loc Cert.OutLnIdeal.main_arg8))
      ∧ r.2.sem = fun _ => 0)

def quiescent_OutLnReferenceIdeal [hOutLnReferenceIdeal : Cert.OutLnReferenceIdeal.Facts] : Prop :=
  ∀ (m : (ℓ : Loc Cert.OutLnReferenceIdeal.nD Cert.OutLnReferenceIdeal.τ Cert.OutLnReferenceIdeal.sig) → Buf (Elt Ideal) ℓ) (g : Dev Cert.OutLnReferenceIdeal.nD → PrngReg), Pre_OutLnReferenceIdeal m →
    θ_run (Cert.OutLnReferenceIdeal.defs (F := Ideal)) (onTc (τ := Cert.OutLnReferenceIdeal.τ) (Cert.OutLnReferenceIdeal.main (F := Ideal))) ⟨m, fun _ => 0, g⟩ (fun r => (∀ c : Dev Cert.OutLnReferenceIdeal.nD,
      r.2.mem ((c.tc : Thread Cert.OutLnReferenceIdeal.nD Cert.OutLnReferenceIdeal.τ).loc Cert.OutLnReferenceIdeal.main_arg0) = m ((c.tc : Thread Cert.OutLnReferenceIdeal.nD Cert.OutLnReferenceIdeal.τ).loc Cert.OutLnReferenceIdeal.main_arg0)
      ∧ r.2.mem ((c.tc : Thread Cert.OutLnReferenceIdeal.nD Cert.OutLnReferenceIdeal.τ).loc Cert.OutLnReferenceIdeal.main_arg1) = m ((c.tc : Thread Cert.OutLnReferenceIdeal.nD Cert.OutLnReferenceIdeal.τ).loc Cert.OutLnReferenceIdeal.main_arg1)
      ∧ r.2.mem ((c.tc : Thread Cert.OutLnReferenceIdeal.nD Cert.OutLnReferenceIdeal.τ).loc Cert.OutLnReferenceIdeal.main_arg2) = m ((c.tc : Thread Cert.OutLnReferenceIdeal.nD Cert.OutLnReferenceIdeal.τ).loc Cert.OutLnReferenceIdeal.main_arg2)
      ∧ r.2.mem ((c.tc : Thread Cert.OutLnReferenceIdeal.nD Cert.OutLnReferenceIdeal.τ).loc Cert.OutLnReferenceIdeal.main_arg3) = m ((c.tc : Thread Cert.OutLnReferenceIdeal.nD Cert.OutLnReferenceIdeal.τ).loc Cert.OutLnReferenceIdeal.main_arg3)
      ∧ r.2.mem ((c.tc : Thread Cert.OutLnReferenceIdeal.nD Cert.OutLnReferenceIdeal.τ).loc Cert.OutLnReferenceIdeal.main_arg4) = m ((c.tc : Thread Cert.OutLnReferenceIdeal.nD Cert.OutLnReferenceIdeal.τ).loc Cert.OutLnReferenceIdeal.main_arg4)
      ∧ r.2.mem ((c.tc : Thread Cert.OutLnReferenceIdeal.nD Cert.OutLnReferenceIdeal.τ).loc Cert.OutLnReferenceIdeal.main_arg5) = m ((c.tc : Thread Cert.OutLnReferenceIdeal.nD Cert.OutLnReferenceIdeal.τ).loc Cert.OutLnReferenceIdeal.main_arg5)
      ∧ r.2.mem ((c.tc : Thread Cert.OutLnReferenceIdeal.nD Cert.OutLnReferenceIdeal.τ).loc Cert.OutLnReferenceIdeal.main_arg6) = m ((c.tc : Thread Cert.OutLnReferenceIdeal.nD Cert.OutLnReferenceIdeal.τ).loc Cert.OutLnReferenceIdeal.main_arg6)
      ∧ r.2.mem ((c.tc : Thread Cert.OutLnReferenceIdeal.nD Cert.OutLnReferenceIdeal.τ).loc Cert.OutLnReferenceIdeal.main_arg7) = m ((c.tc : Thread Cert.OutLnReferenceIdeal.nD Cert.OutLnReferenceIdeal.τ).loc Cert.OutLnReferenceIdeal.main_arg7)
      ∧ r.2.mem ((c.tc : Thread Cert.OutLnReferenceIdeal.nD Cert.OutLnReferenceIdeal.τ).loc Cert.OutLnReferenceIdeal.main_arg8) = m ((c.tc : Thread Cert.OutLnReferenceIdeal.nD Cert.OutLnReferenceIdeal.τ).loc Cert.OutLnReferenceIdeal.main_arg8))
      ∧ r.2.sem = fun _ => 0)

def quiescent_OutLn0 [hOutLn0 : Cert.OutLn0.Facts] : Prop :=
  ∀ (m : (ℓ : Loc Cert.OutLn0.nD Cert.OutLn0.τ Cert.OutLn0.sig) → Buf (Elt Bits) ℓ) (g : Dev Cert.OutLn0.nD → PrngReg), Pre_OutLn0 m →
    θ_run (Cert.OutLn0.defs (F := Bits)) (onTc (τ := Cert.OutLn0.τ) (Cert.OutLn0.main (F := Bits))) ⟨m, fun _ => 0, g⟩ (fun r => (∀ c : Dev Cert.OutLn0.nD,
      r.2.mem ((c.tc : Thread Cert.OutLn0.nD Cert.OutLn0.τ).loc Cert.OutLn0.main_arg0) = m ((c.tc : Thread Cert.OutLn0.nD Cert.OutLn0.τ).loc Cert.OutLn0.main_arg0)
      ∧ r.2.mem ((c.tc : Thread Cert.OutLn0.nD Cert.OutLn0.τ).loc Cert.OutLn0.main_arg1) = m ((c.tc : Thread Cert.OutLn0.nD Cert.OutLn0.τ).loc Cert.OutLn0.main_arg1)
      ∧ r.2.mem ((c.tc : Thread Cert.OutLn0.nD Cert.OutLn0.τ).loc Cert.OutLn0.main_arg2) = m ((c.tc : Thread Cert.OutLn0.nD Cert.OutLn0.τ).loc Cert.OutLn0.main_arg2)
      ∧ r.2.mem ((c.tc : Thread Cert.OutLn0.nD Cert.OutLn0.τ).loc Cert.OutLn0.main_arg3) = m ((c.tc : Thread Cert.OutLn0.nD Cert.OutLn0.τ).loc Cert.OutLn0.main_arg3)
      ∧ r.2.mem ((c.tc : Thread Cert.OutLn0.nD Cert.OutLn0.τ).loc Cert.OutLn0.main_arg4) = m ((c.tc : Thread Cert.OutLn0.nD Cert.OutLn0.τ).loc Cert.OutLn0.main_arg4)
      ∧ r.2.mem ((c.tc : Thread Cert.OutLn0.nD Cert.OutLn0.τ).loc Cert.OutLn0.main_arg5) = m ((c.tc : Thread Cert.OutLn0.nD Cert.OutLn0.τ).loc Cert.OutLn0.main_arg5)
      ∧ r.2.mem ((c.tc : Thread Cert.OutLn0.nD Cert.OutLn0.τ).loc Cert.OutLn0.main_arg6) = m ((c.tc : Thread Cert.OutLn0.nD Cert.OutLn0.τ).loc Cert.OutLn0.main_arg6))
      ∧ r.2.sem = fun _ => 0)

def quiescent_OutLn0Ideal [hOutLn0Ideal : Cert.OutLn0Ideal.Facts] : Prop :=
  ∀ (m : (ℓ : Loc Cert.OutLn0Ideal.nD Cert.OutLn0Ideal.τ Cert.OutLn0Ideal.sig) → Buf (Elt Ideal) ℓ) (g : Dev Cert.OutLn0Ideal.nD → PrngReg), Pre_OutLn0Ideal m →
    θ_run (Cert.OutLn0Ideal.defs (F := Ideal)) (onTc (τ := Cert.OutLn0Ideal.τ) (Cert.OutLn0Ideal.main (F := Ideal))) ⟨m, fun _ => 0, g⟩ (fun r => (∀ c : Dev Cert.OutLn0Ideal.nD,
      r.2.mem ((c.tc : Thread Cert.OutLn0Ideal.nD Cert.OutLn0Ideal.τ).loc Cert.OutLn0Ideal.main_arg0) = m ((c.tc : Thread Cert.OutLn0Ideal.nD Cert.OutLn0Ideal.τ).loc Cert.OutLn0Ideal.main_arg0)
      ∧ r.2.mem ((c.tc : Thread Cert.OutLn0Ideal.nD Cert.OutLn0Ideal.τ).loc Cert.OutLn0Ideal.main_arg1) = m ((c.tc : Thread Cert.OutLn0Ideal.nD Cert.OutLn0Ideal.τ).loc Cert.OutLn0Ideal.main_arg1)
      ∧ r.2.mem ((c.tc : Thread Cert.OutLn0Ideal.nD Cert.OutLn0Ideal.τ).loc Cert.OutLn0Ideal.main_arg2) = m ((c.tc : Thread Cert.OutLn0Ideal.nD Cert.OutLn0Ideal.τ).loc Cert.OutLn0Ideal.main_arg2)
      ∧ r.2.mem ((c.tc : Thread Cert.OutLn0Ideal.nD Cert.OutLn0Ideal.τ).loc Cert.OutLn0Ideal.main_arg3) = m ((c.tc : Thread Cert.OutLn0Ideal.nD Cert.OutLn0Ideal.τ).loc Cert.OutLn0Ideal.main_arg3)
      ∧ r.2.mem ((c.tc : Thread Cert.OutLn0Ideal.nD Cert.OutLn0Ideal.τ).loc Cert.OutLn0Ideal.main_arg4) = m ((c.tc : Thread Cert.OutLn0Ideal.nD Cert.OutLn0Ideal.τ).loc Cert.OutLn0Ideal.main_arg4)
      ∧ r.2.mem ((c.tc : Thread Cert.OutLn0Ideal.nD Cert.OutLn0Ideal.τ).loc Cert.OutLn0Ideal.main_arg5) = m ((c.tc : Thread Cert.OutLn0Ideal.nD Cert.OutLn0Ideal.τ).loc Cert.OutLn0Ideal.main_arg5)
      ∧ r.2.mem ((c.tc : Thread Cert.OutLn0Ideal.nD Cert.OutLn0Ideal.τ).loc Cert.OutLn0Ideal.main_arg6) = m ((c.tc : Thread Cert.OutLn0Ideal.nD Cert.OutLn0Ideal.τ).loc Cert.OutLn0Ideal.main_arg6))
      ∧ r.2.sem = fun _ => 0)

def quiescent_OutLn0ReferenceIdeal [hOutLn0ReferenceIdeal : Cert.OutLn0ReferenceIdeal.Facts] : Prop :=
  ∀ (m : (ℓ : Loc Cert.OutLn0ReferenceIdeal.nD Cert.OutLn0ReferenceIdeal.τ Cert.OutLn0ReferenceIdeal.sig) → Buf (Elt Ideal) ℓ) (g : Dev Cert.OutLn0ReferenceIdeal.nD → PrngReg), Pre_OutLn0ReferenceIdeal m →
    θ_run (Cert.OutLn0ReferenceIdeal.defs (F := Ideal)) (onTc (τ := Cert.OutLn0ReferenceIdeal.τ) (Cert.OutLn0ReferenceIdeal.main (F := Ideal))) ⟨m, fun _ => 0, g⟩ (fun r => (∀ c : Dev Cert.OutLn0ReferenceIdeal.nD,
      r.2.mem ((c.tc : Thread Cert.OutLn0ReferenceIdeal.nD Cert.OutLn0ReferenceIdeal.τ).loc Cert.OutLn0ReferenceIdeal.main_arg0) = m ((c.tc : Thread Cert.OutLn0ReferenceIdeal.nD Cert.OutLn0ReferenceIdeal.τ).loc Cert.OutLn0ReferenceIdeal.main_arg0)
      ∧ r.2.mem ((c.tc : Thread Cert.OutLn0ReferenceIdeal.nD Cert.OutLn0ReferenceIdeal.τ).loc Cert.OutLn0ReferenceIdeal.main_arg1) = m ((c.tc : Thread Cert.OutLn0ReferenceIdeal.nD Cert.OutLn0ReferenceIdeal.τ).loc Cert.OutLn0ReferenceIdeal.main_arg1)
      ∧ r.2.mem ((c.tc : Thread Cert.OutLn0ReferenceIdeal.nD Cert.OutLn0ReferenceIdeal.τ).loc Cert.OutLn0ReferenceIdeal.main_arg2) = m ((c.tc : Thread Cert.OutLn0ReferenceIdeal.nD Cert.OutLn0ReferenceIdeal.τ).loc Cert.OutLn0ReferenceIdeal.main_arg2)
      ∧ r.2.mem ((c.tc : Thread Cert.OutLn0ReferenceIdeal.nD Cert.OutLn0ReferenceIdeal.τ).loc Cert.OutLn0ReferenceIdeal.main_arg3) = m ((c.tc : Thread Cert.OutLn0ReferenceIdeal.nD Cert.OutLn0ReferenceIdeal.τ).loc Cert.OutLn0ReferenceIdeal.main_arg3)
      ∧ r.2.mem ((c.tc : Thread Cert.OutLn0ReferenceIdeal.nD Cert.OutLn0ReferenceIdeal.τ).loc Cert.OutLn0ReferenceIdeal.main_arg4) = m ((c.tc : Thread Cert.OutLn0ReferenceIdeal.nD Cert.OutLn0ReferenceIdeal.τ).loc Cert.OutLn0ReferenceIdeal.main_arg4)
      ∧ r.2.mem ((c.tc : Thread Cert.OutLn0ReferenceIdeal.nD Cert.OutLn0ReferenceIdeal.τ).loc Cert.OutLn0ReferenceIdeal.main_arg5) = m ((c.tc : Thread Cert.OutLn0ReferenceIdeal.nD Cert.OutLn0ReferenceIdeal.τ).loc Cert.OutLn0ReferenceIdeal.main_arg5)
      ∧ r.2.mem ((c.tc : Thread Cert.OutLn0ReferenceIdeal.nD Cert.OutLn0ReferenceIdeal.τ).loc Cert.OutLn0ReferenceIdeal.main_arg6) = m ((c.tc : Thread Cert.OutLn0ReferenceIdeal.nD Cert.OutLn0ReferenceIdeal.τ).loc Cert.OutLn0ReferenceIdeal.main_arg6))
      ∧ r.2.sem = fun _ => 0)

def quiescent_AttFwd [hAttFwd : Cert.AttFwd.Facts] : Prop :=
  ∀ (m : (ℓ : Loc Cert.AttFwd.nD Cert.AttFwd.τ Cert.AttFwd.sig) → Buf (Elt Bits) ℓ) (g : Dev Cert.AttFwd.nD → PrngReg), Pre_AttFwd m →
    θ_run (Cert.AttFwd.defs (F := Bits)) (onTc (τ := Cert.AttFwd.τ) (Cert.AttFwd.main (F := Bits))) ⟨m, fun _ => 0, g⟩ (fun r => (∀ c : Dev Cert.AttFwd.nD,
      r.2.mem ((c.tc : Thread Cert.AttFwd.nD Cert.AttFwd.τ).loc Cert.AttFwd.main_arg0) = m ((c.tc : Thread Cert.AttFwd.nD Cert.AttFwd.τ).loc Cert.AttFwd.main_arg0)
      ∧ r.2.mem ((c.tc : Thread Cert.AttFwd.nD Cert.AttFwd.τ).loc Cert.AttFwd.main_arg1) = m ((c.tc : Thread Cert.AttFwd.nD Cert.AttFwd.τ).loc Cert.AttFwd.main_arg1))
      ∧ r.2.sem = fun _ => 0)

def quiescent_AttFwdIdeal [hAttFwdIdeal : Cert.AttFwdIdeal.Facts] : Prop :=
  ∀ (m : (ℓ : Loc Cert.AttFwdIdeal.nD Cert.AttFwdIdeal.τ Cert.AttFwdIdeal.sig) → Buf (Elt Ideal) ℓ) (g : Dev Cert.AttFwdIdeal.nD → PrngReg), Pre_AttFwdIdeal m →
    θ_run (Cert.AttFwdIdeal.defs (F := Ideal)) (onTc (τ := Cert.AttFwdIdeal.τ) (Cert.AttFwdIdeal.main (F := Ideal))) ⟨m, fun _ => 0, g⟩ (fun r => (∀ c : Dev Cert.AttFwdIdeal.nD,
      r.2.mem ((c.tc : Thread Cert.AttFwdIdeal.nD Cert.AttFwdIdeal.τ).loc Cert.AttFwdIdeal.main_arg0) = m ((c.tc : Thread Cert.AttFwdIdeal.nD Cert.AttFwdIdeal.τ).loc Cert.AttFwdIdeal.main_arg0)
      ∧ r.2.mem ((c.tc : Thread Cert.AttFwdIdeal.nD Cert.AttFwdIdeal.τ).loc Cert.AttFwdIdeal.main_arg1) = m ((c.tc : Thread Cert.AttFwdIdeal.nD Cert.AttFwdIdeal.τ).loc Cert.AttFwdIdeal.main_arg1))
      ∧ r.2.sem = fun _ => 0)

def quiescent_AttFwdReferenceIdeal [hAttFwdReferenceIdeal : Cert.AttFwdReferenceIdeal.Facts] : Prop :=
  ∀ (m : (ℓ : Loc Cert.AttFwdReferenceIdeal.nD Cert.AttFwdReferenceIdeal.τ Cert.AttFwdReferenceIdeal.sig) → Buf (Elt Ideal) ℓ) (g : Dev Cert.AttFwdReferenceIdeal.nD → PrngReg), Pre_AttFwdReferenceIdeal m →
    θ_run (Cert.AttFwdReferenceIdeal.defs (F := Ideal)) (onTc (τ := Cert.AttFwdReferenceIdeal.τ) (Cert.AttFwdReferenceIdeal.main (F := Ideal))) ⟨m, fun _ => 0, g⟩ (fun r => (∀ c : Dev Cert.AttFwdReferenceIdeal.nD,
      r.2.mem ((c.tc : Thread Cert.AttFwdReferenceIdeal.nD Cert.AttFwdReferenceIdeal.τ).loc Cert.AttFwdReferenceIdeal.main_arg0) = m ((c.tc : Thread Cert.AttFwdReferenceIdeal.nD Cert.AttFwdReferenceIdeal.τ).loc Cert.AttFwdReferenceIdeal.main_arg0)
      ∧ r.2.mem ((c.tc : Thread Cert.AttFwdReferenceIdeal.nD Cert.AttFwdReferenceIdeal.τ).loc Cert.AttFwdReferenceIdeal.main_arg1) = m ((c.tc : Thread Cert.AttFwdReferenceIdeal.nD Cert.AttFwdReferenceIdeal.τ).loc Cert.AttFwdReferenceIdeal.main_arg1))
      ∧ r.2.sem = fun _ => 0)

def quiescent_MixCBwd [hMixCBwd : Cert.MixCBwd.Facts] : Prop :=
  ∀ (m : (ℓ : Loc Cert.MixCBwd.nD Cert.MixCBwd.τ Cert.MixCBwd.sig) → Buf (Elt Bits) ℓ) (g : Dev Cert.MixCBwd.nD → PrngReg), Pre_MixCBwd m →
    θ_run (Cert.MixCBwd.defs (F := Bits)) (onTc (τ := Cert.MixCBwd.τ) (Cert.MixCBwd.main (F := Bits))) ⟨m, fun _ => 0, g⟩ (fun r => (∀ c : Dev Cert.MixCBwd.nD,
      r.2.mem ((c.tc : Thread Cert.MixCBwd.nD Cert.MixCBwd.τ).loc Cert.MixCBwd.main_arg0) = m ((c.tc : Thread Cert.MixCBwd.nD Cert.MixCBwd.τ).loc Cert.MixCBwd.main_arg0)
      ∧ r.2.mem ((c.tc : Thread Cert.MixCBwd.nD Cert.MixCBwd.τ).loc Cert.MixCBwd.main_arg1) = m ((c.tc : Thread Cert.MixCBwd.nD Cert.MixCBwd.τ).loc Cert.MixCBwd.main_arg1)
      ∧ r.2.mem ((c.tc : Thread Cert.MixCBwd.nD Cert.MixCBwd.τ).loc Cert.MixCBwd.main_arg2) = m ((c.tc : Thread Cert.MixCBwd.nD Cert.MixCBwd.τ).loc Cert.MixCBwd.main_arg2)
      ∧ r.2.mem ((c.tc : Thread Cert.MixCBwd.nD Cert.MixCBwd.τ).loc Cert.MixCBwd.main_arg3) = m ((c.tc : Thread Cert.MixCBwd.nD Cert.MixCBwd.τ).loc Cert.MixCBwd.main_arg3)
      ∧ r.2.mem ((c.tc : Thread Cert.MixCBwd.nD Cert.MixCBwd.τ).loc Cert.MixCBwd.main_arg4) = m ((c.tc : Thread Cert.MixCBwd.nD Cert.MixCBwd.τ).loc Cert.MixCBwd.main_arg4))
      ∧ r.2.sem = fun _ => 0)

def quiescent_MixCBwdIdeal [hMixCBwdIdeal : Cert.MixCBwdIdeal.Facts] : Prop :=
  ∀ (m : (ℓ : Loc Cert.MixCBwdIdeal.nD Cert.MixCBwdIdeal.τ Cert.MixCBwdIdeal.sig) → Buf (Elt Ideal) ℓ) (g : Dev Cert.MixCBwdIdeal.nD → PrngReg), Pre_MixCBwdIdeal m →
    θ_run (Cert.MixCBwdIdeal.defs (F := Ideal)) (onTc (τ := Cert.MixCBwdIdeal.τ) (Cert.MixCBwdIdeal.main (F := Ideal))) ⟨m, fun _ => 0, g⟩ (fun r => (∀ c : Dev Cert.MixCBwdIdeal.nD,
      r.2.mem ((c.tc : Thread Cert.MixCBwdIdeal.nD Cert.MixCBwdIdeal.τ).loc Cert.MixCBwdIdeal.main_arg0) = m ((c.tc : Thread Cert.MixCBwdIdeal.nD Cert.MixCBwdIdeal.τ).loc Cert.MixCBwdIdeal.main_arg0)
      ∧ r.2.mem ((c.tc : Thread Cert.MixCBwdIdeal.nD Cert.MixCBwdIdeal.τ).loc Cert.MixCBwdIdeal.main_arg1) = m ((c.tc : Thread Cert.MixCBwdIdeal.nD Cert.MixCBwdIdeal.τ).loc Cert.MixCBwdIdeal.main_arg1)
      ∧ r.2.mem ((c.tc : Thread Cert.MixCBwdIdeal.nD Cert.MixCBwdIdeal.τ).loc Cert.MixCBwdIdeal.main_arg2) = m ((c.tc : Thread Cert.MixCBwdIdeal.nD Cert.MixCBwdIdeal.τ).loc Cert.MixCBwdIdeal.main_arg2)
      ∧ r.2.mem ((c.tc : Thread Cert.MixCBwdIdeal.nD Cert.MixCBwdIdeal.τ).loc Cert.MixCBwdIdeal.main_arg3) = m ((c.tc : Thread Cert.MixCBwdIdeal.nD Cert.MixCBwdIdeal.τ).loc Cert.MixCBwdIdeal.main_arg3)
      ∧ r.2.mem ((c.tc : Thread Cert.MixCBwdIdeal.nD Cert.MixCBwdIdeal.τ).loc Cert.MixCBwdIdeal.main_arg4) = m ((c.tc : Thread Cert.MixCBwdIdeal.nD Cert.MixCBwdIdeal.τ).loc Cert.MixCBwdIdeal.main_arg4))
      ∧ r.2.sem = fun _ => 0)

def quiescent_MixCBwdReferenceIdeal [hMixCBwdReferenceIdeal : Cert.MixCBwdReferenceIdeal.Facts] : Prop :=
  ∀ (m : (ℓ : Loc Cert.MixCBwdReferenceIdeal.nD Cert.MixCBwdReferenceIdeal.τ Cert.MixCBwdReferenceIdeal.sig) → Buf (Elt Ideal) ℓ) (g : Dev Cert.MixCBwdReferenceIdeal.nD → PrngReg), Pre_MixCBwdReferenceIdeal m →
    θ_run (Cert.MixCBwdReferenceIdeal.defs (F := Ideal)) (onTc (τ := Cert.MixCBwdReferenceIdeal.τ) (Cert.MixCBwdReferenceIdeal.main (F := Ideal))) ⟨m, fun _ => 0, g⟩ (fun r => (∀ c : Dev Cert.MixCBwdReferenceIdeal.nD,
      r.2.mem ((c.tc : Thread Cert.MixCBwdReferenceIdeal.nD Cert.MixCBwdReferenceIdeal.τ).loc Cert.MixCBwdReferenceIdeal.main_arg0) = m ((c.tc : Thread Cert.MixCBwdReferenceIdeal.nD Cert.MixCBwdReferenceIdeal.τ).loc Cert.MixCBwdReferenceIdeal.main_arg0)
      ∧ r.2.mem ((c.tc : Thread Cert.MixCBwdReferenceIdeal.nD Cert.MixCBwdReferenceIdeal.τ).loc Cert.MixCBwdReferenceIdeal.main_arg1) = m ((c.tc : Thread Cert.MixCBwdReferenceIdeal.nD Cert.MixCBwdReferenceIdeal.τ).loc Cert.MixCBwdReferenceIdeal.main_arg1)
      ∧ r.2.mem ((c.tc : Thread Cert.MixCBwdReferenceIdeal.nD Cert.MixCBwdReferenceIdeal.τ).loc Cert.MixCBwdReferenceIdeal.main_arg2) = m ((c.tc : Thread Cert.MixCBwdReferenceIdeal.nD Cert.MixCBwdReferenceIdeal.τ).loc Cert.MixCBwdReferenceIdeal.main_arg2)
      ∧ r.2.mem ((c.tc : Thread Cert.MixCBwdReferenceIdeal.nD Cert.MixCBwdReferenceIdeal.τ).loc Cert.MixCBwdReferenceIdeal.main_arg3) = m ((c.tc : Thread Cert.MixCBwdReferenceIdeal.nD Cert.MixCBwdReferenceIdeal.τ).loc Cert.MixCBwdReferenceIdeal.main_arg3)
      ∧ r.2.mem ((c.tc : Thread Cert.MixCBwdReferenceIdeal.nD Cert.MixCBwdReferenceIdeal.τ).loc Cert.MixCBwdReferenceIdeal.main_arg4) = m ((c.tc : Thread Cert.MixCBwdReferenceIdeal.nD Cert.MixCBwdReferenceIdeal.τ).loc Cert.MixCBwdReferenceIdeal.main_arg4))
      ∧ r.2.sem = fun _ => 0)

def quiescent_MixCFwd [hMixCFwd : Cert.MixCFwd.Facts] : Prop :=
  ∀ (m : (ℓ : Loc Cert.MixCFwd.nD Cert.MixCFwd.τ Cert.MixCFwd.sig) → Buf (Elt Bits) ℓ) (g : Dev Cert.MixCFwd.nD → PrngReg), Pre_MixCFwd m →
    θ_run (Cert.MixCFwd.defs (F := Bits)) (onTc (τ := Cert.MixCFwd.τ) (Cert.MixCFwd.main (F := Bits))) ⟨m, fun _ => 0, g⟩ (fun r => (∀ c : Dev Cert.MixCFwd.nD,
      r.2.mem ((c.tc : Thread Cert.MixCFwd.nD Cert.MixCFwd.τ).loc Cert.MixCFwd.main_arg0) = m ((c.tc : Thread Cert.MixCFwd.nD Cert.MixCFwd.τ).loc Cert.MixCFwd.main_arg0)
      ∧ r.2.mem ((c.tc : Thread Cert.MixCFwd.nD Cert.MixCFwd.τ).loc Cert.MixCFwd.main_arg1) = m ((c.tc : Thread Cert.MixCFwd.nD Cert.MixCFwd.τ).loc Cert.MixCFwd.main_arg1)
      ∧ r.2.mem ((c.tc : Thread Cert.MixCFwd.nD Cert.MixCFwd.τ).loc Cert.MixCFwd.main_arg2) = m ((c.tc : Thread Cert.MixCFwd.nD Cert.MixCFwd.τ).loc Cert.MixCFwd.main_arg2)
      ∧ r.2.mem ((c.tc : Thread Cert.MixCFwd.nD Cert.MixCFwd.τ).loc Cert.MixCFwd.main_arg3) = m ((c.tc : Thread Cert.MixCFwd.nD Cert.MixCFwd.τ).loc Cert.MixCFwd.main_arg3))
      ∧ r.2.sem = fun _ => 0)

def quiescent_MixCFwdIdeal [hMixCFwdIdeal : Cert.MixCFwdIdeal.Facts] : Prop :=
  ∀ (m : (ℓ : Loc Cert.MixCFwdIdeal.nD Cert.MixCFwdIdeal.τ Cert.MixCFwdIdeal.sig) → Buf (Elt Ideal) ℓ) (g : Dev Cert.MixCFwdIdeal.nD → PrngReg), Pre_MixCFwdIdeal m →
    θ_run (Cert.MixCFwdIdeal.defs (F := Ideal)) (onTc (τ := Cert.MixCFwdIdeal.τ) (Cert.MixCFwdIdeal.main (F := Ideal))) ⟨m, fun _ => 0, g⟩ (fun r => (∀ c : Dev Cert.MixCFwdIdeal.nD,
      r.2.mem ((c.tc : Thread Cert.MixCFwdIdeal.nD Cert.MixCFwdIdeal.τ).loc Cert.MixCFwdIdeal.main_arg0) = m ((c.tc : Thread Cert.MixCFwdIdeal.nD Cert.MixCFwdIdeal.τ).loc Cert.MixCFwdIdeal.main_arg0)
      ∧ r.2.mem ((c.tc : Thread Cert.MixCFwdIdeal.nD Cert.MixCFwdIdeal.τ).loc Cert.MixCFwdIdeal.main_arg1) = m ((c.tc : Thread Cert.MixCFwdIdeal.nD Cert.MixCFwdIdeal.τ).loc Cert.MixCFwdIdeal.main_arg1)
      ∧ r.2.mem ((c.tc : Thread Cert.MixCFwdIdeal.nD Cert.MixCFwdIdeal.τ).loc Cert.MixCFwdIdeal.main_arg2) = m ((c.tc : Thread Cert.MixCFwdIdeal.nD Cert.MixCFwdIdeal.τ).loc Cert.MixCFwdIdeal.main_arg2)
      ∧ r.2.mem ((c.tc : Thread Cert.MixCFwdIdeal.nD Cert.MixCFwdIdeal.τ).loc Cert.MixCFwdIdeal.main_arg3) = m ((c.tc : Thread Cert.MixCFwdIdeal.nD Cert.MixCFwdIdeal.τ).loc Cert.MixCFwdIdeal.main_arg3))
      ∧ r.2.sem = fun _ => 0)

def quiescent_MixCFwdReferenceIdeal [hMixCFwdReferenceIdeal : Cert.MixCFwdReferenceIdeal.Facts] : Prop :=
  ∀ (m : (ℓ : Loc Cert.MixCFwdReferenceIdeal.nD Cert.MixCFwdReferenceIdeal.τ Cert.MixCFwdReferenceIdeal.sig) → Buf (Elt Ideal) ℓ) (g : Dev Cert.MixCFwdReferenceIdeal.nD → PrngReg), Pre_MixCFwdReferenceIdeal m →
    θ_run (Cert.MixCFwdReferenceIdeal.defs (F := Ideal)) (onTc (τ := Cert.MixCFwdReferenceIdeal.τ) (Cert.MixCFwdReferenceIdeal.main (F := Ideal))) ⟨m, fun _ => 0, g⟩ (fun r => (∀ c : Dev Cert.MixCFwdReferenceIdeal.nD,
      r.2.mem ((c.tc : Thread Cert.MixCFwdReferenceIdeal.nD Cert.MixCFwdReferenceIdeal.τ).loc Cert.MixCFwdReferenceIdeal.main_arg0) = m ((c.tc : Thread Cert.MixCFwdReferenceIdeal.nD Cert.MixCFwdReferenceIdeal.τ).loc Cert.MixCFwdReferenceIdeal.main_arg0)
      ∧ r.2.mem ((c.tc : Thread Cert.MixCFwdReferenceIdeal.nD Cert.MixCFwdReferenceIdeal.τ).loc Cert.MixCFwdReferenceIdeal.main_arg1) = m ((c.tc : Thread Cert.MixCFwdReferenceIdeal.nD Cert.MixCFwdReferenceIdeal.τ).loc Cert.MixCFwdReferenceIdeal.main_arg1)
      ∧ r.2.mem ((c.tc : Thread Cert.MixCFwdReferenceIdeal.nD Cert.MixCFwdReferenceIdeal.τ).loc Cert.MixCFwdReferenceIdeal.main_arg2) = m ((c.tc : Thread Cert.MixCFwdReferenceIdeal.nD Cert.MixCFwdReferenceIdeal.τ).loc Cert.MixCFwdReferenceIdeal.main_arg2)
      ∧ r.2.mem ((c.tc : Thread Cert.MixCFwdReferenceIdeal.nD Cert.MixCFwdReferenceIdeal.τ).loc Cert.MixCFwdReferenceIdeal.main_arg3) = m ((c.tc : Thread Cert.MixCFwdReferenceIdeal.nD Cert.MixCFwdReferenceIdeal.τ).loc Cert.MixCFwdReferenceIdeal.main_arg3))
      ∧ r.2.sem = fun _ => 0)

def quiescent_MixBFwd [hMixBFwd : Cert.MixBFwd.Facts] : Prop :=
  ∀ (m : (ℓ : Loc Cert.MixBFwd.nD Cert.MixBFwd.τ Cert.MixBFwd.sig) → Buf (Elt Bits) ℓ) (g : Dev Cert.MixBFwd.nD → PrngReg), Pre_MixBFwd m →
    θ_run (Cert.MixBFwd.defs (F := Bits)) (onTc (τ := Cert.MixBFwd.τ) (Cert.MixBFwd.main (F := Bits))) ⟨m, fun _ => 0, g⟩ (fun r => (∀ c : Dev Cert.MixBFwd.nD,
      r.2.mem ((c.tc : Thread Cert.MixBFwd.nD Cert.MixBFwd.τ).loc Cert.MixBFwd.main_arg0) = m ((c.tc : Thread Cert.MixBFwd.nD Cert.MixBFwd.τ).loc Cert.MixBFwd.main_arg0)
      ∧ r.2.mem ((c.tc : Thread Cert.MixBFwd.nD Cert.MixBFwd.τ).loc Cert.MixBFwd.main_arg1) = m ((c.tc : Thread Cert.MixBFwd.nD Cert.MixBFwd.τ).loc Cert.MixBFwd.main_arg1)
      ∧ r.2.mem ((c.tc : Thread Cert.MixBFwd.nD Cert.MixBFwd.τ).loc Cert.MixBFwd.main_arg2) = m ((c.tc : Thread Cert.MixBFwd.nD Cert.MixBFwd.τ).loc Cert.MixBFwd.main_arg2)
      ∧ r.2.mem ((c.tc : Thread Cert.MixBFwd.nD Cert.MixBFwd.τ).loc Cert.MixBFwd.main_arg3) = m ((c.tc : Thread Cert.MixBFwd.nD Cert.MixBFwd.τ).loc Cert.MixBFwd.main_arg3)
      ∧ r.2.mem ((c.tc : Thread Cert.MixBFwd.nD Cert.MixBFwd.τ).loc Cert.MixBFwd.main_arg4) = m ((c.tc : Thread Cert.MixBFwd.nD Cert.MixBFwd.τ).loc Cert.MixBFwd.main_arg4)
      ∧ r.2.mem ((c.tc : Thread Cert.MixBFwd.nD Cert.MixBFwd.τ).loc Cert.MixBFwd.main_arg5) = m ((c.tc : Thread Cert.MixBFwd.nD Cert.MixBFwd.τ).loc Cert.MixBFwd.main_arg5))
      ∧ r.2.sem = fun _ => 0)

def quiescent_MixBFwdIdeal [hMixBFwdIdeal : Cert.MixBFwdIdeal.Facts] : Prop :=
  ∀ (m : (ℓ : Loc Cert.MixBFwdIdeal.nD Cert.MixBFwdIdeal.τ Cert.MixBFwdIdeal.sig) → Buf (Elt Ideal) ℓ) (g : Dev Cert.MixBFwdIdeal.nD → PrngReg), Pre_MixBFwdIdeal m →
    θ_run (Cert.MixBFwdIdeal.defs (F := Ideal)) (onTc (τ := Cert.MixBFwdIdeal.τ) (Cert.MixBFwdIdeal.main (F := Ideal))) ⟨m, fun _ => 0, g⟩ (fun r => (∀ c : Dev Cert.MixBFwdIdeal.nD,
      r.2.mem ((c.tc : Thread Cert.MixBFwdIdeal.nD Cert.MixBFwdIdeal.τ).loc Cert.MixBFwdIdeal.main_arg0) = m ((c.tc : Thread Cert.MixBFwdIdeal.nD Cert.MixBFwdIdeal.τ).loc Cert.MixBFwdIdeal.main_arg0)
      ∧ r.2.mem ((c.tc : Thread Cert.MixBFwdIdeal.nD Cert.MixBFwdIdeal.τ).loc Cert.MixBFwdIdeal.main_arg1) = m ((c.tc : Thread Cert.MixBFwdIdeal.nD Cert.MixBFwdIdeal.τ).loc Cert.MixBFwdIdeal.main_arg1)
      ∧ r.2.mem ((c.tc : Thread Cert.MixBFwdIdeal.nD Cert.MixBFwdIdeal.τ).loc Cert.MixBFwdIdeal.main_arg2) = m ((c.tc : Thread Cert.MixBFwdIdeal.nD Cert.MixBFwdIdeal.τ).loc Cert.MixBFwdIdeal.main_arg2)
      ∧ r.2.mem ((c.tc : Thread Cert.MixBFwdIdeal.nD Cert.MixBFwdIdeal.τ).loc Cert.MixBFwdIdeal.main_arg3) = m ((c.tc : Thread Cert.MixBFwdIdeal.nD Cert.MixBFwdIdeal.τ).loc Cert.MixBFwdIdeal.main_arg3)
      ∧ r.2.mem ((c.tc : Thread Cert.MixBFwdIdeal.nD Cert.MixBFwdIdeal.τ).loc Cert.MixBFwdIdeal.main_arg4) = m ((c.tc : Thread Cert.MixBFwdIdeal.nD Cert.MixBFwdIdeal.τ).loc Cert.MixBFwdIdeal.main_arg4)
      ∧ r.2.mem ((c.tc : Thread Cert.MixBFwdIdeal.nD Cert.MixBFwdIdeal.τ).loc Cert.MixBFwdIdeal.main_arg5) = m ((c.tc : Thread Cert.MixBFwdIdeal.nD Cert.MixBFwdIdeal.τ).loc Cert.MixBFwdIdeal.main_arg5))
      ∧ r.2.sem = fun _ => 0)

def quiescent_MixBFwdReferenceIdeal [hMixBFwdReferenceIdeal : Cert.MixBFwdReferenceIdeal.Facts] : Prop :=
  ∀ (m : (ℓ : Loc Cert.MixBFwdReferenceIdeal.nD Cert.MixBFwdReferenceIdeal.τ Cert.MixBFwdReferenceIdeal.sig) → Buf (Elt Ideal) ℓ) (g : Dev Cert.MixBFwdReferenceIdeal.nD → PrngReg), Pre_MixBFwdReferenceIdeal m →
    θ_run (Cert.MixBFwdReferenceIdeal.defs (F := Ideal)) (onTc (τ := Cert.MixBFwdReferenceIdeal.τ) (Cert.MixBFwdReferenceIdeal.main (F := Ideal))) ⟨m, fun _ => 0, g⟩ (fun r => (∀ c : Dev Cert.MixBFwdReferenceIdeal.nD,
      r.2.mem ((c.tc : Thread Cert.MixBFwdReferenceIdeal.nD Cert.MixBFwdReferenceIdeal.τ).loc Cert.MixBFwdReferenceIdeal.main_arg0) = m ((c.tc : Thread Cert.MixBFwdReferenceIdeal.nD Cert.MixBFwdReferenceIdeal.τ).loc Cert.MixBFwdReferenceIdeal.main_arg0)
      ∧ r.2.mem ((c.tc : Thread Cert.MixBFwdReferenceIdeal.nD Cert.MixBFwdReferenceIdeal.τ).loc Cert.MixBFwdReferenceIdeal.main_arg1) = m ((c.tc : Thread Cert.MixBFwdReferenceIdeal.nD Cert.MixBFwdReferenceIdeal.τ).loc Cert.MixBFwdReferenceIdeal.main_arg1)
      ∧ r.2.mem ((c.tc : Thread Cert.MixBFwdReferenceIdeal.nD Cert.MixBFwdReferenceIdeal.τ).loc Cert.MixBFwdReferenceIdeal.main_arg2) = m ((c.tc : Thread Cert.MixBFwdReferenceIdeal.nD Cert.MixBFwdReferenceIdeal.τ).loc Cert.MixBFwdReferenceIdeal.main_arg2)
      ∧ r.2.mem ((c.tc : Thread Cert.MixBFwdReferenceIdeal.nD Cert.MixBFwdReferenceIdeal.τ).loc Cert.MixBFwdReferenceIdeal.main_arg3) = m ((c.tc : Thread Cert.MixBFwdReferenceIdeal.nD Cert.MixBFwdReferenceIdeal.τ).loc Cert.MixBFwdReferenceIdeal.main_arg3)
      ∧ r.2.mem ((c.tc : Thread Cert.MixBFwdReferenceIdeal.nD Cert.MixBFwdReferenceIdeal.τ).loc Cert.MixBFwdReferenceIdeal.main_arg4) = m ((c.tc : Thread Cert.MixBFwdReferenceIdeal.nD Cert.MixBFwdReferenceIdeal.τ).loc Cert.MixBFwdReferenceIdeal.main_arg4)
      ∧ r.2.mem ((c.tc : Thread Cert.MixBFwdReferenceIdeal.nD Cert.MixBFwdReferenceIdeal.τ).loc Cert.MixBFwdReferenceIdeal.main_arg5) = m ((c.tc : Thread Cert.MixBFwdReferenceIdeal.nD Cert.MixBFwdReferenceIdeal.τ).loc Cert.MixBFwdReferenceIdeal.main_arg5))
      ∧ r.2.sem = fun _ => 0)

def quiescent_AdamwSquare [hAdamwSquare : Cert.AdamwSquare.Facts] : Prop :=
  ∀ (m : (ℓ : Loc Cert.AdamwSquare.nD Cert.AdamwSquare.τ Cert.AdamwSquare.sig) → Buf (Elt Bits) ℓ) (g : Dev Cert.AdamwSquare.nD → PrngReg), Pre_AdamwSquare m →
    θ_run (Cert.AdamwSquare.defs (F := Bits)) (onTc (τ := Cert.AdamwSquare.τ) (Cert.AdamwSquare.main (F := Bits))) ⟨m, fun _ => 0, g⟩ (fun r => (∀ c : Dev Cert.AdamwSquare.nD,
      r.2.mem ((c.tc : Thread Cert.AdamwSquare.nD Cert.AdamwSquare.τ).loc Cert.AdamwSquare.main_arg0) = m ((c.tc : Thread Cert.AdamwSquare.nD Cert.AdamwSquare.τ).loc Cert.AdamwSquare.main_arg0)
      ∧ r.2.mem ((c.tc : Thread Cert.AdamwSquare.nD Cert.AdamwSquare.τ).loc Cert.AdamwSquare.main_arg1) = m ((c.tc : Thread Cert.AdamwSquare.nD Cert.AdamwSquare.τ).loc Cert.AdamwSquare.main_arg1)
      ∧ r.2.mem ((c.tc : Thread Cert.AdamwSquare.nD Cert.AdamwSquare.τ).loc Cert.AdamwSquare.main_arg2) = m ((c.tc : Thread Cert.AdamwSquare.nD Cert.AdamwSquare.τ).loc Cert.AdamwSquare.main_arg2)
      ∧ r.2.mem ((c.tc : Thread Cert.AdamwSquare.nD Cert.AdamwSquare.τ).loc Cert.AdamwSquare.main_arg3) = m ((c.tc : Thread Cert.AdamwSquare.nD Cert.AdamwSquare.τ).loc Cert.AdamwSquare.main_arg3))
      ∧ r.2.sem = fun _ => 0)

def quiescent_AdamwSquareIdeal [hAdamwSquareIdeal : Cert.AdamwSquareIdeal.Facts] : Prop :=
  ∀ (m : (ℓ : Loc Cert.AdamwSquareIdeal.nD Cert.AdamwSquareIdeal.τ Cert.AdamwSquareIdeal.sig) → Buf (Elt Ideal) ℓ) (g : Dev Cert.AdamwSquareIdeal.nD → PrngReg), Pre_AdamwSquareIdeal m →
    θ_run (Cert.AdamwSquareIdeal.defs (F := Ideal)) (onTc (τ := Cert.AdamwSquareIdeal.τ) (Cert.AdamwSquareIdeal.main (F := Ideal))) ⟨m, fun _ => 0, g⟩ (fun r => (∀ c : Dev Cert.AdamwSquareIdeal.nD,
      r.2.mem ((c.tc : Thread Cert.AdamwSquareIdeal.nD Cert.AdamwSquareIdeal.τ).loc Cert.AdamwSquareIdeal.main_arg0) = m ((c.tc : Thread Cert.AdamwSquareIdeal.nD Cert.AdamwSquareIdeal.τ).loc Cert.AdamwSquareIdeal.main_arg0)
      ∧ r.2.mem ((c.tc : Thread Cert.AdamwSquareIdeal.nD Cert.AdamwSquareIdeal.τ).loc Cert.AdamwSquareIdeal.main_arg1) = m ((c.tc : Thread Cert.AdamwSquareIdeal.nD Cert.AdamwSquareIdeal.τ).loc Cert.AdamwSquareIdeal.main_arg1)
      ∧ r.2.mem ((c.tc : Thread Cert.AdamwSquareIdeal.nD Cert.AdamwSquareIdeal.τ).loc Cert.AdamwSquareIdeal.main_arg2) = m ((c.tc : Thread Cert.AdamwSquareIdeal.nD Cert.AdamwSquareIdeal.τ).loc Cert.AdamwSquareIdeal.main_arg2)
      ∧ r.2.mem ((c.tc : Thread Cert.AdamwSquareIdeal.nD Cert.AdamwSquareIdeal.τ).loc Cert.AdamwSquareIdeal.main_arg3) = m ((c.tc : Thread Cert.AdamwSquareIdeal.nD Cert.AdamwSquareIdeal.τ).loc Cert.AdamwSquareIdeal.main_arg3))
      ∧ r.2.sem = fun _ => 0)

def quiescent_AdamwSquareReferenceIdeal [hAdamwSquareReferenceIdeal : Cert.AdamwSquareReferenceIdeal.Facts] : Prop :=
  ∀ (m : (ℓ : Loc Cert.AdamwSquareReferenceIdeal.nD Cert.AdamwSquareReferenceIdeal.τ Cert.AdamwSquareReferenceIdeal.sig) → Buf (Elt Ideal) ℓ) (g : Dev Cert.AdamwSquareReferenceIdeal.nD → PrngReg), Pre_AdamwSquareReferenceIdeal m →
    θ_run (Cert.AdamwSquareReferenceIdeal.defs (F := Ideal)) (onTc (τ := Cert.AdamwSquareReferenceIdeal.τ) (Cert.AdamwSquareReferenceIdeal.main (F := Ideal))) ⟨m, fun _ => 0, g⟩ (fun r => (∀ c : Dev Cert.AdamwSquareReferenceIdeal.nD,
      r.2.mem ((c.tc : Thread Cert.AdamwSquareReferenceIdeal.nD Cert.AdamwSquareReferenceIdeal.τ).loc Cert.AdamwSquareReferenceIdeal.main_arg0) = m ((c.tc : Thread Cert.AdamwSquareReferenceIdeal.nD Cert.AdamwSquareReferenceIdeal.τ).loc Cert.AdamwSquareReferenceIdeal.main_arg0)
      ∧ r.2.mem ((c.tc : Thread Cert.AdamwSquareReferenceIdeal.nD Cert.AdamwSquareReferenceIdeal.τ).loc Cert.AdamwSquareReferenceIdeal.main_arg1) = m ((c.tc : Thread Cert.AdamwSquareReferenceIdeal.nD Cert.AdamwSquareReferenceIdeal.τ).loc Cert.AdamwSquareReferenceIdeal.main_arg1)
      ∧ r.2.mem ((c.tc : Thread Cert.AdamwSquareReferenceIdeal.nD Cert.AdamwSquareReferenceIdeal.τ).loc Cert.AdamwSquareReferenceIdeal.main_arg2) = m ((c.tc : Thread Cert.AdamwSquareReferenceIdeal.nD Cert.AdamwSquareReferenceIdeal.τ).loc Cert.AdamwSquareReferenceIdeal.main_arg2)
      ∧ r.2.mem ((c.tc : Thread Cert.AdamwSquareReferenceIdeal.nD Cert.AdamwSquareReferenceIdeal.τ).loc Cert.AdamwSquareReferenceIdeal.main_arg3) = m ((c.tc : Thread Cert.AdamwSquareReferenceIdeal.nD Cert.AdamwSquareReferenceIdeal.τ).loc Cert.AdamwSquareReferenceIdeal.main_arg3))
      ∧ r.2.sem = fun _ => 0)

def quiescent_AdamwIn [hAdamwIn : Cert.AdamwIn.Facts] : Prop :=
  ∀ (m : (ℓ : Loc Cert.AdamwIn.nD Cert.AdamwIn.τ Cert.AdamwIn.sig) → Buf (Elt Bits) ℓ) (g : Dev Cert.AdamwIn.nD → PrngReg), Pre_AdamwIn m →
    θ_run (Cert.AdamwIn.defs (F := Bits)) (onTc (τ := Cert.AdamwIn.τ) (Cert.AdamwIn.main (F := Bits))) ⟨m, fun _ => 0, g⟩ (fun r => (∀ c : Dev Cert.AdamwIn.nD,
      r.2.mem ((c.tc : Thread Cert.AdamwIn.nD Cert.AdamwIn.τ).loc Cert.AdamwIn.main_arg0) = m ((c.tc : Thread Cert.AdamwIn.nD Cert.AdamwIn.τ).loc Cert.AdamwIn.main_arg0)
      ∧ r.2.mem ((c.tc : Thread Cert.AdamwIn.nD Cert.AdamwIn.τ).loc Cert.AdamwIn.main_arg1) = m ((c.tc : Thread Cert.AdamwIn.nD Cert.AdamwIn.τ).loc Cert.AdamwIn.main_arg1)
      ∧ r.2.mem ((c.tc : Thread Cert.AdamwIn.nD Cert.AdamwIn.τ).loc Cert.AdamwIn.main_arg2) = m ((c.tc : Thread Cert.AdamwIn.nD Cert.AdamwIn.τ).loc Cert.AdamwIn.main_arg2)
      ∧ r.2.mem ((c.tc : Thread Cert.AdamwIn.nD Cert.AdamwIn.τ).loc Cert.AdamwIn.main_arg3) = m ((c.tc : Thread Cert.AdamwIn.nD Cert.AdamwIn.τ).loc Cert.AdamwIn.main_arg3))
      ∧ r.2.sem = fun _ => 0)

def quiescent_AdamwInIdeal [hAdamwInIdeal : Cert.AdamwInIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg), Pre_AdamwInIdeal m →
    θ_run (Cert.AdamwInIdeal.defs (F := Ideal)) (onTc (τ := Cert.AdamwInIdeal.τ) (Cert.AdamwInIdeal.main (F := Ideal))) ⟨m, fun _ => 0, g⟩ (fun r => (∀ c : Dev Cert.AdamwInIdeal.nD,
      r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
      ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
      ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
      ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3))
      ∧ r.2.sem = fun _ => 0)

def quiescent_AdamwInReferenceIdeal [hAdamwInReferenceIdeal : Cert.AdamwInReferenceIdeal.Facts] : Prop :=
  ∀ (m : (ℓ : Loc Cert.AdamwInReferenceIdeal.nD Cert.AdamwInReferenceIdeal.τ Cert.AdamwInReferenceIdeal.sig) → Buf (Elt Ideal) ℓ) (g : Dev Cert.AdamwInReferenceIdeal.nD → PrngReg), Pre_AdamwInReferenceIdeal m →
    θ_run (Cert.AdamwInReferenceIdeal.defs (F := Ideal)) (onTc (τ := Cert.AdamwInReferenceIdeal.τ) (Cert.AdamwInReferenceIdeal.main (F := Ideal))) ⟨m, fun _ => 0, g⟩ (fun r => (∀ c : Dev Cert.AdamwInReferenceIdeal.nD,
      r.2.mem ((c.tc : Thread Cert.AdamwInReferenceIdeal.nD Cert.AdamwInReferenceIdeal.τ).loc Cert.AdamwInReferenceIdeal.main_arg0) = m ((c.tc : Thread Cert.AdamwInReferenceIdeal.nD Cert.AdamwInReferenceIdeal.τ).loc Cert.AdamwInReferenceIdeal.main_arg0)
      ∧ r.2.mem ((c.tc : Thread Cert.AdamwInReferenceIdeal.nD Cert.AdamwInReferenceIdeal.τ).loc Cert.AdamwInReferenceIdeal.main_arg1) = m ((c.tc : Thread Cert.AdamwInReferenceIdeal.nD Cert.AdamwInReferenceIdeal.τ).loc Cert.AdamwInReferenceIdeal.main_arg1)
      ∧ r.2.mem ((c.tc : Thread Cert.AdamwInReferenceIdeal.nD Cert.AdamwInReferenceIdeal.τ).loc Cert.AdamwInReferenceIdeal.main_arg2) = m ((c.tc : Thread Cert.AdamwInReferenceIdeal.nD Cert.AdamwInReferenceIdeal.τ).loc Cert.AdamwInReferenceIdeal.main_arg2)
      ∧ r.2.mem ((c.tc : Thread Cert.AdamwInReferenceIdeal.nD Cert.AdamwInReferenceIdeal.τ).loc Cert.AdamwInReferenceIdeal.main_arg3) = m ((c.tc : Thread Cert.AdamwInReferenceIdeal.nD Cert.AdamwInReferenceIdeal.τ).loc Cert.AdamwInReferenceIdeal.main_arg3))
      ∧ r.2.sem = fun _ => 0)

def quiescent_AdamwKv [hAdamwKv : Cert.AdamwKv.Facts] : Prop :=
  ∀ (m : (ℓ : Loc Cert.AdamwKv.nD Cert.AdamwKv.τ Cert.AdamwKv.sig) → Buf (Elt Bits) ℓ) (g : Dev Cert.AdamwKv.nD → PrngReg), Pre_AdamwKv m →
    θ_run (Cert.AdamwKv.defs (F := Bits)) (onTc (τ := Cert.AdamwKv.τ) (Cert.AdamwKv.main (F := Bits))) ⟨m, fun _ => 0, g⟩ (fun r => (∀ c : Dev Cert.AdamwKv.nD,
      r.2.mem ((c.tc : Thread Cert.AdamwKv.nD Cert.AdamwKv.τ).loc Cert.AdamwKv.main_arg0) = m ((c.tc : Thread Cert.AdamwKv.nD Cert.AdamwKv.τ).loc Cert.AdamwKv.main_arg0)
      ∧ r.2.mem ((c.tc : Thread Cert.AdamwKv.nD Cert.AdamwKv.τ).loc Cert.AdamwKv.main_arg1) = m ((c.tc : Thread Cert.AdamwKv.nD Cert.AdamwKv.τ).loc Cert.AdamwKv.main_arg1)
      ∧ r.2.mem ((c.tc : Thread Cert.AdamwKv.nD Cert.AdamwKv.τ).loc Cert.AdamwKv.main_arg2) = m ((c.tc : Thread Cert.AdamwKv.nD Cert.AdamwKv.τ).loc Cert.AdamwKv.main_arg2)
      ∧ r.2.mem ((c.tc : Thread Cert.AdamwKv.nD Cert.AdamwKv.τ).loc Cert.AdamwKv.main_arg3) = m ((c.tc : Thread Cert.AdamwKv.nD Cert.AdamwKv.τ).loc Cert.AdamwKv.main_arg3))
      ∧ r.2.sem = fun _ => 0)

def quiescent_AdamwKvIdeal [hAdamwKvIdeal : Cert.AdamwKvIdeal.Facts] : Prop :=
  ∀ (m : (ℓ : Loc Cert.AdamwKvIdeal.nD Cert.AdamwKvIdeal.τ Cert.AdamwKvIdeal.sig) → Buf (Elt Ideal) ℓ) (g : Dev Cert.AdamwKvIdeal.nD → PrngReg), Pre_AdamwKvIdeal m →
    θ_run (Cert.AdamwKvIdeal.defs (F := Ideal)) (onTc (τ := Cert.AdamwKvIdeal.τ) (Cert.AdamwKvIdeal.main (F := Ideal))) ⟨m, fun _ => 0, g⟩ (fun r => (∀ c : Dev Cert.AdamwKvIdeal.nD,
      r.2.mem ((c.tc : Thread Cert.AdamwKvIdeal.nD Cert.AdamwKvIdeal.τ).loc Cert.AdamwKvIdeal.main_arg0) = m ((c.tc : Thread Cert.AdamwKvIdeal.nD Cert.AdamwKvIdeal.τ).loc Cert.AdamwKvIdeal.main_arg0)
      ∧ r.2.mem ((c.tc : Thread Cert.AdamwKvIdeal.nD Cert.AdamwKvIdeal.τ).loc Cert.AdamwKvIdeal.main_arg1) = m ((c.tc : Thread Cert.AdamwKvIdeal.nD Cert.AdamwKvIdeal.τ).loc Cert.AdamwKvIdeal.main_arg1)
      ∧ r.2.mem ((c.tc : Thread Cert.AdamwKvIdeal.nD Cert.AdamwKvIdeal.τ).loc Cert.AdamwKvIdeal.main_arg2) = m ((c.tc : Thread Cert.AdamwKvIdeal.nD Cert.AdamwKvIdeal.τ).loc Cert.AdamwKvIdeal.main_arg2)
      ∧ r.2.mem ((c.tc : Thread Cert.AdamwKvIdeal.nD Cert.AdamwKvIdeal.τ).loc Cert.AdamwKvIdeal.main_arg3) = m ((c.tc : Thread Cert.AdamwKvIdeal.nD Cert.AdamwKvIdeal.τ).loc Cert.AdamwKvIdeal.main_arg3))
      ∧ r.2.sem = fun _ => 0)

def quiescent_AdamwKvReferenceIdeal [hAdamwKvReferenceIdeal : Cert.AdamwKvReferenceIdeal.Facts] : Prop :=
  ∀ (m : (ℓ : Loc Cert.AdamwKvReferenceIdeal.nD Cert.AdamwKvReferenceIdeal.τ Cert.AdamwKvReferenceIdeal.sig) → Buf (Elt Ideal) ℓ) (g : Dev Cert.AdamwKvReferenceIdeal.nD → PrngReg), Pre_AdamwKvReferenceIdeal m →
    θ_run (Cert.AdamwKvReferenceIdeal.defs (F := Ideal)) (onTc (τ := Cert.AdamwKvReferenceIdeal.τ) (Cert.AdamwKvReferenceIdeal.main (F := Ideal))) ⟨m, fun _ => 0, g⟩ (fun r => (∀ c : Dev Cert.AdamwKvReferenceIdeal.nD,
      r.2.mem ((c.tc : Thread Cert.AdamwKvReferenceIdeal.nD Cert.AdamwKvReferenceIdeal.τ).loc Cert.AdamwKvReferenceIdeal.main_arg0) = m ((c.tc : Thread Cert.AdamwKvReferenceIdeal.nD Cert.AdamwKvReferenceIdeal.τ).loc Cert.AdamwKvReferenceIdeal.main_arg0)
      ∧ r.2.mem ((c.tc : Thread Cert.AdamwKvReferenceIdeal.nD Cert.AdamwKvReferenceIdeal.τ).loc Cert.AdamwKvReferenceIdeal.main_arg1) = m ((c.tc : Thread Cert.AdamwKvReferenceIdeal.nD Cert.AdamwKvReferenceIdeal.τ).loc Cert.AdamwKvReferenceIdeal.main_arg1)
      ∧ r.2.mem ((c.tc : Thread Cert.AdamwKvReferenceIdeal.nD Cert.AdamwKvReferenceIdeal.τ).loc Cert.AdamwKvReferenceIdeal.main_arg2) = m ((c.tc : Thread Cert.AdamwKvReferenceIdeal.nD Cert.AdamwKvReferenceIdeal.τ).loc Cert.AdamwKvReferenceIdeal.main_arg2)
      ∧ r.2.mem ((c.tc : Thread Cert.AdamwKvReferenceIdeal.nD Cert.AdamwKvReferenceIdeal.τ).loc Cert.AdamwKvReferenceIdeal.main_arg3) = m ((c.tc : Thread Cert.AdamwKvReferenceIdeal.nD Cert.AdamwKvReferenceIdeal.τ).loc Cert.AdamwKvReferenceIdeal.main_arg3))
      ∧ r.2.sem = fun _ => 0)

def quiescent_AdamwFf [hAdamwFf : Cert.AdamwFf.Facts] : Prop :=
  ∀ (m : (ℓ : Loc Cert.AdamwFf.nD Cert.AdamwFf.τ Cert.AdamwFf.sig) → Buf (Elt Bits) ℓ) (g : Dev Cert.AdamwFf.nD → PrngReg), Pre_AdamwFf m →
    θ_run (Cert.AdamwFf.defs (F := Bits)) (onTc (τ := Cert.AdamwFf.τ) (Cert.AdamwFf.main (F := Bits))) ⟨m, fun _ => 0, g⟩ (fun r => (∀ c : Dev Cert.AdamwFf.nD,
      r.2.mem ((c.tc : Thread Cert.AdamwFf.nD Cert.AdamwFf.τ).loc Cert.AdamwFf.main_arg0) = m ((c.tc : Thread Cert.AdamwFf.nD Cert.AdamwFf.τ).loc Cert.AdamwFf.main_arg0)
      ∧ r.2.mem ((c.tc : Thread Cert.AdamwFf.nD Cert.AdamwFf.τ).loc Cert.AdamwFf.main_arg1) = m ((c.tc : Thread Cert.AdamwFf.nD Cert.AdamwFf.τ).loc Cert.AdamwFf.main_arg1)
      ∧ r.2.mem ((c.tc : Thread Cert.AdamwFf.nD Cert.AdamwFf.τ).loc Cert.AdamwFf.main_arg2) = m ((c.tc : Thread Cert.AdamwFf.nD Cert.AdamwFf.τ).loc Cert.AdamwFf.main_arg2)
      ∧ r.2.mem ((c.tc : Thread Cert.AdamwFf.nD Cert.AdamwFf.τ).loc Cert.AdamwFf.main_arg3) = m ((c.tc : Thread Cert.AdamwFf.nD Cert.AdamwFf.τ).loc Cert.AdamwFf.main_arg3))
      ∧ r.2.sem = fun _ => 0)

def quiescent_AdamwFfIdeal [hAdamwFfIdeal : Cert.AdamwFfIdeal.Facts] : Prop :=
  ∀ (m : (ℓ : Loc Cert.AdamwFfIdeal.nD Cert.AdamwFfIdeal.τ Cert.AdamwFfIdeal.sig) → Buf (Elt Ideal) ℓ) (g : Dev Cert.AdamwFfIdeal.nD → PrngReg), Pre_AdamwFfIdeal m →
    θ_run (Cert.AdamwFfIdeal.defs (F := Ideal)) (onTc (τ := Cert.AdamwFfIdeal.τ) (Cert.AdamwFfIdeal.main (F := Ideal))) ⟨m, fun _ => 0, g⟩ (fun r => (∀ c : Dev Cert.AdamwFfIdeal.nD,
      r.2.mem ((c.tc : Thread Cert.AdamwFfIdeal.nD Cert.AdamwFfIdeal.τ).loc Cert.AdamwFfIdeal.main_arg0) = m ((c.tc : Thread Cert.AdamwFfIdeal.nD Cert.AdamwFfIdeal.τ).loc Cert.AdamwFfIdeal.main_arg0)
      ∧ r.2.mem ((c.tc : Thread Cert.AdamwFfIdeal.nD Cert.AdamwFfIdeal.τ).loc Cert.AdamwFfIdeal.main_arg1) = m ((c.tc : Thread Cert.AdamwFfIdeal.nD Cert.AdamwFfIdeal.τ).loc Cert.AdamwFfIdeal.main_arg1)
      ∧ r.2.mem ((c.tc : Thread Cert.AdamwFfIdeal.nD Cert.AdamwFfIdeal.τ).loc Cert.AdamwFfIdeal.main_arg2) = m ((c.tc : Thread Cert.AdamwFfIdeal.nD Cert.AdamwFfIdeal.τ).loc Cert.AdamwFfIdeal.main_arg2)
      ∧ r.2.mem ((c.tc : Thread Cert.AdamwFfIdeal.nD Cert.AdamwFfIdeal.τ).loc Cert.AdamwFfIdeal.main_arg3) = m ((c.tc : Thread Cert.AdamwFfIdeal.nD Cert.AdamwFfIdeal.τ).loc Cert.AdamwFfIdeal.main_arg3))
      ∧ r.2.sem = fun _ => 0)

def quiescent_AdamwFfReferenceIdeal [hAdamwFfReferenceIdeal : Cert.AdamwFfReferenceIdeal.Facts] : Prop :=
  ∀ (m : (ℓ : Loc Cert.AdamwFfReferenceIdeal.nD Cert.AdamwFfReferenceIdeal.τ Cert.AdamwFfReferenceIdeal.sig) → Buf (Elt Ideal) ℓ) (g : Dev Cert.AdamwFfReferenceIdeal.nD → PrngReg), Pre_AdamwFfReferenceIdeal m →
    θ_run (Cert.AdamwFfReferenceIdeal.defs (F := Ideal)) (onTc (τ := Cert.AdamwFfReferenceIdeal.τ) (Cert.AdamwFfReferenceIdeal.main (F := Ideal))) ⟨m, fun _ => 0, g⟩ (fun r => (∀ c : Dev Cert.AdamwFfReferenceIdeal.nD,
      r.2.mem ((c.tc : Thread Cert.AdamwFfReferenceIdeal.nD Cert.AdamwFfReferenceIdeal.τ).loc Cert.AdamwFfReferenceIdeal.main_arg0) = m ((c.tc : Thread Cert.AdamwFfReferenceIdeal.nD Cert.AdamwFfReferenceIdeal.τ).loc Cert.AdamwFfReferenceIdeal.main_arg0)
      ∧ r.2.mem ((c.tc : Thread Cert.AdamwFfReferenceIdeal.nD Cert.AdamwFfReferenceIdeal.τ).loc Cert.AdamwFfReferenceIdeal.main_arg1) = m ((c.tc : Thread Cert.AdamwFfReferenceIdeal.nD Cert.AdamwFfReferenceIdeal.τ).loc Cert.AdamwFfReferenceIdeal.main_arg1)
      ∧ r.2.mem ((c.tc : Thread Cert.AdamwFfReferenceIdeal.nD Cert.AdamwFfReferenceIdeal.τ).loc Cert.AdamwFfReferenceIdeal.main_arg2) = m ((c.tc : Thread Cert.AdamwFfReferenceIdeal.nD Cert.AdamwFfReferenceIdeal.τ).loc Cert.AdamwFfReferenceIdeal.main_arg2)
      ∧ r.2.mem ((c.tc : Thread Cert.AdamwFfReferenceIdeal.nD Cert.AdamwFfReferenceIdeal.τ).loc Cert.AdamwFfReferenceIdeal.main_arg3) = m ((c.tc : Thread Cert.AdamwFfReferenceIdeal.nD Cert.AdamwFfReferenceIdeal.τ).loc Cert.AdamwFfReferenceIdeal.main_arg3))
      ∧ r.2.sem = fun _ => 0)

def quiescent_AdamwSmall [hAdamwSmall : Cert.AdamwSmall.Facts] : Prop :=
  ∀ (m : (ℓ : Loc Cert.AdamwSmall.nD Cert.AdamwSmall.τ Cert.AdamwSmall.sig) → Buf (Elt Bits) ℓ) (g : Dev Cert.AdamwSmall.nD → PrngReg), Pre_AdamwSmall m →
    θ_run (Cert.AdamwSmall.defs (F := Bits)) (onTc (τ := Cert.AdamwSmall.τ) (Cert.AdamwSmall.main (F := Bits))) ⟨m, fun _ => 0, g⟩ (fun r => (∀ c : Dev Cert.AdamwSmall.nD,
      r.2.mem ((c.tc : Thread Cert.AdamwSmall.nD Cert.AdamwSmall.τ).loc Cert.AdamwSmall.main_arg0) = m ((c.tc : Thread Cert.AdamwSmall.nD Cert.AdamwSmall.τ).loc Cert.AdamwSmall.main_arg0)
      ∧ r.2.mem ((c.tc : Thread Cert.AdamwSmall.nD Cert.AdamwSmall.τ).loc Cert.AdamwSmall.main_arg1) = m ((c.tc : Thread Cert.AdamwSmall.nD Cert.AdamwSmall.τ).loc Cert.AdamwSmall.main_arg1)
      ∧ r.2.mem ((c.tc : Thread Cert.AdamwSmall.nD Cert.AdamwSmall.τ).loc Cert.AdamwSmall.main_arg2) = m ((c.tc : Thread Cert.AdamwSmall.nD Cert.AdamwSmall.τ).loc Cert.AdamwSmall.main_arg2)
      ∧ r.2.mem ((c.tc : Thread Cert.AdamwSmall.nD Cert.AdamwSmall.τ).loc Cert.AdamwSmall.main_arg3) = m ((c.tc : Thread Cert.AdamwSmall.nD Cert.AdamwSmall.τ).loc Cert.AdamwSmall.main_arg3))
      ∧ r.2.sem = fun _ => 0)

def quiescent_AdamwSmallIdeal [hAdamwSmallIdeal : Cert.AdamwSmallIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg), Pre_AdamwSmallIdeal m →
    θ_run (Cert.AdamwSmallIdeal.defs (F := Ideal)) (onTc (τ := Cert.AdamwSmallIdeal.τ) (Cert.AdamwSmallIdeal.main (F := Ideal))) ⟨m, fun _ => 0, g⟩ (fun r => (∀ c : Dev Cert.AdamwSmallIdeal.nD,
      r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
      ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
      ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
      ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3))
      ∧ r.2.sem = fun _ => 0)

def quiescent_AdamwSmallReferenceIdeal [hAdamwSmallReferenceIdeal : Cert.AdamwSmallReferenceIdeal.Facts] : Prop :=
  ∀ (m : (ℓ : Loc Cert.AdamwSmallReferenceIdeal.nD Cert.AdamwSmallReferenceIdeal.τ Cert.AdamwSmallReferenceIdeal.sig) → Buf (Elt Ideal) ℓ) (g : Dev Cert.AdamwSmallReferenceIdeal.nD → PrngReg), Pre_AdamwSmallReferenceIdeal m →
    θ_run (Cert.AdamwSmallReferenceIdeal.defs (F := Ideal)) (onTc (τ := Cert.AdamwSmallReferenceIdeal.τ) (Cert.AdamwSmallReferenceIdeal.main (F := Ideal))) ⟨m, fun _ => 0, g⟩ (fun r => (∀ c : Dev Cert.AdamwSmallReferenceIdeal.nD,
      r.2.mem ((c.tc : Thread Cert.AdamwSmallReferenceIdeal.nD Cert.AdamwSmallReferenceIdeal.τ).loc Cert.AdamwSmallReferenceIdeal.main_arg0) = m ((c.tc : Thread Cert.AdamwSmallReferenceIdeal.nD Cert.AdamwSmallReferenceIdeal.τ).loc Cert.AdamwSmallReferenceIdeal.main_arg0)
      ∧ r.2.mem ((c.tc : Thread Cert.AdamwSmallReferenceIdeal.nD Cert.AdamwSmallReferenceIdeal.τ).loc Cert.AdamwSmallReferenceIdeal.main_arg1) = m ((c.tc : Thread Cert.AdamwSmallReferenceIdeal.nD Cert.AdamwSmallReferenceIdeal.τ).loc Cert.AdamwSmallReferenceIdeal.main_arg1)
      ∧ r.2.mem ((c.tc : Thread Cert.AdamwSmallReferenceIdeal.nD Cert.AdamwSmallReferenceIdeal.τ).loc Cert.AdamwSmallReferenceIdeal.main_arg2) = m ((c.tc : Thread Cert.AdamwSmallReferenceIdeal.nD Cert.AdamwSmallReferenceIdeal.τ).loc Cert.AdamwSmallReferenceIdeal.main_arg2)
      ∧ r.2.mem ((c.tc : Thread Cert.AdamwSmallReferenceIdeal.nD Cert.AdamwSmallReferenceIdeal.τ).loc Cert.AdamwSmallReferenceIdeal.main_arg3) = m ((c.tc : Thread Cert.AdamwSmallReferenceIdeal.nD Cert.AdamwSmallReferenceIdeal.τ).loc Cert.AdamwSmallReferenceIdeal.main_arg3))
      ∧ r.2.sem = fun _ => 0)

def quiescent_MixBBwd [hMixBBwd : Cert.MixBBwd.Facts] : Prop :=
  ∀ (m : (ℓ : Loc Cert.MixBBwd.nD Cert.MixBBwd.τ Cert.MixBBwd.sig) → Buf (Elt Bits) ℓ) (g : Dev Cert.MixBBwd.nD → PrngReg), Pre_MixBBwd m →
    θ_run (Cert.MixBBwd.defs (F := Bits)) (onTc (τ := Cert.MixBBwd.τ) (Cert.MixBBwd.main (F := Bits))) ⟨m, fun _ => 0, g⟩ (fun r => (∀ c : Dev Cert.MixBBwd.nD,
      r.2.mem ((c.tc : Thread Cert.MixBBwd.nD Cert.MixBBwd.τ).loc Cert.MixBBwd.main_arg0) = m ((c.tc : Thread Cert.MixBBwd.nD Cert.MixBBwd.τ).loc Cert.MixBBwd.main_arg0)
      ∧ r.2.mem ((c.tc : Thread Cert.MixBBwd.nD Cert.MixBBwd.τ).loc Cert.MixBBwd.main_arg1) = m ((c.tc : Thread Cert.MixBBwd.nD Cert.MixBBwd.τ).loc Cert.MixBBwd.main_arg1)
      ∧ r.2.mem ((c.tc : Thread Cert.MixBBwd.nD Cert.MixBBwd.τ).loc Cert.MixBBwd.main_arg2) = m ((c.tc : Thread Cert.MixBBwd.nD Cert.MixBBwd.τ).loc Cert.MixBBwd.main_arg2)
      ∧ r.2.mem ((c.tc : Thread Cert.MixBBwd.nD Cert.MixBBwd.τ).loc Cert.MixBBwd.main_arg3) = m ((c.tc : Thread Cert.MixBBwd.nD Cert.MixBBwd.τ).loc Cert.MixBBwd.main_arg3)
      ∧ r.2.mem ((c.tc : Thread Cert.MixBBwd.nD Cert.MixBBwd.τ).loc Cert.MixBBwd.main_arg4) = m ((c.tc : Thread Cert.MixBBwd.nD Cert.MixBBwd.τ).loc Cert.MixBBwd.main_arg4)
      ∧ r.2.mem ((c.tc : Thread Cert.MixBBwd.nD Cert.MixBBwd.τ).loc Cert.MixBBwd.main_arg5) = m ((c.tc : Thread Cert.MixBBwd.nD Cert.MixBBwd.τ).loc Cert.MixBBwd.main_arg5)
      ∧ r.2.mem ((c.tc : Thread Cert.MixBBwd.nD Cert.MixBBwd.τ).loc Cert.MixBBwd.main_arg6) = m ((c.tc : Thread Cert.MixBBwd.nD Cert.MixBBwd.τ).loc Cert.MixBBwd.main_arg6))
      ∧ r.2.sem = fun _ => 0)

def quiescent_MixBBwdIdeal [hMixBBwdIdeal : Cert.MixBBwdIdeal.Facts] : Prop :=
  ∀ (m : (ℓ : Loc Cert.MixBBwdIdeal.nD Cert.MixBBwdIdeal.τ Cert.MixBBwdIdeal.sig) → Buf (Elt Ideal) ℓ) (g : Dev Cert.MixBBwdIdeal.nD → PrngReg), Pre_MixBBwdIdeal m →
    θ_run (Cert.MixBBwdIdeal.defs (F := Ideal)) (onTc (τ := Cert.MixBBwdIdeal.τ) (Cert.MixBBwdIdeal.main (F := Ideal))) ⟨m, fun _ => 0, g⟩ (fun r => (∀ c : Dev Cert.MixBBwdIdeal.nD,
      r.2.mem ((c.tc : Thread Cert.MixBBwdIdeal.nD Cert.MixBBwdIdeal.τ).loc Cert.MixBBwdIdeal.main_arg0) = m ((c.tc : Thread Cert.MixBBwdIdeal.nD Cert.MixBBwdIdeal.τ).loc Cert.MixBBwdIdeal.main_arg0)
      ∧ r.2.mem ((c.tc : Thread Cert.MixBBwdIdeal.nD Cert.MixBBwdIdeal.τ).loc Cert.MixBBwdIdeal.main_arg1) = m ((c.tc : Thread Cert.MixBBwdIdeal.nD Cert.MixBBwdIdeal.τ).loc Cert.MixBBwdIdeal.main_arg1)
      ∧ r.2.mem ((c.tc : Thread Cert.MixBBwdIdeal.nD Cert.MixBBwdIdeal.τ).loc Cert.MixBBwdIdeal.main_arg2) = m ((c.tc : Thread Cert.MixBBwdIdeal.nD Cert.MixBBwdIdeal.τ).loc Cert.MixBBwdIdeal.main_arg2)
      ∧ r.2.mem ((c.tc : Thread Cert.MixBBwdIdeal.nD Cert.MixBBwdIdeal.τ).loc Cert.MixBBwdIdeal.main_arg3) = m ((c.tc : Thread Cert.MixBBwdIdeal.nD Cert.MixBBwdIdeal.τ).loc Cert.MixBBwdIdeal.main_arg3)
      ∧ r.2.mem ((c.tc : Thread Cert.MixBBwdIdeal.nD Cert.MixBBwdIdeal.τ).loc Cert.MixBBwdIdeal.main_arg4) = m ((c.tc : Thread Cert.MixBBwdIdeal.nD Cert.MixBBwdIdeal.τ).loc Cert.MixBBwdIdeal.main_arg4)
      ∧ r.2.mem ((c.tc : Thread Cert.MixBBwdIdeal.nD Cert.MixBBwdIdeal.τ).loc Cert.MixBBwdIdeal.main_arg5) = m ((c.tc : Thread Cert.MixBBwdIdeal.nD Cert.MixBBwdIdeal.τ).loc Cert.MixBBwdIdeal.main_arg5)
      ∧ r.2.mem ((c.tc : Thread Cert.MixBBwdIdeal.nD Cert.MixBBwdIdeal.τ).loc Cert.MixBBwdIdeal.main_arg6) = m ((c.tc : Thread Cert.MixBBwdIdeal.nD Cert.MixBBwdIdeal.τ).loc Cert.MixBBwdIdeal.main_arg6))
      ∧ r.2.sem = fun _ => 0)

def quiescent_MixBBwdReferenceIdeal [hMixBBwdReferenceIdeal : Cert.MixBBwdReferenceIdeal.Facts] : Prop :=
  ∀ (m : (ℓ : Loc Cert.MixBBwdReferenceIdeal.nD Cert.MixBBwdReferenceIdeal.τ Cert.MixBBwdReferenceIdeal.sig) → Buf (Elt Ideal) ℓ) (g : Dev Cert.MixBBwdReferenceIdeal.nD → PrngReg), Pre_MixBBwdReferenceIdeal m →
    θ_run (Cert.MixBBwdReferenceIdeal.defs (F := Ideal)) (onTc (τ := Cert.MixBBwdReferenceIdeal.τ) (Cert.MixBBwdReferenceIdeal.main (F := Ideal))) ⟨m, fun _ => 0, g⟩ (fun r => (∀ c : Dev Cert.MixBBwdReferenceIdeal.nD,
      r.2.mem ((c.tc : Thread Cert.MixBBwdReferenceIdeal.nD Cert.MixBBwdReferenceIdeal.τ).loc Cert.MixBBwdReferenceIdeal.main_arg0) = m ((c.tc : Thread Cert.MixBBwdReferenceIdeal.nD Cert.MixBBwdReferenceIdeal.τ).loc Cert.MixBBwdReferenceIdeal.main_arg0)
      ∧ r.2.mem ((c.tc : Thread Cert.MixBBwdReferenceIdeal.nD Cert.MixBBwdReferenceIdeal.τ).loc Cert.MixBBwdReferenceIdeal.main_arg1) = m ((c.tc : Thread Cert.MixBBwdReferenceIdeal.nD Cert.MixBBwdReferenceIdeal.τ).loc Cert.MixBBwdReferenceIdeal.main_arg1)
      ∧ r.2.mem ((c.tc : Thread Cert.MixBBwdReferenceIdeal.nD Cert.MixBBwdReferenceIdeal.τ).loc Cert.MixBBwdReferenceIdeal.main_arg2) = m ((c.tc : Thread Cert.MixBBwdReferenceIdeal.nD Cert.MixBBwdReferenceIdeal.τ).loc Cert.MixBBwdReferenceIdeal.main_arg2)
      ∧ r.2.mem ((c.tc : Thread Cert.MixBBwdReferenceIdeal.nD Cert.MixBBwdReferenceIdeal.τ).loc Cert.MixBBwdReferenceIdeal.main_arg3) = m ((c.tc : Thread Cert.MixBBwdReferenceIdeal.nD Cert.MixBBwdReferenceIdeal.τ).loc Cert.MixBBwdReferenceIdeal.main_arg3)
      ∧ r.2.mem ((c.tc : Thread Cert.MixBBwdReferenceIdeal.nD Cert.MixBBwdReferenceIdeal.τ).loc Cert.MixBBwdReferenceIdeal.main_arg4) = m ((c.tc : Thread Cert.MixBBwdReferenceIdeal.nD Cert.MixBBwdReferenceIdeal.τ).loc Cert.MixBBwdReferenceIdeal.main_arg4)
      ∧ r.2.mem ((c.tc : Thread Cert.MixBBwdReferenceIdeal.nD Cert.MixBBwdReferenceIdeal.τ).loc Cert.MixBBwdReferenceIdeal.main_arg5) = m ((c.tc : Thread Cert.MixBBwdReferenceIdeal.nD Cert.MixBBwdReferenceIdeal.τ).loc Cert.MixBBwdReferenceIdeal.main_arg5)
      ∧ r.2.mem ((c.tc : Thread Cert.MixBBwdReferenceIdeal.nD Cert.MixBBwdReferenceIdeal.τ).loc Cert.MixBBwdReferenceIdeal.main_arg6) = m ((c.tc : Thread Cert.MixBBwdReferenceIdeal.nD Cert.MixBBwdReferenceIdeal.τ).loc Cert.MixBBwdReferenceIdeal.main_arg6))
      ∧ r.2.sem = fun _ => 0)

def preserves_Kernel_KernelIdeal : Prop :=
  True

def algebraic_KernelIdeal_ReferenceIdeal_pre_finite_queries_and_keys [hKernelIdeal : Cert.KernelIdeal.Facts] [hReferenceIdeal : Cert.ReferenceIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_v74) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_FfHidden_FfHiddenIdeal : Prop :=
  True

def algebraic_FfHiddenIdeal_FfHiddenReferenceIdeal [hFfHiddenIdeal : Cert.FfHiddenIdeal.Facts] [hFfHiddenReferenceIdeal : Cert.FfHiddenReferenceIdeal.Facts] : Prop :=
  ∀ (m : (ℓ : Loc Cert.FfHiddenIdeal.nD Cert.FfHiddenIdeal.τ Cert.FfHiddenIdeal.sig) → Buf (Elt Ideal) ℓ) (g : Dev Cert.FfHiddenIdeal.nD → PrngReg)
    (m' : (ℓ : Loc Cert.FfHiddenReferenceIdeal.nD Cert.FfHiddenReferenceIdeal.τ Cert.FfHiddenReferenceIdeal.sig) → Buf (Elt Ideal) ℓ) (g' : Dev Cert.FfHiddenReferenceIdeal.nD → PrngReg), Pre_FfHiddenIdeal m →
    (∀ c : Dev Cert.FfHiddenIdeal.nD,
      m' ((c.tc : Thread Cert.FfHiddenReferenceIdeal.nD Cert.FfHiddenReferenceIdeal.τ).loc Cert.FfHiddenReferenceIdeal.main_arg0) = m ((c.tc : Thread Cert.FfHiddenIdeal.nD Cert.FfHiddenIdeal.τ).loc Cert.FfHiddenIdeal.main_arg0)
      ∧ m' ((c.tc : Thread Cert.FfHiddenReferenceIdeal.nD Cert.FfHiddenReferenceIdeal.τ).loc Cert.FfHiddenReferenceIdeal.main_arg1) = m ((c.tc : Thread Cert.FfHiddenIdeal.nD Cert.FfHiddenIdeal.τ).loc Cert.FfHiddenIdeal.main_arg1)
      ∧ m' ((c.tc : Thread Cert.FfHiddenReferenceIdeal.nD Cert.FfHiddenReferenceIdeal.τ).loc Cert.FfHiddenReferenceIdeal.main_arg2) = m ((c.tc : Thread Cert.FfHiddenIdeal.nD Cert.FfHiddenIdeal.τ).loc Cert.FfHiddenIdeal.main_arg2)) →
    ∃ (v0 : (c : Dev Cert.FfHiddenIdeal.nD) → Buf (Elt Ideal) ((c.tc : Thread Cert.FfHiddenIdeal.nD Cert.FfHiddenIdeal.τ).loc Cert.FfHiddenIdeal.main_v0)),
      θ_run (Cert.FfHiddenIdeal.defs (F := Ideal)) (onTc (τ := Cert.FfHiddenIdeal.τ) (Cert.FfHiddenIdeal.main (F := Ideal))) ⟨m, fun _ => 0, g⟩ (fun r => ∀ c : Dev Cert.FfHiddenIdeal.nD,
          r.2.mem ((c.tc : Thread Cert.FfHiddenIdeal.nD Cert.FfHiddenIdeal.τ).loc Cert.FfHiddenIdeal.main_v0) = v0 c
          ∧ r.2.mem ((c.tc : Thread Cert.FfHiddenIdeal.nD Cert.FfHiddenIdeal.τ).loc Cert.FfHiddenIdeal.main_arg0) = m ((c.tc : Thread Cert.FfHiddenIdeal.nD Cert.FfHiddenIdeal.τ).loc Cert.FfHiddenIdeal.main_arg0)
          ∧ r.2.mem ((c.tc : Thread Cert.FfHiddenIdeal.nD Cert.FfHiddenIdeal.τ).loc Cert.FfHiddenIdeal.main_arg1) = m ((c.tc : Thread Cert.FfHiddenIdeal.nD Cert.FfHiddenIdeal.τ).loc Cert.FfHiddenIdeal.main_arg1)
          ∧ r.2.mem ((c.tc : Thread Cert.FfHiddenIdeal.nD Cert.FfHiddenIdeal.τ).loc Cert.FfHiddenIdeal.main_arg2) = m ((c.tc : Thread Cert.FfHiddenIdeal.nD Cert.FfHiddenIdeal.τ).loc Cert.FfHiddenIdeal.main_arg2))
      ∧ θ_run (Cert.FfHiddenReferenceIdeal.defs (F := Ideal)) (onTc (τ := Cert.FfHiddenReferenceIdeal.τ) (Cert.FfHiddenReferenceIdeal.main (F := Ideal))) ⟨m', fun _ => 0, g'⟩ (fun r => ∀ c : Dev Cert.FfHiddenReferenceIdeal.nD,
          r.2.mem ((c.tc : Thread Cert.FfHiddenReferenceIdeal.nD Cert.FfHiddenReferenceIdeal.τ).loc Cert.FfHiddenReferenceIdeal.main_v15) = v0 c
          ∧ r.2.mem ((c.tc : Thread Cert.FfHiddenReferenceIdeal.nD Cert.FfHiddenReferenceIdeal.τ).loc Cert.FfHiddenReferenceIdeal.main_arg0) = m' ((c.tc : Thread Cert.FfHiddenReferenceIdeal.nD Cert.FfHiddenReferenceIdeal.τ).loc Cert.FfHiddenReferenceIdeal.main_arg0)
          ∧ r.2.mem ((c.tc : Thread Cert.FfHiddenReferenceIdeal.nD Cert.FfHiddenReferenceIdeal.τ).loc Cert.FfHiddenReferenceIdeal.main_arg1) = m' ((c.tc : Thread Cert.FfHiddenReferenceIdeal.nD Cert.FfHiddenReferenceIdeal.τ).loc Cert.FfHiddenReferenceIdeal.main_arg1)
          ∧ r.2.mem ((c.tc : Thread Cert.FfHiddenReferenceIdeal.nD Cert.FfHiddenReferenceIdeal.τ).loc Cert.FfHiddenReferenceIdeal.main_arg2) = m' ((c.tc : Thread Cert.FfHiddenReferenceIdeal.nD Cert.FfHiddenReferenceIdeal.τ).loc Cert.FfHiddenReferenceIdeal.main_arg2))

def preserves_WFf2_WFf2Ideal : Prop :=
  True

def algebraic_WFf2Ideal_WFf2ReferenceIdeal [hWFf2Ideal : Cert.WFf2Ideal.Facts] [hWFf2ReferenceIdeal : Cert.WFf2ReferenceIdeal.Facts] : Prop :=
  ∀ (m : (ℓ : Loc Cert.WFf2Ideal.nD Cert.WFf2Ideal.τ Cert.WFf2Ideal.sig) → Buf (Elt Ideal) ℓ) (g : Dev Cert.WFf2Ideal.nD → PrngReg)
    (m' : (ℓ : Loc Cert.WFf2ReferenceIdeal.nD Cert.WFf2ReferenceIdeal.τ Cert.WFf2ReferenceIdeal.sig) → Buf (Elt Ideal) ℓ) (g' : Dev Cert.WFf2ReferenceIdeal.nD → PrngReg), Pre_WFf2Ideal m →
    (∀ c : Dev Cert.WFf2Ideal.nD,
      m' ((c.tc : Thread Cert.WFf2ReferenceIdeal.nD Cert.WFf2ReferenceIdeal.τ).loc Cert.WFf2ReferenceIdeal.main_arg0) = m ((c.tc : Thread Cert.WFf2Ideal.nD Cert.WFf2Ideal.τ).loc Cert.WFf2Ideal.main_arg0)
      ∧ m' ((c.tc : Thread Cert.WFf2ReferenceIdeal.nD Cert.WFf2ReferenceIdeal.τ).loc Cert.WFf2ReferenceIdeal.main_arg1) = m ((c.tc : Thread Cert.WFf2Ideal.nD Cert.WFf2Ideal.τ).loc Cert.WFf2Ideal.main_arg1)) →
    ∃ (v0 : (c : Dev Cert.WFf2Ideal.nD) → Buf (Elt Ideal) ((c.tc : Thread Cert.WFf2Ideal.nD Cert.WFf2Ideal.τ).loc Cert.WFf2Ideal.main_v0)),
      θ_run (Cert.WFf2Ideal.defs (F := Ideal)) (onTc (τ := Cert.WFf2Ideal.τ) (Cert.WFf2Ideal.main (F := Ideal))) ⟨m, fun _ => 0, g⟩ (fun r => ∀ c : Dev Cert.WFf2Ideal.nD,
          r.2.mem ((c.tc : Thread Cert.WFf2Ideal.nD Cert.WFf2Ideal.τ).loc Cert.WFf2Ideal.main_v0) = v0 c
          ∧ r.2.mem ((c.tc : Thread Cert.WFf2Ideal.nD Cert.WFf2Ideal.τ).loc Cert.WFf2Ideal.main_arg0) = m ((c.tc : Thread Cert.WFf2Ideal.nD Cert.WFf2Ideal.τ).loc Cert.WFf2Ideal.main_arg0)
          ∧ r.2.mem ((c.tc : Thread Cert.WFf2Ideal.nD Cert.WFf2Ideal.τ).loc Cert.WFf2Ideal.main_arg1) = m ((c.tc : Thread Cert.WFf2Ideal.nD Cert.WFf2Ideal.τ).loc Cert.WFf2Ideal.main_arg1))
      ∧ θ_run (Cert.WFf2ReferenceIdeal.defs (F := Ideal)) (onTc (τ := Cert.WFf2ReferenceIdeal.τ) (Cert.WFf2ReferenceIdeal.main (F := Ideal))) ⟨m', fun _ => 0, g'⟩ (fun r => ∀ c : Dev Cert.WFf2ReferenceIdeal.nD,
          r.2.mem ((c.tc : Thread Cert.WFf2ReferenceIdeal.nD Cert.WFf2ReferenceIdeal.τ).loc Cert.WFf2ReferenceIdeal.main_v6) = v0 c
          ∧ r.2.mem ((c.tc : Thread Cert.WFf2ReferenceIdeal.nD Cert.WFf2ReferenceIdeal.τ).loc Cert.WFf2ReferenceIdeal.main_arg0) = m' ((c.tc : Thread Cert.WFf2ReferenceIdeal.nD Cert.WFf2ReferenceIdeal.τ).loc Cert.WFf2ReferenceIdeal.main_arg0)
          ∧ r.2.mem ((c.tc : Thread Cert.WFf2ReferenceIdeal.nD Cert.WFf2ReferenceIdeal.τ).loc Cert.WFf2ReferenceIdeal.main_arg1) = m' ((c.tc : Thread Cert.WFf2ReferenceIdeal.nD Cert.WFf2ReferenceIdeal.τ).loc Cert.WFf2ReferenceIdeal.main_arg1))

def preserves_WFf1_WFf1Ideal : Prop :=
  True

def algebraic_WFf1Ideal_WFf1ReferenceIdeal [hWFf1Ideal : Cert.WFf1Ideal.Facts] [hWFf1ReferenceIdeal : Cert.WFf1ReferenceIdeal.Facts] : Prop :=
  ∀ (m : (ℓ : Loc Cert.WFf1Ideal.nD Cert.WFf1Ideal.τ Cert.WFf1Ideal.sig) → Buf (Elt Ideal) ℓ) (g : Dev Cert.WFf1Ideal.nD → PrngReg)
    (m' : (ℓ : Loc Cert.WFf1ReferenceIdeal.nD Cert.WFf1ReferenceIdeal.τ Cert.WFf1ReferenceIdeal.sig) → Buf (Elt Ideal) ℓ) (g' : Dev Cert.WFf1ReferenceIdeal.nD → PrngReg), Pre_WFf1Ideal m →
    (∀ c : Dev Cert.WFf1Ideal.nD,
      m' ((c.tc : Thread Cert.WFf1ReferenceIdeal.nD Cert.WFf1ReferenceIdeal.τ).loc Cert.WFf1ReferenceIdeal.main_arg0) = m ((c.tc : Thread Cert.WFf1Ideal.nD Cert.WFf1Ideal.τ).loc Cert.WFf1Ideal.main_arg0)
      ∧ m' ((c.tc : Thread Cert.WFf1ReferenceIdeal.nD Cert.WFf1ReferenceIdeal.τ).loc Cert.WFf1ReferenceIdeal.main_arg1) = m ((c.tc : Thread Cert.WFf1Ideal.nD Cert.WFf1Ideal.τ).loc Cert.WFf1Ideal.main_arg1)) →
    ∃ (v0 : (c : Dev Cert.WFf1Ideal.nD) → Buf (Elt Ideal) ((c.tc : Thread Cert.WFf1Ideal.nD Cert.WFf1Ideal.τ).loc Cert.WFf1Ideal.main_v0)),
      θ_run (Cert.WFf1Ideal.defs (F := Ideal)) (onTc (τ := Cert.WFf1Ideal.τ) (Cert.WFf1Ideal.main (F := Ideal))) ⟨m, fun _ => 0, g⟩ (fun r => ∀ c : Dev Cert.WFf1Ideal.nD,
          r.2.mem ((c.tc : Thread Cert.WFf1Ideal.nD Cert.WFf1Ideal.τ).loc Cert.WFf1Ideal.main_v0) = v0 c
          ∧ r.2.mem ((c.tc : Thread Cert.WFf1Ideal.nD Cert.WFf1Ideal.τ).loc Cert.WFf1Ideal.main_arg0) = m ((c.tc : Thread Cert.WFf1Ideal.nD Cert.WFf1Ideal.τ).loc Cert.WFf1Ideal.main_arg0)
          ∧ r.2.mem ((c.tc : Thread Cert.WFf1Ideal.nD Cert.WFf1Ideal.τ).loc Cert.WFf1Ideal.main_arg1) = m ((c.tc : Thread Cert.WFf1Ideal.nD Cert.WFf1Ideal.τ).loc Cert.WFf1Ideal.main_arg1))
      ∧ θ_run (Cert.WFf1ReferenceIdeal.defs (F := Ideal)) (onTc (τ := Cert.WFf1ReferenceIdeal.τ) (Cert.WFf1ReferenceIdeal.main (F := Ideal))) ⟨m', fun _ => 0, g'⟩ (fun r => ∀ c : Dev Cert.WFf1ReferenceIdeal.nD,
          r.2.mem ((c.tc : Thread Cert.WFf1ReferenceIdeal.nD Cert.WFf1ReferenceIdeal.τ).loc Cert.WFf1ReferenceIdeal.main_v7) = v0 c
          ∧ r.2.mem ((c.tc : Thread Cert.WFf1ReferenceIdeal.nD Cert.WFf1ReferenceIdeal.τ).loc Cert.WFf1ReferenceIdeal.main_arg0) = m' ((c.tc : Thread Cert.WFf1ReferenceIdeal.nD Cert.WFf1ReferenceIdeal.τ).loc Cert.WFf1ReferenceIdeal.main_arg0)
          ∧ r.2.mem ((c.tc : Thread Cert.WFf1ReferenceIdeal.nD Cert.WFf1ReferenceIdeal.τ).loc Cert.WFf1ReferenceIdeal.main_arg1) = m' ((c.tc : Thread Cert.WFf1ReferenceIdeal.nD Cert.WFf1ReferenceIdeal.τ).loc Cert.WFf1ReferenceIdeal.main_arg1))

def preserves_WO_WOIdeal : Prop :=
  True

def algebraic_WOIdeal_WOReferenceIdeal [hWOIdeal : Cert.WOIdeal.Facts] [hWOReferenceIdeal : Cert.WOReferenceIdeal.Facts] : Prop :=
  ∀ (m : (ℓ : Loc Cert.WOIdeal.nD Cert.WOIdeal.τ Cert.WOIdeal.sig) → Buf (Elt Ideal) ℓ) (g : Dev Cert.WOIdeal.nD → PrngReg)
    (m' : (ℓ : Loc Cert.WOReferenceIdeal.nD Cert.WOReferenceIdeal.τ Cert.WOReferenceIdeal.sig) → Buf (Elt Ideal) ℓ) (g' : Dev Cert.WOReferenceIdeal.nD → PrngReg), Pre_WOIdeal m →
    (∀ c : Dev Cert.WOIdeal.nD,
      m' ((c.tc : Thread Cert.WOReferenceIdeal.nD Cert.WOReferenceIdeal.τ).loc Cert.WOReferenceIdeal.main_arg0) = m ((c.tc : Thread Cert.WOIdeal.nD Cert.WOIdeal.τ).loc Cert.WOIdeal.main_arg0)
      ∧ m' ((c.tc : Thread Cert.WOReferenceIdeal.nD Cert.WOReferenceIdeal.τ).loc Cert.WOReferenceIdeal.main_arg1) = m ((c.tc : Thread Cert.WOIdeal.nD Cert.WOIdeal.τ).loc Cert.WOIdeal.main_arg1)) →
    ∃ (v0 : (c : Dev Cert.WOIdeal.nD) → Buf (Elt Ideal) ((c.tc : Thread Cert.WOIdeal.nD Cert.WOIdeal.τ).loc Cert.WOIdeal.main_v0)),
      θ_run (Cert.WOIdeal.defs (F := Ideal)) (onTc (τ := Cert.WOIdeal.τ) (Cert.WOIdeal.main (F := Ideal))) ⟨m, fun _ => 0, g⟩ (fun r => ∀ c : Dev Cert.WOIdeal.nD,
          r.2.mem ((c.tc : Thread Cert.WOIdeal.nD Cert.WOIdeal.τ).loc Cert.WOIdeal.main_v0) = v0 c
          ∧ r.2.mem ((c.tc : Thread Cert.WOIdeal.nD Cert.WOIdeal.τ).loc Cert.WOIdeal.main_arg0) = m ((c.tc : Thread Cert.WOIdeal.nD Cert.WOIdeal.τ).loc Cert.WOIdeal.main_arg0)
          ∧ r.2.mem ((c.tc : Thread Cert.WOIdeal.nD Cert.WOIdeal.τ).loc Cert.WOIdeal.main_arg1) = m ((c.tc : Thread Cert.WOIdeal.nD Cert.WOIdeal.τ).loc Cert.WOIdeal.main_arg1))
      ∧ θ_run (Cert.WOReferenceIdeal.defs (F := Ideal)) (onTc (τ := Cert.WOReferenceIdeal.τ) (Cert.WOReferenceIdeal.main (F := Ideal))) ⟨m', fun _ => 0, g'⟩ (fun r => ∀ c : Dev Cert.WOReferenceIdeal.nD,
          r.2.mem ((c.tc : Thread Cert.WOReferenceIdeal.nD Cert.WOReferenceIdeal.τ).loc Cert.WOReferenceIdeal.main_v6) = v0 c
          ∧ r.2.mem ((c.tc : Thread Cert.WOReferenceIdeal.nD Cert.WOReferenceIdeal.τ).loc Cert.WOReferenceIdeal.main_arg0) = m' ((c.tc : Thread Cert.WOReferenceIdeal.nD Cert.WOReferenceIdeal.τ).loc Cert.WOReferenceIdeal.main_arg0)
          ∧ r.2.mem ((c.tc : Thread Cert.WOReferenceIdeal.nD Cert.WOReferenceIdeal.τ).loc Cert.WOReferenceIdeal.main_arg1) = m' ((c.tc : Thread Cert.WOReferenceIdeal.nD Cert.WOReferenceIdeal.τ).loc Cert.WOReferenceIdeal.main_arg1))

def preserves_WKv_WKvIdeal : Prop :=
  True

def algebraic_WKvIdeal_WKvReferenceIdeal [hWKvIdeal : Cert.WKvIdeal.Facts] [hWKvReferenceIdeal : Cert.WKvReferenceIdeal.Facts] : Prop :=
  ∀ (m : (ℓ : Loc Cert.WKvIdeal.nD Cert.WKvIdeal.τ Cert.WKvIdeal.sig) → Buf (Elt Ideal) ℓ) (g : Dev Cert.WKvIdeal.nD → PrngReg)
    (m' : (ℓ : Loc Cert.WKvReferenceIdeal.nD Cert.WKvReferenceIdeal.τ Cert.WKvReferenceIdeal.sig) → Buf (Elt Ideal) ℓ) (g' : Dev Cert.WKvReferenceIdeal.nD → PrngReg), Pre_WKvIdeal m →
    (∀ c : Dev Cert.WKvIdeal.nD,
      m' ((c.tc : Thread Cert.WKvReferenceIdeal.nD Cert.WKvReferenceIdeal.τ).loc Cert.WKvReferenceIdeal.main_arg0) = m ((c.tc : Thread Cert.WKvIdeal.nD Cert.WKvIdeal.τ).loc Cert.WKvIdeal.main_arg0)
      ∧ m' ((c.tc : Thread Cert.WKvReferenceIdeal.nD Cert.WKvReferenceIdeal.τ).loc Cert.WKvReferenceIdeal.main_arg1) = m ((c.tc : Thread Cert.WKvIdeal.nD Cert.WKvIdeal.τ).loc Cert.WKvIdeal.main_arg1)) →
    ∃ (v0 : (c : Dev Cert.WKvIdeal.nD) → Buf (Elt Ideal) ((c.tc : Thread Cert.WKvIdeal.nD Cert.WKvIdeal.τ).loc Cert.WKvIdeal.main_v0)),
      θ_run (Cert.WKvIdeal.defs (F := Ideal)) (onTc (τ := Cert.WKvIdeal.τ) (Cert.WKvIdeal.main (F := Ideal))) ⟨m, fun _ => 0, g⟩ (fun r => ∀ c : Dev Cert.WKvIdeal.nD,
          r.2.mem ((c.tc : Thread Cert.WKvIdeal.nD Cert.WKvIdeal.τ).loc Cert.WKvIdeal.main_v0) = v0 c
          ∧ r.2.mem ((c.tc : Thread Cert.WKvIdeal.nD Cert.WKvIdeal.τ).loc Cert.WKvIdeal.main_arg0) = m ((c.tc : Thread Cert.WKvIdeal.nD Cert.WKvIdeal.τ).loc Cert.WKvIdeal.main_arg0)
          ∧ r.2.mem ((c.tc : Thread Cert.WKvIdeal.nD Cert.WKvIdeal.τ).loc Cert.WKvIdeal.main_arg1) = m ((c.tc : Thread Cert.WKvIdeal.nD Cert.WKvIdeal.τ).loc Cert.WKvIdeal.main_arg1))
      ∧ θ_run (Cert.WKvReferenceIdeal.defs (F := Ideal)) (onTc (τ := Cert.WKvReferenceIdeal.τ) (Cert.WKvReferenceIdeal.main (F := Ideal))) ⟨m', fun _ => 0, g'⟩ (fun r => ∀ c : Dev Cert.WKvReferenceIdeal.nD,
          r.2.mem ((c.tc : Thread Cert.WKvReferenceIdeal.nD Cert.WKvReferenceIdeal.τ).loc Cert.WKvReferenceIdeal.main_v7) = v0 c
          ∧ r.2.mem ((c.tc : Thread Cert.WKvReferenceIdeal.nD Cert.WKvReferenceIdeal.τ).loc Cert.WKvReferenceIdeal.main_arg0) = m' ((c.tc : Thread Cert.WKvReferenceIdeal.nD Cert.WKvReferenceIdeal.τ).loc Cert.WKvReferenceIdeal.main_arg0)
          ∧ r.2.mem ((c.tc : Thread Cert.WKvReferenceIdeal.nD Cert.WKvReferenceIdeal.τ).loc Cert.WKvReferenceIdeal.main_arg1) = m' ((c.tc : Thread Cert.WKvReferenceIdeal.nD Cert.WKvReferenceIdeal.τ).loc Cert.WKvReferenceIdeal.main_arg1))

def preserves_AttOut_AttOutIdeal : Prop :=
  True

def algebraic_AttOutIdeal_AttOutReferenceIdeal [hAttOutIdeal : Cert.AttOutIdeal.Facts] [hAttOutReferenceIdeal : Cert.AttOutReferenceIdeal.Facts] : Prop :=
  ∀ (m : (ℓ : Loc Cert.AttOutIdeal.nD Cert.AttOutIdeal.τ Cert.AttOutIdeal.sig) → Buf (Elt Ideal) ℓ) (g : Dev Cert.AttOutIdeal.nD → PrngReg)
    (m' : (ℓ : Loc Cert.AttOutReferenceIdeal.nD Cert.AttOutReferenceIdeal.τ Cert.AttOutReferenceIdeal.sig) → Buf (Elt Ideal) ℓ) (g' : Dev Cert.AttOutReferenceIdeal.nD → PrngReg), Pre_AttOutIdeal m →
    (∀ c : Dev Cert.AttOutIdeal.nD,
      m' ((c.tc : Thread Cert.AttOutReferenceIdeal.nD Cert.AttOutReferenceIdeal.τ).loc Cert.AttOutReferenceIdeal.main_arg0) = m ((c.tc : Thread Cert.AttOutIdeal.nD Cert.AttOutIdeal.τ).loc Cert.AttOutIdeal.main_arg0)
      ∧ m' ((c.tc : Thread Cert.AttOutReferenceIdeal.nD Cert.AttOutReferenceIdeal.τ).loc Cert.AttOutReferenceIdeal.main_arg1) = m ((c.tc : Thread Cert.AttOutIdeal.nD Cert.AttOutIdeal.τ).loc Cert.AttOutIdeal.main_arg1)) →
    ∃ (v0 : (c : Dev Cert.AttOutIdeal.nD) → Buf (Elt Ideal) ((c.tc : Thread Cert.AttOutIdeal.nD Cert.AttOutIdeal.τ).loc Cert.AttOutIdeal.main_v0)),
      θ_run (Cert.AttOutIdeal.defs (F := Ideal)) (onTc (τ := Cert.AttOutIdeal.τ) (Cert.AttOutIdeal.main (F := Ideal))) ⟨m, fun _ => 0, g⟩ (fun r => ∀ c : Dev Cert.AttOutIdeal.nD,
          r.2.mem ((c.tc : Thread Cert.AttOutIdeal.nD Cert.AttOutIdeal.τ).loc Cert.AttOutIdeal.main_v0) = v0 c
          ∧ r.2.mem ((c.tc : Thread Cert.AttOutIdeal.nD Cert.AttOutIdeal.τ).loc Cert.AttOutIdeal.main_arg0) = m ((c.tc : Thread Cert.AttOutIdeal.nD Cert.AttOutIdeal.τ).loc Cert.AttOutIdeal.main_arg0)
          ∧ r.2.mem ((c.tc : Thread Cert.AttOutIdeal.nD Cert.AttOutIdeal.τ).loc Cert.AttOutIdeal.main_arg1) = m ((c.tc : Thread Cert.AttOutIdeal.nD Cert.AttOutIdeal.τ).loc Cert.AttOutIdeal.main_arg1))
      ∧ θ_run (Cert.AttOutReferenceIdeal.defs (F := Ideal)) (onTc (τ := Cert.AttOutReferenceIdeal.τ) (Cert.AttOutReferenceIdeal.main (F := Ideal))) ⟨m', fun _ => 0, g'⟩ (fun r => ∀ c : Dev Cert.AttOutReferenceIdeal.nD,
          r.2.mem ((c.tc : Thread Cert.AttOutReferenceIdeal.nD Cert.AttOutReferenceIdeal.τ).loc Cert.AttOutReferenceIdeal.main_v5) = v0 c
          ∧ r.2.mem ((c.tc : Thread Cert.AttOutReferenceIdeal.nD Cert.AttOutReferenceIdeal.τ).loc Cert.AttOutReferenceIdeal.main_arg0) = m' ((c.tc : Thread Cert.AttOutReferenceIdeal.nD Cert.AttOutReferenceIdeal.τ).loc Cert.AttOutReferenceIdeal.main_arg0)
          ∧ r.2.mem ((c.tc : Thread Cert.AttOutReferenceIdeal.nD Cert.AttOutReferenceIdeal.τ).loc Cert.AttOutReferenceIdeal.main_arg1) = m' ((c.tc : Thread Cert.AttOutReferenceIdeal.nD Cert.AttOutReferenceIdeal.τ).loc Cert.AttOutReferenceIdeal.main_arg1))

def preserves_MixerOut_MixerOutIdeal : Prop :=
  True

def algebraic_MixerOutIdeal_MixerOutReferenceIdeal [hMixerOutIdeal : Cert.MixerOutIdeal.Facts] [hMixerOutReferenceIdeal : Cert.MixerOutReferenceIdeal.Facts] : Prop :=
  ∀ (m : (ℓ : Loc Cert.MixerOutIdeal.nD Cert.MixerOutIdeal.τ Cert.MixerOutIdeal.sig) → Buf (Elt Ideal) ℓ) (g : Dev Cert.MixerOutIdeal.nD → PrngReg)
    (m' : (ℓ : Loc Cert.MixerOutReferenceIdeal.nD Cert.MixerOutReferenceIdeal.τ Cert.MixerOutReferenceIdeal.sig) → Buf (Elt Ideal) ℓ) (g' : Dev Cert.MixerOutReferenceIdeal.nD → PrngReg), Pre_MixerOutIdeal m →
    (∀ c : Dev Cert.MixerOutIdeal.nD,
      m' ((c.tc : Thread Cert.MixerOutReferenceIdeal.nD Cert.MixerOutReferenceIdeal.τ).loc Cert.MixerOutReferenceIdeal.main_arg0) = m ((c.tc : Thread Cert.MixerOutIdeal.nD Cert.MixerOutIdeal.τ).loc Cert.MixerOutIdeal.main_arg0)
      ∧ m' ((c.tc : Thread Cert.MixerOutReferenceIdeal.nD Cert.MixerOutReferenceIdeal.τ).loc Cert.MixerOutReferenceIdeal.main_arg1) = m ((c.tc : Thread Cert.MixerOutIdeal.nD Cert.MixerOutIdeal.τ).loc Cert.MixerOutIdeal.main_arg1)) →
    ∃ (v0 : (c : Dev Cert.MixerOutIdeal.nD) → Buf (Elt Ideal) ((c.tc : Thread Cert.MixerOutIdeal.nD Cert.MixerOutIdeal.τ).loc Cert.MixerOutIdeal.main_v0_0)) (v1 : (c : Dev Cert.MixerOutIdeal.nD) → Buf (Elt Ideal) ((c.tc : Thread Cert.MixerOutIdeal.nD Cert.MixerOutIdeal.τ).loc Cert.MixerOutIdeal.main_v0_1)) (v2 : (c : Dev Cert.MixerOutIdeal.nD) → Buf (Elt Ideal) ((c.tc : Thread Cert.MixerOutIdeal.nD Cert.MixerOutIdeal.τ).loc Cert.MixerOutIdeal.main_v0_2)),
      θ_run (Cert.MixerOutIdeal.defs (F := Ideal)) (onTc (τ := Cert.MixerOutIdeal.τ) (Cert.MixerOutIdeal.main (F := Ideal))) ⟨m, fun _ => 0, g⟩ (fun r => ∀ c : Dev Cert.MixerOutIdeal.nD,
          r.2.mem ((c.tc : Thread Cert.MixerOutIdeal.nD Cert.MixerOutIdeal.τ).loc Cert.MixerOutIdeal.main_v0_0) = v0 c
          ∧ r.2.mem ((c.tc : Thread Cert.MixerOutIdeal.nD Cert.MixerOutIdeal.τ).loc Cert.MixerOutIdeal.main_v0_1) = v1 c
          ∧ r.2.mem ((c.tc : Thread Cert.MixerOutIdeal.nD Cert.MixerOutIdeal.τ).loc Cert.MixerOutIdeal.main_v0_2) = v2 c
          ∧ r.2.mem ((c.tc : Thread Cert.MixerOutIdeal.nD Cert.MixerOutIdeal.τ).loc Cert.MixerOutIdeal.main_arg0) = m ((c.tc : Thread Cert.MixerOutIdeal.nD Cert.MixerOutIdeal.τ).loc Cert.MixerOutIdeal.main_arg0)
          ∧ r.2.mem ((c.tc : Thread Cert.MixerOutIdeal.nD Cert.MixerOutIdeal.τ).loc Cert.MixerOutIdeal.main_arg1) = m ((c.tc : Thread Cert.MixerOutIdeal.nD Cert.MixerOutIdeal.τ).loc Cert.MixerOutIdeal.main_arg1))
      ∧ θ_run (Cert.MixerOutReferenceIdeal.defs (F := Ideal)) (onTc (τ := Cert.MixerOutReferenceIdeal.τ) (Cert.MixerOutReferenceIdeal.main (F := Ideal))) ⟨m', fun _ => 0, g'⟩ (fun r => ∀ c : Dev Cert.MixerOutReferenceIdeal.nD,
          r.2.mem ((c.tc : Thread Cert.MixerOutReferenceIdeal.nD Cert.MixerOutReferenceIdeal.τ).loc Cert.MixerOutReferenceIdeal.main_v8) = v0 c
          ∧ r.2.mem ((c.tc : Thread Cert.MixerOutReferenceIdeal.nD Cert.MixerOutReferenceIdeal.τ).loc Cert.MixerOutReferenceIdeal.main_v9) = v1 c
          ∧ r.2.mem ((c.tc : Thread Cert.MixerOutReferenceIdeal.nD Cert.MixerOutReferenceIdeal.τ).loc Cert.MixerOutReferenceIdeal.main_v10) = v2 c
          ∧ r.2.mem ((c.tc : Thread Cert.MixerOutReferenceIdeal.nD Cert.MixerOutReferenceIdeal.τ).loc Cert.MixerOutReferenceIdeal.main_arg0) = m' ((c.tc : Thread Cert.MixerOutReferenceIdeal.nD Cert.MixerOutReferenceIdeal.τ).loc Cert.MixerOutReferenceIdeal.main_arg0)
          ∧ r.2.mem ((c.tc : Thread Cert.MixerOutReferenceIdeal.nD Cert.MixerOutReferenceIdeal.τ).loc Cert.MixerOutReferenceIdeal.main_arg1) = m' ((c.tc : Thread Cert.MixerOutReferenceIdeal.nD Cert.MixerOutReferenceIdeal.τ).loc Cert.MixerOutReferenceIdeal.main_arg1))

def preserves_X2Ln2_X2Ln2Ideal : Prop :=
  True

def algebraic_X2Ln2Ideal_X2Ln2ReferenceIdeal_pre_finite_x2_ln2 [hX2Ln2Ideal : Cert.X2Ln2Ideal.Facts] [hX2Ln2ReferenceIdeal : Cert.X2Ln2ReferenceIdeal.Facts] [hPre_finite_x2_ln2 : Cert.Pre_finite_x2_ln2.Facts] : Prop :=
  ∀ (m : (ℓ : Loc Cert.X2Ln2Ideal.nD Cert.X2Ln2Ideal.τ Cert.X2Ln2Ideal.sig) → Buf (Elt Ideal) ℓ) (g : Dev Cert.X2Ln2Ideal.nD → PrngReg)
    (m' : (ℓ : Loc Cert.X2Ln2ReferenceIdeal.nD Cert.X2Ln2ReferenceIdeal.τ Cert.X2Ln2ReferenceIdeal.sig) → Buf (Elt Ideal) ℓ) (g' : Dev Cert.X2Ln2ReferenceIdeal.nD → PrngReg), Pre_X2Ln2Ideal_finite_x2_ln2 m →
    (∀ c : Dev Cert.X2Ln2Ideal.nD,
      m' ((c.tc : Thread Cert.X2Ln2ReferenceIdeal.nD Cert.X2Ln2ReferenceIdeal.τ).loc Cert.X2Ln2ReferenceIdeal.main_arg0) = m ((c.tc : Thread Cert.X2Ln2Ideal.nD Cert.X2Ln2Ideal.τ).loc Cert.X2Ln2Ideal.main_arg0)
      ∧ m' ((c.tc : Thread Cert.X2Ln2ReferenceIdeal.nD Cert.X2Ln2ReferenceIdeal.τ).loc Cert.X2Ln2ReferenceIdeal.main_arg1) = m ((c.tc : Thread Cert.X2Ln2Ideal.nD Cert.X2Ln2Ideal.τ).loc Cert.X2Ln2Ideal.main_arg1)
      ∧ m' ((c.tc : Thread Cert.X2Ln2ReferenceIdeal.nD Cert.X2Ln2ReferenceIdeal.τ).loc Cert.X2Ln2ReferenceIdeal.main_arg2) = m ((c.tc : Thread Cert.X2Ln2Ideal.nD Cert.X2Ln2Ideal.τ).loc Cert.X2Ln2Ideal.main_arg2)
      ∧ m' ((c.tc : Thread Cert.X2Ln2ReferenceIdeal.nD Cert.X2Ln2ReferenceIdeal.τ).loc Cert.X2Ln2ReferenceIdeal.main_arg3) = m ((c.tc : Thread Cert.X2Ln2Ideal.nD Cert.X2Ln2Ideal.τ).loc Cert.X2Ln2Ideal.main_arg3)
      ∧ m' ((c.tc : Thread Cert.X2Ln2ReferenceIdeal.nD Cert.X2Ln2ReferenceIdeal.τ).loc Cert.X2Ln2ReferenceIdeal.main_arg4) = m ((c.tc : Thread Cert.X2Ln2Ideal.nD Cert.X2Ln2Ideal.τ).loc Cert.X2Ln2Ideal.main_arg4)) →
    ∃ (v0 : (c : Dev Cert.X2Ln2Ideal.nD) → Buf (Elt Ideal) ((c.tc : Thread Cert.X2Ln2Ideal.nD Cert.X2Ln2Ideal.τ).loc Cert.X2Ln2Ideal.main_v0_0)) (v1 : (c : Dev Cert.X2Ln2Ideal.nD) → Buf (Elt Ideal) ((c.tc : Thread Cert.X2Ln2Ideal.nD Cert.X2Ln2Ideal.τ).loc Cert.X2Ln2Ideal.main_v0_1)) (v2 : (c : Dev Cert.X2Ln2Ideal.nD) → Buf (Elt Ideal) ((c.tc : Thread Cert.X2Ln2Ideal.nD Cert.X2Ln2Ideal.τ).loc Cert.X2Ln2Ideal.main_v0_2)) (v3 : (c : Dev Cert.X2Ln2Ideal.nD) → Buf (Elt Ideal) ((c.tc : Thread Cert.X2Ln2Ideal.nD Cert.X2Ln2Ideal.τ).loc Cert.X2Ln2Ideal.main_v0_3)),
      θ_run (Cert.X2Ln2Ideal.defs (F := Ideal)) (onTc (τ := Cert.X2Ln2Ideal.τ) (Cert.X2Ln2Ideal.main (F := Ideal))) ⟨m, fun _ => 0, g⟩ (fun r => ∀ c : Dev Cert.X2Ln2Ideal.nD,
          r.2.mem ((c.tc : Thread Cert.X2Ln2Ideal.nD Cert.X2Ln2Ideal.τ).loc Cert.X2Ln2Ideal.main_v0_0) = v0 c
          ∧ r.2.mem ((c.tc : Thread Cert.X2Ln2Ideal.nD Cert.X2Ln2Ideal.τ).loc Cert.X2Ln2Ideal.main_v0_1) = v1 c
          ∧ r.2.mem ((c.tc : Thread Cert.X2Ln2Ideal.nD Cert.X2Ln2Ideal.τ).loc Cert.X2Ln2Ideal.main_v0_2) = v2 c
          ∧ r.2.mem ((c.tc : Thread Cert.X2Ln2Ideal.nD Cert.X2Ln2Ideal.τ).loc Cert.X2Ln2Ideal.main_v0_3) = v3 c
          ∧ r.2.mem ((c.tc : Thread Cert.X2Ln2Ideal.nD Cert.X2Ln2Ideal.τ).loc Cert.X2Ln2Ideal.main_arg0) = m ((c.tc : Thread Cert.X2Ln2Ideal.nD Cert.X2Ln2Ideal.τ).loc Cert.X2Ln2Ideal.main_arg0)
          ∧ r.2.mem ((c.tc : Thread Cert.X2Ln2Ideal.nD Cert.X2Ln2Ideal.τ).loc Cert.X2Ln2Ideal.main_arg1) = m ((c.tc : Thread Cert.X2Ln2Ideal.nD Cert.X2Ln2Ideal.τ).loc Cert.X2Ln2Ideal.main_arg1)
          ∧ r.2.mem ((c.tc : Thread Cert.X2Ln2Ideal.nD Cert.X2Ln2Ideal.τ).loc Cert.X2Ln2Ideal.main_arg2) = m ((c.tc : Thread Cert.X2Ln2Ideal.nD Cert.X2Ln2Ideal.τ).loc Cert.X2Ln2Ideal.main_arg2)
          ∧ r.2.mem ((c.tc : Thread Cert.X2Ln2Ideal.nD Cert.X2Ln2Ideal.τ).loc Cert.X2Ln2Ideal.main_arg3) = m ((c.tc : Thread Cert.X2Ln2Ideal.nD Cert.X2Ln2Ideal.τ).loc Cert.X2Ln2Ideal.main_arg3)
          ∧ r.2.mem ((c.tc : Thread Cert.X2Ln2Ideal.nD Cert.X2Ln2Ideal.τ).loc Cert.X2Ln2Ideal.main_arg4) = m ((c.tc : Thread Cert.X2Ln2Ideal.nD Cert.X2Ln2Ideal.τ).loc Cert.X2Ln2Ideal.main_arg4))
      ∧ θ_run (Cert.X2Ln2ReferenceIdeal.defs (F := Ideal)) (onTc (τ := Cert.X2Ln2ReferenceIdeal.τ) (Cert.X2Ln2ReferenceIdeal.main (F := Ideal))) ⟨m', fun _ => 0, g'⟩ (fun r => ∀ c : Dev Cert.X2Ln2ReferenceIdeal.nD,
          r.2.mem ((c.tc : Thread Cert.X2Ln2ReferenceIdeal.nD Cert.X2Ln2ReferenceIdeal.τ).loc Cert.X2Ln2ReferenceIdeal.main_v72) = v0 c
          ∧ r.2.mem ((c.tc : Thread Cert.X2Ln2ReferenceIdeal.nD Cert.X2Ln2ReferenceIdeal.τ).loc Cert.X2Ln2ReferenceIdeal.main_v73) = v1 c
          ∧ r.2.mem ((c.tc : Thread Cert.X2Ln2ReferenceIdeal.nD Cert.X2Ln2ReferenceIdeal.τ).loc Cert.X2Ln2ReferenceIdeal.main_v74) = v2 c
          ∧ r.2.mem ((c.tc : Thread Cert.X2Ln2ReferenceIdeal.nD Cert.X2Ln2ReferenceIdeal.τ).loc Cert.X2Ln2ReferenceIdeal.main_v75) = v3 c
          ∧ r.2.mem ((c.tc : Thread Cert.X2Ln2ReferenceIdeal.nD Cert.X2Ln2ReferenceIdeal.τ).loc Cert.X2Ln2ReferenceIdeal.main_arg0) = m' ((c.tc : Thread Cert.X2Ln2ReferenceIdeal.nD Cert.X2Ln2ReferenceIdeal.τ).loc Cert.X2Ln2ReferenceIdeal.main_arg0)
          ∧ r.2.mem ((c.tc : Thread Cert.X2Ln2ReferenceIdeal.nD Cert.X2Ln2ReferenceIdeal.τ).loc Cert.X2Ln2ReferenceIdeal.main_arg1) = m' ((c.tc : Thread Cert.X2Ln2ReferenceIdeal.nD Cert.X2Ln2ReferenceIdeal.τ).loc Cert.X2Ln2ReferenceIdeal.main_arg1)
          ∧ r.2.mem ((c.tc : Thread Cert.X2Ln2ReferenceIdeal.nD Cert.X2Ln2ReferenceIdeal.τ).loc Cert.X2Ln2ReferenceIdeal.main_arg2) = m' ((c.tc : Thread Cert.X2Ln2ReferenceIdeal.nD Cert.X2Ln2ReferenceIdeal.τ).loc Cert.X2Ln2ReferenceIdeal.main_arg2)
          ∧ r.2.mem ((c.tc : Thread Cert.X2Ln2ReferenceIdeal.nD Cert.X2Ln2ReferenceIdeal.τ).loc Cert.X2Ln2ReferenceIdeal.main_arg3) = m' ((c.tc : Thread Cert.X2Ln2ReferenceIdeal.nD Cert.X2Ln2ReferenceIdeal.τ).loc Cert.X2Ln2ReferenceIdeal.main_arg3)
          ∧ r.2.mem ((c.tc : Thread Cert.X2Ln2ReferenceIdeal.nD Cert.X2Ln2ReferenceIdeal.τ).loc Cert.X2Ln2ReferenceIdeal.main_arg4) = m' ((c.tc : Thread Cert.X2Ln2ReferenceIdeal.nD Cert.X2Ln2ReferenceIdeal.τ).loc Cert.X2Ln2ReferenceIdeal.main_arg4))

def preserves_X1Ln1_X1Ln1Ideal : Prop :=
  True

def algebraic_X1Ln1Ideal_X1Ln1ReferenceIdeal_pre_finite_x1_ln1 [hX1Ln1Ideal : Cert.X1Ln1Ideal.Facts] [hX1Ln1ReferenceIdeal : Cert.X1Ln1ReferenceIdeal.Facts] [hPre_finite_x1_ln1 : Cert.Pre_finite_x1_ln1.Facts] : Prop :=
  ∀ (m : (ℓ : Loc Cert.X1Ln1Ideal.nD Cert.X1Ln1Ideal.τ Cert.X1Ln1Ideal.sig) → Buf (Elt Ideal) ℓ) (g : Dev Cert.X1Ln1Ideal.nD → PrngReg)
    (m' : (ℓ : Loc Cert.X1Ln1ReferenceIdeal.nD Cert.X1Ln1ReferenceIdeal.τ Cert.X1Ln1ReferenceIdeal.sig) → Buf (Elt Ideal) ℓ) (g' : Dev Cert.X1Ln1ReferenceIdeal.nD → PrngReg), Pre_X1Ln1Ideal_finite_x1_ln1 m →
    (∀ c : Dev Cert.X1Ln1Ideal.nD,
      m' ((c.tc : Thread Cert.X1Ln1ReferenceIdeal.nD Cert.X1Ln1ReferenceIdeal.τ).loc Cert.X1Ln1ReferenceIdeal.main_arg0) = m ((c.tc : Thread Cert.X1Ln1Ideal.nD Cert.X1Ln1Ideal.τ).loc Cert.X1Ln1Ideal.main_arg0)
      ∧ m' ((c.tc : Thread Cert.X1Ln1ReferenceIdeal.nD Cert.X1Ln1ReferenceIdeal.τ).loc Cert.X1Ln1ReferenceIdeal.main_arg1) = m ((c.tc : Thread Cert.X1Ln1Ideal.nD Cert.X1Ln1Ideal.τ).loc Cert.X1Ln1Ideal.main_arg1)
      ∧ m' ((c.tc : Thread Cert.X1Ln1ReferenceIdeal.nD Cert.X1Ln1ReferenceIdeal.τ).loc Cert.X1Ln1ReferenceIdeal.main_arg2) = m ((c.tc : Thread Cert.X1Ln1Ideal.nD Cert.X1Ln1Ideal.τ).loc Cert.X1Ln1Ideal.main_arg2)
      ∧ m' ((c.tc : Thread Cert.X1Ln1ReferenceIdeal.nD Cert.X1Ln1ReferenceIdeal.τ).loc Cert.X1Ln1ReferenceIdeal.main_arg3) = m ((c.tc : Thread Cert.X1Ln1Ideal.nD Cert.X1Ln1Ideal.τ).loc Cert.X1Ln1Ideal.main_arg3)
      ∧ m' ((c.tc : Thread Cert.X1Ln1ReferenceIdeal.nD Cert.X1Ln1ReferenceIdeal.τ).loc Cert.X1Ln1ReferenceIdeal.main_arg4) = m ((c.tc : Thread Cert.X1Ln1Ideal.nD Cert.X1Ln1Ideal.τ).loc Cert.X1Ln1Ideal.main_arg4)) →
    ∃ (v0 : (c : Dev Cert.X1Ln1Ideal.nD) → Buf (Elt Ideal) ((c.tc : Thread Cert.X1Ln1Ideal.nD Cert.X1Ln1Ideal.τ).loc Cert.X1Ln1Ideal.main_v0_0)) (v1 : (c : Dev Cert.X1Ln1Ideal.nD) → Buf (Elt Ideal) ((c.tc : Thread Cert.X1Ln1Ideal.nD Cert.X1Ln1Ideal.τ).loc Cert.X1Ln1Ideal.main_v0_1)) (v2 : (c : Dev Cert.X1Ln1Ideal.nD) → Buf (Elt Ideal) ((c.tc : Thread Cert.X1Ln1Ideal.nD Cert.X1Ln1Ideal.τ).loc Cert.X1Ln1Ideal.main_v0_2)) (v3 : (c : Dev Cert.X1Ln1Ideal.nD) → Buf (Elt Ideal) ((c.tc : Thread Cert.X1Ln1Ideal.nD Cert.X1Ln1Ideal.τ).loc Cert.X1Ln1Ideal.main_v0_3)),
      θ_run (Cert.X1Ln1Ideal.defs (F := Ideal)) (onTc (τ := Cert.X1Ln1Ideal.τ) (Cert.X1Ln1Ideal.main (F := Ideal))) ⟨m, fun _ => 0, g⟩ (fun r => ∀ c : Dev Cert.X1Ln1Ideal.nD,
          r.2.mem ((c.tc : Thread Cert.X1Ln1Ideal.nD Cert.X1Ln1Ideal.τ).loc Cert.X1Ln1Ideal.main_v0_0) = v0 c
          ∧ r.2.mem ((c.tc : Thread Cert.X1Ln1Ideal.nD Cert.X1Ln1Ideal.τ).loc Cert.X1Ln1Ideal.main_v0_1) = v1 c
          ∧ r.2.mem ((c.tc : Thread Cert.X1Ln1Ideal.nD Cert.X1Ln1Ideal.τ).loc Cert.X1Ln1Ideal.main_v0_2) = v2 c
          ∧ r.2.mem ((c.tc : Thread Cert.X1Ln1Ideal.nD Cert.X1Ln1Ideal.τ).loc Cert.X1Ln1Ideal.main_v0_3) = v3 c
          ∧ r.2.mem ((c.tc : Thread Cert.X1Ln1Ideal.nD Cert.X1Ln1Ideal.τ).loc Cert.X1Ln1Ideal.main_arg0) = m ((c.tc : Thread Cert.X1Ln1Ideal.nD Cert.X1Ln1Ideal.τ).loc Cert.X1Ln1Ideal.main_arg0)
          ∧ r.2.mem ((c.tc : Thread Cert.X1Ln1Ideal.nD Cert.X1Ln1Ideal.τ).loc Cert.X1Ln1Ideal.main_arg1) = m ((c.tc : Thread Cert.X1Ln1Ideal.nD Cert.X1Ln1Ideal.τ).loc Cert.X1Ln1Ideal.main_arg1)
          ∧ r.2.mem ((c.tc : Thread Cert.X1Ln1Ideal.nD Cert.X1Ln1Ideal.τ).loc Cert.X1Ln1Ideal.main_arg2) = m ((c.tc : Thread Cert.X1Ln1Ideal.nD Cert.X1Ln1Ideal.τ).loc Cert.X1Ln1Ideal.main_arg2)
          ∧ r.2.mem ((c.tc : Thread Cert.X1Ln1Ideal.nD Cert.X1Ln1Ideal.τ).loc Cert.X1Ln1Ideal.main_arg3) = m ((c.tc : Thread Cert.X1Ln1Ideal.nD Cert.X1Ln1Ideal.τ).loc Cert.X1Ln1Ideal.main_arg3)
          ∧ r.2.mem ((c.tc : Thread Cert.X1Ln1Ideal.nD Cert.X1Ln1Ideal.τ).loc Cert.X1Ln1Ideal.main_arg4) = m ((c.tc : Thread Cert.X1Ln1Ideal.nD Cert.X1Ln1Ideal.τ).loc Cert.X1Ln1Ideal.main_arg4))
      ∧ θ_run (Cert.X1Ln1ReferenceIdeal.defs (F := Ideal)) (onTc (τ := Cert.X1Ln1ReferenceIdeal.τ) (Cert.X1Ln1ReferenceIdeal.main (F := Ideal))) ⟨m', fun _ => 0, g'⟩ (fun r => ∀ c : Dev Cert.X1Ln1ReferenceIdeal.nD,
          r.2.mem ((c.tc : Thread Cert.X1Ln1ReferenceIdeal.nD Cert.X1Ln1ReferenceIdeal.τ).loc Cert.X1Ln1ReferenceIdeal.main_v72) = v0 c
          ∧ r.2.mem ((c.tc : Thread Cert.X1Ln1ReferenceIdeal.nD Cert.X1Ln1ReferenceIdeal.τ).loc Cert.X1Ln1ReferenceIdeal.main_v73) = v1 c
          ∧ r.2.mem ((c.tc : Thread Cert.X1Ln1ReferenceIdeal.nD Cert.X1Ln1ReferenceIdeal.τ).loc Cert.X1Ln1ReferenceIdeal.main_v74) = v2 c
          ∧ r.2.mem ((c.tc : Thread Cert.X1Ln1ReferenceIdeal.nD Cert.X1Ln1ReferenceIdeal.τ).loc Cert.X1Ln1ReferenceIdeal.main_v75) = v3 c
          ∧ r.2.mem ((c.tc : Thread Cert.X1Ln1ReferenceIdeal.nD Cert.X1Ln1ReferenceIdeal.τ).loc Cert.X1Ln1ReferenceIdeal.main_arg0) = m' ((c.tc : Thread Cert.X1Ln1ReferenceIdeal.nD Cert.X1Ln1ReferenceIdeal.τ).loc Cert.X1Ln1ReferenceIdeal.main_arg0)
          ∧ r.2.mem ((c.tc : Thread Cert.X1Ln1ReferenceIdeal.nD Cert.X1Ln1ReferenceIdeal.τ).loc Cert.X1Ln1ReferenceIdeal.main_arg1) = m' ((c.tc : Thread Cert.X1Ln1ReferenceIdeal.nD Cert.X1Ln1ReferenceIdeal.τ).loc Cert.X1Ln1ReferenceIdeal.main_arg1)
          ∧ r.2.mem ((c.tc : Thread Cert.X1Ln1ReferenceIdeal.nD Cert.X1Ln1ReferenceIdeal.τ).loc Cert.X1Ln1ReferenceIdeal.main_arg2) = m' ((c.tc : Thread Cert.X1Ln1ReferenceIdeal.nD Cert.X1Ln1ReferenceIdeal.τ).loc Cert.X1Ln1ReferenceIdeal.main_arg2)
          ∧ r.2.mem ((c.tc : Thread Cert.X1Ln1ReferenceIdeal.nD Cert.X1Ln1ReferenceIdeal.τ).loc Cert.X1Ln1ReferenceIdeal.main_arg3) = m' ((c.tc : Thread Cert.X1Ln1ReferenceIdeal.nD Cert.X1Ln1ReferenceIdeal.τ).loc Cert.X1Ln1ReferenceIdeal.main_arg3)
          ∧ r.2.mem ((c.tc : Thread Cert.X1Ln1ReferenceIdeal.nD Cert.X1Ln1ReferenceIdeal.τ).loc Cert.X1Ln1ReferenceIdeal.main_arg4) = m' ((c.tc : Thread Cert.X1Ln1ReferenceIdeal.nD Cert.X1Ln1ReferenceIdeal.τ).loc Cert.X1Ln1ReferenceIdeal.main_arg4))

def preserves_X0Ln3_X0Ln3Ideal : Prop :=
  True

def algebraic_X0Ln3Ideal_X0Ln3ReferenceIdeal_pre_finite_x0_ln3 [hX0Ln3Ideal : Cert.X0Ln3Ideal.Facts] [hX0Ln3ReferenceIdeal : Cert.X0Ln3ReferenceIdeal.Facts] [hPre_finite_x0_ln3 : Cert.Pre_finite_x0_ln3.Facts] : Prop :=
  ∀ (m : (ℓ : Loc Cert.X0Ln3Ideal.nD Cert.X0Ln3Ideal.τ Cert.X0Ln3Ideal.sig) → Buf (Elt Ideal) ℓ) (g : Dev Cert.X0Ln3Ideal.nD → PrngReg)
    (m' : (ℓ : Loc Cert.X0Ln3ReferenceIdeal.nD Cert.X0Ln3ReferenceIdeal.τ Cert.X0Ln3ReferenceIdeal.sig) → Buf (Elt Ideal) ℓ) (g' : Dev Cert.X0Ln3ReferenceIdeal.nD → PrngReg), Pre_X0Ln3Ideal_finite_x0_ln3 m →
    (∀ c : Dev Cert.X0Ln3Ideal.nD,
      m' ((c.tc : Thread Cert.X0Ln3ReferenceIdeal.nD Cert.X0Ln3ReferenceIdeal.τ).loc Cert.X0Ln3ReferenceIdeal.main_arg0) = m ((c.tc : Thread Cert.X0Ln3Ideal.nD Cert.X0Ln3Ideal.τ).loc Cert.X0Ln3Ideal.main_arg0)
      ∧ m' ((c.tc : Thread Cert.X0Ln3ReferenceIdeal.nD Cert.X0Ln3ReferenceIdeal.τ).loc Cert.X0Ln3ReferenceIdeal.main_arg1) = m ((c.tc : Thread Cert.X0Ln3Ideal.nD Cert.X0Ln3Ideal.τ).loc Cert.X0Ln3Ideal.main_arg1)
      ∧ m' ((c.tc : Thread Cert.X0Ln3ReferenceIdeal.nD Cert.X0Ln3ReferenceIdeal.τ).loc Cert.X0Ln3ReferenceIdeal.main_arg2) = m ((c.tc : Thread Cert.X0Ln3Ideal.nD Cert.X0Ln3Ideal.τ).loc Cert.X0Ln3Ideal.main_arg2)
      ∧ m' ((c.tc : Thread Cert.X0Ln3ReferenceIdeal.nD Cert.X0Ln3ReferenceIdeal.τ).loc Cert.X0Ln3ReferenceIdeal.main_arg3) = m ((c.tc : Thread Cert.X0Ln3Ideal.nD Cert.X0Ln3Ideal.τ).loc Cert.X0Ln3Ideal.main_arg3)
      ∧ m' ((c.tc : Thread Cert.X0Ln3ReferenceIdeal.nD Cert.X0Ln3ReferenceIdeal.τ).loc Cert.X0Ln3ReferenceIdeal.main_arg4) = m ((c.tc : Thread Cert.X0Ln3Ideal.nD Cert.X0Ln3Ideal.τ).loc Cert.X0Ln3Ideal.main_arg4)
      ∧ m' ((c.tc : Thread Cert.X0Ln3ReferenceIdeal.nD Cert.X0Ln3ReferenceIdeal.τ).loc Cert.X0Ln3ReferenceIdeal.main_arg5) = m ((c.tc : Thread Cert.X0Ln3Ideal.nD Cert.X0Ln3Ideal.τ).loc Cert.X0Ln3Ideal.main_arg5)
      ∧ m' ((c.tc : Thread Cert.X0Ln3ReferenceIdeal.nD Cert.X0Ln3ReferenceIdeal.τ).loc Cert.X0Ln3ReferenceIdeal.main_arg6) = m ((c.tc : Thread Cert.X0Ln3Ideal.nD Cert.X0Ln3Ideal.τ).loc Cert.X0Ln3Ideal.main_arg6)
      ∧ m' ((c.tc : Thread Cert.X0Ln3ReferenceIdeal.nD Cert.X0Ln3ReferenceIdeal.τ).loc Cert.X0Ln3ReferenceIdeal.main_arg7) = m ((c.tc : Thread Cert.X0Ln3Ideal.nD Cert.X0Ln3Ideal.τ).loc Cert.X0Ln3Ideal.main_arg7)
      ∧ m' ((c.tc : Thread Cert.X0Ln3ReferenceIdeal.nD Cert.X0Ln3ReferenceIdeal.τ).loc Cert.X0Ln3ReferenceIdeal.main_arg8) = m ((c.tc : Thread Cert.X0Ln3Ideal.nD Cert.X0Ln3Ideal.τ).loc Cert.X0Ln3Ideal.main_arg8)
      ∧ m' ((c.tc : Thread Cert.X0Ln3ReferenceIdeal.nD Cert.X0Ln3ReferenceIdeal.τ).loc Cert.X0Ln3ReferenceIdeal.main_arg9) = m ((c.tc : Thread Cert.X0Ln3Ideal.nD Cert.X0Ln3Ideal.τ).loc Cert.X0Ln3Ideal.main_arg9)
      ∧ m' ((c.tc : Thread Cert.X0Ln3ReferenceIdeal.nD Cert.X0Ln3ReferenceIdeal.τ).loc Cert.X0Ln3ReferenceIdeal.main_arg10) = m ((c.tc : Thread Cert.X0Ln3Ideal.nD Cert.X0Ln3Ideal.τ).loc Cert.X0Ln3Ideal.main_arg10)) →
    ∃ (v0 : (c : Dev Cert.X0Ln3Ideal.nD) → Buf (Elt Ideal) ((c.tc : Thread Cert.X0Ln3Ideal.nD Cert.X0Ln3Ideal.τ).loc Cert.X0Ln3Ideal.main_v0_0)) (v1 : (c : Dev Cert.X0Ln3Ideal.nD) → Buf (Elt Ideal) ((c.tc : Thread Cert.X0Ln3Ideal.nD Cert.X0Ln3Ideal.τ).loc Cert.X0Ln3Ideal.main_v0_1)) (v2 : (c : Dev Cert.X0Ln3Ideal.nD) → Buf (Elt Ideal) ((c.tc : Thread Cert.X0Ln3Ideal.nD Cert.X0Ln3Ideal.τ).loc Cert.X0Ln3Ideal.main_v0_2)) (v3 : (c : Dev Cert.X0Ln3Ideal.nD) → Buf (Elt Ideal) ((c.tc : Thread Cert.X0Ln3Ideal.nD Cert.X0Ln3Ideal.τ).loc Cert.X0Ln3Ideal.main_v0_3)),
      θ_run (Cert.X0Ln3Ideal.defs (F := Ideal)) (onTc (τ := Cert.X0Ln3Ideal.τ) (Cert.X0Ln3Ideal.main (F := Ideal))) ⟨m, fun _ => 0, g⟩ (fun r => ∀ c : Dev Cert.X0Ln3Ideal.nD,
          r.2.mem ((c.tc : Thread Cert.X0Ln3Ideal.nD Cert.X0Ln3Ideal.τ).loc Cert.X0Ln3Ideal.main_v0_0) = v0 c
          ∧ r.2.mem ((c.tc : Thread Cert.X0Ln3Ideal.nD Cert.X0Ln3Ideal.τ).loc Cert.X0Ln3Ideal.main_v0_1) = v1 c
          ∧ r.2.mem ((c.tc : Thread Cert.X0Ln3Ideal.nD Cert.X0Ln3Ideal.τ).loc Cert.X0Ln3Ideal.main_v0_2) = v2 c
          ∧ r.2.mem ((c.tc : Thread Cert.X0Ln3Ideal.nD Cert.X0Ln3Ideal.τ).loc Cert.X0Ln3Ideal.main_v0_3) = v3 c
          ∧ r.2.mem ((c.tc : Thread Cert.X0Ln3Ideal.nD Cert.X0Ln3Ideal.τ).loc Cert.X0Ln3Ideal.main_arg0) = m ((c.tc : Thread Cert.X0Ln3Ideal.nD Cert.X0Ln3Ideal.τ).loc Cert.X0Ln3Ideal.main_arg0)
          ∧ r.2.mem ((c.tc : Thread Cert.X0Ln3Ideal.nD Cert.X0Ln3Ideal.τ).loc Cert.X0Ln3Ideal.main_arg1) = m ((c.tc : Thread Cert.X0Ln3Ideal.nD Cert.X0Ln3Ideal.τ).loc Cert.X0Ln3Ideal.main_arg1)
          ∧ r.2.mem ((c.tc : Thread Cert.X0Ln3Ideal.nD Cert.X0Ln3Ideal.τ).loc Cert.X0Ln3Ideal.main_arg2) = m ((c.tc : Thread Cert.X0Ln3Ideal.nD Cert.X0Ln3Ideal.τ).loc Cert.X0Ln3Ideal.main_arg2)
          ∧ r.2.mem ((c.tc : Thread Cert.X0Ln3Ideal.nD Cert.X0Ln3Ideal.τ).loc Cert.X0Ln3Ideal.main_arg3) = m ((c.tc : Thread Cert.X0Ln3Ideal.nD Cert.X0Ln3Ideal.τ).loc Cert.X0Ln3Ideal.main_arg3)
          ∧ r.2.mem ((c.tc : Thread Cert.X0Ln3Ideal.nD Cert.X0Ln3Ideal.τ).loc Cert.X0Ln3Ideal.main_arg4) = m ((c.tc : Thread Cert.X0Ln3Ideal.nD Cert.X0Ln3Ideal.τ).loc Cert.X0Ln3Ideal.main_arg4)
          ∧ r.2.mem ((c.tc : Thread Cert.X0Ln3Ideal.nD Cert.X0Ln3Ideal.τ).loc Cert.X0Ln3Ideal.main_arg5) = m ((c.tc : Thread Cert.X0Ln3Ideal.nD Cert.X0Ln3Ideal.τ).loc Cert.X0Ln3Ideal.main_arg5)
          ∧ r.2.mem ((c.tc : Thread Cert.X0Ln3Ideal.nD Cert.X0Ln3Ideal.τ).loc Cert.X0Ln3Ideal.main_arg6) = m ((c.tc : Thread Cert.X0Ln3Ideal.nD Cert.X0Ln3Ideal.τ).loc Cert.X0Ln3Ideal.main_arg6)
          ∧ r.2.mem ((c.tc : Thread Cert.X0Ln3Ideal.nD Cert.X0Ln3Ideal.τ).loc Cert.X0Ln3Ideal.main_arg7) = m ((c.tc : Thread Cert.X0Ln3Ideal.nD Cert.X0Ln3Ideal.τ).loc Cert.X0Ln3Ideal.main_arg7)
          ∧ r.2.mem ((c.tc : Thread Cert.X0Ln3Ideal.nD Cert.X0Ln3Ideal.τ).loc Cert.X0Ln3Ideal.main_arg8) = m ((c.tc : Thread Cert.X0Ln3Ideal.nD Cert.X0Ln3Ideal.τ).loc Cert.X0Ln3Ideal.main_arg8)
          ∧ r.2.mem ((c.tc : Thread Cert.X0Ln3Ideal.nD Cert.X0Ln3Ideal.τ).loc Cert.X0Ln3Ideal.main_arg9) = m ((c.tc : Thread Cert.X0Ln3Ideal.nD Cert.X0Ln3Ideal.τ).loc Cert.X0Ln3Ideal.main_arg9)
          ∧ r.2.mem ((c.tc : Thread Cert.X0Ln3Ideal.nD Cert.X0Ln3Ideal.τ).loc Cert.X0Ln3Ideal.main_arg10) = m ((c.tc : Thread Cert.X0Ln3Ideal.nD Cert.X0Ln3Ideal.τ).loc Cert.X0Ln3Ideal.main_arg10))
      ∧ θ_run (Cert.X0Ln3ReferenceIdeal.defs (F := Ideal)) (onTc (τ := Cert.X0Ln3ReferenceIdeal.τ) (Cert.X0Ln3ReferenceIdeal.main (F := Ideal))) ⟨m', fun _ => 0, g'⟩ (fun r => ∀ c : Dev Cert.X0Ln3ReferenceIdeal.nD,
          r.2.mem ((c.tc : Thread Cert.X0Ln3ReferenceIdeal.nD Cert.X0Ln3ReferenceIdeal.τ).loc Cert.X0Ln3ReferenceIdeal.main_v86) = v0 c
          ∧ r.2.mem ((c.tc : Thread Cert.X0Ln3ReferenceIdeal.nD Cert.X0Ln3ReferenceIdeal.τ).loc Cert.X0Ln3ReferenceIdeal.main_v87) = v1 c
          ∧ r.2.mem ((c.tc : Thread Cert.X0Ln3ReferenceIdeal.nD Cert.X0Ln3ReferenceIdeal.τ).loc Cert.X0Ln3ReferenceIdeal.main_v88) = v2 c
          ∧ r.2.mem ((c.tc : Thread Cert.X0Ln3ReferenceIdeal.nD Cert.X0Ln3ReferenceIdeal.τ).loc Cert.X0Ln3ReferenceIdeal.main_v89) = v3 c
          ∧ r.2.mem ((c.tc : Thread Cert.X0Ln3ReferenceIdeal.nD Cert.X0Ln3ReferenceIdeal.τ).loc Cert.X0Ln3ReferenceIdeal.main_arg0) = m' ((c.tc : Thread Cert.X0Ln3ReferenceIdeal.nD Cert.X0Ln3ReferenceIdeal.τ).loc Cert.X0Ln3ReferenceIdeal.main_arg0)
          ∧ r.2.mem ((c.tc : Thread Cert.X0Ln3ReferenceIdeal.nD Cert.X0Ln3ReferenceIdeal.τ).loc Cert.X0Ln3ReferenceIdeal.main_arg1) = m' ((c.tc : Thread Cert.X0Ln3ReferenceIdeal.nD Cert.X0Ln3ReferenceIdeal.τ).loc Cert.X0Ln3ReferenceIdeal.main_arg1)
          ∧ r.2.mem ((c.tc : Thread Cert.X0Ln3ReferenceIdeal.nD Cert.X0Ln3ReferenceIdeal.τ).loc Cert.X0Ln3ReferenceIdeal.main_arg2) = m' ((c.tc : Thread Cert.X0Ln3ReferenceIdeal.nD Cert.X0Ln3ReferenceIdeal.τ).loc Cert.X0Ln3ReferenceIdeal.main_arg2)
          ∧ r.2.mem ((c.tc : Thread Cert.X0Ln3ReferenceIdeal.nD Cert.X0Ln3ReferenceIdeal.τ).loc Cert.X0Ln3ReferenceIdeal.main_arg3) = m' ((c.tc : Thread Cert.X0Ln3ReferenceIdeal.nD Cert.X0Ln3ReferenceIdeal.τ).loc Cert.X0Ln3ReferenceIdeal.main_arg3)
          ∧ r.2.mem ((c.tc : Thread Cert.X0Ln3ReferenceIdeal.nD Cert.X0Ln3ReferenceIdeal.τ).loc Cert.X0Ln3ReferenceIdeal.main_arg4) = m' ((c.tc : Thread Cert.X0Ln3ReferenceIdeal.nD Cert.X0Ln3ReferenceIdeal.τ).loc Cert.X0Ln3ReferenceIdeal.main_arg4)
          ∧ r.2.mem ((c.tc : Thread Cert.X0Ln3ReferenceIdeal.nD Cert.X0Ln3ReferenceIdeal.τ).loc Cert.X0Ln3ReferenceIdeal.main_arg5) = m' ((c.tc : Thread Cert.X0Ln3ReferenceIdeal.nD Cert.X0Ln3ReferenceIdeal.τ).loc Cert.X0Ln3ReferenceIdeal.main_arg5)
          ∧ r.2.mem ((c.tc : Thread Cert.X0Ln3ReferenceIdeal.nD Cert.X0Ln3ReferenceIdeal.τ).loc Cert.X0Ln3ReferenceIdeal.main_arg6) = m' ((c.tc : Thread Cert.X0Ln3ReferenceIdeal.nD Cert.X0Ln3ReferenceIdeal.τ).loc Cert.X0Ln3ReferenceIdeal.main_arg6)
          ∧ r.2.mem ((c.tc : Thread Cert.X0Ln3ReferenceIdeal.nD Cert.X0Ln3ReferenceIdeal.τ).loc Cert.X0Ln3ReferenceIdeal.main_arg7) = m' ((c.tc : Thread Cert.X0Ln3ReferenceIdeal.nD Cert.X0Ln3ReferenceIdeal.τ).loc Cert.X0Ln3ReferenceIdeal.main_arg7)
          ∧ r.2.mem ((c.tc : Thread Cert.X0Ln3ReferenceIdeal.nD Cert.X0Ln3ReferenceIdeal.τ).loc Cert.X0Ln3ReferenceIdeal.main_arg8) = m' ((c.tc : Thread Cert.X0Ln3ReferenceIdeal.nD Cert.X0Ln3ReferenceIdeal.τ).loc Cert.X0Ln3ReferenceIdeal.main_arg8)
          ∧ r.2.mem ((c.tc : Thread Cert.X0Ln3ReferenceIdeal.nD Cert.X0Ln3ReferenceIdeal.τ).loc Cert.X0Ln3ReferenceIdeal.main_arg9) = m' ((c.tc : Thread Cert.X0Ln3ReferenceIdeal.nD Cert.X0Ln3ReferenceIdeal.τ).loc Cert.X0Ln3ReferenceIdeal.main_arg9)
          ∧ r.2.mem ((c.tc : Thread Cert.X0Ln3ReferenceIdeal.nD Cert.X0Ln3ReferenceIdeal.τ).loc Cert.X0Ln3ReferenceIdeal.main_arg10) = m' ((c.tc : Thread Cert.X0Ln3ReferenceIdeal.nD Cert.X0Ln3ReferenceIdeal.τ).loc Cert.X0Ln3ReferenceIdeal.main_arg10))

def preserves_X0_X0Ideal : Prop :=
  True

def algebraic_X0Ideal_X0ReferenceIdeal [hX0Ideal : Cert.X0Ideal.Facts] [hX0ReferenceIdeal : Cert.X0ReferenceIdeal.Facts] : Prop :=
  ∀ (m : (ℓ : Loc Cert.X0Ideal.nD Cert.X0Ideal.τ Cert.X0Ideal.sig) → Buf (Elt Ideal) ℓ) (g : Dev Cert.X0Ideal.nD → PrngReg)
    (m' : (ℓ : Loc Cert.X0ReferenceIdeal.nD Cert.X0ReferenceIdeal.τ Cert.X0ReferenceIdeal.sig) → Buf (Elt Ideal) ℓ) (g' : Dev Cert.X0ReferenceIdeal.nD → PrngReg), Pre_X0Ideal m →
    (∀ c : Dev Cert.X0Ideal.nD,
      m' ((c.tc : Thread Cert.X0ReferenceIdeal.nD Cert.X0ReferenceIdeal.τ).loc Cert.X0ReferenceIdeal.main_arg0) = m ((c.tc : Thread Cert.X0Ideal.nD Cert.X0Ideal.τ).loc Cert.X0Ideal.main_arg0)
      ∧ m' ((c.tc : Thread Cert.X0ReferenceIdeal.nD Cert.X0ReferenceIdeal.τ).loc Cert.X0ReferenceIdeal.main_arg1) = m ((c.tc : Thread Cert.X0Ideal.nD Cert.X0Ideal.τ).loc Cert.X0Ideal.main_arg1)
      ∧ m' ((c.tc : Thread Cert.X0ReferenceIdeal.nD Cert.X0ReferenceIdeal.τ).loc Cert.X0ReferenceIdeal.main_arg2) = m ((c.tc : Thread Cert.X0Ideal.nD Cert.X0Ideal.τ).loc Cert.X0Ideal.main_arg2)
      ∧ m' ((c.tc : Thread Cert.X0ReferenceIdeal.nD Cert.X0ReferenceIdeal.τ).loc Cert.X0ReferenceIdeal.main_arg3) = m ((c.tc : Thread Cert.X0Ideal.nD Cert.X0Ideal.τ).loc Cert.X0Ideal.main_arg3)
      ∧ m' ((c.tc : Thread Cert.X0ReferenceIdeal.nD Cert.X0ReferenceIdeal.τ).loc Cert.X0ReferenceIdeal.main_arg4) = m ((c.tc : Thread Cert.X0Ideal.nD Cert.X0Ideal.τ).loc Cert.X0Ideal.main_arg4)
      ∧ m' ((c.tc : Thread Cert.X0ReferenceIdeal.nD Cert.X0ReferenceIdeal.τ).loc Cert.X0ReferenceIdeal.main_arg5) = m ((c.tc : Thread Cert.X0Ideal.nD Cert.X0Ideal.τ).loc Cert.X0Ideal.main_arg5)
      ∧ m' ((c.tc : Thread Cert.X0ReferenceIdeal.nD Cert.X0ReferenceIdeal.τ).loc Cert.X0ReferenceIdeal.main_arg6) = m ((c.tc : Thread Cert.X0Ideal.nD Cert.X0Ideal.τ).loc Cert.X0Ideal.main_arg6)
      ∧ m' ((c.tc : Thread Cert.X0ReferenceIdeal.nD Cert.X0ReferenceIdeal.τ).loc Cert.X0ReferenceIdeal.main_arg7) = m ((c.tc : Thread Cert.X0Ideal.nD Cert.X0Ideal.τ).loc Cert.X0Ideal.main_arg7)
      ∧ m' ((c.tc : Thread Cert.X0ReferenceIdeal.nD Cert.X0ReferenceIdeal.τ).loc Cert.X0ReferenceIdeal.main_arg8) = m ((c.tc : Thread Cert.X0Ideal.nD Cert.X0Ideal.τ).loc Cert.X0Ideal.main_arg8)) →
    ∃ (v0 : (c : Dev Cert.X0Ideal.nD) → Buf (Elt Ideal) ((c.tc : Thread Cert.X0Ideal.nD Cert.X0Ideal.τ).loc Cert.X0Ideal.main_v0)),
      θ_run (Cert.X0Ideal.defs (F := Ideal)) (onTc (τ := Cert.X0Ideal.τ) (Cert.X0Ideal.main (F := Ideal))) ⟨m, fun _ => 0, g⟩ (fun r => ∀ c : Dev Cert.X0Ideal.nD,
          r.2.mem ((c.tc : Thread Cert.X0Ideal.nD Cert.X0Ideal.τ).loc Cert.X0Ideal.main_v0) = v0 c
          ∧ r.2.mem ((c.tc : Thread Cert.X0Ideal.nD Cert.X0Ideal.τ).loc Cert.X0Ideal.main_arg0) = m ((c.tc : Thread Cert.X0Ideal.nD Cert.X0Ideal.τ).loc Cert.X0Ideal.main_arg0)
          ∧ r.2.mem ((c.tc : Thread Cert.X0Ideal.nD Cert.X0Ideal.τ).loc Cert.X0Ideal.main_arg1) = m ((c.tc : Thread Cert.X0Ideal.nD Cert.X0Ideal.τ).loc Cert.X0Ideal.main_arg1)
          ∧ r.2.mem ((c.tc : Thread Cert.X0Ideal.nD Cert.X0Ideal.τ).loc Cert.X0Ideal.main_arg2) = m ((c.tc : Thread Cert.X0Ideal.nD Cert.X0Ideal.τ).loc Cert.X0Ideal.main_arg2)
          ∧ r.2.mem ((c.tc : Thread Cert.X0Ideal.nD Cert.X0Ideal.τ).loc Cert.X0Ideal.main_arg3) = m ((c.tc : Thread Cert.X0Ideal.nD Cert.X0Ideal.τ).loc Cert.X0Ideal.main_arg3)
          ∧ r.2.mem ((c.tc : Thread Cert.X0Ideal.nD Cert.X0Ideal.τ).loc Cert.X0Ideal.main_arg4) = m ((c.tc : Thread Cert.X0Ideal.nD Cert.X0Ideal.τ).loc Cert.X0Ideal.main_arg4)
          ∧ r.2.mem ((c.tc : Thread Cert.X0Ideal.nD Cert.X0Ideal.τ).loc Cert.X0Ideal.main_arg5) = m ((c.tc : Thread Cert.X0Ideal.nD Cert.X0Ideal.τ).loc Cert.X0Ideal.main_arg5)
          ∧ r.2.mem ((c.tc : Thread Cert.X0Ideal.nD Cert.X0Ideal.τ).loc Cert.X0Ideal.main_arg6) = m ((c.tc : Thread Cert.X0Ideal.nD Cert.X0Ideal.τ).loc Cert.X0Ideal.main_arg6)
          ∧ r.2.mem ((c.tc : Thread Cert.X0Ideal.nD Cert.X0Ideal.τ).loc Cert.X0Ideal.main_arg7) = m ((c.tc : Thread Cert.X0Ideal.nD Cert.X0Ideal.τ).loc Cert.X0Ideal.main_arg7)
          ∧ r.2.mem ((c.tc : Thread Cert.X0Ideal.nD Cert.X0Ideal.τ).loc Cert.X0Ideal.main_arg8) = m ((c.tc : Thread Cert.X0Ideal.nD Cert.X0Ideal.τ).loc Cert.X0Ideal.main_arg8))
      ∧ θ_run (Cert.X0ReferenceIdeal.defs (F := Ideal)) (onTc (τ := Cert.X0ReferenceIdeal.τ) (Cert.X0ReferenceIdeal.main (F := Ideal))) ⟨m', fun _ => 0, g'⟩ (fun r => ∀ c : Dev Cert.X0ReferenceIdeal.nD,
          r.2.mem ((c.tc : Thread Cert.X0ReferenceIdeal.nD Cert.X0ReferenceIdeal.τ).loc Cert.X0ReferenceIdeal.main_v23) = v0 c
          ∧ r.2.mem ((c.tc : Thread Cert.X0ReferenceIdeal.nD Cert.X0ReferenceIdeal.τ).loc Cert.X0ReferenceIdeal.main_arg0) = m' ((c.tc : Thread Cert.X0ReferenceIdeal.nD Cert.X0ReferenceIdeal.τ).loc Cert.X0ReferenceIdeal.main_arg0)
          ∧ r.2.mem ((c.tc : Thread Cert.X0ReferenceIdeal.nD Cert.X0ReferenceIdeal.τ).loc Cert.X0ReferenceIdeal.main_arg1) = m' ((c.tc : Thread Cert.X0ReferenceIdeal.nD Cert.X0ReferenceIdeal.τ).loc Cert.X0ReferenceIdeal.main_arg1)
          ∧ r.2.mem ((c.tc : Thread Cert.X0ReferenceIdeal.nD Cert.X0ReferenceIdeal.τ).loc Cert.X0ReferenceIdeal.main_arg2) = m' ((c.tc : Thread Cert.X0ReferenceIdeal.nD Cert.X0ReferenceIdeal.τ).loc Cert.X0ReferenceIdeal.main_arg2)
          ∧ r.2.mem ((c.tc : Thread Cert.X0ReferenceIdeal.nD Cert.X0ReferenceIdeal.τ).loc Cert.X0ReferenceIdeal.main_arg3) = m' ((c.tc : Thread Cert.X0ReferenceIdeal.nD Cert.X0ReferenceIdeal.τ).loc Cert.X0ReferenceIdeal.main_arg3)
          ∧ r.2.mem ((c.tc : Thread Cert.X0ReferenceIdeal.nD Cert.X0ReferenceIdeal.τ).loc Cert.X0ReferenceIdeal.main_arg4) = m' ((c.tc : Thread Cert.X0ReferenceIdeal.nD Cert.X0ReferenceIdeal.τ).loc Cert.X0ReferenceIdeal.main_arg4)
          ∧ r.2.mem ((c.tc : Thread Cert.X0ReferenceIdeal.nD Cert.X0ReferenceIdeal.τ).loc Cert.X0ReferenceIdeal.main_arg5) = m' ((c.tc : Thread Cert.X0ReferenceIdeal.nD Cert.X0ReferenceIdeal.τ).loc Cert.X0ReferenceIdeal.main_arg5)
          ∧ r.2.mem ((c.tc : Thread Cert.X0ReferenceIdeal.nD Cert.X0ReferenceIdeal.τ).loc Cert.X0ReferenceIdeal.main_arg6) = m' ((c.tc : Thread Cert.X0ReferenceIdeal.nD Cert.X0ReferenceIdeal.τ).loc Cert.X0ReferenceIdeal.main_arg6)
          ∧ r.2.mem ((c.tc : Thread Cert.X0ReferenceIdeal.nD Cert.X0ReferenceIdeal.τ).loc Cert.X0ReferenceIdeal.main_arg7) = m' ((c.tc : Thread Cert.X0ReferenceIdeal.nD Cert.X0ReferenceIdeal.τ).loc Cert.X0ReferenceIdeal.main_arg7)
          ∧ r.2.mem ((c.tc : Thread Cert.X0ReferenceIdeal.nD Cert.X0ReferenceIdeal.τ).loc Cert.X0ReferenceIdeal.main_arg8) = m' ((c.tc : Thread Cert.X0ReferenceIdeal.nD Cert.X0ReferenceIdeal.τ).loc Cert.X0ReferenceIdeal.main_arg8))

def preserves_WIn_WInIdeal : Prop :=
  True

def algebraic_WInIdeal_WInReferenceIdeal [hWInIdeal : Cert.WInIdeal.Facts] [hWInReferenceIdeal : Cert.WInReferenceIdeal.Facts] : Prop :=
  ∀ (m : (ℓ : Loc Cert.WInIdeal.nD Cert.WInIdeal.τ Cert.WInIdeal.sig) → Buf (Elt Ideal) ℓ) (g : Dev Cert.WInIdeal.nD → PrngReg)
    (m' : (ℓ : Loc Cert.WInReferenceIdeal.nD Cert.WInReferenceIdeal.τ Cert.WInReferenceIdeal.sig) → Buf (Elt Ideal) ℓ) (g' : Dev Cert.WInReferenceIdeal.nD → PrngReg), Pre_WInIdeal m →
    (∀ c : Dev Cert.WInIdeal.nD,
      m' ((c.tc : Thread Cert.WInReferenceIdeal.nD Cert.WInReferenceIdeal.τ).loc Cert.WInReferenceIdeal.main_arg0) = m ((c.tc : Thread Cert.WInIdeal.nD Cert.WInIdeal.τ).loc Cert.WInIdeal.main_arg0)
      ∧ m' ((c.tc : Thread Cert.WInReferenceIdeal.nD Cert.WInReferenceIdeal.τ).loc Cert.WInReferenceIdeal.main_arg1) = m ((c.tc : Thread Cert.WInIdeal.nD Cert.WInIdeal.τ).loc Cert.WInIdeal.main_arg1)
      ∧ m' ((c.tc : Thread Cert.WInReferenceIdeal.nD Cert.WInReferenceIdeal.τ).loc Cert.WInReferenceIdeal.main_arg2) = m ((c.tc : Thread Cert.WInIdeal.nD Cert.WInIdeal.τ).loc Cert.WInIdeal.main_arg2)
      ∧ m' ((c.tc : Thread Cert.WInReferenceIdeal.nD Cert.WInReferenceIdeal.τ).loc Cert.WInReferenceIdeal.main_arg3) = m ((c.tc : Thread Cert.WInIdeal.nD Cert.WInIdeal.τ).loc Cert.WInIdeal.main_arg3)
      ∧ m' ((c.tc : Thread Cert.WInReferenceIdeal.nD Cert.WInReferenceIdeal.τ).loc Cert.WInReferenceIdeal.main_arg4) = m ((c.tc : Thread Cert.WInIdeal.nD Cert.WInIdeal.τ).loc Cert.WInIdeal.main_arg4)
      ∧ m' ((c.tc : Thread Cert.WInReferenceIdeal.nD Cert.WInReferenceIdeal.τ).loc Cert.WInReferenceIdeal.main_arg5) = m ((c.tc : Thread Cert.WInIdeal.nD Cert.WInIdeal.τ).loc Cert.WInIdeal.main_arg5)
      ∧ m' ((c.tc : Thread Cert.WInReferenceIdeal.nD Cert.WInReferenceIdeal.τ).loc Cert.WInReferenceIdeal.main_arg6) = m ((c.tc : Thread Cert.WInIdeal.nD Cert.WInIdeal.τ).loc Cert.WInIdeal.main_arg6)
      ∧ m' ((c.tc : Thread Cert.WInReferenceIdeal.nD Cert.WInReferenceIdeal.τ).loc Cert.WInReferenceIdeal.main_arg7) = m ((c.tc : Thread Cert.WInIdeal.nD Cert.WInIdeal.τ).loc Cert.WInIdeal.main_arg7)) →
    ∃ (v0 : (c : Dev Cert.WInIdeal.nD) → Buf (Elt Ideal) ((c.tc : Thread Cert.WInIdeal.nD Cert.WInIdeal.τ).loc Cert.WInIdeal.main_v0)),
      θ_run (Cert.WInIdeal.defs (F := Ideal)) (onTc (τ := Cert.WInIdeal.τ) (Cert.WInIdeal.main (F := Ideal))) ⟨m, fun _ => 0, g⟩ (fun r => ∀ c : Dev Cert.WInIdeal.nD,
          r.2.mem ((c.tc : Thread Cert.WInIdeal.nD Cert.WInIdeal.τ).loc Cert.WInIdeal.main_v0) = v0 c
          ∧ r.2.mem ((c.tc : Thread Cert.WInIdeal.nD Cert.WInIdeal.τ).loc Cert.WInIdeal.main_arg0) = m ((c.tc : Thread Cert.WInIdeal.nD Cert.WInIdeal.τ).loc Cert.WInIdeal.main_arg0)
          ∧ r.2.mem ((c.tc : Thread Cert.WInIdeal.nD Cert.WInIdeal.τ).loc Cert.WInIdeal.main_arg1) = m ((c.tc : Thread Cert.WInIdeal.nD Cert.WInIdeal.τ).loc Cert.WInIdeal.main_arg1)
          ∧ r.2.mem ((c.tc : Thread Cert.WInIdeal.nD Cert.WInIdeal.τ).loc Cert.WInIdeal.main_arg2) = m ((c.tc : Thread Cert.WInIdeal.nD Cert.WInIdeal.τ).loc Cert.WInIdeal.main_arg2)
          ∧ r.2.mem ((c.tc : Thread Cert.WInIdeal.nD Cert.WInIdeal.τ).loc Cert.WInIdeal.main_arg3) = m ((c.tc : Thread Cert.WInIdeal.nD Cert.WInIdeal.τ).loc Cert.WInIdeal.main_arg3)
          ∧ r.2.mem ((c.tc : Thread Cert.WInIdeal.nD Cert.WInIdeal.τ).loc Cert.WInIdeal.main_arg4) = m ((c.tc : Thread Cert.WInIdeal.nD Cert.WInIdeal.τ).loc Cert.WInIdeal.main_arg4)
          ∧ r.2.mem ((c.tc : Thread Cert.WInIdeal.nD Cert.WInIdeal.τ).loc Cert.WInIdeal.main_arg5) = m ((c.tc : Thread Cert.WInIdeal.nD Cert.WInIdeal.τ).loc Cert.WInIdeal.main_arg5)
          ∧ r.2.mem ((c.tc : Thread Cert.WInIdeal.nD Cert.WInIdeal.τ).loc Cert.WInIdeal.main_arg6) = m ((c.tc : Thread Cert.WInIdeal.nD Cert.WInIdeal.τ).loc Cert.WInIdeal.main_arg6)
          ∧ r.2.mem ((c.tc : Thread Cert.WInIdeal.nD Cert.WInIdeal.τ).loc Cert.WInIdeal.main_arg7) = m ((c.tc : Thread Cert.WInIdeal.nD Cert.WInIdeal.τ).loc Cert.WInIdeal.main_arg7))
      ∧ θ_run (Cert.WInReferenceIdeal.defs (F := Ideal)) (onTc (τ := Cert.WInReferenceIdeal.τ) (Cert.WInReferenceIdeal.main (F := Ideal))) ⟨m', fun _ => 0, g'⟩ (fun r => ∀ c : Dev Cert.WInReferenceIdeal.nD,
          r.2.mem ((c.tc : Thread Cert.WInReferenceIdeal.nD Cert.WInReferenceIdeal.τ).loc Cert.WInReferenceIdeal.main_v19) = v0 c
          ∧ r.2.mem ((c.tc : Thread Cert.WInReferenceIdeal.nD Cert.WInReferenceIdeal.τ).loc Cert.WInReferenceIdeal.main_arg0) = m' ((c.tc : Thread Cert.WInReferenceIdeal.nD Cert.WInReferenceIdeal.τ).loc Cert.WInReferenceIdeal.main_arg0)
          ∧ r.2.mem ((c.tc : Thread Cert.WInReferenceIdeal.nD Cert.WInReferenceIdeal.τ).loc Cert.WInReferenceIdeal.main_arg1) = m' ((c.tc : Thread Cert.WInReferenceIdeal.nD Cert.WInReferenceIdeal.τ).loc Cert.WInReferenceIdeal.main_arg1)
          ∧ r.2.mem ((c.tc : Thread Cert.WInReferenceIdeal.nD Cert.WInReferenceIdeal.τ).loc Cert.WInReferenceIdeal.main_arg2) = m' ((c.tc : Thread Cert.WInReferenceIdeal.nD Cert.WInReferenceIdeal.τ).loc Cert.WInReferenceIdeal.main_arg2)
          ∧ r.2.mem ((c.tc : Thread Cert.WInReferenceIdeal.nD Cert.WInReferenceIdeal.τ).loc Cert.WInReferenceIdeal.main_arg3) = m' ((c.tc : Thread Cert.WInReferenceIdeal.nD Cert.WInReferenceIdeal.τ).loc Cert.WInReferenceIdeal.main_arg3)
          ∧ r.2.mem ((c.tc : Thread Cert.WInReferenceIdeal.nD Cert.WInReferenceIdeal.τ).loc Cert.WInReferenceIdeal.main_arg4) = m' ((c.tc : Thread Cert.WInReferenceIdeal.nD Cert.WInReferenceIdeal.τ).loc Cert.WInReferenceIdeal.main_arg4)
          ∧ r.2.mem ((c.tc : Thread Cert.WInReferenceIdeal.nD Cert.WInReferenceIdeal.τ).loc Cert.WInReferenceIdeal.main_arg5) = m' ((c.tc : Thread Cert.WInReferenceIdeal.nD Cert.WInReferenceIdeal.τ).loc Cert.WInReferenceIdeal.main_arg5)
          ∧ r.2.mem ((c.tc : Thread Cert.WInReferenceIdeal.nD Cert.WInReferenceIdeal.τ).loc Cert.WInReferenceIdeal.main_arg6) = m' ((c.tc : Thread Cert.WInReferenceIdeal.nD Cert.WInReferenceIdeal.τ).loc Cert.WInReferenceIdeal.main_arg6)
          ∧ r.2.mem ((c.tc : Thread Cert.WInReferenceIdeal.nD Cert.WInReferenceIdeal.τ).loc Cert.WInReferenceIdeal.main_arg7) = m' ((c.tc : Thread Cert.WInReferenceIdeal.nD Cert.WInReferenceIdeal.τ).loc Cert.WInReferenceIdeal.main_arg7))

def preserves_WOut_WOutIdeal : Prop :=
  True

def algebraic_WOutIdeal_WOutReferenceIdeal [hWOutIdeal : Cert.WOutIdeal.Facts] [hWOutReferenceIdeal : Cert.WOutReferenceIdeal.Facts] : Prop :=
  ∀ (m : (ℓ : Loc Cert.WOutIdeal.nD Cert.WOutIdeal.τ Cert.WOutIdeal.sig) → Buf (Elt Ideal) ℓ) (g : Dev Cert.WOutIdeal.nD → PrngReg)
    (m' : (ℓ : Loc Cert.WOutReferenceIdeal.nD Cert.WOutReferenceIdeal.τ Cert.WOutReferenceIdeal.sig) → Buf (Elt Ideal) ℓ) (g' : Dev Cert.WOutReferenceIdeal.nD → PrngReg), Pre_WOutIdeal m →
    (∀ c : Dev Cert.WOutIdeal.nD,
      m' ((c.tc : Thread Cert.WOutReferenceIdeal.nD Cert.WOutReferenceIdeal.τ).loc Cert.WOutReferenceIdeal.main_arg0) = m ((c.tc : Thread Cert.WOutIdeal.nD Cert.WOutIdeal.τ).loc Cert.WOutIdeal.main_arg0)
      ∧ m' ((c.tc : Thread Cert.WOutReferenceIdeal.nD Cert.WOutReferenceIdeal.τ).loc Cert.WOutReferenceIdeal.main_arg1) = m ((c.tc : Thread Cert.WOutIdeal.nD Cert.WOutIdeal.τ).loc Cert.WOutIdeal.main_arg1)
      ∧ m' ((c.tc : Thread Cert.WOutReferenceIdeal.nD Cert.WOutReferenceIdeal.τ).loc Cert.WOutReferenceIdeal.main_arg2) = m ((c.tc : Thread Cert.WOutIdeal.nD Cert.WOutIdeal.τ).loc Cert.WOutIdeal.main_arg2)
      ∧ m' ((c.tc : Thread Cert.WOutReferenceIdeal.nD Cert.WOutReferenceIdeal.τ).loc Cert.WOutReferenceIdeal.main_arg3) = m ((c.tc : Thread Cert.WOutIdeal.nD Cert.WOutIdeal.τ).loc Cert.WOutIdeal.main_arg3)) →
    ∃ (v0 : (c : Dev Cert.WOutIdeal.nD) → Buf (Elt Ideal) ((c.tc : Thread Cert.WOutIdeal.nD Cert.WOutIdeal.τ).loc Cert.WOutIdeal.main_v0)),
      θ_run (Cert.WOutIdeal.defs (F := Ideal)) (onTc (τ := Cert.WOutIdeal.τ) (Cert.WOutIdeal.main (F := Ideal))) ⟨m, fun _ => 0, g⟩ (fun r => ∀ c : Dev Cert.WOutIdeal.nD,
          r.2.mem ((c.tc : Thread Cert.WOutIdeal.nD Cert.WOutIdeal.τ).loc Cert.WOutIdeal.main_v0) = v0 c
          ∧ r.2.mem ((c.tc : Thread Cert.WOutIdeal.nD Cert.WOutIdeal.τ).loc Cert.WOutIdeal.main_arg0) = m ((c.tc : Thread Cert.WOutIdeal.nD Cert.WOutIdeal.τ).loc Cert.WOutIdeal.main_arg0)
          ∧ r.2.mem ((c.tc : Thread Cert.WOutIdeal.nD Cert.WOutIdeal.τ).loc Cert.WOutIdeal.main_arg1) = m ((c.tc : Thread Cert.WOutIdeal.nD Cert.WOutIdeal.τ).loc Cert.WOutIdeal.main_arg1)
          ∧ r.2.mem ((c.tc : Thread Cert.WOutIdeal.nD Cert.WOutIdeal.τ).loc Cert.WOutIdeal.main_arg2) = m ((c.tc : Thread Cert.WOutIdeal.nD Cert.WOutIdeal.τ).loc Cert.WOutIdeal.main_arg2)
          ∧ r.2.mem ((c.tc : Thread Cert.WOutIdeal.nD Cert.WOutIdeal.τ).loc Cert.WOutIdeal.main_arg3) = m ((c.tc : Thread Cert.WOutIdeal.nD Cert.WOutIdeal.τ).loc Cert.WOutIdeal.main_arg3))
      ∧ θ_run (Cert.WOutReferenceIdeal.defs (F := Ideal)) (onTc (τ := Cert.WOutReferenceIdeal.τ) (Cert.WOutReferenceIdeal.main (F := Ideal))) ⟨m', fun _ => 0, g'⟩ (fun r => ∀ c : Dev Cert.WOutReferenceIdeal.nD,
          r.2.mem ((c.tc : Thread Cert.WOutReferenceIdeal.nD Cert.WOutReferenceIdeal.τ).loc Cert.WOutReferenceIdeal.main_v6) = v0 c
          ∧ r.2.mem ((c.tc : Thread Cert.WOutReferenceIdeal.nD Cert.WOutReferenceIdeal.τ).loc Cert.WOutReferenceIdeal.main_arg0) = m' ((c.tc : Thread Cert.WOutReferenceIdeal.nD Cert.WOutReferenceIdeal.τ).loc Cert.WOutReferenceIdeal.main_arg0)
          ∧ r.2.mem ((c.tc : Thread Cert.WOutReferenceIdeal.nD Cert.WOutReferenceIdeal.τ).loc Cert.WOutReferenceIdeal.main_arg1) = m' ((c.tc : Thread Cert.WOutReferenceIdeal.nD Cert.WOutReferenceIdeal.τ).loc Cert.WOutReferenceIdeal.main_arg1)
          ∧ r.2.mem ((c.tc : Thread Cert.WOutReferenceIdeal.nD Cert.WOutReferenceIdeal.τ).loc Cert.WOutReferenceIdeal.main_arg2) = m' ((c.tc : Thread Cert.WOutReferenceIdeal.nD Cert.WOutReferenceIdeal.τ).loc Cert.WOutReferenceIdeal.main_arg2)
          ∧ r.2.mem ((c.tc : Thread Cert.WOutReferenceIdeal.nD Cert.WOutReferenceIdeal.τ).loc Cert.WOutReferenceIdeal.main_arg3) = m' ((c.tc : Thread Cert.WOutReferenceIdeal.nD Cert.WOutReferenceIdeal.τ).loc Cert.WOutReferenceIdeal.main_arg3))

def preserves_LossLn3_LossLn3Ideal : Prop :=
  True

def algebraic_LossLn3Ideal_LossLn3ReferenceIdeal_pre_finite_loss_ln3 [hLossLn3Ideal : Cert.LossLn3Ideal.Facts] [hLossLn3ReferenceIdeal : Cert.LossLn3ReferenceIdeal.Facts] [hPre_finite_loss_ln3 : Cert.Pre_finite_loss_ln3.Facts] : Prop :=
  ∀ (m : (ℓ : Loc Cert.LossLn3Ideal.nD Cert.LossLn3Ideal.τ Cert.LossLn3Ideal.sig) → Buf (Elt Ideal) ℓ) (g : Dev Cert.LossLn3Ideal.nD → PrngReg)
    (m' : (ℓ : Loc Cert.LossLn3ReferenceIdeal.nD Cert.LossLn3ReferenceIdeal.τ Cert.LossLn3ReferenceIdeal.sig) → Buf (Elt Ideal) ℓ) (g' : Dev Cert.LossLn3ReferenceIdeal.nD → PrngReg), Pre_LossLn3Ideal_finite_loss_ln3 m →
    (∀ c : Dev Cert.LossLn3Ideal.nD,
      m' ((c.tc : Thread Cert.LossLn3ReferenceIdeal.nD Cert.LossLn3ReferenceIdeal.τ).loc Cert.LossLn3ReferenceIdeal.main_arg0) = m ((c.tc : Thread Cert.LossLn3Ideal.nD Cert.LossLn3Ideal.τ).loc Cert.LossLn3Ideal.main_arg0)
      ∧ m' ((c.tc : Thread Cert.LossLn3ReferenceIdeal.nD Cert.LossLn3ReferenceIdeal.τ).loc Cert.LossLn3ReferenceIdeal.main_arg1) = m ((c.tc : Thread Cert.LossLn3Ideal.nD Cert.LossLn3Ideal.τ).loc Cert.LossLn3Ideal.main_arg1)
      ∧ m' ((c.tc : Thread Cert.LossLn3ReferenceIdeal.nD Cert.LossLn3ReferenceIdeal.τ).loc Cert.LossLn3ReferenceIdeal.main_arg2) = m ((c.tc : Thread Cert.LossLn3Ideal.nD Cert.LossLn3Ideal.τ).loc Cert.LossLn3Ideal.main_arg2)
      ∧ m' ((c.tc : Thread Cert.LossLn3ReferenceIdeal.nD Cert.LossLn3ReferenceIdeal.τ).loc Cert.LossLn3ReferenceIdeal.main_arg3) = m ((c.tc : Thread Cert.LossLn3Ideal.nD Cert.LossLn3Ideal.τ).loc Cert.LossLn3Ideal.main_arg3)) →
    ∃ (v0 : (c : Dev Cert.LossLn3Ideal.nD) → Buf (Elt Ideal) ((c.tc : Thread Cert.LossLn3Ideal.nD Cert.LossLn3Ideal.τ).loc Cert.LossLn3Ideal.main_v0_0)) (v1 : (c : Dev Cert.LossLn3Ideal.nD) → Buf (Elt Ideal) ((c.tc : Thread Cert.LossLn3Ideal.nD Cert.LossLn3Ideal.τ).loc Cert.LossLn3Ideal.main_v0_1)) (v2 : (c : Dev Cert.LossLn3Ideal.nD) → Buf (Elt Ideal) ((c.tc : Thread Cert.LossLn3Ideal.nD Cert.LossLn3Ideal.τ).loc Cert.LossLn3Ideal.main_v0_2)) (v3 : (c : Dev Cert.LossLn3Ideal.nD) → Buf (Elt Ideal) ((c.tc : Thread Cert.LossLn3Ideal.nD Cert.LossLn3Ideal.τ).loc Cert.LossLn3Ideal.main_v0_3)) (v4 : (c : Dev Cert.LossLn3Ideal.nD) → Buf (Elt Ideal) ((c.tc : Thread Cert.LossLn3Ideal.nD Cert.LossLn3Ideal.τ).loc Cert.LossLn3Ideal.main_v0_4)),
      θ_run (Cert.LossLn3Ideal.defs (F := Ideal)) (onTc (τ := Cert.LossLn3Ideal.τ) (Cert.LossLn3Ideal.main (F := Ideal))) ⟨m, fun _ => 0, g⟩ (fun r => ∀ c : Dev Cert.LossLn3Ideal.nD,
          r.2.mem ((c.tc : Thread Cert.LossLn3Ideal.nD Cert.LossLn3Ideal.τ).loc Cert.LossLn3Ideal.main_v0_0) = v0 c
          ∧ r.2.mem ((c.tc : Thread Cert.LossLn3Ideal.nD Cert.LossLn3Ideal.τ).loc Cert.LossLn3Ideal.main_v0_1) = v1 c
          ∧ r.2.mem ((c.tc : Thread Cert.LossLn3Ideal.nD Cert.LossLn3Ideal.τ).loc Cert.LossLn3Ideal.main_v0_2) = v2 c
          ∧ r.2.mem ((c.tc : Thread Cert.LossLn3Ideal.nD Cert.LossLn3Ideal.τ).loc Cert.LossLn3Ideal.main_v0_3) = v3 c
          ∧ r.2.mem ((c.tc : Thread Cert.LossLn3Ideal.nD Cert.LossLn3Ideal.τ).loc Cert.LossLn3Ideal.main_v0_4) = v4 c
          ∧ r.2.mem ((c.tc : Thread Cert.LossLn3Ideal.nD Cert.LossLn3Ideal.τ).loc Cert.LossLn3Ideal.main_arg0) = m ((c.tc : Thread Cert.LossLn3Ideal.nD Cert.LossLn3Ideal.τ).loc Cert.LossLn3Ideal.main_arg0)
          ∧ r.2.mem ((c.tc : Thread Cert.LossLn3Ideal.nD Cert.LossLn3Ideal.τ).loc Cert.LossLn3Ideal.main_arg1) = m ((c.tc : Thread Cert.LossLn3Ideal.nD Cert.LossLn3Ideal.τ).loc Cert.LossLn3Ideal.main_arg1)
          ∧ r.2.mem ((c.tc : Thread Cert.LossLn3Ideal.nD Cert.LossLn3Ideal.τ).loc Cert.LossLn3Ideal.main_arg2) = m ((c.tc : Thread Cert.LossLn3Ideal.nD Cert.LossLn3Ideal.τ).loc Cert.LossLn3Ideal.main_arg2)
          ∧ r.2.mem ((c.tc : Thread Cert.LossLn3Ideal.nD Cert.LossLn3Ideal.τ).loc Cert.LossLn3Ideal.main_arg3) = m ((c.tc : Thread Cert.LossLn3Ideal.nD Cert.LossLn3Ideal.τ).loc Cert.LossLn3Ideal.main_arg3))
      ∧ θ_run (Cert.LossLn3ReferenceIdeal.defs (F := Ideal)) (onTc (τ := Cert.LossLn3ReferenceIdeal.τ) (Cert.LossLn3ReferenceIdeal.main (F := Ideal))) ⟨m', fun _ => 0, g'⟩ (fun r => ∀ c : Dev Cert.LossLn3ReferenceIdeal.nD,
          r.2.mem ((c.tc : Thread Cert.LossLn3ReferenceIdeal.nD Cert.LossLn3ReferenceIdeal.τ).loc Cert.LossLn3ReferenceIdeal.main_v78) = v0 c
          ∧ r.2.mem ((c.tc : Thread Cert.LossLn3ReferenceIdeal.nD Cert.LossLn3ReferenceIdeal.τ).loc Cert.LossLn3ReferenceIdeal.main_v79) = v1 c
          ∧ r.2.mem ((c.tc : Thread Cert.LossLn3ReferenceIdeal.nD Cert.LossLn3ReferenceIdeal.τ).loc Cert.LossLn3ReferenceIdeal.main_v80) = v2 c
          ∧ r.2.mem ((c.tc : Thread Cert.LossLn3ReferenceIdeal.nD Cert.LossLn3ReferenceIdeal.τ).loc Cert.LossLn3ReferenceIdeal.main_v81) = v3 c
          ∧ r.2.mem ((c.tc : Thread Cert.LossLn3ReferenceIdeal.nD Cert.LossLn3ReferenceIdeal.τ).loc Cert.LossLn3ReferenceIdeal.main_v82) = v4 c
          ∧ r.2.mem ((c.tc : Thread Cert.LossLn3ReferenceIdeal.nD Cert.LossLn3ReferenceIdeal.τ).loc Cert.LossLn3ReferenceIdeal.main_arg0) = m' ((c.tc : Thread Cert.LossLn3ReferenceIdeal.nD Cert.LossLn3ReferenceIdeal.τ).loc Cert.LossLn3ReferenceIdeal.main_arg0)
          ∧ r.2.mem ((c.tc : Thread Cert.LossLn3ReferenceIdeal.nD Cert.LossLn3ReferenceIdeal.τ).loc Cert.LossLn3ReferenceIdeal.main_arg1) = m' ((c.tc : Thread Cert.LossLn3ReferenceIdeal.nD Cert.LossLn3ReferenceIdeal.τ).loc Cert.LossLn3ReferenceIdeal.main_arg1)
          ∧ r.2.mem ((c.tc : Thread Cert.LossLn3ReferenceIdeal.nD Cert.LossLn3ReferenceIdeal.τ).loc Cert.LossLn3ReferenceIdeal.main_arg2) = m' ((c.tc : Thread Cert.LossLn3ReferenceIdeal.nD Cert.LossLn3ReferenceIdeal.τ).loc Cert.LossLn3ReferenceIdeal.main_arg2)
          ∧ r.2.mem ((c.tc : Thread Cert.LossLn3ReferenceIdeal.nD Cert.LossLn3ReferenceIdeal.τ).loc Cert.LossLn3ReferenceIdeal.main_arg3) = m' ((c.tc : Thread Cert.LossLn3ReferenceIdeal.nD Cert.LossLn3ReferenceIdeal.τ).loc Cert.LossLn3ReferenceIdeal.main_arg3))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0_0)) (v1 : (c : Dev Cert.InProjIdeal.nD) → Buf (Elt Ideal) ((c.tc : Thread Cert.InProjIdeal.nD Cert.InProjIdeal.τ).loc Cert.InProjIdeal.main_v0_1)) (v2 : (c : Dev Cert.InProjIdeal.nD) → Buf (Elt Ideal) ((c.tc : Thread Cert.InProjIdeal.nD Cert.InProjIdeal.τ).loc Cert.InProjIdeal.main_v0_2)) (v3 : (c : Dev Cert.InProjIdeal.nD) → Buf (Elt Ideal) ((c.tc : Thread Cert.InProjIdeal.nD Cert.InProjIdeal.τ).loc Cert.InProjIdeal.main_v0_3)) (v4 : (c : Dev Cert.InProjIdeal.nD) → Buf (Elt Ideal) ((c.tc : Thread Cert.InProjIdeal.nD Cert.InProjIdeal.τ).loc Cert.InProjIdeal.main_v0_4)) (v5 : (c : Dev Cert.InProjIdeal.nD) → Buf (Elt Ideal) ((c.tc : Thread Cert.InProjIdeal.nD Cert.InProjIdeal.τ).loc Cert.InProjIdeal.main_v0_5)) (v6 : (c : Dev Cert.InProjIdeal.nD) → Buf (Elt Ideal) ((c.tc : Thread Cert.InProjIdeal.nD Cert.InProjIdeal.τ).loc Cert.InProjIdeal.main_v0_6)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0_0) = v0 c
          ∧ r.2.mem ((c.tc : Thread Cert.InProjIdeal.nD Cert.InProjIdeal.τ).loc Cert.InProjIdeal.main_v0_1) = v1 c
          ∧ r.2.mem ((c.tc : Thread Cert.InProjIdeal.nD Cert.InProjIdeal.τ).loc Cert.InProjIdeal.main_v0_2) = v2 c
          ∧ r.2.mem ((c.tc : Thread Cert.InProjIdeal.nD Cert.InProjIdeal.τ).loc Cert.InProjIdeal.main_v0_3) = v3 c
          ∧ r.2.mem ((c.tc : Thread Cert.InProjIdeal.nD Cert.InProjIdeal.τ).loc Cert.InProjIdeal.main_v0_4) = v4 c
          ∧ r.2.mem ((c.tc : Thread Cert.InProjIdeal.nD Cert.InProjIdeal.τ).loc Cert.InProjIdeal.main_v0_5) = v5 c
          ∧ r.2.mem ((c.tc : Thread Cert.InProjIdeal.nD Cert.InProjIdeal.τ).loc Cert.InProjIdeal.main_v0_6) = v6 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v3) = v0 c
          ∧ r.2.mem ((c.tc : Thread Cert.InProjReferenceIdeal.nD Cert.InProjReferenceIdeal.τ).loc Cert.InProjReferenceIdeal.main_v4) = v1 c
          ∧ r.2.mem ((c.tc : Thread Cert.InProjReferenceIdeal.nD Cert.InProjReferenceIdeal.τ).loc Cert.InProjReferenceIdeal.main_v5) = v2 c
          ∧ r.2.mem ((c.tc : Thread Cert.InProjReferenceIdeal.nD Cert.InProjReferenceIdeal.τ).loc Cert.InProjReferenceIdeal.main_v6) = v3 c
          ∧ r.2.mem ((c.tc : Thread Cert.InProjReferenceIdeal.nD Cert.InProjReferenceIdeal.τ).loc Cert.InProjReferenceIdeal.main_v7) = v4 c
          ∧ r.2.mem ((c.tc : Thread Cert.InProjReferenceIdeal.nD Cert.InProjReferenceIdeal.τ).loc Cert.InProjReferenceIdeal.main_v8) = v5 c
          ∧ r.2.mem ((c.tc : Thread Cert.InProjReferenceIdeal.nD Cert.InProjReferenceIdeal.τ).loc Cert.InProjReferenceIdeal.main_v9) = v6 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1))

def preserves_QProj_QProjIdeal : Prop :=
  True

def algebraic_QProjIdeal_QProjReferenceIdeal [hQProjIdeal : Cert.QProjIdeal.Facts] [hQProjReferenceIdeal : Cert.QProjReferenceIdeal.Facts] : Prop :=
  ∀ (m : (ℓ : Loc Cert.QProjIdeal.nD Cert.QProjIdeal.τ Cert.QProjIdeal.sig) → Buf (Elt Ideal) ℓ) (g : Dev Cert.QProjIdeal.nD → PrngReg)
    (m' : (ℓ : Loc Cert.QProjReferenceIdeal.nD Cert.QProjReferenceIdeal.τ Cert.QProjReferenceIdeal.sig) → Buf (Elt Ideal) ℓ) (g' : Dev Cert.QProjReferenceIdeal.nD → PrngReg), Pre_QProjIdeal m →
    (∀ c : Dev Cert.QProjIdeal.nD,
      m' ((c.tc : Thread Cert.QProjReferenceIdeal.nD Cert.QProjReferenceIdeal.τ).loc Cert.QProjReferenceIdeal.main_arg0) = m ((c.tc : Thread Cert.QProjIdeal.nD Cert.QProjIdeal.τ).loc Cert.QProjIdeal.main_arg0)
      ∧ m' ((c.tc : Thread Cert.QProjReferenceIdeal.nD Cert.QProjReferenceIdeal.τ).loc Cert.QProjReferenceIdeal.main_arg1) = m ((c.tc : Thread Cert.QProjIdeal.nD Cert.QProjIdeal.τ).loc Cert.QProjIdeal.main_arg1)) →
    ∃ (v0 : (c : Dev Cert.QProjIdeal.nD) → Buf (Elt Ideal) ((c.tc : Thread Cert.QProjIdeal.nD Cert.QProjIdeal.τ).loc Cert.QProjIdeal.main_v0)),
      θ_run (Cert.QProjIdeal.defs (F := Ideal)) (onTc (τ := Cert.QProjIdeal.τ) (Cert.QProjIdeal.main (F := Ideal))) ⟨m, fun _ => 0, g⟩ (fun r => ∀ c : Dev Cert.QProjIdeal.nD,
          r.2.mem ((c.tc : Thread Cert.QProjIdeal.nD Cert.QProjIdeal.τ).loc Cert.QProjIdeal.main_v0) = v0 c
          ∧ r.2.mem ((c.tc : Thread Cert.QProjIdeal.nD Cert.QProjIdeal.τ).loc Cert.QProjIdeal.main_arg0) = m ((c.tc : Thread Cert.QProjIdeal.nD Cert.QProjIdeal.τ).loc Cert.QProjIdeal.main_arg0)
          ∧ r.2.mem ((c.tc : Thread Cert.QProjIdeal.nD Cert.QProjIdeal.τ).loc Cert.QProjIdeal.main_arg1) = m ((c.tc : Thread Cert.QProjIdeal.nD Cert.QProjIdeal.τ).loc Cert.QProjIdeal.main_arg1))
      ∧ θ_run (Cert.QProjReferenceIdeal.defs (F := Ideal)) (onTc (τ := Cert.QProjReferenceIdeal.τ) (Cert.QProjReferenceIdeal.main (F := Ideal))) ⟨m', fun _ => 0, g'⟩ (fun r => ∀ c : Dev Cert.QProjReferenceIdeal.nD,
          r.2.mem ((c.tc : Thread Cert.QProjReferenceIdeal.nD Cert.QProjReferenceIdeal.τ).loc Cert.QProjReferenceIdeal.main_v3) = v0 c
          ∧ r.2.mem ((c.tc : Thread Cert.QProjReferenceIdeal.nD Cert.QProjReferenceIdeal.τ).loc Cert.QProjReferenceIdeal.main_arg0) = m' ((c.tc : Thread Cert.QProjReferenceIdeal.nD Cert.QProjReferenceIdeal.τ).loc Cert.QProjReferenceIdeal.main_arg0)
          ∧ r.2.mem ((c.tc : Thread Cert.QProjReferenceIdeal.nD Cert.QProjReferenceIdeal.τ).loc Cert.QProjReferenceIdeal.main_arg1) = m' ((c.tc : Thread Cert.QProjReferenceIdeal.nD Cert.QProjReferenceIdeal.τ).loc Cert.QProjReferenceIdeal.main_arg1))

def preserves_KvProj_KvProjIdeal : Prop :=
  True

def algebraic_KvProjIdeal_KvProjReferenceIdeal [hKvProjIdeal : Cert.KvProjIdeal.Facts] [hKvProjReferenceIdeal : Cert.KvProjReferenceIdeal.Facts] : Prop :=
  ∀ (m : (ℓ : Loc Cert.KvProjIdeal.nD Cert.KvProjIdeal.τ Cert.KvProjIdeal.sig) → Buf (Elt Ideal) ℓ) (g : Dev Cert.KvProjIdeal.nD → PrngReg)
    (m' : (ℓ : Loc Cert.KvProjReferenceIdeal.nD Cert.KvProjReferenceIdeal.τ Cert.KvProjReferenceIdeal.sig) → Buf (Elt Ideal) ℓ) (g' : Dev Cert.KvProjReferenceIdeal.nD → PrngReg), Pre_KvProjIdeal m →
    (∀ c : Dev Cert.KvProjIdeal.nD,
      m' ((c.tc : Thread Cert.KvProjReferenceIdeal.nD Cert.KvProjReferenceIdeal.τ).loc Cert.KvProjReferenceIdeal.main_arg0) = m ((c.tc : Thread Cert.KvProjIdeal.nD Cert.KvProjIdeal.τ).loc Cert.KvProjIdeal.main_arg0)
      ∧ m' ((c.tc : Thread Cert.KvProjReferenceIdeal.nD Cert.KvProjReferenceIdeal.τ).loc Cert.KvProjReferenceIdeal.main_arg1) = m ((c.tc : Thread Cert.KvProjIdeal.nD Cert.KvProjIdeal.τ).loc Cert.KvProjIdeal.main_arg1)) →
    ∃ (v0 : (c : Dev Cert.KvProjIdeal.nD) → Buf (Elt Ideal) ((c.tc : Thread Cert.KvProjIdeal.nD Cert.KvProjIdeal.τ).loc Cert.KvProjIdeal.main_v0)),
      θ_run (Cert.KvProjIdeal.defs (F := Ideal)) (onTc (τ := Cert.KvProjIdeal.τ) (Cert.KvProjIdeal.main (F := Ideal))) ⟨m, fun _ => 0, g⟩ (fun r => ∀ c : Dev Cert.KvProjIdeal.nD,
          r.2.mem ((c.tc : Thread Cert.KvProjIdeal.nD Cert.KvProjIdeal.τ).loc Cert.KvProjIdeal.main_v0) = v0 c
          ∧ r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
          ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1))
      ∧ θ_run (Cert.KvProjReferenceIdeal.defs (F := Ideal)) (onTc (τ := Cert.KvProjReferenceIdeal.τ) (Cert.KvProjReferenceIdeal.main (F := Ideal))) ⟨m', fun _ => 0, g'⟩ (fun r => ∀ c : Dev Cert.KvProjReferenceIdeal.nD,
          r.2.mem ((c.tc : Thread Cert.KvProjReferenceIdeal.nD Cert.KvProjReferenceIdeal.τ).loc Cert.KvProjReferenceIdeal.main_v3) = v0 c
          ∧ r.2.mem ((c.tc : Thread Cert.KvProjReferenceIdeal.nD Cert.KvProjReferenceIdeal.τ).loc Cert.KvProjReferenceIdeal.main_arg0) = m' ((c.tc : Thread Cert.KvProjReferenceIdeal.nD Cert.KvProjReferenceIdeal.τ).loc Cert.KvProjReferenceIdeal.main_arg0)
          ∧ r.2.mem ((c.tc : Thread Cert.KvProjReferenceIdeal.nD Cert.KvProjReferenceIdeal.τ).loc Cert.KvProjReferenceIdeal.main_arg1) = m' ((c.tc : Thread Cert.KvProjReferenceIdeal.nD Cert.KvProjReferenceIdeal.τ).loc Cert.KvProjReferenceIdeal.main_arg1))

def preserves_Ff1_Ff1Ideal : Prop :=
  True

def algebraic_Ff1Ideal_Ff1ReferenceIdeal [hFf1Ideal : Cert.Ff1Ideal.Facts] [hFf1ReferenceIdeal : Cert.Ff1ReferenceIdeal.Facts] : Prop :=
  ∀ (m : (ℓ : Loc Cert.Ff1Ideal.nD Cert.Ff1Ideal.τ Cert.Ff1Ideal.sig) → Buf (Elt Ideal) ℓ) (g : Dev Cert.Ff1Ideal.nD → PrngReg)
    (m' : (ℓ : Loc Cert.Ff1ReferenceIdeal.nD Cert.Ff1ReferenceIdeal.τ Cert.Ff1ReferenceIdeal.sig) → Buf (Elt Ideal) ℓ) (g' : Dev Cert.Ff1ReferenceIdeal.nD → PrngReg), Pre_Ff1Ideal m →
    (∀ c : Dev Cert.Ff1Ideal.nD,
      m' ((c.tc : Thread Cert.Ff1ReferenceIdeal.nD Cert.Ff1ReferenceIdeal.τ).loc Cert.Ff1ReferenceIdeal.main_arg0) = m ((c.tc : Thread Cert.Ff1Ideal.nD Cert.Ff1Ideal.τ).loc Cert.Ff1Ideal.main_arg0)
      ∧ m' ((c.tc : Thread Cert.Ff1ReferenceIdeal.nD Cert.Ff1ReferenceIdeal.τ).loc Cert.Ff1ReferenceIdeal.main_arg1) = m ((c.tc : Thread Cert.Ff1Ideal.nD Cert.Ff1Ideal.τ).loc Cert.Ff1Ideal.main_arg1)) →
    ∃ (v0 : (c : Dev Cert.Ff1Ideal.nD) → Buf (Elt Ideal) ((c.tc : Thread Cert.Ff1Ideal.nD Cert.Ff1Ideal.τ).loc Cert.Ff1Ideal.main_v0_0)) (v1 : (c : Dev Cert.Ff1Ideal.nD) → Buf (Elt Ideal) ((c.tc : Thread Cert.Ff1Ideal.nD Cert.Ff1Ideal.τ).loc Cert.Ff1Ideal.main_v0_1)),
      θ_run (Cert.Ff1Ideal.defs (F := Ideal)) (onTc (τ := Cert.Ff1Ideal.τ) (Cert.Ff1Ideal.main (F := Ideal))) ⟨m, fun _ => 0, g⟩ (fun r => ∀ c : Dev Cert.Ff1Ideal.nD,
          r.2.mem ((c.tc : Thread Cert.Ff1Ideal.nD Cert.Ff1Ideal.τ).loc Cert.Ff1Ideal.main_v0_0) = v0 c
          ∧ r.2.mem ((c.tc : Thread Cert.Ff1Ideal.nD Cert.Ff1Ideal.τ).loc Cert.Ff1Ideal.main_v0_1) = v1 c
          ∧ r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
          ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1))
      ∧ θ_run (Cert.Ff1ReferenceIdeal.defs (F := Ideal)) (onTc (τ := Cert.Ff1ReferenceIdeal.τ) (Cert.Ff1ReferenceIdeal.main (F := Ideal))) ⟨m', fun _ => 0, g'⟩ (fun r => ∀ c : Dev Cert.Ff1ReferenceIdeal.nD,
          r.2.mem ((c.tc : Thread Cert.Ff1ReferenceIdeal.nD Cert.Ff1ReferenceIdeal.τ).loc Cert.Ff1ReferenceIdeal.main_v3) = v0 c
          ∧ r.2.mem ((c.tc : Thread Cert.Ff1ReferenceIdeal.nD Cert.Ff1ReferenceIdeal.τ).loc Cert.Ff1ReferenceIdeal.main_v6) = v1 c
          ∧ r.2.mem ((c.tc : Thread Cert.Ff1ReferenceIdeal.nD Cert.Ff1ReferenceIdeal.τ).loc Cert.Ff1ReferenceIdeal.main_arg0) = m' ((c.tc : Thread Cert.Ff1ReferenceIdeal.nD Cert.Ff1ReferenceIdeal.τ).loc Cert.Ff1ReferenceIdeal.main_arg0)
          ∧ r.2.mem ((c.tc : Thread Cert.Ff1ReferenceIdeal.nD Cert.Ff1ReferenceIdeal.τ).loc Cert.Ff1ReferenceIdeal.main_arg1) = m' ((c.tc : Thread Cert.Ff1ReferenceIdeal.nD Cert.Ff1ReferenceIdeal.τ).loc Cert.Ff1ReferenceIdeal.main_arg1))

def preserves_OLn_OLnIdeal : Prop :=
  True

def algebraic_OLnIdeal_OLnReferenceIdeal [hOLnIdeal : Cert.OLnIdeal.Facts] [hOLnReferenceIdeal : Cert.OLnReferenceIdeal.Facts] : Prop :=
  ∀ (m : (ℓ : Loc Cert.OLnIdeal.nD Cert.OLnIdeal.τ Cert.OLnIdeal.sig) → Buf (Elt Ideal) ℓ) (g : Dev Cert.OLnIdeal.nD → PrngReg)
    (m' : (ℓ : Loc Cert.OLnReferenceIdeal.nD Cert.OLnReferenceIdeal.τ Cert.OLnReferenceIdeal.sig) → Buf (Elt Ideal) ℓ) (g' : Dev Cert.OLnReferenceIdeal.nD → PrngReg), Pre_OLnIdeal m →
    (∀ c : Dev Cert.OLnIdeal.nD,
      m' ((c.tc : Thread Cert.OLnReferenceIdeal.nD Cert.OLnReferenceIdeal.τ).loc Cert.OLnReferenceIdeal.main_arg0) = m ((c.tc : Thread Cert.OLnIdeal.nD Cert.OLnIdeal.τ).loc Cert.OLnIdeal.main_arg0)
      ∧ m' ((c.tc : Thread Cert.OLnReferenceIdeal.nD Cert.OLnReferenceIdeal.τ).loc Cert.OLnReferenceIdeal.main_arg1) = m ((c.tc : Thread Cert.OLnIdeal.nD Cert.OLnIdeal.τ).loc Cert.OLnIdeal.main_arg1)
      ∧ m' ((c.tc : Thread Cert.OLnReferenceIdeal.nD Cert.OLnReferenceIdeal.τ).loc Cert.OLnReferenceIdeal.main_arg2) = m ((c.tc : Thread Cert.OLnIdeal.nD Cert.OLnIdeal.τ).loc Cert.OLnIdeal.main_arg2)
      ∧ m' ((c.tc : Thread Cert.OLnReferenceIdeal.nD Cert.OLnReferenceIdeal.τ).loc Cert.OLnReferenceIdeal.main_arg3) = m ((c.tc : Thread Cert.OLnIdeal.nD Cert.OLnIdeal.τ).loc Cert.OLnIdeal.main_arg3)
      ∧ m' ((c.tc : Thread Cert.OLnReferenceIdeal.nD Cert.OLnReferenceIdeal.τ).loc Cert.OLnReferenceIdeal.main_arg4) = m ((c.tc : Thread Cert.OLnIdeal.nD Cert.OLnIdeal.τ).loc Cert.OLnIdeal.main_arg4)
      ∧ m' ((c.tc : Thread Cert.OLnReferenceIdeal.nD Cert.OLnReferenceIdeal.τ).loc Cert.OLnReferenceIdeal.main_arg5) = m ((c.tc : Thread Cert.OLnIdeal.nD Cert.OLnIdeal.τ).loc Cert.OLnIdeal.main_arg5)
      ∧ m' ((c.tc : Thread Cert.OLnReferenceIdeal.nD Cert.OLnReferenceIdeal.τ).loc Cert.OLnReferenceIdeal.main_arg6) = m ((c.tc : Thread Cert.OLnIdeal.nD Cert.OLnIdeal.τ).loc Cert.OLnIdeal.main_arg6)) →
    ∃ (v0 : (c : Dev Cert.OLnIdeal.nD) → Buf (Elt Ideal) ((c.tc : Thread Cert.OLnIdeal.nD Cert.OLnIdeal.τ).loc Cert.OLnIdeal.main_v0_0)) (v1 : (c : Dev Cert.OLnIdeal.nD) → Buf (Elt Ideal) ((c.tc : Thread Cert.OLnIdeal.nD Cert.OLnIdeal.τ).loc Cert.OLnIdeal.main_v0_1)),
      θ_run (Cert.OLnIdeal.defs (F := Ideal)) (onTc (τ := Cert.OLnIdeal.τ) (Cert.OLnIdeal.main (F := Ideal))) ⟨m, fun _ => 0, g⟩ (fun r => ∀ c : Dev Cert.OLnIdeal.nD,
          r.2.mem ((c.tc : Thread Cert.OLnIdeal.nD Cert.OLnIdeal.τ).loc Cert.OLnIdeal.main_v0_0) = v0 c
          ∧ r.2.mem ((c.tc : Thread Cert.OLnIdeal.nD Cert.OLnIdeal.τ).loc Cert.OLnIdeal.main_v0_1) = v1 c
          ∧ r.2.mem ((c.tc : Thread Cert.OLnIdeal.nD Cert.OLnIdeal.τ).loc Cert.OLnIdeal.main_arg0) = m ((c.tc : Thread Cert.OLnIdeal.nD Cert.OLnIdeal.τ).loc Cert.OLnIdeal.main_arg0)
          ∧ r.2.mem ((c.tc : Thread Cert.OLnIdeal.nD Cert.OLnIdeal.τ).loc Cert.OLnIdeal.main_arg1) = m ((c.tc : Thread Cert.OLnIdeal.nD Cert.OLnIdeal.τ).loc Cert.OLnIdeal.main_arg1)
          ∧ r.2.mem ((c.tc : Thread Cert.OLnIdeal.nD Cert.OLnIdeal.τ).loc Cert.OLnIdeal.main_arg2) = m ((c.tc : Thread Cert.OLnIdeal.nD Cert.OLnIdeal.τ).loc Cert.OLnIdeal.main_arg2)
          ∧ r.2.mem ((c.tc : Thread Cert.OLnIdeal.nD Cert.OLnIdeal.τ).loc Cert.OLnIdeal.main_arg3) = m ((c.tc : Thread Cert.OLnIdeal.nD Cert.OLnIdeal.τ).loc Cert.OLnIdeal.main_arg3)
          ∧ r.2.mem ((c.tc : Thread Cert.OLnIdeal.nD Cert.OLnIdeal.τ).loc Cert.OLnIdeal.main_arg4) = m ((c.tc : Thread Cert.OLnIdeal.nD Cert.OLnIdeal.τ).loc Cert.OLnIdeal.main_arg4)
          ∧ r.2.mem ((c.tc : Thread Cert.OLnIdeal.nD Cert.OLnIdeal.τ).loc Cert.OLnIdeal.main_arg5) = m ((c.tc : Thread Cert.OLnIdeal.nD Cert.OLnIdeal.τ).loc Cert.OLnIdeal.main_arg5)
          ∧ r.2.mem ((c.tc : Thread Cert.OLnIdeal.nD Cert.OLnIdeal.τ).loc Cert.OLnIdeal.main_arg6) = m ((c.tc : Thread Cert.OLnIdeal.nD Cert.OLnIdeal.τ).loc Cert.OLnIdeal.main_arg6))
      ∧ θ_run (Cert.OLnReferenceIdeal.defs (F := Ideal)) (onTc (τ := Cert.OLnReferenceIdeal.τ) (Cert.OLnReferenceIdeal.main (F := Ideal))) ⟨m', fun _ => 0, g'⟩ (fun r => ∀ c : Dev Cert.OLnReferenceIdeal.nD,
          r.2.mem ((c.tc : Thread Cert.OLnReferenceIdeal.nD Cert.OLnReferenceIdeal.τ).loc Cert.OLnReferenceIdeal.main_v31) = v0 c
          ∧ r.2.mem ((c.tc : Thread Cert.OLnReferenceIdeal.nD Cert.OLnReferenceIdeal.τ).loc Cert.OLnReferenceIdeal.main_v58) = v1 c
          ∧ r.2.mem ((c.tc : Thread Cert.OLnReferenceIdeal.nD Cert.OLnReferenceIdeal.τ).loc Cert.OLnReferenceIdeal.main_arg0) = m' ((c.tc : Thread Cert.OLnReferenceIdeal.nD Cert.OLnReferenceIdeal.τ).loc Cert.OLnReferenceIdeal.main_arg0)
          ∧ r.2.mem ((c.tc : Thread Cert.OLnReferenceIdeal.nD Cert.OLnReferenceIdeal.τ).loc Cert.OLnReferenceIdeal.main_arg1) = m' ((c.tc : Thread Cert.OLnReferenceIdeal.nD Cert.OLnReferenceIdeal.τ).loc Cert.OLnReferenceIdeal.main_arg1)
          ∧ r.2.mem ((c.tc : Thread Cert.OLnReferenceIdeal.nD Cert.OLnReferenceIdeal.τ).loc Cert.OLnReferenceIdeal.main_arg2) = m' ((c.tc : Thread Cert.OLnReferenceIdeal.nD Cert.OLnReferenceIdeal.τ).loc Cert.OLnReferenceIdeal.main_arg2)
          ∧ r.2.mem ((c.tc : Thread Cert.OLnReferenceIdeal.nD Cert.OLnReferenceIdeal.τ).loc Cert.OLnReferenceIdeal.main_arg3) = m' ((c.tc : Thread Cert.OLnReferenceIdeal.nD Cert.OLnReferenceIdeal.τ).loc Cert.OLnReferenceIdeal.main_arg3)
          ∧ r.2.mem ((c.tc : Thread Cert.OLnReferenceIdeal.nD Cert.OLnReferenceIdeal.τ).loc Cert.OLnReferenceIdeal.main_arg4) = m' ((c.tc : Thread Cert.OLnReferenceIdeal.nD Cert.OLnReferenceIdeal.τ).loc Cert.OLnReferenceIdeal.main_arg4)
          ∧ r.2.mem ((c.tc : Thread Cert.OLnReferenceIdeal.nD Cert.OLnReferenceIdeal.τ).loc Cert.OLnReferenceIdeal.main_arg5) = m' ((c.tc : Thread Cert.OLnReferenceIdeal.nD Cert.OLnReferenceIdeal.τ).loc Cert.OLnReferenceIdeal.main_arg5)
          ∧ r.2.mem ((c.tc : Thread Cert.OLnReferenceIdeal.nD Cert.OLnReferenceIdeal.τ).loc Cert.OLnReferenceIdeal.main_arg6) = m' ((c.tc : Thread Cert.OLnReferenceIdeal.nD Cert.OLnReferenceIdeal.τ).loc Cert.OLnReferenceIdeal.main_arg6))

def preserves_Ff2Ln_Ff2LnIdeal : Prop :=
  True

def algebraic_Ff2LnIdeal_Ff2LnReferenceIdeal [hFf2LnIdeal : Cert.Ff2LnIdeal.Facts] [hFf2LnReferenceIdeal : Cert.Ff2LnReferenceIdeal.Facts] : Prop :=
  ∀ (m : (ℓ : Loc Cert.Ff2LnIdeal.nD Cert.Ff2LnIdeal.τ Cert.Ff2LnIdeal.sig) → Buf (Elt Ideal) ℓ) (g : Dev Cert.Ff2LnIdeal.nD → PrngReg)
    (m' : (ℓ : Loc Cert.Ff2LnReferenceIdeal.nD Cert.Ff2LnReferenceIdeal.τ Cert.Ff2LnReferenceIdeal.sig) → Buf (Elt Ideal) ℓ) (g' : Dev Cert.Ff2LnReferenceIdeal.nD → PrngReg), Pre_Ff2LnIdeal m →
    (∀ c : Dev Cert.Ff2LnIdeal.nD,
      m' ((c.tc : Thread Cert.Ff2LnReferenceIdeal.nD Cert.Ff2LnReferenceIdeal.τ).loc Cert.Ff2LnReferenceIdeal.main_arg0) = m ((c.tc : Thread Cert.Ff2LnIdeal.nD Cert.Ff2LnIdeal.τ).loc Cert.Ff2LnIdeal.main_arg0)
      ∧ m' ((c.tc : Thread Cert.Ff2LnReferenceIdeal.nD Cert.Ff2LnReferenceIdeal.τ).loc Cert.Ff2LnReferenceIdeal.main_arg1) = m ((c.tc : Thread Cert.Ff2LnIdeal.nD Cert.Ff2LnIdeal.τ).loc Cert.Ff2LnIdeal.main_arg1)
      ∧ m' ((c.tc : Thread Cert.Ff2LnReferenceIdeal.nD Cert.Ff2LnReferenceIdeal.τ).loc Cert.Ff2LnReferenceIdeal.main_arg2) = m ((c.tc : Thread Cert.Ff2LnIdeal.nD Cert.Ff2LnIdeal.τ).loc Cert.Ff2LnIdeal.main_arg2)
      ∧ m' ((c.tc : Thread Cert.Ff2LnReferenceIdeal.nD Cert.Ff2LnReferenceIdeal.τ).loc Cert.Ff2LnReferenceIdeal.main_arg3) = m ((c.tc : Thread Cert.Ff2LnIdeal.nD Cert.Ff2LnIdeal.τ).loc Cert.Ff2LnIdeal.main_arg3)
      ∧ m' ((c.tc : Thread Cert.Ff2LnReferenceIdeal.nD Cert.Ff2LnReferenceIdeal.τ).loc Cert.Ff2LnReferenceIdeal.main_arg4) = m ((c.tc : Thread Cert.Ff2LnIdeal.nD Cert.Ff2LnIdeal.τ).loc Cert.Ff2LnIdeal.main_arg4)
      ∧ m' ((c.tc : Thread Cert.Ff2LnReferenceIdeal.nD Cert.Ff2LnReferenceIdeal.τ).loc Cert.Ff2LnReferenceIdeal.main_arg5) = m ((c.tc : Thread Cert.Ff2LnIdeal.nD Cert.Ff2LnIdeal.τ).loc Cert.Ff2LnIdeal.main_arg5)
      ∧ m' ((c.tc : Thread Cert.Ff2LnReferenceIdeal.nD Cert.Ff2LnReferenceIdeal.τ).loc Cert.Ff2LnReferenceIdeal.main_arg6) = m ((c.tc : Thread Cert.Ff2LnIdeal.nD Cert.Ff2LnIdeal.τ).loc Cert.Ff2LnIdeal.main_arg6)) →
    ∃ (v0 : (c : Dev Cert.Ff2LnIdeal.nD) → Buf (Elt Ideal) ((c.tc : Thread Cert.Ff2LnIdeal.nD Cert.Ff2LnIdeal.τ).loc Cert.Ff2LnIdeal.main_v0_0)) (v1 : (c : Dev Cert.Ff2LnIdeal.nD) → Buf (Elt Ideal) ((c.tc : Thread Cert.Ff2LnIdeal.nD Cert.Ff2LnIdeal.τ).loc Cert.Ff2LnIdeal.main_v0_1)),
      θ_run (Cert.Ff2LnIdeal.defs (F := Ideal)) (onTc (τ := Cert.Ff2LnIdeal.τ) (Cert.Ff2LnIdeal.main (F := Ideal))) ⟨m, fun _ => 0, g⟩ (fun r => ∀ c : Dev Cert.Ff2LnIdeal.nD,
          r.2.mem ((c.tc : Thread Cert.Ff2LnIdeal.nD Cert.Ff2LnIdeal.τ).loc Cert.Ff2LnIdeal.main_v0_0) = v0 c
          ∧ r.2.mem ((c.tc : Thread Cert.Ff2LnIdeal.nD Cert.Ff2LnIdeal.τ).loc Cert.Ff2LnIdeal.main_v0_1) = v1 c
          ∧ r.2.mem ((c.tc : Thread Cert.Ff2LnIdeal.nD Cert.Ff2LnIdeal.τ).loc Cert.Ff2LnIdeal.main_arg0) = m ((c.tc : Thread Cert.Ff2LnIdeal.nD Cert.Ff2LnIdeal.τ).loc Cert.Ff2LnIdeal.main_arg0)
          ∧ r.2.mem ((c.tc : Thread Cert.Ff2LnIdeal.nD Cert.Ff2LnIdeal.τ).loc Cert.Ff2LnIdeal.main_arg1) = m ((c.tc : Thread Cert.Ff2LnIdeal.nD Cert.Ff2LnIdeal.τ).loc Cert.Ff2LnIdeal.main_arg1)
          ∧ r.2.mem ((c.tc : Thread Cert.Ff2LnIdeal.nD Cert.Ff2LnIdeal.τ).loc Cert.Ff2LnIdeal.main_arg2) = m ((c.tc : Thread Cert.Ff2LnIdeal.nD Cert.Ff2LnIdeal.τ).loc Cert.Ff2LnIdeal.main_arg2)
          ∧ r.2.mem ((c.tc : Thread Cert.Ff2LnIdeal.nD Cert.Ff2LnIdeal.τ).loc Cert.Ff2LnIdeal.main_arg3) = m ((c.tc : Thread Cert.Ff2LnIdeal.nD Cert.Ff2LnIdeal.τ).loc Cert.Ff2LnIdeal.main_arg3)
          ∧ r.2.mem ((c.tc : Thread Cert.Ff2LnIdeal.nD Cert.Ff2LnIdeal.τ).loc Cert.Ff2LnIdeal.main_arg4) = m ((c.tc : Thread Cert.Ff2LnIdeal.nD Cert.Ff2LnIdeal.τ).loc Cert.Ff2LnIdeal.main_arg4)
          ∧ r.2.mem ((c.tc : Thread Cert.Ff2LnIdeal.nD Cert.Ff2LnIdeal.τ).loc Cert.Ff2LnIdeal.main_arg5) = m ((c.tc : Thread Cert.Ff2LnIdeal.nD Cert.Ff2LnIdeal.τ).loc Cert.Ff2LnIdeal.main_arg5)
          ∧ r.2.mem ((c.tc : Thread Cert.Ff2LnIdeal.nD Cert.Ff2LnIdeal.τ).loc Cert.Ff2LnIdeal.main_arg6) = m ((c.tc : Thread Cert.Ff2LnIdeal.nD Cert.Ff2LnIdeal.τ).loc Cert.Ff2LnIdeal.main_arg6))
      ∧ θ_run (Cert.Ff2LnReferenceIdeal.defs (F := Ideal)) (onTc (τ := Cert.Ff2LnReferenceIdeal.τ) (Cert.Ff2LnReferenceIdeal.main (F := Ideal))) ⟨m', fun _ => 0, g'⟩ (fun r => ∀ c : Dev Cert.Ff2LnReferenceIdeal.nD,
          r.2.mem ((c.tc : Thread Cert.Ff2LnReferenceIdeal.nD Cert.Ff2LnReferenceIdeal.τ).loc Cert.Ff2LnReferenceIdeal.main_v31) = v0 c
          ∧ r.2.mem ((c.tc : Thread Cert.Ff2LnReferenceIdeal.nD Cert.Ff2LnReferenceIdeal.τ).loc Cert.Ff2LnReferenceIdeal.main_v58) = v1 c
          ∧ r.2.mem ((c.tc : Thread Cert.Ff2LnReferenceIdeal.nD Cert.Ff2LnReferenceIdeal.τ).loc Cert.Ff2LnReferenceIdeal.main_arg0) = m' ((c.tc : Thread Cert.Ff2LnReferenceIdeal.nD Cert.Ff2LnReferenceIdeal.τ).loc Cert.Ff2LnReferenceIdeal.main_arg0)
          ∧ r.2.mem ((c.tc : Thread Cert.Ff2LnReferenceIdeal.nD Cert.Ff2LnReferenceIdeal.τ).loc Cert.Ff2LnReferenceIdeal.main_arg1) = m' ((c.tc : Thread Cert.Ff2LnReferenceIdeal.nD Cert.Ff2LnReferenceIdeal.τ).loc Cert.Ff2LnReferenceIdeal.main_arg1)
          ∧ r.2.mem ((c.tc : Thread Cert.Ff2LnReferenceIdeal.nD Cert.Ff2LnReferenceIdeal.τ).loc Cert.Ff2LnReferenceIdeal.main_arg2) = m' ((c.tc : Thread Cert.Ff2LnReferenceIdeal.nD Cert.Ff2LnReferenceIdeal.τ).loc Cert.Ff2LnReferenceIdeal.main_arg2)
          ∧ r.2.mem ((c.tc : Thread Cert.Ff2LnReferenceIdeal.nD Cert.Ff2LnReferenceIdeal.τ).loc Cert.Ff2LnReferenceIdeal.main_arg3) = m' ((c.tc : Thread Cert.Ff2LnReferenceIdeal.nD Cert.Ff2LnReferenceIdeal.τ).loc Cert.Ff2LnReferenceIdeal.main_arg3)
          ∧ r.2.mem ((c.tc : Thread Cert.Ff2LnReferenceIdeal.nD Cert.Ff2LnReferenceIdeal.τ).loc Cert.Ff2LnReferenceIdeal.main_arg4) = m' ((c.tc : Thread Cert.Ff2LnReferenceIdeal.nD Cert.Ff2LnReferenceIdeal.τ).loc Cert.Ff2LnReferenceIdeal.main_arg4)
          ∧ r.2.mem ((c.tc : Thread Cert.Ff2LnReferenceIdeal.nD Cert.Ff2LnReferenceIdeal.τ).loc Cert.Ff2LnReferenceIdeal.main_arg5) = m' ((c.tc : Thread Cert.Ff2LnReferenceIdeal.nD Cert.Ff2LnReferenceIdeal.τ).loc Cert.Ff2LnReferenceIdeal.main_arg5)
          ∧ r.2.mem ((c.tc : Thread Cert.Ff2LnReferenceIdeal.nD Cert.Ff2LnReferenceIdeal.τ).loc Cert.Ff2LnReferenceIdeal.main_arg6) = m' ((c.tc : Thread Cert.Ff2LnReferenceIdeal.nD Cert.Ff2LnReferenceIdeal.τ).loc Cert.Ff2LnReferenceIdeal.main_arg6))

def preserves_OutLn_OutLnIdeal : Prop :=
  True

def algebraic_OutLnIdeal_OutLnReferenceIdeal [hOutLnIdeal : Cert.OutLnIdeal.Facts] [hOutLnReferenceIdeal : Cert.OutLnReferenceIdeal.Facts] : Prop :=
  ∀ (m : (ℓ : Loc Cert.OutLnIdeal.nD Cert.OutLnIdeal.τ Cert.OutLnIdeal.sig) → Buf (Elt Ideal) ℓ) (g : Dev Cert.OutLnIdeal.nD → PrngReg)
    (m' : (ℓ : Loc Cert.OutLnReferenceIdeal.nD Cert.OutLnReferenceIdeal.τ Cert.OutLnReferenceIdeal.sig) → Buf (Elt Ideal) ℓ) (g' : Dev Cert.OutLnReferenceIdeal.nD → PrngReg), Pre_OutLnIdeal m →
    (∀ c : Dev Cert.OutLnIdeal.nD,
      m' ((c.tc : Thread Cert.OutLnReferenceIdeal.nD Cert.OutLnReferenceIdeal.τ).loc Cert.OutLnReferenceIdeal.main_arg0) = m ((c.tc : Thread Cert.OutLnIdeal.nD Cert.OutLnIdeal.τ).loc Cert.OutLnIdeal.main_arg0)
      ∧ m' ((c.tc : Thread Cert.OutLnReferenceIdeal.nD Cert.OutLnReferenceIdeal.τ).loc Cert.OutLnReferenceIdeal.main_arg1) = m ((c.tc : Thread Cert.OutLnIdeal.nD Cert.OutLnIdeal.τ).loc Cert.OutLnIdeal.main_arg1)
      ∧ m' ((c.tc : Thread Cert.OutLnReferenceIdeal.nD Cert.OutLnReferenceIdeal.τ).loc Cert.OutLnReferenceIdeal.main_arg2) = m ((c.tc : Thread Cert.OutLnIdeal.nD Cert.OutLnIdeal.τ).loc Cert.OutLnIdeal.main_arg2)
      ∧ m' ((c.tc : Thread Cert.OutLnReferenceIdeal.nD Cert.OutLnReferenceIdeal.τ).loc Cert.OutLnReferenceIdeal.main_arg3) = m ((c.tc : Thread Cert.OutLnIdeal.nD Cert.OutLnIdeal.τ).loc Cert.OutLnIdeal.main_arg3)
      ∧ m' ((c.tc : Thread Cert.OutLnReferenceIdeal.nD Cert.OutLnReferenceIdeal.τ).loc Cert.OutLnReferenceIdeal.main_arg4) = m ((c.tc : Thread Cert.OutLnIdeal.nD Cert.OutLnIdeal.τ).loc Cert.OutLnIdeal.main_arg4)
      ∧ m' ((c.tc : Thread Cert.OutLnReferenceIdeal.nD Cert.OutLnReferenceIdeal.τ).loc Cert.OutLnReferenceIdeal.main_arg5) = m ((c.tc : Thread Cert.OutLnIdeal.nD Cert.OutLnIdeal.τ).loc Cert.OutLnIdeal.main_arg5)
      ∧ m' ((c.tc : Thread Cert.OutLnReferenceIdeal.nD Cert.OutLnReferenceIdeal.τ).loc Cert.OutLnReferenceIdeal.main_arg6) = m ((c.tc : Thread Cert.OutLnIdeal.nD Cert.OutLnIdeal.τ).loc Cert.OutLnIdeal.main_arg6)
      ∧ m' ((c.tc : Thread Cert.OutLnReferenceIdeal.nD Cert.OutLnReferenceIdeal.τ).loc Cert.OutLnReferenceIdeal.main_arg7) = m ((c.tc : Thread Cert.OutLnIdeal.nD Cert.OutLnIdeal.τ).loc Cert.OutLnIdeal.main_arg7)
      ∧ m' ((c.tc : Thread Cert.OutLnReferenceIdeal.nD Cert.OutLnReferenceIdeal.τ).loc Cert.OutLnReferenceIdeal.main_arg8) = m ((c.tc : Thread Cert.OutLnIdeal.nD Cert.OutLnIdeal.τ).loc Cert.OutLnIdeal.main_arg8)) →
    ∃ (v0 : (c : Dev Cert.OutLnIdeal.nD) → Buf (Elt Ideal) ((c.tc : Thread Cert.OutLnIdeal.nD Cert.OutLnIdeal.τ).loc Cert.OutLnIdeal.main_v0_0)) (v1 : (c : Dev Cert.OutLnIdeal.nD) → Buf (Elt Ideal) ((c.tc : Thread Cert.OutLnIdeal.nD Cert.OutLnIdeal.τ).loc Cert.OutLnIdeal.main_v0_1)),
      θ_run (Cert.OutLnIdeal.defs (F := Ideal)) (onTc (τ := Cert.OutLnIdeal.τ) (Cert.OutLnIdeal.main (F := Ideal))) ⟨m, fun _ => 0, g⟩ (fun r => ∀ c : Dev Cert.OutLnIdeal.nD,
          r.2.mem ((c.tc : Thread Cert.OutLnIdeal.nD Cert.OutLnIdeal.τ).loc Cert.OutLnIdeal.main_v0_0) = v0 c
          ∧ r.2.mem ((c.tc : Thread Cert.OutLnIdeal.nD Cert.OutLnIdeal.τ).loc Cert.OutLnIdeal.main_v0_1) = v1 c
          ∧ r.2.mem ((c.tc : Thread Cert.OutLnIdeal.nD Cert.OutLnIdeal.τ).loc Cert.OutLnIdeal.main_arg0) = m ((c.tc : Thread Cert.OutLnIdeal.nD Cert.OutLnIdeal.τ).loc Cert.OutLnIdeal.main_arg0)
          ∧ r.2.mem ((c.tc : Thread Cert.OutLnIdeal.nD Cert.OutLnIdeal.τ).loc Cert.OutLnIdeal.main_arg1) = m ((c.tc : Thread Cert.OutLnIdeal.nD Cert.OutLnIdeal.τ).loc Cert.OutLnIdeal.main_arg1)
          ∧ r.2.mem ((c.tc : Thread Cert.OutLnIdeal.nD Cert.OutLnIdeal.τ).loc Cert.OutLnIdeal.main_arg2) = m ((c.tc : Thread Cert.OutLnIdeal.nD Cert.OutLnIdeal.τ).loc Cert.OutLnIdeal.main_arg2)
          ∧ r.2.mem ((c.tc : Thread Cert.OutLnIdeal.nD Cert.OutLnIdeal.τ).loc Cert.OutLnIdeal.main_arg3) = m ((c.tc : Thread Cert.OutLnIdeal.nD Cert.OutLnIdeal.τ).loc Cert.OutLnIdeal.main_arg3)
          ∧ r.2.mem ((c.tc : Thread Cert.OutLnIdeal.nD Cert.OutLnIdeal.τ).loc Cert.OutLnIdeal.main_arg4) = m ((c.tc : Thread Cert.OutLnIdeal.nD Cert.OutLnIdeal.τ).loc Cert.OutLnIdeal.main_arg4)
          ∧ r.2.mem ((c.tc : Thread Cert.OutLnIdeal.nD Cert.OutLnIdeal.τ).loc Cert.OutLnIdeal.main_arg5) = m ((c.tc : Thread Cert.OutLnIdeal.nD Cert.OutLnIdeal.τ).loc Cert.OutLnIdeal.main_arg5)
          ∧ r.2.mem ((c.tc : Thread Cert.OutLnIdeal.nD Cert.OutLnIdeal.τ).loc Cert.OutLnIdeal.main_arg6) = m ((c.tc : Thread Cert.OutLnIdeal.nD Cert.OutLnIdeal.τ).loc Cert.OutLnIdeal.main_arg6)
          ∧ r.2.mem ((c.tc : Thread Cert.OutLnIdeal.nD Cert.OutLnIdeal.τ).loc Cert.OutLnIdeal.main_arg7) = m ((c.tc : Thread Cert.OutLnIdeal.nD Cert.OutLnIdeal.τ).loc Cert.OutLnIdeal.main_arg7)
          ∧ r.2.mem ((c.tc : Thread Cert.OutLnIdeal.nD Cert.OutLnIdeal.τ).loc Cert.OutLnIdeal.main_arg8) = m ((c.tc : Thread Cert.OutLnIdeal.nD Cert.OutLnIdeal.τ).loc Cert.OutLnIdeal.main_arg8))
      ∧ θ_run (Cert.OutLnReferenceIdeal.defs (F := Ideal)) (onTc (τ := Cert.OutLnReferenceIdeal.τ) (Cert.OutLnReferenceIdeal.main (F := Ideal))) ⟨m', fun _ => 0, g'⟩ (fun r => ∀ c : Dev Cert.OutLnReferenceIdeal.nD,
          r.2.mem ((c.tc : Thread Cert.OutLnReferenceIdeal.nD Cert.OutLnReferenceIdeal.τ).loc Cert.OutLnReferenceIdeal.main_v32) = v0 c
          ∧ r.2.mem ((c.tc : Thread Cert.OutLnReferenceIdeal.nD Cert.OutLnReferenceIdeal.τ).loc Cert.OutLnReferenceIdeal.main_v59) = v1 c
          ∧ r.2.mem ((c.tc : Thread Cert.OutLnReferenceIdeal.nD Cert.OutLnReferenceIdeal.τ).loc Cert.OutLnReferenceIdeal.main_arg0) = m' ((c.tc : Thread Cert.OutLnReferenceIdeal.nD Cert.OutLnReferenceIdeal.τ).loc Cert.OutLnReferenceIdeal.main_arg0)
          ∧ r.2.mem ((c.tc : Thread Cert.OutLnReferenceIdeal.nD Cert.OutLnReferenceIdeal.τ).loc Cert.OutLnReferenceIdeal.main_arg1) = m' ((c.tc : Thread Cert.OutLnReferenceIdeal.nD Cert.OutLnReferenceIdeal.τ).loc Cert.OutLnReferenceIdeal.main_arg1)
          ∧ r.2.mem ((c.tc : Thread Cert.OutLnReferenceIdeal.nD Cert.OutLnReferenceIdeal.τ).loc Cert.OutLnReferenceIdeal.main_arg2) = m' ((c.tc : Thread Cert.OutLnReferenceIdeal.nD Cert.OutLnReferenceIdeal.τ).loc Cert.OutLnReferenceIdeal.main_arg2)
          ∧ r.2.mem ((c.tc : Thread Cert.OutLnReferenceIdeal.nD Cert.OutLnReferenceIdeal.τ).loc Cert.OutLnReferenceIdeal.main_arg3) = m' ((c.tc : Thread Cert.OutLnReferenceIdeal.nD Cert.OutLnReferenceIdeal.τ).loc Cert.OutLnReferenceIdeal.main_arg3)
          ∧ r.2.mem ((c.tc : Thread Cert.OutLnReferenceIdeal.nD Cert.OutLnReferenceIdeal.τ).loc Cert.OutLnReferenceIdeal.main_arg4) = m' ((c.tc : Thread Cert.OutLnReferenceIdeal.nD Cert.OutLnReferenceIdeal.τ).loc Cert.OutLnReferenceIdeal.main_arg4)
          ∧ r.2.mem ((c.tc : Thread Cert.OutLnReferenceIdeal.nD Cert.OutLnReferenceIdeal.τ).loc Cert.OutLnReferenceIdeal.main_arg5) = m' ((c.tc : Thread Cert.OutLnReferenceIdeal.nD Cert.OutLnReferenceIdeal.τ).loc Cert.OutLnReferenceIdeal.main_arg5)
          ∧ r.2.mem ((c.tc : Thread Cert.OutLnReferenceIdeal.nD Cert.OutLnReferenceIdeal.τ).loc Cert.OutLnReferenceIdeal.main_arg6) = m' ((c.tc : Thread Cert.OutLnReferenceIdeal.nD Cert.OutLnReferenceIdeal.τ).loc Cert.OutLnReferenceIdeal.main_arg6)
          ∧ r.2.mem ((c.tc : Thread Cert.OutLnReferenceIdeal.nD Cert.OutLnReferenceIdeal.τ).loc Cert.OutLnReferenceIdeal.main_arg7) = m' ((c.tc : Thread Cert.OutLnReferenceIdeal.nD Cert.OutLnReferenceIdeal.τ).loc Cert.OutLnReferenceIdeal.main_arg7)
          ∧ r.2.mem ((c.tc : Thread Cert.OutLnReferenceIdeal.nD Cert.OutLnReferenceIdeal.τ).loc Cert.OutLnReferenceIdeal.main_arg8) = m' ((c.tc : Thread Cert.OutLnReferenceIdeal.nD Cert.OutLnReferenceIdeal.τ).loc Cert.OutLnReferenceIdeal.main_arg8))

def preserves_OutLn0_OutLn0Ideal : Prop :=
  True

def algebraic_OutLn0Ideal_OutLn0ReferenceIdeal [hOutLn0Ideal : Cert.OutLn0Ideal.Facts] [hOutLn0ReferenceIdeal : Cert.OutLn0ReferenceIdeal.Facts] : Prop :=
  ∀ (m : (ℓ : Loc Cert.OutLn0Ideal.nD Cert.OutLn0Ideal.τ Cert.OutLn0Ideal.sig) → Buf (Elt Ideal) ℓ) (g : Dev Cert.OutLn0Ideal.nD → PrngReg)
    (m' : (ℓ : Loc Cert.OutLn0ReferenceIdeal.nD Cert.OutLn0ReferenceIdeal.τ Cert.OutLn0ReferenceIdeal.sig) → Buf (Elt Ideal) ℓ) (g' : Dev Cert.OutLn0ReferenceIdeal.nD → PrngReg), Pre_OutLn0Ideal m →
    (∀ c : Dev Cert.OutLn0Ideal.nD,
      m' ((c.tc : Thread Cert.OutLn0ReferenceIdeal.nD Cert.OutLn0ReferenceIdeal.τ).loc Cert.OutLn0ReferenceIdeal.main_arg0) = m ((c.tc : Thread Cert.OutLn0Ideal.nD Cert.OutLn0Ideal.τ).loc Cert.OutLn0Ideal.main_arg0)
      ∧ m' ((c.tc : Thread Cert.OutLn0ReferenceIdeal.nD Cert.OutLn0ReferenceIdeal.τ).loc Cert.OutLn0ReferenceIdeal.main_arg1) = m ((c.tc : Thread Cert.OutLn0Ideal.nD Cert.OutLn0Ideal.τ).loc Cert.OutLn0Ideal.main_arg1)
      ∧ m' ((c.tc : Thread Cert.OutLn0ReferenceIdeal.nD Cert.OutLn0ReferenceIdeal.τ).loc Cert.OutLn0ReferenceIdeal.main_arg2) = m ((c.tc : Thread Cert.OutLn0Ideal.nD Cert.OutLn0Ideal.τ).loc Cert.OutLn0Ideal.main_arg2)
      ∧ m' ((c.tc : Thread Cert.OutLn0ReferenceIdeal.nD Cert.OutLn0ReferenceIdeal.τ).loc Cert.OutLn0ReferenceIdeal.main_arg3) = m ((c.tc : Thread Cert.OutLn0Ideal.nD Cert.OutLn0Ideal.τ).loc Cert.OutLn0Ideal.main_arg3)
      ∧ m' ((c.tc : Thread Cert.OutLn0ReferenceIdeal.nD Cert.OutLn0ReferenceIdeal.τ).loc Cert.OutLn0ReferenceIdeal.main_arg4) = m ((c.tc : Thread Cert.OutLn0Ideal.nD Cert.OutLn0Ideal.τ).loc Cert.OutLn0Ideal.main_arg4)
      ∧ m' ((c.tc : Thread Cert.OutLn0ReferenceIdeal.nD Cert.OutLn0ReferenceIdeal.τ).loc Cert.OutLn0ReferenceIdeal.main_arg5) = m ((c.tc : Thread Cert.OutLn0Ideal.nD Cert.OutLn0Ideal.τ).loc Cert.OutLn0Ideal.main_arg5)
      ∧ m' ((c.tc : Thread Cert.OutLn0ReferenceIdeal.nD Cert.OutLn0ReferenceIdeal.τ).loc Cert.OutLn0ReferenceIdeal.main_arg6) = m ((c.tc : Thread Cert.OutLn0Ideal.nD Cert.OutLn0Ideal.τ).loc Cert.OutLn0Ideal.main_arg6)) →
    ∃ (v0 : (c : Dev Cert.OutLn0Ideal.nD) → Buf (Elt Ideal) ((c.tc : Thread Cert.OutLn0Ideal.nD Cert.OutLn0Ideal.τ).loc Cert.OutLn0Ideal.main_v0_0)) (v1 : (c : Dev Cert.OutLn0Ideal.nD) → Buf (Elt Ideal) ((c.tc : Thread Cert.OutLn0Ideal.nD Cert.OutLn0Ideal.τ).loc Cert.OutLn0Ideal.main_v0_1)),
      θ_run (Cert.OutLn0Ideal.defs (F := Ideal)) (onTc (τ := Cert.OutLn0Ideal.τ) (Cert.OutLn0Ideal.main (F := Ideal))) ⟨m, fun _ => 0, g⟩ (fun r => ∀ c : Dev Cert.OutLn0Ideal.nD,
          r.2.mem ((c.tc : Thread Cert.OutLn0Ideal.nD Cert.OutLn0Ideal.τ).loc Cert.OutLn0Ideal.main_v0_0) = v0 c
          ∧ r.2.mem ((c.tc : Thread Cert.OutLn0Ideal.nD Cert.OutLn0Ideal.τ).loc Cert.OutLn0Ideal.main_v0_1) = v1 c
          ∧ r.2.mem ((c.tc : Thread Cert.OutLn0Ideal.nD Cert.OutLn0Ideal.τ).loc Cert.OutLn0Ideal.main_arg0) = m ((c.tc : Thread Cert.OutLn0Ideal.nD Cert.OutLn0Ideal.τ).loc Cert.OutLn0Ideal.main_arg0)
          ∧ r.2.mem ((c.tc : Thread Cert.OutLn0Ideal.nD Cert.OutLn0Ideal.τ).loc Cert.OutLn0Ideal.main_arg1) = m ((c.tc : Thread Cert.OutLn0Ideal.nD Cert.OutLn0Ideal.τ).loc Cert.OutLn0Ideal.main_arg1)
          ∧ r.2.mem ((c.tc : Thread Cert.OutLn0Ideal.nD Cert.OutLn0Ideal.τ).loc Cert.OutLn0Ideal.main_arg2) = m ((c.tc : Thread Cert.OutLn0Ideal.nD Cert.OutLn0Ideal.τ).loc Cert.OutLn0Ideal.main_arg2)
          ∧ r.2.mem ((c.tc : Thread Cert.OutLn0Ideal.nD Cert.OutLn0Ideal.τ).loc Cert.OutLn0Ideal.main_arg3) = m ((c.tc : Thread Cert.OutLn0Ideal.nD Cert.OutLn0Ideal.τ).loc Cert.OutLn0Ideal.main_arg3)
          ∧ r.2.mem ((c.tc : Thread Cert.OutLn0Ideal.nD Cert.OutLn0Ideal.τ).loc Cert.OutLn0Ideal.main_arg4) = m ((c.tc : Thread Cert.OutLn0Ideal.nD Cert.OutLn0Ideal.τ).loc Cert.OutLn0Ideal.main_arg4)
          ∧ r.2.mem ((c.tc : Thread Cert.OutLn0Ideal.nD Cert.OutLn0Ideal.τ).loc Cert.OutLn0Ideal.main_arg5) = m ((c.tc : Thread Cert.OutLn0Ideal.nD Cert.OutLn0Ideal.τ).loc Cert.OutLn0Ideal.main_arg5)
          ∧ r.2.mem ((c.tc : Thread Cert.OutLn0Ideal.nD Cert.OutLn0Ideal.τ).loc Cert.OutLn0Ideal.main_arg6) = m ((c.tc : Thread Cert.OutLn0Ideal.nD Cert.OutLn0Ideal.τ).loc Cert.OutLn0Ideal.main_arg6))
      ∧ θ_run (Cert.OutLn0ReferenceIdeal.defs (F := Ideal)) (onTc (τ := Cert.OutLn0ReferenceIdeal.τ) (Cert.OutLn0ReferenceIdeal.main (F := Ideal))) ⟨m', fun _ => 0, g'⟩ (fun r => ∀ c : Dev Cert.OutLn0ReferenceIdeal.nD,
          r.2.mem ((c.tc : Thread Cert.OutLn0ReferenceIdeal.nD Cert.OutLn0ReferenceIdeal.τ).loc Cert.OutLn0ReferenceIdeal.main_v6) = v0 c
          ∧ r.2.mem ((c.tc : Thread Cert.OutLn0ReferenceIdeal.nD Cert.OutLn0ReferenceIdeal.τ).loc Cert.OutLn0ReferenceIdeal.main_v33) = v1 c
          ∧ r.2.mem ((c.tc : Thread Cert.OutLn0ReferenceIdeal.nD Cert.OutLn0ReferenceIdeal.τ).loc Cert.OutLn0ReferenceIdeal.main_arg0) = m' ((c.tc : Thread Cert.OutLn0ReferenceIdeal.nD Cert.OutLn0ReferenceIdeal.τ).loc Cert.OutLn0ReferenceIdeal.main_arg0)
          ∧ r.2.mem ((c.tc : Thread Cert.OutLn0ReferenceIdeal.nD Cert.OutLn0ReferenceIdeal.τ).loc Cert.OutLn0ReferenceIdeal.main_arg1) = m' ((c.tc : Thread Cert.OutLn0ReferenceIdeal.nD Cert.OutLn0ReferenceIdeal.τ).loc Cert.OutLn0ReferenceIdeal.main_arg1)
          ∧ r.2.mem ((c.tc : Thread Cert.OutLn0ReferenceIdeal.nD Cert.OutLn0ReferenceIdeal.τ).loc Cert.OutLn0ReferenceIdeal.main_arg2) = m' ((c.tc : Thread Cert.OutLn0ReferenceIdeal.nD Cert.OutLn0ReferenceIdeal.τ).loc Cert.OutLn0ReferenceIdeal.main_arg2)
          ∧ r.2.mem ((c.tc : Thread Cert.OutLn0ReferenceIdeal.nD Cert.OutLn0ReferenceIdeal.τ).loc Cert.OutLn0ReferenceIdeal.main_arg3) = m' ((c.tc : Thread Cert.OutLn0ReferenceIdeal.nD Cert.OutLn0ReferenceIdeal.τ).loc Cert.OutLn0ReferenceIdeal.main_arg3)
          ∧ r.2.mem ((c.tc : Thread Cert.OutLn0ReferenceIdeal.nD Cert.OutLn0ReferenceIdeal.τ).loc Cert.OutLn0ReferenceIdeal.main_arg4) = m' ((c.tc : Thread Cert.OutLn0ReferenceIdeal.nD Cert.OutLn0ReferenceIdeal.τ).loc Cert.OutLn0ReferenceIdeal.main_arg4)
          ∧ r.2.mem ((c.tc : Thread Cert.OutLn0ReferenceIdeal.nD Cert.OutLn0ReferenceIdeal.τ).loc Cert.OutLn0ReferenceIdeal.main_arg5) = m' ((c.tc : Thread Cert.OutLn0ReferenceIdeal.nD Cert.OutLn0ReferenceIdeal.τ).loc Cert.OutLn0ReferenceIdeal.main_arg5)
          ∧ r.2.mem ((c.tc : Thread Cert.OutLn0ReferenceIdeal.nD Cert.OutLn0ReferenceIdeal.τ).loc Cert.OutLn0ReferenceIdeal.main_arg6) = m' ((c.tc : Thread Cert.OutLn0ReferenceIdeal.nD Cert.OutLn0ReferenceIdeal.τ).loc Cert.OutLn0ReferenceIdeal.main_arg6))

def preserves_AttFwd_AttFwdIdeal : Prop :=
  True

def algebraic_AttFwdIdeal_AttFwdReferenceIdeal [hAttFwdIdeal : Cert.AttFwdIdeal.Facts] [hAttFwdReferenceIdeal : Cert.AttFwdReferenceIdeal.Facts] : Prop :=
  ∀ (m : (ℓ : Loc Cert.AttFwdIdeal.nD Cert.AttFwdIdeal.τ Cert.AttFwdIdeal.sig) → Buf (Elt Ideal) ℓ) (g : Dev Cert.AttFwdIdeal.nD → PrngReg)
    (m' : (ℓ : Loc Cert.AttFwdReferenceIdeal.nD Cert.AttFwdReferenceIdeal.τ Cert.AttFwdReferenceIdeal.sig) → Buf (Elt Ideal) ℓ) (g' : Dev Cert.AttFwdReferenceIdeal.nD → PrngReg), Pre_AttFwdIdeal m →
    (∀ c : Dev Cert.AttFwdIdeal.nD,
      m' ((c.tc : Thread Cert.AttFwdReferenceIdeal.nD Cert.AttFwdReferenceIdeal.τ).loc Cert.AttFwdReferenceIdeal.main_arg0) = m ((c.tc : Thread Cert.AttFwdIdeal.nD Cert.AttFwdIdeal.τ).loc Cert.AttFwdIdeal.main_arg0)
      ∧ m' ((c.tc : Thread Cert.AttFwdReferenceIdeal.nD Cert.AttFwdReferenceIdeal.τ).loc Cert.AttFwdReferenceIdeal.main_arg1) = m ((c.tc : Thread Cert.AttFwdIdeal.nD Cert.AttFwdIdeal.τ).loc Cert.AttFwdIdeal.main_arg1)) →
    ∃ (v0 : (c : Dev Cert.AttFwdIdeal.nD) → Buf (Elt Ideal) ((c.tc : Thread Cert.AttFwdIdeal.nD Cert.AttFwdIdeal.τ).loc Cert.AttFwdIdeal.main_v0)),
      θ_run (Cert.AttFwdIdeal.defs (F := Ideal)) (onTc (τ := Cert.AttFwdIdeal.τ) (Cert.AttFwdIdeal.main (F := Ideal))) ⟨m, fun _ => 0, g⟩ (fun r => ∀ c : Dev Cert.AttFwdIdeal.nD,
          r.2.mem ((c.tc : Thread Cert.AttFwdIdeal.nD Cert.AttFwdIdeal.τ).loc Cert.AttFwdIdeal.main_v0) = v0 c
          ∧ r.2.mem ((c.tc : Thread Cert.AttFwdIdeal.nD Cert.AttFwdIdeal.τ).loc Cert.AttFwdIdeal.main_arg0) = m ((c.tc : Thread Cert.AttFwdIdeal.nD Cert.AttFwdIdeal.τ).loc Cert.AttFwdIdeal.main_arg0)
          ∧ r.2.mem ((c.tc : Thread Cert.AttFwdIdeal.nD Cert.AttFwdIdeal.τ).loc Cert.AttFwdIdeal.main_arg1) = m ((c.tc : Thread Cert.AttFwdIdeal.nD Cert.AttFwdIdeal.τ).loc Cert.AttFwdIdeal.main_arg1))
      ∧ θ_run (Cert.AttFwdReferenceIdeal.defs (F := Ideal)) (onTc (τ := Cert.AttFwdReferenceIdeal.τ) (Cert.AttFwdReferenceIdeal.main (F := Ideal))) ⟨m', fun _ => 0, g'⟩ (fun r => ∀ c : Dev Cert.AttFwdReferenceIdeal.nD,
          r.2.mem ((c.tc : Thread Cert.AttFwdReferenceIdeal.nD Cert.AttFwdReferenceIdeal.τ).loc Cert.AttFwdReferenceIdeal.main_v27) = v0 c
          ∧ r.2.mem ((c.tc : Thread Cert.AttFwdReferenceIdeal.nD Cert.AttFwdReferenceIdeal.τ).loc Cert.AttFwdReferenceIdeal.main_arg0) = m' ((c.tc : Thread Cert.AttFwdReferenceIdeal.nD Cert.AttFwdReferenceIdeal.τ).loc Cert.AttFwdReferenceIdeal.main_arg0)
          ∧ r.2.mem ((c.tc : Thread Cert.AttFwdReferenceIdeal.nD Cert.AttFwdReferenceIdeal.τ).loc Cert.AttFwdReferenceIdeal.main_arg1) = m' ((c.tc : Thread Cert.AttFwdReferenceIdeal.nD Cert.AttFwdReferenceIdeal.τ).loc Cert.AttFwdReferenceIdeal.main_arg1))

def preserves_MixCBwd_MixCBwdIdeal : Prop :=
  True

def algebraic_MixCBwdIdeal_MixCBwdReferenceIdeal [hMixCBwdIdeal : Cert.MixCBwdIdeal.Facts] [hMixCBwdReferenceIdeal : Cert.MixCBwdReferenceIdeal.Facts] : Prop :=
  ∀ (m : (ℓ : Loc Cert.MixCBwdIdeal.nD Cert.MixCBwdIdeal.τ Cert.MixCBwdIdeal.sig) → Buf (Elt Ideal) ℓ) (g : Dev Cert.MixCBwdIdeal.nD → PrngReg)
    (m' : (ℓ : Loc Cert.MixCBwdReferenceIdeal.nD Cert.MixCBwdReferenceIdeal.τ Cert.MixCBwdReferenceIdeal.sig) → Buf (Elt Ideal) ℓ) (g' : Dev Cert.MixCBwdReferenceIdeal.nD → PrngReg), Pre_MixCBwdIdeal m →
    (∀ c : Dev Cert.MixCBwdIdeal.nD,
      m' ((c.tc : Thread Cert.MixCBwdReferenceIdeal.nD Cert.MixCBwdReferenceIdeal.τ).loc Cert.MixCBwdReferenceIdeal.main_arg0) = m ((c.tc : Thread Cert.MixCBwdIdeal.nD Cert.MixCBwdIdeal.τ).loc Cert.MixCBwdIdeal.main_arg0)
      ∧ m' ((c.tc : Thread Cert.MixCBwdReferenceIdeal.nD Cert.MixCBwdReferenceIdeal.τ).loc Cert.MixCBwdReferenceIdeal.main_arg1) = m ((c.tc : Thread Cert.MixCBwdIdeal.nD Cert.MixCBwdIdeal.τ).loc Cert.MixCBwdIdeal.main_arg1)
      ∧ m' ((c.tc : Thread Cert.MixCBwdReferenceIdeal.nD Cert.MixCBwdReferenceIdeal.τ).loc Cert.MixCBwdReferenceIdeal.main_arg2) = m ((c.tc : Thread Cert.MixCBwdIdeal.nD Cert.MixCBwdIdeal.τ).loc Cert.MixCBwdIdeal.main_arg2)
      ∧ m' ((c.tc : Thread Cert.MixCBwdReferenceIdeal.nD Cert.MixCBwdReferenceIdeal.τ).loc Cert.MixCBwdReferenceIdeal.main_arg3) = m ((c.tc : Thread Cert.MixCBwdIdeal.nD Cert.MixCBwdIdeal.τ).loc Cert.MixCBwdIdeal.main_arg3)
      ∧ m' ((c.tc : Thread Cert.MixCBwdReferenceIdeal.nD Cert.MixCBwdReferenceIdeal.τ).loc Cert.MixCBwdReferenceIdeal.main_arg4) = m ((c.tc : Thread Cert.MixCBwdIdeal.nD Cert.MixCBwdIdeal.τ).loc Cert.MixCBwdIdeal.main_arg4)) →
    ∃ (v0 : (c : Dev Cert.MixCBwdIdeal.nD) → Buf (Elt Ideal) ((c.tc : Thread Cert.MixCBwdIdeal.nD Cert.MixCBwdIdeal.τ).loc Cert.MixCBwdIdeal.main_v0_0)) (v1 : (c : Dev Cert.MixCBwdIdeal.nD) → Buf (Elt Ideal) ((c.tc : Thread Cert.MixCBwdIdeal.nD Cert.MixCBwdIdeal.τ).loc Cert.MixCBwdIdeal.main_v0_1)) (v2 : (c : Dev Cert.MixCBwdIdeal.nD) → Buf (Elt Ideal) ((c.tc : Thread Cert.MixCBwdIdeal.nD Cert.MixCBwdIdeal.τ).loc Cert.MixCBwdIdeal.main_v0_2)),
      θ_run (Cert.MixCBwdIdeal.defs (F := Ideal)) (onTc (τ := Cert.MixCBwdIdeal.τ) (Cert.MixCBwdIdeal.main (F := Ideal))) ⟨m, fun _ => 0, g⟩ (fun r => ∀ c : Dev Cert.MixCBwdIdeal.nD,
          r.2.mem ((c.tc : Thread Cert.MixCBwdIdeal.nD Cert.MixCBwdIdeal.τ).loc Cert.MixCBwdIdeal.main_v0_0) = v0 c
          ∧ r.2.mem ((c.tc : Thread Cert.MixCBwdIdeal.nD Cert.MixCBwdIdeal.τ).loc Cert.MixCBwdIdeal.main_v0_1) = v1 c
          ∧ r.2.mem ((c.tc : Thread Cert.MixCBwdIdeal.nD Cert.MixCBwdIdeal.τ).loc Cert.MixCBwdIdeal.main_v0_2) = v2 c
          ∧ r.2.mem ((c.tc : Thread Cert.MixCBwdIdeal.nD Cert.MixCBwdIdeal.τ).loc Cert.MixCBwdIdeal.main_arg0) = m ((c.tc : Thread Cert.MixCBwdIdeal.nD Cert.MixCBwdIdeal.τ).loc Cert.MixCBwdIdeal.main_arg0)
          ∧ r.2.mem ((c.tc : Thread Cert.MixCBwdIdeal.nD Cert.MixCBwdIdeal.τ).loc Cert.MixCBwdIdeal.main_arg1) = m ((c.tc : Thread Cert.MixCBwdIdeal.nD Cert.MixCBwdIdeal.τ).loc Cert.MixCBwdIdeal.main_arg1)
          ∧ r.2.mem ((c.tc : Thread Cert.MixCBwdIdeal.nD Cert.MixCBwdIdeal.τ).loc Cert.MixCBwdIdeal.main_arg2) = m ((c.tc : Thread Cert.MixCBwdIdeal.nD Cert.MixCBwdIdeal.τ).loc Cert.MixCBwdIdeal.main_arg2)
          ∧ r.2.mem ((c.tc : Thread Cert.MixCBwdIdeal.nD Cert.MixCBwdIdeal.τ).loc Cert.MixCBwdIdeal.main_arg3) = m ((c.tc : Thread Cert.MixCBwdIdeal.nD Cert.MixCBwdIdeal.τ).loc Cert.MixCBwdIdeal.main_arg3)
          ∧ r.2.mem ((c.tc : Thread Cert.MixCBwdIdeal.nD Cert.MixCBwdIdeal.τ).loc Cert.MixCBwdIdeal.main_arg4) = m ((c.tc : Thread Cert.MixCBwdIdeal.nD Cert.MixCBwdIdeal.τ).loc Cert.MixCBwdIdeal.main_arg4))
      ∧ θ_run (Cert.MixCBwdReferenceIdeal.defs (F := Ideal)) (onTc (τ := Cert.MixCBwdReferenceIdeal.τ) (Cert.MixCBwdReferenceIdeal.main (F := Ideal))) ⟨m', fun _ => 0, g'⟩ (fun r => ∀ c : Dev Cert.MixCBwdReferenceIdeal.nD,
          r.2.mem ((c.tc : Thread Cert.MixCBwdReferenceIdeal.nD Cert.MixCBwdReferenceIdeal.τ).loc Cert.MixCBwdReferenceIdeal.main_v69) = v0 c
          ∧ r.2.mem ((c.tc : Thread Cert.MixCBwdReferenceIdeal.nD Cert.MixCBwdReferenceIdeal.τ).loc Cert.MixCBwdReferenceIdeal.main_v71) = v1 c
          ∧ r.2.mem ((c.tc : Thread Cert.MixCBwdReferenceIdeal.nD Cert.MixCBwdReferenceIdeal.τ).loc Cert.MixCBwdReferenceIdeal.main_v73) = v2 c
          ∧ r.2.mem ((c.tc : Thread Cert.MixCBwdReferenceIdeal.nD Cert.MixCBwdReferenceIdeal.τ).loc Cert.MixCBwdReferenceIdeal.main_arg0) = m' ((c.tc : Thread Cert.MixCBwdReferenceIdeal.nD Cert.MixCBwdReferenceIdeal.τ).loc Cert.MixCBwdReferenceIdeal.main_arg0)
          ∧ r.2.mem ((c.tc : Thread Cert.MixCBwdReferenceIdeal.nD Cert.MixCBwdReferenceIdeal.τ).loc Cert.MixCBwdReferenceIdeal.main_arg1) = m' ((c.tc : Thread Cert.MixCBwdReferenceIdeal.nD Cert.MixCBwdReferenceIdeal.τ).loc Cert.MixCBwdReferenceIdeal.main_arg1)
          ∧ r.2.mem ((c.tc : Thread Cert.MixCBwdReferenceIdeal.nD Cert.MixCBwdReferenceIdeal.τ).loc Cert.MixCBwdReferenceIdeal.main_arg2) = m' ((c.tc : Thread Cert.MixCBwdReferenceIdeal.nD Cert.MixCBwdReferenceIdeal.τ).loc Cert.MixCBwdReferenceIdeal.main_arg2)
          ∧ r.2.mem ((c.tc : Thread Cert.MixCBwdReferenceIdeal.nD Cert.MixCBwdReferenceIdeal.τ).loc Cert.MixCBwdReferenceIdeal.main_arg3) = m' ((c.tc : Thread Cert.MixCBwdReferenceIdeal.nD Cert.MixCBwdReferenceIdeal.τ).loc Cert.MixCBwdReferenceIdeal.main_arg3)
          ∧ r.2.mem ((c.tc : Thread Cert.MixCBwdReferenceIdeal.nD Cert.MixCBwdReferenceIdeal.τ).loc Cert.MixCBwdReferenceIdeal.main_arg4) = m' ((c.tc : Thread Cert.MixCBwdReferenceIdeal.nD Cert.MixCBwdReferenceIdeal.τ).loc Cert.MixCBwdReferenceIdeal.main_arg4))

def preserves_MixCFwd_MixCFwdIdeal : Prop :=
  True

def algebraic_MixCFwdIdeal_MixCFwdReferenceIdeal [hMixCFwdIdeal : Cert.MixCFwdIdeal.Facts] [hMixCFwdReferenceIdeal : Cert.MixCFwdReferenceIdeal.Facts] : Prop :=
  ∀ (m : (ℓ : Loc Cert.MixCFwdIdeal.nD Cert.MixCFwdIdeal.τ Cert.MixCFwdIdeal.sig) → Buf (Elt Ideal) ℓ) (g : Dev Cert.MixCFwdIdeal.nD → PrngReg)
    (m' : (ℓ : Loc Cert.MixCFwdReferenceIdeal.nD Cert.MixCFwdReferenceIdeal.τ Cert.MixCFwdReferenceIdeal.sig) → Buf (Elt Ideal) ℓ) (g' : Dev Cert.MixCFwdReferenceIdeal.nD → PrngReg), Pre_MixCFwdIdeal m →
    (∀ c : Dev Cert.MixCFwdIdeal.nD,
      m' ((c.tc : Thread Cert.MixCFwdReferenceIdeal.nD Cert.MixCFwdReferenceIdeal.τ).loc Cert.MixCFwdReferenceIdeal.main_arg0) = m ((c.tc : Thread Cert.MixCFwdIdeal.nD Cert.MixCFwdIdeal.τ).loc Cert.MixCFwdIdeal.main_arg0)
      ∧ m' ((c.tc : Thread Cert.MixCFwdReferenceIdeal.nD Cert.MixCFwdReferenceIdeal.τ).loc Cert.MixCFwdReferenceIdeal.main_arg1) = m ((c.tc : Thread Cert.MixCFwdIdeal.nD Cert.MixCFwdIdeal.τ).loc Cert.MixCFwdIdeal.main_arg1)
      ∧ m' ((c.tc : Thread Cert.MixCFwdReferenceIdeal.nD Cert.MixCFwdReferenceIdeal.τ).loc Cert.MixCFwdReferenceIdeal.main_arg2) = m ((c.tc : Thread Cert.MixCFwdIdeal.nD Cert.MixCFwdIdeal.τ).loc Cert.MixCFwdIdeal.main_arg2)
      ∧ m' ((c.tc : Thread Cert.MixCFwdReferenceIdeal.nD Cert.MixCFwdReferenceIdeal.τ).loc Cert.MixCFwdReferenceIdeal.main_arg3) = m ((c.tc : Thread Cert.MixCFwdIdeal.nD Cert.MixCFwdIdeal.τ).loc Cert.MixCFwdIdeal.main_arg3)) →
    ∃ (v0 : (c : Dev Cert.MixCFwdIdeal.nD) → Buf (Elt Ideal) ((c.tc : Thread Cert.MixCFwdIdeal.nD Cert.MixCFwdIdeal.τ).loc Cert.MixCFwdIdeal.main_v0)),
      θ_run (Cert.MixCFwdIdeal.defs (F := Ideal)) (onTc (τ := Cert.MixCFwdIdeal.τ) (Cert.MixCFwdIdeal.main (F := Ideal))) ⟨m, fun _ => 0, g⟩ (fun r => ∀ c : Dev Cert.MixCFwdIdeal.nD,
          r.2.mem ((c.tc : Thread Cert.MixCFwdIdeal.nD Cert.MixCFwdIdeal.τ).loc Cert.MixCFwdIdeal.main_v0) = v0 c
          ∧ r.2.mem ((c.tc : Thread Cert.MixCFwdIdeal.nD Cert.MixCFwdIdeal.τ).loc Cert.MixCFwdIdeal.main_arg0) = m ((c.tc : Thread Cert.MixCFwdIdeal.nD Cert.MixCFwdIdeal.τ).loc Cert.MixCFwdIdeal.main_arg0)
          ∧ r.2.mem ((c.tc : Thread Cert.MixCFwdIdeal.nD Cert.MixCFwdIdeal.τ).loc Cert.MixCFwdIdeal.main_arg1) = m ((c.tc : Thread Cert.MixCFwdIdeal.nD Cert.MixCFwdIdeal.τ).loc Cert.MixCFwdIdeal.main_arg1)
          ∧ r.2.mem ((c.tc : Thread Cert.MixCFwdIdeal.nD Cert.MixCFwdIdeal.τ).loc Cert.MixCFwdIdeal.main_arg2) = m ((c.tc : Thread Cert.MixCFwdIdeal.nD Cert.MixCFwdIdeal.τ).loc Cert.MixCFwdIdeal.main_arg2)
          ∧ r.2.mem ((c.tc : Thread Cert.MixCFwdIdeal.nD Cert.MixCFwdIdeal.τ).loc Cert.MixCFwdIdeal.main_arg3) = m ((c.tc : Thread Cert.MixCFwdIdeal.nD Cert.MixCFwdIdeal.τ).loc Cert.MixCFwdIdeal.main_arg3))
      ∧ θ_run (Cert.MixCFwdReferenceIdeal.defs (F := Ideal)) (onTc (τ := Cert.MixCFwdReferenceIdeal.τ) (Cert.MixCFwdReferenceIdeal.main (F := Ideal))) ⟨m', fun _ => 0, g'⟩ (fun r => ∀ c : Dev Cert.MixCFwdReferenceIdeal.nD,
          r.2.mem ((c.tc : Thread Cert.MixCFwdReferenceIdeal.nD Cert.MixCFwdReferenceIdeal.τ).loc Cert.MixCFwdReferenceIdeal.main_v30) = v0 c
          ∧ r.2.mem ((c.tc : Thread Cert.MixCFwdReferenceIdeal.nD Cert.MixCFwdReferenceIdeal.τ).loc Cert.MixCFwdReferenceIdeal.main_arg0) = m' ((c.tc : Thread Cert.MixCFwdReferenceIdeal.nD Cert.MixCFwdReferenceIdeal.τ).loc Cert.MixCFwdReferenceIdeal.main_arg0)
          ∧ r.2.mem ((c.tc : Thread Cert.MixCFwdReferenceIdeal.nD Cert.MixCFwdReferenceIdeal.τ).loc Cert.MixCFwdReferenceIdeal.main_arg1) = m' ((c.tc : Thread Cert.MixCFwdReferenceIdeal.nD Cert.MixCFwdReferenceIdeal.τ).loc Cert.MixCFwdReferenceIdeal.main_arg1)
          ∧ r.2.mem ((c.tc : Thread Cert.MixCFwdReferenceIdeal.nD Cert.MixCFwdReferenceIdeal.τ).loc Cert.MixCFwdReferenceIdeal.main_arg2) = m' ((c.tc : Thread Cert.MixCFwdReferenceIdeal.nD Cert.MixCFwdReferenceIdeal.τ).loc Cert.MixCFwdReferenceIdeal.main_arg2)
          ∧ r.2.mem ((c.tc : Thread Cert.MixCFwdReferenceIdeal.nD Cert.MixCFwdReferenceIdeal.τ).loc Cert.MixCFwdReferenceIdeal.main_arg3) = m' ((c.tc : Thread Cert.MixCFwdReferenceIdeal.nD Cert.MixCFwdReferenceIdeal.τ).loc Cert.MixCFwdReferenceIdeal.main_arg3))

def preserves_MixBFwd_MixBFwdIdeal : Prop :=
  True

def algebraic_MixBFwdIdeal_MixBFwdReferenceIdeal [hMixBFwdIdeal : Cert.MixBFwdIdeal.Facts] [hMixBFwdReferenceIdeal : Cert.MixBFwdReferenceIdeal.Facts] : Prop :=
  ∀ (m : (ℓ : Loc Cert.MixBFwdIdeal.nD Cert.MixBFwdIdeal.τ Cert.MixBFwdIdeal.sig) → Buf (Elt Ideal) ℓ) (g : Dev Cert.MixBFwdIdeal.nD → PrngReg)
    (m' : (ℓ : Loc Cert.MixBFwdReferenceIdeal.nD Cert.MixBFwdReferenceIdeal.τ Cert.MixBFwdReferenceIdeal.sig) → Buf (Elt Ideal) ℓ) (g' : Dev Cert.MixBFwdReferenceIdeal.nD → PrngReg), Pre_MixBFwdIdeal m →
    (∀ c : Dev Cert.MixBFwdIdeal.nD,
      m' ((c.tc : Thread Cert.MixBFwdReferenceIdeal.nD Cert.MixBFwdReferenceIdeal.τ).loc Cert.MixBFwdReferenceIdeal.main_arg0) = m ((c.tc : Thread Cert.MixBFwdIdeal.nD Cert.MixBFwdIdeal.τ).loc Cert.MixBFwdIdeal.main_arg0)
      ∧ m' ((c.tc : Thread Cert.MixBFwdReferenceIdeal.nD Cert.MixBFwdReferenceIdeal.τ).loc Cert.MixBFwdReferenceIdeal.main_arg1) = m ((c.tc : Thread Cert.MixBFwdIdeal.nD Cert.MixBFwdIdeal.τ).loc Cert.MixBFwdIdeal.main_arg1)
      ∧ m' ((c.tc : Thread Cert.MixBFwdReferenceIdeal.nD Cert.MixBFwdReferenceIdeal.τ).loc Cert.MixBFwdReferenceIdeal.main_arg2) = m ((c.tc : Thread Cert.MixBFwdIdeal.nD Cert.MixBFwdIdeal.τ).loc Cert.MixBFwdIdeal.main_arg2)
      ∧ m' ((c.tc : Thread Cert.MixBFwdReferenceIdeal.nD Cert.MixBFwdReferenceIdeal.τ).loc Cert.MixBFwdReferenceIdeal.main_arg3) = m ((c.tc : Thread Cert.MixBFwdIdeal.nD Cert.MixBFwdIdeal.τ).loc Cert.MixBFwdIdeal.main_arg3)
      ∧ m' ((c.tc : Thread Cert.MixBFwdReferenceIdeal.nD Cert.MixBFwdReferenceIdeal.τ).loc Cert.MixBFwdReferenceIdeal.main_arg4) = m ((c.tc : Thread Cert.MixBFwdIdeal.nD Cert.MixBFwdIdeal.τ).loc Cert.MixBFwdIdeal.main_arg4)
      ∧ m' ((c.tc : Thread Cert.MixBFwdReferenceIdeal.nD Cert.MixBFwdReferenceIdeal.τ).loc Cert.MixBFwdReferenceIdeal.main_arg5) = m ((c.tc : Thread Cert.MixBFwdIdeal.nD Cert.MixBFwdIdeal.τ).loc Cert.MixBFwdIdeal.main_arg5)) →
    ∃ (v0 : (c : Dev Cert.MixBFwdIdeal.nD) → Buf (Elt Ideal) ((c.tc : Thread Cert.MixBFwdIdeal.nD Cert.MixBFwdIdeal.τ).loc Cert.MixBFwdIdeal.main_v3)),
      θ_run (Cert.MixBFwdIdeal.defs (F := Ideal)) (onTc (τ := Cert.MixBFwdIdeal.τ) (Cert.MixBFwdIdeal.main (F := Ideal))) ⟨m, fun _ => 0, g⟩ (fun r => ∀ c : Dev Cert.MixBFwdIdeal.nD,
          r.2.mem ((c.tc : Thread Cert.MixBFwdIdeal.nD Cert.MixBFwdIdeal.τ).loc Cert.MixBFwdIdeal.main_v3) = v0 c
          ∧ r.2.mem ((c.tc : Thread Cert.MixBFwdIdeal.nD Cert.MixBFwdIdeal.τ).loc Cert.MixBFwdIdeal.main_arg0) = m ((c.tc : Thread Cert.MixBFwdIdeal.nD Cert.MixBFwdIdeal.τ).loc Cert.MixBFwdIdeal.main_arg0)
          ∧ r.2.mem ((c.tc : Thread Cert.MixBFwdIdeal.nD Cert.MixBFwdIdeal.τ).loc Cert.MixBFwdIdeal.main_arg1) = m ((c.tc : Thread Cert.MixBFwdIdeal.nD Cert.MixBFwdIdeal.τ).loc Cert.MixBFwdIdeal.main_arg1)
          ∧ r.2.mem ((c.tc : Thread Cert.MixBFwdIdeal.nD Cert.MixBFwdIdeal.τ).loc Cert.MixBFwdIdeal.main_arg2) = m ((c.tc : Thread Cert.MixBFwdIdeal.nD Cert.MixBFwdIdeal.τ).loc Cert.MixBFwdIdeal.main_arg2)
          ∧ r.2.mem ((c.tc : Thread Cert.MixBFwdIdeal.nD Cert.MixBFwdIdeal.τ).loc Cert.MixBFwdIdeal.main_arg3) = m ((c.tc : Thread Cert.MixBFwdIdeal.nD Cert.MixBFwdIdeal.τ).loc Cert.MixBFwdIdeal.main_arg3)
          ∧ r.2.mem ((c.tc : Thread Cert.MixBFwdIdeal.nD Cert.MixBFwdIdeal.τ).loc Cert.MixBFwdIdeal.main_arg4) = m ((c.tc : Thread Cert.MixBFwdIdeal.nD Cert.MixBFwdIdeal.τ).loc Cert.MixBFwdIdeal.main_arg4)
          ∧ r.2.mem ((c.tc : Thread Cert.MixBFwdIdeal.nD Cert.MixBFwdIdeal.τ).loc Cert.MixBFwdIdeal.main_arg5) = m ((c.tc : Thread Cert.MixBFwdIdeal.nD Cert.MixBFwdIdeal.τ).loc Cert.MixBFwdIdeal.main_arg5))
      ∧ θ_run (Cert.MixBFwdReferenceIdeal.defs (F := Ideal)) (onTc (τ := Cert.MixBFwdReferenceIdeal.τ) (Cert.MixBFwdReferenceIdeal.main (F := Ideal))) ⟨m', fun _ => 0, g'⟩ (fun r => ∀ c : Dev Cert.MixBFwdReferenceIdeal.nD,
          r.2.mem ((c.tc : Thread Cert.MixBFwdReferenceIdeal.nD Cert.MixBFwdReferenceIdeal.τ).loc Cert.MixBFwdReferenceIdeal.main_v53) = v0 c
          ∧ r.2.mem ((c.tc : Thread Cert.MixBFwdReferenceIdeal.nD Cert.MixBFwdReferenceIdeal.τ).loc Cert.MixBFwdReferenceIdeal.main_arg0) = m' ((c.tc : Thread Cert.MixBFwdReferenceIdeal.nD Cert.MixBFwdReferenceIdeal.τ).loc Cert.MixBFwdReferenceIdeal.main_arg0)
          ∧ r.2.mem ((c.tc : Thread Cert.MixBFwdReferenceIdeal.nD Cert.MixBFwdReferenceIdeal.τ).loc Cert.MixBFwdReferenceIdeal.main_arg1) = m' ((c.tc : Thread Cert.MixBFwdReferenceIdeal.nD Cert.MixBFwdReferenceIdeal.τ).loc Cert.MixBFwdReferenceIdeal.main_arg1)
          ∧ r.2.mem ((c.tc : Thread Cert.MixBFwdReferenceIdeal.nD Cert.MixBFwdReferenceIdeal.τ).loc Cert.MixBFwdReferenceIdeal.main_arg2) = m' ((c.tc : Thread Cert.MixBFwdReferenceIdeal.nD Cert.MixBFwdReferenceIdeal.τ).loc Cert.MixBFwdReferenceIdeal.main_arg2)
          ∧ r.2.mem ((c.tc : Thread Cert.MixBFwdReferenceIdeal.nD Cert.MixBFwdReferenceIdeal.τ).loc Cert.MixBFwdReferenceIdeal.main_arg3) = m' ((c.tc : Thread Cert.MixBFwdReferenceIdeal.nD Cert.MixBFwdReferenceIdeal.τ).loc Cert.MixBFwdReferenceIdeal.main_arg3)
          ∧ r.2.mem ((c.tc : Thread Cert.MixBFwdReferenceIdeal.nD Cert.MixBFwdReferenceIdeal.τ).loc Cert.MixBFwdReferenceIdeal.main_arg4) = m' ((c.tc : Thread Cert.MixBFwdReferenceIdeal.nD Cert.MixBFwdReferenceIdeal.τ).loc Cert.MixBFwdReferenceIdeal.main_arg4)
          ∧ r.2.mem ((c.tc : Thread Cert.MixBFwdReferenceIdeal.nD Cert.MixBFwdReferenceIdeal.τ).loc Cert.MixBFwdReferenceIdeal.main_arg5) = m' ((c.tc : Thread Cert.MixBFwdReferenceIdeal.nD Cert.MixBFwdReferenceIdeal.τ).loc Cert.MixBFwdReferenceIdeal.main_arg5))

def preserves_AdamwSquare_AdamwSquareIdeal : Prop :=
  True

def algebraic_AdamwSquareIdeal_AdamwSquareReferenceIdeal [hAdamwSquareIdeal : Cert.AdamwSquareIdeal.Facts] [hAdamwSquareReferenceIdeal : Cert.AdamwSquareReferenceIdeal.Facts] : Prop :=
  ∀ (m : (ℓ : Loc Cert.AdamwSquareIdeal.nD Cert.AdamwSquareIdeal.τ Cert.AdamwSquareIdeal.sig) → Buf (Elt Ideal) ℓ) (g : Dev Cert.AdamwSquareIdeal.nD → PrngReg)
    (m' : (ℓ : Loc Cert.AdamwSquareReferenceIdeal.nD Cert.AdamwSquareReferenceIdeal.τ Cert.AdamwSquareReferenceIdeal.sig) → Buf (Elt Ideal) ℓ) (g' : Dev Cert.AdamwSquareReferenceIdeal.nD → PrngReg), Pre_AdamwSquareIdeal m →
    (∀ c : Dev Cert.AdamwSquareIdeal.nD,
      m' ((c.tc : Thread Cert.AdamwSquareReferenceIdeal.nD Cert.AdamwSquareReferenceIdeal.τ).loc Cert.AdamwSquareReferenceIdeal.main_arg0) = m ((c.tc : Thread Cert.AdamwSquareIdeal.nD Cert.AdamwSquareIdeal.τ).loc Cert.AdamwSquareIdeal.main_arg0)
      ∧ m' ((c.tc : Thread Cert.AdamwSquareReferenceIdeal.nD Cert.AdamwSquareReferenceIdeal.τ).loc Cert.AdamwSquareReferenceIdeal.main_arg1) = m ((c.tc : Thread Cert.AdamwSquareIdeal.nD Cert.AdamwSquareIdeal.τ).loc Cert.AdamwSquareIdeal.main_arg1)
      ∧ m' ((c.tc : Thread Cert.AdamwSquareReferenceIdeal.nD Cert.AdamwSquareReferenceIdeal.τ).loc Cert.AdamwSquareReferenceIdeal.main_arg2) = m ((c.tc : Thread Cert.AdamwSquareIdeal.nD Cert.AdamwSquareIdeal.τ).loc Cert.AdamwSquareIdeal.main_arg2)
      ∧ m' ((c.tc : Thread Cert.AdamwSquareReferenceIdeal.nD Cert.AdamwSquareReferenceIdeal.τ).loc Cert.AdamwSquareReferenceIdeal.main_arg3) = m ((c.tc : Thread Cert.AdamwSquareIdeal.nD Cert.AdamwSquareIdeal.τ).loc Cert.AdamwSquareIdeal.main_arg3)) →
    ∃ (v0 : (c : Dev Cert.AdamwSquareIdeal.nD) → Buf (Elt Ideal) ((c.tc : Thread Cert.AdamwSquareIdeal.nD Cert.AdamwSquareIdeal.τ).loc Cert.AdamwSquareIdeal.main_v0_0)) (v1 : (c : Dev Cert.AdamwSquareIdeal.nD) → Buf (Elt Ideal) ((c.tc : Thread Cert.AdamwSquareIdeal.nD Cert.AdamwSquareIdeal.τ).loc Cert.AdamwSquareIdeal.main_v0_1)) (v2 : (c : Dev Cert.AdamwSquareIdeal.nD) → Buf (Elt Ideal) ((c.tc : Thread Cert.AdamwSquareIdeal.nD Cert.AdamwSquareIdeal.τ).loc Cert.AdamwSquareIdeal.main_v0_2)),
      θ_run (Cert.AdamwSquareIdeal.defs (F := Ideal)) (onTc (τ := Cert.AdamwSquareIdeal.τ) (Cert.AdamwSquareIdeal.main (F := Ideal))) ⟨m, fun _ => 0, g⟩ (fun r => ∀ c : Dev Cert.AdamwSquareIdeal.nD,
          r.2.mem ((c.tc : Thread Cert.AdamwSquareIdeal.nD Cert.AdamwSquareIdeal.τ).loc Cert.AdamwSquareIdeal.main_v0_0) = v0 c
          ∧ r.2.mem ((c.tc : Thread Cert.AdamwSquareIdeal.nD Cert.AdamwSquareIdeal.τ).loc Cert.AdamwSquareIdeal.main_v0_1) = v1 c
          ∧ r.2.mem ((c.tc : Thread Cert.AdamwSquareIdeal.nD Cert.AdamwSquareIdeal.τ).loc Cert.AdamwSquareIdeal.main_v0_2) = v2 c
          ∧ r.2.mem ((c.tc : Thread Cert.AdamwSquareIdeal.nD Cert.AdamwSquareIdeal.τ).loc Cert.AdamwSquareIdeal.main_arg0) = m ((c.tc : Thread Cert.AdamwSquareIdeal.nD Cert.AdamwSquareIdeal.τ).loc Cert.AdamwSquareIdeal.main_arg0)
          ∧ r.2.mem ((c.tc : Thread Cert.AdamwSquareIdeal.nD Cert.AdamwSquareIdeal.τ).loc Cert.AdamwSquareIdeal.main_arg1) = m ((c.tc : Thread Cert.AdamwSquareIdeal.nD Cert.AdamwSquareIdeal.τ).loc Cert.AdamwSquareIdeal.main_arg1)
          ∧ r.2.mem ((c.tc : Thread Cert.AdamwSquareIdeal.nD Cert.AdamwSquareIdeal.τ).loc Cert.AdamwSquareIdeal.main_arg2) = m ((c.tc : Thread Cert.AdamwSquareIdeal.nD Cert.AdamwSquareIdeal.τ).loc Cert.AdamwSquareIdeal.main_arg2)
          ∧ r.2.mem ((c.tc : Thread Cert.AdamwSquareIdeal.nD Cert.AdamwSquareIdeal.τ).loc Cert.AdamwSquareIdeal.main_arg3) = m ((c.tc : Thread Cert.AdamwSquareIdeal.nD Cert.AdamwSquareIdeal.τ).loc Cert.AdamwSquareIdeal.main_arg3))
      ∧ θ_run (Cert.AdamwSquareReferenceIdeal.defs (F := Ideal)) (onTc (τ := Cert.AdamwSquareReferenceIdeal.τ) (Cert.AdamwSquareReferenceIdeal.main (F := Ideal))) ⟨m', fun _ => 0, g'⟩ (fun r => ∀ c : Dev Cert.AdamwSquareReferenceIdeal.nD,
          r.2.mem ((c.tc : Thread Cert.AdamwSquareReferenceIdeal.nD Cert.AdamwSquareReferenceIdeal.τ).loc Cert.AdamwSquareReferenceIdeal.main_v23) = v0 c
          ∧ r.2.mem ((c.tc : Thread Cert.AdamwSquareReferenceIdeal.nD Cert.AdamwSquareReferenceIdeal.τ).loc Cert.AdamwSquareReferenceIdeal.main_v4) = v1 c
          ∧ r.2.mem ((c.tc : Thread Cert.AdamwSquareReferenceIdeal.nD Cert.AdamwSquareReferenceIdeal.τ).loc Cert.AdamwSquareReferenceIdeal.main_v10) = v2 c
          ∧ r.2.mem ((c.tc : Thread Cert.AdamwSquareReferenceIdeal.nD Cert.AdamwSquareReferenceIdeal.τ).loc Cert.AdamwSquareReferenceIdeal.main_arg0) = m' ((c.tc : Thread Cert.AdamwSquareReferenceIdeal.nD Cert.AdamwSquareReferenceIdeal.τ).loc Cert.AdamwSquareReferenceIdeal.main_arg0)
          ∧ r.2.mem ((c.tc : Thread Cert.AdamwSquareReferenceIdeal.nD Cert.AdamwSquareReferenceIdeal.τ).loc Cert.AdamwSquareReferenceIdeal.main_arg1) = m' ((c.tc : Thread Cert.AdamwSquareReferenceIdeal.nD Cert.AdamwSquareReferenceIdeal.τ).loc Cert.AdamwSquareReferenceIdeal.main_arg1)
          ∧ r.2.mem ((c.tc : Thread Cert.AdamwSquareReferenceIdeal.nD Cert.AdamwSquareReferenceIdeal.τ).loc Cert.AdamwSquareReferenceIdeal.main_arg2) = m' ((c.tc : Thread Cert.AdamwSquareReferenceIdeal.nD Cert.AdamwSquareReferenceIdeal.τ).loc Cert.AdamwSquareReferenceIdeal.main_arg2)
          ∧ r.2.mem ((c.tc : Thread Cert.AdamwSquareReferenceIdeal.nD Cert.AdamwSquareReferenceIdeal.τ).loc Cert.AdamwSquareReferenceIdeal.main_arg3) = m' ((c.tc : Thread Cert.AdamwSquareReferenceIdeal.nD Cert.AdamwSquareReferenceIdeal.τ).loc Cert.AdamwSquareReferenceIdeal.main_arg3))

def preserves_AdamwIn_AdamwInIdeal : Prop :=
  True

def algebraic_AdamwInIdeal_AdamwInReferenceIdeal [hAdamwInIdeal : Cert.AdamwInIdeal.Facts] [hAdamwInReferenceIdeal : Cert.AdamwInReferenceIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg)
    (m' : (ℓ : Loc Cert.AdamwInReferenceIdeal.nD Cert.AdamwInReferenceIdeal.τ Cert.AdamwInReferenceIdeal.sig) → Buf (Elt Ideal) ℓ) (g' : Dev Cert.AdamwInReferenceIdeal.nD → PrngReg), Pre_AdamwInIdeal m →
    (∀ c : Dev Cert.AdamwInIdeal.nD,
      m' ((c.tc : Thread Cert.AdamwInReferenceIdeal.nD Cert.AdamwInReferenceIdeal.τ).loc Cert.AdamwInReferenceIdeal.main_arg0) = m ((c.tc : Thread Cert.AdamwInIdeal.nD Cert.AdamwInIdeal.τ).loc Cert.AdamwInIdeal.main_arg0)
      ∧ m' ((c.tc : Thread Cert.AdamwInReferenceIdeal.nD Cert.AdamwInReferenceIdeal.τ).loc Cert.AdamwInReferenceIdeal.main_arg1) = m ((c.tc : Thread Cert.AdamwInIdeal.nD Cert.AdamwInIdeal.τ).loc Cert.AdamwInIdeal.main_arg1)
      ∧ m' ((c.tc : Thread Cert.AdamwInReferenceIdeal.nD Cert.AdamwInReferenceIdeal.τ).loc Cert.AdamwInReferenceIdeal.main_arg2) = m ((c.tc : Thread Cert.AdamwInIdeal.nD Cert.AdamwInIdeal.τ).loc Cert.AdamwInIdeal.main_arg2)
      ∧ m' ((c.tc : Thread Cert.AdamwInReferenceIdeal.nD Cert.AdamwInReferenceIdeal.τ).loc Cert.AdamwInReferenceIdeal.main_arg3) = m ((c.tc : Thread Cert.AdamwInIdeal.nD Cert.AdamwInIdeal.τ).loc Cert.AdamwInIdeal.main_arg3)) →
    ∃ (v0 : (c : Dev Cert.AdamwInIdeal.nD) → Buf (Elt Ideal) ((c.tc : Thread Cert.AdamwInIdeal.nD Cert.AdamwInIdeal.τ).loc Cert.AdamwInIdeal.main_v0_0)) (v1 : (c : Dev Cert.AdamwInIdeal.nD) → Buf (Elt Ideal) ((c.tc : Thread Cert.AdamwInIdeal.nD Cert.AdamwInIdeal.τ).loc Cert.AdamwInIdeal.main_v0_1)) (v2 : (c : Dev Cert.AdamwInIdeal.nD) → Buf (Elt Ideal) ((c.tc : Thread Cert.AdamwInIdeal.nD Cert.AdamwInIdeal.τ).loc Cert.AdamwInIdeal.main_v0_2)),
      θ_run (Cert.AdamwInIdeal.defs (F := Ideal)) (onTc (τ := Cert.AdamwInIdeal.τ) (Cert.AdamwInIdeal.main (F := Ideal))) ⟨m, fun _ => 0, g⟩ (fun r => ∀ c : Dev Cert.AdamwInIdeal.nD,
          r.2.mem ((c.tc : Thread Cert.AdamwInIdeal.nD Cert.AdamwInIdeal.τ).loc Cert.AdamwInIdeal.main_v0_0) = v0 c
          ∧ r.2.mem ((c.tc : Thread Cert.AdamwInIdeal.nD Cert.AdamwInIdeal.τ).loc Cert.AdamwInIdeal.main_v0_1) = v1 c
          ∧ r.2.mem ((c.tc : Thread Cert.AdamwInIdeal.nD Cert.AdamwInIdeal.τ).loc Cert.AdamwInIdeal.main_v0_2) = v2 c
          ∧ r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
          ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
          ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
          ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3))
      ∧ θ_run (Cert.AdamwInReferenceIdeal.defs (F := Ideal)) (onTc (τ := Cert.AdamwInReferenceIdeal.τ) (Cert.AdamwInReferenceIdeal.main (F := Ideal))) ⟨m', fun _ => 0, g'⟩ (fun r => ∀ c : Dev Cert.AdamwInReferenceIdeal.nD,
          r.2.mem ((c.tc : Thread Cert.AdamwInReferenceIdeal.nD Cert.AdamwInReferenceIdeal.τ).loc Cert.AdamwInReferenceIdeal.main_v23) = v0 c
          ∧ r.2.mem ((c.tc : Thread Cert.AdamwInReferenceIdeal.nD Cert.AdamwInReferenceIdeal.τ).loc Cert.AdamwInReferenceIdeal.main_v4) = v1 c
          ∧ r.2.mem ((c.tc : Thread Cert.AdamwInReferenceIdeal.nD Cert.AdamwInReferenceIdeal.τ).loc Cert.AdamwInReferenceIdeal.main_v10) = v2 c
          ∧ r.2.mem ((c.tc : Thread Cert.AdamwInReferenceIdeal.nD Cert.AdamwInReferenceIdeal.τ).loc Cert.AdamwInReferenceIdeal.main_arg0) = m' ((c.tc : Thread Cert.AdamwInReferenceIdeal.nD Cert.AdamwInReferenceIdeal.τ).loc Cert.AdamwInReferenceIdeal.main_arg0)
          ∧ r.2.mem ((c.tc : Thread Cert.AdamwInReferenceIdeal.nD Cert.AdamwInReferenceIdeal.τ).loc Cert.AdamwInReferenceIdeal.main_arg1) = m' ((c.tc : Thread Cert.AdamwInReferenceIdeal.nD Cert.AdamwInReferenceIdeal.τ).loc Cert.AdamwInReferenceIdeal.main_arg1)
          ∧ r.2.mem ((c.tc : Thread Cert.AdamwInReferenceIdeal.nD Cert.AdamwInReferenceIdeal.τ).loc Cert.AdamwInReferenceIdeal.main_arg2) = m' ((c.tc : Thread Cert.AdamwInReferenceIdeal.nD Cert.AdamwInReferenceIdeal.τ).loc Cert.AdamwInReferenceIdeal.main_arg2)
          ∧ r.2.mem ((c.tc : Thread Cert.AdamwInReferenceIdeal.nD Cert.AdamwInReferenceIdeal.τ).loc Cert.AdamwInReferenceIdeal.main_arg3) = m' ((c.tc : Thread Cert.AdamwInReferenceIdeal.nD Cert.AdamwInReferenceIdeal.τ).loc Cert.AdamwInReferenceIdeal.main_arg3))

def preserves_AdamwKv_AdamwKvIdeal : Prop :=
  True

def algebraic_AdamwKvIdeal_AdamwKvReferenceIdeal [hAdamwKvIdeal : Cert.AdamwKvIdeal.Facts] [hAdamwKvReferenceIdeal : Cert.AdamwKvReferenceIdeal.Facts] : Prop :=
  ∀ (m : (ℓ : Loc Cert.AdamwKvIdeal.nD Cert.AdamwKvIdeal.τ Cert.AdamwKvIdeal.sig) → Buf (Elt Ideal) ℓ) (g : Dev Cert.AdamwKvIdeal.nD → PrngReg)
    (m' : (ℓ : Loc Cert.AdamwKvReferenceIdeal.nD Cert.AdamwKvReferenceIdeal.τ Cert.AdamwKvReferenceIdeal.sig) → Buf (Elt Ideal) ℓ) (g' : Dev Cert.AdamwKvReferenceIdeal.nD → PrngReg), Pre_AdamwKvIdeal m →
    (∀ c : Dev Cert.AdamwKvIdeal.nD,
      m' ((c.tc : Thread Cert.AdamwKvReferenceIdeal.nD Cert.AdamwKvReferenceIdeal.τ).loc Cert.AdamwKvReferenceIdeal.main_arg0) = m ((c.tc : Thread Cert.AdamwKvIdeal.nD Cert.AdamwKvIdeal.τ).loc Cert.AdamwKvIdeal.main_arg0)
      ∧ m' ((c.tc : Thread Cert.AdamwKvReferenceIdeal.nD Cert.AdamwKvReferenceIdeal.τ).loc Cert.AdamwKvReferenceIdeal.main_arg1) = m ((c.tc : Thread Cert.AdamwKvIdeal.nD Cert.AdamwKvIdeal.τ).loc Cert.AdamwKvIdeal.main_arg1)
      ∧ m' ((c.tc : Thread Cert.AdamwKvReferenceIdeal.nD Cert.AdamwKvReferenceIdeal.τ).loc Cert.AdamwKvReferenceIdeal.main_arg2) = m ((c.tc : Thread Cert.AdamwKvIdeal.nD Cert.AdamwKvIdeal.τ).loc Cert.AdamwKvIdeal.main_arg2)
      ∧ m' ((c.tc : Thread Cert.AdamwKvReferenceIdeal.nD Cert.AdamwKvReferenceIdeal.τ).loc Cert.AdamwKvReferenceIdeal.main_arg3) = m ((c.tc : Thread Cert.AdamwKvIdeal.nD Cert.AdamwKvIdeal.τ).loc Cert.AdamwKvIdeal.main_arg3)) →
    ∃ (v0 : (c : Dev Cert.AdamwKvIdeal.nD) → Buf (Elt Ideal) ((c.tc : Thread Cert.AdamwKvIdeal.nD Cert.AdamwKvIdeal.τ).loc Cert.AdamwKvIdeal.main_v0_0)) (v1 : (c : Dev Cert.AdamwKvIdeal.nD) → Buf (Elt Ideal) ((c.tc : Thread Cert.AdamwKvIdeal.nD Cert.AdamwKvIdeal.τ).loc Cert.AdamwKvIdeal.main_v0_1)) (v2 : (c : Dev Cert.AdamwKvIdeal.nD) → Buf (Elt Ideal) ((c.tc : Thread Cert.AdamwKvIdeal.nD Cert.AdamwKvIdeal.τ).loc Cert.AdamwKvIdeal.main_v0_2)),
      θ_run (Cert.AdamwKvIdeal.defs (F := Ideal)) (onTc (τ := Cert.AdamwKvIdeal.τ) (Cert.AdamwKvIdeal.main (F := Ideal))) ⟨m, fun _ => 0, g⟩ (fun r => ∀ c : Dev Cert.AdamwKvIdeal.nD,
          r.2.mem ((c.tc : Thread Cert.AdamwKvIdeal.nD Cert.AdamwKvIdeal.τ).loc Cert.AdamwKvIdeal.main_v0_0) = v0 c
          ∧ r.2.mem ((c.tc : Thread Cert.AdamwKvIdeal.nD Cert.AdamwKvIdeal.τ).loc Cert.AdamwKvIdeal.main_v0_1) = v1 c
          ∧ r.2.mem ((c.tc : Thread Cert.AdamwKvIdeal.nD Cert.AdamwKvIdeal.τ).loc Cert.AdamwKvIdeal.main_v0_2) = v2 c
          ∧ r.2.mem ((c.tc : Thread Cert.AdamwKvIdeal.nD Cert.AdamwKvIdeal.τ).loc Cert.AdamwKvIdeal.main_arg0) = m ((c.tc : Thread Cert.AdamwKvIdeal.nD Cert.AdamwKvIdeal.τ).loc Cert.AdamwKvIdeal.main_arg0)
          ∧ r.2.mem ((c.tc : Thread Cert.AdamwKvIdeal.nD Cert.AdamwKvIdeal.τ).loc Cert.AdamwKvIdeal.main_arg1) = m ((c.tc : Thread Cert.AdamwKvIdeal.nD Cert.AdamwKvIdeal.τ).loc Cert.AdamwKvIdeal.main_arg1)
          ∧ r.2.mem ((c.tc : Thread Cert.AdamwKvIdeal.nD Cert.AdamwKvIdeal.τ).loc Cert.AdamwKvIdeal.main_arg2) = m ((c.tc : Thread Cert.AdamwKvIdeal.nD Cert.AdamwKvIdeal.τ).loc Cert.AdamwKvIdeal.main_arg2)
          ∧ r.2.mem ((c.tc : Thread Cert.AdamwKvIdeal.nD Cert.AdamwKvIdeal.τ).loc Cert.AdamwKvIdeal.main_arg3) = m ((c.tc : Thread Cert.AdamwKvIdeal.nD Cert.AdamwKvIdeal.τ).loc Cert.AdamwKvIdeal.main_arg3))
      ∧ θ_run (Cert.AdamwKvReferenceIdeal.defs (F := Ideal)) (onTc (τ := Cert.AdamwKvReferenceIdeal.τ) (Cert.AdamwKvReferenceIdeal.main (F := Ideal))) ⟨m', fun _ => 0, g'⟩ (fun r => ∀ c : Dev Cert.AdamwKvReferenceIdeal.nD,
          r.2.mem ((c.tc : Thread Cert.AdamwKvReferenceIdeal.nD Cert.AdamwKvReferenceIdeal.τ).loc Cert.AdamwKvReferenceIdeal.main_v23) = v0 c
          ∧ r.2.mem ((c.tc : Thread Cert.AdamwKvReferenceIdeal.nD Cert.AdamwKvReferenceIdeal.τ).loc Cert.AdamwKvReferenceIdeal.main_v4) = v1 c
          ∧ r.2.mem ((c.tc : Thread Cert.AdamwKvReferenceIdeal.nD Cert.AdamwKvReferenceIdeal.τ).loc Cert.AdamwKvReferenceIdeal.main_v10) = v2 c
          ∧ r.2.mem ((c.tc : Thread Cert.AdamwKvReferenceIdeal.nD Cert.AdamwKvReferenceIdeal.τ).loc Cert.AdamwKvReferenceIdeal.main_arg0) = m' ((c.tc : Thread Cert.AdamwKvReferenceIdeal.nD Cert.AdamwKvReferenceIdeal.τ).loc Cert.AdamwKvReferenceIdeal.main_arg0)
          ∧ r.2.mem ((c.tc : Thread Cert.AdamwKvReferenceIdeal.nD Cert.AdamwKvReferenceIdeal.τ).loc Cert.AdamwKvReferenceIdeal.main_arg1) = m' ((c.tc : Thread Cert.AdamwKvReferenceIdeal.nD Cert.AdamwKvReferenceIdeal.τ).loc Cert.AdamwKvReferenceIdeal.main_arg1)
          ∧ r.2.mem ((c.tc : Thread Cert.AdamwKvReferenceIdeal.nD Cert.AdamwKvReferenceIdeal.τ).loc Cert.AdamwKvReferenceIdeal.main_arg2) = m' ((c.tc : Thread Cert.AdamwKvReferenceIdeal.nD Cert.AdamwKvReferenceIdeal.τ).loc Cert.AdamwKvReferenceIdeal.main_arg2)
          ∧ r.2.mem ((c.tc : Thread Cert.AdamwKvReferenceIdeal.nD Cert.AdamwKvReferenceIdeal.τ).loc Cert.AdamwKvReferenceIdeal.main_arg3) = m' ((c.tc : Thread Cert.AdamwKvReferenceIdeal.nD Cert.AdamwKvReferenceIdeal.τ).loc Cert.AdamwKvReferenceIdeal.main_arg3))

def preserves_AdamwFf_AdamwFfIdeal : Prop :=
  True

def algebraic_AdamwFfIdeal_AdamwFfReferenceIdeal [hAdamwFfIdeal : Cert.AdamwFfIdeal.Facts] [hAdamwFfReferenceIdeal : Cert.AdamwFfReferenceIdeal.Facts] : Prop :=
  ∀ (m : (ℓ : Loc Cert.AdamwFfIdeal.nD Cert.AdamwFfIdeal.τ Cert.AdamwFfIdeal.sig) → Buf (Elt Ideal) ℓ) (g : Dev Cert.AdamwFfIdeal.nD → PrngReg)
    (m' : (ℓ : Loc Cert.AdamwFfReferenceIdeal.nD Cert.AdamwFfReferenceIdeal.τ Cert.AdamwFfReferenceIdeal.sig) → Buf (Elt Ideal) ℓ) (g' : Dev Cert.AdamwFfReferenceIdeal.nD → PrngReg), Pre_AdamwFfIdeal m →
    (∀ c : Dev Cert.AdamwFfIdeal.nD,
      m' ((c.tc : Thread Cert.AdamwFfReferenceIdeal.nD Cert.AdamwFfReferenceIdeal.τ).loc Cert.AdamwFfReferenceIdeal.main_arg0) = m ((c.tc : Thread Cert.AdamwFfIdeal.nD Cert.AdamwFfIdeal.τ).loc Cert.AdamwFfIdeal.main_arg0)
      ∧ m' ((c.tc : Thread Cert.AdamwFfReferenceIdeal.nD Cert.AdamwFfReferenceIdeal.τ).loc Cert.AdamwFfReferenceIdeal.main_arg1) = m ((c.tc : Thread Cert.AdamwFfIdeal.nD Cert.AdamwFfIdeal.τ).loc Cert.AdamwFfIdeal.main_arg1)
      ∧ m' ((c.tc : Thread Cert.AdamwFfReferenceIdeal.nD Cert.AdamwFfReferenceIdeal.τ).loc Cert.AdamwFfReferenceIdeal.main_arg2) = m ((c.tc : Thread Cert.AdamwFfIdeal.nD Cert.AdamwFfIdeal.τ).loc Cert.AdamwFfIdeal.main_arg2)
      ∧ m' ((c.tc : Thread Cert.AdamwFfReferenceIdeal.nD Cert.AdamwFfReferenceIdeal.τ).loc Cert.AdamwFfReferenceIdeal.main_arg3) = m ((c.tc : Thread Cert.AdamwFfIdeal.nD Cert.AdamwFfIdeal.τ).loc Cert.AdamwFfIdeal.main_arg3)) →
    ∃ (v0 : (c : Dev Cert.AdamwFfIdeal.nD) → Buf (Elt Ideal) ((c.tc : Thread Cert.AdamwFfIdeal.nD Cert.AdamwFfIdeal.τ).loc Cert.AdamwFfIdeal.main_v0_0)) (v1 : (c : Dev Cert.AdamwFfIdeal.nD) → Buf (Elt Ideal) ((c.tc : Thread Cert.AdamwFfIdeal.nD Cert.AdamwFfIdeal.τ).loc Cert.AdamwFfIdeal.main_v0_1)) (v2 : (c : Dev Cert.AdamwFfIdeal.nD) → Buf (Elt Ideal) ((c.tc : Thread Cert.AdamwFfIdeal.nD Cert.AdamwFfIdeal.τ).loc Cert.AdamwFfIdeal.main_v0_2)),
      θ_run (Cert.AdamwFfIdeal.defs (F := Ideal)) (onTc (τ := Cert.AdamwFfIdeal.τ) (Cert.AdamwFfIdeal.main (F := Ideal))) ⟨m, fun _ => 0, g⟩ (fun r => ∀ c : Dev Cert.AdamwFfIdeal.nD,
          r.2.mem ((c.tc : Thread Cert.AdamwFfIdeal.nD Cert.AdamwFfIdeal.τ).loc Cert.AdamwFfIdeal.main_v0_0) = v0 c
          ∧ r.2.mem ((c.tc : Thread Cert.AdamwFfIdeal.nD Cert.AdamwFfIdeal.τ).loc Cert.AdamwFfIdeal.main_v0_1) = v1 c
          ∧ r.2.mem ((c.tc : Thread Cert.AdamwFfIdeal.nD Cert.AdamwFfIdeal.τ).loc Cert.AdamwFfIdeal.main_v0_2) = v2 c
          ∧ r.2.mem ((c.tc : Thread Cert.AdamwFfIdeal.nD Cert.AdamwFfIdeal.τ).loc Cert.AdamwFfIdeal.main_arg0) = m ((c.tc : Thread Cert.AdamwFfIdeal.nD Cert.AdamwFfIdeal.τ).loc Cert.AdamwFfIdeal.main_arg0)
          ∧ r.2.mem ((c.tc : Thread Cert.AdamwFfIdeal.nD Cert.AdamwFfIdeal.τ).loc Cert.AdamwFfIdeal.main_arg1) = m ((c.tc : Thread Cert.AdamwFfIdeal.nD Cert.AdamwFfIdeal.τ).loc Cert.AdamwFfIdeal.main_arg1)
          ∧ r.2.mem ((c.tc : Thread Cert.AdamwFfIdeal.nD Cert.AdamwFfIdeal.τ).loc Cert.AdamwFfIdeal.main_arg2) = m ((c.tc : Thread Cert.AdamwFfIdeal.nD Cert.AdamwFfIdeal.τ).loc Cert.AdamwFfIdeal.main_arg2)
          ∧ r.2.mem ((c.tc : Thread Cert.AdamwFfIdeal.nD Cert.AdamwFfIdeal.τ).loc Cert.AdamwFfIdeal.main_arg3) = m ((c.tc : Thread Cert.AdamwFfIdeal.nD Cert.AdamwFfIdeal.τ).loc Cert.AdamwFfIdeal.main_arg3))
      ∧ θ_run (Cert.AdamwFfReferenceIdeal.defs (F := Ideal)) (onTc (τ := Cert.AdamwFfReferenceIdeal.τ) (Cert.AdamwFfReferenceIdeal.main (F := Ideal))) ⟨m', fun _ => 0, g'⟩ (fun r => ∀ c : Dev Cert.AdamwFfReferenceIdeal.nD,
          r.2.mem ((c.tc : Thread Cert.AdamwFfReferenceIdeal.nD Cert.AdamwFfReferenceIdeal.τ).loc Cert.AdamwFfReferenceIdeal.main_v23) = v0 c
          ∧ r.2.mem ((c.tc : Thread Cert.AdamwFfReferenceIdeal.nD Cert.AdamwFfReferenceIdeal.τ).loc Cert.AdamwFfReferenceIdeal.main_v4) = v1 c
          ∧ r.2.mem ((c.tc : Thread Cert.AdamwFfReferenceIdeal.nD Cert.AdamwFfReferenceIdeal.τ).loc Cert.AdamwFfReferenceIdeal.main_v10) = v2 c
          ∧ r.2.mem ((c.tc : Thread Cert.AdamwFfReferenceIdeal.nD Cert.AdamwFfReferenceIdeal.τ).loc Cert.AdamwFfReferenceIdeal.main_arg0) = m' ((c.tc : Thread Cert.AdamwFfReferenceIdeal.nD Cert.AdamwFfReferenceIdeal.τ).loc Cert.AdamwFfReferenceIdeal.main_arg0)
          ∧ r.2.mem ((c.tc : Thread Cert.AdamwFfReferenceIdeal.nD Cert.AdamwFfReferenceIdeal.τ).loc Cert.AdamwFfReferenceIdeal.main_arg1) = m' ((c.tc : Thread Cert.AdamwFfReferenceIdeal.nD Cert.AdamwFfReferenceIdeal.τ).loc Cert.AdamwFfReferenceIdeal.main_arg1)
          ∧ r.2.mem ((c.tc : Thread Cert.AdamwFfReferenceIdeal.nD Cert.AdamwFfReferenceIdeal.τ).loc Cert.AdamwFfReferenceIdeal.main_arg2) = m' ((c.tc : Thread Cert.AdamwFfReferenceIdeal.nD Cert.AdamwFfReferenceIdeal.τ).loc Cert.AdamwFfReferenceIdeal.main_arg2)
          ∧ r.2.mem ((c.tc : Thread Cert.AdamwFfReferenceIdeal.nD Cert.AdamwFfReferenceIdeal.τ).loc Cert.AdamwFfReferenceIdeal.main_arg3) = m' ((c.tc : Thread Cert.AdamwFfReferenceIdeal.nD Cert.AdamwFfReferenceIdeal.τ).loc Cert.AdamwFfReferenceIdeal.main_arg3))

def preserves_AdamwSmall_AdamwSmallIdeal : Prop :=
  True

def algebraic_AdamwSmallIdeal_AdamwSmallReferenceIdeal [hAdamwSmallIdeal : Cert.AdamwSmallIdeal.Facts] [hAdamwSmallReferenceIdeal : Cert.AdamwSmallReferenceIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg)
    (m' : (ℓ : Loc Cert.AdamwSmallReferenceIdeal.nD Cert.AdamwSmallReferenceIdeal.τ Cert.AdamwSmallReferenceIdeal.sig) → Buf (Elt Ideal) ℓ) (g' : Dev Cert.AdamwSmallReferenceIdeal.nD → PrngReg), Pre_AdamwSmallIdeal m →
    (∀ c : Dev Cert.AdamwSmallIdeal.nD,
      m' ((c.tc : Thread Cert.AdamwSmallReferenceIdeal.nD Cert.AdamwSmallReferenceIdeal.τ).loc Cert.AdamwSmallReferenceIdeal.main_arg0) = m ((c.tc : Thread Cert.AdamwSmallIdeal.nD Cert.AdamwSmallIdeal.τ).loc Cert.AdamwSmallIdeal.main_arg0)
      ∧ m' ((c.tc : Thread Cert.AdamwSmallReferenceIdeal.nD Cert.AdamwSmallReferenceIdeal.τ).loc Cert.AdamwSmallReferenceIdeal.main_arg1) = m ((c.tc : Thread Cert.AdamwSmallIdeal.nD Cert.AdamwSmallIdeal.τ).loc Cert.AdamwSmallIdeal.main_arg1)
      ∧ m' ((c.tc : Thread Cert.AdamwSmallReferenceIdeal.nD Cert.AdamwSmallReferenceIdeal.τ).loc Cert.AdamwSmallReferenceIdeal.main_arg2) = m ((c.tc : Thread Cert.AdamwSmallIdeal.nD Cert.AdamwSmallIdeal.τ).loc Cert.AdamwSmallIdeal.main_arg2)
      ∧ m' ((c.tc : Thread Cert.AdamwSmallReferenceIdeal.nD Cert.AdamwSmallReferenceIdeal.τ).loc Cert.AdamwSmallReferenceIdeal.main_arg3) = m ((c.tc : Thread Cert.AdamwSmallIdeal.nD Cert.AdamwSmallIdeal.τ).loc Cert.AdamwSmallIdeal.main_arg3)) →
    ∃ (v0 : (c : Dev Cert.AdamwSmallIdeal.nD) → Buf (Elt Ideal) ((c.tc : Thread Cert.AdamwSmallIdeal.nD Cert.AdamwSmallIdeal.τ).loc Cert.AdamwSmallIdeal.main_v0_0)) (v1 : (c : Dev Cert.AdamwSmallIdeal.nD) → Buf (Elt Ideal) ((c.tc : Thread Cert.AdamwSmallIdeal.nD Cert.AdamwSmallIdeal.τ).loc Cert.AdamwSmallIdeal.main_v0_1)) (v2 : (c : Dev Cert.AdamwSmallIdeal.nD) → Buf (Elt Ideal) ((c.tc : Thread Cert.AdamwSmallIdeal.nD Cert.AdamwSmallIdeal.τ).loc Cert.AdamwSmallIdeal.main_v0_2)),
      θ_run (Cert.AdamwSmallIdeal.defs (F := Ideal)) (onTc (τ := Cert.AdamwSmallIdeal.τ) (Cert.AdamwSmallIdeal.main (F := Ideal))) ⟨m, fun _ => 0, g⟩ (fun r => ∀ c : Dev Cert.AdamwSmallIdeal.nD,
          r.2.mem ((c.tc : Thread Cert.AdamwSmallIdeal.nD Cert.AdamwSmallIdeal.τ).loc Cert.AdamwSmallIdeal.main_v0_0) = v0 c
          ∧ r.2.mem ((c.tc : Thread Cert.AdamwSmallIdeal.nD Cert.AdamwSmallIdeal.τ).loc Cert.AdamwSmallIdeal.main_v0_1) = v1 c
          ∧ r.2.mem ((c.tc : Thread Cert.AdamwSmallIdeal.nD Cert.AdamwSmallIdeal.τ).loc Cert.AdamwSmallIdeal.main_v0_2) = v2 c
          ∧ r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
          ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
          ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
          ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3))
      ∧ θ_run (Cert.AdamwSmallReferenceIdeal.defs (F := Ideal)) (onTc (τ := Cert.AdamwSmallReferenceIdeal.τ) (Cert.AdamwSmallReferenceIdeal.main (F := Ideal))) ⟨m', fun _ => 0, g'⟩ (fun r => ∀ c : Dev Cert.AdamwSmallReferenceIdeal.nD,
          r.2.mem ((c.tc : Thread Cert.AdamwSmallReferenceIdeal.nD Cert.AdamwSmallReferenceIdeal.τ).loc Cert.AdamwSmallReferenceIdeal.main_v23) = v0 c
          ∧ r.2.mem ((c.tc : Thread Cert.AdamwSmallReferenceIdeal.nD Cert.AdamwSmallReferenceIdeal.τ).loc Cert.AdamwSmallReferenceIdeal.main_v4) = v1 c
          ∧ r.2.mem ((c.tc : Thread Cert.AdamwSmallReferenceIdeal.nD Cert.AdamwSmallReferenceIdeal.τ).loc Cert.AdamwSmallReferenceIdeal.main_v10) = v2 c
          ∧ r.2.mem ((c.tc : Thread Cert.AdamwSmallReferenceIdeal.nD Cert.AdamwSmallReferenceIdeal.τ).loc Cert.AdamwSmallReferenceIdeal.main_arg0) = m' ((c.tc : Thread Cert.AdamwSmallReferenceIdeal.nD Cert.AdamwSmallReferenceIdeal.τ).loc Cert.AdamwSmallReferenceIdeal.main_arg0)
          ∧ r.2.mem ((c.tc : Thread Cert.AdamwSmallReferenceIdeal.nD Cert.AdamwSmallReferenceIdeal.τ).loc Cert.AdamwSmallReferenceIdeal.main_arg1) = m' ((c.tc : Thread Cert.AdamwSmallReferenceIdeal.nD Cert.AdamwSmallReferenceIdeal.τ).loc Cert.AdamwSmallReferenceIdeal.main_arg1)
          ∧ r.2.mem ((c.tc : Thread Cert.AdamwSmallReferenceIdeal.nD Cert.AdamwSmallReferenceIdeal.τ).loc Cert.AdamwSmallReferenceIdeal.main_arg2) = m' ((c.tc : Thread Cert.AdamwSmallReferenceIdeal.nD Cert.AdamwSmallReferenceIdeal.τ).loc Cert.AdamwSmallReferenceIdeal.main_arg2)
          ∧ r.2.mem ((c.tc : Thread Cert.AdamwSmallReferenceIdeal.nD Cert.AdamwSmallReferenceIdeal.τ).loc Cert.AdamwSmallReferenceIdeal.main_arg3) = m' ((c.tc : Thread Cert.AdamwSmallReferenceIdeal.nD Cert.AdamwSmallReferenceIdeal.τ).loc Cert.AdamwSmallReferenceIdeal.main_arg3))

def preserves_MixBBwd_MixBBwdIdeal : Prop :=
  True

def algebraic_MixBBwdIdeal_MixBBwdReferenceIdeal [hMixBBwdIdeal : Cert.MixBBwdIdeal.Facts] [hMixBBwdReferenceIdeal : Cert.MixBBwdReferenceIdeal.Facts] : Prop :=
  ∀ (m : (ℓ : Loc Cert.MixBBwdIdeal.nD Cert.MixBBwdIdeal.τ Cert.MixBBwdIdeal.sig) → Buf (Elt Ideal) ℓ) (g : Dev Cert.MixBBwdIdeal.nD → PrngReg)
    (m' : (ℓ : Loc Cert.MixBBwdReferenceIdeal.nD Cert.MixBBwdReferenceIdeal.τ Cert.MixBBwdReferenceIdeal.sig) → Buf (Elt Ideal) ℓ) (g' : Dev Cert.MixBBwdReferenceIdeal.nD → PrngReg), Pre_MixBBwdIdeal m →
    (∀ c : Dev Cert.MixBBwdIdeal.nD,
      m' ((c.tc : Thread Cert.MixBBwdReferenceIdeal.nD Cert.MixBBwdReferenceIdeal.τ).loc Cert.MixBBwdReferenceIdeal.main_arg0) = m ((c.tc : Thread Cert.MixBBwdIdeal.nD Cert.MixBBwdIdeal.τ).loc Cert.MixBBwdIdeal.main_arg0)
      ∧ m' ((c.tc : Thread Cert.MixBBwdReferenceIdeal.nD Cert.MixBBwdReferenceIdeal.τ).loc Cert.MixBBwdReferenceIdeal.main_arg1) = m ((c.tc : Thread Cert.MixBBwdIdeal.nD Cert.MixBBwdIdeal.τ).loc Cert.MixBBwdIdeal.main_arg1)
      ∧ m' ((c.tc : Thread Cert.MixBBwdReferenceIdeal.nD Cert.MixBBwdReferenceIdeal.τ).loc Cert.MixBBwdReferenceIdeal.main_arg2) = m ((c.tc : Thread Cert.MixBBwdIdeal.nD Cert.MixBBwdIdeal.τ).loc Cert.MixBBwdIdeal.main_arg2)
      ∧ m' ((c.tc : Thread Cert.MixBBwdReferenceIdeal.nD Cert.MixBBwdReferenceIdeal.τ).loc Cert.MixBBwdReferenceIdeal.main_arg3) = m ((c.tc : Thread Cert.MixBBwdIdeal.nD Cert.MixBBwdIdeal.τ).loc Cert.MixBBwdIdeal.main_arg3)
      ∧ m' ((c.tc : Thread Cert.MixBBwdReferenceIdeal.nD Cert.MixBBwdReferenceIdeal.τ).loc Cert.MixBBwdReferenceIdeal.main_arg4) = m ((c.tc : Thread Cert.MixBBwdIdeal.nD Cert.MixBBwdIdeal.τ).loc Cert.MixBBwdIdeal.main_arg4)
      ∧ m' ((c.tc : Thread Cert.MixBBwdReferenceIdeal.nD Cert.MixBBwdReferenceIdeal.τ).loc Cert.MixBBwdReferenceIdeal.main_arg5) = m ((c.tc : Thread Cert.MixBBwdIdeal.nD Cert.MixBBwdIdeal.τ).loc Cert.MixBBwdIdeal.main_arg5)
      ∧ m' ((c.tc : Thread Cert.MixBBwdReferenceIdeal.nD Cert.MixBBwdReferenceIdeal.τ).loc Cert.MixBBwdReferenceIdeal.main_arg6) = m ((c.tc : Thread Cert.MixBBwdIdeal.nD Cert.MixBBwdIdeal.τ).loc Cert.MixBBwdIdeal.main_arg6)) →
    ∃ (v0 : (c : Dev Cert.MixBBwdIdeal.nD) → Buf (Elt Ideal) ((c.tc : Thread Cert.MixBBwdIdeal.nD Cert.MixBBwdIdeal.τ).loc Cert.MixBBwdIdeal.main_v4_2)) (v1 : (c : Dev Cert.MixBBwdIdeal.nD) → Buf (Elt Ideal) ((c.tc : Thread Cert.MixBBwdIdeal.nD Cert.MixBBwdIdeal.τ).loc Cert.MixBBwdIdeal.main_v4_3)) (v2 : (c : Dev Cert.MixBBwdIdeal.nD) → Buf (Elt Ideal) ((c.tc : Thread Cert.MixBBwdIdeal.nD Cert.MixBBwdIdeal.τ).loc Cert.MixBBwdIdeal.main_v4_4)) (v3 : (c : Dev Cert.MixBBwdIdeal.nD) → Buf (Elt Ideal) ((c.tc : Thread Cert.MixBBwdIdeal.nD Cert.MixBBwdIdeal.τ).loc Cert.MixBBwdIdeal.main_v4_5)),
      θ_run (Cert.MixBBwdIdeal.defs (F := Ideal)) (onTc (τ := Cert.MixBBwdIdeal.τ) (Cert.MixBBwdIdeal.main (F := Ideal))) ⟨m, fun _ => 0, g⟩ (fun r => ∀ c : Dev Cert.MixBBwdIdeal.nD,
          r.2.mem ((c.tc : Thread Cert.MixBBwdIdeal.nD Cert.MixBBwdIdeal.τ).loc Cert.MixBBwdIdeal.main_v4_2) = v0 c
          ∧ r.2.mem ((c.tc : Thread Cert.MixBBwdIdeal.nD Cert.MixBBwdIdeal.τ).loc Cert.MixBBwdIdeal.main_v4_3) = v1 c
          ∧ r.2.mem ((c.tc : Thread Cert.MixBBwdIdeal.nD Cert.MixBBwdIdeal.τ).loc Cert.MixBBwdIdeal.main_v4_4) = v2 c
          ∧ r.2.mem ((c.tc : Thread Cert.MixBBwdIdeal.nD Cert.MixBBwdIdeal.τ).loc Cert.MixBBwdIdeal.main_v4_5) = v3 c
          ∧ r.2.mem ((c.tc : Thread Cert.MixBBwdIdeal.nD Cert.MixBBwdIdeal.τ).loc Cert.MixBBwdIdeal.main_arg0) = m ((c.tc : Thread Cert.MixBBwdIdeal.nD Cert.MixBBwdIdeal.τ).loc Cert.MixBBwdIdeal.main_arg0)
          ∧ r.2.mem ((c.tc : Thread Cert.MixBBwdIdeal.nD Cert.MixBBwdIdeal.τ).loc Cert.MixBBwdIdeal.main_arg1) = m ((c.tc : Thread Cert.MixBBwdIdeal.nD Cert.MixBBwdIdeal.τ).loc Cert.MixBBwdIdeal.main_arg1)
          ∧ r.2.mem ((c.tc : Thread Cert.MixBBwdIdeal.nD Cert.MixBBwdIdeal.τ).loc Cert.MixBBwdIdeal.main_arg2) = m ((c.tc : Thread Cert.MixBBwdIdeal.nD Cert.MixBBwdIdeal.τ).loc Cert.MixBBwdIdeal.main_arg2)
          ∧ r.2.mem ((c.tc : Thread Cert.MixBBwdIdeal.nD Cert.MixBBwdIdeal.τ).loc Cert.MixBBwdIdeal.main_arg3) = m ((c.tc : Thread Cert.MixBBwdIdeal.nD Cert.MixBBwdIdeal.τ).loc Cert.MixBBwdIdeal.main_arg3)
          ∧ r.2.mem ((c.tc : Thread Cert.MixBBwdIdeal.nD Cert.MixBBwdIdeal.τ).loc Cert.MixBBwdIdeal.main_arg4) = m ((c.tc : Thread Cert.MixBBwdIdeal.nD Cert.MixBBwdIdeal.τ).loc Cert.MixBBwdIdeal.main_arg4)
          ∧ r.2.mem ((c.tc : Thread Cert.MixBBwdIdeal.nD Cert.MixBBwdIdeal.τ).loc Cert.MixBBwdIdeal.main_arg5) = m ((c.tc : Thread Cert.MixBBwdIdeal.nD Cert.MixBBwdIdeal.τ).loc Cert.MixBBwdIdeal.main_arg5)
          ∧ r.2.mem ((c.tc : Thread Cert.MixBBwdIdeal.nD Cert.MixBBwdIdeal.τ).loc Cert.MixBBwdIdeal.main_arg6) = m ((c.tc : Thread Cert.MixBBwdIdeal.nD Cert.MixBBwdIdeal.τ).loc Cert.MixBBwdIdeal.main_arg6))
      ∧ θ_run (Cert.MixBBwdReferenceIdeal.defs (F := Ideal)) (onTc (τ := Cert.MixBBwdReferenceIdeal.τ) (Cert.MixBBwdReferenceIdeal.main (F := Ideal))) ⟨m', fun _ => 0, g'⟩ (fun r => ∀ c : Dev Cert.MixBBwdReferenceIdeal.nD,
          r.2.mem ((c.tc : Thread Cert.MixBBwdReferenceIdeal.nD Cert.MixBBwdReferenceIdeal.τ).loc Cert.MixBBwdReferenceIdeal.main_v63) = v0 c
          ∧ r.2.mem ((c.tc : Thread Cert.MixBBwdReferenceIdeal.nD Cert.MixBBwdReferenceIdeal.τ).loc Cert.MixBBwdReferenceIdeal.main_v74) = v1 c
          ∧ r.2.mem ((c.tc : Thread Cert.MixBBwdReferenceIdeal.nD Cert.MixBBwdReferenceIdeal.τ).loc Cert.MixBBwdReferenceIdeal.main_v73) = v2 c
          ∧ r.2.mem ((c.tc : Thread Cert.MixBBwdReferenceIdeal.nD Cert.MixBBwdReferenceIdeal.τ).loc Cert.MixBBwdReferenceIdeal.main_v72) = v3 c
          ∧ r.2.mem ((c.tc : Thread Cert.MixBBwdReferenceIdeal.nD Cert.MixBBwdReferenceIdeal.τ).loc Cert.MixBBwdReferenceIdeal.main_arg0) = m' ((c.tc : Thread Cert.MixBBwdReferenceIdeal.nD Cert.MixBBwdReferenceIdeal.τ).loc Cert.MixBBwdReferenceIdeal.main_arg0)
          ∧ r.2.mem ((c.tc : Thread Cert.MixBBwdReferenceIdeal.nD Cert.MixBBwdReferenceIdeal.τ).loc Cert.MixBBwdReferenceIdeal.main_arg1) = m' ((c.tc : Thread Cert.MixBBwdReferenceIdeal.nD Cert.MixBBwdReferenceIdeal.τ).loc Cert.MixBBwdReferenceIdeal.main_arg1)
          ∧ r.2.mem ((c.tc : Thread Cert.MixBBwdReferenceIdeal.nD Cert.MixBBwdReferenceIdeal.τ).loc Cert.MixBBwdReferenceIdeal.main_arg2) = m' ((c.tc : Thread Cert.MixBBwdReferenceIdeal.nD Cert.MixBBwdReferenceIdeal.τ).loc Cert.MixBBwdReferenceIdeal.main_arg2)
          ∧ r.2.mem ((c.tc : Thread Cert.MixBBwdReferenceIdeal.nD Cert.MixBBwdReferenceIdeal.τ).loc Cert.MixBBwdReferenceIdeal.main_arg3) = m' ((c.tc : Thread Cert.MixBBwdReferenceIdeal.nD Cert.MixBBwdReferenceIdeal.τ).loc Cert.MixBBwdReferenceIdeal.main_arg3)
          ∧ r.2.mem ((c.tc : Thread Cert.MixBBwdReferenceIdeal.nD Cert.MixBBwdReferenceIdeal.τ).loc Cert.MixBBwdReferenceIdeal.main_arg4) = m' ((c.tc : Thread Cert.MixBBwdReferenceIdeal.nD Cert.MixBBwdReferenceIdeal.τ).loc Cert.MixBBwdReferenceIdeal.main_arg4)
          ∧ r.2.mem ((c.tc : Thread Cert.MixBBwdReferenceIdeal.nD Cert.MixBBwdReferenceIdeal.τ).loc Cert.MixBBwdReferenceIdeal.main_arg5) = m' ((c.tc : Thread Cert.MixBBwdReferenceIdeal.nD Cert.MixBBwdReferenceIdeal.τ).loc Cert.MixBBwdReferenceIdeal.main_arg5)
          ∧ r.2.mem ((c.tc : Thread Cert.MixBBwdReferenceIdeal.nD Cert.MixBBwdReferenceIdeal.τ).loc Cert.MixBBwdReferenceIdeal.main_arg6) = m' ((c.tc : Thread Cert.MixBBwdReferenceIdeal.nD Cert.MixBBwdReferenceIdeal.τ).loc Cert.MixBBwdReferenceIdeal.main_arg6))

def Claim : Prop :=
  ∃ (hKernel : Cert.Kernel.Facts) (hKernelIdeal : Cert.KernelIdeal.Facts) (hReferenceIdeal : Cert.ReferenceIdeal.Facts) (hFfHidden : Cert.FfHidden.Facts) (hFfHiddenIdeal : Cert.FfHiddenIdeal.Facts) (hFfHiddenReferenceIdeal : Cert.FfHiddenReferenceIdeal.Facts) (hWFf2 : Cert.WFf2.Facts) (hWFf2Ideal : Cert.WFf2Ideal.Facts) (hWFf2ReferenceIdeal : Cert.WFf2ReferenceIdeal.Facts) (hWFf1 : Cert.WFf1.Facts) (hWFf1Ideal : Cert.WFf1Ideal.Facts) (hWFf1ReferenceIdeal : Cert.WFf1ReferenceIdeal.Facts) (hWO : Cert.WO.Facts) (hWOIdeal : Cert.WOIdeal.Facts) (hWOReferenceIdeal : Cert.WOReferenceIdeal.Facts) (hWKv : Cert.WKv.Facts) (hWKvIdeal : Cert.WKvIdeal.Facts) (hWKvReferenceIdeal : Cert.WKvReferenceIdeal.Facts) (hAttOut : Cert.AttOut.Facts) (hAttOutIdeal : Cert.AttOutIdeal.Facts) (hAttOutReferenceIdeal : Cert.AttOutReferenceIdeal.Facts) (hMixerOut : Cert.MixerOut.Facts) (hMixerOutIdeal : Cert.MixerOutIdeal.Facts) (hMixerOutReferenceIdeal : Cert.MixerOutReferenceIdeal.Facts) (hX2Ln2 : Cert.X2Ln2.Facts) (hX2Ln2Ideal : Cert.X2Ln2Ideal.Facts) (hX2Ln2ReferenceIdeal : Cert.X2Ln2ReferenceIdeal.Facts) (hX1Ln1 : Cert.X1Ln1.Facts) (hX1Ln1Ideal : Cert.X1Ln1Ideal.Facts) (hX1Ln1ReferenceIdeal : Cert.X1Ln1ReferenceIdeal.Facts) (hX0Ln3 : Cert.X0Ln3.Facts) (hX0Ln3Ideal : Cert.X0Ln3Ideal.Facts) (hX0Ln3ReferenceIdeal : Cert.X0Ln3ReferenceIdeal.Facts) (hX0 : Cert.X0.Facts) (hX0Ideal : Cert.X0Ideal.Facts) (hX0ReferenceIdeal : Cert.X0ReferenceIdeal.Facts) (hWIn : Cert.WIn.Facts) (hWInIdeal : Cert.WInIdeal.Facts) (hWInReferenceIdeal : Cert.WInReferenceIdeal.Facts) (hWOut : Cert.WOut.Facts) (hWOutIdeal : Cert.WOutIdeal.Facts) (hWOutReferenceIdeal : Cert.WOutReferenceIdeal.Facts) (hLossLn3 : Cert.LossLn3.Facts) (hLossLn3Ideal : Cert.LossLn3Ideal.Facts) (hLossLn3ReferenceIdeal : Cert.LossLn3ReferenceIdeal.Facts) (hInProj : Cert.InProj.Facts) (hInProjIdeal : Cert.InProjIdeal.Facts) (hInProjReferenceIdeal : Cert.InProjReferenceIdeal.Facts) (hQProj : Cert.QProj.Facts) (hQProjIdeal : Cert.QProjIdeal.Facts) (hQProjReferenceIdeal : Cert.QProjReferenceIdeal.Facts) (hKvProj : Cert.KvProj.Facts) (hKvProjIdeal : Cert.KvProjIdeal.Facts) (hKvProjReferenceIdeal : Cert.KvProjReferenceIdeal.Facts) (hFf1 : Cert.Ff1.Facts) (hFf1Ideal : Cert.Ff1Ideal.Facts) (hFf1ReferenceIdeal : Cert.Ff1ReferenceIdeal.Facts) (hOLn : Cert.OLn.Facts) (hOLnIdeal : Cert.OLnIdeal.Facts) (hOLnReferenceIdeal : Cert.OLnReferenceIdeal.Facts) (hFf2Ln : Cert.Ff2Ln.Facts) (hFf2LnIdeal : Cert.Ff2LnIdeal.Facts) (hFf2LnReferenceIdeal : Cert.Ff2LnReferenceIdeal.Facts) (hOutLn : Cert.OutLn.Facts) (hOutLnIdeal : Cert.OutLnIdeal.Facts) (hOutLnReferenceIdeal : Cert.OutLnReferenceIdeal.Facts) (hOutLn0 : Cert.OutLn0.Facts) (hOutLn0Ideal : Cert.OutLn0Ideal.Facts) (hOutLn0ReferenceIdeal : Cert.OutLn0ReferenceIdeal.Facts) (hAttFwd : Cert.AttFwd.Facts) (hAttFwdIdeal : Cert.AttFwdIdeal.Facts) (hAttFwdReferenceIdeal : Cert.AttFwdReferenceIdeal.Facts) (hMixCBwd : Cert.MixCBwd.Facts) (hMixCBwdIdeal : Cert.MixCBwdIdeal.Facts) (hMixCBwdReferenceIdeal : Cert.MixCBwdReferenceIdeal.Facts) (hMixCFwd : Cert.MixCFwd.Facts) (hMixCFwdIdeal : Cert.MixCFwdIdeal.Facts) (hMixCFwdReferenceIdeal : Cert.MixCFwdReferenceIdeal.Facts) (hMixBFwd : Cert.MixBFwd.Facts) (hMixBFwdIdeal : Cert.MixBFwdIdeal.Facts) (hMixBFwdReferenceIdeal : Cert.MixBFwdReferenceIdeal.Facts) (hAdamwSquare : Cert.AdamwSquare.Facts) (hAdamwSquareIdeal : Cert.AdamwSquareIdeal.Facts) (hAdamwSquareReferenceIdeal : Cert.AdamwSquareReferenceIdeal.Facts) (hAdamwIn : Cert.AdamwIn.Facts) (hAdamwInIdeal : Cert.AdamwInIdeal.Facts) (hAdamwInReferenceIdeal : Cert.AdamwInReferenceIdeal.Facts) (hAdamwKv : Cert.AdamwKv.Facts) (hAdamwKvIdeal : Cert.AdamwKvIdeal.Facts) (hAdamwKvReferenceIdeal : Cert.AdamwKvReferenceIdeal.Facts) (hAdamwFf : Cert.AdamwFf.Facts) (hAdamwFfIdeal : Cert.AdamwFfIdeal.Facts) (hAdamwFfReferenceIdeal : Cert.AdamwFfReferenceIdeal.Facts) (hAdamwSmall : Cert.AdamwSmall.Facts) (hAdamwSmallIdeal : Cert.AdamwSmallIdeal.Facts) (hAdamwSmallReferenceIdeal : Cert.AdamwSmallReferenceIdeal.Facts) (hMixBBwd : Cert.MixBBwd.Facts) (hMixBBwdIdeal : Cert.MixBBwdIdeal.Facts) (hMixBBwdReferenceIdeal : Cert.MixBBwdReferenceIdeal.Facts) (hPre_finite_queries_and_keys : Cert.Pre_finite_queries_and_keys.Facts) (hPre_finite_x2_ln2 : Cert.Pre_finite_x2_ln2.Facts) (hPre_finite_x1_ln1 : Cert.Pre_finite_x1_ln1.Facts) (hPre_finite_x0_ln3 : Cert.Pre_finite_x0_ln3.Facts) (hPre_finite_loss_ln3 : Cert.Pre_finite_loss_ln3.Facts),
    quiescent_Kernel (hKernel := hKernel)
    ∧ quiescent_KernelIdeal (hKernelIdeal := hKernelIdeal)
    ∧ quiescent_KernelIdeal_pre_finite_queries_and_keys (hKernelIdeal := hKernelIdeal) (hPre_finite_queries_and_keys := hPre_finite_queries_and_keys)
    ∧ quiescent_ReferenceIdeal (hReferenceIdeal := hReferenceIdeal)
    ∧ quiescent_ReferenceIdeal_pre_finite_queries_and_keys (hReferenceIdeal := hReferenceIdeal) (hPre_finite_queries_and_keys := hPre_finite_queries_and_keys)
    ∧ quiescent_FfHidden (hFfHidden := hFfHidden)
    ∧ quiescent_FfHiddenIdeal (hFfHiddenIdeal := hFfHiddenIdeal)
    ∧ quiescent_FfHiddenReferenceIdeal (hFfHiddenReferenceIdeal := hFfHiddenReferenceIdeal)
    ∧ quiescent_WFf2 (hWFf2 := hWFf2)
    ∧ quiescent_WFf2Ideal (hWFf2Ideal := hWFf2Ideal)
    ∧ quiescent_WFf2ReferenceIdeal (hWFf2ReferenceIdeal := hWFf2ReferenceIdeal)
    ∧ quiescent_WFf1 (hWFf1 := hWFf1)
    ∧ quiescent_WFf1Ideal (hWFf1Ideal := hWFf1Ideal)
    ∧ quiescent_WFf1ReferenceIdeal (hWFf1ReferenceIdeal := hWFf1ReferenceIdeal)
    ∧ quiescent_WO (hWO := hWO)
    ∧ quiescent_WOIdeal (hWOIdeal := hWOIdeal)
    ∧ quiescent_WOReferenceIdeal (hWOReferenceIdeal := hWOReferenceIdeal)
    ∧ quiescent_WKv (hWKv := hWKv)
    ∧ quiescent_WKvIdeal (hWKvIdeal := hWKvIdeal)
    ∧ quiescent_WKvReferenceIdeal (hWKvReferenceIdeal := hWKvReferenceIdeal)
    ∧ quiescent_AttOut (hAttOut := hAttOut)
    ∧ quiescent_AttOutIdeal (hAttOutIdeal := hAttOutIdeal)
    ∧ quiescent_AttOutReferenceIdeal (hAttOutReferenceIdeal := hAttOutReferenceIdeal)
    ∧ quiescent_MixerOut (hMixerOut := hMixerOut)
    ∧ quiescent_MixerOutIdeal (hMixerOutIdeal := hMixerOutIdeal)
    ∧ quiescent_MixerOutReferenceIdeal (hMixerOutReferenceIdeal := hMixerOutReferenceIdeal)
    ∧ quiescent_X2Ln2 (hX2Ln2 := hX2Ln2)
    ∧ quiescent_X2Ln2Ideal (hX2Ln2Ideal := hX2Ln2Ideal)
    ∧ quiescent_X2Ln2Ideal_pre_finite_x2_ln2 (hX2Ln2Ideal := hX2Ln2Ideal) (hPre_finite_x2_ln2 := hPre_finite_x2_ln2)
    ∧ quiescent_X2Ln2ReferenceIdeal (hX2Ln2ReferenceIdeal := hX2Ln2ReferenceIdeal)
    ∧ quiescent_X2Ln2ReferenceIdeal_pre_finite_x2_ln2 (hX2Ln2ReferenceIdeal := hX2Ln2ReferenceIdeal) (hPre_finite_x2_ln2 := hPre_finite_x2_ln2)
    ∧ quiescent_X1Ln1 (hX1Ln1 := hX1Ln1)
    ∧ quiescent_X1Ln1Ideal (hX1Ln1Ideal := hX1Ln1Ideal)
    ∧ quiescent_X1Ln1Ideal_pre_finite_x1_ln1 (hX1Ln1Ideal := hX1Ln1Ideal) (hPre_finite_x1_ln1 := hPre_finite_x1_ln1)
    ∧ quiescent_X1Ln1ReferenceIdeal (hX1Ln1ReferenceIdeal := hX1Ln1ReferenceIdeal)
    ∧ quiescent_X1Ln1ReferenceIdeal_pre_finite_x1_ln1 (hX1Ln1ReferenceIdeal := hX1Ln1ReferenceIdeal) (hPre_finite_x1_ln1 := hPre_finite_x1_ln1)
    ∧ quiescent_X0Ln3 (hX0Ln3 := hX0Ln3)
    ∧ quiescent_X0Ln3Ideal (hX0Ln3Ideal := hX0Ln3Ideal)
    ∧ quiescent_X0Ln3Ideal_pre_finite_x0_ln3 (hX0Ln3Ideal := hX0Ln3Ideal) (hPre_finite_x0_ln3 := hPre_finite_x0_ln3)
    ∧ quiescent_X0Ln3ReferenceIdeal (hX0Ln3ReferenceIdeal := hX0Ln3ReferenceIdeal)
    ∧ quiescent_X0Ln3ReferenceIdeal_pre_finite_x0_ln3 (hX0Ln3ReferenceIdeal := hX0Ln3ReferenceIdeal) (hPre_finite_x0_ln3 := hPre_finite_x0_ln3)
    ∧ quiescent_X0 (hX0 := hX0)
    ∧ quiescent_X0Ideal (hX0Ideal := hX0Ideal)
    ∧ quiescent_X0ReferenceIdeal (hX0ReferenceIdeal := hX0ReferenceIdeal)
    ∧ quiescent_WIn (hWIn := hWIn)
    ∧ quiescent_WInIdeal (hWInIdeal := hWInIdeal)
    ∧ quiescent_WInReferenceIdeal (hWInReferenceIdeal := hWInReferenceIdeal)
    ∧ quiescent_WOut (hWOut := hWOut)
    ∧ quiescent_WOutIdeal (hWOutIdeal := hWOutIdeal)
    ∧ quiescent_WOutReferenceIdeal (hWOutReferenceIdeal := hWOutReferenceIdeal)
    ∧ quiescent_LossLn3 (hLossLn3 := hLossLn3)
    ∧ quiescent_LossLn3Ideal (hLossLn3Ideal := hLossLn3Ideal)
    ∧ quiescent_LossLn3Ideal_pre_finite_loss_ln3 (hLossLn3Ideal := hLossLn3Ideal) (hPre_finite_loss_ln3 := hPre_finite_loss_ln3)
    ∧ quiescent_LossLn3ReferenceIdeal (hLossLn3ReferenceIdeal := hLossLn3ReferenceIdeal)
    ∧ quiescent_LossLn3ReferenceIdeal_pre_finite_loss_ln3 (hLossLn3ReferenceIdeal := hLossLn3ReferenceIdeal) (hPre_finite_loss_ln3 := hPre_finite_loss_ln3)
    ∧ quiescent_InProj (hInProj := hInProj)
    ∧ quiescent_InProjIdeal (hInProjIdeal := hInProjIdeal)
    ∧ quiescent_InProjReferenceIdeal (hInProjReferenceIdeal := hInProjReferenceIdeal)
    ∧ quiescent_QProj (hQProj := hQProj)
    ∧ quiescent_QProjIdeal (hQProjIdeal := hQProjIdeal)
    ∧ quiescent_QProjReferenceIdeal (hQProjReferenceIdeal := hQProjReferenceIdeal)
    ∧ quiescent_KvProj (hKvProj := hKvProj)
    ∧ quiescent_KvProjIdeal (hKvProjIdeal := hKvProjIdeal)
    ∧ quiescent_KvProjReferenceIdeal (hKvProjReferenceIdeal := hKvProjReferenceIdeal)
    ∧ quiescent_Ff1 (hFf1 := hFf1)
    ∧ quiescent_Ff1Ideal (hFf1Ideal := hFf1Ideal)
    ∧ quiescent_Ff1ReferenceIdeal (hFf1ReferenceIdeal := hFf1ReferenceIdeal)
    ∧ quiescent_OLn (hOLn := hOLn)
    ∧ quiescent_OLnIdeal (hOLnIdeal := hOLnIdeal)
    ∧ quiescent_OLnReferenceIdeal (hOLnReferenceIdeal := hOLnReferenceIdeal)
    ∧ quiescent_Ff2Ln (hFf2Ln := hFf2Ln)
    ∧ quiescent_Ff2LnIdeal (hFf2LnIdeal := hFf2LnIdeal)
    ∧ quiescent_Ff2LnReferenceIdeal (hFf2LnReferenceIdeal := hFf2LnReferenceIdeal)
    ∧ quiescent_OutLn (hOutLn := hOutLn)
    ∧ quiescent_OutLnIdeal (hOutLnIdeal := hOutLnIdeal)
    ∧ quiescent_OutLnReferenceIdeal (hOutLnReferenceIdeal := hOutLnReferenceIdeal)
    ∧ quiescent_OutLn0 (hOutLn0 := hOutLn0)
    ∧ quiescent_OutLn0Ideal (hOutLn0Ideal := hOutLn0Ideal)
    ∧ quiescent_OutLn0ReferenceIdeal (hOutLn0ReferenceIdeal := hOutLn0ReferenceIdeal)
    ∧ quiescent_AttFwd (hAttFwd := hAttFwd)
    ∧ quiescent_AttFwdIdeal (hAttFwdIdeal := hAttFwdIdeal)
    ∧ quiescent_AttFwdReferenceIdeal (hAttFwdReferenceIdeal := hAttFwdReferenceIdeal)
    ∧ quiescent_MixCBwd (hMixCBwd := hMixCBwd)
    ∧ quiescent_MixCBwdIdeal (hMixCBwdIdeal := hMixCBwdIdeal)
    ∧ quiescent_MixCBwdReferenceIdeal (hMixCBwdReferenceIdeal := hMixCBwdReferenceIdeal)
    ∧ quiescent_MixCFwd (hMixCFwd := hMixCFwd)
    ∧ quiescent_MixCFwdIdeal (hMixCFwdIdeal := hMixCFwdIdeal)
    ∧ quiescent_MixCFwdReferenceIdeal (hMixCFwdReferenceIdeal := hMixCFwdReferenceIdeal)
    ∧ quiescent_MixBFwd (hMixBFwd := hMixBFwd)
    ∧ quiescent_MixBFwdIdeal (hMixBFwdIdeal := hMixBFwdIdeal)
    ∧ quiescent_MixBFwdReferenceIdeal (hMixBFwdReferenceIdeal := hMixBFwdReferenceIdeal)
    ∧ quiescent_AdamwSquare (hAdamwSquare := hAdamwSquare)
    ∧ quiescent_AdamwSquareIdeal (hAdamwSquareIdeal := hAdamwSquareIdeal)
    ∧ quiescent_AdamwSquareReferenceIdeal (hAdamwSquareReferenceIdeal := hAdamwSquareReferenceIdeal)
    ∧ quiescent_AdamwIn (hAdamwIn := hAdamwIn)
    ∧ quiescent_AdamwInIdeal (hAdamwInIdeal := hAdamwInIdeal)
    ∧ quiescent_AdamwInReferenceIdeal (hAdamwInReferenceIdeal := hAdamwInReferenceIdeal)
    ∧ quiescent_AdamwKv (hAdamwKv := hAdamwKv)
    ∧ quiescent_AdamwKvIdeal (hAdamwKvIdeal := hAdamwKvIdeal)
    ∧ quiescent_AdamwKvReferenceIdeal (hAdamwKvReferenceIdeal := hAdamwKvReferenceIdeal)
    ∧ quiescent_AdamwFf (hAdamwFf := hAdamwFf)
    ∧ quiescent_AdamwFfIdeal (hAdamwFfIdeal := hAdamwFfIdeal)
    ∧ quiescent_AdamwFfReferenceIdeal (hAdamwFfReferenceIdeal := hAdamwFfReferenceIdeal)
    ∧ quiescent_AdamwSmall (hAdamwSmall := hAdamwSmall)
    ∧ quiescent_AdamwSmallIdeal (hAdamwSmallIdeal := hAdamwSmallIdeal)
    ∧ quiescent_AdamwSmallReferenceIdeal (hAdamwSmallReferenceIdeal := hAdamwSmallReferenceIdeal)
    ∧ quiescent_MixBBwd (hMixBBwd := hMixBBwd)
    ∧ quiescent_MixBBwdIdeal (hMixBBwdIdeal := hMixBBwdIdeal)
    ∧ quiescent_MixBBwdReferenceIdeal (hMixBBwdReferenceIdeal := hMixBBwdReferenceIdeal)
    ∧ preserves_Kernel_KernelIdeal
    ∧ algebraic_KernelIdeal_ReferenceIdeal_pre_finite_queries_and_keys (hKernelIdeal := hKernelIdeal) (hReferenceIdeal := hReferenceIdeal) (hPre_finite_queries_and_keys := hPre_finite_queries_and_keys)
    ∧ preserves_FfHidden_FfHiddenIdeal
    ∧ algebraic_FfHiddenIdeal_FfHiddenReferenceIdeal (hFfHiddenIdeal := hFfHiddenIdeal) (hFfHiddenReferenceIdeal := hFfHiddenReferenceIdeal)
    ∧ preserves_WFf2_WFf2Ideal
    ∧ algebraic_WFf2Ideal_WFf2ReferenceIdeal (hWFf2Ideal := hWFf2Ideal) (hWFf2ReferenceIdeal := hWFf2ReferenceIdeal)
    ∧ preserves_WFf1_WFf1Ideal
    ∧ algebraic_WFf1Ideal_WFf1ReferenceIdeal (hWFf1Ideal := hWFf1Ideal) (hWFf1ReferenceIdeal := hWFf1ReferenceIdeal)
    ∧ preserves_WO_WOIdeal
    ∧ algebraic_WOIdeal_WOReferenceIdeal (hWOIdeal := hWOIdeal) (hWOReferenceIdeal := hWOReferenceIdeal)
    ∧ preserves_WKv_WKvIdeal
    ∧ algebraic_WKvIdeal_WKvReferenceIdeal (hWKvIdeal := hWKvIdeal) (hWKvReferenceIdeal := hWKvReferenceIdeal)
    ∧ preserves_AttOut_AttOutIdeal
    ∧ algebraic_AttOutIdeal_AttOutReferenceIdeal (hAttOutIdeal := hAttOutIdeal) (hAttOutReferenceIdeal := hAttOutReferenceIdeal)
    ∧ preserves_MixerOut_MixerOutIdeal
    ∧ algebraic_MixerOutIdeal_MixerOutReferenceIdeal (hMixerOutIdeal := hMixerOutIdeal) (hMixerOutReferenceIdeal := hMixerOutReferenceIdeal)
    ∧ preserves_X2Ln2_X2Ln2Ideal
    ∧ algebraic_X2Ln2Ideal_X2Ln2ReferenceIdeal_pre_finite_x2_ln2 (hX2Ln2Ideal := hX2Ln2Ideal) (hX2Ln2ReferenceIdeal := hX2Ln2ReferenceIdeal) (hPre_finite_x2_ln2 := hPre_finite_x2_ln2)
    ∧ preserves_X1Ln1_X1Ln1Ideal
    ∧ algebraic_X1Ln1Ideal_X1Ln1ReferenceIdeal_pre_finite_x1_ln1 (hX1Ln1Ideal := hX1Ln1Ideal) (hX1Ln1ReferenceIdeal := hX1Ln1ReferenceIdeal) (hPre_finite_x1_ln1 := hPre_finite_x1_ln1)
    ∧ preserves_X0Ln3_X0Ln3Ideal
    ∧ algebraic_X0Ln3Ideal_X0Ln3ReferenceIdeal_pre_finite_x0_ln3 (hX0Ln3Ideal := hX0Ln3Ideal) (hX0Ln3ReferenceIdeal := hX0Ln3ReferenceIdeal) (hPre_finite_x0_ln3 := hPre_finite_x0_ln3)
    ∧ preserves_X0_X0Ideal
    ∧ algebraic_X0Ideal_X0ReferenceIdeal (hX0Ideal := hX0Ideal) (hX0ReferenceIdeal := hX0ReferenceIdeal)
    ∧ preserves_WIn_WInIdeal
    ∧ algebraic_WInIdeal_WInReferenceIdeal (hWInIdeal := hWInIdeal) (hWInReferenceIdeal := hWInReferenceIdeal)
    ∧ preserves_WOut_WOutIdeal
    ∧ algebraic_WOutIdeal_WOutReferenceIdeal (hWOutIdeal := hWOutIdeal) (hWOutReferenceIdeal := hWOutReferenceIdeal)
    ∧ preserves_LossLn3_LossLn3Ideal
    ∧ algebraic_LossLn3Ideal_LossLn3ReferenceIdeal_pre_finite_loss_ln3 (hLossLn3Ideal := hLossLn3Ideal) (hLossLn3ReferenceIdeal := hLossLn3ReferenceIdeal) (hPre_finite_loss_ln3 := hPre_finite_loss_ln3)
    ∧ preserves_InProj_InProjIdeal
    ∧ algebraic_InProjIdeal_InProjReferenceIdeal (hInProjIdeal := hInProjIdeal) (hInProjReferenceIdeal := hInProjReferenceIdeal)
    ∧ preserves_QProj_QProjIdeal
    ∧ algebraic_QProjIdeal_QProjReferenceIdeal (hQProjIdeal := hQProjIdeal) (hQProjReferenceIdeal := hQProjReferenceIdeal)
    ∧ preserves_KvProj_KvProjIdeal
    ∧ algebraic_KvProjIdeal_KvProjReferenceIdeal (hKvProjIdeal := hKvProjIdeal) (hKvProjReferenceIdeal := hKvProjReferenceIdeal)
    ∧ preserves_Ff1_Ff1Ideal
    ∧ algebraic_Ff1Ideal_Ff1ReferenceIdeal (hFf1Ideal := hFf1Ideal) (hFf1ReferenceIdeal := hFf1ReferenceIdeal)
    ∧ preserves_OLn_OLnIdeal
    ∧ algebraic_OLnIdeal_OLnReferenceIdeal (hOLnIdeal := hOLnIdeal) (hOLnReferenceIdeal := hOLnReferenceIdeal)
    ∧ preserves_Ff2Ln_Ff2LnIdeal
    ∧ algebraic_Ff2LnIdeal_Ff2LnReferenceIdeal (hFf2LnIdeal := hFf2LnIdeal) (hFf2LnReferenceIdeal := hFf2LnReferenceIdeal)
    ∧ preserves_OutLn_OutLnIdeal
    ∧ algebraic_OutLnIdeal_OutLnReferenceIdeal (hOutLnIdeal := hOutLnIdeal) (hOutLnReferenceIdeal := hOutLnReferenceIdeal)
    ∧ preserves_OutLn0_OutLn0Ideal
    ∧ algebraic_OutLn0Ideal_OutLn0ReferenceIdeal (hOutLn0Ideal := hOutLn0Ideal) (hOutLn0ReferenceIdeal := hOutLn0ReferenceIdeal)
    ∧ preserves_AttFwd_AttFwdIdeal
    ∧ algebraic_AttFwdIdeal_AttFwdReferenceIdeal (hAttFwdIdeal := hAttFwdIdeal) (hAttFwdReferenceIdeal := hAttFwdReferenceIdeal)
    ∧ preserves_MixCBwd_MixCBwdIdeal
    ∧ algebraic_MixCBwdIdeal_MixCBwdReferenceIdeal (hMixCBwdIdeal := hMixCBwdIdeal) (hMixCBwdReferenceIdeal := hMixCBwdReferenceIdeal)
    ∧ preserves_MixCFwd_MixCFwdIdeal
    ∧ algebraic_MixCFwdIdeal_MixCFwdReferenceIdeal (hMixCFwdIdeal := hMixCFwdIdeal) (hMixCFwdReferenceIdeal := hMixCFwdReferenceIdeal)
    ∧ preserves_MixBFwd_MixBFwdIdeal
    ∧ algebraic_MixBFwdIdeal_MixBFwdReferenceIdeal (hMixBFwdIdeal := hMixBFwdIdeal) (hMixBFwdReferenceIdeal := hMixBFwdReferenceIdeal)
    ∧ preserves_AdamwSquare_AdamwSquareIdeal
    ∧ algebraic_AdamwSquareIdeal_AdamwSquareReferenceIdeal (hAdamwSquareIdeal := hAdamwSquareIdeal) (hAdamwSquareReferenceIdeal := hAdamwSquareReferenceIdeal)
    ∧ preserves_AdamwIn_AdamwInIdeal
    ∧ algebraic_AdamwInIdeal_AdamwInReferenceIdeal (hAdamwInIdeal := hAdamwInIdeal) (hAdamwInReferenceIdeal := hAdamwInReferenceIdeal)
    ∧ preserves_AdamwKv_AdamwKvIdeal
    ∧ algebraic_AdamwKvIdeal_AdamwKvReferenceIdeal (hAdamwKvIdeal := hAdamwKvIdeal) (hAdamwKvReferenceIdeal := hAdamwKvReferenceIdeal)
    ∧ preserves_AdamwFf_AdamwFfIdeal
    ∧ algebraic_AdamwFfIdeal_AdamwFfReferenceIdeal (hAdamwFfIdeal := hAdamwFfIdeal) (hAdamwFfReferenceIdeal := hAdamwFfReferenceIdeal)
    ∧ preserves_AdamwSmall_AdamwSmallIdeal
    ∧ algebraic_AdamwSmallIdeal_AdamwSmallReferenceIdeal (hAdamwSmallIdeal := hAdamwSmallIdeal) (hAdamwSmallReferenceIdeal := hAdamwSmallReferenceIdeal)
    ∧ preserves_MixBBwd_MixBBwdIdeal
    ∧ algebraic_MixBBwdIdeal_MixBBwdReferenceIdeal (hMixBBwdIdeal := hMixBBwdIdeal) (hMixBBwdReferenceIdeal := hMixBBwdReferenceIdeal)
-- ==== Pre_finite_loss_ln3.lean ====
abbrev S8192x1024 : Shape := ⟨2, ![8192, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)

variable [Facts]

def fn {F : FTy → Type} [FloatOps F] (main_arg0 : FVec F S8192x1024 .f32) (main_arg1 : FVec F S8192x1024 .f32) (main_arg2 : FVec F S1x1024 .f32) (main_arg3 : FVec F S1x1024 .f32) : IVec S8192x1024 1 × IVec S8192x1024 1 × IVec S1x1024 1 × IVec S1x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  (main_v2, main_v5, main_v8, main_v11)
-- ==== Pre_finite_queries_and_keys.lean ====
abbrev S8192x1024 : Shape := ⟨2, ![8192, 1024]⟩
abbrev S1024x2048 : Shape := ⟨2, ![1024, 2048]⟩
abbrev S_ : Shape := ⟨0, ![]⟩
abbrev S1024x1024 : Shape := ⟨2, ![1024, 1024]⟩

class Facts : Prop where
  bcast_S_S8192x1024 : S_.BroadcastsInDim S8192x1024 (![] : Fin 0 → Fin S8192x1024.rank)
  slices_S1024x2048_S1024x1024_0_0 : S1024x2048.Slices ![0, 0] S1024x1024
  bcast_S_S1024x1024 : S_.BroadcastsInDim S1024x1024 (![] : Fin 0 → Fin S1024x1024.rank)

variable [Facts]

def fn {F : FTy → Type} [FloatOps F] (main_arg0 : FVec F S8192x1024 .bf16) (main_arg1 : FVec F S1024x2048 .bf16) (main_arg2 : FVec F S8192x1024 .bf16) : IVec S8192x1024 1 × IVec S1024x1024 1 :=
  let main_v0 : FVec F S8192x1024 .bf16 := Host.absf main_arg0
  let main_cst : FVec F S_ .bf16 := constant S_ .bf16 0x7F80#16
  let main_v1 : FVec F S8192x1024 .bf16 := broadcastInDim S8192x1024 ![] bcast_S_S8192x1024 main_cst
  let main_v2 : IVec S8192x1024 1 := cmpf .olt main_v0 main_v1
  let main_v3 : FVec F S1024x1024 .bf16 := (extractStridedSlice S1024x1024 ![0, 0] · slices_S1024x2048_S1024x1024_0_0) main_arg1
  let main_v4 : FVec F S1024x1024 .bf16 := Host.absf main_v3
  let main_cst_0 : FVec F S_ .bf16 := constant S_ .bf16 0x7F80#16
  let main_v5 : FVec F S1024x1024 .bf16 := broadcastInDim S1024x1024 ![] bcast_S_S1024x1024 main_cst_0
  let main_v6 : IVec S1024x1024 1 := cmpf .olt main_v4 main_v5
  (main_v2, main_v6)
-- ==== Pre_finite_x0_ln3.lean ====
abbrev S8192x384 : Shape := ⟨2, ![8192, 384]⟩
abbrev S8192x256 : Shape := ⟨2, ![8192, 256]⟩
abbrev S1024x2432 : Shape := ⟨2, ![1024, 2432]⟩
abbrev S8192x1024 : Shape := ⟨2, ![8192, 1024]⟩
abbrev S1x1024 : Shape := ⟨2, ![1, 1024]⟩
abbrev S_ : Shape := ⟨0, ![]⟩

class Facts : Prop where
  bcast_S_S8192x384 : S_.BroadcastsInDim S8192x384 (![] : Fin 0 → Fin S8192x384.rank)
  bcast_S_S8192x256 : S_.BroadcastsInDim S8192x256 (![] : Fin 0 → Fin S8192x256.rank)
  bcast_S_S1024x2432 : S_.BroadcastsInDim S1024x2432 (![] : Fin 0 → Fin S1024x2432.rank)
  bcast_S_S8192x1024 : S_.BroadcastsInDim S8192x1024 (![] : Fin 0 → Fin S8192x1024.rank)
  bcast_S_S1x1024 : S_.BroadcastsInDim S1x1024 (![] : Fin 0 → Fin S1x1024.rank)

variable [Facts]

def fn_part1 {F : FTy → Type} [FloatOps F] (main_arg6 : FVec F S8192x384 .bf16) (main_arg7 : FVec F S1024x2432 .bf16) (main_arg8 : FVec F S8192x1024 .f32) (main_arg9 : FVec F S8192x1024 .f32) (main_arg10 : FVec F S1x1024 .f32) (main_v2 : IVec S8192x384 1) (main_v5 : IVec S8192x384 1) (main_v8 : IVec S8192x256 1) (main_v11 : IVec S8192x256 1) (main_v14 : IVec S8192x384 1) (main_v17 : IVec S8192x384 1) : IVec S8192x384 1 × IVec S8192x384 1 × IVec S8192x256 1 × IVec S8192x256 1 × IVec S8192x384 1 × IVec S8192x384 1 × IVec S8192x384 1 × IVec S1024x2432 1 × IVec S8192x1024 1 × IVec S8192x1024 1 × IVec S1x1024 1 :=
  let main_v18 : FVec F S8192x384 .bf16 := Host.absf main_arg6
  let main_cst_5 : FVec F S_ .bf16 := constant S_ .bf16 0x7F80#16
  let main_v19 : FVec F S8192x384 .bf16 := broadcastInDim S8192x384 ![] bcast_S_S8192x384 main_cst_5
  let main_v20 : IVec S8192x384 1 := cmpf .olt main_v18 main_v19
  let main_v21 : FVec F S1024x2432 .bf16 := Host.absf main_arg7
  let main_cst_6 : FVec F S_ .bf16 := constant S_ .bf16 0x7F80#16
  let main_v22 : FVec F S1024x2432 .bf16 := broadcastInDim S1024x2432 ![] bcast_S_S1024x2432 main_cst_6
  let main_v23 : IVec S1024x2432 1 := cmpf .olt main_v21 main_v22
  let main_v24 : FVec F S8192x1024 .f32 := Host.absf main_arg8
  let main_cst_7 : FVec F S_ .f32 := constant S_ .f32 0x7F800000#32
  let main_v25 : FVec F S8192x1024 .f32 := broadcastInDim S8192x1024 ![] bcast_S_S8192x1024 main_cst_7
  let main_v26 : IVec S8192x1024 1 := cmpf .olt main_v24 main_v25
  let main_v27 : FVec F S8192x1024 .f32 := Host.absf main_arg9
  let main_cst_8 : FVec F S_ .f32 := constant S_ .f32 0x7F800000#32
  let main_v28 : FVec F S8192x1024 .f32 := broadcastInDim S8192x1024 ![] bcast_S_S8192x1024 main_cst_8
  let main_v29 : IVec S8192x1024 1 := cmpf .olt main_v27 main_v28
  let main_v30 : FVec F S1x1024 .f32 := Host.absf main_arg10
  let main_cst_9 : FVec F S_ .f32 := constant S_ .f32 0x7F800000#32
  let main_v31 : FVec F S1x1024 .f32 := broadcastInDim S1x1024 ![] bcast_S_S1x1024 main_cst_9
  let main_v32 : IVec S1x1024 1 := cmpf .olt main_v30 main_v31
  (main_v2, main_v5, main_v8, main_v11, main_v14, main_v17, main_v20, main_v23, main_v26, main_v29, main_v32)

def fn {F : FTy → Type} [FloatOps F] (main_arg0 : FVec F S8192x384 .bf16) (main_arg1 : FVec F S8192x384 .bf16) (main_arg2 : FVec F S8192x256 .bf16) (main_arg3 : FVec F S8192x256 .bf16) (main_arg4 : FVec F S8192x384 .bf16) (main_arg5 : FVec F S8192x384 .bf16) (main_arg6 : FVec F S8192x384 .bf16) (main_arg7 : FVec F S1024x2432 .bf16) (main_arg8 : FVec F S8192x1024 .f32) (main_arg9 : FVec F S8192x1024 .f32) (main_arg10 : FVec F S1x1024 .f32) : IVec S8192x384 1 × IVec S8192x384 1 × IVec S8192x256 1 × IVec S8192x256 1 × IVec S8192x384 1 × IVec S8192x384 1 × IVec S8192x384 1 × IVec S1024x2432 1 × IVec S8192x1024 1 × IVec S8192x1024 1 × IVec S1x1024 1 :=
  let main_v0 : FVec F S8192x384 .bf16 := Host.absf main_arg0
  let main_cst : FVec F S_ .bf16 := constant S_ .bf16 0x7F80#16
  let main_v1 : FVec F S8192x384 .bf16 := broadcastInDim S8192x384 ![] bcast_S_S8192x384 main_cst
  let main_v2 : IVec S8192x384 1 := cmpf .olt main_v0 main_v1
  let main_v3 : FVec F S8192x384 .bf16 := Host.absf main_arg1
  let main_cst_0 : FVec F S_ .bf16 := constant S_ .bf16 0x7F80#16
  let main_v4 : FVec F S8192x384 .bf16 := broadcastInDim S8192x384 ![] bcast_S_S8192x384 main_cst_0
  let main_v5 : IVec S8192x384 1 := cmpf .olt main_v3 main_v4
  let main_v6 : FVec F S8192x256 .bf16 := Host.absf main_arg2
  let main_cst_1 : FVec F S_ .bf16 := constant S_ .bf16 0x7F80#16
  let main_v7 : FVec F S8192x256 .bf16 := broadcastInDim S8192x256 ![] bcast_S_S8192x256 main_cst_1
  let main_v8 : IVec S8192x256 1 := cmpf .olt main_v6 main_v7
  let main_v9 : FVec F S8192x256 .bf16 := Host.absf main_arg3
  let main_cst_2 : FVec F S_ .bf16 := constant S_ .bf16 0x7F80#16
  let main_v10 : FVec F S8192x256 .bf16 := broadcastInDim S8192x256 ![] bcast_S_S8192x256 main_cst_2
  let main_v11 : IVec S8192x256 1 := cmpf .olt main_v9 main_v10
  let main_v12 : FVec F S8192x384 .bf16 := Host.absf main_arg4
  let main_cst_3 : FVec F S_ .bf16 := constant S_ .bf16 0x7F80#16
  let main_v13 : FVec F S8192x384 .bf16 := broadcastInDim S8192x384 ![] bcast_S_S8192x384 main_cst_3
  let main_v14 : IVec S8192x384 1 := cmpf .olt main_v12 main_v13
  let main_v15 : FVec F S8192x384 .bf16 := Host.absf main_arg5
  let main_cst_4 : FVec F S_ .bf16 := constant S_ .bf16 0x7F80#16
  let main_v16 : FVec F S8192x384 .bf16 := broadcastInDim S8192x384 ![] bcast_S_S8192x384 main_cst_4
  let main_v17 : IVec S8192x384 1 := cmpf .olt main_v15 main_v16
  fn_part1 (F := F) main_arg6 main_arg7 main_arg8 main_arg9 main_arg10 main_v2 main_v5 main_v8 main_v11 main_v14 main_v17
-- ==== Pre_finite_x1_ln1.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  bcast_S_S1024x1024 : S_.BroadcastsInDim S1024x1024 (![] : Fin 0 → Fin S1024x1024.rank)
  bcast_S_S1x1024 : S_.BroadcastsInDim S1x1024 (![] : Fin 0 → Fin S1x1024.rank)

variable [Facts]

def fn {F : FTy → Type} [FloatOps F] (main_arg0 : FVec F S8192x1024 .bf16) (main_arg1 : FVec F S1024x1024 .bf16) (main_arg2 : FVec F S8192x1024 .f32) (main_arg3 : FVec F S8192x1024 .f32) (main_arg4 : FVec F S1x1024 .f32) : IVec S8192x1024 1 × IVec S1024x1024 1 × IVec S8192x1024 1 × IVec S8192x1024 1 × IVec S1x1024 1 :=
  let main_v0 : FVec F S8192x1024 .bf16 := Host.absf main_arg0
  let main_cst : FVec F S_ .bf16 := constant S_ .bf16 0x7F80#16
  let main_v1 : FVec F S8192x1024 .bf16 := broadcastInDim S8192x1024 ![] bcast_S_S8192x1024 main_cst
  let main_v2 : IVec S8192x1024 1 := cmpf .olt main_v0 main_v1
  let main_v3 : FVec F S1024x1024 .bf16 := Host.absf main_arg1
  let main_cst_0 : FVec F S_ .bf16 := constant S_ .bf16 0x7F80#16
  let main_v4 : FVec F S1024x1024 .bf16 := broadcastInDim S1024x1024 ![] bcast_S_S1024x1024 main_cst_0
  let main_v5 : IVec S1024x1024 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  (main_v2, main_v5, main_v8, main_v11, main_v14)
-- ==== Pre_finite_x2_ln2.lean ====
abbrev S8192x4096 : Shape := ⟨2, ![8192, 4096]⟩
abbrev S1024x4096 : Shape := ⟨2, ![1024, 4096]⟩
abbrev S8192x1024 : Shape := ⟨2, ![8192, 1024]⟩
abbrev S1x1024 : Shape := ⟨2, ![1, 1024]⟩
abbrev S_ : Shape := ⟨0, ![]⟩

class Facts : Prop where
  bcast_S_S8192x4096 : S_.BroadcastsInDim S8192x4096 (![] : Fin 0 → Fin S8192x4096.rank)
  bcast_S_S1024x4096 : S_.BroadcastsInDim S1024x4096 (![] : Fin 0 → Fin S1024x4096.rank)
  bcast_S_S8192x1024 : S_.BroadcastsInDim S8192x1024 (![] : Fin 0 → Fin S8192x1024.rank)
  bcast_S_S1x1024 : S_.BroadcastsInDim S1x1024 (![] : Fin 0 → Fin S1x1024.rank)

variable [Facts]

def fn {F : FTy → Type} [FloatOps F] (main_arg0 : FVec F S8192x4096 .bf16) (main_arg1 : FVec F S1024x4096 .bf16) (main_arg2 : FVec F S8192x1024 .f32) (main_arg3 : FVec F S8192x1024 .f32) (main_arg4 : FVec F S1x1024 .f32) : IVec S8192x4096 1 × IVec S1024x4096 1 × IVec S8192x1024 1 × IVec S8192x1024 1 × IVec S1x1024 1 :=
  let main_v0 : FVec F S8192x4096 .bf16 := Host.absf main_arg0
  let main_cst : FVec F S_ .bf16 := constant S_ .bf16 0x7F80#16
  let main_v1 : FVec F S8192x4096 .bf16 := broadcastInDim S8192x4096 ![] bcast_S_S8192x4096 main_cst
  let main_v2 : IVec S8192x4096 1 := cmpf .olt main_v0 main_v1
  let main_v3 : FVec F S1024x4096 .bf16 := Host.absf main_arg1
  let main_cst_0 : FVec F S_ .bf16 := constant S_ .bf16 0x7F80#16
  let main_v4 : FVec F S1024x4096 .bf16 := broadcastInDim S1024x4096 ![] bcast_S_S1024x4096 main_cst_0
  let main_v5 : IVec S1024x4096 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  (main_v2, main_v5, main_v8, main_v11, main_v14)
-- ==== Kernel.lean ====
abbrev S8192x1024 : Shape := ⟨2, ![8192, 1024]⟩
abbrev S1024x2048 : Shape := ⟨2, ![1024, 2048]⟩
abbrev S1024x1024 : Shape := ⟨2, ![1024, 1024]⟩
abbrev S2048x256 : Shape := ⟨2, ![2048, 256]⟩
abbrev S256x256 : Shape := ⟨2, ![256, 256]⟩
abbrev S2048 : Shape := ⟨1, ![2048]⟩
abbrev S2048x1 : Shape := ⟨2, ![2048, 1]⟩

abbrev nBuf : Space → Nat
  | .hbm => 6
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .bf16⟩
  | .hbm, ⟨3, _⟩ => ⟨S8192x1024, .bf16⟩
  | .hbm, ⟨4, _⟩ => ⟨S1024x1024, .bf16⟩
  | .hbm, ⟨5, _⟩ => ⟨S1024x1024, .bf16⟩
  | .local _ .vmem, ⟨0, _⟩ => ⟨S2048x256, .bf16⟩
  | .local _ .vmem, ⟨1, _⟩ => ⟨S2048x256, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S256x256, .bf16⟩
  | .local _ .vmem, ⟨11, _⟩ => ⟨S256x256, .bf16⟩
  | .local _ .vmem, ⟨12, _⟩ => ⟨S256x256, .bf16⟩
  | .local _ .vmem, ⟨13, _⟩ => ⟨S256x256, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S8192x1024 : Shape := ⟨2, ![8192, 1024]⟩
abbrev S1024x2048 : Shape := ⟨2, ![1024, 2048]⟩
abbrev S1024x1024 : Shape := ⟨2, ![1024, 1024]⟩
abbrev S4x2048x4x256 : Shape := ⟨4, ![4, 2048, 4, 256]⟩
abbrev S4x256x4x256 : Shape := ⟨4, ![4, 256, 4, 256]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x256x2048 : Shape := ⟨4, ![4, 4, 256, 2048]⟩
abbrev S4x4x256x256 : Shape := ⟨4, ![4, 4, 256, 256]⟩

abbrev nBuf : Space → Nat
  | .hbm => 94
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .bf16⟩
  | .hbm, ⟨3, _⟩ => ⟨S1024x1024, .bf16⟩
  | .hbm, ⟨4, _⟩ => ⟨S1024x1024, .bf16⟩
  | .hbm, ⟨5, _⟩ => ⟨S4x2048x4x256, .bf16⟩
  | .hbm, ⟨6, _⟩ => ⟨S4x256x4x256, .bf16⟩
  | .hbm, ⟨7, _⟩ => ⟨S4x256x4x256, .bf16⟩
  | .hbm, ⟨8, _⟩ => ⟨S4x2048x4x256, .f32⟩
  | .hbm, ⟨9, _⟩ => ⟨S4x256x4x256, .f32⟩
  | .hbm, ⟨10, _⟩ => ⟨S4x4x2048x256, .f32⟩
  | .hbm, ⟨11, _⟩ => ⟨S_, .f32⟩
  | .hbm, ⟨12, _⟩ => ⟨S4x4x2048x256, .f32⟩
  | .hbm, ⟨13, _⟩ => ⟨S4x4x2048x256, .f32⟩
  | .hbm, ⟨14, _⟩ => ⟨S_, .f32⟩
  | .hbm, ⟨15, _⟩ => ⟨S4x4x2048, .f32⟩
  | .hbm, ⟨16, _⟩ => ⟨S4x4x2048x1, .f32⟩
  | .hbm, ⟨17, _⟩ => ⟨S4x4x2048x256, .f32⟩
  | .hbm, ⟨18, _⟩ => ⟨S4x4x2048x256, .i1⟩
  | .hbm, ⟨19, _⟩ => ⟨S4x4x2048x256, .f32⟩
  | .hbm, ⟨20, _⟩ => ⟨S_, .f32⟩
  | .hbm, ⟨21, _⟩ => ⟨S4x4x2048, .f32⟩
  | .hbm, ⟨22, _⟩ => ⟨S_, .f32⟩
  | .hbm, ⟨23, _⟩ => ⟨S4x4x2048, .f32⟩
  | .hbm, ⟨24, _⟩ => ⟨S4x4x2048, .f32⟩
  | .hbm, ⟨25, _⟩ => ⟨S_, .f32⟩
  | .hbm, ⟨26, _⟩ => ⟨S4x4x2048, .f32⟩
  | .hbm, ⟨27, _⟩ => ⟨S4x4x2048, .i1⟩
  | .hbm, ⟨28, _⟩ => ⟨S_, .f32⟩
  | .hbm, ⟨29, _⟩ => ⟨S4x4x2048, .f32⟩
  | .hbm, ⟨30, _⟩ => ⟨S4x4x2048, .i1⟩
  | .hbm, ⟨31, _⟩ => ⟨S_, .f32⟩
  | .hbm, ⟨32, _⟩ => ⟨S4x4x2048, .f32⟩
  | .hbm, ⟨33, _⟩ => ⟨S_, .f32⟩
  | .hbm, ⟨34, _⟩ => ⟨S4x4x2048, .f32⟩
  | .hbm, ⟨35, _⟩ => ⟨S_, .f32⟩
  | .hbm, ⟨36, _⟩ => ⟨S4x4x2048, .f32⟩
  | .hbm, ⟨37, _⟩ => ⟨S4x4x2048, .f32⟩
  | .hbm, ⟨38, _⟩ => ⟨S4x4x2048, .f32⟩
  | .hbm, ⟨39, _⟩ => ⟨S4x4x2048x1, .f32⟩
  | .hbm, ⟨40, _⟩ => ⟨S4x4x2048x256, .f32⟩
  | .hbm, ⟨41, _⟩ => ⟨S4x4x2048x256, .f32⟩
  | .hbm, ⟨42, _⟩ => ⟨S4x4x2048x256, .f32⟩
  | .hbm, ⟨43, _⟩ => ⟨S_, .f32⟩
  | .hbm, ⟨44, _⟩ => ⟨S4x4x2048, .f32⟩
  | .hbm, ⟨45, _⟩ => ⟨S4x4x2048x1, .f32⟩
  | .hbm, ⟨46, _⟩ => ⟨S4x4x2048x256, .f32⟩
  | .hbm, ⟨47, _⟩ => ⟨S4x4x2048x256, .f32⟩
  | .hbm, ⟨48, _⟩ => ⟨S4x4x2048x1, .f32⟩
  | .hbm, ⟨49, _⟩ => ⟨S_, .f32⟩
  | .hbm, ⟨50, _⟩ => ⟨S4x4x2048x1, .f32⟩
  | .hbm, ⟨51, _⟩ => ⟨S4x4x2048x1, .f32⟩
  | .hbm, ⟨52, _⟩ => ⟨S4x4x2048x256, .bf16⟩
  | .hbm, ⟨53, _⟩ => ⟨S4x4x2048x256, .f32⟩
  | .hbm, ⟨54, _⟩ => ⟨S4x256x4x256, .f32⟩
  | .hbm, ⟨55, _⟩ => ⟨S4x4x256x2048, .f32⟩
  | .hbm, ⟨56, _⟩ => ⟨S4x2048x4x256, .f32⟩
  | .hbm, ⟨57, _⟩ => ⟨S4x2048x4x256, .bf16⟩
  | .hbm, ⟨58, _⟩ => ⟨S8192x1024, .bf16⟩
  | .hbm, ⟨59, _⟩ => ⟨S4x2048x4x256, .bf16⟩
  | .hbm, ⟨60, _⟩ => ⟨S4x2048x4x256, .f32⟩
  | .hbm, ⟨61, _⟩ => ⟨S4x4x256x2048, .f32⟩
  | .hbm, ⟨62, _⟩ => ⟨S4x4x2048x256, .f32⟩
  | .hbm, ⟨63, _⟩ => ⟨S4x4x256x256, .f32⟩
  | .hbm, ⟨64, _⟩ => ⟨S4x256x4x256, .f32⟩
  | .hbm, ⟨65, _⟩ => ⟨S4x256x4x256, .bf16⟩
  | .hbm, ⟨66, _⟩ => ⟨S4x4x2048x256, .bf16⟩
  | .hbm, ⟨67, _⟩ => ⟨S4x4x2048x256, .f32⟩
  | .hbm, ⟨68, _⟩ => ⟨S4x4x2048x256, .f32⟩
  | .hbm, ⟨69, _⟩ => ⟨S4x4x2048x256, .f32⟩
  | .hbm, ⟨70, _⟩ => ⟨S4x4x2048x256, .f32⟩
  | .hbm, ⟨71, _⟩ => ⟨S_, .f32⟩
  | .hbm, ⟨72, _⟩ => ⟨S4x4x2048, .f32⟩
  | .hbm, ⟨73, _⟩ => ⟨S4x4x2048x1, .f32⟩
  | .hbm, ⟨74, _⟩ => ⟨S4x4x2048x1, .f32⟩
  | .hbm, ⟨75, _⟩ => ⟨S4x4x2048x256, .f32⟩
  | .hbm, ⟨76, _⟩ => ⟨S4x4x2048x256, .f32⟩
  | .hbm, ⟨77, _⟩ => ⟨S_, .f32⟩
  | .hbm, ⟨78, _⟩ => ⟨S4x4x2048, .f32⟩
  | .hbm, ⟨79, _⟩ => ⟨S4x4x2048x256, .f32⟩
  | .hbm, ⟨80, _⟩ => ⟨S4x4x2048x256, .f32⟩
  | .hbm, ⟨81, _⟩ => ⟨S4x4x2048x256, .f32⟩
  | .hbm, ⟨82, _⟩ => ⟨S_, .f32⟩
  | .hbm, ⟨83, _⟩ => ⟨S4x4x2048x256, .f32⟩
  | .hbm, ⟨84, _⟩ => ⟨S4x4x2048x256, .f32⟩
  | .hbm, ⟨85, _⟩ => ⟨S4x4x256x256, .f32⟩
  | .hbm, ⟨86, _⟩ => ⟨S4x256x4x256, .f32⟩
  | .hbm, ⟨87, _⟩ => ⟨S4x4x2048x256, .f32⟩
  | .hbm, ⟨88, _⟩ => ⟨S4x2048x4x256, .f32⟩
  | .hbm, ⟨89, _⟩ => ⟨S4x256x4x256, .bf16⟩
  | .hbm, ⟨90, _⟩ => ⟨S4x2048x4x256, .bf16⟩
  | .hbm, ⟨91, _⟩ => ⟨S1024x1024, .bf16⟩
  | .hbm, ⟨92, _⟩ => ⟨S1024x1024, .bf16⟩
  | .hbm, ⟨93, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_8 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_10 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_11 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_cst_12 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩

abbrev nD : Nat := 1
abbrev τ : Topo := Topo.v7x

variable {F : FTy → Type} [FloatOps F]
-- ==== FfHidden.lean ====
abbrev S8192x1024 : Shape := ⟨2, ![8192, 1024]⟩
abbrev S8192x4096 : Shape := ⟨2, ![8192, 4096]⟩
abbrev S4096x1024 : Shape := ⟨2, ![4096, 1024]⟩
abbrev S1024x1024 : Shape := ⟨2, ![1024, 1024]⟩
abbrev S1024x4096 : Shape := ⟨2, ![1024, 4096]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S4096x1024, .bf16⟩
  | .hbm, ⟨3, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x4096, .bf16⟩
  | .local _ .vmem, ⟨3, _⟩ => ⟨S1024x4096, .bf16⟩
  | .local _ .vmem, ⟨4, _⟩ => ⟨S4096x1024, .bf16⟩
  | .local _ .vmem, ⟨5, _⟩ => ⟨S1024x4096, .bf16⟩
  | .local _ .vmem, ⟨6, _⟩ => ⟨S1024x4096, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FfHiddenReferenceIdeal.lean ====
abbrev S8192x1024 : Shape := ⟨2, ![8192, 1024]⟩
abbrev S8192x4096 : Shape := ⟨2, ![8192, 4096]⟩
abbrev S4096x1024 : Shape := ⟨2, ![4096, 1024]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S4096x1024, .bf16⟩
  | .hbm, ⟨3, _⟩ => ⟨S8192x4096, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .i1⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S4096x1024, .f32⟩
  | .hbm, ⟨17, _⟩ => ⟨S8192x1024, .f32⟩
  | .hbm, ⟨18, _⟩ => ⟨S8192x1024, .f32⟩
  | .hbm, ⟨19, _⟩ => ⟨S8192x4096, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== WFf2.lean ====
abbrev S8192x4096 : Shape := ⟨2, ![8192, 4096]⟩
abbrev S8192x1024 : Shape := ⟨2, ![8192, 1024]⟩
abbrev S1x4096x1024 : Shape := ⟨3, ![1, 4096, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S1x4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WFf2ReferenceIdeal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩
abbrev S1x4096x1024 : Shape := ⟨3, ![1, 4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S_, .f32⟩
  | .hbm, ⟨3, _⟩ => ⟨S4096x1024, .f32⟩
  | .hbm, ⟨4, _⟩ => ⟨S8192x4096, .f32⟩
  | .hbm, ⟨5, _⟩ => ⟨S8192x1024, .f32⟩
  | .hbm, ⟨6, _⟩ => ⟨S8192x1024, .f32⟩
  | .hbm, ⟨7, _⟩ => ⟨S1024x4096, .f32⟩
  | .hbm, ⟨8, _⟩ => ⟨S4096x1024, .f32⟩
  | .hbm, ⟨9, _⟩ => ⟨S1x4096x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== WFf1.lean ====
abbrev S8192x1024 : Shape := ⟨2, ![8192, 1024]⟩
abbrev S8192x4096 : Shape := ⟨2, ![8192, 4096]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S4x1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WFf1ReferenceIdeal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S_, .f32⟩
  | .hbm, ⟨3, _⟩ => ⟨S1024x4096, .f32⟩
  | .hbm, ⟨4, _⟩ => ⟨S8192x1024, .f32⟩
  | .hbm, ⟨5, _⟩ => ⟨S8192x4096, .f32⟩
  | .hbm, ⟨6, _⟩ => ⟨S8192x4096, .f32⟩
  | .hbm, ⟨7, _⟩ => ⟨S4096x1024, .f32⟩
  | .hbm, ⟨8, _⟩ => ⟨S1024x4096, .f32⟩
  | .hbm, ⟨9, _⟩ => ⟨S1024x4x1024, .f32⟩
  | .hbm, ⟨10, _⟩ => ⟨S4x1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== WO.lean ====
abbrev S8192x1024 : Shape := ⟨2, ![8192, 1024]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1x1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WOReferenceIdeal.lean ====
abbrev S8192x1024 : Shape := ⟨2, ![8192, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1x1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== WKv.lean ====
abbrev S1024x1024 : Shape := ⟨2, ![1024, 1024]⟩
abbrev S1024x2048 : Shape := ⟨2, ![1024, 2048]⟩
abbrev S4x1024x512 : Shape := ⟨3, ![4, 1024, 512]⟩
abbrev S1024x512 : Shape := ⟨2, ![1024, 512]⟩
abbrev S1x1024x512 : Shape := ⟨3, ![1, 1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S1024x1024, .bf16⟩
  | .hbm, ⟨1, _⟩ => ⟨S1024x2048, .bf16⟩
  | .hbm, ⟨2, _⟩ => ⟨S4x1024x512, .f32⟩
  | .local _ .vmem, ⟨0, _⟩ => ⟨S1024x1024, .bf16⟩
  | .local _ .vmem, ⟨1, _⟩ => ⟨S1024x512, .bf16⟩
  | .local _ .vmem, ⟨2, _⟩ => ⟨S1024x512, .bf16⟩
  | .local _ .vmem, ⟨3, _⟩ => ⟨S1x1024x512, .f32⟩
  | .local _ .vmem, ⟨4, _⟩ => ⟨S1x1024x512, .f32⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WKvReferenceIdeal.lean ====
abbrev S1024x1024 : Shape := ⟨2, ![1024, 1024]⟩
abbrev S1024x2048 : Shape := ⟨2, ![1024, 2048]⟩
abbrev S_ : Shape := ⟨0, ![]⟩
abbrev S2048x1024 : Shape := ⟨2, ![2048, 1024]⟩
abbrev S1024x4x512 : Shape := ⟨3, ![1024, 4, 512]⟩
abbrev S4x1024x512 : Shape := ⟨3, ![4, 1024, 512]⟩

abbrev nBuf : Space → Nat
  | .hbm => 11
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x2048, .bf16⟩
  | .hbm, ⟨2, _⟩ => ⟨S_, .f32⟩
  | .hbm, ⟨3, _⟩ => ⟨S1024x2048, .f32⟩
  | .hbm, ⟨4, _⟩ => ⟨S1024x1024, .f32⟩
  | .hbm, ⟨5, _⟩ => ⟨S1024x2048, .f32⟩
  | .hbm, ⟨6, _⟩ => ⟨S1024x2048, .f32⟩
  | .hbm, ⟨7, _⟩ => ⟨S2048x1024, .f32⟩
  | .hbm, ⟨8, _⟩ => ⟨S1024x2048, .f32⟩
  | .hbm, ⟨9, _⟩ => ⟨S1024x4x512, .f32⟩
  | .hbm, ⟨10, _⟩ => ⟨S4x1024x512, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== AttOut.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AttOutReferenceIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MixerOut.lean ====
abbrev S8192x1024 : Shape := ⟨2, ![8192, 1024]⟩
abbrev S1024x1024 : Shape := ⟨2, ![1024, 1024]⟩
abbrev S8192x384 : Shape := ⟨2, ![8192, 384]⟩
abbrev S8192x256 : Shape := ⟨2, ![8192, 256]⟩
abbrev S1024x384 : Shape := ⟨2, ![1024, 384]⟩
abbrev S1024x256 : Shape := ⟨2, ![1024, 256]⟩
abbrev S384x1024 : Shape := ⟨2, ![384, 1024]⟩
abbrev S256x1024 : Shape := ⟨2, ![256, 1024]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x384, .f32⟩
  | .hbm, ⟨3, _⟩ => ⟨S8192x256, .f32⟩
  | .hbm, ⟨4, _⟩ => ⟨S8192x384, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x384, .f32⟩
  | .local _ .vmem, ⟨4, _⟩ => ⟨S1024x384, .f32⟩
  | .local _ .vmem, ⟨5, _⟩ => ⟨S1024x256, .f32⟩
  | .local _ .vmem, ⟨6, _⟩ => ⟨S1024x256, .f32⟩
  | .local _ .vmem, ⟨7, _⟩ => ⟨S1024x384, .f32⟩
  | .local _ .vmem, ⟨8, _⟩ => ⟨S1024x384, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MixerOutReferenceIdeal.lean ====
abbrev S8192x1024 : Shape := ⟨2, ![8192, 1024]⟩
abbrev S1024x1024 : Shape := ⟨2, ![1024, 1024]⟩
abbrev S_ : Shape := ⟨0, ![]⟩
abbrev S8192x384 : Shape := ⟨2, ![8192, 384]⟩
abbrev S8192x256 : Shape := ⟨2, ![8192, 256]⟩

abbrev nBuf : Space → Nat
  | .hbm => 16
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x384, .f32⟩
  | .hbm, ⟨4, _⟩ => ⟨S_, .f32⟩
  | .hbm, ⟨5, _⟩ => ⟨S8192x256, .f32⟩
  | .hbm, ⟨6, _⟩ => ⟨S_, .f32⟩
  | .hbm, ⟨7, _⟩ => ⟨S8192x384, .f32⟩
  | .hbm, ⟨8, _⟩ => ⟨S8192x1024, .f32⟩
  | .hbm, ⟨9, _⟩ => ⟨S1024x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x384, .f32⟩
  | .hbm, ⟨14, _⟩ => ⟨S8192x256, .f32⟩
  | .hbm, ⟨15, _⟩ => ⟨S8192x384, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== X2Ln2.lean ====
abbrev S8192x4096 : Shape := ⟨2, ![8192, 4096]⟩
abbrev S1024x4096 : Shape := ⟨2, ![1024, 4096]⟩
abbrev S8192x1024 : Shape := ⟨2, ![8192, 1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .bf16⟩
  | .hbm, ⟨7, _⟩ => ⟨S1x1024, .f32⟩
  | .hbm, ⟨8, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x4096, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== X2Ln2ReferenceIdeal.lean ====
abbrev S8192x4096 : Shape := ⟨2, ![8192, 4096]⟩
abbrev S1024x4096 : Shape := ⟨2, ![1024, 4096]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 102
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x4096, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S1024x4096, .f32⟩
  | .hbm, ⟨49, _⟩ => ⟨S8192x4096, .f32⟩
  | .hbm, ⟨50, _⟩ => ⟨S8192x1024, .f32⟩
  | .hbm, ⟨51, _⟩ => ⟨S_, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S_, .f32⟩
  | .hbm, ⟨59, _⟩ => ⟨S1024, .f32⟩
  | .hbm, ⟨60, _⟩ => ⟨S8192x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S1024, .f32⟩
  | .hbm, ⟨68, _⟩ => ⟨S8192x1024, .f32⟩
  | .hbm, ⟨69, _⟩ => ⟨S_, .f32⟩
  | .hbm, ⟨70, _⟩ => ⟨S8192, .f32⟩
  | .hbm, ⟨71, _⟩ => ⟨S8192x1, .f32⟩
  | .hbm, ⟨72, _⟩ => ⟨S8192x1024, .f32⟩
  | .hbm, ⟨73, _⟩ => ⟨S8192x1024, .f32⟩
  | .hbm, ⟨74, _⟩ => ⟨S8192x1, .f32⟩
  | .hbm, ⟨75, _⟩ => ⟨S8192x1024, .f32⟩
  | .hbm, ⟨76, _⟩ => ⟨S_, .f32⟩
  | .hbm, ⟨77, _⟩ => ⟨S8192, .f32⟩
  | .hbm, ⟨78, _⟩ => ⟨S8192x1, .f32⟩
  | .hbm, ⟨79, _⟩ => ⟨S_, .f32⟩
  | .hbm, ⟨80, _⟩ => ⟨S8192x1, .f32⟩
  | .hbm, ⟨81, _⟩ => ⟨S8192x1, .f32⟩
  | .hbm, ⟨82, _⟩ => ⟨S_, .f32⟩
  | .hbm, ⟨83, _⟩ => ⟨S8192, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S_, .f32⟩
  | .hbm, ⟨88, _⟩ => ⟨S8192, .f32⟩
  | .hbm, ⟨89, _⟩ => ⟨S8192x1, .f32⟩
  | .hbm, ⟨90, _⟩ => ⟨S8192x1024, .f32⟩
  | .hbm, ⟨91, _⟩ => ⟨S8192x1, .f32⟩
  | .hbm, ⟨92, _⟩ => ⟨S_, .f32⟩
  | .hbm, ⟨93, _⟩ => ⟨S8192x1, .f32⟩
  | .hbm, ⟨94, _⟩ => ⟨S8192x1, .f32⟩
  | .hbm, ⟨95, _⟩ => ⟨S_, .f32⟩
  | .hbm, ⟨96, _⟩ => ⟨S8192, .f32⟩
  | .hbm, ⟨97, _⟩ => ⟨S8192x1024, .f32⟩
  | .hbm, ⟨98, _⟩ => ⟨S8192x1024, .f32⟩
  | .hbm, ⟨99, _⟩ => ⟨S8192x1024, .bf16⟩
  | .hbm, ⟨100, _⟩ => ⟨S1x1024, .f32⟩
  | .hbm, ⟨101, _⟩ => ⟨S1x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_8 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_9 : Ref sig .tc := ⟨.hbm, 55, rfl⟩
abbrev main_v40 : Ref sig .tc := ⟨.hbm, 56, rfl⟩
abbrev main_v41 : Ref sig .tc := ⟨.hbm, 57, rfl⟩
abbrev main_cst_10 : Ref sig .tc := ⟨.hbm, 58, rfl⟩
abbrev main_v42 : Ref sig .tc := ⟨.hbm, 59, rfl⟩
abbrev main_v43 : Ref sig .tc := ⟨.hbm, 60, rfl⟩
abbrev main_cst_11 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_12 : Ref sig .tc := ⟨.hbm, 66, rfl⟩
abbrev main_v48 : Ref sig .tc := ⟨.hbm, 67, rfl⟩
abbrev main_v49 : Ref sig .tc := ⟨.hbm, 68, rfl⟩
abbrev main_cst_13 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_14 : Ref sig .tc := ⟨.hbm, 76, rfl⟩
abbrev main_v56 : Ref sig .tc := ⟨.hbm, 77, rfl⟩
abbrev main_v57 : Ref sig .tc := ⟨.hbm, 78, rfl⟩
abbrev main_cst_15 : Ref sig .tc := ⟨.hbm, 79, rfl⟩
abbrev main_v58 : Ref sig .tc := ⟨.hbm, 80, rfl⟩
abbrev main_v59 : Ref sig .tc := ⟨.hbm, 81, rfl⟩
abbrev main_cst_16 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_17 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_18 : Ref sig .tc := ⟨.hbm, 92, rfl⟩
abbrev main_v68 : Ref sig .tc := ⟨.hbm, 93, rfl⟩
abbrev main_v69 : Ref sig .tc := ⟨.hbm, 94, rfl⟩
abbrev main_cst_19 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩

abbrev nD : Nat := 1
abbrev τ : Topo := Topo.v7x

variable {F : FTy → Type} [FloatOps F]
-- ==== X1Ln1.lean ====
abbrev S8192x1024 : Shape := ⟨2, ![8192, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 9
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .bf16⟩
  | .hbm, ⟨7, _⟩ => ⟨S1x1024, .f32⟩
  | .hbm, ⟨8, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | .local _ .vmem, ⟨13, _⟩ => ⟨S1x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== X1Ln1ReferenceIdeal.lean ====
abbrev S8192x1024 : Shape := ⟨2, ![8192, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 102
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S1024x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S_, .f32⟩
  | .hbm, ⟨59, _⟩ => ⟨S1024, .f32⟩
  | .hbm, ⟨60, _⟩ => ⟨S8192x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S1024, .f32⟩
  | .hbm, ⟨68, _⟩ => ⟨S8192x1024, .f32⟩
  | .hbm, ⟨69, _⟩ => ⟨S_, .f32⟩
  | .hbm, ⟨70, _⟩ => ⟨S8192, .f32⟩
  | .hbm, ⟨71, _⟩ => ⟨S8192x1, .f32⟩
  | .hbm, ⟨72, _⟩ => ⟨S8192x1024, .f32⟩
  | .hbm, ⟨73, _⟩ => ⟨S8192x1024, .f32⟩
  | .hbm, ⟨74, _⟩ => ⟨S8192x1, .f32⟩
  | .hbm, ⟨75, _⟩ => ⟨S8192x1024, .f32⟩
  | .hbm, ⟨76, _⟩ => ⟨S_, .f32⟩
  | .hbm, ⟨77, _⟩ => ⟨S8192, .f32⟩
  | .hbm, ⟨78, _⟩ => ⟨S8192x1, .f32⟩
  | .hbm, ⟨79, _⟩ => ⟨S_, .f32⟩
  | .hbm, ⟨80, _⟩ => ⟨S8192x1, .f32⟩
  | .hbm, ⟨81, _⟩ => ⟨S8192x1, .f32⟩
  | .hbm, ⟨82, _⟩ => ⟨S_, .f32⟩
  | .hbm, ⟨83, _⟩ => ⟨S8192, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S_, .f32⟩
  | .hbm, ⟨88, _⟩ => ⟨S8192, .f32⟩
  | .hbm, ⟨89, _⟩ => ⟨S8192x1, .f32⟩
  | .hbm, ⟨90, _⟩ => ⟨S8192x1024, .f32⟩
  | .hbm, ⟨91, _⟩ => ⟨S8192x1, .f32⟩
  | .hbm, ⟨92, _⟩ => ⟨S_, .f32⟩
  | .hbm, ⟨93, _⟩ => ⟨S8192x1, .f32⟩
  | .hbm, ⟨94, _⟩ => ⟨S8192x1, .f32⟩
  | .hbm, ⟨95, _⟩ => ⟨S_, .f32⟩
  | .hbm, ⟨96, _⟩ => ⟨S8192, .f32⟩
  | .hbm, ⟨97, _⟩ => ⟨S8192x1024, .f32⟩
  | .hbm, ⟨98, _⟩ => ⟨S8192x1024, .f32⟩
  | .hbm, ⟨99, _⟩ => ⟨S8192x1024, .bf16⟩
  | .hbm, ⟨100, _⟩ => ⟨S1x1024, .f32⟩
  | .hbm, ⟨101, _⟩ => ⟨S1x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_8 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_9 : Ref sig .tc := ⟨.hbm, 55, rfl⟩
abbrev main_v40 : Ref sig .tc := ⟨.hbm, 56, rfl⟩
abbrev main_v41 : Ref sig .tc := ⟨.hbm, 57, rfl⟩
abbrev main_cst_10 : Ref sig .tc := ⟨.hbm, 58, rfl⟩
abbrev main_v42 : Ref sig .tc := ⟨.hbm, 59, rfl⟩
abbrev main_v43 : Ref sig .tc := ⟨.hbm, 60, rfl⟩
abbrev main_cst_11 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_12 : Ref sig .tc := ⟨.hbm, 66, rfl⟩
abbrev main_v48 : Ref sig .tc := ⟨.hbm, 67, rfl⟩
abbrev main_v49 : Ref sig .tc := ⟨.hbm, 68, rfl⟩
abbrev main_cst_13 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_14 : Ref sig .tc := ⟨.hbm, 76, rfl⟩
abbrev main_v56 : Ref sig .tc := ⟨.hbm, 77, rfl⟩
abbrev main_v57 : Ref sig .tc := ⟨.hbm, 78, rfl⟩
abbrev main_cst_15 : Ref sig .tc := ⟨.hbm, 79, rfl⟩
abbrev main_v58 : Ref sig .tc := ⟨.hbm, 80, rfl⟩
abbrev main_v59 : Ref sig .tc := ⟨.hbm, 81, rfl⟩
abbrev main_cst_16 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_17 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_18 : Ref sig .tc := ⟨.hbm, 92, rfl⟩
abbrev main_v68 : Ref sig .tc := ⟨.hbm, 93, rfl⟩
abbrev main_v69 : Ref sig .tc := ⟨.hbm, 94, rfl⟩
abbrev main_cst_19 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩

abbrev nD : Nat := 1
abbrev τ : Topo := Topo.v7x

variable {F : FTy → Type} [FloatOps F]
-- ==== X0Ln3.lean ====
abbrev S8192x384 : Shape := ⟨2, ![8192, 384]⟩
abbrev S8192x256 : Shape := ⟨2, ![8192, 256]⟩
abbrev S1024x2432 : Shape := ⟨2, ![1024, 2432]⟩
abbrev S8192x1024 : Shape := ⟨2, ![8192, 1024]⟩
abbrev S1x1024 : Shape := ⟨2, ![1, 1024]⟩
abbrev S1024x384 : Shape := ⟨2, ![1024, 384]⟩
abbrev S1024x256 : Shape := ⟨2, ![1024, 256]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 15
  | .vmem => 26
  | .smem => 0
  | _ => 0

abbrev bufTy : (tb : Table) → Fin (tcTables nBuf tb) → BufTy
  | .hbm, ⟨0, _⟩ => ⟨S8192x384, .bf16⟩
  | .hbm, ⟨1, _⟩ => ⟨S8192x384, .bf16⟩
  | .hbm, ⟨2, _⟩ => ⟨S8192x256, .bf16⟩
  | .hbm, ⟨3, _⟩ => ⟨S8192x256, .bf16⟩
  | .hbm, ⟨4, _⟩ => ⟨S8192x384, .bf16⟩
  | .hbm, ⟨5, _⟩ => ⟨S8192x384, .bf16⟩
  | .hbm, ⟨6, _⟩ => ⟨S8192x384, .bf16⟩
  | .hbm, ⟨7, _⟩ => ⟨S1024x2432, .bf16⟩
  | .hbm, ⟨8, _⟩ => ⟨S8192x1024, .f32⟩
  | .hbm, ⟨9, _⟩ => ⟨S8192x1024, .f32⟩
  | .hbm, ⟨10, _⟩ => ⟨S1x1024, .f32⟩
  | .hbm, ⟨11, _⟩ => ⟨S8192x1024, .f32⟩
  | .hbm, ⟨12, _⟩ => ⟨S8192x1024, .bf16⟩
  | .hbm, ⟨13, _⟩ => ⟨S1x1024, .f32⟩
  | .hbm, ⟨14, _⟩ => ⟨S1x1024, .f32⟩
  | .local _ .vmem, ⟨0, _⟩ => ⟨S1024x384, .bf16⟩
  | .local _ .vmem, ⟨1, _⟩ => ⟨S1024x384, .bf16⟩
  | .local _ .vmem, ⟨2, _⟩ => ⟨S1024x384, .bf16⟩
  | .local _ .vmem, ⟨3, _⟩ => ⟨S1024x384, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x384, .bf16⟩
  | .local _ .vmem, ⟨9, _⟩ => ⟨S1024x384, .bf16⟩
  | .local _ .vmem, ⟨10, _⟩ => ⟨S1024x384, .bf16⟩
  | .local _ .vmem, ⟨11, _⟩ => ⟨S1024x384, .bf16⟩
  | .local _ .vmem, ⟨12, _⟩ => ⟨S1024x384, .bf16⟩
  | .local _ .vmem, ⟨13, _⟩ => ⟨S1024x384, .bf16⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | .local _ .vmem, ⟨18, _⟩ => ⟨S1024x2432, .bf16⟩
  | .local _ .vmem, ⟨19, _⟩ => ⟨S1x1024, .f32⟩
  | .local _ .vmem, ⟨20, _⟩ => ⟨S1024x1024, .f32⟩
  | .local _ .vmem, ⟨21, _⟩ => ⟨S1024x1024, .f32⟩
  | .local _ .vmem, ⟨22, _⟩ => ⟨S1024x1024, .bf16⟩
  | .local _ .vmem, ⟨23, _⟩ => ⟨S1024x1024, .bf16⟩
  | .local _ .vmem, ⟨24, _⟩ => ⟨S1x1024, .f32⟩
  | .local _ .vmem, ⟨25, _⟩ => ⟨S1x1024, .f32⟩
  | _, _ => ⟨S8192x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg14_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem14_0 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x2432 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== X0Ln3ReferenceIdeal.lean ====
abbrev S8192x384 : Shape := ⟨2, ![8192, 384]⟩
abbrev S8192x256 : Shape := ⟨2, ![8192, 256]⟩
abbrev S1024x2432 : Shape := ⟨2, ![1024, 2432]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x2432 : Shape := ⟨2, ![8192, 2432]⟩

abbrev nBuf : Space → Nat
  | .hbm => 122
  | .vmem => 0
  | .smem => 0
  | _ => 0

abbrev bufTy : (tb : Table) → Fin (tcTables nBuf tb) → BufTy
  | .hbm, ⟨0, _⟩ => ⟨S8192x384, .bf16⟩
  | .hbm, ⟨1, _⟩ => ⟨S8192x384, .bf16⟩
  | .hbm, ⟨2, _⟩ => ⟨S8192x256, .bf16⟩
  | .hbm, ⟨3, _⟩ => ⟨S8192x256, .bf16⟩
  | .hbm, ⟨4, _⟩ => ⟨S8192x384, .bf16⟩
  | .hbm, ⟨5, _⟩ => ⟨S8192x384, .bf16⟩
  | .hbm, ⟨6, _⟩ => ⟨S8192x384, .bf16⟩
  | .hbm, ⟨7, _⟩ => ⟨S1024x2432, .bf16⟩
  | .hbm, ⟨8, _⟩ => ⟨S8192x1024, .f32⟩
  | .hbm, ⟨9, _⟩ => ⟨S8192x1024, .f32⟩
  | .hbm, ⟨10, _⟩ => ⟨S1x1024, .f32⟩
  | .hbm, ⟨11, _⟩ => ⟨S8192x384, .f32⟩
  | .hbm, ⟨12, _⟩ => ⟨S8192x384, .f32⟩
  | .hbm, ⟨13, _⟩ => ⟨S8192x256, .f32⟩
  | .hbm, ⟨14, _⟩ => ⟨S8192x256, .f32⟩
  | .hbm, ⟨15, _⟩ => ⟨S8192x384, .f32⟩
  | .hbm, ⟨16, _⟩ => ⟨S8192x384, .f32⟩
  | .hbm, ⟨17, _⟩ => ⟨S8192x384, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S8192x1024, .f32⟩
  | .hbm, ⟨50, _⟩ => ⟨S8192x1024, .f32⟩
  | .hbm, ⟨51, _⟩ => ⟨S1x1024, .f32⟩
  | .hbm, ⟨52, _⟩ => ⟨S8192x1024, .f32⟩
  | .hbm, ⟨53, _⟩ => ⟨S8192x1024, .f32⟩
  | .hbm, ⟨54, _⟩ => ⟨S1x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S8192x1024, .f32⟩
  | .hbm, ⟨59, _⟩ => ⟨S8192x1024, .f32⟩
  | .hbm, ⟨60, _⟩ => ⟨S1024x2432, .f32⟩
  | .hbm, ⟨61, _⟩ => ⟨S8192x2432, .f32⟩
  | .hbm, ⟨62, _⟩ => ⟨S8192x384, .f32⟩
  | .hbm, ⟨63, _⟩ => ⟨S8192x384, .f32⟩
  | .hbm, ⟨64, _⟩ => ⟨S8192x256, .f32⟩
  | .hbm, ⟨65, _⟩ => ⟨S8192x256, .f32⟩
  | .hbm, ⟨66, _⟩ => ⟨S8192x384, .f32⟩
  | .hbm, ⟨67, _⟩ => ⟨S8192x384, .f32⟩
  | .hbm, ⟨68, _⟩ => ⟨S8192x384, .f32⟩
  | .hbm, ⟨69, _⟩ => ⟨S8192x2432, .f32⟩
  | .hbm, ⟨70, _⟩ => ⟨S8192x1024, .f32⟩
  | .hbm, ⟨71, _⟩ => ⟨S_, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S_, .f32⟩
  | .hbm, ⟨79, _⟩ => ⟨S1024, .f32⟩
  | .hbm, ⟨80, _⟩ => ⟨S8192x1024, .f32⟩
  | .hbm, ⟨81, _⟩ => ⟨S_, .f32⟩
  | .hbm, ⟨82, _⟩ => ⟨S1024, .f32⟩
  | .hbm, ⟨83, _⟩ => ⟨S1x1024, .f32⟩
  | .hbm, ⟨84, _⟩ => ⟨S8192x1024, .f32⟩
  | .hbm, ⟨85, _⟩ => ⟨S8192x1024, .f32⟩
  | .hbm, ⟨86, _⟩ => ⟨S_, .f32⟩
  | .hbm, ⟨87, _⟩ => ⟨S1024, .f32⟩
  | .hbm, ⟨88, _⟩ => ⟨S8192x1024, .f32⟩
  | .hbm, ⟨89, _⟩ => ⟨S_, .f32⟩
  | .hbm, ⟨90, _⟩ => ⟨S8192, .f32⟩
  | .hbm, ⟨91, _⟩ => ⟨S8192x1, .f32⟩
  | .hbm, ⟨92, _⟩ => ⟨S8192x1024, .f32⟩
  | .hbm, ⟨93, _⟩ => ⟨S8192x1024, .f32⟩
  | .hbm, ⟨94, _⟩ => ⟨S8192x1, .f32⟩
  | .hbm, ⟨95, _⟩ => ⟨S8192x1024, .f32⟩
  | .hbm, ⟨96, _⟩ => ⟨S_, .f32⟩
  | .hbm, ⟨97, _⟩ => ⟨S8192, .f32⟩
  | .hbm, ⟨98, _⟩ => ⟨S8192x1, .f32⟩
  | .hbm, ⟨99, _⟩ => ⟨S_, .f32⟩
  | .hbm, ⟨100, _⟩ => ⟨S8192x1, .f32⟩
  | .hbm, ⟨101, _⟩ => ⟨S8192x1, .f32⟩
  | .hbm, ⟨102, _⟩ => ⟨S_, .f32⟩
  | .hbm, ⟨103, _⟩ => ⟨S8192, .f32⟩
  | .hbm, ⟨104, _⟩ => ⟨S8192x1024, .f32⟩
  | .hbm, ⟨105, _⟩ => ⟨S8192x1024, .f32⟩
  | .hbm, ⟨106, _⟩ => ⟨S8192x1024, .f32⟩
  | .hbm, ⟨107, _⟩ => ⟨S_, .f32⟩
  | .hbm, ⟨108, _⟩ => ⟨S8192, .f32⟩
  | .hbm, ⟨109, _⟩ => ⟨S8192x1, .f32⟩
  | .hbm, ⟨110, _⟩ => ⟨S8192x1024, .f32⟩
  | .hbm, ⟨111, _⟩ => ⟨S8192x1, .f32⟩
  | .hbm, ⟨112, _⟩ => ⟨S_, .f32⟩
  | .hbm, ⟨113, _⟩ => ⟨S8192x1, .f32⟩
  | .hbm, ⟨114, _⟩ => ⟨S8192x1, .f32⟩
  | .hbm, ⟨115, _⟩ => ⟨S_, .f32⟩
  | .hbm, ⟨116, _⟩ => ⟨S8192, .f32⟩
  | .hbm, ⟨117, _⟩ => ⟨S8192x1024, .f32⟩
  | .hbm, ⟨118, _⟩ => ⟨S8192x1024, .f32⟩
  | .hbm, ⟨119, _⟩ => ⟨S8192x1024, .bf16⟩
  | .hbm, ⟨120, _⟩ => ⟨S1x1024, .f32⟩
  | .hbm, ⟨121, _⟩ => ⟨S1x1024, .f32⟩
  | _, _ => ⟨S8192x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_8 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_9 : Ref sig .tc := ⟨.hbm, 75, rfl⟩
abbrev main_v54 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_v62 : Ref sig .tc := ⟨.hbm, 87, rfl⟩
abbrev main_v63 : Ref sig .tc := ⟨.hbm, 88, rfl⟩
abbrev main_cst_13 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_14 : Ref sig .tc := ⟨.hbm, 96, rfl⟩
abbrev main_v70 : Ref sig .tc := ⟨.hbm, 97, rfl⟩
abbrev main_v71 : Ref sig .tc := ⟨.hbm, 98, rfl⟩
abbrev main_cst_15 : Ref sig .tc := ⟨.hbm, 99, rfl⟩
abbrev main_v72 : Ref sig .tc := ⟨.hbm, 100, rfl⟩
abbrev main_v73 : Ref sig .tc := ⟨.hbm, 101, rfl⟩
abbrev main_cst_16 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_17 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_18 : Ref sig .tc := ⟨.hbm, 112, rfl⟩
abbrev main_v82 : Ref sig .tc := ⟨.hbm, 113, rfl⟩
abbrev main_v83 : Ref sig .tc := ⟨.hbm, 114, rfl⟩
abbrev main_cst_19 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩

abbrev nD : Nat := 1
abbrev τ : Topo := Topo.v7x

variable {F : FTy → Type} [FloatOps F]
-- ==== X0.lean ====
abbrev S8192x384 : Shape := ⟨2, ![8192, 384]⟩
abbrev S8192x256 : Shape := ⟨2, ![8192, 256]⟩
abbrev S1024x2432 : Shape := ⟨2, ![1024, 2432]⟩
abbrev S8192x1024 : Shape := ⟨2, ![8192, 1024]⟩
abbrev S1024x384 : Shape := ⟨2, ![1024, 384]⟩
abbrev S1024x256 : Shape := ⟨2, ![1024, 256]⟩
abbrev S1024x1024 : Shape := ⟨2, ![1024, 1024]⟩

abbrev nBuf : Space → Nat
  | .hbm => 10
  | .vmem => 19
  | .smem => 0
  | _ => 0

abbrev bufTy : (tb : Table) → Fin (tcTables nBuf tb) → BufTy
  | .hbm, ⟨0, _⟩ => ⟨S8192x384, .bf16⟩
  | .hbm, ⟨1, _⟩ => ⟨S8192x384, .bf16⟩
  | .hbm, ⟨2, _⟩ => ⟨S8192x256, .bf16⟩
  | .hbm, ⟨3, _⟩ => ⟨S8192x256, .bf16⟩
  | .hbm, ⟨4, _⟩ => ⟨S8192x384, .bf16⟩
  | .hbm, ⟨5, _⟩ => ⟨S8192x384, .bf16⟩
  | .hbm, ⟨6, _⟩ => ⟨S8192x384, .bf16⟩
  | .hbm, ⟨7, _⟩ => ⟨S1024x2432, .bf16⟩
  | .hbm, ⟨8, _⟩ => ⟨S8192x1024, .f32⟩
  | .hbm, ⟨9, _⟩ => ⟨S8192x1024, .f32⟩
  | .local _ .vmem, ⟨0, _⟩ => ⟨S1024x384, .bf16⟩
  | .local _ .vmem, ⟨1, _⟩ => ⟨S1024x384, .bf16⟩
  | .local _ .vmem, ⟨2, _⟩ => ⟨S1024x384, .bf16⟩
  | .local _ .vmem, ⟨3, _⟩ => ⟨S1024x384, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x384, .bf16⟩
  | .local _ .vmem, ⟨9, _⟩ => ⟨S1024x384, .bf16⟩
  | .local _ .vmem, ⟨10, _⟩ => ⟨S1024x384, .bf16⟩
  | .local _ .vmem, ⟨11, _⟩ => ⟨S1024x384, .bf16⟩
  | .local _ .vmem, ⟨12, _⟩ => ⟨S1024x384, .bf16⟩
  | .local _ .vmem, ⟨13, _⟩ => ⟨S1024x384, .bf16⟩
  | .local _ .vmem, ⟨14, _⟩ => ⟨S1024x1024, .f32⟩
  | .local _ .vmem, ⟨15, _⟩ => ⟨S1024x1024, .f32⟩
  | .local _ .vmem, ⟨16, _⟩ => ⟨S1024x2432, .bf16⟩
  | .local _ .vmem, ⟨17, _⟩ => ⟨S1024x1024, .f32⟩
  | .local _ .vmem, ⟨18, _⟩ => ⟨S1024x1024, .f32⟩
  | _, _ => ⟨S8192x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x2432 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== X0ReferenceIdeal.lean ====
abbrev S8192x384 : Shape := ⟨2, ![8192, 384]⟩
abbrev S8192x256 : Shape := ⟨2, ![8192, 256]⟩
abbrev S1024x2432 : Shape := ⟨2, ![1024, 2432]⟩
abbrev S8192x1024 : Shape := ⟨2, ![8192, 1024]⟩
abbrev S_ : Shape := ⟨0, ![]⟩
abbrev S8192x2432 : Shape := ⟨2, ![8192, 2432]⟩

abbrev nBuf : Space → Nat
  | .hbm => 36
  | .vmem => 0
  | .smem => 0
  | _ => 0

abbrev bufTy : (tb : Table) → Fin (tcTables nBuf tb) → BufTy
  | .hbm, ⟨0, _⟩ => ⟨S8192x384, .bf16⟩
  | .hbm, ⟨1, _⟩ => ⟨S8192x384, .bf16⟩
  | .hbm, ⟨2, _⟩ => ⟨S8192x256, .bf16⟩
  | .hbm, ⟨3, _⟩ => ⟨S8192x256, .bf16⟩
  | .hbm, ⟨4, _⟩ => ⟨S8192x384, .bf16⟩
  | .hbm, ⟨5, _⟩ => ⟨S8192x384, .bf16⟩
  | .hbm, ⟨6, _⟩ => ⟨S8192x384, .bf16⟩
  | .hbm, ⟨7, _⟩ => ⟨S1024x2432, .bf16⟩
  | .hbm, ⟨8, _⟩ => ⟨S8192x1024, .f32⟩
  | .hbm, ⟨9, _⟩ => ⟨S8192x384, .f32⟩
  | .hbm, ⟨10, _⟩ => ⟨S8192x384, .f32⟩
  | .hbm, ⟨11, _⟩ => ⟨S8192x256, .f32⟩
  | .hbm, ⟨12, _⟩ => ⟨S8192x256, .f32⟩
  | .hbm, ⟨13, _⟩ => ⟨S8192x384, .f32⟩
  | .hbm, ⟨14, _⟩ => ⟨S8192x384, .f32⟩
  | .hbm, ⟨15, _⟩ => ⟨S8192x384, .f32⟩
  | .hbm, ⟨16, _⟩ => ⟨S_, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S1024x2432, .f32⟩
  | .hbm, ⟨22, _⟩ => ⟨S8192x2432, .f32⟩
  | .hbm, ⟨23, _⟩ => ⟨S8192x384, .f32⟩
  | .hbm, ⟨24, _⟩ => ⟨S8192x384, .f32⟩
  | .hbm, ⟨25, _⟩ => ⟨S8192x256, .f32⟩
  | .hbm, ⟨26, _⟩ => ⟨S8192x256, .f32⟩
  | .hbm, ⟨27, _⟩ => ⟨S8192x384, .f32⟩
  | .hbm, ⟨28, _⟩ => ⟨S8192x384, .f32⟩
  | .hbm, ⟨29, _⟩ => ⟨S8192x384, .f32⟩
  | .hbm, ⟨30, _⟩ => ⟨S8192x2432, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S8192x1024, .f32⟩
  | _, _ => ⟨S8192x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]
-- ==== WIn.lean ====
abbrev S8192x1024 : Shape := ⟨2, ![8192, 1024]⟩
abbrev S8192x384 : Shape := ⟨2, ![8192, 384]⟩
abbrev S8192x256 : Shape := ⟨2, ![8192, 256]⟩
abbrev S1024x2432 : Shape := ⟨2, ![1024, 2432]⟩
abbrev S2048x512 : Shape := ⟨2, ![2048, 512]⟩
abbrev S2048x384 : Shape := ⟨2, ![2048, 384]⟩
abbrev S2048x256 : Shape := ⟨2, ![2048, 256]⟩
abbrev S512x2432 : Shape := ⟨2, ![512, 2432]⟩
abbrev S512x384 : Shape := ⟨2, ![512, 384]⟩
abbrev S512x256 : Shape := ⟨2, ![512, 256]⟩

abbrev nBuf : Space → Nat
  | .hbm => 9
  | .vmem => 18
  | .smem => 0
  | _ => 0

abbrev bufTy : (tb : Table) → Fin (tcTables nBuf tb) → BufTy
  | .hbm, ⟨0, _⟩ => ⟨S8192x1024, .bf16⟩
  | .hbm, ⟨1, _⟩ => ⟨S8192x384, .bf16⟩
  | .hbm, ⟨2, _⟩ => ⟨S8192x384, .bf16⟩
  | .hbm, ⟨3, _⟩ => ⟨S8192x256, .bf16⟩
  | .hbm, ⟨4, _⟩ => ⟨S8192x256, .bf16⟩
  | .hbm, ⟨5, _⟩ => ⟨S8192x384, .bf16⟩
  | .hbm, ⟨6, _⟩ => ⟨S8192x384, .bf16⟩
  | .hbm, ⟨7, _⟩ => ⟨S8192x384, .bf16⟩
  | .hbm, ⟨8, _⟩ => ⟨S1024x2432, .f32⟩
  | .local _ .vmem, ⟨0, _⟩ => ⟨S2048x512, .bf16⟩
  | .local _ .vmem, ⟨1, _⟩ => ⟨S2048x512, .bf16⟩
  | .local _ .vmem, ⟨2, _⟩ => ⟨S2048x384, .bf16⟩
  | .local _ .vmem, ⟨3, _⟩ => ⟨S2048x384, .bf16⟩
  | .local _ .vmem, ⟨4, _⟩ => ⟨S2048x384, .bf16⟩
  | .local _ .vmem, ⟨5, _⟩ => ⟨S2048x384, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x384, .bf16⟩
  | .local _ .vmem, ⟨11, _⟩ => ⟨S2048x384, .bf16⟩
  | .local _ .vmem, ⟨12, _⟩ => ⟨S2048x384, .bf16⟩
  | .local _ .vmem, ⟨13, _⟩ => ⟨S2048x384, .bf16⟩
  | .local _ .vmem, ⟨14, _⟩ => ⟨S2048x384, .bf16⟩
  | .local _ .vmem, ⟨15, _⟩ => ⟨S2048x384, .bf16⟩
  | .local _ .vmem, ⟨16, _⟩ => ⟨S512x2432, .f32⟩
  | .local _ .vmem, ⟨17, _⟩ => ⟨S512x2432, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x2432 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== WInReferenceIdeal.lean ====
abbrev S8192x1024 : Shape := ⟨2, ![8192, 1024]⟩
abbrev S8192x384 : Shape := ⟨2, ![8192, 384]⟩
abbrev S8192x256 : Shape := ⟨2, ![8192, 256]⟩
abbrev S_ : Shape := ⟨0, ![]⟩
abbrev S1024x2432 : Shape := ⟨2, ![1024, 2432]⟩
abbrev S8192x2432 : Shape := ⟨2, ![8192, 2432]⟩
abbrev S2432x1024 : Shape := ⟨2, ![2432, 1024]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x384, .bf16⟩
  | .hbm, ⟨2, _⟩ => ⟨S8192x384, .bf16⟩
  | .hbm, ⟨3, _⟩ => ⟨S8192x256, .bf16⟩
  | .hbm, ⟨4, _⟩ => ⟨S8192x256, .bf16⟩
  | .hbm, ⟨5, _⟩ => ⟨S8192x384, .bf16⟩
  | .hbm, ⟨6, _⟩ => ⟨S8192x384, .bf16⟩
  | .hbm, ⟨7, _⟩ => ⟨S8192x384, .bf16⟩
  | .hbm, ⟨8, _⟩ => ⟨S8192x384, .f32⟩
  | .hbm, ⟨9, _⟩ => ⟨S8192x384, .f32⟩
  | .hbm, ⟨10, _⟩ => ⟨S8192x256, .f32⟩
  | .hbm, ⟨11, _⟩ => ⟨S8192x256, .f32⟩
  | .hbm, ⟨12, _⟩ => ⟨S8192x384, .f32⟩
  | .hbm, ⟨13, _⟩ => ⟨S8192x384, .f32⟩
  | .hbm, ⟨14, _⟩ => ⟨S8192x384, .f32⟩
  | .hbm, ⟨15, _⟩ => ⟨S_, .f32⟩
  | .hbm, ⟨16, _⟩ => ⟨S1024x2432, .f32⟩
  | .hbm, ⟨17, _⟩ => ⟨S8192x1024, .f32⟩
  | .hbm, ⟨18, _⟩ => ⟨S8192x2432, .f32⟩
  | .hbm, ⟨19, _⟩ => ⟨S8192x384, .f32⟩
  | .hbm, ⟨20, _⟩ => ⟨S8192x384, .f32⟩
  | .hbm, ⟨21, _⟩ => ⟨S8192x256, .f32⟩
  | .hbm, ⟨22, _⟩ => ⟨S8192x256, .f32⟩
  | .hbm, ⟨23, _⟩ => ⟨S8192x384, .f32⟩
  | .hbm, ⟨24, _⟩ => ⟨S8192x384, .f32⟩
  | .hbm, ⟨25, _⟩ => ⟨S8192x384, .f32⟩
  | .hbm, ⟨26, _⟩ => ⟨S8192x2432, .f32⟩
  | .hbm, ⟨27, _⟩ => ⟨S2432x1024, .f32⟩
  | .hbm, ⟨28, _⟩ => ⟨S1024x2432, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== WOut.lean ====
abbrev S8192x384 : Shape := ⟨2, ![8192, 384]⟩
abbrev S8192x256 : Shape := ⟨2, ![8192, 256]⟩
abbrev S8192x1024 : Shape := ⟨2, ![8192, 1024]⟩
abbrev S1024x1024 : Shape := ⟨2, ![1024, 1024]⟩
abbrev S2048x384 : Shape := ⟨2, ![2048, 384]⟩
abbrev S2048x256 : Shape := ⟨2, ![2048, 256]⟩
abbrev S2048x1024 : Shape := ⟨2, ![2048, 1024]⟩
abbrev S384x1024 : Shape := ⟨2, ![384, 1024]⟩
abbrev S256x1024 : Shape := ⟨2, ![256, 1024]⟩

abbrev nBuf : Space → Nat
  | .hbm => 5
  | .vmem => 9
  | .smem => 0
  | _ => 0

abbrev bufTy : (tb : Table) → Fin (tcTables nBuf tb) → BufTy
  | .hbm, ⟨0, _⟩ => ⟨S8192x384, .bf16⟩
  | .hbm, ⟨1, _⟩ => ⟨S8192x256, .bf16⟩
  | .hbm, ⟨2, _⟩ => ⟨S8192x384, .bf16⟩
  | .hbm, ⟨3, _⟩ => ⟨S8192x1024, .bf16⟩
  | .hbm, ⟨4, _⟩ => ⟨S1024x1024, .f32⟩
  | .local _ .vmem, ⟨0, _⟩ => ⟨S2048x384, .bf16⟩
  | .local _ .vmem, ⟨1, _⟩ => ⟨S2048x384, .bf16⟩
  | .local _ .vmem, ⟨2, _⟩ => ⟨S2048x256, .bf16⟩
  | .local _ .vmem, ⟨3, _⟩ => ⟨S2048x256, .bf16⟩
  | .local _ .vmem, ⟨4, _⟩ => ⟨S2048x384, .bf16⟩
  | .local _ .vmem, ⟨5, _⟩ => ⟨S2048x384, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .f32⟩
  | _, _ => ⟨S8192x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]
-- ==== WOutReferenceIdeal.lean ====
abbrev S8192x384 : Shape := ⟨2, ![8192, 384]⟩
abbrev S8192x256 : Shape := ⟨2, ![8192, 256]⟩
abbrev S8192x1024 : Shape := ⟨2, ![8192, 1024]⟩
abbrev S_ : Shape := ⟨0, ![]⟩
abbrev S1024x1024 : Shape := ⟨2, ![1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x384, .bf16⟩
  | .hbm, ⟨1, _⟩ => ⟨S8192x256, .bf16⟩
  | .hbm, ⟨2, _⟩ => ⟨S8192x384, .bf16⟩
  | .hbm, ⟨3, _⟩ => ⟨S8192x1024, .bf16⟩
  | .hbm, ⟨4, _⟩ => ⟨S_, .f32⟩
  | .hbm, ⟨5, _⟩ => ⟨S1024x1024, .f32⟩
  | .hbm, ⟨6, _⟩ => ⟨S8192x1024, .bf16⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S1024x1024, .f32⟩
  | .hbm, ⟨11, _⟩ => ⟨S1024x1024, .f32⟩
  | _, _ => ⟨S8192x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== LossLn3.lean ====
abbrev S8192x1024 : Shape := ⟨2, ![8192, 1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1x512x1024 : Shape := ⟨3, ![1, 512, 1024]⟩
abbrev S1 : Shape := ⟨1, ![1]⟩
abbrev S1x1x1 : Shape := ⟨3, ![1, 1, 1]⟩
abbrev S1024 : Shape := ⟨1, ![1024]⟩

abbrev nBuf : Space → Nat
  | .hbm => 9
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .hbm, ⟨6, _⟩ => ⟨S1x1024, .f32⟩
  | .hbm, ⟨7, _⟩ => ⟨S1x1024, .f32⟩
  | .hbm, ⟨8, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S1x1024, .f32⟩
  | .local _ .vmem, ⟨12, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LossLn3ReferenceIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8x128 : Shape := ⟨2, ![8, 128]⟩

abbrev nBuf : Space → Nat
  | .hbm => 113
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8192, .f32⟩
  | .hbm, ⟨49, _⟩ => ⟨S_, .f32⟩
  | .hbm, ⟨50, _⟩ => ⟨S8192, .f32⟩
  | .hbm, ⟨51, _⟩ => ⟨S8192, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S8192, .f32⟩
  | .hbm, ⟨60, _⟩ => ⟨S_, .f32⟩
  | .hbm, ⟨61, _⟩ => ⟨S8192, .f32⟩
  | .hbm, ⟨62, _⟩ => ⟨S8192, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S_, .f32⟩
  | .hbm, ⟨69, _⟩ => ⟨S1024, .f32⟩
  | .hbm, ⟨70, _⟩ => ⟨S8192x1024, .f32⟩
  | .hbm, ⟨71, _⟩ => ⟨S_, .f32⟩
  | .hbm, ⟨72, _⟩ => ⟨S1024, .f32⟩
  | .hbm, ⟨73, _⟩ => ⟨S1x1024, .f32⟩
  | .hbm, ⟨74, _⟩ => ⟨S8192x1024, .f32⟩
  | .hbm, ⟨75, _⟩ => ⟨S8192x1024, .f32⟩
  | .hbm, ⟨76, _⟩ => ⟨S_, .f32⟩
  | .hbm, ⟨77, _⟩ => ⟨S1024, .f32⟩
  | .hbm, ⟨78, _⟩ => ⟨S8192x1024, .f32⟩
  | .hbm, ⟨79, _⟩ => ⟨S_, .f32⟩
  | .hbm, ⟨80, _⟩ => ⟨S8192, .f32⟩
  | .hbm, ⟨81, _⟩ => ⟨S8192x1, .f32⟩
  | .hbm, ⟨82, _⟩ => ⟨S8192x1024, .f32⟩
  | .hbm, ⟨83, _⟩ => ⟨S8192x1024, .f32⟩
  | .hbm, ⟨84, _⟩ => ⟨S8192x1, .f32⟩
  | .hbm, ⟨85, _⟩ => ⟨S8192x1024, .f32⟩
  | .hbm, ⟨86, _⟩ => ⟨S_, .f32⟩
  | .hbm, ⟨87, _⟩ => ⟨S8192, .f32⟩
  | .hbm, ⟨88, _⟩ => ⟨S8192x1, .f32⟩
  | .hbm, ⟨89, _⟩ => ⟨S_, .f32⟩
  | .hbm, ⟨90, _⟩ => ⟨S8192x1, .f32⟩
  | .hbm, ⟨91, _⟩ => ⟨S8192x1, .f32⟩
  | .hbm, ⟨92, _⟩ => ⟨S_, .f32⟩
  | .hbm, ⟨93, _⟩ => ⟨S8192, .f32⟩
  | .hbm, ⟨94, _⟩ => ⟨S8192x1024, .f32⟩
  | .hbm, ⟨95, _⟩ => ⟨S8192x1024, .f32⟩
  | .hbm, ⟨96, _⟩ => ⟨S8192x1024, .f32⟩
  | .hbm, ⟨97, _⟩ => ⟨S_, .f32⟩
  | .hbm, ⟨98, _⟩ => ⟨S8192, .f32⟩
  | .hbm, ⟨99, _⟩ => ⟨S8192x1, .f32⟩
  | .hbm, ⟨100, _⟩ => ⟨S8192x1024, .f32⟩
  | .hbm, ⟨101, _⟩ => ⟨S8192x1, .f32⟩
  | .hbm, ⟨102, _⟩ => ⟨S_, .f32⟩
  | .hbm, ⟨103, _⟩ => ⟨S8192x1, .f32⟩
  | .hbm, ⟨104, _⟩ => ⟨S8192x1, .f32⟩
  | .hbm, ⟨105, _⟩ => ⟨S_, .f32⟩
  | .hbm, ⟨106, _⟩ => ⟨S8192, .f32⟩
  | .hbm, ⟨107, _⟩ => ⟨S8192x1024, .f32⟩
  | .hbm, ⟨108, _⟩ => ⟨S8192x1024, .f32⟩
  | .hbm, ⟨109, _⟩ => ⟨S8192x1024, .bf16⟩
  | .hbm, ⟨110, _⟩ => ⟨S1x1024, .f32⟩
  | .hbm, ⟨111, _⟩ => ⟨S1x1024, .f32⟩
  | .hbm, ⟨112, _⟩ => ⟨S8x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_cst_8 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_v38 : Ref sig .tc := ⟨.hbm, 53, rfl⟩
abbrev main_cst_10 : Ref sig .tc := ⟨.hbm, 54, rfl⟩
abbrev main_v39 : Ref sig .tc := ⟨.hbm, 55, rfl⟩
abbrev main_cst_11 : Ref sig .tc := ⟨.hbm, 56, rfl⟩
abbrev main_cst_12 : Ref sig .tc := ⟨.hbm, 57, rfl⟩
abbrev main_v40 : Ref sig .tc := ⟨.hbm, 58, rfl⟩
abbrev main_v41 : Ref sig .tc := ⟨.hbm, 59, rfl⟩
abbrev main_cst_13 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_14 : Ref sig .tc := ⟨.hbm, 65, rfl⟩
abbrev main_v46 : Ref sig .tc := ⟨.hbm, 66, rfl⟩
abbrev main_v47 : Ref sig .tc := ⟨.hbm, 67, rfl⟩
abbrev main_cst_15 : Ref sig .tc := ⟨.hbm, 68, rfl⟩
abbrev main_v48 : Ref sig .tc := ⟨.hbm, 69, rfl⟩
abbrev main_v49 : Ref sig .tc := ⟨.hbm, 70, rfl⟩
abbrev main_cst_16 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_17 : Ref sig .tc := ⟨.hbm, 76, rfl⟩
abbrev main_v54 : Ref sig .tc := ⟨.hbm, 77, rfl⟩
abbrev main_v55 : Ref sig .tc := ⟨.hbm, 78, rfl⟩
abbrev main_cst_18 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_19 : Ref sig .tc := ⟨.hbm, 86, rfl⟩
abbrev main_v62 : Ref sig .tc := ⟨.hbm, 87, rfl⟩
abbrev main_v63 : Ref sig .tc := ⟨.hbm, 88, rfl⟩
abbrev main_cst_20 : Ref sig .tc := ⟨.hbm, 89, rfl⟩
abbrev main_v64 : Ref sig .tc := ⟨.hbm, 90, rfl⟩
abbrev main_v65 : Ref sig .tc := ⟨.hbm, 91, rfl⟩
abbrev main_cst_21 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_22 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_23 : Ref sig .tc := ⟨.hbm, 102, rfl⟩
abbrev main_v74 : Ref sig .tc := ⟨.hbm, 103, rfl⟩
abbrev main_v75 : Ref sig .tc := ⟨.hbm, 104, rfl⟩
abbrev main_cst_24 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩

abbrev nD : Nat := 1
abbrev τ : Topo := Topo.v7x

variable {F : FTy → Type} [FloatOps F]
-- ==== InProj.lean ====
abbrev S8192x1024 : Shape := ⟨2, ![8192, 1024]⟩
abbrev S1024x2432 : Shape := ⟨2, ![1024, 2432]⟩
abbrev S8192x384 : Shape := ⟨2, ![8192, 384]⟩
abbrev S8192x256 : Shape := ⟨2, ![8192, 256]⟩
abbrev S1024x1024 : Shape := ⟨2, ![1024, 1024]⟩
abbrev S1024x384 : Shape := ⟨2, ![1024, 384]⟩
abbrev S1024x256 : Shape := ⟨2, ![1024, 256]⟩

abbrev nBuf : Space → Nat
  | .hbm => 9
  | .vmem => 17
  | .smem => 0
  | _ => 0

abbrev bufTy : (tb : Table) → Fin (tcTables nBuf tb) → BufTy
  | .hbm, ⟨0, _⟩ => ⟨S8192x1024, .bf16⟩
  | .hbm, ⟨1, _⟩ => ⟨S1024x2432, .bf16⟩
  | .hbm, ⟨2, _⟩ => ⟨S8192x384, .f32⟩
  | .hbm, ⟨3, _⟩ => ⟨S8192x384, .f32⟩
  | .hbm, ⟨4, _⟩ => ⟨S8192x256, .f32⟩
  | .hbm, ⟨5, _⟩ => ⟨S8192x256, .f32⟩
  | .hbm, ⟨6, _⟩ => ⟨S8192x384, .f32⟩
  | .hbm, ⟨7, _⟩ => ⟨S8192x384, .f32⟩
  | .hbm, ⟨8, _⟩ => ⟨S8192x384, .f32⟩
  | .local _ .vmem, ⟨0, _⟩ => ⟨S1024x1024, .bf16⟩
  | .local _ .vmem, ⟨1, _⟩ => ⟨S1024x1024, .bf16⟩
  | .local _ .vmem, ⟨2, _⟩ => ⟨S1024x2432, .bf16⟩
  | .local _ .vmem, ⟨3, _⟩ => ⟨S1024x384, .f32⟩
  | .local _ .vmem, ⟨4, _⟩ => ⟨S1024x384, .f32⟩
  | .local _ .vmem, ⟨5, _⟩ => ⟨S1024x384, .f32⟩
  | .local _ .vmem, ⟨6, _⟩ => ⟨S1024x384, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x384, .f32⟩
  | .local _ .vmem, ⟨12, _⟩ => ⟨S1024x384, .f32⟩
  | .local _ .vmem, ⟨13, _⟩ => ⟨S1024x384, .f32⟩
  | .local _ .vmem, ⟨14, _⟩ => ⟨S1024x384, .f32⟩
  | .local _ .vmem, ⟨15, _⟩ => ⟨S1024x384, .f32⟩
  | .local _ .vmem, ⟨16, _⟩ => ⟨S1024x384, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev main_v0_5 : Ref sig .tc := ⟨.hbm, 7, rfl⟩
abbrev main_v0_6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2432 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== InProjReferenceIdeal.lean ====
abbrev S8192x1024 : Shape := ⟨2, ![8192, 1024]⟩
abbrev S1024x2432 : Shape := ⟨2, ![1024, 2432]⟩
abbrev S8192x2432 : Shape := ⟨2, ![8192, 2432]⟩
abbrev S8192x384 : Shape := ⟨2, ![8192, 384]⟩
abbrev S8192x256 : Shape := ⟨2, ![8192, 256]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2432, .bf16⟩
  | .hbm, ⟨2, _⟩ => ⟨S8192x1024, .f32⟩
  | .hbm, ⟨3, _⟩ => ⟨S1024x2432, .f32⟩
  | .hbm, ⟨4, _⟩ => ⟨S8192x2432, .f32⟩
  | .hbm, ⟨5, _⟩ => ⟨S8192x384, .f32⟩
  | .hbm, ⟨6, _⟩ => ⟨S8192x384, .f32⟩
  | .hbm, ⟨7, _⟩ => ⟨S8192x256, .f32⟩
  | .hbm, ⟨8, _⟩ => ⟨S8192x256, .f32⟩
  | .hbm, ⟨9, _⟩ => ⟨S8192x384, .f32⟩
  | .hbm, ⟨10, _⟩ => ⟨S8192x384, .f32⟩
  | .hbm, ⟨11, _⟩ => ⟨S8192x384, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== QProj.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== QProjReferenceIdeal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KvProj.lean ====
abbrev S1024x1024 : Shape := ⟨2, ![1024, 1024]⟩
abbrev S1024x2048 : Shape := ⟨2, ![1024, 2048]⟩

abbrev nBuf : Space → Nat
  | .hbm => 3
  | .vmem => 3
  | .smem => 0
  | _ => 0

abbrev bufTy : (tb : Table) → Fin (tcTables nBuf tb) → BufTy
  | .hbm, ⟨0, _⟩ => ⟨S1024x1024, .bf16⟩
  | .hbm, ⟨1, _⟩ => ⟨S1024x2048, .bf16⟩
  | .hbm, ⟨2, _⟩ => ⟨S1024x2048, .bf16⟩
  | .local _ .vmem, ⟨0, _⟩ => ⟨S1024x1024, .bf16⟩
  | .local _ .vmem, ⟨1, _⟩ => ⟨S1024x2048, .bf16⟩
  | .local _ .vmem, ⟨2, _⟩ => ⟨S1024x2048, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== KvProjReferenceIdeal.lean ====
abbrev S1024x1024 : Shape := ⟨2, ![1024, 1024]⟩
abbrev S1024x2048 : Shape := ⟨2, ![1024, 2048]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x2048, .bf16⟩
  | .hbm, ⟨2, _⟩ => ⟨S1024x1024, .f32⟩
  | .hbm, ⟨3, _⟩ => ⟨S1024x2048, .f32⟩
  | .hbm, ⟨4, _⟩ => ⟨S1024x2048, .f32⟩
  | .hbm, ⟨5, _⟩ => ⟨S1024x2048, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Ff1.lean ====
abbrev S8192x1024 : Shape := ⟨2, ![8192, 1024]⟩
abbrev S1024x4096 : Shape := ⟨2, ![1024, 4096]⟩
abbrev S8192x4096 : Shape := ⟨2, ![8192, 4096]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x4096, .bf16⟩
  | .hbm, ⟨3, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x4096, .bf16⟩
  | .local _ .vmem, ⟨3, _⟩ => ⟨S1024x4096, .bf16⟩
  | .local _ .vmem, ⟨4, _⟩ => ⟨S1024x4096, .bf16⟩
  | .local _ .vmem, ⟨5, _⟩ => ⟨S1024x4096, .bf16⟩
  | .local _ .vmem, ⟨6, _⟩ => ⟨S1024x4096, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Ff1ReferenceIdeal.lean ====
abbrev S8192x1024 : Shape := ⟨2, ![8192, 1024]⟩
abbrev S1024x4096 : Shape := ⟨2, ![1024, 4096]⟩
abbrev S8192x4096 : Shape := ⟨2, ![8192, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x1024, .f32⟩
  | .hbm, ⟨3, _⟩ => ⟨S1024x4096, .f32⟩
  | .hbm, ⟨4, _⟩ => ⟨S8192x4096, .f32⟩
  | .hbm, ⟨5, _⟩ => ⟨S8192x4096, .bf16⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_cst : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== OLn.lean ====
abbrev S8192x1024 : Shape := ⟨2, ![8192, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 9
  | .vmem => 13
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OLnReferenceIdeal.lean ====
abbrev S8192x1024 : Shape := ⟨2, ![8192, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 77
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1024, .f32⟩
  | .hbm, ⟨8, _⟩ => ⟨S1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x1024, .f32⟩
  | .hbm, ⟨31, _⟩ => ⟨S8192x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S1024x1024, .f32⟩
  | .hbm, ⟨43, _⟩ => ⟨S8192x1024, .f32⟩
  | .hbm, ⟨44, _⟩ => ⟨S8192x1024, .f32⟩
  | .hbm, ⟨45, _⟩ => ⟨S1024, .f32⟩
  | .hbm, ⟨46, _⟩ => ⟨S1024, .f32⟩
  | .hbm, ⟨47, _⟩ => ⟨S_, .f32⟩
  | .hbm, ⟨48, _⟩ => ⟨S8192, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S8192x1, .f32⟩
  | .hbm, ⟨68, _⟩ => ⟨S8192x1024, .f32⟩
  | .hbm, ⟨69, _⟩ => ⟨S8192x1024, .f32⟩
  | .hbm, ⟨70, _⟩ => ⟨S1x1024, .f32⟩
  | .hbm, ⟨71, _⟩ => ⟨S8192x1024, .f32⟩
  | .hbm, ⟨72, _⟩ => ⟨S8192x1024, .f32⟩
  | .hbm, ⟨73, _⟩ => ⟨S1x1024, .f32⟩
  | .hbm, ⟨74, _⟩ => ⟨S8192x1024, .f32⟩
  | .hbm, ⟨75, _⟩ => ⟨S8192x1024, .f32⟩
  | .hbm, ⟨76, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩

abbrev nD : Nat := 1
abbrev τ : Topo := Topo.v7x

variable {F : FTy → Type} [FloatOps F]
-- ==== Ff2Ln.lean ====
abbrev S8192x4096 : Shape := ⟨2, ![8192, 4096]⟩
abbrev S4096x1024 : Shape := ⟨2, ![4096, 1024]⟩
abbrev S8192x1024 : Shape := ⟨2, ![8192, 1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S8192x1024, .bf16⟩
  | .local _ .vmem, ⟨0, _⟩ => ⟨S512x4096, .bf16⟩
  | .local _ .vmem, ⟨1, _⟩ => ⟨S512x4096, .bf16⟩
  | .local _ .vmem, ⟨2, _⟩ => ⟨S512x1024, .f32⟩
  | .local _ .vmem, ⟨3, _⟩ => ⟨S512x1024, .f32⟩
  | .local _ .vmem, ⟨4, _⟩ => ⟨S4096x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Ff2LnReferenceIdeal.lean ====
abbrev S8192x4096 : Shape := ⟨2, ![8192, 4096]⟩
abbrev S4096x1024 : Shape := ⟨2, ![4096, 1024]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 77
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1024, .f32⟩
  | .hbm, ⟨8, _⟩ => ⟨S1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x1024, .f32⟩
  | .hbm, ⟨31, _⟩ => ⟨S8192x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S8192x4096, .f32⟩
  | .hbm, ⟨42, _⟩ => ⟨S4096x1024, .f32⟩
  | .hbm, ⟨43, _⟩ => ⟨S8192x1024, .f32⟩
  | .hbm, ⟨44, _⟩ => ⟨S8192x1024, .f32⟩
  | .hbm, ⟨45, _⟩ => ⟨S1024, .f32⟩
  | .hbm, ⟨46, _⟩ => ⟨S1024, .f32⟩
  | .hbm, ⟨47, _⟩ => ⟨S_, .f32⟩
  | .hbm, ⟨48, _⟩ => ⟨S8192, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S8192x1, .f32⟩
  | .hbm, ⟨68, _⟩ => ⟨S8192x1024, .f32⟩
  | .hbm, ⟨69, _⟩ => ⟨S8192x1024, .f32⟩
  | .hbm, ⟨70, _⟩ => ⟨S1x1024, .f32⟩
  | .hbm, ⟨71, _⟩ => ⟨S8192x1024, .f32⟩
  | .hbm, ⟨72, _⟩ => ⟨S8192x1024, .f32⟩
  | .hbm, ⟨73, _⟩ => ⟨S1x1024, .f32⟩
  | .hbm, ⟨74, _⟩ => ⟨S8192x1024, .f32⟩
  | .hbm, ⟨75, _⟩ => ⟨S8192x1024, .f32⟩
  | .hbm, ⟨76, _⟩ => ⟨S8192x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩

abbrev nD : Nat := 1
abbrev τ : Topo := Topo.v7x

variable {F : FTy → Type} [FloatOps F]
-- ==== OutLn.lean ====
abbrev S8192x384 : Shape := ⟨2, ![8192, 384]⟩
abbrev S8192x256 : Shape := ⟨2, ![8192, 256]⟩
abbrev S1024x1024 : Shape := ⟨2, ![1024, 1024]⟩
abbrev S8192x1024 : Shape := ⟨2, ![8192, 1024]⟩
abbrev S1x1024 : Shape := ⟨2, ![1, 1024]⟩
abbrev S1024x384 : Shape := ⟨2, ![1024, 384]⟩
abbrev S1024x256 : Shape := ⟨2, ![1024, 256]⟩
abbrev S1024 : Shape := ⟨1, ![1024]⟩
abbrev S1024x1 : Shape := ⟨2, ![1024, 1]⟩
abbrev S384x1024 : Shape := ⟨2, ![384, 1024]⟩
abbrev S256x1024 : Shape := ⟨2, ![256, 1024]⟩

abbrev nBuf : Space → Nat
  | .hbm => 11
  | .vmem => 17
  | .smem => 0
  | _ => 0

abbrev bufTy : (tb : Table) → Fin (tcTables nBuf tb) → BufTy
  | .hbm, ⟨0, _⟩ => ⟨S8192x384, .bf16⟩
  | .hbm, ⟨1, _⟩ => ⟨S8192x256, .bf16⟩
  | .hbm, ⟨2, _⟩ => ⟨S8192x384, .bf16⟩
  | .hbm, ⟨3, _⟩ => ⟨S1024x1024, .bf16⟩
  | .hbm, ⟨4, _⟩ => ⟨S8192x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S8192x1024, .f32⟩
  | .hbm, ⟨10, _⟩ => ⟨S8192x1024, .bf16⟩
  | .local _ .vmem, ⟨0, _⟩ => ⟨S1024x384, .bf16⟩
  | .local _ .vmem, ⟨1, _⟩ => ⟨S1024x384, .bf16⟩
  | .local _ .vmem, ⟨2, _⟩ => ⟨S1024x256, .bf16⟩
  | .local _ .vmem, ⟨3, _⟩ => ⟨S1024x256, .bf16⟩
  | .local _ .vmem, ⟨4, _⟩ => ⟨S1024x384, .bf16⟩
  | .local _ .vmem, ⟨5, _⟩ => ⟨S1024x384, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .bf16⟩
  | .local _ .vmem, ⟨16, _⟩ => ⟨S1024x1024, .bf16⟩
  | _, _ => ⟨S8192x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== OutLnReferenceIdeal.lean ====
abbrev S8192x384 : Shape := ⟨2, ![8192, 384]⟩
abbrev S8192x256 : Shape := ⟨2, ![8192, 256]⟩
abbrev S1024x1024 : Shape := ⟨2, ![1024, 1024]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 80
  | .vmem => 0
  | .smem => 0
  | _ => 0

abbrev bufTy : (tb : Table) → Fin (tcTables nBuf tb) → BufTy
  | .hbm, ⟨0, _⟩ => ⟨S8192x384, .bf16⟩
  | .hbm, ⟨1, _⟩ => ⟨S8192x256, .bf16⟩
  | .hbm, ⟨2, _⟩ => ⟨S8192x384, .bf16⟩
  | .hbm, ⟨3, _⟩ => ⟨S1024x1024, .bf16⟩
  | .hbm, ⟨4, _⟩ => ⟨S8192x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S8192x1024, .bf16⟩
  | .hbm, ⟨44, _⟩ => ⟨S8192x1024, .f32⟩
  | .hbm, ⟨45, _⟩ => ⟨S1024x1024, .f32⟩
  | .hbm, ⟨46, _⟩ => ⟨S8192x1024, .f32⟩
  | .hbm, ⟨47, _⟩ => ⟨S8192x1024, .f32⟩
  | .hbm, ⟨48, _⟩ => ⟨S1024, .f32⟩
  | .hbm, ⟨49, _⟩ => ⟨S1024, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8192, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S8192x1024, .f32⟩
  | .hbm, ⟨66, _⟩ => ⟨S8192x1024, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S8192x1, .f32⟩
  | .hbm, ⟨71, _⟩ => ⟨S8192x1024, .f32⟩
  | .hbm, ⟨72, _⟩ => ⟨S8192x1024, .f32⟩
  | .hbm, ⟨73, _⟩ => ⟨S1x1024, .f32⟩
  | .hbm, ⟨74, _⟩ => ⟨S8192x1024, .f32⟩
  | .hbm, ⟨75, _⟩ => ⟨S8192x1024, .f32⟩
  | .hbm, ⟨76, _⟩ => ⟨S1x1024, .f32⟩
  | .hbm, ⟨77, _⟩ => ⟨S8192x1024, .f32⟩
  | .hbm, ⟨78, _⟩ => ⟨S8192x1024, .f32⟩
  | .hbm, ⟨79, _⟩ => ⟨S8192x1024, .bf16⟩
  | _, _ => ⟨S8192x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_7 : Ref sig .tc := ⟨.hbm, 59, rfl⟩
abbrev main_v42 : Ref sig .tc := ⟨.hbm, 60, rfl⟩
abbrev main_v43 : Ref sig .tc := ⟨.hbm, 61, rfl⟩
abbrev main_cst_8 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_9 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩

abbrev nD : Nat := 1
abbrev τ : Topo := Topo.v7x

variable {F : FTy → Type} [FloatOps F]
-- ==== OutLn0.lean ====
abbrev S8192x384 : Shape := ⟨2, ![8192, 384]⟩
abbrev S8192x256 : Shape := ⟨2, ![8192, 256]⟩
abbrev S1024x1024 : Shape := ⟨2, ![1024, 1024]⟩
abbrev S8192x1024 : Shape := ⟨2, ![8192, 1024]⟩
abbrev S1x1024 : Shape := ⟨2, ![1, 1024]⟩
abbrev S1024x384 : Shape := ⟨2, ![1024, 384]⟩
abbrev S1024x256 : Shape := ⟨2, ![1024, 256]⟩
abbrev S384x1024 : Shape := ⟨2, ![384, 1024]⟩
abbrev S256x1024 : Shape := ⟨2, ![256, 1024]⟩
abbrev S1024 : Shape := ⟨1, ![1024]⟩
abbrev S1024x1 : Shape := ⟨2, ![1024, 1]⟩

abbrev nBuf : Space → Nat
  | .hbm => 9
  | .vmem => 15
  | .smem => 0
  | _ => 0

abbrev bufTy : (tb : Table) → Fin (tcTables nBuf tb) → BufTy
  | .hbm, ⟨0, _⟩ => ⟨S8192x384, .bf16⟩
  | .hbm, ⟨1, _⟩ => ⟨S8192x256, .bf16⟩
  | .hbm, ⟨2, _⟩ => ⟨S8192x384, .bf16⟩
  | .hbm, ⟨3, _⟩ => ⟨S1024x1024, .bf16⟩
  | .hbm, ⟨4, _⟩ => ⟨S8192x1024, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S8192x1024, .bf16⟩
  | .local _ .vmem, ⟨0, _⟩ => ⟨S1024x384, .bf16⟩
  | .local _ .vmem, ⟨1, _⟩ => ⟨S1024x384, .bf16⟩
  | .local _ .vmem, ⟨2, _⟩ => ⟨S1024x256, .bf16⟩
  | .local _ .vmem, ⟨3, _⟩ => ⟨S1024x256, .bf16⟩
  | .local _ .vmem, ⟨4, _⟩ => ⟨S1024x384, .bf16⟩
  | .local _ .vmem, ⟨5, _⟩ => ⟨S1024x384, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .bf16⟩
  | .local _ .vmem, ⟨14, _⟩ => ⟨S1024x1024, .bf16⟩
  | _, _ => ⟨S8192x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutLn0ReferenceIdeal.lean ====
abbrev S8192x384 : Shape := ⟨2, ![8192, 384]⟩
abbrev S8192x256 : Shape := ⟨2, ![8192, 256]⟩
abbrev S1024x1024 : Shape := ⟨2, ![1024, 1024]⟩
abbrev S8192x1024 : Shape := ⟨2, ![8192, 1024]⟩
abbrev S1x1024 : Shape := ⟨2, ![1, 1024]⟩
abbrev S_ : Shape := ⟨0, ![]⟩
abbrev S1024 : Shape := ⟨1, ![1024]⟩
abbrev S8192 : Shape := ⟨1, ![8192]⟩
abbrev S8192x1 : Shape := ⟨2, ![8192, 1]⟩

abbrev nBuf : Space → Nat
  | .hbm => 47
  | .vmem => 0
  | .smem => 0
  | _ => 0

abbrev bufTy : (tb : Table) → Fin (tcTables nBuf tb) → BufTy
  | .hbm, ⟨0, _⟩ => ⟨S8192x384, .bf16⟩
  | .hbm, ⟨1, _⟩ => ⟨S8192x256, .bf16⟩
  | .hbm, ⟨2, _⟩ => ⟨S8192x384, .bf16⟩
  | .hbm, ⟨3, _⟩ => ⟨S1024x1024, .bf16⟩
  | .hbm, ⟨4, _⟩ => ⟨S8192x1024, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S8192x1024, .bf16⟩
  | .hbm, ⟨11, _⟩ => ⟨S8192x1024, .f32⟩
  | .hbm, ⟨12, _⟩ => ⟨S1024x1024, .f32⟩
  | .hbm, ⟨13, _⟩ => ⟨S8192x1024, .f32⟩
  | .hbm, ⟨14, _⟩ => ⟨S8192x1024, .f32⟩
  | .hbm, ⟨15, _⟩ => ⟨S1024, .f32⟩
  | .hbm, ⟨16, _⟩ => ⟨S1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S1x1024, .f32⟩
  | .hbm, ⟨44, _⟩ => ⟨S8192x1024, .f32⟩
  | .hbm, ⟨45, _⟩ => ⟨S8192x1024, .f32⟩
  | .hbm, ⟨46, _⟩ => ⟨S8192x1024, .bf16⟩
  | _, _ => ⟨S8192x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== AttFwd.lean ====
abbrev S8192x1024 : Shape := ⟨2, ![8192, 1024]⟩
abbrev S1024x2048 : Shape := ⟨2, ![1024, 2048]⟩
abbrev S2048x256 : Shape := ⟨2, ![2048, 256]⟩
abbrev S256x256 : Shape := ⟨2, ![256, 256]⟩
abbrev S2048 : Shape := ⟨1, ![2048]⟩
abbrev S2048x1 : Shape := ⟨2, ![2048, 1]⟩

abbrev nBuf : Space → Nat
  | .hbm => 3
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .bf16⟩
  | .local _ .vmem, ⟨0, _⟩ => ⟨S2048x256, .bf16⟩
  | .local _ .vmem, ⟨1, _⟩ => ⟨S2048x256, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S2048x256, .bf16⟩
  | .local _ .vmem, ⟨7, _⟩ => ⟨S2048x256, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttFwdReferenceIdeal.lean ====
abbrev S8192x1024 : Shape := ⟨2, ![8192, 1024]⟩
abbrev S1024x2048 : Shape := ⟨2, ![1024, 2048]⟩
abbrev S1024x1024 : Shape := ⟨2, ![1024, 1024]⟩
abbrev S4x2048x4x256 : Shape := ⟨4, ![4, 2048, 4, 256]⟩
abbrev S4x256x4x256 : Shape := ⟨4, ![4, 256, 4, 256]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x256x2048 : Shape := ⟨4, ![4, 4, 256, 2048]⟩

abbrev nBuf : Space → Nat
  | .hbm => 34
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S1024x1024, .bf16⟩
  | .hbm, ⟨3, _⟩ => ⟨S1024x1024, .bf16⟩
  | .hbm, ⟨4, _⟩ => ⟨S4x2048x4x256, .bf16⟩
  | .hbm, ⟨5, _⟩ => ⟨S4x256x4x256, .bf16⟩
  | .hbm, ⟨6, _⟩ => ⟨S4x256x4x256, .bf16⟩
  | .hbm, ⟨7, _⟩ => ⟨S4x2048x4x256, .f32⟩
  | .hbm, ⟨8, _⟩ => ⟨S4x256x4x256, .f32⟩
  | .hbm, ⟨9, _⟩ => ⟨S4x4x2048x256, .f32⟩
  | .hbm, ⟨10, _⟩ => ⟨S_, .f32⟩
  | .hbm, ⟨11, _⟩ => ⟨S4x4x2048x256, .f32⟩
  | .hbm, ⟨12, _⟩ => ⟨S4x4x2048x256, .f32⟩
  | .hbm, ⟨13, _⟩ => ⟨S_, .f32⟩
  | .hbm, ⟨14, _⟩ => ⟨S4x4x2048, .f32⟩
  | .hbm, ⟨15, _⟩ => ⟨S_, .f32⟩
  | .hbm, ⟨16, _⟩ => ⟨S4x4x2048, .f32⟩
  | .hbm, ⟨17, _⟩ => ⟨S4x4x2048, .f32⟩
  | .hbm, ⟨18, _⟩ => ⟨S4x4x2048x1, .f32⟩
  | .hbm, ⟨19, _⟩ => ⟨S4x4x2048x256, .f32⟩
  | .hbm, ⟨20, _⟩ => ⟨S4x4x2048x256, .f32⟩
  | .hbm, ⟨21, _⟩ => ⟨S4x4x2048x256, .f32⟩
  | .hbm, ⟨22, _⟩ => ⟨S_, .f32⟩
  | .hbm, ⟨23, _⟩ => ⟨S4x4x2048, .f32⟩
  | .hbm, ⟨24, _⟩ => ⟨S4x4x2048x1, .f32⟩
  | .hbm, ⟨25, _⟩ => ⟨S4x4x2048x256, .f32⟩
  | .hbm, ⟨26, _⟩ => ⟨S4x4x2048x256, .f32⟩
  | .hbm, ⟨27, _⟩ => ⟨S4x4x2048x256, .bf16⟩
  | .hbm, ⟨28, _⟩ => ⟨S4x4x2048x256, .f32⟩
  | .hbm, ⟨29, _⟩ => ⟨S4x256x4x256, .f32⟩
  | .hbm, ⟨30, _⟩ => ⟨S4x4x256x2048, .f32⟩
  | .hbm, ⟨31, _⟩ => ⟨S4x2048x4x256, .f32⟩
  | .hbm, ⟨32, _⟩ => ⟨S4x2048x4x256, .bf16⟩
  | .hbm, ⟨33, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩

abbrev nD : Nat := 1
abbrev τ : Topo := Topo.v7x

variable {F : FTy → Type} [FloatOps F]
-- ==== MixCBwd.lean ====
abbrev S8192x384 : Shape := ⟨2, ![8192, 384]⟩
abbrev S3x384 : Shape := ⟨2, ![3, 384]⟩
abbrev S1024x384 : Shape := ⟨2, ![1024, 384]⟩
abbrev S8x384 : Shape := ⟨2, ![8, 384]⟩
abbrev S1032x384 : Shape := ⟨2, ![1032, 384]⟩
abbrev S8x1032x384 : Shape := ⟨3, ![8, 1032, 384]⟩
abbrev S3x8x384 : Shape := ⟨3, ![3, 8, 384]⟩
abbrev S64x384 : Shape := ⟨2, ![64, 384]⟩
abbrev S1x1024x384 : Shape := ⟨3, ![1, 1024, 384]⟩
abbrev S1x64x384 : Shape := ⟨3, ![1, 64, 384]⟩
abbrev S1x8x384 : Shape := ⟨3, ![1, 8, 384]⟩
abbrev S1x384 : Shape := ⟨2, ![1, 384]⟩
abbrev S384 : Shape := ⟨1, ![384]⟩

abbrev nBuf : Space → Nat
  | .hbm => 9
  | .vmem => 29
  | .smem => 0
  | _ => 0

abbrev bufTy : (tb : Table) → Fin (tcTables nBuf tb) → BufTy
  | .hbm, ⟨0, _⟩ => ⟨S8192x384, .f32⟩
  | .hbm, ⟨1, _⟩ => ⟨S8192x384, .f32⟩
  | .hbm, ⟨2, _⟩ => ⟨S8192x384, .f32⟩
  | .hbm, ⟨3, _⟩ => ⟨S8192x384, .f32⟩
  | .hbm, ⟨4, _⟩ => ⟨S3x384, .f32⟩
  | .hbm, ⟨5, _⟩ => ⟨S8192x384, .bf16⟩
  | .hbm, ⟨6, _⟩ => ⟨S8192x384, .bf16⟩
  | .hbm, ⟨7, _⟩ => ⟨S8192x384, .bf16⟩
  | .hbm, ⟨8, _⟩ => ⟨S3x384, .f32⟩
  | .local _ .vmem, ⟨0, _⟩ => ⟨S1024x384, .f32⟩
  | .local _ .vmem, ⟨1, _⟩ => ⟨S1024x384, .f32⟩
  | .local _ .vmem, ⟨2, _⟩ => ⟨S1024x384, .f32⟩
  | .local _ .vmem, ⟨3, _⟩ => ⟨S1024x384, .f32⟩
  | .local _ .vmem, ⟨4, _⟩ => ⟨S1024x384, .f32⟩
  | .local _ .vmem, ⟨5, _⟩ => ⟨S1024x384, .f32⟩
  | .local _ .vmem, ⟨6, _⟩ => ⟨S1024x384, .f32⟩
  | .local _ .vmem, ⟨7, _⟩ => ⟨S1024x384, .f32⟩
  | .local _ .vmem, ⟨8, _⟩ => ⟨S8x384, .f32⟩
  | .local _ .vmem, ⟨9, _⟩ => ⟨S8x384, .f32⟩
  | .local _ .vmem, ⟨10, _⟩ => ⟨S8x384, .f32⟩
  | .local _ .vmem, ⟨11, _⟩ => ⟨S8x384, .f32⟩
  | .local _ .vmem, ⟨12, _⟩ => ⟨S8x384, .f32⟩
  | .local _ .vmem, ⟨13, _⟩ => ⟨S8x384, .f32⟩
  | .local _ .vmem, ⟨14, _⟩ => ⟨S8x384, .f32⟩
  | .local _ .vmem, ⟨15, _⟩ => ⟨S8x384, .f32⟩
  | .local _ .vmem, ⟨16, _⟩ => ⟨S3x384, .f32⟩
  | .local _ .vmem, ⟨17, _⟩ => ⟨S1024x384, .bf16⟩
  | .local _ .vmem, ⟨18, _⟩ => ⟨S1024x384, .bf16⟩
  | .local _ .vmem, ⟨19, _⟩ => ⟨S1024x384, .bf16⟩
  | .local _ .vmem, ⟨20, _⟩ => ⟨S1024x384, .bf16⟩
  | .local _ .vmem, ⟨21, _⟩ => ⟨S1024x384, .bf16⟩
  | .local _ .vmem, ⟨22, _⟩ => ⟨S1024x384, .bf16⟩
  | .local _ .vmem, ⟨23, _⟩ => ⟨S3x384, .f32⟩
  | .local _ .vmem, ⟨24, _⟩ => ⟨S1032x384, .f32⟩
  | .local _ .vmem, ⟨25, _⟩ => ⟨S1032x384, .f32⟩
  | .local _ .vmem, ⟨26, _⟩ => ⟨S8x1032x384, .f32⟩
  | .local _ .vmem, ⟨27, _⟩ => ⟨S8x1032x384, .f32⟩
  | .local _ .vmem, ⟨28, _⟩ => ⟨S3x8x384, .f32⟩
  | _, _ => ⟨S8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg0 : BitVec 32 := BitVec.ofNat 32 (i 0).val
  let c3_i32 : BitVec 32 := 3#32
  let v2007 : BitVec 1 := Scalar.cmpi .eq arg0 c3_i32
  let arg1 : BitVec 32 := BitVec.ofNat 32 (i 1).val
  let c1_i32_1151 : BitVec 32 := 1#32
  let v2008 : BitVec 1 := Scalar.cmpi .eq arg1 c1_i32_1151
  let v2009 : BitVec 1 := Scalar.andi v2007 v2008
  let v2010 : BitVec 32 := Scalar.extui v2009
  let c0_i32_1152 : BitVec 32 := 0#32
  let v2011 : BitVec 1 := Scalar.cmpi .ne v2010 c0_i32_1152
  v2011

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c128_i32 : BitVec 32 := 128#32
  let v2 : BitVec 32 := Scalar.muli v1 c128_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c128_i32 : BitVec 32 := 128#32
  let v2 : BitVec 32 := Scalar.muli v1 c128_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c1_i32 : BitVec 32 := 1#32
  let v2 : BitVec 32 := Scalar.addi v1 c1_i32
  let c128_i32 : BitVec 32 := 128#32
  let v3 : BitVec 32 := Scalar.muli v2 c128_i32
  let c1023_i32 : BitVec 32 := 1023#32
  let v4 : BitVec 32 := Scalar.minsi v3 c1023_i32
  let c0_i32 : BitVec 32 := 0#32
  let c0_i32_0 : BitVec 32 := 0#32
  ![v4.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c1_i32 : BitVec 32 := 1#32
  let v2 : BitVec 32 := Scalar.addi v1 c1_i32
  let c128_i32 : BitVec 32 := 128#32
  let v3 : BitVec 32 := Scalar.muli v2 c128_i32
  let c1023_i32 : BitVec 32 := 1023#32
  let v4 : BitVec 32 := Scalar.minsi v3 c1023_i32
  let c0_i32 : BitVec 32 := 0#32
  let c0_i32_0 : BitVec 32 := 0#32
  ![v4.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S3x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x384 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x384 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x384 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S3x384 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== MixCBwdReferenceIdeal.lean ====
abbrev S8192x384 : Shape := ⟨2, ![8192, 384]⟩
abbrev S3x384 : Shape := ⟨2, ![3, 384]⟩
abbrev S4x2048x384 : Shape := ⟨3, ![4, 2048, 384]⟩
abbrev S_ : Shape := ⟨0, ![]⟩
abbrev S4x2x384 : Shape := ⟨3, ![4, 2, 384]⟩
abbrev S4x2050x384 : Shape := ⟨3, ![4, 2050, 384]⟩
abbrev S1x384 : Shape := ⟨2, ![1, 384]⟩
abbrev S384 : Shape := ⟨1, ![384]⟩
abbrev S1x1x384 : Shape := ⟨3, ![1, 1, 384]⟩

abbrev nBuf : Space → Nat
  | .hbm => 94
  | .vmem => 0
  | .smem => 0
  | _ => 0

abbrev bufTy : (tb : Table) → Fin (tcTables nBuf tb) → BufTy
  | .hbm, ⟨0, _⟩ => ⟨S8192x384, .f32⟩
  | .hbm, ⟨1, _⟩ => ⟨S8192x384, .f32⟩
  | .hbm, ⟨2, _⟩ => ⟨S8192x384, .f32⟩
  | .hbm, ⟨3, _⟩ => ⟨S8192x384, .f32⟩
  | .hbm, ⟨4, _⟩ => ⟨S3x384, .f32⟩
  | .hbm, ⟨5, _⟩ => ⟨S4x2048x384, .f32⟩
  | .hbm, ⟨6, _⟩ => ⟨S4x2048x384, .f32⟩
  | .hbm, ⟨7, _⟩ => ⟨S4x2048x384, .f32⟩
  | .hbm, ⟨8, _⟩ => ⟨S4x2048x384, .f32⟩
  | .hbm, ⟨9, _⟩ => ⟨S_, .f32⟩
  | .hbm, ⟨10, _⟩ => ⟨S4x2x384, .f32⟩
  | .hbm, ⟨11, _⟩ => ⟨S4x2050x384, .f32⟩
  | .hbm, ⟨12, _⟩ => ⟨S_, .f32⟩
  | .hbm, ⟨13, _⟩ => ⟨S4x2x384, .f32⟩
  | .hbm, ⟨14, _⟩ => ⟨S4x2048x384, .f32⟩
  | .hbm, ⟨15, _⟩ => ⟨S1x384, .f32⟩
  | .hbm, ⟨16, _⟩ => ⟨S384, .f32⟩
  | .hbm, ⟨17, _⟩ => ⟨S1x1x384, .f32⟩
  | .hbm, ⟨18, _⟩ => ⟨S4x2048x384, .f32⟩
  | .hbm, ⟨19, _⟩ => ⟨S4x2048x384, .f32⟩
  | .hbm, ⟨20, _⟩ => ⟨S_, .f32⟩
  | .hbm, ⟨21, _⟩ => ⟨S4x2048x384, .f32⟩
  | .hbm, ⟨22, _⟩ => ⟨S4x2048x384, .f32⟩
  | .hbm, ⟨23, _⟩ => ⟨S4x2048x384, .f32⟩
  | .hbm, ⟨24, _⟩ => ⟨S1x384, .f32⟩
  | .hbm, ⟨25, _⟩ => ⟨S384, .f32⟩
  | .hbm, ⟨26, _⟩ => ⟨S1x1x384, .f32⟩
  | .hbm, ⟨27, _⟩ => ⟨S4x2048x384, .f32⟩
  | .hbm, ⟨28, _⟩ => ⟨S4x2048x384, .f32⟩
  | .hbm, ⟨29, _⟩ => ⟨S4x2048x384, .f32⟩
  | .hbm, ⟨30, _⟩ => ⟨S4x2048x384, .f32⟩
  | .hbm, ⟨31, _⟩ => ⟨S1x384, .f32⟩
  | .hbm, ⟨32, _⟩ => ⟨S384, .f32⟩
  | .hbm, ⟨33, _⟩ => ⟨S1x1x384, .f32⟩
  | .hbm, ⟨34, _⟩ => ⟨S4x2048x384, .f32⟩
  | .hbm, ⟨35, _⟩ => ⟨S4x2048x384, .f32⟩
  | .hbm, ⟨36, _⟩ => ⟨S4x2048x384, .f32⟩
  | .hbm, ⟨37, _⟩ => ⟨S4x2048x384, .f32⟩
  | .hbm, ⟨38, _⟩ => ⟨S4x2048x384, .f32⟩
  | .hbm, ⟨39, _⟩ => ⟨S4x2048x384, .f32⟩
  | .hbm, ⟨40, _⟩ => ⟨S4x2048x384, .f32⟩
  | .hbm, ⟨41, _⟩ => ⟨S4x2048x384, .f32⟩
  | .hbm, ⟨42, _⟩ => ⟨S_, .f32⟩
  | .hbm, ⟨43, _⟩ => ⟨S384, .f32⟩
  | .hbm, ⟨44, _⟩ => ⟨S1x1x384, .f32⟩
  | .hbm, ⟨45, _⟩ => ⟨S4x2048x384, .f32⟩
  | .hbm, ⟨46, _⟩ => ⟨S4x2048x384, .f32⟩
  | .hbm, ⟨47, _⟩ => ⟨S_, .f32⟩
  | .hbm, ⟨48, _⟩ => ⟨S384, .f32⟩
  | .hbm, ⟨49, _⟩ => ⟨S1x384, .f32⟩
  | .hbm, ⟨50, _⟩ => ⟨S_, .f32⟩
  | .hbm, ⟨51, _⟩ => ⟨S3x384, .f32⟩
  | .hbm, ⟨52, _⟩ => ⟨S_, .f32⟩
  | .hbm, ⟨53, _⟩ => ⟨S4x2050x384, .f32⟩
  | .hbm, ⟨54, _⟩ => ⟨S4x2048x384, .f32⟩
  | .hbm, ⟨55, _⟩ => ⟨S_, .f32⟩
  | .hbm, ⟨56, _⟩ => ⟨S384, .f32⟩
  | .hbm, ⟨57, _⟩ => ⟨S1x1x384, .f32⟩
  | .hbm, ⟨58, _⟩ => ⟨S4x2048x384, .f32⟩
  | .hbm, ⟨59, _⟩ => ⟨S4x2048x384, .f32⟩
  | .hbm, ⟨60, _⟩ => ⟨S_, .f32⟩
  | .hbm, ⟨61, _⟩ => ⟨S384, .f32⟩
  | .hbm, ⟨62, _⟩ => ⟨S1x384, .f32⟩
  | .hbm, ⟨63, _⟩ => ⟨S_, .f32⟩
  | .hbm, ⟨64, _⟩ => ⟨S3x384, .f32⟩
  | .hbm, ⟨65, _⟩ => ⟨S3x384, .f32⟩
  | .hbm, ⟨66, _⟩ => ⟨S_, .f32⟩
  | .hbm, ⟨67, _⟩ => ⟨S4x2050x384, .f32⟩
  | .hbm, ⟨68, _⟩ => ⟨S4x2050x384, .f32⟩
  | .hbm, ⟨69, _⟩ => ⟨S4x2048x384, .f32⟩
  | .hbm, ⟨70, _⟩ => ⟨S_, .f32⟩
  | .hbm, ⟨71, _⟩ => ⟨S384, .f32⟩
  | .hbm, ⟨72, _⟩ => ⟨S1x1x384, .f32⟩
  | .hbm, ⟨73, _⟩ => ⟨S4x2048x384, .f32⟩
  | .hbm, ⟨74, _⟩ => ⟨S4x2048x384, .f32⟩
  | .hbm, ⟨75, _⟩ => ⟨S_, .f32⟩
  | .hbm, ⟨76, _⟩ => ⟨S384, .f32⟩
  | .hbm, ⟨77, _⟩ => ⟨S1x384, .f32⟩
  | .hbm, ⟨78, _⟩ => ⟨S_, .f32⟩
  | .hbm, ⟨79, _⟩ => ⟨S3x384, .f32⟩
  | .hbm, ⟨80, _⟩ => ⟨S3x384, .f32⟩
  | .hbm, ⟨81, _⟩ => ⟨S_, .f32⟩
  | .hbm, ⟨82, _⟩ => ⟨S4x2050x384, .f32⟩
  | .hbm, ⟨83, _⟩ => ⟨S4x2050x384, .f32⟩
  | .hbm, ⟨84, _⟩ => ⟨S4x2x384, .f32⟩
  | .hbm, ⟨85, _⟩ => ⟨S4x2048x384, .f32⟩
  | .hbm, ⟨86, _⟩ => ⟨S4x2048x384, .f32⟩
  | .hbm, ⟨87, _⟩ => ⟨S4x2048x384, .f32⟩
  | .hbm, ⟨88, _⟩ => ⟨S8192x384, .f32⟩
  | .hbm, ⟨89, _⟩ => ⟨S8192x384, .bf16⟩
  | .hbm, ⟨90, _⟩ => ⟨S8192x384, .f32⟩
  | .hbm, ⟨91, _⟩ => ⟨S8192x384, .bf16⟩
  | .hbm, ⟨92, _⟩ => ⟨S8192x384, .f32⟩
  | .hbm, ⟨93, _⟩ => ⟨S8192x384, .bf16⟩
  | _, _ => ⟨S8192x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_2 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_3 : Ref sig .tc := ⟨.hbm, 47, rfl⟩
abbrev main_v38 : Ref sig .tc := ⟨.hbm, 48, rfl⟩
abbrev main_v39 : Ref sig .tc := ⟨.hbm, 49, rfl⟩
abbrev main_cst_4 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_v42 : Ref sig .tc := ⟨.hbm, 54, rfl⟩
abbrev main_cst_6 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_7 : Ref sig .tc := ⟨.hbm, 60, rfl⟩
abbrev main_v47 : Ref sig .tc := ⟨.hbm, 61, rfl⟩
abbrev main_v48 : Ref sig .tc := ⟨.hbm, 62, rfl⟩
abbrev main_cst_8 : Ref sig .tc := ⟨.hbm, 63, rfl⟩
abbrev main_v49 : Ref sig .tc := ⟨.hbm, 64, rfl⟩
abbrev main_v50 : Ref sig .tc := ⟨.hbm, 65, rfl⟩
abbrev main_cst_9 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_10 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_11 : Ref sig .tc := ⟨.hbm, 75, rfl⟩
abbrev main_v58 : Ref sig .tc := ⟨.hbm, 76, rfl⟩
abbrev main_v59 : Ref sig .tc := ⟨.hbm, 77, rfl⟩
abbrev main_cst_12 : Ref sig .tc := ⟨.hbm, 78, rfl⟩
abbrev main_v60 : Ref sig .tc := ⟨.hbm, 79, rfl⟩
abbrev main_v61 : Ref sig .tc := ⟨.hbm, 80, rfl⟩
abbrev main_cst_13 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩

abbrev nD : Nat := 1
abbrev τ : Topo := Topo.v7x

variable {F : FTy → Type} [FloatOps F]
-- ==== MixCFwd.lean ====
abbrev S8192x384 : Shape := ⟨2, ![8192, 384]⟩
abbrev S3x384 : Shape := ⟨2, ![3, 384]⟩
abbrev S1024x384 : Shape := ⟨2, ![1024, 384]⟩
abbrev S8x384 : Shape := ⟨2, ![8, 384]⟩
abbrev S1032x384 : Shape := ⟨2, ![1032, 384]⟩
abbrev S8x1032x384 : Shape := ⟨3, ![8, 1032, 384]⟩
abbrev S64x384 : Shape := ⟨2, ![64, 384]⟩
abbrev S1x1024x384 : Shape := ⟨3, ![1, 1024, 384]⟩
abbrev S1x64x384 : Shape := ⟨3, ![1, 64, 384]⟩
abbrev S1x384 : Shape := ⟨2, ![1, 384]⟩

abbrev nBuf : Space → Nat
  | .hbm => 5
  | .vmem => 15
  | .smem => 0
  | _ => 0

abbrev bufTy : (tb : Table) → Fin (tcTables nBuf tb) → BufTy
  | .hbm, ⟨0, _⟩ => ⟨S8192x384, .f32⟩
  | .hbm, ⟨1, _⟩ => ⟨S8192x384, .f32⟩
  | .hbm, ⟨2, _⟩ => ⟨S8192x384, .f32⟩
  | .hbm, ⟨3, _⟩ => ⟨S3x384, .f32⟩
  | .hbm, ⟨4, _⟩ => ⟨S8192x384, .bf16⟩
  | .local _ .vmem, ⟨0, _⟩ => ⟨S1024x384, .f32⟩
  | .local _ .vmem, ⟨1, _⟩ => ⟨S1024x384, .f32⟩
  | .local _ .vmem, ⟨2, _⟩ => ⟨S1024x384, .f32⟩
  | .local _ .vmem, ⟨3, _⟩ => ⟨S1024x384, .f32⟩
  | .local _ .vmem, ⟨4, _⟩ => ⟨S1024x384, .f32⟩
  | .local _ .vmem, ⟨5, _⟩ => ⟨S1024x384, .f32⟩
  | .local _ .vmem, ⟨6, _⟩ => ⟨S8x384, .f32⟩
  | .local _ .vmem, ⟨7, _⟩ => ⟨S8x384, .f32⟩
  | .local _ .vmem, ⟨8, _⟩ => ⟨S8x384, .f32⟩
  | .local _ .vmem, ⟨9, _⟩ => ⟨S8x384, .f32⟩
  | .local _ .vmem, ⟨10, _⟩ => ⟨S3x384, .f32⟩
  | .local _ .vmem, ⟨11, _⟩ => ⟨S1024x384, .bf16⟩
  | .local _ .vmem, ⟨12, _⟩ => ⟨S1024x384, .bf16⟩
  | .local _ .vmem, ⟨13, _⟩ => ⟨S1032x384, .f32⟩
  | .local _ .vmem, ⟨14, _⟩ => ⟨S8x1032x384, .f32⟩
  | _, _ => ⟨S8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c128_i32 : BitVec 32 := 128#32
  let v2 : BitVec 32 := Scalar.muli v1 c128_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c128_i32 : BitVec 32 := 128#32
  let v2 : BitVec 32 := Scalar.muli v1 c128_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S3x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MixCFwdReferenceIdeal.lean ====
abbrev S8192x384 : Shape := ⟨2, ![8192, 384]⟩
abbrev S3x384 : Shape := ⟨2, ![3, 384]⟩
abbrev S4x2048x384 : Shape := ⟨3, ![4, 2048, 384]⟩
abbrev S_ : Shape := ⟨0, ![]⟩
abbrev S4x2x384 : Shape := ⟨3, ![4, 2, 384]⟩
abbrev S4x2050x384 : Shape := ⟨3, ![4, 2050, 384]⟩
abbrev S1x384 : Shape := ⟨2, ![1, 384]⟩
abbrev S384 : Shape := ⟨1, ![384]⟩
abbrev S1x1x384 : Shape := ⟨3, ![1, 1, 384]⟩

abbrev nBuf : Space → Nat
  | .hbm => 37
  | .vmem => 0
  | .smem => 0
  | _ => 0

abbrev bufTy : (tb : Table) → Fin (tcTables nBuf tb) → BufTy
  | .hbm, ⟨0, _⟩ => ⟨S8192x384, .f32⟩
  | .hbm, ⟨1, _⟩ => ⟨S8192x384, .f32⟩
  | .hbm, ⟨2, _⟩ => ⟨S8192x384, .f32⟩
  | .hbm, ⟨3, _⟩ => ⟨S3x384, .f32⟩
  | .hbm, ⟨4, _⟩ => ⟨S4x2048x384, .f32⟩
  | .hbm, ⟨5, _⟩ => ⟨S4x2048x384, .f32⟩
  | .hbm, ⟨6, _⟩ => ⟨S4x2048x384, .f32⟩
  | .hbm, ⟨7, _⟩ => ⟨S4x2048x384, .f32⟩
  | .hbm, ⟨8, _⟩ => ⟨S_, .f32⟩
  | .hbm, ⟨9, _⟩ => ⟨S4x2x384, .f32⟩
  | .hbm, ⟨10, _⟩ => ⟨S4x2050x384, .f32⟩
  | .hbm, ⟨11, _⟩ => ⟨S4x2048x384, .f32⟩
  | .hbm, ⟨12, _⟩ => ⟨S1x384, .f32⟩
  | .hbm, ⟨13, _⟩ => ⟨S384, .f32⟩
  | .hbm, ⟨14, _⟩ => ⟨S1x1x384, .f32⟩
  | .hbm, ⟨15, _⟩ => ⟨S4x2048x384, .f32⟩
  | .hbm, ⟨16, _⟩ => ⟨S4x2048x384, .f32⟩
  | .hbm, ⟨17, _⟩ => ⟨S_, .f32⟩
  | .hbm, ⟨18, _⟩ => ⟨S4x2048x384, .f32⟩
  | .hbm, ⟨19, _⟩ => ⟨S4x2048x384, .f32⟩
  | .hbm, ⟨20, _⟩ => ⟨S4x2048x384, .f32⟩
  | .hbm, ⟨21, _⟩ => ⟨S1x384, .f32⟩
  | .hbm, ⟨22, _⟩ => ⟨S384, .f32⟩
  | .hbm, ⟨23, _⟩ => ⟨S1x1x384, .f32⟩
  | .hbm, ⟨24, _⟩ => ⟨S4x2048x384, .f32⟩
  | .hbm, ⟨25, _⟩ => ⟨S4x2048x384, .f32⟩
  | .hbm, ⟨26, _⟩ => ⟨S4x2048x384, .f32⟩
  | .hbm, ⟨27, _⟩ => ⟨S4x2048x384, .f32⟩
  | .hbm, ⟨28, _⟩ => ⟨S1x384, .f32⟩
  | .hbm, ⟨29, _⟩ => ⟨S384, .f32⟩
  | .hbm, ⟨30, _⟩ => ⟨S1x1x384, .f32⟩
  | .hbm, ⟨31, _⟩ => ⟨S4x2048x384, .f32⟩
  | .hbm, ⟨32, _⟩ => ⟨S4x2048x384, .f32⟩
  | .hbm, ⟨33, _⟩ => ⟨S4x2048x384, .f32⟩
  | .hbm, ⟨34, _⟩ => ⟨S4x2048x384, .f32⟩
  | .hbm, ⟨35, _⟩ => ⟨S8192x384, .f32⟩
  | .hbm, ⟨36, _⟩ => ⟨S8192x384, .bf16⟩
  | _, _ => ⟨S8192x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩

abbrev nD : Nat := 1
abbrev τ : Topo := Topo.v7x

variable {F : FTy → Type} [FloatOps F]
-- ==== MixBFwd.lean ====
abbrev S8192x256 : Shape := ⟨2, ![8192, 256]⟩
abbrev S4x128x128 : Shape := ⟨3, ![4, 128, 128]⟩
abbrev S4x128 : Shape := ⟨2, ![4, 128]⟩
abbrev S1x256 : Shape := ⟨2, ![1, 256]⟩
abbrev S128x4 : Shape := ⟨2, ![128, 4]⟩
abbrev S128x4x64 : Shape := ⟨3, ![128, 4, 64]⟩
abbrev S128x256 : Shape := ⟨2, ![128, 256]⟩
abbrev S1024x256 : Shape := ⟨2, ![1024, 256]⟩
abbrev S128x128 : Shape := ⟨2, ![128, 128]⟩
abbrev S1x128x128 : Shape := ⟨3, ![1, 128, 128]⟩
abbrev S128 : Shape := ⟨1, ![128]⟩
abbrev S128x1 : Shape := ⟨2, ![128, 1]⟩

abbrev nBuf : Space → Nat
  | .hbm => 10
  | .vmem => 10
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S4x128x128, .f32⟩
  | .hbm, ⟨3, _⟩ => ⟨S4x128, .f32⟩
  | .hbm, ⟨4, _⟩ => ⟨S1x256, .f32⟩
  | .hbm, ⟨5, _⟩ => ⟨S1x256, .f32⟩
  | .hbm, ⟨6, _⟩ => ⟨S128x4, .f32⟩
  | .hbm, ⟨7, _⟩ => ⟨S128x4x64, .f32⟩
  | .hbm, ⟨8, _⟩ => ⟨S128x256, .f32⟩
  | .hbm, ⟨9, _⟩ => ⟨S8192x256, .bf16⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S4x128x128, .f32⟩
  | .local _ .vmem, ⟨5, _⟩ => ⟨S128x256, .f32⟩
  | .local _ .vmem, ⟨6, _⟩ => ⟨S1x256, .f32⟩
  | .local _ .vmem, ⟨7, _⟩ => ⟨S1x256, .f32⟩
  | .local _ .vmem, ⟨8, _⟩ => ⟨S1024x256, .bf16⟩
  | .local _ .vmem, ⟨9, _⟩ => ⟨S1024x256, .bf16⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MixBFwdReferenceIdeal.lean ====
abbrev S8192x256 : Shape := ⟨2, ![8192, 256]⟩
abbrev S4x128x128 : Shape := ⟨3, ![4, 128, 128]⟩
abbrev S4x128 : Shape := ⟨2, ![4, 128]⟩
abbrev S1x256 : Shape := ⟨2, ![1, 256]⟩
abbrev S_ : Shape := ⟨0, ![]⟩
abbrev S256 : Shape := ⟨1, ![256]⟩
abbrev S8192 : Shape := ⟨1, ![8192]⟩
abbrev S8192x1 : Shape := ⟨2, ![8192, 1]⟩
abbrev S64x128x4x64 : Shape := ⟨4, ![64, 128, 4, 64]⟩
abbrev S128x128 : Shape := ⟨2, ![128, 128]⟩
abbrev S1x128x128 : Shape := ⟨3, ![1, 128, 128]⟩
abbrev S4x64x64x128 : Shape := ⟨4, ![4, 64, 64, 128]⟩
abbrev S128x4 : Shape := ⟨2, ![128, 4]⟩
abbrev S1x128x4x1 : Shape := ⟨4, ![1, 128, 4, 1]⟩

abbrev nBuf : Space → Nat
  | .hbm => 82
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S4x128x128, .f32⟩
  | .hbm, ⟨3, _⟩ => ⟨S4x128, .f32⟩
  | .hbm, ⟨4, _⟩ => ⟨S1x256, .f32⟩
  | .hbm, ⟨5, _⟩ => ⟨S1x256, .f32⟩
  | .hbm, ⟨6, _⟩ => ⟨S_, .f32⟩
  | .hbm, ⟨7, _⟩ => ⟨S8192x256, .f32⟩
  | .hbm, ⟨8, _⟩ => ⟨S8192x256, .f32⟩
  | .hbm, ⟨9, _⟩ => ⟨S8192x256, .f32⟩
  | .hbm, ⟨10, _⟩ => ⟨S_, .f32⟩
  | .hbm, ⟨11, _⟩ => ⟨S8192x256, .f32⟩
  | .hbm, ⟨12, _⟩ => ⟨S8192x256, .f32⟩
  | .hbm, ⟨13, _⟩ => ⟨S8192x256, .f32⟩
  | .hbm, ⟨14, _⟩ => ⟨S8192x256, .f32⟩
  | .hbm, ⟨15, _⟩ => ⟨S_, .f32⟩
  | .hbm, ⟨16, _⟩ => ⟨S8192x256, .f32⟩
  | .hbm, ⟨17, _⟩ => ⟨S8192x256, .f32⟩
  | .hbm, ⟨18, _⟩ => ⟨S8192x256, .f32⟩
  | .hbm, ⟨19, _⟩ => ⟨S_, .f32⟩
  | .hbm, ⟨20, _⟩ => ⟨S8192x256, .f32⟩
  | .hbm, ⟨21, _⟩ => ⟨S8192x256, .f32⟩
  | .hbm, ⟨22, _⟩ => ⟨S8192x256, .f32⟩
  | .hbm, ⟨23, _⟩ => ⟨S8192x256, .f32⟩
  | .hbm, ⟨24, _⟩ => ⟨S256, .f32⟩
  | .hbm, ⟨25, _⟩ => ⟨S256, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x256, .f32⟩
  | .hbm, ⟨33, _⟩ => ⟨S8192x256, .f32⟩
  | .hbm, ⟨34, _⟩ => ⟨S8192x256, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x256, .f32⟩
  | .hbm, ⟨42, _⟩ => ⟨S8192x256, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1, .f32⟩
  | .hbm, ⟨47, _⟩ => ⟨S8192x256, .f32⟩
  | .hbm, ⟨48, _⟩ => ⟨S8192x256, .f32⟩
  | .hbm, ⟨49, _⟩ => ⟨S1x256, .f32⟩
  | .hbm, ⟨50, _⟩ => ⟨S8192x256, .f32⟩
  | .hbm, ⟨51, _⟩ => ⟨S8192x256, .f32⟩
  | .hbm, ⟨52, _⟩ => ⟨S1x256, .f32⟩
  | .hbm, ⟨53, _⟩ => ⟨S8192x256, .f32⟩
  | .hbm, ⟨54, _⟩ => ⟨S8192x256, .f32⟩
  | .hbm, ⟨55, _⟩ => ⟨S64x128x4x64, .f32⟩
  | .hbm, ⟨56, _⟩ => ⟨S_, .i1⟩
  | .hbm, ⟨57, _⟩ => ⟨S128x128, .i1⟩
  | .hbm, ⟨58, _⟩ => ⟨S128x128, .i32⟩
  | .hbm, ⟨59, _⟩ => ⟨S_, .i32⟩
  | .hbm, ⟨60, _⟩ => ⟨S128x128, .i32⟩
  | .hbm, ⟨61, _⟩ => ⟨S128x128, .i32⟩
  | .hbm, ⟨62, _⟩ => ⟨S128x128, .i32⟩
  | .hbm, ⟨63, _⟩ => ⟨S128x128, .i1⟩
  | .hbm, ⟨64, _⟩ => ⟨S_, .i1⟩
  | .hbm, ⟨65, _⟩ => ⟨S128x128, .i1⟩
  | .hbm, ⟨66, _⟩ => ⟨S128x128, .i1⟩
  | .hbm, ⟨67, _⟩ => ⟨S1x128x128, .i1⟩
  | .hbm, ⟨68, _⟩ => ⟨S_, .f32⟩
  | .hbm, ⟨69, _⟩ => ⟨S_, .f32⟩
  | .hbm, ⟨70, _⟩ => ⟨S4x128x128, .i1⟩
  | .hbm, ⟨71, _⟩ => ⟨S4x128x128, .f32⟩
  | .hbm, ⟨72, _⟩ => ⟨S4x128x128, .f32⟩
  | .hbm, ⟨73, _⟩ => ⟨S4x64x64x128, .f32⟩
  | .hbm, ⟨74, _⟩ => ⟨S64x128x4x64, .f32⟩
  | .hbm, ⟨75, _⟩ => ⟨S128x4, .f32⟩
  | .hbm, ⟨76, _⟩ => ⟨S1x128x4x1, .f32⟩
  | .hbm, ⟨77, _⟩ => ⟨S64x128x4x64, .f32⟩
  | .hbm, ⟨78, _⟩ => ⟨S64x128x4x64, .f32⟩
  | .hbm, ⟨79, _⟩ => ⟨S8192x256, .f32⟩
  | .hbm, ⟨80, _⟩ => ⟨S8192x256, .f32⟩
  | .hbm, ⟨81, _⟩ => ⟨S8192x256, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c : Ref sig .tc := ⟨.hbm, 56, rfl⟩
abbrev main_v41 : Ref sig .tc := ⟨.hbm, 57, rfl⟩
abbrev main_call0_v0 : Ref sig .tc := ⟨.hbm, 58, rfl⟩
abbrev main_call0_c : Ref sig .tc := ⟨.hbm, 59, rfl⟩
abbrev main_call0_v1 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_call0_c_0 : Ref sig .tc := ⟨.hbm, 64, rfl⟩
abbrev main_call0_v5 : Ref sig .tc := ⟨.hbm, 65, rfl⟩
abbrev main_v42 : Ref sig .tc := ⟨.hbm, 66, rfl⟩
abbrev main_v43 : Ref sig .tc := ⟨.hbm, 67, rfl⟩
abbrev main_cst_8 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩

abbrev nD : Nat := 1
abbrev τ : Topo := Topo.v7x

variable {F : FTy → Type} [FloatOps F]
-- ==== AdamwSquare.lean ====
abbrev S1024x1024 : Shape := ⟨2, ![1024, 1024]⟩
abbrev S512x1024 : Shape := ⟨2, ![512, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwSquareReferenceIdeal.lean ====
abbrev S1024x1024 : Shape := ⟨2, ![1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwIn.lean ====
abbrev S4096x608 : Shape := ⟨2, ![4096, 608]⟩
abbrev S512x608 : Shape := ⟨2, ![512, 608]⟩

abbrev nBuf : Space → Nat
  | .hbm => 7
  | .vmem => 14
  | .smem => 0
  | _ => 0

abbrev bufTy : (tb : Table) → Fin (tcTables nBuf tb) → BufTy
  | .hbm, ⟨0, _⟩ => ⟨S4096x608, .f32⟩
  | .hbm, ⟨1, _⟩ => ⟨S4096x608, .f32⟩
  | .hbm, ⟨2, _⟩ => ⟨S4096x608, .f32⟩
  | .hbm, ⟨3, _⟩ => ⟨S4096x608, .f32⟩
  | .hbm, ⟨4, _⟩ => ⟨S4096x608, .f32⟩
  | .hbm, ⟨5, _⟩ => ⟨S4096x608, .f32⟩
  | .hbm, ⟨6, _⟩ => ⟨S4096x608, .f32⟩
  | .local _ .vmem, ⟨0, _⟩ => ⟨S512x608, .f32⟩
  | .local _ .vmem, ⟨1, _⟩ => ⟨S512x608, .f32⟩
  | .local _ .vmem, ⟨2, _⟩ => ⟨S512x608, .f32⟩
  | .local _ .vmem, ⟨3, _⟩ => ⟨S512x608, .f32⟩
  | .local _ .vmem, ⟨4, _⟩ => ⟨S512x608, .f32⟩
  | .local _ .vmem, ⟨5, _⟩ => ⟨S512x608, .f32⟩
  | .local _ .vmem, ⟨6, _⟩ => ⟨S512x608, .f32⟩
  | .local _ .vmem, ⟨7, _⟩ => ⟨S512x608, .f32⟩
  | .local _ .vmem, ⟨8, _⟩ => ⟨S512x608, .f32⟩
  | .local _ .vmem, ⟨9, _⟩ => ⟨S512x608, .f32⟩
  | .local _ .vmem, ⟨10, _⟩ => ⟨S512x608, .f32⟩
  | .local _ .vmem, ⟨11, _⟩ => ⟨S512x608, .f32⟩
  | .local _ .vmem, ⟨12, _⟩ => ⟨S512x608, .f32⟩
  | .local _ .vmem, ⟨13, _⟩ => ⟨S512x608, .f32⟩
  | _, _ => ⟨S4096x608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x608 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x608 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x608 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x608 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x608 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x608 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x608 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwInReferenceIdeal.lean ====
abbrev S4096x608 : Shape := ⟨2, ![4096, 608]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x608, .f32⟩
  | .hbm, ⟨1, _⟩ => ⟨S4096x608, .f32⟩
  | .hbm, ⟨2, _⟩ => ⟨S4096x608, .f32⟩
  | .hbm, ⟨3, _⟩ => ⟨S4096x608, .f32⟩
  | .hbm, ⟨4, _⟩ => ⟨S_, .f32⟩
  | .hbm, ⟨5, _⟩ => ⟨S4096x608, .f32⟩
  | .hbm, ⟨6, _⟩ => ⟨S4096x608, .f32⟩
  | .hbm, ⟨7, _⟩ => ⟨S_, .f32⟩
  | .hbm, ⟨8, _⟩ => ⟨S4096x608, .f32⟩
  | .hbm, ⟨9, _⟩ => ⟨S4096x608, .f32⟩
  | .hbm, ⟨10, _⟩ => ⟨S4096x608, .f32⟩
  | .hbm, ⟨11, _⟩ => ⟨S_, .f32⟩
  | .hbm, ⟨12, _⟩ => ⟨S4096x608, .f32⟩
  | .hbm, ⟨13, _⟩ => ⟨S4096x608, .f32⟩
  | .hbm, ⟨14, _⟩ => ⟨S4096x608, .f32⟩
  | .hbm, ⟨15, _⟩ => ⟨S_, .f32⟩
  | .hbm, ⟨16, _⟩ => ⟨S4096x608, .f32⟩
  | .hbm, ⟨17, _⟩ => ⟨S4096x608, .f32⟩
  | .hbm, ⟨18, _⟩ => ⟨S4096x608, .f32⟩
  | .hbm, ⟨19, _⟩ => ⟨S_, .f32⟩
  | .hbm, ⟨20, _⟩ => ⟨S4096x608, .f32⟩
  | .hbm, ⟨21, _⟩ => ⟨S4096x608, .f32⟩
  | .hbm, ⟨22, _⟩ => ⟨S_, .f32⟩
  | .hbm, ⟨23, _⟩ => ⟨S4096x608, .f32⟩
  | .hbm, ⟨24, _⟩ => ⟨S4096x608, .f32⟩
  | .hbm, ⟨25, _⟩ => ⟨S4096x608, .f32⟩
  | .hbm, ⟨26, _⟩ => ⟨S_, .f32⟩
  | .hbm, ⟨27, _⟩ => ⟨S4096x608, .f32⟩
  | .hbm, ⟨28, _⟩ => ⟨S4096x608, .f32⟩
  | .hbm, ⟨29, _⟩ => ⟨S4096x608, .f32⟩
  | .hbm, ⟨30, _⟩ => ⟨S_, .f32⟩
  | .hbm, ⟨31, _⟩ => ⟨S4096x608, .f32⟩
  | .hbm, ⟨32, _⟩ => ⟨S4096x608, .f32⟩
  | .hbm, ⟨33, _⟩ => ⟨S4096x608, .f32⟩
  | .hbm, ⟨34, _⟩ => ⟨S_, .f32⟩
  | .hbm, ⟨35, _⟩ => ⟨S4096x608, .f32⟩
  | .hbm, ⟨36, _⟩ => ⟨S4096x608, .f32⟩
  | _, _ => ⟨S4096x608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwKv.lean ====
abbrev S4096x512 : Shape := ⟨2, ![4096, 512]⟩
abbrev S512x512 : Shape := ⟨2, ![512, 512]⟩

abbrev nBuf : Space → Nat
  | .hbm => 7
  | .vmem => 14
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwKvReferenceIdeal.lean ====
abbrev S4096x512 : Shape := ⟨2, ![4096, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S_, .f32⟩
  | .hbm, ⟨5, _⟩ => ⟨S4096x512, .f32⟩
  | .hbm, ⟨6, _⟩ => ⟨S4096x512, .f32⟩
  | .hbm, ⟨7, _⟩ => ⟨S_, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S_, .f32⟩
  | .hbm, ⟨12, _⟩ => ⟨S4096x512, .f32⟩
  | .hbm, ⟨13, _⟩ => ⟨S4096x512, .f32⟩
  | .hbm, ⟨14, _⟩ => ⟨S4096x512, .f32⟩
  | .hbm, ⟨15, _⟩ => ⟨S_, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S_, .f32⟩
  | .hbm, ⟨20, _⟩ => ⟨S4096x512, .f32⟩
  | .hbm, ⟨21, _⟩ => ⟨S4096x512, .f32⟩
  | .hbm, ⟨22, _⟩ => ⟨S_, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S_, .f32⟩
  | .hbm, ⟨27, _⟩ => ⟨S4096x512, .f32⟩
  | .hbm, ⟨28, _⟩ => ⟨S4096x512, .f32⟩
  | .hbm, ⟨29, _⟩ => ⟨S4096x512, .f32⟩
  | .hbm, ⟨30, _⟩ => ⟨S_, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S_, .f32⟩
  | .hbm, ⟨35, _⟩ => ⟨S4096x512, .f32⟩
  | .hbm, ⟨36, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwFf.lean ====
abbrev S4096x1024 : Shape := ⟨2, ![4096, 1024]⟩
abbrev S512x1024 : Shape := ⟨2, ![512, 1024]⟩

abbrev nBuf : Space → Nat
  | .hbm => 7
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwFfReferenceIdeal.lean ====
abbrev S4096x1024 : Shape := ⟨2, ![4096, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwSmall.lean ====
abbrev S320x1024 : Shape := ⟨2, ![320, 1024]⟩

abbrev nBuf : Space → Nat
  | .hbm => 7
  | .vmem => 7
  | .smem => 0
  | _ => 0

abbrev bufTy : (tb : Table) → Fin (tcTables nBuf tb) → BufTy
  | .hbm, ⟨0, _⟩ => ⟨S320x1024, .f32⟩
  | .hbm, ⟨1, _⟩ => ⟨S320x1024, .f32⟩
  | .hbm, ⟨2, _⟩ => ⟨S320x1024, .f32⟩
  | .hbm, ⟨3, _⟩ => ⟨S320x1024, .f32⟩
  | .hbm, ⟨4, _⟩ => ⟨S320x1024, .f32⟩
  | .hbm, ⟨5, _⟩ => ⟨S320x1024, .f32⟩
  | .hbm, ⟨6, _⟩ => ⟨S320x1024, .f32⟩
  | .local _ .vmem, ⟨0, _⟩ => ⟨S320x1024, .f32⟩
  | .local _ .vmem, ⟨1, _⟩ => ⟨S320x1024, .f32⟩
  | .local _ .vmem, ⟨2, _⟩ => ⟨S320x1024, .f32⟩
  | .local _ .vmem, ⟨3, _⟩ => ⟨S320x1024, .f32⟩
  | .local _ .vmem, ⟨4, _⟩ => ⟨S320x1024, .f32⟩
  | .local _ .vmem, ⟨5, _⟩ => ⟨S320x1024, .f32⟩
  | .local _ .vmem, ⟨6, _⟩ => ⟨S320x1024, .f32⟩
  | _, _ => ⟨S320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S320x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S320x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S320x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S320x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S320x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S320x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S320x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwSmallReferenceIdeal.lean ====
abbrev S320x1024 : Shape := ⟨2, ![320, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S320x1024, .f32⟩
  | .hbm, ⟨1, _⟩ => ⟨S320x1024, .f32⟩
  | .hbm, ⟨2, _⟩ => ⟨S320x1024, .f32⟩
  | .hbm, ⟨3, _⟩ => ⟨S320x1024, .f32⟩
  | .hbm, ⟨4, _⟩ => ⟨S_, .f32⟩
  | .hbm, ⟨5, _⟩ => ⟨S320x1024, .f32⟩
  | .hbm, ⟨6, _⟩ => ⟨S320x1024, .f32⟩
  | .hbm, ⟨7, _⟩ => ⟨S_, .f32⟩
  | .hbm, ⟨8, _⟩ => ⟨S320x1024, .f32⟩
  | .hbm, ⟨9, _⟩ => ⟨S320x1024, .f32⟩
  | .hbm, ⟨10, _⟩ => ⟨S320x1024, .f32⟩
  | .hbm, ⟨11, _⟩ => ⟨S_, .f32⟩
  | .hbm, ⟨12, _⟩ => ⟨S320x1024, .f32⟩
  | .hbm, ⟨13, _⟩ => ⟨S320x1024, .f32⟩
  | .hbm, ⟨14, _⟩ => ⟨S320x1024, .f32⟩
  | .hbm, ⟨15, _⟩ => ⟨S_, .f32⟩
  | .hbm, ⟨16, _⟩ => ⟨S320x1024, .f32⟩
  | .hbm, ⟨17, _⟩ => ⟨S320x1024, .f32⟩
  | .hbm, ⟨18, _⟩ => ⟨S320x1024, .f32⟩
  | .hbm, ⟨19, _⟩ => ⟨S_, .f32⟩
  | .hbm, ⟨20, _⟩ => ⟨S320x1024, .f32⟩
  | .hbm, ⟨21, _⟩ => ⟨S320x1024, .f32⟩
  | .hbm, ⟨22, _⟩ => ⟨S_, .f32⟩
  | .hbm, ⟨23, _⟩ => ⟨S320x1024, .f32⟩
  | .hbm, ⟨24, _⟩ => ⟨S320x1024, .f32⟩
  | .hbm, ⟨25, _⟩ => ⟨S320x1024, .f32⟩
  | .hbm, ⟨26, _⟩ => ⟨S_, .f32⟩
  | .hbm, ⟨27, _⟩ => ⟨S320x1024, .f32⟩
  | .hbm, ⟨28, _⟩ => ⟨S320x1024, .f32⟩
  | .hbm, ⟨29, _⟩ => ⟨S320x1024, .f32⟩
  | .hbm, ⟨30, _⟩ => ⟨S_, .f32⟩
  | .hbm, ⟨31, _⟩ => ⟨S320x1024, .f32⟩
  | .hbm, ⟨32, _⟩ => ⟨S320x1024, .f32⟩
  | .hbm, ⟨33, _⟩ => ⟨S320x1024, .f32⟩
  | .hbm, ⟨34, _⟩ => ⟨S_, .f32⟩
  | .hbm, ⟨35, _⟩ => ⟨S320x1024, .f32⟩
  | .hbm, ⟨36, _⟩ => ⟨S320x1024, .f32⟩
  | _, _ => ⟨S320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== MixBBwd.lean ====
abbrev S8192x256 : Shape := ⟨2, ![8192, 256]⟩
abbrev S4x128x128 : Shape := ⟨3, ![4, 128, 128]⟩
abbrev S4x128 : Shape := ⟨2, ![4, 128]⟩
abbrev S1x256 : Shape := ⟨2, ![1, 256]⟩
abbrev S128x4 : Shape := ⟨2, ![128, 4]⟩
abbrev S128x4x64 : Shape := ⟨3, ![128, 4, 64]⟩
abbrev S128x256 : Shape := ⟨2, ![128, 256]⟩
abbrev S4x128x1 : Shape := ⟨3, ![4, 128, 1]⟩
abbrev S1024x256 : Shape := ⟨2, ![1024, 256]⟩
abbrev S128x128 : Shape := ⟨2, ![128, 128]⟩
abbrev S1x128x128 : Shape := ⟨3, ![1, 128, 128]⟩
abbrev S128 : Shape := ⟨1, ![128]⟩
abbrev S128x1 : Shape := ⟨2, ![128, 1]⟩
abbrev S256 : Shape := ⟨1, ![256]⟩
abbrev S1x128x1 : Shape := ⟨3, ![1, 128, 1]⟩

abbrev nBuf : Space → Nat
  | .hbm => 17
  | .vmem => 20
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S4x128x128, .f32⟩
  | .hbm, ⟨4, _⟩ => ⟨S4x128, .f32⟩
  | .hbm, ⟨5, _⟩ => ⟨S1x256, .f32⟩
  | .hbm, ⟨6, _⟩ => ⟨S1x256, .f32⟩
  | .hbm, ⟨7, _⟩ => ⟨S4x128x128, .f32⟩
  | .hbm, ⟨8, _⟩ => ⟨S128x4, .f32⟩
  | .hbm, ⟨9, _⟩ => ⟨S128x4x64, .f32⟩
  | .hbm, ⟨10, _⟩ => ⟨S128x256, .f32⟩
  | .hbm, ⟨11, _⟩ => ⟨S8192x256, .bf16⟩
  | .hbm, ⟨12, _⟩ => ⟨S8192x256, .bf16⟩
  | .hbm, ⟨13, _⟩ => ⟨S4x128x128, .f32⟩
  | .hbm, ⟨14, _⟩ => ⟨S4x128x1, .f32⟩
  | .hbm, ⟨15, _⟩ => ⟨S1x256, .f32⟩
  | .hbm, ⟨16, _⟩ => ⟨S1x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S4x128x128, .f32⟩
  | .local _ .vmem, ⟨7, _⟩ => ⟨S4x128x128, .f32⟩
  | .local _ .vmem, ⟨8, _⟩ => ⟨S128x256, .f32⟩
  | .local _ .vmem, ⟨9, _⟩ => ⟨S1x256, .f32⟩
  | .local _ .vmem, ⟨10, _⟩ => ⟨S1x256, .f32⟩
  | .local _ .vmem, ⟨11, _⟩ => ⟨S1024x256, .bf16⟩
  | .local _ .vmem, ⟨12, _⟩ => ⟨S1024x256, .bf16⟩
  | .local _ .vmem, ⟨13, _⟩ => ⟨S1024x256, .bf16⟩
  | .local _ .vmem, ⟨14, _⟩ => ⟨S1024x256, .bf16⟩
  | .local _ .vmem, ⟨15, _⟩ => ⟨S4x128x128, .f32⟩
  | .local _ .vmem, ⟨16, _⟩ => ⟨S4x128x1, .f32⟩
  | .local _ .vmem, ⟨17, _⟩ => ⟨S1x256, .f32⟩
  | .local _ .vmem, ⟨18, _⟩ => ⟨S1x256, .f32⟩
  | .local _ .vmem, ⟨19, _⟩ => ⟨S128x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev main_v4_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem12_0 : DmaSem sig := 17
abbrev cc0_sem13_0 : DmaSem sig := 18

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v1989 : BitVec 1 := Scalar.cmpi .eq arg0 c7_i32
  let v1990 : BitVec 32 := Scalar.extui v1989
  let c0_i32_930 : BitVec 32 := 0#32
  let v1991 : BitVec 1 := Scalar.cmpi .ne v1990 c0_i32_930
  v1991

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S4x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x128x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== MixBBwdReferenceIdeal.lean ====
abbrev S8192x256 : Shape := ⟨2, ![8192, 256]⟩
abbrev S4x128x128 : Shape := ⟨3, ![4, 128, 128]⟩
abbrev S4x128 : Shape := ⟨2, ![4, 128]⟩
abbrev S1x256 : Shape := ⟨2, ![1, 256]⟩
abbrev S_ : Shape := ⟨0, ![]⟩
abbrev S256 : Shape := ⟨1, ![256]⟩
abbrev S8192 : Shape := ⟨1, ![8192]⟩
abbrev S8192x1 : Shape := ⟨2, ![8192, 1]⟩
abbrev S64x128x4x64 : Shape := ⟨4, ![64, 128, 4, 64]⟩
abbrev S128x128 : Shape := ⟨2, ![128, 128]⟩
abbrev S1x128x128 : Shape := ⟨3, ![1, 128, 128]⟩
abbrev S4x64x64x128 : Shape := ⟨4, ![4, 64, 64, 128]⟩
abbrev S128x4 : Shape := ⟨2, ![128, 4]⟩
abbrev S1x128x4x1 : Shape := ⟨4, ![1, 128, 4, 1]⟩
abbrev S4x128x1 : Shape := ⟨3, ![4, 128, 1]⟩

abbrev nBuf : Space → Nat
  | .hbm => 114
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S4x128x128, .f32⟩
  | .hbm, ⟨4, _⟩ => ⟨S4x128, .f32⟩
  | .hbm, ⟨5, _⟩ => ⟨S1x256, .f32⟩
  | .hbm, ⟨6, _⟩ => ⟨S1x256, .f32⟩
  | .hbm, ⟨7, _⟩ => ⟨S_, .f32⟩
  | .hbm, ⟨8, _⟩ => ⟨S8192x256, .f32⟩
  | .hbm, ⟨9, _⟩ => ⟨S8192x256, .f32⟩
  | .hbm, ⟨10, _⟩ => ⟨S8192x256, .f32⟩
  | .hbm, ⟨11, _⟩ => ⟨S_, .f32⟩
  | .hbm, ⟨12, _⟩ => ⟨S8192x256, .f32⟩
  | .hbm, ⟨13, _⟩ => ⟨S8192x256, .f32⟩
  | .hbm, ⟨14, _⟩ => ⟨S8192x256, .f32⟩
  | .hbm, ⟨15, _⟩ => ⟨S8192x256, .f32⟩
  | .hbm, ⟨16, _⟩ => ⟨S_, .f32⟩
  | .hbm, ⟨17, _⟩ => ⟨S8192x256, .f32⟩
  | .hbm, ⟨18, _⟩ => ⟨S8192x256, .f32⟩
  | .hbm, ⟨19, _⟩ => ⟨S8192x256, .f32⟩
  | .hbm, ⟨20, _⟩ => ⟨S_, .f32⟩
  | .hbm, ⟨21, _⟩ => ⟨S8192x256, .f32⟩
  | .hbm, ⟨22, _⟩ => ⟨S8192x256, .f32⟩
  | .hbm, ⟨23, _⟩ => ⟨S8192x256, .f32⟩
  | .hbm, ⟨24, _⟩ => ⟨S8192x256, .f32⟩
  | .hbm, ⟨25, _⟩ => ⟨S256, .f32⟩
  | .hbm, ⟨26, _⟩ => ⟨S256, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x256, .f32⟩
  | .hbm, ⟨34, _⟩ => ⟨S8192x256, .f32⟩
  | .hbm, ⟨35, _⟩ => ⟨S8192x256, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x256, .f32⟩
  | .hbm, ⟨43, _⟩ => ⟨S8192x256, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S8192x1, .f32⟩
  | .hbm, ⟨48, _⟩ => ⟨S8192x256, .f32⟩
  | .hbm, ⟨49, _⟩ => ⟨S8192x256, .f32⟩
  | .hbm, ⟨50, _⟩ => ⟨S1x256, .f32⟩
  | .hbm, ⟨51, _⟩ => ⟨S8192x256, .f32⟩
  | .hbm, ⟨52, _⟩ => ⟨S8192x256, .f32⟩
  | .hbm, ⟨53, _⟩ => ⟨S1x256, .f32⟩
  | .hbm, ⟨54, _⟩ => ⟨S8192x256, .f32⟩
  | .hbm, ⟨55, _⟩ => ⟨S8192x256, .f32⟩
  | .hbm, ⟨56, _⟩ => ⟨S64x128x4x64, .f32⟩
  | .hbm, ⟨57, _⟩ => ⟨S_, .i1⟩
  | .hbm, ⟨58, _⟩ => ⟨S128x128, .i1⟩
  | .hbm, ⟨59, _⟩ => ⟨S128x128, .i32⟩
  | .hbm, ⟨60, _⟩ => ⟨S_, .i32⟩
  | .hbm, ⟨61, _⟩ => ⟨S128x128, .i32⟩
  | .hbm, ⟨62, _⟩ => ⟨S128x128, .i32⟩
  | .hbm, ⟨63, _⟩ => ⟨S128x128, .i32⟩
  | .hbm, ⟨64, _⟩ => ⟨S128x128, .i1⟩
  | .hbm, ⟨65, _⟩ => ⟨S_, .i1⟩
  | .hbm, ⟨66, _⟩ => ⟨S128x128, .i1⟩
  | .hbm, ⟨67, _⟩ => ⟨S128x128, .i1⟩
  | .hbm, ⟨68, _⟩ => ⟨S1x128x128, .i1⟩
  | .hbm, ⟨69, _⟩ => ⟨S_, .f32⟩
  | .hbm, ⟨70, _⟩ => ⟨S_, .f32⟩
  | .hbm, ⟨71, _⟩ => ⟨S4x128x128, .i1⟩
  | .hbm, ⟨72, _⟩ => ⟨S4x128x128, .f32⟩
  | .hbm, ⟨73, _⟩ => ⟨S4x128x128, .f32⟩
  | .hbm, ⟨74, _⟩ => ⟨S_, .f32⟩
  | .hbm, ⟨75, _⟩ => ⟨S4x128x128, .f32⟩
  | .hbm, ⟨76, _⟩ => ⟨S4x64x64x128, .f32⟩
  | .hbm, ⟨77, _⟩ => ⟨S64x128x4x64, .f32⟩
  | .hbm, ⟨78, _⟩ => ⟨S128x4, .f32⟩
  | .hbm, ⟨79, _⟩ => ⟨S1x128x4x1, .f32⟩
  | .hbm, ⟨80, _⟩ => ⟨S64x128x4x64, .f32⟩
  | .hbm, ⟨81, _⟩ => ⟨S64x128x4x64, .f32⟩
  | .hbm, ⟨82, _⟩ => ⟨S8192x256, .f32⟩
  | .hbm, ⟨83, _⟩ => ⟨S8192x256, .f32⟩
  | .hbm, ⟨84, _⟩ => ⟨S8192x256, .f32⟩
  | .hbm, ⟨85, _⟩ => ⟨S64x128x4x64, .f32⟩
  | .hbm, ⟨86, _⟩ => ⟨S_, .f32⟩
  | .hbm, ⟨87, _⟩ => ⟨S128x4, .f32⟩
  | .hbm, ⟨88, _⟩ => ⟨S1x128x4x1, .f32⟩
  | .hbm, ⟨89, _⟩ => ⟨S_, .f32⟩
  | .hbm, ⟨90, _⟩ => ⟨S128x4, .f32⟩
  | .hbm, ⟨91, _⟩ => ⟨S4x128, .f32⟩
  | .hbm, ⟨92, _⟩ => ⟨S4x64x64x128, .f32⟩
  | .hbm, ⟨93, _⟩ => ⟨S4x128x128, .f32⟩
  | .hbm, ⟨94, _⟩ => ⟨S4x64x64x128, .f32⟩
  | .hbm, ⟨95, _⟩ => ⟨S64x128x4x64, .f32⟩
  | .hbm, ⟨96, _⟩ => ⟨S_, .f32⟩
  | .hbm, ⟨97, _⟩ => ⟨S4x128x128, .f32⟩
  | .hbm, ⟨98, _⟩ => ⟨S4x128x128, .f32⟩
  | .hbm, ⟨99, _⟩ => ⟨S8192x256, .f32⟩
  | .hbm, ⟨100, _⟩ => ⟨S_, .f32⟩
  | .hbm, ⟨101, _⟩ => ⟨S256, .f32⟩
  | .hbm, ⟨102, _⟩ => ⟨S1x256, .f32⟩
  | .hbm, ⟨103, _⟩ => ⟨S_, .f32⟩
  | .hbm, ⟨104, _⟩ => ⟨S256, .f32⟩
  | .hbm, ⟨105, _⟩ => ⟨S8192x256, .f32⟩
  | .hbm, ⟨106, _⟩ => ⟨S_, .f32⟩
  | .hbm, ⟨107, _⟩ => ⟨S256, .f32⟩
  | .hbm, ⟨108, _⟩ => ⟨S1x256, .f32⟩
  | .hbm, ⟨109, _⟩ => ⟨S_, .f32⟩
  | .hbm, ⟨110, _⟩ => ⟨S256, .f32⟩
  | .hbm, ⟨111, _⟩ => ⟨S1x256, .f32⟩
  | .hbm, ⟨112, _⟩ => ⟨S1x256, .f32⟩
  | .hbm, ⟨113, _⟩ => ⟨S4x128x1, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c : Ref sig .tc := ⟨.hbm, 57, rfl⟩
abbrev main_v41 : Ref sig .tc := ⟨.hbm, 58, rfl⟩
abbrev main_call0_v0 : Ref sig .tc := ⟨.hbm, 59, rfl⟩
abbrev main_call0_c : Ref sig .tc := ⟨.hbm, 60, rfl⟩
abbrev main_call0_v1 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_call0_c_0 : Ref sig .tc := ⟨.hbm, 65, rfl⟩
abbrev main_call0_v5 : Ref sig .tc := ⟨.hbm, 66, rfl⟩
abbrev main_v42 : Ref sig .tc := ⟨.hbm, 67, rfl⟩
abbrev main_v43 : Ref sig .tc := ⟨.hbm, 68, rfl⟩
abbrev main_cst_8 : Ref sig .tc := ⟨.hbm, 69, rfl⟩
abbrev main_call1_v0 : Ref sig .tc := ⟨.hbm, 70, rfl⟩
abbrev main_v44_1 : Ref sig .tc := ⟨.hbm, 71, rfl⟩
abbrev main_call1_v2 : Ref sig .tc := ⟨.hbm, 72, rfl⟩
abbrev main_v44_0 : Ref sig .tc := ⟨.hbm, 73, rfl⟩
abbrev main_call1_cst : Ref sig .tc := ⟨.hbm, 74, rfl⟩
abbrev main_v44_2 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_9 : Ref sig .tc := ⟨.hbm, 86, rfl⟩
abbrev main_v55 : Ref sig .tc := ⟨.hbm, 87, rfl⟩
abbrev main_v56 : Ref sig .tc := ⟨.hbm, 88, rfl⟩
abbrev main_cst_10 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_call2_cst : Ref sig .tc := ⟨.hbm, 96, rfl⟩
abbrev main_call2_v0 : Ref sig .tc := ⟨.hbm, 97, rfl⟩
abbrev main_v63 : Ref sig .tc := ⟨.hbm, 98, rfl⟩
abbrev main_v64 : Ref sig .tc := ⟨.hbm, 99, rfl⟩
abbrev main_cst_11 : Ref sig .tc := ⟨.hbm, 100, rfl⟩
abbrev main_v65 : Ref sig .tc := ⟨.hbm, 101, rfl⟩
abbrev main_v66 : Ref sig .tc := ⟨.hbm, 102, rfl⟩
abbrev main_cst_12 : Ref sig .tc := ⟨.hbm, 103, rfl⟩
abbrev main_v67 : Ref sig .tc := ⟨.hbm, 104, rfl⟩
abbrev main_v68 : Ref sig .tc := ⟨.hbm, 105, rfl⟩
abbrev main_cst_13 : Ref sig .tc := ⟨.hbm, 106, rfl⟩
abbrev main_v69 : Ref sig .tc := ⟨.hbm, 107, rfl⟩
abbrev main_v70 : Ref sig .tc := ⟨.hbm, 108, rfl⟩
abbrev main_cst_14 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩

abbrev nD : Nat := 1
abbrev τ : Topo := Topo.v7x

variable {F : FTy → Type} [FloatOps F]
-- ==== Proof.SoftmaxGrad.lean ====
/-
  The mathematics of the attention gradient, row by row, over the extended reals: the softmax of a row of scores and
  the gradient the scores receive. The kernel writes the gradient of score `j` as `p j * (g j - ∑ p * g)`, with `p` the
  softmax weights; differentiating `e / ∑ e` operation by operation writes it as
  `(g j / S - ∑ g * (1 / S ^ 2) * e) * e j`. The two are equal as soon as every score is a number, whatever the
  incoming gradient `g` is (infinite entries included).
-/
module

public import Idealize.ShloMosaic.PureOps.Ideal
public import Idealize.ShloMosaic.PureOps.Ideal.Laws

@[expose] public section

noncomputable section

open Idealize.ShloMosaic

namespace RowSoftmax

/-- The factor 1/16 on the scores, as the constant both programs print. -/
def factor : EReal := Ideal.ofBits .f32 1031798784#32
/-- The value the running maximum starts from, as the constant both programs print. -/
def lowest : EReal := Ideal.ofBits .f32 4286578688#32

/-- The scores of one query against all keys. -/
def score {n d : ℕ} (q : Fin d → EReal) (k : Fin n → Fin d → EReal) (j : Fin n) : EReal := (∑ x, q x * k j x) * factor
/-- The largest score of a row. -/
def top {n : ℕ} (s : Fin n → EReal) : EReal := Finset.univ.fold max lowest s
/-- The exponential of a score less the row's largest. -/
def raised {n : ℕ} (s : Fin n → EReal) (j : Fin n) : EReal := Ideal.exp (s j - top s)
/-- The softmax weight of entry `j` of a row. -/
def weight {n : ℕ} (s : Fin n → EReal) (j : Fin n) : EReal := Ideal.div (raised s j) (∑ l, raised s l)
/-- The gradient of score `j` when the weights of the row receive the gradient `g`, scaled. -/
def slope {n : ℕ} (s g : Fin n → EReal) (j : Fin n) : EReal := weight s j * (g j - ∑ l, weight s l * g l) * factor

/-- The maximum starts from minus infinity. -/
theorem lowest_eq : lowest = ⊥ := by
  simp [lowest, Ideal.ofBits, Ideal.ieee]

/-- A number is an extended real that is neither infinity. -/
def IsNumber (x : EReal) : Prop := ∃ r : ℝ, x = (r : EReal)

/-- A sum of numbers is a number. -/
theorem sum_isNumber {ι : Type} (t : Finset ι) (f : ι → EReal) (h : ∀ i, IsNumber (f i)) : IsNumber (∑ i ∈ t, f i) := by
  classical
  choose r hr using h
  exact ⟨∑ i ∈ t, r i, by
    induction t using Finset.induction_on with
    | empty => simp
    | insert a t ha ih => rw [Finset.sum_insert ha, Finset.sum_insert ha, ih, hr, EReal.coe_add]⟩

/-- A product of numbers is a number. -/
theorem mul_isNumber {x y : EReal} (hx : IsNumber x) (hy : IsNumber y) : IsNumber (x * y) := by
  obtain ⟨a, rfl⟩ := hx
  obtain ⟨b, rfl⟩ := hy
  exact ⟨a * b, by rw [EReal.coe_mul]⟩

/-- The factor is a number. -/
theorem factor_isNumber : IsNumber factor := by
  simp [factor, Ideal.ofBits, Ideal.ieee, IsNumber]
  exact ⟨8388608 * ((2 : ℝ) ^ 27)⁻¹, by rw [EReal.coe_mul]⟩

/-- The score of a query of numbers against keys of numbers is a number. -/
theorem score_isNumber {n d : ℕ} (q : Fin d → EReal) (k : Fin n → Fin d → EReal) (hq : ∀ x, IsNumber (q x))
    (hk : ∀ j x, IsNumber (k j x)) (j : Fin n) : IsNumber (score q k j) :=
  mul_isNumber (sum_isNumber _ _ fun x => mul_isNumber (hq x) (hk j x)) factor_isNumber

/-- The largest of a nonempty row of numbers is a number. -/
theorem top_isNumber {n : ℕ} (s : Fin n → EReal) (j : Fin n) (h : ∀ i, IsNumber (s i)) : IsNumber (top s) := by
  classical
  have hlow : ∀ t : Finset (Fin n), t.fold max lowest s ≠ ⊤ := fun t => by
    induction t using Finset.induction_on with
    | empty => rw [Finset.fold_empty, lowest_eq]; exact bot_ne_top
    | insert a t ha ih =>
      rw [Finset.fold_insert ha]
      obtain ⟨r, hr⟩ := h a
      rcases max_choice (s a) (t.fold max lowest s) with e | e <;> rw [e]
      · rw [hr]; exact EReal.coe_ne_top r
      · exact ih
  have hge : s j ≤ top s := (Finset.le_fold_max (b := lowest) (f := s) (s j)).2 (.inr ⟨j, Finset.mem_univ _, le_rfl⟩)
  have hbot : top s ≠ ⊥ := fun e => by
    obtain ⟨r, hr⟩ := h j
    rw [e, hr, le_bot_iff] at hge
    exact EReal.coe_ne_bot r hge
  exact ⟨(top s).toReal, (EReal.coe_toReal (hlow _) hbot).symm⟩

/-- The exponentials of a row of numbers are positive numbers. -/
theorem raised_pos {n : ℕ} (s : Fin n → EReal) (h : ∀ i, IsNumber (s i)) (j : Fin n) : ∃ r : ℝ, 0 < r ∧ raised s j = (r : EReal) := by
  obtain ⟨t, ht⟩ := top_isNumber s j h
  obtain ⟨r, hr⟩ := h j
  exact ⟨Real.exp (r - t), Real.exp_pos _, by rw [raised, ht, hr, ← EReal.coe_sub]; rfl⟩

/-- A nonnegative number distributes over a sum of extended reals. -/
theorem mul_sum_of_nonneg {ι : Type} (t : Finset ι) (f : ι → EReal) (a : ℝ) (ha : 0 ≤ a) :
    (a : EReal) * ∑ i ∈ t, f i = ∑ i ∈ t, (a : EReal) * f i := by
  classical
  induction t using Finset.induction_on with
  | empty => simp
  | insert i t hi ih =>
    rw [Finset.sum_insert hi, Finset.sum_insert hi, ← ih]
    exact EReal.left_distrib_of_nonneg_of_ne_top (EReal.coe_nonneg.2 ha) (EReal.coe_ne_top a) _ _

/-- The derivative of `e / ∑ e`, taken operation by operation, is the softmax gradient. -/
theorem quotient_grad {n : ℕ} (s g : Fin n → EReal) (h : ∀ i, IsNumber (s i)) (j : Fin n) :
    (Ideal.div (g j) (∑ l, raised s l)
        + -(∑ l, g l * Ideal.div 1 ((∑ l, raised s l) * (∑ l, raised s l)) * raised s l)) * raised s j
      = weight s j * (g j - ∑ l, weight s l * g l) := by
  choose r hr0 hr using raised_pos s h
  have hS : (∑ l, (r l : EReal)) = ((∑ l, r l : ℝ) : EReal) := by
    have : ∀ t : Finset (Fin n), (∑ l ∈ t, (r l : EReal)) = ((∑ l ∈ t, r l : ℝ) : EReal) := fun t => by
      classical
      induction t using Finset.induction_on with
      | empty => simp
      | insert i t hi ih => rw [Finset.sum_insert hi, Finset.sum_insert hi, ih, EReal.coe_add]
    exact this _
  have hpos : 0 < ∑ l, r l := Finset.sum_pos (fun i _ => hr0 i) ⟨j, Finset.mem_univ _⟩
  simp only [weight, hr, hS]
  generalize (∑ l, r l) = S at hpos
  have hne : S ≠ 0 := hpos.ne'
  rw [← EReal.coe_mul]
  simp only [Ideal.div_coe hne, Ideal.div_coe (mul_ne_zero hne hne)]
  have ha : 0 ≤ 1 / S := by positivity
  have e1 : ∀ l, g l * (1 * ((1 / (S * S) : ℝ) : EReal)) * (r l : EReal)
      = ((1 / S : ℝ) : EReal) * ((r l : EReal) * ((1 / S : ℝ) : EReal) * g l) := fun l => by
    rw [one_mul, show (1 / (S * S) : ℝ) = 1 / S * (1 / S) by field_simp, EReal.coe_mul]
    ac_rfl
  rw [Finset.sum_congr rfl fun l _ => e1 l, ← mul_sum_of_nonneg _ _ _ ha, ← mul_neg, mul_comm (g j),
    ← EReal.left_distrib_of_nonneg_of_ne_top (EReal.coe_nonneg.2 ha) (EReal.coe_ne_top _), ← sub_eq_add_neg]
  ac_rfl

end RowSoftmax

end

end
-- ==== Proof.AttentionPayload.lean ====
/-
  The attention-gradient kernel's body read at an index: what one grid point stores, from the blocks it loads, in the
  row vocabulary of `SoftmaxGrad.lean`.
-/
module

public import proofs.«01_k».proof.Proof.Gen.KernelIdeal.Value
public import proofs.«01_k».proof.Proof.SoftmaxGrad
public import Idealize.ShloMosaic.Lib.Pointwise

@[expose] public section

set_option maxRecDepth 16384

noncomputable section

open Idealize.ShloMosaic Idealize.ShloMosaic.TcCoe Idealize.SL.Sem

namespace Cert.KernelIdeal.Attention

open Cert.KernelIdeal Cert.KernelIdeal.Gen RowSoftmax

/-- The scores of row `r` of a block of queries against a block of keys. -/
abbrev rowScores (k : FVec Ideal S256x256 .bf16) (q : FVec Ideal S2048x256 .bf16) (r : Fin 2048) : Fin 256 → EReal :=
  score (fun x => q (ix2 r x)) (fun j x => k (ix2 j x))

/-- The gradient the weights of row `r` receive: the output gradient's row against the values. -/
abbrev rowCot (v : FVec Ideal S256x256 .bf16) (d : FVec Ideal S2048x256 .bf16) (r : Fin 2048) (j : Fin 256) : EReal :=
  ∑ x : Fin 256, d (ix2 r x) * v (ix2 j x)

/-- The body's softmax block holds the softmax weights. -/
theorem weights_at (k : FVec Ideal S256x256 .bf16) (q : FVec Ideal S2048x256 .bf16) (r : Fin 2048) (l : Fin 256) :
    k0_pay4 (F := Ideal) k q (ix2 r l) = weight (rowScores k q r) l := by
  pointwise [k0_pay4]
  rfl

/-- The body's score-gradient block holds the score gradients. -/
theorem slopes_at (k v : FVec Ideal S256x256 .bf16) (q d : FVec Ideal S2048x256 .bf16) (r : Fin 2048) (l : Fin 256) :
    k0_pay5 (F := Ideal) k v q d (ix2 r l) = slope (rowScores k q r) (rowCot v d r) l := by
  pointwise [k0_pay5, weights_at]
  rfl

/-- What a point stores of the queries' gradient: the score gradients against the keys. -/
theorem queries_at (k v : FVec Ideal S256x256 .bf16) (q d : FVec Ideal S2048x256 .bf16) (r : Fin 2048) (l : Fin 256) :
    k0_pay6 (F := Ideal) k v q d (ix2 r l) = ∑ j : Fin 256, slope (rowScores k q r) (rowCot v d r) j * k (ix2 j l) := by
  pointwise [k0_pay6, slopes_at]

/-- What a point stores of the keys' gradient: the score gradients' columns against the queries. -/
theorem keys_at (k v : FVec Ideal S256x256 .bf16) (q d : FVec Ideal S2048x256 .bf16) (j l : Fin 256) :
    k0_pay1 (F := Ideal) (k0_pay7 k v q d) (ix2 j l)
      = ∑ r : Fin 2048, slope (rowScores k q r) (rowCot v d r) j * q (ix2 r l) := by
  pointwise [k0_pay1, k0_pay7, slopes_at]

/-- What a point stores of the values' gradient: the weights' columns against the output gradient. -/
theorem values_at (k : FVec Ideal S256x256 .bf16) (q d : FVec Ideal S2048x256 .bf16) (j l : Fin 256) :
    k0_pay2 (F := Ideal) k0_pay3 (k0_pay8 k q d) (ix2 j l) = ∑ r : Fin 2048, weight (rowScores k q r) j * d (ix2 r l) := by
  pointwise [k0_pay2, k0_pay3, k0_pay8, weights_at]

end Cert.KernelIdeal.Attention

end

end
-- ==== Proof.AttentionReference.lean ====
/-
  The attention gradient differentiated operation by operation, read at an index in the row vocabulary of
  `SoftmaxGrad.lean`. The composed term of each result is restated over named steps (scores, exponentials, row sums,
  the weights' incoming gradient, the scores' gradient), each step read at an index on its own.
-/
module

public import proofs.«01_k».proof.Proof.Gen.ReferenceIdeal.Run
public import proofs.«01_k».proof.Proof.SoftmaxGrad
public import Idealize.ShloMosaic.Lib.Pointwise

@[expose] public section

set_option maxRecDepth 16384

noncomputable section

open Idealize.ShloMosaic Idealize.ShloMosaic.TcCoe Idealize.SL.Sem

namespace Cert.ReferenceIdeal.Attention

open Cert.ReferenceIdeal Cert.ReferenceIdeal.Gen Cert.ReferenceIdeal.Value RowSoftmax

/-- The queries by batch, position, head. -/
def queries (q : FVec Ideal S8192x1024 .bf16) : FVec Ideal S4x2048x4x256 .f32 :=
  extf .f32 (shapeCast _ q shapeCasts_S8192x1024_S4x2048x4x256) bitsLt_bf16_f32
/-- The keys by batch, position, head. -/
def keys (kv : FVec Ideal S1024x2048 .bf16) : FVec Ideal S4x256x4x256 .f32 :=
  extf .f32 (shapeCast _ (extractStridedSlice S1024x1024 ![0, 0] kv slices_S1024x2048_S1024x1024_0_0)
    shapeCasts_S1024x1024_S4x256x4x256) bitsLt_bf16_f32
/-- The values by batch, position, head. -/
def values (kv : FVec Ideal S1024x2048 .bf16) : FVec Ideal S4x256x4x256 .f32 :=
  extf .f32 (shapeCast _ (extractStridedSlice S1024x1024 ![0, 1024] kv slices_S1024x2048_S1024x1024_0_1024)
    shapeCasts_S1024x1024_S4x256x4x256) bitsLt_bf16_f32
/-- The scaled scores. -/
def scores (q : FVec Ideal S8192x1024 .bf16) (kv : FVec Ideal S1024x2048 .bf16) : FVec Ideal S4x4x2048x256 .f32 :=
  mulf (Host.dotGeneral dot_S4x2048x4x256_S4x256x4x256_S4x4x2048x256_3_3_1_1_02_02 none (queries q) (keys kv))
    (broadcastInDim S4x4x2048x256 ![] bcast_S_S4x4x2048x256 (constant S_ .f32 0x3D800000#32))
/-- The row maxima of a tensor of scores. -/
def tops (s : FVec Ideal S4x4x2048x256 .f32) : FVec Ideal S4x4x2048 .f32 :=
  Host.reduce FloatOps.maximumf s (constant S_ .f32 0xFF800000#32) reducesTo_S4x4x2048x256_S4x4x2048_d3 h_S_
/-- The exponentials of a tensor of scores less row maxima `t`. -/
def powersOf (s : FVec Ideal S4x4x2048x256 .f32) (t : FVec Ideal S4x4x2048 .f32) : FVec Ideal S4x4x2048x256 .f32 :=
  Host.exp (subf s (broadcastInDim S4x4x2048x256 ![0, 1, 2, 3] bcast_S4x4x2048x1_S4x4x2048x256_0_1_2_3
    (broadcastInDim S4x4x2048x1 ![0, 1, 2] bcast_S4x4x2048_S4x4x2048x1_0_1_2
      (maximumf (broadcastInDim S4x4x2048 ![] bcast_S_S4x4x2048 (constant S_ .f32 0xFF800000#32)) t))))
/-- The exponentials of a tensor of scores less its row maxima. -/
def powers (s : FVec Ideal S4x4x2048x256 .f32) : FVec Ideal S4x4x2048x256 .f32 := powersOf s (tops s)
/-- The row sums of a tensor. -/
def sums (e : FVec Ideal S4x4x2048x256 .f32) : FVec Ideal S4x4x2048x1 .f32 :=
  broadcastInDim S4x4x2048x1 ![0, 1, 2] bcast_S4x4x2048_S4x4x2048x1_0_1_2
    (Host.reduceAdd e (constant S_ .f32 0x00000000#32) reducesTo_S4x4x2048x256_S4x4x2048_d3 h_S_)
/-- The gradient the weights receive from the output gradient. -/
def cotangent (kv : FVec Ideal S1024x2048 .bf16) (d : FVec Ideal S8192x1024 .bf16) : FVec Ideal S4x4x2048x256 .f32 :=
  extf .f32 (truncf .bf16 (Host.dotGeneral dot_S4x4x256x2048_S4x256x4x256_S4x4x2048x256_2_3_3_1_01_02 none
    (transpose S4x4x256x2048 [0, 2, 3, 1] (extf .f32 (shapeCast _ d shapeCasts_S8192x1024_S4x2048x4x256) bitsLt_bf16_f32)
      transposes_S4x2048x4x256_S4x4x256x2048_0_2_3_1) (values kv)) bitsLt_bf16_f32) bitsLt_bf16_f32
/-- The derivative of exponentials over their row sums, and the scale: `e` the exponentials, `s` the sums, `g` what the
    quotients receive. -/
def scoreGrad (e : FVec Ideal S4x4x2048x256 .f32) (s : FVec Ideal S4x4x2048x1 .f32) (g : FVec Ideal S4x4x2048x256 .f32) :
    FVec Ideal S4x4x2048x256 .f32 :=
  mulf (mulf (addf (Host.divf g (broadcastInDim S4x4x2048x256 ![0, 1, 2, 3] bcast_S4x4x2048x1_S4x4x2048x256_0_1_2_3 s))
      (broadcastInDim S4x4x2048x256 ![0, 1, 2] bcast_S4x4x2048_S4x4x2048x256_0_1_2
        (Host.reduceAdd (Host.negf (shapeCast S4x4x2048x1 (Host.reduceAdd (mulf (mulf g
            (broadcastInDim S4x4x2048x256 ![0, 1, 2, 3] bcast_S4x4x2048x1_S4x4x2048x256_0_1_2_3
              (Host.divf (broadcastInDim S4x4x2048x1 ![] bcast_S_S4x4x2048x1 (constant S_ .f32 0x3F800000#32)) (mulf s s)))) e)
            (constant S_ .f32 0x00000000#32) reducesTo_S4x4x2048x256_S4x4x2048_d3 h_S_) shapeCasts_S4x4x2048_S4x4x2048x1))
          (constant S_ .f32 0x00000000#32) reducesTo_S4x4x2048x1_S4x4x2048_d3 h_S_))) e)
    (broadcastInDim S4x4x2048x256 ![] bcast_S_S4x4x2048x256 (constant S_ .f32 0x3D800000#32))
/-- The scores' gradient from the arguments. -/
def slopes (q : FVec Ideal S8192x1024 .bf16) (kv : FVec Ideal S1024x2048 .bf16) (d : FVec Ideal S8192x1024 .bf16) :
    FVec Ideal S4x4x2048x256 .f32 :=
  scoreGrad (powers (scores q kv)) (sums (powers (scores q kv))) (cotangent kv d)
/-- The queries' gradient. -/
def queryGrad (q : FVec Ideal S8192x1024 .bf16) (kv : FVec Ideal S1024x2048 .bf16) (d : FVec Ideal S8192x1024 .bf16) :
    FVec Ideal S8192x1024 .bf16 :=
  shapeCast _ (truncf .bf16 (transpose S4x2048x4x256 [0, 2, 1, 3]
    (Host.dotGeneral dot_S4x4x2048x256_S4x256x4x256_S4x4x2048x256_3_1_2_3_01_02 none (slopes q kv d) (keys kv))
    transposes_S4x4x2048x256_S4x2048x4x256_0_2_1_3) bitsLt_bf16_f32) shapeCasts_S4x2048x4x256_S8192x1024
/-- The keys' gradient. -/
def keyGrad (q : FVec Ideal S8192x1024 .bf16) (kv : FVec Ideal S1024x2048 .bf16) (d : FVec Ideal S8192x1024 .bf16) :
    FVec Ideal S1024x1024 .bf16 :=
  shapeCast _ (truncf .bf16 (transpose S4x256x4x256 [0, 2, 1, 3]
    (Host.dotGeneral dot_S4x4x2048x256_S4x2048x4x256_S4x4x256x256_2_1_3_3_01_02 none (slopes q kv d) (queries q))
    transposes_S4x4x256x256_S4x256x4x256_0_2_1_3) bitsLt_bf16_f32) shapeCasts_S4x256x4x256_S1024x1024
/-- The softmax weights of a tensor of scores. -/
def weights (s : FVec Ideal S4x4x2048x256 .f32) : FVec Ideal S4x4x2048x256 .f32 :=
  extf .f32 (truncf .bf16 (Host.divf (powers s)
    (broadcastInDim S4x4x2048x256 ![0, 1, 2, 3] bcast_S4x4x2048x1_S4x4x2048x256_0_1_2_3 (sums (powers s)))) bitsLt_bf16_f32) bitsLt_bf16_f32
/-- The values' gradient. -/
def valueGrad (q : FVec Ideal S8192x1024 .bf16) (kv : FVec Ideal S1024x2048 .bf16) (d : FVec Ideal S8192x1024 .bf16) :
    FVec Ideal S1024x1024 .bf16 :=
  shapeCast _ (truncf .bf16 (transpose S4x256x4x256 [0, 3, 1, 2]
    (Host.dotGeneral dot_S4x4x256x2048_S4x4x2048x256_S4x4x256x256_3_2_2_3_01_01 none
      (transpose S4x4x256x2048 [0, 2, 3, 1] (extf .f32 (shapeCast _ d shapeCasts_S8192x1024_S4x2048x4x256) bitsLt_bf16_f32)
        transposes_S4x2048x4x256_S4x4x256x2048_0_2_3_1) (weights (scores q kv)))
    transposes_S4x4x256x256_S4x256x4x256_0_3_1_2) bitsLt_bf16_f32) shapeCasts_S4x256x4x256_S1024x1024

/-- The queries at batch `b`, position `i`, head `h`. -/
theorem queries_at (q : FVec Ideal S8192x1024 .bf16) (b : Fin 4) (i : Fin 2048) (h : Fin 4) (x : Fin 256) :
    queries q (ix4 b i h x) = q (ix2 ⟨b * 2048 + i, by omega⟩ ⟨h * 256 + x, by omega⟩) := by
  pointwise [queries]
/-- The keys at batch `b`, position `j`, head `h`. -/
theorem keys_at (kv : FVec Ideal S1024x2048 .bf16) (b : Fin 4) (j : Fin 256) (h : Fin 4) (x : Fin 256) :
    keys kv (ix4 b j h x) = kv (ix2 ⟨b * 256 + j, by omega⟩ ⟨h * 256 + x, by omega⟩) := by
  pointwise [keys]
/-- The values at batch `b`, position `j`, head `h`. -/
theorem values_at (kv : FVec Ideal S1024x2048 .bf16) (b : Fin 4) (j : Fin 256) (h : Fin 4) (x : Fin 256) :
    values kv (ix4 b j h x) = kv (ix2 ⟨b * 256 + j, by omega⟩ ⟨1024 + (h * 256 + x), by omega⟩) := by
  pointwise [values]

/-- The scores at an index. -/
theorem scores_at (q : FVec Ideal S8192x1024 .bf16) (kv : FVec Ideal S1024x2048 .bf16) (b h : Fin 4) (i : Fin 2048) (j : Fin 256) :
    scores q kv (ix4 b h i j) = score (fun x => queries q (ix4 b i h x)) (fun j x => keys kv (ix4 b j h x)) j := by
  pointwise [scores]
  rfl
/-- The row maxima at an index. -/
theorem tops_at (s : FVec Ideal S4x4x2048x256 .f32) (b h : Fin 4) (i : Fin 2048) :
    tops s (ix3 b h i) = top (fun j => s (ix4 b h i j)) := by
  pointwise [tops]
  rfl
/-- The exponentials at an index, less any row maxima. -/
theorem powersOf_at (s : FVec Ideal S4x4x2048x256 .f32) (t : FVec Ideal S4x4x2048 .f32) (b h : Fin 4) (i : Fin 2048) (j : Fin 256) :
    powersOf s t (ix4 b h i j) = Ideal.exp (s (ix4 b h i j) - max lowest (t (ix3 b h i))) := by
  pointwise [powersOf]
  rfl
/-- The exponentials at an index. -/
theorem powers_at (s : FVec Ideal S4x4x2048x256 .f32) (b h : Fin 4) (i : Fin 2048) (j : Fin 256) :
    powers s (ix4 b h i j) = raised (fun j => s (ix4 b h i j)) j := by
  rw [powers, powersOf_at, tops_at, lowest_eq, max_eq_right bot_le, raised]
/-- The row sums at an index. -/
theorem sums_at (e : FVec Ideal S4x4x2048x256 .f32) (b h : Fin 4) (i : Fin 2048) :
    sums e (ix4 b h i 0) = ∑ j : Fin 256, e (ix4 b h i j) := by
  pointwise [sums]
/-- The weights' incoming gradient at an index. -/
theorem cotangent_at (kv : FVec Ideal S1024x2048 .bf16) (d : FVec Ideal S8192x1024 .bf16) (b h : Fin 4) (i : Fin 2048) (j : Fin 256) :
    cotangent kv d (ix4 b h i j) = ∑ x : Fin 256, queries d (ix4 b i h x) * values kv (ix4 b j h x) := by
  pointwise [cotangent, queries]
/-- The derivative of the quotient at an index. -/
theorem scoreGrad_at (e : FVec Ideal S4x4x2048x256 .f32) (s : FVec Ideal S4x4x2048x1 .f32) (g : FVec Ideal S4x4x2048x256 .f32)
    (b h : Fin 4) (i : Fin 2048) (j : Fin 256) :
    scoreGrad e s g (ix4 b h i j)
      = (Ideal.div (g (ix4 b h i j)) (s (ix4 b h i 0))
          + -(∑ l : Fin 256, g (ix4 b h i l) * Ideal.div 1 (s (ix4 b h i 0) * s (ix4 b h i 0)) * e (ix4 b h i l))) * e (ix4 b h i j)
        * factor := by
  pointwise [scoreGrad]
  rw [Fin.sum_univ_one]
  rfl
/-- The weights at an index. -/
theorem weights_at (s : FVec Ideal S4x4x2048x256 .f32) (b h : Fin 4) (i : Fin 2048) (j : Fin 256) :
    weights s (ix4 b h i j) = weight (fun j => s (ix4 b h i j)) j := by
  pointwise [weights]
  rw [sums_at, powers_at, weight]
  simp only [powers_at]

/-- The reference's first result is the queries' gradient. -/
theorem out0_eq (m : (ℓ : Loc nD τ sig) → Buf (Elt Ideal) ℓ) (c : Dev nD) :
    res_out0 m c = queryGrad (m ((c.tc : Thread nD τ).loc main_arg0)) (m ((c.tc : Thread nD τ).loc main_arg1)) (m ((c.tc : Thread nD τ).loc main_arg2)) := rfl
/-- Its second result is the keys' gradient. -/
theorem out1_eq (m : (ℓ : Loc nD τ sig) → Buf (Elt Ideal) ℓ) (c : Dev nD) :
    res_out1 m c = keyGrad (m ((c.tc : Thread nD τ).loc main_arg0)) (m ((c.tc : Thread nD τ).loc main_arg1)) (m ((c.tc : Thread nD τ).loc main_arg2)) := rfl
/-- Its third result is the values' gradient. -/
theorem out2_eq (m : (ℓ : Loc nD τ sig) → Buf (Elt Ideal) ℓ) (c : Dev nD) :
    shapeCast _ (truncf .bf16 (transpose S4x256x4x256 [0, 3, 1, 2] (Host.dotGeneral dot_S4x4x256x2048_S4x4x2048x256_S4x4x256x256_3_2_2_3_01_01 none (transpose S4x4x256x2048 [0, 2, 3, 1] (extf .f32 (shapeCast _ (m ((c.tc : Thread nD τ).loc main_arg2)) shapeCasts_S8192x1024_S4x2048x4x256) bitsLt_bf16_f32) transposes_S4x2048x4x256_S4x4x256x2048_0_2_3_1) (extf .f32 (truncf .bf16 (Host.divf (Host.exp (subf (mulf (Host.dotGeneral dot_S4x2048x4x256_S4x256x4x256_S4x4x2048x256_3_3_1_1_02_02 none (extf .f32 (shapeCast _ (m ((c.tc : Thread nD τ).loc main_arg0)) shapeCasts_S8192x1024_S4x2048x4x256) bitsLt_bf16_f32) (extf .f32 (shapeCast _ (extractStridedSlice S1024x1024 ![0, 0] (m ((c.tc : Thread nD τ).loc main_arg1)) slices_S1024x2048_S1024x1024_0_0) shapeCasts_S1024x1024_S4x256x4x256) bitsLt_bf16_f32)) (broadcastInDim S4x4x2048x256 ![] bcast_S_S4x4x2048x256 (constant S_ .f32 0x3D800000#32))) (broadcastInDim S4x4x2048x256 ![0, 1, 2, 3] bcast_S4x4x2048x1_S4x4x2048x256_0_1_2_3 (broadcastInDim S4x4x2048x1 ![0, 1, 2] bcast_S4x4x2048_S4x4x2048x1_0_1_2 (maximumf (broadcastInDim S4x4x2048 ![] bcast_S_S4x4x2048 (constant S_ .f32 0xFF800000#32)) (Host.reduce FloatOps.maximumf (mulf (Host.dotGeneral dot_S4x2048x4x256_S4x256x4x256_S4x4x2048x256_3_3_1_1_02_02 none (extf .f32 (shapeCast _ (m ((c.tc : Thread nD τ).loc main_arg0)) shapeCasts_S8192x1024_S4x2048x4x256) bitsLt_bf16_f32) (extf .f32 (shapeCast _ (extractStridedSlice S1024x1024 ![0, 0] (m ((c.tc : Thread nD τ).loc main_arg1)) slices_S1024x2048_S1024x1024_0_0) shapeCasts_S1024x1024_S4x256x4x256) bitsLt_bf16_f32)) (broadcastInDim S4x4x2048x256 ![] bcast_S_S4x4x2048x256 (constant S_ .f32 0x3D800000#32))) (constant S_ .f32 0xFF800000#32) reducesTo_S4x4x2048x256_S4x4x2048_d3 h_S_)))))) (broadcastInDim S4x4x2048x256 ![0, 1, 2, 3] bcast_S4x4x2048x1_S4x4x2048x256_0_1_2_3 (broadcastInDim S4x4x2048x1 ![0, 1, 2] bcast_S4x4x2048_S4x4x2048x1_0_1_2 (Host.reduceAdd (Host.exp (subf (mulf (Host.dotGeneral dot_S4x2048x4x256_S4x256x4x256_S4x4x2048x256_3_3_1_1_02_02 none (extf .f32 (shapeCast _ (m ((c.tc : Thread nD τ).loc main_arg0)) shapeCasts_S8192x1024_S4x2048x4x256) bitsLt_bf16_f32) (extf .f32 (shapeCast _ (extractStridedSlice S1024x1024 ![0, 0] (m ((c.tc : Thread nD τ).loc main_arg1)) slices_S1024x2048_S1024x1024_0_0) shapeCasts_S1024x1024_S4x256x4x256) bitsLt_bf16_f32)) (broadcastInDim S4x4x2048x256 ![] bcast_S_S4x4x2048x256 (constant S_ .f32 0x3D800000#32))) (broadcastInDim S4x4x2048x256 ![0, 1, 2, 3] bcast_S4x4x2048x1_S4x4x2048x256_0_1_2_3 (broadcastInDim S4x4x2048x1 ![0, 1, 2] bcast_S4x4x2048_S4x4x2048x1_0_1_2 (maximumf (broadcastInDim S4x4x2048 ![] bcast_S_S4x4x2048 (constant S_ .f32 0xFF800000#32)) (Host.reduce FloatOps.maximumf (mulf (Host.dotGeneral dot_S4x2048x4x256_S4x256x4x256_S4x4x2048x256_3_3_1_1_02_02 none (extf .f32 (shapeCast _ (m ((c.tc : Thread nD τ).loc main_arg0)) shapeCasts_S8192x1024_S4x2048x4x256) bitsLt_bf16_f32) (extf .f32 (shapeCast _ (extractStridedSlice S1024x1024 ![0, 0] (m ((c.tc : Thread nD τ).loc main_arg1)) slices_S1024x2048_S1024x1024_0_0) shapeCasts_S1024x1024_S4x256x4x256) bitsLt_bf16_f32)) (broadcastInDim S4x4x2048x256 ![] bcast_S_S4x4x2048x256 (constant S_ .f32 0x3D800000#32))) (constant S_ .f32 0xFF800000#32) reducesTo_S4x4x2048x256_S4x4x2048_d3 h_S_)))))) (constant S_ .f32 0x00000000#32) reducesTo_S4x4x2048x256_S4x4x2048_d3 h_S_)))) bitsLt_bf16_f32) bitsLt_bf16_f32)) transposes_S4x4x256x256_S4x256x4x256_0_3_1_2) bitsLt_bf16_f32) shapeCasts_S4x256x4x256_S1024x1024
      = valueGrad (m ((c.tc : Thread nD τ).loc main_arg0)) (m ((c.tc : Thread nD τ).loc main_arg1)) (m ((c.tc : Thread nD τ).loc main_arg2)) := rfl

end Cert.ReferenceIdeal.Attention

end

end
-- ==== Proof.AttentionSpec.lean ====
/-
  The three results of the differentiated attention, read at batch `b`, head `h`: sums of score gradients against keys
  and queries, and of weights against the output gradient, over arguments whose queries and keys are numbers.
-/
module

public import proofs.«01_k».proof.Proof.AttentionReference

@[expose] public section

set_option maxRecDepth 16384

noncomputable section

open Idealize.ShloMosaic Idealize.ShloMosaic.TcCoe Idealize.SL.Sem

namespace Cert.ReferenceIdeal.Attention

open Cert.ReferenceIdeal Cert.ReferenceIdeal.Gen Cert.ReferenceIdeal.Value RowSoftmax

/-- The scores of query `i` of batch `b`, head `h`. -/
abbrev rowScores (q : FVec Ideal S8192x1024 .bf16) (kv : FVec Ideal S1024x2048 .bf16) (b h : Fin 4) (i : Fin 2048) : Fin 256 → EReal :=
  score (fun x => queries q (ix4 b i h x)) (fun j x => keys kv (ix4 b j h x))
/-- The gradient its weights receive. -/
abbrev rowCot (kv : FVec Ideal S1024x2048 .bf16) (d : FVec Ideal S8192x1024 .bf16) (b h : Fin 4) (i : Fin 2048) (j : Fin 256) : EReal :=
  ∑ x : Fin 256, queries d (ix4 b i h x) * values kv (ix4 b j h x)

/-- The queries and keys of the arguments are numbers. -/
structure Numbers (q : FVec Ideal S8192x1024 .bf16) (kv : FVec Ideal S1024x2048 .bf16) : Prop where
  /-- every query entry is a number -/
  query : ∀ b i h x, IsNumber (queries q (ix4 b i h x))
  /-- every key entry is a number -/
  key : ∀ b j h x, IsNumber (keys kv (ix4 b j h x))

/-- The scores' gradient at an index is the softmax gradient of its row. -/
theorem slopes_at (q : FVec Ideal S8192x1024 .bf16) (kv : FVec Ideal S1024x2048 .bf16) (d : FVec Ideal S8192x1024 .bf16)
    (hn : Numbers q kv) (b h : Fin 4) (i : Fin 2048) (j : Fin 256) :
    slopes q kv d (ix4 b h i j) = slope (rowScores q kv b h i) (rowCot kv d b h i) j := by
  rw [slopes, scoreGrad_at, sums_at]
  simp only [powers_at, cotangent_at, scores_at]
  exact congrArg (· * factor) (quotient_grad (rowScores q kv b h i) (rowCot kv d b h i)
    (score_isNumber _ _ (hn.query b i h) (fun j => hn.key b j h)) j)

/-- The queries' gradient at batch `b`, position `i`, head `h`. -/
theorem queryGrad_at (q : FVec Ideal S8192x1024 .bf16) (kv : FVec Ideal S1024x2048 .bf16) (d : FVec Ideal S8192x1024 .bf16)
    (hn : Numbers q kv) (b h : Fin 4) (i : Fin 2048) (x : Fin 256) :
    queryGrad q kv d (ix2 ⟨b * 2048 + i, by omega⟩ ⟨h * 256 + x, by omega⟩)
      = ∑ j : Fin 256, slope (rowScores q kv b h i) (rowCot kv d b h i) j * keys kv (ix4 b j h x) := by
  pointwise [queryGrad]
  exact Finset.sum_congr rfl fun j _ => congrArg (· * _) (slopes_at q kv d hn b h i j)

/-- The keys' gradient at batch `b`, position `j`, head `h`. -/
theorem keyGrad_at (q : FVec Ideal S8192x1024 .bf16) (kv : FVec Ideal S1024x2048 .bf16) (d : FVec Ideal S8192x1024 .bf16)
    (hn : Numbers q kv) (b h : Fin 4) (j x : Fin 256) :
    keyGrad q kv d (ix2 ⟨b * 256 + j, by omega⟩ ⟨h * 256 + x, by omega⟩)
      = ∑ i : Fin 2048, slope (rowScores q kv b h i) (rowCot kv d b h i) j * queries q (ix4 b i h x) := by
  pointwise [keyGrad]
  exact Finset.sum_congr rfl fun i _ => congrArg (· * _) (slopes_at q kv d hn b h i j)

/-- The values' gradient at batch `b`, position `j`, head `h`. -/
theorem valueGrad_at (q : FVec Ideal S8192x1024 .bf16) (kv : FVec Ideal S1024x2048 .bf16) (d : FVec Ideal S8192x1024 .bf16)
    (b h : Fin 4) (j x : Fin 256) :
    valueGrad q kv d (ix2 ⟨b * 256 + j, by omega⟩ ⟨h * 256 + x, by omega⟩)
      = ∑ i : Fin 2048, weight (rowScores q kv b h i) j * queries d (ix4 b i h x) := by
  pointwise [valueGrad]
  refine Finset.sum_congr rfl fun i _ => ?_
  rw [queries_at, mul_comm, weights_at]
  simp only [scores_at]

end Cert.ReferenceIdeal.Attention

end

end
-- ==== Proof.AttentionValue.lean ====
/-
  The attention-gradient kernel's three result arrays after the run: every grid point (a batch and a head) leaves its
  block of the differentiated attention's three results.
-/
module

public import proofs.«01_k».proof.Proof.AttentionPayload
public import proofs.«01_k».proof.Proof.AttentionSpec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Attention

open Cert.KernelIdeal Cert.KernelIdeal.Gen RowSoftmax

variable (m : (ℓ : Loc nD τ sig) → Buf (Elt Ideal) ℓ)

/-- Where every window's block lies at point `t`: batch `t / 4`, head `t % 4`. -/
theorem placed : ∀ t : Fin cfg0.N, (win0_0.index t = ![t.val / 4, t.val % 4] ∧ win0_1.index t = ![t.val / 4, t.val % 4]
    ∧ win0_2.index t = ![t.val / 4, 4 + t.val % 4] ∧ win0_3.index t = ![t.val / 4, t.val % 4]
    ∧ win0_4.index t = ![t.val / 4, t.val % 4] ∧ win0_5.index t = ![t.val / 4, t.val % 4]
    ∧ win0_6.index t = ![t.val / 4, t.val % 4]) ∧ t.val / 4 < 4 :=
  (by decide +kernel : ∀ t : Fin grid0.N, _)

/-- The queries argument. -/
abbrev argQ (c : Dev nD) : FVec Ideal S8192x1024 .bf16 := m (c.tc.loc main_arg0)
/-- The keys-and-values argument. -/
abbrev argKV (c : Dev nD) : FVec Ideal S1024x2048 .bf16 := m (c.tc.loc main_arg1)
/-- The output gradient argument. -/
abbrev argD (c : Dev nD) : FVec Ideal S8192x1024 .bf16 := m (c.tc.loc main_arg2)

/-- The batch of point `t`. -/
abbrev batch (t : Fin cfg0.N) : Fin 4 := ⟨t.val / 4, (placed t).2⟩
/-- The head of point `t`. -/
abbrev head (t : Fin cfg0.N) : Fin 4 := ⟨t.val % 4, Nat.mod_lt _ (by norm_num)⟩

/-- The queries block of point `t` is its batch and head of the queries. -/
theorem block0 (c : Dev nD) (t : Fin cfg0.N) (r : Fin 2048) (x : Fin 256) :
    (show FVec Ideal S2048x256 .bf16 from iblk m c 0 t) (ix2 r x) = ReferenceIdeal.Attention.queries (argQ m c) (ix4 (batch t) r (head t) x) := by
  rw [ReferenceIdeal.Attention.queries_at]
  blk_ext [iblk, V, placed t]
/-- The keys block of point `t` is its batch and head of the keys. -/
theorem block1 (c : Dev nD) (t : Fin cfg0.N) (j x : Fin 256) :
    (show FVec Ideal S256x256 .bf16 from iblk m c 1 t) (ix2 j x) = ReferenceIdeal.Attention.keys (argKV m c) (ix4 (batch t) j (head t) x) := by
  rw [ReferenceIdeal.Attention.keys_at]
  blk_ext [iblk, V, placed t]
/-- The values block of point `t` is its batch and head of the values. -/
theorem block2 (c : Dev nD) (t : Fin cfg0.N) (j x : Fin 256) :
    (show FVec Ideal S256x256 .bf16 from iblk m c 2 t) (ix2 j x) = ReferenceIdeal.Attention.values (argKV m c) (ix4 (batch t) j (head t) x) := by
  rw [ReferenceIdeal.Attention.values_at]
  blk_ext [iblk, V, placed t]
/-- The output gradient block of point `t` is its batch and head of the output gradient. -/
theorem block3 (c : Dev nD) (t : Fin cfg0.N) (r : Fin 2048) (x : Fin 256) :
    (show FVec Ideal S2048x256 .bf16 from iblk m c 3 t) (ix2 r x) = ReferenceIdeal.Attention.queries (argD m c) (ix4 (batch t) r (head t) x) := by
  rw [ReferenceIdeal.Attention.queries_at]
  blk_ext [iblk, V, placed t]

/-- The scores of a row of the point's blocks are the scores of its batch and head. -/
theorem rowScores_eq (c : Dev nD) (t : Fin cfg0.N) (r : Fin 2048) :
    rowScores (iblk m c 1 t) (iblk m c 0 t) r
      = ReferenceIdeal.Attention.rowScores (argQ m c) (argKV m c) (batch t) (head t) r :=
  congrArg₂ score (funext fun x => block0 m c t r x) (funext fun j => funext fun x => block1 m c t j x)
/-- The gradient a row of weights receives, likewise. -/
theorem rowCot_eq (c : Dev nD) (t : Fin cfg0.N) (r : Fin 2048) :
    rowCot (iblk m c 2 t) (iblk m c 3 t) r
      = ReferenceIdeal.Attention.rowCot (argKV m c) (argD m c) (batch t) (head t) r :=
  funext fun j => Finset.sum_congr rfl fun x _ => congrArg₂ (· * ·) (block3 m c t r x) (block2 m c t j x)

/-- After the run the queries' gradient array is the differentiated attention's. -/
theorem final4 (c : Dev nD) (hn : ReferenceIdeal.Attention.Numbers (argQ m c) (argKV m c)) :
    (dats m 0 c).arrAt 4 (cfgs 0).N = ReferenceIdeal.Attention.queryGrad (argQ m c) (argKV m c) (argD m c) := by
  refine (dats m 0 c).arrAt_eq_of_covers 4 _ (by decide +kernel) fun t _ y => ?_
  blk_simp
  rw [after0_4]; frame_out
  idx_vars y
  have e : (((View.whole main_v0_0).slice (win0_4.rect t)).emb (ix2 y0 y1) : S8192x1024.Idx)
      = ix2 ⟨batch t * 2048 + y0, by have := (batch t).isLt; omega⟩ ⟨head t * 256 + y1, by have := (head t).isLt; omega⟩ := by
    blk_ext [placed t]
  refine (queries_at _ _ _ _ y0 y1).trans (Eq.trans ?_
    ((congrArg _ e).trans (ReferenceIdeal.Attention.queryGrad_at _ _ _ hn (batch t) (head t) y0 y1)).symm)
  rw [rowScores_eq, rowCot_eq]
  exact Finset.sum_congr rfl fun j _ => congrArg _ (block1 m c t j y1)

/-- After the run the keys' gradient array is the differentiated attention's. -/
theorem final5 (c : Dev nD) (hn : ReferenceIdeal.Attention.Numbers (argQ m c) (argKV m c)) :
    (dats m 0 c).arrAt 5 (cfgs 0).N = ReferenceIdeal.Attention.keyGrad (argQ m c) (argKV m c) (argD m c) := by
  refine (dats m 0 c).arrAt_eq_of_covers 5 _ (by decide +kernel) fun t _ y => ?_
  blk_simp
  rw [after0_5]; frame_out
  idx_vars y
  have e : (((View.whole main_v0_1).slice (win0_5.rect t)).emb (ix2 y0 y1) : S1024x1024.Idx)
      = ix2 ⟨batch t * 256 + y0, by have := (batch t).isLt; omega⟩ ⟨head t * 256 + y1, by have := (head t).isLt; omega⟩ := by
    blk_ext [placed t]
  refine (keys_at _ _ _ _ y0 y1).trans (Eq.trans ?_
    ((congrArg _ e).trans (ReferenceIdeal.Attention.keyGrad_at _ _ _ hn (batch t) (head t) y0 y1)).symm)
  refine Finset.sum_congr rfl fun r _ => ?_
  rw [rowScores_eq, rowCot_eq]
  exact congrArg _ (block0 m c t r y1)

/-- After the run the values' gradient array is the differentiated attention's. -/
theorem final6 (c : Dev nD) :
    (dats m 0 c).arrAt 6 (cfgs 0).N = ReferenceIdeal.Attention.valueGrad (argQ m c) (argKV m c) (argD m c) := by
  refine (dats m 0 c).arrAt_eq_of_covers 6 _ (by decide +kernel) fun t _ y => ?_
  blk_simp
  rw [after0_6]; frame_out
  idx_vars y
  have e : (((View.whole main_v0_2).slice (win0_6.rect t)).emb (ix2 y0 y1) : S1024x1024.Idx)
      = ix2 ⟨batch t * 256 + y0, by have := (batch t).isLt; omega⟩ ⟨head t * 256 + y1, by have := (head t).isLt; omega⟩ := by
    blk_ext [placed t]
  refine (values_at _ _ _ y0 y1).trans (Eq.trans ?_
    ((congrArg _ e).trans (ReferenceIdeal.Attention.valueGrad_at _ _ _ (batch t) (head t) y0 y1)).symm)
  refine Finset.sum_congr rfl fun r _ => ?_
  rw [rowScores_eq]
  exact congrArg _ (block3 m c t r y1)

end Cert.KernelIdeal.Attention

end

end
-- ==== Proof.AttentionClaims.lean ====
/-
  The claims about the attention gradient, assembled: the precondition read as "queries and keys are numbers", the two
  runs at one triple of results, and the frames.
-/
module

public import proofs.«01_k».proof.Defs
public import proofs.«01_k».proof.Proof.Gen.Kernel.Frame
public import proofs.«01_k».proof.Proof.AttentionValue
public import Idealize.ShloMosaic.Lib.Quiescent
public import Idealize.ShloMosaic.Adequacy

@[expose] public section

set_option maxRecDepth 16384

noncomputable section

open Idealize.ShloMosaic Idealize.ShloMosaic.TcCoe Idealize.SL.Sem RowSoftmax

namespace Cert.Pre_finite_queries_and_keys

/-- The precondition's shapes fit. -/
theorem facts : Facts where
  bcast_S_S8192x1024 := by decide
  slices_S1024x2048_S1024x1024_0_0 := by decide
  bcast_S_S1024x1024 := by decide

/-- An extended real of absolute value below infinity is a number. -/
theorem isNumber_of_abs (x : EReal) (h : max x (-x) < (⊤ : EReal)) : IsNumber x := by
  induction x with
  | bot => simp at h
  | top => simp at h
  | coe r => exact ⟨r, rfl⟩

/-- A set comparison of an absolute value with the infinity the precondition prints says the value is a number. -/
theorem isNumber_of_set (x : EReal) (h : BitVec.ofBool (decide (max x (-x) < Ideal.ofBits FTy.bf16 32640#16)) = 1#1) : IsNumber x := by
  have e : Ideal.ofBits FTy.bf16 32640#16 = ⊤ := by simp [Ideal.ofBits, Ideal.ieee]
  rw [e] at h
  refine isNumber_of_abs x (of_decide_eq_true ?_)
  generalize decide (max x (-x) < (⊤ : EReal)) = v at h
  revert h
  cases v <;> decide

/-- Where the precondition's first result is set, the query entry is a number. -/
theorem query_number [Facts] (q : FVec Ideal S8192x1024 .bf16) (kv : FVec Ideal S1024x2048 .bf16) (d : FVec Ideal S8192x1024 .bf16)
    (h : (fn q kv d).1 = fun _ => 1#1) (r : Fin 8192) (l : Fin 1024) : IsNumber (q (ix2 r l)) := by
  have := congrFun h (ix2 r l)
  pointwise [fn] at this
  exact isNumber_of_set _ this

/-- Where the precondition's second result is set, the key entry is a number. -/
theorem key_number [Facts] (q : FVec Ideal S8192x1024 .bf16) (kv : FVec Ideal S1024x2048 .bf16) (d : FVec Ideal S8192x1024 .bf16)
    (h : (fn q kv d).2 = fun _ => 1#1) (r : Fin 1024) (l : Fin 1024) : IsNumber (kv (ix2 r ⟨l, by omega⟩)) := by
  have := congrFun h (ix2 r l)
  pointwise [fn] at this
  exact isNumber_of_set _ this

end Cert.Pre_finite_queries_and_keys

namespace Cert.Proof.Attention

open Cert.ReferenceIdeal.Attention (Numbers queryGrad keyGrad valueGrad)

/-- The precondition makes the queries and keys numbers. -/
theorem numbers [Pre_finite_queries_and_keys.Facts] (q : FVec Ideal ReferenceIdeal.S8192x1024 .bf16)
    (kv : FVec Ideal ReferenceIdeal.S1024x2048 .bf16) (d : FVec Ideal ReferenceIdeal.S8192x1024 .bf16)
    (h : (Pre_finite_queries_and_keys.fn q kv d).1 = (fun _ => 1#1) ∧ (Pre_finite_queries_and_keys.fn q kv d).2 = fun _ => 1#1) :
    Numbers q kv where
  query b i g x := by
    rw [ReferenceIdeal.Attention.queries_at]
    exact Pre_finite_queries_and_keys.query_number q kv d h.1 _ _
  key b j g x := by
    rw [ReferenceIdeal.Attention.keys_at]
    exact Pre_finite_queries_and_keys.key_number q kv d h.2 ⟨b * 256 + j, by omega⟩ ⟨g * 256 + x, by omega⟩

/-- The kernel runs, and its arguments end unchanged: as written, and idealized. -/
theorem frameKernel : quiescent_Kernel (hKernel := Kernel.Gen.facts) := fun m ρ _ => Kernel.Gen.frame m ρ
/-- The idealized kernel's frame. -/
theorem frameKernelIdeal : quiescent_KernelIdeal (hKernelIdeal := KernelIdeal.Gen.facts) :=
  fun m ρ _ => KernelIdeal.Gen.frame m ρ
/-- The same under the precondition. -/
theorem frameKernelIdealPre : quiescent_KernelIdeal_pre_finite_queries_and_keys (hKernelIdeal := KernelIdeal.Gen.facts)
    (hPre_finite_queries_and_keys := Pre_finite_queries_and_keys.facts) := fun m ρ _ => KernelIdeal.Gen.frame m ρ

/-- The reference runs, and its arguments end unchanged. -/
theorem frameReference : quiescent_ReferenceIdeal (hReferenceIdeal := ReferenceIdeal.Gen.facts) := fun m ρ _ =>
  (θ_run ReferenceIdeal.defs _ _).mono (fun r h => ⟨fun c => (h c).2.2.2, sem_eq_zero_of_no_sems (by decide) r.2⟩)
    (ReferenceIdeal.Value.run (F := Ideal) m ρ)
/-- The same under the precondition. -/
theorem frameReferencePre : quiescent_ReferenceIdeal_pre_finite_queries_and_keys (hReferenceIdeal := ReferenceIdeal.Gen.facts)
    (hPre_finite_queries_and_keys := Pre_finite_queries_and_keys.facts) := fun m ρ _ => frameReference m ρ trivial

/-- On queries and keys that are numbers, the kernel's three results are the differentiated attention's. -/
theorem algebraic : algebraic_KernelIdeal_ReferenceIdeal_pre_finite_queries_and_keys (hKernelIdeal := KernelIdeal.Gen.facts)
    (hReferenceIdeal := ReferenceIdeal.Gen.facts) (hPre_finite_queries_and_keys := Pre_finite_queries_and_keys.facts) :=
  fun m ρ m' ρ' hpre hag =>
  ⟨fun c => queryGrad (KernelIdeal.Attention.argQ m c) (KernelIdeal.Attention.argKV m c) (KernelIdeal.Attention.argD m c),
    fun c => keyGrad (KernelIdeal.Attention.argQ m c) (KernelIdeal.Attention.argKV m c) (KernelIdeal.Attention.argD m c),
    fun c => valueGrad (KernelIdeal.Attention.argQ m c) (KernelIdeal.Attention.argKV m c) (KernelIdeal.Attention.argD m c),
    (θ_run KernelIdeal.defs _ _).mono (fun _ h c =>
        ⟨(h c).1.trans (KernelIdeal.Attention.final4 m c (@numbers Pre_finite_queries_and_keys.facts _ _ _ (hpre c))),
          (h c).2.1.trans (KernelIdeal.Attention.final5 m c (@numbers Pre_finite_queries_and_keys.facts _ _ _ (hpre c))),
          (h c).2.2.1.trans (KernelIdeal.Attention.final6 m c), (h c).2.2.2⟩)
      (KernelIdeal.Value.run_blocks (F := Ideal) m ρ),
    (θ_run ReferenceIdeal.defs _ _).mono (fun _ h c =>
        ⟨(h c).1.trans ((ReferenceIdeal.Attention.out0_eq m' c).trans (by rw [(hag c).1, (hag c).2.1, (hag c).2.2])),
          (h c).2.1.trans ((ReferenceIdeal.Attention.out1_eq m' c).trans (by rw [(hag c).1, (hag c).2.1, (hag c).2.2])),
          (h c).2.2.1.trans ((ReferenceIdeal.Attention.out2_eq m' c).trans (by rw [(hag c).1, (hag c).2.1, (hag c).2.2])),
          (h c).2.2.2⟩)
      (ReferenceIdeal.Value.run (F := Ideal) m' ρ')⟩

end Cert.Proof.Attention

end

end
-- ==== Proof.FfHidden.lean ====
/-
  The gradient of the feed-forward hidden layer: the differentiated squared rectifier times the product with `w_ff2`.
-/
module

public import proofs.«01_k».proof.Proof.Gen.FfHidden.Frame
public import proofs.«01_k».proof.Proof.Gen.FfHiddenIdeal.Value
public import proofs.«01_k».proof.Proof.Gen.FfHiddenIdeal.Frame
public import proofs.«01_k».proof.Proof.Gen.FfHiddenReferenceIdeal.Run
public import proofs.«01_k».proof.Proof.Gen.FfHidden
public import proofs.«01_k».proof.Proof.Gen.FfHiddenIdeal
public import proofs.«01_k».proof.Proof.Gen.FfHiddenReferenceIdeal
public import Idealize.ShloMosaic.Lib.Pointwise
public import Idealize.ShloMosaic.Lib.Pipeline.ValueKit
public import proofs.«01_k».proof.Defs
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

/-- The differentiated rectifier's choice is already made by its own value: below zero the factor is zero. -/
theorem Cert.FfHidden.relu_factor (s c h : EReal) : (if 0 < h then s * (c * max h 0) else 0) = s * (c * max h 0) := by
  split
  · rfl
  · rw [max_eq_right (le_of_not_gt ‹_›), mul_zero, mul_zero]

namespace Cert.FfHiddenReferenceIdeal.Spec

open Cert.FfHiddenReferenceIdeal Cert.FfHiddenReferenceIdeal.Gen

/-- The gradient of the hidden layer: the reference's composed term. -/
def result0 (dz : FVec Ideal S8192x1024 .bf16) (h : FVec Ideal S8192x4096 .bf16) (w : FVec Ideal S4096x1024 .bf16) : FVec Ideal S8192x4096 .bf16 :=
  truncf .bf16 (select (cmpf .ogt (extf .f32 h bitsLt_bf16_f32) (broadcastInDim S8192x4096 ![] bcast_S_S8192x4096 (constant (F := Ideal) S_ .f32 0x00000000#32))) (mulf (Host.dotGeneral (F := Ideal) dot_S8192x1024_S4096x1024_S8192x4096_1_1_0_0_n_n none (extf .f32 dz bitsLt_bf16_f32) (extf .f32 w bitsLt_bf16_f32)) (mulf (broadcastInDim S8192x4096 ![] bcast_S_S8192x4096 (constant (F := Ideal) S_ .f32 0x40000000#32)) (maximumf (extf .f32 h bitsLt_bf16_f32) (broadcastInDim S8192x4096 ![] bcast_S_S8192x4096 (constant (F := Ideal) S_ .f32 0x00000000#32))))) (broadcastInDim S8192x4096 ![] bcast_S_S8192x4096 (constant (F := Ideal) S_ .f32 0x00000000#32))) bitsLt_bf16_f32

/-- The reference at a row and a hidden unit. -/
theorem result0_at (dz : FVec Ideal S8192x1024 .bf16) (h : FVec Ideal S8192x4096 .bf16) (w : FVec Ideal S4096x1024 .bf16) (r : Fin 8192) (x : Fin 4096) :
    result0 dz h w (ix2 r x) = (∑ k : Fin 1024, dz (ix2 r k) * w (ix2 x k)) * (Ideal.ofBits FTy.f32 1073741824#32 * max (h (ix2 r x)) 0) := by
  pointwise [result0]
  exact FfHidden.relu_factor _ _ _

end Cert.FfHiddenReferenceIdeal.Spec

namespace Cert.FfHiddenIdeal.Val

open Cert.FfHiddenIdeal Cert.FfHiddenIdeal.Gen

variable (m : (ℓ : Loc nD τ sig) → Buf (Elt Ideal) ℓ)

/-- Where the windows' blocks lie at point `t`. -/
theorem placed : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

/-- The result array: every grid point writes its rows of the gradient. -/
theorem final0 (c : Dev nD) : (dats m 0 c).arrAt 3 cfg0.N
    = FfHiddenReferenceIdeal.Spec.result0 (m (c.tc.loc main_arg0)) (m (c.tc.loc main_arg1)) (m (c.tc.loc main_arg2)) := by
  refine (dats m 0 c).arrAt_eq_of_covers 3 _ (by decide +kernel) fun t _ y => ?_
  blk_simp
  rw [after0_3]
  frame_out
  idx_vars y
  have ht : t.val < 8 := lt_of_lt_of_eq t.isLt N_0
  have e : (((View.whole main_v0).slice (win0_3.rect t)).emb (ix2 y0 y1) : S8192x4096.Idx)
      = ix2 ⟨t.val * 1024 + y0, by omega⟩ y1 := by blk_ext [placed t]
  rw [e, FfHiddenReferenceIdeal.Spec.result0_at]
  pointwise [k0_pay1]
  blk_point [iblk, V, placed t]

end Cert.FfHiddenIdeal.Val

namespace Cert.Proof.FfHidden

/-- The frame of the kernel. -/
theorem frameKernel : quiescent_FfHidden (hFfHidden := FfHidden.Gen.facts) :=
  fun m ρ _ => FfHidden.Gen.frame m ρ

/-- The frame of its idealization. -/
theorem frameIdeal : quiescent_FfHiddenIdeal (hFfHiddenIdeal := FfHiddenIdeal.Gen.facts) :=
  fun m ρ _ => FfHiddenIdeal.Gen.frame m ρ

/-- The frame of the reference. -/
theorem frameReference : quiescent_FfHiddenReferenceIdeal (hFfHiddenReferenceIdeal := FfHiddenReferenceIdeal.Gen.facts) :=
  fun m ρ _ => (θ_run FfHiddenReferenceIdeal.defs _ _).mono
    (fun r h => ⟨fun c => (h c).2, sem_eq_zero_of_no_sems (by decide) r.2⟩)
    (FfHiddenReferenceIdeal.Value.run (F := Ideal) m ρ)

/-- The kernel computes the differentiated squared rectifier and product. -/
theorem algebraic : algebraic_FfHiddenIdeal_FfHiddenReferenceIdeal (hFfHiddenIdeal := FfHiddenIdeal.Gen.facts)
    (hFfHiddenReferenceIdeal := FfHiddenReferenceIdeal.Gen.facts) :=
  fun m ρ m' ρ' _ hag => ⟨_,
    (θ_run FfHiddenIdeal.defs _ _).mono (fun _ h c => ⟨(h c).1.trans (FfHiddenIdeal.Val.final0 m c), (h c).2⟩)
      (FfHiddenIdeal.Value.run_blocks (F := Ideal) m ρ),
    (θ_run FfHiddenReferenceIdeal.defs _ _).mono (fun _ h c => ⟨(h c).1.trans (by rw [← (hag c).1, ← (hag c).2.1, ← (hag c).2.2]; rfl), (h c).2⟩)
      (FfHiddenReferenceIdeal.Value.run (F := Ideal) m' ρ')⟩

end Cert.Proof.FfHidden

end

end
-- ==== Proof.WFf2.lean ====
/-
  A weight gradient accumulated over tiles of rows: the transposed product (4096 by 1024) over 8192 rows.
-/
module

public import proofs.«01_k».proof.Proof.Gen.WFf2.Frame
public import proofs.«01_k».proof.Proof.Gen.WFf2Ideal.Value
public import proofs.«01_k».proof.Proof.Gen.WFf2Ideal.Frame
public import proofs.«01_k».proof.Proof.Gen.WFf2ReferenceIdeal.Run
public import proofs.«01_k».proof.Proof.Gen.WFf2
public import proofs.«01_k».proof.Proof.Gen.WFf2Ideal
public import proofs.«01_k».proof.Proof.Gen.WFf2ReferenceIdeal
public import Idealize.ShloMosaic.Lib.Pointwise
public import Idealize.ShloMosaic.Lib.Pipeline.ValueKit
public import proofs.«01_k».proof.Defs
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.WFf2ReferenceIdeal.Spec

open Cert.WFf2ReferenceIdeal Cert.WFf2ReferenceIdeal.Gen

/-- The weight gradient: the reference's composed term. -/
def result0 (a : FVec Ideal S8192x4096 .bf16) (g : FVec Ideal S8192x1024 .bf16) : FVec Ideal S1x4096x1024 .f32 :=
  broadcastInDim S1x4096x1024 ![1, 2] bcast_S4096x1024_S1x4096x1024_1_2 (transpose S4096x1024 [1, 0] (Host.dotGeneral (F := Ideal) dot_S8192x1024_S8192x4096_S1024x4096_0_0_1_1_n_n none (extf .f32 g bitsLt_bf16_f32) (extf .f32 a bitsLt_bf16_f32)) transposes_S1024x4096_S4096x1024_1_0)

/-- The reference at a slot, a row and a column. -/
theorem result0_at (a : FVec Ideal S8192x4096 .bf16) (g : FVec Ideal S8192x1024 .bf16) (s : Fin 1) (i : Fin 4096) (j : Fin 1024) :
    result0 a g (ix3 s i j) = ∑ k : Fin 8192, a (ix2 k i) * g (ix2 k ⟨s * 1024 + j, by omega⟩) := by
  pointwise [result0]
  refine Finset.sum_congr rfl fun k _ => ?_
  rw [mul_comm]

end Cert.WFf2ReferenceIdeal.Spec

namespace Cert.WFf2Ideal.Val

open Cert.WFf2Ideal Cert.WFf2Ideal.Gen

variable (m : (ℓ : Loc nD τ sig) → Buf (Elt Ideal) ℓ)

/-- Where the windows' blocks lie at point `t`. -/
theorem placed : ∀ t : Fin cfg0.N, win0_0.index t = ![t.val % 4, t.val / 4] ∧ win0_1.index t = ![t.val % 4, t.val / 4 % 1] ∧ win0_2.index t = ![t.val / 4 % 1 / 1, t.val / 4, t.val / 4 % 1 % 1] :=
  (by decide +kernel : ∀ t : Fin grid0.N, _)

/-- The zero fill. -/
theorem zero_at (j : S1x1024x1024.Idx) : k0_pay1 (F := Ideal) j = 0 := by
  pointwise [k0_pay1]

/-- One tile's product, added to what was accumulated. -/
theorem tile_at (acc : Vec Ideal S1x1024x1024 .f32) (x0 : Vec Ideal S2048x1024 .bf16) (x1 : Vec Ideal S2048x1024 .bf16) (j : S1x1024x1024.Idx) :
    k0_pay2 (F := Ideal) acc x0 x1 j = acc j + ∑ k : Fin 2048, x0 (ix2 k (j 1)) * x1 (ix2 k (j 2)) := by
  idx_vars j
  pointwise [k0_pay2]
  blk_point []

/-- The result array: every run of points over the rows leaves its tile of the transposed product. -/
theorem final0 (c : Dev nD) : (dats m 0 c).arrAt 2 cfg0.N
    = WFf2ReferenceIdeal.Spec.result0 (m (c.tc.loc main_arg0)) (m (c.tc.loc main_arg1)) := by
  refine (dats m 0 c).arrAt_eq_of_covers 2 _ (by decide +kernel) fun t hf y => ?_
  blk_simp
  have ht : t.val < 16 := lt_of_lt_of_eq t.isLt N_0
  have hs : ∀ s : Fin 4, 4 * (t.val / 4) + s.val < 16 := fun s => by omega
  rw [after0_2, Pipeline.eq_sum_fin_of_reset_step_apply_of_flush (fun n h => outsAt0 m c n h) 4 (fun _ => 0) _
    (fun t h j => by rw [outsAt0_A m c t h]; frame_out; rw [tile_at, zero_at]) (fun t h j => by rw [outsAt0_B m c t h]; frame_out; rw [tile_at])
    t ((flush0_2 t).mp hf) _, zero_add]
  idx_vars y
  have e : (((View.whole main_v0).slice (win0_2.rect t)).emb (ix3 y0 y1 y2) : S1x4096x1024.Idx)
      = ix3 ⟨t.val / 4 % 1 / 1, by omega⟩ ⟨t.val / 4 * 1024 + y1, by omega⟩ ⟨t.val / 4 % 1 % 1 * 1024 + y2, by omega⟩ := by blk_ext [placed t]
  rw [e, WFf2ReferenceIdeal.Spec.result0_at]
  refine Fin.sum_mul_add_congr fun s k hl => ?_
  blk_point [iblk, V, placed t, placed ⟨_, Pipeline.run_point_lt_of_flush t ((flush0_2 t).mp hf) s⟩]

end Cert.WFf2Ideal.Val

namespace Cert.Proof.WFf2

/-- The frame of the kernel. -/
theorem frameKernel : quiescent_WFf2 (hWFf2 := WFf2.Gen.facts) :=
  fun m ρ _ => WFf2.Gen.frame m ρ

/-- The frame of its idealization. -/
theorem frameIdeal : quiescent_WFf2Ideal (hWFf2Ideal := WFf2Ideal.Gen.facts) :=
  fun m ρ _ => WFf2Ideal.Gen.frame m ρ

/-- The frame of the reference. -/
theorem frameReference : quiescent_WFf2ReferenceIdeal (hWFf2ReferenceIdeal := WFf2ReferenceIdeal.Gen.facts) :=
  fun m ρ _ => (θ_run WFf2ReferenceIdeal.defs _ _).mono
    (fun r h => ⟨fun c => (h c).2, sem_eq_zero_of_no_sems (by decide) r.2⟩)
    (WFf2ReferenceIdeal.Value.run (F := Ideal) m ρ)

/-- The accumulated tiles are the differentiated product. -/
theorem algebraic : algebraic_WFf2Ideal_WFf2ReferenceIdeal (hWFf2Ideal := WFf2Ideal.Gen.facts)
    (hWFf2ReferenceIdeal := WFf2ReferenceIdeal.Gen.facts) :=
  fun m ρ m' ρ' _ hag => ⟨_,
    (θ_run WFf2Ideal.defs _ _).mono (fun _ h c => ⟨(h c).1.trans (WFf2Ideal.Val.final0 m c), (h c).2⟩)
      (WFf2Ideal.Value.run_blocks (F := Ideal) m ρ),
    (θ_run WFf2ReferenceIdeal.defs _ _).mono (fun _ h c => ⟨(h c).1.trans (by rw [← (hag c).1, ← (hag c).2]; rfl), (h c).2⟩)
      (WFf2ReferenceIdeal.Value.run (F := Ideal) m' ρ')⟩

end Cert.Proof.WFf2

end

end
-- ==== Proof.WFf1.lean ====
/-
  A weight gradient accumulated over tiles of rows: the transposed product (1024 by 4096) over 8192 rows.
-/
module

public import proofs.«01_k».proof.Proof.Gen.WFf1.Frame
public import proofs.«01_k».proof.Proof.Gen.WFf1Ideal.Value
public import proofs.«01_k».proof.Proof.Gen.WFf1Ideal.Frame
public import proofs.«01_k».proof.Proof.Gen.WFf1ReferenceIdeal.Run
public import proofs.«01_k».proof.Proof.Gen.WFf1
public import proofs.«01_k».proof.Proof.Gen.WFf1Ideal
public import proofs.«01_k».proof.Proof.Gen.WFf1ReferenceIdeal
public import Idealize.ShloMosaic.Lib.Pointwise
public import Idealize.ShloMosaic.Lib.Pipeline.ValueKit
public import proofs.«01_k».proof.Defs
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.WFf1ReferenceIdeal.Spec

open Cert.WFf1ReferenceIdeal Cert.WFf1ReferenceIdeal.Gen

/-- The weight gradient: the reference's composed term. -/
def result0 (a : FVec Ideal S8192x1024 .bf16) (g : FVec Ideal S8192x4096 .bf16) : FVec Ideal S4x1024x1024 .f32 :=
  transpose S4x1024x1024 [1, 0, 2] (shapeCast _ (transpose S1024x4096 [1, 0] (Host.dotGeneral (F := Ideal) dot_S8192x4096_S8192x1024_S4096x1024_0_0_1_1_n_n none (extf .f32 g bitsLt_bf16_f32) (extf .f32 a bitsLt_bf16_f32)) transposes_S4096x1024_S1024x4096_1_0) shapeCasts_S1024x4096_S1024x4x1024) transposes_S1024x4x1024_S4x1024x1024_1_0_2

/-- The reference at a slot, a row and a column. -/
theorem result0_at (a : FVec Ideal S8192x1024 .bf16) (g : FVec Ideal S8192x4096 .bf16) (s : Fin 4) (i : Fin 1024) (j : Fin 1024) :
    result0 a g (ix3 s i j) = ∑ k : Fin 8192, a (ix2 k i) * g (ix2 k ⟨s * 1024 + j, by omega⟩) := by
  pointwise [result0]
  refine Finset.sum_congr rfl fun k _ => ?_
  rw [mul_comm]

end Cert.WFf1ReferenceIdeal.Spec

namespace Cert.WFf1Ideal.Val

open Cert.WFf1Ideal Cert.WFf1Ideal.Gen

variable (m : (ℓ : Loc nD τ sig) → Buf (Elt Ideal) ℓ)

/-- Where the windows' blocks lie at point `t`. -/
theorem placed : ∀ t : Fin cfg0.N, win0_0.index t = ![t.val % 4, t.val / 16] ∧ win0_1.index t = ![t.val % 4, t.val / 4 % 4] ∧ win0_2.index t = ![t.val / 4 % 4 / 1, t.val / 16, t.val / 4 % 4 % 1] :=
  (by decide +kernel : ∀ t : Fin grid0.N, _)

/-- The zero fill. -/
theorem zero_at (j : S1x1024x1024.Idx) : k0_pay1 (F := Ideal) j = 0 := by
  pointwise [k0_pay1]

/-- One tile's product, added to what was accumulated. -/
theorem tile_at (acc : Vec Ideal S1x1024x1024 .f32) (x0 : Vec Ideal S2048x1024 .bf16) (x1 : Vec Ideal S2048x1024 .bf16) (j : S1x1024x1024.Idx) :
    k0_pay2 (F := Ideal) acc x0 x1 j = acc j + ∑ k : Fin 2048, x0 (ix2 k (j 1)) * x1 (ix2 k (j 2)) := by
  idx_vars j
  pointwise [k0_pay2]
  blk_point []

/-- The result array: every run of points over the rows leaves its tile of the transposed product. -/
theorem final0 (c : Dev nD) : (dats m 0 c).arrAt 2 cfg0.N
    = WFf1ReferenceIdeal.Spec.result0 (m (c.tc.loc main_arg0)) (m (c.tc.loc main_arg1)) := by
  refine (dats m 0 c).arrAt_eq_of_covers 2 _ (by decide +kernel) fun t hf y => ?_
  blk_simp
  have ht : t.val < 16 := lt_of_lt_of_eq t.isLt N_0
  have hs : ∀ s : Fin 4, 4 * (t.val / 4) + s.val < 16 := fun s => by omega
  rw [after0_2, Pipeline.eq_sum_fin_of_reset_step_apply_of_flush (fun n h => outsAt0 m c n h) 4 (fun _ => 0) _
    (fun t h j => by rw [outsAt0_A m c t h]; frame_out; rw [tile_at, zero_at]) (fun t h j => by rw [outsAt0_B m c t h]; frame_out; rw [tile_at])
    t ((flush0_2 t).mp hf) _, zero_add]
  idx_vars y
  have e : (((View.whole main_v0).slice (win0_2.rect t)).emb (ix3 y0 y1 y2) : S4x1024x1024.Idx)
      = ix3 ⟨t.val / 4 % 4 / 1, by omega⟩ ⟨t.val / 16 * 1024 + y1, by omega⟩ ⟨t.val / 4 % 4 % 1 * 1024 + y2, by omega⟩ := by blk_ext [placed t]
  rw [e, WFf1ReferenceIdeal.Spec.result0_at]
  refine Fin.sum_mul_add_congr fun s k hl => ?_
  blk_point [iblk, V, placed t, placed ⟨_, Pipeline.run_point_lt_of_flush t ((flush0_2 t).mp hf) s⟩]

end Cert.WFf1Ideal.Val

namespace Cert.Proof.WFf1

/-- The frame of the kernel. -/
theorem frameKernel : quiescent_WFf1 (hWFf1 := WFf1.Gen.facts) :=
  fun m ρ _ => WFf1.Gen.frame m ρ

/-- The frame of its idealization. -/
theorem frameIdeal : quiescent_WFf1Ideal (hWFf1Ideal := WFf1Ideal.Gen.facts) :=
  fun m ρ _ => WFf1Ideal.Gen.frame m ρ

/-- The frame of the reference. -/
theorem frameReference : quiescent_WFf1ReferenceIdeal (hWFf1ReferenceIdeal := WFf1ReferenceIdeal.Gen.facts) :=
  fun m ρ _ => (θ_run WFf1ReferenceIdeal.defs _ _).mono
    (fun r h => ⟨fun c => (h c).2, sem_eq_zero_of_no_sems (by decide) r.2⟩)
    (WFf1ReferenceIdeal.Value.run (F := Ideal) m ρ)

/-- The accumulated tiles are the differentiated product. -/
theorem algebraic : algebraic_WFf1Ideal_WFf1ReferenceIdeal (hWFf1Ideal := WFf1Ideal.Gen.facts)
    (hWFf1ReferenceIdeal := WFf1ReferenceIdeal.Gen.facts) :=
  fun m ρ m' ρ' _ hag => ⟨_,
    (θ_run WFf1Ideal.defs _ _).mono (fun _ h c => ⟨(h c).1.trans (WFf1Ideal.Val.final0 m c), (h c).2⟩)
      (WFf1Ideal.Value.run_blocks (F := Ideal) m ρ),
    (θ_run WFf1ReferenceIdeal.defs _ _).mono (fun _ h c => ⟨(h c).1.trans (by rw [← (hag c).1, ← (hag c).2]; rfl), (h c).2⟩)
      (WFf1ReferenceIdeal.Value.run (F := Ideal) m' ρ')⟩

end Cert.Proof.WFf1

end

end
-- ==== Proof.WO.lean ====
/-
  A weight gradient accumulated over tiles of rows: the transposed product (1024 by 1024) over 8192 rows.
-/
module

public import proofs.«01_k».proof.Proof.Gen.WO.Frame
public import proofs.«01_k».proof.Proof.Gen.WOIdeal.Value
public import proofs.«01_k».proof.Proof.Gen.WOIdeal.Frame
public import proofs.«01_k».proof.Proof.Gen.WOReferenceIdeal.Run
public import proofs.«01_k».proof.Proof.Gen.WO
public import proofs.«01_k».proof.Proof.Gen.WOIdeal
public import proofs.«01_k».proof.Proof.Gen.WOReferenceIdeal
public import Idealize.ShloMosaic.Lib.Pointwise
public import Idealize.ShloMosaic.Lib.Pipeline.ValueKit
public import proofs.«01_k».proof.Defs
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.WOReferenceIdeal.Spec

open Cert.WOReferenceIdeal Cert.WOReferenceIdeal.Gen

/-- The weight gradient: the reference's composed term. -/
def result0 (a : FVec Ideal S8192x1024 .bf16) (g : FVec Ideal S8192x1024 .bf16) : FVec Ideal S1x1024x1024 .f32 :=
  broadcastInDim S1x1024x1024 ![1, 2] bcast_S1024x1024_S1x1024x1024_1_2 (transpose S1024x1024 [1, 0] (Host.dotGeneral (F := Ideal) dot_S8192x1024_S8192x1024_S1024x1024_0_0_1_1_n_n none (extf .f32 g bitsLt_bf16_f32) (extf .f32 a bitsLt_bf16_f32)) transposes_S1024x1024_S1024x1024_1_0)

/-- The reference at a slot, a row and a column. -/
theorem result0_at (a : FVec Ideal S8192x1024 .bf16) (g : FVec Ideal S8192x1024 .bf16) (s : Fin 1) (i : Fin 1024) (j : Fin 1024) :
    result0 a g (ix3 s i j) = ∑ k : Fin 8192, a (ix2 k i) * g (ix2 k ⟨s * 1024 + j, by omega⟩) := by
  pointwise [result0]
  refine Finset.sum_congr rfl fun k _ => ?_
  rw [mul_comm]

end Cert.WOReferenceIdeal.Spec

namespace Cert.WOIdeal.Val

open Cert.WOIdeal Cert.WOIdeal.Gen

variable (m : (ℓ : Loc nD τ sig) → Buf (Elt Ideal) ℓ)

/-- Where the windows' blocks lie at point `t`. -/
theorem placed : ∀ t : Fin cfg0.N, win0_0.index t = ![t.val % 4, t.val / 4] ∧ win0_1.index t = ![t.val % 4, t.val / 4 % 1] ∧ win0_2.index t = ![t.val / 4 % 1 / 1, t.val / 4, t.val / 4 % 1 % 1] :=
  (by decide +kernel : ∀ t : Fin grid0.N, _)

/-- The zero fill. -/
theorem zero_at (j : S1x1024x1024.Idx) : k0_pay1 (F := Ideal) j = 0 := by
  pointwise [k0_pay1]

/-- One tile's product, added to what was accumulated. -/
theorem tile_at (acc : Vec Ideal S1x1024x1024 .f32) (x0 : Vec Ideal S2048x1024 .bf16) (x1 : Vec Ideal S2048x1024 .bf16) (j : S1x1024x1024.Idx) :
    k0_pay2 (F := Ideal) acc x0 x1 j = acc j + ∑ k : Fin 2048, x0 (ix2 k (j 1)) * x1 (ix2 k (j 2)) := by
  idx_vars j
  pointwise [k0_pay2]
  blk_point []

/-- The result array: every run of points over the rows leaves its tile of the transposed product. -/
theorem final0 (c : Dev nD) : (dats m 0 c).arrAt 2 cfg0.N
    = WOReferenceIdeal.Spec.result0 (m (c.tc.loc main_arg0)) (m (c.tc.loc main_arg1)) := by
  refine (dats m 0 c).arrAt_eq_of_covers 2 _ (by decide +kernel) fun t hf y => ?_
  blk_simp
  have ht : t.val < 4 := lt_of_lt_of_eq t.isLt N_0
  have hs : ∀ s : Fin 4, 4 * (t.val / 4) + s.val < 4 := fun s => by omega
  rw [after0_2, Pipeline.eq_sum_fin_of_reset_step_apply_of_flush (fun n h => outsAt0 m c n h) 4 (fun _ => 0) _
    (fun t h j => by rw [outsAt0_A m c t h]; frame_out; rw [tile_at, zero_at]) (fun t h j => by rw [outsAt0_B m c t h]; frame_out; rw [tile_at])
    t ((flush0_2 t).mp hf) _, zero_add]
  idx_vars y
  have e : (((View.whole main_v0).slice (win0_2.rect t)).emb (ix3 y0 y1 y2) : S1x1024x1024.Idx)
      = ix3 ⟨t.val / 4 % 1 / 1, by omega⟩ ⟨t.val / 4 * 1024 + y1, by omega⟩ ⟨t.val / 4 % 1 % 1 * 1024 + y2, by omega⟩ := by blk_ext [placed t]
  rw [e, WOReferenceIdeal.Spec.result0_at]
  refine Fin.sum_mul_add_congr fun s k hl => ?_
  blk_point [iblk, V, placed t, placed ⟨_, Pipeline.run_point_lt_of_flush t ((flush0_2 t).mp hf) s⟩]

end Cert.WOIdeal.Val

namespace Cert.Proof.WO

/-- The frame of the kernel. -/
theorem frameKernel : quiescent_WO (hWO := WO.Gen.facts) :=
  fun m ρ _ => WO.Gen.frame m ρ

/-- The frame of its idealization. -/
theorem frameIdeal : quiescent_WOIdeal (hWOIdeal := WOIdeal.Gen.facts) :=
  fun m ρ _ => WOIdeal.Gen.frame m ρ

/-- The frame of the reference. -/
theorem frameReference : quiescent_WOReferenceIdeal (hWOReferenceIdeal := WOReferenceIdeal.Gen.facts) :=
  fun m ρ _ => (θ_run WOReferenceIdeal.defs _ _).mono
    (fun r h => ⟨fun c => (h c).2, sem_eq_zero_of_no_sems (by decide) r.2⟩)
    (WOReferenceIdeal.Value.run (F := Ideal) m ρ)

/-- The accumulated tiles are the differentiated product. -/
theorem algebraic : algebraic_WOIdeal_WOReferenceIdeal (hWOIdeal := WOIdeal.Gen.facts)
    (hWOReferenceIdeal := WOReferenceIdeal.Gen.facts) :=
  fun m ρ m' ρ' _ hag => ⟨_,
    (θ_run WOIdeal.defs _ _).mono (fun _ h c => ⟨(h c).1.trans (WOIdeal.Val.final0 m c), (h c).2⟩)
      (WOIdeal.Value.run_blocks (F := Ideal) m ρ),
    (θ_run WOReferenceIdeal.defs _ _).mono (fun _ h c => ⟨(h c).1.trans (by rw [← (hag c).1, ← (hag c).2]; rfl), (h c).2⟩)
      (WOReferenceIdeal.Value.run (F := Ideal) m' ρ')⟩

end Cert.Proof.WO

end

end
-- ==== Proof.WKv.lean ====
/-
  A weight gradient accumulated over tiles of rows: the transposed product (1024 by 2048) over 1024 rows.
-/
module

public import proofs.«01_k».proof.Proof.Gen.WKv.Frame
public import proofs.«01_k».proof.Proof.Gen.WKvIdeal.Value
public import proofs.«01_k».proof.Proof.Gen.WKvIdeal.Frame
public import proofs.«01_k».proof.Proof.Gen.WKvReferenceIdeal.Run
public import proofs.«01_k».proof.Proof.Gen.WKv
public import proofs.«01_k».proof.Proof.Gen.WKvIdeal
public import proofs.«01_k».proof.Proof.Gen.WKvReferenceIdeal
public import Idealize.ShloMosaic.Lib.Pointwise
public import Idealize.ShloMosaic.Lib.Pipeline.ValueKit
public import proofs.«01_k».proof.Defs
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.WKvReferenceIdeal.Spec

open Cert.WKvReferenceIdeal Cert.WKvReferenceIdeal.Gen

/-- The weight gradient: the reference's composed term. -/
def result0 (a : FVec Ideal S1024x1024 .bf16) (g : FVec Ideal S1024x2048 .bf16) : FVec Ideal S4x1024x512 .f32 :=
  transpose S4x1024x512 [1, 0, 2] (shapeCast _ (transpose S1024x2048 [1, 0] (Host.dotGeneral (F := Ideal) dot_S1024x2048_S1024x1024_S2048x1024_0_0_1_1_n_n none (extf .f32 g bitsLt_bf16_f32) (extf .f32 a bitsLt_bf16_f32)) transposes_S2048x1024_S1024x2048_1_0) shapeCasts_S1024x2048_S1024x4x512) transposes_S1024x4x512_S4x1024x512_1_0_2

/-- The reference at a slot, a row and a column. -/
theorem result0_at (a : FVec Ideal S1024x1024 .bf16) (g : FVec Ideal S1024x2048 .bf16) (s : Fin 4) (i : Fin 1024) (j : Fin 512) :
    result0 a g (ix3 s i j) = ∑ k : Fin 1024, a (ix2 k i) * g (ix2 k ⟨s * 512 + j, by omega⟩) := by
  pointwise [result0]
  refine Finset.sum_congr rfl fun k _ => ?_
  rw [mul_comm]

end Cert.WKvReferenceIdeal.Spec

namespace Cert.WKvIdeal.Val

open Cert.WKvIdeal Cert.WKvIdeal.Gen

variable (m : (ℓ : Loc nD τ sig) → Buf (Elt Ideal) ℓ)

/-- Where the windows' blocks lie at point `t`. -/
theorem placed : ∀ t : Fin cfg0.N, win0_0.index t = ![t.val % 1, t.val / 4] ∧ win0_1.index t = ![t.val % 1, t.val / 1 % 4] ∧ win0_2.index t = ![t.val / 1 % 4 / 1, t.val / 4, t.val / 1 % 4 % 1] :=
  (by decide +kernel : ∀ t : Fin grid0.N, _)

/-- The zero fill. -/
theorem zero_at (j : S1x1024x512.Idx) : k0_pay1 (F := Ideal) j = 0 := by
  pointwise [k0_pay1]

/-- One tile's product, added to what was accumulated. -/
theorem tile_at (acc : Vec Ideal S1x1024x512 .f32) (x0 : Vec Ideal S1024x1024 .bf16) (x1 : Vec Ideal S1024x512 .bf16) (j : S1x1024x512.Idx) :
    k0_pay2 (F := Ideal) acc x0 x1 j = acc j + ∑ k : Fin 1024, x0 (ix2 k (j 1)) * x1 (ix2 k (j 2)) := by
  idx_vars j
  pointwise [k0_pay2]
  blk_point []

/-- The result array: every run of points over the rows leaves its tile of the transposed product. -/
theorem final0 (c : Dev nD) : (dats m 0 c).arrAt 2 cfg0.N
    = WKvReferenceIdeal.Spec.result0 (m (c.tc.loc main_arg0)) (m (c.tc.loc main_arg1)) := by
  refine (dats m 0 c).arrAt_eq_of_covers 2 _ (by decide +kernel) fun t hf y => ?_
  blk_simp
  have ht : t.val < 4 := lt_of_lt_of_eq t.isLt N_0
  rw [after0_2]
  unfold Gen.outsAt0
  frame_out
  idx_vars y
  have e : (((View.whole main_v0).slice (win0_2.rect t)).emb (ix3 y0 y1 y2) : S4x1024x512.Idx)
      = ix3 ⟨t.val / 1 % 4 / 1, by omega⟩ ⟨t.val / 4 * 1024 + y1, by omega⟩ ⟨t.val / 1 % 4 % 1 * 512 + y2, by omega⟩ := by blk_ext [placed t]
  rw [e, WKvReferenceIdeal.Spec.result0_at]
  rw [tile_at, zero_at, zero_add]
  blk_point [iblk, V, placed t]

end Cert.WKvIdeal.Val

namespace Cert.Proof.WKv

/-- The frame of the kernel. -/
theorem frameKernel : quiescent_WKv (hWKv := WKv.Gen.facts) :=
  fun m ρ _ => WKv.Gen.frame m ρ

/-- The frame of its idealization. -/
theorem frameIdeal : quiescent_WKvIdeal (hWKvIdeal := WKvIdeal.Gen.facts) :=
  fun m ρ _ => WKvIdeal.Gen.frame m ρ

/-- The frame of the reference. -/
theorem frameReference : quiescent_WKvReferenceIdeal (hWKvReferenceIdeal := WKvReferenceIdeal.Gen.facts) :=
  fun m ρ _ => (θ_run WKvReferenceIdeal.defs _ _).mono
    (fun r h => ⟨fun c => (h c).2, sem_eq_zero_of_no_sems (by decide) r.2⟩)
    (WKvReferenceIdeal.Value.run (F := Ideal) m ρ)

/-- The accumulated tiles are the differentiated product. -/
theorem algebraic : algebraic_WKvIdeal_WKvReferenceIdeal (hWKvIdeal := WKvIdeal.Gen.facts)
    (hWKvReferenceIdeal := WKvReferenceIdeal.Gen.facts) :=
  fun m ρ m' ρ' _ hag => ⟨_,
    (θ_run WKvIdeal.defs _ _).mono (fun _ h c => ⟨(h c).1.trans (WKvIdeal.Val.final0 m c), (h c).2⟩)
      (WKvIdeal.Value.run_blocks (F := Ideal) m ρ),
    (θ_run WKvReferenceIdeal.defs _ _).mono (fun _ h c => ⟨(h c).1.trans (by rw [← (hag c).1, ← (hag c).2]; rfl), (h c).2⟩)
      (WKvReferenceIdeal.Value.run (F := Ideal) m' ρ')⟩

end Cert.Proof.WKv

end

end
-- ==== Proof.AttOut.lean ====
/-
  The gradient of the attention output: the product with `w_o` transposed.
-/
module

public import proofs.«01_k».proof.Proof.Gen.AttOut.Frame
public import proofs.«01_k».proof.Proof.Gen.AttOutIdeal.Value
public import proofs.«01_k».proof.Proof.Gen.AttOutIdeal.Frame
public import proofs.«01_k».proof.Proof.Gen.AttOutReferenceIdeal.Run
public import proofs.«01_k».proof.Proof.Gen.AttOut
public import proofs.«01_k».proof.Proof.Gen.AttOutIdeal
public import proofs.«01_k».proof.Proof.Gen.AttOutReferenceIdeal
public import Idealize.ShloMosaic.Lib.Pointwise
public import Idealize.ShloMosaic.Lib.Pipeline.ValueKit
public import proofs.«01_k».proof.Defs
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.AttOutReferenceIdeal.Spec

open Cert.AttOutReferenceIdeal Cert.AttOutReferenceIdeal.Gen

/-- The gradient of the attention output: the reference's composed term. -/
def result0 (dz : FVec Ideal S8192x1024 .bf16) (w : FVec Ideal S1024x1024 .bf16) : FVec Ideal S8192x1024 .bf16 :=
  truncf .bf16 (Host.dotGeneral (F := Ideal) dot_S8192x1024_S1024x1024_S8192x1024_1_1_0_0_n_n none (extf .f32 dz bitsLt_bf16_f32) (extf .f32 w bitsLt_bf16_f32)) bitsLt_bf16_f32

/-- The reference at a row and a column. -/
theorem result0_at (dz : FVec Ideal S8192x1024 .bf16) (w : FVec Ideal S1024x1024 .bf16) (r : Fin 8192) (x : Fin 1024) :
    result0 dz w (ix2 r x) = ∑ k : Fin 1024, dz (ix2 r k) * w (ix2 x k) := by
  pointwise [result0]

end Cert.AttOutReferenceIdeal.Spec

namespace Cert.AttOutIdeal.Val

open Cert.AttOutIdeal Cert.AttOutIdeal.Gen

variable (m : (ℓ : Loc nD τ sig) → Buf (Elt Ideal) ℓ)

/-- Where the windows' blocks lie at point `t`. -/
theorem placed : ∀ t : Fin cfg0.N, win0_0.index t = ![t.val, 0] ∧ win0_1.index t = ![0, 0] ∧ win0_2.index t = ![t.val, 0] :=
  (by decide +kernel : ∀ t : Fin grid0.N, _)

/-- The result array: every grid point writes its rows of the product. -/
theorem final0 (c : Dev nD) : (dats m 0 c).arrAt 2 cfg0.N
    = AttOutReferenceIdeal.Spec.result0 (m (c.tc.loc main_arg0)) (m (c.tc.loc main_arg1)) := by
  refine (dats m 0 c).arrAt_eq_of_covers 2 _ (by decide +kernel) fun t _ y => ?_
  blk_simp
  rw [after0_2]
  frame_out
  idx_vars y
  have ht : t.val < 8 := lt_of_lt_of_eq t.isLt N_0
  have e : (((View.whole main_v0).slice (win0_2.rect t)).emb (ix2 y0 y1) : S8192x1024.Idx)
      = ix2 ⟨t.val * 1024 + y0, by omega⟩ y1 := by blk_ext [placed t]
  rw [e, AttOutReferenceIdeal.Spec.result0_at]
  pointwise [k0_pay1]
  blk_point [iblk, V, placed t]

end Cert.AttOutIdeal.Val

namespace Cert.Proof.AttOut

/-- The frame of the kernel. -/
theorem frameKernel : quiescent_AttOut (hAttOut := AttOut.Gen.facts) :=
  fun m ρ _ => AttOut.Gen.frame m ρ

/-- The frame of its idealization. -/
theorem frameIdeal : quiescent_AttOutIdeal (hAttOutIdeal := AttOutIdeal.Gen.facts) :=
  fun m ρ _ => AttOutIdeal.Gen.frame m ρ

/-- The frame of the reference. -/
theorem frameReference : quiescent_AttOutReferenceIdeal (hAttOutReferenceIdeal := AttOutReferenceIdeal.Gen.facts) :=
  fun m ρ _ => (θ_run AttOutReferenceIdeal.defs _ _).mono
    (fun r h => ⟨fun c => (h c).2, sem_eq_zero_of_no_sems (by decide) r.2⟩)
    (AttOutReferenceIdeal.Value.run (F := Ideal) m ρ)

/-- The kernel computes the differentiated product. -/
theorem algebraic : algebraic_AttOutIdeal_AttOutReferenceIdeal (hAttOutIdeal := AttOutIdeal.Gen.facts)
    (hAttOutReferenceIdeal := AttOutReferenceIdeal.Gen.facts) :=
  fun m ρ m' ρ' _ hag => ⟨_,
    (θ_run AttOutIdeal.defs _ _).mono (fun _ h c => ⟨(h c).1.trans (AttOutIdeal.Val.final0 m c), (h c).2⟩)
      (AttOutIdeal.Value.run_blocks (F := Ideal) m ρ),
    (θ_run AttOutReferenceIdeal.defs _ _).mono (fun _ h c => ⟨(h c).1.trans (by rw [← (hag c).1, ← (hag c).2]; rfl), (h c).2⟩)
      (AttOutReferenceIdeal.Value.run (F := Ideal) m' ρ')⟩

end Cert.Proof.AttOut

end

end
-- ==== Proof.MixerOut.lean ====
/-
  The gradients of the three mixer groups: the columns of the product with `w_out` transposed.
-/
module

public import proofs.«01_k».proof.Proof.Gen.MixerOut.Frame
public import proofs.«01_k».proof.Proof.Gen.MixerOutIdeal.Value
public import proofs.«01_k».proof.Proof.Gen.MixerOutIdeal.Frame
public import proofs.«01_k».proof.Proof.Gen.MixerOutReferenceIdeal.Run
public import proofs.«01_k».proof.Proof.Gen.MixerOut
public import proofs.«01_k».proof.Proof.Gen.MixerOutIdeal
public import proofs.«01_k».proof.Proof.Gen.MixerOutReferenceIdeal
public import Idealize.ShloMosaic.Lib.Pointwise
public import Idealize.ShloMosaic.Lib.Pipeline.ValueKit
public import proofs.«01_k».proof.Defs
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.MixerOutReferenceIdeal.Spec

open Cert.MixerOutReferenceIdeal Cert.MixerOutReferenceIdeal.Gen

/-- The gradient of group 0: the reference's composed term. -/
def result0 (dz : FVec Ideal S8192x1024 .bf16) (w : FVec Ideal S1024x1024 .bf16) : FVec Ideal S8192x384 .f32 :=
  extractStridedSlice S8192x384 ![0, 0] (Host.dotGeneral (F := Ideal) dot_S8192x1024_S1024x1024_S8192x1024_1_1_0_0_n_n none (extf .f32 dz bitsLt_bf16_f32) (extf .f32 w bitsLt_bf16_f32)) slices_S8192x1024_S8192x384_0_0

/-- The gradient of group 1: the reference's composed term. -/
def result1 (dz : FVec Ideal S8192x1024 .bf16) (w : FVec Ideal S1024x1024 .bf16) : FVec Ideal S8192x256 .f32 :=
  extractStridedSlice S8192x256 ![0, 384] (Host.dotGeneral (F := Ideal) dot_S8192x1024_S1024x1024_S8192x1024_1_1_0_0_n_n none (extf .f32 dz bitsLt_bf16_f32) (extf .f32 w bitsLt_bf16_f32)) slices_S8192x1024_S8192x256_0_384

/-- The gradient of group 2: the reference's composed term. -/
def result2 (dz : FVec Ideal S8192x1024 .bf16) (w : FVec Ideal S1024x1024 .bf16) : FVec Ideal S8192x384 .f32 :=
  extractStridedSlice S8192x384 ![0, 640] (Host.dotGeneral (F := Ideal) dot_S8192x1024_S1024x1024_S8192x1024_1_1_0_0_n_n none (extf .f32 dz bitsLt_bf16_f32) (extf .f32 w bitsLt_bf16_f32)) slices_S8192x1024_S8192x384_0_640

/-- Group 0's gradient at a row and a channel. -/
theorem result0_at (dz : FVec Ideal S8192x1024 .bf16) (w : FVec Ideal S1024x1024 .bf16) (r : Fin 8192) (x : Fin 384) :
    result0 dz w (ix2 r x) = ∑ k : Fin 1024, dz (ix2 r k) * w (ix2 ⟨0 + x, by omega⟩ k) := by
  pointwise [result0]

/-- Group 1's gradient at a row and a channel. -/
theorem result1_at (dz : FVec Ideal S8192x1024 .bf16) (w : FVec Ideal S1024x1024 .bf16) (r : Fin 8192) (x : Fin 256) :
    result1 dz w (ix2 r x) = ∑ k : Fin 1024, dz (ix2 r k) * w (ix2 ⟨384 + x, by omega⟩ k) := by
  pointwise [result1]

/-- Group 2's gradient at a row and a channel. -/
theorem result2_at (dz : FVec Ideal S8192x1024 .bf16) (w : FVec Ideal S1024x1024 .bf16) (r : Fin 8192) (x : Fin 384) :
    result2 dz w (ix2 r x) = ∑ k : Fin 1024, dz (ix2 r k) * w (ix2 ⟨640 + x, by omega⟩ k) := by
  pointwise [result2]

end Cert.MixerOutReferenceIdeal.Spec

namespace Cert.MixerOutIdeal.Val

open Cert.MixerOutIdeal Cert.MixerOutIdeal.Gen

variable (m : (ℓ : Loc nD τ sig) → Buf (Elt Ideal) ℓ)

/-- Where the windows' blocks lie at point `t`. -/
theorem placed : ∀ t : Fin cfg0.N, win0_0.index t = ![t.val, 0] ∧ win0_1.index t = ![0, 0] ∧ win0_2.index t = ![t.val, 0] ∧ win0_3.index t = ![t.val, 0] ∧ win0_4.index t = ![t.val, 0] :=
  (by decide +kernel : ∀ t : Fin grid0.N, _)

/-- Group 0's result array: every grid point writes its rows. -/
theorem final0 (c : Dev nD) : (dats m 0 c).arrAt 2 cfg0.N
    = MixerOutReferenceIdeal.Spec.result0 (m (c.tc.loc main_arg0)) (m (c.tc.loc main_arg1)) := by
  refine (dats m 0 c).arrAt_eq_of_covers 2 _ (by decide +kernel) fun t _ y => ?_
  blk_simp
  rw [after0_2]
  frame_out
  idx_vars y
  have ht : t.val < 8 := lt_of_lt_of_eq t.isLt N_0
  have e : (((View.whole main_v0_0).slice (win0_2.rect t)).emb (ix2 y0 y1) : S8192x384.Idx)
      = ix2 ⟨t.val * 1024 + y0, by omega⟩ y1 := by blk_ext [placed t]
  rw [e, MixerOutReferenceIdeal.Spec.result0_at]
  pointwise [k0_pay1]
  blk_point [iblk, V, placed t]

/-- Group 1's result array: every grid point writes its rows. -/
theorem final1 (c : Dev nD) : (dats m 0 c).arrAt 3 cfg0.N
    = MixerOutReferenceIdeal.Spec.result1 (m (c.tc.loc main_arg0)) (m (c.tc.loc main_arg1)) := by
  refine (dats m 0 c).arrAt_eq_of_covers 3 _ (by decide +kernel) fun t _ y => ?_
  blk_simp
  rw [after0_3]
  frame_out
  idx_vars y
  have ht : t.val < 8 := lt_of_lt_of_eq t.isLt N_0
  have e : (((View.whole main_v0_1).slice (win0_3.rect t)).emb (ix2 y0 y1) : S8192x256.Idx)
      = ix2 ⟨t.val * 1024 + y0, by omega⟩ y1 := by blk_ext [placed t]
  rw [e, MixerOutReferenceIdeal.Spec.result1_at]
  pointwise [k0_pay2]
  blk_point [iblk, V, placed t]

/-- Group 2's result array: every grid point writes its rows. -/
theorem final2 (c : Dev nD) : (dats m 0 c).arrAt 4 cfg0.N
    = MixerOutReferenceIdeal.Spec.result2 (m (c.tc.loc main_arg0)) (m (c.tc.loc main_arg1)) := by
  refine (dats m 0 c).arrAt_eq_of_covers 4 _ (by decide +kernel) fun t _ y => ?_
  blk_simp
  rw [after0_4]
  frame_out
  idx_vars y
  have ht : t.val < 8 := lt_of_lt_of_eq t.isLt N_0
  have e : (((View.whole main_v0_2).slice (win0_4.rect t)).emb (ix2 y0 y1) : S8192x384.Idx)
      = ix2 ⟨t.val * 1024 + y0, by omega⟩ y1 := by blk_ext [placed t]
  rw [e, MixerOutReferenceIdeal.Spec.result2_at]
  pointwise [k0_pay3]
  blk_point [iblk, V, placed t]

end Cert.MixerOutIdeal.Val

namespace Cert.Proof.MixerOut

/-- The frame of the kernel. -/
theorem frameKernel : quiescent_MixerOut (hMixerOut := MixerOut.Gen.facts) :=
  fun m ρ _ => MixerOut.Gen.frame m ρ

/-- The frame of its idealization. -/
theorem frameIdeal : quiescent_MixerOutIdeal (hMixerOutIdeal := MixerOutIdeal.Gen.facts) :=
  fun m ρ _ => MixerOutIdeal.Gen.frame m ρ

/-- The frame of the reference. -/
theorem frameReference : quiescent_MixerOutReferenceIdeal (hMixerOutReferenceIdeal := MixerOutReferenceIdeal.Gen.facts) :=
  fun m ρ _ => (θ_run MixerOutReferenceIdeal.defs _ _).mono
    (fun r h => ⟨fun c => (h c).2.2.2, sem_eq_zero_of_no_sems (by decide) r.2⟩)
    (MixerOutReferenceIdeal.Value.run (F := Ideal) m ρ)

/-- The kernel computes the differentiated output projection. -/
theorem algebraic : algebraic_MixerOutIdeal_MixerOutReferenceIdeal (hMixerOutIdeal := MixerOutIdeal.Gen.facts)
    (hMixerOutReferenceIdeal := MixerOutReferenceIdeal.Gen.facts) :=
  fun m ρ m' ρ' _ hag => ⟨_, _, _,
    (θ_run MixerOutIdeal.defs _ _).mono (fun _ h c => ⟨(h c).1.trans (MixerOutIdeal.Val.final0 m c), (h c).2.1.trans (MixerOutIdeal.Val.final1 m c), (h c).2.2.1.trans (MixerOutIdeal.Val.final2 m c), (h c).2.2.2⟩)
      (MixerOutIdeal.Value.run_blocks (F := Ideal) m ρ),
    (θ_run MixerOutReferenceIdeal.defs _ _).mono (fun _ h c => ⟨(h c).1.trans (by rw [← (hag c).1, ← (hag c).2]; rfl), (h c).2.1.trans (by rw [← (hag c).1, ← (hag c).2]; rfl), (h c).2.2.1.trans (by rw [← (hag c).1, ← (hag c).2]; rfl), (h c).2.2.2⟩)
      (MixerOutReferenceIdeal.Value.run (F := Ideal) m' ρ')⟩

end Cert.Proof.MixerOut

end

end
-- ==== Proof.Numbers.lean ====
/-
  Reading the preconditions: an absolute value below the printed infinity says the value is a number.
-/
module

public import Idealize.ShloMosaic.Lib.Pointwise
public import proofs.«01_k».proof.Proof.SoftmaxGrad

@[expose] public section

noncomputable section

open Idealize.ShloMosaic

namespace RowSoftmax

/-- A set flag says its proposition holds. -/
theorem of_set {p : Prop} [Decidable p] (h : BitVec.ofBool (decide p) = 1#1) : p := by
  by_contra hp
  rw [decide_eq_false hp] at h
  exact absurd h (by decide)

/-- An extended real of absolute value below infinity is a number. -/
theorem number_of_abs (x : EReal) (h : max x (-x) < (⊤ : EReal)) : IsNumber x := by
  induction x with
  | bot => simp at h
  | top => simp at h
  | coe r => exact ⟨r, rfl⟩

/-- The comparison with bfloat16's infinity. -/
theorem number_of_set16 (x : EReal) (h : BitVec.ofBool (decide (max x (-x) < Ideal.ofBits FTy.bf16 0x7F80#16)) = 1#1) : IsNumber x := by
  have e : Ideal.ofBits FTy.bf16 0x7F80#16 = ⊤ := by simp [Ideal.ofBits, Ideal.ieee]
  exact number_of_abs x (e ▸ of_set h)

/-- The comparison with float32's infinity. -/
theorem number_of_set32 (x : EReal) (h : BitVec.ofBool (decide (max x (-x) < Ideal.ofBits FTy.f32 0x7F800000#32)) = 1#1) : IsNumber x := by
  have e : Ideal.ofBits FTy.f32 0x7F800000#32 = ⊤ := by simp [Ideal.ofBits, Ideal.ieee]
  exact number_of_abs x (e ▸ of_set h)

/-- The sum of two numbers is one. -/
theorem add_number {x y : EReal} (hx : IsNumber x) (hy : IsNumber y) : IsNumber (x + y) := by
  obtain ⟨a, rfl⟩ := hx
  obtain ⟨b, rfl⟩ := hy
  exact ⟨a + b, (EReal.coe_add a b).symm⟩

/-- The difference of two numbers is one. -/
theorem sub_number {x y : EReal} (hx : IsNumber x) (hy : IsNumber y) : IsNumber (x - y) := by
  obtain ⟨a, rfl⟩ := hx
  obtain ⟨b, rfl⟩ := hy
  exact ⟨a - b, (EReal.coe_sub a b).symm⟩

/-- The product of two numbers is one. -/
theorem mul_number {x y : EReal} (hx : IsNumber x) (hy : IsNumber y) : IsNumber (x * y) := by
  obtain ⟨a, rfl⟩ := hx
  obtain ⟨b, rfl⟩ := hy
  exact ⟨a * b, (EReal.coe_mul a b).symm⟩

/-- The weight of the residual, the fourth root of eight as both programs print it, is a number. -/
theorem weight_number : IsNumber (Ideal.ofBits .f32 0x3FD744FD#32) := by
  refine ⟨14107901 * ((2 : ℝ) ^ 23)⁻¹, ?_⟩
  simp [Ideal.ofBits, Ideal.ieee]

end RowSoftmax

end

end
-- ==== Proof.LayerNormGrad.lean ====
/-
  The mathematics of the layer normalisation's gradient, row by row, over the extended reals. With `z` a row less its
  mean, `s` one over the root of its mean square (plus the epsilon) and `u` the gradient the normalised row receives, the
  kernel writes the gradient of entry `j` as `s * ((u j - mean u) - z j * s * mean (u * z * s))`. Differentiating the
  forward lines operation by operation writes it as the sum of the gradient through the division, the gradient through
  the mean square and the gradient through the mean. The two are equal when every entry is a number.
-/
module

public import Idealize.ShloMosaic.PureOps.Ideal
public import Idealize.ShloMosaic.PureOps.Ideal.Laws
public import proofs.«01_k».proof.Proof.SoftmaxGrad

@[expose] public section

noncomputable section

open Idealize.ShloMosaic RowSoftmax

namespace RowNorm

/-- The number of entries of a row, as the constant both programs print. -/
def count : EReal := Ideal.ofBits .f32 0x44800000#32
/-- The epsilon, as the constant both programs print. -/
def epsilon : EReal := Ideal.ofBits .f32 0x3727C5AC#32
/-- Minus one half, as the constant the reference prints. -/
def minusHalf : EReal := Ideal.ofBits .f32 0xBF000000#32
/-- Two, as the constant the reference prints. -/
def two : EReal := Ideal.ofBits .f32 0x40000000#32

/-- The mean of a row. -/
def mean (x : Fin 1024 → EReal) : EReal := Ideal.div (∑ j, x j) count
/-- An entry less the row's mean. -/
def centred (x : Fin 1024 → EReal) (j : Fin 1024) : EReal := x j - mean x
/-- The mean square of the centred row plus the epsilon. -/
def spread (x : Fin 1024 → EReal) : EReal := mean (fun j => centred x j * centred x j) + epsilon
/-- One over the root of the spread. -/
def scale (x : Fin 1024 → EReal) : EReal := Ideal.rsqrt (spread x)
/-- An entry of the normalised row. -/
def normal (x : Fin 1024 → EReal) (j : Fin 1024) : EReal := centred x j * scale x
/-- The gradient of entry `j` as the kernel writes it, `u` the gradient of the normalised row. -/
def slope (x u : Fin 1024 → EReal) (j : Fin 1024) : EReal :=
  scale x * ((u j - mean u) - normal x j * mean fun k => u k * normal x k)
/-- The gradient through the mean square. -/
def through (x u : Fin 1024 → EReal) (j : Fin 1024) : EReal :=
  Ideal.div ((∑ k, centred x k * u k) * (minusHalf * Ideal.div (scale x) (spread x))) count * (two * centred x j)
/-- The gradient of entry `j` as differentiating the forward lines writes it. -/
def chained (x u : Fin 1024 → EReal) (j : Fin 1024) : EReal :=
  (u j * scale x + through x u j) + Ideal.div ((∑ k, -(u k * scale x)) + ∑ k, -through x u k) count

/-- The count is 1024. -/
theorem count_eq : count = ((1024 : ℝ) : EReal) := by
  have h : (8388608 : ℝ) * ((2 : ℝ) ^ 13)⁻¹ = 1024 := by norm_num
  simp [count, Ideal.ofBits, Ideal.ieee]
  rw [← EReal.coe_mul, h]

/-- Minus one half. -/
theorem minusHalf_eq : minusHalf = ((-(1 / 2) : ℝ) : EReal) := by
  have h : (8388608 : ℝ) * ((2 : ℝ) ^ 24)⁻¹ = 1 / 2 := by norm_num
  simp [minusHalf, Ideal.ofBits, Ideal.ieee]
  rw [← EReal.coe_mul, h, one_div]

/-- Two. -/
theorem two_eq : two = ((2 : ℝ) : EReal) := by
  have h : (8388608 : ℝ) * ((2 : ℝ) ^ 22)⁻¹ = 2 := by norm_num
  simp [two, Ideal.ofBits, Ideal.ieee]
  rw [← EReal.coe_mul, h]

/-- The epsilon is a positive number. -/
theorem epsilon_pos : ∃ e : ℝ, 0 < e ∧ epsilon = (e : EReal) := by
  refine ⟨10995116 * ((2 : ℝ) ^ 40)⁻¹, by positivity, ?_⟩
  simp [epsilon, Ideal.ofBits, Ideal.ieee]
/-- A sum of numbers, as the number it is. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The mean of a row of numbers. -/
theorem mean_coe (x : Fin 1024 → ℝ) : mean (fun j => (x j : EReal)) = (((∑ j, x j) * (1 / 1024) : ℝ) : EReal) := by
  rw [mean, count_eq, Ideal.div_coe (by norm_num), ← coe_sum, ← EReal.coe_mul]

/-- The two ways of writing the gradient agree on rows of numbers. -/
theorem real_identity (z u : Fin 1024 → ℝ) (s V : ℝ) (hz : ∑ j, z j = 0) (hs : s * s * V = 1) (j : Fin 1024) :
    (u j * s + (∑ k, z k * u k) * (-(1 / 2) * (s * (1 / V))) * (1 / 1024) * (2 * z j))
        + ((∑ k, -(u k * s)) + ∑ k, -((∑ l, z l * u l) * (-(1 / 2) * (s * (1 / V))) * (1 / 1024) * (2 * z k))) * (1 / 1024)
      = s * ((u j - (∑ k, u k) * (1 / 1024)) - z j * s * ((∑ k, u k * (z k * s)) * (1 / 1024))) := by
  have hV : V ≠ 0 := by rintro rfl; simp at hs
  have e : 1 / V = s * s := by field_simp; linarith
  have h1 : ∑ k, -(u k * s) = -((∑ k, u k) * s) := by rw [Finset.sum_neg_distrib, Finset.sum_mul]
  have h2 : ∑ k, -((∑ l, z l * u l) * (-(1 / 2) * (s * (1 / V))) * (1 / 1024) * (2 * z k)) = 0 := by
    have : ∀ k, -((∑ l, z l * u l) * (-(1 / 2) * (s * (1 / V))) * (1 / 1024) * (2 * z k))
        = (-((∑ l, z l * u l) * (-(1 / 2) * (s * (1 / V))) * (1 / 1024) * 2)) * z k := fun k => by ring
    rw [Finset.sum_congr rfl fun k _ => this k, ← Finset.mul_sum, hz, mul_zero]
  have h3 : ∑ k, u k * (z k * s) = (∑ k, z k * u k) * s := by
    rw [Finset.sum_mul]; exact Finset.sum_congr rfl fun k _ => by ring
  rw [h1, h2, h3, e]
  ring

/-- The gradient as the kernel writes it is the gradient as differentiating writes it, on rows of numbers. -/
theorem chained_eq (x u : Fin 1024 → EReal) (hx : ∀ j, IsNumber (x j)) (hu : ∀ j, IsNumber (u j)) (j : Fin 1024) :
    chained x u j = slope x u j := by
  choose a ha using hx
  choose b hb using hu
  obtain ⟨e, he, hE⟩ := epsilon_pos
  obtain rfl : x = fun j => (a j : EReal) := funext ha
  obtain rfl : u = fun j => (b j : EReal) := funext hb
  have hc : ∀ k, centred (fun j => (a j : EReal)) k = ((a k - (∑ j, a j) * (1 / 1024) : ℝ) : EReal) := fun k => by
    rw [centred, mean_coe, ← EReal.coe_sub]
  generalize hz : (fun k => a k - (∑ j, a j) * (1 / 1024)) = z at *
  have hc' : ∀ k, centred (fun j => (a j : EReal)) k = (z k : EReal) := fun k => by rw [hc k, ← hz]
  have hsum : ∑ k, z k = 0 := by
    rw [← hz, Finset.sum_sub_distrib, Finset.sum_const, Finset.card_univ, Fintype.card_fin, nsmul_eq_mul]
    push_cast; ring
  have hV : spread (fun j => (a j : EReal)) = (((∑ k, z k * z k) * (1 / 1024) + e : ℝ) : EReal) := by
    rw [spread, EReal.coe_add, ← hE, ← mean_coe]
    congr 2
    funext k
    rw [hc', EReal.coe_mul]
  have hpos : 0 < (∑ k, z k * z k) * (1 / 1024) + e :=
    add_pos_of_nonneg_of_pos (mul_nonneg (Finset.sum_nonneg fun k _ => mul_self_nonneg _) (by norm_num)) he
  generalize (∑ k, z k * z k) * (1 / 1024) + e = V at hV hpos
  have hS : scale (fun j => (a j : EReal)) = (((Real.sqrt V)⁻¹ : ℝ) : EReal) := by
    rw [scale, hV, Ideal.rsqrt_coe, if_neg (not_lt.mpr hpos.le), if_neg hpos.ne']
  have hs : (Real.sqrt V)⁻¹ * (Real.sqrt V)⁻¹ * V = 1 := by
    rw [← mul_inv, Real.mul_self_sqrt hpos.le, inv_mul_cancel₀ hpos.ne']
  generalize (Real.sqrt V)⁻¹ = s at hS hs
  have ht : ∀ k, through (fun j => (a j : EReal)) (fun j => (b j : EReal)) k
      = (((∑ l, z l * b l) * (-(1 / 2) * (s * (1 / V))) * (1 / 1024) * (2 * z k) : ℝ) : EReal) := fun k => by
    rw [through, hS, hV, count_eq, minusHalf_eq, two_eq, Ideal.div_coe hpos.ne', Ideal.div_coe (by norm_num), hc']
    simp only [hc', EReal.coe_mul, coe_sum]
  have hl : chained (fun j => (a j : EReal)) (fun j => (b j : EReal)) j
      = (((b j * s + (∑ k, z k * b k) * (-(1 / 2) * (s * (1 / V))) * (1 / 1024) * (2 * z j))
        + ((∑ k, -(b k * s)) + ∑ k, -((∑ l, z l * b l) * (-(1 / 2) * (s * (1 / V))) * (1 / 1024) * (2 * z k))) * (1 / 1024) : ℝ) : EReal) := by
    rw [chained, hS, count_eq, Ideal.div_coe (by norm_num)]
    simp only [ht]
    simp only [EReal.coe_add, EReal.coe_mul, coe_sum, EReal.coe_neg]
  have hr : slope (fun j => (a j : EReal)) (fun j => (b j : EReal)) j
      = ((s * ((b j - (∑ k, b k) * (1 / 1024)) - z j * s * ((∑ k, b k * (z k * s)) * (1 / 1024))) : ℝ) : EReal) := by
    have hm : mean (fun k => (b k : EReal) * normal (fun j => (a j : EReal)) k) = (((∑ k, b k * (z k * s)) * (1 / 1024) : ℝ) : EReal) := by
      rw [← mean_coe]
      congr 1
      funext k
      rw [normal, hc', hS, EReal.coe_mul, EReal.coe_mul]
    rw [slope, hm, hS, mean_coe, normal, hc', hS]
    simp only [EReal.coe_sub, EReal.coe_mul]
  rw [hl, hr, real_identity z b s V hsum hs j]

/-- A centred entry of a row of numbers is a number. -/
theorem centred_number (x : Fin 1024 → EReal) (hx : ∀ j, IsNumber (x j)) (j : Fin 1024) : IsNumber (centred x j) := by
  choose a ha using hx
  obtain rfl : x = fun j => (a j : EReal) := funext ha
  exact ⟨a j - (∑ j, a j) * (1 / 1024), by rw [centred, mean_coe, ← EReal.coe_sub]⟩

/-- A row of numbers has a scale that is a number. -/
theorem scale_number (x : Fin 1024 → EReal) (hx : ∀ j, IsNumber (x j)) : IsNumber (scale x) := by
  choose z hz using centred_number x hx
  obtain ⟨e, he, hE⟩ := epsilon_pos
  have hV : spread x = (((∑ k, z k * z k) * (1 / 1024) + e : ℝ) : EReal) := by
    rw [spread, EReal.coe_add, ← hE, ← mean_coe]
    congr 2
    funext k
    rw [hz, EReal.coe_mul]
  have hpos : 0 < (∑ k, z k * z k) * (1 / 1024) + e :=
    add_pos_of_nonneg_of_pos (mul_nonneg (Finset.sum_nonneg fun k _ => mul_self_nonneg _) (by norm_num)) he
  exact ⟨_, by rw [scale, hV, Ideal.rsqrt_coe, if_neg (not_lt.mpr hpos.le), if_neg hpos.ne']⟩

/-- A normalised entry of a row of numbers is a number. -/
theorem normal_number (x : Fin 1024 → EReal) (hx : ∀ j, IsNumber (x j)) (j : Fin 1024) : IsNumber (normal x j) := by
  obtain ⟨a, ha⟩ := centred_number x hx j
  obtain ⟨b, hb⟩ := scale_number x hx
  exact ⟨a * b, by rw [normal, ha, hb, EReal.coe_mul]⟩

/-- A finite nonnegative factor goes into a sum. -/
theorem mul_sum {ι : Type} (t : Finset ι) (c : ℝ) (hc : 0 ≤ c) (f : ι → EReal) : (c : EReal) * ∑ i ∈ t, f i = ∑ i ∈ t, (c : EReal) * f i := by
  classical
  induction t using Finset.induction_on with
  | empty => simp
  | insert a t ha ih =>
    rw [Finset.sum_insert ha, Finset.sum_insert ha, ← ih]
    exact EReal.left_distrib_of_nonneg_of_ne_top (EReal.coe_nonneg.mpr hc) (EReal.coe_ne_top c) _ _

end RowNorm

end

end
-- ==== Proof.LayerNormReference.lean ====
/-
  The gradient of a layer normalisation over 8192 rows of 1024, as the differentiated forward lines print it, read row by
  row. The functions are the printed terms with the gradient that arrives (`d`), the gain (`g`) and the normalised
  argument (`z`) left open; three of the calls share them.
-/
module

public import proofs.«01_k».proof.Proof.Gen.X2Ln2ReferenceIdeal.Run
public import proofs.«01_k».proof.Proof.LayerNormGrad
public import Idealize.ShloMosaic.Lib.Pointwise
public import Idealize.ShloMosaic.Lib.Pipeline.ValueKit

@[expose] public section

set_option maxRecDepth 16384

noncomputable section

open Idealize.ShloMosaic

namespace RowNorm.Reference

open Cert.X2Ln2ReferenceIdeal Cert.X2Ln2ReferenceIdeal.Gen

/-- The zero the sums start from. -/
def zero : FVec Ideal S_ .f32 := constant (F := Ideal) S_ .f32 0x00000000#32
/-- The number of entries of a row, per row. -/
def counts : FVec Ideal S8192x1 .f32 := broadcastInDim S8192x1 ![] bcast_S_S8192x1 (constant (F := Ideal) S_ .f32 0x44800000#32)
/-- The gradient that arrives, times the gain. -/
def scaled (d : FVec Ideal S8192x1024 .f32) (g : FVec Ideal S1x1024 .f32) : FVec Ideal S8192x1024 .f32 :=
  mulf d (broadcastInDim S8192x1024 ![0, 1] bcast_S1x1024_S8192x1024_0_1 (broadcastInDim S1x1024 ![1] bcast_S1024_S1x1024_1 (shapeCast _ g shapeCasts_S1x1024_S1024)))
/-- The rows less their means. -/
def cent (z : FVec Ideal S8192x1024 .f32) : FVec Ideal S8192x1024 .f32 :=
  subf z (broadcastInDim S8192x1024 ![0, 1] bcast_S8192x1_S8192x1024_0_1 (Host.divf (broadcastInDim S8192x1 ![0] bcast_S8192_S8192x1_0 (Host.reduceAdd z zero reducesTo_S8192x1024_S8192_d1 h_S_)) counts))
/-- The mean squares plus the epsilon. -/
def spr (z : FVec Ideal S8192x1024 .f32) : FVec Ideal S8192x1 .f32 :=
  addf (Host.divf (broadcastInDim S8192x1 ![0] bcast_S8192_S8192x1_0 (Host.reduceAdd (mulf (cent z) (cent z)) zero reducesTo_S8192x1024_S8192_d1 h_S_)) counts) (broadcastInDim S8192x1 ![] bcast_S_S8192x1 (constant (F := Ideal) S_ .f32 0x3727C5AC#32))
/-- The scales. -/
def scl (z : FVec Ideal S8192x1024 .f32) : FVec Ideal S8192x1 .f32 := Host.rsqrt (spr z)
/-- The scales, along the rows. -/
def scls (z : FVec Ideal S8192x1024 .f32) : FVec Ideal S8192x1024 .f32 := broadcastInDim S8192x1024 ![0, 1] bcast_S8192x1_S8192x1024_0_1 (scl z)
/-- The gradient through the mean square. -/
def thru (u z : FVec Ideal S8192x1024 .f32) : FVec Ideal S8192x1024 .f32 :=
  mulf (broadcastInDim S8192x1024 ![0] bcast_S8192_S8192x1024_0 (Host.reduceAdd (Host.divf (mulf (shapeCast _ (Host.reduceAdd (mulf (cent z) u) zero reducesTo_S8192x1024_S8192_d1 h_S_) shapeCasts_S8192_S8192x1) (mulf (broadcastInDim S8192x1 ![] bcast_S_S8192x1 (constant (F := Ideal) S_ .f32 0xBF000000#32)) (Host.divf (scl z) (spr z)))) counts) zero reducesTo_S8192x1_S8192_d1 h_S_)) (mulf (broadcastInDim S8192x1024 ![] bcast_S_S8192x1024 (constant (F := Ideal) S_ .f32 0x40000000#32)) (cent z))
/-- The gradient of the normalised argument, from the gradient of the normalised rows. -/
def grad (u z : FVec Ideal S8192x1024 .f32) : FVec Ideal S8192x1024 .f32 :=
  addf (addf (mulf u (scls z)) (thru u z)) (broadcastInDim S8192x1024 ![0] bcast_S8192_S8192x1024_0 (Host.reduceAdd (Host.divf (addf (shapeCast _ (Host.reduceAdd (Host.negf (mulf u (scls z))) zero reducesTo_S8192x1024_S8192_d1 h_S_) shapeCasts_S8192_S8192x1) (shapeCast _ (Host.reduceAdd (Host.negf (thru u z)) zero reducesTo_S8192x1024_S8192_d1 h_S_) shapeCasts_S8192_S8192x1)) counts) zero reducesTo_S8192x1_S8192_d1 h_S_))
/-- The gain's gradient. -/
def gainGrad (d z : FVec Ideal S8192x1024 .f32) : FVec Ideal S1x1024 .f32 :=
  broadcastInDim S1x1024 ![1] bcast_S1024_S1x1024_1 (Host.reduceAdd (shapeCast _ (Host.reduceAdd (mulf (mulf (cent z) (scls z)) d) zero reducesTo_S8192x1024_S1024_d0 h_S_) shapeCasts_S1024_S1x1024) zero reducesTo_S1x1024_S1024_d0 h_S_)
/-- The bias's gradient. -/
def biasGrad (d : FVec Ideal S8192x1024 .f32) : FVec Ideal S1x1024 .f32 :=
  broadcastInDim S1x1024 ![1] bcast_S1024_S1x1024_1 (Host.reduceAdd (shapeCast _ (Host.reduceAdd d zero reducesTo_S8192x1024_S1024_d0 h_S_) shapeCasts_S1024_S1x1024) zero reducesTo_S1x1024_S1024_d0 h_S_)

/-- A row, as a function of its column. -/
def row (z : FVec Ideal S8192x1024 .f32) (i : Fin 8192) : Fin 1024 → EReal := fun j => z (ix2 i j)

/-- An entry of the scaled gradient. -/
theorem scaled_at (d : FVec Ideal S8192x1024 .f32) (g : FVec Ideal S1x1024 .f32) (i : Fin 8192) (j : Fin 1024) :
    scaled d g (ix2 i j) = d (ix2 i j) * g (ix2 0 j) := by
  pointwise [scaled]

/-- An entry of the centred rows. -/
theorem cent_at (z : FVec Ideal S8192x1024 .f32) (i : Fin 8192) (j : Fin 1024) : cent z (ix2 i j) = centred (row z i) j := by
  pointwise [cent, zero, counts]
  rfl

/-- A row's spread. -/
theorem spr_at (z : FVec Ideal S8192x1024 .f32) (i : Fin 8192) (l : Fin 1) : spr z (ix2 i l) = spread (row z i) := by
  pointwise [spr, cent_at, zero, counts]
  rfl

/-- A row's scale. -/
theorem scl_at (z : FVec Ideal S8192x1024 .f32) (i : Fin 8192) (l : Fin 1) : scl z (ix2 i l) = scale (row z i) := by
  pointwise [scl, spr_at]
  rfl

/-- A row's scale, at an entry. -/
theorem scls_at (z : FVec Ideal S8192x1024 .f32) (i : Fin 8192) (j : Fin 1024) : scls z (ix2 i j) = scale (row z i) := by
  pointwise [scls, scl_at]

/-- An entry of the gradient through the mean square. -/
theorem thru_at (u z : FVec Ideal S8192x1024 .f32) (i : Fin 8192) (j : Fin 1024) : thru u z (ix2 i j) = through (row z i) (row u i) j := by
  pointwise [thru, cent_at, scl_at, spr_at, zero, counts]
  rw [Fintype.sum_unique]
  rfl

/-- An entry of the gradient. -/
theorem grad_at (u z : FVec Ideal S8192x1024 .f32) (i : Fin 8192) (j : Fin 1024) : grad u z (ix2 i j) = chained (row z i) (row u i) j := by
  pointwise [grad, thru_at, scls_at, zero, counts]
  rw [Fintype.sum_unique]
  rfl

/-- The gain's gradient at a column. -/
theorem gainGrad_at (d z : FVec Ideal S8192x1024 .f32) (l : Fin 1) (j : Fin 1024) :
    gainGrad d z (ix2 l j) = ∑ i : Fin 8192, d (ix2 i j) * normal (row z i) j := by
  pointwise [gainGrad, cent_at, scls_at, zero]
  rw [Fintype.sum_unique]
  exact Finset.sum_congr rfl fun i _ => mul_comm _ _

/-- The bias's gradient at a column. -/
theorem biasGrad_at (d : FVec Ideal S8192x1024 .f32) (l : Fin 1) (j : Fin 1024) :
    biasGrad d (ix2 l j) = ∑ i : Fin 8192, d (ix2 i j) := by
  pointwise [biasGrad, zero]
  rw [Fintype.sum_unique]

end RowNorm.Reference

end

end
-- ==== Proof.X2Ln2.lean ====
/-
  The gradient of a layer normalisation from the gradient its result receives: the weighted residual gradient plus a
  product with a transposed weight. The kernel's tiles of 512 rows against the differentiated forward lines.
-/
module

public import proofs.«01_k».proof.Proof.Gen.X2Ln2.Frame
public import proofs.«01_k».proof.Proof.Gen.X2Ln2Ideal.Value
public import proofs.«01_k».proof.Proof.Gen.X2Ln2Ideal.Frame
public import proofs.«01_k».proof.Proof.Gen.X2Ln2ReferenceIdeal.Run
public import proofs.«01_k».proof.Proof.Gen.X2Ln2
public import proofs.«01_k».proof.Proof.Gen.X2Ln2Ideal
public import proofs.«01_k».proof.Proof.Gen.X2Ln2ReferenceIdeal
public import Idealize.ShloMosaic.Lib.Pointwise
public import Idealize.ShloMosaic.Lib.Pipeline.ValueKit
public import proofs.«01_k».proof.Defs
public import Idealize.ShloMosaic.Adequacy
public import Idealize.ShloMosaic.Init
public import proofs.«01_k».proof.Proof.Numbers
public import proofs.«01_k».proof.Proof.LayerNormReference
public import proofs.«01_k».proof.Pre_finite_x2_ln2

@[expose] public section

set_option maxRecDepth 16384

noncomputable section

open Idealize.ShloMosaic Idealize.ShloMosaic.TcCoe Idealize.SL.Sem
open Idealize.ShloMosaic.Pipeline (Dat)

namespace Cert.X2Ln2ReferenceIdeal.Spec

open Cert.X2Ln2ReferenceIdeal Cert.X2Ln2ReferenceIdeal.Gen RowNorm.Reference RowSoftmax

/-- The gradient the normalisation's result receives. -/
def arrived (dh : FVec Ideal S8192x4096 .bf16) (w : FVec Ideal S1024x4096 .bf16) (r : FVec Ideal S8192x1024 .f32) : FVec Ideal S8192x1024 .f32 :=
  addf (Host.dotGeneral (F := Ideal) dot_S8192x4096_S1024x4096_S8192x1024_1_1_0_0_n_n none (extf .f32 dh bitsLt_bf16_f32) (extf .f32 w bitsLt_bf16_f32)) (mulf (broadcastInDim S8192x1024 ![] bcast_S_S8192x1024 (constant (F := Ideal) S_ .f32 0x3FD744FD#32)) r)
/-- The gradient of the normalised argument. -/
def result0 (dh : FVec Ideal S8192x4096 .bf16) (w : FVec Ideal S1024x4096 .bf16) (r z : FVec Ideal S8192x1024 .f32) (g : FVec Ideal S1x1024 .f32) : FVec Ideal S8192x1024 .f32 := grad (scaled (arrived dh w r) g) z
/-- The same, cast. -/
def result1 (dh : FVec Ideal S8192x4096 .bf16) (w : FVec Ideal S1024x4096 .bf16) (r z : FVec Ideal S8192x1024 .f32) (g : FVec Ideal S1x1024 .f32) : FVec Ideal S8192x1024 .bf16 := truncf .bf16 (result0 dh w r z g) bitsLt_bf16_f32
/-- The gain's gradient. -/
def result2 (dh : FVec Ideal S8192x4096 .bf16) (w : FVec Ideal S1024x4096 .bf16) (r z : FVec Ideal S8192x1024 .f32) (_ : FVec Ideal S1x1024 .f32) : FVec Ideal S1x1024 .f32 := gainGrad (arrived dh w r) z
/-- The bias's gradient. -/
def result3 (dh : FVec Ideal S8192x4096 .bf16) (w : FVec Ideal S1024x4096 .bf16) (r _ : FVec Ideal S8192x1024 .f32) (_ : FVec Ideal S1x1024 .f32) : FVec Ideal S1x1024 .f32 := biasGrad (arrived dh w r)

/-- An entry of the arriving gradient. -/
theorem arrived_at (dh : FVec Ideal S8192x4096 .bf16) (w : FVec Ideal S1024x4096 .bf16) (r : FVec Ideal S8192x1024 .f32) (i : Fin 8192) (j : Fin 1024) :
    arrived dh w r (ix2 i j) = Ideal.ofBits .f32 0x3FD744FD#32 * r (ix2 i j) + ∑ k : Fin 4096, dh (ix2 i k) * w (ix2 j k) := by
  pointwise [arrived]
  exact add_comm _ _

/-- Every argument is a number. -/
structure Numbers (dh : FVec Ideal S8192x4096 .bf16) (w : FVec Ideal S1024x4096 .bf16) (r z : FVec Ideal S8192x1024 .f32) (g : FVec Ideal S1x1024 .f32) : Prop where
  d : ∀ i j, IsNumber (dh (ix2 i j))
  w : ∀ i j, IsNumber (w (ix2 i j))
  r : ∀ i j, IsNumber (r (ix2 i j))
  z : ∀ i j, IsNumber (z (ix2 i j))
  g : ∀ j, IsNumber (g (ix2 0 j))

/-- On numbers, a row of the gradient is the slope of the row. -/
theorem result0_at (dh : FVec Ideal S8192x4096 .bf16) (w : FVec Ideal S1024x4096 .bf16) (r z : FVec Ideal S8192x1024 .f32) (g : FVec Ideal S1x1024 .f32) (h : Numbers dh w r z g) (i : Fin 8192) (j : Fin 1024) :
    result0 dh w r z g (ix2 i j) = RowNorm.slope (fun k => z (ix2 i k)) (fun k => arrived dh w r (ix2 i k) * g (ix2 0 k)) j := by
  have e : row (scaled (arrived dh w r) g) i = fun k => arrived dh w r (ix2 i k) * g (ix2 0 k) := funext fun k => scaled_at _ _ _ _
  rw [result0, grad_at, RowNorm.chained_eq, e]
  · rfl
  · exact fun k => h.z i k
  · intro k
    rw [e]
    refine (show IsNumber (arrived dh w r (ix2 i k) * g (ix2 0 k)) from ?_)
    rw [arrived_at]
    exact mul_number (add_number (mul_number weight_number (h.r i k)) (sum_isNumber _ _ fun l => mul_number (h.d i l) (h.w k l))) (h.g k)

end Cert.X2Ln2ReferenceIdeal.Spec

namespace Cert.Pre_finite_x2_ln2

/-- The precondition's shapes fit. -/
theorem facts : Facts where
  bcast_S_S8192x4096 := by decide
  bcast_S_S1024x4096 := by decide
  bcast_S_S8192x1024 := by decide
  bcast_S_S1x1024 := by decide

/-- Where the precondition's flags of `dh` are set, its entries are numbers. -/
theorem number_dh [Facts] (dh : FVec Ideal S8192x4096 .bf16) (w : FVec Ideal S1024x4096 .bf16) (r : FVec Ideal S8192x1024 .f32) (z : FVec Ideal S8192x1024 .f32) (g : FVec Ideal S1x1024 .f32)
    (h : (fn (F := Ideal) dh w r z g).1 = fun _ => 1#1) (p : Fin 8192) (q : Fin 4096) : RowSoftmax.IsNumber (dh (ix2 p q)) := by
  have := congrFun h (ix2 p q)
  pointwise [fn] at this
  exact RowSoftmax.number_of_set16 _ this

/-- Where the precondition's flags of `w` are set, its entries are numbers. -/
theorem number_w [Facts] (dh : FVec Ideal S8192x4096 .bf16) (w : FVec Ideal S1024x4096 .bf16) (r : FVec Ideal S8192x1024 .f32) (z : FVec Ideal S8192x1024 .f32) (g : FVec Ideal S1x1024 .f32)
    (h : (fn (F := Ideal) dh w r z g).2.1 = fun _ => 1#1) (p : Fin 1024) (q : Fin 4096) : RowSoftmax.IsNumber (w (ix2 p q)) := by
  have := congrFun h (ix2 p q)
  pointwise [fn] at this
  exact RowSoftmax.number_of_set16 _ this

/-- Where the precondition's flags of `r` are set, its entries are numbers. -/
theorem number_r [Facts] (dh : FVec Ideal S8192x4096 .bf16) (w : FVec Ideal S1024x4096 .bf16) (r : FVec Ideal S8192x1024 .f32) (z : FVec Ideal S8192x1024 .f32) (g : FVec Ideal S1x1024 .f32)
    (h : (fn (F := Ideal) dh w r z g).2.2.1 = fun _ => 1#1) (p : Fin 8192) (q : Fin 1024) : RowSoftmax.IsNumber (r (ix2 p q)) := by
  have := congrFun h (ix2 p q)
  pointwise [fn] at this
  exact RowSoftmax.number_of_set32 _ this

/-- Where the precondition's flags of `z` are set, its entries are numbers. -/
theorem number_z [Facts] (dh : FVec Ideal S8192x4096 .bf16) (w : FVec Ideal S1024x4096 .bf16) (r : FVec Ideal S8192x1024 .f32) (z : FVec Ideal S8192x1024 .f32) (g : FVec Ideal S1x1024 .f32)
    (h : (fn (F := Ideal) dh w r z g).2.2.2.1 = fun _ => 1#1) (p : Fin 8192) (q : Fin 1024) : RowSoftmax.IsNumber (z (ix2 p q)) := by
  have := congrFun h (ix2 p q)
  pointwise [fn] at this
  exact RowSoftmax.number_of_set32 _ this

/-- Where the precondition's flags of `g` are set, its entries are numbers. -/
theorem number_g [Facts] (dh : FVec Ideal S8192x4096 .bf16) (w : FVec Ideal S1024x4096 .bf16) (r : FVec Ideal S8192x1024 .f32) (z : FVec Ideal S8192x1024 .f32) (g : FVec Ideal S1x1024 .f32)
    (h : (fn (F := Ideal) dh w r z g).2.2.2.2 = fun _ => 1#1) (p : Fin 1) (q : Fin 1024) : RowSoftmax.IsNumber (g (ix2 p q)) := by
  have := congrFun h (ix2 p q)
  pointwise [fn] at this
  exact RowSoftmax.number_of_set32 _ this

end Cert.Pre_finite_x2_ln2

namespace Cert.X2Ln2Ideal.Val

open Cert.X2Ln2Ideal Cert.X2Ln2Ideal.Gen RowNorm

variable (m : (ℓ : Loc nD τ sig) → Buf (Elt Ideal) ℓ)

/-- The precondition makes every argument a number. -/
theorem numbers [Pre_finite_x2_ln2.Facts] (c : Dev nD) (h : let p := Pre_finite_x2_ln2.fn (F := Ideal) (m (c.tc.loc main_arg0)) (m (c.tc.loc main_arg1)) (m (c.tc.loc main_arg2)) (m (c.tc.loc main_arg3)) (m (c.tc.loc main_arg4)); p.1 = (fun _ => 1#1) ∧ p.2.1 = (fun _ => 1#1) ∧ p.2.2.1 = (fun _ => 1#1) ∧ p.2.2.2.1 = (fun _ => 1#1) ∧ p.2.2.2.2 = (fun _ => 1#1)) :
    X2Ln2ReferenceIdeal.Spec.Numbers (m (c.tc.loc main_arg0)) (m (c.tc.loc main_arg1)) (m (c.tc.loc main_arg2)) (m (c.tc.loc main_arg3)) (m (c.tc.loc main_arg4)) where
  d i j := Pre_finite_x2_ln2.number_dh _ _ _ _ _ h.1 i j
  w i j := Pre_finite_x2_ln2.number_w _ _ _ _ _ h.2.1 i j
  r i j := Pre_finite_x2_ln2.number_r _ _ _ _ _ h.2.2.1 i j
  z i j := Pre_finite_x2_ln2.number_z _ _ _ _ _ h.2.2.2.1 i j
  g j := Pre_finite_x2_ln2.number_g _ _ _ _ _ h.2.2.2.2 0 j

/-- Where the windows' blocks lie at point `t`. -/
theorem placed : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![t.val, 0]
    ∧ win0_7.index t = ![0, 0] ∧ win0_8.index t = ![0, 0] :=
  (by decide +kernel : ∀ t : Fin grid0.N, _)

/-- An entry of the tile's arriving gradient. -/
theorem arrived_at (r : Vec Ideal S512x1024 .f32) (dh : Vec Ideal S512x4096 .bf16) (w : Vec Ideal S1024x4096 .bf16) (i : Fin 512) (j : Fin 1024) :
    k0_pay7 (F := Ideal) r dh w (ix2 i j) = Ideal.ofBits .f32 0x3FD744FD#32 * r (ix2 i j) + ∑ k : Fin 4096, dh (ix2 i k) * w (ix2 j k) := by
  pointwise [k0_pay7]

/-- An entry of the tile's centred rows. -/
theorem centred_at (z : Vec Ideal S512x1024 .f32) (i : Fin 512) (j : Fin 1024) :
    k0_pay8 (F := Ideal) z (ix2 i j) = centred (fun k => z (ix2 i k)) j := by
  pointwise [k0_pay8]
  rfl

/-- A row's scale. -/
theorem scale_at (z : Vec Ideal S512x1024 .f32) (i : Fin 512) (l : Fin 1) :
    k0_pay9 (F := Ideal) z (ix2 i l) = scale (fun k => z (ix2 i k)) := by
  pointwise [k0_pay9, centred_at]
  rfl

/-- An entry of the tile's normalised rows. -/
theorem normal_at (z : Vec Ideal S512x1024 .f32) (i : Fin 512) (j : Fin 1024) :
    k0_pay10 (F := Ideal) z (ix2 i j) = normal (fun k => z (ix2 i k)) j := by
  pointwise [k0_pay10, centred_at, scale_at]
  rfl

/-- An entry of the arriving gradient times the gain. -/
theorem upstream_at (r : Vec Ideal S512x1024 .f32) (dh : Vec Ideal S512x4096 .bf16) (w : Vec Ideal S1024x4096 .bf16) (g : Vec Ideal S1x1024 .f32) (i : Fin 512) (j : Fin 1024) :
    k0_pay11 (F := Ideal) r dh w g (ix2 i j) = k0_pay7 (F := Ideal) r dh w (ix2 i j) * g (ix2 0 j) := by
  pointwise [k0_pay11]

/-- The same less its row's mean. -/
theorem upstream_centred_at (r : Vec Ideal S512x1024 .f32) (dh : Vec Ideal S512x4096 .bf16) (w : Vec Ideal S1024x4096 .bf16) (g : Vec Ideal S1x1024 .f32) (i : Fin 512) (j : Fin 1024) :
    k0_pay12 (F := Ideal) r dh w g (ix2 i j) = k0_pay7 (F := Ideal) r dh w (ix2 i j) * g (ix2 0 j) - mean fun k => k0_pay7 (F := Ideal) r dh w (ix2 i k) * g (ix2 0 k) := by
  pointwise [k0_pay12, upstream_at]
  rfl

/-- The same times the normalised rows. -/
theorem upstream_normal_at (r : Vec Ideal S512x1024 .f32) (dh : Vec Ideal S512x4096 .bf16) (w : Vec Ideal S1024x4096 .bf16) (z : Vec Ideal S512x1024 .f32) (g : Vec Ideal S1x1024 .f32) (i : Fin 512) (j : Fin 1024) :
    k0_pay13 (F := Ideal) r dh w z g (ix2 i j) = k0_pay7 (F := Ideal) r dh w (ix2 i j) * g (ix2 0 j) * normal (fun k => z (ix2 i k)) j := by
  pointwise [k0_pay13, upstream_at, normal_at]

/-- An entry of the tile of the gradient is its row's slope. -/
theorem slope_at (r : Vec Ideal S512x1024 .f32) (dh : Vec Ideal S512x4096 .bf16) (w : Vec Ideal S1024x4096 .bf16) (z : Vec Ideal S512x1024 .f32) (g : Vec Ideal S1x1024 .f32) (i : Fin 512) (j : Fin 1024) :
    k0_pay1 (F := Ideal) (k0_pay9 (F := Ideal) z) (k0_pay10 (F := Ideal) z) (k0_pay12 (F := Ideal) r dh w g) (k0_pay13 (F := Ideal) r dh w z g) (ix2 i j)
      = slope (fun k => z (ix2 i k)) (fun k => k0_pay7 (F := Ideal) r dh w (ix2 i k) * g (ix2 0 k)) j := by
  pointwise [k0_pay1, scale_at, normal_at, upstream_centred_at, upstream_normal_at]
  rfl

/-- One tile's contribution to the gain's gradient, added to what was accumulated. -/
theorem gain_at (d : FVec Ideal S512x1024 .f32) (x : FVec Ideal S512x1024 .f32) (acc : Vec Ideal S1x1024 .f32) (l : Fin 1) (j : Fin 1024) :
    k0_pay3 (F := Ideal) d x acc (ix2 l j) = acc (ix2 l j) + ∑ i : Fin 512, d (ix2 i j) * x (ix2 i j) := by
  pointwise [k0_pay3]

/-- One tile's contribution to the bias's gradient, added to what was accumulated. -/
theorem bias_at (d : FVec Ideal S512x1024 .f32) (acc : Vec Ideal S1x1024 .f32) (l : Fin 1) (j : Fin 1024) :
    k0_pay4 (F := Ideal) d acc (ix2 l j) = acc (ix2 l j) + ∑ i : Fin 512, d (ix2 i j) := by
  pointwise [k0_pay4]

/-- The zero fills. -/
theorem zero_at (j : S1x1024.Idx) : k0_pay5 (F := Ideal) j = 0 ∧ k0_pay6 (F := Ideal) j = 0 := by
  constructor
  · pointwise [k0_pay5]
  · pointwise [k0_pay6]

/-- The tile's arriving gradient is its rows of the whole arriving gradient. -/
theorem tile_arrived (c : Dev nD) (t : Fin cfg0.N) (i : Fin 512) (j : Fin 1024) (h : t.val * 512 + i.val < 8192) :
    k0_pay7 (F := Ideal) (iblk m c 1 t) (iblk m c 0 t) (iblk m c 3 t) (ix2 i j)
      = X2Ln2ReferenceIdeal.Spec.arrived (m (c.tc.loc main_arg0)) (m (c.tc.loc main_arg1)) (m (c.tc.loc main_arg2)) (ix2 ⟨t.val * 512 + i.val, h⟩ j) := by
  rw [arrived_at, X2Ln2ReferenceIdeal.Spec.arrived_at]
  refine congrArg₂ (· + ·) (congrArg (_ * ·) ?_) (Finset.sum_congr rfl fun k _ => congrArg₂ (· * ·) ?_ ?_) <;> blk_point [iblk, V, placed t]

/-- A row of the tile's normalised argument is that row of the whole. -/
theorem tile_row (c : Dev nD) (t : Fin cfg0.N) (i : Fin 512) (h : t.val * 512 + i.val < 8192) :
    (fun k => (iblk m c 2 t : Vec Ideal S512x1024 .f32) (ix2 i k)) = fun k => (m (c.tc.loc main_arg3) : FVec Ideal S8192x1024 .f32) (ix2 ⟨t.val * 512 + i.val, h⟩ k) := by
  funext k
  blk_point [iblk, V, placed t]

/-- The gain is read whole. -/
theorem tile_gain (c : Dev nD) (t : Fin cfg0.N) (k : Fin 1024) :
    (iblk m c 4 t : Vec Ideal S1x1024 .f32) (ix2 0 k) = (m (c.tc.loc main_arg4) : FVec Ideal S1x1024 .f32) (ix2 0 k) := by
  blk_point [iblk, V, placed t]

/-- A tile of the gradient is its rows of the whole gradient. -/
theorem tile_slope (c : Dev nD) (hn : X2Ln2ReferenceIdeal.Spec.Numbers (m (c.tc.loc main_arg0)) (m (c.tc.loc main_arg1)) (m (c.tc.loc main_arg2)) (m (c.tc.loc main_arg3)) (m (c.tc.loc main_arg4))) (t : Fin cfg0.N) (i : Fin 512) (j : Fin 1024) (h : t.val * 512 + i.val < 8192) :
    k0_pay1 (F := Ideal) (k0_pay9 (F := Ideal) (iblk m c 2 t)) (k0_pay10 (F := Ideal) (iblk m c 2 t)) (k0_pay12 (F := Ideal) (iblk m c 1 t) (iblk m c 0 t) (iblk m c 3 t) (iblk m c 4 t)) (k0_pay13 (F := Ideal) (iblk m c 1 t) (iblk m c 0 t) (iblk m c 3 t) (iblk m c 2 t) (iblk m c 4 t)) (ix2 i j)
      = X2Ln2ReferenceIdeal.Spec.result0 (m (c.tc.loc main_arg0)) (m (c.tc.loc main_arg1)) (m (c.tc.loc main_arg2)) (m (c.tc.loc main_arg3)) (m (c.tc.loc main_arg4)) (ix2 ⟨t.val * 512 + i.val, h⟩ j) := by
  rw [slope_at, X2Ln2ReferenceIdeal.Spec.result0_at _ _ _ _ _ hn]
  refine congrArg₂ (fun x u => slope x u j) (tile_row m c t i h) (funext fun k => ?_)
  rw [tile_arrived m c t i k h, tile_gain]

/-- Which payloads a point leaves in the two gradient blocks. -/
theorem outs_at (c : Dev nD) (t : Fin cfg0.N) :
    (outsAt0 m c t.val t.isLt).1 = k0_pay1 (F := Ideal) (k0_pay9 (F := Ideal) (iblk m c 2 t)) (k0_pay10 (F := Ideal) (iblk m c 2 t)) (k0_pay12 (F := Ideal) (iblk m c 1 t) (iblk m c 0 t) (iblk m c 3 t) (iblk m c 4 t)) (k0_pay13 (F := Ideal) (iblk m c 1 t) (iblk m c 0 t) (iblk m c 3 t) (iblk m c 2 t) (iblk m c 4 t))
    ∧ (outsAt0 m c t.val t.isLt).2.1 = k0_pay2 (F := Ideal) (k0_pay9 (F := Ideal) (iblk m c 2 t)) (k0_pay10 (F := Ideal) (iblk m c 2 t)) (k0_pay12 (F := Ideal) (iblk m c 1 t) (iblk m c 0 t) (iblk m c 3 t) (iblk m c 4 t)) (k0_pay13 (F := Ideal) (iblk m c 1 t) (iblk m c 0 t) (iblk m c 3 t) (iblk m c 2 t) (iblk m c 4 t)) := by
  by_cases h0 : t.val % 16 = 0
  · rw [outsAt0_A m c t h0]
    constructor <;> frame_out
  · rw [outsAt0_B m c t h0]
    constructor <;> frame_out

/-- The gradient's array. -/
theorem final0 (c : Dev nD) (hn : X2Ln2ReferenceIdeal.Spec.Numbers (m (c.tc.loc main_arg0)) (m (c.tc.loc main_arg1)) (m (c.tc.loc main_arg2)) (m (c.tc.loc main_arg3)) (m (c.tc.loc main_arg4))) : (dats m 0 c).arrAt 5 cfg0.N = X2Ln2ReferenceIdeal.Spec.result0 (m (c.tc.loc main_arg0)) (m (c.tc.loc main_arg1)) (m (c.tc.loc main_arg2)) (m (c.tc.loc main_arg3)) (m (c.tc.loc main_arg4)) := by
  refine (dats m 0 c).arrAt_eq_of_covers 5 _ (by decide +kernel) fun t _ y => ?_
  blk_simp
  rw [after0_5, (outs_at m c t).1]
  idx_vars y
  have ht : t.val < 16 := lt_of_lt_of_eq t.isLt N_0
  have e : (((View.whole main_v0_0).slice (win0_5.rect t)).emb (ix2 y0 y1) : S8192x1024.Idx) = ix2 ⟨t.val * 512 + y0, by omega⟩ y1 := by blk_ext [placed t]
  rw [e]
  exact tile_slope m c hn t y0 y1 (by omega)

/-- The cast gradient's array. -/
theorem final1 (c : Dev nD) (hn : X2Ln2ReferenceIdeal.Spec.Numbers (m (c.tc.loc main_arg0)) (m (c.tc.loc main_arg1)) (m (c.tc.loc main_arg2)) (m (c.tc.loc main_arg3)) (m (c.tc.loc main_arg4))) : (dats m 0 c).arrAt 6 cfg0.N = X2Ln2ReferenceIdeal.Spec.result1 (m (c.tc.loc main_arg0)) (m (c.tc.loc main_arg1)) (m (c.tc.loc main_arg2)) (m (c.tc.loc main_arg3)) (m (c.tc.loc main_arg4)) := by
  refine (dats m 0 c).arrAt_eq_of_covers 6 _ (by decide +kernel) fun t _ y => ?_
  blk_simp
  rw [after0_6, (outs_at m c t).2]
  idx_vars y
  have ht : t.val < 16 := lt_of_lt_of_eq t.isLt N_0
  have e : (((View.whole main_v0_1).slice (win0_6.rect t)).emb (ix2 y0 y1) : S8192x1024.Idx) = ix2 ⟨t.val * 512 + y0, by omega⟩ y1 := by blk_ext [placed t]
  rw [e]
  exact tile_slope m c hn t y0 y1 (by omega)

/-- The gain's gradient: the run of points accumulates it over the tiles of rows. -/
theorem final2 (c : Dev nD) : (dats m 0 c).arrAt 7 cfg0.N = X2Ln2ReferenceIdeal.Spec.result2 (m (c.tc.loc main_arg0)) (m (c.tc.loc main_arg1)) (m (c.tc.loc main_arg2)) (m (c.tc.loc main_arg3)) (m (c.tc.loc main_arg4)) := by
  refine (dats m 0 c).arrAt_eq_of_covers 7 _ (by decide +kernel) fun t hf y => ?_
  blk_simp
  have ht : t.val < 16 := lt_of_lt_of_eq t.isLt N_0
  have hs : ∀ s : Fin 16, 16 * (t.val / 16) + s.val < 16 := fun s => by omega
  idx_vars y
  rw [after0_7, Pipeline.eq_sum_fin_of_reset_step_apply_of_flush (fun n h => (outsAt0 m c n h).2.2.1) 16 (fun _ => 0)
    (fun n j => ∑ i : Fin 512, k0_pay7 (F := Ideal) (iblk m c 1 n) (iblk m c 0 n) (iblk m c 3 n) (ix2 i (j 1)) * normal (fun k => (iblk m c 2 n : Vec Ideal S512x1024 .f32) (ix2 i k)) (j 1))
    (fun t h j => by rw [outsAt0_A m c t h]; frame_out; idx_vars j; rw [gain_at, (zero_at _).1]; simp only [normal_at])
    (fun t h j => by rw [outsAt0_B m c t h]; frame_out; idx_vars j; rw [gain_at]; simp only [normal_at])
    t ((flush0_7 t).mp hf) _, zero_add]
  have e : (((View.whole main_v0_2).slice (win0_7.rect t)).emb (ix2 y0 y1) : S1x1024.Idx) = ix2 y0 y1 := by blk_ext [placed t]
  rw [e, X2Ln2ReferenceIdeal.Spec.result2, RowNorm.Reference.gainGrad_at]
  refine Fin.sum_mul_add_congr fun s k hl => ?_
  have hk : (⟨16 * (t.val / 16) + s.val, hs s⟩ : Fin 16).val * 512 + k.val < 8192 := by dsimp only; omega
  have ek : (⟨s.val * 512 + k.val, hl⟩ : Fin 8192) = ⟨(16 * (t.val / 16) + s.val) * 512 + k.val, hk⟩ := Fin.ext (by dsimp only; omega)
  rw [ek]
  exact congrArg₂ (· * ·) (tile_arrived m c _ k y1 hk) (congrArg (fun x => normal x y1) (tile_row m c _ k hk))

/-- The bias's gradient: the run of points accumulates it over the tiles of rows. -/
theorem final3 (c : Dev nD) : (dats m 0 c).arrAt 8 cfg0.N = X2Ln2ReferenceIdeal.Spec.result3 (m (c.tc.loc main_arg0)) (m (c.tc.loc main_arg1)) (m (c.tc.loc main_arg2)) (m (c.tc.loc main_arg3)) (m (c.tc.loc main_arg4)) := by
  refine (dats m 0 c).arrAt_eq_of_covers 8 _ (by decide +kernel) fun t hf y => ?_
  blk_simp
  have ht : t.val < 16 := lt_of_lt_of_eq t.isLt N_0
  have hs : ∀ s : Fin 16, 16 * (t.val / 16) + s.val < 16 := fun s => by omega
  idx_vars y
  rw [after0_8, Pipeline.eq_sum_fin_of_reset_step_apply_of_flush (fun n h => (outsAt0 m c n h).2.2.2) 16 (fun _ => 0)
    (fun n j => ∑ i : Fin 512, k0_pay7 (F := Ideal) (iblk m c 1 n) (iblk m c 0 n) (iblk m c 3 n) (ix2 i (j 1)))
    (fun t h j => by rw [outsAt0_A m c t h]; frame_out; idx_vars j; rw [bias_at, (zero_at _).2])
    (fun t h j => by rw [outsAt0_B m c t h]; frame_out; idx_vars j; rw [bias_at])
    t ((flush0_8 t).mp hf) _, zero_add]
  have e : (((View.whole main_v0_3).slice (win0_8.rect t)).emb (ix2 y0 y1) : S1x1024.Idx) = ix2 y0 y1 := by blk_ext [placed t]
  rw [e, X2Ln2ReferenceIdeal.Spec.result3, RowNorm.Reference.biasGrad_at]
  refine Fin.sum_mul_add_congr fun s k hl => ?_
  have hk : (⟨16 * (t.val / 16) + s.val, hs s⟩ : Fin 16).val * 512 + k.val < 8192 := by dsimp only; omega
  have ek : (⟨s.val * 512 + k.val, hl⟩ : Fin 8192) = ⟨(16 * (t.val / 16) + s.val) * 512 + k.val, hk⟩ := Fin.ext (by dsimp only; omega)
  rw [ek]
  exact tile_arrived m c _ k y1 hk

end Cert.X2Ln2Ideal.Val

namespace Cert.Proof.X2Ln2

/-- The frame of the kernel. -/
theorem frameKernel : quiescent_X2Ln2 (hX2Ln2 := X2Ln2.Gen.facts) :=
  fun m ρ _ => X2Ln2.Gen.frame m ρ

/-- The frame of its idealization. -/
theorem frameIdeal : quiescent_X2Ln2Ideal (hX2Ln2Ideal := X2Ln2Ideal.Gen.facts) :=
  fun m ρ _ => X2Ln2Ideal.Gen.frame m ρ

/-- The same under the precondition. -/
theorem frameIdealPre : quiescent_X2Ln2Ideal_pre_finite_x2_ln2 (hX2Ln2Ideal := X2Ln2Ideal.Gen.facts) (hPre_finite_x2_ln2 := Pre_finite_x2_ln2.facts) :=
  fun m ρ _ => X2Ln2Ideal.Gen.frame m ρ

/-- The frame of the reference. -/
theorem frameReference : quiescent_X2Ln2ReferenceIdeal (hX2Ln2ReferenceIdeal := X2Ln2ReferenceIdeal.Gen.facts) :=
  fun m ρ _ => (θ_run X2Ln2ReferenceIdeal.defs _ _).mono
    (fun r h => ⟨fun c => (h c).2.2.2.2, sem_eq_zero_of_no_sems (by decide) r.2⟩)
    (X2Ln2ReferenceIdeal.Value.run (F := Ideal) m ρ)

/-- The same under the precondition. -/
theorem frameReferencePre : quiescent_X2Ln2ReferenceIdeal_pre_finite_x2_ln2 (hX2Ln2ReferenceIdeal := X2Ln2ReferenceIdeal.Gen.facts) (hPre_finite_x2_ln2 := Pre_finite_x2_ln2.facts) :=
  fun m ρ _ => frameReference m ρ trivial

/-- On arguments that are numbers, the kernel's four results are the differentiated normalisation's. -/
theorem algebraic : algebraic_X2Ln2Ideal_X2Ln2ReferenceIdeal_pre_finite_x2_ln2 (hX2Ln2Ideal := X2Ln2Ideal.Gen.facts) (hX2Ln2ReferenceIdeal := X2Ln2ReferenceIdeal.Gen.facts) (hPre_finite_x2_ln2 := Pre_finite_x2_ln2.facts) :=
  fun m ρ m' ρ' hpre hag => ⟨_, _, _, _,
    (θ_run X2Ln2Ideal.defs _ _).mono (fun _ h c => ⟨(h c).1.trans (X2Ln2Ideal.Val.final0 m c (@X2Ln2Ideal.Val.numbers m Pre_finite_x2_ln2.facts c (hpre c))),
        (h c).2.1.trans (X2Ln2Ideal.Val.final1 m c (@X2Ln2Ideal.Val.numbers m Pre_finite_x2_ln2.facts c (hpre c))),
        (h c).2.2.1.trans (X2Ln2Ideal.Val.final2 m c),
        (h c).2.2.2.1.trans (X2Ln2Ideal.Val.final3 m c), (h c).2.2.2.2⟩)
      (X2Ln2Ideal.Value.run_blocks (F := Ideal) m ρ),
    (θ_run X2Ln2ReferenceIdeal.defs _ _).mono (fun _ h c => ⟨(h c).1.trans (by rw [← (hag c).1, ← (hag c).2.1, ← (hag c).2.2.1, ← (hag c).2.2.2.1, ← (hag c).2.2.2.2]; rfl),
        (h c).2.1.trans (by rw [← (hag c).1, ← (hag c).2.1, ← (hag c).2.2.1, ← (hag c).2.2.2.1, ← (hag c).2.2.2.2]; rfl),
        (h c).2.2.1.trans (by rw [← (hag c).1, ← (hag c).2.1, ← (hag c).2.2.1, ← (hag c).2.2.2.1, ← (hag c).2.2.2.2]; rfl),
        (h c).2.2.2.1.trans (by rw [← (hag c).1, ← (hag c).2.1, ← (hag c).2.2.1, ← (hag c).2.2.2.1, ← (hag c).2.2.2.2]; rfl), (h c).2.2.2.2⟩)
      (X2Ln2ReferenceIdeal.Value.run (F := Ideal) m' ρ')⟩

end Cert.Proof.X2Ln2

end

end
-- ==== Proof.X1Ln1.lean ====
/-
  The gradient of a layer normalisation from the gradient its result receives: the weighted residual gradient plus a
  product with a transposed weight. The kernel's tiles of 1024 rows against the differentiated forward lines.
-/
module

public import proofs.«01_k».proof.Proof.Gen.X1Ln1.Frame
public import proofs.«01_k».proof.Proof.Gen.X1Ln1Ideal.Value
public import proofs.«01_k».proof.Proof.Gen.X1Ln1Ideal.Frame
public import proofs.«01_k».proof.Proof.Gen.X1Ln1ReferenceIdeal.Run
public import proofs.«01_k».proof.Proof.Gen.X1Ln1
public import proofs.«01_k».proof.Proof.Gen.X1Ln1Ideal
public import proofs.«01_k».proof.Proof.Gen.X1Ln1ReferenceIdeal
public import Idealize.ShloMosaic.Lib.Pointwise
public import Idealize.ShloMosaic.Lib.Pipeline.ValueKit
public import proofs.«01_k».proof.Defs
public import Idealize.ShloMosaic.Adequacy
public import Idealize.ShloMosaic.Init
public import proofs.«01_k».proof.Proof.Numbers
public import proofs.«01_k».proof.Proof.LayerNormReference
public import proofs.«01_k».proof.Pre_finite_x1_ln1

@[expose] public section

set_option maxRecDepth 16384

noncomputable section

open Idealize.ShloMosaic Idealize.ShloMosaic.TcCoe Idealize.SL.Sem
open Idealize.ShloMosaic.Pipeline (Dat)

namespace Cert.X1Ln1ReferenceIdeal.Spec

open Cert.X1Ln1ReferenceIdeal Cert.X1Ln1ReferenceIdeal.Gen RowNorm.Reference RowSoftmax

/-- The gradient the normalisation's result receives. -/
def arrived (dq : FVec Ideal S8192x1024 .bf16) (w : FVec Ideal S1024x1024 .bf16) (r : FVec Ideal S8192x1024 .f32) : FVec Ideal S8192x1024 .f32 :=
  addf (Host.dotGeneral (F := Ideal) dot_S8192x1024_S1024x1024_S8192x1024_1_1_0_0_n_n none (extf .f32 dq bitsLt_bf16_f32) (extf .f32 w bitsLt_bf16_f32)) (mulf (broadcastInDim S8192x1024 ![] bcast_S_S8192x1024 (constant (F := Ideal) S_ .f32 0x3FD744FD#32)) r)
/-- The gradient of the normalised argument. -/
def result0 (dq : FVec Ideal S8192x1024 .bf16) (w : FVec Ideal S1024x1024 .bf16) (r z : FVec Ideal S8192x1024 .f32) (g : FVec Ideal S1x1024 .f32) : FVec Ideal S8192x1024 .f32 := grad (scaled (arrived dq w r) g) z
/-- The same, cast. -/
def result1 (dq : FVec Ideal S8192x1024 .bf16) (w : FVec Ideal S1024x1024 .bf16) (r z : FVec Ideal S8192x1024 .f32) (g : FVec Ideal S1x1024 .f32) : FVec Ideal S8192x1024 .bf16 := truncf .bf16 (result0 dq w r z g) bitsLt_bf16_f32
/-- The gain's gradient. -/
def result2 (dq : FVec Ideal S8192x1024 .bf16) (w : FVec Ideal S1024x1024 .bf16) (r z : FVec Ideal S8192x1024 .f32) (_ : FVec Ideal S1x1024 .f32) : FVec Ideal S1x1024 .f32 := gainGrad (arrived dq w r) z
/-- The bias's gradient. -/
def result3 (dq : FVec Ideal S8192x1024 .bf16) (w : FVec Ideal S1024x1024 .bf16) (r _ : FVec Ideal S8192x1024 .f32) (_ : FVec Ideal S1x1024 .f32) : FVec Ideal S1x1024 .f32 := biasGrad (arrived dq w r)

/-- An entry of the arriving gradient. -/
theorem arrived_at (dq : FVec Ideal S8192x1024 .bf16) (w : FVec Ideal S1024x1024 .bf16) (r : FVec Ideal S8192x1024 .f32) (i : Fin 8192) (j : Fin 1024) :
    arrived dq w r (ix2 i j) = Ideal.ofBits .f32 0x3FD744FD#32 * r (ix2 i j) + ∑ k : Fin 1024, dq (ix2 i k) * w (ix2 j k) := by
  pointwise [arrived]
  exact add_comm _ _

/-- Every argument is a number. -/
structure Numbers (dq : FVec Ideal S8192x1024 .bf16) (w : FVec Ideal S1024x1024 .bf16) (r z : FVec Ideal S8192x1024 .f32) (g : FVec Ideal S1x1024 .f32) : Prop where
  d : ∀ i j, IsNumber (dq (ix2 i j))
  w : ∀ i j, IsNumber (w (ix2 i j))
  r : ∀ i j, IsNumber (r (ix2 i j))
  z : ∀ i j, IsNumber (z (ix2 i j))
  g : ∀ j, IsNumber (g (ix2 0 j))

/-- On numbers, a row of the gradient is the slope of the row. -/
theorem result0_at (dq : FVec Ideal S8192x1024 .bf16) (w : FVec Ideal S1024x1024 .bf16) (r z : FVec Ideal S8192x1024 .f32) (g : FVec Ideal S1x1024 .f32) (h : Numbers dq w r z g) (i : Fin 8192) (j : Fin 1024) :
    result0 dq w r z g (ix2 i j) = RowNorm.slope (fun k => z (ix2 i k)) (fun k => arrived dq w r (ix2 i k) * g (ix2 0 k)) j := by
  have e : row (scaled (arrived dq w r) g) i = fun k => arrived dq w r (ix2 i k) * g (ix2 0 k) := funext fun k => scaled_at _ _ _ _
  rw [result0, grad_at, RowNorm.chained_eq, e]
  · rfl
  · exact fun k => h.z i k
  · intro k
    rw [e]
    refine (show IsNumber (arrived dq w r (ix2 i k) * g (ix2 0 k)) from ?_)
    rw [arrived_at]
    exact mul_number (add_number (mul_number weight_number (h.r i k)) (sum_isNumber _ _ fun l => mul_number (h.d i l) (h.w k l))) (h.g k)

end Cert.X1Ln1ReferenceIdeal.Spec

namespace Cert.Pre_finite_x1_ln1

/-- The precondition's shapes fit. -/
theorem facts : Facts where
  bcast_S_S8192x1024 := by decide
  bcast_S_S1024x1024 := by decide
  bcast_S_S1x1024 := by decide

/-- Where the precondition's flags of `dq` are set, its entries are numbers. -/
theorem number_dq [Facts] (dq : FVec Ideal S8192x1024 .bf16) (w : FVec Ideal S1024x1024 .bf16) (r : FVec Ideal S8192x1024 .f32) (z : FVec Ideal S8192x1024 .f32) (g : FVec Ideal S1x1024 .f32)
    (h : (fn (F := Ideal) dq w r z g).1 = fun _ => 1#1) (p : Fin 8192) (q : Fin 1024) : RowSoftmax.IsNumber (dq (ix2 p q)) := by
  have := congrFun h (ix2 p q)
  pointwise [fn] at this
  exact RowSoftmax.number_of_set16 _ this

/-- Where the precondition's flags of `w` are set, its entries are numbers. -/
theorem number_w [Facts] (dq : FVec Ideal S8192x1024 .bf16) (w : FVec Ideal S1024x1024 .bf16) (r : FVec Ideal S8192x1024 .f32) (z : FVec Ideal S8192x1024 .f32) (g : FVec Ideal S1x1024 .f32)
    (h : (fn (F := Ideal) dq w r z g).2.1 = fun _ => 1#1) (p : Fin 1024) (q : Fin 1024) : RowSoftmax.IsNumber (w (ix2 p q)) := by
  have := congrFun h (ix2 p q)
  pointwise [fn] at this
  exact RowSoftmax.number_of_set16 _ this

/-- Where the precondition's flags of `r` are set, its entries are numbers. -/
theorem number_r [Facts] (dq : FVec Ideal S8192x1024 .bf16) (w : FVec Ideal S1024x1024 .bf16) (r : FVec Ideal S8192x1024 .f32) (z : FVec Ideal S8192x1024 .f32) (g : FVec Ideal S1x1024 .f32)
    (h : (fn (F := Ideal) dq w r z g).2.2.1 = fun _ => 1#1) (p : Fin 8192) (q : Fin 1024) : RowSoftmax.IsNumber (r (ix2 p q)) := by
  have := congrFun h (ix2 p q)
  pointwise [fn] at this
  exact RowSoftmax.number_of_set32 _ this

/-- Where the precondition's flags of `z` are set, its entries are numbers. -/
theorem number_z [Facts] (dq : FVec Ideal S8192x1024 .bf16) (w : FVec Ideal S1024x1024 .bf16) (r : FVec Ideal S8192x1024 .f32) (z : FVec Ideal S8192x1024 .f32) (g : FVec Ideal S1x1024 .f32)
    (h : (fn (F := Ideal) dq w r z g).2.2.2.1 = fun _ => 1#1) (p : Fin 8192) (q : Fin 1024) : RowSoftmax.IsNumber (z (ix2 p q)) := by
  have := congrFun h (ix2 p q)
  pointwise [fn] at this
  exact RowSoftmax.number_of_set32 _ this

/-- Where the precondition's flags of `g` are set, its entries are numbers. -/
theorem number_g [Facts] (dq : FVec Ideal S8192x1024 .bf16) (w : FVec Ideal S1024x1024 .bf16) (r : FVec Ideal S8192x1024 .f32) (z : FVec Ideal S8192x1024 .f32) (g : FVec Ideal S1x1024 .f32)
    (h : (fn (F := Ideal) dq w r z g).2.2.2.2 = fun _ => 1#1) (p : Fin 1) (q : Fin 1024) : RowSoftmax.IsNumber (g (ix2 p q)) := by
  have := congrFun h (ix2 p q)
  pointwise [fn] at this
  exact RowSoftmax.number_of_set32 _ this

end Cert.Pre_finite_x1_ln1

namespace Cert.X1Ln1Ideal.Val

open Cert.X1Ln1Ideal Cert.X1Ln1Ideal.Gen RowNorm

variable (m : (ℓ : Loc nD τ sig) → Buf (Elt Ideal) ℓ)

/-- The precondition makes every argument a number. -/
theorem numbers [Pre_finite_x1_ln1.Facts] (c : Dev nD) (h : let p := Pre_finite_x1_ln1.fn (F := Ideal) (m (c.tc.loc main_arg0)) (m (c.tc.loc main_arg1)) (m (c.tc.loc main_arg2)) (m (c.tc.loc main_arg3)) (m (c.tc.loc main_arg4)); p.1 = (fun _ => 1#1) ∧ p.2.1 = (fun _ => 1#1) ∧ p.2.2.1 = (fun _ => 1#1) ∧ p.2.2.2.1 = (fun _ => 1#1) ∧ p.2.2.2.2 = (fun _ => 1#1)) :
    X1Ln1ReferenceIdeal.Spec.Numbers (m (c.tc.loc main_arg0)) (m (c.tc.loc main_arg1)) (m (c.tc.loc main_arg2)) (m (c.tc.loc main_arg3)) (m (c.tc.loc main_arg4)) where
  d i j := Pre_finite_x1_ln1.number_dq _ _ _ _ _ h.1 i j
  w i j := Pre_finite_x1_ln1.number_w _ _ _ _ _ h.2.1 i j
  r i j := Pre_finite_x1_ln1.number_r _ _ _ _ _ h.2.2.1 i j
  z i j := Pre_finite_x1_ln1.number_z _ _ _ _ _ h.2.2.2.1 i j
  g j := Pre_finite_x1_ln1.number_g _ _ _ _ _ h.2.2.2.2 0 j

/-- Where the windows' blocks lie at point `t`. -/
theorem placed : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![t.val, 0]
    ∧ win0_7.index t = ![0, 0] ∧ win0_8.index t = ![0, 0] :=
  (by decide +kernel : ∀ t : Fin grid0.N, _)

/-- An entry of the tile's arriving gradient. -/
theorem arrived_at (r : Vec Ideal S1024x1024 .f32) (dq : Vec Ideal S1024x1024 .bf16) (w : Vec Ideal S1024x1024 .bf16) (i : Fin 1024) (j : Fin 1024) :
    k0_pay7 (F := Ideal) r dq w (ix2 i j) = Ideal.ofBits .f32 0x3FD744FD#32 * r (ix2 i j) + ∑ k : Fin 1024, dq (ix2 i k) * w (ix2 j k) := by
  pointwise [k0_pay7]

/-- An entry of the tile's centred rows. -/
theorem centred_at (z : Vec Ideal S1024x1024 .f32) (i : Fin 1024) (j : Fin 1024) :
    k0_pay8 (F := Ideal) z (ix2 i j) = centred (fun k => z (ix2 i k)) j := by
  pointwise [k0_pay8]
  rfl

/-- A row's scale. -/
theorem scale_at (z : Vec Ideal S1024x1024 .f32) (i : Fin 1024) (l : Fin 1) :
    k0_pay9 (F := Ideal) z (ix2 i l) = scale (fun k => z (ix2 i k)) := by
  pointwise [k0_pay9, centred_at]
  rfl

/-- An entry of the tile's normalised rows. -/
theorem normal_at (z : Vec Ideal S1024x1024 .f32) (i : Fin 1024) (j : Fin 1024) :
    k0_pay10 (F := Ideal) z (ix2 i j) = normal (fun k => z (ix2 i k)) j := by
  pointwise [k0_pay10, centred_at, scale_at]
  rfl

/-- An entry of the arriving gradient times the gain. -/
theorem upstream_at (r : Vec Ideal S1024x1024 .f32) (dq : Vec Ideal S1024x1024 .bf16) (w : Vec Ideal S1024x1024 .bf16) (g : Vec Ideal S1x1024 .f32) (i : Fin 1024) (j : Fin 1024) :
    k0_pay11 (F := Ideal) r dq w g (ix2 i j) = k0_pay7 (F := Ideal) r dq w (ix2 i j) * g (ix2 0 j) := by
  pointwise [k0_pay11]

/-- The same less its row's mean. -/
theorem upstream_centred_at (r : Vec Ideal S1024x1024 .f32) (dq : Vec Ideal S1024x1024 .bf16) (w : Vec Ideal S1024x1024 .bf16) (g : Vec Ideal S1x1024 .f32) (i : Fin 1024) (j : Fin 1024) :
    k0_pay12 (F := Ideal) r dq w g (ix2 i j) = k0_pay7 (F := Ideal) r dq w (ix2 i j) * g (ix2 0 j) - mean fun k => k0_pay7 (F := Ideal) r dq w (ix2 i k) * g (ix2 0 k) := by
  pointwise [k0_pay12, upstream_at]
  rfl

/-- The same times the normalised rows. -/
theorem upstream_normal_at (r : Vec Ideal S1024x1024 .f32) (dq : Vec Ideal S1024x1024 .bf16) (w : Vec Ideal S1024x1024 .bf16) (z : Vec Ideal S1024x1024 .f32) (g : Vec Ideal S1x1024 .f32) (i : Fin 1024) (j : Fin 1024) :
    k0_pay13 (F := Ideal) r dq w z g (ix2 i j) = k0_pay7 (F := Ideal) r dq w (ix2 i j) * g (ix2 0 j) * normal (fun k => z (ix2 i k)) j := by
  pointwise [k0_pay13, upstream_at, normal_at]

/-- An entry of the tile of the gradient is its row's slope. -/
theorem slope_at (r : Vec Ideal S1024x1024 .f32) (dq : Vec Ideal S1024x1024 .bf16) (w : Vec Ideal S1024x1024 .bf16) (z : Vec Ideal S1024x1024 .f32) (g : Vec Ideal S1x1024 .f32) (i : Fin 1024) (j : Fin 1024) :
    k0_pay1 (F := Ideal) (k0_pay9 (F := Ideal) z) (k0_pay10 (F := Ideal) z) (k0_pay12 (F := Ideal) r dq w g) (k0_pay13 (F := Ideal) r dq w z g) (ix2 i j)
      = slope (fun k => z (ix2 i k)) (fun k => k0_pay7 (F := Ideal) r dq w (ix2 i k) * g (ix2 0 k)) j := by
  pointwise [k0_pay1, scale_at, normal_at, upstream_centred_at, upstream_normal_at]
  rfl

/-- One tile's contribution to the gain's gradient, added to what was accumulated. -/
theorem gain_at (d : FVec Ideal S1024x1024 .f32) (x : FVec Ideal S1024x1024 .f32) (acc : Vec Ideal S1x1024 .f32) (l : Fin 1) (j : Fin 1024) :
    k0_pay3 (F := Ideal) d x acc (ix2 l j) = acc (ix2 l j) + ∑ i : Fin 1024, d (ix2 i j) * x (ix2 i j) := by
  pointwise [k0_pay3]

/-- One tile's contribution to the bias's gradient, added to what was accumulated. -/
theorem bias_at (d : FVec Ideal S1024x1024 .f32) (acc : Vec Ideal S1x1024 .f32) (l : Fin 1) (j : Fin 1024) :
    k0_pay4 (F := Ideal) d acc (ix2 l j) = acc (ix2 l j) + ∑ i : Fin 1024, d (ix2 i j) := by
  pointwise [k0_pay4]

/-- The zero fills. -/
theorem zero_at (j : S1x1024.Idx) : k0_pay5 (F := Ideal) j = 0 ∧ k0_pay6 (F := Ideal) j = 0 := by
  constructor
  · pointwise [k0_pay5]
  · pointwise [k0_pay6]

/-- The tile's arriving gradient is its rows of the whole arriving gradient. -/
theorem tile_arrived (c : Dev nD) (t : Fin cfg0.N) (i : Fin 1024) (j : Fin 1024) (h : t.val * 1024 + i.val < 8192) :
    k0_pay7 (F := Ideal) (iblk m c 1 t) (iblk m c 0 t) (iblk m c 3 t) (ix2 i j)
      = X1Ln1ReferenceIdeal.Spec.arrived (m (c.tc.loc main_arg0)) (m (c.tc.loc main_arg1)) (m (c.tc.loc main_arg2)) (ix2 ⟨t.val * 1024 + i.val, h⟩ j) := by
  rw [arrived_at, X1Ln1ReferenceIdeal.Spec.arrived_at]
  refine congrArg₂ (· + ·) (congrArg (_ * ·) ?_) (Finset.sum_congr rfl fun k _ => congrArg₂ (· * ·) ?_ ?_) <;> blk_point [iblk, V, placed t]

/-- A row of the tile's normalised argument is that row of the whole. -/
theorem tile_row (c : Dev nD) (t : Fin cfg0.N) (i : Fin 1024) (h : t.val * 1024 + i.val < 8192) :
    (fun k => (iblk m c 2 t : Vec Ideal S1024x1024 .f32) (ix2 i k)) = fun k => (m (c.tc.loc main_arg3) : FVec Ideal S8192x1024 .f32) (ix2 ⟨t.val * 1024 + i.val, h⟩ k) := by
  funext k
  blk_point [iblk, V, placed t]

/-- The gain is read whole. -/
theorem tile_gain (c : Dev nD) (t : Fin cfg0.N) (k : Fin 1024) :
    (iblk m c 4 t : Vec Ideal S1x1024 .f32) (ix2 0 k) = (m (c.tc.loc main_arg4) : FVec Ideal S1x1024 .f32) (ix2 0 k) := by
  blk_point [iblk, V, placed t]

/-- A tile of the gradient is its rows of the whole gradient. -/
theorem tile_slope (c : Dev nD) (hn : X1Ln1ReferenceIdeal.Spec.Numbers (m (c.tc.loc main_arg0)) (m (c.tc.loc main_arg1)) (m (c.tc.loc main_arg2)) (m (c.tc.loc main_arg3)) (m (c.tc.loc main_arg4))) (t : Fin cfg0.N) (i : Fin 1024) (j : Fin 1024) (h : t.val * 1024 + i.val < 8192) :
    k0_pay1 (F := Ideal) (k0_pay9 (F := Ideal) (iblk m c 2 t)) (k0_pay10 (F := Ideal) (iblk m c 2 t)) (k0_pay12 (F := Ideal) (iblk m c 1 t) (iblk m c 0 t) (iblk m c 3 t) (iblk m c 4 t)) (k0_pay13 (F := Ideal) (iblk m c 1 t) (iblk m c 0 t) (iblk m c 3 t) (iblk m c 2 t) (iblk m c 4 t)) (ix2 i j)
      = X1Ln1ReferenceIdeal.Spec.result0 (m (c.tc.loc main_arg0)) (m (c.tc.loc main_arg1)) (m (c.tc.loc main_arg2)) (m (c.tc.loc main_arg3)) (m (c.tc.loc main_arg4)) (ix2 ⟨t.val * 1024 + i.val, h⟩ j) := by
  rw [slope_at, X1Ln1ReferenceIdeal.Spec.result0_at _ _ _ _ _ hn]
  refine congrArg₂ (fun x u => slope x u j) (tile_row m c t i h) (funext fun k => ?_)
  rw [tile_arrived m c t i k h, tile_gain]

/-- Which payloads a point leaves in the two gradient blocks. -/
theorem outs_at (c : Dev nD) (t : Fin cfg0.N) :
    (outsAt0 m c t.val t.isLt).1 = k0_pay1 (F := Ideal) (k0_pay9 (F := Ideal) (iblk m c 2 t)) (k0_pay10 (F := Ideal) (iblk m c 2 t)) (k0_pay12 (F := Ideal) (iblk m c 1 t) (iblk m c 0 t) (iblk m c 3 t) (iblk m c 4 t)) (k0_pay13 (F := Ideal) (iblk m c 1 t) (iblk m c 0 t) (iblk m c 3 t) (iblk m c 2 t) (iblk m c 4 t))
    ∧ (outsAt0 m c t.val t.isLt).2.1 = k0_pay2 (F := Ideal) (k0_pay9 (F := Ideal) (iblk m c 2 t)) (k0_pay10 (F := Ideal) (iblk m c 2 t)) (k0_pay12 (F := Ideal) (iblk m c 1 t) (iblk m c 0 t) (iblk m c 3 t) (iblk m c 4 t)) (k0_pay13 (F := Ideal) (iblk m c 1 t) (iblk m c 0 t) (iblk m c 3 t) (iblk m c 2 t) (iblk m c 4 t)) := by
  by_cases h0 : t.val % 8 = 0
  · rw [outsAt0_A m c t h0]
    constructor <;> frame_out
  · rw [outsAt0_B m c t h0]
    constructor <;> frame_out

/-- The gradient's array. -/
theorem final0 (c : Dev nD) (hn : X1Ln1ReferenceIdeal.Spec.Numbers (m (c.tc.loc main_arg0)) (m (c.tc.loc main_arg1)) (m (c.tc.loc main_arg2)) (m (c.tc.loc main_arg3)) (m (c.tc.loc main_arg4))) : (dats m 0 c).arrAt 5 cfg0.N = X1Ln1ReferenceIdeal.Spec.result0 (m (c.tc.loc main_arg0)) (m (c.tc.loc main_arg1)) (m (c.tc.loc main_arg2)) (m (c.tc.loc main_arg3)) (m (c.tc.loc main_arg4)) := by
  refine (dats m 0 c).arrAt_eq_of_covers 5 _ (by decide +kernel) fun t _ y => ?_
  blk_simp
  rw [after0_5, (outs_at m c t).1]
  idx_vars y
  have ht : t.val < 8 := lt_of_lt_of_eq t.isLt N_0
  have e : (((View.whole main_v0_0).slice (win0_5.rect t)).emb (ix2 y0 y1) : S8192x1024.Idx) = ix2 ⟨t.val * 1024 + y0, by omega⟩ y1 := by blk_ext [placed t]
  rw [e]
  exact tile_slope m c hn t y0 y1 (by omega)

/-- The cast gradient's array. -/
theorem final1 (c : Dev nD) (hn : X1Ln1ReferenceIdeal.Spec.Numbers (m (c.tc.loc main_arg0)) (m (c.tc.loc main_arg1)) (m (c.tc.loc main_arg2)) (m (c.tc.loc main_arg3)) (m (c.tc.loc main_arg4))) : (dats m 0 c).arrAt 6 cfg0.N = X1Ln1ReferenceIdeal.Spec.result1 (m (c.tc.loc main_arg0)) (m (c.tc.loc main_arg1)) (m (c.tc.loc main_arg2)) (m (c.tc.loc main_arg3)) (m (c.tc.loc main_arg4)) := by
  refine (dats m 0 c).arrAt_eq_of_covers 6 _ (by decide +kernel) fun t _ y => ?_
  blk_simp
  rw [after0_6, (outs_at m c t).2]
  idx_vars y
  have ht : t.val < 8 := lt_of_lt_of_eq t.isLt N_0
  have e : (((View.whole main_v0_1).slice (win0_6.rect t)).emb (ix2 y0 y1) : S8192x1024.Idx) = ix2 ⟨t.val * 1024 + y0, by omega⟩ y1 := by blk_ext [placed t]
  rw [e]
  exact tile_slope m c hn t y0 y1 (by omega)

/-- The gain's gradient: the run of points accumulates it over the tiles of rows. -/
theorem final2 (c : Dev nD) : (dats m 0 c).arrAt 7 cfg0.N = X1Ln1ReferenceIdeal.Spec.result2 (m (c.tc.loc main_arg0)) (m (c.tc.loc main_arg1)) (m (c.tc.loc main_arg2)) (m (c.tc.loc main_arg3)) (m (c.tc.loc main_arg4)) := by
  refine (dats m 0 c).arrAt_eq_of_covers 7 _ (by decide +kernel) fun t hf y => ?_
  blk_simp
  have ht : t.val < 8 := lt_of_lt_of_eq t.isLt N_0
  have hs : ∀ s : Fin 8, 8 * (t.val / 8) + s.val < 8 := fun s => by omega
  idx_vars y
  rw [after0_7, Pipeline.eq_sum_fin_of_reset_step_apply_of_flush (fun n h => (outsAt0 m c n h).2.2.1) 8 (fun _ => 0)
    (fun n j => ∑ i : Fin 1024, k0_pay7 (F := Ideal) (iblk m c 1 n) (iblk m c 0 n) (iblk m c 3 n) (ix2 i (j 1)) * normal (fun k => (iblk m c 2 n : Vec Ideal S1024x1024 .f32) (ix2 i k)) (j 1))
    (fun t h j => by rw [outsAt0_A m c t h]; frame_out; idx_vars j; rw [gain_at, (zero_at _).1]; simp only [normal_at])
    (fun t h j => by rw [outsAt0_B m c t h]; frame_out; idx_vars j; rw [gain_at]; simp only [normal_at])
    t ((flush0_7 t).mp hf) _, zero_add]
  have e : (((View.whole main_v0_2).slice (win0_7.rect t)).emb (ix2 y0 y1) : S1x1024.Idx) = ix2 y0 y1 := by blk_ext [placed t]
  rw [e, X1Ln1ReferenceIdeal.Spec.result2, RowNorm.Reference.gainGrad_at]
  refine Fin.sum_mul_add_congr fun s k hl => ?_
  have hk : (⟨8 * (t.val / 8) + s.val, hs s⟩ : Fin 8).val * 1024 + k.val < 8192 := by dsimp only; omega
  have ek : (⟨s.val * 1024 + k.val, hl⟩ : Fin 8192) = ⟨(8 * (t.val / 8) + s.val) * 1024 + k.val, hk⟩ := Fin.ext (by dsimp only; omega)
  rw [ek]
  exact congrArg₂ (· * ·) (tile_arrived m c _ k y1 hk) (congrArg (fun x => normal x y1) (tile_row m c _ k hk))

/-- The bias's gradient: the run of points accumulates it over the tiles of rows. -/
theorem final3 (c : Dev nD) : (dats m 0 c).arrAt 8 cfg0.N = X1Ln1ReferenceIdeal.Spec.result3 (m (c.tc.loc main_arg0)) (m (c.tc.loc main_arg1)) (m (c.tc.loc main_arg2)) (m (c.tc.loc main_arg3)) (m (c.tc.loc main_arg4)) := by
  refine (dats m 0 c).arrAt_eq_of_covers 8 _ (by decide +kernel) fun t hf y => ?_
  blk_simp
  have ht : t.val < 8 := lt_of_lt_of_eq t.isLt N_0
  have hs : ∀ s : Fin 8, 8 * (t.val / 8) + s.val < 8 := fun s => by omega
  idx_vars y
  rw [after0_8, Pipeline.eq_sum_fin_of_reset_step_apply_of_flush (fun n h => (outsAt0 m c n h).2.2.2) 8 (fun _ => 0)
    (fun n j => ∑ i : Fin 1024, k0_pay7 (F := Ideal) (iblk m c 1 n) (iblk m c 0 n) (iblk m c 3 n) (ix2 i (j 1)))
    (fun t h j => by rw [outsAt0_A m c t h]; frame_out; idx_vars j; rw [bias_at, (zero_at _).2])
    (fun t h j => by rw [outsAt0_B m c t h]; frame_out; idx_vars j; rw [bias_at])
    t ((flush0_8 t).mp hf) _, zero_add]
  have e : (((View.whole main_v0_3).slice (win0_8.rect t)).emb (ix2 y0 y1) : S1x1024.Idx) = ix2 y0 y1 := by blk_ext [placed t]
  rw [e, X1Ln1ReferenceIdeal.Spec.result3, RowNorm.Reference.biasGrad_at]
  refine Fin.sum_mul_add_congr fun s k hl => ?_
  have hk : (⟨8 * (t.val / 8) + s.val, hs s⟩ : Fin 8).val * 1024 + k.val < 8192 := by dsimp only; omega
  have ek : (⟨s.val * 1024 + k.val, hl⟩ : Fin 8192) = ⟨(8 * (t.val / 8) + s.val) * 1024 + k.val, hk⟩ := Fin.ext (by dsimp only; omega)
  rw [ek]
  exact tile_arrived m c _ k y1 hk

end Cert.X1Ln1Ideal.Val

namespace Cert.Proof.X1Ln1

/-- The frame of the kernel. -/
theorem frameKernel : quiescent_X1Ln1 (hX1Ln1 := X1Ln1.Gen.facts) :=
  fun m ρ _ => X1Ln1.Gen.frame m ρ

/-- The frame of its idealization. -/
theorem frameIdeal : quiescent_X1Ln1Ideal (hX1Ln1Ideal := X1Ln1Ideal.Gen.facts) :=
  fun m ρ _ => X1Ln1Ideal.Gen.frame m ρ

/-- The same under the precondition. -/
theorem frameIdealPre : quiescent_X1Ln1Ideal_pre_finite_x1_ln1 (hX1Ln1Ideal := X1Ln1Ideal.Gen.facts) (hPre_finite_x1_ln1 := Pre_finite_x1_ln1.facts) :=
  fun m ρ _ => X1Ln1Ideal.Gen.frame m ρ

/-- The frame of the reference. -/
theorem frameReference : quiescent_X1Ln1ReferenceIdeal (hX1Ln1ReferenceIdeal := X1Ln1ReferenceIdeal.Gen.facts) :=
  fun m ρ _ => (θ_run X1Ln1ReferenceIdeal.defs _ _).mono
    (fun r h => ⟨fun c => (h c).2.2.2.2, sem_eq_zero_of_no_sems (by decide) r.2⟩)
    (X1Ln1ReferenceIdeal.Value.run (F := Ideal) m ρ)

/-- The same under the precondition. -/
theorem frameReferencePre : quiescent_X1Ln1ReferenceIdeal_pre_finite_x1_ln1 (hX1Ln1ReferenceIdeal := X1Ln1ReferenceIdeal.Gen.facts) (hPre_finite_x1_ln1 := Pre_finite_x1_ln1.facts) :=
  fun m ρ _ => frameReference m ρ trivial

/-- On arguments that are numbers, the kernel's four results are the differentiated normalisation's. -/
theorem algebraic : algebraic_X1Ln1Ideal_X1Ln1ReferenceIdeal_pre_finite_x1_ln1 (hX1Ln1Ideal := X1Ln1Ideal.Gen.facts) (hX1Ln1ReferenceIdeal := X1Ln1ReferenceIdeal.Gen.facts) (hPre_finite_x1_ln1 := Pre_finite_x1_ln1.facts) :=
  fun m ρ m' ρ' hpre hag => ⟨_, _, _, _,
    (θ_run X1Ln1Ideal.defs _ _).mono (fun _ h c => ⟨(h c).1.trans (X1Ln1Ideal.Val.final0 m c (@X1Ln1Ideal.Val.numbers m Pre_finite_x1_ln1.facts c (hpre c))),
        (h c).2.1.trans (X1Ln1Ideal.Val.final1 m c (@X1Ln1Ideal.Val.numbers m Pre_finite_x1_ln1.facts c (hpre c))),
        (h c).2.2.1.trans (X1Ln1Ideal.Val.final2 m c),
        (h c).2.2.2.1.trans (X1Ln1Ideal.Val.final3 m c), (h c).2.2.2.2⟩)
      (X1Ln1Ideal.Value.run_blocks (F := Ideal) m ρ),
    (θ_run X1Ln1ReferenceIdeal.defs _ _).mono (fun _ h c => ⟨(h c).1.trans (by rw [← (hag c).1, ← (hag c).2.1, ← (hag c).2.2.1, ← (hag c).2.2.2.1, ← (hag c).2.2.2.2]; rfl),
        (h c).2.1.trans (by rw [← (hag c).1, ← (hag c).2.1, ← (hag c).2.2.1, ← (hag c).2.2.2.1, ← (hag c).2.2.2.2]; rfl),
        (h c).2.2.1.trans (by rw [← (hag c).1, ← (hag c).2.1, ← (hag c).2.2.1, ← (hag c).2.2.2.1, ← (hag c).2.2.2.2]; rfl),
        (h c).2.2.2.1.trans (by rw [← (hag c).1, ← (hag c).2.1, ← (hag c).2.2.1, ← (hag c).2.2.2.1, ← (hag c).2.2.2.2]; rfl), (h c).2.2.2.2⟩)
      (X1Ln1ReferenceIdeal.Value.run (F := Ideal) m' ρ')⟩

end Cert.Proof.X1Ln1

end

end
-- ==== Proof.Stretches.lean ====
/-
  Several stretches of columns laid end to end: which entry is read, and a sum over all of them as one sum per stretch.
-/
module

public import Idealize.ShloMosaic.PureOps.Ideal
public import Idealize.ShloMosaic.PureOps.Ideal.Laws

@[expose] public section

set_option maxRecDepth 16384

noncomputable section

namespace Stretches

/-- Entry `i` of three stretches laid end to end. -/
def three (f0 : Fin 384 → EReal) (f1 : Fin 256 → EReal) (f2 : Fin 384 → EReal) (i : Fin 1024) : EReal :=
  if h0 : i.val < 384 then f0 ⟨i.val, h0⟩ else if h1 : i.val - 384 < 256 then f1 ⟨i.val - 384, h1⟩ else f2 ⟨i.val - 384 - 256, by omega⟩

/-- Stretches that agree laid end to end agree. -/
theorem three_congr {f0 : Fin 384 → EReal} {f1 : Fin 256 → EReal} {f2 : Fin 384 → EReal} {g0 : Fin 384 → EReal} {g1 : Fin 256 → EReal} {g2 : Fin 384 → EReal} (e0 : f0 = g0) (e1 : f1 = g1) (e2 : f2 = g2) (i : Fin 1024) :
    three f0 f1 f2 i = three g0 g1 g2 i := by
  rw [e0, e1, e2]

/-- An entry of stretch 0. -/
theorem three_at0 (f0 : Fin 384 → EReal) (f1 : Fin 256 → EReal) (f2 : Fin 384 → EReal) (x : Fin 384) (h : x.val < 1024) :
    three f0 f1 f2 ⟨x.val, h⟩ = f0 x := by
  unfold three
  rw [dif_pos (show x.val < 384 by omega)]

/-- An entry of stretch 1. -/
theorem three_at1 (f0 : Fin 384 → EReal) (f1 : Fin 256 → EReal) (f2 : Fin 384 → EReal) (x : Fin 256) (h : 384 + x.val < 1024) :
    three f0 f1 f2 ⟨384 + x.val, h⟩ = f1 x := by
  unfold three
  rw [dif_neg (show ¬ 384 + x.val < 384 by omega), dif_pos (show 384 + x.val - 384 < 256 by omega)]
  exact congrArg f1 (Fin.ext (show 384 + x.val - 384 = x.val by omega))

/-- An entry of stretch 2. -/
theorem three_at2 (f0 : Fin 384 → EReal) (f1 : Fin 256 → EReal) (f2 : Fin 384 → EReal) (x : Fin 384) (h : 640 + x.val < 1024) :
    three f0 f1 f2 ⟨640 + x.val, h⟩ = f2 x := by
  unfold three
  rw [dif_neg (show ¬ 640 + x.val < 384 by omega), dif_neg (show ¬ 640 + x.val - 384 < 256 by omega)]
  exact congrArg f2 (Fin.ext (show 640 + x.val - 384 - 256 = x.val by omega))

/-- Entry `i` of seven stretches laid end to end. -/
def seven (f0 : Fin 384 → EReal) (f1 : Fin 384 → EReal) (f2 : Fin 256 → EReal) (f3 : Fin 256 → EReal) (f4 : Fin 384 → EReal) (f5 : Fin 384 → EReal) (f6 : Fin 384 → EReal) (i : Fin 2432) : EReal :=
  if h0 : i.val < 384 then f0 ⟨i.val, h0⟩ else if h1 : i.val - 384 < 384 then f1 ⟨i.val - 384, h1⟩ else if h2 : i.val - 384 - 384 < 256 then f2 ⟨i.val - 384 - 384, h2⟩ else if h3 : i.val - 384 - 384 - 256 < 256 then f3 ⟨i.val - 384 - 384 - 256, h3⟩ else if h4 : i.val - 384 - 384 - 256 - 256 < 384 then f4 ⟨i.val - 384 - 384 - 256 - 256, h4⟩ else if h5 : i.val - 384 - 384 - 256 - 256 - 384 < 384 then f5 ⟨i.val - 384 - 384 - 256 - 256 - 384, h5⟩ else f6 ⟨i.val - 384 - 384 - 256 - 256 - 384 - 384, by omega⟩

/-- Stretches that agree laid end to end agree. -/
theorem seven_congr {f0 : Fin 384 → EReal} {f1 : Fin 384 → EReal} {f2 : Fin 256 → EReal} {f3 : Fin 256 → EReal} {f4 : Fin 384 → EReal} {f5 : Fin 384 → EReal} {f6 : Fin 384 → EReal} {g0 : Fin 384 → EReal} {g1 : Fin 384 → EReal} {g2 : Fin 256 → EReal} {g3 : Fin 256 → EReal} {g4 : Fin 384 → EReal} {g5 : Fin 384 → EReal} {g6 : Fin 384 → EReal} (e0 : f0 = g0) (e1 : f1 = g1) (e2 : f2 = g2) (e3 : f3 = g3) (e4 : f4 = g4) (e5 : f5 = g5) (e6 : f6 = g6) (i : Fin 2432) :
    seven f0 f1 f2 f3 f4 f5 f6 i = seven g0 g1 g2 g3 g4 g5 g6 i := by
  rw [e0, e1, e2, e3, e4, e5, e6]

/-- An entry of stretch 0. -/
theorem seven_at0 (f0 : Fin 384 → EReal) (f1 : Fin 384 → EReal) (f2 : Fin 256 → EReal) (f3 : Fin 256 → EReal) (f4 : Fin 384 → EReal) (f5 : Fin 384 → EReal) (f6 : Fin 384 → EReal) (x : Fin 384) (h : x.val < 2432) :
    seven f0 f1 f2 f3 f4 f5 f6 ⟨x.val, h⟩ = f0 x := by
  unfold seven
  rw [dif_pos (show x.val < 384 by omega)]

/-- An entry of stretch 1. -/
theorem seven_at1 (f0 : Fin 384 → EReal) (f1 : Fin 384 → EReal) (f2 : Fin 256 → EReal) (f3 : Fin 256 → EReal) (f4 : Fin 384 → EReal) (f5 : Fin 384 → EReal) (f6 : Fin 384 → EReal) (x : Fin 384) (h : 384 + x.val < 2432) :
    seven f0 f1 f2 f3 f4 f5 f6 ⟨384 + x.val, h⟩ = f1 x := by
  unfold seven
  rw [dif_neg (show ¬ 384 + x.val < 384 by omega), dif_pos (show 384 + x.val - 384 < 384 by omega)]
  exact congrArg f1 (Fin.ext (show 384 + x.val - 384 = x.val by omega))

/-- An entry of stretch 2. -/
theorem seven_at2 (f0 : Fin 384 → EReal) (f1 : Fin 384 → EReal) (f2 : Fin 256 → EReal) (f3 : Fin 256 → EReal) (f4 : Fin 384 → EReal) (f5 : Fin 384 → EReal) (f6 : Fin 384 → EReal) (x : Fin 256) (h : 768 + x.val < 2432) :
    seven f0 f1 f2 f3 f4 f5 f6 ⟨768 + x.val, h⟩ = f2 x := by
  unfold seven
  rw [dif_neg (show ¬ 768 + x.val < 384 by omega), dif_neg (show ¬ 768 + x.val - 384 < 384 by omega), dif_pos (show 768 + x.val - 384 - 384 < 256 by omega)]
  exact congrArg f2 (Fin.ext (show 768 + x.val - 384 - 384 = x.val by omega))

/-- An entry of stretch 3. -/
theorem seven_at3 (f0 : Fin 384 → EReal) (f1 : Fin 384 → EReal) (f2 : Fin 256 → EReal) (f3 : Fin 256 → EReal) (f4 : Fin 384 → EReal) (f5 : Fin 384 → EReal) (f6 : Fin 384 → EReal) (x : Fin 256) (h : 1024 + x.val < 2432) :
    seven f0 f1 f2 f3 f4 f5 f6 ⟨1024 + x.val, h⟩ = f3 x := by
  unfold seven
  rw [dif_neg (show ¬ 1024 + x.val < 384 by omega), dif_neg (show ¬ 1024 + x.val - 384 < 384 by omega), dif_neg (show ¬ 1024 + x.val - 384 - 384 < 256 by omega), dif_pos (show 1024 + x.val - 384 - 384 - 256 < 256 by omega)]
  exact congrArg f3 (Fin.ext (show 1024 + x.val - 384 - 384 - 256 = x.val by omega))

/-- An entry of stretch 4. -/
theorem seven_at4 (f0 : Fin 384 → EReal) (f1 : Fin 384 → EReal) (f2 : Fin 256 → EReal) (f3 : Fin 256 → EReal) (f4 : Fin 384 → EReal) (f5 : Fin 384 → EReal) (f6 : Fin 384 → EReal) (x : Fin 384) (h : 1280 + x.val < 2432) :
    seven f0 f1 f2 f3 f4 f5 f6 ⟨1280 + x.val, h⟩ = f4 x := by
  unfold seven
  rw [dif_neg (show ¬ 1280 + x.val < 384 by omega), dif_neg (show ¬ 1280 + x.val - 384 < 384 by omega), dif_neg (show ¬ 1280 + x.val - 384 - 384 < 256 by omega), dif_neg (show ¬ 1280 + x.val - 384 - 384 - 256 < 256 by omega), dif_pos (show 1280 + x.val - 384 - 384 - 256 - 256 < 384 by omega)]
  exact congrArg f4 (Fin.ext (show 1280 + x.val - 384 - 384 - 256 - 256 = x.val by omega))

/-- An entry of stretch 5. -/
theorem seven_at5 (f0 : Fin 384 → EReal) (f1 : Fin 384 → EReal) (f2 : Fin 256 → EReal) (f3 : Fin 256 → EReal) (f4 : Fin 384 → EReal) (f5 : Fin 384 → EReal) (f6 : Fin 384 → EReal) (x : Fin 384) (h : 1664 + x.val < 2432) :
    seven f0 f1 f2 f3 f4 f5 f6 ⟨1664 + x.val, h⟩ = f5 x := by
  unfold seven
  rw [dif_neg (show ¬ 1664 + x.val < 384 by omega), dif_neg (show ¬ 1664 + x.val - 384 < 384 by omega), dif_neg (show ¬ 1664 + x.val - 384 - 384 < 256 by omega), dif_neg (show ¬ 1664 + x.val - 384 - 384 - 256 < 256 by omega), dif_neg (show ¬ 1664 + x.val - 384 - 384 - 256 - 256 < 384 by omega), dif_pos (show 1664 + x.val - 384 - 384 - 256 - 256 - 384 < 384 by omega)]
  exact congrArg f5 (Fin.ext (show 1664 + x.val - 384 - 384 - 256 - 256 - 384 = x.val by omega))

/-- An entry of stretch 6. -/
theorem seven_at6 (f0 : Fin 384 → EReal) (f1 : Fin 384 → EReal) (f2 : Fin 256 → EReal) (f3 : Fin 256 → EReal) (f4 : Fin 384 → EReal) (f5 : Fin 384 → EReal) (f6 : Fin 384 → EReal) (x : Fin 384) (h : 2048 + x.val < 2432) :
    seven f0 f1 f2 f3 f4 f5 f6 ⟨2048 + x.val, h⟩ = f6 x := by
  unfold seven
  rw [dif_neg (show ¬ 2048 + x.val < 384 by omega), dif_neg (show ¬ 2048 + x.val - 384 < 384 by omega), dif_neg (show ¬ 2048 + x.val - 384 - 384 < 256 by omega), dif_neg (show ¬ 2048 + x.val - 384 - 384 - 256 < 256 by omega), dif_neg (show ¬ 2048 + x.val - 384 - 384 - 256 - 256 < 384 by omega), dif_neg (show ¬ 2048 + x.val - 384 - 384 - 256 - 256 - 384 < 384 by omega)]
  exact congrArg f6 (Fin.ext (show 2048 + x.val - 384 - 384 - 256 - 256 - 384 - 384 = x.val by omega))

/-- A sum over two stretches is the sum over the first and the sum over the second. -/
theorem sum_cut (a b n : ℕ) (h : a + b = n) (g : Fin n → EReal) :
    ∑ i : Fin n, g i = ∑ i : Fin a, g ⟨i.val, by omega⟩ + ∑ i : Fin b, g ⟨a + i.val, by omega⟩ := by
  subst h
  exact Fin.sum_univ_add g

/-- A sum over the seven stretches, stretch by stretch. -/
theorem sum_seven (g : Fin 2432 → EReal) :
    ∑ i : Fin 2432, g i = (∑ i : Fin 384, g ⟨i.val, by omega⟩) + (∑ i : Fin 384, g ⟨384 + i.val, by omega⟩) + (∑ i : Fin 256, g ⟨768 + i.val, by omega⟩) + (∑ i : Fin 256, g ⟨1024 + i.val, by omega⟩) + (∑ i : Fin 384, g ⟨1280 + i.val, by omega⟩) + (∑ i : Fin 384, g ⟨1664 + i.val, by omega⟩) + (∑ i : Fin 384, g ⟨2048 + i.val, by omega⟩) := by
  rw [sum_cut 2048 384 2432 rfl g]
  rw [sum_cut 1664 384 2048 rfl (fun i => g ⟨i.val, by omega⟩)]
  rw [sum_cut 1280 384 1664 rfl (fun i => g ⟨i.val, by omega⟩)]
  rw [sum_cut 1024 256 1280 rfl (fun i => g ⟨i.val, by omega⟩)]
  rw [sum_cut 768 256 1024 rfl (fun i => g ⟨i.val, by omega⟩)]
  rw [sum_cut 384 384 768 rfl (fun i => g ⟨i.val, by omega⟩)]

/-- The products of seven stretches laid end to end with one row, summed, stretch by stretch. -/
theorem seven_dot (f0 : Fin 384 → EReal) (f1 : Fin 384 → EReal) (f2 : Fin 256 → EReal) (f3 : Fin 256 → EReal) (f4 : Fin 384 → EReal) (f5 : Fin 384 → EReal) (f6 : Fin 384 → EReal) (g : Fin 2432 → EReal) :
    ∑ i : Fin 2432, seven f0 f1 f2 f3 f4 f5 f6 i * g i = (∑ i : Fin 384, f0 i * g ⟨i.val, by omega⟩) + (∑ i : Fin 384, f1 i * g ⟨384 + i.val, by omega⟩) + (∑ i : Fin 256, f2 i * g ⟨768 + i.val, by omega⟩) + (∑ i : Fin 256, f3 i * g ⟨1024 + i.val, by omega⟩) + (∑ i : Fin 384, f4 i * g ⟨1280 + i.val, by omega⟩) + (∑ i : Fin 384, f5 i * g ⟨1664 + i.val, by omega⟩) + (∑ i : Fin 384, f6 i * g ⟨2048 + i.val, by omega⟩) := by
  rw [sum_seven]
  simp only [seven_at0, seven_at1, seven_at2, seven_at3, seven_at4, seven_at5, seven_at6]

/-- A sum over the three stretches, stretch by stretch. -/
theorem sum_three (g : Fin 1024 → EReal) :
    ∑ i : Fin 1024, g i = (∑ i : Fin 384, g ⟨i.val, by omega⟩) + (∑ i : Fin 256, g ⟨384 + i.val, by omega⟩) + (∑ i : Fin 384, g ⟨640 + i.val, by omega⟩) := by
  rw [sum_cut 640 384 1024 rfl g]
  rw [sum_cut 384 256 640 rfl (fun i => g ⟨i.val, by omega⟩)]

/-- The products of three stretches laid end to end with one row, summed, stretch by stretch. -/
theorem three_dot (f0 : Fin 384 → EReal) (f1 : Fin 256 → EReal) (f2 : Fin 384 → EReal) (g : Fin 1024 → EReal) :
    ∑ i : Fin 1024, three f0 f1 f2 i * g i = (∑ i : Fin 384, f0 i * g ⟨i.val, by omega⟩) + (∑ i : Fin 256, f1 i * g ⟨384 + i.val, by omega⟩) + (∑ i : Fin 384, f2 i * g ⟨640 + i.val, by omega⟩) := by
  rw [sum_three]
  simp only [three_at0, three_at1, three_at2]

end Stretches

end

end
-- ==== Proof.X0Ln3.lean ====
/-
  The gradient of the input's layer normalisation: the weighted residual gradient plus the seven projection gradients,
  side by side, times the projection weight transposed, through the normalisation.
-/
module

public import proofs.«01_k».proof.Proof.Gen.X0Ln3.Frame
public import proofs.«01_k».proof.Proof.Gen.X0Ln3Ideal.Value
public import proofs.«01_k».proof.Proof.Gen.X0Ln3Ideal.Frame
public import proofs.«01_k».proof.Proof.Gen.X0Ln3ReferenceIdeal.Run
public import proofs.«01_k».proof.Proof.Gen.X0Ln3
public import proofs.«01_k».proof.Proof.Gen.X0Ln3Ideal
public import proofs.«01_k».proof.Proof.Gen.X0Ln3ReferenceIdeal
public import Idealize.ShloMosaic.Lib.Pointwise
public import Idealize.ShloMosaic.Lib.Pipeline.ValueKit
public import proofs.«01_k».proof.Defs
public import Idealize.ShloMosaic.Adequacy
public import Idealize.ShloMosaic.Init
public import proofs.«01_k».proof.Proof.Numbers
public import proofs.«01_k».proof.Proof.LayerNormReference
public import proofs.«01_k».proof.Proof.Stretches
public import proofs.«01_k».proof.Pre_finite_x0_ln3

@[expose] public section

set_option maxRecDepth 16384

noncomputable section

open Idealize.ShloMosaic Idealize.ShloMosaic.TcCoe Idealize.SL.Sem
open Idealize.ShloMosaic.Pipeline (Dat)

namespace Cert.X0Ln3ReferenceIdeal.Spec

open Cert.X0Ln3ReferenceIdeal Cert.X0Ln3ReferenceIdeal.Gen RowNorm.Reference RowSoftmax

/-- The gradient the normalisation's result receives. -/
def arrived (d0 : FVec Ideal S8192x384 .bf16) (d1 : FVec Ideal S8192x384 .bf16) (d2 : FVec Ideal S8192x256 .bf16) (d3 : FVec Ideal S8192x256 .bf16) (d4 : FVec Ideal S8192x384 .bf16) (d5 : FVec Ideal S8192x384 .bf16) (d6 : FVec Ideal S8192x384 .bf16) (w : FVec Ideal S1024x2432 .bf16) (r : FVec Ideal S8192x1024 .f32) : FVec Ideal S8192x1024 .f32 :=
  addf (Host.dotGeneral (F := Ideal) (φ₁ := .f32) dot_S8192x2432_S1024x2432_S8192x1024_1_1_0_0_n_n none ((concatenate S8192x2432 1 [⟨S8192x384, ((extf .f32 d0 bitsLt_bf16_f32) : (⟨S8192x384, .f32⟩ : BufTy).Contents (Elt Ideal))⟩, ⟨S8192x384, ((extf .f32 d1 bitsLt_bf16_f32) : (⟨S8192x384, .f32⟩ : BufTy).Contents (Elt Ideal))⟩, ⟨S8192x256, ((extf .f32 d2 bitsLt_bf16_f32) : (⟨S8192x256, .f32⟩ : BufTy).Contents (Elt Ideal))⟩, ⟨S8192x256, ((extf .f32 d3 bitsLt_bf16_f32) : (⟨S8192x256, .f32⟩ : BufTy).Contents (Elt Ideal))⟩, ⟨S8192x384, ((extf .f32 d4 bitsLt_bf16_f32) : (⟨S8192x384, .f32⟩ : BufTy).Contents (Elt Ideal))⟩, ⟨S8192x384, ((extf .f32 d5 bitsLt_bf16_f32) : (⟨S8192x384, .f32⟩ : BufTy).Contents (Elt Ideal))⟩, ⟨S8192x384, ((extf .f32 d6 bitsLt_bf16_f32) : (⟨S8192x384, .f32⟩ : BufTy).Contents (Elt Ideal))⟩] concatenates_S8192x384_S8192x384_S8192x256_S8192x256_S8192x384_S8192x384_S8192x384_S8192x2432_d1 : (⟨S8192x2432, .f32⟩ : BufTy).Contents (Elt Ideal))) (extf .f32 w bitsLt_bf16_f32)) (mulf (broadcastInDim S8192x1024 ![] bcast_S_S8192x1024 (constant (F := Ideal) S_ .f32 0x3FD744FD#32)) r)
/-- The gradient of the normalised argument. -/
def result0 (d0 : FVec Ideal S8192x384 .bf16) (d1 : FVec Ideal S8192x384 .bf16) (d2 : FVec Ideal S8192x256 .bf16) (d3 : FVec Ideal S8192x256 .bf16) (d4 : FVec Ideal S8192x384 .bf16) (d5 : FVec Ideal S8192x384 .bf16) (d6 : FVec Ideal S8192x384 .bf16) (w : FVec Ideal S1024x2432 .bf16) (r : FVec Ideal S8192x1024 .f32) (z : FVec Ideal S8192x1024 .f32) (g : FVec Ideal S1x1024 .f32) : FVec Ideal S8192x1024 .f32 := grad (scaled (arrived d0 d1 d2 d3 d4 d5 d6 w r) g) z
/-- The same, cast. -/
def result1 (d0 : FVec Ideal S8192x384 .bf16) (d1 : FVec Ideal S8192x384 .bf16) (d2 : FVec Ideal S8192x256 .bf16) (d3 : FVec Ideal S8192x256 .bf16) (d4 : FVec Ideal S8192x384 .bf16) (d5 : FVec Ideal S8192x384 .bf16) (d6 : FVec Ideal S8192x384 .bf16) (w : FVec Ideal S1024x2432 .bf16) (r : FVec Ideal S8192x1024 .f32) (z : FVec Ideal S8192x1024 .f32) (g : FVec Ideal S1x1024 .f32) : FVec Ideal S8192x1024 .bf16 := truncf .bf16 (result0 d0 d1 d2 d3 d4 d5 d6 w r z g) bitsLt_bf16_f32
/-- The gain's gradient. -/
def result2 (d0 : FVec Ideal S8192x384 .bf16) (d1 : FVec Ideal S8192x384 .bf16) (d2 : FVec Ideal S8192x256 .bf16) (d3 : FVec Ideal S8192x256 .bf16) (d4 : FVec Ideal S8192x384 .bf16) (d5 : FVec Ideal S8192x384 .bf16) (d6 : FVec Ideal S8192x384 .bf16) (w : FVec Ideal S1024x2432 .bf16) (r : FVec Ideal S8192x1024 .f32) (z : FVec Ideal S8192x1024 .f32) (_ : FVec Ideal S1x1024 .f32) : FVec Ideal S1x1024 .f32 := gainGrad (arrived d0 d1 d2 d3 d4 d5 d6 w r) z
/-- The bias's gradient. -/
def result3 (d0 : FVec Ideal S8192x384 .bf16) (d1 : FVec Ideal S8192x384 .bf16) (d2 : FVec Ideal S8192x256 .bf16) (d3 : FVec Ideal S8192x256 .bf16) (d4 : FVec Ideal S8192x384 .bf16) (d5 : FVec Ideal S8192x384 .bf16) (d6 : FVec Ideal S8192x384 .bf16) (w : FVec Ideal S1024x2432 .bf16) (r : FVec Ideal S8192x1024 .f32) (_ : FVec Ideal S8192x1024 .f32) (_ : FVec Ideal S1x1024 .f32) : FVec Ideal S1x1024 .f32 := biasGrad (arrived d0 d1 d2 d3 d4 d5 d6 w r)

/-- An entry of the arriving gradient. -/
theorem arrived_at (d0 : FVec Ideal S8192x384 .bf16) (d1 : FVec Ideal S8192x384 .bf16) (d2 : FVec Ideal S8192x256 .bf16) (d3 : FVec Ideal S8192x256 .bf16) (d4 : FVec Ideal S8192x384 .bf16) (d5 : FVec Ideal S8192x384 .bf16) (d6 : FVec Ideal S8192x384 .bf16) (w : FVec Ideal S1024x2432 .bf16) (r : FVec Ideal S8192x1024 .f32) (i : Fin 8192) (j : Fin 1024) :
    arrived d0 d1 d2 d3 d4 d5 d6 w r (ix2 i j) = (∑ k : Fin 2432, Stretches.seven (fun j => d0 (ix2 i j)) (fun j => d1 (ix2 i j)) (fun j => d2 (ix2 i j)) (fun j => d3 (ix2 i j)) (fun j => d4 (ix2 i j)) (fun j => d5 (ix2 i j)) (fun j => d6 (ix2 i j)) k * w (ix2 j k)) + Ideal.ofBits FTy.f32 0x3FD744FD#32 * r (ix2 i j) := by
  unfold Stretches.seven
  pointwise [arrived]

/-- Every argument is a number. -/
structure Numbers (d0 : FVec Ideal S8192x384 .bf16) (d1 : FVec Ideal S8192x384 .bf16) (d2 : FVec Ideal S8192x256 .bf16) (d3 : FVec Ideal S8192x256 .bf16) (d4 : FVec Ideal S8192x384 .bf16) (d5 : FVec Ideal S8192x384 .bf16) (d6 : FVec Ideal S8192x384 .bf16) (w : FVec Ideal S1024x2432 .bf16) (r : FVec Ideal S8192x1024 .f32) (z : FVec Ideal S8192x1024 .f32) (g : FVec Ideal S1x1024 .f32) : Prop where
  n0 : ∀ i j, IsNumber (d0 (ix2 i j))
  n1 : ∀ i j, IsNumber (d1 (ix2 i j))
  n2 : ∀ i j, IsNumber (d2 (ix2 i j))
  n3 : ∀ i j, IsNumber (d3 (ix2 i j))
  n4 : ∀ i j, IsNumber (d4 (ix2 i j))
  n5 : ∀ i j, IsNumber (d5 (ix2 i j))
  n6 : ∀ i j, IsNumber (d6 (ix2 i j))
  w : ∀ i j, IsNumber (w (ix2 i j))
  r : ∀ i j, IsNumber (r (ix2 i j))
  z : ∀ i j, IsNumber (z (ix2 i j))
  g : ∀ j, IsNumber (g (ix2 0 j))

/-- On numbers, the arriving gradient is one. -/
theorem arrived_number (d0 : FVec Ideal S8192x384 .bf16) (d1 : FVec Ideal S8192x384 .bf16) (d2 : FVec Ideal S8192x256 .bf16) (d3 : FVec Ideal S8192x256 .bf16) (d4 : FVec Ideal S8192x384 .bf16) (d5 : FVec Ideal S8192x384 .bf16) (d6 : FVec Ideal S8192x384 .bf16) (w : FVec Ideal S1024x2432 .bf16) (r : FVec Ideal S8192x1024 .f32) (z : FVec Ideal S8192x1024 .f32) (g : FVec Ideal S1x1024 .f32) (h : Numbers d0 d1 d2 d3 d4 d5 d6 w r z g) (i : Fin 8192) (j : Fin 1024) : IsNumber (arrived d0 d1 d2 d3 d4 d5 d6 w r (ix2 i j)) := by
  rw [arrived_at]
  refine add_number (sum_isNumber _ _ fun l => mul_number ?_ (h.w j l)) (mul_number weight_number (h.r i j))
  unfold Stretches.seven
  split_ifs
  · exact h.n0 i _
  · exact h.n1 i _
  · exact h.n2 i _
  · exact h.n3 i _
  · exact h.n4 i _
  · exact h.n5 i _
  · exact h.n6 i _

/-- On numbers, a row of the gradient is the slope of the row. -/
theorem result0_at (d0 : FVec Ideal S8192x384 .bf16) (d1 : FVec Ideal S8192x384 .bf16) (d2 : FVec Ideal S8192x256 .bf16) (d3 : FVec Ideal S8192x256 .bf16) (d4 : FVec Ideal S8192x384 .bf16) (d5 : FVec Ideal S8192x384 .bf16) (d6 : FVec Ideal S8192x384 .bf16) (w : FVec Ideal S1024x2432 .bf16) (r : FVec Ideal S8192x1024 .f32) (z : FVec Ideal S8192x1024 .f32) (g : FVec Ideal S1x1024 .f32) (h : Numbers d0 d1 d2 d3 d4 d5 d6 w r z g) (i : Fin 8192) (j : Fin 1024) :
    result0 d0 d1 d2 d3 d4 d5 d6 w r z g (ix2 i j) = RowNorm.slope (fun k => z (ix2 i k)) (fun k => arrived d0 d1 d2 d3 d4 d5 d6 w r (ix2 i k) * g (ix2 0 k)) j := by
  have e : row (scaled (arrived d0 d1 d2 d3 d4 d5 d6 w r) g) i = fun k => arrived d0 d1 d2 d3 d4 d5 d6 w r (ix2 i k) * g (ix2 0 k) := funext fun k => scaled_at _ _ _ _
  rw [result0, grad_at, RowNorm.chained_eq, e]
  · rfl
  · exact fun k => h.z i k
  · intro k
    rw [e]
    exact mul_number (arrived_number d0 d1 d2 d3 d4 d5 d6 w r z g h i k) (h.g k)

/-- Equal arguments have equal results. -/
theorem result0_congr {a0 b0 : FVec Ideal S8192x384 .bf16} {a1 b1 : FVec Ideal S8192x384 .bf16} {a2 b2 : FVec Ideal S8192x256 .bf16} {a3 b3 : FVec Ideal S8192x256 .bf16} {a4 b4 : FVec Ideal S8192x384 .bf16} {a5 b5 : FVec Ideal S8192x384 .bf16} {a6 b6 : FVec Ideal S8192x384 .bf16} {a7 b7 : FVec Ideal S1024x2432 .bf16} {a8 b8 : FVec Ideal S8192x1024 .f32} {a9 b9 : FVec Ideal S8192x1024 .f32} {a10 b10 : FVec Ideal S1x1024 .f32} (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) :
    result0 a0 a1 a2 a3 a4 a5 a6 a7 a8 a9 a10 = result0 b0 b1 b2 b3 b4 b5 b6 b7 b8 b9 b10 := by
  subst h0 h1 h2 h3 h4 h5 h6 h7 h8 h9 h10
  rfl

/-- Equal arguments have equal results. -/
theorem result1_congr {a0 b0 : FVec Ideal S8192x384 .bf16} {a1 b1 : FVec Ideal S8192x384 .bf16} {a2 b2 : FVec Ideal S8192x256 .bf16} {a3 b3 : FVec Ideal S8192x256 .bf16} {a4 b4 : FVec Ideal S8192x384 .bf16} {a5 b5 : FVec Ideal S8192x384 .bf16} {a6 b6 : FVec Ideal S8192x384 .bf16} {a7 b7 : FVec Ideal S1024x2432 .bf16} {a8 b8 : FVec Ideal S8192x1024 .f32} {a9 b9 : FVec Ideal S8192x1024 .f32} {a10 b10 : FVec Ideal S1x1024 .f32} (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) :
    result1 a0 a1 a2 a3 a4 a5 a6 a7 a8 a9 a10 = result1 b0 b1 b2 b3 b4 b5 b6 b7 b8 b9 b10 := by
  subst h0 h1 h2 h3 h4 h5 h6 h7 h8 h9 h10
  rfl

/-- Equal arguments have equal results. -/
theorem result2_congr {a0 b0 : FVec Ideal S8192x384 .bf16} {a1 b1 : FVec Ideal S8192x384 .bf16} {a2 b2 : FVec Ideal S8192x256 .bf16} {a3 b3 : FVec Ideal S8192x256 .bf16} {a4 b4 : FVec Ideal S8192x384 .bf16} {a5 b5 : FVec Ideal S8192x384 .bf16} {a6 b6 : FVec Ideal S8192x384 .bf16} {a7 b7 : FVec Ideal S1024x2432 .bf16} {a8 b8 : FVec Ideal S8192x1024 .f32} {a9 b9 : FVec Ideal S8192x1024 .f32} {a10 b10 : FVec Ideal S1x1024 .f32} (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) :
    result2 a0 a1 a2 a3 a4 a5 a6 a7 a8 a9 a10 = result2 b0 b1 b2 b3 b4 b5 b6 b7 b8 b9 b10 := by
  subst h0 h1 h2 h3 h4 h5 h6 h7 h8 h9 h10
  rfl

/-- Equal arguments have equal results. -/
theorem result3_congr {a0 b0 : FVec Ideal S8192x384 .bf16} {a1 b1 : FVec Ideal S8192x384 .bf16} {a2 b2 : FVec Ideal S8192x256 .bf16} {a3 b3 : FVec Ideal S8192x256 .bf16} {a4 b4 : FVec Ideal S8192x384 .bf16} {a5 b5 : FVec Ideal S8192x384 .bf16} {a6 b6 : FVec Ideal S8192x384 .bf16} {a7 b7 : FVec Ideal S1024x2432 .bf16} {a8 b8 : FVec Ideal S8192x1024 .f32} {a9 b9 : FVec Ideal S8192x1024 .f32} {a10 b10 : FVec Ideal S1x1024 .f32} (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) :
    result3 a0 a1 a2 a3 a4 a5 a6 a7 a8 a9 a10 = result3 b0 b1 b2 b3 b4 b5 b6 b7 b8 b9 b10 := by
  subst h0 h1 h2 h3 h4 h5 h6 h7 h8 h9 h10
  rfl

end Cert.X0Ln3ReferenceIdeal.Spec

namespace Cert.Pre_finite_x0_ln3

/-- The precondition's shapes fit. -/
theorem facts : Facts where
  bcast_S_S8192x384 := by decide
  bcast_S_S8192x256 := by decide
  bcast_S_S1024x2432 := by decide
  bcast_S_S8192x1024 := by decide
  bcast_S_S1x1024 := by decide

/-- Where the precondition's flags of `dav` are set, its entries are numbers. -/
theorem number_dav [Facts] (dav : FVec Ideal S8192x384 .bf16) (dag : FVec Ideal S8192x384 .bf16) (dbu : FVec Ideal S8192x256 .bf16) (dbv : FVec Ideal S8192x256 .bf16) (dcb : FVec Ideal S8192x384 .bf16) (dcc : FVec Ideal S8192x384 .bf16) (dcx : FVec Ideal S8192x384 .bf16) (w : FVec Ideal S1024x2432 .bf16) (r : FVec Ideal S8192x1024 .f32) (z : FVec Ideal S8192x1024 .f32) (g : FVec Ideal S1x1024 .f32)
    (h : (fn (F := Ideal) dav dag dbu dbv dcb dcc dcx w r z g).1 = fun _ => 1#1) (p : Fin 8192) (q : Fin 384) : RowSoftmax.IsNumber (dav (ix2 p q)) := by
  have := congrFun h (ix2 p q)
  pointwise [fn_part1, fn] at this
  exact RowSoftmax.number_of_set16 _ this

/-- Where the precondition's flags of `dag` are set, its entries are numbers. -/
theorem number_dag [Facts] (dav : FVec Ideal S8192x384 .bf16) (dag : FVec Ideal S8192x384 .bf16) (dbu : FVec Ideal S8192x256 .bf16) (dbv : FVec Ideal S8192x256 .bf16) (dcb : FVec Ideal S8192x384 .bf16) (dcc : FVec Ideal S8192x384 .bf16) (dcx : FVec Ideal S8192x384 .bf16) (w : FVec Ideal S1024x2432 .bf16) (r : FVec Ideal S8192x1024 .f32) (z : FVec Ideal S8192x1024 .f32) (g : FVec Ideal S1x1024 .f32)
    (h : (fn (F := Ideal) dav dag dbu dbv dcb dcc dcx w r z g).2.1 = fun _ => 1#1) (p : Fin 8192) (q : Fin 384) : RowSoftmax.IsNumber (dag (ix2 p q)) := by
  have := congrFun h (ix2 p q)
  pointwise [fn_part1, fn] at this
  exact RowSoftmax.number_of_set16 _ this

/-- Where the precondition's flags of `dbu` are set, its entries are numbers. -/
theorem number_dbu [Facts] (dav : FVec Ideal S8192x384 .bf16) (dag : FVec Ideal S8192x384 .bf16) (dbu : FVec Ideal S8192x256 .bf16) (dbv : FVec Ideal S8192x256 .bf16) (dcb : FVec Ideal S8192x384 .bf16) (dcc : FVec Ideal S8192x384 .bf16) (dcx : FVec Ideal S8192x384 .bf16) (w : FVec Ideal S1024x2432 .bf16) (r : FVec Ideal S8192x1024 .f32) (z : FVec Ideal S8192x1024 .f32) (g : FVec Ideal S1x1024 .f32)
    (h : (fn (F := Ideal) dav dag dbu dbv dcb dcc dcx w r z g).2.2.1 = fun _ => 1#1) (p : Fin 8192) (q : Fin 256) : RowSoftmax.IsNumber (dbu (ix2 p q)) := by
  have := congrFun h (ix2 p q)
  pointwise [fn_part1, fn] at this
  exact RowSoftmax.number_of_set16 _ this

/-- Where the precondition's flags of `dbv` are set, its entries are numbers. -/
theorem number_dbv [Facts] (dav : FVec Ideal S8192x384 .bf16) (dag : FVec Ideal S8192x384 .bf16) (dbu : FVec Ideal S8192x256 .bf16) (dbv : FVec Ideal S8192x256 .bf16) (dcb : FVec Ideal S8192x384 .bf16) (dcc : FVec Ideal S8192x384 .bf16) (dcx : FVec Ideal S8192x384 .bf16) (w : FVec Ideal S1024x2432 .bf16) (r : FVec Ideal S8192x1024 .f32) (z : FVec Ideal S8192x1024 .f32) (g : FVec Ideal S1x1024 .f32)
    (h : (fn (F := Ideal) dav dag dbu dbv dcb dcc dcx w r z g).2.2.2.1 = fun _ => 1#1) (p : Fin 8192) (q : Fin 256) : RowSoftmax.IsNumber (dbv (ix2 p q)) := by
  have := congrFun h (ix2 p q)
  pointwise [fn_part1, fn] at this
  exact RowSoftmax.number_of_set16 _ this

/-- Where the precondition's flags of `dcb` are set, its entries are numbers. -/
theorem number_dcb [Facts] (dav : FVec Ideal S8192x384 .bf16) (dag : FVec Ideal S8192x384 .bf16) (dbu : FVec Ideal S8192x256 .bf16) (dbv : FVec Ideal S8192x256 .bf16) (dcb : FVec Ideal S8192x384 .bf16) (dcc : FVec Ideal S8192x384 .bf16) (dcx : FVec Ideal S8192x384 .bf16) (w : FVec Ideal S1024x2432 .bf16) (r : FVec Ideal S8192x1024 .f32) (z : FVec Ideal S8192x1024 .f32) (g : FVec Ideal S1x1024 .f32)
    (h : (fn (F := Ideal) dav dag dbu dbv dcb dcc dcx w r z g).2.2.2.2.1 = fun _ => 1#1) (p : Fin 8192) (q : Fin 384) : RowSoftmax.IsNumber (dcb (ix2 p q)) := by
  have := congrFun h (ix2 p q)
  pointwise [fn_part1, fn] at this
  exact RowSoftmax.number_of_set16 _ this

/-- Where the precondition's flags of `dcc` are set, its entries are numbers. -/
theorem number_dcc [Facts] (dav : FVec Ideal S8192x384 .bf16) (dag : FVec Ideal S8192x384 .bf16) (dbu : FVec Ideal S8192x256 .bf16) (dbv : FVec Ideal S8192x256 .bf16) (dcb : FVec Ideal S8192x384 .bf16) (dcc : FVec Ideal S8192x384 .bf16) (dcx : FVec Ideal S8192x384 .bf16) (w : FVec Ideal S1024x2432 .bf16) (r : FVec Ideal S8192x1024 .f32) (z : FVec Ideal S8192x1024 .f32) (g : FVec Ideal S1x1024 .f32)
    (h : (fn (F := Ideal) dav dag dbu dbv dcb dcc dcx w r z g).2.2.2.2.2.1 = fun _ => 1#1) (p : Fin 8192) (q : Fin 384) : RowSoftmax.IsNumber (dcc (ix2 p q)) := by
  have := congrFun h (ix2 p q)
  pointwise [fn_part1, fn] at this
  exact RowSoftmax.number_of_set16 _ this

/-- Where the precondition's flags of `dcx` are set, its entries are numbers. -/
theorem number_dcx [Facts] (dav : FVec Ideal S8192x384 .bf16) (dag : FVec Ideal S8192x384 .bf16) (dbu : FVec Ideal S8192x256 .bf16) (dbv : FVec Ideal S8192x256 .bf16) (dcb : FVec Ideal S8192x384 .bf16) (dcc : FVec Ideal S8192x384 .bf16) (dcx : FVec Ideal S8192x384 .bf16) (w : FVec Ideal S1024x2432 .bf16) (r : FVec Ideal S8192x1024 .f32) (z : FVec Ideal S8192x1024 .f32) (g : FVec Ideal S1x1024 .f32)
    (h : (fn (F := Ideal) dav dag dbu dbv dcb dcc dcx w r z g).2.2.2.2.2.2.1 = fun _ => 1#1) (p : Fin 8192) (q : Fin 384) : RowSoftmax.IsNumber (dcx (ix2 p q)) := by
  have := congrFun h (ix2 p q)
  pointwise [fn_part1, fn] at this
  exact RowSoftmax.number_of_set16 _ this

/-- Where the precondition's flags of `w` are set, its entries are numbers. -/
theorem number_w [Facts] (dav : FVec Ideal S8192x384 .bf16) (dag : FVec Ideal S8192x384 .bf16) (dbu : FVec Ideal S8192x256 .bf16) (dbv : FVec Ideal S8192x256 .bf16) (dcb : FVec Ideal S8192x384 .bf16) (dcc : FVec Ideal S8192x384 .bf16) (dcx : FVec Ideal S8192x384 .bf16) (w : FVec Ideal S1024x2432 .bf16) (r : FVec Ideal S8192x1024 .f32) (z : FVec Ideal S8192x1024 .f32) (g : FVec Ideal S1x1024 .f32)
    (h : (fn (F := Ideal) dav dag dbu dbv dcb dcc dcx w r z g).2.2.2.2.2.2.2.1 = fun _ => 1#1) (p : Fin 1024) (q : Fin 2432) : RowSoftmax.IsNumber (w (ix2 p q)) := by
  have := congrFun h (ix2 p q)
  pointwise [fn_part1, fn] at this
  exact RowSoftmax.number_of_set16 _ this

/-- Where the precondition's flags of `r` are set, its entries are numbers. -/
theorem number_r [Facts] (dav : FVec Ideal S8192x384 .bf16) (dag : FVec Ideal S8192x384 .bf16) (dbu : FVec Ideal S8192x256 .bf16) (dbv : FVec Ideal S8192x256 .bf16) (dcb : FVec Ideal S8192x384 .bf16) (dcc : FVec Ideal S8192x384 .bf16) (dcx : FVec Ideal S8192x384 .bf16) (w : FVec Ideal S1024x2432 .bf16) (r : FVec Ideal S8192x1024 .f32) (z : FVec Ideal S8192x1024 .f32) (g : FVec Ideal S1x1024 .f32)
    (h : (fn (F := Ideal) dav dag dbu dbv dcb dcc dcx w r z g).2.2.2.2.2.2.2.2.1 = fun _ => 1#1) (p : Fin 8192) (q : Fin 1024) : RowSoftmax.IsNumber (r (ix2 p q)) := by
  have := congrFun h (ix2 p q)
  pointwise [fn_part1, fn] at this
  exact RowSoftmax.number_of_set32 _ this

/-- Where the precondition's flags of `z` are set, its entries are numbers. -/
theorem number_z [Facts] (dav : FVec Ideal S8192x384 .bf16) (dag : FVec Ideal S8192x384 .bf16) (dbu : FVec Ideal S8192x256 .bf16) (dbv : FVec Ideal S8192x256 .bf16) (dcb : FVec Ideal S8192x384 .bf16) (dcc : FVec Ideal S8192x384 .bf16) (dcx : FVec Ideal S8192x384 .bf16) (w : FVec Ideal S1024x2432 .bf16) (r : FVec Ideal S8192x1024 .f32) (z : FVec Ideal S8192x1024 .f32) (g : FVec Ideal S1x1024 .f32)
    (h : (fn (F := Ideal) dav dag dbu dbv dcb dcc dcx w r z g).2.2.2.2.2.2.2.2.2.1 = fun _ => 1#1) (p : Fin 8192) (q : Fin 1024) : RowSoftmax.IsNumber (z (ix2 p q)) := by
  have := congrFun h (ix2 p q)
  pointwise [fn_part1, fn] at this
  exact RowSoftmax.number_of_set32 _ this

/-- Where the precondition's flags of `g` are set, its entries are numbers. -/
theorem number_g [Facts] (dav : FVec Ideal S8192x384 .bf16) (dag : FVec Ideal S8192x384 .bf16) (dbu : FVec Ideal S8192x256 .bf16) (dbv : FVec Ideal S8192x256 .bf16) (dcb : FVec Ideal S8192x384 .bf16) (dcc : FVec Ideal S8192x384 .bf16) (dcx : FVec Ideal S8192x384 .bf16) (w : FVec Ideal S1024x2432 .bf16) (r : FVec Ideal S8192x1024 .f32) (z : FVec Ideal S8192x1024 .f32) (g : FVec Ideal S1x1024 .f32)
    (h : (fn (F := Ideal) dav dag dbu dbv dcb dcc dcx w r z g).2.2.2.2.2.2.2.2.2.2 = fun _ => 1#1) (p : Fin 1) (q : Fin 1024) : RowSoftmax.IsNumber (g (ix2 p q)) := by
  have := congrFun h (ix2 p q)
  pointwise [fn_part1, fn] at this
  exact RowSoftmax.number_of_set32 _ this

end Cert.Pre_finite_x0_ln3

namespace Cert.X0Ln3Ideal.Val

open Cert.X0Ln3Ideal Cert.X0Ln3Ideal.Gen RowNorm

variable (m : (ℓ : Loc nD τ sig) → Buf (Elt Ideal) ℓ)

/-- The precondition makes every argument a number. -/
theorem numbers [Pre_finite_x0_ln3.Facts] (c : Dev nD) (h : let p := Pre_finite_x0_ln3.fn (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)); p.1 = (fun _ => 1#1) ∧ p.2.1 = (fun _ => 1#1) ∧ p.2.2.1 = (fun _ => 1#1) ∧ p.2.2.2.1 = (fun _ => 1#1) ∧ p.2.2.2.2.1 = (fun _ => 1#1) ∧ p.2.2.2.2.2.1 = (fun _ => 1#1) ∧ p.2.2.2.2.2.2.1 = (fun _ => 1#1) ∧ p.2.2.2.2.2.2.2.1 = (fun _ => 1#1) ∧ p.2.2.2.2.2.2.2.2.1 = (fun _ => 1#1) ∧ p.2.2.2.2.2.2.2.2.2.1 = (fun _ => 1#1) ∧ p.2.2.2.2.2.2.2.2.2.2 = (fun _ => 1#1)) :
    X0Ln3ReferenceIdeal.Spec.Numbers (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) where
  n0 i j := Pre_finite_x0_ln3.number_dav _ _ _ _ _ _ _ _ _ _ _ h.1 i j
  n1 i j := Pre_finite_x0_ln3.number_dag _ _ _ _ _ _ _ _ _ _ _ h.2.1 i j
  n2 i j := Pre_finite_x0_ln3.number_dbu _ _ _ _ _ _ _ _ _ _ _ h.2.2.1 i j
  n3 i j := Pre_finite_x0_ln3.number_dbv _ _ _ _ _ _ _ _ _ _ _ h.2.2.2.1 i j
  n4 i j := Pre_finite_x0_ln3.number_dcb _ _ _ _ _ _ _ _ _ _ _ h.2.2.2.2.1 i j
  n5 i j := Pre_finite_x0_ln3.number_dcc _ _ _ _ _ _ _ _ _ _ _ h.2.2.2.2.2.1 i j
  n6 i j := Pre_finite_x0_ln3.number_dcx _ _ _ _ _ _ _ _ _ _ _ h.2.2.2.2.2.2.1 i j
  w i j := Pre_finite_x0_ln3.number_w _ _ _ _ _ _ _ _ _ _ _ h.2.2.2.2.2.2.2.1 i j
  r i j := Pre_finite_x0_ln3.number_r _ _ _ _ _ _ _ _ _ _ _ h.2.2.2.2.2.2.2.2.1 i j
  z i j := Pre_finite_x0_ln3.number_z _ _ _ _ _ _ _ _ _ _ _ h.2.2.2.2.2.2.2.2.2.1 i j
  g j := Pre_finite_x0_ln3.number_g _ _ _ _ _ _ _ _ _ _ _ h.2.2.2.2.2.2.2.2.2.2 0 j

/-- Where the windows' blocks lie at point `t`. -/
theorem placed : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![0, 0] ∧ win0_10.index t = ![0, 0] ∧ win0_11.index t = ![t.val, 0] ∧ win0_12.index t = ![t.val, 0] ∧ win0_13.index t = ![0, 0] ∧ win0_14.index t = ![0, 0] :=
  (by decide +kernel : ∀ t : Fin grid0.N, _)

/-- An entry of the tile's centred rows. -/
theorem centred_at (z : Vec Ideal S1024x1024 .f32) (i : Fin 1024) (j : Fin 1024) :
    k0_pay9 (F := Ideal) z (ix2 i j) = centred (fun k => z (ix2 i k)) j := by
  pointwise [k0_pay9]
  rfl

/-- A row's scale. -/
theorem scale_at (z : Vec Ideal S1024x1024 .f32) (i : Fin 1024) (l : Fin 1) :
    k0_pay10 (F := Ideal) z (ix2 i l) = scale (fun k => z (ix2 i k)) := by
  pointwise [k0_pay10, centred_at]
  rfl

/-- An entry of the tile's normalised rows. -/
theorem normal_at (z : Vec Ideal S1024x1024 .f32) (i : Fin 1024) (j : Fin 1024) :
    k0_pay11 (F := Ideal) z (ix2 i j) = normal (fun k => z (ix2 i k)) j := by
  pointwise [k0_pay11, centred_at, scale_at]
  rfl

/-- An entry of the arriving gradient times the gain. -/
theorem upstream_at (v25 : FVec Ideal S1024x1024 .f32) (v26 : Vec Ideal S1024x384 .bf16) (v27 : Vec Ideal S1024x384 .bf16) (v30 : Vec Ideal S1024x384 .bf16) (v31 : Vec Ideal S1024x384 .bf16) (g : Vec Ideal S1x1024 .f32) (i : Fin 1024) (j : Fin 1024) :
    k0_pay12 (F := Ideal) v25 v26 v27 v30 v31 g (ix2 i j) = k0_pay8 (F := Ideal) v25 v26 v27 v30 v31 (ix2 i j) * g (ix2 0 j) := by
  pointwise [k0_pay12]

/-- The same less its row's mean. -/
theorem upstream_centred_at (v25 : FVec Ideal S1024x1024 .f32) (v26 : Vec Ideal S1024x384 .bf16) (v27 : Vec Ideal S1024x384 .bf16) (v30 : Vec Ideal S1024x384 .bf16) (v31 : Vec Ideal S1024x384 .bf16) (g : Vec Ideal S1x1024 .f32) (i : Fin 1024) (j : Fin 1024) :
    k0_pay13 (F := Ideal) v25 v26 v27 v30 v31 g (ix2 i j) = k0_pay8 (F := Ideal) v25 v26 v27 v30 v31 (ix2 i j) * g (ix2 0 j) - mean fun k => k0_pay8 (F := Ideal) v25 v26 v27 v30 v31 (ix2 i k) * g (ix2 0 k) := by
  pointwise [k0_pay13, upstream_at]
  rfl

/-- The mean of the same times the normalised rows. -/
theorem upstream_normal_at (v25 : FVec Ideal S1024x1024 .f32) (v26 : Vec Ideal S1024x384 .bf16) (v27 : Vec Ideal S1024x384 .bf16) (v30 : Vec Ideal S1024x384 .bf16) (v31 : Vec Ideal S1024x384 .bf16) (z : Vec Ideal S1024x1024 .f32) (g : Vec Ideal S1x1024 .f32) (i : Fin 1024) (l : Fin 1) :
    k0_pay14 (F := Ideal) v25 v26 v27 v30 v31 z g (ix2 i l) = mean fun k => k0_pay8 (F := Ideal) v25 v26 v27 v30 v31 (ix2 i k) * g (ix2 0 k) * normal (fun k => z (ix2 i k)) k := by
  pointwise [k0_pay14, upstream_at, normal_at]
  rfl

/-- An entry of the tile of the gradient is its row's slope. -/
theorem slope_at (v25 : FVec Ideal S1024x1024 .f32) (v26 : Vec Ideal S1024x384 .bf16) (v27 : Vec Ideal S1024x384 .bf16) (v30 : Vec Ideal S1024x384 .bf16) (v31 : Vec Ideal S1024x384 .bf16) (z : Vec Ideal S1024x1024 .f32) (g : Vec Ideal S1x1024 .f32) (i : Fin 1024) (j : Fin 1024) :
    k0_pay1 (F := Ideal) (k0_pay10 (F := Ideal) z) (k0_pay11 (F := Ideal) z) (k0_pay13 (F := Ideal) v25 v26 v27 v30 v31 g) (k0_pay14 (F := Ideal) v25 v26 v27 v30 v31 z g) (ix2 i j)
      = slope (fun k => z (ix2 i k)) (fun k => k0_pay8 (F := Ideal) v25 v26 v27 v30 v31 (ix2 i k) * g (ix2 0 k)) j := by
  pointwise [k0_pay1, scale_at, normal_at, upstream_centred_at, upstream_normal_at]
  rfl

/-- One tile's contribution to the gain's gradient, added to what was accumulated. -/
theorem gain_at (d : FVec Ideal S1024x1024 .f32) (x : FVec Ideal S1024x1024 .f32) (acc : Vec Ideal S1x1024 .f32) (l : Fin 1) (j : Fin 1024) :
    k0_pay3 (F := Ideal) d x acc (ix2 l j) = acc (ix2 l j) + ∑ i : Fin 1024, d (ix2 i j) * x (ix2 i j) := by
  pointwise [k0_pay3]

/-- One tile's contribution to the bias's gradient, added to what was accumulated. -/
theorem bias_at (d : FVec Ideal S1024x1024 .f32) (acc : Vec Ideal S1x1024 .f32) (l : Fin 1) (j : Fin 1024) :
    k0_pay4 (F := Ideal) d acc (ix2 l j) = acc (ix2 l j) + ∑ i : Fin 1024, d (ix2 i j) := by
  pointwise [k0_pay4]

/-- The zero fills. -/
theorem zero_at (j : S1x1024.Idx) : k0_pay5 (F := Ideal) j = 0 ∧ k0_pay6 (F := Ideal) j = 0 := by
  constructor
  · pointwise [k0_pay5]
  · pointwise [k0_pay6]

/-- The residual and the first five products of a tile. -/
def part (c : Dev nD) (t : Fin cfg0.N) : FVec Ideal S1024x1024 .f32 := k0_pay7 (F := Ideal) (iblk m c 7 t) (iblk m c 0 t) (View.ld (Val := Elt Ideal) (iblk m c 9 t) (Rect.unit (s := S1024x2432) ![0, 0] ![1024, 384] inb_S1024x2432_S1024x384_0_0)) (iblk m c 1 t) (View.ld (Val := Elt Ideal) (iblk m c 9 t) (Rect.unit (s := S1024x2432) ![0, 384] ![1024, 384] inb_S1024x2432_S1024x384_0_384)) (iblk m c 2 t) (View.ld (Val := Elt Ideal) (iblk m c 9 t) (Rect.unit (s := S1024x2432) ![0, 768] ![1024, 256] inb_S1024x2432_S1024x256_0_768)) (iblk m c 3 t) (View.ld (Val := Elt Ideal) (iblk m c 9 t) (Rect.unit (s := S1024x2432) ![0, 1024] ![1024, 256] inb_S1024x2432_S1024x256_0_1024)) (iblk m c 4 t) (View.ld (Val := Elt Ideal) (iblk m c 9 t) (Rect.unit (s := S1024x2432) ![0, 1280] ![1024, 384] inb_S1024x2432_S1024x384_0_1280))

/-- The tile's arriving gradient is its rows of the whole arriving gradient. -/
theorem tile_arrived (c : Dev nD) (t : Fin cfg0.N) (i : Fin 1024) (j : Fin 1024) (h : t.val * 1024 + i.val < 8192) :
    k0_pay8 (F := Ideal) (part m c t) (iblk m c 5 t) (View.ld (Val := Elt Ideal) (iblk m c 9 t) (Rect.unit (s := S1024x2432) ![0, 1664] ![1024, 384] inb_S1024x2432_S1024x384_0_1664)) (iblk m c 6 t) (View.ld (Val := Elt Ideal) (iblk m c 9 t) (Rect.unit (s := S1024x2432) ![0, 2048] ![1024, 384] inb_S1024x2432_S1024x384_0_2048)) (ix2 i j)
      = X0Ln3ReferenceIdeal.Spec.arrived (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (ix2 ⟨t.val * 1024 + i.val, h⟩ j) := by
  rw [X0Ln3ReferenceIdeal.Spec.arrived_at, Stretches.seven_dot, add_comm]
  unfold part
  pointwise [k0_pay8, k0_pay7]
  simp only [add_assoc]
  blk_point [iblk, V, placed t]

/-- A row of the tile's normalised argument is that row of the whole. -/
theorem tile_row (c : Dev nD) (t : Fin cfg0.N) (i : Fin 1024) (h : t.val * 1024 + i.val < 8192) :
    (fun k => (iblk m c 8 t : Vec Ideal S1024x1024 .f32) (ix2 i k)) = fun k => ((m (c.tc.loc main_arg9)) : FVec Ideal S8192x1024 .f32) (ix2 ⟨t.val * 1024 + i.val, h⟩ k) := by
  funext k
  blk_point [iblk, V, placed t]

/-- The gain is read whole. -/
theorem tile_gain (c : Dev nD) (t : Fin cfg0.N) (k : Fin 1024) :
    (iblk m c 10 t : Vec Ideal S1x1024 .f32) (ix2 0 k) = ((m (c.tc.loc main_arg10)) : FVec Ideal S1x1024 .f32) (ix2 0 k) := by
  blk_point [iblk, V, placed t]

/-- A tile of the gradient is its rows of the whole gradient. -/
theorem tile_slope (c : Dev nD) (hn : X0Ln3ReferenceIdeal.Spec.Numbers (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10))) (t : Fin cfg0.N) (i : Fin 1024) (j : Fin 1024) (h : t.val * 1024 + i.val < 8192) :
    k0_pay1 (F := Ideal) (k0_pay10 (F := Ideal) (iblk m c 8 t)) (k0_pay11 (F := Ideal) (iblk m c 8 t)) (k0_pay13 (F := Ideal) (part m c t) (iblk m c 5 t) (View.ld (Val := Elt Ideal) (iblk m c 9 t) (Rect.unit (s := S1024x2432) ![0, 1664] ![1024, 384] inb_S1024x2432_S1024x384_0_1664)) (iblk m c 6 t) (View.ld (Val := Elt Ideal) (iblk m c 9 t) (Rect.unit (s := S1024x2432) ![0, 2048] ![1024, 384] inb_S1024x2432_S1024x384_0_2048)) (iblk m c 10 t)) (k0_pay14 (F := Ideal) (part m c t) (iblk m c 5 t) (View.ld (Val := Elt Ideal) (iblk m c 9 t) (Rect.unit (s := S1024x2432) ![0, 1664] ![1024, 384] inb_S1024x2432_S1024x384_0_1664)) (iblk m c 6 t) (View.ld (Val := Elt Ideal) (iblk m c 9 t) (Rect.unit (s := S1024x2432) ![0, 2048] ![1024, 384] inb_S1024x2432_S1024x384_0_2048)) (iblk m c 8 t) (iblk m c 10 t)) (ix2 i j)
      = X0Ln3ReferenceIdeal.Spec.result0 (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (ix2 ⟨t.val * 1024 + i.val, h⟩ j) := by
  rw [slope_at, X0Ln3ReferenceIdeal.Spec.result0_at _ _ _ _ _ _ _ _ _ _ _  hn]
  refine congrArg₂ (fun x u => slope x u j) (tile_row m c t i h) (funext fun k => ?_)
  rw [tile_arrived m c t i k h, tile_gain]

/-- Which payloads a point leaves in the two gradient blocks. -/
theorem outs_at (c : Dev nD) (t : Fin cfg0.N) :
    (outsAt0 m c t.val t.isLt).1 = k0_pay1 (F := Ideal) (k0_pay10 (F := Ideal) (iblk m c 8 t)) (k0_pay11 (F := Ideal) (iblk m c 8 t)) (k0_pay13 (F := Ideal) (part m c t) (iblk m c 5 t) (View.ld (Val := Elt Ideal) (iblk m c 9 t) (Rect.unit (s := S1024x2432) ![0, 1664] ![1024, 384] inb_S1024x2432_S1024x384_0_1664)) (iblk m c 6 t) (View.ld (Val := Elt Ideal) (iblk m c 9 t) (Rect.unit (s := S1024x2432) ![0, 2048] ![1024, 384] inb_S1024x2432_S1024x384_0_2048)) (iblk m c 10 t)) (k0_pay14 (F := Ideal) (part m c t) (iblk m c 5 t) (View.ld (Val := Elt Ideal) (iblk m c 9 t) (Rect.unit (s := S1024x2432) ![0, 1664] ![1024, 384] inb_S1024x2432_S1024x384_0_1664)) (iblk m c 6 t) (View.ld (Val := Elt Ideal) (iblk m c 9 t) (Rect.unit (s := S1024x2432) ![0, 2048] ![1024, 384] inb_S1024x2432_S1024x384_0_2048)) (iblk m c 8 t) (iblk m c 10 t))
    ∧ (outsAt0 m c t.val t.isLt).2.1 = k0_pay2 (F := Ideal) (k0_pay10 (F := Ideal) (iblk m c 8 t)) (k0_pay11 (F := Ideal) (iblk m c 8 t)) (k0_pay13 (F := Ideal) (part m c t) (iblk m c 5 t) (View.ld (Val := Elt Ideal) (iblk m c 9 t) (Rect.unit (s := S1024x2432) ![0, 1664] ![1024, 384] inb_S1024x2432_S1024x384_0_1664)) (iblk m c 6 t) (View.ld (Val := Elt Ideal) (iblk m c 9 t) (Rect.unit (s := S1024x2432) ![0, 2048] ![1024, 384] inb_S1024x2432_S1024x384_0_2048)) (iblk m c 10 t)) (k0_pay14 (F := Ideal) (part m c t) (iblk m c 5 t) (View.ld (Val := Elt Ideal) (iblk m c 9 t) (Rect.unit (s := S1024x2432) ![0, 1664] ![1024, 384] inb_S1024x2432_S1024x384_0_1664)) (iblk m c 6 t) (View.ld (Val := Elt Ideal) (iblk m c 9 t) (Rect.unit (s := S1024x2432) ![0, 2048] ![1024, 384] inb_S1024x2432_S1024x384_0_2048)) (iblk m c 8 t) (iblk m c 10 t)) := by
  unfold part
  by_cases h0 : t.val % 8 = 0
  · rw [outsAt0_A m c t h0]
    constructor <;> (frame_out; rfl)
  · rw [outsAt0_B m c t h0]
    constructor <;> (frame_out; rfl)

/-- The gradient's array. -/
theorem final0 (c : Dev nD) (hn : X0Ln3ReferenceIdeal.Spec.Numbers (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10))) : (dats m 0 c).arrAt 11 cfg0.N = X0Ln3ReferenceIdeal.Spec.result0 (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) := by
  refine (dats m 0 c).arrAt_eq_of_covers 11 _ (by decide +kernel) fun t _ y => ?_
  blk_simp
  rw [after0_11, (outs_at m c t).1]
  idx_vars y
  have ht : t.val < 8 := lt_of_lt_of_eq t.isLt N_0
  have e : (((View.whole main_v0_0).slice (win0_11.rect t)).emb (ix2 y0 y1) : S8192x1024.Idx) = ix2 ⟨t.val * 1024 + y0, by omega⟩ y1 := by blk_ext [placed t]
  rw [e]
  exact tile_slope m c hn t y0 y1 (by omega)

/-- The cast gradient's array. -/
theorem final1 (c : Dev nD) (hn : X0Ln3ReferenceIdeal.Spec.Numbers (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10))) : (dats m 0 c).arrAt 12 cfg0.N = X0Ln3ReferenceIdeal.Spec.result1 (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) := by
  refine (dats m 0 c).arrAt_eq_of_covers 12 _ (by decide +kernel) fun t _ y => ?_
  blk_simp
  rw [after0_12, (outs_at m c t).2]
  idx_vars y
  have ht : t.val < 8 := lt_of_lt_of_eq t.isLt N_0
  have e : (((View.whole main_v0_1).slice (win0_12.rect t)).emb (ix2 y0 y1) : S8192x1024.Idx) = ix2 ⟨t.val * 1024 + y0, by omega⟩ y1 := by blk_ext [placed t]
  rw [e]
  exact tile_slope m c hn t y0 y1 (by omega)

/-- The gain's gradient: the run of points accumulates it over the tiles of rows. -/
theorem final2 (c : Dev nD) : (dats m 0 c).arrAt 13 cfg0.N = X0Ln3ReferenceIdeal.Spec.result2 (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) := by
  refine (dats m 0 c).arrAt_eq_of_covers 13 _ (by decide +kernel) fun t hf y => ?_
  blk_simp
  have ht : t.val < 8 := lt_of_lt_of_eq t.isLt N_0
  have hs : ∀ s : Fin 8, 8 * (t.val / 8) + s.val < 8 := fun s => by omega
  idx_vars y
  rw [after0_13, Pipeline.eq_sum_fin_of_reset_step_apply_of_flush (fun n h => (outsAt0 m c n h).2.2.1) 8 (fun _ => 0)
    (fun t j => ∑ i : Fin 1024, k0_pay8 (F := Ideal) (part m c t) (iblk m c 5 t) (View.ld (Val := Elt Ideal) (iblk m c 9 t) (Rect.unit (s := S1024x2432) ![0, 1664] ![1024, 384] inb_S1024x2432_S1024x384_0_1664)) (iblk m c 6 t) (View.ld (Val := Elt Ideal) (iblk m c 9 t) (Rect.unit (s := S1024x2432) ![0, 2048] ![1024, 384] inb_S1024x2432_S1024x384_0_2048)) (ix2 i (j 1)) * normal (fun k => (iblk m c 8 t : Vec Ideal S1024x1024 .f32) (ix2 i k)) (j 1))
    (fun t h j => by rw [outsAt0_A m c t h]; unfold part; frame_out; idx_vars j; rw [gain_at, (zero_at _).1]; simp only [normal_at]; rfl)
    (fun t h j => by rw [outsAt0_B m c t h]; unfold part; frame_out; idx_vars j; rw [gain_at]; simp only [normal_at]; rfl)
    t ((flush0_13 t).mp hf) _, zero_add]
  have e : (((View.whole main_v0_2).slice (win0_13.rect t)).emb (ix2 y0 y1) : S1x1024.Idx) = ix2 y0 y1 := by blk_ext [placed t]
  rw [e, X0Ln3ReferenceIdeal.Spec.result2, RowNorm.Reference.gainGrad_at]
  refine Fin.sum_mul_add_congr fun s k hl => ?_
  have hk : (⟨8 * (t.val / 8) + s.val, hs s⟩ : Fin 8).val * 1024 + k.val < 8192 := by dsimp only; omega
  have ek : (⟨s.val * 1024 + k.val, hl⟩ : Fin 8192) = ⟨(8 * (t.val / 8) + s.val) * 1024 + k.val, hk⟩ := Fin.ext (by dsimp only; omega)
  rw [ek]
  exact congrArg₂ (· * ·) (tile_arrived m c _ k y1 hk) (congrArg (fun x => normal x y1) (tile_row m c _ k hk))

/-- The bias's gradient: the run of points accumulates it over the tiles of rows. -/
theorem final3 (c : Dev nD) : (dats m 0 c).arrAt 14 cfg0.N = X0Ln3ReferenceIdeal.Spec.result3 (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) := by
  refine (dats m 0 c).arrAt_eq_of_covers 14 _ (by decide +kernel) fun t hf y => ?_
  blk_simp
  have ht : t.val < 8 := lt_of_lt_of_eq t.isLt N_0
  have hs : ∀ s : Fin 8, 8 * (t.val / 8) + s.val < 8 := fun s => by omega
  idx_vars y
  rw [after0_14, Pipeline.eq_sum_fin_of_reset_step_apply_of_flush (fun n h => (outsAt0 m c n h).2.2.2) 8 (fun _ => 0)
    (fun t j => ∑ i : Fin 1024, k0_pay8 (F := Ideal) (part m c t) (iblk m c 5 t) (View.ld (Val := Elt Ideal) (iblk m c 9 t) (Rect.unit (s := S1024x2432) ![0, 1664] ![1024, 384] inb_S1024x2432_S1024x384_0_1664)) (iblk m c 6 t) (View.ld (Val := Elt Ideal) (iblk m c 9 t) (Rect.unit (s := S1024x2432) ![0, 2048] ![1024, 384] inb_S1024x2432_S1024x384_0_2048)) (ix2 i (j 1)))
    (fun t h j => by rw [outsAt0_A m c t h]; unfold part; frame_out; idx_vars j; rw [bias_at, (zero_at _).2]; rfl)
    (fun t h j => by rw [outsAt0_B m c t h]; unfold part; frame_out; idx_vars j; rw [bias_at]; rfl)
    t ((flush0_14 t).mp hf) _, zero_add]
  have e : (((View.whole main_v0_3).slice (win0_14.rect t)).emb (ix2 y0 y1) : S1x1024.Idx) = ix2 y0 y1 := by blk_ext [placed t]
  rw [e, X0Ln3ReferenceIdeal.Spec.result3, RowNorm.Reference.biasGrad_at]
  refine Fin.sum_mul_add_congr fun s k hl => ?_
  have hk : (⟨8 * (t.val / 8) + s.val, hs s⟩ : Fin 8).val * 1024 + k.val < 8192 := by dsimp only; omega
  have ek : (⟨s.val * 1024 + k.val, hl⟩ : Fin 8192) = ⟨(8 * (t.val / 8) + s.val) * 1024 + k.val, hk⟩ := Fin.ext (by dsimp only; omega)
  rw [ek]
  exact tile_arrived m c _ k y1 hk

end Cert.X0Ln3Ideal.Val

namespace Cert.Proof.X0Ln3

/-- The frame of the kernel. -/
theorem frameKernel : quiescent_X0Ln3 (hX0Ln3 := X0Ln3.Gen.facts) :=
  fun m ρ _ => X0Ln3.Gen.frame m ρ

/-- The frame of its idealization. -/
theorem frameIdeal : quiescent_X0Ln3Ideal (hX0Ln3Ideal := X0Ln3Ideal.Gen.facts) :=
  fun m ρ _ => X0Ln3Ideal.Gen.frame m ρ

/-- The same under the precondition. -/
theorem frameIdealPre : quiescent_X0Ln3Ideal_pre_finite_x0_ln3 (hX0Ln3Ideal := X0Ln3Ideal.Gen.facts) (hPre_finite_x0_ln3 := Pre_finite_x0_ln3.facts) :=
  fun m ρ _ => X0Ln3Ideal.Gen.frame m ρ

/-- The frame of the reference. -/
theorem frameReference : quiescent_X0Ln3ReferenceIdeal (hX0Ln3ReferenceIdeal := X0Ln3ReferenceIdeal.Gen.facts) :=
  fun m ρ _ => (θ_run X0Ln3ReferenceIdeal.defs _ _).mono
    (fun r h => ⟨fun c => (h c).2.2.2.2, sem_eq_zero_of_no_sems (by decide) r.2⟩)
    (X0Ln3ReferenceIdeal.Value.run (F := Ideal) m ρ)

/-- The same under the precondition. -/
theorem frameReferencePre : quiescent_X0Ln3ReferenceIdeal_pre_finite_x0_ln3 (hX0Ln3ReferenceIdeal := X0Ln3ReferenceIdeal.Gen.facts) (hPre_finite_x0_ln3 := Pre_finite_x0_ln3.facts) :=
  fun m ρ _ => frameReference m ρ trivial

/-- On arguments that are numbers, the kernel's four results are the differentiated normalisation's. -/
theorem algebraic : algebraic_X0Ln3Ideal_X0Ln3ReferenceIdeal_pre_finite_x0_ln3 (hX0Ln3Ideal := X0Ln3Ideal.Gen.facts) (hX0Ln3ReferenceIdeal := X0Ln3ReferenceIdeal.Gen.facts) (hPre_finite_x0_ln3 := Pre_finite_x0_ln3.facts) :=
  fun m ρ m' ρ' hpre hag => ⟨_, _, _, _,
    (θ_run X0Ln3Ideal.defs _ _).mono (fun _ h c => ⟨(h c).1.trans (X0Ln3Ideal.Val.final0 m c (@X0Ln3Ideal.Val.numbers m Pre_finite_x0_ln3.facts c (hpre c))),
        (h c).2.1.trans (X0Ln3Ideal.Val.final1 m c (@X0Ln3Ideal.Val.numbers m Pre_finite_x0_ln3.facts c (hpre c))),
        (h c).2.2.1.trans (X0Ln3Ideal.Val.final2 m c),
        (h c).2.2.2.1.trans (X0Ln3Ideal.Val.final3 m c), (h c).2.2.2.2⟩)
      (X0Ln3Ideal.Value.run_blocks (F := Ideal) m ρ),
    (θ_run X0Ln3ReferenceIdeal.defs _ _).mono (fun _ h c => ⟨(h c).1.trans (X0Ln3ReferenceIdeal.Spec.result0_congr (hag c).1 (hag c).2.1 (hag c).2.2.1 (hag c).2.2.2.1 (hag c).2.2.2.2.1 (hag c).2.2.2.2.2.1 (hag c).2.2.2.2.2.2.1 (hag c).2.2.2.2.2.2.2.1 (hag c).2.2.2.2.2.2.2.2.1 (hag c).2.2.2.2.2.2.2.2.2.1 (hag c).2.2.2.2.2.2.2.2.2.2),
        (h c).2.1.trans (X0Ln3ReferenceIdeal.Spec.result1_congr (hag c).1 (hag c).2.1 (hag c).2.2.1 (hag c).2.2.2.1 (hag c).2.2.2.2.1 (hag c).2.2.2.2.2.1 (hag c).2.2.2.2.2.2.1 (hag c).2.2.2.2.2.2.2.1 (hag c).2.2.2.2.2.2.2.2.1 (hag c).2.2.2.2.2.2.2.2.2.1 (hag c).2.2.2.2.2.2.2.2.2.2),
        (h c).2.2.1.trans (X0Ln3ReferenceIdeal.Spec.result2_congr (hag c).1 (hag c).2.1 (hag c).2.2.1 (hag c).2.2.2.1 (hag c).2.2.2.2.1 (hag c).2.2.2.2.2.1 (hag c).2.2.2.2.2.2.1 (hag c).2.2.2.2.2.2.2.1 (hag c).2.2.2.2.2.2.2.2.1 (hag c).2.2.2.2.2.2.2.2.2.1 (hag c).2.2.2.2.2.2.2.2.2.2),
        (h c).2.2.2.1.trans (X0Ln3ReferenceIdeal.Spec.result3_congr (hag c).1 (hag c).2.1 (hag c).2.2.1 (hag c).2.2.2.1 (hag c).2.2.2.2.1 (hag c).2.2.2.2.2.1 (hag c).2.2.2.2.2.2.1 (hag c).2.2.2.2.2.2.2.1 (hag c).2.2.2.2.2.2.2.2.1 (hag c).2.2.2.2.2.2.2.2.2.1 (hag c).2.2.2.2.2.2.2.2.2.2), (h c).2.2.2.2⟩)
      (X0Ln3ReferenceIdeal.Value.run (F := Ideal) m' ρ')⟩

end Cert.Proof.X0Ln3

end

end
-- ==== Proof.X0.lean ====
/-
  The gradient of the layer input: the seven projection gradients, side by side, times the projection weight transposed, plus the scaled gradient of the residual path.
-/
module

public import proofs.«01_k».proof.Proof.Gen.X0.Frame
public import proofs.«01_k».proof.Proof.Gen.X0Ideal.Value
public import proofs.«01_k».proof.Proof.Gen.X0Ideal.Frame
public import proofs.«01_k».proof.Proof.Gen.X0ReferenceIdeal.Run
public import proofs.«01_k».proof.Proof.Gen.X0
public import proofs.«01_k».proof.Proof.Gen.X0Ideal
public import proofs.«01_k».proof.Proof.Gen.X0ReferenceIdeal
public import Idealize.ShloMosaic.Lib.Pointwise
public import Idealize.ShloMosaic.Lib.Pipeline.ValueKit
public import proofs.«01_k».proof.Defs
public import Idealize.ShloMosaic.Adequacy
public import Idealize.ShloMosaic.Init
public import proofs.«01_k».proof.Proof.Stretches

@[expose] public section

set_option maxRecDepth 16384

noncomputable section

open Idealize.ShloMosaic Idealize.ShloMosaic.TcCoe Idealize.SL.Sem
open Idealize.ShloMosaic.Pipeline (Dat)

namespace Cert.X0ReferenceIdeal.Spec

open Cert.X0ReferenceIdeal Cert.X0ReferenceIdeal.Gen

/-- The gradient of the layer input: the reference's composed term. -/
def result0 (d0 : FVec Ideal S8192x384 .bf16) (d1 : FVec Ideal S8192x384 .bf16) (d2 : FVec Ideal S8192x256 .bf16) (d3 : FVec Ideal S8192x256 .bf16) (d4 : FVec Ideal S8192x384 .bf16) (d5 : FVec Ideal S8192x384 .bf16) (d6 : FVec Ideal S8192x384 .bf16) (w : FVec Ideal S1024x2432 .bf16) (r : FVec Ideal S8192x1024 .f32) : FVec Ideal S8192x1024 .f32 :=
  addf (Host.dotGeneral (F := Ideal)  (φ₁ := .f32) dot_S8192x2432_S1024x2432_S8192x1024_1_1_0_0_n_n none ((concatenate S8192x2432 1 [⟨S8192x384, ((extf .f32 d0 bitsLt_bf16_f32) : (⟨S8192x384, .f32⟩ : BufTy).Contents (Elt Ideal))⟩, ⟨S8192x384, ((extf .f32 d1 bitsLt_bf16_f32) : (⟨S8192x384, .f32⟩ : BufTy).Contents (Elt Ideal))⟩, ⟨S8192x256, ((extf .f32 d2 bitsLt_bf16_f32) : (⟨S8192x256, .f32⟩ : BufTy).Contents (Elt Ideal))⟩, ⟨S8192x256, ((extf .f32 d3 bitsLt_bf16_f32) : (⟨S8192x256, .f32⟩ : BufTy).Contents (Elt Ideal))⟩, ⟨S8192x384, ((extf .f32 d4 bitsLt_bf16_f32) : (⟨S8192x384, .f32⟩ : BufTy).Contents (Elt Ideal))⟩, ⟨S8192x384, ((extf .f32 d5 bitsLt_bf16_f32) : (⟨S8192x384, .f32⟩ : BufTy).Contents (Elt Ideal))⟩, ⟨S8192x384, ((extf .f32 d6 bitsLt_bf16_f32) : (⟨S8192x384, .f32⟩ : BufTy).Contents (Elt Ideal))⟩] concatenates_S8192x384_S8192x384_S8192x256_S8192x256_S8192x384_S8192x384_S8192x384_S8192x2432_d1 : (⟨S8192x2432, .f32⟩ : BufTy).Contents (Elt Ideal))) (extf .f32 w bitsLt_bf16_f32)) (mulf (broadcastInDim S8192x1024 ![] bcast_S_S8192x1024 (constant (F := Ideal) S_ .f32 0x3FD744FD#32)) r)

/-- The reference at a row and a column. -/
theorem result0_at (d0 : FVec Ideal S8192x384 .bf16) (d1 : FVec Ideal S8192x384 .bf16) (d2 : FVec Ideal S8192x256 .bf16) (d3 : FVec Ideal S8192x256 .bf16) (d4 : FVec Ideal S8192x384 .bf16) (d5 : FVec Ideal S8192x384 .bf16) (d6 : FVec Ideal S8192x384 .bf16) (w : FVec Ideal S1024x2432 .bf16) (r : FVec Ideal S8192x1024 .f32) (i : Fin 8192) (j : Fin 1024) :
    result0 d0 d1 d2 d3 d4 d5 d6 w r (ix2 i j) = (∑ k : Fin 2432, Stretches.seven (fun j => d0 (ix2 i j)) (fun j => d1 (ix2 i j)) (fun j => d2 (ix2 i j)) (fun j => d3 (ix2 i j)) (fun j => d4 (ix2 i j)) (fun j => d5 (ix2 i j)) (fun j => d6 (ix2 i j)) k * w (ix2 j k)) + Ideal.ofBits FTy.f32 0x3FD744FD#32 * r (ix2 i j) := by
  unfold Stretches.seven
  pointwise [result0]

end Cert.X0ReferenceIdeal.Spec

namespace Cert.X0Ideal.Val

open Cert.X0Ideal Cert.X0Ideal.Gen

variable (m : (ℓ : Loc nD τ sig) → Buf (Elt Ideal) ℓ)

/-- Where the windows' blocks lie at point `t`. -/
theorem placed : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![0, 0] ∧ win0_9.index t = ![t.val, 0] :=
  (by decide +kernel : ∀ t : Fin grid0.N, _)

/-- The result array: every grid point writes its rows. -/
theorem final0 (c : Dev nD) : (dats m 0 c).arrAt 9 cfg0.N
    = X0ReferenceIdeal.Spec.result0 (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) := by
  refine (dats m 0 c).arrAt_eq_of_covers 9 _ (by decide +kernel) fun t _ y => ?_
  blk_simp
  rw [after0_9]
  frame_out
  idx_vars y
  have ht : t.val < 8 := lt_of_lt_of_eq t.isLt N_0
  have e : (((View.whole main_v0).slice (win0_9.rect t)).emb (ix2 y0 y1) : S8192x1024.Idx)
      = ix2 ⟨t.val * 1024 + y0, by omega⟩ y1 := by blk_ext [placed t]
  rw [e, X0ReferenceIdeal.Spec.result0_at, Stretches.seven_dot, add_comm]
  pointwise [k0_pay1, k0_pay2, k0_pay3]
  simp only [add_assoc]
  blk_point [iblk, V, placed t]

end Cert.X0Ideal.Val

namespace Cert.Proof.X0

/-- The frame of the kernel. -/
theorem frameKernel : quiescent_X0 (hX0 := X0.Gen.facts) :=
  fun m ρ _ => X0.Gen.frame m ρ

/-- The frame of its idealization. -/
theorem frameIdeal : quiescent_X0Ideal (hX0Ideal := X0Ideal.Gen.facts) :=
  fun m ρ _ => X0Ideal.Gen.frame m ρ

/-- The frame of the reference. -/
theorem frameReference : quiescent_X0ReferenceIdeal (hX0ReferenceIdeal := X0ReferenceIdeal.Gen.facts) :=
  fun m ρ _ => (θ_run X0ReferenceIdeal.defs _ _).mono
    (fun r h => ⟨fun c => (h c).2, sem_eq_zero_of_no_sems (by decide) r.2⟩)
    (X0ReferenceIdeal.Value.run (F := Ideal) m ρ)

/-- The kernel computes the differentiated projection and residual path. -/
theorem algebraic : algebraic_X0Ideal_X0ReferenceIdeal (hX0Ideal := X0Ideal.Gen.facts)
    (hX0ReferenceIdeal := X0ReferenceIdeal.Gen.facts) :=
  fun m ρ m' ρ' _ hag => ⟨_,
    (θ_run X0Ideal.defs _ _).mono (fun _ h c => ⟨(h c).1.trans (X0Ideal.Val.final0 m c), (h c).2⟩)
      (X0Ideal.Value.run_blocks (F := Ideal) m ρ),
    (θ_run X0ReferenceIdeal.defs _ _).mono (fun _ h c => ⟨(h c).1.trans (by rw [← (hag c).1, ← (hag c).2.1, ← (hag c).2.2.1, ← (hag c).2.2.2.1, ← (hag c).2.2.2.2.1, ← (hag c).2.2.2.2.2.1, ← (hag c).2.2.2.2.2.2.1, ← (hag c).2.2.2.2.2.2.2.1, ← (hag c).2.2.2.2.2.2.2.2]; rfl), (h c).2⟩)
      (X0ReferenceIdeal.Value.run (F := Ideal) m' ρ')⟩

end Cert.Proof.X0

end

end
-- ==== Proof.WIn.lean ====
/-
  The gradient of the input projection weight: the transposed product of the layer input with the seven projection gradients, side by side, accumulated over tiles of rows.
-/
module

public import proofs.«01_k».proof.Proof.Gen.WIn.Frame
public import proofs.«01_k».proof.Proof.Gen.WInIdeal.Value
public import proofs.«01_k».proof.Proof.Gen.WInIdeal.Frame
public import proofs.«01_k».proof.Proof.Gen.WInReferenceIdeal.Run
public import proofs.«01_k».proof.Proof.Gen.WIn
public import proofs.«01_k».proof.Proof.Gen.WInIdeal
public import proofs.«01_k».proof.Proof.Gen.WInReferenceIdeal
public import Idealize.ShloMosaic.Lib.Pointwise
public import Idealize.ShloMosaic.Lib.Pipeline.ValueKit
public import proofs.«01_k».proof.Defs
public import Idealize.ShloMosaic.Adequacy
public import Idealize.ShloMosaic.Init
public import Idealize.ShloMosaic.Lib.Pipeline.ReadBack
public import proofs.«01_k».proof.Proof.Stretches

@[expose] public section

set_option maxRecDepth 16384

noncomputable section

open Idealize.ShloMosaic Idealize.ShloMosaic.TcCoe Idealize.SL.Sem
open Idealize.ShloMosaic.Pipeline (Dat)

namespace Cert.WInReferenceIdeal.Spec

open Cert.WInReferenceIdeal Cert.WInReferenceIdeal.Gen

/-- The weight gradient: the reference's composed term. -/
def result0 (x : FVec Ideal S8192x1024 .bf16) (d0 : FVec Ideal S8192x384 .bf16) (d1 : FVec Ideal S8192x384 .bf16) (d2 : FVec Ideal S8192x256 .bf16) (d3 : FVec Ideal S8192x256 .bf16) (d4 : FVec Ideal S8192x384 .bf16) (d5 : FVec Ideal S8192x384 .bf16) (d6 : FVec Ideal S8192x384 .bf16) : FVec Ideal S1024x2432 .f32 :=
  transpose S1024x2432 [1, 0] (Host.dotGeneral (F := Ideal)  (φ₁ := .f32) dot_S8192x2432_S8192x1024_S2432x1024_0_0_1_1_n_n none ((concatenate S8192x2432 1 [⟨S8192x384, ((extf .f32 d0 bitsLt_bf16_f32) : (⟨S8192x384, .f32⟩ : BufTy).Contents (Elt Ideal))⟩, ⟨S8192x384, ((extf .f32 d1 bitsLt_bf16_f32) : (⟨S8192x384, .f32⟩ : BufTy).Contents (Elt Ideal))⟩, ⟨S8192x256, ((extf .f32 d2 bitsLt_bf16_f32) : (⟨S8192x256, .f32⟩ : BufTy).Contents (Elt Ideal))⟩, ⟨S8192x256, ((extf .f32 d3 bitsLt_bf16_f32) : (⟨S8192x256, .f32⟩ : BufTy).Contents (Elt Ideal))⟩, ⟨S8192x384, ((extf .f32 d4 bitsLt_bf16_f32) : (⟨S8192x384, .f32⟩ : BufTy).Contents (Elt Ideal))⟩, ⟨S8192x384, ((extf .f32 d5 bitsLt_bf16_f32) : (⟨S8192x384, .f32⟩ : BufTy).Contents (Elt Ideal))⟩, ⟨S8192x384, ((extf .f32 d6 bitsLt_bf16_f32) : (⟨S8192x384, .f32⟩ : BufTy).Contents (Elt Ideal))⟩] concatenates_S8192x384_S8192x384_S8192x256_S8192x256_S8192x384_S8192x384_S8192x384_S8192x2432_d1 : (⟨S8192x2432, .f32⟩ : BufTy).Contents (Elt Ideal))) (extf .f32 x bitsLt_bf16_f32)) transposes_S2432x1024_S1024x2432_1_0

/-- The reference at a row and a column. -/
theorem result0_at (x : FVec Ideal S8192x1024 .bf16) (d0 : FVec Ideal S8192x384 .bf16) (d1 : FVec Ideal S8192x384 .bf16) (d2 : FVec Ideal S8192x256 .bf16) (d3 : FVec Ideal S8192x256 .bf16) (d4 : FVec Ideal S8192x384 .bf16) (d5 : FVec Ideal S8192x384 .bf16) (d6 : FVec Ideal S8192x384 .bf16) (i : Fin 1024) (j : Fin 2432) :
    result0 x d0 d1 d2 d3 d4 d5 d6 (ix2 i j) = ∑ k : Fin 8192, x (ix2 k i) * Stretches.seven (fun j => d0 (ix2 k j)) (fun j => d1 (ix2 k j)) (fun j => d2 (ix2 k j)) (fun j => d3 (ix2 k j)) (fun j => d4 (ix2 k j)) (fun j => d5 (ix2 k j)) (fun j => d6 (ix2 k j)) j := by
  unfold Stretches.seven
  pointwise [result0]
  refine Finset.sum_congr rfl fun k _ => ?_
  rw [mul_comm]

end Cert.WInReferenceIdeal.Spec

namespace Cert.WInIdeal.Val

open Cert.WInIdeal Cert.WInIdeal.Gen

variable (m : (ℓ : Loc nD τ sig) → Buf (Elt Ideal) ℓ)

/-- Where the windows' blocks lie at point `t`. -/
theorem placed : ∀ t : Fin cfg0.N, win0_0.index t = ![t.val % 4, t.val / 4] ∧ win0_1.index t = ![t.val % 4, 0] ∧ win0_2.index t = ![t.val % 4, 0] ∧ win0_3.index t = ![t.val % 4, 0] ∧ win0_4.index t = ![t.val % 4, 0] ∧ win0_5.index t = ![t.val % 4, 0] ∧ win0_6.index t = ![t.val % 4, 0] ∧ win0_7.index t = ![t.val % 4, 0] ∧ win0_8.index t = ![t.val / 4, 0] :=
  (by decide +kernel : ∀ t : Fin grid0.N, _)

/-- What one tile of rows adds to the block. -/
def part (x0 : Vec Ideal S2048x512 .bf16) (x1 : Vec Ideal S2048x384 .bf16) (x2 : Vec Ideal S2048x384 .bf16) (x3 : Vec Ideal S2048x256 .bf16) (x4 : Vec Ideal S2048x256 .bf16) (x5 : Vec Ideal S2048x384 .bf16) (x6 : Vec Ideal S2048x384 .bf16) (x7 : Vec Ideal S2048x384 .bf16) (i : Fin 512) (j : Fin 2432) : EReal :=
  ∑ k : Fin 2048, x0 (ix2 k i) * Stretches.seven (fun j => x1 (ix2 k j)) (fun j => x2 (ix2 k j)) (fun j => x3 (ix2 k j)) (fun j => x4 (ix2 k j)) (fun j => x5 (ix2 k j)) (fun j => x6 (ix2 k j)) (fun j => x7 (ix2 k j)) j

/-- Store 0: what was there plus its stretch of the tile's product. -/
theorem pay_at0 (x0 : Vec Ideal S2048x512 .bf16) (x1 : Vec Ideal S2048x384 .bf16) (x2 : Vec Ideal S2048x384 .bf16) (x3 : Vec Ideal S2048x256 .bf16) (x4 : Vec Ideal S2048x256 .bf16) (x5 : Vec Ideal S2048x384 .bf16) (x6 : Vec Ideal S2048x384 .bf16) (x7 : Vec Ideal S2048x384 .bf16) (v : Vec Ideal S512x384 .f32) (x : Fin 512) (l : Fin 384) :
    k0_pay6 (F := Ideal) x0 v x1 (ix2 x l) = v (ix2 x l) + part x0 x1 x2 x3 x4 x5 x6 x7 x ⟨l.val, by omega⟩ := by
  unfold part
  simp only [Stretches.seven_at0]
  pointwise [k0_pay6]

/-- Store 1: what was there plus its stretch of the tile's product. -/
theorem pay_at1 (x0 : Vec Ideal S2048x512 .bf16) (x1 : Vec Ideal S2048x384 .bf16) (x2 : Vec Ideal S2048x384 .bf16) (x3 : Vec Ideal S2048x256 .bf16) (x4 : Vec Ideal S2048x256 .bf16) (x5 : Vec Ideal S2048x384 .bf16) (x6 : Vec Ideal S2048x384 .bf16) (x7 : Vec Ideal S2048x384 .bf16) (v : Vec Ideal S512x384 .f32) (x : Fin 512) (l : Fin 384) :
    k0_pay7 (F := Ideal) x0 v x2 (ix2 x l) = v (ix2 x l) + part x0 x1 x2 x3 x4 x5 x6 x7 x ⟨384 + l.val, by omega⟩ := by
  unfold part
  simp only [Stretches.seven_at1]
  pointwise [k0_pay7]

/-- Store 2: what was there plus its stretch of the tile's product. -/
theorem pay_at2 (x0 : Vec Ideal S2048x512 .bf16) (x1 : Vec Ideal S2048x384 .bf16) (x2 : Vec Ideal S2048x384 .bf16) (x3 : Vec Ideal S2048x256 .bf16) (x4 : Vec Ideal S2048x256 .bf16) (x5 : Vec Ideal S2048x384 .bf16) (x6 : Vec Ideal S2048x384 .bf16) (x7 : Vec Ideal S2048x384 .bf16) (v : Vec Ideal S512x256 .f32) (x : Fin 512) (l : Fin 256) :
    k0_pay8 (F := Ideal) x0 v x3 (ix2 x l) = v (ix2 x l) + part x0 x1 x2 x3 x4 x5 x6 x7 x ⟨768 + l.val, by omega⟩ := by
  unfold part
  simp only [Stretches.seven_at2]
  pointwise [k0_pay8]

/-- Store 3: what was there plus its stretch of the tile's product. -/
theorem pay_at3 (x0 : Vec Ideal S2048x512 .bf16) (x1 : Vec Ideal S2048x384 .bf16) (x2 : Vec Ideal S2048x384 .bf16) (x3 : Vec Ideal S2048x256 .bf16) (x4 : Vec Ideal S2048x256 .bf16) (x5 : Vec Ideal S2048x384 .bf16) (x6 : Vec Ideal S2048x384 .bf16) (x7 : Vec Ideal S2048x384 .bf16) (v : Vec Ideal S512x256 .f32) (x : Fin 512) (l : Fin 256) :
    k0_pay1 (F := Ideal) x0 (k0_pay9 v) x4 (ix2 x l) = v (ix2 x l) + part x0 x1 x2 x3 x4 x5 x6 x7 x ⟨1024 + l.val, by omega⟩ := by
  unfold part
  simp only [Stretches.seven_at3]
  pointwise [k0_pay1, k0_pay9]

/-- Store 4: what was there plus its stretch of the tile's product. -/
theorem pay_at4 (x0 : Vec Ideal S2048x512 .bf16) (x1 : Vec Ideal S2048x384 .bf16) (x2 : Vec Ideal S2048x384 .bf16) (x3 : Vec Ideal S2048x256 .bf16) (x4 : Vec Ideal S2048x256 .bf16) (x5 : Vec Ideal S2048x384 .bf16) (x6 : Vec Ideal S2048x384 .bf16) (x7 : Vec Ideal S2048x384 .bf16) (v : Vec Ideal S512x384 .f32) (x : Fin 512) (l : Fin 384) :
    k0_pay2 (F := Ideal) x0 v x5 (ix2 x l) = v (ix2 x l) + part x0 x1 x2 x3 x4 x5 x6 x7 x ⟨1280 + l.val, by omega⟩ := by
  unfold part
  simp only [Stretches.seven_at4]
  pointwise [k0_pay2]

/-- Store 5: what was there plus its stretch of the tile's product. -/
theorem pay_at5 (x0 : Vec Ideal S2048x512 .bf16) (x1 : Vec Ideal S2048x384 .bf16) (x2 : Vec Ideal S2048x384 .bf16) (x3 : Vec Ideal S2048x256 .bf16) (x4 : Vec Ideal S2048x256 .bf16) (x5 : Vec Ideal S2048x384 .bf16) (x6 : Vec Ideal S2048x384 .bf16) (x7 : Vec Ideal S2048x384 .bf16) (v : Vec Ideal S512x384 .f32) (x : Fin 512) (l : Fin 384) :
    k0_pay3 (F := Ideal) x0 v x6 (ix2 x l) = v (ix2 x l) + part x0 x1 x2 x3 x4 x5 x6 x7 x ⟨1664 + l.val, by omega⟩ := by
  unfold part
  simp only [Stretches.seven_at5]
  pointwise [k0_pay3]

/-- Store 6: what was there plus its stretch of the tile's product. -/
theorem pay_at6 (x0 : Vec Ideal S2048x512 .bf16) (x1 : Vec Ideal S2048x384 .bf16) (x2 : Vec Ideal S2048x384 .bf16) (x3 : Vec Ideal S2048x256 .bf16) (x4 : Vec Ideal S2048x256 .bf16) (x5 : Vec Ideal S2048x384 .bf16) (x6 : Vec Ideal S2048x384 .bf16) (x7 : Vec Ideal S2048x384 .bf16) (v : Vec Ideal S512x384 .f32) (x : Fin 512) (l : Fin 384) :
    k0_pay4 (F := Ideal) x0 v x7 (ix2 x l) = v (ix2 x l) + part x0 x1 x2 x3 x4 x5 x6 x7 x ⟨2048 + l.val, by omega⟩ := by
  unfold part
  simp only [Stretches.seven_at6]
  pointwise [k0_pay4]

/-- At the first point of a run the block holds that tile's part. -/
theorem first (c : Dev nD) (t : Fin cfg0.N) (h : t.val % 4 = 0) (y : S512x2432.Idx) :
    outsAt0 m c t.val t.isLt y = 0 + part (iblk m c 0 t) (iblk m c 1 t) (iblk m c 2 t) (iblk m c 3 t) (iblk m c 4 t) (iblk m c 5 t) (iblk m c 6 t) (iblk m c 7 t) (y 0) (y 1) := by
  rw [outsAt0_A m c t h]
  frame_out
  refine View.canon_append_of_piecesOf (Val := Elt Ideal) (s := S512x2432) (e := .f32) (fun y => 0 + part (iblk m c 0 t) (iblk m c 1 t) (iblk m c 2 t) (iblk m c 3 t) (iblk m c 4 t) (iblk m c 5 t) (iblk m c 6 t) (iblk m c 7 t) (y 0) (y 1)) [_] [_, _, _, _, _, _, _] ⟨fun x => ?_, fun x => ?_, fun x => ?_, fun x => ?_, fun x => ?_, fun x => ?_, fun x => ?_, trivial⟩ y (View.cover_of_tiledBy _ ![512, 128] (by sl_kernel_rfl) y)
  · idx_vars x
    have e : (Rect.unit ![0, 2048] ![512, 384] (by decide) : Rect S512x2432).emb (ix2 x0 x1) = ix2 x0 ⟨2048 + x1.val, by omega⟩ := by blk_ext
    refine (pay_at6 (iblk m c 0 t) (iblk m c 1 t) (iblk m c 2 t) (iblk m c 3 t) (iblk m c 4 t) (iblk m c 5 t) (iblk m c 6 t) (iblk m c 7 t) _ x0 x1).trans ?_
    refine Eq.trans ?_ (congrArg (fun y : S512x2432.Idx => 0 + part (iblk m c 0 t) (iblk m c 1 t) (iblk m c 2 t) (iblk m c 3 t) (iblk m c 4 t) (iblk m c 5 t) (iblk m c 6 t) (iblk m c 7 t) (y 0) (y 1)) e).symm
    refine congrArg (· + _) ?_
    repeat rw [View.readCov_skip _ _ _ _ _ (by decide)]
    rw [View.readCov_fill _ _ _ _ _ (by decide)]
    show k0_pay5 (F := Ideal) _ = 0
    pointwise [k0_pay5]
  · idx_vars x
    have e : (Rect.unit ![0, 1664] ![512, 384] (by decide) : Rect S512x2432).emb (ix2 x0 x1) = ix2 x0 ⟨1664 + x1.val, by omega⟩ := by blk_ext
    refine (pay_at5 (iblk m c 0 t) (iblk m c 1 t) (iblk m c 2 t) (iblk m c 3 t) (iblk m c 4 t) (iblk m c 5 t) (iblk m c 6 t) (iblk m c 7 t) _ x0 x1).trans ?_
    refine Eq.trans ?_ (congrArg (fun y : S512x2432.Idx => 0 + part (iblk m c 0 t) (iblk m c 1 t) (iblk m c 2 t) (iblk m c 3 t) (iblk m c 4 t) (iblk m c 5 t) (iblk m c 6 t) (iblk m c 7 t) (y 0) (y 1)) e).symm
    refine congrArg (· + _) ?_
    repeat rw [View.readCov_skip _ _ _ _ _ (by decide)]
    rw [View.readCov_fill _ _ _ _ _ (by decide)]
    show k0_pay5 (F := Ideal) _ = 0
    pointwise [k0_pay5]
  · idx_vars x
    have e : (Rect.unit ![0, 1280] ![512, 384] (by decide) : Rect S512x2432).emb (ix2 x0 x1) = ix2 x0 ⟨1280 + x1.val, by omega⟩ := by blk_ext
    refine (pay_at4 (iblk m c 0 t) (iblk m c 1 t) (iblk m c 2 t) (iblk m c 3 t) (iblk m c 4 t) (iblk m c 5 t) (iblk m c 6 t) (iblk m c 7 t) _ x0 x1).trans ?_
    refine Eq.trans ?_ (congrArg (fun y : S512x2432.Idx => 0 + part (iblk m c 0 t) (iblk m c 1 t) (iblk m c 2 t) (iblk m c 3 t) (iblk m c 4 t) (iblk m c 5 t) (iblk m c 6 t) (iblk m c 7 t) (y 0) (y 1)) e).symm
    refine congrArg (· + _) ?_
    repeat rw [View.readCov_skip _ _ _ _ _ (by decide)]
    rw [View.readCov_fill _ _ _ _ _ (by decide)]
    show k0_pay5 (F := Ideal) _ = 0
    pointwise [k0_pay5]
  · idx_vars x
    have e : (Rect.unit ![0, 1024] ![512, 256] (by decide) : Rect S512x2432).emb (ix2 x0 x1) = ix2 x0 ⟨1024 + x1.val, by omega⟩ := by blk_ext
    refine (pay_at3 (iblk m c 0 t) (iblk m c 1 t) (iblk m c 2 t) (iblk m c 3 t) (iblk m c 4 t) (iblk m c 5 t) (iblk m c 6 t) (iblk m c 7 t) _ x0 x1).trans ?_
    refine Eq.trans ?_ (congrArg (fun y : S512x2432.Idx => 0 + part (iblk m c 0 t) (iblk m c 1 t) (iblk m c 2 t) (iblk m c 3 t) (iblk m c 4 t) (iblk m c 5 t) (iblk m c 6 t) (iblk m c 7 t) (y 0) (y 1)) e).symm
    refine congrArg (· + _) ?_
    repeat rw [View.readCov_skip _ _ _ _ _ (by decide)]
    rw [View.readCov_fill _ _ _ _ _ (by decide)]
    show k0_pay5 (F := Ideal) _ = 0
    pointwise [k0_pay5]
  · idx_vars x
    have e : (Rect.unit ![0, 768] ![512, 256] (by decide) : Rect S512x2432).emb (ix2 x0 x1) = ix2 x0 ⟨768 + x1.val, by omega⟩ := by blk_ext
    refine (pay_at2 (iblk m c 0 t) (iblk m c 1 t) (iblk m c 2 t) (iblk m c 3 t) (iblk m c 4 t) (iblk m c 5 t) (iblk m c 6 t) (iblk m c 7 t) _ x0 x1).trans ?_
    refine Eq.trans ?_ (congrArg (fun y : S512x2432.Idx => 0 + part (iblk m c 0 t) (iblk m c 1 t) (iblk m c 2 t) (iblk m c 3 t) (iblk m c 4 t) (iblk m c 5 t) (iblk m c 6 t) (iblk m c 7 t) (y 0) (y 1)) e).symm
    refine congrArg (· + _) ?_
    repeat rw [View.readCov_skip _ _ _ _ _ (by decide)]
    rw [View.readCov_fill _ _ _ _ _ (by decide)]
    show k0_pay5 (F := Ideal) _ = 0
    pointwise [k0_pay5]
  · idx_vars x
    have e : (Rect.unit ![0, 384] ![512, 384] (by decide) : Rect S512x2432).emb (ix2 x0 x1) = ix2 x0 ⟨384 + x1.val, by omega⟩ := by blk_ext
    refine (pay_at1 (iblk m c 0 t) (iblk m c 1 t) (iblk m c 2 t) (iblk m c 3 t) (iblk m c 4 t) (iblk m c 5 t) (iblk m c 6 t) (iblk m c 7 t) _ x0 x1).trans ?_
    refine Eq.trans ?_ (congrArg (fun y : S512x2432.Idx => 0 + part (iblk m c 0 t) (iblk m c 1 t) (iblk m c 2 t) (iblk m c 3 t) (iblk m c 4 t) (iblk m c 5 t) (iblk m c 6 t) (iblk m c 7 t) (y 0) (y 1)) e).symm
    refine congrArg (· + _) ?_
    repeat rw [View.readCov_skip _ _ _ _ _ (by decide)]
    rw [View.readCov_fill _ _ _ _ _ (by decide)]
    show k0_pay5 (F := Ideal) _ = 0
    pointwise [k0_pay5]
  · idx_vars x
    have e : (Rect.unit ![0, 0] ![512, 384] (by decide) : Rect S512x2432).emb (ix2 x0 x1) = ix2 x0 ⟨x1.val, by omega⟩ := by blk_ext
    refine (pay_at0 (iblk m c 0 t) (iblk m c 1 t) (iblk m c 2 t) (iblk m c 3 t) (iblk m c 4 t) (iblk m c 5 t) (iblk m c 6 t) (iblk m c 7 t) _ x0 x1).trans ?_
    refine Eq.trans ?_ (congrArg (fun y : S512x2432.Idx => 0 + part (iblk m c 0 t) (iblk m c 1 t) (iblk m c 2 t) (iblk m c 3 t) (iblk m c 4 t) (iblk m c 5 t) (iblk m c 6 t) (iblk m c 7 t) (y 0) (y 1)) e).symm
    refine congrArg (· + _) ?_
    repeat rw [View.readCov_skip _ _ _ _ _ (by decide)]
    rw [View.readCov_fill _ _ _ _ _ (by decide)]
    show k0_pay5 (F := Ideal) _ = 0
    pointwise [k0_pay5]

/-- At a later point the block gains that tile's part. -/
theorem later (c : Dev nD) (t : Fin cfg0.N) (h : ¬ t.val % 4 = 0) (y : S512x2432.Idx) :
    outsAt0 m c t.val t.isLt y = outsAt0 m c (t.val - 1) (Nat.lt_of_le_of_lt (Nat.sub_le _ _) t.isLt) y + part (iblk m c 0 t) (iblk m c 1 t) (iblk m c 2 t) (iblk m c 3 t) (iblk m c 4 t) (iblk m c 5 t) (iblk m c 6 t) (iblk m c 7 t) (y 0) (y 1) := by
  rw [outsAt0_B m c t h]
  frame_out
  refine View.canon_append_of_piecesOf (Val := Elt Ideal) (s := S512x2432) (e := .f32) (fun y => outsAt0 m c (t.val - 1) (Nat.lt_of_le_of_lt (Nat.sub_le _ _) t.isLt) y + part (iblk m c 0 t) (iblk m c 1 t) (iblk m c 2 t) (iblk m c 3 t) (iblk m c 4 t) (iblk m c 5 t) (iblk m c 6 t) (iblk m c 7 t) (y 0) (y 1)) [] [_, _, _, _, _, _, _] ⟨fun x => ?_, fun x => ?_, fun x => ?_, fun x => ?_, fun x => ?_, fun x => ?_, fun x => ?_, trivial⟩ y (View.cover_of_tiledBy _ ![512, 128] (by sl_kernel_rfl) y)
  · idx_vars x
    have e : (Rect.unit ![0, 2048] ![512, 384] (by decide) : Rect S512x2432).emb (ix2 x0 x1) = ix2 x0 ⟨2048 + x1.val, by omega⟩ := by blk_ext
    refine (pay_at6 (iblk m c 0 t) (iblk m c 1 t) (iblk m c 2 t) (iblk m c 3 t) (iblk m c 4 t) (iblk m c 5 t) (iblk m c 6 t) (iblk m c 7 t) _ x0 x1).trans ?_
    exact congrArg (_ + ·) (congrArg (fun y : S512x2432.Idx => part (iblk m c 0 t) (iblk m c 1 t) (iblk m c 2 t) (iblk m c 3 t) (iblk m c 4 t) (iblk m c 5 t) (iblk m c 6 t) (iblk m c 7 t) (y 0) (y 1)) e).symm
  · idx_vars x
    have e : (Rect.unit ![0, 1664] ![512, 384] (by decide) : Rect S512x2432).emb (ix2 x0 x1) = ix2 x0 ⟨1664 + x1.val, by omega⟩ := by blk_ext
    refine (pay_at5 (iblk m c 0 t) (iblk m c 1 t) (iblk m c 2 t) (iblk m c 3 t) (iblk m c 4 t) (iblk m c 5 t) (iblk m c 6 t) (iblk m c 7 t) _ x0 x1).trans ?_
    exact congrArg (_ + ·) (congrArg (fun y : S512x2432.Idx => part (iblk m c 0 t) (iblk m c 1 t) (iblk m c 2 t) (iblk m c 3 t) (iblk m c 4 t) (iblk m c 5 t) (iblk m c 6 t) (iblk m c 7 t) (y 0) (y 1)) e).symm
  · idx_vars x
    have e : (Rect.unit ![0, 1280] ![512, 384] (by decide) : Rect S512x2432).emb (ix2 x0 x1) = ix2 x0 ⟨1280 + x1.val, by omega⟩ := by blk_ext
    refine (pay_at4 (iblk m c 0 t) (iblk m c 1 t) (iblk m c 2 t) (iblk m c 3 t) (iblk m c 4 t) (iblk m c 5 t) (iblk m c 6 t) (iblk m c 7 t) _ x0 x1).trans ?_
    exact congrArg (_ + ·) (congrArg (fun y : S512x2432.Idx => part (iblk m c 0 t) (iblk m c 1 t) (iblk m c 2 t) (iblk m c 3 t) (iblk m c 4 t) (iblk m c 5 t) (iblk m c 6 t) (iblk m c 7 t) (y 0) (y 1)) e).symm
  · idx_vars x
    have e : (Rect.unit ![0, 1024] ![512, 256] (by decide) : Rect S512x2432).emb (ix2 x0 x1) = ix2 x0 ⟨1024 + x1.val, by omega⟩ := by blk_ext
    refine (pay_at3 (iblk m c 0 t) (iblk m c 1 t) (iblk m c 2 t) (iblk m c 3 t) (iblk m c 4 t) (iblk m c 5 t) (iblk m c 6 t) (iblk m c 7 t) _ x0 x1).trans ?_
    exact congrArg (_ + ·) (congrArg (fun y : S512x2432.Idx => part (iblk m c 0 t) (iblk m c 1 t) (iblk m c 2 t) (iblk m c 3 t) (iblk m c 4 t) (iblk m c 5 t) (iblk m c 6 t) (iblk m c 7 t) (y 0) (y 1)) e).symm
  · idx_vars x
    have e : (Rect.unit ![0, 768] ![512, 256] (by decide) : Rect S512x2432).emb (ix2 x0 x1) = ix2 x0 ⟨768 + x1.val, by omega⟩ := by blk_ext
    refine (pay_at2 (iblk m c 0 t) (iblk m c 1 t) (iblk m c 2 t) (iblk m c 3 t) (iblk m c 4 t) (iblk m c 5 t) (iblk m c 6 t) (iblk m c 7 t) _ x0 x1).trans ?_
    exact congrArg (_ + ·) (congrArg (fun y : S512x2432.Idx => part (iblk m c 0 t) (iblk m c 1 t) (iblk m c 2 t) (iblk m c 3 t) (iblk m c 4 t) (iblk m c 5 t) (iblk m c 6 t) (iblk m c 7 t) (y 0) (y 1)) e).symm
  · idx_vars x
    have e : (Rect.unit ![0, 384] ![512, 384] (by decide) : Rect S512x2432).emb (ix2 x0 x1) = ix2 x0 ⟨384 + x1.val, by omega⟩ := by blk_ext
    refine (pay_at1 (iblk m c 0 t) (iblk m c 1 t) (iblk m c 2 t) (iblk m c 3 t) (iblk m c 4 t) (iblk m c 5 t) (iblk m c 6 t) (iblk m c 7 t) _ x0 x1).trans ?_
    exact congrArg (_ + ·) (congrArg (fun y : S512x2432.Idx => part (iblk m c 0 t) (iblk m c 1 t) (iblk m c 2 t) (iblk m c 3 t) (iblk m c 4 t) (iblk m c 5 t) (iblk m c 6 t) (iblk m c 7 t) (y 0) (y 1)) e).symm
  · idx_vars x
    have e : (Rect.unit ![0, 0] ![512, 384] (by decide) : Rect S512x2432).emb (ix2 x0 x1) = ix2 x0 ⟨x1.val, by omega⟩ := by blk_ext
    refine (pay_at0 (iblk m c 0 t) (iblk m c 1 t) (iblk m c 2 t) (iblk m c 3 t) (iblk m c 4 t) (iblk m c 5 t) (iblk m c 6 t) (iblk m c 7 t) _ x0 x1).trans ?_
    exact congrArg (_ + ·) (congrArg (fun y : S512x2432.Idx => part (iblk m c 0 t) (iblk m c 1 t) (iblk m c 2 t) (iblk m c 3 t) (iblk m c 4 t) (iblk m c 5 t) (iblk m c 6 t) (iblk m c 7 t) (y 0) (y 1)) e).symm

/-- The result array: every run of points leaves its block of the transposed product. -/
theorem final0 (c : Dev nD) : (dats m 0 c).arrAt 8 cfg0.N
    = WInReferenceIdeal.Spec.result0 (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) := by
  refine (dats m 0 c).arrAt_eq_of_covers 8 _ (by decide +kernel) fun t hf y => ?_
  blk_simp
  have ht : t.val < 8 := lt_of_lt_of_eq t.isLt N_0
  have hs : ∀ s : Fin 4, 4 * (t.val / 4) + s.val < 8 := fun s => by omega
  rw [after0_8, Pipeline.eq_sum_fin_of_reset_step_apply_of_flush (fun n h => outsAt0 m c n h) 4 (fun _ => 0) _
    (fun t h j => by rw [first m c t h]) (fun t h j => by rw [later m c t h])
    t ((flush0_8 t).mp hf) _, zero_add]
  idx_vars y
  have e : (((View.whole main_v0).slice (win0_8.rect t)).emb (ix2 y0 y1) : S1024x2432.Idx) = ix2 ⟨t.val / 4 * 512 + y0, by omega⟩ y1 := by blk_ext [placed t]
  rw [e, WInReferenceIdeal.Spec.result0_at]
  unfold part
  refine Fin.sum_mul_add_congr fun s k hl => ?_
  refine congrArg₂ (· * ·) ?_ (Stretches.seven_congr ?_ ?_ ?_ ?_ ?_ ?_ ?_ _) <;> (try funext l) <;>
    blk_point [iblk, V, placed t, placed ⟨_, Pipeline.run_point_lt_of_flush t ((flush0_8 t).mp hf) s⟩]

end Cert.WInIdeal.Val

namespace Cert.Proof.WIn

/-- The frame of the kernel. -/
theorem frameKernel : quiescent_WIn (hWIn := WIn.Gen.facts) :=
  fun m ρ _ => WIn.Gen.frame m ρ

/-- The frame of its idealization. -/
theorem frameIdeal : quiescent_WInIdeal (hWInIdeal := WInIdeal.Gen.facts) :=
  fun m ρ _ => WInIdeal.Gen.frame m ρ

/-- The frame of the reference. -/
theorem frameReference : quiescent_WInReferenceIdeal (hWInReferenceIdeal := WInReferenceIdeal.Gen.facts) :=
  fun m ρ _ => (θ_run WInReferenceIdeal.defs _ _).mono
    (fun r h => ⟨fun c => (h c).2, sem_eq_zero_of_no_sems (by decide) r.2⟩)
    (WInReferenceIdeal.Value.run (F := Ideal) m ρ)

/-- The accumulated blocks are the differentiated product. -/
theorem algebraic : algebraic_WInIdeal_WInReferenceIdeal (hWInIdeal := WInIdeal.Gen.facts)
    (hWInReferenceIdeal := WInReferenceIdeal.Gen.facts) :=
  fun m ρ m' ρ' _ hag => ⟨_,
    (θ_run WInIdeal.defs _ _).mono (fun _ h c => ⟨(h c).1.trans (WInIdeal.Val.final0 m c), (h c).2⟩)
      (WInIdeal.Value.run_blocks (F := Ideal) m ρ),
    (θ_run WInReferenceIdeal.defs _ _).mono (fun _ h c => ⟨(h c).1.trans (by rw [← (hag c).1, ← (hag c).2.1, ← (hag c).2.2.1, ← (hag c).2.2.2.1, ← (hag c).2.2.2.2.1, ← (hag c).2.2.2.2.2.1, ← (hag c).2.2.2.2.2.2.1, ← (hag c).2.2.2.2.2.2.2]; rfl), (h c).2⟩)
      (WInReferenceIdeal.Value.run (F := Ideal) m' ρ')⟩

end Cert.Proof.WIn

end

end
-- ==== Proof.WOut.lean ====
/-
  The gradient of the output projection weight: the transposed product of the three mixer outputs, side by side, with the incoming gradient, accumulated over tiles of rows.
-/
module

public import proofs.«01_k».proof.Proof.Gen.WOut.Frame
public import proofs.«01_k».proof.Proof.Gen.WOutIdeal.Value
public import proofs.«01_k».proof.Proof.Gen.WOutIdeal.Frame
public import proofs.«01_k».proof.Proof.Gen.WOutReferenceIdeal.Run
public import proofs.«01_k».proof.Proof.Gen.WOut
public import proofs.«01_k».proof.Proof.Gen.WOutIdeal
public import proofs.«01_k».proof.Proof.Gen.WOutReferenceIdeal
public import Idealize.ShloMosaic.Lib.Pointwise
public import Idealize.ShloMosaic.Lib.Pipeline.ValueKit
public import proofs.«01_k».proof.Defs
public import Idealize.ShloMosaic.Adequacy
public import Idealize.ShloMosaic.Init
public import Idealize.ShloMosaic.Lib.Pipeline.ReadBack
public import proofs.«01_k».proof.Proof.Stretches

@[expose] public section

set_option maxRecDepth 16384

noncomputable section

open Idealize.ShloMosaic Idealize.ShloMosaic.TcCoe Idealize.SL.Sem
open Idealize.ShloMosaic.Pipeline (Dat)

namespace Cert.WOutReferenceIdeal.Spec

open Cert.WOutReferenceIdeal Cert.WOutReferenceIdeal.Gen

/-- The weight gradient: the reference's composed term. -/
def result0 (a : FVec Ideal S8192x384 .bf16) (b : FVec Ideal S8192x256 .bf16) (d : FVec Ideal S8192x384 .bf16) (z : FVec Ideal S8192x1024 .bf16) : FVec Ideal S1024x1024 .f32 :=
  transpose S1024x1024 [1, 0] (Host.dotGeneral (F := Ideal)  (φ₁ := .f32) dot_S8192x1024_S8192x1024_S1024x1024_0_0_1_1_n_n none (extf .f32 z bitsLt_bf16_f32) (extf .f32 ((concatenate S8192x1024 1 [⟨S8192x384, (a : (⟨S8192x384, .bf16⟩ : BufTy).Contents (Elt Ideal))⟩, ⟨S8192x256, (b : (⟨S8192x256, .bf16⟩ : BufTy).Contents (Elt Ideal))⟩, ⟨S8192x384, (d : (⟨S8192x384, .bf16⟩ : BufTy).Contents (Elt Ideal))⟩] concatenates_S8192x384_S8192x256_S8192x384_S8192x1024_d1 : (⟨S8192x1024, .bf16⟩ : BufTy).Contents (Elt Ideal))) bitsLt_bf16_f32)) transposes_S1024x1024_S1024x1024_1_0

/-- The reference at a row and a column. -/
theorem result0_at (a : FVec Ideal S8192x384 .bf16) (b : FVec Ideal S8192x256 .bf16) (d : FVec Ideal S8192x384 .bf16) (z : FVec Ideal S8192x1024 .bf16) (i : Fin 1024) (j : Fin 1024) :
    result0 a b d z (ix2 i j) = ∑ k : Fin 8192, Stretches.three (fun j => a (ix2 k j)) (fun j => b (ix2 k j)) (fun j => d (ix2 k j)) i * z (ix2 k j) := by
  unfold Stretches.three
  pointwise [result0]
  refine Finset.sum_congr rfl fun k _ => ?_
  rw [mul_comm]

end Cert.WOutReferenceIdeal.Spec

namespace Cert.WOutIdeal.Val

open Cert.WOutIdeal Cert.WOutIdeal.Gen

variable (m : (ℓ : Loc nD τ sig) → Buf (Elt Ideal) ℓ)

/-- Where the windows' blocks lie at point `t`. -/
theorem placed : ∀ t : Fin cfg0.N, win0_0.index t = ![t.val, 0] ∧ win0_1.index t = ![t.val, 0] ∧ win0_2.index t = ![t.val, 0] ∧ win0_3.index t = ![t.val, 0] ∧ win0_4.index t = ![0, 0] :=
  (by decide +kernel : ∀ t : Fin grid0.N, _)

/-- What one tile of rows adds to the block. -/
def part (x0 : Vec Ideal S2048x384 .bf16) (x1 : Vec Ideal S2048x256 .bf16) (x2 : Vec Ideal S2048x384 .bf16) (x3 : Vec Ideal S2048x1024 .bf16) (i : Fin 1024) (j : Fin 1024) : EReal :=
  ∑ k : Fin 2048, Stretches.three (fun j => x0 (ix2 k j)) (fun j => x1 (ix2 k j)) (fun j => x2 (ix2 k j)) i * x3 (ix2 k j)

/-- Store 0: what was there plus its stretch of the tile's product. -/
theorem pay_at0 (x0 : Vec Ideal S2048x384 .bf16) (x1 : Vec Ideal S2048x256 .bf16) (x2 : Vec Ideal S2048x384 .bf16) (x3 : Vec Ideal S2048x1024 .bf16) (v : Vec Ideal S384x1024 .f32) (x : Fin 384) (l : Fin 1024) :
    k0_pay2 (F := Ideal) x3 v x0 (ix2 x l) = v (ix2 x l) + part x0 x1 x2 x3 ⟨x.val, by omega⟩ l := by
  unfold part
  simp only [Stretches.three_at0]
  pointwise [k0_pay2]

/-- Store 1: what was there plus its stretch of the tile's product. -/
theorem pay_at1 (x0 : Vec Ideal S2048x384 .bf16) (x1 : Vec Ideal S2048x256 .bf16) (x2 : Vec Ideal S2048x384 .bf16) (x3 : Vec Ideal S2048x1024 .bf16) (v : Vec Ideal S256x1024 .f32) (x : Fin 256) (l : Fin 1024) :
    k0_pay3 (F := Ideal) x3 v x1 (ix2 x l) = v (ix2 x l) + part x0 x1 x2 x3 ⟨384 + x.val, by omega⟩ l := by
  unfold part
  simp only [Stretches.three_at1]
  pointwise [k0_pay3]

/-- Store 2: what was there plus its stretch of the tile's product. -/
theorem pay_at2 (x0 : Vec Ideal S2048x384 .bf16) (x1 : Vec Ideal S2048x256 .bf16) (x2 : Vec Ideal S2048x384 .bf16) (x3 : Vec Ideal S2048x1024 .bf16) (v : Vec Ideal S384x1024 .f32) (x : Fin 384) (l : Fin 1024) :
    k0_pay4 (F := Ideal) x3 v x2 (ix2 x l) = v (ix2 x l) + part x0 x1 x2 x3 ⟨640 + x.val, by omega⟩ l := by
  unfold part
  simp only [Stretches.three_at2]
  pointwise [k0_pay4]

/-- At the first point of a run the block holds that tile's part. -/
theorem first (c : Dev nD) (t : Fin cfg0.N) (h : t.val % 4 = 0) (y : S1024x1024.Idx) :
    outsAt0 m c t.val t.isLt y = 0 + part (iblk m c 0 t) (iblk m c 1 t) (iblk m c 2 t) (iblk m c 3 t) (y 0) (y 1) := by
  rw [outsAt0_A m c t h]
  frame_out
  refine View.canon_append_of_piecesOf (Val := Elt Ideal) (s := S1024x1024) (e := .f32) (fun y => 0 + part (iblk m c 0 t) (iblk m c 1 t) (iblk m c 2 t) (iblk m c 3 t) (y 0) (y 1)) [_] [_, _, _] ⟨fun x => ?_, fun x => ?_, fun x => ?_, trivial⟩ y (View.cover_of_tiledBy _ ![128, 1024] (by sl_kernel_rfl) y)
  · idx_vars x
    have e : (Rect.unit ![640, 0] ![384, 1024] (by decide) : Rect S1024x1024).emb (ix2 x0 x1) = ix2 ⟨640 + x0.val, by omega⟩ x1 := by blk_ext
    refine (pay_at2 (iblk m c 0 t) (iblk m c 1 t) (iblk m c 2 t) (iblk m c 3 t) _ x0 x1).trans ?_
    refine Eq.trans ?_ (congrArg (fun y : S1024x1024.Idx => 0 + part (iblk m c 0 t) (iblk m c 1 t) (iblk m c 2 t) (iblk m c 3 t) (y 0) (y 1)) e).symm
    refine congrArg (· + _) ?_
    repeat rw [View.readCov_skip _ _ _ _ _ (by decide)]
    rw [View.readCov_fill _ _ _ _ _ (by decide)]
    show k0_pay1 (F := Ideal) _ = 0
    pointwise [k0_pay1]
  · idx_vars x
    have e : (Rect.unit ![384, 0] ![256, 1024] (by decide) : Rect S1024x1024).emb (ix2 x0 x1) = ix2 ⟨384 + x0.val, by omega⟩ x1 := by blk_ext
    refine (pay_at1 (iblk m c 0 t) (iblk m c 1 t) (iblk m c 2 t) (iblk m c 3 t) _ x0 x1).trans ?_
    refine Eq.trans ?_ (congrArg (fun y : S1024x1024.Idx => 0 + part (iblk m c 0 t) (iblk m c 1 t) (iblk m c 2 t) (iblk m c 3 t) (y 0) (y 1)) e).symm
    refine congrArg (· + _) ?_
    repeat rw [View.readCov_skip _ _ _ _ _ (by decide)]
    rw [View.readCov_fill _ _ _ _ _ (by decide)]
    show k0_pay1 (F := Ideal) _ = 0
    pointwise [k0_pay1]
  · idx_vars x
    have e : (Rect.unit ![0, 0] ![384, 1024] (by decide) : Rect S1024x1024).emb (ix2 x0 x1) = ix2 ⟨x0.val, by omega⟩ x1 := by blk_ext
    refine (pay_at0 (iblk m c 0 t) (iblk m c 1 t) (iblk m c 2 t) (iblk m c 3 t) _ x0 x1).trans ?_
    refine Eq.trans ?_ (congrArg (fun y : S1024x1024.Idx => 0 + part (iblk m c 0 t) (iblk m c 1 t) (iblk m c 2 t) (iblk m c 3 t) (y 0) (y 1)) e).symm
    refine congrArg (· + _) ?_
    repeat rw [View.readCov_skip _ _ _ _ _ (by decide)]
    rw [View.readCov_fill _ _ _ _ _ (by decide)]
    show k0_pay1 (F := Ideal) _ = 0
    pointwise [k0_pay1]

/-- At a later point the block gains that tile's part. -/
theorem later (c : Dev nD) (t : Fin cfg0.N) (h : ¬ t.val % 4 = 0) (y : S1024x1024.Idx) :
    outsAt0 m c t.val t.isLt y = outsAt0 m c (t.val - 1) (Nat.lt_of_le_of_lt (Nat.sub_le _ _) t.isLt) y + part (iblk m c 0 t) (iblk m c 1 t) (iblk m c 2 t) (iblk m c 3 t) (y 0) (y 1) := by
  rw [outsAt0_B m c t h]
  frame_out
  refine View.canon_append_of_piecesOf (Val := Elt Ideal) (s := S1024x1024) (e := .f32) (fun y => outsAt0 m c (t.val - 1) (Nat.lt_of_le_of_lt (Nat.sub_le _ _) t.isLt) y + part (iblk m c 0 t) (iblk m c 1 t) (iblk m c 2 t) (iblk m c 3 t) (y 0) (y 1)) [] [_, _, _] ⟨fun x => ?_, fun x => ?_, fun x => ?_, trivial⟩ y (View.cover_of_tiledBy _ ![128, 1024] (by sl_kernel_rfl) y)
  · idx_vars x
    have e : (Rect.unit ![640, 0] ![384, 1024] (by decide) : Rect S1024x1024).emb (ix2 x0 x1) = ix2 ⟨640 + x0.val, by omega⟩ x1 := by blk_ext
    refine (pay_at2 (iblk m c 0 t) (iblk m c 1 t) (iblk m c 2 t) (iblk m c 3 t) _ x0 x1).trans ?_
    exact congrArg (_ + ·) (congrArg (fun y : S1024x1024.Idx => part (iblk m c 0 t) (iblk m c 1 t) (iblk m c 2 t) (iblk m c 3 t) (y 0) (y 1)) e).symm
  · idx_vars x
    have e : (Rect.unit ![384, 0] ![256, 1024] (by decide) : Rect S1024x1024).emb (ix2 x0 x1) = ix2 ⟨384 + x0.val, by omega⟩ x1 := by blk_ext
    refine (pay_at1 (iblk m c 0 t) (iblk m c 1 t) (iblk m c 2 t) (iblk m c 3 t) _ x0 x1).trans ?_
    exact congrArg (_ + ·) (congrArg (fun y : S1024x1024.Idx => part (iblk m c 0 t) (iblk m c 1 t) (iblk m c 2 t) (iblk m c 3 t) (y 0) (y 1)) e).symm
  · idx_vars x
    have e : (Rect.unit ![0, 0] ![384, 1024] (by decide) : Rect S1024x1024).emb (ix2 x0 x1) = ix2 ⟨x0.val, by omega⟩ x1 := by blk_ext
    refine (pay_at0 (iblk m c 0 t) (iblk m c 1 t) (iblk m c 2 t) (iblk m c 3 t) _ x0 x1).trans ?_
    exact congrArg (_ + ·) (congrArg (fun y : S1024x1024.Idx => part (iblk m c 0 t) (iblk m c 1 t) (iblk m c 2 t) (iblk m c 3 t) (y 0) (y 1)) e).symm

/-- The result array: every run of points leaves its block of the transposed product. -/
theorem final0 (c : Dev nD) : (dats m 0 c).arrAt 4 cfg0.N
    = WOutReferenceIdeal.Spec.result0 (m (c.tc.loc main_arg0)) (m (c.tc.loc main_arg1)) (m (c.tc.loc main_arg2)) (m (c.tc.loc main_arg3)) := by
  refine (dats m 0 c).arrAt_eq_of_covers 4 _ (by decide +kernel) fun t hf y => ?_
  blk_simp
  have ht : t.val < 4 := lt_of_lt_of_eq t.isLt N_0
  have hs : ∀ s : Fin 4, 4 * (t.val / 4) + s.val < 4 := fun s => by omega
  rw [after0_4, Pipeline.eq_sum_fin_of_reset_step_apply_of_flush (fun n h => outsAt0 m c n h) 4 (fun _ => 0) _
    (fun t h j => by rw [first m c t h]) (fun t h j => by rw [later m c t h])
    t ((flush0_4 t).mp hf) _, zero_add]
  idx_vars y
  have e : (((View.whole main_v0).slice (win0_4.rect t)).emb (ix2 y0 y1) : S1024x1024.Idx) = ix2 y0 y1 := by blk_ext [placed t]
  rw [e, WOutReferenceIdeal.Spec.result0_at]
  unfold part
  refine Fin.sum_mul_add_congr fun s k hl => ?_
  refine congrArg₂ (· * ·) (Stretches.three_congr ?_ ?_ ?_ _) ?_ <;> (try funext l) <;>
    blk_point [iblk, V, placed t, placed ⟨_, Pipeline.run_point_lt_of_flush t ((flush0_4 t).mp hf) s⟩]

end Cert.WOutIdeal.Val

namespace Cert.Proof.WOut

/-- The frame of the kernel. -/
theorem frameKernel : quiescent_WOut (hWOut := WOut.Gen.facts) :=
  fun m ρ _ => WOut.Gen.frame m ρ

/-- The frame of its idealization. -/
theorem frameIdeal : quiescent_WOutIdeal (hWOutIdeal := WOutIdeal.Gen.facts) :=
  fun m ρ _ => WOutIdeal.Gen.frame m ρ

/-- The frame of the reference. -/
theorem frameReference : quiescent_WOutReferenceIdeal (hWOutReferenceIdeal := WOutReferenceIdeal.Gen.facts) :=
  fun m ρ _ => (θ_run WOutReferenceIdeal.defs _ _).mono
    (fun r h => ⟨fun c => (h c).2, sem_eq_zero_of_no_sems (by decide) r.2⟩)
    (WOutReferenceIdeal.Value.run (F := Ideal) m ρ)

/-- The accumulated blocks are the differentiated product. -/
theorem algebraic : algebraic_WOutIdeal_WOutReferenceIdeal (hWOutIdeal := WOutIdeal.Gen.facts)
    (hWOutReferenceIdeal := WOutReferenceIdeal.Gen.facts) :=
  fun m ρ m' ρ' _ hag => ⟨_,
    (θ_run WOutIdeal.defs _ _).mono (fun _ h c => ⟨(h c).1.trans (WOutIdeal.Val.final0 m c), (h c).2⟩)
      (WOutIdeal.Value.run_blocks (F := Ideal) m ρ),
    (θ_run WOutReferenceIdeal.defs _ _).mono (fun _ h c => ⟨(h c).1.trans (by rw [← (hag c).1, ← (hag c).2.1, ← (hag c).2.2.1, ← (hag c).2.2.2]; rfl), (h c).2⟩)
      (WOutReferenceIdeal.Value.run (F := Ideal) m' ρ')⟩

end Cert.Proof.WOut

end

end
-- ==== Proof.LossLn3.lean ====
/-
  The loss on the last layer normalisation, and its gradient: half the sum of the rows' mean squared errors, and what
  differentiating it gives for the normalised argument, the gain and the bias.
-/
module

public import proofs.«01_k».proof.Proof.Gen.LossLn3.Frame
public import proofs.«01_k».proof.Proof.Gen.LossLn3Ideal.Value
public import proofs.«01_k».proof.Proof.Gen.LossLn3Ideal.Frame
public import proofs.«01_k».proof.Proof.Gen.LossLn3ReferenceIdeal.Run
public import proofs.«01_k».proof.Proof.Gen.LossLn3
public import proofs.«01_k».proof.Proof.Gen.LossLn3Ideal
public import proofs.«01_k».proof.Proof.Gen.LossLn3ReferenceIdeal
public import Idealize.ShloMosaic.Lib.Pointwise
public import Idealize.ShloMosaic.Lib.Pipeline.ValueKit
public import proofs.«01_k».proof.Defs
public import Idealize.ShloMosaic.Adequacy
public import Idealize.ShloMosaic.Init
public import proofs.«01_k».proof.Proof.Numbers
public import proofs.«01_k».proof.Proof.LayerNormReference
public import proofs.«01_k».proof.Pre_finite_loss_ln3

@[expose] public section

set_option maxRecDepth 16384

noncomputable section

open Idealize.ShloMosaic Idealize.ShloMosaic.TcCoe Idealize.SL.Sem
open Idealize.ShloMosaic.Pipeline (Dat)

namespace Cert.LossLn3ReferenceIdeal.Spec

open Cert.LossLn3ReferenceIdeal Cert.LossLn3ReferenceIdeal.Gen RowNorm.Reference RowSoftmax

/-- The normalised rows less the target. -/
def err (z target : FVec Ideal S8192x1024 .f32) (g b : FVec Ideal S1x1024 .f32) : FVec Ideal S8192x1024 .f32 :=
  subf (addf (mulf (mulf (cent z) (scls z)) (broadcastInDim S8192x1024 ![0, 1] bcast_S1x1024_S8192x1024_0_1 (broadcastInDim S1x1024 ![1] bcast_S1024_S1x1024_1 (shapeCast _ g shapeCasts_S1x1024_S1024)))) (broadcastInDim S8192x1024 ![0, 1] bcast_S1x1024_S8192x1024_0_1 (broadcastInDim S1x1024 ![1] bcast_S1024_S1x1024_1 (shapeCast _ b shapeCasts_S1x1024_S1024)))) target
/-- The number of entries of a row, per row. -/
def rowCounts : FVec Ideal S8192 .f32 := broadcastInDim S8192 ![] bcast_S_S8192 (constant (F := Ideal) S_ .f32 0x44800000#32)
/-- The gradient the normalisation's result receives. -/
def arrived (z target : FVec Ideal S8192x1024 .f32) (g b : FVec Ideal S1x1024 .f32) : FVec Ideal S8192x1024 .f32 :=
  mulf (broadcastInDim S8192x1024 ![0] bcast_S8192_S8192x1024_0 (Host.divf (broadcastInDim S8192 ![] bcast_S_S8192 (mulf (constant (F := Ideal) S_ .f32 0x3F000000#32) (constant (F := Ideal) S_ .f32 0x3F800000#32))) rowCounts)) (mulf (broadcastInDim S8192x1024 ![] bcast_S_S8192x1024 (constant (F := Ideal) S_ .f32 0x40000000#32)) (err z target g b))
/-- The gradient of the normalised argument. -/
def result0 (z target : FVec Ideal S8192x1024 .f32) (g b : FVec Ideal S1x1024 .f32) : FVec Ideal S8192x1024 .f32 := grad (scaled (arrived z target g b) g) z
/-- The same, cast. -/
def result1 (z target : FVec Ideal S8192x1024 .f32) (g b : FVec Ideal S1x1024 .f32) : FVec Ideal S8192x1024 .bf16 := truncf .bf16 (result0 z target g b) bitsLt_bf16_f32
/-- The gain's gradient. -/
def result2 (z target : FVec Ideal S8192x1024 .f32) (g b : FVec Ideal S1x1024 .f32) : FVec Ideal S1x1024 .f32 := gainGrad (arrived z target g b) z
/-- The bias's gradient. -/
def result3 (z target : FVec Ideal S8192x1024 .f32) (g b : FVec Ideal S1x1024 .f32) : FVec Ideal S1x1024 .f32 := biasGrad (arrived z target g b)
/-- The loss, in every entry. -/
def result4 (z target : FVec Ideal S8192x1024 .f32) (g b : FVec Ideal S1x1024 .f32) : FVec Ideal S8x128 .f32 :=
  broadcastInDim S8x128 ![] bcast_S_S8x128 (mulf (constant (F := Ideal) S_ .f32 0x3F000000#32) (Host.reduceAdd (Host.divf (Host.reduceAdd (mulf (err z target g b) (err z target g b)) zero reducesTo_S8192x1024_S8192_d1 h_S_) rowCounts) zero reducesTo_S8192_S_d0 h_S_))

/-- Half of one over the number of entries, as the kernel prints it. -/
theorem half_share : Ideal.ofBits .f32 0x3A000000#32 = ((1 / 2048 : ℝ) : EReal) := by
  have h : (8388608 : ℝ) * ((2 : ℝ) ^ 34)⁻¹ = 1 / 2048 := by norm_num
  simp [Ideal.ofBits, Ideal.ieee]
  rw [← EReal.coe_mul, h, one_div]

/-- One over the number of entries, as the kernel prints it. -/
theorem share : Ideal.ofBits .f32 0x3A800000#32 = ((1 / 1024 : ℝ) : EReal) := by
  have h : (8388608 : ℝ) * ((2 : ℝ) ^ 33)⁻¹ = 1 / 1024 := by norm_num
  simp [Ideal.ofBits, Ideal.ieee]
  rw [← EReal.coe_mul, h, one_div]

/-- One half. -/
theorem half_eq : Ideal.ofBits .f32 0x3F000000#32 = ((1 / 2 : ℝ) : EReal) := by
  have h : (8388608 : ℝ) * ((2 : ℝ) ^ 24)⁻¹ = 1 / 2 := by norm_num
  simp [Ideal.ofBits, Ideal.ieee]
  rw [← EReal.coe_mul, h, one_div]

/-- One. -/
theorem one_eq : Ideal.ofBits .f32 0x3F800000#32 = ((1 : ℝ) : EReal) := by
  have h : (8388608 : ℝ) * ((2 : ℝ) ^ 23)⁻¹ = 1 := by norm_num
  simp [Ideal.ofBits, Ideal.ieee]
  rw [← EReal.coe_mul, h, EReal.coe_one]

/-- An entry of the error. -/
theorem err_at (z target : FVec Ideal S8192x1024 .f32) (g b : FVec Ideal S1x1024 .f32) (i : Fin 8192) (j : Fin 1024) :
    err z target g b (ix2 i j) = RowNorm.normal (fun k => z (ix2 i k)) j * g (ix2 0 j) + b (ix2 0 j) - target (ix2 i j) := by
  pointwise [err, cent_at, scls_at]
  rfl

/-- An entry of the arriving gradient: the error over the number of entries. -/
theorem arrived_at (z target : FVec Ideal S8192x1024 .f32) (g b : FVec Ideal S1x1024 .f32) (i : Fin 8192) (j : Fin 1024) :
    arrived z target g b (ix2 i j) = err z target g b (ix2 i j) * Ideal.ofBits .f32 0x3A800000#32 := by
  have e : Ideal.div (Ideal.ofBits .f32 0x3F000000#32 * Ideal.ofBits .f32 0x3F800000#32) (Ideal.ofBits .f32 0x44800000#32) * Ideal.ofBits .f32 0x40000000#32
      = Ideal.ofBits .f32 0x3A800000#32 := by
    rw [share, half_eq, one_eq, show Ideal.ofBits .f32 0x44800000#32 = _ from RowNorm.count_eq, show Ideal.ofBits .f32 0x40000000#32 = _ from RowNorm.two_eq,
      ← EReal.coe_mul, Ideal.div_coe (by norm_num), ← EReal.coe_mul, ← EReal.coe_mul]
    norm_num
  rw [← e, mul_comm, mul_assoc]
  pointwise [arrived, rowCounts]

/-- The loss, entry by entry: the squared errors, each over twice the number of entries. -/
theorem result4_at (z target : FVec Ideal S8192x1024 .f32) (g b : FVec Ideal S1x1024 .f32) (p : Fin 8) (q : Fin 128) :
    result4 z target g b (ix2 p q) = ∑ i : Fin 8192, Ideal.ofBits .f32 0x3A000000#32 * ∑ j : Fin 1024, err z target g b (ix2 i j) * err z target g b (ix2 i j) := by
  rw [half_share]
  pointwise [result4, zero, rowCounts]
  rw [half_eq, RowNorm.mul_sum _ _ (by norm_num)]
  refine Finset.sum_congr rfl fun i _ => ?_
  rw [show Ideal.ofBits .f32 1149239296#32 = _ from RowNorm.count_eq, Ideal.div_coe (by norm_num), mul_comm, mul_assoc, ← EReal.coe_mul, mul_comm]
  norm_num

/-- Every argument is a number. -/
structure Numbers (z target : FVec Ideal S8192x1024 .f32) (g b : FVec Ideal S1x1024 .f32) : Prop where
  z : ∀ i j, IsNumber (z (ix2 i j))
  t : ∀ i j, IsNumber (target (ix2 i j))
  g : ∀ j, IsNumber (g (ix2 0 j))
  b : ∀ j, IsNumber (b (ix2 0 j))

/-- On numbers, the arriving gradient is one. -/
theorem arrived_number (z target : FVec Ideal S8192x1024 .f32) (g b : FVec Ideal S1x1024 .f32) (h : Numbers z target g b) (i : Fin 8192) (j : Fin 1024) : IsNumber (arrived z target g b (ix2 i j)) := by
  rw [arrived_at, err_at]
  exact mul_number (sub_number (add_number (mul_number (RowNorm.normal_number _ (h.z i) j) (h.g j)) (h.b j)) (h.t i j)) ⟨_, share⟩

/-- On numbers, a row of the gradient is the slope of the row. -/
theorem result0_at (z target : FVec Ideal S8192x1024 .f32) (g b : FVec Ideal S1x1024 .f32) (h : Numbers z target g b) (i : Fin 8192) (j : Fin 1024) :
    result0 z target g b (ix2 i j) = RowNorm.slope (fun k => z (ix2 i k)) (fun k => arrived z target g b (ix2 i k) * g (ix2 0 k)) j := by
  have e : row (scaled (arrived z target g b) g) i = fun k => arrived z target g b (ix2 i k) * g (ix2 0 k) := funext fun k => scaled_at _ _ _ _
  rw [result0, grad_at, RowNorm.chained_eq, e]
  · rfl
  · exact fun k => h.z i k
  · intro k
    rw [e]
    exact mul_number (arrived_number z target g b h i k) (h.g k)

end Cert.LossLn3ReferenceIdeal.Spec

namespace Cert.Pre_finite_loss_ln3

/-- The precondition's shapes fit. -/
theorem facts : Facts where
  bcast_S_S8192x1024 := by decide
  bcast_S_S1x1024 := by decide

/-- Where the precondition's flags of `z` are set, its entries are numbers. -/
theorem number_z [Facts] (z : FVec Ideal S8192x1024 .f32) (target : FVec Ideal S8192x1024 .f32) (g : FVec Ideal S1x1024 .f32) (b : FVec Ideal S1x1024 .f32)
    (h : (fn (F := Ideal) z target g b).1 = fun _ => 1#1) (p : Fin 8192) (q : Fin 1024) : RowSoftmax.IsNumber (z (ix2 p q)) := by
  have := congrFun h (ix2 p q)
  pointwise [fn] at this
  exact RowSoftmax.number_of_set32 _ this

/-- Where the precondition's flags of `target` are set, its entries are numbers. -/
theorem number_target [Facts] (z : FVec Ideal S8192x1024 .f32) (target : FVec Ideal S8192x1024 .f32) (g : FVec Ideal S1x1024 .f32) (b : FVec Ideal S1x1024 .f32)
    (h : (fn (F := Ideal) z target g b).2.1 = fun _ => 1#1) (p : Fin 8192) (q : Fin 1024) : RowSoftmax.IsNumber (target (ix2 p q)) := by
  have := congrFun h (ix2 p q)
  pointwise [fn] at this
  exact RowSoftmax.number_of_set32 _ this

/-- Where the precondition's flags of `g` are set, its entries are numbers. -/
theorem number_g [Facts] (z : FVec Ideal S8192x1024 .f32) (target : FVec Ideal S8192x1024 .f32) (g : FVec Ideal S1x1024 .f32) (b : FVec Ideal S1x1024 .f32)
    (h : (fn (F := Ideal) z target g b).2.2.1 = fun _ => 1#1) (p : Fin 1) (q : Fin 1024) : RowSoftmax.IsNumber (g (ix2 p q)) := by
  have := congrFun h (ix2 p q)
  pointwise [fn] at this
  exact RowSoftmax.number_of_set32 _ this

/-- Where the precondition's flags of `b` are set, its entries are numbers. -/
theorem number_b [Facts] (z : FVec Ideal S8192x1024 .f32) (target : FVec Ideal S8192x1024 .f32) (g : FVec Ideal S1x1024 .f32) (b : FVec Ideal S1x1024 .f32)
    (h : (fn (F := Ideal) z target g b).2.2.2 = fun _ => 1#1) (p : Fin 1) (q : Fin 1024) : RowSoftmax.IsNumber (b (ix2 p q)) := by
  have := congrFun h (ix2 p q)
  pointwise [fn] at this
  exact RowSoftmax.number_of_set32 _ this

end Cert.Pre_finite_loss_ln3

namespace Cert.LossLn3Ideal.Val

open Cert.LossLn3Ideal Cert.LossLn3Ideal.Gen RowNorm

variable (m : (ℓ : Loc nD τ sig) → Buf (Elt Ideal) ℓ)

/-- The precondition makes every argument a number. -/
theorem numbers [Pre_finite_loss_ln3.Facts] (c : Dev nD) (h : let p := Pre_finite_loss_ln3.fn (F := Ideal) (m (c.tc.loc main_arg0)) (m (c.tc.loc main_arg1)) (m (c.tc.loc main_arg2)) (m (c.tc.loc main_arg3)); p.1 = (fun _ => 1#1) ∧ p.2.1 = (fun _ => 1#1) ∧ p.2.2.1 = (fun _ => 1#1) ∧ p.2.2.2 = (fun _ => 1#1)) :
    LossLn3ReferenceIdeal.Spec.Numbers (m (c.tc.loc main_arg0)) (m (c.tc.loc main_arg1)) (m (c.tc.loc main_arg2)) (m (c.tc.loc main_arg3)) where
  z i j := Pre_finite_loss_ln3.number_z _ _ _ _ h.1 i j
  t i j := Pre_finite_loss_ln3.number_target _ _ _ _ h.2.1 i j
  g j := Pre_finite_loss_ln3.number_g _ _ _ _ h.2.2.1 0 j
  b j := Pre_finite_loss_ln3.number_b _ _ _ _ h.2.2.2 0 j

/-- Where the windows' blocks lie at point `t`. -/
theorem placed : ∀ t : Fin cfg0.N, win0_0.index t = ![t.val, 0] ∧ win0_1.index t = ![t.val, 0] ∧ win0_2.index t = ![0, 0] ∧ win0_3.index t = ![0, 0] ∧ win0_4.index t = ![t.val, 0] ∧ win0_5.index t = ![t.val, 0] ∧ win0_6.index t = ![0, 0] ∧ win0_7.index t = ![0, 0] ∧ win0_8.index t = ![0, 0] :=
  (by decide +kernel : ∀ t : Fin grid0.N, _)

/-- An entry of the tile's centred rows. -/
theorem centred_at (z : Vec Ideal S512x1024 .f32) (i : Fin 512) (j : Fin 1024) :
    k0_pay5 (F := Ideal) z (ix2 i j) = centred (fun k => z (ix2 i k)) j := by
  pointwise [k0_pay5]
  rfl

/-- A row's scale. -/
theorem scale_at (z : Vec Ideal S512x1024 .f32) (i : Fin 512) (l : Fin 1) :
    k0_pay6 (F := Ideal) z (ix2 i l) = scale (fun k => z (ix2 i k)) := by
  pointwise [k0_pay6, centred_at]
  rfl

/-- An entry of the tile's normalised rows. -/
theorem normal_at (z : Vec Ideal S512x1024 .f32) (i : Fin 512) (j : Fin 1024) :
    k0_pay7 (F := Ideal) z (ix2 i j) = normal (fun k => z (ix2 i k)) j := by
  pointwise [k0_pay7, centred_at, scale_at]
  rfl

/-- An entry of the tile's error. -/
theorem err_at (z : Vec Ideal S512x1024 .f32) (g b : Vec Ideal S1x1024 .f32) (target : Vec Ideal S512x1024 .f32) (i : Fin 512) (j : Fin 1024) :
    k0_pay8 (F := Ideal) z g b target (ix2 i j) = normal (fun k => z (ix2 i k)) j * g (ix2 0 j) + b (ix2 0 j) - target (ix2 i j) := by
  pointwise [k0_pay8, normal_at]

/-- An entry of the tile's arriving gradient. -/
theorem arrived_at (d : FVec Ideal S512x1024 .f32) (i : Fin 512) (j : Fin 1024) :
    k0_pay10 (F := Ideal) d (ix2 i j) = d (ix2 i j) * Ideal.ofBits .f32 0x3A800000#32 := by
  pointwise [k0_pay10]

/-- An entry of the tile of the gradient is its row's slope. -/
theorem slope_at (z : Vec Ideal S512x1024 .f32) (d : FVec Ideal S512x1024 .f32) (g : Vec Ideal S1x1024 .f32) (i : Fin 512) (j : Fin 1024) :
    k0_pay11 (F := Ideal) (k0_pay6 (F := Ideal) z) (k0_pay7 (F := Ideal) z) d g (ix2 i j)
      = slope (fun k => z (ix2 i k)) (fun k => d (ix2 i k) * Ideal.ofBits .f32 0x3A800000#32 * g (ix2 0 k)) j := by
  pointwise [k0_pay11, scale_at, normal_at, arrived_at]
  rfl

/-- One tile's contribution to the gain's gradient, added to what was accumulated. -/
theorem gain_at (x : FVec Ideal S512x1024 .f32) (d : FVec Ideal S512x1024 .f32) (acc : Vec Ideal S1x1024 .f32) (l : Fin 1) (j : Fin 1024) :
    k0_pay13 (F := Ideal) x d acc (ix2 l j) = acc (ix2 l j) + ∑ i : Fin 512, d (ix2 i j) * Ideal.ofBits .f32 0x3A800000#32 * x (ix2 i j) := by
  pointwise [k0_pay13, arrived_at]

/-- One tile's contribution to the bias's gradient, added to what was accumulated. -/
theorem bias_at (d : FVec Ideal S512x1024 .f32) (acc : Vec Ideal S1x1024 .f32) (l : Fin 1) (j : Fin 1024) :
    k0_pay1 (F := Ideal) (k0_pay14 (F := Ideal) acc) (k0_pay15 (F := Ideal) d) (ix2 l j) = acc (ix2 l j) + ∑ i : Fin 512, d (ix2 i j) * Ideal.ofBits .f32 0x3A800000#32 := by
  pointwise [k0_pay1, k0_pay14, k0_pay15, arrived_at]

/-- One tile's contribution to the loss, added to what was accumulated. -/
theorem loss_at (z : Vec Ideal S512x1024 .f32) (g b : Vec Ideal S1x1024 .f32) (target : Vec Ideal S512x1024 .f32) (acc : Vec Ideal S8x128 .f32) (p : Fin 8) (q : Fin 128) :
    k0_pay9 (F := Ideal) z g b target acc (ix2 p q) = acc (ix2 p q)
      + ∑ i : Fin 512, Ideal.ofBits .f32 0x3A000000#32 * ∑ j : Fin 1024, k0_pay8 (F := Ideal) z g b target (ix2 i j) * k0_pay8 (F := Ideal) z g b target (ix2 i j) := by
  rw [LossLn3ReferenceIdeal.Spec.half_share, ← RowNorm.mul_sum _ _ (by norm_num), ← LossLn3ReferenceIdeal.Spec.half_share, mul_comm (Ideal.ofBits .f32 0x3A000000#32)]
  pointwise [k0_pay9]

/-- The zero fills. -/
theorem zero_at (j : S1x1024.Idx) : k0_pay2 (F := Ideal) j = 0 ∧ k0_pay3 (F := Ideal) j = 0 := by
  constructor
  · pointwise [k0_pay2]
  · pointwise [k0_pay3]

/-- The loss's zero fill. -/
theorem zero_loss_at (j : S8x128.Idx) : k0_pay4 (F := Ideal) j = 0 := by
  pointwise [k0_pay4]

/-- The tile's error is its rows of the whole error. -/
theorem tile_err (c : Dev nD) (t : Fin cfg0.N) (i : Fin 512) (j : Fin 1024) (h : t.val * 512 + i.val < 8192) :
    (k0_pay8 (F := Ideal) (iblk m c 0 t) (iblk m c 2 t) (iblk m c 3 t) (iblk m c 1 t)) (ix2 i j) = LossLn3ReferenceIdeal.Spec.err (m (c.tc.loc main_arg0)) (m (c.tc.loc main_arg1)) (m (c.tc.loc main_arg2)) (m (c.tc.loc main_arg3)) (ix2 ⟨t.val * 512 + i.val, h⟩ j) := by
  have hz : (fun k => (iblk m c 0 t : Vec Ideal S512x1024 .f32) (ix2 i k)) = fun k => ((m (c.tc.loc main_arg0)) : FVec Ideal S8192x1024 .f32) (ix2 ⟨t.val * 512 + i.val, h⟩ k) := by
    funext k
    blk_point [iblk, V, placed t]
  rw [err_at, LossLn3ReferenceIdeal.Spec.err_at, hz]
  refine congrArg₂ (· - ·) (congrArg₂ (· + ·) (congrArg₂ (· * ·) rfl ?_) ?_) ?_ <;> blk_point [iblk, V, placed t]

/-- The tile's arriving gradient is its rows of the whole arriving gradient. -/
theorem tile_arrived (c : Dev nD) (t : Fin cfg0.N) (i : Fin 512) (j : Fin 1024) (h : t.val * 512 + i.val < 8192) :
    (k0_pay8 (F := Ideal) (iblk m c 0 t) (iblk m c 2 t) (iblk m c 3 t) (iblk m c 1 t)) (ix2 i j) * Ideal.ofBits .f32 0x3A800000#32 = LossLn3ReferenceIdeal.Spec.arrived (m (c.tc.loc main_arg0)) (m (c.tc.loc main_arg1)) (m (c.tc.loc main_arg2)) (m (c.tc.loc main_arg3)) (ix2 ⟨t.val * 512 + i.val, h⟩ j) := by
  rw [tile_err m c t i j h, LossLn3ReferenceIdeal.Spec.arrived_at]

/-- A row of the tile's normalised argument is that row of the whole. -/
theorem tile_row (c : Dev nD) (t : Fin cfg0.N) (i : Fin 512) (h : t.val * 512 + i.val < 8192) :
    (fun k => (iblk m c 0 t : Vec Ideal S512x1024 .f32) (ix2 i k)) = fun k => ((m (c.tc.loc main_arg0)) : FVec Ideal S8192x1024 .f32) (ix2 ⟨t.val * 512 + i.val, h⟩ k) := by
  funext k
  blk_point [iblk, V, placed t]

/-- The gain is read whole. -/
theorem tile_gain (c : Dev nD) (t : Fin cfg0.N) (k : Fin 1024) :
    (iblk m c 2 t : Vec Ideal S1x1024 .f32) (ix2 0 k) = ((m (c.tc.loc main_arg2)) : FVec Ideal S1x1024 .f32) (ix2 0 k) := by
  blk_point [iblk, V, placed t]

/-- A tile of the gradient is its rows of the whole gradient. -/
theorem tile_slope (c : Dev nD) (hn : LossLn3ReferenceIdeal.Spec.Numbers (m (c.tc.loc main_arg0)) (m (c.tc.loc main_arg1)) (m (c.tc.loc main_arg2)) (m (c.tc.loc main_arg3))) (t : Fin cfg0.N) (i : Fin 512) (j : Fin 1024) (h : t.val * 512 + i.val < 8192) :
    k0_pay11 (F := Ideal) (k0_pay6 (F := Ideal) (iblk m c 0 t)) (k0_pay7 (F := Ideal) (iblk m c 0 t)) (k0_pay8 (F := Ideal) (iblk m c 0 t) (iblk m c 2 t) (iblk m c 3 t) (iblk m c 1 t)) (iblk m c 2 t) (ix2 i j)
      = LossLn3ReferenceIdeal.Spec.result0 (m (c.tc.loc main_arg0)) (m (c.tc.loc main_arg1)) (m (c.tc.loc main_arg2)) (m (c.tc.loc main_arg3)) (ix2 ⟨t.val * 512 + i.val, h⟩ j) := by
  rw [slope_at, LossLn3ReferenceIdeal.Spec.result0_at _ _ _ _ hn]
  refine congrArg₂ (fun x u => slope x u j) (tile_row m c t i h) (funext fun k => ?_)
  rw [tile_arrived m c t i k h, tile_gain]

/-- Which payloads a point leaves in the two gradient blocks. -/
theorem outs_at (c : Dev nD) (t : Fin cfg0.N) :
    (outsAt0 m c t.val t.isLt).1 = k0_pay11 (F := Ideal) (k0_pay6 (F := Ideal) (iblk m c 0 t)) (k0_pay7 (F := Ideal) (iblk m c 0 t)) (k0_pay8 (F := Ideal) (iblk m c 0 t) (iblk m c 2 t) (iblk m c 3 t) (iblk m c 1 t)) (iblk m c 2 t)
    ∧ (outsAt0 m c t.val t.isLt).2.1 = k0_pay12 (F := Ideal) (k0_pay6 (F := Ideal) (iblk m c 0 t)) (k0_pay7 (F := Ideal) (iblk m c 0 t)) (k0_pay8 (F := Ideal) (iblk m c 0 t) (iblk m c 2 t) (iblk m c 3 t) (iblk m c 1 t)) (iblk m c 2 t) := by
  by_cases h0 : t.val % 16 = 0
  · rw [outsAt0_A m c t h0]
    constructor <;> frame_out
  · rw [outsAt0_B m c t h0]
    constructor <;> frame_out

/-- The gradient's array. -/
theorem final0 (c : Dev nD) (hn : LossLn3ReferenceIdeal.Spec.Numbers (m (c.tc.loc main_arg0)) (m (c.tc.loc main_arg1)) (m (c.tc.loc main_arg2)) (m (c.tc.loc main_arg3))) : (dats m 0 c).arrAt 4 cfg0.N = LossLn3ReferenceIdeal.Spec.result0 (m (c.tc.loc main_arg0)) (m (c.tc.loc main_arg1)) (m (c.tc.loc main_arg2)) (m (c.tc.loc main_arg3)) := by
  refine (dats m 0 c).arrAt_eq_of_covers 4 _ (by decide +kernel) fun t _ y => ?_
  blk_simp
  rw [after0_4, (outs_at m c t).1]
  idx_vars y
  have ht : t.val < 16 := lt_of_lt_of_eq t.isLt N_0
  have e : (((View.whole main_v0_0).slice (win0_4.rect t)).emb (ix2 y0 y1) : S8192x1024.Idx) = ix2 ⟨t.val * 512 + y0, by omega⟩ y1 := by blk_ext [placed t]
  rw [e]
  exact tile_slope m c hn t y0 y1 (by omega)

/-- The cast gradient's array. -/
theorem final1 (c : Dev nD) (hn : LossLn3ReferenceIdeal.Spec.Numbers (m (c.tc.loc main_arg0)) (m (c.tc.loc main_arg1)) (m (c.tc.loc main_arg2)) (m (c.tc.loc main_arg3))) : (dats m 0 c).arrAt 5 cfg0.N = LossLn3ReferenceIdeal.Spec.result1 (m (c.tc.loc main_arg0)) (m (c.tc.loc main_arg1)) (m (c.tc.loc main_arg2)) (m (c.tc.loc main_arg3)) := by
  refine (dats m 0 c).arrAt_eq_of_covers 5 _ (by decide +kernel) fun t _ y => ?_
  blk_simp
  rw [after0_5, (outs_at m c t).2]
  idx_vars y
  have ht : t.val < 16 := lt_of_lt_of_eq t.isLt N_0
  have e : (((View.whole main_v0_1).slice (win0_5.rect t)).emb (ix2 y0 y1) : S8192x1024.Idx) = ix2 ⟨t.val * 512 + y0, by omega⟩ y1 := by blk_ext [placed t]
  rw [e]
  exact tile_slope m c hn t y0 y1 (by omega)

/-- The gain's gradient: the run of points accumulates it over the tiles of rows. -/
theorem final2 (c : Dev nD) : (dats m 0 c).arrAt 6 cfg0.N = LossLn3ReferenceIdeal.Spec.result2 (m (c.tc.loc main_arg0)) (m (c.tc.loc main_arg1)) (m (c.tc.loc main_arg2)) (m (c.tc.loc main_arg3)) := by
  refine (dats m 0 c).arrAt_eq_of_covers 6 _ (by decide +kernel) fun t hf y => ?_
  blk_simp
  have ht : t.val < 16 := lt_of_lt_of_eq t.isLt N_0
  have hs : ∀ s : Fin 16, 16 * (t.val / 16) + s.val < 16 := fun s => by omega
  idx_vars y
  rw [after0_6, Pipeline.eq_sum_fin_of_reset_step_apply_of_flush (fun n h => (outsAt0 m c n h).2.2.1) 16 (fun _ => 0)
    (fun t j => ∑ i : Fin 512, (k0_pay8 (F := Ideal) (iblk m c 0 t) (iblk m c 2 t) (iblk m c 3 t) (iblk m c 1 t)) (ix2 i (j 1)) * Ideal.ofBits .f32 0x3A800000#32 * normal (fun k => (iblk m c 0 t : Vec Ideal S512x1024 .f32) (ix2 i k)) (j 1))
    (fun t h j => by rw [outsAt0_A m c t h]; frame_out; idx_vars j; rw [gain_at, (zero_at _).1]; simp only [normal_at])
    (fun t h j => by rw [outsAt0_B m c t h]; frame_out; idx_vars j; rw [gain_at]; simp only [normal_at])
    t ((flush0_6 t).mp hf) _, zero_add]
  have e : (((View.whole main_v0_2).slice (win0_6.rect t)).emb (ix2 y0 y1) : S1x1024.Idx) = ix2 y0 y1 := by blk_ext [placed t]
  rw [e, LossLn3ReferenceIdeal.Spec.result2, RowNorm.Reference.gainGrad_at]
  refine Fin.sum_mul_add_congr fun s k hl => ?_
  have hk : (⟨16 * (t.val / 16) + s.val, hs s⟩ : Fin 16).val * 512 + k.val < 8192 := by dsimp only; omega
  have ek : (⟨s.val * 512 + k.val, hl⟩ : Fin 8192) = ⟨(16 * (t.val / 16) + s.val) * 512 + k.val, hk⟩ := Fin.ext (by dsimp only; omega)
  rw [ek]
  exact congrArg₂ (· * ·) (tile_arrived m c _ k y1 hk) (congrArg (fun x => normal x y1) (tile_row m c _ k hk))

/-- The bias's gradient: the run of points accumulates it over the tiles of rows. -/
theorem final3 (c : Dev nD) : (dats m 0 c).arrAt 7 cfg0.N = LossLn3ReferenceIdeal.Spec.result3 (m (c.tc.loc main_arg0)) (m (c.tc.loc main_arg1)) (m (c.tc.loc main_arg2)) (m (c.tc.loc main_arg3)) := by
  refine (dats m 0 c).arrAt_eq_of_covers 7 _ (by decide +kernel) fun t hf y => ?_
  blk_simp
  have ht : t.val < 16 := lt_of_lt_of_eq t.isLt N_0
  have hs : ∀ s : Fin 16, 16 * (t.val / 16) + s.val < 16 := fun s => by omega
  idx_vars y
  rw [after0_7, Pipeline.eq_sum_fin_of_reset_step_apply_of_flush (fun n h => (outsAt0 m c n h).2.2.2.1) 16 (fun _ => 0)
    (fun t j => ∑ i : Fin 512, (k0_pay8 (F := Ideal) (iblk m c 0 t) (iblk m c 2 t) (iblk m c 3 t) (iblk m c 1 t)) (ix2 i (j 1)) * Ideal.ofBits .f32 0x3A800000#32)
    (fun t h j => by rw [outsAt0_A m c t h]; frame_out; idx_vars j; rw [bias_at, (zero_at _).2])
    (fun t h j => by rw [outsAt0_B m c t h]; frame_out; idx_vars j; rw [bias_at])
    t ((flush0_7 t).mp hf) _, zero_add]
  have e : (((View.whole main_v0_3).slice (win0_7.rect t)).emb (ix2 y0 y1) : S1x1024.Idx) = ix2 y0 y1 := by blk_ext [placed t]
  rw [e, LossLn3ReferenceIdeal.Spec.result3, RowNorm.Reference.biasGrad_at]
  refine Fin.sum_mul_add_congr fun s k hl => ?_
  have hk : (⟨16 * (t.val / 16) + s.val, hs s⟩ : Fin 16).val * 512 + k.val < 8192 := by dsimp only; omega
  have ek : (⟨s.val * 512 + k.val, hl⟩ : Fin 8192) = ⟨(16 * (t.val / 16) + s.val) * 512 + k.val, hk⟩ := Fin.ext (by dsimp only; omega)
  rw [ek]
  exact tile_arrived m c _ k y1 hk

/-- The loss: the run of points accumulates the tiles' shares. -/
theorem final4 (c : Dev nD) : (dats m 0 c).arrAt 8 cfg0.N = LossLn3ReferenceIdeal.Spec.result4 (m (c.tc.loc main_arg0)) (m (c.tc.loc main_arg1)) (m (c.tc.loc main_arg2)) (m (c.tc.loc main_arg3)) := by
  refine (dats m 0 c).arrAt_eq_of_covers 8 _ (by decide +kernel) fun t hf y => ?_
  blk_simp
  have ht : t.val < 16 := lt_of_lt_of_eq t.isLt N_0
  have hs : ∀ s : Fin 16, 16 * (t.val / 16) + s.val < 16 := fun s => by omega
  idx_vars y
  rw [after0_8, Pipeline.eq_sum_fin_of_reset_step_apply_of_flush (fun n h => (outsAt0 m c n h).2.2.2.2) 16 (fun _ => 0)
    (fun t j => ∑ i : Fin 512, Ideal.ofBits .f32 0x3A000000#32 * ∑ l : Fin 1024, (k0_pay8 (F := Ideal) (iblk m c 0 t) (iblk m c 2 t) (iblk m c 3 t) (iblk m c 1 t)) (ix2 i l) * (k0_pay8 (F := Ideal) (iblk m c 0 t) (iblk m c 2 t) (iblk m c 3 t) (iblk m c 1 t)) (ix2 i l))
    (fun t h j => by rw [outsAt0_A m c t h]; frame_out; idx_vars j; rw [loss_at, zero_loss_at])
    (fun t h j => by rw [outsAt0_B m c t h]; frame_out; idx_vars j; rw [loss_at])
    t ((flush0_8 t).mp hf) _, zero_add]
  have e : (((View.whole main_v0_4).slice (win0_8.rect t)).emb (ix2 y0 y1) : S8x128.Idx) = ix2 y0 y1 := by blk_ext [placed t]
  rw [e, LossLn3ReferenceIdeal.Spec.result4_at]
  refine Fin.sum_mul_add_congr fun s k hl => ?_
  have hk : (⟨16 * (t.val / 16) + s.val, hs s⟩ : Fin 16).val * 512 + k.val < 8192 := by dsimp only; omega
  have ek : (⟨s.val * 512 + k.val, hl⟩ : Fin 8192) = ⟨(16 * (t.val / 16) + s.val) * 512 + k.val, hk⟩ := Fin.ext (by dsimp only; omega)
  rw [ek]
  exact congrArg (_ * ·) (Finset.sum_congr rfl fun l _ => congrArg₂ (· * ·) (tile_err m c _ k l hk) (tile_err m c _ k l hk))

end Cert.LossLn3Ideal.Val

namespace Cert.Proof.LossLn3

/-- The frame of the kernel. -/
theorem frameKernel : quiescent_LossLn3 (hLossLn3 := LossLn3.Gen.facts) :=
  fun m ρ _ => LossLn3.Gen.frame m ρ

/-- The frame of its idealization. -/
theorem frameIdeal : quiescent_LossLn3Ideal (hLossLn3Ideal := LossLn3Ideal.Gen.facts) :=
  fun m ρ _ => LossLn3Ideal.Gen.frame m ρ

/-- The same under the precondition. -/
theorem frameIdealPre : quiescent_LossLn3Ideal_pre_finite_loss_ln3 (hLossLn3Ideal := LossLn3Ideal.Gen.facts) (hPre_finite_loss_ln3 := Pre_finite_loss_ln3.facts) :=
  fun m ρ _ => LossLn3Ideal.Gen.frame m ρ

/-- The frame of the reference. -/
theorem frameReference : quiescent_LossLn3ReferenceIdeal (hLossLn3ReferenceIdeal := LossLn3ReferenceIdeal.Gen.facts) :=
  fun m ρ _ => (θ_run LossLn3ReferenceIdeal.defs _ _).mono
    (fun r h => ⟨fun c => (h c).2.2.2.2.2, sem_eq_zero_of_no_sems (by decide) r.2⟩)
    (LossLn3ReferenceIdeal.Value.run (F := Ideal) m ρ)

/-- The same under the precondition. -/
theorem frameReferencePre : quiescent_LossLn3ReferenceIdeal_pre_finite_loss_ln3 (hLossLn3ReferenceIdeal := LossLn3ReferenceIdeal.Gen.facts) (hPre_finite_loss_ln3 := Pre_finite_loss_ln3.facts) :=
  fun m ρ _ => frameReference m ρ trivial

/-- On arguments that are numbers, the kernel's five results are the loss and its differentiated lines'. -/
theorem algebraic : algebraic_LossLn3Ideal_LossLn3ReferenceIdeal_pre_finite_loss_ln3 (hLossLn3Ideal := LossLn3Ideal.Gen.facts) (hLossLn3ReferenceIdeal := LossLn3ReferenceIdeal.Gen.facts) (hPre_finite_loss_ln3 := Pre_finite_loss_ln3.facts) :=
  fun m ρ m' ρ' hpre hag => ⟨_, _, _, _, _,
    (θ_run LossLn3Ideal.defs _ _).mono (fun _ h c => ⟨(h c).1.trans (LossLn3Ideal.Val.final0 m c (@LossLn3Ideal.Val.numbers m Pre_finite_loss_ln3.facts c (hpre c))),
        (h c).2.1.trans (LossLn3Ideal.Val.final1 m c (@LossLn3Ideal.Val.numbers m Pre_finite_loss_ln3.facts c (hpre c))),
        (h c).2.2.1.trans (LossLn3Ideal.Val.final2 m c),
        (h c).2.2.2.1.trans (LossLn3Ideal.Val.final3 m c),
        (h c).2.2.2.2.1.trans (LossLn3Ideal.Val.final4 m c), (h c).2.2.2.2.2⟩)
      (LossLn3Ideal.Value.run_blocks (F := Ideal) m ρ),
    (θ_run LossLn3ReferenceIdeal.defs _ _).mono (fun _ h c => ⟨(h c).1.trans (by rw [← (hag c).1, ← (hag c).2.1, ← (hag c).2.2.1, ← (hag c).2.2.2]; rfl),
        (h c).2.1.trans (by rw [← (hag c).1, ← (hag c).2.1, ← (hag c).2.2.1, ← (hag c).2.2.2]; rfl),
        (h c).2.2.1.trans (by rw [← (hag c).1, ← (hag c).2.1, ← (hag c).2.2.1, ← (hag c).2.2.2]; rfl),
        (h c).2.2.2.1.trans (by rw [← (hag c).1, ← (hag c).2.1, ← (hag c).2.2.1, ← (hag c).2.2.2]; rfl),
        (h c).2.2.2.2.1.trans (by rw [← (hag c).1, ← (hag c).2.1, ← (hag c).2.2.1, ← (hag c).2.2.2]; rfl), (h c).2.2.2.2.2⟩)
      (LossLn3ReferenceIdeal.Value.run (F := Ideal) m' ρ')⟩

end Cert.Proof.LossLn3

end

end
-- ==== Proof.InProj.lean ====
/-
  The input projection, cut into its seven stretches of columns.
-/
module

public import proofs.«01_k».proof.Proof.Gen.InProj.Frame
public import proofs.«01_k».proof.Proof.Gen.InProjIdeal.Value
public import proofs.«01_k».proof.Proof.Gen.InProjIdeal.Frame
public import proofs.«01_k».proof.Proof.Gen.InProjReferenceIdeal.Run
public import proofs.«01_k».proof.Proof.Gen.InProj
public import proofs.«01_k».proof.Proof.Gen.InProjIdeal
public import proofs.«01_k».proof.Proof.Gen.InProjReferenceIdeal
public import Idealize.ShloMosaic.Lib.Pointwise
public import Idealize.ShloMosaic.Lib.Pipeline.ValueKit
public import proofs.«01_k».proof.Defs
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.InProjReferenceIdeal.Spec

open Cert.InProjReferenceIdeal Cert.InProjReferenceIdeal.Gen

/-- Stretch 0 of the projection: the reference's composed term. -/
def result0 (a : FVec Ideal S8192x1024 .bf16) (w : FVec Ideal S1024x2432 .bf16) : FVec Ideal S8192x384 .f32 :=
  extractStridedSlice S8192x384 ![0, 0] (Host.dotGeneral (F := Ideal) dot_S8192x1024_S1024x2432_S8192x2432_1_0_0_1_n_n none (extf .f32 a bitsLt_bf16_f32) (extf .f32 w bitsLt_bf16_f32)) slices_S8192x2432_S8192x384_0_0

/-- Stretch 1 of the projection: the reference's composed term. -/
def result1 (a : FVec Ideal S8192x1024 .bf16) (w : FVec Ideal S1024x2432 .bf16) : FVec Ideal S8192x384 .f32 :=
  extractStridedSlice S8192x384 ![0, 384] (Host.dotGeneral (F := Ideal) dot_S8192x1024_S1024x2432_S8192x2432_1_0_0_1_n_n none (extf .f32 a bitsLt_bf16_f32) (extf .f32 w bitsLt_bf16_f32)) slices_S8192x2432_S8192x384_0_384

/-- Stretch 2 of the projection: the reference's composed term. -/
def result2 (a : FVec Ideal S8192x1024 .bf16) (w : FVec Ideal S1024x2432 .bf16) : FVec Ideal S8192x256 .f32 :=
  extractStridedSlice S8192x256 ![0, 768] (Host.dotGeneral (F := Ideal) dot_S8192x1024_S1024x2432_S8192x2432_1_0_0_1_n_n none (extf .f32 a bitsLt_bf16_f32) (extf .f32 w bitsLt_bf16_f32)) slices_S8192x2432_S8192x256_0_768

/-- Stretch 3 of the projection: the reference's composed term. -/
def result3 (a : FVec Ideal S8192x1024 .bf16) (w : FVec Ideal S1024x2432 .bf16) : FVec Ideal S8192x256 .f32 :=
  extractStridedSlice S8192x256 ![0, 1024] (Host.dotGeneral (F := Ideal) dot_S8192x1024_S1024x2432_S8192x2432_1_0_0_1_n_n none (extf .f32 a bitsLt_bf16_f32) (extf .f32 w bitsLt_bf16_f32)) slices_S8192x2432_S8192x256_0_1024

/-- Stretch 4 of the projection: the reference's composed term. -/
def result4 (a : FVec Ideal S8192x1024 .bf16) (w : FVec Ideal S1024x2432 .bf16) : FVec Ideal S8192x384 .f32 :=
  extractStridedSlice S8192x384 ![0, 1280] (Host.dotGeneral (F := Ideal) dot_S8192x1024_S1024x2432_S8192x2432_1_0_0_1_n_n none (extf .f32 a bitsLt_bf16_f32) (extf .f32 w bitsLt_bf16_f32)) slices_S8192x2432_S8192x384_0_1280

/-- Stretch 5 of the projection: the reference's composed term. -/
def result5 (a : FVec Ideal S8192x1024 .bf16) (w : FVec Ideal S1024x2432 .bf16) : FVec Ideal S8192x384 .f32 :=
  extractStridedSlice S8192x384 ![0, 1664] (Host.dotGeneral (F := Ideal) dot_S8192x1024_S1024x2432_S8192x2432_1_0_0_1_n_n none (extf .f32 a bitsLt_bf16_f32) (extf .f32 w bitsLt_bf16_f32)) slices_S8192x2432_S8192x384_0_1664

/-- Stretch 6 of the projection: the reference's composed term. -/
def result6 (a : FVec Ideal S8192x1024 .bf16) (w : FVec Ideal S1024x2432 .bf16) : FVec Ideal S8192x384 .f32 :=
  extractStridedSlice S8192x384 ![0, 2048] (Host.dotGeneral (F := Ideal) dot_S8192x1024_S1024x2432_S8192x2432_1_0_0_1_n_n none (extf .f32 a bitsLt_bf16_f32) (extf .f32 w bitsLt_bf16_f32)) slices_S8192x2432_S8192x384_0_2048

/-- Stretch 0 at a row and a column. -/
theorem result0_at (a : FVec Ideal S8192x1024 .bf16) (w : FVec Ideal S1024x2432 .bf16) (i : Fin 8192) (j : Fin 384) :
    result0 a w (ix2 i j) = ∑ k : Fin 1024, a (ix2 i k) * w (ix2 k ⟨0 + j, by omega⟩) := by
  pointwise [result0]

/-- Stretch 1 at a row and a column. -/
theorem result1_at (a : FVec Ideal S8192x1024 .bf16) (w : FVec Ideal S1024x2432 .bf16) (i : Fin 8192) (j : Fin 384) :
    result1 a w (ix2 i j) = ∑ k : Fin 1024, a (ix2 i k) * w (ix2 k ⟨384 + j, by omega⟩) := by
  pointwise [result1]

/-- Stretch 2 at a row and a column. -/
theorem result2_at (a : FVec Ideal S8192x1024 .bf16) (w : FVec Ideal S1024x2432 .bf16) (i : Fin 8192) (j : Fin 256) :
    result2 a w (ix2 i j) = ∑ k : Fin 1024, a (ix2 i k) * w (ix2 k ⟨768 + j, by omega⟩) := by
  pointwise [result2]

/-- Stretch 3 at a row and a column. -/
theorem result3_at (a : FVec Ideal S8192x1024 .bf16) (w : FVec Ideal S1024x2432 .bf16) (i : Fin 8192) (j : Fin 256) :
    result3 a w (ix2 i j) = ∑ k : Fin 1024, a (ix2 i k) * w (ix2 k ⟨1024 + j, by omega⟩) := by
  pointwise [result3]

/-- Stretch 4 at a row and a column. -/
theorem result4_at (a : FVec Ideal S8192x1024 .bf16) (w : FVec Ideal S1024x2432 .bf16) (i : Fin 8192) (j : Fin 384) :
    result4 a w (ix2 i j) = ∑ k : Fin 1024, a (ix2 i k) * w (ix2 k ⟨1280 + j, by omega⟩) := by
  pointwise [result4]

/-- Stretch 5 at a row and a column. -/
theorem result5_at (a : FVec Ideal S8192x1024 .bf16) (w : FVec Ideal S1024x2432 .bf16) (i : Fin 8192) (j : Fin 384) :
    result5 a w (ix2 i j) = ∑ k : Fin 1024, a (ix2 i k) * w (ix2 k ⟨1664 + j, by omega⟩) := by
  pointwise [result5]

/-- Stretch 6 at a row and a column. -/
theorem result6_at (a : FVec Ideal S8192x1024 .bf16) (w : FVec Ideal S1024x2432 .bf16) (i : Fin 8192) (j : Fin 384) :
    result6 a w (ix2 i j) = ∑ k : Fin 1024, a (ix2 i k) * w (ix2 k ⟨2048 + j, by omega⟩) := by
  pointwise [result6]

end Cert.InProjReferenceIdeal.Spec

namespace Cert.InProjIdeal.Val

open Cert.InProjIdeal Cert.InProjIdeal.Gen

variable (m : (ℓ : Loc nD τ sig) → Buf (Elt Ideal) ℓ)

/-- Where the windows' blocks lie at point `t`. -/
theorem placed : ∀ t : Fin cfg0.N, win0_0.index t = ![t.val, 0] ∧ win0_1.index t = ![0, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, _)

/-- Result array 0: every grid point writes its rows. -/
theorem final0 (c : Dev nD) : (dats m 0 c).arrAt 2 cfg0.N
    = InProjReferenceIdeal.Spec.result0 (m (c.tc.loc main_arg0)) (m (c.tc.loc main_arg1)) := by
  refine (dats m 0 c).arrAt_eq_of_covers 2 _ (by decide +kernel) fun t _ y => ?_
  blk_simp
  rw [after0_2]
  frame_out
  idx_vars y
  have ht : t.val < 8 := lt_of_lt_of_eq t.isLt N_0
  have e : (((View.whole main_v0_0).slice (win0_2.rect t)).emb (ix2 y0 y1) : S8192x384.Idx)
      = ix2 ⟨t.val * 1024 + y0, by omega⟩ y1 := by blk_ext [placed t]
  rw [e]
  rw [InProjReferenceIdeal.Spec.result0_at]
  pointwise [k0_pay2]
  blk_point [iblk, V, placed t]

/-- Result array 1: every grid point writes its rows. -/
theorem final1 (c : Dev nD) : (dats m 0 c).arrAt 3 cfg0.N
    = InProjReferenceIdeal.Spec.result1 (m (c.tc.loc main_arg0)) (m (c.tc.loc main_arg1)) := by
  refine (dats m 0 c).arrAt_eq_of_covers 3 _ (by decide +kernel) fun t _ y => ?_
  blk_simp
  rw [after0_3]
  frame_out
  idx_vars y
  have ht : t.val < 8 := lt_of_lt_of_eq t.isLt N_0
  have e : (((View.whole main_v0_1).slice (win0_3.rect t)).emb (ix2 y0 y1) : S8192x384.Idx)
      = ix2 ⟨t.val * 1024 + y0, by omega⟩ y1 := by blk_ext [placed t]
  rw [e]
  rw [InProjReferenceIdeal.Spec.result1_at]
  pointwise [k0_pay3]
  blk_point [iblk, V, placed t]

/-- Result array 2: every grid point writes its rows. -/
theorem final2 (c : Dev nD) : (dats m 0 c).arrAt 4 cfg0.N
    = InProjReferenceIdeal.Spec.result2 (m (c.tc.loc main_arg0)) (m (c.tc.loc main_arg1)) := by
  refine (dats m 0 c).arrAt_eq_of_covers 4 _ (by decide +kernel) fun t _ y => ?_
  blk_simp
  rw [after0_4]
  frame_out
  idx_vars y
  have ht : t.val < 8 := lt_of_lt_of_eq t.isLt N_0
  have e : (((View.whole main_v0_2).slice (win0_4.rect t)).emb (ix2 y0 y1) : S8192x256.Idx)
      = ix2 ⟨t.val * 1024 + y0, by omega⟩ y1 := by blk_ext [placed t]
  rw [e]
  rw [InProjReferenceIdeal.Spec.result2_at]
  pointwise [k0_pay4]
  blk_point [iblk, V, placed t]

/-- Result array 3: every grid point writes its rows. -/
theorem final3 (c : Dev nD) : (dats m 0 c).arrAt 5 cfg0.N
    = InProjReferenceIdeal.Spec.result3 (m (c.tc.loc main_arg0)) (m (c.tc.loc main_arg1)) := by
  refine (dats m 0 c).arrAt_eq_of_covers 5 _ (by decide +kernel) fun t _ y => ?_
  blk_simp
  rw [after0_5]
  frame_out
  idx_vars y
  have ht : t.val < 8 := lt_of_lt_of_eq t.isLt N_0
  have e : (((View.whole main_v0_3).slice (win0_5.rect t)).emb (ix2 y0 y1) : S8192x256.Idx)
      = ix2 ⟨t.val * 1024 + y0, by omega⟩ y1 := by blk_ext [placed t]
  rw [e]
  rw [InProjReferenceIdeal.Spec.result3_at]
  pointwise [k0_pay5]
  blk_point [iblk, V, placed t]

/-- Result array 4: every grid point writes its rows. -/
theorem final4 (c : Dev nD) : (dats m 0 c).arrAt 6 cfg0.N
    = InProjReferenceIdeal.Spec.result4 (m (c.tc.loc main_arg0)) (m (c.tc.loc main_arg1)) := by
  refine (dats m 0 c).arrAt_eq_of_covers 6 _ (by decide +kernel) fun t _ y => ?_
  blk_simp
  rw [after0_6]
  frame_out
  idx_vars y
  have ht : t.val < 8 := lt_of_lt_of_eq t.isLt N_0
  have e : (((View.whole main_v0_4).slice (win0_6.rect t)).emb (ix2 y0 y1) : S8192x384.Idx)
      = ix2 ⟨t.val * 1024 + y0, by omega⟩ y1 := by blk_ext [placed t]
  rw [e]
  rw [InProjReferenceIdeal.Spec.result4_at]
  pointwise [k0_pay6]
  blk_point [iblk, V, placed t]

/-- Result array 5: every grid point writes its rows. -/
theorem final5 (c : Dev nD) : (dats m 0 c).arrAt 7 cfg0.N
    = InProjReferenceIdeal.Spec.result5 (m (c.tc.loc main_arg0)) (m (c.tc.loc main_arg1)) := by
  refine (dats m 0 c).arrAt_eq_of_covers 7 _ (by decide +kernel) fun t _ y => ?_
  blk_simp
  rw [after0_7]
  frame_out
  idx_vars y
  have ht : t.val < 8 := lt_of_lt_of_eq t.isLt N_0
  have e : (((View.whole main_v0_5).slice (win0_7.rect t)).emb (ix2 y0 y1) : S8192x384.Idx)
      = ix2 ⟨t.val * 1024 + y0, by omega⟩ y1 := by blk_ext [placed t]
  rw [e]
  rw [InProjReferenceIdeal.Spec.result5_at]
  pointwise [k0_pay7]
  blk_point [iblk, V, placed t]

/-- Result array 6: every grid point writes its rows. -/
theorem final6 (c : Dev nD) : (dats m 0 c).arrAt 8 cfg0.N
    = InProjReferenceIdeal.Spec.result6 (m (c.tc.loc main_arg0)) (m (c.tc.loc main_arg1)) := by
  refine (dats m 0 c).arrAt_eq_of_covers 8 _ (by decide +kernel) fun t _ y => ?_
  blk_simp
  rw [after0_8]
  frame_out
  idx_vars y
  have ht : t.val < 8 := lt_of_lt_of_eq t.isLt N_0
  have e : (((View.whole main_v0_6).slice (win0_8.rect t)).emb (ix2 y0 y1) : S8192x384.Idx)
      = ix2 ⟨t.val * 1024 + y0, by omega⟩ y1 := by blk_ext [placed t]
  rw [e]
  rw [InProjReferenceIdeal.Spec.result6_at]
  pointwise [k0_pay1]
  blk_point [iblk, V, placed t]

end Cert.InProjIdeal.Val

namespace Cert.Proof.InProj

/-- The frame of the kernel. -/
theorem frameKernel : quiescent_InProj (hInProj := InProj.Gen.facts) :=
  fun m ρ _ => InProj.Gen.frame m ρ

/-- The frame of its idealization. -/
theorem frameIdeal : quiescent_InProjIdeal (hInProjIdeal := InProjIdeal.Gen.facts) :=
  fun m ρ _ => InProjIdeal.Gen.frame m ρ

/-- The frame of the reference. -/
theorem frameReference : quiescent_InProjReferenceIdeal (hInProjReferenceIdeal := InProjReferenceIdeal.Gen.facts) :=
  fun m ρ _ => (θ_run InProjReferenceIdeal.defs _ _).mono
    (fun r h => ⟨fun c => (h c).2.2.2.2.2.2.2, sem_eq_zero_of_no_sems (by decide) r.2⟩)
    (InProjReferenceIdeal.Value.run (F := Ideal) m ρ)

/-- The kernel computes the seven stretches of the projection. -/
theorem algebraic : algebraic_InProjIdeal_InProjReferenceIdeal (hInProjIdeal := InProjIdeal.Gen.facts)
    (hInProjReferenceIdeal := InProjReferenceIdeal.Gen.facts) :=
  fun m ρ m' ρ' _ hag => ⟨_, _, _, _, _, _, _,
    (θ_run InProjIdeal.defs _ _).mono (fun _ h c => ⟨(h c).1.trans (InProjIdeal.Val.final0 m c), (h c).2.1.trans (InProjIdeal.Val.final1 m c), (h c).2.2.1.trans (InProjIdeal.Val.final2 m c), (h c).2.2.2.1.trans (InProjIdeal.Val.final3 m c), (h c).2.2.2.2.1.trans (InProjIdeal.Val.final4 m c), (h c).2.2.2.2.2.1.trans (InProjIdeal.Val.final5 m c), (h c).2.2.2.2.2.2.1.trans (InProjIdeal.Val.final6 m c), (h c).2.2.2.2.2.2.2⟩)
      (InProjIdeal.Value.run_blocks (F := Ideal) m ρ),
    (θ_run InProjReferenceIdeal.defs _ _).mono (fun _ h c => ⟨(h c).1.trans (by rw [← (hag c).1, ← (hag c).2]; rfl), (h c).2.1.trans (by rw [← (hag c).1, ← (hag c).2]; rfl), (h c).2.2.1.trans (by rw [← (hag c).1, ← (hag c).2]; rfl), (h c).2.2.2.1.trans (by rw [← (hag c).1, ← (hag c).2]; rfl), (h c).2.2.2.2.1.trans (by rw [← (hag c).1, ← (hag c).2]; rfl), (h c).2.2.2.2.2.1.trans (by rw [← (hag c).1, ← (hag c).2]; rfl), (h c).2.2.2.2.2.2.1.trans (by rw [← (hag c).1, ← (hag c).2]; rfl), (h c).2.2.2.2.2.2.2⟩)
      (InProjReferenceIdeal.Value.run (F := Ideal) m' ρ')⟩

end Cert.Proof.InProj

end

end
-- ==== Proof.QProj.lean ====
/-
  The queries of the cross-attention: the product of the stream with `w_q`.
-/
module

public import proofs.«01_k».proof.Proof.Gen.QProj.Frame
public import proofs.«01_k».proof.Proof.Gen.QProjIdeal.Value
public import proofs.«01_k».proof.Proof.Gen.QProjIdeal.Frame
public import proofs.«01_k».proof.Proof.Gen.QProjReferenceIdeal.Run
public import proofs.«01_k».proof.Proof.Gen.QProj
public import proofs.«01_k».proof.Proof.Gen.QProjIdeal
public import proofs.«01_k».proof.Proof.Gen.QProjReferenceIdeal
public import Idealize.ShloMosaic.Lib.Pointwise
public import Idealize.ShloMosaic.Lib.Pipeline.ValueKit
public import proofs.«01_k».proof.Defs
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.QProjReferenceIdeal.Spec

open Cert.QProjReferenceIdeal Cert.QProjReferenceIdeal.Gen

/-- The queries: the reference's composed term. -/
def result0 (a : FVec Ideal S8192x1024 .bf16) (w : FVec Ideal S1024x1024 .bf16) : FVec Ideal S8192x1024 .bf16 :=
  truncf .bf16 (Host.dotGeneral (F := Ideal) dot_S8192x1024_S1024x1024_S8192x1024_1_0_0_1_n_n none (extf .f32 a bitsLt_bf16_f32) (extf .f32 w bitsLt_bf16_f32)) bitsLt_bf16_f32

/-- The reference at a row and a column. -/
theorem result0_at (a : FVec Ideal S8192x1024 .bf16) (w : FVec Ideal S1024x1024 .bf16) (i : Fin 8192) (j : Fin 1024) :
    result0 a w (ix2 i j) = ∑ k : Fin 1024, a (ix2 i k) * w (ix2 k j) := by
  pointwise [result0]

end Cert.QProjReferenceIdeal.Spec

namespace Cert.QProjIdeal.Val

open Cert.QProjIdeal Cert.QProjIdeal.Gen

variable (m : (ℓ : Loc nD τ sig) → Buf (Elt Ideal) ℓ)

/-- Where the windows' blocks lie at point `t`. -/
theorem placed : ∀ t : Fin cfg0.N, win0_0.index t = ![t.val, 0] ∧ win0_1.index t = ![0, 0] ∧ win0_2.index t = ![t.val, 0] :=
  (by decide +kernel : ∀ t : Fin grid0.N, _)

/-- Result array 0: every grid point writes its rows. -/
theorem final0 (c : Dev nD) : (dats m 0 c).arrAt 2 cfg0.N
    = QProjReferenceIdeal.Spec.result0 (m (c.tc.loc main_arg0)) (m (c.tc.loc main_arg1)) := by
  refine (dats m 0 c).arrAt_eq_of_covers 2 _ (by decide +kernel) fun t _ y => ?_
  blk_simp
  rw [after0_2]
  frame_out
  idx_vars y
  have ht : t.val < 8 := lt_of_lt_of_eq t.isLt N_0
  have e : (((View.whole main_v0).slice (win0_2.rect t)).emb (ix2 y0 y1) : S8192x1024.Idx)
      = ix2 ⟨t.val * 1024 + y0, by omega⟩ y1 := by blk_ext [placed t]
  rw [e]
  rw [QProjReferenceIdeal.Spec.result0_at]
  pointwise [k0_pay1]
  blk_point [iblk, V, placed t]

end Cert.QProjIdeal.Val

namespace Cert.Proof.QProj

/-- The frame of the kernel. -/
theorem frameKernel : quiescent_QProj (hQProj := QProj.Gen.facts) :=
  fun m ρ _ => QProj.Gen.frame m ρ

/-- The frame of its idealization. -/
theorem frameIdeal : quiescent_QProjIdeal (hQProjIdeal := QProjIdeal.Gen.facts) :=
  fun m ρ _ => QProjIdeal.Gen.frame m ρ

/-- The frame of the reference. -/
theorem frameReference : quiescent_QProjReferenceIdeal (hQProjReferenceIdeal := QProjReferenceIdeal.Gen.facts) :=
  fun m ρ _ => (θ_run QProjReferenceIdeal.defs _ _).mono
    (fun r h => ⟨fun c => (h c).2, sem_eq_zero_of_no_sems (by decide) r.2⟩)
    (QProjReferenceIdeal.Value.run (F := Ideal) m ρ)

/-- The kernel computes the rows of the product. -/
theorem algebraic : algebraic_QProjIdeal_QProjReferenceIdeal (hQProjIdeal := QProjIdeal.Gen.facts)
    (hQProjReferenceIdeal := QProjReferenceIdeal.Gen.facts) :=
  fun m ρ m' ρ' _ hag => ⟨_,
    (θ_run QProjIdeal.defs _ _).mono (fun _ h c => ⟨(h c).1.trans (QProjIdeal.Val.final0 m c), (h c).2⟩)
      (QProjIdeal.Value.run_blocks (F := Ideal) m ρ),
    (θ_run QProjReferenceIdeal.defs _ _).mono (fun _ h c => ⟨(h c).1.trans (by rw [← (hag c).1, ← (hag c).2]; rfl), (h c).2⟩)
      (QProjReferenceIdeal.Value.run (F := Ideal) m' ρ')⟩

end Cert.Proof.QProj

end

end
-- ==== Proof.KvProj.lean ====
/-
  The keys and values of the cross-attention: the product of the memory with `w_kv`.
-/
module

public import proofs.«01_k».proof.Proof.Gen.KvProj.Frame
public import proofs.«01_k».proof.Proof.Gen.KvProjIdeal.Value
public import proofs.«01_k».proof.Proof.Gen.KvProjIdeal.Frame
public import proofs.«01_k».proof.Proof.Gen.KvProjReferenceIdeal.Run
public import proofs.«01_k».proof.Proof.Gen.KvProj
public import proofs.«01_k».proof.Proof.Gen.KvProjIdeal
public import proofs.«01_k».proof.Proof.Gen.KvProjReferenceIdeal
public import Idealize.ShloMosaic.Lib.Pointwise
public import Idealize.ShloMosaic.Lib.Pipeline.ValueKit
public import proofs.«01_k».proof.Defs
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.KvProjReferenceIdeal.Spec

open Cert.KvProjReferenceIdeal Cert.KvProjReferenceIdeal.Gen

/-- The keys and values: the reference's composed term. -/
def result0 (a : FVec Ideal S1024x1024 .bf16) (w : FVec Ideal S1024x2048 .bf16) : FVec Ideal S1024x2048 .bf16 :=
  truncf .bf16 (Host.dotGeneral (F := Ideal) dot_S1024x1024_S1024x2048_S1024x2048_1_0_0_1_n_n none (extf .f32 a bitsLt_bf16_f32) (extf .f32 w bitsLt_bf16_f32)) bitsLt_bf16_f32

/-- The reference at a row and a column. -/
theorem result0_at (a : FVec Ideal S1024x1024 .bf16) (w : FVec Ideal S1024x2048 .bf16) (i : Fin 1024) (j : Fin 2048) :
    result0 a w (ix2 i j) = ∑ k : Fin 1024, a (ix2 i k) * w (ix2 k j) := by
  pointwise [result0]

end Cert.KvProjReferenceIdeal.Spec

namespace Cert.KvProjIdeal.Val

open Cert.KvProjIdeal Cert.KvProjIdeal.Gen

variable (m : (ℓ : Loc nD τ sig) → Buf (Elt Ideal) ℓ)

/-- Where the windows' blocks lie at point `t`. -/
theorem placed : ∀ t : Fin cfg0.N, win0_0.index t = ![t.val, 0] ∧ win0_1.index t = ![0, 0] ∧ win0_2.index t = ![t.val, 0] :=
  (by decide +kernel : ∀ t : Fin grid0.N, _)

/-- Result array 0: every grid point writes its rows. -/
theorem final0 (c : Dev nD) : (dats m 0 c).arrAt 2 cfg0.N
    = KvProjReferenceIdeal.Spec.result0 (m (c.tc.loc main_arg0)) (m (c.tc.loc main_arg1)) := by
  refine (dats m 0 c).arrAt_eq_of_covers 2 _ (by decide +kernel) fun t _ y => ?_
  blk_simp
  rw [after0_2]
  frame_out
  idx_vars y
  have ht : t.val < 1 := lt_of_lt_of_eq t.isLt N_0
  have e : (((View.whole main_v0).slice (win0_2.rect t)).emb (ix2 y0 y1) : S1024x2048.Idx)
      = ix2 ⟨t.val * 1024 + y0, by omega⟩ y1 := by blk_ext [placed t]
  rw [e]
  rw [KvProjReferenceIdeal.Spec.result0_at]
  pointwise [k0_pay1]
  blk_point [iblk, V, placed t]

end Cert.KvProjIdeal.Val

namespace Cert.Proof.KvProj

/-- The frame of the kernel. -/
theorem frameKernel : quiescent_KvProj (hKvProj := KvProj.Gen.facts) :=
  fun m ρ _ => KvProj.Gen.frame m ρ

/-- The frame of its idealization. -/
theorem frameIdeal : quiescent_KvProjIdeal (hKvProjIdeal := KvProjIdeal.Gen.facts) :=
  fun m ρ _ => KvProjIdeal.Gen.frame m ρ

/-- The frame of the reference. -/
theorem frameReference : quiescent_KvProjReferenceIdeal (hKvProjReferenceIdeal := KvProjReferenceIdeal.Gen.facts) :=
  fun m ρ _ => (θ_run KvProjReferenceIdeal.defs _ _).mono
    (fun r h => ⟨fun c => (h c).2, sem_eq_zero_of_no_sems (by decide) r.2⟩)
    (KvProjReferenceIdeal.Value.run (F := Ideal) m ρ)

/-- The kernel computes the rows of the product. -/
theorem algebraic : algebraic_KvProjIdeal_KvProjReferenceIdeal (hKvProjIdeal := KvProjIdeal.Gen.facts)
    (hKvProjReferenceIdeal := KvProjReferenceIdeal.Gen.facts) :=
  fun m ρ m' ρ' _ hag => ⟨_,
    (θ_run KvProjIdeal.defs _ _).mono (fun _ h c => ⟨(h c).1.trans (KvProjIdeal.Val.final0 m c), (h c).2⟩)
      (KvProjIdeal.Value.run_blocks (F := Ideal) m ρ),
    (θ_run KvProjReferenceIdeal.defs _ _).mono (fun _ h c => ⟨(h c).1.trans (by rw [← (hag c).1, ← (hag c).2]; rfl), (h c).2⟩)
      (KvProjReferenceIdeal.Value.run (F := Ideal) m' ρ')⟩

end Cert.Proof.KvProj

end

end
-- ==== Proof.Ff1.lean ====
/-
  The feed-forward hidden layer and its squared rectifier.
-/
module

public import proofs.«01_k».proof.Proof.Gen.Ff1.Frame
public import proofs.«01_k».proof.Proof.Gen.Ff1Ideal.Value
public import proofs.«01_k».proof.Proof.Gen.Ff1Ideal.Frame
public import proofs.«01_k».proof.Proof.Gen.Ff1ReferenceIdeal.Run
public import proofs.«01_k».proof.Proof.Gen.Ff1
public import proofs.«01_k».proof.Proof.Gen.Ff1Ideal
public import proofs.«01_k».proof.Proof.Gen.Ff1ReferenceIdeal
public import Idealize.ShloMosaic.Lib.Pointwise
public import Idealize.ShloMosaic.Lib.Pipeline.ValueKit
public import proofs.«01_k».proof.Defs
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Ff1ReferenceIdeal.Spec

open Cert.Ff1ReferenceIdeal Cert.Ff1ReferenceIdeal.Gen

/-- The hidden layer: the reference's composed term. -/
def result0 (a : FVec Ideal S8192x1024 .bf16) (w : FVec Ideal S1024x4096 .bf16) : FVec Ideal S8192x4096 .bf16 :=
  truncf .bf16 (Host.dotGeneral (F := Ideal) dot_S8192x1024_S1024x4096_S8192x4096_1_0_0_1_n_n none (extf .f32 a bitsLt_bf16_f32) (extf .f32 w bitsLt_bf16_f32)) bitsLt_bf16_f32

/-- The squared rectifier: the reference's composed term. -/
def result1 (a : FVec Ideal S8192x1024 .bf16) (w : FVec Ideal S1024x4096 .bf16) : FVec Ideal S8192x4096 .bf16 :=
  truncf .bf16 (mulf (maximumf (Host.dotGeneral (F := Ideal) dot_S8192x1024_S1024x4096_S8192x4096_1_0_0_1_n_n none (extf .f32 a bitsLt_bf16_f32) (extf .f32 w bitsLt_bf16_f32)) (broadcastInDim S8192x4096 ![] bcast_S_S8192x4096 (constant (F := Ideal) S_ .f32 0x00000000#32))) (maximumf (Host.dotGeneral (F := Ideal) dot_S8192x1024_S1024x4096_S8192x4096_1_0_0_1_n_n none (extf .f32 a bitsLt_bf16_f32) (extf .f32 w bitsLt_bf16_f32)) (broadcastInDim S8192x4096 ![] bcast_S_S8192x4096 (constant (F := Ideal) S_ .f32 0x00000000#32)))) bitsLt_bf16_f32

/-- The hidden layer at a row and a unit. -/
theorem result0_at (a : FVec Ideal S8192x1024 .bf16) (w : FVec Ideal S1024x4096 .bf16) (i : Fin 8192) (j : Fin 4096) :
    result0 a w (ix2 i j) = ∑ k : Fin 1024, a (ix2 i k) * w (ix2 k j) := by
  pointwise [result0]

/-- The squared rectifier at a row and a unit. -/
theorem result1_at (a : FVec Ideal S8192x1024 .bf16) (w : FVec Ideal S1024x4096 .bf16) (i : Fin 8192) (j : Fin 4096) :
    result1 a w (ix2 i j) = max (∑ k : Fin 1024, a (ix2 i k) * w (ix2 k j)) 0 * max (∑ k : Fin 1024, a (ix2 i k) * w (ix2 k j)) 0 := by
  pointwise [result1]

end Cert.Ff1ReferenceIdeal.Spec

namespace Cert.Ff1Ideal.Val

open Cert.Ff1Ideal Cert.Ff1Ideal.Gen

variable (m : (ℓ : Loc nD τ sig) → Buf (Elt Ideal) ℓ)

/-- Where the windows' blocks lie at point `t`. -/
theorem placed : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- Result array 0: every grid point writes its rows. -/
theorem final0 (c : Dev nD) : (dats m 0 c).arrAt 2 cfg0.N
    = Ff1ReferenceIdeal.Spec.result0 (m (c.tc.loc main_arg0)) (m (c.tc.loc main_arg1)) := by
  refine (dats m 0 c).arrAt_eq_of_covers 2 _ (by decide +kernel) fun t _ y => ?_
  blk_simp
  rw [after0_2]
  frame_out
  idx_vars y
  have ht : t.val < 8 := lt_of_lt_of_eq t.isLt N_0
  have e : (((View.whole main_v0_0).slice (win0_2.rect t)).emb (ix2 y0 y1) : S8192x4096.Idx)
      = ix2 ⟨t.val * 1024 + y0, by omega⟩ y1 := by blk_ext [placed t]
  rw [e]
  rw [Ff1ReferenceIdeal.Spec.result0_at]
  pointwise [k0_pay2, k0_pay3, k0_pay1]
  blk_point [iblk, V, placed t]

/-- Result array 1: every grid point writes its rows. -/
theorem final1 (c : Dev nD) : (dats m 0 c).arrAt 3 cfg0.N
    = Ff1ReferenceIdeal.Spec.result1 (m (c.tc.loc main_arg0)) (m (c.tc.loc main_arg1)) := by
  refine (dats m 0 c).arrAt_eq_of_covers 3 _ (by decide +kernel) fun t _ y => ?_
  blk_simp
  rw [after0_3]
  frame_out
  idx_vars y
  have ht : t.val < 8 := lt_of_lt_of_eq t.isLt N_0
  have e : (((View.whole main_v0_1).slice (win0_3.rect t)).emb (ix2 y0 y1) : S8192x4096.Idx)
      = ix2 ⟨t.val * 1024 + y0, by omega⟩ y1 := by blk_ext [placed t]
  rw [e]
  rw [Ff1ReferenceIdeal.Spec.result1_at]
  pointwise [k0_pay2, k0_pay3, k0_pay1]
  blk_point [iblk, V, placed t]

end Cert.Ff1Ideal.Val

namespace Cert.Proof.Ff1

/-- The frame of the kernel. -/
theorem frameKernel : quiescent_Ff1 (hFf1 := Ff1.Gen.facts) :=
  fun m ρ _ => Ff1.Gen.frame m ρ

/-- The frame of its idealization. -/
theorem frameIdeal : quiescent_Ff1Ideal (hFf1Ideal := Ff1Ideal.Gen.facts) :=
  fun m ρ _ => Ff1Ideal.Gen.frame m ρ

/-- The frame of the reference. -/
theorem frameReference : quiescent_Ff1ReferenceIdeal (hFf1ReferenceIdeal := Ff1ReferenceIdeal.Gen.facts) :=
  fun m ρ _ => (θ_run Ff1ReferenceIdeal.defs _ _).mono
    (fun r h => ⟨fun c => (h c).2.2, sem_eq_zero_of_no_sems (by decide) r.2⟩)
    (Ff1ReferenceIdeal.Value.run (F := Ideal) m ρ)

/-- The kernel computes the hidden layer and its squared rectifier. -/
theorem algebraic : algebraic_Ff1Ideal_Ff1ReferenceIdeal (hFf1Ideal := Ff1Ideal.Gen.facts)
    (hFf1ReferenceIdeal := Ff1ReferenceIdeal.Gen.facts) :=
  fun m ρ m' ρ' _ hag => ⟨_, _,
    (θ_run Ff1Ideal.defs _ _).mono (fun _ h c => ⟨(h c).1.trans (Ff1Ideal.Val.final0 m c), (h c).2.1.trans (Ff1Ideal.Val.final1 m c), (h c).2.2⟩)
      (Ff1Ideal.Value.run_blocks (F := Ideal) m ρ),
    (θ_run Ff1ReferenceIdeal.defs _ _).mono (fun _ h c => ⟨(h c).1.trans (by rw [← (hag c).1, ← (hag c).2]; rfl), (h c).2.1.trans (by rw [← (hag c).1, ← (hag c).2]; rfl), (h c).2.2⟩)
      (Ff1ReferenceIdeal.Value.run (F := Ideal) m' ρ')⟩

end Cert.Proof.Ff1

end

end
-- ==== Proof.OLn.lean ====
/-
  The attention output's projection, added to the normalised stream, and the layer normalisation of the sum.
-/
module

public import proofs.«01_k».proof.Proof.Gen.OLn.Frame
public import proofs.«01_k».proof.Proof.Gen.OLnIdeal.Value
public import proofs.«01_k».proof.Proof.Gen.OLnIdeal.Frame
public import proofs.«01_k».proof.Proof.Gen.OLnReferenceIdeal.Run
public import proofs.«01_k».proof.Proof.Gen.OLn
public import proofs.«01_k».proof.Proof.Gen.OLnIdeal
public import proofs.«01_k».proof.Proof.Gen.OLnReferenceIdeal
public import Idealize.ShloMosaic.Lib.Pointwise
public import Idealize.ShloMosaic.Lib.Pipeline.ValueKit
public import proofs.«01_k».proof.Defs
public import Idealize.ShloMosaic.Adequacy
public import Idealize.ShloMosaic.Init
public import proofs.«01_k».proof.Proof.LayerNormReference

@[expose] public section

set_option maxRecDepth 16384

noncomputable section

open Idealize.ShloMosaic Idealize.ShloMosaic.TcCoe Idealize.SL.Sem
open Idealize.ShloMosaic.Pipeline (Dat)

namespace Cert.OLnReferenceIdeal.Spec

open Cert.OLnReferenceIdeal Cert.OLnReferenceIdeal.Gen RowNorm.Reference

/-- The normalised rows, times the gain, plus the bias. -/
def normed (z : FVec Ideal S8192x1024 .f32) (g b : FVec Ideal S1x1024 .f32) : FVec Ideal S8192x1024 .f32 :=
  addf (mulf (mulf (cent z) (scls z)) (broadcastInDim S8192x1024 ![0, 1] bcast_S1x1024_S8192x1024_0_1 (broadcastInDim S1x1024 ![1] bcast_S1024_S1x1024_1 (shapeCast _ g shapeCasts_S1x1024_S1024)))) (broadcastInDim S8192x1024 ![0, 1] bcast_S1x1024_S8192x1024_0_1 (broadcastInDim S1x1024 ![1] bcast_S1024_S1x1024_1 (shapeCast _ b shapeCasts_S1x1024_S1024)))
/-- The stream after the cross-attention: the residual path plus the product. -/
def result0 (x0 : FVec Ideal S8192x1024 .bf16) (w : FVec Ideal S1024x1024 .bf16) (s : FVec Ideal S8192x1024 .f32) (sg : FVec Ideal S1x1024 .f32) (sb : FVec Ideal S1x1024 .f32) (g : FVec Ideal S1x1024 .f32) (b : FVec Ideal S1x1024 .f32) : FVec Ideal S8192x1024 .f32 :=
  addf (mulf (broadcastInDim S8192x1024 ![] bcast_S_S8192x1024 (constant (F := Ideal) S_ .f32 0x3FD744FD#32)) (normed s sg sb)) (Host.dotGeneral (F := Ideal) (φ₁ := .f32) dot_S8192x1024_S1024x1024_S8192x1024_1_0_0_1_n_n none (extf .f32 x0 bitsLt_bf16_f32) (extf .f32 w bitsLt_bf16_f32))
/-- Its layer normalisation, cast. -/
def result1 (x0 : FVec Ideal S8192x1024 .bf16) (w : FVec Ideal S1024x1024 .bf16) (s : FVec Ideal S8192x1024 .f32) (sg : FVec Ideal S1x1024 .f32) (sb : FVec Ideal S1x1024 .f32) (g : FVec Ideal S1x1024 .f32) (b : FVec Ideal S1x1024 .f32) : FVec Ideal S8192x1024 .bf16 := truncf .bf16 (normed (result0 x0 w s sg sb g b) g b) bitsLt_bf16_f32

/-- An entry of the normalised rows. -/
theorem normed_at (z : FVec Ideal S8192x1024 .f32) (g b : FVec Ideal S1x1024 .f32) (i : Fin 8192) (j : Fin 1024) :
    normed z g b (ix2 i j) = RowNorm.normal (fun k => z (ix2 i k)) j * g (ix2 0 j) + b (ix2 0 j) := by
  pointwise [normed, cent_at, scls_at]
  rfl

/-- The first result at a row and a column. -/
theorem result0_at (x0 : FVec Ideal S8192x1024 .bf16) (w : FVec Ideal S1024x1024 .bf16) (s : FVec Ideal S8192x1024 .f32) (sg : FVec Ideal S1x1024 .f32) (sb : FVec Ideal S1x1024 .f32) (g : FVec Ideal S1x1024 .f32) (b : FVec Ideal S1x1024 .f32) (i : Fin 8192) (j : Fin 1024) :
    result0 x0 w s sg sb g b (ix2 i j) = Ideal.ofBits .f32 0x3FD744FD#32 * (RowNorm.normal (fun k => s (ix2 i k)) j * sg (ix2 0 j) + sb (ix2 0 j)) + ∑ k : Fin 1024, x0 (ix2 i k) * w (ix2 k j) := by
  pointwise [result0, normed_at]

/-- The second result at a row and a column. -/
theorem result1_at (x0 : FVec Ideal S8192x1024 .bf16) (w : FVec Ideal S1024x1024 .bf16) (s : FVec Ideal S8192x1024 .f32) (sg : FVec Ideal S1x1024 .f32) (sb : FVec Ideal S1x1024 .f32) (g : FVec Ideal S1x1024 .f32) (b : FVec Ideal S1x1024 .f32) (i : Fin 8192) (j : Fin 1024) :
    result1 x0 w s sg sb g b (ix2 i j) = RowNorm.normal (fun k => result0 x0 w s sg sb g b (ix2 i k)) j * g (ix2 0 j) + b (ix2 0 j) := by
  pointwise [result1, normed_at]

end Cert.OLnReferenceIdeal.Spec

namespace Cert.OLnIdeal.Val

open Cert.OLnIdeal Cert.OLnIdeal.Gen

variable (m : (ℓ : Loc nD τ sig) → Buf (Elt Ideal) ℓ)

open RowNorm

/-- Where the windows' blocks lie at point `t`. -/
theorem placed : ∀ t : Fin cfg0.N, win0_0.index t = ![t.val, 0] ∧ win0_1.index t = ![t.val, 0] ∧ win0_2.index t = ![0, 0] ∧ win0_3.index t = ![0, 0] ∧ win0_4.index t = ![0, 0] ∧ win0_5.index t = ![0, 0] ∧ win0_6.index t = ![0, 0] ∧ win0_7.index t = ![t.val, 0] ∧ win0_8.index t = ![t.val, 0] :=
  (by decide +kernel : ∀ t : Fin grid0.N, _)

/-- An entry of the tile's sum of the residual path and the product. -/
theorem sum_at (z : Vec Ideal S1024x1024 .f32) (g b : Vec Ideal S1x1024 .f32) (x : Vec Ideal S1024x1024 .bf16) (w : Vec Ideal S1024x1024 .bf16) (i : Fin 1024) (j : Fin 1024) :
    k0_pay2 (F := Ideal) z g b x w (ix2 i j) = Ideal.ofBits .f32 0x3FD744FD#32 * (normal (fun k => z (ix2 i k)) j * g (ix2 0 j) + b (ix2 0 j)) + ∑ k : Fin 1024, x (ix2 i k) * w (ix2 k j) := by
  pointwise [k0_pay2]
  rfl

/-- An entry of the tile's sum, less its row's mean. -/
theorem centred_at (z : Vec Ideal S1024x1024 .f32) (g b : Vec Ideal S1x1024 .f32) (x : Vec Ideal S1024x1024 .bf16) (w : Vec Ideal S1024x1024 .bf16) (i : Fin 1024) (j : Fin 1024) :
    k0_pay3 (F := Ideal) z g b x w (ix2 i j) = centred (fun k => k0_pay2 (F := Ideal) z g b x w (ix2 i k)) j := by
  pointwise [k0_pay3]
  rfl

/-- An entry of the tile's normalised sum. -/
theorem normal_at (z : Vec Ideal S1024x1024 .f32) (g b : Vec Ideal S1x1024 .f32) (x : Vec Ideal S1024x1024 .bf16) (w : Vec Ideal S1024x1024 .bf16) (g' b' : Vec Ideal S1x1024 .f32) (i : Fin 1024) (j : Fin 1024) :
    k0_pay1 (F := Ideal) (k0_pay3 (F := Ideal) z g b x w) (k0_pay4 (F := Ideal) z g b x w) g' b' (ix2 i j)
      = normal (fun k => k0_pay2 (F := Ideal) z g b x w (ix2 i k)) j * g' (ix2 0 j) + b' (ix2 0 j) := by
  pointwise [k0_pay1, k0_pay4, centred_at]
  rfl

/-- A tile of the sum is its rows of the whole sum. -/
theorem tile_sum (c : Dev nD) (t : Fin cfg0.N) (i : Fin 1024) (j : Fin 1024) (h : t.val * 1024 + i.val < 8192) :
    k0_pay2 (F := Ideal) (iblk m c 1 t) (iblk m c 3 t) (iblk m c 4 t) (iblk m c 0 t) (iblk m c 2 t) (ix2 i j)
      = OLnReferenceIdeal.Spec.result0 (m (c.tc.loc main_arg0)) (m (c.tc.loc main_arg1)) (m (c.tc.loc main_arg2)) (m (c.tc.loc main_arg3)) (m (c.tc.loc main_arg4)) (m (c.tc.loc main_arg5)) (m (c.tc.loc main_arg6)) (ix2 ⟨t.val * 1024 + i.val, h⟩ j) := by
  rw [sum_at, OLnReferenceIdeal.Spec.result0_at]
  blk_point [iblk, V, placed t]

/-- Result array 0: every grid point writes its rows. -/
theorem final0 (c : Dev nD) : (dats m 0 c).arrAt 7 cfg0.N
    = OLnReferenceIdeal.Spec.result0 (m (c.tc.loc main_arg0)) (m (c.tc.loc main_arg1)) (m (c.tc.loc main_arg2)) (m (c.tc.loc main_arg3)) (m (c.tc.loc main_arg4)) (m (c.tc.loc main_arg5)) (m (c.tc.loc main_arg6)) := by
  refine (dats m 0 c).arrAt_eq_of_covers 7 _ (by decide +kernel) fun t _ y => ?_
  blk_simp
  rw [after0_7]
  frame_out
  idx_vars y
  have ht : t.val < 8 := lt_of_lt_of_eq t.isLt N_0
  have e : (((View.whole main_v0_0).slice (win0_7.rect t)).emb (ix2 y0 y1) : S8192x1024.Idx)
      = ix2 ⟨t.val * 1024 + y0, by omega⟩ y1 := by blk_ext [placed t]
  rw [e]
  rw [← tile_sum m c t y0 y1]

/-- Result array 1: every grid point writes its rows. -/
theorem final1 (c : Dev nD) : (dats m 0 c).arrAt 8 cfg0.N
    = OLnReferenceIdeal.Spec.result1 (m (c.tc.loc main_arg0)) (m (c.tc.loc main_arg1)) (m (c.tc.loc main_arg2)) (m (c.tc.loc main_arg3)) (m (c.tc.loc main_arg4)) (m (c.tc.loc main_arg5)) (m (c.tc.loc main_arg6)) := by
  refine (dats m 0 c).arrAt_eq_of_covers 8 _ (by decide +kernel) fun t _ y => ?_
  blk_simp
  rw [after0_8]
  frame_out
  idx_vars y
  have ht : t.val < 8 := lt_of_lt_of_eq t.isLt N_0
  have e : (((View.whole main_v0_1).slice (win0_8.rect t)).emb (ix2 y0 y1) : S8192x1024.Idx)
      = ix2 ⟨t.val * 1024 + y0, by omega⟩ y1 := by blk_ext [placed t]
  rw [e]
  rw [OLnReferenceIdeal.Spec.result1_at]
  have es : (fun k => OLnReferenceIdeal.Spec.result0 (m (c.tc.loc main_arg0)) (m (c.tc.loc main_arg1)) (m (c.tc.loc main_arg2)) (m (c.tc.loc main_arg3)) (m (c.tc.loc main_arg4)) (m (c.tc.loc main_arg5)) (m (c.tc.loc main_arg6)) (ix2 ⟨t.val * 1024 + y0.val, by omega⟩ k)) = fun k => k0_pay2 (F := Ideal) (iblk m c 1 t) (iblk m c 3 t) (iblk m c 4 t) (iblk m c 0 t) (iblk m c 2 t) (ix2 y0 k) := funext fun k => (tile_sum m c t y0 k (by omega)).symm
  rw [es]
  refine (normal_at _ _ _ _ _ _ _ y0 y1).trans ?_
  refine congrArg₂ (· + ·) (congrArg (normal _ y1 * ·) ?_) ?_ <;> blk_point [iblk, V, placed t]

end Cert.OLnIdeal.Val

namespace Cert.Proof.OLn

/-- The frame of the kernel. -/
theorem frameKernel : quiescent_OLn (hOLn := OLn.Gen.facts) :=
  fun m ρ _ => OLn.Gen.frame m ρ

/-- The frame of its idealization. -/
theorem frameIdeal : quiescent_OLnIdeal (hOLnIdeal := OLnIdeal.Gen.facts) :=
  fun m ρ _ => OLnIdeal.Gen.frame m ρ

/-- The frame of the reference. -/
theorem frameReference : quiescent_OLnReferenceIdeal (hOLnReferenceIdeal := OLnReferenceIdeal.Gen.facts) :=
  fun m ρ _ => (θ_run OLnReferenceIdeal.defs _ _).mono
    (fun r h => ⟨fun c => (h c).2.2, sem_eq_zero_of_no_sems (by decide) r.2⟩)
    (OLnReferenceIdeal.Value.run (F := Ideal) m ρ)

/-- The kernel computes the residual path, the product and the layer normalisation. -/
theorem algebraic : algebraic_OLnIdeal_OLnReferenceIdeal (hOLnIdeal := OLnIdeal.Gen.facts)
    (hOLnReferenceIdeal := OLnReferenceIdeal.Gen.facts) :=
  fun m ρ m' ρ' _ hag => ⟨_, _,
    (θ_run OLnIdeal.defs _ _).mono (fun _ h c => ⟨(h c).1.trans (OLnIdeal.Val.final0 m c), (h c).2.1.trans (OLnIdeal.Val.final1 m c), (h c).2.2⟩)
      (OLnIdeal.Value.run_blocks (F := Ideal) m ρ),
    (θ_run OLnReferenceIdeal.defs _ _).mono (fun _ h c => ⟨(h c).1.trans (by rw [← (hag c).1, ← (hag c).2.1, ← (hag c).2.2.1, ← (hag c).2.2.2.1, ← (hag c).2.2.2.2.1, ← (hag c).2.2.2.2.2.1, ← (hag c).2.2.2.2.2.2]; rfl), (h c).2.1.trans (by rw [← (hag c).1, ← (hag c).2.1, ← (hag c).2.2.1, ← (hag c).2.2.2.1, ← (hag c).2.2.2.2.1, ← (hag c).2.2.2.2.2.1, ← (hag c).2.2.2.2.2.2]; rfl), (h c).2.2⟩)
      (OLnReferenceIdeal.Value.run (F := Ideal) m' ρ')⟩

end Cert.Proof.OLn

end

end
-- ==== Proof.Ff2Ln.lean ====
/-
  The second feed-forward product, added to the normalised stream, and the layer normalisation of the sum.
-/
module

public import proofs.«01_k».proof.Proof.Gen.Ff2Ln.Frame
public import proofs.«01_k».proof.Proof.Gen.Ff2LnIdeal.Value
public import proofs.«01_k».proof.Proof.Gen.Ff2LnIdeal.Frame
public import proofs.«01_k».proof.Proof.Gen.Ff2LnReferenceIdeal.Run
public import proofs.«01_k».proof.Proof.Gen.Ff2Ln
public import proofs.«01_k».proof.Proof.Gen.Ff2LnIdeal
public import proofs.«01_k».proof.Proof.Gen.Ff2LnReferenceIdeal
public import Idealize.ShloMosaic.Lib.Pointwise
public import Idealize.ShloMosaic.Lib.Pipeline.ValueKit
public import proofs.«01_k».proof.Defs
public import Idealize.ShloMosaic.Adequacy
public import Idealize.ShloMosaic.Init
public import proofs.«01_k».proof.Proof.LayerNormReference

@[expose] public section

set_option maxRecDepth 16384

noncomputable section

open Idealize.ShloMosaic Idealize.ShloMosaic.TcCoe Idealize.SL.Sem
open Idealize.ShloMosaic.Pipeline (Dat)

namespace Cert.Ff2LnReferenceIdeal.Spec

open Cert.Ff2LnReferenceIdeal Cert.Ff2LnReferenceIdeal.Gen RowNorm.Reference

/-- The normalised rows, times the gain, plus the bias. -/
def normed (z : FVec Ideal S8192x1024 .f32) (g b : FVec Ideal S1x1024 .f32) : FVec Ideal S8192x1024 .f32 :=
  addf (mulf (mulf (cent z) (scls z)) (broadcastInDim S8192x1024 ![0, 1] bcast_S1x1024_S8192x1024_0_1 (broadcastInDim S1x1024 ![1] bcast_S1024_S1x1024_1 (shapeCast _ g shapeCasts_S1x1024_S1024)))) (broadcastInDim S8192x1024 ![0, 1] bcast_S1x1024_S8192x1024_0_1 (broadcastInDim S1x1024 ![1] bcast_S1024_S1x1024_1 (shapeCast _ b shapeCasts_S1x1024_S1024)))
/-- The stream after the feed-forward layer: the residual path plus the product. -/
def result0 (x0 : FVec Ideal S8192x4096 .bf16) (w : FVec Ideal S4096x1024 .bf16) (s : FVec Ideal S8192x1024 .f32) (sg : FVec Ideal S1x1024 .f32) (sb : FVec Ideal S1x1024 .f32) (g : FVec Ideal S1x1024 .f32) (b : FVec Ideal S1x1024 .f32) : FVec Ideal S8192x1024 .f32 :=
  addf (mulf (broadcastInDim S8192x1024 ![] bcast_S_S8192x1024 (constant (F := Ideal) S_ .f32 0x3FD744FD#32)) (normed s sg sb)) (Host.dotGeneral (F := Ideal) (φ₁ := .f32) dot_S8192x4096_S4096x1024_S8192x1024_1_0_0_1_n_n none (extf .f32 x0 bitsLt_bf16_f32) (extf .f32 w bitsLt_bf16_f32))
/-- Its layer normalisation, cast. -/
def result1 (x0 : FVec Ideal S8192x4096 .bf16) (w : FVec Ideal S4096x1024 .bf16) (s : FVec Ideal S8192x1024 .f32) (sg : FVec Ideal S1x1024 .f32) (sb : FVec Ideal S1x1024 .f32) (g : FVec Ideal S1x1024 .f32) (b : FVec Ideal S1x1024 .f32) : FVec Ideal S8192x1024 .bf16 := truncf .bf16 (normed (result0 x0 w s sg sb g b) g b) bitsLt_bf16_f32

/-- An entry of the normalised rows. -/
theorem normed_at (z : FVec Ideal S8192x1024 .f32) (g b : FVec Ideal S1x1024 .f32) (i : Fin 8192) (j : Fin 1024) :
    normed z g b (ix2 i j) = RowNorm.normal (fun k => z (ix2 i k)) j * g (ix2 0 j) + b (ix2 0 j) := by
  pointwise [normed, cent_at, scls_at]
  rfl

/-- The first result at a row and a column. -/
theorem result0_at (x0 : FVec Ideal S8192x4096 .bf16) (w : FVec Ideal S4096x1024 .bf16) (s : FVec Ideal S8192x1024 .f32) (sg : FVec Ideal S1x1024 .f32) (sb : FVec Ideal S1x1024 .f32) (g : FVec Ideal S1x1024 .f32) (b : FVec Ideal S1x1024 .f32) (i : Fin 8192) (j : Fin 1024) :
    result0 x0 w s sg sb g b (ix2 i j) = Ideal.ofBits .f32 0x3FD744FD#32 * (RowNorm.normal (fun k => s (ix2 i k)) j * sg (ix2 0 j) + sb (ix2 0 j)) + ∑ k : Fin 4096, x0 (ix2 i k) * w (ix2 k j) := by
  pointwise [result0, normed_at]

/-- The second result at a row and a column. -/
theorem result1_at (x0 : FVec Ideal S8192x4096 .bf16) (w : FVec Ideal S4096x1024 .bf16) (s : FVec Ideal S8192x1024 .f32) (sg : FVec Ideal S1x1024 .f32) (sb : FVec Ideal S1x1024 .f32) (g : FVec Ideal S1x1024 .f32) (b : FVec Ideal S1x1024 .f32) (i : Fin 8192) (j : Fin 1024) :
    result1 x0 w s sg sb g b (ix2 i j) = RowNorm.normal (fun k => result0 x0 w s sg sb g b (ix2 i k)) j * g (ix2 0 j) + b (ix2 0 j) := by
  pointwise [result1, normed_at]

end Cert.Ff2LnReferenceIdeal.Spec

namespace Cert.Ff2LnIdeal.Val

open Cert.Ff2LnIdeal Cert.Ff2LnIdeal.Gen

variable (m : (ℓ : Loc nD τ sig) → Buf (Elt Ideal) ℓ)

open RowNorm

/-- Where the windows' blocks lie at point `t`. -/
theorem placed : ∀ t : Fin cfg0.N, win0_0.index t = ![t.val, 0] ∧ win0_1.index t = ![t.val, 0] ∧ win0_2.index t = ![0, 0] ∧ win0_3.index t = ![0, 0] ∧ win0_4.index t = ![0, 0] ∧ win0_5.index t = ![0, 0] ∧ win0_6.index t = ![0, 0] ∧ win0_7.index t = ![t.val, 0] ∧ win0_8.index t = ![t.val, 0] :=
  (by decide +kernel : ∀ t : Fin grid0.N, _)

/-- An entry of the tile's sum of the residual path and the product. -/
theorem sum_at (z : Vec Ideal S512x1024 .f32) (g b : Vec Ideal S1x1024 .f32) (x : Vec Ideal S512x4096 .bf16) (w : Vec Ideal S4096x1024 .bf16) (i : Fin 512) (j : Fin 1024) :
    k0_pay2 (F := Ideal) z g b x w (ix2 i j) = Ideal.ofBits .f32 0x3FD744FD#32 * (normal (fun k => z (ix2 i k)) j * g (ix2 0 j) + b (ix2 0 j)) + ∑ k : Fin 4096, x (ix2 i k) * w (ix2 k j) := by
  pointwise [k0_pay2]
  rfl

/-- An entry of the tile's sum, less its row's mean. -/
theorem centred_at (z : Vec Ideal S512x1024 .f32) (g b : Vec Ideal S1x1024 .f32) (x : Vec Ideal S512x4096 .bf16) (w : Vec Ideal S4096x1024 .bf16) (i : Fin 512) (j : Fin 1024) :
    k0_pay3 (F := Ideal) z g b x w (ix2 i j) = centred (fun k => k0_pay2 (F := Ideal) z g b x w (ix2 i k)) j := by
  pointwise [k0_pay3]
  rfl

/-- An entry of the tile's normalised sum. -/
theorem normal_at (z : Vec Ideal S512x1024 .f32) (g b : Vec Ideal S1x1024 .f32) (x : Vec Ideal S512x4096 .bf16) (w : Vec Ideal S4096x1024 .bf16) (g' b' : Vec Ideal S1x1024 .f32) (i : Fin 512) (j : Fin 1024) :
    k0_pay1 (F := Ideal) (k0_pay3 (F := Ideal) z g b x w) (k0_pay4 (F := Ideal) z g b x w) g' b' (ix2 i j)
      = normal (fun k => k0_pay2 (F := Ideal) z g b x w (ix2 i k)) j * g' (ix2 0 j) + b' (ix2 0 j) := by
  pointwise [k0_pay1, k0_pay4, centred_at]
  rfl

/-- A tile of the sum is its rows of the whole sum. -/
theorem tile_sum (c : Dev nD) (t : Fin cfg0.N) (i : Fin 512) (j : Fin 1024) (h : t.val * 512 + i.val < 8192) :
    k0_pay2 (F := Ideal) (iblk m c 1 t) (iblk m c 3 t) (iblk m c 4 t) (iblk m c 0 t) (iblk m c 2 t) (ix2 i j)
      = Ff2LnReferenceIdeal.Spec.result0 (m (c.tc.loc main_arg0)) (m (c.tc.loc main_arg1)) (m (c.tc.loc main_arg2)) (m (c.tc.loc main_arg3)) (m (c.tc.loc main_arg4)) (m (c.tc.loc main_arg5)) (m (c.tc.loc main_arg6)) (ix2 ⟨t.val * 512 + i.val, h⟩ j) := by
  rw [sum_at, Ff2LnReferenceIdeal.Spec.result0_at]
  blk_point [iblk, V, placed t]

/-- Result array 0: every grid point writes its rows. -/
theorem final0 (c : Dev nD) : (dats m 0 c).arrAt 7 cfg0.N
    = Ff2LnReferenceIdeal.Spec.result0 (m (c.tc.loc main_arg0)) (m (c.tc.loc main_arg1)) (m (c.tc.loc main_arg2)) (m (c.tc.loc main_arg3)) (m (c.tc.loc main_arg4)) (m (c.tc.loc main_arg5)) (m (c.tc.loc main_arg6)) := by
  refine (dats m 0 c).arrAt_eq_of_covers 7 _ (by decide +kernel) fun t _ y => ?_
  blk_simp
  rw [after0_7]
  frame_out
  idx_vars y
  have ht : t.val < 16 := lt_of_lt_of_eq t.isLt N_0
  have e : (((View.whole main_v0_0).slice (win0_7.rect t)).emb (ix2 y0 y1) : S8192x1024.Idx)
      = ix2 ⟨t.val * 512 + y0, by omega⟩ y1 := by blk_ext [placed t]
  rw [e]
  rw [← tile_sum m c t y0 y1]

/-- Result array 1: every grid point writes its rows. -/
theorem final1 (c : Dev nD) : (dats m 0 c).arrAt 8 cfg0.N
    = Ff2LnReferenceIdeal.Spec.result1 (m (c.tc.loc main_arg0)) (m (c.tc.loc main_arg1)) (m (c.tc.loc main_arg2)) (m (c.tc.loc main_arg3)) (m (c.tc.loc main_arg4)) (m (c.tc.loc main_arg5)) (m (c.tc.loc main_arg6)) := by
  refine (dats m 0 c).arrAt_eq_of_covers 8 _ (by decide +kernel) fun t _ y => ?_
  blk_simp
  rw [after0_8]
  frame_out
  idx_vars y
  have ht : t.val < 16 := lt_of_lt_of_eq t.isLt N_0
  have e : (((View.whole main_v0_1).slice (win0_8.rect t)).emb (ix2 y0 y1) : S8192x1024.Idx)
      = ix2 ⟨t.val * 512 + y0, by omega⟩ y1 := by blk_ext [placed t]
  rw [e]
  rw [Ff2LnReferenceIdeal.Spec.result1_at]
  have es : (fun k => Ff2LnReferenceIdeal.Spec.result0 (m (c.tc.loc main_arg0)) (m (c.tc.loc main_arg1)) (m (c.tc.loc main_arg2)) (m (c.tc.loc main_arg3)) (m (c.tc.loc main_arg4)) (m (c.tc.loc main_arg5)) (m (c.tc.loc main_arg6)) (ix2 ⟨t.val * 512 + y0.val, by omega⟩ k)) = fun k => k0_pay2 (F := Ideal) (iblk m c 1 t) (iblk m c 3 t) (iblk m c 4 t) (iblk m c 0 t) (iblk m c 2 t) (ix2 y0 k) := funext fun k => (tile_sum m c t y0 k (by omega)).symm
  rw [es]
  refine (normal_at _ _ _ _ _ _ _ y0 y1).trans ?_
  refine congrArg₂ (· + ·) (congrArg (normal _ y1 * ·) ?_) ?_ <;> blk_point [iblk, V, placed t]

end Cert.Ff2LnIdeal.Val

namespace Cert.Proof.Ff2Ln

/-- The frame of the kernel. -/
theorem frameKernel : quiescent_Ff2Ln (hFf2Ln := Ff2Ln.Gen.facts) :=
  fun m ρ _ => Ff2Ln.Gen.frame m ρ

/-- The frame of its idealization. -/
theorem frameIdeal : quiescent_Ff2LnIdeal (hFf2LnIdeal := Ff2LnIdeal.Gen.facts) :=
  fun m ρ _ => Ff2LnIdeal.Gen.frame m ρ

/-- The frame of the reference. -/
theorem frameReference : quiescent_Ff2LnReferenceIdeal (hFf2LnReferenceIdeal := Ff2LnReferenceIdeal.Gen.facts) :=
  fun m ρ _ => (θ_run Ff2LnReferenceIdeal.defs _ _).mono
    (fun r h => ⟨fun c => (h c).2.2, sem_eq_zero_of_no_sems (by decide) r.2⟩)
    (Ff2LnReferenceIdeal.Value.run (F := Ideal) m ρ)

/-- The kernel computes the residual path, the product and the layer normalisation. -/
theorem algebraic : algebraic_Ff2LnIdeal_Ff2LnReferenceIdeal (hFf2LnIdeal := Ff2LnIdeal.Gen.facts)
    (hFf2LnReferenceIdeal := Ff2LnReferenceIdeal.Gen.facts) :=
  fun m ρ m' ρ' _ hag => ⟨_, _,
    (θ_run Ff2LnIdeal.defs _ _).mono (fun _ h c => ⟨(h c).1.trans (Ff2LnIdeal.Val.final0 m c), (h c).2.1.trans (Ff2LnIdeal.Val.final1 m c), (h c).2.2⟩)
      (Ff2LnIdeal.Value.run_blocks (F := Ideal) m ρ),
    (θ_run Ff2LnReferenceIdeal.defs _ _).mono (fun _ h c => ⟨(h c).1.trans (by rw [← (hag c).1, ← (hag c).2.1, ← (hag c).2.2.1, ← (hag c).2.2.2.1, ← (hag c).2.2.2.2.1, ← (hag c).2.2.2.2.2.1, ← (hag c).2.2.2.2.2.2]; rfl), (h c).2.1.trans (by rw [← (hag c).1, ← (hag c).2.1, ← (hag c).2.2.1, ← (hag c).2.2.2.1, ← (hag c).2.2.2.2.1, ← (hag c).2.2.2.2.2.1, ← (hag c).2.2.2.2.2.2]; rfl), (h c).2.2⟩)
      (Ff2LnReferenceIdeal.Value.run (F := Ideal) m' ρ')⟩

end Cert.Proof.Ff2Ln

end

end
-- ==== Proof.OutLn.lean ====
/-
  The mixer's output projection, added to the normalised stream, and the layer normalisation of the sum.
-/
module

public import proofs.«01_k».proof.Proof.Gen.OutLn.Frame
public import proofs.«01_k».proof.Proof.Gen.OutLnIdeal.Value
public import proofs.«01_k».proof.Proof.Gen.OutLnIdeal.Frame
public import proofs.«01_k».proof.Proof.Gen.OutLnReferenceIdeal.Run
public import proofs.«01_k».proof.Proof.Gen.OutLn
public import proofs.«01_k».proof.Proof.Gen.OutLnIdeal
public import proofs.«01_k».proof.Proof.Gen.OutLnReferenceIdeal
public import Idealize.ShloMosaic.Lib.Pointwise
public import Idealize.ShloMosaic.Lib.Pipeline.ValueKit
public import proofs.«01_k».proof.Defs
public import Idealize.ShloMosaic.Adequacy
public import Idealize.ShloMosaic.Init
public import proofs.«01_k».proof.Proof.LayerNormReference
public import proofs.«01_k».proof.Proof.Stretches

@[expose] public section

set_option maxRecDepth 16384

noncomputable section

open Idealize.ShloMosaic Idealize.ShloMosaic.TcCoe Idealize.SL.Sem
open Idealize.ShloMosaic.Pipeline (Dat)

namespace Cert.OutLnReferenceIdeal.Spec

open Cert.OutLnReferenceIdeal Cert.OutLnReferenceIdeal.Gen RowNorm.Reference

/-- The normalised rows, times the gain, plus the bias. -/
def normed (z : FVec Ideal S8192x1024 .f32) (g b : FVec Ideal S1x1024 .f32) : FVec Ideal S8192x1024 .f32 :=
  addf (mulf (mulf (cent z) (scls z)) (broadcastInDim S8192x1024 ![0, 1] bcast_S1x1024_S8192x1024_0_1 (broadcastInDim S1x1024 ![1] bcast_S1024_S1x1024_1 (shapeCast _ g shapeCasts_S1x1024_S1024)))) (broadcastInDim S8192x1024 ![0, 1] bcast_S1x1024_S8192x1024_0_1 (broadcastInDim S1x1024 ![1] bcast_S1024_S1x1024_1 (shapeCast _ b shapeCasts_S1x1024_S1024)))
/-- The stream after the mixer: the residual path plus the product. -/
def result0 (x0 : FVec Ideal S8192x384 .bf16) (x1 : FVec Ideal S8192x256 .bf16) (x2 : FVec Ideal S8192x384 .bf16) (w : FVec Ideal S1024x1024 .bf16) (s : FVec Ideal S8192x1024 .f32) (sg : FVec Ideal S1x1024 .f32) (sb : FVec Ideal S1x1024 .f32) (g : FVec Ideal S1x1024 .f32) (b : FVec Ideal S1x1024 .f32) : FVec Ideal S8192x1024 .f32 :=
  addf (mulf (broadcastInDim S8192x1024 ![] bcast_S_S8192x1024 (constant (F := Ideal) S_ .f32 0x3FD744FD#32)) (normed s sg sb)) (Host.dotGeneral (F := Ideal) (φ₁ := .f32) dot_S8192x1024_S1024x1024_S8192x1024_1_0_0_1_n_n none (extf .f32 (concatenate S8192x1024 1 [⟨S8192x384, (x0 : (⟨S8192x384, .bf16⟩ : BufTy).Contents (Elt Ideal))⟩, ⟨S8192x256, (x1 : (⟨S8192x256, .bf16⟩ : BufTy).Contents (Elt Ideal))⟩, ⟨S8192x384, (x2 : (⟨S8192x384, .bf16⟩ : BufTy).Contents (Elt Ideal))⟩] concatenates_S8192x384_S8192x256_S8192x384_S8192x1024_d1 : (⟨S8192x1024, .bf16⟩ : BufTy).Contents (Elt Ideal)) bitsLt_bf16_f32) (extf .f32 w bitsLt_bf16_f32))
/-- Its layer normalisation, cast. -/
def result1 (x0 : FVec Ideal S8192x384 .bf16) (x1 : FVec Ideal S8192x256 .bf16) (x2 : FVec Ideal S8192x384 .bf16) (w : FVec Ideal S1024x1024 .bf16) (s : FVec Ideal S8192x1024 .f32) (sg : FVec Ideal S1x1024 .f32) (sb : FVec Ideal S1x1024 .f32) (g : FVec Ideal S1x1024 .f32) (b : FVec Ideal S1x1024 .f32) : FVec Ideal S8192x1024 .bf16 := truncf .bf16 (normed (result0 x0 x1 x2 w s sg sb g b) g b) bitsLt_bf16_f32

/-- An entry of the normalised rows. -/
theorem normed_at (z : FVec Ideal S8192x1024 .f32) (g b : FVec Ideal S1x1024 .f32) (i : Fin 8192) (j : Fin 1024) :
    normed z g b (ix2 i j) = RowNorm.normal (fun k => z (ix2 i k)) j * g (ix2 0 j) + b (ix2 0 j) := by
  pointwise [normed, cent_at, scls_at]
  rfl

/-- The first result at a row and a column. -/
theorem result0_at (x0 : FVec Ideal S8192x384 .bf16) (x1 : FVec Ideal S8192x256 .bf16) (x2 : FVec Ideal S8192x384 .bf16) (w : FVec Ideal S1024x1024 .bf16) (s : FVec Ideal S8192x1024 .f32) (sg : FVec Ideal S1x1024 .f32) (sb : FVec Ideal S1x1024 .f32) (g : FVec Ideal S1x1024 .f32) (b : FVec Ideal S1x1024 .f32) (i : Fin 8192) (j : Fin 1024) :
    result0 x0 x1 x2 w s sg sb g b (ix2 i j) = Ideal.ofBits .f32 0x3FD744FD#32 * (RowNorm.normal (fun k => s (ix2 i k)) j * sg (ix2 0 j) + sb (ix2 0 j)) + ∑ k : Fin 1024, Stretches.three (fun l => x0 (ix2 i l)) (fun l => x1 (ix2 i l)) (fun l => x2 (ix2 i l)) k * w (ix2 k j) := by
  unfold Stretches.three
  pointwise [result0, normed_at]

/-- The second result at a row and a column. -/
theorem result1_at (x0 : FVec Ideal S8192x384 .bf16) (x1 : FVec Ideal S8192x256 .bf16) (x2 : FVec Ideal S8192x384 .bf16) (w : FVec Ideal S1024x1024 .bf16) (s : FVec Ideal S8192x1024 .f32) (sg : FVec Ideal S1x1024 .f32) (sb : FVec Ideal S1x1024 .f32) (g : FVec Ideal S1x1024 .f32) (b : FVec Ideal S1x1024 .f32) (i : Fin 8192) (j : Fin 1024) :
    result1 x0 x1 x2 w s sg sb g b (ix2 i j) = RowNorm.normal (fun k => result0 x0 x1 x2 w s sg sb g b (ix2 i k)) j * g (ix2 0 j) + b (ix2 0 j) := by
  pointwise [result1, normed_at]

end Cert.OutLnReferenceIdeal.Spec

namespace Cert.OutLnIdeal.Val

open Cert.OutLnIdeal Cert.OutLnIdeal.Gen

variable (m : (ℓ : Loc nD τ sig) → Buf (Elt Ideal) ℓ)

open RowNorm

/-- Where the windows' blocks lie at point `t`. -/
theorem placed : ∀ t : Fin cfg0.N, win0_0.index t = ![t.val, 0] ∧ win0_1.index t = ![t.val, 0] ∧ win0_2.index t = ![t.val, 0] ∧ win0_3.index t = ![t.val, 0] ∧ win0_4.index t = ![0, 0] ∧ win0_5.index t = ![0, 0] ∧ win0_6.index t = ![0, 0] ∧ win0_7.index t = ![0, 0] ∧ win0_8.index t = ![0, 0] ∧ win0_9.index t = ![t.val, 0] ∧ win0_10.index t = ![t.val, 0] :=
  (by decide +kernel : ∀ t : Fin grid0.N, _)

/-- An entry of the tile's normalised sum. -/
theorem normal_at (p : FVec Ideal S1024x1024 .f32) (x : Vec Ideal S1024x384 .bf16) (w : Vec Ideal S384x1024 .bf16) (g b : Vec Ideal S1x1024 .f32) (i : Fin 1024) (j : Fin 1024) :
    k0_pay2 (F := Ideal) p x w g b (ix2 i j) = normal (fun k => k0_pay1 (F := Ideal) p x w (ix2 i k)) j * g (ix2 0 j) + b (ix2 0 j) := by
  pointwise [k0_pay2]
  rfl

/-- An entry of the residual path and the first two products. -/
theorem part_at (z : Vec Ideal S1024x1024 .f32) (g b : Vec Ideal S1x1024 .f32) (x : Vec Ideal S1024x384 .bf16) (w : Vec Ideal S384x1024 .bf16) (x' : Vec Ideal S1024x256 .bf16) (w' : Vec Ideal S256x1024 .bf16) (i : Fin 1024) (j : Fin 1024) :
    k0_pay3 (F := Ideal) z g b x w x' w' (ix2 i j) = Ideal.ofBits .f32 0x3FD744FD#32 * (normal (fun k => z (ix2 i k)) j * g (ix2 0 j) + b (ix2 0 j)) + (∑ k : Fin 384, x (ix2 i k) * w (ix2 k j)) + ∑ k : Fin 256, x' (ix2 i k) * w' (ix2 k j) := by
  pointwise [k0_pay3]
  rfl

/-- A tile of the sum is its rows of the whole sum. -/
theorem tile_sum (c : Dev nD) (t : Fin cfg0.N) (i : Fin 1024) (j : Fin 1024) (h : t.val * 1024 + i.val < 8192) :
    k0_pay1 (F := Ideal) (k0_pay3 (F := Ideal) (iblk m c 3 t) (iblk m c 5 t) (iblk m c 6 t) (iblk m c 0 t) (View.ld (Val := Elt Ideal) (iblk m c 4 t) (Rect.unit (s := S1024x1024) ![0, 0] ![384, 1024] inb_S1024x1024_S384x1024_0_0)) (iblk m c 1 t) (View.ld (Val := Elt Ideal) (iblk m c 4 t) (Rect.unit (s := S1024x1024) ![384, 0] ![256, 1024] inb_S1024x1024_S256x1024_384_0))) (iblk m c 2 t) (View.ld (Val := Elt Ideal) (iblk m c 4 t) (Rect.unit (s := S1024x1024) ![640, 0] ![384, 1024] inb_S1024x1024_S384x1024_640_0)) (ix2 i j)
      = OutLnReferenceIdeal.Spec.result0 (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (ix2 ⟨t.val * 1024 + i.val, h⟩ j) := by
  rw [OutLnReferenceIdeal.Spec.result0_at, Stretches.three_dot]
  pointwise [k0_pay1, part_at]
  simp only [add_assoc]
  blk_point [iblk, V, placed t]

/-- Result array 0: every grid point writes its rows. -/
theorem final0 (c : Dev nD) : (dats m 0 c).arrAt 9 cfg0.N
    = OutLnReferenceIdeal.Spec.result0 (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) := by
  refine (dats m 0 c).arrAt_eq_of_covers 9 _ (by decide +kernel) fun t _ y => ?_
  blk_simp
  rw [after0_9]
  unfold_out out0_9
  frame_out
  idx_vars y
  have ht : t.val < 8 := lt_of_lt_of_eq t.isLt N_0
  have e : (((View.whole main_v0_0).slice (win0_9.rect t)).emb (ix2 y0 y1) : S8192x1024.Idx)
      = ix2 ⟨t.val * 1024 + y0, by omega⟩ y1 := by blk_ext [placed t]
  rw [e]
  rw [← tile_sum m c t y0 y1]
  rfl

/-- Result array 1: every grid point writes its rows. -/
theorem final1 (c : Dev nD) : (dats m 0 c).arrAt 10 cfg0.N
    = OutLnReferenceIdeal.Spec.result1 (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) := by
  refine (dats m 0 c).arrAt_eq_of_covers 10 _ (by decide +kernel) fun t _ y => ?_
  blk_simp
  rw [after0_10]
  unfold_out out0_10
  frame_out
  idx_vars y
  have ht : t.val < 8 := lt_of_lt_of_eq t.isLt N_0
  have e : (((View.whole main_v0_1).slice (win0_10.rect t)).emb (ix2 y0 y1) : S8192x1024.Idx)
      = ix2 ⟨t.val * 1024 + y0, by omega⟩ y1 := by blk_ext [placed t]
  rw [e]
  rw [OutLnReferenceIdeal.Spec.result1_at]
  have es : (fun k => OutLnReferenceIdeal.Spec.result0 (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (ix2 ⟨t.val * 1024 + y0.val, by omega⟩ k)) = fun k => k0_pay1 (F := Ideal) (k0_pay3 (F := Ideal) (iblk m c 3 t) (iblk m c 5 t) (iblk m c 6 t) (iblk m c 0 t) (View.ld (Val := Elt Ideal) (iblk m c 4 t) (Rect.unit (s := S1024x1024) ![0, 0] ![384, 1024] inb_S1024x1024_S384x1024_0_0)) (iblk m c 1 t) (View.ld (Val := Elt Ideal) (iblk m c 4 t) (Rect.unit (s := S1024x1024) ![384, 0] ![256, 1024] inb_S1024x1024_S256x1024_384_0))) (iblk m c 2 t) (View.ld (Val := Elt Ideal) (iblk m c 4 t) (Rect.unit (s := S1024x1024) ![640, 0] ![384, 1024] inb_S1024x1024_S384x1024_640_0)) (ix2 y0 k) := funext fun k => (tile_sum m c t y0 k (by omega)).symm
  rw [es]
  refine (normal_at _ _ _ _ _ y0 y1).trans ?_
  refine congrArg₂ (· + ·) (congrArg (normal _ y1 * ·) ?_) ?_ <;> blk_point [iblk, V, placed t]

end Cert.OutLnIdeal.Val

namespace Cert.Proof.OutLn

/-- The frame of the kernel. -/
theorem frameKernel : quiescent_OutLn (hOutLn := OutLn.Gen.facts) :=
  fun m ρ _ => OutLn.Gen.frame m ρ

/-- The frame of its idealization. -/
theorem frameIdeal : quiescent_OutLnIdeal (hOutLnIdeal := OutLnIdeal.Gen.facts) :=
  fun m ρ _ => OutLnIdeal.Gen.frame m ρ

/-- The frame of the reference. -/
theorem frameReference : quiescent_OutLnReferenceIdeal (hOutLnReferenceIdeal := OutLnReferenceIdeal.Gen.facts) :=
  fun m ρ _ => (θ_run OutLnReferenceIdeal.defs _ _).mono
    (fun r h => ⟨fun c => (h c).2.2, sem_eq_zero_of_no_sems (by decide) r.2⟩)
    (OutLnReferenceIdeal.Value.run (F := Ideal) m ρ)

/-- The kernel computes the residual path, the product and the layer normalisation. -/
theorem algebraic : algebraic_OutLnIdeal_OutLnReferenceIdeal (hOutLnIdeal := OutLnIdeal.Gen.facts)
    (hOutLnReferenceIdeal := OutLnReferenceIdeal.Gen.facts) :=
  fun m ρ m' ρ' _ hag => ⟨_, _,
    (θ_run OutLnIdeal.defs _ _).mono (fun _ h c => ⟨(h c).1.trans (OutLnIdeal.Val.final0 m c), (h c).2.1.trans (OutLnIdeal.Val.final1 m c), (h c).2.2⟩)
      (OutLnIdeal.Value.run_blocks (F := Ideal) m ρ),
    (θ_run OutLnReferenceIdeal.defs _ _).mono (fun _ h c => ⟨(h c).1.trans (by rw [← (hag c).1, ← (hag c).2.1, ← (hag c).2.2.1, ← (hag c).2.2.2.1, ← (hag c).2.2.2.2.1, ← (hag c).2.2.2.2.2.1, ← (hag c).2.2.2.2.2.2.1, ← (hag c).2.2.2.2.2.2.2.1, ← (hag c).2.2.2.2.2.2.2.2]; rfl), (h c).2.1.trans (by rw [← (hag c).1, ← (hag c).2.1, ← (hag c).2.2.1, ← (hag c).2.2.2.1, ← (hag c).2.2.2.2.1, ← (hag c).2.2.2.2.2.1, ← (hag c).2.2.2.2.2.2.1, ← (hag c).2.2.2.2.2.2.2.1, ← (hag c).2.2.2.2.2.2.2.2]; rfl), (h c).2.2⟩)
      (OutLnReferenceIdeal.Value.run (F := Ideal) m' ρ')⟩

end Cert.Proof.OutLn

end

end
-- ==== Proof.OutLn0.lean ====
/-
  The first layer's mixer output projection, added to the step's input, and the layer normalisation of the sum.
-/
module

public import proofs.«01_k».proof.Proof.Gen.OutLn0.Frame
public import proofs.«01_k».proof.Proof.Gen.OutLn0Ideal.Value
public import proofs.«01_k».proof.Proof.Gen.OutLn0Ideal.Frame
public import proofs.«01_k».proof.Proof.Gen.OutLn0ReferenceIdeal.Run
public import proofs.«01_k».proof.Proof.Gen.OutLn0
public import proofs.«01_k».proof.Proof.Gen.OutLn0Ideal
public import proofs.«01_k».proof.Proof.Gen.OutLn0ReferenceIdeal
public import Idealize.ShloMosaic.Lib.Pointwise
public import Idealize.ShloMosaic.Lib.Pipeline.ValueKit
public import proofs.«01_k».proof.Defs
public import Idealize.ShloMosaic.Adequacy
public import Idealize.ShloMosaic.Init
public import proofs.«01_k».proof.Proof.LayerNormReference
public import proofs.«01_k».proof.Proof.Stretches

@[expose] public section

set_option maxRecDepth 16384

noncomputable section

open Idealize.ShloMosaic Idealize.ShloMosaic.TcCoe Idealize.SL.Sem
open Idealize.ShloMosaic.Pipeline (Dat)

namespace Cert.OutLn0ReferenceIdeal.Spec

open Cert.OutLn0ReferenceIdeal Cert.OutLn0ReferenceIdeal.Gen RowNorm.Reference

/-- The normalised rows, times the gain, plus the bias. -/
def normed (z : FVec Ideal S8192x1024 .f32) (g b : FVec Ideal S1x1024 .f32) : FVec Ideal S8192x1024 .f32 :=
  addf (mulf (mulf (cent z) (scls z)) (broadcastInDim S8192x1024 ![0, 1] bcast_S1x1024_S8192x1024_0_1 (broadcastInDim S1x1024 ![1] bcast_S1024_S1x1024_1 (shapeCast _ g shapeCasts_S1x1024_S1024)))) (broadcastInDim S8192x1024 ![0, 1] bcast_S1x1024_S8192x1024_0_1 (broadcastInDim S1x1024 ![1] bcast_S1024_S1x1024_1 (shapeCast _ b shapeCasts_S1x1024_S1024)))
/-- The stream after the mixer: the residual path plus the product. -/
def result0 (x0 : FVec Ideal S8192x384 .bf16) (x1 : FVec Ideal S8192x256 .bf16) (x2 : FVec Ideal S8192x384 .bf16) (w : FVec Ideal S1024x1024 .bf16) (s : FVec Ideal S8192x1024 .f32) (g : FVec Ideal S1x1024 .f32) (b : FVec Ideal S1x1024 .f32) : FVec Ideal S8192x1024 .f32 :=
  addf (mulf (broadcastInDim S8192x1024 ![] bcast_S_S8192x1024 (constant (F := Ideal) S_ .f32 0x3FD744FD#32)) s) (Host.dotGeneral (F := Ideal) (φ₁ := .f32) dot_S8192x1024_S1024x1024_S8192x1024_1_0_0_1_n_n none (extf .f32 (concatenate S8192x1024 1 [⟨S8192x384, (x0 : (⟨S8192x384, .bf16⟩ : BufTy).Contents (Elt Ideal))⟩, ⟨S8192x256, (x1 : (⟨S8192x256, .bf16⟩ : BufTy).Contents (Elt Ideal))⟩, ⟨S8192x384, (x2 : (⟨S8192x384, .bf16⟩ : BufTy).Contents (Elt Ideal))⟩] concatenates_S8192x384_S8192x256_S8192x384_S8192x1024_d1 : (⟨S8192x1024, .bf16⟩ : BufTy).Contents (Elt Ideal)) bitsLt_bf16_f32) (extf .f32 w bitsLt_bf16_f32))
/-- Its layer normalisation, cast. -/
def result1 (x0 : FVec Ideal S8192x384 .bf16) (x1 : FVec Ideal S8192x256 .bf16) (x2 : FVec Ideal S8192x384 .bf16) (w : FVec Ideal S1024x1024 .bf16) (s : FVec Ideal S8192x1024 .f32) (g : FVec Ideal S1x1024 .f32) (b : FVec Ideal S1x1024 .f32) : FVec Ideal S8192x1024 .bf16 := truncf .bf16 (normed (result0 x0 x1 x2 w s g b) g b) bitsLt_bf16_f32

/-- An entry of the normalised rows. -/
theorem normed_at (z : FVec Ideal S8192x1024 .f32) (g b : FVec Ideal S1x1024 .f32) (i : Fin 8192) (j : Fin 1024) :
    normed z g b (ix2 i j) = RowNorm.normal (fun k => z (ix2 i k)) j * g (ix2 0 j) + b (ix2 0 j) := by
  pointwise [normed, cent_at, scls_at]
  rfl

/-- The first result at a row and a column. -/
theorem result0_at (x0 : FVec Ideal S8192x384 .bf16) (x1 : FVec Ideal S8192x256 .bf16) (x2 : FVec Ideal S8192x384 .bf16) (w : FVec Ideal S1024x1024 .bf16) (s : FVec Ideal S8192x1024 .f32) (g : FVec Ideal S1x1024 .f32) (b : FVec Ideal S1x1024 .f32) (i : Fin 8192) (j : Fin 1024) :
    result0 x0 x1 x2 w s g b (ix2 i j) = Ideal.ofBits .f32 0x3FD744FD#32 * s (ix2 i j) + ∑ k : Fin 1024, Stretches.three (fun l => x0 (ix2 i l)) (fun l => x1 (ix2 i l)) (fun l => x2 (ix2 i l)) k * w (ix2 k j) := by
  unfold Stretches.three
  pointwise [result0]

/-- The second result at a row and a column. -/
theorem result1_at (x0 : FVec Ideal S8192x384 .bf16) (x1 : FVec Ideal S8192x256 .bf16) (x2 : FVec Ideal S8192x384 .bf16) (w : FVec Ideal S1024x1024 .bf16) (s : FVec Ideal S8192x1024 .f32) (g : FVec Ideal S1x1024 .f32) (b : FVec Ideal S1x1024 .f32) (i : Fin 8192) (j : Fin 1024) :
    result1 x0 x1 x2 w s g b (ix2 i j) = RowNorm.normal (fun k => result0 x0 x1 x2 w s g b (ix2 i k)) j * g (ix2 0 j) + b (ix2 0 j) := by
  pointwise [result1, normed_at]

end Cert.OutLn0ReferenceIdeal.Spec

namespace Cert.OutLn0Ideal.Val

open Cert.OutLn0Ideal Cert.OutLn0Ideal.Gen

variable (m : (ℓ : Loc nD τ sig) → Buf (Elt Ideal) ℓ)

open RowNorm

/-- Where the windows' blocks lie at point `t`. -/
theorem placed : ∀ t : Fin cfg0.N, win0_0.index t = ![t.val, 0] ∧ win0_1.index t = ![t.val, 0] ∧ win0_2.index t = ![t.val, 0] ∧ win0_3.index t = ![t.val, 0] ∧ win0_4.index t = ![0, 0] ∧ win0_5.index t = ![0, 0] ∧ win0_6.index t = ![0, 0] ∧ win0_7.index t = ![t.val, 0] ∧ win0_8.index t = ![t.val, 0] :=
  (by decide +kernel : ∀ t : Fin grid0.N, _)

/-- An entry of the tile's normalised sum. -/
theorem normal_at (z : Vec Ideal S1024x1024 .f32) (x : Vec Ideal S1024x384 .bf16) (w : Vec Ideal S384x1024 .bf16) (x1 : Vec Ideal S1024x256 .bf16) (w1 : Vec Ideal S256x1024 .bf16) (x2 : Vec Ideal S1024x384 .bf16) (w2 : Vec Ideal S384x1024 .bf16) (g b : Vec Ideal S1x1024 .f32) (i : Fin 1024) (j : Fin 1024) :
    k0_pay1 (F := Ideal) (k0_pay3 (F := Ideal) z x w x1 w1 x2 w2) g b (ix2 i j) = normal (fun k => k0_pay2 (F := Ideal) z x w x1 w1 x2 w2 (ix2 i k)) j * g (ix2 0 j) + b (ix2 0 j) := by
  pointwise [k0_pay1, k0_pay3]
  rfl

/-- A tile of the sum is its rows of the whole sum. -/
theorem tile_sum (c : Dev nD) (t : Fin cfg0.N) (i : Fin 1024) (j : Fin 1024) (h : t.val * 1024 + i.val < 8192) :
    k0_pay2 (F := Ideal) (iblk m c 3 t) (iblk m c 0 t) (View.ld (Val := Elt Ideal) (iblk m c 4 t) (Rect.unit (s := S1024x1024) ![0, 0] ![384, 1024] inb_S1024x1024_S384x1024_0_0)) (iblk m c 1 t) (View.ld (Val := Elt Ideal) (iblk m c 4 t) (Rect.unit (s := S1024x1024) ![384, 0] ![256, 1024] inb_S1024x1024_S256x1024_384_0)) (iblk m c 2 t) (View.ld (Val := Elt Ideal) (iblk m c 4 t) (Rect.unit (s := S1024x1024) ![640, 0] ![384, 1024] inb_S1024x1024_S384x1024_640_0)) (ix2 i j)
      = OutLn0ReferenceIdeal.Spec.result0 (m (c.tc.loc main_arg0)) (m (c.tc.loc main_arg1)) (m (c.tc.loc main_arg2)) (m (c.tc.loc main_arg3)) (m (c.tc.loc main_arg4)) (m (c.tc.loc main_arg5)) (m (c.tc.loc main_arg6)) (ix2 ⟨t.val * 1024 + i.val, h⟩ j) := by
  rw [OutLn0ReferenceIdeal.Spec.result0_at, Stretches.three_dot]
  pointwise [k0_pay2]
  simp only [add_assoc]
  blk_point [iblk, V, placed t]

/-- Result array 0: every grid point writes its rows. -/
theorem final0 (c : Dev nD) : (dats m 0 c).arrAt 7 cfg0.N
    = OutLn0ReferenceIdeal.Spec.result0 (m (c.tc.loc main_arg0)) (m (c.tc.loc main_arg1)) (m (c.tc.loc main_arg2)) (m (c.tc.loc main_arg3)) (m (c.tc.loc main_arg4)) (m (c.tc.loc main_arg5)) (m (c.tc.loc main_arg6)) := by
  refine (dats m 0 c).arrAt_eq_of_covers 7 _ (by decide +kernel) fun t _ y => ?_
  blk_simp
  rw [after0_7]
  frame_out
  idx_vars y
  have ht : t.val < 8 := lt_of_lt_of_eq t.isLt N_0
  have e : (((View.whole main_v0_0).slice (win0_7.rect t)).emb (ix2 y0 y1) : S8192x1024.Idx)
      = ix2 ⟨t.val * 1024 + y0, by omega⟩ y1 := by blk_ext [placed t]
  rw [e]
  rw [← tile_sum m c t y0 y1]
  rfl

/-- Result array 1: every grid point writes its rows. -/
theorem final1 (c : Dev nD) : (dats m 0 c).arrAt 8 cfg0.N
    = OutLn0ReferenceIdeal.Spec.result1 (m (c.tc.loc main_arg0)) (m (c.tc.loc main_arg1)) (m (c.tc.loc main_arg2)) (m (c.tc.loc main_arg3)) (m (c.tc.loc main_arg4)) (m (c.tc.loc main_arg5)) (m (c.tc.loc main_arg6)) := by
  refine (dats m 0 c).arrAt_eq_of_covers 8 _ (by decide +kernel) fun t _ y => ?_
  blk_simp
  rw [after0_8]
  frame_out
  idx_vars y
  have ht : t.val < 8 := lt_of_lt_of_eq t.isLt N_0
  have e : (((View.whole main_v0_1).slice (win0_8.rect t)).emb (ix2 y0 y1) : S8192x1024.Idx)
      = ix2 ⟨t.val * 1024 + y0, by omega⟩ y1 := by blk_ext [placed t]
  rw [e]
  rw [OutLn0ReferenceIdeal.Spec.result1_at]
  have es : (fun k => OutLn0ReferenceIdeal.Spec.result0 (m (c.tc.loc main_arg0)) (m (c.tc.loc main_arg1)) (m (c.tc.loc main_arg2)) (m (c.tc.loc main_arg3)) (m (c.tc.loc main_arg4)) (m (c.tc.loc main_arg5)) (m (c.tc.loc main_arg6)) (ix2 ⟨t.val * 1024 + y0.val, by omega⟩ k)) = fun k => k0_pay2 (F := Ideal) (iblk m c 3 t) (iblk m c 0 t) (View.ld (Val := Elt Ideal) (iblk m c 4 t) (Rect.unit (s := S1024x1024) ![0, 0] ![384, 1024] inb_S1024x1024_S384x1024_0_0)) (iblk m c 1 t) (View.ld (Val := Elt Ideal) (iblk m c 4 t) (Rect.unit (s := S1024x1024) ![384, 0] ![256, 1024] inb_S1024x1024_S256x1024_384_0)) (iblk m c 2 t) (View.ld (Val := Elt Ideal) (iblk m c 4 t) (Rect.unit (s := S1024x1024) ![640, 0] ![384, 1024] inb_S1024x1024_S384x1024_640_0)) (ix2 y0 k) := funext fun k => (tile_sum m c t y0 k (by omega)).symm
  rw [es]
  refine (normal_at _ _ _ _ _ _ _ _ _ y0 y1).trans ?_
  refine congrArg₂ (· + ·) (congrArg (normal _ y1 * ·) ?_) ?_ <;> blk_point [iblk, V, placed t]

end Cert.OutLn0Ideal.Val

namespace Cert.Proof.OutLn0

/-- The frame of the kernel. -/
theorem frameKernel : quiescent_OutLn0 (hOutLn0 := OutLn0.Gen.facts) :=
  fun m ρ _ => OutLn0.Gen.frame m ρ

/-- The frame of its idealization. -/
theorem frameIdeal : quiescent_OutLn0Ideal (hOutLn0Ideal := OutLn0Ideal.Gen.facts) :=
  fun m ρ _ => OutLn0Ideal.Gen.frame m ρ

/-- The frame of the reference. -/
theorem frameReference : quiescent_OutLn0ReferenceIdeal (hOutLn0ReferenceIdeal := OutLn0ReferenceIdeal.Gen.facts) :=
  fun m ρ _ => (θ_run OutLn0ReferenceIdeal.defs _ _).mono
    (fun r h => ⟨fun c => (h c).2.2, sem_eq_zero_of_no_sems (by decide) r.2⟩)
    (OutLn0ReferenceIdeal.Value.run (F := Ideal) m ρ)

/-- The kernel computes the residual path, the product and the layer normalisation. -/
theorem algebraic : algebraic_OutLn0Ideal_OutLn0ReferenceIdeal (hOutLn0Ideal := OutLn0Ideal.Gen.facts)
    (hOutLn0ReferenceIdeal := OutLn0ReferenceIdeal.Gen.facts) :=
  fun m ρ m' ρ' _ hag => ⟨_, _,
    (θ_run OutLn0Ideal.defs _ _).mono (fun _ h c => ⟨(h c).1.trans (OutLn0Ideal.Val.final0 m c), (h c).2.1.trans (OutLn0Ideal.Val.final1 m c), (h c).2.2⟩)
      (OutLn0Ideal.Value.run_blocks (F := Ideal) m ρ),
    (θ_run OutLn0ReferenceIdeal.defs _ _).mono (fun _ h c => ⟨(h c).1.trans (by rw [← (hag c).1, ← (hag c).2.1, ← (hag c).2.2.1, ← (hag c).2.2.2.1, ← (hag c).2.2.2.2.1, ← (hag c).2.2.2.2.2.1, ← (hag c).2.2.2.2.2.2]; rfl), (h c).2.1.trans (by rw [← (hag c).1, ← (hag c).2.1, ← (hag c).2.2.1, ← (hag c).2.2.2.1, ← (hag c).2.2.2.2.1, ← (hag c).2.2.2.2.2.1, ← (hag c).2.2.2.2.2.2]; rfl), (h c).2.2⟩)
      (OutLn0ReferenceIdeal.Value.run (F := Ideal) m' ρ')⟩

end Cert.Proof.OutLn0

end

end
-- ==== Proof.AttFwd.lean ====
/-
  The cross-attention: the values weighted by the softmax of the scaled scores, head by head.
-/
module

public import proofs.«01_k».proof.Proof.Gen.AttFwd.Frame
public import proofs.«01_k».proof.Proof.Gen.AttFwdIdeal.Value
public import proofs.«01_k».proof.Proof.Gen.AttFwdIdeal.Frame
public import proofs.«01_k».proof.Proof.Gen.AttFwdReferenceIdeal.Run
public import proofs.«01_k».proof.Proof.Gen.AttFwd
public import proofs.«01_k».proof.Proof.Gen.AttFwdIdeal
public import proofs.«01_k».proof.Proof.Gen.AttFwdReferenceIdeal
public import Idealize.ShloMosaic.Lib.Pointwise
public import Idealize.ShloMosaic.Lib.Pipeline.ValueKit
public import proofs.«01_k».proof.Defs
public import Idealize.ShloMosaic.Adequacy
public import Idealize.ShloMosaic.Init
public import proofs.«01_k».proof.Proof.AttentionSpec

@[expose] public section

set_option maxRecDepth 16384

noncomputable section

open Idealize.ShloMosaic Idealize.ShloMosaic.TcCoe Idealize.SL.Sem
open Idealize.ShloMosaic.Pipeline (Dat)

namespace Cert.AttFwdReferenceIdeal.Spec

open Cert.AttFwdReferenceIdeal Cert.AttFwdReferenceIdeal.Gen Cert.ReferenceIdeal.Attention RowSoftmax

/-- The weighted values, heads side by side. -/
def result0 (q : FVec Ideal S8192x1024 .bf16) (kv : FVec Ideal S1024x2048 .bf16) : FVec Ideal S8192x1024 .bf16 :=
  shapeCast _ (truncf .bf16 (transpose S4x2048x4x256 [0, 3, 1, 2]
    (Host.dotGeneral (F := Ideal) (φ₁ := .f32) dot_S4x256x4x256_S4x4x2048x256_S4x4x256x2048_1_3_3_2_02_01 none (values kv) (weights (scores q kv)))
    transposes_S4x4x256x2048_S4x2048x4x256_0_3_1_2) bitsLt_bf16_f32) shapeCasts_S4x2048x4x256_S8192x1024

/-- The reference at batch `b`, position `i`, head `h`. -/
theorem result0_at (q : FVec Ideal S8192x1024 .bf16) (kv : FVec Ideal S1024x2048 .bf16) (b h : Fin 4) (i : Fin 2048) (x : Fin 256) :
    result0 q kv (ix2 ⟨b * 2048 + i, by omega⟩ ⟨h * 256 + x, by omega⟩)
      = ∑ j : Fin 256, weight (rowScores q kv b h i) j * values kv (ix4 b j h x) := by
  pointwise [result0]
  refine Finset.sum_congr rfl fun j _ => ?_
  rw [mul_comm, weights_at]
  simp only [scores_at]

end Cert.AttFwdReferenceIdeal.Spec

namespace Cert.AttFwdIdeal.Val

open Cert.AttFwdIdeal Cert.AttFwdIdeal.Gen RowSoftmax

variable (m : (ℓ : Loc nD τ sig) → Buf (Elt Ideal) ℓ)

/-- Where the windows' blocks lie at point `t`: batch `t / 4`, head `t % 4`. -/
theorem placed : ∀ t : Fin cfg0.N, (win0_0.index t = ![t.val / 4, t.val % 4] ∧ win0_1.index t = ![t.val / 4, t.val % 4]
    ∧ win0_2.index t = ![t.val / 4, 4 + t.val % 4] ∧ win0_3.index t = ![t.val / 4, t.val % 4]) ∧ t.val / 4 < 4 :=
  (by decide +kernel : ∀ t : Fin grid0.N, _)

/-- The scores of row `r` of a block of queries against a block of keys. -/
abbrev tileScores (k : FVec Ideal S256x256 .bf16) (q : FVec Ideal S2048x256 .bf16) (r : Fin 2048) : Fin 256 → EReal :=
  score (fun x => q (ix2 r x)) (fun j x => k (ix2 j x))

/-- What a point stores: the values weighted by the softmax of the row's scores. -/
theorem weighted_at (k v : FVec Ideal S256x256 .bf16) (q : FVec Ideal S2048x256 .bf16) (r : Fin 2048) (l : Fin 256) :
    k0_pay1 (F := Ideal) k v q (ix2 r l) = ∑ j : Fin 256, weight (tileScores k q r) j * v (ix2 j l) := by
  pointwise [k0_pay1]
  rfl

/-- The batch of point `t`. -/
abbrev batch (t : Fin cfg0.N) : Fin 4 := ⟨t.val / 4, (placed t).2⟩
/-- The head of point `t`. -/
abbrev head (t : Fin cfg0.N) : Fin 4 := ⟨t.val % 4, Nat.mod_lt _ (by norm_num)⟩

/-- The result array: every point writes its batch and head. -/
theorem final0 (c : Dev nD) : (dats m 0 c).arrAt 3 cfg0.N
    = AttFwdReferenceIdeal.Spec.result0 (m (c.tc.loc main_arg0)) (m (c.tc.loc main_arg1)) := by
  refine (dats m 0 c).arrAt_eq_of_covers 3 _ (by decide +kernel) fun t _ y => ?_
  blk_simp
  rw [after0_3]
  frame_out
  idx_vars y
  have e : (((View.whole main_v0).slice (win0_3.rect t)).emb (ix2 y0 y1) : S8192x1024.Idx)
      = ix2 ⟨batch t * 2048 + y0, by have := (batch t).isLt; omega⟩ ⟨head t * 256 + y1, by have := (head t).isLt; omega⟩ := by
    blk_ext [placed t]
  rw [e, AttFwdReferenceIdeal.Spec.result0_at, weighted_at]
  refine Finset.sum_congr (M := EReal) rfl fun j _ => congrArg₂ (· * ·) (congrArg (weight · j) (congrArg₂ score (funext fun x => ?_) (funext fun l => funext fun x => ?_))) ?_
  · rw [ReferenceIdeal.Attention.queries_at]
    blk_ext [iblk, V, placed t]
  · rw [ReferenceIdeal.Attention.keys_at]
    blk_ext [iblk, V, placed t]
  · rw [ReferenceIdeal.Attention.values_at]
    blk_ext [iblk, V, placed t]

end Cert.AttFwdIdeal.Val

namespace Cert.Proof.AttFwd

/-- The frame of the kernel. -/
theorem frameKernel : quiescent_AttFwd (hAttFwd := AttFwd.Gen.facts) :=
  fun m ρ _ => AttFwd.Gen.frame m ρ

/-- The frame of its idealization. -/
theorem frameIdeal : quiescent_AttFwdIdeal (hAttFwdIdeal := AttFwdIdeal.Gen.facts) :=
  fun m ρ _ => AttFwdIdeal.Gen.frame m ρ

/-- The frame of the reference. -/
theorem frameReference : quiescent_AttFwdReferenceIdeal (hAttFwdReferenceIdeal := AttFwdReferenceIdeal.Gen.facts) :=
  fun m ρ _ => (θ_run AttFwdReferenceIdeal.defs _ _).mono
    (fun r h => ⟨fun c => (h c).2, sem_eq_zero_of_no_sems (by decide) r.2⟩)
    (AttFwdReferenceIdeal.Value.run (F := Ideal) m ρ)

/-- The kernel computes the cross-attention. -/
theorem algebraic : algebraic_AttFwdIdeal_AttFwdReferenceIdeal (hAttFwdIdeal := AttFwdIdeal.Gen.facts)
    (hAttFwdReferenceIdeal := AttFwdReferenceIdeal.Gen.facts) :=
  fun m ρ m' ρ' _ hag => ⟨_,
    (θ_run AttFwdIdeal.defs _ _).mono (fun _ h c => ⟨(h c).1.trans (AttFwdIdeal.Val.final0 m c), (h c).2⟩)
      (AttFwdIdeal.Value.run_blocks (F := Ideal) m ρ),
    (θ_run AttFwdReferenceIdeal.defs _ _).mono (fun _ h c => ⟨(h c).1.trans (by rw [← (hag c).1, ← (hag c).2]; rfl), (h c).2⟩)
      (AttFwdReferenceIdeal.Value.run (F := Ideal) m' ρ')⟩

end Cert.Proof.AttFwd

end

end
-- ==== Proof.MixCBwd.lean ====
/-
  The third mixer, backward: the gradients of its three streams through the gate and the causal convolution.
-/
module

public import proofs.«01_k».proof.Proof.Gen.MixCBwd.Frame
public import proofs.«01_k».proof.Proof.Gen.MixCBwdIdeal.Frame
public import proofs.«01_k».proof.Proof.Gen.MixCBwdReferenceIdeal.Run
public import proofs.«01_k».proof.Proof.Gen.MixCBwd
public import proofs.«01_k».proof.Proof.Gen.MixCBwdIdeal
public import proofs.«01_k».proof.Proof.Gen.MixCBwdReferenceIdeal
public import Idealize.ShloMosaic.Lib.Pointwise
public import Idealize.ShloMosaic.Lib.Pipeline.ValueKit
public import proofs.«01_k».proof.Defs
public import Idealize.ShloMosaic.Adequacy
public import Idealize.ShloMosaic.Init
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MixCBwdReferenceIdeal.Spec

open Cert.MixCBwdReferenceIdeal Cert.MixCBwdReferenceIdeal.Gen

/-- The gradient of the gate: the reference's composed term. -/
def result0 (cb : FVec Ideal S8192x384 .f32) (cc : FVec Ideal S8192x384 .f32) (cx : FVec Ideal S8192x384 .f32) (d : FVec Ideal S8192x384 .f32) (w : FVec Ideal S3x384 .f32) : FVec Ideal S8192x384 .bf16 :=
  truncf .bf16 (shapeCast _ (mulf (shapeCast _ d shapeCasts_S8192x384_S4x2048x384) (addf (addf (addf (broadcastInDim S4x2048x384 ![] bcast_S_S4x2048x384 (constant (F := Ideal) S_ .f32 0x00000000#32)) (mulf (extractStridedSlice S4x2048x384 ![0, 0, 0] (concatenate S4x2050x384 1 [⟨S4x2x384, (broadcastInDim S4x2x384 ![] bcast_S_S4x2x384 (constant (F := Ideal) S_ .f32 0x00000000#32))⟩, ⟨S4x2048x384, (mulf (shapeCast _ cc shapeCasts_S8192x384_S4x2048x384) (shapeCast _ cx shapeCasts_S8192x384_S4x2048x384))⟩] concatenates_S4x2x384_S4x2048x384_S4x2050x384_d1) slices_S4x2050x384_S4x2048x384_0_0_0) (broadcastInDim S4x2048x384 ![0, 1, 2] bcast_S1x1x384_S4x2048x384_0_1_2 (broadcastInDim S1x1x384 ![2] bcast_S384_S1x1x384_2 (shapeCast _ (extractStridedSlice S1x384 ![0, 0] w slices_S3x384_S1x384_0_0) shapeCasts_S1x384_S384))))) (mulf (extractStridedSlice S4x2048x384 ![0, 1, 0] (concatenate S4x2050x384 1 [⟨S4x2x384, (broadcastInDim S4x2x384 ![] bcast_S_S4x2x384 (constant (F := Ideal) S_ .f32 0x00000000#32))⟩, ⟨S4x2048x384, (mulf (shapeCast _ cc shapeCasts_S8192x384_S4x2048x384) (shapeCast _ cx shapeCasts_S8192x384_S4x2048x384))⟩] concatenates_S4x2x384_S4x2048x384_S4x2050x384_d1) slices_S4x2050x384_S4x2048x384_0_1_0) (broadcastInDim S4x2048x384 ![0, 1, 2] bcast_S1x1x384_S4x2048x384_0_1_2 (broadcastInDim S1x1x384 ![2] bcast_S384_S1x1x384_2 (shapeCast _ (extractStridedSlice S1x384 ![1, 0] w slices_S3x384_S1x384_1_0) shapeCasts_S1x384_S384))))) (mulf (extractStridedSlice S4x2048x384 ![0, 2, 0] (concatenate S4x2050x384 1 [⟨S4x2x384, (broadcastInDim S4x2x384 ![] bcast_S_S4x2x384 (constant (F := Ideal) S_ .f32 0x00000000#32))⟩, ⟨S4x2048x384, (mulf (shapeCast _ cc shapeCasts_S8192x384_S4x2048x384) (shapeCast _ cx shapeCasts_S8192x384_S4x2048x384))⟩] concatenates_S4x2x384_S4x2048x384_S4x2050x384_d1) slices_S4x2050x384_S4x2048x384_0_2_0) (broadcastInDim S4x2048x384 ![0, 1, 2] bcast_S1x1x384_S4x2048x384_0_1_2 (broadcastInDim S1x1x384 ![2] bcast_S384_S1x1x384_2 (shapeCast _ (extractStridedSlice S1x384 ![2, 0] w slices_S3x384_S1x384_2_0) shapeCasts_S1x384_S384)))))) shapeCasts_S4x2048x384_S8192x384) bitsLt_bf16_f32

/-- The gradient of the first factor: the reference's composed term. -/
def result1 (cb : FVec Ideal S8192x384 .f32) (cc : FVec Ideal S8192x384 .f32) (cx : FVec Ideal S8192x384 .f32) (d : FVec Ideal S8192x384 .f32) (w : FVec Ideal S3x384 .f32) : FVec Ideal S8192x384 .bf16 :=
  truncf .bf16 (shapeCast _ (mulf (extractStridedSlice S4x2048x384 ![0, 2, 0] (addf (addf (pad S4x2050x384 ![0, 2, 0] ![0, 0, 0] ![0, 0, 0] (mulf (mulf (shapeCast _ cb shapeCasts_S8192x384_S4x2048x384) (shapeCast _ d shapeCasts_S8192x384_S4x2048x384)) (broadcastInDim S4x2048x384 ![0, 1, 2] bcast_S1x1x384_S4x2048x384_0_1_2 (broadcastInDim S1x1x384 ![2] bcast_S384_S1x1x384_2 (shapeCast _ (extractStridedSlice S1x384 ![2, 0] w slices_S3x384_S1x384_2_0) shapeCasts_S1x384_S384)))) (constant (F := Ideal) S_ .f32 0x00000000#32) pads_S4x2048x384_S4x2050x384_000_200_000 h_S_) (pad S4x2050x384 ![0, 1, 0] ![0, 1, 0] ![0, 0, 0] (mulf (mulf (shapeCast _ cb shapeCasts_S8192x384_S4x2048x384) (shapeCast _ d shapeCasts_S8192x384_S4x2048x384)) (broadcastInDim S4x2048x384 ![0, 1, 2] bcast_S1x1x384_S4x2048x384_0_1_2 (broadcastInDim S1x1x384 ![2] bcast_S384_S1x1x384_2 (shapeCast _ (extractStridedSlice S1x384 ![1, 0] w slices_S3x384_S1x384_1_0) shapeCasts_S1x384_S384)))) (constant (F := Ideal) S_ .f32 0x00000000#32) pads_S4x2048x384_S4x2050x384_000_110_000 h_S_)) (pad S4x2050x384 ![0, 0, 0] ![0, 2, 0] ![0, 0, 0] (mulf (mulf (shapeCast _ cb shapeCasts_S8192x384_S4x2048x384) (shapeCast _ d shapeCasts_S8192x384_S4x2048x384)) (broadcastInDim S4x2048x384 ![0, 1, 2] bcast_S1x1x384_S4x2048x384_0_1_2 (broadcastInDim S1x1x384 ![2] bcast_S384_S1x1x384_2 (shapeCast _ (extractStridedSlice S1x384 ![0, 0] w slices_S3x384_S1x384_0_0) shapeCasts_S1x384_S384)))) (constant (F := Ideal) S_ .f32 0x00000000#32) pads_S4x2048x384_S4x2050x384_000_020_000 h_S_)) slices_S4x2050x384_S4x2048x384_0_2_0) (shapeCast _ cx shapeCasts_S8192x384_S4x2048x384)) shapeCasts_S4x2048x384_S8192x384) bitsLt_bf16_f32

/-- The gradient of the second factor: the reference's composed term. -/
def result2 (cb : FVec Ideal S8192x384 .f32) (cc : FVec Ideal S8192x384 .f32) (cx : FVec Ideal S8192x384 .f32) (d : FVec Ideal S8192x384 .f32) (w : FVec Ideal S3x384 .f32) : FVec Ideal S8192x384 .bf16 :=
  truncf .bf16 (shapeCast _ (mulf (shapeCast _ cc shapeCasts_S8192x384_S4x2048x384) (extractStridedSlice S4x2048x384 ![0, 2, 0] (addf (addf (pad S4x2050x384 ![0, 2, 0] ![0, 0, 0] ![0, 0, 0] (mulf (mulf (shapeCast _ cb shapeCasts_S8192x384_S4x2048x384) (shapeCast _ d shapeCasts_S8192x384_S4x2048x384)) (broadcastInDim S4x2048x384 ![0, 1, 2] bcast_S1x1x384_S4x2048x384_0_1_2 (broadcastInDim S1x1x384 ![2] bcast_S384_S1x1x384_2 (shapeCast _ (extractStridedSlice S1x384 ![2, 0] w slices_S3x384_S1x384_2_0) shapeCasts_S1x384_S384)))) (constant (F := Ideal) S_ .f32 0x00000000#32) pads_S4x2048x384_S4x2050x384_000_200_000 h_S_) (pad S4x2050x384 ![0, 1, 0] ![0, 1, 0] ![0, 0, 0] (mulf (mulf (shapeCast _ cb shapeCasts_S8192x384_S4x2048x384) (shapeCast _ d shapeCasts_S8192x384_S4x2048x384)) (broadcastInDim S4x2048x384 ![0, 1, 2] bcast_S1x1x384_S4x2048x384_0_1_2 (broadcastInDim S1x1x384 ![2] bcast_S384_S1x1x384_2 (shapeCast _ (extractStridedSlice S1x384 ![1, 0] w slices_S3x384_S1x384_1_0) shapeCasts_S1x384_S384)))) (constant (F := Ideal) S_ .f32 0x00000000#32) pads_S4x2048x384_S4x2050x384_000_110_000 h_S_)) (pad S4x2050x384 ![0, 0, 0] ![0, 2, 0] ![0, 0, 0] (mulf (mulf (shapeCast _ cb shapeCasts_S8192x384_S4x2048x384) (shapeCast _ d shapeCasts_S8192x384_S4x2048x384)) (broadcastInDim S4x2048x384 ![0, 1, 2] bcast_S1x1x384_S4x2048x384_0_1_2 (broadcastInDim S1x1x384 ![2] bcast_S384_S1x1x384_2 (shapeCast _ (extractStridedSlice S1x384 ![0, 0] w slices_S3x384_S1x384_0_0) shapeCasts_S1x384_S384)))) (constant (F := Ideal) S_ .f32 0x00000000#32) pads_S4x2048x384_S4x2050x384_000_020_000 h_S_)) slices_S4x2050x384_S4x2048x384_0_2_0)) shapeCasts_S4x2048x384_S8192x384) bitsLt_bf16_f32

/-- The product of the two streams `2 - k` rows earlier, zero before the sequence begins. -/
def earlier (cc cx : FVec Ideal S8192x384 .f32) (i : Fin 8192) (k : ℕ) (hk : k < 3) (j : Fin 384) : EReal :=
  if i.val % 2048 + k < 2 then 0 else cc (ix2 ⟨i.val + k - 2, by omega⟩ j) * cx (ix2 ⟨i.val + k - 2, by omega⟩ j)

/-- The gradient of the convolution `k` rows later, zero after the sequence's end. -/
def later (cb d : FVec Ideal S8192x384 .f32) (i : Fin 8192) (k : ℕ) (j : Fin 384) : EReal :=
  if h : i.val % 2048 + k < 2048 then d (ix2 ⟨i.val + k, by omega⟩ j) * cb (ix2 ⟨i.val + k, by omega⟩ j) else 0

/-- A weight times the gradient some rows later, as the shifted product spells it. -/
theorem later_spelt (cb d : FVec Ideal S8192x384 .f32) (i : Fin 8192) (k n : ℕ) (j : Fin 384) (x : EReal) (A : Prop) [Decidable A] (hA : A ↔ i.val % 2048 + k < 2048) (hn : A → n = i.val % 2048 + k) (pf : A → i.val / 2048 * 2048 + n < 8192) :
    (if h : A then cb (ix2 ⟨i.val / 2048 * 2048 + n, pf h⟩ j) * d (ix2 ⟨i.val / 2048 * 2048 + n, pf h⟩ j) * x else 0) = later cb d i k j * x := by
  unfold later
  by_cases h : A
  · have hn' := hn h
    have h' := hA.1 h
    have e : (⟨i.val / 2048 * 2048 + n, pf h⟩ : Fin 8192) = ⟨i.val + k, by omega⟩ := Fin.ext (by show i.val / 2048 * 2048 + n = i.val + k; omega)
    rw [dif_pos h, dif_pos h', e, mul_comm (cb _)]
  · rw [dif_neg h, dif_neg (mt hA.2 h), zero_mul]

/-- The gradient of the gate at a row and a channel. -/
theorem result0_at (cb : FVec Ideal S8192x384 .f32) (cc : FVec Ideal S8192x384 .f32) (cx : FVec Ideal S8192x384 .f32) (d : FVec Ideal S8192x384 .f32) (w : FVec Ideal S3x384 .f32) (i : Fin 8192) (j : Fin 384) :
    result0 cb cc cx d w (ix2 i j) = d (ix2 i j) * (earlier cc cx i 0 (by omega) j * w (ix2 0 j) + earlier cc cx i 1 (by omega) j * w (ix2 1 j) + earlier cc cx i 2 (by omega) j * w (ix2 2 j)) := by
  have hs : ∀ (k n : ℕ) (hk : k < 3) (hn : n = i.val % 2048 + k), (if h : n < 2 then (0 : EReal) else cc (ix2 ⟨i.val / 2048 * 2048 + (n - 2), by omega⟩ j) * cx (ix2 ⟨i.val / 2048 * 2048 + (n - 2), by omega⟩ j)) = earlier cc cx i k hk j := by
    intro k n hk hn
    unfold earlier
    by_cases h : n < 2
    · rw [dif_pos h, if_pos (by omega)]
    · have e : (⟨i.val / 2048 * 2048 + (n - 2), by omega⟩ : Fin 8192) = ⟨i.val + k - 2, by omega⟩ := Fin.ext (by show i.val / 2048 * 2048 + (n - 2) = i.val + k - 2; omega)
      rw [dif_neg h, if_neg (by omega), e]
  have h2 : cc (ix2 i j) * cx (ix2 i j) = earlier cc cx i 2 (by omega) j := by
    unfold earlier
    rw [if_neg (by omega)]
    rfl
  pointwise [result0]
  exact congrArg (_ * ·) (congrArg₂ (· + ·) (congrArg₂ (· + ·) (congrArg (· * _) (hs 0 _ (by omega) rfl)) (congrArg (· * _) (hs 1 _ (by omega) (by omega)))) (congrArg (· * _) h2))

/-- The gradient of the convolved product at a row and a channel. -/
def back (cb d : FVec Ideal S8192x384 .f32) (w : FVec Ideal S3x384 .f32) (i : Fin 8192) (j : Fin 384) : EReal :=
  later cb d i 2 j * w (ix2 0 j) + later cb d i 1 j * w (ix2 1 j) + later cb d i 0 j * w (ix2 2 j)

/-- The same, its terms in the other order, as the shifted products spell it. -/
theorem back_spelt (cb : FVec Ideal S8192x384 .f32) (cc : FVec Ideal S8192x384 .f32) (cx : FVec Ideal S8192x384 .f32) (d : FVec Ideal S8192x384 .f32) (w : FVec Ideal S3x384 .f32) (i : Fin 8192) (j : Fin 384) {u v z : EReal} (hu : u = cb (ix2 i j) * d (ix2 i j) * w (ix2 2 j)) (hv : v = later cb d i 1 j * w (ix2 1 j)) (hz : z = later cb d i 2 j * w (ix2 0 j)) :
    u + v + z = back cb d w i j := by
  have h : later cb d i 0 j = cb (ix2 i j) * d (ix2 i j) := by
    rw [later, dif_pos (by omega), mul_comm]
    rfl
  rw [back, h, hu, hv, hz, add_comm, add_comm (_ * w (ix2 2 j)), ← add_assoc]

/-- The gradient of the first factor at a row and a channel. -/
theorem result1_at (cb : FVec Ideal S8192x384 .f32) (cc : FVec Ideal S8192x384 .f32) (cx : FVec Ideal S8192x384 .f32) (d : FVec Ideal S8192x384 .f32) (w : FVec Ideal S3x384 .f32) (i : Fin 8192) (j : Fin 384) :
    result1 cb cc cx d w (ix2 i j) = back cb d w i j * cx (ix2 i j) := by
  pointwise [result1]
  exact congrArg (· * _) (back_spelt cb cc cx d w i j (dif_pos ⟨by omega, by omega⟩) (later_spelt cb d i 1 _ j _ _ (by omega) (by omega) _) (later_spelt cb d i 2 _ j _ _ (by omega) (by omega) _))

/-- The gradient of the second factor at a row and a channel. -/
theorem result2_at (cb : FVec Ideal S8192x384 .f32) (cc : FVec Ideal S8192x384 .f32) (cx : FVec Ideal S8192x384 .f32) (d : FVec Ideal S8192x384 .f32) (w : FVec Ideal S3x384 .f32) (i : Fin 8192) (j : Fin 384) :
    result2 cb cc cx d w (ix2 i j) = back cb d w i j * cc (ix2 i j) := by
  pointwise [result2]
  exact (mul_comm _ _).trans (congrArg (· * _) (back_spelt cb cc cx d w i j (dif_pos ⟨by omega, by omega⟩) (later_spelt cb d i 1 _ j _ _ (by omega) (by omega) _) (later_spelt cb d i 2 _ j _ _ (by omega) (by omega) _)))

end Cert.MixCBwdReferenceIdeal.Spec

namespace Cert.MixCBwdIdeal.Val

open Cert.MixCBwdIdeal Cert.MixCBwdIdeal.Gen

variable (m : (ℓ : Loc nD τ sig) → Buf (Elt Ideal) ℓ)

/-- A stretch starting at a row fits the chunk. -/
abbrev Own (o : ℕ) : Prop := ∀ a, (![o, 0] : Fin 2 → Nat) a + S64x384.size a ≤ S1024x384.size a

/-- A stretch starting at a row fits the padded rows. -/
abbrev Pad (o : ℕ) : Prop := ∀ a, (![o, 0] : Fin 2 → Nat) a + S64x384.size a ≤ S1032x384.size a

/-- A tap is one of the three. -/
abbrev Tap (k : ℕ) : Prop := ∀ a, (![k, 0] : Fin 2 → Nat) a + S1x384.size a ≤ S3x384.size a

/-- A stretch starting at a row fits a shifted copy. -/
abbrev Shift (z o : ℕ) : Prop := ∀ a, (![z, o, 0] : Fin 3 → Nat) a + S1x64x384.size a ≤ S8x1032x384.size a

/-- A store whose entries are a factor times the three weighted taps. -/
def Gate (p : FVec Ideal S64x384 .f32 → FVec Ideal S1x64x384 .f32 → FVec Ideal S1x384 .f32 → FVec Ideal S1x64x384 .f32 → FVec Ideal S1x384 .f32 → FVec Ideal S64x384 .f32 → FVec Ideal S1x384 .f32 → FVec Ideal S64x384 .bf16) : Prop :=
  ∀ x a w0 b w1 e w2 (r : Fin 64) (l : Fin 384), p x a w0 b w1 e w2 (ix2 r l) = x (ix2 r l) * (a (ix3 0 r l) * w0 (ix2 0 l) + b (ix3 0 r l) * w1 (ix2 0 l) + e (ix2 r l) * w2 (ix2 0 l))

/-- A store whose entries are the three weighted taps times a factor. -/
def Factor (p : FVec Ideal S64x384 .f32 → FVec Ideal S1x64x384 .f32 → FVec Ideal S1x384 .f32 → FVec Ideal S1x64x384 .f32 → FVec Ideal S1x384 .f32 → FVec Ideal S64x384 .f32 → FVec Ideal S1x384 .f32 → FVec Ideal S64x384 .bf16) : Prop :=
  ∀ x a w0 b w1 e w2 (r : Fin 64) (l : Fin 384), p x a w0 b w1 e w2 (ix2 r l) = (a (ix3 0 r l) * w0 (ix2 0 l) + b (ix3 0 r l) * w1 (ix2 0 l) + e (ix2 r l) * w2 (ix2 0 l)) * x (ix2 r l)

/-- Store 0 of the gate output. -/
theorem gate0 : Gate fun x a w0 b w1 e w2 => k0_pay61 (k0_pay54 (k0_pay50 a) w0 b w1) e w2 x := by
  intro x a w0 b w1 e w2 r l; pointwise [k0_pay50, k0_pay52, k0_pay54, k0_pay61]
/-- Store 1 of the gate output. -/
theorem gate1 : Gate fun x a w0 b w1 e w2 => k0_pay74 (k0_pay68 (k0_pay64 a) w0 b w1) e w2 x := by
  intro x a w0 b w1 e w2 r l; pointwise [k0_pay64, k0_pay66, k0_pay68, k0_pay74]
/-- Store 2 of the gate output. -/
theorem gate2 : Gate fun x a w0 b w1 e w2 => k0_pay89 (k0_pay82 (k0_pay79 a w0) b w1) e w2 x := by
  intro x a w0 b w1 e w2 r l; pointwise [k0_pay77, k0_pay79, k0_pay80, k0_pay82, k0_pay89]
/-- Store 3 of the gate output. -/
theorem gate3 : Gate fun x a w0 b w1 e w2 => k0_pay103 (k0_pay98 (k0_pay95 a w0) b w1) e w2 x := by
  intro x a w0 b w1 e w2 r l; pointwise [k0_pay93, k0_pay95, k0_pay96, k0_pay98, k0_pay103]
/-- Store 4 of the gate output. -/
theorem gate4 : Gate fun x a w0 b w1 e w2 => k0_pay115 (k0_pay111 (k0_pay108 a w0) (k0_pay109 b) w1) e w2 x := by
  intro x a w0 b w1 e w2 r l; pointwise [k0_pay106, k0_pay108, k0_pay109, k0_pay111, k0_pay115]
/-- Store 5 of the gate output. -/
theorem gate5 : Gate fun x a w0 b w1 e w2 => k0_pay128 (k0_pay124 (k0_pay120 a w0) (k0_pay121 b) w1) e w2 x := by
  intro x a w0 b w1 e w2 r l; pointwise [k0_pay118, k0_pay120, k0_pay121, k0_pay124, k0_pay128]
/-- Store 6 of the gate output. -/
theorem gate6 : Gate fun x a w0 b w1 e w2 => k0_pay144 (k0_pay141 (k0_pay134 a w0) (k0_pay135 b) w1) e w2 x := by
  intro x a w0 b w1 e w2 r l; pointwise [k0_pay132, k0_pay134, k0_pay135, k0_pay141, k0_pay144]
/-- Store 7 of the gate output. -/
theorem gate7 : Gate fun x a w0 b w1 e w2 => k0_pay159 (k0_pay155 (k0_pay149 a w0) (k0_pay150 b) w1) e (k0_pay157 w2) x := by
  intro x a w0 b w1 e w2 r l; pointwise [k0_pay147, k0_pay149, k0_pay150, k0_pay155, k0_pay157, k0_pay159]
/-- Store 8 of the gate output. -/
theorem gate8 : Gate fun x a w0 b w1 e w2 => k0_pay174 (k0_pay172 (k0_pay164 a w0) (k0_pay165 b) w1 e w2) x := by
  intro x a w0 b w1 e w2 r l; pointwise [k0_pay162, k0_pay164, k0_pay165, k0_pay172, k0_pay174]
/-- Store 9 of the gate output. -/
theorem gate9 : Gate fun x a w0 b w1 e w2 => k0_pay188 (k0_pay186 (k0_pay179 a w0) (k0_pay180 b) w1 e w2) x := by
  intro x a w0 b w1 e w2 r l; pointwise [k0_pay177, k0_pay179, k0_pay180, k0_pay186, k0_pay188]
/-- Store 10 of the gate output. -/
theorem gate10 : Gate fun x a w0 b w1 e w2 => k0_pay204 (k0_pay201 (k0_pay193 a w0) (k0_pay194 b) w1 e w2) x := by
  intro x a w0 b w1 e w2 r l; pointwise [k0_pay191, k0_pay193, k0_pay194, k0_pay201, k0_pay204]
/-- Store 11 of the gate output. -/
theorem gate11 : Gate fun x a w0 b w1 e w2 => k0_pay217 (k0_pay214 (k0_pay209 (k0_pay207 a) w0) (k0_pay210 b) w1 e w2) x := by
  intro x a w0 b w1 e w2 r l; pointwise [k0_pay207, k0_pay209, k0_pay210, k0_pay214, k0_pay217]
/-- Store 12 of the gate output. -/
theorem gate12 : Gate fun x a w0 b w1 e w2 => k0_pay231 (k0_pay228 (k0_pay223 (k0_pay220 a) w0) (k0_pay224 b) w1 e w2) x := by
  intro x a w0 b w1 e w2 r l; pointwise [k0_pay220, k0_pay223, k0_pay224, k0_pay228, k0_pay231]
/-- Store 13 of the gate output. -/
theorem gate13 : Gate fun x a w0 b w1 e w2 => k0_pay248 (k0_pay244 (k0_pay240 (k0_pay234 a) w0) (k0_pay241 b) w1 e w2) x := by
  intro x a w0 b w1 e w2 r l; pointwise [k0_pay234, k0_pay240, k0_pay241, k0_pay244, k0_pay248]
/-- Store 14 of the gate output. -/
theorem gate14 : Gate fun x a w0 b w1 e w2 => k0_pay265 (k0_pay260 (k0_pay256 (k0_pay251 a) w0) (k0_pay257 b) w1 e w2) x := by
  intro x a w0 b w1 e w2 r l; pointwise [k0_pay251, k0_pay256, k0_pay257, k0_pay260, k0_pay265]
/-- Store 15 of the gate output. -/
theorem gate15 : Gate fun x a w0 b w1 e w2 => k0_pay2 (k0_pay278 (k0_pay276 (k0_pay268 a) w0 b w1) e w2) x := by
  intro x a w0 b w1 e w2 r l; pointwise [k0_pay2, k0_pay268, k0_pay274, k0_pay276, k0_pay278]
/-- Store 0 of the first output. -/
theorem first0 : Factor fun x a w0 b w1 e w2 => k0_pay62 (k0_pay60 a w0 b w1 e w2) x := by
  intro x a w0 b w1 e w2 r l; pointwise [k0_pay60, k0_pay62]
/-- Store 1 of the first output. -/
theorem first1 : Factor fun x a w0 b w1 e w2 => k0_pay75 (k0_pay73 a w0 b w1 e w2) x := by
  intro x a w0 b w1 e w2 r l; pointwise [k0_pay73, k0_pay75]
/-- Store 2 of the first output. -/
theorem first2 : Factor fun x a w0 b w1 e w2 => k0_pay91 (k0_pay90 a w0 b w1 e w2 x) := by
  intro x a w0 b w1 e w2 r l; pointwise [k0_pay88, k0_pay90, k0_pay91]
/-- Store 3 of the first output. -/
theorem first3 : Factor fun x a w0 b w1 e w2 => k0_pay104 a w0 b w1 e w2 x := by
  intro x a w0 b w1 e w2 r l; pointwise [k0_pay102, k0_pay104]
/-- Store 4 of the first output. -/
theorem first4 : Factor fun x a w0 b w1 e w2 => k0_pay116 a w0 b w1 e w2 x := by
  intro x a w0 b w1 e w2 r l; pointwise [k0_pay114, k0_pay116]
/-- Store 5 of the first output. -/
theorem first5 : Factor fun x a w0 b w1 e w2 => k0_pay129 a w0 b w1 e w2 x := by
  intro x a w0 b w1 e w2 r l; pointwise [k0_pay127, k0_pay129]
/-- Store 6 of the first output. -/
theorem first6 : Factor fun x a w0 b w1 e w2 => k0_pay145 a w0 b w1 e w2 x := by
  intro x a w0 b w1 e w2 r l; pointwise [k0_pay143, k0_pay145]
/-- Store 7 of the first output. -/
theorem first7 : Factor fun x a w0 b w1 e w2 => k0_pay160 a w0 b w1 e w2 x := by
  intro x a w0 b w1 e w2 r l; pointwise [k0_pay158, k0_pay160]
/-- Store 8 of the first output. -/
theorem first8 : Factor fun x a w0 b w1 e w2 => k0_pay175 a w0 b w1 e w2 x := by
  intro x a w0 b w1 e w2 r l; pointwise [k0_pay173, k0_pay175]
/-- Store 9 of the first output. -/
theorem first9 : Factor fun x a w0 b w1 e w2 => k0_pay189 a w0 b w1 e w2 x := by
  intro x a w0 b w1 e w2 r l; pointwise [k0_pay187, k0_pay189]
/-- Store 10 of the first output. -/
theorem first10 : Factor fun x a w0 b w1 e w2 => k0_pay205 (k0_pay202 a) w0 b w1 e w2 x := by
  intro x a w0 b w1 e w2 r l; pointwise [k0_pay202, k0_pay203, k0_pay205]
/-- Store 11 of the first output. -/
theorem first11 : Factor fun x a w0 b w1 e w2 => k0_pay218 (k0_pay215 a w0) b w1 e w2 x := by
  intro x a w0 b w1 e w2 r l; pointwise [k0_pay215, k0_pay216, k0_pay218]
/-- Store 12 of the first output. -/
theorem first12 : Factor fun x a w0 b w1 e w2 => k0_pay232 (k0_pay229 a w0) b w1 e w2 x := by
  intro x a w0 b w1 e w2 r l; pointwise [k0_pay229, k0_pay230, k0_pay232]
/-- Store 13 of the first output. -/
theorem first13 : Factor fun x a w0 b w1 e w2 => k0_pay249 (k0_pay245 a w0) (k0_pay246 b) w1 e w2 x := by
  intro x a w0 b w1 e w2 r l; pointwise [k0_pay245, k0_pay246, k0_pay247, k0_pay249]
/-- Store 14 of the first output. -/
theorem first14 : Factor fun x a w0 b w1 e w2 => k0_pay266 (k0_pay261 a w0) (k0_pay262 b) (k0_pay263 w1) e w2 x := by
  intro x a w0 b w1 e w2 r l; pointwise [k0_pay261, k0_pay262, k0_pay263, k0_pay264, k0_pay266]
/-- Store 15 of the first output. -/
theorem first15 : Factor fun x a w0 b w1 e w2 => k0_pay3 (k0_pay279 a w0 b w1) e w2 x := by
  intro x a w0 b w1 e w2 r l; pointwise [k0_pay1, k0_pay3, k0_pay279]
/-- Store 0 of the second output. -/
theorem second0 : Factor fun x a w0 b w1 e w2 => k0_pay63 (k0_pay60 a w0 b w1 e w2) x := by
  intro x a w0 b w1 e w2 r l; pointwise [k0_pay60, k0_pay63]
/-- Store 1 of the second output. -/
theorem second1 : Factor fun x a w0 b w1 e w2 => k0_pay76 (k0_pay73 a w0 b w1 e w2) x := by
  intro x a w0 b w1 e w2 r l; pointwise [k0_pay73, k0_pay76]
/-- Store 2 of the second output. -/
theorem second2 : Factor fun x a w0 b w1 e w2 => k0_pay92 (k0_pay88 a w0 b w1 e w2) x := by
  intro x a w0 b w1 e w2 r l; pointwise [k0_pay88, k0_pay92]
/-- Store 3 of the second output. -/
theorem second3 : Factor fun x a w0 b w1 e w2 => k0_pay105 (k0_pay102 a w0 b w1 e w2) x := by
  intro x a w0 b w1 e w2 r l; pointwise [k0_pay102, k0_pay105]
/-- Store 4 of the second output. -/
theorem second4 : Factor fun x a w0 b w1 e w2 => k0_pay117 (k0_pay114 a w0 b w1 e w2) x := by
  intro x a w0 b w1 e w2 r l; pointwise [k0_pay114, k0_pay117]
/-- Store 5 of the second output. -/
theorem second5 : Factor fun x a w0 b w1 e w2 => k0_pay131 (k0_pay130 a w0 b w1 e w2 x) := by
  intro x a w0 b w1 e w2 r l; pointwise [k0_pay127, k0_pay130, k0_pay131]
/-- Store 6 of the second output. -/
theorem second6 : Factor fun x a w0 b w1 e w2 => k0_pay146 a w0 b w1 e w2 x := by
  intro x a w0 b w1 e w2 r l; pointwise [k0_pay143, k0_pay146]
/-- Store 7 of the second output. -/
theorem second7 : Factor fun x a w0 b w1 e w2 => k0_pay161 a w0 b w1 e w2 x := by
  intro x a w0 b w1 e w2 r l; pointwise [k0_pay158, k0_pay161]
/-- Store 8 of the second output. -/
theorem second8 : Factor fun x a w0 b w1 e w2 => k0_pay176 a w0 b w1 e w2 x := by
  intro x a w0 b w1 e w2 r l; pointwise [k0_pay173, k0_pay176]
/-- Store 9 of the second output. -/
theorem second9 : Factor fun x a w0 b w1 e w2 => k0_pay190 a w0 b w1 e w2 x := by
  intro x a w0 b w1 e w2 r l; pointwise [k0_pay187, k0_pay190]
/-- Store 10 of the second output. -/
theorem second10 : Factor fun x a w0 b w1 e w2 => k0_pay206 (k0_pay202 a) w0 b w1 e w2 x := by
  intro x a w0 b w1 e w2 r l; pointwise [k0_pay202, k0_pay203, k0_pay206]
/-- Store 11 of the second output. -/
theorem second11 : Factor fun x a w0 b w1 e w2 => k0_pay219 (k0_pay215 a w0) b w1 e w2 x := by
  intro x a w0 b w1 e w2 r l; pointwise [k0_pay215, k0_pay216, k0_pay219]
/-- Store 12 of the second output. -/
theorem second12 : Factor fun x a w0 b w1 e w2 => k0_pay233 (k0_pay229 a w0) b w1 e w2 x := by
  intro x a w0 b w1 e w2 r l; pointwise [k0_pay229, k0_pay230, k0_pay233]
/-- Store 13 of the second output. -/
theorem second13 : Factor fun x a w0 b w1 e w2 => k0_pay250 (k0_pay245 a w0) (k0_pay246 b) w1 e w2 x := by
  intro x a w0 b w1 e w2 r l; pointwise [k0_pay245, k0_pay246, k0_pay247, k0_pay250]
/-- Store 14 of the second output. -/
theorem second14 : Factor fun x a w0 b w1 e w2 => k0_pay267 (k0_pay261 a w0) (k0_pay262 b) (k0_pay263 w1) e w2 x := by
  intro x a w0 b w1 e w2 r l; pointwise [k0_pay261, k0_pay262, k0_pay263, k0_pay264, k0_pay267]
/-- Store 15 of the second output. -/
theorem second15 : Factor fun x a w0 b w1 e w2 => k0_pay4 (k0_pay279 a w0 b w1) e w2 x := by
  intro x a w0 b w1 e w2 r l; pointwise [k0_pay1, k0_pay4, k0_pay279]

/-- Where the windows' blocks lie at point `t`. -/
theorem placed : ∀ t : Fin cfg0.N, win0_0.index t = ![t.val, 0] ∧ win0_1.index t = ![t.val, 0] ∧ win0_2.index t = ![t.val, 0] ∧ win0_3.index t = ![t.val, 0] ∧ win0_4.index t = ![t.val * 128 - 1, 0] ∧ win0_5.index t = ![t.val * 128 - 1, 0] ∧ win0_6.index t = ![min (t.val * 128 + 128) 1023, 0] ∧ win0_7.index t = ![min (t.val * 128 + 128) 1023, 0] ∧ win0_8.index t = ![0, 0] ∧ win0_9.index t = ![t.val, 0] ∧ win0_10.index t = ![t.val, 0] ∧ win0_11.index t = ![t.val, 0] ∧ (grid0.coords t 1).val = t.val % 2 :=
  (by decide +kernel : ∀ t : Fin grid0.N, _)

variable (c : Dev nD) (t : Fin cfg0.N)

/-- Row `q` of the padded product of point `t`: eight rows of the chunk before, zero at the first chunk of a sequence, then the chunk's own. -/
def headedOf (C X : FVec Ideal S8192x384 .f32) (t : Fin cfg0.N) (q : Fin 1032) (l : Fin 384) : EReal :=
  if q.val < 8 ∧ t.val % 2 = 0 then 0 else C (ix2 ⟨t.val * 1024 + q.val - 8, by have : t.val < 8 := lt_of_lt_of_eq t.isLt N_0; omega⟩ l) * X (ix2 ⟨t.val * 1024 + q.val - 8, by have : t.val < 8 := lt_of_lt_of_eq t.isLt N_0; omega⟩ l)

/-- Row `q` of the padded gradient of point `t`: the chunk's own rows, then eight of the chunk after, zero at the last chunk of a sequence. -/
def tailedOf (C X : FVec Ideal S8192x384 .f32) (t : Fin cfg0.N) (q : Fin 1032) (l : Fin 384) : EReal :=
  if h : q.val < 1024 ∨ t.val % 2 = 0 then C (ix2 ⟨t.val * 1024 + q.val, by have : t.val < 8 := lt_of_lt_of_eq t.isLt N_0; omega⟩ l) * X (ix2 ⟨t.val * 1024 + q.val, by have : t.val < 8 := lt_of_lt_of_eq t.isLt N_0; omega⟩ l) else 0

/-- The padded product of the arrays the program is given. -/
def headed (q : Fin 1032) (l : Fin 384) : EReal := headedOf (m (c.tc.loc main_arg1)) (m (c.tc.loc main_arg2)) t q l
/-- The padded gradient of the arrays the program is given. -/
def tailed (q : Fin 1032) (l : Fin 384) : EReal := tailedOf (m (c.tc.loc main_arg3)) (m (c.tc.loc main_arg0)) t q l

/-- A stretch of the block of operand 0, at a row and a channel. -/
theorem rows0 (ht : t.val < 8) (o : ℕ) (inb : Own o) (r : Fin 64) (l : Fin 384) (ho : o + r.val < 1024) :
    View.ld (iblk m c 0 t : Vec Ideal S1024x384 .f32) (Rect.unit (s := S1024x384) ![o, 0] S64x384.size inb) (ix2 r l)
      = (m (c.tc.loc main_arg0) : FVec Ideal S8192x384 .f32) (ix2 ⟨t.val * 1024 + (o + r.val), by omega⟩ l) := by
  refine (View.ld_unit_apply_of (iblk m c 0 t : Vec Ideal S1024x384 .f32) _ _ _ _ (ix2 ⟨o + r, ho⟩ l) fun (a : Fin 2) => by
    fin_cases a
    · rfl
    · exact (Nat.zero_add _).symm).trans ?_
  blk_ext [iblk, V, placed t]

/-- A stretch of the block of operand 1, at a row and a channel. -/
theorem rows1 (ht : t.val < 8) (o : ℕ) (inb : Own o) (r : Fin 64) (l : Fin 384) (ho : o + r.val < 1024) :
    View.ld (iblk m c 1 t : Vec Ideal S1024x384 .f32) (Rect.unit (s := S1024x384) ![o, 0] S64x384.size inb) (ix2 r l)
      = (m (c.tc.loc main_arg1) : FVec Ideal S8192x384 .f32) (ix2 ⟨t.val * 1024 + (o + r.val), by omega⟩ l) := by
  refine (View.ld_unit_apply_of (iblk m c 1 t : Vec Ideal S1024x384 .f32) _ _ _ _ (ix2 ⟨o + r, ho⟩ l) fun (a : Fin 2) => by
    fin_cases a
    · rfl
    · exact (Nat.zero_add _).symm).trans ?_
  blk_ext [iblk, V, placed t]

/-- A stretch of the block of operand 2, at a row and a channel. -/
theorem rows2 (ht : t.val < 8) (o : ℕ) (inb : Own o) (r : Fin 64) (l : Fin 384) (ho : o + r.val < 1024) :
    View.ld (iblk m c 2 t : Vec Ideal S1024x384 .f32) (Rect.unit (s := S1024x384) ![o, 0] S64x384.size inb) (ix2 r l)
      = (m (c.tc.loc main_arg2) : FVec Ideal S8192x384 .f32) (ix2 ⟨t.val * 1024 + (o + r.val), by omega⟩ l) := by
  refine (View.ld_unit_apply_of (iblk m c 2 t : Vec Ideal S1024x384 .f32) _ _ _ _ (ix2 ⟨o + r, ho⟩ l) fun (a : Fin 2) => by
    fin_cases a
    · rfl
    · exact (Nat.zero_add _).symm).trans ?_
  blk_ext [iblk, V, placed t]

/-- A stretch of the block of operand 3, at a row and a channel. -/
theorem rows3 (ht : t.val < 8) (o : ℕ) (inb : Own o) (r : Fin 64) (l : Fin 384) (ho : o + r.val < 1024) :
    View.ld (iblk m c 3 t : Vec Ideal S1024x384 .f32) (Rect.unit (s := S1024x384) ![o, 0] S64x384.size inb) (ix2 r l)
      = (m (c.tc.loc main_arg3) : FVec Ideal S8192x384 .f32) (ix2 ⟨t.val * 1024 + (o + r.val), by omega⟩ l) := by
  refine (View.ld_unit_apply_of (iblk m c 3 t : Vec Ideal S1024x384 .f32) _ _ _ _ (ix2 ⟨o + r, ho⟩ l) fun (a : Fin 2) => by
    fin_cases a
    · rfl
    · exact (Nat.zero_add _).symm).trans ?_
  blk_ext [iblk, V, placed t]

/-- A tap's weight at a channel. -/
theorem weight (k : ℕ) (hk : k < 3) (inb : Tap k) (l : Fin 384) :
    View.ld (iblk m c 8 t : Vec Ideal S3x384 .f32) (Rect.unit (s := S3x384) ![k, 0] S1x384.size inb) (ix2 0 l)
      = (m (c.tc.loc main_arg4) : FVec Ideal S3x384 .f32) (ix2 ⟨k, hk⟩ l) := by
  refine (View.ld_unit_apply_of (iblk m c 8 t : Vec Ideal S3x384 .f32) _ _ _ _ (ix2 ⟨k, hk⟩ l) fun (a : Fin 2) => by
    fin_cases a
    · rfl
    · exact (Nat.zero_add _).symm).trans ?_
  blk_ext [iblk, V, placed t]

/-- The rows of the chunk before, as the body keeps them. -/
theorem before_at (r : Fin 8) (l : Fin 384) :
    k0_pay9 (F := Ideal) (grid0.coords t) (iblk m c 4 t) (iblk m c 5 t) (ix2 r l) = headed m c t ⟨r.val, by omega⟩ l := by
  have ht : t.val < 8 := lt_of_lt_of_eq t.isLt N_0
  pointwise [k0_pay9]
  rw [(placed t).2.2.2.2.2.2.2.2.2.2.2.2]
  rcases Nat.mod_two_eq_zero_or_one t.val with h | h
  · rw [h, headed, headedOf, if_pos ⟨r.isLt, h⟩]
    rfl
  · rw [h, headed, headedOf, if_neg (by omega)]
    refine congrArg₂ (· * ·) ?_ ?_
    all_goals blk_ext [iblk, V, placed t]

/-- The rows of the chunk after, as the body keeps them. -/
theorem after_at (r : Fin 8) (l : Fin 384) :
    k0_pay10 (F := Ideal) (grid0.coords t) (iblk m c 7 t) (iblk m c 6 t) (ix2 r l) = tailed m c t ⟨1024 + r.val, by omega⟩ l := by
  have ht : t.val < 8 := lt_of_lt_of_eq t.isLt N_0
  pointwise [k0_pay10]
  rw [(placed t).2.2.2.2.2.2.2.2.2.2.2.2]
  rcases Nat.mod_two_eq_zero_or_one t.val with h | h
  · rw [h, tailed, tailedOf, dif_pos (Or.inr h)]
    refine congrArg₂ (· * ·) ?_ ?_
    all_goals blk_ext [iblk, V, placed t]
  · rw [h, tailed, tailedOf, dif_neg (fun hh => hh.elim (fun k => absurd (show 1024 + r.val < 1024 from k) (by omega)) (by omega))]
    rfl

/-- A row of the chunk's own product. -/
theorem headed_own (ht : t.val < 8) (p : ℕ) (hp : p < 1024) (q : Fin 1032) (l : Fin 384) (hq : q.val = p + 8) {u v : EReal}
    (hu : u = (m (c.tc.loc main_arg1) : FVec Ideal S8192x384 .f32) (ix2 ⟨t.val * 1024 + p, by omega⟩ l)) (hv : v = (m (c.tc.loc main_arg2) : FVec Ideal S8192x384 .f32) (ix2 ⟨t.val * 1024 + p, by omega⟩ l)) :
    u * v = headed m c t q l := by
  have e : (⟨t.val * 1024 + p, by omega⟩ : Fin 8192) = ⟨t.val * 1024 + q.val - 8, by omega⟩ := Fin.ext (by show t.val * 1024 + p = t.val * 1024 + q.val - 8; omega)
  rw [hu, hv, headed, headedOf, if_neg (by omega), e]

/-- A row of the chunk's own gradient. -/
theorem tailed_own (ht : t.val < 8) (p : ℕ) (hp : p < 1024) (q : Fin 1032) (l : Fin 384) (hq : q.val = p) {u v : EReal}
    (hu : u = (m (c.tc.loc main_arg3) : FVec Ideal S8192x384 .f32) (ix2 ⟨t.val * 1024 + p, by omega⟩ l)) (hv : v = (m (c.tc.loc main_arg0) : FVec Ideal S8192x384 .f32) (ix2 ⟨t.val * 1024 + p, by omega⟩ l)) :
    u * v = tailed m c t q l := by
  have e : (⟨t.val * 1024 + p, by omega⟩ : Fin 8192) = ⟨t.val * 1024 + q.val, by omega⟩ := Fin.ext (by show t.val * 1024 + p = t.val * 1024 + q.val; omega)
  rw [hu, hv, tailed, tailedOf, dif_pos (Or.inl (by omega)), e]

/-- A store whose entries are products. -/
def Product (p : FVec Ideal S64x384 .f32 → FVec Ideal S64x384 .f32 → FVec Ideal S64x384 .f32) : Prop :=
  ∀ u v (r : Fin 64) (l : Fin 384), p u v (ix2 r l) = u (ix2 r l) * v (ix2 r l)

/-- The products of stretch 0. -/
theorem head0 : Product fun u v => k0_pay11 u v := by
  intro u v r l; pointwise [k0_pay11]
/-- The products of stretch 1. -/
theorem head1 : Product fun u v => k0_pay13 u v := by
  intro u v r l; pointwise [k0_pay13]
/-- The products of stretch 2. -/
theorem head2 : Product fun u v => k0_pay15 u v := by
  intro u v r l; pointwise [k0_pay15]
/-- The products of stretch 3. -/
theorem head3 : Product fun u v => k0_pay18 u v := by
  intro u v r l; pointwise [k0_pay18]
/-- The products of stretch 4. -/
theorem head4 : Product fun u v => k0_pay20 u v := by
  intro u v r l; pointwise [k0_pay20]
/-- The products of stretch 5. -/
theorem head5 : Product fun u v => k0_pay22 u v := by
  intro u v r l; pointwise [k0_pay22]
/-- The products of stretch 6. -/
theorem head6 : Product fun u v => k0_pay24 u v := by
  intro u v r l; pointwise [k0_pay24]
/-- The products of stretch 7. -/
theorem head7 : Product fun u v => k0_pay27 (k0_pay26 u v) := by
  intro u v r l; pointwise [k0_pay26, k0_pay27]
/-- The products of stretch 8. -/
theorem head8 : Product fun u v => k0_pay29 u v := by
  intro u v r l; pointwise [k0_pay29]
/-- The products of stretch 9. -/
theorem head9 : Product fun u v => k0_pay31 u v := by
  intro u v r l; pointwise [k0_pay31]
/-- The products of stretch 10. -/
theorem head10 : Product fun u v => k0_pay33 u v := by
  intro u v r l; pointwise [k0_pay33]
/-- The products of stretch 11. -/
theorem head11 : Product fun u v => k0_pay35 u v := by
  intro u v r l; pointwise [k0_pay35]
/-- The products of stretch 12. -/
theorem head12 : Product fun u v => k0_pay37 u v := by
  intro u v r l; pointwise [k0_pay37]
/-- The products of stretch 13. -/
theorem head13 : Product fun u v => k0_pay39 u v := by
  intro u v r l; pointwise [k0_pay39]
/-- The products of stretch 14. -/
theorem head14 : Product fun u v => k0_pay42 (k0_pay41 u v) := by
  intro u v r l; pointwise [k0_pay41, k0_pay42]
/-- The products of stretch 15. -/
theorem head15 : Product fun u v => k0_pay44 u v := by
  intro u v r l; pointwise [k0_pay44]

/-- A stretch of the chunk's products, as a store. -/
abbrev headPiece (o o8 : ℕ) (inb : Own o) (inb8 : Pad o8)
    (p : FVec Ideal S64x384 .f32 → FVec Ideal S64x384 .f32 → FVec Ideal S64x384 .f32) : View.Piece (Elt Ideal) S1032x384 .f32 :=
  ⟨Rect.unit (s := S1032x384) ![o8, 0] S64x384.size inb8, p (View.ld (iblk m c 1 t) (Rect.unit (s := S1024x384) ![o, 0] S64x384.size inb)) (View.ld (iblk m c 2 t) (Rect.unit (s := S1024x384) ![o, 0] S64x384.size inb))⟩

/-- Such a stretch, where it is stored. -/
theorem headOwn (o o8 : ℕ) (h8 : o8 = o + 8) (ho : o ≤ 960) {p : FVec Ideal S64x384 .f32 → FVec Ideal S64x384 .f32 → FVec Ideal S64x384 .f32} (hp : Product p)
    (inb : Own o) (inb8 : Pad o8) (x : S64x384.Idx) :
    (headPiece m c t o o8 inb inb8 p).2 x = headed m c t ((Rect.unit (s := S1032x384) ![o8, 0] S64x384.size inb8).emb x 0) ((Rect.unit (s := S1032x384) ![o8, 0] S64x384.size inb8).emb x 1) := by
  idx_vars x
  have ht : t.val < 8 := lt_of_lt_of_eq t.isLt N_0
  have e : (Rect.unit (s := S1032x384) ![o8, 0] S64x384.size inb8).emb (ix2 x0 x1) = ix2 ⟨o8 + x0.val, by omega⟩ x1 := by blk_ext
  rw [e]
  exact (hp _ _ x0 x1).trans (headed_own m c t ht (o + x0.val) (by omega) ⟨o8 + x0.val, by omega⟩ x1 (by show o8 + x0.val = _; omega) (rows1 m c t ht o inb x0 x1 (by omega)) (rows2 m c t ht o inb x0 x1 (by omega)))

/-- The neighbouring chunk's rows, where they are stored. -/
theorem headHalo_emb (x : S8x384.Idx) :
    k0_pay9 (F := Ideal) (grid0.coords t) (iblk m c 4 t) (iblk m c 5 t) x
      = headed m c t ((Rect.unit (s := S1032x384) ![0, 0] S8x384.size inb_S1032x384_S8x384_0_0).emb x 0) ((Rect.unit (s := S1032x384) ![0, 0] S8x384.size inb_S1032x384_S8x384_0_0).emb x 1) := by
  idx_vars x
  have e : (Rect.unit (s := S1032x384) ![0, 0] S8x384.size inb_S1032x384_S8x384_0_0).emb (ix2 x0 x1) = ix2 ⟨x0.val, by omega⟩ x1 := by blk_ext
  rw [e]
  exact before_at m c t x0 x1

/-- The stores of the padded product, the last one first. -/
def headKept : List (View.Piece (Elt Ideal) S1032x384 .f32) :=
  [headPiece m c t 960 968 inb_S1024x384_S64x384_960_0 inb_S1032x384_S64x384_968_0 fun u v => k0_pay44 u v,
    headPiece m c t 896 904 inb_S1024x384_S64x384_896_0 inb_S1032x384_S64x384_904_0 fun u v => k0_pay42 (k0_pay41 u v),
    headPiece m c t 832 840 inb_S1024x384_S64x384_832_0 inb_S1032x384_S64x384_840_0 fun u v => k0_pay39 u v,
    headPiece m c t 768 776 inb_S1024x384_S64x384_768_0 inb_S1032x384_S64x384_776_0 fun u v => k0_pay37 u v,
    headPiece m c t 704 712 inb_S1024x384_S64x384_704_0 inb_S1032x384_S64x384_712_0 fun u v => k0_pay35 u v,
    headPiece m c t 640 648 inb_S1024x384_S64x384_640_0 inb_S1032x384_S64x384_648_0 fun u v => k0_pay33 u v,
    headPiece m c t 576 584 inb_S1024x384_S64x384_576_0 inb_S1032x384_S64x384_584_0 fun u v => k0_pay31 u v,
    headPiece m c t 512 520 inb_S1024x384_S64x384_512_0 inb_S1032x384_S64x384_520_0 fun u v => k0_pay29 u v,
    headPiece m c t 448 456 inb_S1024x384_S64x384_448_0 inb_S1032x384_S64x384_456_0 fun u v => k0_pay27 (k0_pay26 u v),
    headPiece m c t 384 392 inb_S1024x384_S64x384_384_0 inb_S1032x384_S64x384_392_0 fun u v => k0_pay24 u v,
    headPiece m c t 320 328 inb_S1024x384_S64x384_320_0 inb_S1032x384_S64x384_328_0 fun u v => k0_pay22 u v,
    headPiece m c t 256 264 inb_S1024x384_S64x384_256_0 inb_S1032x384_S64x384_264_0 fun u v => k0_pay20 u v,
    headPiece m c t 192 200 inb_S1024x384_S64x384_192_0 inb_S1032x384_S64x384_200_0 fun u v => k0_pay18 u v,
    headPiece m c t 128 136 inb_S1024x384_S64x384_128_0 inb_S1032x384_S64x384_136_0 fun u v => k0_pay15 u v,
    headPiece m c t 64 72 inb_S1024x384_S64x384_64_0 inb_S1032x384_S64x384_72_0 fun u v => k0_pay13 u v,
    headPiece m c t 0 8 inb_S1024x384_S64x384_0_0 inb_S1032x384_S64x384_8_0 fun u v => k0_pay11 u v,
    ⟨Rect.unit (s := S1032x384) ![0, 0] S8x384.size inb_S1032x384_S8x384_0_0, k0_pay9 (grid0.coords t) (iblk m c 4 t) (iblk m c 5 t)⟩]

/-- They leave the padded product. -/
theorem headKept_at (q : Fin 1032) (l : Fin 384) : View.canon (headKept m c t) (ix2 q l) = headed m c t q l := by
  unfold headKept
  refine View.canon_append_of_piecesOf (Val := Elt Ideal) (s := S1032x384) (e := .f32) (fun y => headed m c t (y 0) (y 1)) [] [_, _, _, _, _, _, _, _, _, _, _, _, _, _, _, _, _] ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩ (ix2 q l) (View.cover_of_tiledBy _ ![8, 384] (by sl_kernel_rfl) (ix2 q l))
  · have g := headOwn m c t 960 968 rfl (by norm_num) head15; exact g _ _ x
  · have g := headOwn m c t 896 904 rfl (by norm_num) head14; exact g _ _ x
  · have g := headOwn m c t 832 840 rfl (by norm_num) head13; exact g _ _ x
  · have g := headOwn m c t 768 776 rfl (by norm_num) head12; exact g _ _ x
  · have g := headOwn m c t 704 712 rfl (by norm_num) head11; exact g _ _ x
  · have g := headOwn m c t 640 648 rfl (by norm_num) head10; exact g _ _ x
  · have g := headOwn m c t 576 584 rfl (by norm_num) head9; exact g _ _ x
  · have g := headOwn m c t 512 520 rfl (by norm_num) head8; exact g _ _ x
  · have g := headOwn m c t 448 456 rfl (by norm_num) head7; exact g _ _ x
  · have g := headOwn m c t 384 392 rfl (by norm_num) head6; exact g _ _ x
  · have g := headOwn m c t 320 328 rfl (by norm_num) head5; exact g _ _ x
  · have g := headOwn m c t 256 264 rfl (by norm_num) head4; exact g _ _ x
  · have g := headOwn m c t 192 200 rfl (by norm_num) head3; exact g _ _ x
  · have g := headOwn m c t 128 136 rfl (by norm_num) head2; exact g _ _ x
  · have g := headOwn m c t 64 72 rfl (by norm_num) head1; exact g _ _ x
  · have g := headOwn m c t 0 8 rfl (by norm_num) head0; exact g _ _ x
  · exact headHalo_emb m c t x

/-- Reading 64 rows of it back. -/
theorem headRead64 (o : ℕ) (inb : Pad o) (r : Fin 64) (l : Fin 384) (ho : o + r.val < 1032) :
    (View.whole cc0_scratch0).readCov (headKept m c t) (Rect.unit (s := S1032x384) ![o, 0] S64x384.size inb).toLoadRect (ix2 r l) = headed m c t ⟨o + r.val, ho⟩ l := by
  rw [View.readCov_eq_canon']
  refine Eq.trans (congrArg (View.canon (headKept m c t)) ?_) (headKept_at m c t ⟨o + r.val, ho⟩ l)
  show (Rect.unit (s := S1032x384) ![o, 0] S64x384.size inb).emb (ix2 r l) = ix2 ⟨o + r.val, ho⟩ l
  blk_ext

/-- Reading 1024 rows of it back. -/
theorem headRead1024 (o : ℕ) (inb : ∀ a, (![o, 0] : Fin 2 → Nat) a + S1024x384.size a ≤ S1032x384.size a) (r : Fin 1024) (l : Fin 384) (ho : o + r.val < 1032) :
    (View.whole cc0_scratch0).readCov (headKept m c t) (Rect.unit (s := S1032x384) ![o, 0] S1024x384.size inb).toLoadRect (ix2 r l) = headed m c t ⟨o + r.val, ho⟩ l := by
  rw [View.readCov_eq_canon']
  refine Eq.trans (congrArg (View.canon (headKept m c t)) ?_) (headKept_at m c t ⟨o + r.val, ho⟩ l)
  show (Rect.unit (s := S1032x384) ![o, 0] S1024x384.size inb).emb (ix2 r l) = ix2 ⟨o + r.val, ho⟩ l
  blk_ext

/-- The two shifted copies of the padded product, the last one first. -/
def headShifts : List (View.Piece (Elt Ideal) S8x1032x384 .f32) :=
  [⟨Rect.unit (s := S8x1032x384) ![7, 0, 0] S1x1024x384.size inb_S8x1032x384_S1x1024x384_7_0_0, k0_pay47 ((View.whole cc0_scratch0).readCov (headKept m c t) (Rect.unit (s := S1032x384) ![7, 0] S1024x384.size inb_S1032x384_S1024x384_7_0).toLoadRect)⟩,
    ⟨Rect.unit (s := S8x1032x384) ![6, 0, 0] S1x1024x384.size inb_S8x1032x384_S1x1024x384_6_0_0, k0_pay46 ((View.whole cc0_scratch0).readCov (headKept m c t) (Rect.unit (s := S1032x384) ![6, 0] S1024x384.size inb_S1032x384_S1024x384_6_0).toLoadRect)⟩]

/-- Reading a stretch of the copy shifted by 7. -/
theorem headShifted7 (o : ℕ) (inb : Shift 7 o) (r : Fin 64) (l : Fin 384) (ho : o + r.val < 1024) :
    (View.whole cc0_scratch2).readCov (headShifts m c t) (Rect.unit (s := S8x1032x384) ![7, o, 0] S1x64x384.size inb).toLoadRect (ix3 0 r l) = headed m c t ⟨7 + (o + r.val), by omega⟩ l := by
  rw [View.readCov_eq_canon']
  have e : (Rect.unit (s := S8x1032x384) ![7, o, 0] S1x64x384.size inb).emb (ix3 0 r l)
      = (Rect.unit (s := S8x1032x384) ![7, 0, 0] S1x1024x384.size inb_S8x1032x384_S1x1024x384_7_0_0).emb (ix3 0 ⟨o + r.val, ho⟩ l) := by blk_ext
  refine (congrArg (View.canon (headShifts m c t)) e).trans ((View.canon_cons_emb _ _ _ _).trans ?_)
  pointwise [k0_pay47]
  exact headRead1024 m c t 7 _ ⟨o + r.val, ho⟩ l _

/-- Reading a stretch of the copy shifted by 6. -/
theorem headShifted6 (o : ℕ) (inb : Shift 6 o) (r : Fin 64) (l : Fin 384) (ho : o + r.val < 1024) :
    (View.whole cc0_scratch2).readCov (headShifts m c t) (Rect.unit (s := S8x1032x384) ![6, o, 0] S1x64x384.size inb).toLoadRect (ix3 0 r l) = headed m c t ⟨6 + (o + r.val), by omega⟩ l := by
  rw [View.readCov_eq_canon']
  have e : (Rect.unit (s := S8x1032x384) ![6, o, 0] S1x64x384.size inb).emb (ix3 0 r l)
      = (Rect.unit (s := S8x1032x384) ![6, 0, 0] S1x1024x384.size inb_S8x1032x384_S1x1024x384_6_0_0).emb (ix3 0 ⟨o + r.val, ho⟩ l) := by blk_ext
  refine (congrArg (View.canon (headShifts m c t)) e).trans ?_
  refine (View.canon_cons_of_not_mem _ _ ?_).trans ((View.canon_cons_emb _ _ _ _).trans ?_)
  · intro hm
    have hh := (Rect.mem_set_unit (s := S8x1032x384) (off := ![7, 0, 0]) (size := S1x1024x384.size) (inb := inb_S8x1032x384_S1x1024x384_7_0_0)).1 hm (0 : Fin 3)
    exact absurd (show (7 : ℕ) ≤ 6 from hh.1) (by decide)
  · pointwise [k0_pay46]
    exact headRead1024 m c t 6 _ ⟨o + r.val, ho⟩ l _
/-- The gradients of stretch 0. -/
theorem tail0 : Product fun u v => k0_pay12 u v := by
  intro u v r l; pointwise [k0_pay12]
/-- The gradients of stretch 1. -/
theorem tail1 : Product fun u v => k0_pay14 u v := by
  intro u v r l; pointwise [k0_pay14]
/-- The gradients of stretch 2. -/
theorem tail2 : Product fun u v => k0_pay17 (k0_pay16 u v) := by
  intro u v r l; pointwise [k0_pay16, k0_pay17]
/-- The gradients of stretch 3. -/
theorem tail3 : Product fun u v => k0_pay19 u v := by
  intro u v r l; pointwise [k0_pay19]
/-- The gradients of stretch 4. -/
theorem tail4 : Product fun u v => k0_pay21 u v := by
  intro u v r l; pointwise [k0_pay21]
/-- The gradients of stretch 5. -/
theorem tail5 : Product fun u v => k0_pay23 u v := by
  intro u v r l; pointwise [k0_pay23]
/-- The gradients of stretch 6. -/
theorem tail6 : Product fun u v => k0_pay25 u v := by
  intro u v r l; pointwise [k0_pay25]
/-- The gradients of stretch 7. -/
theorem tail7 : Product fun u v => k0_pay28 u v := by
  intro u v r l; pointwise [k0_pay28]
/-- The gradients of stretch 8. -/
theorem tail8 : Product fun u v => k0_pay30 u v := by
  intro u v r l; pointwise [k0_pay30]
/-- The gradients of stretch 9. -/
theorem tail9 : Product fun u v => k0_pay32 u v := by
  intro u v r l; pointwise [k0_pay32]
/-- The gradients of stretch 10. -/
theorem tail10 : Product fun u v => k0_pay34 u v := by
  intro u v r l; pointwise [k0_pay34]
/-- The gradients of stretch 11. -/
theorem tail11 : Product fun u v => k0_pay36 u v := by
  intro u v r l; pointwise [k0_pay36]
/-- The gradients of stretch 12. -/
theorem tail12 : Product fun u v => k0_pay38 u v := by
  intro u v r l; pointwise [k0_pay38]
/-- The gradients of stretch 13. -/
theorem tail13 : Product fun u v => k0_pay40 u v := by
  intro u v r l; pointwise [k0_pay40]
/-- The gradients of stretch 14. -/
theorem tail14 : Product fun u v => k0_pay43 u v := by
  intro u v r l; pointwise [k0_pay43]
/-- The gradients of stretch 15. -/
theorem tail15 : Product fun u v => k0_pay45 u v := by
  intro u v r l; pointwise [k0_pay45]

/-- A stretch of the chunk's gradients, as a store. -/
abbrev tailPiece (o o8 : ℕ) (inb : Own o) (inb8 : Pad o8)
    (p : FVec Ideal S64x384 .f32 → FVec Ideal S64x384 .f32 → FVec Ideal S64x384 .f32) : View.Piece (Elt Ideal) S1032x384 .f32 :=
  ⟨Rect.unit (s := S1032x384) ![o8, 0] S64x384.size inb8, p (View.ld (iblk m c 3 t) (Rect.unit (s := S1024x384) ![o, 0] S64x384.size inb)) (View.ld (iblk m c 0 t) (Rect.unit (s := S1024x384) ![o, 0] S64x384.size inb))⟩

/-- Such a stretch, where it is stored. -/
theorem tailOwn (o o8 : ℕ) (h8 : o8 = o) (ho : o ≤ 960) {p : FVec Ideal S64x384 .f32 → FVec Ideal S64x384 .f32 → FVec Ideal S64x384 .f32} (hp : Product p)
    (inb : Own o) (inb8 : Pad o8) (x : S64x384.Idx) :
    (tailPiece m c t o o8 inb inb8 p).2 x = tailed m c t ((Rect.unit (s := S1032x384) ![o8, 0] S64x384.size inb8).emb x 0) ((Rect.unit (s := S1032x384) ![o8, 0] S64x384.size inb8).emb x 1) := by
  idx_vars x
  have ht : t.val < 8 := lt_of_lt_of_eq t.isLt N_0
  have e : (Rect.unit (s := S1032x384) ![o8, 0] S64x384.size inb8).emb (ix2 x0 x1) = ix2 ⟨o8 + x0.val, by omega⟩ x1 := by blk_ext
  rw [e]
  exact (hp _ _ x0 x1).trans (tailed_own m c t ht (o + x0.val) (by omega) ⟨o8 + x0.val, by omega⟩ x1 (by show o8 + x0.val = _; omega) (rows3 m c t ht o inb x0 x1 (by omega)) (rows0 m c t ht o inb x0 x1 (by omega)))

/-- The neighbouring chunk's rows, where they are stored. -/
theorem tailHalo_emb (x : S8x384.Idx) :
    k0_pay10 (F := Ideal) (grid0.coords t) (iblk m c 7 t) (iblk m c 6 t) x
      = tailed m c t ((Rect.unit (s := S1032x384) ![1024, 0] S8x384.size inb_S1032x384_S8x384_1024_0).emb x 0) ((Rect.unit (s := S1032x384) ![1024, 0] S8x384.size inb_S1032x384_S8x384_1024_0).emb x 1) := by
  idx_vars x
  have e : (Rect.unit (s := S1032x384) ![1024, 0] S8x384.size inb_S1032x384_S8x384_1024_0).emb (ix2 x0 x1) = ix2 ⟨1024 + x0.val, by omega⟩ x1 := by blk_ext
  rw [e]
  exact after_at m c t x0 x1

/-- The stores of the padded gradient, the last one first. -/
def tailKept : List (View.Piece (Elt Ideal) S1032x384 .f32) :=
  [tailPiece m c t 960 960 inb_S1024x384_S64x384_960_0 inb_S1032x384_S64x384_960_0 fun u v => k0_pay45 u v,
    tailPiece m c t 896 896 inb_S1024x384_S64x384_896_0 inb_S1032x384_S64x384_896_0 fun u v => k0_pay43 u v,
    tailPiece m c t 832 832 inb_S1024x384_S64x384_832_0 inb_S1032x384_S64x384_832_0 fun u v => k0_pay40 u v,
    tailPiece m c t 768 768 inb_S1024x384_S64x384_768_0 inb_S1032x384_S64x384_768_0 fun u v => k0_pay38 u v,
    tailPiece m c t 704 704 inb_S1024x384_S64x384_704_0 inb_S1032x384_S64x384_704_0 fun u v => k0_pay36 u v,
    tailPiece m c t 640 640 inb_S1024x384_S64x384_640_0 inb_S1032x384_S64x384_640_0 fun u v => k0_pay34 u v,
    tailPiece m c t 576 576 inb_S1024x384_S64x384_576_0 inb_S1032x384_S64x384_576_0 fun u v => k0_pay32 u v,
    tailPiece m c t 512 512 inb_S1024x384_S64x384_512_0 inb_S1032x384_S64x384_512_0 fun u v => k0_pay30 u v,
    tailPiece m c t 448 448 inb_S1024x384_S64x384_448_0 inb_S1032x384_S64x384_448_0 fun u v => k0_pay28 u v,
    tailPiece m c t 384 384 inb_S1024x384_S64x384_384_0 inb_S1032x384_S64x384_384_0 fun u v => k0_pay25 u v,
    tailPiece m c t 320 320 inb_S1024x384_S64x384_320_0 inb_S1032x384_S64x384_320_0 fun u v => k0_pay23 u v,
    tailPiece m c t 256 256 inb_S1024x384_S64x384_256_0 inb_S1032x384_S64x384_256_0 fun u v => k0_pay21 u v,
    tailPiece m c t 192 192 inb_S1024x384_S64x384_192_0 inb_S1032x384_S64x384_192_0 fun u v => k0_pay19 u v,
    tailPiece m c t 128 128 inb_S1024x384_S64x384_128_0 inb_S1032x384_S64x384_128_0 fun u v => k0_pay17 (k0_pay16 u v),
    tailPiece m c t 64 64 inb_S1024x384_S64x384_64_0 inb_S1032x384_S64x384_64_0 fun u v => k0_pay14 u v,
    tailPiece m c t 0 0 inb_S1024x384_S64x384_0_0 inb_S1032x384_S64x384_0_0 fun u v => k0_pay12 u v,
    ⟨Rect.unit (s := S1032x384) ![1024, 0] S8x384.size inb_S1032x384_S8x384_1024_0, k0_pay10 (grid0.coords t) (iblk m c 7 t) (iblk m c 6 t)⟩]

/-- They leave the padded gradient. -/
theorem tailKept_at (q : Fin 1032) (l : Fin 384) : View.canon (tailKept m c t) (ix2 q l) = tailed m c t q l := by
  unfold tailKept
  refine View.canon_append_of_piecesOf (Val := Elt Ideal) (s := S1032x384) (e := .f32) (fun y => tailed m c t (y 0) (y 1)) [] [_, _, _, _, _, _, _, _, _, _, _, _, _, _, _, _, _] ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩ (ix2 q l) (View.cover_of_tiledBy _ ![8, 384] (by sl_kernel_rfl) (ix2 q l))
  · have g := tailOwn m c t 960 960 rfl (by norm_num) tail15; exact g _ _ x
  · have g := tailOwn m c t 896 896 rfl (by norm_num) tail14; exact g _ _ x
  · have g := tailOwn m c t 832 832 rfl (by norm_num) tail13; exact g _ _ x
  · have g := tailOwn m c t 768 768 rfl (by norm_num) tail12; exact g _ _ x
  · have g := tailOwn m c t 704 704 rfl (by norm_num) tail11; exact g _ _ x
  · have g := tailOwn m c t 640 640 rfl (by norm_num) tail10; exact g _ _ x
  · have g := tailOwn m c t 576 576 rfl (by norm_num) tail9; exact g _ _ x
  · have g := tailOwn m c t 512 512 rfl (by norm_num) tail8; exact g _ _ x
  · have g := tailOwn m c t 448 448 rfl (by norm_num) tail7; exact g _ _ x
  · have g := tailOwn m c t 384 384 rfl (by norm_num) tail6; exact g _ _ x
  · have g := tailOwn m c t 320 320 rfl (by norm_num) tail5; exact g _ _ x
  · have g := tailOwn m c t 256 256 rfl (by norm_num) tail4; exact g _ _ x
  · have g := tailOwn m c t 192 192 rfl (by norm_num) tail3; exact g _ _ x
  · have g := tailOwn m c t 128 128 rfl (by norm_num) tail2; exact g _ _ x
  · have g := tailOwn m c t 64 64 rfl (by norm_num) tail1; exact g _ _ x
  · have g := tailOwn m c t 0 0 rfl (by norm_num) tail0; exact g _ _ x
  · exact tailHalo_emb m c t x

/-- Reading 64 rows of it back. -/
theorem tailRead64 (o : ℕ) (inb : Pad o) (r : Fin 64) (l : Fin 384) (ho : o + r.val < 1032) :
    (View.whole cc0_scratch1).readCov (tailKept m c t) (Rect.unit (s := S1032x384) ![o, 0] S64x384.size inb).toLoadRect (ix2 r l) = tailed m c t ⟨o + r.val, ho⟩ l := by
  rw [View.readCov_eq_canon']
  refine Eq.trans (congrArg (View.canon (tailKept m c t)) ?_) (tailKept_at m c t ⟨o + r.val, ho⟩ l)
  show (Rect.unit (s := S1032x384) ![o, 0] S64x384.size inb).emb (ix2 r l) = ix2 ⟨o + r.val, ho⟩ l
  blk_ext

/-- Reading 1024 rows of it back. -/
theorem tailRead1024 (o : ℕ) (inb : ∀ a, (![o, 0] : Fin 2 → Nat) a + S1024x384.size a ≤ S1032x384.size a) (r : Fin 1024) (l : Fin 384) (ho : o + r.val < 1032) :
    (View.whole cc0_scratch1).readCov (tailKept m c t) (Rect.unit (s := S1032x384) ![o, 0] S1024x384.size inb).toLoadRect (ix2 r l) = tailed m c t ⟨o + r.val, ho⟩ l := by
  rw [View.readCov_eq_canon']
  refine Eq.trans (congrArg (View.canon (tailKept m c t)) ?_) (tailKept_at m c t ⟨o + r.val, ho⟩ l)
  show (Rect.unit (s := S1032x384) ![o, 0] S1024x384.size inb).emb (ix2 r l) = ix2 ⟨o + r.val, ho⟩ l
  blk_ext

/-- The two shifted copies of the padded gradient, the last one first. -/
def tailShifts : List (View.Piece (Elt Ideal) S8x1032x384 .f32) :=
  [⟨Rect.unit (s := S8x1032x384) ![2, 0, 0] S1x1024x384.size inb_S8x1032x384_S1x1024x384_2_0_0, k0_pay49 ((View.whole cc0_scratch1).readCov (tailKept m c t) (Rect.unit (s := S1032x384) ![2, 0] S1024x384.size inb_S1032x384_S1024x384_2_0).toLoadRect)⟩,
    ⟨Rect.unit (s := S8x1032x384) ![1, 0, 0] S1x1024x384.size inb_S8x1032x384_S1x1024x384_1_0_0, k0_pay48 ((View.whole cc0_scratch1).readCov (tailKept m c t) (Rect.unit (s := S1032x384) ![1, 0] S1024x384.size inb_S1032x384_S1024x384_1_0).toLoadRect)⟩]

/-- Reading a stretch of the copy shifted by 2. -/
theorem tailShifted2 (o : ℕ) (inb : Shift 2 o) (r : Fin 64) (l : Fin 384) (ho : o + r.val < 1024) :
    (View.whole cc0_scratch3).readCov (tailShifts m c t) (Rect.unit (s := S8x1032x384) ![2, o, 0] S1x64x384.size inb).toLoadRect (ix3 0 r l) = tailed m c t ⟨2 + (o + r.val), by omega⟩ l := by
  rw [View.readCov_eq_canon']
  have e : (Rect.unit (s := S8x1032x384) ![2, o, 0] S1x64x384.size inb).emb (ix3 0 r l)
      = (Rect.unit (s := S8x1032x384) ![2, 0, 0] S1x1024x384.size inb_S8x1032x384_S1x1024x384_2_0_0).emb (ix3 0 ⟨o + r.val, ho⟩ l) := by blk_ext
  refine (congrArg (View.canon (tailShifts m c t)) e).trans ((View.canon_cons_emb _ _ _ _).trans ?_)
  pointwise [k0_pay49]
  exact tailRead1024 m c t 2 _ ⟨o + r.val, ho⟩ l _

/-- Reading a stretch of the copy shifted by 1. -/
theorem tailShifted1 (o : ℕ) (inb : Shift 1 o) (r : Fin 64) (l : Fin 384) (ho : o + r.val < 1024) :
    (View.whole cc0_scratch3).readCov (tailShifts m c t) (Rect.unit (s := S8x1032x384) ![1, o, 0] S1x64x384.size inb).toLoadRect (ix3 0 r l) = tailed m c t ⟨1 + (o + r.val), by omega⟩ l := by
  rw [View.readCov_eq_canon']
  have e : (Rect.unit (s := S8x1032x384) ![1, o, 0] S1x64x384.size inb).emb (ix3 0 r l)
      = (Rect.unit (s := S8x1032x384) ![1, 0, 0] S1x1024x384.size inb_S8x1032x384_S1x1024x384_1_0_0).emb (ix3 0 ⟨o + r.val, ho⟩ l) := by blk_ext
  refine (congrArg (View.canon (tailShifts m c t)) e).trans ?_
  refine (View.canon_cons_of_not_mem _ _ ?_).trans ((View.canon_cons_emb _ _ _ _).trans ?_)
  · intro hm
    have hh := (Rect.mem_set_unit (s := S8x1032x384) (off := ![2, 0, 0]) (size := S1x1024x384.size) (inb := inb_S8x1032x384_S1x1024x384_2_0_0)).1 hm (0 : Fin 3)
    exact absurd (show (2 : ℕ) ≤ 1 from hh.1) (by decide)
  · pointwise [k0_pay48]
    exact tailRead1024 m c t 1 _ ⟨o + r.val, ho⟩ l _

/-- A row of the padded product is the reference's product of some rows earlier. -/
theorem headed_earlier (ht : t.val < 8) (k : ℕ) (hk : k < 3) (p : ℕ) (hp : p < 1024) (l : Fin 384) (i : Fin 8192) (hi : i.val = t.val * 1024 + p) (q : Fin 1032) (hq : q.val = 6 + k + p) :
    headed m c t q l = MixCBwdReferenceIdeal.Spec.earlier (m (c.tc.loc main_arg1)) (m (c.tc.loc main_arg2)) i k hk l := by
  unfold headed headedOf MixCBwdReferenceIdeal.Spec.earlier
  have e : (⟨t.val * 1024 + q.val - 8, by omega⟩ : Fin 8192) = ⟨i.val + k - 2, by omega⟩ := Fin.ext (by show t.val * 1024 + q.val - 8 = i.val + k - 2; omega)
  by_cases h : q.val < 8 ∧ t.val % 2 = 0
  · rw [if_pos h, if_pos (by omega)]
  · rw [if_neg h, if_neg (by omega), e]

/-- A row of the padded gradient is the reference's gradient of some rows later. -/
theorem tailed_later (ht : t.val < 8) (k : ℕ) (hk : k < 3) (p : ℕ) (hp : p < 1024) (l : Fin 384) (i : Fin 8192) (hi : i.val = t.val * 1024 + p) (q : Fin 1032) (hq : q.val = k + p) :
    tailed m c t q l = MixCBwdReferenceIdeal.Spec.later (m (c.tc.loc main_arg0)) (m (c.tc.loc main_arg3)) i k l := by
  unfold tailed tailedOf MixCBwdReferenceIdeal.Spec.later
  by_cases h : q.val < 1024 ∨ t.val % 2 = 0
  · have e : (⟨t.val * 1024 + q.val, by omega⟩ : Fin 8192) = ⟨i.val + k, by omega⟩ := Fin.ext (by show t.val * 1024 + q.val = i.val + k; omega)
    rw [dif_pos h, dif_pos (by omega), e]
  · rw [dif_neg h, dif_neg (by omega)]

/-- A stretch of the gate's gradient at a grid point is its rows of the reference. -/
theorem gate_rows (ht : t.val < 8) (o : ℕ) (y0 : Fin 1024) (y1 : Fin 384) (r : Fin 64) (l : Fin 384) (h0 : y0.val = o + r.val) (h1 : y1.val = l.val) {x a b e w0 w1 w2 : EReal}
    (hx : x = (m (c.tc.loc main_arg3) : FVec Ideal S8192x384 .f32) (ix2 ⟨t.val * 1024 + (o + r.val), by omega⟩ l))
    (ha : a = headed m c t ⟨6 + (o + r.val), by omega⟩ l) (hb : b = headed m c t ⟨7 + (o + r.val), by omega⟩ l) (he : e = headed m c t ⟨o + 8 + r.val, by omega⟩ l)
    (hw0 : w0 = (m (c.tc.loc main_arg4) : FVec Ideal S3x384 .f32) (ix2 ⟨0, by omega⟩ l)) (hw1 : w1 = (m (c.tc.loc main_arg4) : FVec Ideal S3x384 .f32) (ix2 ⟨1, by omega⟩ l)) (hw2 : w2 = (m (c.tc.loc main_arg4) : FVec Ideal S3x384 .f32) (ix2 ⟨2, by omega⟩ l)) :
    x * (a * w0 + b * w1 + e * w2) = MixCBwdReferenceIdeal.Spec.result0 (m (c.tc.loc main_arg0)) (m (c.tc.loc main_arg1)) (m (c.tc.loc main_arg2)) (m (c.tc.loc main_arg3)) (m (c.tc.loc main_arg4)) (ix2 ⟨t.val * 1024 + y0, by omega⟩ y1) := by
  obtain rfl : y1 = l := Fin.ext h1
  have ee : (⟨t.val * 1024 + y0, by omega⟩ : Fin 8192) = ⟨t.val * 1024 + (o + r.val), by omega⟩ := Fin.ext (by show t.val * 1024 + y0.val = t.val * 1024 + (o + r.val); omega)
  rw [ee, MixCBwdReferenceIdeal.Spec.result0_at, hx, ha, hb, he, hw0, hw1, hw2,
    headed_earlier m c t ht 0 (by omega) (o + r.val) (by omega) y1 ⟨t.val * 1024 + (o + r.val), by omega⟩ rfl ⟨6 + (o + r.val), by omega⟩ rfl,
    headed_earlier m c t ht 1 (by omega) (o + r.val) (by omega) y1 ⟨t.val * 1024 + (o + r.val), by omega⟩ rfl ⟨7 + (o + r.val), by omega⟩ rfl,
    headed_earlier m c t ht 2 (by omega) (o + r.val) (by omega) y1 ⟨t.val * 1024 + (o + r.val), by omega⟩ rfl ⟨o + 8 + r.val, by omega⟩ (by show o + 8 + r.val = 6 + 2 + (o + r.val); omega)]
  rfl

/-- A stretch of the convolved product's gradient at a grid point is its rows of the reference. -/
theorem back_rows (ht : t.val < 8) (o : ℕ) (r : Fin 64) (l : Fin 384) (ho : o + r.val < 1024) {a b e w0 w1 w2 : EReal}
    (ha : a = tailed m c t ⟨2 + (o + r.val), by omega⟩ l) (hb : b = tailed m c t ⟨1 + (o + r.val), by omega⟩ l) (he : e = tailed m c t ⟨o + r.val, by omega⟩ l)
    (hw0 : w0 = (m (c.tc.loc main_arg4) : FVec Ideal S3x384 .f32) (ix2 ⟨0, by omega⟩ l)) (hw1 : w1 = (m (c.tc.loc main_arg4) : FVec Ideal S3x384 .f32) (ix2 ⟨1, by omega⟩ l)) (hw2 : w2 = (m (c.tc.loc main_arg4) : FVec Ideal S3x384 .f32) (ix2 ⟨2, by omega⟩ l)) :
    a * w0 + b * w1 + e * w2 = MixCBwdReferenceIdeal.Spec.back (m (c.tc.loc main_arg0)) (m (c.tc.loc main_arg3)) (m (c.tc.loc main_arg4)) ⟨t.val * 1024 + (o + r.val), by omega⟩ l := by
  rw [MixCBwdReferenceIdeal.Spec.back, ha, hb, he, hw0, hw1, hw2,
    tailed_later m c t ht 2 (by omega) (o + r.val) (by omega) l ⟨t.val * 1024 + (o + r.val), by omega⟩ rfl ⟨2 + (o + r.val), by omega⟩ rfl,
    tailed_later m c t ht 1 (by omega) (o + r.val) (by omega) l ⟨t.val * 1024 + (o + r.val), by omega⟩ rfl ⟨1 + (o + r.val), by omega⟩ rfl,
    tailed_later m c t ht 0 (by omega) (o + r.val) (by omega) l ⟨t.val * 1024 + (o + r.val), by omega⟩ rfl ⟨o + r.val, by omega⟩ (by show o + r.val = 0 + (o + r.val); omega)]
  rfl

/-- A stretch of the first factor's gradient at a grid point is its rows of the reference. -/
theorem first_rows (ht : t.val < 8) (o : ℕ) (y0 : Fin 1024) (y1 : Fin 384) (r : Fin 64) (l : Fin 384) (h0 : y0.val = o + r.val) (h1 : y1.val = l.val) {x g : EReal}
    (hg : g = MixCBwdReferenceIdeal.Spec.back (m (c.tc.loc main_arg0)) (m (c.tc.loc main_arg3)) (m (c.tc.loc main_arg4)) ⟨t.val * 1024 + (o + r.val), by omega⟩ l)
    (hx : x = (m (c.tc.loc main_arg2) : FVec Ideal S8192x384 .f32) (ix2 ⟨t.val * 1024 + (o + r.val), by omega⟩ l)) :
    g * x = MixCBwdReferenceIdeal.Spec.result1 (m (c.tc.loc main_arg0)) (m (c.tc.loc main_arg1)) (m (c.tc.loc main_arg2)) (m (c.tc.loc main_arg3)) (m (c.tc.loc main_arg4)) (ix2 ⟨t.val * 1024 + y0, by omega⟩ y1) := by
  obtain rfl : y1 = l := Fin.ext h1
  have ee : (⟨t.val * 1024 + y0, by omega⟩ : Fin 8192) = ⟨t.val * 1024 + (o + r.val), by omega⟩ := Fin.ext (by show t.val * 1024 + y0.val = t.val * 1024 + (o + r.val); omega)
  rw [ee, MixCBwdReferenceIdeal.Spec.result1_at, hg, hx]

/-- A stretch of the second factor's gradient at a grid point is its rows of the reference. -/
theorem second_rows (ht : t.val < 8) (o : ℕ) (y0 : Fin 1024) (y1 : Fin 384) (r : Fin 64) (l : Fin 384) (h0 : y0.val = o + r.val) (h1 : y1.val = l.val) {x g : EReal}
    (hg : g = MixCBwdReferenceIdeal.Spec.back (m (c.tc.loc main_arg0)) (m (c.tc.loc main_arg3)) (m (c.tc.loc main_arg4)) ⟨t.val * 1024 + (o + r.val), by omega⟩ l)
    (hx : x = (m (c.tc.loc main_arg1) : FVec Ideal S8192x384 .f32) (ix2 ⟨t.val * 1024 + (o + r.val), by omega⟩ l)) :
    g * x = MixCBwdReferenceIdeal.Spec.result2 (m (c.tc.loc main_arg0)) (m (c.tc.loc main_arg1)) (m (c.tc.loc main_arg2)) (m (c.tc.loc main_arg3)) (m (c.tc.loc main_arg4)) (ix2 ⟨t.val * 1024 + y0, by omega⟩ y1) := by
  obtain rfl : y1 = l := Fin.ext h1
  have ee : (⟨t.val * 1024 + y0, by omega⟩ : Fin 8192) = ⟨t.val * 1024 + (o + r.val), by omega⟩ := Fin.ext (by show t.val * 1024 + y0.val = t.val * 1024 + (o + r.val); omega)
  rw [ee, MixCBwdReferenceIdeal.Spec.result2_at, hg, hx]

/-- A store of the gate output holds its rows of the reference. -/
theorem gate_piece (o o8 : ℕ) (h8 : o8 = o + 8) (ho : o ≤ 960) {p} (hp : Gate p)
    (inb : Own o) (inb6 : Shift 6 o) (inb7 : Shift 7 o)
    (inb8 : Pad o8) (i0 : Tap 0) (i1 : Tap 1) (i2 : Tap 2)
    (y0 : Fin 1024) (y1 : Fin 384) (x : S64x384.Idx) (h0 : y0.val = o + (x 0).val) (h1 : y1.val = (x 1).val) :
    p (View.ld (iblk m c 3 t : Vec Ideal S1024x384 .f32) (Rect.unit (s := S1024x384) ![o, 0] S64x384.size inb)) ((View.whole cc0_scratch2).readCov (headShifts m c t) (Rect.unit (s := S8x1032x384) ![6, o, 0] S1x64x384.size inb6).toLoadRect) (View.ld (iblk m c 8 t : Vec Ideal S3x384 .f32) (Rect.unit (s := S3x384) ![0, 0] S1x384.size i0)) ((View.whole cc0_scratch2).readCov (headShifts m c t) (Rect.unit (s := S8x1032x384) ![7, o, 0] S1x64x384.size inb7).toLoadRect) (View.ld (iblk m c 8 t : Vec Ideal S3x384 .f32) (Rect.unit (s := S3x384) ![1, 0] S1x384.size i1))
      ((View.whole cc0_scratch0).readCov (headKept m c t) (Rect.unit (s := S1032x384) ![o8, 0] S64x384.size inb8).toLoadRect) (View.ld (iblk m c 8 t : Vec Ideal S3x384 .f32) (Rect.unit (s := S3x384) ![2, 0] S1x384.size i2)) x
      = MixCBwdReferenceIdeal.Spec.result0 (m (c.tc.loc main_arg0)) (m (c.tc.loc main_arg1)) (m (c.tc.loc main_arg2)) (m (c.tc.loc main_arg3)) (m (c.tc.loc main_arg4)) (ix2 ⟨t.val * 1024 + y0, by have : t.val < 8 := lt_of_lt_of_eq t.isLt N_0; omega⟩ y1) := by
  have ht : t.val < 8 := lt_of_lt_of_eq t.isLt N_0
  idx_vars x
  subst h8
  exact (hp _ _ _ _ _ _ _ x0 x1).trans (gate_rows m c t ht o y0 y1 x0 x1 h0 h1 (rows3 m c t ht o inb x0 x1 (by omega)) (headShifted6 m c t o inb6 x0 x1 (by omega)) (headShifted7 m c t o inb7 x0 x1 (by omega)) (headRead64 m c t (o + 8) inb8 x0 x1 (by omega)) (weight m c t 0 (by omega) i0 x1) (weight m c t 1 (by omega) i1 x1) (weight m c t 2 (by omega) i2 x1))

set_option maxHeartbeats 4000000 in
/-- The gate output at a grid point, whatever the running totals before it. -/
theorem gate_out (y0 : Fin 1024) (y1 : Fin 384) :
    (outsAt0 m c t.val t.isLt).1 (ix2 y0 y1) = MixCBwdReferenceIdeal.Spec.result0 (m (c.tc.loc main_arg0)) (m (c.tc.loc main_arg1)) (m (c.tc.loc main_arg2)) (m (c.tc.loc main_arg3)) (m (c.tc.loc main_arg4)) (ix2 ⟨t.val * 1024 + y0, by have : t.val < 8 := lt_of_lt_of_eq t.isLt N_0; omega⟩ y1) := by
  have ht : t.val < 8 := lt_of_lt_of_eq t.isLt N_0
  by_cases k0 : t.val % 8 = 0
  all_goals by_cases k1 : t.val % 8 = 7
  · omega
  all_goals first | rw [outsAt0_A m c t k0 k1] | rw [outsAt0_B m c t k0 k1] | rw [outsAt0_C m c t k0 k1]
  on_goal 1 => unfold out0_A_9
  on_goal 2 => unfold out0_C_9
  on_goal 3 => unfold out0_B_9
  all_goals frame_out
  all_goals canon_tiles x h
  iterate 3
    · have g := gate_piece m c t 960 968 rfl (by norm_num) gate15; exact g _ _ _ _ _ _ _ y0 y1 x h0 h1
    · have g := gate_piece m c t 896 904 rfl (by norm_num) gate14; exact g _ _ _ _ _ _ _ y0 y1 x h0 h1
    · have g := gate_piece m c t 832 840 rfl (by norm_num) gate13; exact g _ _ _ _ _ _ _ y0 y1 x h0 h1
    · have g := gate_piece m c t 768 776 rfl (by norm_num) gate12; exact g _ _ _ _ _ _ _ y0 y1 x h0 h1
    · have g := gate_piece m c t 704 712 rfl (by norm_num) gate11; exact g _ _ _ _ _ _ _ y0 y1 x h0 h1
    · have g := gate_piece m c t 640 648 rfl (by norm_num) gate10; exact g _ _ _ _ _ _ _ y0 y1 x h0 h1
    · have g := gate_piece m c t 576 584 rfl (by norm_num) gate9; exact g _ _ _ _ _ _ _ y0 y1 x h0 h1
    · have g := gate_piece m c t 512 520 rfl (by norm_num) gate8; exact g _ _ _ _ _ _ _ y0 y1 x h0 h1
    · have g := gate_piece m c t 448 456 rfl (by norm_num) gate7; exact g _ _ _ _ _ _ _ y0 y1 x h0 h1
    · have g := gate_piece m c t 384 392 rfl (by norm_num) gate6; exact g _ _ _ _ _ _ _ y0 y1 x h0 h1
    · have g := gate_piece m c t 320 328 rfl (by norm_num) gate5; exact g _ _ _ _ _ _ _ y0 y1 x h0 h1
    · have g := gate_piece m c t 256 264 rfl (by norm_num) gate4; exact g _ _ _ _ _ _ _ y0 y1 x h0 h1
    · have g := gate_piece m c t 192 200 rfl (by norm_num) gate3; exact g _ _ _ _ _ _ _ y0 y1 x h0 h1
    · have g := gate_piece m c t 128 136 rfl (by norm_num) gate2; exact g _ _ _ _ _ _ _ y0 y1 x h0 h1
    · have g := gate_piece m c t 64 72 rfl (by norm_num) gate1; exact g _ _ _ _ _ _ _ y0 y1 x h0 h1
    · have g := gate_piece m c t 0 8 rfl (by norm_num) gate0; exact g _ _ _ _ _ _ _ y0 y1 x (h0.trans (Nat.zero_add _).symm) h1

/-- The gate result array: every grid point writes its rows. -/
theorem final0 (c : Dev nD) : (dats m 0 c).arrAt 9 cfg0.N
    = MixCBwdReferenceIdeal.Spec.result0 (m (c.tc.loc main_arg0)) (m (c.tc.loc main_arg1)) (m (c.tc.loc main_arg2)) (m (c.tc.loc main_arg3)) (m (c.tc.loc main_arg4)) := by
  refine (dats m 0 c).arrAt_eq_of_covers 9 _ (by decide +kernel) fun t _ y => ?_
  blk_simp
  rw [after0_9]
  idx_vars y
  have ht : t.val < 8 := lt_of_lt_of_eq t.isLt N_0
  have e : (((View.whole main_v0_0).slice (win0_9.rect t)).emb (ix2 y0 y1) : S8192x384.Idx)
      = ix2 ⟨t.val * 1024 + y0, by omega⟩ y1 := by blk_ext [placed t]
  rw [e]
  exact gate_out m c t y0 y1

/-- A store of the first output holds its rows of the reference. -/
theorem first_piece (o : ℕ) (ho : o ≤ 960) {p} (hp : Factor p)
    (inb : Own o) (inb2 : Shift 2 o) (inb1 : Shift 1 o)
    (inb8 : Pad o) (i0 : Tap 0) (i1 : Tap 1) (i2 : Tap 2)
    (y0 : Fin 1024) (y1 : Fin 384) (x : S64x384.Idx) (h0 : y0.val = o + (x 0).val) (h1 : y1.val = (x 1).val) :
    p (View.ld (iblk m c 2 t : Vec Ideal S1024x384 .f32) (Rect.unit (s := S1024x384) ![o, 0] S64x384.size inb)) ((View.whole cc0_scratch3).readCov (tailShifts m c t) (Rect.unit (s := S8x1032x384) ![2, o, 0] S1x64x384.size inb2).toLoadRect) (View.ld (iblk m c 8 t : Vec Ideal S3x384 .f32) (Rect.unit (s := S3x384) ![0, 0] S1x384.size i0)) ((View.whole cc0_scratch3).readCov (tailShifts m c t) (Rect.unit (s := S8x1032x384) ![1, o, 0] S1x64x384.size inb1).toLoadRect) (View.ld (iblk m c 8 t : Vec Ideal S3x384 .f32) (Rect.unit (s := S3x384) ![1, 0] S1x384.size i1))
      ((View.whole cc0_scratch1).readCov (tailKept m c t) (Rect.unit (s := S1032x384) ![o, 0] S64x384.size inb8).toLoadRect) (View.ld (iblk m c 8 t : Vec Ideal S3x384 .f32) (Rect.unit (s := S3x384) ![2, 0] S1x384.size i2)) x
      = MixCBwdReferenceIdeal.Spec.result1 (m (c.tc.loc main_arg0)) (m (c.tc.loc main_arg1)) (m (c.tc.loc main_arg2)) (m (c.tc.loc main_arg3)) (m (c.tc.loc main_arg4)) (ix2 ⟨t.val * 1024 + y0, by have : t.val < 8 := lt_of_lt_of_eq t.isLt N_0; omega⟩ y1) := by
  have ht : t.val < 8 := lt_of_lt_of_eq t.isLt N_0
  idx_vars x
  exact (hp _ _ _ _ _ _ _ x0 x1).trans (first_rows m c t ht o y0 y1 x0 x1 h0 h1 (back_rows m c t ht o x0 x1 (by omega) (tailShifted2 m c t o inb2 x0 x1 (by omega)) (tailShifted1 m c t o inb1 x0 x1 (by omega)) (tailRead64 m c t o inb8 x0 x1 (by omega)) (weight m c t 0 (by omega) i0 x1) (weight m c t 1 (by omega) i1 x1) (weight m c t 2 (by omega) i2 x1)) (rows2 m c t ht o inb x0 x1 (by omega)))

set_option maxHeartbeats 4000000 in
/-- The first output at a grid point, whatever the running totals before it. -/
theorem first_out (y0 : Fin 1024) (y1 : Fin 384) :
    (outsAt0 m c t.val t.isLt).2.1 (ix2 y0 y1) = MixCBwdReferenceIdeal.Spec.result1 (m (c.tc.loc main_arg0)) (m (c.tc.loc main_arg1)) (m (c.tc.loc main_arg2)) (m (c.tc.loc main_arg3)) (m (c.tc.loc main_arg4)) (ix2 ⟨t.val * 1024 + y0, by have : t.val < 8 := lt_of_lt_of_eq t.isLt N_0; omega⟩ y1) := by
  have ht : t.val < 8 := lt_of_lt_of_eq t.isLt N_0
  by_cases k0 : t.val % 8 = 0
  all_goals by_cases k1 : t.val % 8 = 7
  · omega
  all_goals first | rw [outsAt0_A m c t k0 k1] | rw [outsAt0_B m c t k0 k1] | rw [outsAt0_C m c t k0 k1]
  on_goal 1 => unfold out0_A_10
  on_goal 2 => unfold out0_C_10
  on_goal 3 => unfold out0_B_10
  all_goals frame_out
  all_goals canon_tiles x h
  iterate 3
    · have g := first_piece m c t 960  (by norm_num) first15; exact g _ _ _ _ _ _ _ y0 y1 x h0 h1
    · have g := first_piece m c t 896  (by norm_num) first14; exact g _ _ _ _ _ _ _ y0 y1 x h0 h1
    · have g := first_piece m c t 832  (by norm_num) first13; exact g _ _ _ _ _ _ _ y0 y1 x h0 h1
    · have g := first_piece m c t 768  (by norm_num) first12; exact g _ _ _ _ _ _ _ y0 y1 x h0 h1
    · have g := first_piece m c t 704  (by norm_num) first11; exact g _ _ _ _ _ _ _ y0 y1 x h0 h1
    · have g := first_piece m c t 640  (by norm_num) first10; exact g _ _ _ _ _ _ _ y0 y1 x h0 h1
    · have g := first_piece m c t 576  (by norm_num) first9; exact g _ _ _ _ _ _ _ y0 y1 x h0 h1
    · have g := first_piece m c t 512  (by norm_num) first8; exact g _ _ _ _ _ _ _ y0 y1 x h0 h1
    · have g := first_piece m c t 448  (by norm_num) first7; exact g _ _ _ _ _ _ _ y0 y1 x h0 h1
    · have g := first_piece m c t 384  (by norm_num) first6; exact g _ _ _ _ _ _ _ y0 y1 x h0 h1
    · have g := first_piece m c t 320  (by norm_num) first5; exact g _ _ _ _ _ _ _ y0 y1 x h0 h1
    · have g := first_piece m c t 256  (by norm_num) first4; exact g _ _ _ _ _ _ _ y0 y1 x h0 h1
    · have g := first_piece m c t 192  (by norm_num) first3; exact g _ _ _ _ _ _ _ y0 y1 x h0 h1
    · have g := first_piece m c t 128  (by norm_num) first2; exact g _ _ _ _ _ _ _ y0 y1 x h0 h1
    · have g := first_piece m c t 64  (by norm_num) first1; exact g _ _ _ _ _ _ _ y0 y1 x h0 h1
    · have g := first_piece m c t 0  (by norm_num) first0; exact g _ _ _ _ _ _ _ y0 y1 x (h0.trans (Nat.zero_add _).symm) h1

/-- The first result array: every grid point writes its rows. -/
theorem final1 (c : Dev nD) : (dats m 0 c).arrAt 10 cfg0.N
    = MixCBwdReferenceIdeal.Spec.result1 (m (c.tc.loc main_arg0)) (m (c.tc.loc main_arg1)) (m (c.tc.loc main_arg2)) (m (c.tc.loc main_arg3)) (m (c.tc.loc main_arg4)) := by
  refine (dats m 0 c).arrAt_eq_of_covers 10 _ (by decide +kernel) fun t _ y => ?_
  blk_simp
  rw [after0_10]
  idx_vars y
  have ht : t.val < 8 := lt_of_lt_of_eq t.isLt N_0
  have e : (((View.whole main_v0_1).slice (win0_10.rect t)).emb (ix2 y0 y1) : S8192x384.Idx)
      = ix2 ⟨t.val * 1024 + y0, by omega⟩ y1 := by blk_ext [placed t]
  rw [e]
  exact first_out m c t y0 y1

/-- A store of the second output holds its rows of the reference. -/
theorem second_piece (o : ℕ) (ho : o ≤ 960) {p} (hp : Factor p)
    (inb : Own o) (inb2 : Shift 2 o) (inb1 : Shift 1 o)
    (inb8 : Pad o) (i0 : Tap 0) (i1 : Tap 1) (i2 : Tap 2)
    (y0 : Fin 1024) (y1 : Fin 384) (x : S64x384.Idx) (h0 : y0.val = o + (x 0).val) (h1 : y1.val = (x 1).val) :
    p (View.ld (iblk m c 1 t : Vec Ideal S1024x384 .f32) (Rect.unit (s := S1024x384) ![o, 0] S64x384.size inb)) ((View.whole cc0_scratch3).readCov (tailShifts m c t) (Rect.unit (s := S8x1032x384) ![2, o, 0] S1x64x384.size inb2).toLoadRect) (View.ld (iblk m c 8 t : Vec Ideal S3x384 .f32) (Rect.unit (s := S3x384) ![0, 0] S1x384.size i0)) ((View.whole cc0_scratch3).readCov (tailShifts m c t) (Rect.unit (s := S8x1032x384) ![1, o, 0] S1x64x384.size inb1).toLoadRect) (View.ld (iblk m c 8 t : Vec Ideal S3x384 .f32) (Rect.unit (s := S3x384) ![1, 0] S1x384.size i1))
      ((View.whole cc0_scratch1).readCov (tailKept m c t) (Rect.unit (s := S1032x384) ![o, 0] S64x384.size inb8).toLoadRect) (View.ld (iblk m c 8 t : Vec Ideal S3x384 .f32) (Rect.unit (s := S3x384) ![2, 0] S1x384.size i2)) x
      = MixCBwdReferenceIdeal.Spec.result2 (m (c.tc.loc main_arg0)) (m (c.tc.loc main_arg1)) (m (c.tc.loc main_arg2)) (m (c.tc.loc main_arg3)) (m (c.tc.loc main_arg4)) (ix2 ⟨t.val * 1024 + y0, by have : t.val < 8 := lt_of_lt_of_eq t.isLt N_0; omega⟩ y1) := by
  have ht : t.val < 8 := lt_of_lt_of_eq t.isLt N_0
  idx_vars x
  exact (hp _ _ _ _ _ _ _ x0 x1).trans (second_rows m c t ht o y0 y1 x0 x1 h0 h1 (back_rows m c t ht o x0 x1 (by omega) (tailShifted2 m c t o inb2 x0 x1 (by omega)) (tailShifted1 m c t o inb1 x0 x1 (by omega)) (tailRead64 m c t o inb8 x0 x1 (by omega)) (weight m c t 0 (by omega) i0 x1) (weight m c t 1 (by omega) i1 x1) (weight m c t 2 (by omega) i2 x1)) (rows1 m c t ht o inb x0 x1 (by omega)))

set_option maxHeartbeats 4000000 in
/-- The second output at a grid point, whatever the running totals before it. -/
theorem second_out (y0 : Fin 1024) (y1 : Fin 384) :
    (outsAt0 m c t.val t.isLt).2.2.1 (ix2 y0 y1) = MixCBwdReferenceIdeal.Spec.result2 (m (c.tc.loc main_arg0)) (m (c.tc.loc main_arg1)) (m (c.tc.loc main_arg2)) (m (c.tc.loc main_arg3)) (m (c.tc.loc main_arg4)) (ix2 ⟨t.val * 1024 + y0, by have : t.val < 8 := lt_of_lt_of_eq t.isLt N_0; omega⟩ y1) := by
  have ht : t.val < 8 := lt_of_lt_of_eq t.isLt N_0
  by_cases k0 : t.val % 8 = 0
  all_goals by_cases k1 : t.val % 8 = 7
  · omega
  all_goals first | rw [outsAt0_A m c t k0 k1] | rw [outsAt0_B m c t k0 k1] | rw [outsAt0_C m c t k0 k1]
  on_goal 1 => unfold out0_A_11
  on_goal 2 => unfold out0_C_11
  on_goal 3 => unfold out0_B_11
  all_goals frame_out
  all_goals canon_tiles x h
  iterate 3
    · have g := second_piece m c t 960  (by norm_num) second15; exact g _ _ _ _ _ _ _ y0 y1 x h0 h1
    · have g := second_piece m c t 896  (by norm_num) second14; exact g _ _ _ _ _ _ _ y0 y1 x h0 h1
    · have g := second_piece m c t 832  (by norm_num) second13; exact g _ _ _ _ _ _ _ y0 y1 x h0 h1
    · have g := second_piece m c t 768  (by norm_num) second12; exact g _ _ _ _ _ _ _ y0 y1 x h0 h1
    · have g := second_piece m c t 704  (by norm_num) second11; exact g _ _ _ _ _ _ _ y0 y1 x h0 h1
    · have g := second_piece m c t 640  (by norm_num) second10; exact g _ _ _ _ _ _ _ y0 y1 x h0 h1
    · have g := second_piece m c t 576  (by norm_num) second9; exact g _ _ _ _ _ _ _ y0 y1 x h0 h1
    · have g := second_piece m c t 512  (by norm_num) second8; exact g _ _ _ _ _ _ _ y0 y1 x h0 h1
    · have g := second_piece m c t 448  (by norm_num) second7; exact g _ _ _ _ _ _ _ y0 y1 x h0 h1
    · have g := second_piece m c t 384  (by norm_num) second6; exact g _ _ _ _ _ _ _ y0 y1 x h0 h1
    · have g := second_piece m c t 320  (by norm_num) second5; exact g _ _ _ _ _ _ _ y0 y1 x h0 h1
    · have g := second_piece m c t 256  (by norm_num) second4; exact g _ _ _ _ _ _ _ y0 y1 x h0 h1
    · have g := second_piece m c t 192  (by norm_num) second3; exact g _ _ _ _ _ _ _ y0 y1 x h0 h1
    · have g := second_piece m c t 128  (by norm_num) second2; exact g _ _ _ _ _ _ _ y0 y1 x h0 h1
    · have g := second_piece m c t 64  (by norm_num) second1; exact g _ _ _ _ _ _ _ y0 y1 x h0 h1
    · have g := second_piece m c t 0  (by norm_num) second0; exact g _ _ _ _ _ _ _ y0 y1 x (h0.trans (Nat.zero_add _).symm) h1

/-- The second result array: every grid point writes its rows. -/
theorem final2 (c : Dev nD) : (dats m 0 c).arrAt 11 cfg0.N
    = MixCBwdReferenceIdeal.Spec.result2 (m (c.tc.loc main_arg0)) (m (c.tc.loc main_arg1)) (m (c.tc.loc main_arg2)) (m (c.tc.loc main_arg3)) (m (c.tc.loc main_arg4)) := by
  refine (dats m 0 c).arrAt_eq_of_covers 11 _ (by decide +kernel) fun t _ y => ?_
  blk_simp
  rw [after0_11]
  idx_vars y
  have ht : t.val < 8 := lt_of_lt_of_eq t.isLt N_0
  have e : (((View.whole main_v0_2).slice (win0_11.rect t)).emb (ix2 y0 y1) : S8192x384.Idx)
      = ix2 ⟨t.val * 1024 + y0, by omega⟩ y1 := by blk_ext [placed t]
  rw [e]
  exact second_out m c t y0 y1

variable (ρ : Dev nD → PrngReg)

/-- The run, with the three result arrays named and the arguments kept. -/
theorem run_named : θ_run defs (onTc (τ := τ) (main (F := Ideal))) ⟨m, fun _ => 0, ρ⟩ fun r => ∀ c : Dev nD,
      r.2.mem (c.tc.loc main_v0_0) = (dats m 0 c).arrAt 9 cfg0.N
      ∧ r.2.mem (c.tc.loc main_v0_1) = (dats m 0 c).arrAt 10 cfg0.N
      ∧ r.2.mem (c.tc.loc main_v0_2) = (dats m 0 c).arrAt 11 cfg0.N
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4) :=
  (θ_run defs _ _).mono (fun _ h c => ⟨(h c).1 9, (h c).1 10, (h c).1 11,
      ((h c).1 6).trans (((dats m 0 c).arrAt_in 6 rfl _).trans ((A_eq m c 6).trans (V_main_arg0 m c))),
      ((h c).1 4).trans (((dats m 0 c).arrAt_in 4 rfl _).trans ((A_eq m c 4).trans (V_main_arg1 m c))),
      ((h c).1 5).trans (((dats m 0 c).arrAt_in 5 rfl _).trans ((A_eq m c 5).trans (V_main_arg2 m c))),
      ((h c).1 7).trans (((dats m 0 c).arrAt_in 7 rfl _).trans ((A_eq m c 7).trans (V_main_arg3 m c))),
      ((h c).1 8).trans (((dats m 0 c).arrAt_in 8 rfl _).trans ((A_eq m c 8).trans (V_main_arg4 m c)))⟩)
    (run_main m ρ)

end Cert.MixCBwdIdeal.Val

namespace Cert.Proof.MixCBwd

/-- The frame of the kernel. -/
theorem frameKernel : quiescent_MixCBwd (hMixCBwd := MixCBwd.Gen.facts) :=
  fun m ρ _ => MixCBwd.Gen.frame m ρ

/-- The frame of its idealization. -/
theorem frameIdeal : quiescent_MixCBwdIdeal (hMixCBwdIdeal := MixCBwdIdeal.Gen.facts) :=
  fun m ρ _ => MixCBwdIdeal.Gen.frame m ρ

/-- The frame of the reference. -/
theorem frameReference : quiescent_MixCBwdReferenceIdeal (hMixCBwdReferenceIdeal := MixCBwdReferenceIdeal.Gen.facts) :=
  fun m ρ _ => (θ_run MixCBwdReferenceIdeal.defs _ _).mono
    (fun r h => ⟨fun c => (h c).2.2.2, sem_eq_zero_of_no_sems (by decide) r.2⟩)
    (MixCBwdReferenceIdeal.Value.run (F := Ideal) m ρ)

/-- The kernel computes the gradients of the three streams. -/
theorem algebraic : algebraic_MixCBwdIdeal_MixCBwdReferenceIdeal (hMixCBwdIdeal := MixCBwdIdeal.Gen.facts)
    (hMixCBwdReferenceIdeal := MixCBwdReferenceIdeal.Gen.facts) :=
  fun m ρ m' ρ' _ hag => ⟨_, _, _,
    (θ_run MixCBwdIdeal.defs _ _).mono (fun _ h c => ⟨(h c).1.trans (MixCBwdIdeal.Val.final0 m c), (h c).2.1.trans (MixCBwdIdeal.Val.final1 m c), (h c).2.2.1.trans (MixCBwdIdeal.Val.final2 m c), (h c).2.2.2⟩)
      (MixCBwdIdeal.Val.run_named m ρ),
    (θ_run MixCBwdReferenceIdeal.defs _ _).mono (fun _ h c => ⟨(h c).1.trans (by rw [← (hag c).1, ← (hag c).2.1, ← (hag c).2.2.1, ← (hag c).2.2.2.1, ← (hag c).2.2.2.2]; rfl), (h c).2.1.trans (by rw [← (hag c).1, ← (hag c).2.1, ← (hag c).2.2.1, ← (hag c).2.2.2.1, ← (hag c).2.2.2.2]; rfl), (h c).2.2.1.trans (by rw [← (hag c).1, ← (hag c).2.1, ← (hag c).2.2.1, ← (hag c).2.2.2.1, ← (hag c).2.2.2.2]; rfl), (h c).2.2.2⟩)
      (MixCBwdReferenceIdeal.Value.run (F := Ideal) m' ρ')⟩

end Cert.Proof.MixCBwd

end

end
-- ==== Proof.MixCFwd.lean ====
/-
  The third mixer, forward: the product of two streams, convolved causally with three taps and gated by the third.
-/
module

public import proofs.«01_k».proof.Proof.Gen.MixCFwd.Frame
public import proofs.«01_k».proof.Proof.Gen.MixCFwdIdeal.Value
public import proofs.«01_k».proof.Proof.Gen.MixCFwdIdeal.Frame
public import proofs.«01_k».proof.Proof.Gen.MixCFwdReferenceIdeal.Run
public import proofs.«01_k».proof.Proof.Gen.MixCFwd
public import proofs.«01_k».proof.Proof.Gen.MixCFwdIdeal
public import proofs.«01_k».proof.Proof.Gen.MixCFwdReferenceIdeal
public import Idealize.ShloMosaic.Lib.Pointwise
public import Idealize.ShloMosaic.Lib.Pipeline.ValueKit
public import proofs.«01_k».proof.Defs
public import Idealize.ShloMosaic.Adequacy
public import Idealize.ShloMosaic.Init
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MixCFwdReferenceIdeal.Spec

open Cert.MixCFwdReferenceIdeal Cert.MixCFwdReferenceIdeal.Gen

/-- The mixer: the reference's composed term. -/
def result0 (cb : FVec Ideal S8192x384 .f32) (cc : FVec Ideal S8192x384 .f32) (cx : FVec Ideal S8192x384 .f32) (w : FVec Ideal S3x384 .f32) : FVec Ideal S8192x384 .bf16 :=
  truncf .bf16 (shapeCast _ (mulf (shapeCast _ cb shapeCasts_S8192x384_S4x2048x384) (addf (addf (addf (broadcastInDim S4x2048x384 ![] bcast_S_S4x2048x384 (constant (F := Ideal) S_ .f32 0x00000000#32)) (mulf (extractStridedSlice S4x2048x384 ![0, 0, 0] (concatenate S4x2050x384 1 [⟨S4x2x384, (broadcastInDim S4x2x384 ![] bcast_S_S4x2x384 (constant (F := Ideal) S_ .f32 0x00000000#32))⟩, ⟨S4x2048x384, (mulf (shapeCast _ cc shapeCasts_S8192x384_S4x2048x384) (shapeCast _ cx shapeCasts_S8192x384_S4x2048x384))⟩] concatenates_S4x2x384_S4x2048x384_S4x2050x384_d1) slices_S4x2050x384_S4x2048x384_0_0_0) (broadcastInDim S4x2048x384 ![0, 1, 2] bcast_S1x1x384_S4x2048x384_0_1_2 (broadcastInDim S1x1x384 ![2] bcast_S384_S1x1x384_2 (shapeCast _ (extractStridedSlice S1x384 ![0, 0] w slices_S3x384_S1x384_0_0) shapeCasts_S1x384_S384))))) (mulf (extractStridedSlice S4x2048x384 ![0, 1, 0] (concatenate S4x2050x384 1 [⟨S4x2x384, (broadcastInDim S4x2x384 ![] bcast_S_S4x2x384 (constant (F := Ideal) S_ .f32 0x00000000#32))⟩, ⟨S4x2048x384, (mulf (shapeCast _ cc shapeCasts_S8192x384_S4x2048x384) (shapeCast _ cx shapeCasts_S8192x384_S4x2048x384))⟩] concatenates_S4x2x384_S4x2048x384_S4x2050x384_d1) slices_S4x2050x384_S4x2048x384_0_1_0) (broadcastInDim S4x2048x384 ![0, 1, 2] bcast_S1x1x384_S4x2048x384_0_1_2 (broadcastInDim S1x1x384 ![2] bcast_S384_S1x1x384_2 (shapeCast _ (extractStridedSlice S1x384 ![1, 0] w slices_S3x384_S1x384_1_0) shapeCasts_S1x384_S384))))) (mulf (extractStridedSlice S4x2048x384 ![0, 2, 0] (concatenate S4x2050x384 1 [⟨S4x2x384, (broadcastInDim S4x2x384 ![] bcast_S_S4x2x384 (constant (F := Ideal) S_ .f32 0x00000000#32))⟩, ⟨S4x2048x384, (mulf (shapeCast _ cc shapeCasts_S8192x384_S4x2048x384) (shapeCast _ cx shapeCasts_S8192x384_S4x2048x384))⟩] concatenates_S4x2x384_S4x2048x384_S4x2050x384_d1) slices_S4x2050x384_S4x2048x384_0_2_0) (broadcastInDim S4x2048x384 ![0, 1, 2] bcast_S1x1x384_S4x2048x384_0_1_2 (broadcastInDim S1x1x384 ![2] bcast_S384_S1x1x384_2 (shapeCast _ (extractStridedSlice S1x384 ![2, 0] w slices_S3x384_S1x384_2_0) shapeCasts_S1x384_S384)))))) shapeCasts_S4x2048x384_S8192x384) bitsLt_bf16_f32

/-- The product of the two streams `2 - k` rows earlier, zero before the sequence begins. -/
def earlier (cc cx : FVec Ideal S8192x384 .f32) (i : Fin 8192) (k : ℕ) (hk : k < 3) (j : Fin 384) : EReal :=
  if i.val % 2048 + k < 2 then 0 else cc (ix2 ⟨i.val + k - 2, by omega⟩ j) * cx (ix2 ⟨i.val + k - 2, by omega⟩ j)

/-- The mixer at a row and a channel. -/
theorem result0_at (cb : FVec Ideal S8192x384 .f32) (cc : FVec Ideal S8192x384 .f32) (cx : FVec Ideal S8192x384 .f32) (w : FVec Ideal S3x384 .f32) (i : Fin 8192) (j : Fin 384) :
    result0 cb cc cx w (ix2 i j) = cb (ix2 i j) * (earlier cc cx i 0 (by omega) j * w (ix2 0 j) + earlier cc cx i 1 (by omega) j * w (ix2 1 j) + earlier cc cx i 2 (by omega) j * w (ix2 2 j)) := by
  have hs : ∀ (k n : ℕ) (hk : k < 3) (hn : n = i.val % 2048 + k), (if h : n < 2 then (0 : EReal) else cc (ix2 ⟨i.val / 2048 * 2048 + (n - 2), by omega⟩ j) * cx (ix2 ⟨i.val / 2048 * 2048 + (n - 2), by omega⟩ j)) = earlier cc cx i k hk j := by
    intro k n hk hn
    unfold earlier
    by_cases h : n < 2
    · rw [dif_pos h, if_pos (by omega)]
    · have e : (⟨i.val / 2048 * 2048 + (n - 2), by omega⟩ : Fin 8192) = ⟨i.val + k - 2, by omega⟩ := Fin.ext (by show i.val / 2048 * 2048 + (n - 2) = i.val + k - 2; omega)
      rw [dif_neg h, if_neg (by omega), e]
  have h2 : cc (ix2 i j) * cx (ix2 i j) = earlier cc cx i 2 (by omega) j := by
    unfold earlier
    rw [if_neg (by omega)]
    rfl
  pointwise [result0]
  exact congrArg (_ * ·) (congrArg₂ (· + ·) (congrArg₂ (· + ·) (congrArg (· * _) (hs 0 _ (by omega) rfl)) (congrArg (· * _) (hs 1 _ (by omega) (by omega)))) (congrArg (· * _) h2))

end Cert.MixCFwdReferenceIdeal.Spec

namespace Cert.MixCFwdIdeal.Val

open Cert.MixCFwdIdeal Cert.MixCFwdIdeal.Gen

variable (m : (ℓ : Loc nD τ sig) → Buf (Elt Ideal) ℓ)

/-- A stretch starting at a row fits the chunk. -/
abbrev Own (o : ℕ) : Prop := ∀ a, (![o, 0] : Fin 2 → Nat) a + S64x384.size a ≤ S1024x384.size a

/-- A stretch starting at a row fits the padded rows. -/
abbrev Pad (o : ℕ) : Prop := ∀ a, (![o, 0] : Fin 2 → Nat) a + S64x384.size a ≤ S1032x384.size a

/-- A tap is one of the three. -/
abbrev Tap (k : ℕ) : Prop := ∀ a, (![k, 0] : Fin 2 → Nat) a + S1x384.size a ≤ S3x384.size a

/-- A stretch starting at a row fits a shifted copy. -/
abbrev Shift (z o : ℕ) : Prop := ∀ a, (![z, o, 0] : Fin 3 → Nat) a + S1x64x384.size a ≤ S8x1032x384.size a

/-- A store whose entries are a factor times the three weighted taps. -/
def Gate (p : FVec Ideal S64x384 .f32 → FVec Ideal S1x64x384 .f32 → FVec Ideal S1x384 .f32 → FVec Ideal S1x64x384 .f32 → FVec Ideal S1x384 .f32 → FVec Ideal S64x384 .f32 → FVec Ideal S1x384 .f32 → FVec Ideal S64x384 .bf16) : Prop :=
  ∀ cb a w0 b w1 d w2 (r : Fin 64) (l : Fin 384), p cb a w0 b w1 d w2 (ix2 r l) = cb (ix2 r l) * (a (ix3 0 r l) * w0 (ix2 0 l) + b (ix3 0 r l) * w1 (ix2 0 l) + d (ix2 r l) * w2 (ix2 0 l))

/-- A store whose entries are products. -/
def Product (p : FVec Ideal S64x384 .f32 → FVec Ideal S64x384 .f32 → FVec Ideal S64x384 .f32) : Prop :=
  ∀ u v (r : Fin 64) (l : Fin 384), p u v (ix2 r l) = u (ix2 r l) * v (ix2 r l)

/-- Store 0. -/
theorem store0 : Gate fun cb a w0 b w1 d w2 => k0_pay22 cb a w0 b w1 d w2 := by
  intro cb a w0 b w1 d w2 r l; pointwise [k0_pay22]
/-- Store 1. -/
theorem store1 : Gate fun cb a w0 b w1 d w2 => k0_pay24 cb (k0_pay23 a w0) b w1 d w2 := by
  intro cb a w0 b w1 d w2 r l; pointwise [k0_pay23, k0_pay24]
/-- Store 2. -/
theorem store2 : Gate fun cb a w0 b w1 d w2 => k0_pay26 (k0_pay25 cb a w0 b w1 d w2) := by
  intro cb a w0 b w1 d w2 r l; pointwise [k0_pay25, k0_pay26]
/-- Store 3. -/
theorem store3 : Gate fun cb a w0 b w1 d w2 => k0_pay27 cb a w0 b w1 d w2 := by
  intro cb a w0 b w1 d w2 r l; pointwise [k0_pay27]
/-- Store 4. -/
theorem store4 : Gate fun cb a w0 b w1 d w2 => k0_pay29 cb (k0_pay28 a w0) b w1 d w2 := by
  intro cb a w0 b w1 d w2 r l; pointwise [k0_pay28, k0_pay29]
/-- Store 5. -/
theorem store5 : Gate fun cb a w0 b w1 d w2 => k0_pay30 cb a w0 b w1 d w2 := by
  intro cb a w0 b w1 d w2 r l; pointwise [k0_pay30]
/-- Store 6. -/
theorem store6 : Gate fun cb a w0 b w1 d w2 => k0_pay31 cb a w0 b w1 d w2 := by
  intro cb a w0 b w1 d w2 r l; pointwise [k0_pay31]
/-- Store 7. -/
theorem store7 : Gate fun cb a w0 b w1 d w2 => k0_pay34 cb (k0_pay32 a w0) (k0_pay33 b) w1 d w2 := by
  intro cb a w0 b w1 d w2 r l; pointwise [k0_pay32, k0_pay33, k0_pay34]
/-- Store 8. -/
theorem store8 : Gate fun cb a w0 b w1 d w2 => k0_pay35 cb a w0 b w1 d w2 := by
  intro cb a w0 b w1 d w2 r l; pointwise [k0_pay35]
/-- Store 9. -/
theorem store9 : Gate fun cb a w0 b w1 d w2 => k0_pay36 cb a w0 b w1 d w2 := by
  intro cb a w0 b w1 d w2 r l; pointwise [k0_pay36]
/-- Store 10. -/
theorem store10 : Gate fun cb a w0 b w1 d w2 => k0_pay40 cb (k0_pay37 a w0) (k0_pay38 b) (k0_pay39 w1) d w2 := by
  intro cb a w0 b w1 d w2 r l; pointwise [k0_pay37, k0_pay38, k0_pay39, k0_pay40]
/-- Store 11. -/
theorem store11 : Gate fun cb a w0 b w1 d w2 => k0_pay41 cb a w0 b w1 d w2 := by
  intro cb a w0 b w1 d w2 r l; pointwise [k0_pay41]
/-- Store 12. -/
theorem store12 : Gate fun cb a w0 b w1 d w2 => k0_pay42 cb a w0 b w1 d w2 := by
  intro cb a w0 b w1 d w2 r l; pointwise [k0_pay42]
/-- Store 13. -/
theorem store13 : Gate fun cb a w0 b w1 d w2 => k0_pay44 cb (k0_pay43 a w0 b w1) d w2 := by
  intro cb a w0 b w1 d w2 r l; pointwise [k0_pay43, k0_pay44]
/-- Store 14. -/
theorem store14 : Gate fun cb a w0 b w1 d w2 => k0_pay45 cb a w0 b w1 d w2 := by
  intro cb a w0 b w1 d w2 r l; pointwise [k0_pay45]
/-- Store 15. -/
theorem store15 : Gate fun cb a w0 b w1 d w2 => k0_pay1 cb a w0 b w1 d w2 := by
  intro cb a w0 b w1 d w2 r l; pointwise [k0_pay1]

/-- Where the windows' blocks lie at point `t`. -/
theorem placed : ∀ t : Fin cfg0.N, win0_0.index t = ![t.val, 0] ∧ win0_1.index t = ![t.val, 0] ∧ win0_2.index t = ![t.val, 0] ∧ win0_3.index t = ![t.val * 128 - 1, 0] ∧ win0_4.index t = ![t.val * 128 - 1, 0] ∧ win0_5.index t = ![0, 0] ∧ win0_6.index t = ![t.val, 0] ∧ (grid0.coords t 1).val = t.val % 2 :=
  (by decide +kernel : ∀ t : Fin grid0.N, _)

variable (c : Dev nD) (t : Fin cfg0.N)

/-- Row `q` of the padded product of point `t`: eight rows of the chunk before, zero at the first chunk of a sequence, then the chunk's own. -/
def paddedOf (C X : FVec Ideal S8192x384 .f32) (t : Fin cfg0.N) (q : Fin 1032) (l : Fin 384) : EReal :=
  if q.val < 8 ∧ t.val % 2 = 0 then 0
  else C (ix2 ⟨t.val * 1024 + q.val - 8, by have : t.val < 8 := lt_of_lt_of_eq t.isLt N_0; omega⟩ l)
    * X (ix2 ⟨t.val * 1024 + q.val - 8, by have : t.val < 8 := lt_of_lt_of_eq t.isLt N_0; omega⟩ l)

/-- The same of the arrays the program is given. -/
def padded (q : Fin 1032) (l : Fin 384) : EReal := paddedOf (m (c.tc.loc main_arg1)) (m (c.tc.loc main_arg2)) t q l

/-- A stretch of the block of operand 0, at a row and a channel. -/
theorem rows0 (ht : t.val < 8) (o : ℕ) (inb : Own o) (r : Fin 64) (l : Fin 384) (ho : o + r.val < 1024) :
    View.ld (iblk m c 0 t : Vec Ideal S1024x384 .f32) (Rect.unit (s := S1024x384) ![o, 0] S64x384.size inb) (ix2 r l)
      = (m (c.tc.loc main_arg0) : FVec Ideal S8192x384 .f32) (ix2 ⟨t.val * 1024 + (o + r.val), by omega⟩ l) := by
  refine (View.ld_unit_apply_of (iblk m c 0 t : Vec Ideal S1024x384 .f32) _ _ _ _ (ix2 ⟨o + r, ho⟩ l) fun (a : Fin 2) => by
    fin_cases a
    · rfl
    · exact (Nat.zero_add _).symm).trans ?_
  blk_ext [iblk, V, placed t]

/-- A stretch of the block of operand 1, at a row and a channel. -/
theorem rows1 (ht : t.val < 8) (o : ℕ) (inb : Own o) (r : Fin 64) (l : Fin 384) (ho : o + r.val < 1024) :
    View.ld (iblk m c 1 t : Vec Ideal S1024x384 .f32) (Rect.unit (s := S1024x384) ![o, 0] S64x384.size inb) (ix2 r l)
      = (m (c.tc.loc main_arg1) : FVec Ideal S8192x384 .f32) (ix2 ⟨t.val * 1024 + (o + r.val), by omega⟩ l) := by
  refine (View.ld_unit_apply_of (iblk m c 1 t : Vec Ideal S1024x384 .f32) _ _ _ _ (ix2 ⟨o + r, ho⟩ l) fun (a : Fin 2) => by
    fin_cases a
    · rfl
    · exact (Nat.zero_add _).symm).trans ?_
  blk_ext [iblk, V, placed t]

/-- A stretch of the block of operand 2, at a row and a channel. -/
theorem rows2 (ht : t.val < 8) (o : ℕ) (inb : Own o) (r : Fin 64) (l : Fin 384) (ho : o + r.val < 1024) :
    View.ld (iblk m c 2 t : Vec Ideal S1024x384 .f32) (Rect.unit (s := S1024x384) ![o, 0] S64x384.size inb) (ix2 r l)
      = (m (c.tc.loc main_arg2) : FVec Ideal S8192x384 .f32) (ix2 ⟨t.val * 1024 + (o + r.val), by omega⟩ l) := by
  refine (View.ld_unit_apply_of (iblk m c 2 t : Vec Ideal S1024x384 .f32) _ _ _ _ (ix2 ⟨o + r, ho⟩ l) fun (a : Fin 2) => by
    fin_cases a
    · rfl
    · exact (Nat.zero_add _).symm).trans ?_
  blk_ext [iblk, V, placed t]

/-- A tap's weight at a channel. -/
theorem weight (k : ℕ) (hk : k < 3) (inb : Tap k) (l : Fin 384) :
    View.ld (iblk m c 5 t : Vec Ideal S3x384 .f32) (Rect.unit (s := S3x384) ![k, 0] S1x384.size inb) (ix2 0 l)
      = (m (c.tc.loc main_arg3) : FVec Ideal S3x384 .f32) (ix2 ⟨k, hk⟩ l) := by
  refine (View.ld_unit_apply_of (iblk m c 5 t : Vec Ideal S3x384 .f32) _ _ _ _ (ix2 ⟨k, hk⟩ l) fun (a : Fin 2) => by
    fin_cases a
    · rfl
    · exact (Nat.zero_add _).symm).trans ?_
  blk_ext [iblk, V, placed t]

/-- The rows of the chunk before, as the body keeps them. -/
theorem before_at (r : Fin 8) (l : Fin 384) :
    k0_pay2 (F := Ideal) (grid0.coords t) (iblk m c 3 t) (iblk m c 4 t) (ix2 r l) = padded m c t ⟨r.val, by omega⟩ l := by
  have ht : t.val < 8 := lt_of_lt_of_eq t.isLt N_0
  pointwise [k0_pay2]
  rw [(placed t).2.2.2.2.2.2.2]
  unfold padded paddedOf
  rcases Nat.mod_two_eq_zero_or_one t.val with h | h
  · rw [h, if_pos ⟨r.isLt, rfl⟩]
    rfl
  · rw [h, if_neg (by omega)]
    refine congrArg₂ (· * ·) ?_ ?_
    · blk_ext [iblk, V, placed t]
    · blk_ext [iblk, V, placed t]

/-- A row of the chunk's own product. -/
theorem padded_own (ht : t.val < 8) (p : ℕ) (hp : p < 1024) (q : Fin 1032) (l : Fin 384) (hq : q.val = p + 8) {u v : EReal}
    (hu : u = (m (c.tc.loc main_arg1) : FVec Ideal S8192x384 .f32) (ix2 ⟨t.val * 1024 + p, by omega⟩ l)) (hv : v = (m (c.tc.loc main_arg2) : FVec Ideal S8192x384 .f32) (ix2 ⟨t.val * 1024 + p, by omega⟩ l)) :
    u * v = padded m c t q l := by
  have e : (⟨t.val * 1024 + p, by omega⟩ : Fin 8192) = ⟨t.val * 1024 + q.val - 8, by omega⟩ := Fin.ext (by show t.val * 1024 + p = t.val * 1024 + q.val - 8; omega)
  rw [hu, hv, padded, paddedOf, if_neg (by omega), e]

/-- A stretch of the chunk's products, as a store. -/
abbrev ownPiece (o o8 : ℕ) (inb : Own o) (inb8 : Pad o8)
    (p : FVec Ideal S64x384 .f32 → FVec Ideal S64x384 .f32 → FVec Ideal S64x384 .f32) : View.Piece (Elt Ideal) S1032x384 .f32 :=
  ⟨Rect.unit (s := S1032x384) ![o8, 0] S64x384.size inb8, p (View.ld (iblk m c 1 t) (Rect.unit (s := S1024x384) ![o, 0] S64x384.size inb)) (View.ld (iblk m c 2 t) (Rect.unit (s := S1024x384) ![o, 0] S64x384.size inb))⟩

/-- Such a stretch, where it is stored. -/
theorem own_emb (o o8 : ℕ) (h8 : o8 = o + 8) (ho : o ≤ 960) {p : FVec Ideal S64x384 .f32 → FVec Ideal S64x384 .f32 → FVec Ideal S64x384 .f32} (hp : Product p)
    (inb : Own o) (inb8 : Pad o8) (x : S64x384.Idx) :
    (ownPiece m c t o o8 inb inb8 p).2 x = padded m c t ((Rect.unit (s := S1032x384) ![o8, 0] S64x384.size inb8).emb x 0) ((Rect.unit (s := S1032x384) ![o8, 0] S64x384.size inb8).emb x 1) := by
  idx_vars x
  have ht : t.val < 8 := lt_of_lt_of_eq t.isLt N_0
  have e : (Rect.unit (s := S1032x384) ![o8, 0] S64x384.size inb8).emb (ix2 x0 x1) = ix2 ⟨o8 + x0.val, by omega⟩ x1 := by blk_ext
  rw [e]
  exact (hp _ _ x0 x1).trans (padded_own m c t ht (o + x0.val) (by omega) ⟨o8 + x0.val, by omega⟩ x1 (by show o8 + x0.val = _; omega) (rows1 m c t ht o inb x0 x1 (by omega)) (rows2 m c t ht o inb x0 x1 (by omega)))

/-- The rows before it, where they are stored. -/
theorem before_emb (x : S8x384.Idx) :
    k0_pay2 (F := Ideal) (grid0.coords t) (iblk m c 3 t) (iblk m c 4 t) x
      = padded m c t ((Rect.unit (s := S1032x384) ![0, 0] S8x384.size inb_S1032x384_S8x384_0_0).emb x 0) ((Rect.unit (s := S1032x384) ![0, 0] S8x384.size inb_S1032x384_S8x384_0_0).emb x 1) := by
  idx_vars x
  have e : (Rect.unit (s := S1032x384) ![0, 0] S8x384.size inb_S1032x384_S8x384_0_0).emb (ix2 x0 x1) = ix2 ⟨x0.val, by omega⟩ x1 := by blk_ext
  rw [e]
  exact before_at m c t x0 x1
/-- The products of stretch 0. -/
theorem prod0 : Product fun u v => k0_pay3 u v := by
  intro u v r l; pointwise [k0_pay3]
/-- The products of stretch 1. -/
theorem prod1 : Product fun u v => k0_pay4 u v := by
  intro u v r l; pointwise [k0_pay4]
/-- The products of stretch 2. -/
theorem prod2 : Product fun u v => k0_pay5 u v := by
  intro u v r l; pointwise [k0_pay5]
/-- The products of stretch 3. -/
theorem prod3 : Product fun u v => k0_pay6 u v := by
  intro u v r l; pointwise [k0_pay6]
/-- The products of stretch 4. -/
theorem prod4 : Product fun u v => k0_pay7 u v := by
  intro u v r l; pointwise [k0_pay7]
/-- The products of stretch 5. -/
theorem prod5 : Product fun u v => k0_pay8 u v := by
  intro u v r l; pointwise [k0_pay8]
/-- The products of stretch 6. -/
theorem prod6 : Product fun u v => k0_pay9 u v := by
  intro u v r l; pointwise [k0_pay9]
/-- The products of stretch 7. -/
theorem prod7 : Product fun u v => k0_pay11 (k0_pay10 u v) := by
  intro u v r l; pointwise [k0_pay11, k0_pay10]
/-- The products of stretch 8. -/
theorem prod8 : Product fun u v => k0_pay12 u v := by
  intro u v r l; pointwise [k0_pay12]
/-- The products of stretch 9. -/
theorem prod9 : Product fun u v => k0_pay13 u v := by
  intro u v r l; pointwise [k0_pay13]
/-- The products of stretch 10. -/
theorem prod10 : Product fun u v => k0_pay14 u v := by
  intro u v r l; pointwise [k0_pay14]
/-- The products of stretch 11. -/
theorem prod11 : Product fun u v => k0_pay15 u v := by
  intro u v r l; pointwise [k0_pay15]
/-- The products of stretch 12. -/
theorem prod12 : Product fun u v => k0_pay16 u v := by
  intro u v r l; pointwise [k0_pay16]
/-- The products of stretch 13. -/
theorem prod13 : Product fun u v => k0_pay17 u v := by
  intro u v r l; pointwise [k0_pay17]
/-- The products of stretch 14. -/
theorem prod14 : Product fun u v => k0_pay18 u v := by
  intro u v r l; pointwise [k0_pay18]
/-- The products of stretch 15. -/
theorem prod15 : Product fun u v => k0_pay19 u v := by
  intro u v r l; pointwise [k0_pay19]

/-- The stores of the padded product, the last one first. -/
def kept : List (View.Piece (Elt Ideal) S1032x384 .f32) :=
  [ownPiece m c t 960 968 inb_S1024x384_S64x384_960_0 inb_S1032x384_S64x384_968_0 fun u v => k0_pay19 u v,
    ownPiece m c t 896 904 inb_S1024x384_S64x384_896_0 inb_S1032x384_S64x384_904_0 fun u v => k0_pay18 u v,
    ownPiece m c t 832 840 inb_S1024x384_S64x384_832_0 inb_S1032x384_S64x384_840_0 fun u v => k0_pay17 u v,
    ownPiece m c t 768 776 inb_S1024x384_S64x384_768_0 inb_S1032x384_S64x384_776_0 fun u v => k0_pay16 u v,
    ownPiece m c t 704 712 inb_S1024x384_S64x384_704_0 inb_S1032x384_S64x384_712_0 fun u v => k0_pay15 u v,
    ownPiece m c t 640 648 inb_S1024x384_S64x384_640_0 inb_S1032x384_S64x384_648_0 fun u v => k0_pay14 u v,
    ownPiece m c t 576 584 inb_S1024x384_S64x384_576_0 inb_S1032x384_S64x384_584_0 fun u v => k0_pay13 u v,
    ownPiece m c t 512 520 inb_S1024x384_S64x384_512_0 inb_S1032x384_S64x384_520_0 fun u v => k0_pay12 u v,
    ownPiece m c t 448 456 inb_S1024x384_S64x384_448_0 inb_S1032x384_S64x384_456_0 fun u v => k0_pay11 (k0_pay10 u v),
    ownPiece m c t 384 392 inb_S1024x384_S64x384_384_0 inb_S1032x384_S64x384_392_0 fun u v => k0_pay9 u v,
    ownPiece m c t 320 328 inb_S1024x384_S64x384_320_0 inb_S1032x384_S64x384_328_0 fun u v => k0_pay8 u v,
    ownPiece m c t 256 264 inb_S1024x384_S64x384_256_0 inb_S1032x384_S64x384_264_0 fun u v => k0_pay7 u v,
    ownPiece m c t 192 200 inb_S1024x384_S64x384_192_0 inb_S1032x384_S64x384_200_0 fun u v => k0_pay6 u v,
    ownPiece m c t 128 136 inb_S1024x384_S64x384_128_0 inb_S1032x384_S64x384_136_0 fun u v => k0_pay5 u v,
    ownPiece m c t 64 72 inb_S1024x384_S64x384_64_0 inb_S1032x384_S64x384_72_0 fun u v => k0_pay4 u v,
    ownPiece m c t 0 8 inb_S1024x384_S64x384_0_0 inb_S1032x384_S64x384_8_0 fun u v => k0_pay3 u v,
    ⟨Rect.unit (s := S1032x384) ![0, 0] S8x384.size inb_S1032x384_S8x384_0_0, k0_pay2 (grid0.coords t) (iblk m c 3 t) (iblk m c 4 t)⟩]

/-- They leave the padded product. -/
theorem kept_at (q : Fin 1032) (l : Fin 384) : View.canon (kept m c t) (ix2 q l) = padded m c t q l := by
  unfold kept
  refine View.canon_append_of_piecesOf (Val := Elt Ideal) (s := S1032x384) (e := .f32) (fun y => padded m c t (y 0) (y 1)) [] [_, _, _, _, _, _, _, _, _, _, _, _, _, _, _, _, _] ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩ (ix2 q l) (View.cover_of_tiledBy _ ![8, 384] (by sl_kernel_rfl) (ix2 q l))
  · have g := own_emb m c t 960 968 rfl (by norm_num) prod15; exact g _ _ x
  · have g := own_emb m c t 896 904 rfl (by norm_num) prod14; exact g _ _ x
  · have g := own_emb m c t 832 840 rfl (by norm_num) prod13; exact g _ _ x
  · have g := own_emb m c t 768 776 rfl (by norm_num) prod12; exact g _ _ x
  · have g := own_emb m c t 704 712 rfl (by norm_num) prod11; exact g _ _ x
  · have g := own_emb m c t 640 648 rfl (by norm_num) prod10; exact g _ _ x
  · have g := own_emb m c t 576 584 rfl (by norm_num) prod9; exact g _ _ x
  · have g := own_emb m c t 512 520 rfl (by norm_num) prod8; exact g _ _ x
  · have g := own_emb m c t 448 456 rfl (by norm_num) prod7; exact g _ _ x
  · have g := own_emb m c t 384 392 rfl (by norm_num) prod6; exact g _ _ x
  · have g := own_emb m c t 320 328 rfl (by norm_num) prod5; exact g _ _ x
  · have g := own_emb m c t 256 264 rfl (by norm_num) prod4; exact g _ _ x
  · have g := own_emb m c t 192 200 rfl (by norm_num) prod3; exact g _ _ x
  · have g := own_emb m c t 128 136 rfl (by norm_num) prod2; exact g _ _ x
  · have g := own_emb m c t 64 72 rfl (by norm_num) prod1; exact g _ _ x
  · have g := own_emb m c t 0 8 rfl (by norm_num) prod0; exact g _ _ x
  · exact before_emb m c t x

/-- Reading 64 rows of it back. -/
theorem read64 (o : ℕ) (inb : Pad o) (r : Fin 64) (l : Fin 384) (ho : o + r.val < 1032) :
    (View.whole cc0_scratch0).readCov (kept m c t) (Rect.unit (s := S1032x384) ![o, 0] S64x384.size inb).toLoadRect (ix2 r l) = padded m c t ⟨o + r.val, ho⟩ l := by
  rw [View.readCov_eq_canon']
  refine Eq.trans (congrArg (View.canon (kept m c t)) ?_) (kept_at m c t ⟨o + r.val, ho⟩ l)
  show (Rect.unit (s := S1032x384) ![o, 0] S64x384.size inb).emb (ix2 r l) = ix2 ⟨o + r.val, ho⟩ l
  blk_ext

/-- Reading 1024 rows of it back. -/
theorem read1024 (o : ℕ) (inb : ∀ a, (![o, 0] : Fin 2 → Nat) a + S1024x384.size a ≤ S1032x384.size a) (r : Fin 1024) (l : Fin 384) (ho : o + r.val < 1032) :
    (View.whole cc0_scratch0).readCov (kept m c t) (Rect.unit (s := S1032x384) ![o, 0] S1024x384.size inb).toLoadRect (ix2 r l) = padded m c t ⟨o + r.val, ho⟩ l := by
  rw [View.readCov_eq_canon']
  refine Eq.trans (congrArg (View.canon (kept m c t)) ?_) (kept_at m c t ⟨o + r.val, ho⟩ l)
  show (Rect.unit (s := S1032x384) ![o, 0] S1024x384.size inb).emb (ix2 r l) = ix2 ⟨o + r.val, ho⟩ l
  blk_ext

/-- The two shifted copies of the padded product, the last one first. -/
def shifts : List (View.Piece (Elt Ideal) S8x1032x384 .f32) :=
  [⟨Rect.unit (s := S8x1032x384) ![7, 0, 0] S1x1024x384.size inb_S8x1032x384_S1x1024x384_7_0_0, k0_pay21 ((View.whole cc0_scratch0).readCov (kept m c t) (Rect.unit (s := S1032x384) ![7, 0] S1024x384.size inb_S1032x384_S1024x384_7_0).toLoadRect)⟩,
    ⟨Rect.unit (s := S8x1032x384) ![6, 0, 0] S1x1024x384.size inb_S8x1032x384_S1x1024x384_6_0_0, k0_pay20 ((View.whole cc0_scratch0).readCov (kept m c t) (Rect.unit (s := S1032x384) ![6, 0] S1024x384.size inb_S1032x384_S1024x384_6_0).toLoadRect)⟩]

/-- Reading a stretch of a shifted copy. -/
theorem shifted7 (o : ℕ) (inb : Shift 7 o) (r : Fin 64) (l : Fin 384) (ho : o + r.val < 1024) :
    (View.whole cc0_scratch1).readCov (shifts m c t) (Rect.unit (s := S8x1032x384) ![7, o, 0] S1x64x384.size inb).toLoadRect (ix3 0 r l) = padded m c t ⟨7 + (o + r.val), by omega⟩ l := by
  rw [View.readCov_eq_canon']
  have e : (Rect.unit (s := S8x1032x384) ![7, o, 0] S1x64x384.size inb).emb (ix3 0 r l)
      = (Rect.unit (s := S8x1032x384) ![7, 0, 0] S1x1024x384.size inb_S8x1032x384_S1x1024x384_7_0_0).emb (ix3 0 ⟨o + r.val, ho⟩ l) := by blk_ext
  refine (congrArg (View.canon (shifts m c t)) e).trans ((View.canon_cons_emb _ _ _ _).trans ?_)
  pointwise [k0_pay21]
  exact read1024 m c t 7 _ ⟨o + r.val, ho⟩ l _

/-- Reading a stretch of the other one. -/
theorem shifted6 (o : ℕ) (inb : Shift 6 o) (r : Fin 64) (l : Fin 384) (ho : o + r.val < 1024) :
    (View.whole cc0_scratch1).readCov (shifts m c t) (Rect.unit (s := S8x1032x384) ![6, o, 0] S1x64x384.size inb).toLoadRect (ix3 0 r l) = padded m c t ⟨6 + (o + r.val), by omega⟩ l := by
  rw [View.readCov_eq_canon']
  have e : (Rect.unit (s := S8x1032x384) ![6, o, 0] S1x64x384.size inb).emb (ix3 0 r l)
      = (Rect.unit (s := S8x1032x384) ![6, 0, 0] S1x1024x384.size inb_S8x1032x384_S1x1024x384_6_0_0).emb (ix3 0 ⟨o + r.val, ho⟩ l) := by blk_ext
  refine (congrArg (View.canon (shifts m c t)) e).trans ?_
  refine (View.canon_cons_of_not_mem _ _ ?_).trans ((View.canon_cons_emb _ _ _ _).trans ?_)
  · intro hm
    have h7 := (Rect.mem_set_unit (s := S8x1032x384) (off := ![7, 0, 0]) (size := S1x1024x384.size) (inb := inb_S8x1032x384_S1x1024x384_7_0_0)).1 hm (0 : Fin 3)
    exact absurd (show (7 : ℕ) ≤ 6 from h7.1) (by decide)
  · pointwise [k0_pay20]
    exact read1024 m c t 6 _ ⟨o + r.val, ho⟩ l _

/-- A row of the padded product is the reference's product of some rows earlier. -/
theorem padded_earlier (ht : t.val < 8) (k : ℕ) (hk : k < 3) (p : ℕ) (hp : p < 1024) (l : Fin 384) (i : Fin 8192) (hi : i.val = t.val * 1024 + p) (q : Fin 1032) (hq : q.val = 6 + k + p) :
    padded m c t q l = MixCFwdReferenceIdeal.Spec.earlier (m (c.tc.loc main_arg1)) (m (c.tc.loc main_arg2)) i k hk l := by
  unfold padded paddedOf MixCFwdReferenceIdeal.Spec.earlier
  have e : (⟨t.val * 1024 + q.val - 8, by omega⟩ : Fin 8192) = ⟨i.val + k - 2, by omega⟩ := Fin.ext (by show t.val * 1024 + q.val - 8 = i.val + k - 2; omega)
  by_cases h : q.val < 8 ∧ t.val % 2 = 0
  · rw [if_pos h, if_pos (by omega)]
  · rw [if_neg h, if_neg (by omega), e]

/-- A stretch of a grid point is its rows of the reference. -/
theorem piece_rows (ht : t.val < 8) (o : ℕ) (y0 : Fin 1024) (y1 : Fin 384) (r : Fin 64) (l : Fin 384) (h0 : y0.val = o + r.val) (h1 : y1.val = l.val) {cb a b d w0 w1 w2 : EReal}
    (hcb : cb = (m (c.tc.loc main_arg0) : FVec Ideal S8192x384 .f32) (ix2 ⟨t.val * 1024 + (o + r.val), by omega⟩ l))
    (ha : a = padded m c t ⟨6 + (o + r.val), by omega⟩ l) (hb : b = padded m c t ⟨7 + (o + r.val), by omega⟩ l) (hd : d = padded m c t ⟨o + 8 + r.val, by omega⟩ l)
    (hw0 : w0 = (m (c.tc.loc main_arg3) : FVec Ideal S3x384 .f32) (ix2 ⟨0, by omega⟩ l)) (hw1 : w1 = (m (c.tc.loc main_arg3) : FVec Ideal S3x384 .f32) (ix2 ⟨1, by omega⟩ l)) (hw2 : w2 = (m (c.tc.loc main_arg3) : FVec Ideal S3x384 .f32) (ix2 ⟨2, by omega⟩ l)) :
    cb * (a * w0 + b * w1 + d * w2) = MixCFwdReferenceIdeal.Spec.result0 (m (c.tc.loc main_arg0)) (m (c.tc.loc main_arg1)) (m (c.tc.loc main_arg2)) (m (c.tc.loc main_arg3)) (ix2 ⟨t.val * 1024 + y0, by omega⟩ y1) := by
  obtain rfl : y1 = l := Fin.ext h1
  have e : (⟨t.val * 1024 + y0, by omega⟩ : Fin 8192) = ⟨t.val * 1024 + (o + r.val), by omega⟩ := Fin.ext (by show t.val * 1024 + y0.val = t.val * 1024 + (o + r.val); omega)
  rw [e, MixCFwdReferenceIdeal.Spec.result0_at, hcb, ha, hb, hd, hw0, hw1, hw2,
    padded_earlier m c t ht 0 (by omega) (o + r.val) (by omega) y1 ⟨t.val * 1024 + (o + r.val), by omega⟩ rfl ⟨6 + (o + r.val), by omega⟩ rfl, padded_earlier m c t ht 1 (by omega) (o + r.val) (by omega) y1 ⟨t.val * 1024 + (o + r.val), by omega⟩ rfl ⟨7 + (o + r.val), by omega⟩ rfl,
    padded_earlier m c t ht 2 (by omega) (o + r.val) (by omega) y1 ⟨t.val * 1024 + (o + r.val), by omega⟩ rfl ⟨o + 8 + r.val, by omega⟩ (by show o + 8 + r.val = 6 + 2 + (o + r.val); omega)]
  rfl

/-- A store holds its rows of the reference. -/
theorem store_rows (o o8 : ℕ) (h8 : o8 = o + 8) (ho : o ≤ 960) {p} (hp : Gate p)
    (inb : Own o) (inb6 : Shift 6 o) (inb7 : Shift 7 o)
    (inb8 : Pad o8) (i0 : Tap 0) (i1 : Tap 1) (i2 : Tap 2)
    (y0 : Fin 1024) (y1 : Fin 384) (x : S64x384.Idx) (h0 : y0.val = o + (x 0).val) (h1 : y1.val = (x 1).val) :
    p (View.ld (iblk m c 0 t : Vec Ideal S1024x384 .f32) (Rect.unit (s := S1024x384) ![o, 0] S64x384.size inb)) ((View.whole cc0_scratch1).readCov (shifts m c t) (Rect.unit (s := S8x1032x384) ![6, o, 0] S1x64x384.size inb6).toLoadRect) (View.ld (iblk m c 5 t : Vec Ideal S3x384 .f32) (Rect.unit (s := S3x384) ![0, 0] S1x384.size i0)) ((View.whole cc0_scratch1).readCov (shifts m c t) (Rect.unit (s := S8x1032x384) ![7, o, 0] S1x64x384.size inb7).toLoadRect) (View.ld (iblk m c 5 t : Vec Ideal S3x384 .f32) (Rect.unit (s := S3x384) ![1, 0] S1x384.size i1))
      ((View.whole cc0_scratch0).readCov (kept m c t) (Rect.unit (s := S1032x384) ![o8, 0] S64x384.size inb8).toLoadRect) (View.ld (iblk m c 5 t : Vec Ideal S3x384 .f32) (Rect.unit (s := S3x384) ![2, 0] S1x384.size i2)) x
      = MixCFwdReferenceIdeal.Spec.result0 (m (c.tc.loc main_arg0)) (m (c.tc.loc main_arg1)) (m (c.tc.loc main_arg2)) (m (c.tc.loc main_arg3)) (ix2 ⟨t.val * 1024 + y0, by have : t.val < 8 := lt_of_lt_of_eq t.isLt N_0; omega⟩ y1) := by
  have ht : t.val < 8 := lt_of_lt_of_eq t.isLt N_0
  idx_vars x
  subst h8
  exact (hp _ _ _ _ _ _ _ x0 x1).trans (piece_rows m c t ht o y0 y1 x0 x1 h0 h1 (rows0 m c t ht o inb x0 x1 (by omega)) (shifted6 m c t o inb6 x0 x1 (by omega)) (shifted7 m c t o inb7 x0 x1 (by omega)) (read64 m c t (o + 8) inb8 x0 x1 (by omega)) (weight m c t 0 (by omega) i0 x1) (weight m c t 1 (by omega) i1 x1) (weight m c t 2 (by omega) i2 x1))

/-- The result array: every grid point writes its rows, stretch by stretch. -/
theorem final0 (c : Dev nD) : (dats m 0 c).arrAt 6 cfg0.N
    = MixCFwdReferenceIdeal.Spec.result0 (m (c.tc.loc main_arg0)) (m (c.tc.loc main_arg1)) (m (c.tc.loc main_arg2)) (m (c.tc.loc main_arg3)) := by
  refine (dats m 0 c).arrAt_eq_of_covers 6 _ (by decide +kernel) fun t _ y => ?_
  blk_simp
  rw [after0_6]
  unfold outsAt0 out0_A_6
  frame_out
  idx_vars y
  have ht : t.val < 8 := lt_of_lt_of_eq t.isLt N_0
  have e : (((View.whole main_v0).slice (win0_6.rect t)).emb (ix2 y0 y1) : S8192x384.Idx)
      = ix2 ⟨t.val * 1024 + y0, by omega⟩ y1 := by blk_ext [placed t]
  rw [e]
  canon_tiles x h
  · have g := store_rows m c t 960 968 rfl (by norm_num) store15; exact g _ _ _ _ _ _ _ y0 y1 x h0 h1
  · have g := store_rows m c t 896 904 rfl (by norm_num) store14; exact g _ _ _ _ _ _ _ y0 y1 x h0 h1
  · have g := store_rows m c t 832 840 rfl (by norm_num) store13; exact g _ _ _ _ _ _ _ y0 y1 x h0 h1
  · have g := store_rows m c t 768 776 rfl (by norm_num) store12; exact g _ _ _ _ _ _ _ y0 y1 x h0 h1
  · have g := store_rows m c t 704 712 rfl (by norm_num) store11; exact g _ _ _ _ _ _ _ y0 y1 x h0 h1
  · have g := store_rows m c t 640 648 rfl (by norm_num) store10; exact g _ _ _ _ _ _ _ y0 y1 x h0 h1
  · have g := store_rows m c t 576 584 rfl (by norm_num) store9; exact g _ _ _ _ _ _ _ y0 y1 x h0 h1
  · have g := store_rows m c t 512 520 rfl (by norm_num) store8; exact g _ _ _ _ _ _ _ y0 y1 x h0 h1
  · have g := store_rows m c t 448 456 rfl (by norm_num) store7; exact g _ _ _ _ _ _ _ y0 y1 x h0 h1
  · have g := store_rows m c t 384 392 rfl (by norm_num) store6; exact g _ _ _ _ _ _ _ y0 y1 x h0 h1
  · have g := store_rows m c t 320 328 rfl (by norm_num) store5; exact g _ _ _ _ _ _ _ y0 y1 x h0 h1
  · have g := store_rows m c t 256 264 rfl (by norm_num) store4; exact g _ _ _ _ _ _ _ y0 y1 x h0 h1
  · have g := store_rows m c t 192 200 rfl (by norm_num) store3; exact g _ _ _ _ _ _ _ y0 y1 x h0 h1
  · have g := store_rows m c t 128 136 rfl (by norm_num) store2; exact g _ _ _ _ _ _ _ y0 y1 x h0 h1
  · have g := store_rows m c t 64 72 rfl (by norm_num) store1; exact g _ _ _ _ _ _ _ y0 y1 x h0 h1
  · have g := store_rows m c t 0 8 rfl (by norm_num) store0; exact g _ _ _ _ _ _ _ y0 y1 x (h0.trans (Nat.zero_add _).symm) h1

end Cert.MixCFwdIdeal.Val

namespace Cert.Proof.MixCFwd

/-- The frame of the kernel. -/
theorem frameKernel : quiescent_MixCFwd (hMixCFwd := MixCFwd.Gen.facts) :=
  fun m ρ _ => MixCFwd.Gen.frame m ρ

/-- The frame of its idealization. -/
theorem frameIdeal : quiescent_MixCFwdIdeal (hMixCFwdIdeal := MixCFwdIdeal.Gen.facts) :=
  fun m ρ _ => MixCFwdIdeal.Gen.frame m ρ

/-- The frame of the reference. -/
theorem frameReference : quiescent_MixCFwdReferenceIdeal (hMixCFwdReferenceIdeal := MixCFwdReferenceIdeal.Gen.facts) :=
  fun m ρ _ => (θ_run MixCFwdReferenceIdeal.defs _ _).mono
    (fun r h => ⟨fun c => (h c).2, sem_eq_zero_of_no_sems (by decide) r.2⟩)
    (MixCFwdReferenceIdeal.Value.run (F := Ideal) m ρ)

/-- The kernel computes the third mixer. -/
theorem algebraic : algebraic_MixCFwdIdeal_MixCFwdReferenceIdeal (hMixCFwdIdeal := MixCFwdIdeal.Gen.facts)
    (hMixCFwdReferenceIdeal := MixCFwdReferenceIdeal.Gen.facts) :=
  fun m ρ m' ρ' _ hag => ⟨_,
    (θ_run MixCFwdIdeal.defs _ _).mono (fun _ h c => ⟨(h c).1.trans (MixCFwdIdeal.Val.final0 m c), (h c).2⟩)
      (MixCFwdIdeal.Value.run_blocks (F := Ideal) m ρ),
    (θ_run MixCFwdReferenceIdeal.defs _ _).mono (fun _ h c => ⟨(h c).1.trans (by rw [← (hag c).1, ← (hag c).2.1, ← (hag c).2.2.1, ← (hag c).2.2.2]; rfl), (h c).2⟩)
      (MixCFwdReferenceIdeal.Value.run (F := Ideal) m' ρ')⟩

end Cert.Proof.MixCFwd

end

end
-- ==== Proof.MixBFwd.lean ====
/-
  The second mixer, forward: the gated rows mixed along the positions of each chunk, head by head.
-/
module

public import proofs.«01_k».proof.Proof.Gen.MixBFwd.Frame
public import proofs.«01_k».proof.Proof.Gen.MixBFwdIdeal.Value
public import proofs.«01_k».proof.Proof.Gen.MixBFwdIdeal.Frame
public import proofs.«01_k».proof.Proof.Gen.MixBFwdReferenceIdeal.Run
public import proofs.«01_k».proof.Proof.Gen.MixBFwd
public import proofs.«01_k».proof.Proof.Gen.MixBFwdIdeal
public import proofs.«01_k».proof.Proof.Gen.MixBFwdReferenceIdeal
public import Idealize.ShloMosaic.Lib.Pointwise
public import Idealize.ShloMosaic.Lib.Pipeline.ValueKit
public import proofs.«01_k».proof.Defs
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Mixing

/-- The exact GELU of a number. -/
def gelu (x : EReal) : EReal := Ideal.ofBits .f32 0x3F000000#32 * x * (1 + Ideal.erf (x * Ideal.ofBits .f32 0x3F3504F3#32))
/-- A row of 256 entries less its mean. -/
def less (v : Fin 256 → EReal) (l : Fin 256) : EReal := v l - Ideal.div (∑ k, v k) (Ideal.ofBits .f32 0x43800000#32)
/-- A row of 256 entries, normalised. -/
def normed (v : Fin 256 → EReal) (l : Fin 256) : EReal :=
  less v l * Ideal.rsqrt (Ideal.div (∑ k, less v k * less v k) (Ideal.ofBits .f32 0x43800000#32) + Ideal.ofBits .f32 0x3727C5AC#32)

/-- The GELU as the complement spells it. -/
theorem gelu_compl (x : EReal) :
    Ideal.ofBits .f32 0x3F000000#32 * x * Ideal.erfc (-x * Ideal.ofBits .f32 0x3F3504F3#32) = gelu x := by
  rw [neg_mul, Ideal.erfc_neg]
  rfl

/-- Choosing by a comparison of two positions is choosing by their order. -/
theorem select_order (r s : Fin 128) (x : EReal) :
    Scalar.select (IntOp.cmpi CmpIPredicate.sge (BitVec.ofNat 32 r.val) (BitVec.ofNat 32 s.val)) x 0 = if s ≤ r then x else 0 := by
  have h : ∀ r s : Fin 128, IntOp.cmpi CmpIPredicate.sge (BitVec.ofNat 32 r.val) (BitVec.ofNat 32 s.val) = if s ≤ r then 1#1 else 0#1 := by
    decide +kernel
  rw [h]
  split <;> rfl

/-- Of the four heads' terms, only the one of the lane's head is added. -/
theorem pick_head (a : EReal) (f : Fin 4 → EReal) (l : Fin 256) :
    a + Scalar.select (IntOp.cmpi CmpIPredicate.eq (BitVec.ofNat 32 (l.val / 64)) 0#32) (f 0) 0
      + Scalar.select (IntOp.cmpi CmpIPredicate.eq (BitVec.ofNat 32 (l.val / 64)) 1#32) (f 1) 0
      + Scalar.select (IntOp.cmpi CmpIPredicate.eq (BitVec.ofNat 32 (l.val / 64)) 2#32) (f 2) 0
      + Scalar.select (IntOp.cmpi CmpIPredicate.eq (BitVec.ofNat 32 (l.val / 64)) 3#32) (f 3) 0
      = a + f ⟨l.val / 64, by omega⟩ := by
  obtain ⟨q, hq⟩ : ∃ q : Fin 4, l.val / 64 = q.val := ⟨⟨l.val / 64, by omega⟩, rfl⟩
  have e : (⟨l.val / 64, by omega⟩ : Fin 4) = q := Fin.ext hq
  rw [e, hq]
  fin_cases q <;> simp [Scalar.select, IntOp.cmpi]

end Mixing

namespace Cert.MixBFwdReferenceIdeal.Spec

open Cert.MixBFwdReferenceIdeal Cert.MixBFwdReferenceIdeal.Gen

/-- The GELU of every entry. -/
def act (x : FVec Ideal S8192x256 .f32) : FVec Ideal S8192x256 .f32 :=
  mulf (mulf (broadcastInDim S8192x256 ![] bcast_S_S8192x256 (constant (F := Ideal) S_ .f32 0x3F000000#32)) x) (Host.erfc (mulf (Host.negf x) (broadcastInDim S8192x256 ![] bcast_S_S8192x256 (constant (F := Ideal) S_ .f32 0x3F3504F3#32))))
/-- The rows less their means. -/
def cent (z : FVec Ideal S8192x256 .f32) : FVec Ideal S8192x256 .f32 :=
  subf z (broadcastInDim S8192x256 ![0, 1] bcast_S8192x1_S8192x256_0_1 (Host.divf (broadcastInDim S8192x1 ![0] bcast_S8192_S8192x1_0 (Host.reduceAdd z (constant (F := Ideal) S_ .f32 0x00000000#32) reducesTo_S8192x256_S8192_d1 h_S_)) (broadcastInDim S8192x1 ![] bcast_S_S8192x1 (constant (F := Ideal) S_ .f32 0x43800000#32))))
/-- The normalised gates, times the gain, plus the bias. -/
def gated (v : FVec Ideal S8192x256 .f32) (g b : FVec Ideal S1x256 .f32) : FVec Ideal S8192x256 .f32 :=
  addf (mulf (mulf (cent (act v)) (broadcastInDim S8192x256 ![0, 1] bcast_S8192x1_S8192x256_0_1 (Host.rsqrt (addf (Host.divf (broadcastInDim S8192x1 ![0] bcast_S8192_S8192x1_0 (Host.reduceAdd (mulf (cent (act v)) (cent (act v))) (constant (F := Ideal) S_ .f32 0x00000000#32) reducesTo_S8192x256_S8192_d1 h_S_)) (broadcastInDim S8192x1 ![] bcast_S_S8192x1 (constant (F := Ideal) S_ .f32 0x43800000#32))) (broadcastInDim S8192x1 ![] bcast_S_S8192x1 (constant (F := Ideal) S_ .f32 0x3727C5AC#32)))))) (broadcastInDim S8192x256 ![0, 1] bcast_S1x256_S8192x256_0_1 (broadcastInDim S1x256 ![1] bcast_S256_S1x256_1 (shapeCast _ g shapeCasts_S1x256_S256)))) (broadcastInDim S8192x256 ![0, 1] bcast_S1x256_S8192x256_0_1 (broadcastInDim S1x256 ![1] bcast_S256_S1x256_1 (shapeCast _ b shapeCasts_S1x256_S256)))
/-- The mixing weights on and below the diagonal. -/
def lower (w : FVec Ideal S4x128x128 .f32) : FVec Ideal S4x128x128 .f32 :=
  select (broadcastInDim S4x128x128 ![0, 1, 2] bcast_S1x128x128_S4x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))))) w (broadcastInDim S4x128x128 ![] bcast_S_S4x128x128 (id (constant (F := Ideal) S_ .f32 0x00000000#32)))
/-- The mixer's output: the reference's composed term. -/
def result0 (u : FVec Ideal S8192x256 .f32) (v : FVec Ideal S8192x256 .f32) (w : FVec Ideal S4x128x128 .f32) (bs : FVec Ideal S4x128 .f32) (g : FVec Ideal S1x256 .f32) (b : FVec Ideal S1x256 .f32) : FVec Ideal S8192x256 .bf16 :=
  truncf .bf16 (mulf (act u) (shapeCast _ (addf (transpose S64x128x4x64 [1, 3, 0, 2] (Host.dotGeneral (F := Ideal) dot_S64x128x4x64_S4x128x128_S4x64x64x128_1_2_03_1_2_0 none (shapeCast _ (gated v g b) shapeCasts_S8192x256_S64x128x4x64) (lower w)) transposes_S4x64x64x128_S64x128x4x64_1_3_0_2) (broadcastInDim S64x128x4x64 ![0, 1, 2, 3] bcast_S1x128x4x1_S64x128x4x64_0_1_2_3 (broadcastInDim S1x128x4x1 ![1, 2] bcast_S128x4_S1x128x4x1_1_2 (transpose S128x4 [1, 0] bs transposes_S4x128_S128x4_1_0)))) shapeCasts_S64x128x4x64_S8192x256)) bitsLt_bf16_f32

/-- An activated entry. -/
theorem act_at (x : FVec Ideal S8192x256 .f32) (i : Fin 8192) (j : Fin 256) : act x (ix2 i j) = Mixing.gelu (x (ix2 i j)) := by
  pointwise [act]
  exact Mixing.gelu_compl _

/-- A centred entry. -/
theorem cent_at (z : FVec Ideal S8192x256 .f32) (i : Fin 8192) (j : Fin 256) : cent z (ix2 i j) = Mixing.less (fun k => z (ix2 i k)) j := by
  pointwise [cent]
  rfl

/-- A normalised gate, scaled and shifted. -/
theorem gated_at (v : FVec Ideal S8192x256 .f32) (g b : FVec Ideal S1x256 .f32) (i : Fin 8192) (j : Fin 256) :
    gated v g b (ix2 i j) = Mixing.normed (fun k => Mixing.gelu (v (ix2 i k))) j * g (ix2 0 j) + b (ix2 0 j) := by
  pointwise [gated, cent_at, act_at]
  rfl

/-- A mixing weight. -/
theorem lower_at (w : FVec Ideal S4x128x128 .f32) (h : Fin 4) (r s : Fin 128) :
    lower w (ix3 h r s) = if s ≤ r then w (ix3 h r s) else 0 := by
  pointwise [lower]
  rw [show ∀ r s : Fin 128, Scalar.select (IntOp.cmpi CmpIPredicate.sge (IntOp.addi (BitVec.ofNat 32 r.val) 0#32) (BitVec.ofNat 32 s.val)) 1#1 0#1
      = IntOp.cmpi CmpIPredicate.sge (BitVec.ofNat 32 r.val) (BitVec.ofNat 32 s.val) from by decide +kernel,
    show (id (constant (F := Ideal) S_ .f32 0#32) ix0 : EReal) = 0 from by dsimp only [id]; pointwise]
  exact Mixing.select_order r s _

/-- The output at a row and a lane. -/
theorem result0_at (u : FVec Ideal S8192x256 .f32) (v : FVec Ideal S8192x256 .f32) (w : FVec Ideal S4x128x128 .f32) (bs : FVec Ideal S4x128 .f32) (g : FVec Ideal S1x256 .f32) (b : FVec Ideal S1x256 .f32) (i : Fin 8192) (j : Fin 256) :
    result0 u v w bs g b (ix2 i j) = Mixing.gelu (u (ix2 i j)) * (bs (ix2 ⟨j / 64, by omega⟩ ⟨i % 128, by omega⟩)
      + ∑ s : Fin 128, (if s ≤ ⟨i % 128, by omega⟩ then w (ix3 ⟨j / 64, by omega⟩ ⟨i % 128, by omega⟩ s) else 0) * gated v g b (ix2 ⟨i / 128 * 128 + s, by omega⟩ j)) := by
  pointwise [result0, act_at, lower_at]
  rw [add_comm]
  refine congrArg _ (congrArg _ (Finset.sum_congr rfl fun s _ => mul_comm _ _))

end Cert.MixBFwdReferenceIdeal.Spec

namespace Cert.MixBFwdIdeal.Val

open Cert.MixBFwdIdeal Cert.MixBFwdIdeal.Gen

variable (m : (ℓ : Loc nD τ sig) → Buf (Elt Ideal) ℓ)

/-- A lane's head. -/
theorem lane_at : ∀ l : Fin 256, k0_pay2 (ix2 0 l) = BitVec.ofNat 32 (l.val / 64) := by
  decide +kernel

/-- What a chunk stores at a position and a lane: the activated rows times the mixed gates of the lane's head. -/
def chunk (u v : FVec Ideal S128x256 .f32) (w : Fin 4 → FVec Ideal S1x128x128 .f32) (a : FVec Ideal S128x256 .f32) (g b : FVec Ideal S1x256 .f32) (r : Fin 128) (l : Fin 256) : EReal :=
  Mixing.gelu (u (ix2 r l)) * (a (ix2 r l) + ∑ s : Fin 128, (if s ≤ r then w ⟨l.val / 64, by omega⟩ (ix3 0 r s) else 0) * (Mixing.normed (fun k => Mixing.gelu (v (ix2 s k))) l * g (ix2 0 l) + b (ix2 0 l)))

/-- The chunk as the body spells it. -/
theorem chunk_spelt (u v : FVec Ideal S128x256 .f32) (w : Fin 4 → FVec Ideal S1x128x128 .f32) (a : FVec Ideal S128x256 .f32) (g b : FVec Ideal S1x256 .f32) (r : Fin 128) (l : Fin 256) (f : Fin 4 → EReal)
    (hf : ∀ h, f h = ∑ s : Fin 128, Scalar.select (IntOp.cmpi CmpIPredicate.sge (BitVec.ofNat 32 r.val) (BitVec.ofNat 32 s.val)) (w h (ix3 0 r s)) 0 * (Mixing.normed (fun k => Mixing.gelu (v (ix2 s k))) l * g (ix2 0 l) + b (ix2 0 l))) :
    Mixing.gelu (u (ix2 r l)) * (a (ix2 r l)
      + Scalar.select (IntOp.cmpi CmpIPredicate.eq (BitVec.ofNat 32 (l.val / 64)) 0#32) (f 0) 0
      + Scalar.select (IntOp.cmpi CmpIPredicate.eq (BitVec.ofNat 32 (l.val / 64)) 1#32) (f 1) 0
      + Scalar.select (IntOp.cmpi CmpIPredicate.eq (BitVec.ofNat 32 (l.val / 64)) 2#32) (f 2) 0
      + Scalar.select (IntOp.cmpi CmpIPredicate.eq (BitVec.ofNat 32 (l.val / 64)) 3#32) (f 3) 0) = chunk u v w a g b r l := by
  rw [Mixing.pick_head, hf]
  exact congrArg (Mixing.gelu (u (ix2 r l)) * ·) (congrArg (a (ix2 r l) + ·) (Finset.sum_congr rfl fun s _ => by rw [Mixing.select_order]))

section Stores

variable (u v : FVec Ideal S128x256 .f32) (w0 w1 w2 w3 : FVec Ideal S1x128x128 .f32) (a : FVec Ideal S128x256 .f32) (g b : FVec Ideal S1x256 .f32) (r : Fin 128) (l : Fin 256)

/-- What store 0 writes. -/
theorem store0_at :
    k0_pay12 (F := Ideal) (k0_pay10 (k0_pay2) (k0_pay3 w0) (k0_pay4 w1) (k0_pay6 k0_pay5 w2) (k0_pay7 w3) (k0_pay8 v) (k0_pay9 g) b a) u (k0_pay11 (F := Ideal)) (ix2 r l)
      = chunk u v ![w0, w1, w2, w3] a g b r l := by
  refine Eq.trans ?_ (chunk_spelt u v ![w0, w1, w2, w3] a g b r l _ fun _ => rfl)
  pointwise [k0_pay3, k0_pay4, k0_pay5, k0_pay6, k0_pay7, k0_pay8, k0_pay9, k0_pay10, k0_pay11, k0_pay12, lane_at]
  rfl

/-- What store 1 writes. -/
theorem store1_at :
    k0_pay17 (F := Ideal) (k0_pay14 (k0_pay2) (k0_pay3 w0) (k0_pay4 w1) (k0_pay6 k0_pay5 w2) (k0_pay7 w3) (k0_pay13 v g b) a) (k0_pay15 u) (k0_pay16 u) (Scalar.ofBits (F := Ideal) .f32 0x3F800000#32) (ix2 r l)
      = chunk u v ![w0, w1, w2, w3] a g b r l := by
  refine Eq.trans ?_ (chunk_spelt u v ![w0, w1, w2, w3] a g b r l _ fun _ => rfl)
  pointwise [k0_pay3, k0_pay4, k0_pay5, k0_pay6, k0_pay7, k0_pay13, k0_pay14, k0_pay15, k0_pay16, k0_pay17, lane_at]
  rfl

/-- What store 2 writes. -/
theorem store2_at :
    k0_pay20 (F := Ideal) (k0_pay2) (k0_pay3 w0) (k0_pay4 w1) (k0_pay6 k0_pay5 w2) (k0_pay7 w3) (k0_pay18 v g b) (k0_pay19 a) 0#32 u (ix2 r l)
      = chunk u v ![w0, w1, w2, w3] a g b r l := by
  refine Eq.trans ?_ (chunk_spelt u v ![w0, w1, w2, w3] a g b r l _ fun _ => rfl)
  pointwise [k0_pay3, k0_pay4, k0_pay5, k0_pay6, k0_pay7, k0_pay18, k0_pay19, k0_pay20, lane_at]
  rfl

/-- What store 3 writes. -/
theorem store3_at :
    k0_pay25 (F := Ideal) (k0_pay2) (k0_pay4 w1) (k0_pay6 k0_pay5 w2) (k0_pay7 w3) (k0_pay21 v g b) (k0_pay22 a) (k0_pay23 (k0_pay3 w0) v g b) (Scalar.ofBits (F := Ideal) .f32 0x00000000#32) (k0_pay24 (k0_pay2)) u (ix2 r l)
      = chunk u v ![w0, w1, w2, w3] a g b r l := by
  refine Eq.trans ?_ (chunk_spelt u v ![w0, w1, w2, w3] a g b r l _ fun _ => rfl)
  pointwise [k0_pay3, k0_pay4, k0_pay5, k0_pay6, k0_pay7, k0_pay21, k0_pay22, k0_pay23, k0_pay24, k0_pay25, lane_at]
  rfl

/-- What store 4 writes. -/
theorem store4_at :
    k0_pay29 (F := Ideal) (k0_pay2) (k0_pay4 w1) (k0_pay6 k0_pay5 w2) (k0_pay7 w3) (k0_pay26 v g b) (k0_pay27 (k0_pay2) (k0_pay3 w0) v g b a) k0_pay28 u (ix2 r l)
      = chunk u v ![w0, w1, w2, w3] a g b r l := by
  refine Eq.trans ?_ (chunk_spelt u v ![w0, w1, w2, w3] a g b r l _ fun _ => rfl)
  pointwise [k0_pay3, k0_pay4, k0_pay5, k0_pay6, k0_pay7, k0_pay26, k0_pay27, k0_pay28, k0_pay29, lane_at]
  rfl

/-- What store 5 writes. -/
theorem store5_at :
    k0_pay36 (F := Ideal) (k0_pay2) (k0_pay6 k0_pay5 w2) (k0_pay7 w3) (k0_pay32 (k0_pay30 v) (k0_pay31 v) g b) (k0_pay33 (k0_pay2) (k0_pay3 w0) (k0_pay30 v) (k0_pay31 v) g b a) (k0_pay34 (k0_pay4 w1) (k0_pay30 v) (k0_pay31 v) g b) (Scalar.ofBits (F := Ideal) .f32 0x00000000#32) (k0_pay35 (k0_pay2)) u (ix2 r l)
      = chunk u v ![w0, w1, w2, w3] a g b r l := by
  refine Eq.trans ?_ (chunk_spelt u v ![w0, w1, w2, w3] a g b r l _ fun _ => rfl)
  pointwise [k0_pay3, k0_pay4, k0_pay5, k0_pay6, k0_pay7, k0_pay30, k0_pay31, k0_pay32, k0_pay33, k0_pay34, k0_pay35, k0_pay36, lane_at]
  rfl

/-- What store 6 writes. -/
theorem store6_at :
    k0_pay41 (F := Ideal) (k0_pay2) (k0_pay6 k0_pay5 w2) (k0_pay7 w3) (k0_pay38 (k0_pay37 v) g b) (k0_pay39 (k0_pay2) (k0_pay3 w0) (k0_pay4 w1) (k0_pay37 v) g b a) (k0_pay40 (k0_pay2)) u (ix2 r l)
      = chunk u v ![w0, w1, w2, w3] a g b r l := by
  refine Eq.trans ?_ (chunk_spelt u v ![w0, w1, w2, w3] a g b r l _ fun _ => rfl)
  pointwise [k0_pay3, k0_pay4, k0_pay5, k0_pay6, k0_pay7, k0_pay37, k0_pay38, k0_pay39, k0_pay40, k0_pay41, lane_at]
  rfl

/-- What store 7 writes. -/
theorem store7_at :
    k0_pay1 (F := Ideal) (k0_pay2) (k0_pay7 w3) (k0_pay44 (k0_pay42 v) (k0_pay43 v) g b) (k0_pay45 (k0_pay2) (k0_pay3 w0) (k0_pay4 w1) (k0_pay42 v) (k0_pay43 v) g b a) (k0_pay46 (k0_pay6 k0_pay5 w2) (k0_pay42 v) (k0_pay43 v) g b) (k0_pay47 (k0_pay2)) (k0_pay48 (F := Ideal)) u (ix2 r l)
      = chunk u v ![w0, w1, w2, w3] a g b r l := by
  refine Eq.trans ?_ (chunk_spelt u v ![w0, w1, w2, w3] a g b r l _ fun _ => rfl)
  pointwise [k0_pay1, k0_pay3, k0_pay4, k0_pay5, k0_pay6, k0_pay7, k0_pay42, k0_pay43, k0_pay44, k0_pay45, k0_pay46, k0_pay47, k0_pay48, lane_at]
  rfl

end Stores

/-- Where the windows' blocks lie at point `t`. -/
theorem placed : ∀ t : Fin cfg0.N, win0_0.index t = ![t.val, 0] ∧ win0_1.index t = ![t.val, 0] ∧ win0_2.index t = ![0, 0, 0] ∧ win0_3.index t = ![0, 0] ∧ win0_4.index t = ![0, 0] ∧ win0_5.index t = ![0, 0] ∧ win0_6.index t = ![t.val, 0] :=
  (by decide +kernel : ∀ t : Fin grid0.N, _)

/-- The bias, prepared for every lane: its head's. -/
theorem bias_at (c : Dev nD) (r : Fin 128) (l : Fin 256) :
    V m c main_v2 (ix2 r l) = (m (c.tc.loc main_arg3) : FVec Ideal S4x128 .f32) (ix2 ⟨l.val / 64, by omega⟩ r) := by
  have e : V m c main_v2 = (shapeCast S128x256 (broadcastInDim S128x4x64 ![0, 1] bcast_S128x4_S128x4x64_0_1 (transpose S128x4 [1, 0] (m (c.tc.loc main_arg3) : FVec Ideal S4x128 .f32) transposes_S4x128_S128x4_1_0)) shapeCasts_S128x4x64_S128x256 : FVec Ideal S128x256 .f32) := by
    simp only [V, hostOps0, List.flatten_cons, List.flatten_nil, List.append_nil, List.cons_append, List.nil_append]
    after_results_simp <;> rfl
  rw [e]
  pointwise

open Cert.MixBFwdReferenceIdeal.Spec in
/-- A chunk is its rows of the reference, when its operands are. -/
theorem chunk_rows (U V' : FVec Ideal S8192x256 .f32) (W : FVec Ideal S4x128x128 .f32) (A : FVec Ideal S4x128 .f32) (G B : FVec Ideal S1x256 .f32) (p : ℕ) (hp : p < 64)
    (u v : FVec Ideal S128x256 .f32) (w : Fin 4 → FVec Ideal S1x128x128 .f32) (a : FVec Ideal S128x256 .f32) (g b : FVec Ideal S1x256 .f32)
    (hu : ∀ (r : Fin 128) (l : Fin 256), u (ix2 r l) = U (ix2 ⟨p * 128 + r, by omega⟩ l)) (hv : ∀ (r : Fin 128) (l : Fin 256), v (ix2 r l) = V' (ix2 ⟨p * 128 + r, by omega⟩ l))
    (hw : ∀ (h : Fin 4) (r s : Fin 128), w h (ix3 0 r s) = W (ix3 h r s)) (ha : ∀ (r : Fin 128) (l : Fin 256), a (ix2 r l) = A (ix2 ⟨l.val / 64, by omega⟩ r))
    (hg : ∀ l : Fin 256, g (ix2 0 l) = G (ix2 0 l)) (hb : ∀ l : Fin 256, b (ix2 0 l) = B (ix2 0 l))
    (i : Fin 8192) (r : Fin 128) (l : Fin 256) (hi : i.val = p * 128 + r) :
    chunk u v w a g b r l = result0 U V' W A G B (ix2 i l) := by
  have h0 : (⟨i.val % 128, by omega⟩ : Fin 128) = r := Fin.ext (by show i.val % 128 = r.val; omega)
  have h1 : ∀ s : Fin 128, (⟨i.val / 128 * 128 + s, by omega⟩ : Fin 8192) = ⟨p * 128 + s, by omega⟩ := fun s => Fin.ext (by show i.val / 128 * 128 + s.val = p * 128 + s.val; omega)
  have h2 : i = ⟨p * 128 + r, by omega⟩ := Fin.ext hi
  rw [result0_at, h0, chunk, hu, ha, ← h2]
  refine congrArg _ (congrArg _ (Finset.sum_congr (M := EReal) rfl fun s _ => ?_))
  rw [h1, gated_at, hw, hg, hb]
  simp only [hv]

/-- The four heads' weights, as the body reads them. -/
def heads (x : Vec Ideal S4x128x128 .f32) : Fin 4 → FVec Ideal S1x128x128 .f32 := ![View.ld x r0_0, View.ld x r0_1, View.ld x r0_2, View.ld x r0_3]

/-- A head's weight is the array's. -/
theorem heads_at (x : Vec Ideal S4x128x128 .f32) (h : Fin 4) (r s : Fin 128) : heads x h (ix3 0 r s) = x (ix3 h r s) := by
  have e : ∀ (k : ℕ) (hk : k < 4) (inb : ∀ a, (![k, 0, 0] : Fin 3 → Nat) a + S1x128x128.size a ≤ S4x128x128.size a), View.ld x (Rect.unit (s := S4x128x128) ![k, 0, 0] S1x128x128.size inb) (ix3 0 r s) = x (ix3 ⟨k, hk⟩ r s) :=
    fun k hk inb => View.ld_unit_apply_of x _ _ _ _ (ix3 ⟨k, hk⟩ r s) fun (a : Fin 3) => by
      fin_cases a
      · rfl
      · exact (Nat.zero_add _).symm
      · exact (Nat.zero_add _).symm
  fin_cases h
  · exact e 0 _ _
  · exact e 1 _ _
  · exact e 2 _ _
  · exact e 3 _ _

/-- Chunk `k` of a grid point is its rows of the reference. -/
theorem piece_rows (c : Dev nD) (t : Fin cfg0.N) (ht : t.val < 8) (k o : ℕ) (hk : k < 8) (ho : o = k * 128) (inb : ∀ a, (![o, 0] : Fin 2 → Nat) a + S128x256.size a ≤ S1024x256.size a)
    (y0 : Fin 1024) (y1 : Fin 256) (r : Fin 128) (l : Fin 256) (h0 : y0.val = o + r.val) (h1 : y1.val = l.val) :
    chunk (View.ld (iblk m c 0 t : Vec Ideal S1024x256 .f32) (Rect.unit (s := S1024x256) ![o, 0] S128x256.size inb)) (View.ld (iblk m c 1 t : Vec Ideal S1024x256 .f32) (Rect.unit (s := S1024x256) ![o, 0] S128x256.size inb))
      (heads (iblk m c 2 t)) (iblk m c 3 t) (iblk m c 4 t) (iblk m c 5 t) r l
      = Cert.MixBFwdReferenceIdeal.Spec.result0 (m (c.tc.loc main_arg0)) (m (c.tc.loc main_arg1)) (m (c.tc.loc main_arg2)) (m (c.tc.loc main_arg3)) (m (c.tc.loc main_arg4)) (m (c.tc.loc main_arg5)) (ix2 ⟨t.val * 1024 + y0, by omega⟩ y1) := by
  obtain rfl : y1 = l := Fin.ext h1
  refine chunk_rows _ _ _ _ _ _ (t.val * 8 + k) (by omega) _ _ _ _ _ _ ?_ ?_ ?_ ?_ ?_ ?_ _ r y1 (by show t.val * 1024 + y0.val = _; omega)
  · intro r l
    refine (View.ld_unit_apply_of (iblk m c 0 t : Vec Ideal S1024x256 .f32) _ _ _ _ (ix2 ⟨o + r, by omega⟩ l) fun (a : Fin 2) => by
      fin_cases a
      · rfl
      · exact (Nat.zero_add _).symm).trans ?_
    blk_ext [iblk, V, placed t]
  · intro r l
    refine (View.ld_unit_apply_of (iblk m c 1 t : Vec Ideal S1024x256 .f32) _ _ _ _ (ix2 ⟨o + r, by omega⟩ l) fun (a : Fin 2) => by
      fin_cases a
      · rfl
      · exact (Nat.zero_add _).symm).trans ?_
    blk_ext [iblk, V, placed t]
  · intro h r s
    rw [heads_at]
    blk_ext [iblk, V, placed t]
  · intro r l
    rw [← bias_at m c r l]
    blk_ext [iblk, placed t]
  · intro l
    blk_ext [iblk, V, placed t]
  · intro l
    blk_ext [iblk, V, placed t]

/-- The result array: every grid point writes its rows, chunk by chunk. -/
theorem final0 (c : Dev nD) : (dats m 0 c).arrAt 6 cfg0.N
    = Cert.MixBFwdReferenceIdeal.Spec.result0 (m (c.tc.loc main_arg0)) (m (c.tc.loc main_arg1)) (m (c.tc.loc main_arg2)) (m (c.tc.loc main_arg3)) (m (c.tc.loc main_arg4)) (m (c.tc.loc main_arg5)) := by
  refine (dats m 0 c).arrAt_eq_of_covers 6 _ (by decide +kernel) fun t _ y => ?_
  blk_simp
  rw [after0_6]
  unfold_out out0_6
  frame_out
  idx_vars y
  have ht : t.val < 8 := lt_of_lt_of_eq t.isLt N_0
  have e : (((View.whole main_v3).slice (win0_6.rect t)).emb (ix2 y0 y1) : S8192x256.Idx)
      = ix2 ⟨t.val * 1024 + y0, by omega⟩ y1 := by blk_ext [placed t]
  rw [e]
  canon_tiles x h
  · idx_vars x
    exact (store7_at _ _ _ _ _ _ _ _ _ x0 x1).trans (piece_rows m c t ht 7 896 (by norm_num) rfl _ y0 y1 x0 x1 (by omega) h1)
  · idx_vars x
    exact (store6_at _ _ _ _ _ _ _ _ _ x0 x1).trans (piece_rows m c t ht 6 768 (by norm_num) rfl _ y0 y1 x0 x1 (by omega) h1)
  · idx_vars x
    exact (store5_at _ _ _ _ _ _ _ _ _ x0 x1).trans (piece_rows m c t ht 5 640 (by norm_num) rfl _ y0 y1 x0 x1 (by omega) h1)
  · idx_vars x
    exact (store4_at _ _ _ _ _ _ _ _ _ x0 x1).trans (piece_rows m c t ht 4 512 (by norm_num) rfl _ y0 y1 x0 x1 (by omega) h1)
  · idx_vars x
    exact (store3_at _ _ _ _ _ _ _ _ _ x0 x1).trans (piece_rows m c t ht 3 384 (by norm_num) rfl _ y0 y1 x0 x1 (by omega) h1)
  · idx_vars x
    exact (store2_at _ _ _ _ _ _ _ _ _ x0 x1).trans (piece_rows m c t ht 2 256 (by norm_num) rfl _ y0 y1 x0 x1 (by omega) h1)
  · idx_vars x
    exact (store1_at _ _ _ _ _ _ _ _ _ x0 x1).trans (piece_rows m c t ht 1 128 (by norm_num) rfl _ y0 y1 x0 x1 (by omega) h1)
  · idx_vars x
    exact (store0_at _ _ _ _ _ _ _ _ _ x0 x1).trans (piece_rows m c t ht 0 0 (by norm_num) rfl _ y0 y1 x0 x1 (by omega) h1)

end Cert.MixBFwdIdeal.Val

namespace Cert.Proof.MixBFwd

/-- The frame of the kernel. -/
theorem frameKernel : quiescent_MixBFwd (hMixBFwd := MixBFwd.Gen.facts) :=
  fun m ρ _ => MixBFwd.Gen.frame m ρ

/-- The frame of its idealization. -/
theorem frameIdeal : quiescent_MixBFwdIdeal (hMixBFwdIdeal := MixBFwdIdeal.Gen.facts) :=
  fun m ρ _ => MixBFwdIdeal.Gen.frame m ρ

/-- The frame of the reference. -/
theorem frameReference : quiescent_MixBFwdReferenceIdeal (hMixBFwdReferenceIdeal := MixBFwdReferenceIdeal.Gen.facts) :=
  fun m ρ _ => (θ_run MixBFwdReferenceIdeal.defs _ _).mono
    (fun r h => ⟨fun c => (h c).2, sem_eq_zero_of_no_sems (by decide) r.2⟩)
    (MixBFwdReferenceIdeal.Value.run (F := Ideal) m ρ)

/-- The kernel computes the second mixer. -/
theorem algebraic : algebraic_MixBFwdIdeal_MixBFwdReferenceIdeal (hMixBFwdIdeal := MixBFwdIdeal.Gen.facts)
    (hMixBFwdReferenceIdeal := MixBFwdReferenceIdeal.Gen.facts) :=
  fun m ρ m' ρ' _ hag => ⟨_,
    (θ_run MixBFwdIdeal.defs _ _).mono (fun _ h c => ⟨(h c).1.trans (MixBFwdIdeal.Val.final0 m c), (h c).2⟩)
      (MixBFwdIdeal.Value.run_blocks (F := Ideal) m ρ),
    (θ_run MixBFwdReferenceIdeal.defs _ _).mono (fun _ h c => ⟨(h c).1.trans (by rw [← (hag c).1, ← (hag c).2.1, ← (hag c).2.2.1, ← (hag c).2.2.2.1, ← (hag c).2.2.2.2.1, ← (hag c).2.2.2.2.2]; rfl), (h c).2⟩)
      (MixBFwdReferenceIdeal.Value.run (F := Ideal) m' ρ')⟩

end Cert.Proof.MixBFwd

end

end
-- ==== Proof.AdamwSquare.lean ====
/-
  The AdamW step of a square weight: the two moments and the change of the weights.
-/
module

public import proofs.«01_k».proof.Proof.Gen.AdamwSquare.Frame
public import proofs.«01_k».proof.Proof.Gen.AdamwSquareIdeal.Value
public import proofs.«01_k».proof.Proof.Gen.AdamwSquareIdeal.Frame
public import proofs.«01_k».proof.Proof.Gen.AdamwSquareReferenceIdeal.Run
public import proofs.«01_k».proof.Proof.Gen.AdamwSquare
public import proofs.«01_k».proof.Proof.Gen.AdamwSquareIdeal
public import proofs.«01_k».proof.Proof.Gen.AdamwSquareReferenceIdeal
public import Idealize.ShloMosaic.Lib.Pointwise
public import Idealize.ShloMosaic.Lib.Pipeline.ValueKit
public import proofs.«01_k».proof.Defs
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.AdamwSquareReferenceIdeal.Spec

open Cert.AdamwSquareReferenceIdeal Cert.AdamwSquareReferenceIdeal.Gen

/-- The change of the weights: the reference's composed term. -/
def result0 (w : FVec Ideal S1024x1024 .f32) (g : FVec Ideal S1024x1024 .f32) (m : FVec Ideal S1024x1024 .f32) (v : FVec Ideal S1024x1024 .f32) : FVec Ideal S1024x1024 .f32 :=
  mulf (broadcastInDim S1024x1024 ![] bcast_S_S1024x1024 (constant (F := Ideal) S_ .f32 0xBA83126F#32)) (addf (Host.divf (Host.divf (addf (mulf (broadcastInDim S1024x1024 ![] bcast_S_S1024x1024 (constant (F := Ideal) S_ .f32 0x3F666666#32)) m) (mulf (broadcastInDim S1024x1024 ![] bcast_S_S1024x1024 (constant (F := Ideal) S_ .f32 0x3DCCCCCD#32)) g)) (broadcastInDim S1024x1024 ![] bcast_S_S1024x1024 (constant (F := Ideal) S_ .f32 0x3F26BD02#32))) (addf (Host.sqrt (Host.divf (addf (mulf (broadcastInDim S1024x1024 ![] bcast_S_S1024x1024 (constant (F := Ideal) S_ .f32 0x3F7FBE77#32)) v) (mulf (broadcastInDim S1024x1024 ![] bcast_S_S1024x1024 (constant (F := Ideal) S_ .f32 0x3A83126F#32)) (mulf g g))) (broadcastInDim S1024x1024 ![] bcast_S_S1024x1024 (constant (F := Ideal) S_ .f32 0x3C231ACC#32)))) (broadcastInDim S1024x1024 ![] bcast_S_S1024x1024 (constant (F := Ideal) S_ .f32 0x322BCC77#32)))) (mulf (broadcastInDim S1024x1024 ![] bcast_S_S1024x1024 (constant (F := Ideal) S_ .f32 0x3C23D70A#32)) w))

/-- The new first moment: the reference's composed term. -/
def result1 (w : FVec Ideal S1024x1024 .f32) (g : FVec Ideal S1024x1024 .f32) (m : FVec Ideal S1024x1024 .f32) (v : FVec Ideal S1024x1024 .f32) : FVec Ideal S1024x1024 .f32 :=
  addf (mulf (broadcastInDim S1024x1024 ![] bcast_S_S1024x1024 (constant (F := Ideal) S_ .f32 0x3F666666#32)) m) (mulf (broadcastInDim S1024x1024 ![] bcast_S_S1024x1024 (constant (F := Ideal) S_ .f32 0x3DCCCCCD#32)) g)

/-- The new second moment: the reference's composed term. -/
def result2 (w : FVec Ideal S1024x1024 .f32) (g : FVec Ideal S1024x1024 .f32) (m : FVec Ideal S1024x1024 .f32) (v : FVec Ideal S1024x1024 .f32) : FVec Ideal S1024x1024 .f32 :=
  addf (mulf (broadcastInDim S1024x1024 ![] bcast_S_S1024x1024 (constant (F := Ideal) S_ .f32 0x3F7FBE77#32)) v) (mulf (broadcastInDim S1024x1024 ![] bcast_S_S1024x1024 (constant (F := Ideal) S_ .f32 0x3A83126F#32)) (mulf g g))

end Cert.AdamwSquareReferenceIdeal.Spec

namespace Cert.AdamwSquareIdeal.Val

open Cert.AdamwSquareIdeal Cert.AdamwSquareIdeal.Gen

variable (m : (ℓ : Loc nD τ sig) → Buf (Elt Ideal) ℓ)

/-- Where the windows' blocks lie at point `t`. -/
theorem placed : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- Result array 0: every grid point writes its rows. -/
theorem final0 (c : Dev nD) : (dats m 0 c).arrAt 4 cfg0.N
    = AdamwSquareReferenceIdeal.Spec.result0 (m (c.tc.loc main_arg0)) (m (c.tc.loc main_arg1)) (m (c.tc.loc main_arg2)) (m (c.tc.loc main_arg3)) := by
  refine (dats m 0 c).arrAt_eq_of_covers 4 _ (by decide +kernel) fun t _ y => ?_
  blk_simp
  rw [after0_4]
  frame_out
  idx_vars y
  have ht : t.val < 2 := lt_of_lt_of_eq t.isLt N_0
  have e : (((View.whole main_v0_0).slice (win0_4.rect t)).emb (ix2 y0 y1) : S1024x1024.Idx)
      = ix2 ⟨t.val * 512 + y0, by omega⟩ y1 := by blk_ext [placed t]
  rw [e]
  pointwise [AdamwSquareReferenceIdeal.Spec.result0, k0_pay1, k0_pay2, k0_pay3]
  blk_point [iblk, V, placed t]

/-- Result array 1: every grid point writes its rows. -/
theorem final1 (c : Dev nD) : (dats m 0 c).arrAt 5 cfg0.N
    = AdamwSquareReferenceIdeal.Spec.result1 (m (c.tc.loc main_arg0)) (m (c.tc.loc main_arg1)) (m (c.tc.loc main_arg2)) (m (c.tc.loc main_arg3)) := by
  refine (dats m 0 c).arrAt_eq_of_covers 5 _ (by decide +kernel) fun t _ y => ?_
  blk_simp
  rw [after0_5]
  frame_out
  idx_vars y
  have ht : t.val < 2 := lt_of_lt_of_eq t.isLt N_0
  have e : (((View.whole main_v0_1).slice (win0_5.rect t)).emb (ix2 y0 y1) : S1024x1024.Idx)
      = ix2 ⟨t.val * 512 + y0, by omega⟩ y1 := by blk_ext [placed t]
  rw [e]
  pointwise [AdamwSquareReferenceIdeal.Spec.result1, k0_pay1, k0_pay2, k0_pay3]
  blk_point [iblk, V, placed t]

/-- Result array 2: every grid point writes its rows. -/
theorem final2 (c : Dev nD) : (dats m 0 c).arrAt 6 cfg0.N
    = AdamwSquareReferenceIdeal.Spec.result2 (m (c.tc.loc main_arg0)) (m (c.tc.loc main_arg1)) (m (c.tc.loc main_arg2)) (m (c.tc.loc main_arg3)) := by
  refine (dats m 0 c).arrAt_eq_of_covers 6 _ (by decide +kernel) fun t _ y => ?_
  blk_simp
  rw [after0_6]
  frame_out
  idx_vars y
  have ht : t.val < 2 := lt_of_lt_of_eq t.isLt N_0
  have e : (((View.whole main_v0_2).slice (win0_6.rect t)).emb (ix2 y0 y1) : S1024x1024.Idx)
      = ix2 ⟨t.val * 512 + y0, by omega⟩ y1 := by blk_ext [placed t]
  rw [e]
  pointwise [AdamwSquareReferenceIdeal.Spec.result2, k0_pay1, k0_pay2, k0_pay3]
  blk_point [iblk, V, placed t]

end Cert.AdamwSquareIdeal.Val

namespace Cert.Proof.AdamwSquare

/-- The frame of the kernel. -/
theorem frameKernel : quiescent_AdamwSquare (hAdamwSquare := AdamwSquare.Gen.facts) :=
  fun m ρ _ => AdamwSquare.Gen.frame m ρ

/-- The frame of its idealization. -/
theorem frameIdeal : quiescent_AdamwSquareIdeal (hAdamwSquareIdeal := AdamwSquareIdeal.Gen.facts) :=
  fun m ρ _ => AdamwSquareIdeal.Gen.frame m ρ

/-- The frame of the reference. -/
theorem frameReference : quiescent_AdamwSquareReferenceIdeal (hAdamwSquareReferenceIdeal := AdamwSquareReferenceIdeal.Gen.facts) :=
  fun m ρ _ => (θ_run AdamwSquareReferenceIdeal.defs _ _).mono
    (fun r h => ⟨fun c => (h c).2.2.2, sem_eq_zero_of_no_sems (by decide) r.2⟩)
    (AdamwSquareReferenceIdeal.Value.run (F := Ideal) m ρ)

/-- The kernel computes the AdamW step of a square weight. -/
theorem algebraic : algebraic_AdamwSquareIdeal_AdamwSquareReferenceIdeal (hAdamwSquareIdeal := AdamwSquareIdeal.Gen.facts)
    (hAdamwSquareReferenceIdeal := AdamwSquareReferenceIdeal.Gen.facts) :=
  fun m ρ m' ρ' _ hag => ⟨_, _, _,
    (θ_run AdamwSquareIdeal.defs _ _).mono (fun _ h c => ⟨(h c).1.trans (AdamwSquareIdeal.Val.final0 m c), (h c).2.1.trans (AdamwSquareIdeal.Val.final1 m c), (h c).2.2.1.trans (AdamwSquareIdeal.Val.final2 m c), (h c).2.2.2⟩)
      (AdamwSquareIdeal.Value.run_blocks (F := Ideal) m ρ),
    (θ_run AdamwSquareReferenceIdeal.defs _ _).mono (fun _ h c => ⟨(h c).1.trans (by rw [← (hag c).1, ← (hag c).2.1, ← (hag c).2.2.1, ← (hag c).2.2.2]; rfl), (h c).2.1.trans (by rw [← (hag c).1, ← (hag c).2.1, ← (hag c).2.2.1, ← (hag c).2.2.2]; rfl), (h c).2.2.1.trans (by rw [← (hag c).1, ← (hag c).2.1, ← (hag c).2.2.1, ← (hag c).2.2.2]; rfl), (h c).2.2.2⟩)
      (AdamwSquareReferenceIdeal.Value.run (F := Ideal) m' ρ')⟩

end Cert.Proof.AdamwSquare

end

end
-- ==== Proof.AdamwIn.lean ====
/-
  The AdamW step of a shard of the input projection: the two moments and the change of the weights.
-/
module

public import proofs.«01_k».proof.Proof.Gen.AdamwIn.Frame
public import proofs.«01_k».proof.Proof.Gen.AdamwInIdeal.Value
public import proofs.«01_k».proof.Proof.Gen.AdamwInIdeal.Frame
public import proofs.«01_k».proof.Proof.Gen.AdamwInReferenceIdeal.Run
public import proofs.«01_k».proof.Proof.Gen.AdamwIn
public import proofs.«01_k».proof.Proof.Gen.AdamwInIdeal
public import proofs.«01_k».proof.Proof.Gen.AdamwInReferenceIdeal
public import Idealize.ShloMosaic.Lib.Pointwise
public import Idealize.ShloMosaic.Lib.Pipeline.ValueKit
public import proofs.«01_k».proof.Defs
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.AdamwInReferenceIdeal.Spec

open Cert.AdamwInReferenceIdeal Cert.AdamwInReferenceIdeal.Gen

/-- The change of the weights: the reference's composed term. -/
def result0 (w : FVec Ideal S4096x608 .f32) (g : FVec Ideal S4096x608 .f32) (m : FVec Ideal S4096x608 .f32) (v : FVec Ideal S4096x608 .f32) : FVec Ideal S4096x608 .f32 :=
  mulf (broadcastInDim S4096x608 ![] bcast_S_S4096x608 (constant (F := Ideal) S_ .f32 0xBA83126F#32)) (addf (Host.divf (Host.divf (addf (mulf (broadcastInDim S4096x608 ![] bcast_S_S4096x608 (constant (F := Ideal) S_ .f32 0x3F666666#32)) m) (mulf (broadcastInDim S4096x608 ![] bcast_S_S4096x608 (constant (F := Ideal) S_ .f32 0x3DCCCCCD#32)) g)) (broadcastInDim S4096x608 ![] bcast_S_S4096x608 (constant (F := Ideal) S_ .f32 0x3F26BD02#32))) (addf (Host.sqrt (Host.divf (addf (mulf (broadcastInDim S4096x608 ![] bcast_S_S4096x608 (constant (F := Ideal) S_ .f32 0x3F7FBE77#32)) v) (mulf (broadcastInDim S4096x608 ![] bcast_S_S4096x608 (constant (F := Ideal) S_ .f32 0x3A83126F#32)) (mulf g g))) (broadcastInDim S4096x608 ![] bcast_S_S4096x608 (constant (F := Ideal) S_ .f32 0x3C231ACC#32)))) (broadcastInDim S4096x608 ![] bcast_S_S4096x608 (constant (F := Ideal) S_ .f32 0x322BCC77#32)))) (mulf (broadcastInDim S4096x608 ![] bcast_S_S4096x608 (constant (F := Ideal) S_ .f32 0x3C23D70A#32)) w))

/-- The new first moment: the reference's composed term. -/
def result1 (w : FVec Ideal S4096x608 .f32) (g : FVec Ideal S4096x608 .f32) (m : FVec Ideal S4096x608 .f32) (v : FVec Ideal S4096x608 .f32) : FVec Ideal S4096x608 .f32 :=
  addf (mulf (broadcastInDim S4096x608 ![] bcast_S_S4096x608 (constant (F := Ideal) S_ .f32 0x3F666666#32)) m) (mulf (broadcastInDim S4096x608 ![] bcast_S_S4096x608 (constant (F := Ideal) S_ .f32 0x3DCCCCCD#32)) g)

/-- The new second moment: the reference's composed term. -/
def result2 (w : FVec Ideal S4096x608 .f32) (g : FVec Ideal S4096x608 .f32) (m : FVec Ideal S4096x608 .f32) (v : FVec Ideal S4096x608 .f32) : FVec Ideal S4096x608 .f32 :=
  addf (mulf (broadcastInDim S4096x608 ![] bcast_S_S4096x608 (constant (F := Ideal) S_ .f32 0x3F7FBE77#32)) v) (mulf (broadcastInDim S4096x608 ![] bcast_S_S4096x608 (constant (F := Ideal) S_ .f32 0x3A83126F#32)) (mulf g g))

end Cert.AdamwInReferenceIdeal.Spec

namespace Cert.AdamwInIdeal.Val

open Cert.AdamwInIdeal Cert.AdamwInIdeal.Gen

variable (m : (ℓ : Loc nD τ sig) → Buf (Elt Ideal) ℓ)

/-- Where the windows' blocks lie at point `t`. -/
theorem placed : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- Result array 0: every grid point writes its rows. -/
theorem final0 (c : Dev nD) : (dats m 0 c).arrAt 4 cfg0.N
    = AdamwInReferenceIdeal.Spec.result0 (m (c.tc.loc main_arg0)) (m (c.tc.loc main_arg1)) (m (c.tc.loc main_arg2)) (m (c.tc.loc main_arg3)) := by
  refine (dats m 0 c).arrAt_eq_of_covers 4 _ (by decide +kernel) fun t _ y => ?_
  blk_simp
  rw [after0_4]
  frame_out
  idx_vars y
  have ht : t.val < 8 := lt_of_lt_of_eq t.isLt N_0
  have e : (((View.whole main_v0_0).slice (win0_4.rect t)).emb (ix2 y0 y1) : S4096x608.Idx)
      = ix2 ⟨t.val * 512 + y0, by omega⟩ y1 := by blk_ext [placed t]
  rw [e]
  pointwise [AdamwInReferenceIdeal.Spec.result0, k0_pay1, k0_pay2, k0_pay3]
  blk_point [iblk, V, placed t]

/-- Result array 1: every grid point writes its rows. -/
theorem final1 (c : Dev nD) : (dats m 0 c).arrAt 5 cfg0.N
    = AdamwInReferenceIdeal.Spec.result1 (m (c.tc.loc main_arg0)) (m (c.tc.loc main_arg1)) (m (c.tc.loc main_arg2)) (m (c.tc.loc main_arg3)) := by
  refine (dats m 0 c).arrAt_eq_of_covers 5 _ (by decide +kernel) fun t _ y => ?_
  blk_simp
  rw [after0_5]
  frame_out
  idx_vars y
  have ht : t.val < 8 := lt_of_lt_of_eq t.isLt N_0
  have e : (((View.whole main_v0_1).slice (win0_5.rect t)).emb (ix2 y0 y1) : S4096x608.Idx)
      = ix2 ⟨t.val * 512 + y0, by omega⟩ y1 := by blk_ext [placed t]
  rw [e]
  pointwise [AdamwInReferenceIdeal.Spec.result1, k0_pay1, k0_pay2, k0_pay3]
  blk_point [iblk, V, placed t]

/-- Result array 2: every grid point writes its rows. -/
theorem final2 (c : Dev nD) : (dats m 0 c).arrAt 6 cfg0.N
    = AdamwInReferenceIdeal.Spec.result2 (m (c.tc.loc main_arg0)) (m (c.tc.loc main_arg1)) (m (c.tc.loc main_arg2)) (m (c.tc.loc main_arg3)) := by
  refine (dats m 0 c).arrAt_eq_of_covers 6 _ (by decide +kernel) fun t _ y => ?_
  blk_simp
  rw [after0_6]
  frame_out
  idx_vars y
  have ht : t.val < 8 := lt_of_lt_of_eq t.isLt N_0
  have e : (((View.whole main_v0_2).slice (win0_6.rect t)).emb (ix2 y0 y1) : S4096x608.Idx)
      = ix2 ⟨t.val * 512 + y0, by omega⟩ y1 := by blk_ext [placed t]
  rw [e]
  pointwise [AdamwInReferenceIdeal.Spec.result2, k0_pay1, k0_pay2, k0_pay3]
  blk_point [iblk, V, placed t]

end Cert.AdamwInIdeal.Val

namespace Cert.Proof.AdamwIn

/-- The frame of the kernel. -/
theorem frameKernel : quiescent_AdamwIn (hAdamwIn := AdamwIn.Gen.facts) :=
  fun m ρ _ => AdamwIn.Gen.frame m ρ

/-- The frame of its idealization. -/
theorem frameIdeal : quiescent_AdamwInIdeal (hAdamwInIdeal := AdamwInIdeal.Gen.facts) :=
  fun m ρ _ => AdamwInIdeal.Gen.frame m ρ

/-- The frame of the reference. -/
theorem frameReference : quiescent_AdamwInReferenceIdeal (hAdamwInReferenceIdeal := AdamwInReferenceIdeal.Gen.facts) :=
  fun m ρ _ => (θ_run AdamwInReferenceIdeal.defs _ _).mono
    (fun r h => ⟨fun c => (h c).2.2.2, sem_eq_zero_of_no_sems (by decide) r.2⟩)
    (AdamwInReferenceIdeal.Value.run (F := Ideal) m ρ)

/-- The kernel computes the AdamW step of a shard of the input projection. -/
theorem algebraic : algebraic_AdamwInIdeal_AdamwInReferenceIdeal (hAdamwInIdeal := AdamwInIdeal.Gen.facts)
    (hAdamwInReferenceIdeal := AdamwInReferenceIdeal.Gen.facts) :=
  fun m ρ m' ρ' _ hag => ⟨_, _, _,
    (θ_run AdamwInIdeal.defs _ _).mono (fun _ h c => ⟨(h c).1.trans (AdamwInIdeal.Val.final0 m c), (h c).2.1.trans (AdamwInIdeal.Val.final1 m c), (h c).2.2.1.trans (AdamwInIdeal.Val.final2 m c), (h c).2.2.2⟩)
      (AdamwInIdeal.Value.run_blocks (F := Ideal) m ρ),
    (θ_run AdamwInReferenceIdeal.defs _ _).mono (fun _ h c => ⟨(h c).1.trans (by rw [← (hag c).1, ← (hag c).2.1, ← (hag c).2.2.1, ← (hag c).2.2.2]; rfl), (h c).2.1.trans (by rw [← (hag c).1, ← (hag c).2.1, ← (hag c).2.2.1, ← (hag c).2.2.2]; rfl), (h c).2.2.1.trans (by rw [← (hag c).1, ← (hag c).2.1, ← (hag c).2.2.1, ← (hag c).2.2.2]; rfl), (h c).2.2.2⟩)
      (AdamwInReferenceIdeal.Value.run (F := Ideal) m' ρ')⟩

end Cert.Proof.AdamwIn

end

end
-- ==== Proof.AdamwKv.lean ====
/-
  The AdamW step of a shard of the key and value projection: the two moments and the change of the weights.
-/
module

public import proofs.«01_k».proof.Proof.Gen.AdamwKv.Frame
public import proofs.«01_k».proof.Proof.Gen.AdamwKvIdeal.Value
public import proofs.«01_k».proof.Proof.Gen.AdamwKvIdeal.Frame
public import proofs.«01_k».proof.Proof.Gen.AdamwKvReferenceIdeal.Run
public import proofs.«01_k».proof.Proof.Gen.AdamwKv
public import proofs.«01_k».proof.Proof.Gen.AdamwKvIdeal
public import proofs.«01_k».proof.Proof.Gen.AdamwKvReferenceIdeal
public import Idealize.ShloMosaic.Lib.Pointwise
public import Idealize.ShloMosaic.Lib.Pipeline.ValueKit
public import proofs.«01_k».proof.Defs
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.AdamwKvReferenceIdeal.Spec

open Cert.AdamwKvReferenceIdeal Cert.AdamwKvReferenceIdeal.Gen

/-- The change of the weights: the reference's composed term. -/
def result0 (w : FVec Ideal S4096x512 .f32) (g : FVec Ideal S4096x512 .f32) (m : FVec Ideal S4096x512 .f32) (v : FVec Ideal S4096x512 .f32) : FVec Ideal S4096x512 .f32 :=
  mulf (broadcastInDim S4096x512 ![] bcast_S_S4096x512 (constant (F := Ideal) S_ .f32 0xBA83126F#32)) (addf (Host.divf (Host.divf (addf (mulf (broadcastInDim S4096x512 ![] bcast_S_S4096x512 (constant (F := Ideal) S_ .f32 0x3F666666#32)) m) (mulf (broadcastInDim S4096x512 ![] bcast_S_S4096x512 (constant (F := Ideal) S_ .f32 0x3DCCCCCD#32)) g)) (broadcastInDim S4096x512 ![] bcast_S_S4096x512 (constant (F := Ideal) S_ .f32 0x3F26BD02#32))) (addf (Host.sqrt (Host.divf (addf (mulf (broadcastInDim S4096x512 ![] bcast_S_S4096x512 (constant (F := Ideal) S_ .f32 0x3F7FBE77#32)) v) (mulf (broadcastInDim S4096x512 ![] bcast_S_S4096x512 (constant (F := Ideal) S_ .f32 0x3A83126F#32)) (mulf g g))) (broadcastInDim S4096x512 ![] bcast_S_S4096x512 (constant (F := Ideal) S_ .f32 0x3C231ACC#32)))) (broadcastInDim S4096x512 ![] bcast_S_S4096x512 (constant (F := Ideal) S_ .f32 0x322BCC77#32)))) (mulf (broadcastInDim S4096x512 ![] bcast_S_S4096x512 (constant (F := Ideal) S_ .f32 0x3C23D70A#32)) w))

/-- The new first moment: the reference's composed term. -/
def result1 (w : FVec Ideal S4096x512 .f32) (g : FVec Ideal S4096x512 .f32) (m : FVec Ideal S4096x512 .f32) (v : FVec Ideal S4096x512 .f32) : FVec Ideal S4096x512 .f32 :=
  addf (mulf (broadcastInDim S4096x512 ![] bcast_S_S4096x512 (constant (F := Ideal) S_ .f32 0x3F666666#32)) m) (mulf (broadcastInDim S4096x512 ![] bcast_S_S4096x512 (constant (F := Ideal) S_ .f32 0x3DCCCCCD#32)) g)

/-- The new second moment: the reference's composed term. -/
def result2 (w : FVec Ideal S4096x512 .f32) (g : FVec Ideal S4096x512 .f32) (m : FVec Ideal S4096x512 .f32) (v : FVec Ideal S4096x512 .f32) : FVec Ideal S4096x512 .f32 :=
  addf (mulf (broadcastInDim S4096x512 ![] bcast_S_S4096x512 (constant (F := Ideal) S_ .f32 0x3F7FBE77#32)) v) (mulf (broadcastInDim S4096x512 ![] bcast_S_S4096x512 (constant (F := Ideal) S_ .f32 0x3A83126F#32)) (mulf g g))

end Cert.AdamwKvReferenceIdeal.Spec

namespace Cert.AdamwKvIdeal.Val

open Cert.AdamwKvIdeal Cert.AdamwKvIdeal.Gen

variable (m : (ℓ : Loc nD τ sig) → Buf (Elt Ideal) ℓ)

/-- Where the windows' blocks lie at point `t`. -/
theorem placed : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- Result array 0: every grid point writes its rows. -/
theorem final0 (c : Dev nD) : (dats m 0 c).arrAt 4 cfg0.N
    = AdamwKvReferenceIdeal.Spec.result0 (m (c.tc.loc main_arg0)) (m (c.tc.loc main_arg1)) (m (c.tc.loc main_arg2)) (m (c.tc.loc main_arg3)) := by
  refine (dats m 0 c).arrAt_eq_of_covers 4 _ (by decide +kernel) fun t _ y => ?_
  blk_simp
  rw [after0_4]
  frame_out
  idx_vars y
  have ht : t.val < 8 := lt_of_lt_of_eq t.isLt N_0
  have e : (((View.whole main_v0_0).slice (win0_4.rect t)).emb (ix2 y0 y1) : S4096x512.Idx)
      = ix2 ⟨t.val * 512 + y0, by omega⟩ y1 := by blk_ext [placed t]
  rw [e]
  pointwise [AdamwKvReferenceIdeal.Spec.result0, k0_pay1, k0_pay2, k0_pay3]
  blk_point [iblk, V, placed t]

/-- Result array 1: every grid point writes its rows. -/
theorem final1 (c : Dev nD) : (dats m 0 c).arrAt 5 cfg0.N
    = AdamwKvReferenceIdeal.Spec.result1 (m (c.tc.loc main_arg0)) (m (c.tc.loc main_arg1)) (m (c.tc.loc main_arg2)) (m (c.tc.loc main_arg3)) := by
  refine (dats m 0 c).arrAt_eq_of_covers 5 _ (by decide +kernel) fun t _ y => ?_
  blk_simp
  rw [after0_5]
  frame_out
  idx_vars y
  have ht : t.val < 8 := lt_of_lt_of_eq t.isLt N_0
  have e : (((View.whole main_v0_1).slice (win0_5.rect t)).emb (ix2 y0 y1) : S4096x512.Idx)
      = ix2 ⟨t.val * 512 + y0, by omega⟩ y1 := by blk_ext [placed t]
  rw [e]
  pointwise [AdamwKvReferenceIdeal.Spec.result1, k0_pay1, k0_pay2, k0_pay3]
  blk_point [iblk, V, placed t]

/-- Result array 2: every grid point writes its rows. -/
theorem final2 (c : Dev nD) : (dats m 0 c).arrAt 6 cfg0.N
    = AdamwKvReferenceIdeal.Spec.result2 (m (c.tc.loc main_arg0)) (m (c.tc.loc main_arg1)) (m (c.tc.loc main_arg2)) (m (c.tc.loc main_arg3)) := by
  refine (dats m 0 c).arrAt_eq_of_covers 6 _ (by decide +kernel) fun t _ y => ?_
  blk_simp
  rw [after0_6]
  frame_out
  idx_vars y
  have ht : t.val < 8 := lt_of_lt_of_eq t.isLt N_0
  have e : (((View.whole main_v0_2).slice (win0_6.rect t)).emb (ix2 y0 y1) : S4096x512.Idx)
      = ix2 ⟨t.val * 512 + y0, by omega⟩ y1 := by blk_ext [placed t]
  rw [e]
  pointwise [AdamwKvReferenceIdeal.Spec.result2, k0_pay1, k0_pay2, k0_pay3]
  blk_point [iblk, V, placed t]

end Cert.AdamwKvIdeal.Val

namespace Cert.Proof.AdamwKv

/-- The frame of the kernel. -/
theorem frameKernel : quiescent_AdamwKv (hAdamwKv := AdamwKv.Gen.facts) :=
  fun m ρ _ => AdamwKv.Gen.frame m ρ

/-- The frame of its idealization. -/
theorem frameIdeal : quiescent_AdamwKvIdeal (hAdamwKvIdeal := AdamwKvIdeal.Gen.facts) :=
  fun m ρ _ => AdamwKvIdeal.Gen.frame m ρ

/-- The frame of the reference. -/
theorem frameReference : quiescent_AdamwKvReferenceIdeal (hAdamwKvReferenceIdeal := AdamwKvReferenceIdeal.Gen.facts) :=
  fun m ρ _ => (θ_run AdamwKvReferenceIdeal.defs _ _).mono
    (fun r h => ⟨fun c => (h c).2.2.2, sem_eq_zero_of_no_sems (by decide) r.2⟩)
    (AdamwKvReferenceIdeal.Value.run (F := Ideal) m ρ)

/-- The kernel computes the AdamW step of a shard of the key and value projection. -/
theorem algebraic : algebraic_AdamwKvIdeal_AdamwKvReferenceIdeal (hAdamwKvIdeal := AdamwKvIdeal.Gen.facts)
    (hAdamwKvReferenceIdeal := AdamwKvReferenceIdeal.Gen.facts) :=
  fun m ρ m' ρ' _ hag => ⟨_, _, _,
    (θ_run AdamwKvIdeal.defs _ _).mono (fun _ h c => ⟨(h c).1.trans (AdamwKvIdeal.Val.final0 m c), (h c).2.1.trans (AdamwKvIdeal.Val.final1 m c), (h c).2.2.1.trans (AdamwKvIdeal.Val.final2 m c), (h c).2.2.2⟩)
      (AdamwKvIdeal.Value.run_blocks (F := Ideal) m ρ),
    (θ_run AdamwKvReferenceIdeal.defs _ _).mono (fun _ h c => ⟨(h c).1.trans (by rw [← (hag c).1, ← (hag c).2.1, ← (hag c).2.2.1, ← (hag c).2.2.2]; rfl), (h c).2.1.trans (by rw [← (hag c).1, ← (hag c).2.1, ← (hag c).2.2.1, ← (hag c).2.2.2]; rfl), (h c).2.2.1.trans (by rw [← (hag c).1, ← (hag c).2.1, ← (hag c).2.2.1, ← (hag c).2.2.2]; rfl), (h c).2.2.2⟩)
      (AdamwKvReferenceIdeal.Value.run (F := Ideal) m' ρ')⟩

end Cert.Proof.AdamwKv

end

end
-- ==== Proof.AdamwFf.lean ====
/-
  The AdamW step of a shard of a feed-forward weight: the two moments and the change of the weights.
-/
module

public import proofs.«01_k».proof.Proof.Gen.AdamwFf.Frame
public import proofs.«01_k».proof.Proof.Gen.AdamwFfIdeal.Value
public import proofs.«01_k».proof.Proof.Gen.AdamwFfIdeal.Frame
public import proofs.«01_k».proof.Proof.Gen.AdamwFfReferenceIdeal.Run
public import proofs.«01_k».proof.Proof.Gen.AdamwFf
public import proofs.«01_k».proof.Proof.Gen.AdamwFfIdeal
public import proofs.«01_k».proof.Proof.Gen.AdamwFfReferenceIdeal
public import Idealize.ShloMosaic.Lib.Pointwise
public import Idealize.ShloMosaic.Lib.Pipeline.ValueKit
public import proofs.«01_k».proof.Defs
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.AdamwFfReferenceIdeal.Spec

open Cert.AdamwFfReferenceIdeal Cert.AdamwFfReferenceIdeal.Gen

/-- The change of the weights: the reference's composed term. -/
def result0 (w : FVec Ideal S4096x1024 .f32) (g : FVec Ideal S4096x1024 .f32) (m : FVec Ideal S4096x1024 .f32) (v : FVec Ideal S4096x1024 .f32) : FVec Ideal S4096x1024 .f32 :=
  mulf (broadcastInDim S4096x1024 ![] bcast_S_S4096x1024 (constant (F := Ideal) S_ .f32 0xBA83126F#32)) (addf (Host.divf (Host.divf (addf (mulf (broadcastInDim S4096x1024 ![] bcast_S_S4096x1024 (constant (F := Ideal) S_ .f32 0x3F666666#32)) m) (mulf (broadcastInDim S4096x1024 ![] bcast_S_S4096x1024 (constant (F := Ideal) S_ .f32 0x3DCCCCCD#32)) g)) (broadcastInDim S4096x1024 ![] bcast_S_S4096x1024 (constant (F := Ideal) S_ .f32 0x3F26BD02#32))) (addf (Host.sqrt (Host.divf (addf (mulf (broadcastInDim S4096x1024 ![] bcast_S_S4096x1024 (constant (F := Ideal) S_ .f32 0x3F7FBE77#32)) v) (mulf (broadcastInDim S4096x1024 ![] bcast_S_S4096x1024 (constant (F := Ideal) S_ .f32 0x3A83126F#32)) (mulf g g))) (broadcastInDim S4096x1024 ![] bcast_S_S4096x1024 (constant (F := Ideal) S_ .f32 0x3C231ACC#32)))) (broadcastInDim S4096x1024 ![] bcast_S_S4096x1024 (constant (F := Ideal) S_ .f32 0x322BCC77#32)))) (mulf (broadcastInDim S4096x1024 ![] bcast_S_S4096x1024 (constant (F := Ideal) S_ .f32 0x3C23D70A#32)) w))

/-- The new first moment: the reference's composed term. -/
def result1 (w : FVec Ideal S4096x1024 .f32) (g : FVec Ideal S4096x1024 .f32) (m : FVec Ideal S4096x1024 .f32) (v : FVec Ideal S4096x1024 .f32) : FVec Ideal S4096x1024 .f32 :=
  addf (mulf (broadcastInDim S4096x1024 ![] bcast_S_S4096x1024 (constant (F := Ideal) S_ .f32 0x3F666666#32)) m) (mulf (broadcastInDim S4096x1024 ![] bcast_S_S4096x1024 (constant (F := Ideal) S_ .f32 0x3DCCCCCD#32)) g)

/-- The new second moment: the reference's composed term. -/
def result2 (w : FVec Ideal S4096x1024 .f32) (g : FVec Ideal S4096x1024 .f32) (m : FVec Ideal S4096x1024 .f32) (v : FVec Ideal S4096x1024 .f32) : FVec Ideal S4096x1024 .f32 :=
  addf (mulf (broadcastInDim S4096x1024 ![] bcast_S_S4096x1024 (constant (F := Ideal) S_ .f32 0x3F7FBE77#32)) v) (mulf (broadcastInDim S4096x1024 ![] bcast_S_S4096x1024 (constant (F := Ideal) S_ .f32 0x3A83126F#32)) (mulf g g))

end Cert.AdamwFfReferenceIdeal.Spec

namespace Cert.AdamwFfIdeal.Val

open Cert.AdamwFfIdeal Cert.AdamwFfIdeal.Gen

variable (m : (ℓ : Loc nD τ sig) → Buf (Elt Ideal) ℓ)

/-- Where the windows' blocks lie at point `t`. -/
theorem placed : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- Result array 0: every grid point writes its rows. -/
theorem final0 (c : Dev nD) : (dats m 0 c).arrAt 4 cfg0.N
    = AdamwFfReferenceIdeal.Spec.result0 (m (c.tc.loc main_arg0)) (m (c.tc.loc main_arg1)) (m (c.tc.loc main_arg2)) (m (c.tc.loc main_arg3)) := by
  refine (dats m 0 c).arrAt_eq_of_covers 4 _ (by decide +kernel) fun t _ y => ?_
  blk_simp
  rw [after0_4]
  frame_out
  idx_vars y
  have ht : t.val < 8 := lt_of_lt_of_eq t.isLt N_0
  have e : (((View.whole main_v0_0).slice (win0_4.rect t)).emb (ix2 y0 y1) : S4096x1024.Idx)
      = ix2 ⟨t.val * 512 + y0, by omega⟩ y1 := by blk_ext [placed t]
  rw [e]
  pointwise [AdamwFfReferenceIdeal.Spec.result0, k0_pay1, k0_pay2, k0_pay3]
  blk_point [iblk, V, placed t]

/-- Result array 1: every grid point writes its rows. -/
theorem final1 (c : Dev nD) : (dats m 0 c).arrAt 5 cfg0.N
    = AdamwFfReferenceIdeal.Spec.result1 (m (c.tc.loc main_arg0)) (m (c.tc.loc main_arg1)) (m (c.tc.loc main_arg2)) (m (c.tc.loc main_arg3)) := by
  refine (dats m 0 c).arrAt_eq_of_covers 5 _ (by decide +kernel) fun t _ y => ?_
  blk_simp
  rw [after0_5]
  frame_out
  idx_vars y
  have ht : t.val < 8 := lt_of_lt_of_eq t.isLt N_0
  have e : (((View.whole main_v0_1).slice (win0_5.rect t)).emb (ix2 y0 y1) : S4096x1024.Idx)
      = ix2 ⟨t.val * 512 + y0, by omega⟩ y1 := by blk_ext [placed t]
  rw [e]
  pointwise [AdamwFfReferenceIdeal.Spec.result1, k0_pay1, k0_pay2, k0_pay3]
  blk_point [iblk, V, placed t]

/-- Result array 2: every grid point writes its rows. -/
theorem final2 (c : Dev nD) : (dats m 0 c).arrAt 6 cfg0.N
    = AdamwFfReferenceIdeal.Spec.result2 (m (c.tc.loc main_arg0)) (m (c.tc.loc main_arg1)) (m (c.tc.loc main_arg2)) (m (c.tc.loc main_arg3)) := by
  refine (dats m 0 c).arrAt_eq_of_covers 6 _ (by decide +kernel) fun t _ y => ?_
  blk_simp
  rw [after0_6]
  frame_out
  idx_vars y
  have ht : t.val < 8 := lt_of_lt_of_eq t.isLt N_0
  have e : (((View.whole main_v0_2).slice (win0_6.rect t)).emb (ix2 y0 y1) : S4096x1024.Idx)
      = ix2 ⟨t.val * 512 + y0, by omega⟩ y1 := by blk_ext [placed t]
  rw [e]
  pointwise [AdamwFfReferenceIdeal.Spec.result2, k0_pay1, k0_pay2, k0_pay3]
  blk_point [iblk, V, placed t]

end Cert.AdamwFfIdeal.Val

namespace Cert.Proof.AdamwFf

/-- The frame of the kernel. -/
theorem frameKernel : quiescent_AdamwFf (hAdamwFf := AdamwFf.Gen.facts) :=
  fun m ρ _ => AdamwFf.Gen.frame m ρ

/-- The frame of its idealization. -/
theorem frameIdeal : quiescent_AdamwFfIdeal (hAdamwFfIdeal := AdamwFfIdeal.Gen.facts) :=
  fun m ρ _ => AdamwFfIdeal.Gen.frame m ρ

/-- The frame of the reference. -/
theorem frameReference : quiescent_AdamwFfReferenceIdeal (hAdamwFfReferenceIdeal := AdamwFfReferenceIdeal.Gen.facts) :=
  fun m ρ _ => (θ_run AdamwFfReferenceIdeal.defs _ _).mono
    (fun r h => ⟨fun c => (h c).2.2.2, sem_eq_zero_of_no_sems (by decide) r.2⟩)
    (AdamwFfReferenceIdeal.Value.run (F := Ideal) m ρ)

/-- The kernel computes the AdamW step of a shard of a feed-forward weight. -/
theorem algebraic : algebraic_AdamwFfIdeal_AdamwFfReferenceIdeal (hAdamwFfIdeal := AdamwFfIdeal.Gen.facts)
    (hAdamwFfReferenceIdeal := AdamwFfReferenceIdeal.Gen.facts) :=
  fun m ρ m' ρ' _ hag => ⟨_, _, _,
    (θ_run AdamwFfIdeal.defs _ _).mono (fun _ h c => ⟨(h c).1.trans (AdamwFfIdeal.Val.final0 m c), (h c).2.1.trans (AdamwFfIdeal.Val.final1 m c), (h c).2.2.1.trans (AdamwFfIdeal.Val.final2 m c), (h c).2.2.2⟩)
      (AdamwFfIdeal.Value.run_blocks (F := Ideal) m ρ),
    (θ_run AdamwFfReferenceIdeal.defs _ _).mono (fun _ h c => ⟨(h c).1.trans (by rw [← (hag c).1, ← (hag c).2.1, ← (hag c).2.2.1, ← (hag c).2.2.2]; rfl), (h c).2.1.trans (by rw [← (hag c).1, ← (hag c).2.1, ← (hag c).2.2.1, ← (hag c).2.2.2]; rfl), (h c).2.2.1.trans (by rw [← (hag c).1, ← (hag c).2.1, ← (hag c).2.2.1, ← (hag c).2.2.2]; rfl), (h c).2.2.2⟩)
      (AdamwFfReferenceIdeal.Value.run (F := Ideal) m' ρ')⟩

end Cert.Proof.AdamwFf

end

end
-- ==== Proof.AdamwSmall.lean ====
/-
  The AdamW step of the packed small weights: the two moments and the change of the weights.
-/
module

public import proofs.«01_k».proof.Proof.Gen.AdamwSmall.Frame
public import proofs.«01_k».proof.Proof.Gen.AdamwSmallIdeal.Value
public import proofs.«01_k».proof.Proof.Gen.AdamwSmallIdeal.Frame
public import proofs.«01_k».proof.Proof.Gen.AdamwSmallReferenceIdeal.Run
public import proofs.«01_k».proof.Proof.Gen.AdamwSmall
public import proofs.«01_k».proof.Proof.Gen.AdamwSmallIdeal
public import proofs.«01_k».proof.Proof.Gen.AdamwSmallReferenceIdeal
public import Idealize.ShloMosaic.Lib.Pointwise
public import Idealize.ShloMosaic.Lib.Pipeline.ValueKit
public import proofs.«01_k».proof.Defs
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.AdamwSmallReferenceIdeal.Spec

open Cert.AdamwSmallReferenceIdeal Cert.AdamwSmallReferenceIdeal.Gen

/-- The change of the weights: the reference's composed term. -/
def result0 (w : FVec Ideal S320x1024 .f32) (g : FVec Ideal S320x1024 .f32) (m : FVec Ideal S320x1024 .f32) (v : FVec Ideal S320x1024 .f32) : FVec Ideal S320x1024 .f32 :=
  mulf (broadcastInDim S320x1024 ![] bcast_S_S320x1024 (constant (F := Ideal) S_ .f32 0xBA83126F#32)) (addf (Host.divf (Host.divf (addf (mulf (broadcastInDim S320x1024 ![] bcast_S_S320x1024 (constant (F := Ideal) S_ .f32 0x3F666666#32)) m) (mulf (broadcastInDim S320x1024 ![] bcast_S_S320x1024 (constant (F := Ideal) S_ .f32 0x3DCCCCCD#32)) g)) (broadcastInDim S320x1024 ![] bcast_S_S320x1024 (constant (F := Ideal) S_ .f32 0x3F26BD02#32))) (addf (Host.sqrt (Host.divf (addf (mulf (broadcastInDim S320x1024 ![] bcast_S_S320x1024 (constant (F := Ideal) S_ .f32 0x3F7FBE77#32)) v) (mulf (broadcastInDim S320x1024 ![] bcast_S_S320x1024 (constant (F := Ideal) S_ .f32 0x3A83126F#32)) (mulf g g))) (broadcastInDim S320x1024 ![] bcast_S_S320x1024 (constant (F := Ideal) S_ .f32 0x3C231ACC#32)))) (broadcastInDim S320x1024 ![] bcast_S_S320x1024 (constant (F := Ideal) S_ .f32 0x322BCC77#32)))) (mulf (broadcastInDim S320x1024 ![] bcast_S_S320x1024 (constant (F := Ideal) S_ .f32 0x3C23D70A#32)) w))

/-- The new first moment: the reference's composed term. -/
def result1 (w : FVec Ideal S320x1024 .f32) (g : FVec Ideal S320x1024 .f32) (m : FVec Ideal S320x1024 .f32) (v : FVec Ideal S320x1024 .f32) : FVec Ideal S320x1024 .f32 :=
  addf (mulf (broadcastInDim S320x1024 ![] bcast_S_S320x1024 (constant (F := Ideal) S_ .f32 0x3F666666#32)) m) (mulf (broadcastInDim S320x1024 ![] bcast_S_S320x1024 (constant (F := Ideal) S_ .f32 0x3DCCCCCD#32)) g)

/-- The new second moment: the reference's composed term. -/
def result2 (w : FVec Ideal S320x1024 .f32) (g : FVec Ideal S320x1024 .f32) (m : FVec Ideal S320x1024 .f32) (v : FVec Ideal S320x1024 .f32) : FVec Ideal S320x1024 .f32 :=
  addf (mulf (broadcastInDim S320x1024 ![] bcast_S_S320x1024 (constant (F := Ideal) S_ .f32 0x3F7FBE77#32)) v) (mulf (broadcastInDim S320x1024 ![] bcast_S_S320x1024 (constant (F := Ideal) S_ .f32 0x3A83126F#32)) (mulf g g))

end Cert.AdamwSmallReferenceIdeal.Spec

namespace Cert.AdamwSmallIdeal.Val

open Cert.AdamwSmallIdeal Cert.AdamwSmallIdeal.Gen

variable (m : (ℓ : Loc nD τ sig) → Buf (Elt Ideal) ℓ)

/-- Where the windows' blocks lie at point `t`. -/
theorem placed : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- Result array 0: every grid point writes its rows. -/
theorem final0 (c : Dev nD) : (dats m 0 c).arrAt 4 cfg0.N
    = AdamwSmallReferenceIdeal.Spec.result0 (m (c.tc.loc main_arg0)) (m (c.tc.loc main_arg1)) (m (c.tc.loc main_arg2)) (m (c.tc.loc main_arg3)) := by
  refine (dats m 0 c).arrAt_eq_of_covers 4 _ (by decide +kernel) fun t _ y => ?_
  blk_simp
  rw [after0_4]
  frame_out
  idx_vars y
  have ht : t.val < 1 := lt_of_lt_of_eq t.isLt N_0
  have e : (((View.whole main_v0_0).slice (win0_4.rect t)).emb (ix2 y0 y1) : S320x1024.Idx)
      = ix2 ⟨t.val * 320 + y0, by omega⟩ y1 := by blk_ext [placed t]
  rw [e]
  pointwise [AdamwSmallReferenceIdeal.Spec.result0, k0_pay1, k0_pay2, k0_pay3]
  blk_point [iblk, V, placed t]

/-- Result array 1: every grid point writes its rows. -/
theorem final1 (c : Dev nD) : (dats m 0 c).arrAt 5 cfg0.N
    = AdamwSmallReferenceIdeal.Spec.result1 (m (c.tc.loc main_arg0)) (m (c.tc.loc main_arg1)) (m (c.tc.loc main_arg2)) (m (c.tc.loc main_arg3)) := by
  refine (dats m 0 c).arrAt_eq_of_covers 5 _ (by decide +kernel) fun t _ y => ?_
  blk_simp
  rw [after0_5]
  frame_out
  idx_vars y
  have ht : t.val < 1 := lt_of_lt_of_eq t.isLt N_0
  have e : (((View.whole main_v0_1).slice (win0_5.rect t)).emb (ix2 y0 y1) : S320x1024.Idx)
      = ix2 ⟨t.val * 320 + y0, by omega⟩ y1 := by blk_ext [placed t]
  rw [e]
  pointwise [AdamwSmallReferenceIdeal.Spec.result1, k0_pay1, k0_pay2, k0_pay3]
  blk_point [iblk, V, placed t]

/-- Result array 2: every grid point writes its rows. -/
theorem final2 (c : Dev nD) : (dats m 0 c).arrAt 6 cfg0.N
    = AdamwSmallReferenceIdeal.Spec.result2 (m (c.tc.loc main_arg0)) (m (c.tc.loc main_arg1)) (m (c.tc.loc main_arg2)) (m (c.tc.loc main_arg3)) := by
  refine (dats m 0 c).arrAt_eq_of_covers 6 _ (by decide +kernel) fun t _ y => ?_
  blk_simp
  rw [after0_6]
  frame_out
  idx_vars y
  have ht : t.val < 1 := lt_of_lt_of_eq t.isLt N_0
  have e : (((View.whole main_v0_2).slice (win0_6.rect t)).emb (ix2 y0 y1) : S320x1024.Idx)
      = ix2 ⟨t.val * 320 + y0, by omega⟩ y1 := by blk_ext [placed t]
  rw [e]
  pointwise [AdamwSmallReferenceIdeal.Spec.result2, k0_pay1, k0_pay2, k0_pay3]
  blk_point [iblk, V, placed t]

end Cert.AdamwSmallIdeal.Val

namespace Cert.Proof.AdamwSmall

/-- The frame of the kernel. -/
theorem frameKernel : quiescent_AdamwSmall (hAdamwSmall := AdamwSmall.Gen.facts) :=
  fun m ρ _ => AdamwSmall.Gen.frame m ρ

/-- The frame of its idealization. -/
theorem frameIdeal : quiescent_AdamwSmallIdeal (hAdamwSmallIdeal := AdamwSmallIdeal.Gen.facts) :=
  fun m ρ _ => AdamwSmallIdeal.Gen.frame m ρ

/-- The frame of the reference. -/
theorem frameReference : quiescent_AdamwSmallReferenceIdeal (hAdamwSmallReferenceIdeal := AdamwSmallReferenceIdeal.Gen.facts) :=
  fun m ρ _ => (θ_run AdamwSmallReferenceIdeal.defs _ _).mono
    (fun r h => ⟨fun c => (h c).2.2.2, sem_eq_zero_of_no_sems (by decide) r.2⟩)
    (AdamwSmallReferenceIdeal.Value.run (F := Ideal) m ρ)

/-- The kernel computes the AdamW step of the packed small weights. -/
theorem algebraic : algebraic_AdamwSmallIdeal_AdamwSmallReferenceIdeal (hAdamwSmallIdeal := AdamwSmallIdeal.Gen.facts)
    (hAdamwSmallReferenceIdeal := AdamwSmallReferenceIdeal.Gen.facts) :=
  fun m ρ m' ρ' _ hag => ⟨_, _, _,
    (θ_run AdamwSmallIdeal.defs _ _).mono (fun _ h c => ⟨(h c).1.trans (AdamwSmallIdeal.Val.final0 m c), (h c).2.1.trans (AdamwSmallIdeal.Val.final1 m c), (h c).2.2.1.trans (AdamwSmallIdeal.Val.final2 m c), (h c).2.2.2⟩)
      (AdamwSmallIdeal.Value.run_blocks (F := Ideal) m ρ),
    (θ_run AdamwSmallReferenceIdeal.defs _ _).mono (fun _ h c => ⟨(h c).1.trans (by rw [← (hag c).1, ← (hag c).2.1, ← (hag c).2.2.1, ← (hag c).2.2.2]; rfl), (h c).2.1.trans (by rw [← (hag c).1, ← (hag c).2.1, ← (hag c).2.2.1, ← (hag c).2.2.2]; rfl), (h c).2.2.1.trans (by rw [← (hag c).1, ← (hag c).2.1, ← (hag c).2.2.1, ← (hag c).2.2.2]; rfl), (h c).2.2.2⟩)
      (AdamwSmallReferenceIdeal.Value.run (F := Ideal) m' ρ')⟩

end Cert.Proof.AdamwSmall

end

end
-- ==== Proof.MixBBwd.lean ====
/-
  The second mixer, backward: the gradients of the mixing weights and bias and of the gate's gain and bias, summed over the chunks.
-/
module

public import proofs.«01_k».proof.Proof.Gen.MixBBwd.Frame
public import proofs.«01_k».proof.Proof.Gen.MixBBwdIdeal.Value
public import proofs.«01_k».proof.Proof.Gen.MixBBwdIdeal.Frame
public import proofs.«01_k».proof.Proof.Gen.MixBBwdReferenceIdeal.Run
public import proofs.«01_k».proof.Proof.Gen.MixBBwd
public import proofs.«01_k».proof.Proof.Gen.MixBBwdIdeal
public import proofs.«01_k».proof.Proof.Gen.MixBBwdReferenceIdeal
public import Idealize.ShloMosaic.Lib.Pointwise
public import Idealize.ShloMosaic.Lib.Pipeline.ValueKit
public import Idealize.ShloMosaic.Lib.Pipeline.ReadBack
public import proofs.«01_k».proof.Defs
public import Idealize.ShloMosaic.Adequacy
public import Idealize.ShloMosaic.Init
public import proofs.«01_k».proof.Proof.MixBFwd

@[expose] public section

set_option maxRecDepth 16384
set_option maxHeartbeats 1000000

noncomputable section

open Idealize.ShloMosaic Idealize.ShloMosaic.TcCoe Idealize.SL.Sem
open Idealize.ShloMosaic.Pipeline (Dat)

namespace Mixing

/-- Choosing by a comparison of two positions, the other way round, is choosing by their order. -/
theorem select_order_le (r s : Fin 128) (x : EReal) :
    Scalar.select (IntOp.cmpi CmpIPredicate.sle (BitVec.ofNat 32 s.val) (BitVec.ofNat 32 r.val)) x 0 = if s ≤ r then x else 0 := by
  have h : ∀ r s : Fin 128, IntOp.cmpi CmpIPredicate.sle (BitVec.ofNat 32 s.val) (BitVec.ofNat 32 r.val) = if s ≤ r then 1#1 else 0#1 := by
    decide +kernel
  rw [h]
  split <;> rfl

/-- Of the lanes' terms, only those of the head's own lanes are added. -/
theorem sum_lanes (h : Fin 4) (f : Fin 256 → EReal) :
    ∑ l : Fin 256, Scalar.select (IntOp.cmpi CmpIPredicate.eq (BitVec.ofNat 32 (l.val / 64)) (BitVec.ofNat 32 h.val)) (f l) 0
      = ∑ k : Fin 64, f ⟨h.val * 64 + k.val, by omega⟩ := by
  have e : ∀ q h : Fin 4, IntOp.cmpi CmpIPredicate.eq (BitVec.ofNat 32 q.val) (BitVec.ofNat 32 h.val) = if q = h then 1#1 else 0#1 := by decide +kernel
  refine (Fin.sum_mul_add_congr (S := 4) (n := 64) (F := fun q k => if q = h then f ⟨q.val * 64 + k.val, by omega⟩ else 0) fun q k hl => ?_).symm.trans ?_
  · have hq : (q.val * 64 + k.val) / 64 = q.val := by omega
    dsimp only
    rw [hq, e]
    split <;> rfl
  · rw [Finset.sum_eq_single h (fun q _ hq => Finset.sum_eq_zero fun k _ => if_neg hq) (fun hn => absurd (Finset.mem_univ h) hn)]
    exact Finset.sum_congr rfl fun k _ => if_pos rfl

/-- The sum over the first and the last of four axes. -/
theorem sum_outer {n0 n1 n2 n3 : ℕ} (h : (⟨4, ![n0, n1, n2, n3]⟩ : Shape).ReducesTo [0, 3] ⟨2, ![n1, n2]⟩) (x : (⟨4, ![n0, n1, n2, n3]⟩ : Shape).Idx → EReal) (a : EReal) (p : Fin n1) (q : Fin n2) :
    Ideal.hostReduceAdd h x a (ix2 p q) = a + ∑ i : Fin n0, ∑ k : Fin n3, x (ix4 i p q k) := by
  refine congrArg (a + ·) ((Finset.sum_filter_eq_sum_of_fiber _ (fun k : Fin n0 × Fin n3 => ix4 k.1 p q k.2)
    (fun _ _ e => Prod.ext (congrFun e 0) (congrFun e 3)) (fun i => ?_) x).trans (Fintype.sum_prod_type _))
  constructor
  · intro e
    refine ⟨(i 0, i 3), ?_⟩
    funext a; apply Fin.ext
    match a with
    | ⟨0, _⟩ => rfl
    | ⟨1, _⟩ => exact (congrArg Fin.val (congrFun e 0)).symm
    | ⟨2, _⟩ => exact (congrArg Fin.val (congrFun e 1)).symm
    | ⟨3, _⟩ => rfl
  · rintro ⟨k, rfl⟩
    funext b
    apply Fin.ext
    match b with
    | ⟨0, _⟩ => rfl
    | ⟨1, _⟩ => rfl

/-- A row's part of a gate's gradient. -/
def pull (w : Fin 128 → Fin 128 → EReal) (a : Fin 128 → EReal) (s : Fin 128) : EReal := ∑ r : Fin 128, if s ≤ r then w r s * a r else 0

end Mixing

namespace Cert.MixBBwdReferenceIdeal.Spec

open Cert.MixBBwdReferenceIdeal Cert.MixBBwdReferenceIdeal.Gen
open Cert.MixBFwdReferenceIdeal.Spec (act cent gated lower act_at cent_at gated_at lower_at)

/-- The activated gates, normalised. -/
def normal (v : FVec Ideal S8192x256 .f32) : FVec Ideal S8192x256 .f32 :=
  mulf (cent (act v)) (broadcastInDim S8192x256 ![0, 1] bcast_S8192x1_S8192x256_0_1 (Host.rsqrt (addf (Host.divf (broadcastInDim S8192x1 ![0] bcast_S8192_S8192x1_0 (Host.reduceAdd (mulf (cent (act v)) (cent (act v))) (constant (F := Ideal) S_ .f32 0x00000000#32) reducesTo_S8192x256_S8192_d1 h_S_)) (broadcastInDim S8192x1 ![] bcast_S_S8192x1 (constant (F := Ideal) S_ .f32 0x43800000#32))) (broadcastInDim S8192x1 ![] bcast_S_S8192x1 (constant (F := Ideal) S_ .f32 0x3727C5AC#32)))))
/-- The gradient of the gated rows. -/
def back (u d : FVec Ideal S8192x256 .f32) (w : FVec Ideal S4x128x128 .f32) : FVec Ideal S8192x256 .f32 :=
  shapeCast _ (transpose S64x128x4x64 [1, 3, 0, 2] (Host.dotGeneral (F := Ideal) dot_S4x64x64x128_S4x128x128_S4x64x64x128_3_1_12_2_0_0 none (transpose S4x64x64x128 [2, 0, 3, 1] (shapeCast _ (mulf (act u) d) shapeCasts_S8192x256_S64x128x4x64) transposes_S64x128x4x64_S4x64x64x128_2_0_3_1) (lower w)) transposes_S4x64x64x128_S64x128x4x64_1_3_0_2) shapeCasts_S64x128x4x64_S8192x256
/-- The gradient of the mixing weights, before the mask. -/
def unmasked (u v d : FVec Ideal S8192x256 .f32) (g b : FVec Ideal S1x256 .f32) : FVec Ideal S4x128x128 .f32 :=
  Host.dotGeneral (F := Ideal) dot_S4x64x64x128_S64x128x4x64_S4x128x128_12_03_3_1_0_2 none (transpose S4x64x64x128 [2, 0, 3, 1] (shapeCast _ (mulf (act u) d) shapeCasts_S8192x256_S64x128x4x64) transposes_S64x128x4x64_S4x64x64x128_2_0_3_1) (shapeCast _ (gated v g b) shapeCasts_S8192x256_S64x128x4x64)
/-- The gradient of the mixing weights: the reference's composed term. -/
def result0 (u : FVec Ideal S8192x256 .f32) (v : FVec Ideal S8192x256 .f32) (d : FVec Ideal S8192x256 .f32) (w : FVec Ideal S4x128x128 .f32) (bs : FVec Ideal S4x128 .f32) (g : FVec Ideal S1x256 .f32) (b : FVec Ideal S1x256 .f32) : FVec Ideal S4x128x128 .f32 :=
  select (broadcastInDim S4x128x128 ![0, 1, 2] bcast_S1x128x128_S4x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))))) (unmasked u v d g b) (broadcastInDim S4x128x128 ![] bcast_S_S4x128x128 (constant (F := Ideal) S_ .f32 0x00000000#32))
/-- The gradient of the mixing bias: the reference's composed term. -/
def result1 (u : FVec Ideal S8192x256 .f32) (v : FVec Ideal S8192x256 .f32) (d : FVec Ideal S8192x256 .f32) (w : FVec Ideal S4x128x128 .f32) (bs : FVec Ideal S4x128 .f32) (g : FVec Ideal S1x256 .f32) (b : FVec Ideal S1x256 .f32) : FVec Ideal S4x128x1 .f32 :=
  shapeCast _ (transpose S4x128 [1, 0] (Host.reduceAdd (shapeCast _ (Host.reduceAdd (shapeCast _ (mulf (act u) d) shapeCasts_S8192x256_S64x128x4x64) (constant (F := Ideal) S_ .f32 0x00000000#32) reducesTo_S64x128x4x64_S128x4_d0_3 h_S_) shapeCasts_S128x4_S1x128x4x1) (constant (F := Ideal) S_ .f32 0x00000000#32) reducesTo_S1x128x4x1_S128x4_d0_3 h_S_) transposes_S128x4_S4x128_1_0) shapeCasts_S4x128_S4x128x1
/-- The gradient of the gain: the reference's composed term. -/
def result2 (u : FVec Ideal S8192x256 .f32) (v : FVec Ideal S8192x256 .f32) (d : FVec Ideal S8192x256 .f32) (w : FVec Ideal S4x128x128 .f32) (bs : FVec Ideal S4x128 .f32) (g : FVec Ideal S1x256 .f32) (b : FVec Ideal S1x256 .f32) : FVec Ideal S1x256 .f32 :=
  shapeCast _ (Host.reduceAdd (shapeCast _ (Host.reduceAdd (mulf (normal v) (back u d w)) (constant (F := Ideal) S_ .f32 0x00000000#32) reducesTo_S8192x256_S256_d0 h_S_) shapeCasts_S256_S1x256) (constant (F := Ideal) S_ .f32 0x00000000#32) reducesTo_S1x256_S256_d0 h_S_) shapeCasts_S256_S1x256
/-- The gradient of the bias: the reference's composed term. -/
def result3 (u : FVec Ideal S8192x256 .f32) (v : FVec Ideal S8192x256 .f32) (d : FVec Ideal S8192x256 .f32) (w : FVec Ideal S4x128x128 .f32) (bs : FVec Ideal S4x128 .f32) (g : FVec Ideal S1x256 .f32) (b : FVec Ideal S1x256 .f32) : FVec Ideal S1x256 .f32 :=
  shapeCast _ (Host.reduceAdd (shapeCast _ (Host.reduceAdd (back u d w) (constant (F := Ideal) S_ .f32 0x00000000#32) reducesTo_S8192x256_S256_d0 h_S_) shapeCasts_S256_S1x256) (constant (F := Ideal) S_ .f32 0x00000000#32) reducesTo_S1x256_S256_d0 h_S_) shapeCasts_S256_S1x256

/-- A normalised gate. -/
theorem normal_at (v : FVec Ideal S8192x256 .f32) (i : Fin 8192) (j : Fin 256) :
    normal v (ix2 i j) = Mixing.normed (fun k => Mixing.gelu (v (ix2 i k))) j := by
  pointwise [normal, cent_at, act_at]
  rfl

/-- The gradient of a gated row at a position of chunk `q` and a lane. -/
theorem back_at (u d : FVec Ideal S8192x256 .f32) (w : FVec Ideal S4x128x128 .f32) (q : Fin 64) (s : Fin 128) (j : Fin 256) :
    back u d w (ix2 ⟨q.val * 128 + s.val, by omega⟩ j) = Mixing.pull (fun r s => w (ix3 ⟨j.val / 64, by omega⟩ r s)) (fun r => d (ix2 ⟨q.val * 128 + r.val, by omega⟩ j) * Mixing.gelu (u (ix2 ⟨q.val * 128 + r.val, by omega⟩ j))) s := by
  pointwise [back, act_at, lower_at]
  refine Finset.sum_congr rfl fun r _ => ?_
  by_cases hr : s ≤ r
  · rw [if_pos hr, if_pos hr, mul_comm, mul_comm (Mixing.gelu _)]
  · rw [if_neg hr, if_neg hr, mul_zero]

/-- The gradient of a mixing weight, before the mask. -/
theorem unmasked_at (u v d : FVec Ideal S8192x256 .f32) (g b : FVec Ideal S1x256 .f32) (h : Fin 4) (r s : Fin 128) :
    unmasked u v d g b (ix3 h r s) = ∑ q : Fin 64, ∑ k : Fin 64, d (ix2 ⟨q.val * 128 + r.val, by omega⟩ ⟨h.val * 64 + k.val, by omega⟩) * Mixing.gelu (u (ix2 ⟨q.val * 128 + r.val, by omega⟩ ⟨h.val * 64 + k.val, by omega⟩)) * gated v g b (ix2 ⟨q.val * 128 + s.val, by omega⟩ ⟨h.val * 64 + k.val, by omega⟩) := by
  pointwise [unmasked, act_at]
  exact Finset.sum_congr rfl fun q _ => Finset.sum_congr rfl fun k _ => congrArg (· * _) (mul_comm _ _)

section Results

variable (u : FVec Ideal S8192x256 .f32) (v : FVec Ideal S8192x256 .f32) (d : FVec Ideal S8192x256 .f32) (w : FVec Ideal S4x128x128 .f32) (bs : FVec Ideal S4x128 .f32) (g : FVec Ideal S1x256 .f32) (b : FVec Ideal S1x256 .f32)

/-- The gradient of a mixing weight. -/
theorem result0_at (h : Fin 4) (r s : Fin 128) : result0 u v d w bs g b (ix3 h r s) = if s ≤ r then unmasked u v d g b (ix3 h r s) else 0 :=
  lower_at (unmasked u v d g b) h r s

/-- The gradient of a mixing bias. -/
theorem result1_at (h : Fin 4) (r : Fin 128) : result1 u v d w bs g b (ix3 h r 0) = ∑ q : Fin 64, ∑ k : Fin 64, d (ix2 ⟨q.val * 128 + r.val, by omega⟩ ⟨h.val * 64 + k.val, by omega⟩) * Mixing.gelu (u (ix2 ⟨q.val * 128 + r.val, by omega⟩ ⟨h.val * 64 + k.val, by omega⟩)) := by
  pointwise [result1, act_at]
  rw [Mixing.sum_outer, zero_add]
  refine (Fintype.sum_unique _).trans ((Fintype.sum_unique _).trans ?_)
  pointwise
  rw [Mixing.sum_outer, zero_add]
  refine Finset.sum_congr rfl fun q _ => Finset.sum_congr rfl fun k _ => ?_
  pointwise [act_at]
  exact mul_comm _ _

/-- The gradient of the gain. -/
theorem result2_at (l : Fin 256) : result2 u v d w bs g b (ix2 0 l) = ∑ i : Fin 8192, back u d w (ix2 i l) * normal v (ix2 i l) := by
  pointwise [result2]
  exact (Fintype.sum_unique _).trans (Finset.sum_congr rfl fun i _ => mul_comm _ _)

/-- The gradient of the bias. -/
theorem result3_at (l : Fin 256) : result3 u v d w bs g b (ix2 0 l) = ∑ i : Fin 8192, back u d w (ix2 i l) := by
  pointwise [result3]
  exact Fintype.sum_unique _

end Results

end Cert.MixBBwdReferenceIdeal.Spec

namespace Cert.MixBBwdIdeal.Val

open Cert.MixBBwdIdeal Cert.MixBBwdIdeal.Gen

variable (m : (ℓ : Loc nD τ sig) → Buf (Elt Ideal) ℓ)

/-- One head's block of an array of four. -/
abbrev wt (x : Vec Ideal S4x128x128 .f32) (k : ℕ) (inb : ∀ a, (![k, 0, 0] : Fin 3 → Nat) a + S1x128x128.size a ≤ S4x128x128.size a) : FVec Ideal S1x128x128 .f32 := View.ld x (Rect.unit (s := S4x128x128) ![k, 0, 0] S1x128x128.size inb)
/-- The chunks of a tile, one after the other. -/
def through {α : Type} (f : FVec Ideal S128x256 .f32 → FVec Ideal S128x256 .f32 → FVec Ideal S128x256 .f32 → α → α) (u v d : Vec Ideal S1024x256 .f32) (a : α) : α :=
  f (View.ld u (Rect.unit (s := S1024x256) ![896, 0] S128x256.size inb_S1024x256_S128x256_896_0)) (View.ld v (Rect.unit (s := S1024x256) ![896, 0] S128x256.size inb_S1024x256_S128x256_896_0)) (View.ld d (Rect.unit (s := S1024x256) ![896, 0] S128x256.size inb_S1024x256_S128x256_896_0))
    (f (View.ld u (Rect.unit (s := S1024x256) ![768, 0] S128x256.size inb_S1024x256_S128x256_768_0)) (View.ld v (Rect.unit (s := S1024x256) ![768, 0] S128x256.size inb_S1024x256_S128x256_768_0)) (View.ld d (Rect.unit (s := S1024x256) ![768, 0] S128x256.size inb_S1024x256_S128x256_768_0))
    (f (View.ld u (Rect.unit (s := S1024x256) ![640, 0] S128x256.size inb_S1024x256_S128x256_640_0)) (View.ld v (Rect.unit (s := S1024x256) ![640, 0] S128x256.size inb_S1024x256_S128x256_640_0)) (View.ld d (Rect.unit (s := S1024x256) ![640, 0] S128x256.size inb_S1024x256_S128x256_640_0))
    (f (View.ld u (Rect.unit (s := S1024x256) ![512, 0] S128x256.size inb_S1024x256_S128x256_512_0)) (View.ld v (Rect.unit (s := S1024x256) ![512, 0] S128x256.size inb_S1024x256_S128x256_512_0)) (View.ld d (Rect.unit (s := S1024x256) ![512, 0] S128x256.size inb_S1024x256_S128x256_512_0))
    (f (View.ld u (Rect.unit (s := S1024x256) ![384, 0] S128x256.size inb_S1024x256_S128x256_384_0)) (View.ld v (Rect.unit (s := S1024x256) ![384, 0] S128x256.size inb_S1024x256_S128x256_384_0)) (View.ld d (Rect.unit (s := S1024x256) ![384, 0] S128x256.size inb_S1024x256_S128x256_384_0))
    (f (View.ld u (Rect.unit (s := S1024x256) ![256, 0] S128x256.size inb_S1024x256_S128x256_256_0)) (View.ld v (Rect.unit (s := S1024x256) ![256, 0] S128x256.size inb_S1024x256_S128x256_256_0)) (View.ld d (Rect.unit (s := S1024x256) ![256, 0] S128x256.size inb_S1024x256_S128x256_256_0))
    (f (View.ld u (Rect.unit (s := S1024x256) ![128, 0] S128x256.size inb_S1024x256_S128x256_128_0)) (View.ld v (Rect.unit (s := S1024x256) ![128, 0] S128x256.size inb_S1024x256_S128x256_128_0)) (View.ld d (Rect.unit (s := S1024x256) ![128, 0] S128x256.size inb_S1024x256_S128x256_128_0))
    (f (View.ld u (Rect.unit (s := S1024x256) ![0, 0] S128x256.size inb_S1024x256_S128x256_0_0)) (View.ld v (Rect.unit (s := S1024x256) ![0, 0] S128x256.size inb_S1024x256_S128x256_0_0)) (View.ld d (Rect.unit (s := S1024x256) ![0, 0] S128x256.size inb_S1024x256_S128x256_0_0)) a)))))))

/-- The gradient arriving at the mix of a chunk, as the body spells it. -/
def arrived (u d : FVec Ideal S128x256 .f32) : FVec Ideal S128x256 .bf16 := k0_pay35 (F := Ideal) u d (k0_pay32 u) (Scalar.ofBits (F := Ideal) .f32 0x3F3504F3#32)
/-- One chunk's addition to the gain's gradient, as the body spells it. -/
def gainStep (x : Vec Ideal S4x128x128 .f32) (u v d : FVec Ideal S128x256 .f32) (acc : FVec Ideal S1x256 .f32) : FVec Ideal S1x256 .f32 :=
  k0_pay47 (F := Ideal) k0_pay15 (k0_pay25 (View.ld x (Rect.unit (s := S4x128x128) ![3, 0, 0] S1x128x128.size inb_S4x128x128_S1x128x128_3_0_0))) (k0_pay28 v) (arrived u d)
    (k0_pay41 k0_pay15 (k0_pay22 (View.ld x (Rect.unit (s := S4x128x128) ![1, 0, 0] S1x128x128.size inb_S4x128x128_S1x128x128_1_0_0))) (arrived u d) (k0_pay37 k0_pay15 (k0_pay21 (View.ld x (Rect.unit (s := S4x128x128) ![0, 0, 0] S1x128x128.size inb_S4x128x128_S1x128x128_0_0_0))) u d (k0_pay32 u) (Scalar.ofBits (F := Ideal) .f32 0x3F3504F3#32)))
    (k0_pay43 (k0_pay24 k0_pay23 (View.ld x (Rect.unit (s := S4x128x128) ![2, 0, 0] S1x128x128.size inb_S4x128x128_S1x128x128_2_0_0))) (arrived u d)) (Scalar.ofBits (F := Ideal) .f32 0#32) (k0_pay44 k0_pay15) acc
/-- One chunk's addition to the bias's gradient, as the body spells it. -/
def biasStep (x : Vec Ideal S4x128x128 .f32) (u _v d : FVec Ideal S128x256 .f32) (acc : FVec Ideal S1x256 .f32) : FVec Ideal S1x256 .f32 :=
  k0_pay48 (F := Ideal) k0_pay15 (k0_pay25 (View.ld x (Rect.unit (s := S4x128x128) ![3, 0, 0] S1x128x128.size inb_S4x128x128_S1x128x128_3_0_0))) (arrived u d)
    (k0_pay41 k0_pay15 (k0_pay22 (View.ld x (Rect.unit (s := S4x128x128) ![1, 0, 0] S1x128x128.size inb_S4x128x128_S1x128x128_1_0_0))) (arrived u d) (k0_pay37 k0_pay15 (k0_pay21 (View.ld x (Rect.unit (s := S4x128x128) ![0, 0, 0] S1x128x128.size inb_S4x128x128_S1x128x128_0_0_0))) u d (k0_pay32 u) (Scalar.ofBits (F := Ideal) .f32 0x3F3504F3#32)))
    (k0_pay43 (k0_pay24 k0_pay23 (View.ld x (Rect.unit (s := S4x128x128) ![2, 0, 0] S1x128x128.size inb_S4x128x128_S1x128x128_2_0_0))) (arrived u d)) (Scalar.ofBits (F := Ideal) .f32 0#32) (k0_pay44 k0_pay15) acc
/-- One chunk's addition to the kept sum of the arriving gradients, as the body spells it. -/
def keepStep (u _v d acc : FVec Ideal S128x256 .f32) : FVec Ideal S128x256 .f32 :=
  k0_pay34 (F := Ideal) u d (k0_pay32 u) (Scalar.ofBits (F := Ideal) .f32 0x3F3504F3#32) acc
/-- The gated rows of a chunk, as the body spells them. -/
def gates (g b : FVec Ideal S1x256 .f32) (v : FVec Ideal S128x256 .f32) : FVec Ideal S128x256 .bf16 := k0_pay30 (F := Ideal) (k0_pay28 v) (k0_pay29 g) b
/-- One chunk's addition to head 0's gradient of the mixing weights, as the body spells it. -/
def mixStep0 (g b : FVec Ideal S1x256 .f32) (u v d : FVec Ideal S128x256 .f32) (acc : FVec Ideal S1x128x128 .f32) : FVec Ideal S1x128x128 .f32 :=
  k0_pay36 (F := Ideal) k0_pay15 u d (gates g b v) (k0_pay32 u) (Scalar.ofBits (F := Ideal) .f32 0x3F3504F3#32) acc
/-- One chunk's addition to head 1's gradient of the mixing weights, as the body spells it. -/
def mixStep1 (g b : FVec Ideal S1x256 .f32) (u v d : FVec Ideal S128x256 .f32) (acc : FVec Ideal S1x128x128 .f32) : FVec Ideal S1x128x128 .f32 :=
  k0_pay40 (F := Ideal) k0_pay15 (gates g b v) (arrived u d) (k0_pay38 acc) k0_pay39
/-- One chunk's addition to head 2's gradient of the mixing weights, as the body spells it. -/
def mixStep2 (g b : FVec Ideal S1x256 .f32) (u v d : FVec Ideal S128x256 .f32) (acc : FVec Ideal S1x128x128 .f32) : FVec Ideal S1x128x128 .f32 :=
  k0_pay42 (F := Ideal) k0_pay15 (gates g b v) (arrived u d) acc
/-- One chunk's addition to head 3's gradient of the mixing weights, as the body spells it. -/
def mixStep3 (g b : FVec Ideal S1x256 .f32) (u v d : FVec Ideal S128x256 .f32) (acc : FVec Ideal S1x128x128 .f32) : FVec Ideal S1x128x128 .f32 :=
  k0_pay45 (F := Ideal) k0_pay15 (gates g b v) (arrived u d) acc

/-- An index of a head's block. -/
theorem head_idx (h : Fin 4) (inb : ∀ a, (![h.val, 0, 0] : Fin 3 → Nat) a + S1x128x128.size a ≤ S4x128x128.size a) (r s : Fin 128) :
    (ix3 h r s : S4x128x128.Idx) = (Rect.unit (s := S4x128x128) ![h.val, 0, 0] S1x128x128.size inb).emb (ix3 0 r s) := by
  funext (a : Fin 3)
  refine Fin.ext ?_
  fin_cases a
  · simp [Rect.emb, Rect.unit]
  · simp [Rect.emb, Rect.unit]
  · simp [Rect.emb, Rect.unit]
/-- An index of one head's block is in no other's. -/
theorem head_not_mem (h : Fin 4) (k : ℕ) (hk : h.val ≠ k) (inb : ∀ a, (![k, 0, 0] : Fin 3 → Nat) a + S1x128x128.size a ≤ S4x128x128.size a) (w : (Rect.unit (s := S4x128x128) ![k, 0, 0] S1x128x128.size inb).shape.Idx → Elt Ideal .f32) (r s : Fin 128) :
    (ix3 h r s : S4x128x128.Idx) ∉ (⟨Rect.unit (s := S4x128x128) ![k, 0, 0] S1x128x128.size inb, w⟩ : View.Piece (Elt Ideal) S4x128x128 .f32).1.set := by
  intro hm
  obtain ⟨i, hi, he⟩ := (LoadRect.mem_set _).mp hm (0 : Fin 3)
  have hi1 : i < 1 := hi
  have he' : h.val = k + 1 * i := he
  omega

/-- An index of a head's column. -/
theorem lead_idx (h : Fin 4) (inb : ∀ a, (![h.val, 0, 0] : Fin 3 → Nat) a + S1x128x1.size a ≤ S4x128x1.size a) (r : Fin 128) :
    (ix3 h r 0 : S4x128x1.Idx) = (Rect.unit (s := S4x128x1) ![h.val, 0, 0] S1x128x1.size inb).emb (ix3 0 r 0) := by
  funext (a : Fin 3)
  refine Fin.ext ?_
  fin_cases a
  · simp [Rect.emb, Rect.unit]
  · simp [Rect.emb, Rect.unit]
  · simp [Rect.emb, Rect.unit]
/-- An index of one head's column is in no other's. -/
theorem lead_not_mem (h : Fin 4) (k : ℕ) (hk : h.val ≠ k) (inb : ∀ a, (![k, 0, 0] : Fin 3 → Nat) a + S1x128x1.size a ≤ S4x128x1.size a) (w : (Rect.unit (s := S4x128x1) ![k, 0, 0] S1x128x1.size inb).shape.Idx → Elt Ideal .f32) (r : Fin 128) :
    (ix3 h r 0 : S4x128x1.Idx) ∉ (⟨Rect.unit (s := S4x128x1) ![k, 0, 0] S1x128x1.size inb, w⟩ : View.Piece (Elt Ideal) S4x128x1 .f32).1.set := by
  intro hm
  obtain ⟨i, hi, he⟩ := (LoadRect.mem_set _).mp hm (0 : Fin 3)
  have hi1 : i < 1 := hi
  have he' : h.val = k + 1 * i := he
  omega

/-- The gain's gradient after a first point. -/
theorem gainA (c : Dev nD) (t : Fin cfg0.N) (h0 : t.val % 8 = 0) (h1 : ¬t.val % 8 = 7) :
    (outsAt0 m c t.val t.isLt).2.2.2.2.1 = through (gainStep (iblk m c 4 t)) (iblk m c 0 t) (iblk m c 1 t) (iblk m c 2 t) (k0_pay12 (F := Ideal)) := by
  rw [outsAt0_A m c t h0 h1]
  frame_out
  rfl

/-- The gain's gradient after a middle point. -/
theorem gainB (c : Dev nD) (t : Fin cfg0.N) (h0 : ¬t.val % 8 = 0) (h1 : ¬t.val % 8 = 7) :
    (outsAt0 m c t.val t.isLt).2.2.2.2.1 = through (gainStep (iblk m c 4 t)) (iblk m c 0 t) (iblk m c 1 t) (iblk m c 2 t) (outsAt0 m c (t.val - 1) (Nat.lt_of_le_of_lt (Nat.sub_le _ _) t.isLt)).2.2.2.2.1 := by
  rw [outsAt0_B m c t h0 h1]
  generalize outsAt0 m c (t.val - 1) (Nat.lt_of_le_of_lt (Nat.sub_le _ _) t.isLt) = p
  frame_out
  rfl

/-- The gain's gradient after a last point. -/
theorem gainC (c : Dev nD) (t : Fin cfg0.N) (h0 : ¬t.val % 8 = 0) (h1 : t.val % 8 = 7) :
    (outsAt0 m c t.val t.isLt).2.2.2.2.1 = through (gainStep (iblk m c 4 t)) (iblk m c 0 t) (iblk m c 1 t) (iblk m c 2 t) (outsAt0 m c (t.val - 1) (Nat.lt_of_le_of_lt (Nat.sub_le _ _) t.isLt)).2.2.2.2.1 := by
  rw [outsAt0_C m c t h0 h1]
  generalize outsAt0 m c (t.val - 1) (Nat.lt_of_le_of_lt (Nat.sub_le _ _) t.isLt) = p
  frame_out
  rfl

/-- The bias's gradient after a first point. -/
theorem biasA (c : Dev nD) (t : Fin cfg0.N) (h0 : t.val % 8 = 0) (h1 : ¬t.val % 8 = 7) :
    (outsAt0 m c t.val t.isLt).2.2.2.2.2.1 = through (biasStep (iblk m c 4 t)) (iblk m c 0 t) (iblk m c 1 t) (iblk m c 2 t) (k0_pay13 (F := Ideal)) := by
  rw [outsAt0_A m c t h0 h1]
  frame_out
  rfl

/-- The bias's gradient after a middle point. -/
theorem biasB (c : Dev nD) (t : Fin cfg0.N) (h0 : ¬t.val % 8 = 0) (h1 : ¬t.val % 8 = 7) :
    (outsAt0 m c t.val t.isLt).2.2.2.2.2.1 = through (biasStep (iblk m c 4 t)) (iblk m c 0 t) (iblk m c 1 t) (iblk m c 2 t) (outsAt0 m c (t.val - 1) (Nat.lt_of_le_of_lt (Nat.sub_le _ _) t.isLt)).2.2.2.2.2.1 := by
  rw [outsAt0_B m c t h0 h1]
  generalize outsAt0 m c (t.val - 1) (Nat.lt_of_le_of_lt (Nat.sub_le _ _) t.isLt) = p
  frame_out
  rfl

/-- The bias's gradient after a last point. -/
theorem biasC (c : Dev nD) (t : Fin cfg0.N) (h0 : ¬t.val % 8 = 0) (h1 : t.val % 8 = 7) :
    (outsAt0 m c t.val t.isLt).2.2.2.2.2.1 = through (biasStep (iblk m c 4 t)) (iblk m c 0 t) (iblk m c 1 t) (iblk m c 2 t) (outsAt0 m c (t.val - 1) (Nat.lt_of_le_of_lt (Nat.sub_le _ _) t.isLt)).2.2.2.2.2.1 := by
  rw [outsAt0_C m c t h0 h1]
  generalize outsAt0 m c (t.val - 1) (Nat.lt_of_le_of_lt (Nat.sub_le _ _) t.isLt) = p
  frame_out
  rfl

/-- The kept sum after a first point. -/
theorem keepA (c : Dev nD) (t : Fin cfg0.N) (h0 : t.val % 8 = 0) (h1 : ¬t.val % 8 = 7) :
    (outsAt0 m c t.val t.isLt).2.2.2.2.2.2 = through keepStep (iblk m c 0 t) (iblk m c 1 t) (iblk m c 2 t) (k0_pay14 (F := Ideal)) := by
  rw [outsAt0_A m c t h0 h1]
  frame_out
  rfl

/-- The kept sum after a middle point. -/
theorem keepB (c : Dev nD) (t : Fin cfg0.N) (h0 : ¬t.val % 8 = 0) (h1 : ¬t.val % 8 = 7) :
    (outsAt0 m c t.val t.isLt).2.2.2.2.2.2 = through keepStep (iblk m c 0 t) (iblk m c 1 t) (iblk m c 2 t) (outsAt0 m c (t.val - 1) (Nat.lt_of_le_of_lt (Nat.sub_le _ _) t.isLt)).2.2.2.2.2.2 := by
  rw [outsAt0_B m c t h0 h1]
  generalize outsAt0 m c (t.val - 1) (Nat.lt_of_le_of_lt (Nat.sub_le _ _) t.isLt) = p
  frame_out
  rw [read_unread_whole]
  rfl

/-- The kept sum after a last point. -/
theorem keepC (c : Dev nD) (t : Fin cfg0.N) (h0 : ¬t.val % 8 = 0) (h1 : t.val % 8 = 7) :
    (outsAt0 m c t.val t.isLt).2.2.2.2.2.2 = through keepStep (iblk m c 0 t) (iblk m c 1 t) (iblk m c 2 t) (outsAt0 m c (t.val - 1) (Nat.lt_of_le_of_lt (Nat.sub_le _ _) t.isLt)).2.2.2.2.2.2 := by
  rw [outsAt0_C m c t h0 h1]
  generalize outsAt0 m c (t.val - 1) (Nat.lt_of_le_of_lt (Nat.sub_le _ _) t.isLt) = p
  frame_out
  rw [read_unread_whole]
  rfl

/-- Head 0's gradient of the mixing weights after a first point. -/
theorem mix0A (c : Dev nD) (t : Fin cfg0.N) (h0 : t.val % 8 = 0) (h1 : ¬t.val % 8 = 7) (r s : Fin 128) :
    (outsAt0 m c t.val t.isLt).2.2.1 (ix3 0 r s) = through (mixStep0 (iblk m c 6 t) (iblk m c 7 t)) (iblk m c 0 t) (iblk m c 1 t) (iblk m c 2 t) (wt (k0_pay11 (F := Ideal)) 0 inb_S4x128x128_S1x128x128_0_0_0) (ix3 0 r s) := by
  rw [outsAt0_A m c t h0 h1]
  frame_out
  refine (View.canon_cons_of_not_mem _ _ (head_not_mem 0 3 (by decide) _ _ r s)).trans ?_
  refine (View.canon_cons_of_not_mem _ _ (head_not_mem 0 2 (by decide) _ _ r s)).trans ?_
  refine (View.canon_cons_of_not_mem _ _ (head_not_mem 0 1 (by decide) _ _ r s)).trans ?_
  refine (congrArg _ (head_idx 0 inb_S4x128x128_S1x128x128_0_0_0 r s)).trans ?_
  refine (View.canon_cons_emb (Rect.unit (s := S4x128x128) ![0, 0, 0] S1x128x128.size inb_S4x128x128_S1x128x128_0_0_0) _ _ (ix3 0 r s)).trans ?_
  simp (decide := true) only [↓View.readCov_skip, ↓View.readCov_cons_toLoadRect, ↓View.readCov_fill]
  rfl

/-- Head 0's gradient of the mixing weights after a middle point. -/
theorem mix0B (c : Dev nD) (t : Fin cfg0.N) (h0 : ¬t.val % 8 = 0) (h1 : ¬t.val % 8 = 7) (r s : Fin 128) :
    (outsAt0 m c t.val t.isLt).2.2.1 (ix3 0 r s) = through (mixStep0 (iblk m c 6 t) (iblk m c 7 t)) (iblk m c 0 t) (iblk m c 1 t) (iblk m c 2 t) (wt (outsAt0 m c (t.val - 1) (Nat.lt_of_le_of_lt (Nat.sub_le _ _) t.isLt)).2.2.1 0 inb_S4x128x128_S1x128x128_0_0_0) (ix3 0 r s) := by
  rw [outsAt0_B m c t h0 h1]
  generalize outsAt0 m c (t.val - 1) (Nat.lt_of_le_of_lt (Nat.sub_le _ _) t.isLt) = p
  frame_out
  refine (View.canon_cons_of_not_mem _ _ (head_not_mem 0 3 (by decide) _ _ r s)).trans ?_
  refine (View.canon_cons_of_not_mem _ _ (head_not_mem 0 2 (by decide) _ _ r s)).trans ?_
  refine (View.canon_cons_of_not_mem _ _ (head_not_mem 0 1 (by decide) _ _ r s)).trans ?_
  refine (congrArg _ (head_idx 0 inb_S4x128x128_S1x128x128_0_0_0 r s)).trans ?_
  refine (View.canon_cons_emb (Rect.unit (s := S4x128x128) ![0, 0, 0] S1x128x128.size inb_S4x128x128_S1x128x128_0_0_0) _ _ (ix3 0 r s)).trans ?_
  simp (decide := true) only [↓View.readCov_skip, ↓View.readCov_cons_toLoadRect, ↓View.readCov_fill]
  rfl

/-- Head 1's gradient of the mixing weights after a first point. -/
theorem mix1A (c : Dev nD) (t : Fin cfg0.N) (h0 : t.val % 8 = 0) (h1 : ¬t.val % 8 = 7) (r s : Fin 128) :
    (outsAt0 m c t.val t.isLt).2.2.1 (ix3 1 r s) = through (mixStep1 (iblk m c 6 t) (iblk m c 7 t)) (iblk m c 0 t) (iblk m c 1 t) (iblk m c 2 t) (wt (k0_pay11 (F := Ideal)) 1 inb_S4x128x128_S1x128x128_1_0_0) (ix3 0 r s) := by
  rw [outsAt0_A m c t h0 h1]
  frame_out
  refine (View.canon_cons_of_not_mem _ _ (head_not_mem 1 3 (by decide) _ _ r s)).trans ?_
  refine (View.canon_cons_of_not_mem _ _ (head_not_mem 1 2 (by decide) _ _ r s)).trans ?_
  refine (congrArg _ (head_idx 1 inb_S4x128x128_S1x128x128_1_0_0 r s)).trans ?_
  refine (View.canon_cons_emb (Rect.unit (s := S4x128x128) ![1, 0, 0] S1x128x128.size inb_S4x128x128_S1x128x128_1_0_0) _ _ (ix3 0 r s)).trans ?_
  simp (decide := true) only [↓View.readCov_skip, ↓View.readCov_cons_toLoadRect, ↓View.readCov_fill]
  rfl

/-- Head 1's gradient of the mixing weights after a middle point. -/
theorem mix1B (c : Dev nD) (t : Fin cfg0.N) (h0 : ¬t.val % 8 = 0) (h1 : ¬t.val % 8 = 7) (r s : Fin 128) :
    (outsAt0 m c t.val t.isLt).2.2.1 (ix3 1 r s) = through (mixStep1 (iblk m c 6 t) (iblk m c 7 t)) (iblk m c 0 t) (iblk m c 1 t) (iblk m c 2 t) (wt (outsAt0 m c (t.val - 1) (Nat.lt_of_le_of_lt (Nat.sub_le _ _) t.isLt)).2.2.1 1 inb_S4x128x128_S1x128x128_1_0_0) (ix3 0 r s) := by
  rw [outsAt0_B m c t h0 h1]
  generalize outsAt0 m c (t.val - 1) (Nat.lt_of_le_of_lt (Nat.sub_le _ _) t.isLt) = p
  frame_out
  refine (View.canon_cons_of_not_mem _ _ (head_not_mem 1 3 (by decide) _ _ r s)).trans ?_
  refine (View.canon_cons_of_not_mem _ _ (head_not_mem 1 2 (by decide) _ _ r s)).trans ?_
  refine (congrArg _ (head_idx 1 inb_S4x128x128_S1x128x128_1_0_0 r s)).trans ?_
  refine (View.canon_cons_emb (Rect.unit (s := S4x128x128) ![1, 0, 0] S1x128x128.size inb_S4x128x128_S1x128x128_1_0_0) _ _ (ix3 0 r s)).trans ?_
  simp (decide := true) only [↓View.readCov_skip, ↓View.readCov_cons_toLoadRect, ↓View.readCov_fill]
  rfl

/-- Head 2's gradient of the mixing weights after a first point. -/
theorem mix2A (c : Dev nD) (t : Fin cfg0.N) (h0 : t.val % 8 = 0) (h1 : ¬t.val % 8 = 7) (r s : Fin 128) :
    (outsAt0 m c t.val t.isLt).2.2.1 (ix3 2 r s) = through (mixStep2 (iblk m c 6 t) (iblk m c 7 t)) (iblk m c 0 t) (iblk m c 1 t) (iblk m c 2 t) (wt (k0_pay11 (F := Ideal)) 2 inb_S4x128x128_S1x128x128_2_0_0) (ix3 0 r s) := by
  rw [outsAt0_A m c t h0 h1]
  frame_out
  refine (View.canon_cons_of_not_mem _ _ (head_not_mem 2 3 (by decide) _ _ r s)).trans ?_
  refine (congrArg _ (head_idx 2 inb_S4x128x128_S1x128x128_2_0_0 r s)).trans ?_
  refine (View.canon_cons_emb (Rect.unit (s := S4x128x128) ![2, 0, 0] S1x128x128.size inb_S4x128x128_S1x128x128_2_0_0) _ _ (ix3 0 r s)).trans ?_
  simp (decide := true) only [↓View.readCov_skip, ↓View.readCov_cons_toLoadRect, ↓View.readCov_fill]
  rfl

/-- Head 2's gradient of the mixing weights after a middle point. -/
theorem mix2B (c : Dev nD) (t : Fin cfg0.N) (h0 : ¬t.val % 8 = 0) (h1 : ¬t.val % 8 = 7) (r s : Fin 128) :
    (outsAt0 m c t.val t.isLt).2.2.1 (ix3 2 r s) = through (mixStep2 (iblk m c 6 t) (iblk m c 7 t)) (iblk m c 0 t) (iblk m c 1 t) (iblk m c 2 t) (wt (outsAt0 m c (t.val - 1) (Nat.lt_of_le_of_lt (Nat.sub_le _ _) t.isLt)).2.2.1 2 inb_S4x128x128_S1x128x128_2_0_0) (ix3 0 r s) := by
  rw [outsAt0_B m c t h0 h1]
  generalize outsAt0 m c (t.val - 1) (Nat.lt_of_le_of_lt (Nat.sub_le _ _) t.isLt) = p
  frame_out
  refine (View.canon_cons_of_not_mem _ _ (head_not_mem 2 3 (by decide) _ _ r s)).trans ?_
  refine (congrArg _ (head_idx 2 inb_S4x128x128_S1x128x128_2_0_0 r s)).trans ?_
  refine (View.canon_cons_emb (Rect.unit (s := S4x128x128) ![2, 0, 0] S1x128x128.size inb_S4x128x128_S1x128x128_2_0_0) _ _ (ix3 0 r s)).trans ?_
  simp (decide := true) only [↓View.readCov_skip, ↓View.readCov_cons_toLoadRect, ↓View.readCov_fill]
  rfl

/-- Head 3's gradient of the mixing weights after a first point. -/
theorem mix3A (c : Dev nD) (t : Fin cfg0.N) (h0 : t.val % 8 = 0) (h1 : ¬t.val % 8 = 7) (r s : Fin 128) :
    (outsAt0 m c t.val t.isLt).2.2.1 (ix3 3 r s) = through (mixStep3 (iblk m c 6 t) (iblk m c 7 t)) (iblk m c 0 t) (iblk m c 1 t) (iblk m c 2 t) (wt (k0_pay11 (F := Ideal)) 3 inb_S4x128x128_S1x128x128_3_0_0) (ix3 0 r s) := by
  rw [outsAt0_A m c t h0 h1]
  frame_out
  refine (congrArg _ (head_idx 3 inb_S4x128x128_S1x128x128_3_0_0 r s)).trans ?_
  refine (View.canon_cons_emb (Rect.unit (s := S4x128x128) ![3, 0, 0] S1x128x128.size inb_S4x128x128_S1x128x128_3_0_0) _ _ (ix3 0 r s)).trans ?_
  simp (decide := true) only [↓View.readCov_skip, ↓View.readCov_cons_toLoadRect, ↓View.readCov_fill]
  rfl

/-- Head 3's gradient of the mixing weights after a middle point. -/
theorem mix3B (c : Dev nD) (t : Fin cfg0.N) (h0 : ¬t.val % 8 = 0) (h1 : ¬t.val % 8 = 7) (r s : Fin 128) :
    (outsAt0 m c t.val t.isLt).2.2.1 (ix3 3 r s) = through (mixStep3 (iblk m c 6 t) (iblk m c 7 t)) (iblk m c 0 t) (iblk m c 1 t) (iblk m c 2 t) (wt (outsAt0 m c (t.val - 1) (Nat.lt_of_le_of_lt (Nat.sub_le _ _) t.isLt)).2.2.1 3 inb_S4x128x128_S1x128x128_3_0_0) (ix3 0 r s) := by
  rw [outsAt0_B m c t h0 h1]
  generalize outsAt0 m c (t.val - 1) (Nat.lt_of_le_of_lt (Nat.sub_le _ _) t.isLt) = p
  frame_out
  refine (congrArg _ (head_idx 3 inb_S4x128x128_S1x128x128_3_0_0 r s)).trans ?_
  refine (View.canon_cons_emb (Rect.unit (s := S4x128x128) ![3, 0, 0] S1x128x128.size inb_S4x128x128_S1x128x128_3_0_0) _ _ (ix3 0 r s)).trans ?_
  simp (decide := true) only [↓View.readCov_skip, ↓View.readCov_cons_toLoadRect, ↓View.readCov_fill]
  rfl

/-- Head 0's gradient of the mixing weights after the last point. -/
theorem mix0C (c : Dev nD) (t : Fin cfg0.N) (h0 : ¬t.val % 8 = 0) (h1 : t.val % 8 = 7) (r s : Fin 128) :
    (outsAt0 m c t.val t.isLt).2.2.1 (ix3 0 r s) = k0_pay3 (F := Ideal) (through (mixStep0 (iblk m c 6 t) (iblk m c 7 t)) (iblk m c 0 t) (iblk m c 1 t) (iblk m c 2 t) (wt (outsAt0 m c (t.val - 1) (Nat.lt_of_le_of_lt (Nat.sub_le _ _) t.isLt)).2.2.1 0 inb_S4x128x128_S1x128x128_0_0_0)) (ix3 0 r s) := by
  rw [outsAt0_C m c t h0 h1]
  generalize outsAt0 m c (t.val - 1) (Nat.lt_of_le_of_lt (Nat.sub_le _ _) t.isLt) = p
  frame_out
  refine (View.canon_cons_of_not_mem _ _ (head_not_mem 0 3 (by decide) _ _ r s)).trans ?_
  refine (View.canon_cons_of_not_mem _ _ (head_not_mem 0 2 (by decide) _ _ r s)).trans ?_
  refine (View.canon_cons_of_not_mem _ _ (head_not_mem 0 1 (by decide) _ _ r s)).trans ?_
  refine (congrArg _ (head_idx 0 inb_S4x128x128_S1x128x128_0_0_0 r s)).trans ?_
  refine (View.canon_cons_emb (Rect.unit (s := S4x128x128) ![0, 0, 0] S1x128x128.size inb_S4x128x128_S1x128x128_0_0_0) _ _ (ix3 0 r s)).trans ?_
  simp (decide := true) only [↓View.readCov_skip, ↓View.readCov_cons_toLoadRect, ↓View.readCov_fill]
  rfl

/-- Head 0's gradient of the mixing bias after the last point. -/
theorem lead0 (c : Dev nD) (t : Fin cfg0.N) (h0 : ¬t.val % 8 = 0) (h1 : t.val % 8 = 7) (r : Fin 128) :
    (outsAt0 m c t.val t.isLt).2.2.2.1 (ix3 0 r 0) = k0_pay4 k0_pay15 (outsAt0 m c t.val t.isLt).2.2.2.2.2.2 (ix3 0 r 0) := by
  rw [keepC m c t h0 h1, outsAt0_C m c t h0 h1]
  generalize outsAt0 m c (t.val - 1) (Nat.lt_of_le_of_lt (Nat.sub_le _ _) t.isLt) = p
  frame_out
  rw [read_unread_whole]
  refine (View.canon_cons_of_not_mem _ _ (lead_not_mem 0 3 (by decide) _ _ r)).trans ?_
  refine (View.canon_cons_of_not_mem _ _ (lead_not_mem 0 2 (by decide) _ _ r)).trans ?_
  refine (View.canon_cons_of_not_mem _ _ (lead_not_mem 0 1 (by decide) _ _ r)).trans ?_
  refine (congrArg _ (lead_idx 0 inb_S4x128x1_S1x128x1_0_0_0 r)).trans ?_
  refine (View.canon_cons_emb (Rect.unit (s := S4x128x1) ![0, 0, 0] S1x128x1.size inb_S4x128x1_S1x128x1_0_0_0) _ _ (ix3 0 r 0)).trans ?_
  rfl

/-- Head 1's gradient of the mixing weights after the last point. -/
theorem mix1C (c : Dev nD) (t : Fin cfg0.N) (h0 : ¬t.val % 8 = 0) (h1 : t.val % 8 = 7) (r s : Fin 128) :
    (outsAt0 m c t.val t.isLt).2.2.1 (ix3 1 r s) = k0_pay5 (F := Ideal) (through (mixStep1 (iblk m c 6 t) (iblk m c 7 t)) (iblk m c 0 t) (iblk m c 1 t) (iblk m c 2 t) (wt (outsAt0 m c (t.val - 1) (Nat.lt_of_le_of_lt (Nat.sub_le _ _) t.isLt)).2.2.1 1 inb_S4x128x128_S1x128x128_1_0_0)) (ix3 0 r s) := by
  rw [outsAt0_C m c t h0 h1]
  generalize outsAt0 m c (t.val - 1) (Nat.lt_of_le_of_lt (Nat.sub_le _ _) t.isLt) = p
  frame_out
  refine (View.canon_cons_of_not_mem _ _ (head_not_mem 1 3 (by decide) _ _ r s)).trans ?_
  refine (View.canon_cons_of_not_mem _ _ (head_not_mem 1 2 (by decide) _ _ r s)).trans ?_
  refine (congrArg _ (head_idx 1 inb_S4x128x128_S1x128x128_1_0_0 r s)).trans ?_
  refine (View.canon_cons_emb (Rect.unit (s := S4x128x128) ![1, 0, 0] S1x128x128.size inb_S4x128x128_S1x128x128_1_0_0) _ _ (ix3 0 r s)).trans ?_
  simp (decide := true) only [↓View.readCov_skip, ↓View.readCov_cons_toLoadRect, ↓View.readCov_fill]
  rfl

/-- Head 1's gradient of the mixing bias after the last point. -/
theorem lead1 (c : Dev nD) (t : Fin cfg0.N) (h0 : ¬t.val % 8 = 0) (h1 : t.val % 8 = 7) (r : Fin 128) :
    (outsAt0 m c t.val t.isLt).2.2.2.1 (ix3 1 r 0) = k0_pay7 (k0_pay6 k0_pay15) (outsAt0 m c t.val t.isLt).2.2.2.2.2.2 (ix3 0 r 0) := by
  rw [keepC m c t h0 h1, outsAt0_C m c t h0 h1]
  generalize outsAt0 m c (t.val - 1) (Nat.lt_of_le_of_lt (Nat.sub_le _ _) t.isLt) = p
  frame_out
  rw [read_unread_whole]
  refine (View.canon_cons_of_not_mem _ _ (lead_not_mem 1 3 (by decide) _ _ r)).trans ?_
  refine (View.canon_cons_of_not_mem _ _ (lead_not_mem 1 2 (by decide) _ _ r)).trans ?_
  refine (congrArg _ (lead_idx 1 inb_S4x128x1_S1x128x1_1_0_0 r)).trans ?_
  refine (View.canon_cons_emb (Rect.unit (s := S4x128x1) ![1, 0, 0] S1x128x1.size inb_S4x128x1_S1x128x1_1_0_0) _ _ (ix3 0 r 0)).trans ?_
  rfl

/-- Head 2's gradient of the mixing weights after the last point. -/
theorem mix2C (c : Dev nD) (t : Fin cfg0.N) (h0 : ¬t.val % 8 = 0) (h1 : t.val % 8 = 7) (r s : Fin 128) :
    (outsAt0 m c t.val t.isLt).2.2.1 (ix3 2 r s) = k0_pay8 (F := Ideal) (through (mixStep2 (iblk m c 6 t) (iblk m c 7 t)) (iblk m c 0 t) (iblk m c 1 t) (iblk m c 2 t) (wt (outsAt0 m c (t.val - 1) (Nat.lt_of_le_of_lt (Nat.sub_le _ _) t.isLt)).2.2.1 2 inb_S4x128x128_S1x128x128_2_0_0)) (ix3 0 r s) := by
  rw [outsAt0_C m c t h0 h1]
  generalize outsAt0 m c (t.val - 1) (Nat.lt_of_le_of_lt (Nat.sub_le _ _) t.isLt) = p
  frame_out
  refine (View.canon_cons_of_not_mem _ _ (head_not_mem 2 3 (by decide) _ _ r s)).trans ?_
  refine (congrArg _ (head_idx 2 inb_S4x128x128_S1x128x128_2_0_0 r s)).trans ?_
  refine (View.canon_cons_emb (Rect.unit (s := S4x128x128) ![2, 0, 0] S1x128x128.size inb_S4x128x128_S1x128x128_2_0_0) _ _ (ix3 0 r s)).trans ?_
  simp (decide := true) only [↓View.readCov_skip, ↓View.readCov_cons_toLoadRect, ↓View.readCov_fill]
  rfl

/-- Head 2's gradient of the mixing bias after the last point. -/
theorem lead2 (c : Dev nD) (t : Fin cfg0.N) (h0 : ¬t.val % 8 = 0) (h1 : t.val % 8 = 7) (r : Fin 128) :
    (outsAt0 m c t.val t.isLt).2.2.2.1 (ix3 2 r 0) = k0_pay9 k0_pay15 (outsAt0 m c t.val t.isLt).2.2.2.2.2.2 (ix3 0 r 0) := by
  rw [keepC m c t h0 h1, outsAt0_C m c t h0 h1]
  generalize outsAt0 m c (t.val - 1) (Nat.lt_of_le_of_lt (Nat.sub_le _ _) t.isLt) = p
  frame_out
  rw [read_unread_whole]
  refine (View.canon_cons_of_not_mem _ _ (lead_not_mem 2 3 (by decide) _ _ r)).trans ?_
  refine (congrArg _ (lead_idx 2 inb_S4x128x1_S1x128x1_2_0_0 r)).trans ?_
  refine (View.canon_cons_emb (Rect.unit (s := S4x128x1) ![2, 0, 0] S1x128x1.size inb_S4x128x1_S1x128x1_2_0_0) _ _ (ix3 0 r 0)).trans ?_
  rfl

/-- Head 3's gradient of the mixing weights after the last point. -/
theorem mix3C (c : Dev nD) (t : Fin cfg0.N) (h0 : ¬t.val % 8 = 0) (h1 : t.val % 8 = 7) (r s : Fin 128) :
    (outsAt0 m c t.val t.isLt).2.2.1 (ix3 3 r s) = k0_pay1 (F := Ideal) k0_pay10 (through (mixStep3 (iblk m c 6 t) (iblk m c 7 t)) (iblk m c 0 t) (iblk m c 1 t) (iblk m c 2 t) (wt (outsAt0 m c (t.val - 1) (Nat.lt_of_le_of_lt (Nat.sub_le _ _) t.isLt)).2.2.1 3 inb_S4x128x128_S1x128x128_3_0_0)) (ix3 0 r s) := by
  rw [outsAt0_C m c t h0 h1]
  generalize outsAt0 m c (t.val - 1) (Nat.lt_of_le_of_lt (Nat.sub_le _ _) t.isLt) = p
  frame_out
  refine (congrArg _ (head_idx 3 inb_S4x128x128_S1x128x128_3_0_0 r s)).trans ?_
  refine (View.canon_cons_emb (Rect.unit (s := S4x128x128) ![3, 0, 0] S1x128x128.size inb_S4x128x128_S1x128x128_3_0_0) _ _ (ix3 0 r s)).trans ?_
  simp (decide := true) only [↓View.readCov_skip, ↓View.readCov_cons_toLoadRect, ↓View.readCov_fill]
  rfl

/-- Head 3's gradient of the mixing bias after the last point. -/
theorem lead3 (c : Dev nD) (t : Fin cfg0.N) (h0 : ¬t.val % 8 = 0) (h1 : t.val % 8 = 7) (r : Fin 128) :
    (outsAt0 m c t.val t.isLt).2.2.2.1 (ix3 3 r 0) = k0_pay2 k0_pay15 (outsAt0 m c t.val t.isLt).2.2.2.2.2.2 (ix3 0 r 0) := by
  rw [keepC m c t h0 h1, outsAt0_C m c t h0 h1]
  generalize outsAt0 m c (t.val - 1) (Nat.lt_of_le_of_lt (Nat.sub_le _ _) t.isLt) = p
  frame_out
  rw [read_unread_whole]
  refine (congrArg _ (lead_idx 3 inb_S4x128x1_S1x128x1_3_0_0 r)).trans ?_
  refine (View.canon_cons_emb (Rect.unit (s := S4x128x1) ![3, 0, 0] S1x128x1.size inb_S4x128x1_S1x128x1_3_0_0) _ _ (ix3 0 r 0)).trans ?_
  rfl

/-- A lane's head. -/
theorem lane_at : ∀ l : Fin 256, k0_pay15 (ix2 0 l) = BitVec.ofNat 32 (l.val / 64) := by
  decide +kernel

/-- The gradient arriving at the mix, at a position and a lane. -/
def due (u d : FVec Ideal S128x256 .f32) (r : Fin 128) (l : Fin 256) : EReal := d (ix2 r l) * Mixing.gelu (u (ix2 r l))
/-- A gated entry. -/
def gate (g b : FVec Ideal S1x256 .f32) (v : FVec Ideal S128x256 .f32) (s : Fin 128) (l : Fin 256) : EReal := Mixing.normed (fun k => Mixing.gelu (v (ix2 s k))) l * g (ix2 0 l) + b (ix2 0 l)
/-- The gradient of a gated entry. -/
def back (x : Vec Ideal S4x128x128 .f32) (u d : FVec Ideal S128x256 .f32) (l : Fin 256) (s : Fin 128) : EReal :=
  Mixing.pull (fun r s => x (ix3 ⟨l.val / 64, by omega⟩ s r)) (fun r => due u d r l) s
/-- A chunk's part of the gain's gradient. -/
def gainTerm (x : Vec Ideal S4x128x128 .f32) (l : Fin 256) (u v d : FVec Ideal S128x256 .f32) : EReal := ∑ s : Fin 128, back x u d l s * Mixing.normed (fun k => Mixing.gelu (v (ix2 s k))) l
/-- A chunk's part of the bias's gradient. -/
def biasTerm (x : Vec Ideal S4x128x128 .f32) (l : Fin 256) (u _v d : FVec Ideal S128x256 .f32) : EReal := ∑ s : Fin 128, back x u d l s
/-- A chunk's part of the kept sum. -/
def keepTerm (r : Fin 128) (l : Fin 256) (u _v d : FVec Ideal S128x256 .f32) : EReal := due u d r l
/-- A chunk's part of the gradient of a mixing weight. -/
def mixTerm (g b : FVec Ideal S1x256 .f32) (h : Fin 4) (r s : Fin 128) (u v d : FVec Ideal S128x256 .f32) : EReal :=
  ∑ k : Fin 64, due u d r ⟨h.val * 64 + k.val, by omega⟩ * gate g b v s ⟨h.val * 64 + k.val, by omega⟩

/-- The arriving gradient as spelt. -/
theorem arrived_at (u d : FVec Ideal S128x256 .f32) (r : Fin 128) (l : Fin 256) : arrived u d (ix2 r l) = due u d r l := by
  pointwise [arrived, k0_pay35, k0_pay32, k0_pay33]
  rfl

/-- The gated rows as spelt. -/
theorem gates_at (g b : FVec Ideal S1x256 .f32) (v : FVec Ideal S128x256 .f32) (s : Fin 128) (l : Fin 256) : gates g b v (ix2 s l) = gate g b v s l := by
  pointwise [gates, k0_pay26, k0_pay27, k0_pay28, k0_pay29, k0_pay30]
  rfl

/-- Of the four heads' sums, the one of the lane's head. -/
theorem back_spelt (x : Vec Ideal S4x128x128 .f32) (u d : FVec Ideal S128x256 .f32) (l : Fin 256) (s : Fin 128) (f : Fin 4 → EReal)
    (hf : ∀ h, f h = ∑ r : Fin 128, Scalar.select (IntOp.cmpi CmpIPredicate.sle (BitVec.ofNat 32 s.val) (BitVec.ofNat 32 r.val)) (x (ix3 h s r) * due u d r l) 0) :
    Scalar.select (IntOp.cmpi CmpIPredicate.eq (BitVec.ofNat 32 (l.val / 64)) 0#32) (f 0) 0
      + Scalar.select (IntOp.cmpi CmpIPredicate.eq (BitVec.ofNat 32 (l.val / 64)) 1#32) (f 1) 0
      + Scalar.select (IntOp.cmpi CmpIPredicate.eq (BitVec.ofNat 32 (l.val / 64)) 2#32) (f 2) 0
      + Scalar.select (IntOp.cmpi CmpIPredicate.eq (BitVec.ofNat 32 (l.val / 64)) 3#32) (f 3) 0 = back x u d l s := by
  have h := Mixing.pick_head 0 f l
  rw [zero_add, zero_add] at h
  rw [h, hf]
  exact Finset.sum_congr rfl fun r _ => Mixing.select_order_le r s _

/-- What a chunk adds to the gain's gradient. -/
theorem gainStep_at (x : Vec Ideal S4x128x128 .f32) (l : Fin 256) (u v d : FVec Ideal S128x256 .f32) (acc : FVec Ideal S1x256 .f32) : gainStep x u v d acc (ix2 0 l) = acc (ix2 0 l) + gainTerm x l u v d := by
  pointwise [gainStep, k0_pay21, k0_pay22, k0_pay23, k0_pay24, k0_pay25, k0_pay26, k0_pay27, k0_pay28, k0_pay32, k0_pay33, k0_pay35, k0_pay37, k0_pay41, k0_pay43, k0_pay44, k0_pay46, k0_pay47, arrived_at, lane_at]
  exact congrArg (acc (ix2 0 l) + ·) (Finset.sum_congr rfl fun s _ => congrArg₂ (· * ·) (back_spelt x u d l s (fun h => ∑ r : Fin 128, Scalar.select (IntOp.cmpi CmpIPredicate.sle (BitVec.ofNat 32 s.val) (BitVec.ofNat 32 r.val)) (x (ix3 h s r) * due u d r l) 0) fun _ => rfl) rfl)

/-- What a chunk adds to the bias's gradient. -/
theorem biasStep_at (x : Vec Ideal S4x128x128 .f32) (l : Fin 256) (u v d : FVec Ideal S128x256 .f32) (acc : FVec Ideal S1x256 .f32) : biasStep x u v d acc (ix2 0 l) = acc (ix2 0 l) + biasTerm x l u v d := by
  pointwise [biasStep, k0_pay21, k0_pay22, k0_pay23, k0_pay24, k0_pay25, k0_pay32, k0_pay33, k0_pay35, k0_pay37, k0_pay41, k0_pay43, k0_pay44, k0_pay46, k0_pay48, arrived_at, lane_at]
  exact congrArg (acc (ix2 0 l) + ·) (Finset.sum_congr rfl fun s _ => back_spelt x u d l s (fun h => ∑ r : Fin 128, Scalar.select (IntOp.cmpi CmpIPredicate.sle (BitVec.ofNat 32 s.val) (BitVec.ofNat 32 r.val)) (x (ix3 h s r) * due u d r l) 0) fun _ => rfl)

/-- What a chunk adds to the kept sum. -/
theorem keepStep_at (r : Fin 128) (l : Fin 256) (u v d acc : FVec Ideal S128x256 .f32) : keepStep u v d acc (ix2 r l) = acc (ix2 r l) + keepTerm r l u v d := by
  pointwise [keepStep, k0_pay34, k0_pay32, k0_pay33]
  rfl

/-- What a chunk adds to head 0's gradient of the mixing weights. -/
theorem mixStep0_at (g b : FVec Ideal S1x256 .f32) (r s : Fin 128) (u v d : FVec Ideal S128x256 .f32) (acc : FVec Ideal S1x128x128 .f32) : mixStep0 g b u v d acc (ix3 0 r s) = acc (ix3 0 r s) + mixTerm g b 0 r s u v d := by
  pointwise [mixStep0, k0_pay36, k0_pay35, k0_pay32, k0_pay33, arrived_at, gates_at, lane_at]
  exact congrArg (acc (ix3 0 r s) + ·) (Mixing.sum_lanes 0 fun l => due u d r l * gate g b v s l)

/-- What a chunk adds to head 1's gradient of the mixing weights. -/
theorem mixStep1_at (g b : FVec Ideal S1x256 .f32) (r s : Fin 128) (u v d : FVec Ideal S128x256 .f32) (acc : FVec Ideal S1x128x128 .f32) : mixStep1 g b u v d acc (ix3 0 r s) = acc (ix3 0 r s) + mixTerm g b 1 r s u v d := by
  pointwise [mixStep1, k0_pay38, k0_pay39, k0_pay40, arrived_at, gates_at, lane_at]
  exact congrArg (acc (ix3 0 r s) + ·) (Mixing.sum_lanes 1 fun l => due u d r l * gate g b v s l)

/-- What a chunk adds to head 2's gradient of the mixing weights. -/
theorem mixStep2_at (g b : FVec Ideal S1x256 .f32) (r s : Fin 128) (u v d : FVec Ideal S128x256 .f32) (acc : FVec Ideal S1x128x128 .f32) : mixStep2 g b u v d acc (ix3 0 r s) = acc (ix3 0 r s) + mixTerm g b 2 r s u v d := by
  pointwise [mixStep2, k0_pay42, arrived_at, gates_at, lane_at]
  exact congrArg (acc (ix3 0 r s) + ·) (Mixing.sum_lanes 2 fun l => due u d r l * gate g b v s l)

/-- What a chunk adds to head 3's gradient of the mixing weights. -/
theorem mixStep3_at (g b : FVec Ideal S1x256 .f32) (r s : Fin 128) (u v d : FVec Ideal S128x256 .f32) (acc : FVec Ideal S1x128x128 .f32) : mixStep3 g b u v d acc (ix3 0 r s) = acc (ix3 0 r s) + mixTerm g b 3 r s u v d := by
  pointwise [mixStep3, k0_pay45, arrived_at, gates_at, lane_at]
  exact congrArg (acc (ix3 0 r s) + ·) (Mixing.sum_lanes 3 fun l => due u d r l * gate g b v s l)

/-- A chunk's rows of a tile. -/
def rows (x : Vec Ideal S1024x256 .f32) (k : Fin 8) : FVec Ideal S128x256 .f32 := fun i => x (ix2 ⟨k.val * 128 + (i 0).val, by have h : (i 0).val < 128 := (i 0).isLt; omega⟩ (i 1))

/-- A chunk's rows, as the body reads them. -/
theorem rows_eq (x : Vec Ideal S1024x256 .f32) (k : Fin 8) (o : ℕ) (ho : o = k.val * 128) (inb : ∀ a, (![o, 0] : Fin 2 → Nat) a + S128x256.size a ≤ S1024x256.size a) :
    View.ld x (Rect.unit (s := S1024x256) ![o, 0] S128x256.size inb) = rows x k := by
  funext i
  idx_vars i
  refine (View.ld_unit_apply_of x _ _ _ _ (ix2 ⟨o + i0, by omega⟩ i1) fun (a : Fin 2) => by
      fin_cases a
      · rfl
      · exact (Nat.zero_add _).symm).trans ?_
  subst ho
  rfl

/-- Going through a tile adds what its chunks add. -/
theorem through_sum {α : Type} (e : α → EReal) (f : FVec Ideal S128x256 .f32 → FVec Ideal S128x256 .f32 → FVec Ideal S128x256 .f32 → α → α) (T : FVec Ideal S128x256 .f32 → FVec Ideal S128x256 .f32 → FVec Ideal S128x256 .f32 → EReal)
    (hf : ∀ u v d a, e (f u v d a) = e a + T u v d) (u v d : Vec Ideal S1024x256 .f32) (a : α) :
    e (through f u v d a) = e a + ∑ k : Fin 8, T (rows u k) (rows v k) (rows d k) := by
  unfold through
  simp only [hf, rows_eq _ 0 0 rfl, rows_eq _ 1 128 rfl, rows_eq _ 2 256 rfl, rows_eq _ 3 384 rfl, rows_eq _ 4 512 rfl, rows_eq _ 5 640 rfl, rows_eq _ 6 768 rfl, rows_eq _ 7 896 rfl, Fin.sum_univ_eight, add_assoc]

/-- Where the windows' blocks lie at point `t`. -/
theorem placed : ∀ t : Fin cfg0.N, win0_0.index t = ![t.val, 0] ∧ win0_1.index t = ![t.val, 0] ∧ win0_2.index t = ![t.val, 0] ∧ win0_4.index t = ![0, 0, 0] ∧ win0_6.index t = ![0, 0] ∧ win0_7.index t = ![0, 0] ∧ win0_10.index t = ![0, 0, 0] ∧ win0_11.index t = ![0, 0, 0] ∧ win0_12.index t = ![0, 0] ∧ win0_13.index t = ![0, 0] :=
  (by decide +kernel : ∀ t : Fin grid0.N, _)

/-- A point's chunks are among the sixty-four. -/
theorem chunk_lt (t : Fin cfg0.N) (k : Fin 8) : t.val * 8 + k.val < 64 := by
  have := lt_of_lt_of_eq t.isLt N_0
  omega

/-- A chunk's rows of an array. -/
def rowsOf (X : FVec Ideal S8192x256 .f32) (q : Fin 64) : FVec Ideal S128x256 .f32 := fun i => X (ix2 ⟨q.val * 128 + (i 0).val, by have h : (i 0).val < 128 := (i 0).isLt; omega⟩ (i 1))
/-- The mixing weights, transposed. -/
def flip (W : FVec Ideal S4x128x128 .f32) : FVec Ideal S4x128x128 .f32 := fun i => W (ix3 (i 0) (i 2) (i 1))

/-- A chunk of input 0. -/
theorem rows_in0 (c : Dev nD) (t : Fin cfg0.N) (k : Fin 8) : rows (iblk m c 0 t) k = rowsOf (m (c.tc.loc main_arg0)) ⟨t.val * 8 + k.val, chunk_lt t k⟩ := by
  funext i
  idx_vars i
  show (iblk m c 0 t : Vec Ideal S1024x256 .f32) (ix2 ⟨k.val * 128 + i0.val, by omega⟩ i1) = (m (c.tc.loc main_arg0) : FVec Ideal S8192x256 .f32) (ix2 ⟨(t.val * 8 + k.val) * 128 + i0.val, by have := chunk_lt t k; omega⟩ i1)
  blk_ext [iblk, V, placed t]

/-- A chunk of input 1. -/
theorem rows_in1 (c : Dev nD) (t : Fin cfg0.N) (k : Fin 8) : rows (iblk m c 1 t) k = rowsOf (m (c.tc.loc main_arg1)) ⟨t.val * 8 + k.val, chunk_lt t k⟩ := by
  funext i
  idx_vars i
  show (iblk m c 1 t : Vec Ideal S1024x256 .f32) (ix2 ⟨k.val * 128 + i0.val, by omega⟩ i1) = (m (c.tc.loc main_arg1) : FVec Ideal S8192x256 .f32) (ix2 ⟨(t.val * 8 + k.val) * 128 + i0.val, by have := chunk_lt t k; omega⟩ i1)
  blk_ext [iblk, V, placed t]

/-- A chunk of input 2. -/
theorem rows_in2 (c : Dev nD) (t : Fin cfg0.N) (k : Fin 8) : rows (iblk m c 2 t) k = rowsOf (m (c.tc.loc main_arg2)) ⟨t.val * 8 + k.val, chunk_lt t k⟩ := by
  funext i
  idx_vars i
  show (iblk m c 2 t : Vec Ideal S1024x256 .f32) (ix2 ⟨k.val * 128 + i0.val, by omega⟩ i1) = (m (c.tc.loc main_arg2) : FVec Ideal S8192x256 .f32) (ix2 ⟨(t.val * 8 + k.val) * 128 + i0.val, by have := chunk_lt t k; omega⟩ i1)
  blk_ext [iblk, V, placed t]

/-- The weights, as prepared. -/
theorem weights (c : Dev nD) (t : Fin cfg0.N) : iblk m c 4 t = flip (m (c.tc.loc main_arg3)) := by
  have e : V m c main_v0 = (transpose S4x128x128 [0, 2, 1] (m (c.tc.loc main_arg3) : FVec Ideal S4x128x128 .f32) transposes_S4x128x128_S4x128x128_0_2_1 : FVec Ideal S4x128x128 .f32) := by
    simp only [V, hostOps0, List.flatten_cons, List.flatten_nil, List.append_nil, List.cons_append, List.nil_append]
    after_results_simp <;> rfl
  funext i
  idx_vars i
  have e' : (iblk m c 4 t : Vec Ideal S4x128x128 .f32) (ix3 i0 i1 i2) = V m c main_v0 (ix3 i0 i1 i2) := by
    blk_ext [iblk, placed t]
  refine e'.trans ?_
  rw [e]
  pointwise
  rfl

/-- The gain. -/
theorem gain_in (c : Dev nD) (t : Fin cfg0.N) : iblk m c 6 t = (m (c.tc.loc main_arg5) : FVec Ideal S1x256 .f32) := by
  funext i
  idx_vars i
  blk_ext [iblk, V, placed t]

/-- The bias. -/
theorem bias_in (c : Dev nD) (t : Fin cfg0.N) : iblk m c 7 t = (m (c.tc.loc main_arg6) : FVec Ideal S1x256 .f32) := by
  funext i
  idx_vars i
  blk_ext [iblk, V, placed t]

/-- A sum that every point adds its chunks' parts to is the sum of all the chunks' parts after the last. -/
theorem over_points (f : (n : ℕ) → n < cfg0.N → EReal) (T : Fin 64 → EReal)
    (h0 : ∀ t : Fin cfg0.N, t.val % 8 = 0 → f t.val t.isLt = 0 + ∑ k : Fin 8, T ⟨t.val * 8 + k.val, chunk_lt t k⟩)
    (hs : ∀ t : Fin cfg0.N, ¬t.val % 8 = 0 → f t.val t.isLt = f (t.val - 1) (Nat.lt_of_le_of_lt (Nat.sub_le _ _) t.isLt) + ∑ k : Fin 8, T ⟨t.val * 8 + k.val, chunk_lt t k⟩)
    (t : Fin cfg0.N) (ht : t.val % 8 = 7) : f t.val t.isLt = ∑ q : Fin 64, T q := by
  refine (Pipeline.eq_sum_fin_of_reset_step_apply_of_flush (fun n h (_ : Unit) => f n h) 8 (fun _ => 0) (fun n _ => ∑ k : Fin 8, T ⟨n.val * 8 + k.val, chunk_lt n k⟩)
    (fun t h _ => h0 t h) (fun t h _ => hs t h) t ht ()).trans ((zero_add _).trans (Fin.sum_mul_add_congr fun s k hl => congrArg T (Fin.ext ?_)))
  have := lt_of_lt_of_eq t.isLt N_0
  dsimp only
  omega

/-- The gain's gradient after the last point: every chunk's part. -/
theorem gain_total (c : Dev nD) (t : Fin cfg0.N) (ht : t.val % 8 = 7) (l : Fin 256) :
    (outsAt0 m c t.val t.isLt).2.2.2.2.1 (ix2 0 l) = ∑ q : Fin 64, gainTerm (flip (m (c.tc.loc main_arg3))) l (rowsOf (m (c.tc.loc main_arg0)) q) (rowsOf (m (c.tc.loc main_arg1)) q) (rowsOf (m (c.tc.loc main_arg2)) q) := by
  refine over_points (fun n h => (outsAt0 m c n h).2.2.2.2.1 (ix2 0 l)) _ (fun t h0 => ?_) (fun t h0 => ?_) t ht
  · refine (congrFun (gainA m c t h0 (by omega)) (ix2 0 l)).trans ((through_sum (fun a : FVec Ideal S1x256 .f32 => a (ix2 0 l)) _ _ (gainStep_at _ l) _ _ _ _).trans ?_)
    refine congrArg₂ (· + ·) (by pointwise [k0_pay12]) (Finset.sum_congr rfl fun k _ => ?_)
    rw [rows_in0, rows_in1, rows_in2, weights]
  · by_cases h1 : t.val % 8 = 7
    · refine (congrFun (gainC m c t h0 h1) (ix2 0 l)).trans ((through_sum (fun a : FVec Ideal S1x256 .f32 => a (ix2 0 l)) _ _ (gainStep_at _ l) _ _ _ _).trans (congrArg _ (Finset.sum_congr rfl fun k _ => ?_)))
      rw [rows_in0, rows_in1, rows_in2, weights]
    · refine (congrFun (gainB m c t h0 h1) (ix2 0 l)).trans ((through_sum (fun a : FVec Ideal S1x256 .f32 => a (ix2 0 l)) _ _ (gainStep_at _ l) _ _ _ _).trans (congrArg _ (Finset.sum_congr rfl fun k _ => ?_)))
      rw [rows_in0, rows_in1, rows_in2, weights]

/-- The bias's gradient after the last point: every chunk's part. -/
theorem bias_total (c : Dev nD) (t : Fin cfg0.N) (ht : t.val % 8 = 7) (l : Fin 256) :
    (outsAt0 m c t.val t.isLt).2.2.2.2.2.1 (ix2 0 l) = ∑ q : Fin 64, biasTerm (flip (m (c.tc.loc main_arg3))) l (rowsOf (m (c.tc.loc main_arg0)) q) (rowsOf (m (c.tc.loc main_arg1)) q) (rowsOf (m (c.tc.loc main_arg2)) q) := by
  refine over_points (fun n h => (outsAt0 m c n h).2.2.2.2.2.1 (ix2 0 l)) _ (fun t h0 => ?_) (fun t h0 => ?_) t ht
  · refine (congrFun (biasA m c t h0 (by omega)) (ix2 0 l)).trans ((through_sum (fun a : FVec Ideal S1x256 .f32 => a (ix2 0 l)) _ _ (biasStep_at _ l) _ _ _ _).trans ?_)
    refine congrArg₂ (· + ·) (by pointwise [k0_pay13]) (Finset.sum_congr rfl fun k _ => ?_)
    rw [rows_in0, rows_in1, rows_in2, weights]
  · by_cases h1 : t.val % 8 = 7
    · refine (congrFun (biasC m c t h0 h1) (ix2 0 l)).trans ((through_sum (fun a : FVec Ideal S1x256 .f32 => a (ix2 0 l)) _ _ (biasStep_at _ l) _ _ _ _).trans (congrArg _ (Finset.sum_congr rfl fun k _ => ?_)))
      rw [rows_in0, rows_in1, rows_in2, weights]
    · refine (congrFun (biasB m c t h0 h1) (ix2 0 l)).trans ((through_sum (fun a : FVec Ideal S1x256 .f32 => a (ix2 0 l)) _ _ (biasStep_at _ l) _ _ _ _).trans (congrArg _ (Finset.sum_congr rfl fun k _ => ?_)))
      rw [rows_in0, rows_in1, rows_in2, weights]

/-- The kept sum after the last point: every chunk's part. -/
theorem keep_total (c : Dev nD) (t : Fin cfg0.N) (ht : t.val % 8 = 7) (r : Fin 128) (l : Fin 256) :
    (outsAt0 m c t.val t.isLt).2.2.2.2.2.2 (ix2 r l) = ∑ q : Fin 64, keepTerm r l (rowsOf (m (c.tc.loc main_arg0)) q) (rowsOf (m (c.tc.loc main_arg1)) q) (rowsOf (m (c.tc.loc main_arg2)) q) := by
  refine over_points (fun n h => (outsAt0 m c n h).2.2.2.2.2.2 (ix2 r l)) _ (fun t h0 => ?_) (fun t h0 => ?_) t ht
  · refine (congrFun (keepA m c t h0 (by omega)) (ix2 r l)).trans ((through_sum (fun a : FVec Ideal S128x256 .f32 => a (ix2 r l)) _ _ (keepStep_at r l) _ _ _ _).trans ?_)
    refine congrArg₂ (· + ·) (by pointwise [k0_pay14]) (Finset.sum_congr rfl fun k _ => ?_)
    rw [rows_in0, rows_in1, rows_in2]
  · by_cases h1 : t.val % 8 = 7
    · refine (congrFun (keepC m c t h0 h1) (ix2 r l)).trans ((through_sum (fun a : FVec Ideal S128x256 .f32 => a (ix2 r l)) _ _ (keepStep_at r l) _ _ _ _).trans (congrArg _ (Finset.sum_congr rfl fun k _ => ?_)))
      rw [rows_in0, rows_in1, rows_in2]
    · refine (congrFun (keepB m c t h0 h1) (ix2 r l)).trans ((through_sum (fun a : FVec Ideal S128x256 .f32 => a (ix2 r l)) _ _ (keepStep_at r l) _ _ _ _).trans (congrArg _ (Finset.sum_congr rfl fun k _ => ?_)))
      rw [rows_in0, rows_in1, rows_in2]

/-- A head's block, read. -/
theorem wt_at (x : Vec Ideal S4x128x128 .f32) (k : ℕ) (hk : k < 4) (inb : ∀ a, (![k, 0, 0] : Fin 3 → Nat) a + S1x128x128.size a ≤ S4x128x128.size a) (r s : Fin 128) : wt x k inb (ix3 0 r s) = x (ix3 ⟨k, hk⟩ r s) :=
  View.ld_unit_apply_of x _ _ _ _ (ix3 ⟨k, hk⟩ r s) fun (a : Fin 3) => by
    fin_cases a
    · rfl
    · exact (Nat.zero_add _).symm
    · exact (Nat.zero_add _).symm

/-- Head 0's mask. -/
theorem mask0 (x : FVec Ideal S1x128x128 .f32) (r s : Fin 128) : k0_pay3 (F := Ideal) x (ix3 0 r s) = if s ≤ r then x (ix3 0 r s) else 0 := by
  pointwise [k0_pay3]
  exact Mixing.select_order r s _

/-- Head 0's gradient of the mixing weights after the last point: every chunk's part, masked. -/
theorem mix0_total (c : Dev nD) (t : Fin cfg0.N) (ht : t.val % 8 = 7) (r s : Fin 128) :
    (outsAt0 m c t.val t.isLt).2.2.1 (ix3 0 r s) = if s ≤ r then ∑ q : Fin 64, mixTerm (m (c.tc.loc main_arg5)) (m (c.tc.loc main_arg6)) 0 r s (rowsOf (m (c.tc.loc main_arg0)) q) (rowsOf (m (c.tc.loc main_arg1)) q) (rowsOf (m (c.tc.loc main_arg2)) q) else 0 := by
  by_cases hr : s ≤ r
  · rw [if_pos hr]
    refine over_points (fun n h => (outsAt0 m c n h).2.2.1 (ix3 0 r s)) _ (fun t h0 => ?_) (fun t h0 => ?_) t ht
    · refine (mix0A m c t h0 (by omega) r s).trans ((through_sum (fun a : FVec Ideal S1x128x128 .f32 => a (ix3 0 r s)) _ _ (mixStep0_at _ _ r s) _ _ _ _).trans ?_)
      refine congrArg₂ (· + ·) ((wt_at _ 0 (by decide) _ r s).trans (by pointwise [k0_pay11])) (Finset.sum_congr rfl fun k _ => ?_)
      rw [rows_in0, rows_in1, rows_in2, gain_in, bias_in]
    · by_cases h1 : t.val % 8 = 7
      · refine (mix0C m c t h0 h1 r s).trans ((mask0 _ r s).trans ((if_pos hr).trans ((through_sum (fun a : FVec Ideal S1x128x128 .f32 => a (ix3 0 r s)) _ _ (mixStep0_at _ _ r s) _ _ _ _).trans ?_)))
        refine congrArg₂ (· + ·) (wt_at _ 0 (by decide) _ r s) (Finset.sum_congr rfl fun k _ => ?_)
        rw [rows_in0, rows_in1, rows_in2, gain_in, bias_in]
      · refine (mix0B m c t h0 h1 r s).trans ((through_sum (fun a : FVec Ideal S1x128x128 .f32 => a (ix3 0 r s)) _ _ (mixStep0_at _ _ r s) _ _ _ _).trans ?_)
        refine congrArg₂ (· + ·) (wt_at _ 0 (by decide) _ r s) (Finset.sum_congr rfl fun k _ => ?_)
        rw [rows_in0, rows_in1, rows_in2, gain_in, bias_in]
  · rw [if_neg hr]
    exact (mix0C m c t (by omega) ht r s).trans ((mask0 _ r s).trans (if_neg hr))

/-- Head 1's mask. -/
theorem mask1 (x : FVec Ideal S1x128x128 .f32) (r s : Fin 128) : k0_pay5 (F := Ideal) x (ix3 0 r s) = if s ≤ r then x (ix3 0 r s) else 0 := by
  pointwise [k0_pay5]
  exact Mixing.select_order r s _

/-- Head 1's gradient of the mixing weights after the last point: every chunk's part, masked. -/
theorem mix1_total (c : Dev nD) (t : Fin cfg0.N) (ht : t.val % 8 = 7) (r s : Fin 128) :
    (outsAt0 m c t.val t.isLt).2.2.1 (ix3 1 r s) = if s ≤ r then ∑ q : Fin 64, mixTerm (m (c.tc.loc main_arg5)) (m (c.tc.loc main_arg6)) 1 r s (rowsOf (m (c.tc.loc main_arg0)) q) (rowsOf (m (c.tc.loc main_arg1)) q) (rowsOf (m (c.tc.loc main_arg2)) q) else 0 := by
  by_cases hr : s ≤ r
  · rw [if_pos hr]
    refine over_points (fun n h => (outsAt0 m c n h).2.2.1 (ix3 1 r s)) _ (fun t h0 => ?_) (fun t h0 => ?_) t ht
    · refine (mix1A m c t h0 (by omega) r s).trans ((through_sum (fun a : FVec Ideal S1x128x128 .f32 => a (ix3 0 r s)) _ _ (mixStep1_at _ _ r s) _ _ _ _).trans ?_)
      refine congrArg₂ (· + ·) ((wt_at _ 1 (by decide) _ r s).trans (by pointwise [k0_pay11])) (Finset.sum_congr rfl fun k _ => ?_)
      rw [rows_in0, rows_in1, rows_in2, gain_in, bias_in]
    · by_cases h1 : t.val % 8 = 7
      · refine (mix1C m c t h0 h1 r s).trans ((mask1 _ r s).trans ((if_pos hr).trans ((through_sum (fun a : FVec Ideal S1x128x128 .f32 => a (ix3 0 r s)) _ _ (mixStep1_at _ _ r s) _ _ _ _).trans ?_)))
        refine congrArg₂ (· + ·) (wt_at _ 1 (by decide) _ r s) (Finset.sum_congr rfl fun k _ => ?_)
        rw [rows_in0, rows_in1, rows_in2, gain_in, bias_in]
      · refine (mix1B m c t h0 h1 r s).trans ((through_sum (fun a : FVec Ideal S1x128x128 .f32 => a (ix3 0 r s)) _ _ (mixStep1_at _ _ r s) _ _ _ _).trans ?_)
        refine congrArg₂ (· + ·) (wt_at _ 1 (by decide) _ r s) (Finset.sum_congr rfl fun k _ => ?_)
        rw [rows_in0, rows_in1, rows_in2, gain_in, bias_in]
  · rw [if_neg hr]
    exact (mix1C m c t (by omega) ht r s).trans ((mask1 _ r s).trans (if_neg hr))

/-- Head 2's mask. -/
theorem mask2 (x : FVec Ideal S1x128x128 .f32) (r s : Fin 128) : k0_pay8 (F := Ideal) x (ix3 0 r s) = if s ≤ r then x (ix3 0 r s) else 0 := by
  pointwise [k0_pay8]
  exact Mixing.select_order r s _

/-- Head 2's gradient of the mixing weights after the last point: every chunk's part, masked. -/
theorem mix2_total (c : Dev nD) (t : Fin cfg0.N) (ht : t.val % 8 = 7) (r s : Fin 128) :
    (outsAt0 m c t.val t.isLt).2.2.1 (ix3 2 r s) = if s ≤ r then ∑ q : Fin 64, mixTerm (m (c.tc.loc main_arg5)) (m (c.tc.loc main_arg6)) 2 r s (rowsOf (m (c.tc.loc main_arg0)) q) (rowsOf (m (c.tc.loc main_arg1)) q) (rowsOf (m (c.tc.loc main_arg2)) q) else 0 := by
  by_cases hr : s ≤ r
  · rw [if_pos hr]
    refine over_points (fun n h => (outsAt0 m c n h).2.2.1 (ix3 2 r s)) _ (fun t h0 => ?_) (fun t h0 => ?_) t ht
    · refine (mix2A m c t h0 (by omega) r s).trans ((through_sum (fun a : FVec Ideal S1x128x128 .f32 => a (ix3 0 r s)) _ _ (mixStep2_at _ _ r s) _ _ _ _).trans ?_)
      refine congrArg₂ (· + ·) ((wt_at _ 2 (by decide) _ r s).trans (by pointwise [k0_pay11])) (Finset.sum_congr rfl fun k _ => ?_)
      rw [rows_in0, rows_in1, rows_in2, gain_in, bias_in]
    · by_cases h1 : t.val % 8 = 7
      · refine (mix2C m c t h0 h1 r s).trans ((mask2 _ r s).trans ((if_pos hr).trans ((through_sum (fun a : FVec Ideal S1x128x128 .f32 => a (ix3 0 r s)) _ _ (mixStep2_at _ _ r s) _ _ _ _).trans ?_)))
        refine congrArg₂ (· + ·) (wt_at _ 2 (by decide) _ r s) (Finset.sum_congr rfl fun k _ => ?_)
        rw [rows_in0, rows_in1, rows_in2, gain_in, bias_in]
      · refine (mix2B m c t h0 h1 r s).trans ((through_sum (fun a : FVec Ideal S1x128x128 .f32 => a (ix3 0 r s)) _ _ (mixStep2_at _ _ r s) _ _ _ _).trans ?_)
        refine congrArg₂ (· + ·) (wt_at _ 2 (by decide) _ r s) (Finset.sum_congr rfl fun k _ => ?_)
        rw [rows_in0, rows_in1, rows_in2, gain_in, bias_in]
  · rw [if_neg hr]
    exact (mix2C m c t (by omega) ht r s).trans ((mask2 _ r s).trans (if_neg hr))

/-- Head 3's mask. -/
theorem mask3 (x : FVec Ideal S1x128x128 .f32) (r s : Fin 128) : k0_pay1 (F := Ideal) k0_pay10 x (ix3 0 r s) = if s ≤ r then x (ix3 0 r s) else 0 := by
  pointwise [k0_pay1, k0_pay10]
  exact Mixing.select_order r s _

/-- Head 3's gradient of the mixing weights after the last point: every chunk's part, masked. -/
theorem mix3_total (c : Dev nD) (t : Fin cfg0.N) (ht : t.val % 8 = 7) (r s : Fin 128) :
    (outsAt0 m c t.val t.isLt).2.2.1 (ix3 3 r s) = if s ≤ r then ∑ q : Fin 64, mixTerm (m (c.tc.loc main_arg5)) (m (c.tc.loc main_arg6)) 3 r s (rowsOf (m (c.tc.loc main_arg0)) q) (rowsOf (m (c.tc.loc main_arg1)) q) (rowsOf (m (c.tc.loc main_arg2)) q) else 0 := by
  by_cases hr : s ≤ r
  · rw [if_pos hr]
    refine over_points (fun n h => (outsAt0 m c n h).2.2.1 (ix3 3 r s)) _ (fun t h0 => ?_) (fun t h0 => ?_) t ht
    · refine (mix3A m c t h0 (by omega) r s).trans ((through_sum (fun a : FVec Ideal S1x128x128 .f32 => a (ix3 0 r s)) _ _ (mixStep3_at _ _ r s) _ _ _ _).trans ?_)
      refine congrArg₂ (· + ·) ((wt_at _ 3 (by decide) _ r s).trans (by pointwise [k0_pay11])) (Finset.sum_congr rfl fun k _ => ?_)
      rw [rows_in0, rows_in1, rows_in2, gain_in, bias_in]
    · by_cases h1 : t.val % 8 = 7
      · refine (mix3C m c t h0 h1 r s).trans ((mask3 _ r s).trans ((if_pos hr).trans ((through_sum (fun a : FVec Ideal S1x128x128 .f32 => a (ix3 0 r s)) _ _ (mixStep3_at _ _ r s) _ _ _ _).trans ?_)))
        refine congrArg₂ (· + ·) (wt_at _ 3 (by decide) _ r s) (Finset.sum_congr rfl fun k _ => ?_)
        rw [rows_in0, rows_in1, rows_in2, gain_in, bias_in]
      · refine (mix3B m c t h0 h1 r s).trans ((through_sum (fun a : FVec Ideal S1x128x128 .f32 => a (ix3 0 r s)) _ _ (mixStep3_at _ _ r s) _ _ _ _).trans ?_)
        refine congrArg₂ (· + ·) (wt_at _ 3 (by decide) _ r s) (Finset.sum_congr rfl fun k _ => ?_)
        rw [rows_in0, rows_in1, rows_in2, gain_in, bias_in]
  · rw [if_neg hr]
    exact (mix3C m c t (by omega) ht r s).trans ((mask3 _ r s).trans (if_neg hr))

/-- Head 0's lane sum. -/
theorem lanes0 (x : FVec Ideal S128x256 .f32) (r : Fin 128) : k0_pay4 k0_pay15 x (ix3 0 r 0) = ∑ k : Fin 64, x (ix2 r ⟨((0 : Fin 4)).val * 64 + k.val, by omega⟩) := by
  pointwise [k0_pay4, lane_at]
  exact Mixing.sum_lanes 0 fun l => x (ix2 r l)

/-- Head 1's lane sum. -/
theorem lanes1 (x : FVec Ideal S128x256 .f32) (r : Fin 128) : k0_pay7 (k0_pay6 k0_pay15) x (ix3 0 r 0) = ∑ k : Fin 64, x (ix2 r ⟨((1 : Fin 4)).val * 64 + k.val, by omega⟩) := by
  pointwise [k0_pay6, k0_pay7, lane_at]
  exact Mixing.sum_lanes 1 fun l => x (ix2 r l)

/-- Head 2's lane sum. -/
theorem lanes2 (x : FVec Ideal S128x256 .f32) (r : Fin 128) : k0_pay9 k0_pay15 x (ix3 0 r 0) = ∑ k : Fin 64, x (ix2 r ⟨((2 : Fin 4)).val * 64 + k.val, by omega⟩) := by
  pointwise [k0_pay9, lane_at]
  exact Mixing.sum_lanes 2 fun l => x (ix2 r l)

/-- Head 3's lane sum. -/
theorem lanes3 (x : FVec Ideal S128x256 .f32) (r : Fin 128) : k0_pay2 k0_pay15 x (ix3 0 r 0) = ∑ k : Fin 64, x (ix2 r ⟨((3 : Fin 4)).val * 64 + k.val, by omega⟩) := by
  pointwise [k0_pay2, lane_at]
  exact Mixing.sum_lanes 3 fun l => x (ix2 r l)

/-- The gradient of the mixing weights: the run of points accumulates it and the last masks it. -/
theorem final0 (c : Dev nD) : (dats m 0 c).arrAt 10 cfg0.N = MixBBwdReferenceIdeal.Spec.result0 (m (c.tc.loc main_arg0)) (m (c.tc.loc main_arg1)) (m (c.tc.loc main_arg2)) (m (c.tc.loc main_arg3)) (m (c.tc.loc main_arg4)) (m (c.tc.loc main_arg5)) (m (c.tc.loc main_arg6)) := by
  refine (dats m 0 c).arrAt_eq_of_covers 10 _ (by decide +kernel) fun t hf y => ?_
  blk_simp
  idx_vars y
  have ht := (flush0_10 t).mp hf
  rw [after0_10]
  have e : (((View.whole main_v4_2).slice (win0_10.rect t)).emb (ix3 y0 y1 y2) : S4x128x128.Idx) = ix3 y0 y1 y2 := by blk_ext [placed t]
  rw [e]
  refine Eq.trans ?_ (MixBBwdReferenceIdeal.Spec.result0_at _ _ _ _ _ _ _ y0 y1 y2).symm
  have hm : (outsAt0 m c t.val t.isLt).2.2.1 (ix3 y0 y1 y2) = if y2 ≤ y1 then ∑ q : Fin 64, mixTerm (m (c.tc.loc main_arg5)) (m (c.tc.loc main_arg6)) y0 y1 y2 (rowsOf (m (c.tc.loc main_arg0)) q) (rowsOf (m (c.tc.loc main_arg1)) q) (rowsOf (m (c.tc.loc main_arg2)) q) else 0 := by
    fin_cases y0
    · exact mix0_total m c t ht y1 y2
    · exact mix1_total m c t ht y1 y2
    · exact mix2_total m c t ht y1 y2
    · exact mix3_total m c t ht y1 y2
  refine hm.trans (congrArg (fun x : EReal => if y2 ≤ y1 then x else 0) ?_)
  rw [MixBBwdReferenceIdeal.Spec.unmasked_at]
  refine Finset.sum_congr rfl fun q _ => Finset.sum_congr rfl fun k _ => ?_
  rw [MixBFwdReferenceIdeal.Spec.gated_at]
  rfl

/-- The gradient of the mixing bias: the last point sums the lanes of what the run of points kept. -/
theorem final1 (c : Dev nD) : (dats m 0 c).arrAt 11 cfg0.N = MixBBwdReferenceIdeal.Spec.result1 (m (c.tc.loc main_arg0)) (m (c.tc.loc main_arg1)) (m (c.tc.loc main_arg2)) (m (c.tc.loc main_arg3)) (m (c.tc.loc main_arg4)) (m (c.tc.loc main_arg5)) (m (c.tc.loc main_arg6)) := by
  refine (dats m 0 c).arrAt_eq_of_covers 11 _ (by decide +kernel) fun t hf y => ?_
  blk_simp
  idx_vars y
  have ht := (flush0_11 t).mp hf
  rw [after0_11]
  have e : (((View.whole main_v4_3).slice (win0_11.rect t)).emb (ix3 y0 y1 y2) : S4x128x1.Idx) = ix3 y0 y1 y2 := by blk_ext [placed t]
  rw [e]
  obtain rfl : y2 = 0 := Subsingleton.elim _ _
  refine Eq.trans ?_ (MixBBwdReferenceIdeal.Spec.result1_at _ _ _ _ _ _ _ y0 y1).symm
  have hm : (outsAt0 m c t.val t.isLt).2.2.2.1 (ix3 y0 y1 0) = ∑ k : Fin 64, (outsAt0 m c t.val t.isLt).2.2.2.2.2.2 (ix2 y1 ⟨y0.val * 64 + k.val, by omega⟩) := by
    fin_cases y0
    · exact (lead0 m c t (by omega) ht y1).trans (lanes0 _ y1)
    · exact (lead1 m c t (by omega) ht y1).trans (lanes1 _ y1)
    · exact (lead2 m c t (by omega) ht y1).trans (lanes2 _ y1)
    · exact (lead3 m c t (by omega) ht y1).trans (lanes3 _ y1)
  refine hm.trans ?_
  rw [Finset.sum_comm]
  refine Finset.sum_congr rfl fun k _ => ?_
  exact keep_total m c t ht y1 _

/-- The gain's gradient: the run of points accumulates it. -/
theorem final2 (c : Dev nD) : (dats m 0 c).arrAt 12 cfg0.N = MixBBwdReferenceIdeal.Spec.result2 (m (c.tc.loc main_arg0)) (m (c.tc.loc main_arg1)) (m (c.tc.loc main_arg2)) (m (c.tc.loc main_arg3)) (m (c.tc.loc main_arg4)) (m (c.tc.loc main_arg5)) (m (c.tc.loc main_arg6)) := by
  refine (dats m 0 c).arrAt_eq_of_covers 12 _ (by decide +kernel) fun t hf y => ?_
  blk_simp
  idx_vars y
  have ht := (flush0_12 t).mp hf
  rw [after0_12]
  have e : (((View.whole main_v4_4).slice (win0_12.rect t)).emb (ix2 y0 y1) : S1x256.Idx) = ix2 y0 y1 := by blk_ext [placed t]
  rw [e]
  obtain rfl : y0 = 0 := Subsingleton.elim _ _
  refine (gain_total m c t ht y1).trans (Eq.trans ?_ (MixBBwdReferenceIdeal.Spec.result2_at _ _ _ _ _ _ _ y1).symm)
  refine Fin.sum_mul_add_congr fun q s hl => ?_
  rw [MixBBwdReferenceIdeal.Spec.back_at, MixBBwdReferenceIdeal.Spec.normal_at]
  rfl

/-- The bias's gradient: the run of points accumulates it. -/
theorem final3 (c : Dev nD) : (dats m 0 c).arrAt 13 cfg0.N = MixBBwdReferenceIdeal.Spec.result3 (m (c.tc.loc main_arg0)) (m (c.tc.loc main_arg1)) (m (c.tc.loc main_arg2)) (m (c.tc.loc main_arg3)) (m (c.tc.loc main_arg4)) (m (c.tc.loc main_arg5)) (m (c.tc.loc main_arg6)) := by
  refine (dats m 0 c).arrAt_eq_of_covers 13 _ (by decide +kernel) fun t hf y => ?_
  blk_simp
  idx_vars y
  have ht := (flush0_13 t).mp hf
  rw [after0_13]
  have e : (((View.whole main_v4_5).slice (win0_13.rect t)).emb (ix2 y0 y1) : S1x256.Idx) = ix2 y0 y1 := by blk_ext [placed t]
  rw [e]
  obtain rfl : y0 = 0 := Subsingleton.elim _ _
  refine (bias_total m c t ht y1).trans (Eq.trans ?_ (MixBBwdReferenceIdeal.Spec.result3_at _ _ _ _ _ _ _ y1).symm)
  refine Fin.sum_mul_add_congr fun q s hl => ?_
  rw [MixBBwdReferenceIdeal.Spec.back_at]
  rfl

end Cert.MixBBwdIdeal.Val

namespace Cert.Proof.MixBBwd

/-- The frame of the kernel. -/
theorem frameKernel : quiescent_MixBBwd (hMixBBwd := MixBBwd.Gen.facts) :=
  fun m ρ _ => MixBBwd.Gen.frame m ρ

/-- The frame of its idealization. -/
theorem frameIdeal : quiescent_MixBBwdIdeal (hMixBBwdIdeal := MixBBwdIdeal.Gen.facts) :=
  fun m ρ _ => MixBBwdIdeal.Gen.frame m ρ

/-- The frame of the reference. -/
theorem frameReference : quiescent_MixBBwdReferenceIdeal (hMixBBwdReferenceIdeal := MixBBwdReferenceIdeal.Gen.facts) :=
  fun m ρ _ => (θ_run MixBBwdReferenceIdeal.defs _ _).mono
    (fun r h => ⟨fun c => (h c).2.2.2.2, sem_eq_zero_of_no_sems (by decide) r.2⟩)
    (MixBBwdReferenceIdeal.Value.run (F := Ideal) m ρ)

/-- The kernel computes the four gradients of the second mixer. -/
theorem algebraic : algebraic_MixBBwdIdeal_MixBBwdReferenceIdeal (hMixBBwdIdeal := MixBBwdIdeal.Gen.facts)
    (hMixBBwdReferenceIdeal := MixBBwdReferenceIdeal.Gen.facts) :=
  fun m ρ m' ρ' _ hag => ⟨_, _, _, _,
    (θ_run MixBBwdIdeal.defs _ _).mono (fun _ h c => ⟨(h c).2.2.1.trans (MixBBwdIdeal.Val.final0 m c), (h c).2.2.2.1.trans (MixBBwdIdeal.Val.final1 m c), (h c).2.2.2.2.1.trans (MixBBwdIdeal.Val.final2 m c), (h c).2.2.2.2.2.1.trans (MixBBwdIdeal.Val.final3 m c), (h c).2.2.2.2.2.2⟩)
      (MixBBwdIdeal.Value.run_blocks (F := Ideal) m ρ),
    (θ_run MixBBwdReferenceIdeal.defs _ _).mono (fun _ h c => ⟨(h c).1.trans (by rw [← (hag c).1, ← (hag c).2.1, ← (hag c).2.2.1, ← (hag c).2.2.2.1, ← (hag c).2.2.2.2.1, ← (hag c).2.2.2.2.2.1, ← (hag c).2.2.2.2.2.2]; rfl), (h c).2.1.trans (by rw [← (hag c).1, ← (hag c).2.1, ← (hag c).2.2.1, ← (hag c).2.2.2.1, ← (hag c).2.2.2.2.1, ← (hag c).2.2.2.2.2.1, ← (hag c).2.2.2.2.2.2]; rfl), (h c).2.2.1.trans (by rw [← (hag c).1, ← (hag c).2.1, ← (hag c).2.2.1, ← (hag c).2.2.2.1, ← (hag c).2.2.2.2.1, ← (hag c).2.2.2.2.2.1, ← (hag c).2.2.2.2.2.2]; rfl), (h c).2.2.2.1.trans (by rw [← (hag c).1, ← (hag c).2.1, ← (hag c).2.2.1, ← (hag c).2.2.2.1, ← (hag c).2.2.2.2.1, ← (hag c).2.2.2.2.2.1, ← (hag c).2.2.2.2.2.2]; rfl), (h c).2.2.2.2⟩)
      (MixBBwdReferenceIdeal.Value.run (F := Ideal) m' ρ')⟩

end Cert.Proof.MixBBwd
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.FfHidden
public import proofs.«01_k».proof.Proof.Gen.FfHidden.Skeleton
public import proofs.«01_k».proof.Proof.Gen.FfHidden.Launch
public import proofs.«01_k».proof.Proof.Gen.FfHidden.Points
public import proofs.«01_k».proof.Proof.Gen.FfHidden.Frame
public import proofs.«01_k».proof.Proof.Gen.FfHiddenIdeal
public import proofs.«01_k».proof.Proof.Gen.FfHiddenIdeal.Skeleton
public import proofs.«01_k».proof.Proof.Gen.FfHiddenIdeal.Launch
public import proofs.«01_k».proof.Proof.Gen.FfHiddenIdeal.Points
public import proofs.«01_k».proof.Proof.Gen.FfHiddenIdeal.Frame
public import proofs.«01_k».proof.Proof.Gen.FfHiddenIdeal.Value
public import proofs.«01_k».proof.Proof.Gen.WFf2
public import proofs.«01_k».proof.Proof.Gen.WFf2.Skeleton
public import proofs.«01_k».proof.Proof.Gen.WFf2.Launch
public import proofs.«01_k».proof.Proof.Gen.WFf2.Points
public import proofs.«01_k».proof.Proof.Gen.WFf2.Frame
public import proofs.«01_k».proof.Proof.Gen.WFf2Ideal
public import proofs.«01_k».proof.Proof.Gen.WFf2Ideal.Skeleton
public import proofs.«01_k».proof.Proof.Gen.WFf2Ideal.Launch
public import proofs.«01_k».proof.Proof.Gen.WFf2Ideal.Points
public import proofs.«01_k».proof.Proof.Gen.WFf2Ideal.Frame
public import proofs.«01_k».proof.Proof.Gen.WFf2Ideal.Value
public import proofs.«01_k».proof.Proof.Gen.WFf1
public import proofs.«01_k».proof.Proof.Gen.WFf1.Skeleton
public import proofs.«01_k».proof.Proof.Gen.WFf1.Launch
public import proofs.«01_k».proof.Proof.Gen.WFf1.Points
public import proofs.«01_k».proof.Proof.Gen.WFf1.Frame
public import proofs.«01_k».proof.Proof.Gen.WFf1Ideal
public import proofs.«01_k».proof.Proof.Gen.WFf1Ideal.Skeleton
public import proofs.«01_k».proof.Proof.Gen.WFf1Ideal.Launch
public import proofs.«01_k».proof.Proof.Gen.WFf1Ideal.Points
public import proofs.«01_k».proof.Proof.Gen.WFf1Ideal.Frame
public import proofs.«01_k».proof.Proof.Gen.WFf1Ideal.Value
public import proofs.«01_k».proof.Proof.Gen.WO
public import proofs.«01_k».proof.Proof.Gen.WO.Skeleton
public import proofs.«01_k».proof.Proof.Gen.WO.Launch
public import proofs.«01_k».proof.Proof.Gen.WO.Points
public import proofs.«01_k».proof.Proof.Gen.WO.Frame
public import proofs.«01_k».proof.Proof.Gen.WOIdeal
public import proofs.«01_k».proof.Proof.Gen.WOIdeal.Skeleton
public import proofs.«01_k».proof.Proof.Gen.WOIdeal.Launch
public import proofs.«01_k».proof.Proof.Gen.WOIdeal.Points
public import proofs.«01_k».proof.Proof.Gen.WOIdeal.Frame
public import proofs.«01_k».proof.Proof.Gen.WOIdeal.Value
public import proofs.«01_k».proof.Proof.Gen.WKv
public import proofs.«01_k».proof.Proof.Gen.WKv.Skeleton
public import proofs.«01_k».proof.Proof.Gen.WKv.Launch
public import proofs.«01_k».proof.Proof.Gen.WKv.Points
public import proofs.«01_k».proof.Proof.Gen.WKv.Frame
public import proofs.«01_k».proof.Proof.Gen.WKvIdeal
public import proofs.«01_k».proof.Proof.Gen.WKvIdeal.Skeleton
public import proofs.«01_k».proof.Proof.Gen.WKvIdeal.Launch
public import proofs.«01_k».proof.Proof.Gen.WKvIdeal.Points
public import proofs.«01_k».proof.Proof.Gen.WKvIdeal.Frame
public import proofs.«01_k».proof.Proof.Gen.WKvIdeal.Value
public import proofs.«01_k».proof.Proof.Gen.AttOut
public import proofs.«01_k».proof.Proof.Gen.AttOut.Skeleton
public import proofs.«01_k».proof.Proof.Gen.AttOut.Launch
public import proofs.«01_k».proof.Proof.Gen.AttOut.Points
public import proofs.«01_k».proof.Proof.Gen.AttOut.Frame
public import proofs.«01_k».proof.Proof.Gen.AttOutIdeal
public import proofs.«01_k».proof.Proof.Gen.AttOutIdeal.Skeleton
public import proofs.«01_k».proof.Proof.Gen.AttOutIdeal.Launch
public import proofs.«01_k».proof.Proof.Gen.AttOutIdeal.Points
public import proofs.«01_k».proof.Proof.Gen.AttOutIdeal.Frame
public import proofs.«01_k».proof.Proof.Gen.AttOutIdeal.Value
public import proofs.«01_k».proof.Proof.Gen.MixerOut
public import proofs.«01_k».proof.Proof.Gen.MixerOut.Skeleton
public import proofs.«01_k».proof.Proof.Gen.MixerOut.Launch
public import proofs.«01_k».proof.Proof.Gen.MixerOut.Points
public import proofs.«01_k».proof.Proof.Gen.MixerOut.Frame
public import proofs.«01_k».proof.Proof.Gen.MixerOutIdeal
public import proofs.«01_k».proof.Proof.Gen.MixerOutIdeal.Skeleton
public import proofs.«01_k».proof.Proof.Gen.MixerOutIdeal.Launch
public import proofs.«01_k».proof.Proof.Gen.MixerOutIdeal.Points
public import proofs.«01_k».proof.Proof.Gen.MixerOutIdeal.Frame
public import proofs.«01_k».proof.Proof.Gen.MixerOutIdeal.Value
public import proofs.«01_k».proof.Proof.Gen.X2Ln2
public import proofs.«01_k».proof.Proof.Gen.X2Ln2.Skeleton
public import proofs.«01_k».proof.Proof.Gen.X2Ln2.Launch
public import proofs.«01_k».proof.Proof.Gen.X2Ln2.Points
public import proofs.«01_k».proof.Proof.Gen.X2Ln2.Frame
public import proofs.«01_k».proof.Proof.Gen.X2Ln2Ideal
public import proofs.«01_k».proof.Proof.Gen.X2Ln2Ideal.Skeleton
public import proofs.«01_k».proof.Proof.Gen.X2Ln2Ideal.Launch
public import proofs.«01_k».proof.Proof.Gen.X2Ln2Ideal.Points
public import proofs.«01_k».proof.Proof.Gen.X2Ln2Ideal.Frame
public import proofs.«01_k».proof.Proof.Gen.X2Ln2Ideal.Value
public import proofs.«01_k».proof.Proof.Gen.X1Ln1
public import proofs.«01_k».proof.Proof.Gen.X1Ln1.Skeleton
public import proofs.«01_k».proof.Proof.Gen.X1Ln1.Launch
public import proofs.«01_k».proof.Proof.Gen.X1Ln1.Points
public import proofs.«01_k».proof.Proof.Gen.X1Ln1.Frame
public import proofs.«01_k».proof.Proof.Gen.X1Ln1Ideal
public import proofs.«01_k».proof.Proof.Gen.X1Ln1Ideal.Skeleton
public import proofs.«01_k».proof.Proof.Gen.X1Ln1Ideal.Launch
public import proofs.«01_k».proof.Proof.Gen.X1Ln1Ideal.Points
public import proofs.«01_k».proof.Proof.Gen.X1Ln1Ideal.Frame
public import proofs.«01_k».proof.Proof.Gen.X1Ln1Ideal.Value
public import proofs.«01_k».proof.Proof.Gen.X0Ln3
public import proofs.«01_k».proof.Proof.Gen.X0Ln3.Skeleton
public import proofs.«01_k».proof.Proof.Gen.X0Ln3.Launch
public import proofs.«01_k».proof.Proof.Gen.X0Ln3.Points
public import proofs.«01_k».proof.Proof.Gen.X0Ln3.Frame
public import proofs.«01_k».proof.Proof.Gen.X0Ln3Ideal
public import proofs.«01_k».proof.Proof.Gen.X0Ln3Ideal.Skeleton
public import proofs.«01_k».proof.Proof.Gen.X0Ln3Ideal.Launch
public import proofs.«01_k».proof.Proof.Gen.X0Ln3Ideal.Points
public import proofs.«01_k».proof.Proof.Gen.X0Ln3Ideal.Frame
public import proofs.«01_k».proof.Proof.Gen.X0Ln3Ideal.Value
public import proofs.«01_k».proof.Proof.Gen.X0
public import proofs.«01_k».proof.Proof.Gen.X0.Skeleton
public import proofs.«01_k».proof.Proof.Gen.X0.Launch
public import proofs.«01_k».proof.Proof.Gen.X0.Points
public import proofs.«01_k».proof.Proof.Gen.X0.Frame
public import proofs.«01_k».proof.Proof.Gen.X0Ideal
public import proofs.«01_k».proof.Proof.Gen.X0Ideal.Skeleton
public import proofs.«01_k».proof.Proof.Gen.X0Ideal.Launch
public import proofs.«01_k».proof.Proof.Gen.X0Ideal.Points
public import proofs.«01_k».proof.Proof.Gen.X0Ideal.Frame
public import proofs.«01_k».proof.Proof.Gen.X0Ideal.Value
public import proofs.«01_k».proof.Proof.Gen.WIn
public import proofs.«01_k».proof.Proof.Gen.WIn.Skeleton
public import proofs.«01_k».proof.Proof.Gen.WIn.Launch
public import proofs.«01_k».proof.Proof.Gen.WIn.Points
public import proofs.«01_k».proof.Proof.Gen.WIn.Frame
public import proofs.«01_k».proof.Proof.Gen.WInIdeal
public import proofs.«01_k».proof.Proof.Gen.WInIdeal.Skeleton
public import proofs.«01_k».proof.Proof.Gen.WInIdeal.Launch
public import proofs.«01_k».proof.Proof.Gen.WInIdeal.Points
public import proofs.«01_k».proof.Proof.Gen.WInIdeal.Frame
public import proofs.«01_k».proof.Proof.Gen.WInIdeal.Value
public import proofs.«01_k».proof.Proof.Gen.WOut
public import proofs.«01_k».proof.Proof.Gen.WOut.Skeleton
public import proofs.«01_k».proof.Proof.Gen.WOut.Launch
public import proofs.«01_k».proof.Proof.Gen.WOut.Points
public import proofs.«01_k».proof.Proof.Gen.WOut.Frame
public import proofs.«01_k».proof.Proof.Gen.WOutIdeal
public import proofs.«01_k».proof.Proof.Gen.WOutIdeal.Skeleton
public import proofs.«01_k».proof.Proof.Gen.WOutIdeal.Launch
public import proofs.«01_k».proof.Proof.Gen.WOutIdeal.Points
public import proofs.«01_k».proof.Proof.Gen.WOutIdeal.Frame
public import proofs.«01_k».proof.Proof.Gen.WOutIdeal.Value
public import proofs.«01_k».proof.Proof.Gen.LossLn3
public import proofs.«01_k».proof.Proof.Gen.LossLn3.Skeleton
public import proofs.«01_k».proof.Proof.Gen.LossLn3.Launch
public import proofs.«01_k».proof.Proof.Gen.LossLn3.Points
public import proofs.«01_k».proof.Proof.Gen.LossLn3.Frame
public import proofs.«01_k».proof.Proof.Gen.LossLn3Ideal
public import proofs.«01_k».proof.Proof.Gen.LossLn3Ideal.Skeleton
public import proofs.«01_k».proof.Proof.Gen.LossLn3Ideal.Launch
public import proofs.«01_k».proof.Proof.Gen.LossLn3Ideal.Points
public import proofs.«01_k».proof.Proof.Gen.LossLn3Ideal.Frame
public import proofs.«01_k».proof.Proof.Gen.LossLn3Ideal.Value
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.QProj
public import proofs.«01_k».proof.Proof.Gen.QProj.Skeleton
public import proofs.«01_k».proof.Proof.Gen.QProj.Launch
public import proofs.«01_k».proof.Proof.Gen.QProj.Points
public import proofs.«01_k».proof.Proof.Gen.QProj.Frame
public import proofs.«01_k».proof.Proof.Gen.QProjIdeal
public import proofs.«01_k».proof.Proof.Gen.QProjIdeal.Skeleton
public import proofs.«01_k».proof.Proof.Gen.QProjIdeal.Launch
public import proofs.«01_k».proof.Proof.Gen.QProjIdeal.Points
public import proofs.«01_k».proof.Proof.Gen.QProjIdeal.Frame
public import proofs.«01_k».proof.Proof.Gen.QProjIdeal.Value
public import proofs.«01_k».proof.Proof.Gen.KvProj
public import proofs.«01_k».proof.Proof.Gen.KvProj.Skeleton
public import proofs.«01_k».proof.Proof.Gen.KvProj.Launch
public import proofs.«01_k».proof.Proof.Gen.KvProj.Points
public import proofs.«01_k».proof.Proof.Gen.KvProj.Frame
public import proofs.«01_k».proof.Proof.Gen.KvProjIdeal
public import proofs.«01_k».proof.Proof.Gen.KvProjIdeal.Skeleton
public import proofs.«01_k».proof.Proof.Gen.KvProjIdeal.Launch
public import proofs.«01_k».proof.Proof.Gen.KvProjIdeal.Points
public import proofs.«01_k».proof.Proof.Gen.KvProjIdeal.Frame
public import proofs.«01_k».proof.Proof.Gen.KvProjIdeal.Value
public import proofs.«01_k».proof.Proof.Gen.Ff1
public import proofs.«01_k».proof.Proof.Gen.Ff1.Skeleton
public import proofs.«01_k».proof.Proof.Gen.Ff1.Launch
public import proofs.«01_k».proof.Proof.Gen.Ff1.Points
public import proofs.«01_k».proof.Proof.Gen.Ff1.Frame
public import proofs.«01_k».proof.Proof.Gen.Ff1Ideal
public import proofs.«01_k».proof.Proof.Gen.Ff1Ideal.Skeleton
public import proofs.«01_k».proof.Proof.Gen.Ff1Ideal.Launch
public import proofs.«01_k».proof.Proof.Gen.Ff1Ideal.Points
public import proofs.«01_k».proof.Proof.Gen.Ff1Ideal.Frame
public import proofs.«01_k».proof.Proof.Gen.Ff1Ideal.Value
public import proofs.«01_k».proof.Proof.Gen.OLn
public import proofs.«01_k».proof.Proof.Gen.OLn.Skeleton
public import proofs.«01_k».proof.Proof.Gen.OLn.Launch
public import proofs.«01_k».proof.Proof.Gen.OLn.Points
public import proofs.«01_k».proof.Proof.Gen.OLn.Frame
public import proofs.«01_k».proof.Proof.Gen.OLnIdeal
public import proofs.«01_k».proof.Proof.Gen.OLnIdeal.Skeleton
public import proofs.«01_k».proof.Proof.Gen.OLnIdeal.Launch
public import proofs.«01_k».proof.Proof.Gen.OLnIdeal.Points
public import proofs.«01_k».proof.Proof.Gen.OLnIdeal.Frame
public import proofs.«01_k».proof.Proof.Gen.OLnIdeal.Value
public import proofs.«01_k».proof.Proof.Gen.Ff2Ln
public import proofs.«01_k».proof.Proof.Gen.Ff2Ln.Skeleton
public import proofs.«01_k».proof.Proof.Gen.Ff2Ln.Launch
public import proofs.«01_k».proof.Proof.Gen.Ff2Ln.Points
public import proofs.«01_k».proof.Proof.Gen.Ff2Ln.Frame
public import proofs.«01_k».proof.Proof.Gen.Ff2LnIdeal
public import proofs.«01_k».proof.Proof.Gen.Ff2LnIdeal.Skeleton
public import proofs.«01_k».proof.Proof.Gen.Ff2LnIdeal.Launch
public import proofs.«01_k».proof.Proof.Gen.Ff2LnIdeal.Points
public import proofs.«01_k».proof.Proof.Gen.Ff2LnIdeal.Frame
public import proofs.«01_k».proof.Proof.Gen.Ff2LnIdeal.Value
public import proofs.«01_k».proof.Proof.Gen.OutLn
public import proofs.«01_k».proof.Proof.Gen.OutLn.Skeleton
public import proofs.«01_k».proof.Proof.Gen.OutLn.Launch
public import proofs.«01_k».proof.Proof.Gen.OutLn.Points
public import proofs.«01_k».proof.Proof.Gen.OutLn.Frame
public import proofs.«01_k».proof.Proof.Gen.OutLnIdeal
public import proofs.«01_k».proof.Proof.Gen.OutLnIdeal.Skeleton
public import proofs.«01_k».proof.Proof.Gen.OutLnIdeal.Launch
public import proofs.«01_k».proof.Proof.Gen.OutLnIdeal.Points
public import proofs.«01_k».proof.Proof.Gen.OutLnIdeal.Frame
public import proofs.«01_k».proof.Proof.Gen.OutLnIdeal.Value
public import proofs.«01_k».proof.Proof.Gen.OutLn0
public import proofs.«01_k».proof.Proof.Gen.OutLn0.Skeleton
public import proofs.«01_k».proof.Proof.Gen.OutLn0.Launch
public import proofs.«01_k».proof.Proof.Gen.OutLn0.Points
public import proofs.«01_k».proof.Proof.Gen.OutLn0.Frame
public import proofs.«01_k».proof.Proof.Gen.OutLn0Ideal
public import proofs.«01_k».proof.Proof.Gen.OutLn0Ideal.Skeleton
public import proofs.«01_k».proof.Proof.Gen.OutLn0Ideal.Launch
public import proofs.«01_k».proof.Proof.Gen.OutLn0Ideal.Points
public import proofs.«01_k».proof.Proof.Gen.OutLn0Ideal.Frame
public import proofs.«01_k».proof.Proof.Gen.OutLn0Ideal.Value
public import proofs.«01_k».proof.Proof.Gen.AttFwd
public import proofs.«01_k».proof.Proof.Gen.AttFwd.Skeleton
public import proofs.«01_k».proof.Proof.Gen.AttFwd.Launch
public import proofs.«01_k».proof.Proof.Gen.AttFwd.Points
public import proofs.«01_k».proof.Proof.Gen.AttFwd.Frame
public import proofs.«01_k».proof.Proof.Gen.AttFwdIdeal
public import proofs.«01_k».proof.Proof.Gen.AttFwdIdeal.Skeleton
public import proofs.«01_k».proof.Proof.Gen.AttFwdIdeal.Launch
public import proofs.«01_k».proof.Proof.Gen.AttFwdIdeal.Points
public import proofs.«01_k».proof.Proof.Gen.AttFwdIdeal.Frame
public import proofs.«01_k».proof.Proof.Gen.AttFwdIdeal.Value
public import proofs.«01_k».proof.Proof.Gen.MixCBwd
public import proofs.«01_k».proof.Proof.Gen.MixCBwd.Skeleton
public import proofs.«01_k».proof.Proof.Gen.MixCBwd.Launch
public import proofs.«01_k».proof.Proof.Gen.MixCBwd.Points
public import proofs.«01_k».proof.Proof.Gen.MixCBwd.Frame
public import proofs.«01_k».proof.Proof.Gen.MixCBwdIdeal
public import proofs.«01_k».proof.Proof.Gen.MixCBwdIdeal.Skeleton
public import proofs.«01_k».proof.Proof.Gen.MixCBwdIdeal.Launch
public import proofs.«01_k».proof.Proof.Gen.MixCBwdIdeal.Points
public import proofs.«01_k».proof.Proof.Gen.MixCBwdIdeal.Frame
public import proofs.«01_k».proof.Proof.Gen.MixCFwd
public import proofs.«01_k».proof.Proof.Gen.MixCFwd.Skeleton
public import proofs.«01_k».proof.Proof.Gen.MixCFwd.Launch
public import proofs.«01_k».proof.Proof.Gen.MixCFwd.Points
public import proofs.«01_k».proof.Proof.Gen.MixCFwd.Frame
public import proofs.«01_k».proof.Proof.Gen.MixCFwdIdeal
public import proofs.«01_k».proof.Proof.Gen.MixCFwdIdeal.Skeleton
public import proofs.«01_k».proof.Proof.Gen.MixCFwdIdeal.Launch
public import proofs.«01_k».proof.Proof.Gen.MixCFwdIdeal.Points
public import proofs.«01_k».proof.Proof.Gen.MixCFwdIdeal.Frame
public import proofs.«01_k».proof.Proof.Gen.MixCFwdIdeal.Value
public import proofs.«01_k».proof.Proof.Gen.MixBFwd
public import proofs.«01_k».proof.Proof.Gen.MixBFwd.Skeleton
public import proofs.«01_k».proof.Proof.Gen.MixBFwd.Launch
public import proofs.«01_k».proof.Proof.Gen.MixBFwd.Points
public import proofs.«01_k».proof.Proof.Gen.MixBFwd.Frame
public import proofs.«01_k».proof.Proof.Gen.MixBFwdIdeal
public import proofs.«01_k».proof.Proof.Gen.MixBFwdIdeal.Skeleton
public import proofs.«01_k».proof.Proof.Gen.MixBFwdIdeal.Launch
public import proofs.«01_k».proof.Proof.Gen.MixBFwdIdeal.Points
public import proofs.«01_k».proof.Proof.Gen.MixBFwdIdeal.Frame
public import proofs.«01_k».proof.Proof.Gen.MixBFwdIdeal.Value
public import proofs.«01_k».proof.Proof.Gen.AdamwSquare
public import proofs.«01_k».proof.Proof.Gen.AdamwSquare.Skeleton
public import proofs.«01_k».proof.Proof.Gen.AdamwSquare.Launch
public import proofs.«01_k».proof.Proof.Gen.AdamwSquare.Points
public import proofs.«01_k».proof.Proof.Gen.AdamwSquare.Frame
public import proofs.«01_k».proof.Proof.Gen.AdamwSquareIdeal
public import proofs.«01_k».proof.Proof.Gen.AdamwSquareIdeal.Skeleton
public import proofs.«01_k».proof.Proof.Gen.AdamwSquareIdeal.Launch
public import proofs.«01_k».proof.Proof.Gen.AdamwSquareIdeal.Points
public import proofs.«01_k».proof.Proof.Gen.AdamwSquareIdeal.Frame
public import proofs.«01_k».proof.Proof.Gen.AdamwSquareIdeal.Value
public import proofs.«01_k».proof.Proof.Gen.AdamwIn
public import proofs.«01_k».proof.Proof.Gen.AdamwIn.Skeleton
public import proofs.«01_k».proof.Proof.Gen.AdamwIn.Launch
public import proofs.«01_k».proof.Proof.Gen.AdamwIn.Points
public import proofs.«01_k».proof.Proof.Gen.AdamwIn.Frame
public import proofs.«01_k».proof.Proof.Gen.AdamwInIdeal
public import proofs.«01_k».proof.Proof.Gen.AdamwInIdeal.Skeleton
public import proofs.«01_k».proof.Proof.Gen.AdamwInIdeal.Launch
public import proofs.«01_k».proof.Proof.Gen.AdamwInIdeal.Points
public import proofs.«01_k».proof.Proof.Gen.AdamwInIdeal.Frame
public import proofs.«01_k».proof.Proof.Gen.AdamwInIdeal.Value
public import proofs.«01_k».proof.Proof.Gen.AdamwKv
public import proofs.«01_k».proof.Proof.Gen.AdamwKv.Skeleton
public import proofs.«01_k».proof.Proof.Gen.AdamwKv.Launch
public import proofs.«01_k».proof.Proof.Gen.AdamwKv.Points
public import proofs.«01_k».proof.Proof.Gen.AdamwKv.Frame
public import proofs.«01_k».proof.Proof.Gen.AdamwKvIdeal
public import proofs.«01_k».proof.Proof.Gen.AdamwKvIdeal.Skeleton
public import proofs.«01_k».proof.Proof.Gen.AdamwKvIdeal.Launch
public import proofs.«01_k».proof.Proof.Gen.AdamwKvIdeal.Points
public import proofs.«01_k».proof.Proof.Gen.AdamwKvIdeal.Frame
public import proofs.«01_k».proof.Proof.Gen.AdamwKvIdeal.Value
public import proofs.«01_k».proof.Proof.Gen.AdamwFf
public import proofs.«01_k».proof.Proof.Gen.AdamwFf.Skeleton
public import proofs.«01_k».proof.Proof.Gen.AdamwFf.Launch
public import proofs.«01_k».proof.Proof.Gen.AdamwFf.Points
public import proofs.«01_k».proof.Proof.Gen.AdamwFf.Frame
public import proofs.«01_k».proof.Proof.Gen.AdamwFfIdeal
public import proofs.«01_k».proof.Proof.Gen.AdamwFfIdeal.Skeleton
public import proofs.«01_k».proof.Proof.Gen.AdamwFfIdeal.Launch
public import proofs.«01_k».proof.Proof.Gen.AdamwFfIdeal.Points
public import proofs.«01_k».proof.Proof.Gen.AdamwFfIdeal.Frame
public import proofs.«01_k».proof.Proof.Gen.AdamwFfIdeal.Value
public import proofs.«01_k».proof.Proof.Gen.AdamwSmall
public import proofs.«01_k».proof.Proof.Gen.AdamwSmall.Skeleton
public import proofs.«01_k».proof.Proof.Gen.AdamwSmall.Launch
public import proofs.«01_k».proof.Proof.Gen.AdamwSmall.Points
public import proofs.«01_k».proof.Proof.Gen.AdamwSmall.Frame
public import proofs.«01_k».proof.Proof.Gen.AdamwSmallIdeal
public import proofs.«01_k».proof.Proof.Gen.AdamwSmallIdeal.Skeleton
public import proofs.«01_k».proof.Proof.Gen.AdamwSmallIdeal.Launch
public import proofs.«01_k».proof.Proof.Gen.AdamwSmallIdeal.Points
public import proofs.«01_k».proof.Proof.Gen.AdamwSmallIdeal.Frame
public import proofs.«01_k».proof.Proof.Gen.AdamwSmallIdeal.Value
public import proofs.«01_k».proof.Proof.Gen.MixBBwd
public import proofs.«01_k».proof.Proof.Gen.MixBBwd.Skeleton
public import proofs.«01_k».proof.Proof.Gen.MixBBwd.Launch
public import proofs.«01_k».proof.Proof.Gen.MixBBwd.Points
public import proofs.«01_k».proof.Proof.Gen.MixBBwd.Frame
public import proofs.«01_k».proof.Proof.Gen.MixBBwdIdeal
public import proofs.«01_k».proof.Proof.Gen.MixBBwdIdeal.Skeleton
public import proofs.«01_k».proof.Proof.Gen.MixBBwdIdeal.Launch
public import proofs.«01_k».proof.Proof.Gen.MixBBwdIdeal.Points
public import proofs.«01_k».proof.Proof.Gen.MixBBwdIdeal.Frame
public import proofs.«01_k».proof.Proof.Gen.MixBBwdIdeal.Value
public import proofs.«01_k».proof.Proof.Gen.ReferenceIdeal
public import proofs.«01_k».proof.Proof.Gen.ReferenceIdeal.Run
public import proofs.«01_k».proof.Proof.Gen.FfHiddenReferenceIdeal
public import proofs.«01_k».proof.Proof.Gen.FfHiddenReferenceIdeal.Run
public import proofs.«01_k».proof.Proof.Gen.WFf2ReferenceIdeal
public import proofs.«01_k».proof.Proof.Gen.WFf2ReferenceIdeal.Run
public import proofs.«01_k».proof.Proof.Gen.WFf1ReferenceIdeal
public import proofs.«01_k».proof.Proof.Gen.WFf1ReferenceIdeal.Run
public import proofs.«01_k».proof.Proof.Gen.WOReferenceIdeal
public import proofs.«01_k».proof.Proof.Gen.WOReferenceIdeal.Run
public import proofs.«01_k».proof.Proof.Gen.WKvReferenceIdeal
public import proofs.«01_k».proof.Proof.Gen.WKvReferenceIdeal.Run
public import proofs.«01_k».proof.Proof.Gen.AttOutReferenceIdeal
public import proofs.«01_k».proof.Proof.Gen.AttOutReferenceIdeal.Run
public import proofs.«01_k».proof.Proof.Gen.MixerOutReferenceIdeal
public import proofs.«01_k».proof.Proof.Gen.MixerOutReferenceIdeal.Run
public import proofs.«01_k».proof.Proof.Gen.X2Ln2ReferenceIdeal
public import proofs.«01_k».proof.Proof.Gen.X2Ln2ReferenceIdeal.Run
public import proofs.«01_k».proof.Proof.Gen.X1Ln1ReferenceIdeal
public import proofs.«01_k».proof.Proof.Gen.X1Ln1ReferenceIdeal.Run
public import proofs.«01_k».proof.Proof.Gen.X0Ln3ReferenceIdeal
public import proofs.«01_k».proof.Proof.Gen.X0Ln3ReferenceIdeal.Run
public import proofs.«01_k».proof.Proof.Gen.X0ReferenceIdeal
public import proofs.«01_k».proof.Proof.Gen.X0ReferenceIdeal.Run
public import proofs.«01_k».proof.Proof.Gen.WInReferenceIdeal
public import proofs.«01_k».proof.Proof.Gen.WInReferenceIdeal.Run
public import proofs.«01_k».proof.Proof.Gen.WOutReferenceIdeal
public import proofs.«01_k».proof.Proof.Gen.WOutReferenceIdeal.Run
public import proofs.«01_k».proof.Proof.Gen.LossLn3ReferenceIdeal
public import proofs.«01_k».proof.Proof.Gen.LossLn3ReferenceIdeal.Run
public import proofs.«01_k».proof.Proof.Gen.InProjReferenceIdeal
public import proofs.«01_k».proof.Proof.Gen.InProjReferenceIdeal.Run
public import proofs.«01_k».proof.Proof.Gen.QProjReferenceIdeal
public import proofs.«01_k».proof.Proof.Gen.QProjReferenceIdeal.Run
public import proofs.«01_k».proof.Proof.Gen.KvProjReferenceIdeal
public import proofs.«01_k».proof.Proof.Gen.KvProjReferenceIdeal.Run
public import proofs.«01_k».proof.Proof.Gen.Ff1ReferenceIdeal
public import proofs.«01_k».proof.Proof.Gen.Ff1ReferenceIdeal.Run
public import proofs.«01_k».proof.Proof.Gen.OLnReferenceIdeal
public import proofs.«01_k».proof.Proof.Gen.OLnReferenceIdeal.Run
public import proofs.«01_k».proof.Proof.Gen.Ff2LnReferenceIdeal
public import proofs.«01_k».proof.Proof.Gen.Ff2LnReferenceIdeal.Run
public import proofs.«01_k».proof.Proof.Gen.OutLnReferenceIdeal
public import proofs.«01_k».proof.Proof.Gen.OutLnReferenceIdeal.Run
public import proofs.«01_k».proof.Proof.Gen.OutLn0ReferenceIdeal
public import proofs.«01_k».proof.Proof.Gen.OutLn0ReferenceIdeal.Run
public import proofs.«01_k».proof.Proof.Gen.AttFwdReferenceIdeal
public import proofs.«01_k».proof.Proof.Gen.AttFwdReferenceIdeal.Run
public import proofs.«01_k».proof.Proof.Gen.MixCBwdReferenceIdeal
public import proofs.«01_k».proof.Proof.Gen.MixCBwdReferenceIdeal.Run
public import proofs.«01_k».proof.Proof.Gen.MixCFwdReferenceIdeal
public import proofs.«01_k».proof.Proof.Gen.MixCFwdReferenceIdeal.Run
public import proofs.«01_k».proof.Proof.Gen.MixBFwdReferenceIdeal
public import proofs.«01_k».proof.Proof.Gen.MixBFwdReferenceIdeal.Run
public import proofs.«01_k».proof.Proof.Gen.AdamwSquareReferenceIdeal
public import proofs.«01_k».proof.Proof.Gen.AdamwSquareReferenceIdeal.Run
public import proofs.«01_k».proof.Proof.Gen.AdamwInReferenceIdeal
public import proofs.«01_k».proof.Proof.Gen.AdamwInReferenceIdeal.Run
public import proofs.«01_k».proof.Proof.Gen.AdamwKvReferenceIdeal
public import proofs.«01_k».proof.Proof.Gen.AdamwKvReferenceIdeal.Run
public import proofs.«01_k».proof.Proof.Gen.AdamwFfReferenceIdeal
public import proofs.«01_k».proof.Proof.Gen.AdamwFfReferenceIdeal.Run
public import proofs.«01_k».proof.Proof.Gen.AdamwSmallReferenceIdeal
public import proofs.«01_k».proof.Proof.Gen.AdamwSmallReferenceIdeal.Run
public import proofs.«01_k».proof.Proof.Gen.MixBBwdReferenceIdeal
public import proofs.«01_k».proof.Proof.Gen.MixBBwdReferenceIdeal.Run
public import proofs.«01_k».proof.Proof.AttentionClaims
public import proofs.«01_k».proof.Proof.FfHidden
public import proofs.«01_k».proof.Proof.WFf2
public import proofs.«01_k».proof.Proof.WFf1
public import proofs.«01_k».proof.Proof.WO
public import proofs.«01_k».proof.Proof.WKv
public import proofs.«01_k».proof.Proof.AttOut
public import proofs.«01_k».proof.Proof.MixerOut
public import proofs.«01_k».proof.Proof.X2Ln2
public import proofs.«01_k».proof.Proof.X1Ln1
public import proofs.«01_k».proof.Proof.X0Ln3
public import proofs.«01_k».proof.Proof.X0
public import proofs.«01_k».proof.Proof.WIn
public import proofs.«01_k».proof.Proof.WOut
public import proofs.«01_k».proof.Proof.LossLn3
public import proofs.«01_k».proof.Proof.InProj
public import proofs.«01_k».proof.Proof.QProj
public import proofs.«01_k».proof.Proof.KvProj
public import proofs.«01_k».proof.Proof.Ff1
public import proofs.«01_k».proof.Proof.OLn
public import proofs.«01_k».proof.Proof.Ff2Ln
public import proofs.«01_k».proof.Proof.OutLn
public import proofs.«01_k».proof.Proof.OutLn0
public import proofs.«01_k».proof.Proof.AttFwd
public import proofs.«01_k».proof.Proof.MixCBwd
public import proofs.«01_k».proof.Proof.MixCFwd
public import proofs.«01_k».proof.Proof.MixBFwd
public import proofs.«01_k».proof.Proof.AdamwSquare
public import proofs.«01_k».proof.Proof.AdamwIn
public import proofs.«01_k».proof.Proof.AdamwKv
public import proofs.«01_k».proof.Proof.AdamwFf
public import proofs.«01_k».proof.Proof.AdamwSmall
public import proofs.«01_k».proof.Proof.MixBBwd
public import Idealize.ShloMosaic.Adequacy
public import Idealize.ShloMosaic.Init

@[expose] public section

set_option maxRecDepth 16384

noncomputable section

namespace Cert.Proof

open Idealize.ShloMosaic Idealize.SL.Sem

/-- The certificate: for every call the frames, the empty idealization, and the value claim. -/
theorem claim : Cert.Claim :=
  ⟨Cert.Kernel.Gen.facts, Cert.KernelIdeal.Gen.facts, Cert.ReferenceIdeal.Gen.facts,
    Cert.FfHidden.Gen.facts, Cert.FfHiddenIdeal.Gen.facts, Cert.FfHiddenReferenceIdeal.Gen.facts,
    Cert.WFf2.Gen.facts, Cert.WFf2Ideal.Gen.facts, Cert.WFf2ReferenceIdeal.Gen.facts,
    Cert.WFf1.Gen.facts, Cert.WFf1Ideal.Gen.facts, Cert.WFf1ReferenceIdeal.Gen.facts,
    Cert.WO.Gen.facts, Cert.WOIdeal.Gen.facts, Cert.WOReferenceIdeal.Gen.facts,
    Cert.WKv.Gen.facts, Cert.WKvIdeal.Gen.facts, Cert.WKvReferenceIdeal.Gen.facts,
    Cert.AttOut.Gen.facts, Cert.AttOutIdeal.Gen.facts, Cert.AttOutReferenceIdeal.Gen.facts,
    Cert.MixerOut.Gen.facts, Cert.MixerOutIdeal.Gen.facts, Cert.MixerOutReferenceIdeal.Gen.facts,
    Cert.X2Ln2.Gen.facts, Cert.X2Ln2Ideal.Gen.facts, Cert.X2Ln2ReferenceIdeal.Gen.facts,
    Cert.X1Ln1.Gen.facts, Cert.X1Ln1Ideal.Gen.facts, Cert.X1Ln1ReferenceIdeal.Gen.facts,
    Cert.X0Ln3.Gen.facts, Cert.X0Ln3Ideal.Gen.facts, Cert.X0Ln3ReferenceIdeal.Gen.facts,
    Cert.X0.Gen.facts, Cert.X0Ideal.Gen.facts, Cert.X0ReferenceIdeal.Gen.facts,
    Cert.WIn.Gen.facts, Cert.WInIdeal.Gen.facts, Cert.WInReferenceIdeal.Gen.facts,
    Cert.WOut.Gen.facts, Cert.WOutIdeal.Gen.facts, Cert.WOutReferenceIdeal.Gen.facts,
    Cert.LossLn3.Gen.facts, Cert.LossLn3Ideal.Gen.facts, Cert.LossLn3ReferenceIdeal.Gen.facts,
    Cert.InProj.Gen.facts, Cert.InProjIdeal.Gen.facts, Cert.InProjReferenceIdeal.Gen.facts,
    Cert.QProj.Gen.facts, Cert.QProjIdeal.Gen.facts, Cert.QProjReferenceIdeal.Gen.facts,
    Cert.KvProj.Gen.facts, Cert.KvProjIdeal.Gen.facts, Cert.KvProjReferenceIdeal.Gen.facts,
    Cert.Ff1.Gen.facts, Cert.Ff1Ideal.Gen.facts, Cert.Ff1ReferenceIdeal.Gen.facts,
    Cert.OLn.Gen.facts, Cert.OLnIdeal.Gen.facts, Cert.OLnReferenceIdeal.Gen.facts,
    Cert.Ff2Ln.Gen.facts, Cert.Ff2LnIdeal.Gen.facts, Cert.Ff2LnReferenceIdeal.Gen.facts,
    Cert.OutLn.Gen.facts, Cert.OutLnIdeal.Gen.facts, Cert.OutLnReferenceIdeal.Gen.facts,
    Cert.OutLn0.Gen.facts, Cert.OutLn0Ideal.Gen.facts, Cert.OutLn0ReferenceIdeal.Gen.facts,
    Cert.AttFwd.Gen.facts, Cert.AttFwdIdeal.Gen.facts, Cert.AttFwdReferenceIdeal.Gen.facts,
    Cert.MixCBwd.Gen.facts, Cert.MixCBwdIdeal.Gen.facts, Cert.MixCBwdReferenceIdeal.Gen.facts,
    Cert.MixCFwd.Gen.facts, Cert.MixCFwdIdeal.Gen.facts, Cert.MixCFwdReferenceIdeal.Gen.facts,
    Cert.MixBFwd.Gen.facts, Cert.MixBFwdIdeal.Gen.facts, Cert.MixBFwdReferenceIdeal.Gen.facts,
    Cert.AdamwSquare.Gen.facts, Cert.AdamwSquareIdeal.Gen.facts, Cert.AdamwSquareReferenceIdeal.Gen.facts,
    Cert.AdamwIn.Gen.facts, Cert.AdamwInIdeal.Gen.facts, Cert.AdamwInReferenceIdeal.Gen.facts,
    Cert.AdamwKv.Gen.facts, Cert.AdamwKvIdeal.Gen.facts, Cert.AdamwKvReferenceIdeal.Gen.facts,
    Cert.AdamwFf.Gen.facts, Cert.AdamwFfIdeal.Gen.facts, Cert.AdamwFfReferenceIdeal.Gen.facts,
    Cert.AdamwSmall.Gen.facts, Cert.AdamwSmallIdeal.Gen.facts, Cert.AdamwSmallReferenceIdeal.Gen.facts,
    Cert.MixBBwd.Gen.facts, Cert.MixBBwdIdeal.Gen.facts, Cert.MixBBwdReferenceIdeal.Gen.facts,
    Cert.Pre_finite_queries_and_keys.facts, Cert.Pre_finite_x2_ln2.facts, Cert.Pre_finite_x1_ln1.facts,
    Cert.Pre_finite_x0_ln3.facts, Cert.Pre_finite_loss_ln3.facts, Attention.frameKernel,
    Attention.frameKernelIdeal, Attention.frameKernelIdealPre, Attention.frameReference,
    Attention.frameReferencePre, FfHidden.frameKernel, FfHidden.frameIdeal,
    FfHidden.frameReference, WFf2.frameKernel, WFf2.frameIdeal,
    WFf2.frameReference, WFf1.frameKernel, WFf1.frameIdeal,
    WFf1.frameReference, WO.frameKernel, WO.frameIdeal,
    WO.frameReference, WKv.frameKernel, WKv.frameIdeal,
    WKv.frameReference, AttOut.frameKernel, AttOut.frameIdeal,
    AttOut.frameReference, MixerOut.frameKernel, MixerOut.frameIdeal,
    MixerOut.frameReference, X2Ln2.frameKernel, X2Ln2.frameIdeal,
    X2Ln2.frameIdealPre, X2Ln2.frameReference, X2Ln2.frameReferencePre,
    X1Ln1.frameKernel, X1Ln1.frameIdeal, X1Ln1.frameIdealPre,
    X1Ln1.frameReference, X1Ln1.frameReferencePre, X0Ln3.frameKernel,
    X0Ln3.frameIdeal, X0Ln3.frameIdealPre, X0Ln3.frameReference,
    X0Ln3.frameReferencePre, X0.frameKernel, X0.frameIdeal,
    X0.frameReference, WIn.frameKernel, WIn.frameIdeal,
    WIn.frameReference, WOut.frameKernel, WOut.frameIdeal,
    WOut.frameReference, LossLn3.frameKernel, LossLn3.frameIdeal,
    LossLn3.frameIdealPre, LossLn3.frameReference, LossLn3.frameReferencePre,
    InProj.frameKernel, InProj.frameIdeal, InProj.frameReference,
    QProj.frameKernel, QProj.frameIdeal, QProj.frameReference,
    KvProj.frameKernel, KvProj.frameIdeal, KvProj.frameReference,
    Ff1.frameKernel, Ff1.frameIdeal, Ff1.frameReference,
    OLn.frameKernel, OLn.frameIdeal, OLn.frameReference,
    Ff2Ln.frameKernel, Ff2Ln.frameIdeal, Ff2Ln.frameReference,
    OutLn.frameKernel, OutLn.frameIdeal, OutLn.frameReference,
    OutLn0.frameKernel, OutLn0.frameIdeal, OutLn0.frameReference,
    AttFwd.frameKernel, AttFwd.frameIdeal, AttFwd.frameReference,
    MixCBwd.frameKernel, MixCBwd.frameIdeal, MixCBwd.frameReference,
    MixCFwd.frameKernel, MixCFwd.frameIdeal, MixCFwd.frameReference,
    MixBFwd.frameKernel, MixBFwd.frameIdeal, MixBFwd.frameReference,
    AdamwSquare.frameKernel, AdamwSquare.frameIdeal, AdamwSquare.frameReference,
    AdamwIn.frameKernel, AdamwIn.frameIdeal, AdamwIn.frameReference,
    AdamwKv.frameKernel, AdamwKv.frameIdeal, AdamwKv.frameReference,
    AdamwFf.frameKernel, AdamwFf.frameIdeal, AdamwFf.frameReference,
    AdamwSmall.frameKernel, AdamwSmall.frameIdeal, AdamwSmall.frameReference,
    MixBBwd.frameKernel, MixBBwd.frameIdeal, MixBBwd.frameReference,
    trivial, Attention.algebraic, trivial,
    FfHidden.algebraic, trivial, WFf2.algebraic,
    trivial, WFf1.algebraic, trivial,
    WO.algebraic, trivial, WKv.algebraic,
    trivial, AttOut.algebraic, trivial,
    MixerOut.algebraic, trivial, X2Ln2.algebraic,
    trivial, X1Ln1.algebraic, trivial,
    X0Ln3.algebraic, trivial, X0.algebraic,
    trivial, WIn.algebraic, trivial,
    WOut.algebraic, trivial, LossLn3.algebraic,
    trivial, InProj.algebraic, trivial,
    QProj.algebraic, trivial, KvProj.algebraic,
    trivial, Ff1.algebraic, trivial,
    OLn.algebraic, trivial, Ff2Ln.algebraic,
    trivial, OutLn.algebraic, trivial,
    OutLn0.algebraic, trivial, AttFwd.algebraic,
    trivial, MixCBwd.algebraic, trivial,
    MixCFwd.algebraic, trivial, MixBFwd.algebraic,
    trivial, AdamwSquare.algebraic, trivial,
    AdamwIn.algebraic, trivial, AdamwKv.algebraic,
    trivial, AdamwFf.algebraic, trivial,
    AdamwSmall.algebraic, trivial, MixBBwd.algebraic⟩

end Cert.Proof

end

end
